-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x72x4194304 : Shape := ⟨3, ![1, 72, 4194304]⟩
abbrev S1x4194304 : Shape := ⟨2, ![1, 4194304]⟩
abbrev S1216 : Shape := ⟨1, ![1216]⟩
abbrev S304 : Shape := ⟨1, ![304]⟩
abbrev S_ : Shape := ⟨0, ![]⟩

class Facts : Prop where
  bcast_S_S1x4194304 : S_.BroadcastsInDim S1x4194304 (![] : Fin 0 → Fin S1x4194304.rank)

variable [Facts]

def fn {F : FTy → Type} [FloatOps F] (main_arg0 : IVec S1x72x4194304 8) (main_arg1 : FVec F S1x4194304 .f32) (main_arg2 : IVec S1x4194304 8) (main_arg3 : IVec S1216 32) (main_arg4 : IVec S304 32) : IVec S1x4194304 1 :=
  let main_cst : FVec F S_ .f32 := constant S_ .f32 0x7F800000#32
  let main_v0 : FVec F S1x4194304 .f32 := broadcastInDim S1x4194304 ![] bcast_S_S1x4194304 main_cst
  let main_v1 : IVec S1x4194304 1 := cmpf .olt main_arg1 main_v0
  let main_cst_0 : FVec F S_ .f32 := constant S_ .f32 0xFF800000#32
  let main_v2 : FVec F S1x4194304 .f32 := broadcastInDim S1x4194304 ![] bcast_S_S1x4194304 main_cst_0
  let main_v3 : IVec S1x4194304 1 := cmpf .ogt main_arg1 main_v2
  let main_v4 : IVec S1x4194304 1 := andi main_v1 main_v3
  main_v4
-- ==== Kernel.lean ====
abbrev S1x72x4194304 : Shape := ⟨3, ![1, 72, 4194304]⟩
abbrev S1x4194304 : Shape := ⟨2, ![1, 4194304]⟩
abbrev S1216 : Shape := ⟨1, ![1216]⟩
abbrev S304 : Shape := ⟨1, ![304]⟩
abbrev S9x8x8192x4x128 : Shape := ⟨5, ![9, 8, 8192, 4, 128]⟩
abbrev S9x8192x4x8x128 : Shape := ⟨5, ![9, 8192, 4, 8, 128]⟩
abbrev S9x8192x32x128 : Shape := ⟨4, ![9, 8192, 32, 128]⟩
abbrev S32768x128 : Shape := ⟨2, ![32768, 128]⟩
abbrev S256x256 : Shape := ⟨2, ![256, 256]⟩
abbrev S_ : Shape := ⟨0, ![]⟩
abbrev S16 : Shape := ⟨1, ![16]⟩
abbrev S1216x1 : Shape := ⟨2, ![1216, 1]⟩
abbrev S304x1 : Shape := ⟨2, ![304, 1]⟩
abbrev S1x16 : Shape := ⟨2, ![1, 16]⟩
abbrev S304x16 : Shape := ⟨2, ![304, 16]⟩
abbrev S1216x1152 : Shape := ⟨2, ![1216, 1152]⟩
abbrev S1x512x32x128 : Shape := ⟨4, ![1, 512, 32, 128]⟩
abbrev S2048x128 : Shape := ⟨2, ![2048, 128]⟩
abbrev S1216x384 : Shape := ⟨2, ![1216, 384]⟩
abbrev S18432x128 : Shape := ⟨2, ![18432, 128]⟩
abbrev S7296x8x128 : Shape := ⟨3, ![7296, 8, 128]⟩
abbrev S8x128 : Shape := ⟨2, ![8, 128]⟩
abbrev S16x128 : Shape := ⟨2, ![16, 128]⟩
abbrev S1x1x32x128 : Shape := ⟨4, ![1, 1, 32, 128]⟩
abbrev S32x128 : Shape := ⟨2, ![32, 128]⟩
abbrev S1x128 : Shape := ⟨2, ![1, 128]⟩
abbrev S128x128 : Shape := ⟨2, ![128, 128]⟩
abbrev S128x256 : Shape := ⟨2, ![128, 256]⟩
abbrev S256x128 : Shape := ⟨2, ![256, 128]⟩
abbrev S1 : Shape := ⟨1, ![1]⟩
abbrev S1x8x128 : Shape := ⟨3, ![1, 8, 128]⟩
abbrev S8x1 : Shape := ⟨2, ![8, 1]⟩
abbrev S58368x128 : Shape := ⟨2, ![58368, 128]⟩
abbrev S8x8x128 : Shape := ⟨3, ![8, 8, 128]⟩

abbrev nBuf : Space → Nat
  | .hbm => 104
  | .vmem => 15
  | .smem => 2
  | _ => 0

abbrev bufTy : (tb : Table) → Fin (tcTables nBuf tb) → BufTy
  | .hbm, ⟨0, _⟩ => ⟨S1x72x4194304, .i8⟩
  | .hbm, ⟨1, _⟩ => ⟨S1x4194304, .f32⟩
  | .hbm, ⟨2, _⟩ => ⟨S1x4194304, .i8⟩
  | .hbm, ⟨3, _⟩ => ⟨S1216, .i32⟩
  | .hbm, ⟨4, _⟩ => ⟨S304, .i32⟩
  | .hbm, ⟨5, _⟩ => ⟨S9x8x8192x4x128, .i8⟩
  | .hbm, ⟨6, _⟩ => ⟨S9x8192x4x8x128, .i8⟩
  | .hbm, ⟨7, _⟩ => ⟨S9x8192x32x128, .i8⟩
  | .hbm, ⟨8, _⟩ => ⟨S1x4194304, .i32⟩
  | .hbm, ⟨9, _⟩ => ⟨S1x4194304, .f32⟩
  | .hbm, ⟨10, _⟩ => ⟨S1x4194304, .f32⟩
  | .hbm, ⟨11, _⟩ => ⟨S1x4194304, .bf16⟩
  | .hbm, ⟨12, _⟩ => ⟨S32768x128, .bf16⟩
  | .hbm, ⟨13, _⟩ => ⟨S256x256, .i32⟩
  | .hbm, ⟨14, _⟩ => ⟨S256x256, .i32⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i32⟩
  | .hbm, ⟨23, _⟩ => ⟨S_, .i32⟩
  | .hbm, ⟨24, _⟩ => ⟨S256x256, .i32⟩
  | .hbm, ⟨25, _⟩ => ⟨S256x256, .i32⟩
  | .hbm, ⟨26, _⟩ => ⟨S256x256, .bf16⟩
  | .hbm, ⟨27, _⟩ => ⟨S16, .i32⟩
  | .hbm, ⟨28, _⟩ => ⟨S_, .i32⟩
  | .hbm, ⟨29, _⟩ => ⟨S1216, .i32⟩
  | .hbm, ⟨30, _⟩ => ⟨S1216, .i32⟩
  | .hbm, ⟨31, _⟩ => ⟨S_, .i32⟩
  | .hbm, ⟨32, _⟩ => ⟨S1216, .i32⟩
  | .hbm, ⟨33, _⟩ => ⟨S1216, .i32⟩
  | .hbm, ⟨34, _⟩ => ⟨S_, .i32⟩
  | .hbm, ⟨35, _⟩ => ⟨S1216, .i32⟩
  | .hbm, ⟨36, _⟩ => ⟨S1216, .i32⟩
  | .hbm, ⟨37, _⟩ => ⟨S_, .i32⟩
  | .hbm, ⟨38, _⟩ => ⟨S1216, .i32⟩
  | .hbm, ⟨39, _⟩ => ⟨S1216, .i32⟩
  | .hbm, ⟨40, _⟩ => ⟨S1216, .i32⟩
  | .hbm, ⟨41, _⟩ => ⟨S_, .i32⟩
  | .hbm, ⟨42, _⟩ => ⟨S1216, .i32⟩
  | .hbm, ⟨43, _⟩ => ⟨S1216, .i32⟩
  | .hbm, ⟨44, _⟩ => ⟨S_, .i32⟩
  | .hbm, ⟨45, _⟩ => ⟨S1216, .i32⟩
  | .hbm, ⟨46, _⟩ => ⟨S1216, .i32⟩
  | .hbm, ⟨47, _⟩ => ⟨S_, .i32⟩
  | .hbm, ⟨48, _⟩ => ⟨S1216, .i32⟩
  | .hbm, ⟨49, _⟩ => ⟨S1216, .i32⟩
  | .hbm, ⟨50, _⟩ => ⟨S1216, .i32⟩
  | .hbm, ⟨51, _⟩ => ⟨S_, .i32⟩
  | .hbm, ⟨52, _⟩ => ⟨S1216, .i32⟩
  | .hbm, ⟨53, _⟩ => ⟨S1216, .i32⟩
  | .hbm, ⟨54, _⟩ => ⟨S_, .i32⟩
  | .hbm, ⟨55, _⟩ => ⟨S1216, .i32⟩
  | .hbm, ⟨56, _⟩ => ⟨S1216, .i32⟩
  | .hbm, ⟨57, _⟩ => ⟨S_, .i32⟩
  | .hbm, ⟨58, _⟩ => ⟨S1216, .i32⟩
  | .hbm, ⟨59, _⟩ => ⟨S1216, .i32⟩
  | .hbm, ⟨60, _⟩ => ⟨S_, .i32⟩
  | .hbm, ⟨61, _⟩ => ⟨S1216, .i32⟩
  | .hbm, ⟨62, _⟩ => ⟨S1216, .i32⟩
  | .hbm, ⟨63, _⟩ => ⟨S_, .i32⟩
  | .hbm, ⟨64, _⟩ => ⟨S1216, .i32⟩
  | .hbm, ⟨65, _⟩ => ⟨S1216, .i32⟩
  | .hbm, ⟨66, _⟩ => ⟨S_, .i32⟩
  | .hbm, ⟨67, _⟩ => ⟨S1216, .i32⟩
  | .hbm, ⟨68, _⟩ => ⟨S1216, .i32⟩
  | .hbm, ⟨69, _⟩ => ⟨S_, .i32⟩
  | .hbm, ⟨70, _⟩ => ⟨S1216, .i32⟩
  | .hbm, ⟨71, _⟩ => ⟨S1216, .i32⟩
  | .hbm, ⟨72, _⟩ => ⟨S1216, .i32⟩
  | .hbm, ⟨73, _⟩ => ⟨S_, .i32⟩
  | .hbm, ⟨74, _⟩ => ⟨S1216, .i32⟩
  | .hbm, ⟨75, _⟩ => ⟨S1216, .i32⟩
  | .hbm, ⟨76, _⟩ => ⟨S_, .i32⟩
  | .hbm, ⟨77, _⟩ => ⟨S1216, .i32⟩
  | .hbm, ⟨78, _⟩ => ⟨S1216, .i32⟩
  | .hbm, ⟨79, _⟩ => ⟨S1216, .i32⟩
  | .hbm, ⟨80, _⟩ => ⟨S_, .i32⟩
  | .hbm, ⟨81, _⟩ => ⟨S1216, .i32⟩
  | .hbm, ⟨82, _⟩ => ⟨S1216, .i32⟩
  | .hbm, ⟨83, _⟩ => ⟨S1216, .i32⟩
  | .hbm, ⟨84, _⟩ => ⟨S_, .i32⟩
  | .hbm, ⟨85, _⟩ => ⟨S1216, .i32⟩
  | .hbm, ⟨86, _⟩ => ⟨S_, .i32⟩
  | .hbm, ⟨87, _⟩ => ⟨S1216, .i32⟩
  | .hbm, ⟨88, _⟩ => ⟨S1216, .i32⟩
  | .hbm, ⟨89, _⟩ => ⟨S1216x1, .i32⟩
  | .hbm, ⟨90, _⟩ => ⟨S304x1, .i32⟩
  | .hbm, ⟨91, _⟩ => ⟨S1x16, .i32⟩
  | .hbm, ⟨92, _⟩ => ⟨S304x16, .i32⟩
  | .hbm, ⟨93, _⟩ => ⟨S304x16, .i32⟩
  | .hbm, ⟨94, _⟩ => ⟨S304x16, .i32⟩
  | .hbm, ⟨95, _⟩ => ⟨S304x16, .i32⟩
  | .hbm, ⟨96, _⟩ => ⟨S_, .i32⟩
  | .hbm, ⟨97, _⟩ => ⟨S304x16, .i32⟩
  | .hbm, ⟨98, _⟩ => ⟨S304x16, .i32⟩
  | .hbm, ⟨99, _⟩ => ⟨S1x16, .i32⟩
  | .hbm, ⟨100, _⟩ => ⟨S304x16, .i32⟩
  | .hbm, ⟨101, _⟩ => ⟨S304x16, .i32⟩
  | .hbm, ⟨102, _⟩ => ⟨S_, .i32⟩
  | .hbm, ⟨103, _⟩ => ⟨S1216x1152, .f32⟩
  | .local _ .vmem, ⟨0, _⟩ => ⟨S1x512x32x128, .i8⟩
  | .local _ .vmem, ⟨1, _⟩ => ⟨S1x512x32x128, .i8⟩
  | .local _ .vmem, ⟨2, _⟩ => ⟨S1x512x32x128, .i8⟩
  | .local _ .vmem, ⟨3, _⟩ => ⟨S1x512x32x128, .i8⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S256x256, .bf16⟩
  | .local _ .vmem, ⟨9, _⟩ => ⟨S1216x1, .i32⟩
  | .local _ .vmem, ⟨10, _⟩ => ⟨S1216x384, .f32⟩
  | .local _ .vmem, ⟨11, _⟩ => ⟨S1216x384, .f32⟩
  | .local _ .vmem, ⟨12, _⟩ => ⟨S18432x128, .f32⟩
  | .local _ .vmem, ⟨13, _⟩ => ⟨S18432x128, .f32⟩
  | .local _ .vmem, ⟨14, _⟩ => ⟨S7296x8x128, .f32⟩
  | .local _ .smem, ⟨0, _⟩ => ⟨S1216, .i32⟩
  | .local _ .smem, ⟨1, _⟩ => ⟨S304, .i32⟩
  | _, _ => ⟨S1x72x4194304, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_9 : Ref sig .tc := ⟨.hbm, 51, rfl⟩
abbrev main_v36 : Ref sig .tc := ⟨.hbm, 52, rfl⟩
abbrev main_v37 : Ref sig .tc := ⟨.hbm, 53, rfl⟩
abbrev main_c_10 : Ref sig .tc := ⟨.hbm, 54, rfl⟩
abbrev main_v38 : Ref sig .tc := ⟨.hbm, 55, rfl⟩
abbrev main_v39 : Ref sig .tc := ⟨.hbm, 56, rfl⟩
abbrev main_c_11 : Ref sig .tc := ⟨.hbm, 57, rfl⟩
abbrev main_v40 : Ref sig .tc := ⟨.hbm, 58, rfl⟩
abbrev main_v41 : Ref sig .tc := ⟨.hbm, 59, rfl⟩
abbrev main_c_12 : Ref sig .tc := ⟨.hbm, 60, rfl⟩
abbrev main_v42 : Ref sig .tc := ⟨.hbm, 61, rfl⟩
abbrev main_v43 : Ref sig .tc := ⟨.hbm, 62, rfl⟩
abbrev main_c_13 : Ref sig .tc := ⟨.hbm, 63, rfl⟩
abbrev main_v44 : Ref sig .tc := ⟨.hbm, 64, rfl⟩
abbrev main_v45 : Ref sig .tc := ⟨.hbm, 65, rfl⟩
abbrev main_c_14 : Ref sig .tc := ⟨.hbm, 66, rfl⟩
abbrev main_v46 : Ref sig .tc := ⟨.hbm, 67, rfl⟩
abbrev main_v47 : Ref sig .tc := ⟨.hbm, 68, rfl⟩
abbrev main_c_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_16 : Ref sig .tc := ⟨.hbm, 73, rfl⟩
abbrev main_v51 : Ref sig .tc := ⟨.hbm, 74, rfl⟩
abbrev main_v52 : Ref sig .tc := ⟨.hbm, 75, rfl⟩
abbrev main_c_17 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_18 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_19 : Ref sig .tc := ⟨.hbm, 84, rfl⟩
abbrev main_v59 : Ref sig .tc := ⟨.hbm, 85, rfl⟩
abbrev main_c_20 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_21 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_22 : Ref sig .tc := ⟨.hbm, 102, rfl⟩
abbrev main_v76 : Ref sig .tc := ⟨.hbm, 103, rfl⟩
abbrev main_v60 : Ref sig .tc := ⟨.smem, 0, rfl⟩
abbrev main_v75 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![73], ![false]⟩

abbrev pre0 : Pipeline.Prefetch sig := ⟨2, ![main_v60.idx, main_v75.idx], fun | 0 => main_v60.names | 1 => main_v75.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c2304_i32 : BitVec 32 := 2304#32
  let v13 : BitVec 32 := Scalar.addi c0_i32_7 c2304_i32
  let c1_i32_8 : BitVec 32 := 1#32
  ⟨c0_i32_7, v13, c1_i32_8⟩
def k0_off1 (k0_t1 : Fin k0_t1_loop.trips) : Fin 2 → Nat :=
  let c0_i32_7 : BitVec 32 := 0#32
  let c1_i32_8 : BitVec 32 := 1#32
  let arg13 : BitVec 32 := Scf.iv c0_i32_7 c1_i32_8 k0_t1
  let c8_i32_13 : BitVec 32 := 8#32
  let v19 : BitVec 32 := Scalar.muli arg13 c8_i32_13
  let v20 : Index := Scalar.indexCast v19
  let c0_14 : Index := 0#32
  ![v20.toNat, 0]
@[reducible] def k0_t2_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_off2 (k0_t2 : Fin k0_t2_loop.trips) (c0_i32_10 : BitVec 32) (c0_i32_11 : BitVec 32) (c0_i32_12 : BitVec 32) : Fin 4 → Nat :=
  let c0_13 : Index := 0#32
  let c0_i32_1 : BitVec 32 := 0#32
  let c1_i32 : BitVec 32 := 1#32
  let arg13 : BitVec 32 := Scf.iv c0_i32_1 c1_i32 k0_t2
  let c8_i32_9 : BitVec 32 := 8#32
  let v18 : BitVec 32 := Scalar.muli arg13 c8_i32_9
  let v19 : BitVec 32 := Scalar.addi c0_i32_10 v18
  let v20 : BitVec 32 := Scalar.addi v19 c0_i32_11
  let v21 : BitVec 32 := Scalar.addi v20 c0_i32_12
  let v22 : Index := Scalar.indexCast v21
  let c0_14 : Index := 0#32
  let c0_15 : Index := 0#32
  ![0, v22.toNat, 0, 0]
def k0_off3 (k0_t2 : Fin k0_t2_loop.trips) (c0_i32_10 : BitVec 32) (c0_i32_11 : BitVec 32) (c0_i32_12 : BitVec 32) (c0_i32_16 : BitVec 32) : Fin 2 → Nat :=
  let c0_i32_1 : BitVec 32 := 0#32
  let c1_i32 : BitVec 32 := 1#32
  let arg13 : BitVec 32 := Scf.iv c0_i32_1 c1_i32 k0_t2
  let c8_i32_9 : BitVec 32 := 8#32
  let v18 : BitVec 32 := Scalar.muli arg13 c8_i32_9
  let v19 : BitVec 32 := Scalar.addi c0_i32_10 v18
  let v20 : BitVec 32 := Scalar.addi v19 c0_i32_11
  let v21 : BitVec 32 := Scalar.addi v20 c0_i32_12
  let c4_i32 : BitVec 32 := 4#32
  let v26 : BitVec 32 := Scalar.muli v21 c4_i32
  let v27 : BitVec 32 := Scalar.addi v26 c0_i32_16
  let v28 : Index := Scalar.indexCast v27
  let c0_17 : Index := 0#32
  ![v28.toNat, 0]
def k0_off4 (k0_t2 : Fin k0_t2_loop.trips) (c0_i32_10 : BitVec 32) (c0_i32_11 : BitVec 32) (c0_i32_12 : BitVec 32) (c0_i32_19 : BitVec 32) : Fin 2 → Nat :=
  let c0_i32_1 : BitVec 32 := 0#32
  let c1_i32 : BitVec 32 := 1#32
  let arg13 : BitVec 32 := Scf.iv c0_i32_1 c1_i32 k0_t2
  let c8_i32_9 : BitVec 32 := 8#32
  let v18 : BitVec 32 := Scalar.muli arg13 c8_i32_9
  let v19 : BitVec 32 := Scalar.addi c0_i32_10 v18
  let v20 : BitVec 32 := Scalar.addi v19 c0_i32_11
  let v21 : BitVec 32 := Scalar.addi v20 c0_i32_12
  let c4_i32_18 : BitVec 32 := 4#32
  let v33 : BitVec 32 := Scalar.muli v21 c4_i32_18
  let v34 : BitVec 32 := Scalar.addi v33 c0_i32_19
  let c1_i32_20 : BitVec 32 := 1#32
  let v35 : BitVec 32 := Scalar.addi v34 c1_i32_20
  let v36 : Index := Scalar.indexCast v35
  let c0_21 : Index := 0#32
  ![v36.toNat, 0]
def k0_off5 (k0_t2 : Fin k0_t2_loop.trips) (c0_i32_1346 : BitVec 32) : Fin 2 → Nat :=
  let c0_i32_1 : BitVec 32 := 0#32
  let c1_i32 : BitVec 32 := 1#32
  let arg13 : BitVec 32 := Scf.iv c0_i32_1 c1_i32 k0_t2
  let v2898 : BitVec 32 := Scalar.addi c0_i32_1346 arg13
  let v2899 : Index := Scalar.indexCast v2898
  let c0_1347 : Index := 0#32
  ![v2899.toNat, 0]
def k0_off6 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32 : BitVec 32 := 38#32
  let v2960 : BitVec 32 := Scalar.muli arg13 c38_i32
  let c0_i32_1365 : BitVec 32 := 0#32
  let v2961 : BitVec 32 := Scalar.addi v2960 c0_i32_1365
  let v2962 : Index := Scalar.indexCast v2961
  ![v2962.toNat]
def k0_off7 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32 : BitVec 32 := 38#32
  let v2960 : BitVec 32 := Scalar.muli arg13 c38_i32
  let c0_i32_1365 : BitVec 32 := 0#32
  let v2961 : BitVec 32 := Scalar.addi v2960 c0_i32_1365
  let c4_i32_1373 : BitVec 32 := 4#32
  let v2975 : BitVec 32 := Scalar.muli v2961 c4_i32_1373
  let c0_i32_1374 : BitVec 32 := 0#32
  let v2976 : BitVec 32 := Scalar.addi v2975 c0_i32_1374
  let v2977 : Index := Scalar.indexCast v2976
  ![v2977.toNat]
def k0_off8 (i : grid0.Coords) (k0_t2 : Fin k0_t2_loop.trips) (v2963 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1367 : BitVec 32 := 2#32
  let v2966 : BitVec 32 := Scalar.muli v2959 c2_i32_1367
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v2964 : BitVec 32 := Scalar.shrui v2963 v2958
  let c1_i32_1366 : BitVec 32 := 1#32
  let v2965 : BitVec 32 := Scalar.andi v2964 c1_i32_1366
  let v2967 : BitVec 32 := Scalar.addi v2966 v2965
  let c1216_i32 : BitVec 32 := 1216#32
  let v2968 : BitVec 32 := Scalar.muli v2967 c1216_i32
  let c0_i32_1 : BitVec 32 := 0#32
  let c1_i32 : BitVec 32 := 1#32
  let arg13 : BitVec 32 := Scf.iv c0_i32_1 c1_i32 k0_t2
  let c38_i32 : BitVec 32 := 38#32
  let v2960 : BitVec 32 := Scalar.muli arg13 c38_i32
  let c0_i32_1365 : BitVec 32 := 0#32
  let v2961 : BitVec 32 := Scalar.addi v2960 c0_i32_1365
  let c4_i32_1368 : BitVec 32 := 4#32
  let v2969 : BitVec 32 := Scalar.muli v2961 c4_i32_1368
  let v2970 : BitVec 32 := Scalar.addi v2968 v2969
  let c0_i32_1369 : BitVec 32 := 0#32
  let v2971 : BitVec 32 := Scalar.addi v2970 c0_i32_1369
  let v2979 : Index := Scalar.indexCast v2971
  let c0_1375 : Index := 0#32
  let c0_1376 : Index := 0#32
  ![v2979.toNat, 0, 0]

def k0_off9 (v2978 : BitVec 32) : Fin 2 → Nat :=
  let v2982 : Index := Scalar.indexCast v2978
  let c0_1377 : Index := 0#32
  ![v2982.toNat, 0]

def k0_chk2 (v2978 : BitVec 32) : Prop :=
  (∀ a, (k0_off9 v2978) a + S8x128.size a ≤ S18432x128.size a)
theorem k0_off9_inb : ∀ (v2978 : BitVec 32) (k0_hw2 : k0_chk2 v2978), ∀ a, (k0_off9 v2978) a + S8x128.size a ≤ S18432x128.size a := fun v2978 k0_hw2 => k0_hw2

def k0_off10 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32 : BitVec 32 := 38#32
  let v2960 : BitVec 32 := Scalar.muli arg13 c38_i32
  let c0_i32_1365 : BitVec 32 := 0#32
  let v2961 : BitVec 32 := Scalar.addi v2960 c0_i32_1365
  let c4_i32_1378 : BitVec 32 := 4#32
  let v2985 : BitVec 32 := Scalar.muli v2961 c4_i32_1378
  let c1_i32_1379 : BitVec 32 := 1#32
  let v2986 : BitVec 32 := Scalar.addi v2985 c1_i32_1379
  let v2987 : Index := Scalar.indexCast v2986
  ![v2987.toNat]
def k0_off11 (i : grid0.Coords) (k0_t2 : Fin k0_t2_loop.trips) (v2963 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1367 : BitVec 32 := 2#32
  let v2966 : BitVec 32 := Scalar.muli v2959 c2_i32_1367
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v2964 : BitVec 32 := Scalar.shrui v2963 v2958
  let c1_i32_1366 : BitVec 32 := 1#32
  let v2965 : BitVec 32 := Scalar.andi v2964 c1_i32_1366
  let v2967 : BitVec 32 := Scalar.addi v2966 v2965
  let c1216_i32 : BitVec 32 := 1216#32
  let v2968 : BitVec 32 := Scalar.muli v2967 c1216_i32
  let c0_i32_1 : BitVec 32 := 0#32
  let c1_i32 : BitVec 32 := 1#32
  let arg13 : BitVec 32 := Scf.iv c0_i32_1 c1_i32 k0_t2
  let c38_i32 : BitVec 32 := 38#32
  let v2960 : BitVec 32 := Scalar.muli arg13 c38_i32
  let c0_i32_1365 : BitVec 32 := 0#32
  let v2961 : BitVec 32 := Scalar.addi v2960 c0_i32_1365
  let c4_i32_1368 : BitVec 32 := 4#32
  let v2969 : BitVec 32 := Scalar.muli v2961 c4_i32_1368
  let v2970 : BitVec 32 := Scalar.addi v2968 v2969
  let c1_i32_1370 : BitVec 32 := 1#32
  let v2972 : BitVec 32 := Scalar.addi v2970 c1_i32_1370
  let v2989 : Index := Scalar.indexCast v2972
  let c0_1380 : Index := 0#32
  let c0_1381 : Index := 0#32
  ![v2989.toNat, 0, 0]
def k0_off12 (v2988 : BitVec 32) : Fin 2 → Nat :=
  let v2992 : Index := Scalar.indexCast v2988
  let c0_1382 : Index := 0#32
  ![v2992.toNat, 0]

def k0_chk3 (v2988 : BitVec 32) : Prop :=
  (∀ a, (k0_off12 v2988) a + S8x128.size a ≤ S18432x128.size a)
theorem k0_off12_inb : ∀ (v2988 : BitVec 32) (k0_hw3 : k0_chk3 v2988), ∀ a, (k0_off12 v2988) a + S8x128.size a ≤ S18432x128.size a := fun v2988 k0_hw3 => k0_hw3

def k0_off13 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32 : BitVec 32 := 38#32
  let v2960 : BitVec 32 := Scalar.muli arg13 c38_i32
  let c0_i32_1365 : BitVec 32 := 0#32
  let v2961 : BitVec 32 := Scalar.addi v2960 c0_i32_1365
  let c4_i32_1383 : BitVec 32 := 4#32
  let v2995 : BitVec 32 := Scalar.muli v2961 c4_i32_1383
  let c2_i32_1384 : BitVec 32 := 2#32
  let v2996 : BitVec 32 := Scalar.addi v2995 c2_i32_1384
  let v2997 : Index := Scalar.indexCast v2996
  ![v2997.toNat]
def k0_off14 (i : grid0.Coords) (k0_t2 : Fin k0_t2_loop.trips) (v2963 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1367 : BitVec 32 := 2#32
  let v2966 : BitVec 32 := Scalar.muli v2959 c2_i32_1367
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v2964 : BitVec 32 := Scalar.shrui v2963 v2958
  let c1_i32_1366 : BitVec 32 := 1#32
  let v2965 : BitVec 32 := Scalar.andi v2964 c1_i32_1366
  let v2967 : BitVec 32 := Scalar.addi v2966 v2965
  let c1216_i32 : BitVec 32 := 1216#32
  let v2968 : BitVec 32 := Scalar.muli v2967 c1216_i32
  let c0_i32_1 : BitVec 32 := 0#32
  let c1_i32 : BitVec 32 := 1#32
  let arg13 : BitVec 32 := Scf.iv c0_i32_1 c1_i32 k0_t2
  let c38_i32 : BitVec 32 := 38#32
  let v2960 : BitVec 32 := Scalar.muli arg13 c38_i32
  let c0_i32_1365 : BitVec 32 := 0#32
  let v2961 : BitVec 32 := Scalar.addi v2960 c0_i32_1365
  let c4_i32_1368 : BitVec 32 := 4#32
  let v2969 : BitVec 32 := Scalar.muli v2961 c4_i32_1368
  let v2970 : BitVec 32 := Scalar.addi v2968 v2969
  let c2_i32_1371 : BitVec 32 := 2#32
  let v2973 : BitVec 32 := Scalar.addi v2970 c2_i32_1371
  let v2999 : Index := Scalar.indexCast v2973
  let c0_1385 : Index := 0#32
  let c0_1386 : Index := 0#32
  ![v2999.toNat, 0, 0]
def k0_off15 (v2998 : BitVec 32) : Fin 2 → Nat :=
  let v3002 : Index := Scalar.indexCast v2998
  let c0_1387 : Index := 0#32
  ![v3002.toNat, 0]

def k0_chk4 (v2998 : BitVec 32) : Prop :=
  (∀ a, (k0_off15 v2998) a + S8x128.size a ≤ S18432x128.size a)
theorem k0_off15_inb : ∀ (v2998 : BitVec 32) (k0_hw4 : k0_chk4 v2998), ∀ a, (k0_off15 v2998) a + S8x128.size a ≤ S18432x128.size a := fun v2998 k0_hw4 => k0_hw4

def k0_off16 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32 : BitVec 32 := 38#32
  let v2960 : BitVec 32 := Scalar.muli arg13 c38_i32
  let c0_i32_1365 : BitVec 32 := 0#32
  let v2961 : BitVec 32 := Scalar.addi v2960 c0_i32_1365
  let c4_i32_1388 : BitVec 32 := 4#32
  let v3005 : BitVec 32 := Scalar.muli v2961 c4_i32_1388
  let c3_i32_1389 : BitVec 32 := 3#32
  let v3006 : BitVec 32 := Scalar.addi v3005 c3_i32_1389
  let v3007 : Index := Scalar.indexCast v3006
  ![v3007.toNat]
def k0_off17 (i : grid0.Coords) (k0_t2 : Fin k0_t2_loop.trips) (v2963 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1367 : BitVec 32 := 2#32
  let v2966 : BitVec 32 := Scalar.muli v2959 c2_i32_1367
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v2964 : BitVec 32 := Scalar.shrui v2963 v2958
  let c1_i32_1366 : BitVec 32 := 1#32
  let v2965 : BitVec 32 := Scalar.andi v2964 c1_i32_1366
  let v2967 : BitVec 32 := Scalar.addi v2966 v2965
  let c1216_i32 : BitVec 32 := 1216#32
  let v2968 : BitVec 32 := Scalar.muli v2967 c1216_i32
  let c0_i32_1 : BitVec 32 := 0#32
  let c1_i32 : BitVec 32 := 1#32
  let arg13 : BitVec 32 := Scf.iv c0_i32_1 c1_i32 k0_t2
  let c38_i32 : BitVec 32 := 38#32
  let v2960 : BitVec 32 := Scalar.muli arg13 c38_i32
  let c0_i32_1365 : BitVec 32 := 0#32
  let v2961 : BitVec 32 := Scalar.addi v2960 c0_i32_1365
  let c4_i32_1368 : BitVec 32 := 4#32
  let v2969 : BitVec 32 := Scalar.muli v2961 c4_i32_1368
  let v2970 : BitVec 32 := Scalar.addi v2968 v2969
  let c3_i32_1372 : BitVec 32 := 3#32
  let v2974 : BitVec 32 := Scalar.addi v2970 c3_i32_1372
  let v3009 : Index := Scalar.indexCast v2974
  let c0_1390 : Index := 0#32
  let c0_1391 : Index := 0#32
  ![v3009.toNat, 0, 0]
def k0_off18 (v3008 : BitVec 32) : Fin 2 → Nat :=
  let v3012 : Index := Scalar.indexCast v3008
  let c0_1392 : Index := 0#32
  ![v3012.toNat, 0]

def k0_chk5 (v3008 : BitVec 32) : Prop :=
  (∀ a, (k0_off18 v3008) a + S8x128.size a ≤ S18432x128.size a)
theorem k0_off18_inb : ∀ (v3008 : BitVec 32) (k0_hw5 : k0_chk5 v3008), ∀ a, (k0_off18 v3008) a + S8x128.size a ≤ S18432x128.size a := fun v3008 k0_hw5 => k0_hw5

def k0_off19 (i : grid0.Coords) (k0_t2 : Fin k0_t2_loop.trips) (v2963 : BitVec 32) (c0_i32_1369 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1367 : BitVec 32 := 2#32
  let v2966 : BitVec 32 := Scalar.muli v2959 c2_i32_1367
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v2964 : BitVec 32 := Scalar.shrui v2963 v2958
  let c1_i32_1366 : BitVec 32 := 1#32
  let v2965 : BitVec 32 := Scalar.andi v2964 c1_i32_1366
  let v2967 : BitVec 32 := Scalar.addi v2966 v2965
  let c1216_i32 : BitVec 32 := 1216#32
  let v2968 : BitVec 32 := Scalar.muli v2967 c1216_i32
  let c0_i32_1 : BitVec 32 := 0#32
  let c1_i32 : BitVec 32 := 1#32
  let arg13 : BitVec 32 := Scf.iv c0_i32_1 c1_i32 k0_t2
  let c38_i32 : BitVec 32 := 38#32
  let v2960 : BitVec 32 := Scalar.muli arg13 c38_i32
  let c0_i32_1365 : BitVec 32 := 0#32
  let v2961 : BitVec 32 := Scalar.addi v2960 c0_i32_1365
  let c4_i32_1368 : BitVec 32 := 4#32
  let v2969 : BitVec 32 := Scalar.muli v2961 c4_i32_1368
  let v2970 : BitVec 32 := Scalar.addi v2968 v2969
  let v2971 : BitVec 32 := Scalar.addi v2970 c0_i32_1369
  let v3015 : Index := Scalar.indexCast v2971
  let c0_1393 : Index := 0#32
  let c0_1394 : Index := 0#32
  ![v3015.toNat, 0, 0]

def k0_chk1 (i : grid0.Coords) (k0_t2 : Fin k0_t2_loop.trips) (v2963 : BitVec 32) : Prop :=
  (∀ a, (k0_off8 i k0_t2 v2963) a + S1x8x128.size a ≤ S7296x8x128.size a) ∧
  (∀ a, (k0_off11 i k0_t2 v2963) a + S1x8x128.size a ≤ S7296x8x128.size a) ∧
  (∀ a, (k0_off14 i k0_t2 v2963) a + S1x8x128.size a ≤ S7296x8x128.size a) ∧
  (∀ a, (k0_off17 i k0_t2 v2963) a + S1x8x128.size a ≤ S7296x8x128.size a) ∧
  (∀ (r : Fin 4), ∀ a, (k0_off19 i k0_t2 v2963 (BitVec.ofNat 32 r.val)) a + S1x8x128.size a ≤ S7296x8x128.size a)
theorem k0_off8_inb : ∀ (i : grid0.Coords) (k0_t2 : Fin k0_t2_loop.trips) (v2963 : BitVec 32) (k0_hw1 : k0_chk1 i k0_t2 v2963), ∀ a, (k0_off8 i k0_t2 v2963) a + S1x8x128.size a ≤ S7296x8x128.size a := fun i k0_t2 v2963 k0_hw1 => k0_hw1.1
theorem k0_off11_inb : ∀ (i : grid0.Coords) (k0_t2 : Fin k0_t2_loop.trips) (v2963 : BitVec 32) (k0_hw1 : k0_chk1 i k0_t2 v2963), ∀ a, (k0_off11 i k0_t2 v2963) a + S1x8x128.size a ≤ S7296x8x128.size a := fun i k0_t2 v2963 k0_hw1 => k0_hw1.2.1
theorem k0_off14_inb : ∀ (i : grid0.Coords) (k0_t2 : Fin k0_t2_loop.trips) (v2963 : BitVec 32) (k0_hw1 : k0_chk1 i k0_t2 v2963), ∀ a, (k0_off14 i k0_t2 v2963) a + S1x8x128.size a ≤ S7296x8x128.size a := fun i k0_t2 v2963 k0_hw1 => k0_hw1.2.2.1
theorem k0_off17_inb : ∀ (i : grid0.Coords) (k0_t2 : Fin k0_t2_loop.trips) (v2963 : BitVec 32) (k0_hw1 : k0_chk1 i k0_t2 v2963), ∀ a, (k0_off17 i k0_t2 v2963) a + S1x8x128.size a ≤ S7296x8x128.size a := fun i k0_t2 v2963 k0_hw1 => k0_hw1.2.2.2.1
theorem k0_off19_inb : ∀ (i : grid0.Coords) (k0_t2 : Fin k0_t2_loop.trips) (v2963 : BitVec 32) (k0_hw1 : k0_chk1 i k0_t2 v2963), ∀ (r : Fin 4), ∀ a, (k0_off19 i k0_t2 v2963 (BitVec.ofNat 32 r.val)) a + S1x8x128.size a ≤ S7296x8x128.size a := fun i k0_t2 v2963 k0_hw1 r => k0_hw1.2.2.2.2 r

def k0_off20 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1401 : BitVec 32 := 38#32
  let v3031 : BitVec 32 := Scalar.muli arg13 c38_i32_1401
  let c1_i32_1402 : BitVec 32 := 1#32
  let v3032 : BitVec 32 := Scalar.addi v3031 c1_i32_1402
  let v3033 : Index := Scalar.indexCast v3032
  ![v3033.toNat]
def k0_off21 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1401 : BitVec 32 := 38#32
  let v3031 : BitVec 32 := Scalar.muli arg13 c38_i32_1401
  let c1_i32_1402 : BitVec 32 := 1#32
  let v3032 : BitVec 32 := Scalar.addi v3031 c1_i32_1402
  let c4_i32_1411 : BitVec 32 := 4#32
  let v3046 : BitVec 32 := Scalar.muli v3032 c4_i32_1411
  let c0_i32_1412 : BitVec 32 := 0#32
  let v3047 : BitVec 32 := Scalar.addi v3046 c0_i32_1412
  let v3048 : Index := Scalar.indexCast v3047
  ![v3048.toNat]
def k0_off22 (i : grid0.Coords) (k0_t2 : Fin k0_t2_loop.trips) (v3034 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1404 : BitVec 32 := 2#32
  let v3037 : BitVec 32 := Scalar.muli v2959 c2_i32_1404
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3035 : BitVec 32 := Scalar.shrui v3034 v2958
  let c1_i32_1403 : BitVec 32 := 1#32
  let v3036 : BitVec 32 := Scalar.andi v3035 c1_i32_1403
  let v3038 : BitVec 32 := Scalar.addi v3037 v3036
  let c1216_i32_1405 : BitVec 32 := 1216#32
  let v3039 : BitVec 32 := Scalar.muli v3038 c1216_i32_1405
  let c0_i32_1 : BitVec 32 := 0#32
  let c1_i32 : BitVec 32 := 1#32
  let arg13 : BitVec 32 := Scf.iv c0_i32_1 c1_i32 k0_t2
  let c38_i32_1401 : BitVec 32 := 38#32
  let v3031 : BitVec 32 := Scalar.muli arg13 c38_i32_1401
  let c1_i32_1402 : BitVec 32 := 1#32
  let v3032 : BitVec 32 := Scalar.addi v3031 c1_i32_1402
  let c4_i32_1406 : BitVec 32 := 4#32
  let v3040 : BitVec 32 := Scalar.muli v3032 c4_i32_1406
  let v3041 : BitVec 32 := Scalar.addi v3039 v3040
  let c0_i32_1407 : BitVec 32 := 0#32
  let v3042 : BitVec 32 := Scalar.addi v3041 c0_i32_1407
  let v3050 : Index := Scalar.indexCast v3042
  let c0_1413 : Index := 0#32
  let c0_1414 : Index := 0#32
  ![v3050.toNat, 0, 0]

def k0_off23 (v3049 : BitVec 32) : Fin 2 → Nat :=
  let v3053 : Index := Scalar.indexCast v3049
  let c0_1415 : Index := 0#32
  ![v3053.toNat, 0]

def k0_chk7 (v3049 : BitVec 32) : Prop :=
  (∀ a, (k0_off23 v3049) a + S8x128.size a ≤ S18432x128.size a)
theorem k0_off23_inb : ∀ (v3049 : BitVec 32) (k0_hw7 : k0_chk7 v3049), ∀ a, (k0_off23 v3049) a + S8x128.size a ≤ S18432x128.size a := fun v3049 k0_hw7 => k0_hw7

def k0_off24 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1401 : BitVec 32 := 38#32
  let v3031 : BitVec 32 := Scalar.muli arg13 c38_i32_1401
  let c1_i32_1402 : BitVec 32 := 1#32
  let v3032 : BitVec 32 := Scalar.addi v3031 c1_i32_1402
  let c4_i32_1416 : BitVec 32 := 4#32
  let v3056 : BitVec 32 := Scalar.muli v3032 c4_i32_1416
  let c1_i32_1417 : BitVec 32 := 1#32
  let v3057 : BitVec 32 := Scalar.addi v3056 c1_i32_1417
  let v3058 : Index := Scalar.indexCast v3057
  ![v3058.toNat]
def k0_off25 (i : grid0.Coords) (k0_t2 : Fin k0_t2_loop.trips) (v3034 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1404 : BitVec 32 := 2#32
  let v3037 : BitVec 32 := Scalar.muli v2959 c2_i32_1404
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3035 : BitVec 32 := Scalar.shrui v3034 v2958
  let c1_i32_1403 : BitVec 32 := 1#32
  let v3036 : BitVec 32 := Scalar.andi v3035 c1_i32_1403
  let v3038 : BitVec 32 := Scalar.addi v3037 v3036
  let c1216_i32_1405 : BitVec 32 := 1216#32
  let v3039 : BitVec 32 := Scalar.muli v3038 c1216_i32_1405
  let c0_i32_1 : BitVec 32 := 0#32
  let c1_i32 : BitVec 32 := 1#32
  let arg13 : BitVec 32 := Scf.iv c0_i32_1 c1_i32 k0_t2
  let c38_i32_1401 : BitVec 32 := 38#32
  let v3031 : BitVec 32 := Scalar.muli arg13 c38_i32_1401
  let c1_i32_1402 : BitVec 32 := 1#32
  let v3032 : BitVec 32 := Scalar.addi v3031 c1_i32_1402
  let c4_i32_1406 : BitVec 32 := 4#32
  let v3040 : BitVec 32 := Scalar.muli v3032 c4_i32_1406
  let v3041 : BitVec 32 := Scalar.addi v3039 v3040
  let c1_i32_1408 : BitVec 32 := 1#32
  let v3043 : BitVec 32 := Scalar.addi v3041 c1_i32_1408
  let v3060 : Index := Scalar.indexCast v3043
  let c0_1418 : Index := 0#32
  let c0_1419 : Index := 0#32
  ![v3060.toNat, 0, 0]
def k0_off26 (v3059 : BitVec 32) : Fin 2 → Nat :=
  let v3063 : Index := Scalar.indexCast v3059
  let c0_1420 : Index := 0#32
  ![v3063.toNat, 0]

def k0_chk8 (v3059 : BitVec 32) : Prop :=
  (∀ a, (k0_off26 v3059) a + S8x128.size a ≤ S18432x128.size a)
theorem k0_off26_inb : ∀ (v3059 : BitVec 32) (k0_hw8 : k0_chk8 v3059), ∀ a, (k0_off26 v3059) a + S8x128.size a ≤ S18432x128.size a := fun v3059 k0_hw8 => k0_hw8

def k0_off27 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1401 : BitVec 32 := 38#32
  let v3031 : BitVec 32 := Scalar.muli arg13 c38_i32_1401
  let c1_i32_1402 : BitVec 32 := 1#32
  let v3032 : BitVec 32 := Scalar.addi v3031 c1_i32_1402
  let c4_i32_1421 : BitVec 32 := 4#32
  let v3066 : BitVec 32 := Scalar.muli v3032 c4_i32_1421
  let c2_i32_1422 : BitVec 32 := 2#32
  let v3067 : BitVec 32 := Scalar.addi v3066 c2_i32_1422
  let v3068 : Index := Scalar.indexCast v3067
  ![v3068.toNat]
def k0_off28 (i : grid0.Coords) (k0_t2 : Fin k0_t2_loop.trips) (v3034 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1404 : BitVec 32 := 2#32
  let v3037 : BitVec 32 := Scalar.muli v2959 c2_i32_1404
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3035 : BitVec 32 := Scalar.shrui v3034 v2958
  let c1_i32_1403 : BitVec 32 := 1#32
  let v3036 : BitVec 32 := Scalar.andi v3035 c1_i32_1403
  let v3038 : BitVec 32 := Scalar.addi v3037 v3036
  let c1216_i32_1405 : BitVec 32 := 1216#32
  let v3039 : BitVec 32 := Scalar.muli v3038 c1216_i32_1405
  let c0_i32_1 : BitVec 32 := 0#32
  let c1_i32 : BitVec 32 := 1#32
  let arg13 : BitVec 32 := Scf.iv c0_i32_1 c1_i32 k0_t2
  let c38_i32_1401 : BitVec 32 := 38#32
  let v3031 : BitVec 32 := Scalar.muli arg13 c38_i32_1401
  let c1_i32_1402 : BitVec 32 := 1#32
  let v3032 : BitVec 32 := Scalar.addi v3031 c1_i32_1402
  let c4_i32_1406 : BitVec 32 := 4#32
  let v3040 : BitVec 32 := Scalar.muli v3032 c4_i32_1406
  let v3041 : BitVec 32 := Scalar.addi v3039 v3040
  let c2_i32_1409 : BitVec 32 := 2#32
  let v3044 : BitVec 32 := Scalar.addi v3041 c2_i32_1409
  let v3070 : Index := Scalar.indexCast v3044
  let c0_1423 : Index := 0#32
  let c0_1424 : Index := 0#32
  ![v3070.toNat, 0, 0]
def k0_off29 (v3069 : BitVec 32) : Fin 2 → Nat :=
  let v3073 : Index := Scalar.indexCast v3069
  let c0_1425 : Index := 0#32
  ![v3073.toNat, 0]

def k0_chk9 (v3069 : BitVec 32) : Prop :=
  (∀ a, (k0_off29 v3069) a + S8x128.size a ≤ S18432x128.size a)
theorem k0_off29_inb : ∀ (v3069 : BitVec 32) (k0_hw9 : k0_chk9 v3069), ∀ a, (k0_off29 v3069) a + S8x128.size a ≤ S18432x128.size a := fun v3069 k0_hw9 => k0_hw9

def k0_off30 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1401 : BitVec 32 := 38#32
  let v3031 : BitVec 32 := Scalar.muli arg13 c38_i32_1401
  let c1_i32_1402 : BitVec 32 := 1#32
  let v3032 : BitVec 32 := Scalar.addi v3031 c1_i32_1402
  let c4_i32_1426 : BitVec 32 := 4#32
  let v3076 : BitVec 32 := Scalar.muli v3032 c4_i32_1426
  let c3_i32_1427 : BitVec 32 := 3#32
  let v3077 : BitVec 32 := Scalar.addi v3076 c3_i32_1427
  let v3078 : Index := Scalar.indexCast v3077
  ![v3078.toNat]
def k0_off31 (i : grid0.Coords) (k0_t2 : Fin k0_t2_loop.trips) (v3034 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1404 : BitVec 32 := 2#32
  let v3037 : BitVec 32 := Scalar.muli v2959 c2_i32_1404
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3035 : BitVec 32 := Scalar.shrui v3034 v2958
  let c1_i32_1403 : BitVec 32 := 1#32
  let v3036 : BitVec 32 := Scalar.andi v3035 c1_i32_1403
  let v3038 : BitVec 32 := Scalar.addi v3037 v3036
  let c1216_i32_1405 : BitVec 32 := 1216#32
  let v3039 : BitVec 32 := Scalar.muli v3038 c1216_i32_1405
  let c0_i32_1 : BitVec 32 := 0#32
  let c1_i32 : BitVec 32 := 1#32
  let arg13 : BitVec 32 := Scf.iv c0_i32_1 c1_i32 k0_t2
  let c38_i32_1401 : BitVec 32 := 38#32
  let v3031 : BitVec 32 := Scalar.muli arg13 c38_i32_1401
  let c1_i32_1402 : BitVec 32 := 1#32
  let v3032 : BitVec 32 := Scalar.addi v3031 c1_i32_1402
  let c4_i32_1406 : BitVec 32 := 4#32
  let v3040 : BitVec 32 := Scalar.muli v3032 c4_i32_1406
  let v3041 : BitVec 32 := Scalar.addi v3039 v3040
  let c3_i32_1410 : BitVec 32 := 3#32
  let v3045 : BitVec 32 := Scalar.addi v3041 c3_i32_1410
  let v3080 : Index := Scalar.indexCast v3045
  let c0_1428 : Index := 0#32
  let c0_1429 : Index := 0#32
  ![v3080.toNat, 0, 0]
def k0_off32 (v3079 : BitVec 32) : Fin 2 → Nat :=
  let v3083 : Index := Scalar.indexCast v3079
  let c0_1430 : Index := 0#32
  ![v3083.toNat, 0]

def k0_chk10 (v3079 : BitVec 32) : Prop :=
  (∀ a, (k0_off32 v3079) a + S8x128.size a ≤ S18432x128.size a)
theorem k0_off32_inb : ∀ (v3079 : BitVec 32) (k0_hw10 : k0_chk10 v3079), ∀ a, (k0_off32 v3079) a + S8x128.size a ≤ S18432x128.size a := fun v3079 k0_hw10 => k0_hw10

def k0_off33 (i : grid0.Coords) (k0_t2 : Fin k0_t2_loop.trips) (v3034 : BitVec 32) (c0_i32_1407 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1404 : BitVec 32 := 2#32
  let v3037 : BitVec 32 := Scalar.muli v2959 c2_i32_1404
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3035 : BitVec 32 := Scalar.shrui v3034 v2958
  let c1_i32_1403 : BitVec 32 := 1#32
  let v3036 : BitVec 32 := Scalar.andi v3035 c1_i32_1403
  let v3038 : BitVec 32 := Scalar.addi v3037 v3036
  let c1216_i32_1405 : BitVec 32 := 1216#32
  let v3039 : BitVec 32 := Scalar.muli v3038 c1216_i32_1405
  let c0_i32_1 : BitVec 32 := 0#32
  let c1_i32 : BitVec 32 := 1#32
  let arg13 : BitVec 32 := Scf.iv c0_i32_1 c1_i32 k0_t2
  let c38_i32_1401 : BitVec 32 := 38#32
  let v3031 : BitVec 32 := Scalar.muli arg13 c38_i32_1401
  let c1_i32_1402 : BitVec 32 := 1#32
  let v3032 : BitVec 32 := Scalar.addi v3031 c1_i32_1402
  let c4_i32_1406 : BitVec 32 := 4#32
  let v3040 : BitVec 32 := Scalar.muli v3032 c4_i32_1406
  let v3041 : BitVec 32 := Scalar.addi v3039 v3040
  let v3042 : BitVec 32 := Scalar.addi v3041 c0_i32_1407
  let v3086 : Index := Scalar.indexCast v3042
  let c0_1431 : Index := 0#32
  let c0_1432 : Index := 0#32
  ![v3086.toNat, 0, 0]

def k0_chk6 (i : grid0.Coords) (k0_t2 : Fin k0_t2_loop.trips) (v3034 : BitVec 32) : Prop :=
  (∀ a, (k0_off22 i k0_t2 v3034) a + S1x8x128.size a ≤ S7296x8x128.size a) ∧
  (∀ a, (k0_off25 i k0_t2 v3034) a + S1x8x128.size a ≤ S7296x8x128.size a) ∧
  (∀ a, (k0_off28 i k0_t2 v3034) a + S1x8x128.size a ≤ S7296x8x128.size a) ∧
  (∀ a, (k0_off31 i k0_t2 v3034) a + S1x8x128.size a ≤ S7296x8x128.size a) ∧
  (∀ (r : Fin 4), ∀ a, (k0_off33 i k0_t2 v3034 (BitVec.ofNat 32 r.val)) a + S1x8x128.size a ≤ S7296x8x128.size a)
theorem k0_off22_inb : ∀ (i : grid0.Coords) (k0_t2 : Fin k0_t2_loop.trips) (v3034 : BitVec 32) (k0_hw6 : k0_chk6 i k0_t2 v3034), ∀ a, (k0_off22 i k0_t2 v3034) a + S1x8x128.size a ≤ S7296x8x128.size a := fun i k0_t2 v3034 k0_hw6 => k0_hw6.1
theorem k0_off25_inb : ∀ (i : grid0.Coords) (k0_t2 : Fin k0_t2_loop.trips) (v3034 : BitVec 32) (k0_hw6 : k0_chk6 i k0_t2 v3034), ∀ a, (k0_off25 i k0_t2 v3034) a + S1x8x128.size a ≤ S7296x8x128.size a := fun i k0_t2 v3034 k0_hw6 => k0_hw6.2.1
theorem k0_off28_inb : ∀ (i : grid0.Coords) (k0_t2 : Fin k0_t2_loop.trips) (v3034 : BitVec 32) (k0_hw6 : k0_chk6 i k0_t2 v3034), ∀ a, (k0_off28 i k0_t2 v3034) a + S1x8x128.size a ≤ S7296x8x128.size a := fun i k0_t2 v3034 k0_hw6 => k0_hw6.2.2.1
theorem k0_off31_inb : ∀ (i : grid0.Coords) (k0_t2 : Fin k0_t2_loop.trips) (v3034 : BitVec 32) (k0_hw6 : k0_chk6 i k0_t2 v3034), ∀ a, (k0_off31 i k0_t2 v3034) a + S1x8x128.size a ≤ S7296x8x128.size a := fun i k0_t2 v3034 k0_hw6 => k0_hw6.2.2.2.1
theorem k0_off33_inb : ∀ (i : grid0.Coords) (k0_t2 : Fin k0_t2_loop.trips) (v3034 : BitVec 32) (k0_hw6 : k0_chk6 i k0_t2 v3034), ∀ (r : Fin 4), ∀ a, (k0_off33 i k0_t2 v3034 (BitVec.ofNat 32 r.val)) a + S1x8x128.size a ≤ S7296x8x128.size a := fun i k0_t2 v3034 k0_hw6 r => k0_hw6.2.2.2.2 r

def k0_off34 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1439 : BitVec 32 := 38#32
  let v3102 : BitVec 32 := Scalar.muli arg13 c38_i32_1439
  let c2_i32_1440 : BitVec 32 := 2#32
  let v3103 : BitVec 32 := Scalar.addi v3102 c2_i32_1440
  let v3104 : Index := Scalar.indexCast v3103
  ![v3104.toNat]
def k0_off35 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1439 : BitVec 32 := 38#32
  let v3102 : BitVec 32 := Scalar.muli arg13 c38_i32_1439
  let c2_i32_1440 : BitVec 32 := 2#32
  let v3103 : BitVec 32 := Scalar.addi v3102 c2_i32_1440
  let c4_i32_1449 : BitVec 32 := 4#32
  let v3117 : BitVec 32 := Scalar.muli v3103 c4_i32_1449
  let c0_i32_1450 : BitVec 32 := 0#32
  let v3118 : BitVec 32 := Scalar.addi v3117 c0_i32_1450
  let v3119 : Index := Scalar.indexCast v3118
  ![v3119.toNat]
def k0_off36 (i : grid0.Coords) (k0_t2 : Fin k0_t2_loop.trips) (v3105 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1442 : BitVec 32 := 2#32
  let v3108 : BitVec 32 := Scalar.muli v2959 c2_i32_1442
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3106 : BitVec 32 := Scalar.shrui v3105 v2958
  let c1_i32_1441 : BitVec 32 := 1#32
  let v3107 : BitVec 32 := Scalar.andi v3106 c1_i32_1441
  let v3109 : BitVec 32 := Scalar.addi v3108 v3107
  let c1216_i32_1443 : BitVec 32 := 1216#32
  let v3110 : BitVec 32 := Scalar.muli v3109 c1216_i32_1443
  let c0_i32_1 : BitVec 32 := 0#32
  let c1_i32 : BitVec 32 := 1#32
  let arg13 : BitVec 32 := Scf.iv c0_i32_1 c1_i32 k0_t2
  let c38_i32_1439 : BitVec 32 := 38#32
  let v3102 : BitVec 32 := Scalar.muli arg13 c38_i32_1439
  let c2_i32_1440 : BitVec 32 := 2#32
  let v3103 : BitVec 32 := Scalar.addi v3102 c2_i32_1440
  let c4_i32_1444 : BitVec 32 := 4#32
  let v3111 : BitVec 32 := Scalar.muli v3103 c4_i32_1444
  let v3112 : BitVec 32 := Scalar.addi v3110 v3111
  let c0_i32_1445 : BitVec 32 := 0#32
  let v3113 : BitVec 32 := Scalar.addi v3112 c0_i32_1445
  let v3121 : Index := Scalar.indexCast v3113
  let c0_1451 : Index := 0#32
  let c0_1452 : Index := 0#32
  ![v3121.toNat, 0, 0]

def k0_off37 (v3120 : BitVec 32) : Fin 2 → Nat :=
  let v3124 : Index := Scalar.indexCast v3120
  let c0_1453 : Index := 0#32
  ![v3124.toNat, 0]

def k0_chk12 (v3120 : BitVec 32) : Prop :=
  (∀ a, (k0_off37 v3120) a + S8x128.size a ≤ S18432x128.size a)
theorem k0_off37_inb : ∀ (v3120 : BitVec 32) (k0_hw12 : k0_chk12 v3120), ∀ a, (k0_off37 v3120) a + S8x128.size a ≤ S18432x128.size a := fun v3120 k0_hw12 => k0_hw12

def k0_off38 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1439 : BitVec 32 := 38#32
  let v3102 : BitVec 32 := Scalar.muli arg13 c38_i32_1439
  let c2_i32_1440 : BitVec 32 := 2#32
  let v3103 : BitVec 32 := Scalar.addi v3102 c2_i32_1440
  let c4_i32_1454 : BitVec 32 := 4#32
  let v3127 : BitVec 32 := Scalar.muli v3103 c4_i32_1454
  let c1_i32_1455 : BitVec 32 := 1#32
  let v3128 : BitVec 32 := Scalar.addi v3127 c1_i32_1455
  let v3129 : Index := Scalar.indexCast v3128
  ![v3129.toNat]
def k0_off39 (i : grid0.Coords) (k0_t2 : Fin k0_t2_loop.trips) (v3105 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1442 : BitVec 32 := 2#32
  let v3108 : BitVec 32 := Scalar.muli v2959 c2_i32_1442
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3106 : BitVec 32 := Scalar.shrui v3105 v2958
  let c1_i32_1441 : BitVec 32 := 1#32
  let v3107 : BitVec 32 := Scalar.andi v3106 c1_i32_1441
  let v3109 : BitVec 32 := Scalar.addi v3108 v3107
  let c1216_i32_1443 : BitVec 32 := 1216#32
  let v3110 : BitVec 32 := Scalar.muli v3109 c1216_i32_1443
  let c0_i32_1 : BitVec 32 := 0#32
  let c1_i32 : BitVec 32 := 1#32
  let arg13 : BitVec 32 := Scf.iv c0_i32_1 c1_i32 k0_t2
  let c38_i32_1439 : BitVec 32 := 38#32
  let v3102 : BitVec 32 := Scalar.muli arg13 c38_i32_1439
  let c2_i32_1440 : BitVec 32 := 2#32
  let v3103 : BitVec 32 := Scalar.addi v3102 c2_i32_1440
  let c4_i32_1444 : BitVec 32 := 4#32
  let v3111 : BitVec 32 := Scalar.muli v3103 c4_i32_1444
  let v3112 : BitVec 32 := Scalar.addi v3110 v3111
  let c1_i32_1446 : BitVec 32 := 1#32
  let v3114 : BitVec 32 := Scalar.addi v3112 c1_i32_1446
  let v3131 : Index := Scalar.indexCast v3114
  let c0_1456 : Index := 0#32
  let c0_1457 : Index := 0#32
  ![v3131.toNat, 0, 0]
def k0_off40 (v3130 : BitVec 32) : Fin 2 → Nat :=
  let v3134 : Index := Scalar.indexCast v3130
  let c0_1458 : Index := 0#32
  ![v3134.toNat, 0]

def k0_chk13 (v3130 : BitVec 32) : Prop :=
  (∀ a, (k0_off40 v3130) a + S8x128.size a ≤ S18432x128.size a)
theorem k0_off40_inb : ∀ (v3130 : BitVec 32) (k0_hw13 : k0_chk13 v3130), ∀ a, (k0_off40 v3130) a + S8x128.size a ≤ S18432x128.size a := fun v3130 k0_hw13 => k0_hw13

def k0_off41 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1439 : BitVec 32 := 38#32
  let v3102 : BitVec 32 := Scalar.muli arg13 c38_i32_1439
  let c2_i32_1440 : BitVec 32 := 2#32
  let v3103 : BitVec 32 := Scalar.addi v3102 c2_i32_1440
  let c4_i32_1459 : BitVec 32 := 4#32
  let v3137 : BitVec 32 := Scalar.muli v3103 c4_i32_1459
  let c2_i32_1460 : BitVec 32 := 2#32
  let v3138 : BitVec 32 := Scalar.addi v3137 c2_i32_1460
  let v3139 : Index := Scalar.indexCast v3138
  ![v3139.toNat]
def k0_off42 (i : grid0.Coords) (k0_t2 : Fin k0_t2_loop.trips) (v3105 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1442 : BitVec 32 := 2#32
  let v3108 : BitVec 32 := Scalar.muli v2959 c2_i32_1442
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3106 : BitVec 32 := Scalar.shrui v3105 v2958
  let c1_i32_1441 : BitVec 32 := 1#32
  let v3107 : BitVec 32 := Scalar.andi v3106 c1_i32_1441
  let v3109 : BitVec 32 := Scalar.addi v3108 v3107
  let c1216_i32_1443 : BitVec 32 := 1216#32
  let v3110 : BitVec 32 := Scalar.muli v3109 c1216_i32_1443
  let c0_i32_1 : BitVec 32 := 0#32
  let c1_i32 : BitVec 32 := 1#32
  let arg13 : BitVec 32 := Scf.iv c0_i32_1 c1_i32 k0_t2
  let c38_i32_1439 : BitVec 32 := 38#32
  let v3102 : BitVec 32 := Scalar.muli arg13 c38_i32_1439
  let c2_i32_1440 : BitVec 32 := 2#32
  let v3103 : BitVec 32 := Scalar.addi v3102 c2_i32_1440
  let c4_i32_1444 : BitVec 32 := 4#32
  let v3111 : BitVec 32 := Scalar.muli v3103 c4_i32_1444
  let v3112 : BitVec 32 := Scalar.addi v3110 v3111
  let c2_i32_1447 : BitVec 32 := 2#32
  let v3115 : BitVec 32 := Scalar.addi v3112 c2_i32_1447
  let v3141 : Index := Scalar.indexCast v3115
  let c0_1461 : Index := 0#32
  let c0_1462 : Index := 0#32
  ![v3141.toNat, 0, 0]
def k0_off43 (v3140 : BitVec 32) : Fin 2 → Nat :=
  let v3144 : Index := Scalar.indexCast v3140
  let c0_1463 : Index := 0#32
  ![v3144.toNat, 0]

def k0_chk14 (v3140 : BitVec 32) : Prop :=
  (∀ a, (k0_off43 v3140) a + S8x128.size a ≤ S18432x128.size a)
theorem k0_off43_inb : ∀ (v3140 : BitVec 32) (k0_hw14 : k0_chk14 v3140), ∀ a, (k0_off43 v3140) a + S8x128.size a ≤ S18432x128.size a := fun v3140 k0_hw14 => k0_hw14

def k0_off44 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1439 : BitVec 32 := 38#32
  let v3102 : BitVec 32 := Scalar.muli arg13 c38_i32_1439
  let c2_i32_1440 : BitVec 32 := 2#32
  let v3103 : BitVec 32 := Scalar.addi v3102 c2_i32_1440
  let c4_i32_1464 : BitVec 32 := 4#32
  let v3147 : BitVec 32 := Scalar.muli v3103 c4_i32_1464
  let c3_i32_1465 : BitVec 32 := 3#32
  let v3148 : BitVec 32 := Scalar.addi v3147 c3_i32_1465
  let v3149 : Index := Scalar.indexCast v3148
  ![v3149.toNat]
def k0_off45 (i : grid0.Coords) (k0_t2 : Fin k0_t2_loop.trips) (v3105 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1442 : BitVec 32 := 2#32
  let v3108 : BitVec 32 := Scalar.muli v2959 c2_i32_1442
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3106 : BitVec 32 := Scalar.shrui v3105 v2958
  let c1_i32_1441 : BitVec 32 := 1#32
  let v3107 : BitVec 32 := Scalar.andi v3106 c1_i32_1441
  let v3109 : BitVec 32 := Scalar.addi v3108 v3107
  let c1216_i32_1443 : BitVec 32 := 1216#32
  let v3110 : BitVec 32 := Scalar.muli v3109 c1216_i32_1443
  let c0_i32_1 : BitVec 32 := 0#32
  let c1_i32 : BitVec 32 := 1#32
  let arg13 : BitVec 32 := Scf.iv c0_i32_1 c1_i32 k0_t2
  let c38_i32_1439 : BitVec 32 := 38#32
  let v3102 : BitVec 32 := Scalar.muli arg13 c38_i32_1439
  let c2_i32_1440 : BitVec 32 := 2#32
  let v3103 : BitVec 32 := Scalar.addi v3102 c2_i32_1440
  let c4_i32_1444 : BitVec 32 := 4#32
  let v3111 : BitVec 32 := Scalar.muli v3103 c4_i32_1444
  let v3112 : BitVec 32 := Scalar.addi v3110 v3111
  let c3_i32_1448 : BitVec 32 := 3#32
  let v3116 : BitVec 32 := Scalar.addi v3112 c3_i32_1448
  let v3151 : Index := Scalar.indexCast v3116
  let c0_1466 : Index := 0#32
  let c0_1467 : Index := 0#32
  ![v3151.toNat, 0, 0]
def k0_off46 (v3150 : BitVec 32) : Fin 2 → Nat :=
  let v3154 : Index := Scalar.indexCast v3150
  let c0_1468 : Index := 0#32
  ![v3154.toNat, 0]

def k0_chk15 (v3150 : BitVec 32) : Prop :=
  (∀ a, (k0_off46 v3150) a + S8x128.size a ≤ S18432x128.size a)
theorem k0_off46_inb : ∀ (v3150 : BitVec 32) (k0_hw15 : k0_chk15 v3150), ∀ a, (k0_off46 v3150) a + S8x128.size a ≤ S18432x128.size a := fun v3150 k0_hw15 => k0_hw15

def k0_off47 (i : grid0.Coords) (k0_t2 : Fin k0_t2_loop.trips) (v3105 : BitVec 32) (c0_i32_1445 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1442 : BitVec 32 := 2#32
  let v3108 : BitVec 32 := Scalar.muli v2959 c2_i32_1442
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3106 : BitVec 32 := Scalar.shrui v3105 v2958
  let c1_i32_1441 : BitVec 32 := 1#32
  let v3107 : BitVec 32 := Scalar.andi v3106 c1_i32_1441
  let v3109 : BitVec 32 := Scalar.addi v3108 v3107
  let c1216_i32_1443 : BitVec 32 := 1216#32
  let v3110 : BitVec 32 := Scalar.muli v3109 c1216_i32_1443
  let c0_i32_1 : BitVec 32 := 0#32
  let c1_i32 : BitVec 32 := 1#32
  let arg13 : BitVec 32 := Scf.iv c0_i32_1 c1_i32 k0_t2
  let c38_i32_1439 : BitVec 32 := 38#32
  let v3102 : BitVec 32 := Scalar.muli arg13 c38_i32_1439
  let c2_i32_1440 : BitVec 32 := 2#32
  let v3103 : BitVec 32 := Scalar.addi v3102 c2_i32_1440
  let c4_i32_1444 : BitVec 32 := 4#32
  let v3111 : BitVec 32 := Scalar.muli v3103 c4_i32_1444
  let v3112 : BitVec 32 := Scalar.addi v3110 v3111
  let v3113 : BitVec 32 := Scalar.addi v3112 c0_i32_1445
  let v3157 : Index := Scalar.indexCast v3113
  let c0_1469 : Index := 0#32
  let c0_1470 : Index := 0#32
  ![v3157.toNat, 0, 0]

def k0_chk11 (i : grid0.Coords) (k0_t2 : Fin k0_t2_loop.trips) (v3105 : BitVec 32) : Prop :=
  (∀ a, (k0_off36 i k0_t2 v3105) a + S1x8x128.size a ≤ S7296x8x128.size a) ∧
  (∀ a, (k0_off39 i k0_t2 v3105) a + S1x8x128.size a ≤ S7296x8x128.size a) ∧
  (∀ a, (k0_off42 i k0_t2 v3105) a + S1x8x128.size a ≤ S7296x8x128.size a) ∧
  (∀ a, (k0_off45 i k0_t2 v3105) a + S1x8x128.size a ≤ S7296x8x128.size a) ∧
  (∀ (r : Fin 4), ∀ a, (k0_off47 i k0_t2 v3105 (BitVec.ofNat 32 r.val)) a + S1x8x128.size a ≤ S7296x8x128.size a)
theorem k0_off36_inb : ∀ (i : grid0.Coords) (k0_t2 : Fin k0_t2_loop.trips) (v3105 : BitVec 32) (k0_hw11 : k0_chk11 i k0_t2 v3105), ∀ a, (k0_off36 i k0_t2 v3105) a + S1x8x128.size a ≤ S7296x8x128.size a := fun i k0_t2 v3105 k0_hw11 => k0_hw11.1
theorem k0_off39_inb : ∀ (i : grid0.Coords) (k0_t2 : Fin k0_t2_loop.trips) (v3105 : BitVec 32) (k0_hw11 : k0_chk11 i k0_t2 v3105), ∀ a, (k0_off39 i k0_t2 v3105) a + S1x8x128.size a ≤ S7296x8x128.size a := fun i k0_t2 v3105 k0_hw11 => k0_hw11.2.1
theorem k0_off42_inb : ∀ (i : grid0.Coords) (k0_t2 : Fin k0_t2_loop.trips) (v3105 : BitVec 32) (k0_hw11 : k0_chk11 i k0_t2 v3105), ∀ a, (k0_off42 i k0_t2 v3105) a + S1x8x128.size a ≤ S7296x8x128.size a := fun i k0_t2 v3105 k0_hw11 => k0_hw11.2.2.1
theorem k0_off45_inb : ∀ (i : grid0.Coords) (k0_t2 : Fin k0_t2_loop.trips) (v3105 : BitVec 32) (k0_hw11 : k0_chk11 i k0_t2 v3105), ∀ a, (k0_off45 i k0_t2 v3105) a + S1x8x128.size a ≤ S7296x8x128.size a := fun i k0_t2 v3105 k0_hw11 => k0_hw11.2.2.2.1
theorem k0_off47_inb : ∀ (i : grid0.Coords) (k0_t2 : Fin k0_t2_loop.trips) (v3105 : BitVec 32) (k0_hw11 : k0_chk11 i k0_t2 v3105), ∀ (r : Fin 4), ∀ a, (k0_off47 i k0_t2 v3105 (BitVec.ofNat 32 r.val)) a + S1x8x128.size a ≤ S7296x8x128.size a := fun i k0_t2 v3105 k0_hw11 r => k0_hw11.2.2.2.2 r

def k0_off48 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1477 : BitVec 32 := 38#32
  let v3173 : BitVec 32 := Scalar.muli arg13 c38_i32_1477
  let c3_i32_1478 : BitVec 32 := 3#32
  let v3174 : BitVec 32 := Scalar.addi v3173 c3_i32_1478
  let v3175 : Index := Scalar.indexCast v3174
  ![v3175.toNat]
def k0_off49 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1477 : BitVec 32 := 38#32
  let v3173 : BitVec 32 := Scalar.muli arg13 c38_i32_1477
  let c3_i32_1478 : BitVec 32 := 3#32
  let v3174 : BitVec 32 := Scalar.addi v3173 c3_i32_1478
  let c4_i32_1487 : BitVec 32 := 4#32
  let v3188 : BitVec 32 := Scalar.muli v3174 c4_i32_1487
  let c0_i32_1488 : BitVec 32 := 0#32
  let v3189 : BitVec 32 := Scalar.addi v3188 c0_i32_1488
  let v3190 : Index := Scalar.indexCast v3189
  ![v3190.toNat]
def k0_off50 (i : grid0.Coords) (k0_t2 : Fin k0_t2_loop.trips) (v3176 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1480 : BitVec 32 := 2#32
  let v3179 : BitVec 32 := Scalar.muli v2959 c2_i32_1480
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3177 : BitVec 32 := Scalar.shrui v3176 v2958
  let c1_i32_1479 : BitVec 32 := 1#32
  let v3178 : BitVec 32 := Scalar.andi v3177 c1_i32_1479
  let v3180 : BitVec 32 := Scalar.addi v3179 v3178
  let c1216_i32_1481 : BitVec 32 := 1216#32
  let v3181 : BitVec 32 := Scalar.muli v3180 c1216_i32_1481
  let c0_i32_1 : BitVec 32 := 0#32
  let c1_i32 : BitVec 32 := 1#32
  let arg13 : BitVec 32 := Scf.iv c0_i32_1 c1_i32 k0_t2
  let c38_i32_1477 : BitVec 32 := 38#32
  let v3173 : BitVec 32 := Scalar.muli arg13 c38_i32_1477
  let c3_i32_1478 : BitVec 32 := 3#32
  let v3174 : BitVec 32 := Scalar.addi v3173 c3_i32_1478
  let c4_i32_1482 : BitVec 32 := 4#32
  let v3182 : BitVec 32 := Scalar.muli v3174 c4_i32_1482
  let v3183 : BitVec 32 := Scalar.addi v3181 v3182
  let c0_i32_1483 : BitVec 32 := 0#32
  let v3184 : BitVec 32 := Scalar.addi v3183 c0_i32_1483
  let v3192 : Index := Scalar.indexCast v3184
  let c0_1489 : Index := 0#32
  let c0_1490 : Index := 0#32
  ![v3192.toNat, 0, 0]

def k0_off51 (v3191 : BitVec 32) : Fin 2 → Nat :=
  let v3195 : Index := Scalar.indexCast v3191
  let c0_1491 : Index := 0#32
  ![v3195.toNat, 0]

def k0_chk17 (v3191 : BitVec 32) : Prop :=
  (∀ a, (k0_off51 v3191) a + S8x128.size a ≤ S18432x128.size a)
theorem k0_off51_inb : ∀ (v3191 : BitVec 32) (k0_hw17 : k0_chk17 v3191), ∀ a, (k0_off51 v3191) a + S8x128.size a ≤ S18432x128.size a := fun v3191 k0_hw17 => k0_hw17

def k0_off52 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1477 : BitVec 32 := 38#32
  let v3173 : BitVec 32 := Scalar.muli arg13 c38_i32_1477
  let c3_i32_1478 : BitVec 32 := 3#32
  let v3174 : BitVec 32 := Scalar.addi v3173 c3_i32_1478
  let c4_i32_1492 : BitVec 32 := 4#32
  let v3198 : BitVec 32 := Scalar.muli v3174 c4_i32_1492
  let c1_i32_1493 : BitVec 32 := 1#32
  let v3199 : BitVec 32 := Scalar.addi v3198 c1_i32_1493
  let v3200 : Index := Scalar.indexCast v3199
  ![v3200.toNat]
def k0_off53 (i : grid0.Coords) (k0_t2 : Fin k0_t2_loop.trips) (v3176 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1480 : BitVec 32 := 2#32
  let v3179 : BitVec 32 := Scalar.muli v2959 c2_i32_1480
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3177 : BitVec 32 := Scalar.shrui v3176 v2958
  let c1_i32_1479 : BitVec 32 := 1#32
  let v3178 : BitVec 32 := Scalar.andi v3177 c1_i32_1479
  let v3180 : BitVec 32 := Scalar.addi v3179 v3178
  let c1216_i32_1481 : BitVec 32 := 1216#32
  let v3181 : BitVec 32 := Scalar.muli v3180 c1216_i32_1481
  let c0_i32_1 : BitVec 32 := 0#32
  let c1_i32 : BitVec 32 := 1#32
  let arg13 : BitVec 32 := Scf.iv c0_i32_1 c1_i32 k0_t2
  let c38_i32_1477 : BitVec 32 := 38#32
  let v3173 : BitVec 32 := Scalar.muli arg13 c38_i32_1477
  let c3_i32_1478 : BitVec 32 := 3#32
  let v3174 : BitVec 32 := Scalar.addi v3173 c3_i32_1478
  let c4_i32_1482 : BitVec 32 := 4#32
  let v3182 : BitVec 32 := Scalar.muli v3174 c4_i32_1482
  let v3183 : BitVec 32 := Scalar.addi v3181 v3182
  let c1_i32_1484 : BitVec 32 := 1#32
  let v3185 : BitVec 32 := Scalar.addi v3183 c1_i32_1484
  let v3202 : Index := Scalar.indexCast v3185
  let c0_1494 : Index := 0#32
  let c0_1495 : Index := 0#32
  ![v3202.toNat, 0, 0]
def k0_off54 (v3201 : BitVec 32) : Fin 2 → Nat :=
  let v3205 : Index := Scalar.indexCast v3201
  let c0_1496 : Index := 0#32
  ![v3205.toNat, 0]

def k0_chk18 (v3201 : BitVec 32) : Prop :=
  (∀ a, (k0_off54 v3201) a + S8x128.size a ≤ S18432x128.size a)
theorem k0_off54_inb : ∀ (v3201 : BitVec 32) (k0_hw18 : k0_chk18 v3201), ∀ a, (k0_off54 v3201) a + S8x128.size a ≤ S18432x128.size a := fun v3201 k0_hw18 => k0_hw18

def k0_off55 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1477 : BitVec 32 := 38#32
  let v3173 : BitVec 32 := Scalar.muli arg13 c38_i32_1477
  let c3_i32_1478 : BitVec 32 := 3#32
  let v3174 : BitVec 32 := Scalar.addi v3173 c3_i32_1478
  let c4_i32_1497 : BitVec 32 := 4#32
  let v3208 : BitVec 32 := Scalar.muli v3174 c4_i32_1497
  let c2_i32_1498 : BitVec 32 := 2#32
  let v3209 : BitVec 32 := Scalar.addi v3208 c2_i32_1498
  let v3210 : Index := Scalar.indexCast v3209
  ![v3210.toNat]
def k0_off56 (i : grid0.Coords) (k0_t2 : Fin k0_t2_loop.trips) (v3176 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1480 : BitVec 32 := 2#32
  let v3179 : BitVec 32 := Scalar.muli v2959 c2_i32_1480
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3177 : BitVec 32 := Scalar.shrui v3176 v2958
  let c1_i32_1479 : BitVec 32 := 1#32
  let v3178 : BitVec 32 := Scalar.andi v3177 c1_i32_1479
  let v3180 : BitVec 32 := Scalar.addi v3179 v3178
  let c1216_i32_1481 : BitVec 32 := 1216#32
  let v3181 : BitVec 32 := Scalar.muli v3180 c1216_i32_1481
  let c0_i32_1 : BitVec 32 := 0#32
  let c1_i32 : BitVec 32 := 1#32
  let arg13 : BitVec 32 := Scf.iv c0_i32_1 c1_i32 k0_t2
  let c38_i32_1477 : BitVec 32 := 38#32
  let v3173 : BitVec 32 := Scalar.muli arg13 c38_i32_1477
  let c3_i32_1478 : BitVec 32 := 3#32
  let v3174 : BitVec 32 := Scalar.addi v3173 c3_i32_1478
  let c4_i32_1482 : BitVec 32 := 4#32
  let v3182 : BitVec 32 := Scalar.muli v3174 c4_i32_1482
  let v3183 : BitVec 32 := Scalar.addi v3181 v3182
  let c2_i32_1485 : BitVec 32 := 2#32
  let v3186 : BitVec 32 := Scalar.addi v3183 c2_i32_1485
  let v3212 : Index := Scalar.indexCast v3186
  let c0_1499 : Index := 0#32
  let c0_1500 : Index := 0#32
  ![v3212.toNat, 0, 0]
def k0_off57 (v3211 : BitVec 32) : Fin 2 → Nat :=
  let v3215 : Index := Scalar.indexCast v3211
  let c0_1501 : Index := 0#32
  ![v3215.toNat, 0]

def k0_chk19 (v3211 : BitVec 32) : Prop :=
  (∀ a, (k0_off57 v3211) a + S8x128.size a ≤ S18432x128.size a)
theorem k0_off57_inb : ∀ (v3211 : BitVec 32) (k0_hw19 : k0_chk19 v3211), ∀ a, (k0_off57 v3211) a + S8x128.size a ≤ S18432x128.size a := fun v3211 k0_hw19 => k0_hw19

def k0_off58 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1477 : BitVec 32 := 38#32
  let v3173 : BitVec 32 := Scalar.muli arg13 c38_i32_1477
  let c3_i32_1478 : BitVec 32 := 3#32
  let v3174 : BitVec 32 := Scalar.addi v3173 c3_i32_1478
  let c4_i32_1502 : BitVec 32 := 4#32
  let v3218 : BitVec 32 := Scalar.muli v3174 c4_i32_1502
  let c3_i32_1503 : BitVec 32 := 3#32
  let v3219 : BitVec 32 := Scalar.addi v3218 c3_i32_1503
  let v3220 : Index := Scalar.indexCast v3219
  ![v3220.toNat]
def k0_off59 (i : grid0.Coords) (k0_t2 : Fin k0_t2_loop.trips) (v3176 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1480 : BitVec 32 := 2#32
  let v3179 : BitVec 32 := Scalar.muli v2959 c2_i32_1480
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3177 : BitVec 32 := Scalar.shrui v3176 v2958
  let c1_i32_1479 : BitVec 32 := 1#32
  let v3178 : BitVec 32 := Scalar.andi v3177 c1_i32_1479
  let v3180 : BitVec 32 := Scalar.addi v3179 v3178
  let c1216_i32_1481 : BitVec 32 := 1216#32
  let v3181 : BitVec 32 := Scalar.muli v3180 c1216_i32_1481
  let c0_i32_1 : BitVec 32 := 0#32
  let c1_i32 : BitVec 32 := 1#32
  let arg13 : BitVec 32 := Scf.iv c0_i32_1 c1_i32 k0_t2
  let c38_i32_1477 : BitVec 32 := 38#32
  let v3173 : BitVec 32 := Scalar.muli arg13 c38_i32_1477
  let c3_i32_1478 : BitVec 32 := 3#32
  let v3174 : BitVec 32 := Scalar.addi v3173 c3_i32_1478
  let c4_i32_1482 : BitVec 32 := 4#32
  let v3182 : BitVec 32 := Scalar.muli v3174 c4_i32_1482
  let v3183 : BitVec 32 := Scalar.addi v3181 v3182
  let c3_i32_1486 : BitVec 32 := 3#32
  let v3187 : BitVec 32 := Scalar.addi v3183 c3_i32_1486
  let v3222 : Index := Scalar.indexCast v3187
  let c0_1504 : Index := 0#32
  let c0_1505 : Index := 0#32
  ![v3222.toNat, 0, 0]
def k0_off60 (v3221 : BitVec 32) : Fin 2 → Nat :=
  let v3225 : Index := Scalar.indexCast v3221
  let c0_1506 : Index := 0#32
  ![v3225.toNat, 0]

def k0_chk20 (v3221 : BitVec 32) : Prop :=
  (∀ a, (k0_off60 v3221) a + S8x128.size a ≤ S18432x128.size a)
theorem k0_off60_inb : ∀ (v3221 : BitVec 32) (k0_hw20 : k0_chk20 v3221), ∀ a, (k0_off60 v3221) a + S8x128.size a ≤ S18432x128.size a := fun v3221 k0_hw20 => k0_hw20

def k0_off61 (i : grid0.Coords) (k0_t2 : Fin k0_t2_loop.trips) (v3176 : BitVec 32) (c0_i32_1483 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1480 : BitVec 32 := 2#32
  let v3179 : BitVec 32 := Scalar.muli v2959 c2_i32_1480
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3177 : BitVec 32 := Scalar.shrui v3176 v2958
  let c1_i32_1479 : BitVec 32 := 1#32
  let v3178 : BitVec 32 := Scalar.andi v3177 c1_i32_1479
  let v3180 : BitVec 32 := Scalar.addi v3179 v3178
  let c1216_i32_1481 : BitVec 32 := 1216#32
  let v3181 : BitVec 32 := Scalar.muli v3180 c1216_i32_1481
  let c0_i32_1 : BitVec 32 := 0#32
  let c1_i32 : BitVec 32 := 1#32
  let arg13 : BitVec 32 := Scf.iv c0_i32_1 c1_i32 k0_t2
  let c38_i32_1477 : BitVec 32 := 38#32
  let v3173 : BitVec 32 := Scalar.muli arg13 c38_i32_1477
  let c3_i32_1478 : BitVec 32 := 3#32
  let v3174 : BitVec 32 := Scalar.addi v3173 c3_i32_1478
  let c4_i32_1482 : BitVec 32 := 4#32
  let v3182 : BitVec 32 := Scalar.muli v3174 c4_i32_1482
  let v3183 : BitVec 32 := Scalar.addi v3181 v3182
  let v3184 : BitVec 32 := Scalar.addi v3183 c0_i32_1483
  let v3228 : Index := Scalar.indexCast v3184
  let c0_1507 : Index := 0#32
  let c0_1508 : Index := 0#32
  ![v3228.toNat, 0, 0]

def k0_chk16 (i : grid0.Coords) (k0_t2 : Fin k0_t2_loop.trips) (v3176 : BitVec 32) : Prop :=
  (∀ a, (k0_off50 i k0_t2 v3176) a + S1x8x128.size a ≤ S7296x8x128.size a) ∧
  (∀ a, (k0_off53 i k0_t2 v3176) a + S1x8x128.size a ≤ S7296x8x128.size a) ∧
  (∀ a, (k0_off56 i k0_t2 v3176) a + S1x8x128.size a ≤ S7296x8x128.size a) ∧
  (∀ a, (k0_off59 i k0_t2 v3176) a + S1x8x128.size a ≤ S7296x8x128.size a) ∧
  (∀ (r : Fin 4), ∀ a, (k0_off61 i k0_t2 v3176 (BitVec.ofNat 32 r.val)) a + S1x8x128.size a ≤ S7296x8x128.size a)
theorem k0_off50_inb : ∀ (i : grid0.Coords) (k0_t2 : Fin k0_t2_loop.trips) (v3176 : BitVec 32) (k0_hw16 : k0_chk16 i k0_t2 v3176), ∀ a, (k0_off50 i k0_t2 v3176) a + S1x8x128.size a ≤ S7296x8x128.size a := fun i k0_t2 v3176 k0_hw16 => k0_hw16.1
theorem k0_off53_inb : ∀ (i : grid0.Coords) (k0_t2 : Fin k0_t2_loop.trips) (v3176 : BitVec 32) (k0_hw16 : k0_chk16 i k0_t2 v3176), ∀ a, (k0_off53 i k0_t2 v3176) a + S1x8x128.size a ≤ S7296x8x128.size a := fun i k0_t2 v3176 k0_hw16 => k0_hw16.2.1
theorem k0_off56_inb : ∀ (i : grid0.Coords) (k0_t2 : Fin k0_t2_loop.trips) (v3176 : BitVec 32) (k0_hw16 : k0_chk16 i k0_t2 v3176), ∀ a, (k0_off56 i k0_t2 v3176) a + S1x8x128.size a ≤ S7296x8x128.size a := fun i k0_t2 v3176 k0_hw16 => k0_hw16.2.2.1
theorem k0_off59_inb : ∀ (i : grid0.Coords) (k0_t2 : Fin k0_t2_loop.trips) (v3176 : BitVec 32) (k0_hw16 : k0_chk16 i k0_t2 v3176), ∀ a, (k0_off59 i k0_t2 v3176) a + S1x8x128.size a ≤ S7296x8x128.size a := fun i k0_t2 v3176 k0_hw16 => k0_hw16.2.2.2.1
theorem k0_off61_inb : ∀ (i : grid0.Coords) (k0_t2 : Fin k0_t2_loop.trips) (v3176 : BitVec 32) (k0_hw16 : k0_chk16 i k0_t2 v3176), ∀ (r : Fin 4), ∀ a, (k0_off61 i k0_t2 v3176 (BitVec.ofNat 32 r.val)) a + S1x8x128.size a ≤ S7296x8x128.size a := fun i k0_t2 v3176 k0_hw16 r => k0_hw16.2.2.2.2 r

def k0_off62 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1515 : BitVec 32 := 38#32
  let v3244 : BitVec 32 := Scalar.muli arg13 c38_i32_1515
  let c4_i32_1516 : BitVec 32 := 4#32
  let v3245 : BitVec 32 := Scalar.addi v3244 c4_i32_1516
  let v3246 : Index := Scalar.indexCast v3245
  ![v3246.toNat]
def k0_off63 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1515 : BitVec 32 := 38#32
  let v3244 : BitVec 32 := Scalar.muli arg13 c38_i32_1515
  let c4_i32_1516 : BitVec 32 := 4#32
  let v3245 : BitVec 32 := Scalar.addi v3244 c4_i32_1516
  let c4_i32_1525 : BitVec 32 := 4#32
  let v3259 : BitVec 32 := Scalar.muli v3245 c4_i32_1525
  let c0_i32_1526 : BitVec 32 := 0#32
  let v3260 : BitVec 32 := Scalar.addi v3259 c0_i32_1526
  let v3261 : Index := Scalar.indexCast v3260
  ![v3261.toNat]
def k0_off64 (i : grid0.Coords) (k0_t2 : Fin k0_t2_loop.trips) (v3247 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1518 : BitVec 32 := 2#32
  let v3250 : BitVec 32 := Scalar.muli v2959 c2_i32_1518
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3248 : BitVec 32 := Scalar.shrui v3247 v2958
  let c1_i32_1517 : BitVec 32 := 1#32
  let v3249 : BitVec 32 := Scalar.andi v3248 c1_i32_1517
  let v3251 : BitVec 32 := Scalar.addi v3250 v3249
  let c1216_i32_1519 : BitVec 32 := 1216#32
  let v3252 : BitVec 32 := Scalar.muli v3251 c1216_i32_1519
  let c0_i32_1 : BitVec 32 := 0#32
  let c1_i32 : BitVec 32 := 1#32
  let arg13 : BitVec 32 := Scf.iv c0_i32_1 c1_i32 k0_t2
  let c38_i32_1515 : BitVec 32 := 38#32
  let v3244 : BitVec 32 := Scalar.muli arg13 c38_i32_1515
  let c4_i32_1516 : BitVec 32 := 4#32
  let v3245 : BitVec 32 := Scalar.addi v3244 c4_i32_1516
  let c4_i32_1520 : BitVec 32 := 4#32
  let v3253 : BitVec 32 := Scalar.muli v3245 c4_i32_1520
  let v3254 : BitVec 32 := Scalar.addi v3252 v3253
  let c0_i32_1521 : BitVec 32 := 0#32
  let v3255 : BitVec 32 := Scalar.addi v3254 c0_i32_1521
  let v3263 : Index := Scalar.indexCast v3255
  let c0_1527 : Index := 0#32
  let c0_1528 : Index := 0#32
  ![v3263.toNat, 0, 0]

def k0_off65 (v3262 : BitVec 32) : Fin 2 → Nat :=
  let v3266 : Index := Scalar.indexCast v3262
  let c0_1529 : Index := 0#32
  ![v3266.toNat, 0]

def k0_chk22 (v3262 : BitVec 32) : Prop :=
  (∀ a, (k0_off65 v3262) a + S8x128.size a ≤ S18432x128.size a)
theorem k0_off65_inb : ∀ (v3262 : BitVec 32) (k0_hw22 : k0_chk22 v3262), ∀ a, (k0_off65 v3262) a + S8x128.size a ≤ S18432x128.size a := fun v3262 k0_hw22 => k0_hw22

def k0_off66 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1515 : BitVec 32 := 38#32
  let v3244 : BitVec 32 := Scalar.muli arg13 c38_i32_1515
  let c4_i32_1516 : BitVec 32 := 4#32
  let v3245 : BitVec 32 := Scalar.addi v3244 c4_i32_1516
  let c4_i32_1530 : BitVec 32 := 4#32
  let v3269 : BitVec 32 := Scalar.muli v3245 c4_i32_1530
  let c1_i32_1531 : BitVec 32 := 1#32
  let v3270 : BitVec 32 := Scalar.addi v3269 c1_i32_1531
  let v3271 : Index := Scalar.indexCast v3270
  ![v3271.toNat]
def k0_off67 (i : grid0.Coords) (k0_t2 : Fin k0_t2_loop.trips) (v3247 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1518 : BitVec 32 := 2#32
  let v3250 : BitVec 32 := Scalar.muli v2959 c2_i32_1518
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3248 : BitVec 32 := Scalar.shrui v3247 v2958
  let c1_i32_1517 : BitVec 32 := 1#32
  let v3249 : BitVec 32 := Scalar.andi v3248 c1_i32_1517
  let v3251 : BitVec 32 := Scalar.addi v3250 v3249
  let c1216_i32_1519 : BitVec 32 := 1216#32
  let v3252 : BitVec 32 := Scalar.muli v3251 c1216_i32_1519
  let c0_i32_1 : BitVec 32 := 0#32
  let c1_i32 : BitVec 32 := 1#32
  let arg13 : BitVec 32 := Scf.iv c0_i32_1 c1_i32 k0_t2
  let c38_i32_1515 : BitVec 32 := 38#32
  let v3244 : BitVec 32 := Scalar.muli arg13 c38_i32_1515
  let c4_i32_1516 : BitVec 32 := 4#32
  let v3245 : BitVec 32 := Scalar.addi v3244 c4_i32_1516
  let c4_i32_1520 : BitVec 32 := 4#32
  let v3253 : BitVec 32 := Scalar.muli v3245 c4_i32_1520
  let v3254 : BitVec 32 := Scalar.addi v3252 v3253
  let c1_i32_1522 : BitVec 32 := 1#32
  let v3256 : BitVec 32 := Scalar.addi v3254 c1_i32_1522
  let v3273 : Index := Scalar.indexCast v3256
  let c0_1532 : Index := 0#32
  let c0_1533 : Index := 0#32
  ![v3273.toNat, 0, 0]
def k0_off68 (v3272 : BitVec 32) : Fin 2 → Nat :=
  let v3276 : Index := Scalar.indexCast v3272
  let c0_1534 : Index := 0#32
  ![v3276.toNat, 0]

def k0_chk23 (v3272 : BitVec 32) : Prop :=
  (∀ a, (k0_off68 v3272) a + S8x128.size a ≤ S18432x128.size a)
theorem k0_off68_inb : ∀ (v3272 : BitVec 32) (k0_hw23 : k0_chk23 v3272), ∀ a, (k0_off68 v3272) a + S8x128.size a ≤ S18432x128.size a := fun v3272 k0_hw23 => k0_hw23

def k0_off69 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1515 : BitVec 32 := 38#32
  let v3244 : BitVec 32 := Scalar.muli arg13 c38_i32_1515
  let c4_i32_1516 : BitVec 32 := 4#32
  let v3245 : BitVec 32 := Scalar.addi v3244 c4_i32_1516
  let c4_i32_1535 : BitVec 32 := 4#32
  let v3279 : BitVec 32 := Scalar.muli v3245 c4_i32_1535
  let c2_i32_1536 : BitVec 32 := 2#32
  let v3280 : BitVec 32 := Scalar.addi v3279 c2_i32_1536
  let v3281 : Index := Scalar.indexCast v3280
  ![v3281.toNat]
def k0_off70 (i : grid0.Coords) (k0_t2 : Fin k0_t2_loop.trips) (v3247 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1518 : BitVec 32 := 2#32
  let v3250 : BitVec 32 := Scalar.muli v2959 c2_i32_1518
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3248 : BitVec 32 := Scalar.shrui v3247 v2958
  let c1_i32_1517 : BitVec 32 := 1#32
  let v3249 : BitVec 32 := Scalar.andi v3248 c1_i32_1517
  let v3251 : BitVec 32 := Scalar.addi v3250 v3249
  let c1216_i32_1519 : BitVec 32 := 1216#32
  let v3252 : BitVec 32 := Scalar.muli v3251 c1216_i32_1519
  let c0_i32_1 : BitVec 32 := 0#32
  let c1_i32 : BitVec 32 := 1#32
  let arg13 : BitVec 32 := Scf.iv c0_i32_1 c1_i32 k0_t2
  let c38_i32_1515 : BitVec 32 := 38#32
  let v3244 : BitVec 32 := Scalar.muli arg13 c38_i32_1515
  let c4_i32_1516 : BitVec 32 := 4#32
  let v3245 : BitVec 32 := Scalar.addi v3244 c4_i32_1516
  let c4_i32_1520 : BitVec 32 := 4#32
  let v3253 : BitVec 32 := Scalar.muli v3245 c4_i32_1520
  let v3254 : BitVec 32 := Scalar.addi v3252 v3253
  let c2_i32_1523 : BitVec 32 := 2#32
  let v3257 : BitVec 32 := Scalar.addi v3254 c2_i32_1523
  let v3283 : Index := Scalar.indexCast v3257
  let c0_1537 : Index := 0#32
  let c0_1538 : Index := 0#32
  ![v3283.toNat, 0, 0]
def k0_off71 (v3282 : BitVec 32) : Fin 2 → Nat :=
  let v3286 : Index := Scalar.indexCast v3282
  let c0_1539 : Index := 0#32
  ![v3286.toNat, 0]

def k0_chk24 (v3282 : BitVec 32) : Prop :=
  (∀ a, (k0_off71 v3282) a + S8x128.size a ≤ S18432x128.size a)
theorem k0_off71_inb : ∀ (v3282 : BitVec 32) (k0_hw24 : k0_chk24 v3282), ∀ a, (k0_off71 v3282) a + S8x128.size a ≤ S18432x128.size a := fun v3282 k0_hw24 => k0_hw24

def k0_off72 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1515 : BitVec 32 := 38#32
  let v3244 : BitVec 32 := Scalar.muli arg13 c38_i32_1515
  let c4_i32_1516 : BitVec 32 := 4#32
  let v3245 : BitVec 32 := Scalar.addi v3244 c4_i32_1516
  let c4_i32_1540 : BitVec 32 := 4#32
  let v3289 : BitVec 32 := Scalar.muli v3245 c4_i32_1540
  let c3_i32_1541 : BitVec 32 := 3#32
  let v3290 : BitVec 32 := Scalar.addi v3289 c3_i32_1541
  let v3291 : Index := Scalar.indexCast v3290
  ![v3291.toNat]
def k0_off73 (i : grid0.Coords) (k0_t2 : Fin k0_t2_loop.trips) (v3247 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1518 : BitVec 32 := 2#32
  let v3250 : BitVec 32 := Scalar.muli v2959 c2_i32_1518
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3248 : BitVec 32 := Scalar.shrui v3247 v2958
  let c1_i32_1517 : BitVec 32 := 1#32
  let v3249 : BitVec 32 := Scalar.andi v3248 c1_i32_1517
  let v3251 : BitVec 32 := Scalar.addi v3250 v3249
  let c1216_i32_1519 : BitVec 32 := 1216#32
  let v3252 : BitVec 32 := Scalar.muli v3251 c1216_i32_1519
  let c0_i32_1 : BitVec 32 := 0#32
  let c1_i32 : BitVec 32 := 1#32
  let arg13 : BitVec 32 := Scf.iv c0_i32_1 c1_i32 k0_t2
  let c38_i32_1515 : BitVec 32 := 38#32
  let v3244 : BitVec 32 := Scalar.muli arg13 c38_i32_1515
  let c4_i32_1516 : BitVec 32 := 4#32
  let v3245 : BitVec 32 := Scalar.addi v3244 c4_i32_1516
  let c4_i32_1520 : BitVec 32 := 4#32
  let v3253 : BitVec 32 := Scalar.muli v3245 c4_i32_1520
  let v3254 : BitVec 32 := Scalar.addi v3252 v3253
  let c3_i32_1524 : BitVec 32 := 3#32
  let v3258 : BitVec 32 := Scalar.addi v3254 c3_i32_1524
  let v3293 : Index := Scalar.indexCast v3258
  let c0_1542 : Index := 0#32
  let c0_1543 : Index := 0#32
  ![v3293.toNat, 0, 0]
def k0_off74 (v3292 : BitVec 32) : Fin 2 → Nat :=
  let v3296 : Index := Scalar.indexCast v3292
  let c0_1544 : Index := 0#32
  ![v3296.toNat, 0]

def k0_chk25 (v3292 : BitVec 32) : Prop :=
  (∀ a, (k0_off74 v3292) a + S8x128.size a ≤ S18432x128.size a)
theorem k0_off74_inb : ∀ (v3292 : BitVec 32) (k0_hw25 : k0_chk25 v3292), ∀ a, (k0_off74 v3292) a + S8x128.size a ≤ S18432x128.size a := fun v3292 k0_hw25 => k0_hw25

def k0_off75 (i : grid0.Coords) (k0_t2 : Fin k0_t2_loop.trips) (v3247 : BitVec 32) (c0_i32_1521 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1518 : BitVec 32 := 2#32
  let v3250 : BitVec 32 := Scalar.muli v2959 c2_i32_1518
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3248 : BitVec 32 := Scalar.shrui v3247 v2958
  let c1_i32_1517 : BitVec 32 := 1#32
  let v3249 : BitVec 32 := Scalar.andi v3248 c1_i32_1517
  let v3251 : BitVec 32 := Scalar.addi v3250 v3249
  let c1216_i32_1519 : BitVec 32 := 1216#32
  let v3252 : BitVec 32 := Scalar.muli v3251 c1216_i32_1519
  let c0_i32_1 : BitVec 32 := 0#32
  let c1_i32 : BitVec 32 := 1#32
  let arg13 : BitVec 32 := Scf.iv c0_i32_1 c1_i32 k0_t2
  let c38_i32_1515 : BitVec 32 := 38#32
  let v3244 : BitVec 32 := Scalar.muli arg13 c38_i32_1515
  let c4_i32_1516 : BitVec 32 := 4#32
  let v3245 : BitVec 32 := Scalar.addi v3244 c4_i32_1516
  let c4_i32_1520 : BitVec 32 := 4#32
  let v3253 : BitVec 32 := Scalar.muli v3245 c4_i32_1520
  let v3254 : BitVec 32 := Scalar.addi v3252 v3253
  let v3255 : BitVec 32 := Scalar.addi v3254 c0_i32_1521
  let v3299 : Index := Scalar.indexCast v3255
  let c0_1545 : Index := 0#32
  let c0_1546 : Index := 0#32
  ![v3299.toNat, 0, 0]

def k0_chk21 (i : grid0.Coords) (k0_t2 : Fin k0_t2_loop.trips) (v3247 : BitVec 32) : Prop :=
  (∀ a, (k0_off64 i k0_t2 v3247) a + S1x8x128.size a ≤ S7296x8x128.size a) ∧
  (∀ a, (k0_off67 i k0_t2 v3247) a + S1x8x128.size a ≤ S7296x8x128.size a) ∧
  (∀ a, (k0_off70 i k0_t2 v3247) a + S1x8x128.size a ≤ S7296x8x128.size a) ∧
  (∀ a, (k0_off73 i k0_t2 v3247) a + S1x8x128.size a ≤ S7296x8x128.size a) ∧
  (∀ (r : Fin 4), ∀ a, (k0_off75 i k0_t2 v3247 (BitVec.ofNat 32 r.val)) a + S1x8x128.size a ≤ S7296x8x128.size a)
theorem k0_off64_inb : ∀ (i : grid0.Coords) (k0_t2 : Fin k0_t2_loop.trips) (v3247 : BitVec 32) (k0_hw21 : k0_chk21 i k0_t2 v3247), ∀ a, (k0_off64 i k0_t2 v3247) a + S1x8x128.size a ≤ S7296x8x128.size a := fun i k0_t2 v3247 k0_hw21 => k0_hw21.1
theorem k0_off67_inb : ∀ (i : grid0.Coords) (k0_t2 : Fin k0_t2_loop.trips) (v3247 : BitVec 32) (k0_hw21 : k0_chk21 i k0_t2 v3247), ∀ a, (k0_off67 i k0_t2 v3247) a + S1x8x128.size a ≤ S7296x8x128.size a := fun i k0_t2 v3247 k0_hw21 => k0_hw21.2.1
theorem k0_off70_inb : ∀ (i : grid0.Coords) (k0_t2 : Fin k0_t2_loop.trips) (v3247 : BitVec 32) (k0_hw21 : k0_chk21 i k0_t2 v3247), ∀ a, (k0_off70 i k0_t2 v3247) a + S1x8x128.size a ≤ S7296x8x128.size a := fun i k0_t2 v3247 k0_hw21 => k0_hw21.2.2.1
theorem k0_off73_inb : ∀ (i : grid0.Coords) (k0_t2 : Fin k0_t2_loop.trips) (v3247 : BitVec 32) (k0_hw21 : k0_chk21 i k0_t2 v3247), ∀ a, (k0_off73 i k0_t2 v3247) a + S1x8x128.size a ≤ S7296x8x128.size a := fun i k0_t2 v3247 k0_hw21 => k0_hw21.2.2.2.1
theorem k0_off75_inb : ∀ (i : grid0.Coords) (k0_t2 : Fin k0_t2_loop.trips) (v3247 : BitVec 32) (k0_hw21 : k0_chk21 i k0_t2 v3247), ∀ (r : Fin 4), ∀ a, (k0_off75 i k0_t2 v3247 (BitVec.ofNat 32 r.val)) a + S1x8x128.size a ≤ S7296x8x128.size a := fun i k0_t2 v3247 k0_hw21 r => k0_hw21.2.2.2.2 r

def k0_off76 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1553 : BitVec 32 := 38#32
  let v3315 : BitVec 32 := Scalar.muli arg13 c38_i32_1553
  let c5_i32 : BitVec 32 := 5#32
  let v3316 : BitVec 32 := Scalar.addi v3315 c5_i32
  let v3317 : Index := Scalar.indexCast v3316
  ![v3317.toNat]
def k0_off77 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1553 : BitVec 32 := 38#32
  let v3315 : BitVec 32 := Scalar.muli arg13 c38_i32_1553
  let c5_i32 : BitVec 32 := 5#32
  let v3316 : BitVec 32 := Scalar.addi v3315 c5_i32
  let c4_i32_1562 : BitVec 32 := 4#32
  let v3330 : BitVec 32 := Scalar.muli v3316 c4_i32_1562
  let c0_i32_1563 : BitVec 32 := 0#32
  let v3331 : BitVec 32 := Scalar.addi v3330 c0_i32_1563
  let v3332 : Index := Scalar.indexCast v3331
  ![v3332.toNat]
def k0_off78 (i : grid0.Coords) (k0_t2 : Fin k0_t2_loop.trips) (v3318 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1555 : BitVec 32 := 2#32
  let v3321 : BitVec 32 := Scalar.muli v2959 c2_i32_1555
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3319 : BitVec 32 := Scalar.shrui v3318 v2958
  let c1_i32_1554 : BitVec 32 := 1#32
  let v3320 : BitVec 32 := Scalar.andi v3319 c1_i32_1554
  let v3322 : BitVec 32 := Scalar.addi v3321 v3320
  let c1216_i32_1556 : BitVec 32 := 1216#32
  let v3323 : BitVec 32 := Scalar.muli v3322 c1216_i32_1556
  let c0_i32_1 : BitVec 32 := 0#32
  let c1_i32 : BitVec 32 := 1#32
  let arg13 : BitVec 32 := Scf.iv c0_i32_1 c1_i32 k0_t2
  let c38_i32_1553 : BitVec 32 := 38#32
  let v3315 : BitVec 32 := Scalar.muli arg13 c38_i32_1553
  let c5_i32 : BitVec 32 := 5#32
  let v3316 : BitVec 32 := Scalar.addi v3315 c5_i32
  let c4_i32_1557 : BitVec 32 := 4#32
  let v3324 : BitVec 32 := Scalar.muli v3316 c4_i32_1557
  let v3325 : BitVec 32 := Scalar.addi v3323 v3324
  let c0_i32_1558 : BitVec 32 := 0#32
  let v3326 : BitVec 32 := Scalar.addi v3325 c0_i32_1558
  let v3334 : Index := Scalar.indexCast v3326
  let c0_1564 : Index := 0#32
  let c0_1565 : Index := 0#32
  ![v3334.toNat, 0, 0]

def k0_off79 (v3333 : BitVec 32) : Fin 2 → Nat :=
  let v3337 : Index := Scalar.indexCast v3333
  let c0_1566 : Index := 0#32
  ![v3337.toNat, 0]

def k0_chk27 (v3333 : BitVec 32) : Prop :=
  (∀ a, (k0_off79 v3333) a + S8x128.size a ≤ S18432x128.size a)
theorem k0_off79_inb : ∀ (v3333 : BitVec 32) (k0_hw27 : k0_chk27 v3333), ∀ a, (k0_off79 v3333) a + S8x128.size a ≤ S18432x128.size a := fun v3333 k0_hw27 => k0_hw27

def k0_off80 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1553 : BitVec 32 := 38#32
  let v3315 : BitVec 32 := Scalar.muli arg13 c38_i32_1553
  let c5_i32 : BitVec 32 := 5#32
  let v3316 : BitVec 32 := Scalar.addi v3315 c5_i32
  let c4_i32_1567 : BitVec 32 := 4#32
  let v3340 : BitVec 32 := Scalar.muli v3316 c4_i32_1567
  let c1_i32_1568 : BitVec 32 := 1#32
  let v3341 : BitVec 32 := Scalar.addi v3340 c1_i32_1568
  let v3342 : Index := Scalar.indexCast v3341
  ![v3342.toNat]
def k0_off81 (i : grid0.Coords) (k0_t2 : Fin k0_t2_loop.trips) (v3318 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1555 : BitVec 32 := 2#32
  let v3321 : BitVec 32 := Scalar.muli v2959 c2_i32_1555
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3319 : BitVec 32 := Scalar.shrui v3318 v2958
  let c1_i32_1554 : BitVec 32 := 1#32
  let v3320 : BitVec 32 := Scalar.andi v3319 c1_i32_1554
  let v3322 : BitVec 32 := Scalar.addi v3321 v3320
  let c1216_i32_1556 : BitVec 32 := 1216#32
  let v3323 : BitVec 32 := Scalar.muli v3322 c1216_i32_1556
  let c0_i32_1 : BitVec 32 := 0#32
  let c1_i32 : BitVec 32 := 1#32
  let arg13 : BitVec 32 := Scf.iv c0_i32_1 c1_i32 k0_t2
  let c38_i32_1553 : BitVec 32 := 38#32
  let v3315 : BitVec 32 := Scalar.muli arg13 c38_i32_1553
  let c5_i32 : BitVec 32 := 5#32
  let v3316 : BitVec 32 := Scalar.addi v3315 c5_i32
  let c4_i32_1557 : BitVec 32 := 4#32
  let v3324 : BitVec 32 := Scalar.muli v3316 c4_i32_1557
  let v3325 : BitVec 32 := Scalar.addi v3323 v3324
  let c1_i32_1559 : BitVec 32 := 1#32
  let v3327 : BitVec 32 := Scalar.addi v3325 c1_i32_1559
  let v3344 : Index := Scalar.indexCast v3327
  let c0_1569 : Index := 0#32
  let c0_1570 : Index := 0#32
  ![v3344.toNat, 0, 0]
def k0_off82 (v3343 : BitVec 32) : Fin 2 → Nat :=
  let v3347 : Index := Scalar.indexCast v3343
  let c0_1571 : Index := 0#32
  ![v3347.toNat, 0]

def k0_chk28 (v3343 : BitVec 32) : Prop :=
  (∀ a, (k0_off82 v3343) a + S8x128.size a ≤ S18432x128.size a)
theorem k0_off82_inb : ∀ (v3343 : BitVec 32) (k0_hw28 : k0_chk28 v3343), ∀ a, (k0_off82 v3343) a + S8x128.size a ≤ S18432x128.size a := fun v3343 k0_hw28 => k0_hw28

def k0_off83 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1553 : BitVec 32 := 38#32
  let v3315 : BitVec 32 := Scalar.muli arg13 c38_i32_1553
  let c5_i32 : BitVec 32 := 5#32
  let v3316 : BitVec 32 := Scalar.addi v3315 c5_i32
  let c4_i32_1572 : BitVec 32 := 4#32
  let v3350 : BitVec 32 := Scalar.muli v3316 c4_i32_1572
  let c2_i32_1573 : BitVec 32 := 2#32
  let v3351 : BitVec 32 := Scalar.addi v3350 c2_i32_1573
  let v3352 : Index := Scalar.indexCast v3351
  ![v3352.toNat]
def k0_off84 (i : grid0.Coords) (k0_t2 : Fin k0_t2_loop.trips) (v3318 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1555 : BitVec 32 := 2#32
  let v3321 : BitVec 32 := Scalar.muli v2959 c2_i32_1555
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3319 : BitVec 32 := Scalar.shrui v3318 v2958
  let c1_i32_1554 : BitVec 32 := 1#32
  let v3320 : BitVec 32 := Scalar.andi v3319 c1_i32_1554
  let v3322 : BitVec 32 := Scalar.addi v3321 v3320
  let c1216_i32_1556 : BitVec 32 := 1216#32
  let v3323 : BitVec 32 := Scalar.muli v3322 c1216_i32_1556
  let c0_i32_1 : BitVec 32 := 0#32
  let c1_i32 : BitVec 32 := 1#32
  let arg13 : BitVec 32 := Scf.iv c0_i32_1 c1_i32 k0_t2
  let c38_i32_1553 : BitVec 32 := 38#32
  let v3315 : BitVec 32 := Scalar.muli arg13 c38_i32_1553
  let c5_i32 : BitVec 32 := 5#32
  let v3316 : BitVec 32 := Scalar.addi v3315 c5_i32
  let c4_i32_1557 : BitVec 32 := 4#32
  let v3324 : BitVec 32 := Scalar.muli v3316 c4_i32_1557
  let v3325 : BitVec 32 := Scalar.addi v3323 v3324
  let c2_i32_1560 : BitVec 32 := 2#32
  let v3328 : BitVec 32 := Scalar.addi v3325 c2_i32_1560
  let v3354 : Index := Scalar.indexCast v3328
  let c0_1574 : Index := 0#32
  let c0_1575 : Index := 0#32
  ![v3354.toNat, 0, 0]
def k0_off85 (v3353 : BitVec 32) : Fin 2 → Nat :=
  let v3357 : Index := Scalar.indexCast v3353
  let c0_1576 : Index := 0#32
  ![v3357.toNat, 0]

def k0_chk29 (v3353 : BitVec 32) : Prop :=
  (∀ a, (k0_off85 v3353) a + S8x128.size a ≤ S18432x128.size a)
theorem k0_off85_inb : ∀ (v3353 : BitVec 32) (k0_hw29 : k0_chk29 v3353), ∀ a, (k0_off85 v3353) a + S8x128.size a ≤ S18432x128.size a := fun v3353 k0_hw29 => k0_hw29

def k0_off86 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1553 : BitVec 32 := 38#32
  let v3315 : BitVec 32 := Scalar.muli arg13 c38_i32_1553
  let c5_i32 : BitVec 32 := 5#32
  let v3316 : BitVec 32 := Scalar.addi v3315 c5_i32
  let c4_i32_1577 : BitVec 32 := 4#32
  let v3360 : BitVec 32 := Scalar.muli v3316 c4_i32_1577
  let c3_i32_1578 : BitVec 32 := 3#32
  let v3361 : BitVec 32 := Scalar.addi v3360 c3_i32_1578
  let v3362 : Index := Scalar.indexCast v3361
  ![v3362.toNat]
def k0_off87 (i : grid0.Coords) (k0_t2 : Fin k0_t2_loop.trips) (v3318 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1555 : BitVec 32 := 2#32
  let v3321 : BitVec 32 := Scalar.muli v2959 c2_i32_1555
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3319 : BitVec 32 := Scalar.shrui v3318 v2958
  let c1_i32_1554 : BitVec 32 := 1#32
  let v3320 : BitVec 32 := Scalar.andi v3319 c1_i32_1554
  let v3322 : BitVec 32 := Scalar.addi v3321 v3320
  let c1216_i32_1556 : BitVec 32 := 1216#32
  let v3323 : BitVec 32 := Scalar.muli v3322 c1216_i32_1556
  let c0_i32_1 : BitVec 32 := 0#32
  let c1_i32 : BitVec 32 := 1#32
  let arg13 : BitVec 32 := Scf.iv c0_i32_1 c1_i32 k0_t2
  let c38_i32_1553 : BitVec 32 := 38#32
  let v3315 : BitVec 32 := Scalar.muli arg13 c38_i32_1553
  let c5_i32 : BitVec 32 := 5#32
  let v3316 : BitVec 32 := Scalar.addi v3315 c5_i32
  let c4_i32_1557 : BitVec 32 := 4#32
  let v3324 : BitVec 32 := Scalar.muli v3316 c4_i32_1557
  let v3325 : BitVec 32 := Scalar.addi v3323 v3324
  let c3_i32_1561 : BitVec 32 := 3#32
  let v3329 : BitVec 32 := Scalar.addi v3325 c3_i32_1561
  let v3364 : Index := Scalar.indexCast v3329
  let c0_1579 : Index := 0#32
  let c0_1580 : Index := 0#32
  ![v3364.toNat, 0, 0]
def k0_off88 (v3363 : BitVec 32) : Fin 2 → Nat :=
  let v3367 : Index := Scalar.indexCast v3363
  let c0_1581 : Index := 0#32
  ![v3367.toNat, 0]

def k0_chk30 (v3363 : BitVec 32) : Prop :=
  (∀ a, (k0_off88 v3363) a + S8x128.size a ≤ S18432x128.size a)
theorem k0_off88_inb : ∀ (v3363 : BitVec 32) (k0_hw30 : k0_chk30 v3363), ∀ a, (k0_off88 v3363) a + S8x128.size a ≤ S18432x128.size a := fun v3363 k0_hw30 => k0_hw30

def k0_off89 (i : grid0.Coords) (k0_t2 : Fin k0_t2_loop.trips) (v3318 : BitVec 32) (c0_i32_1558 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1555 : BitVec 32 := 2#32
  let v3321 : BitVec 32 := Scalar.muli v2959 c2_i32_1555
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3319 : BitVec 32 := Scalar.shrui v3318 v2958
  let c1_i32_1554 : BitVec 32 := 1#32
  let v3320 : BitVec 32 := Scalar.andi v3319 c1_i32_1554
  let v3322 : BitVec 32 := Scalar.addi v3321 v3320
  let c1216_i32_1556 : BitVec 32 := 1216#32
  let v3323 : BitVec 32 := Scalar.muli v3322 c1216_i32_1556
  let c0_i32_1 : BitVec 32 := 0#32
  let c1_i32 : BitVec 32 := 1#32
  let arg13 : BitVec 32 := Scf.iv c0_i32_1 c1_i32 k0_t2
  let c38_i32_1553 : BitVec 32 := 38#32
  let v3315 : BitVec 32 := Scalar.muli arg13 c38_i32_1553
  let c5_i32 : BitVec 32 := 5#32
  let v3316 : BitVec 32 := Scalar.addi v3315 c5_i32
  let c4_i32_1557 : BitVec 32 := 4#32
  let v3324 : BitVec 32 := Scalar.muli v3316 c4_i32_1557
  let v3325 : BitVec 32 := Scalar.addi v3323 v3324
  let v3326 : BitVec 32 := Scalar.addi v3325 c0_i32_1558
  let v3370 : Index := Scalar.indexCast v3326
  let c0_1582 : Index := 0#32
  let c0_1583 : Index := 0#32
  ![v3370.toNat, 0, 0]

def k0_chk26 (i : grid0.Coords) (k0_t2 : Fin k0_t2_loop.trips) (v3318 : BitVec 32) : Prop :=
  (∀ a, (k0_off78 i k0_t2 v3318) a + S1x8x128.size a ≤ S7296x8x128.size a) ∧
  (∀ a, (k0_off81 i k0_t2 v3318) a + S1x8x128.size a ≤ S7296x8x128.size a) ∧
  (∀ a, (k0_off84 i k0_t2 v3318) a + S1x8x128.size a ≤ S7296x8x128.size a) ∧
  (∀ a, (k0_off87 i k0_t2 v3318) a + S1x8x128.size a ≤ S7296x8x128.size a) ∧
  (∀ (r : Fin 4), ∀ a, (k0_off89 i k0_t2 v3318 (BitVec.ofNat 32 r.val)) a + S1x8x128.size a ≤ S7296x8x128.size a)
theorem k0_off78_inb : ∀ (i : grid0.Coords) (k0_t2 : Fin k0_t2_loop.trips) (v3318 : BitVec 32) (k0_hw26 : k0_chk26 i k0_t2 v3318), ∀ a, (k0_off78 i k0_t2 v3318) a + S1x8x128.size a ≤ S7296x8x128.size a := fun i k0_t2 v3318 k0_hw26 => k0_hw26.1
theorem k0_off81_inb : ∀ (i : grid0.Coords) (k0_t2 : Fin k0_t2_loop.trips) (v3318 : BitVec 32) (k0_hw26 : k0_chk26 i k0_t2 v3318), ∀ a, (k0_off81 i k0_t2 v3318) a + S1x8x128.size a ≤ S7296x8x128.size a := fun i k0_t2 v3318 k0_hw26 => k0_hw26.2.1
theorem k0_off84_inb : ∀ (i : grid0.Coords) (k0_t2 : Fin k0_t2_loop.trips) (v3318 : BitVec 32) (k0_hw26 : k0_chk26 i k0_t2 v3318), ∀ a, (k0_off84 i k0_t2 v3318) a + S1x8x128.size a ≤ S7296x8x128.size a := fun i k0_t2 v3318 k0_hw26 => k0_hw26.2.2.1
theorem k0_off87_inb : ∀ (i : grid0.Coords) (k0_t2 : Fin k0_t2_loop.trips) (v3318 : BitVec 32) (k0_hw26 : k0_chk26 i k0_t2 v3318), ∀ a, (k0_off87 i k0_t2 v3318) a + S1x8x128.size a ≤ S7296x8x128.size a := fun i k0_t2 v3318 k0_hw26 => k0_hw26.2.2.2.1
theorem k0_off89_inb : ∀ (i : grid0.Coords) (k0_t2 : Fin k0_t2_loop.trips) (v3318 : BitVec 32) (k0_hw26 : k0_chk26 i k0_t2 v3318), ∀ (r : Fin 4), ∀ a, (k0_off89 i k0_t2 v3318 (BitVec.ofNat 32 r.val)) a + S1x8x128.size a ≤ S7296x8x128.size a := fun i k0_t2 v3318 k0_hw26 r => k0_hw26.2.2.2.2 r

def k0_off90 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1590 : BitVec 32 := 38#32
  let v3386 : BitVec 32 := Scalar.muli arg13 c38_i32_1590
  let c6_i32_1591 : BitVec 32 := 6#32
  let v3387 : BitVec 32 := Scalar.addi v3386 c6_i32_1591
  let v3388 : Index := Scalar.indexCast v3387
  ![v3388.toNat]
def k0_off91 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1590 : BitVec 32 := 38#32
  let v3386 : BitVec 32 := Scalar.muli arg13 c38_i32_1590
  let c6_i32_1591 : BitVec 32 := 6#32
  let v3387 : BitVec 32 := Scalar.addi v3386 c6_i32_1591
  let c4_i32_1600 : BitVec 32 := 4#32
  let v3401 : BitVec 32 := Scalar.muli v3387 c4_i32_1600
  let c0_i32_1601 : BitVec 32 := 0#32
  let v3402 : BitVec 32 := Scalar.addi v3401 c0_i32_1601
  let v3403 : Index := Scalar.indexCast v3402
  ![v3403.toNat]
def k0_off92 (i : grid0.Coords) (k0_t2 : Fin k0_t2_loop.trips) (v3389 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1593 : BitVec 32 := 2#32
  let v3392 : BitVec 32 := Scalar.muli v2959 c2_i32_1593
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3390 : BitVec 32 := Scalar.shrui v3389 v2958
  let c1_i32_1592 : BitVec 32 := 1#32
  let v3391 : BitVec 32 := Scalar.andi v3390 c1_i32_1592
  let v3393 : BitVec 32 := Scalar.addi v3392 v3391
  let c1216_i32_1594 : BitVec 32 := 1216#32
  let v3394 : BitVec 32 := Scalar.muli v3393 c1216_i32_1594
  let c0_i32_1 : BitVec 32 := 0#32
  let c1_i32 : BitVec 32 := 1#32
  let arg13 : BitVec 32 := Scf.iv c0_i32_1 c1_i32 k0_t2
  let c38_i32_1590 : BitVec 32 := 38#32
  let v3386 : BitVec 32 := Scalar.muli arg13 c38_i32_1590
  let c6_i32_1591 : BitVec 32 := 6#32
  let v3387 : BitVec 32 := Scalar.addi v3386 c6_i32_1591
  let c4_i32_1595 : BitVec 32 := 4#32
  let v3395 : BitVec 32 := Scalar.muli v3387 c4_i32_1595
  let v3396 : BitVec 32 := Scalar.addi v3394 v3395
  let c0_i32_1596 : BitVec 32 := 0#32
  let v3397 : BitVec 32 := Scalar.addi v3396 c0_i32_1596
  let v3405 : Index := Scalar.indexCast v3397
  let c0_1602 : Index := 0#32
  let c0_1603 : Index := 0#32
  ![v3405.toNat, 0, 0]

def k0_off93 (v3404 : BitVec 32) : Fin 2 → Nat :=
  let v3408 : Index := Scalar.indexCast v3404
  let c0_1604 : Index := 0#32
  ![v3408.toNat, 0]

def k0_chk32 (v3404 : BitVec 32) : Prop :=
  (∀ a, (k0_off93 v3404) a + S8x128.size a ≤ S18432x128.size a)
theorem k0_off93_inb : ∀ (v3404 : BitVec 32) (k0_hw32 : k0_chk32 v3404), ∀ a, (k0_off93 v3404) a + S8x128.size a ≤ S18432x128.size a := fun v3404 k0_hw32 => k0_hw32

def k0_off94 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1590 : BitVec 32 := 38#32
  let v3386 : BitVec 32 := Scalar.muli arg13 c38_i32_1590
  let c6_i32_1591 : BitVec 32 := 6#32
  let v3387 : BitVec 32 := Scalar.addi v3386 c6_i32_1591
  let c4_i32_1605 : BitVec 32 := 4#32
  let v3411 : BitVec 32 := Scalar.muli v3387 c4_i32_1605
  let c1_i32_1606 : BitVec 32 := 1#32
  let v3412 : BitVec 32 := Scalar.addi v3411 c1_i32_1606
  let v3413 : Index := Scalar.indexCast v3412
  ![v3413.toNat]
def k0_off95 (i : grid0.Coords) (k0_t2 : Fin k0_t2_loop.trips) (v3389 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1593 : BitVec 32 := 2#32
  let v3392 : BitVec 32 := Scalar.muli v2959 c2_i32_1593
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3390 : BitVec 32 := Scalar.shrui v3389 v2958
  let c1_i32_1592 : BitVec 32 := 1#32
  let v3391 : BitVec 32 := Scalar.andi v3390 c1_i32_1592
  let v3393 : BitVec 32 := Scalar.addi v3392 v3391
  let c1216_i32_1594 : BitVec 32 := 1216#32
  let v3394 : BitVec 32 := Scalar.muli v3393 c1216_i32_1594
  let c0_i32_1 : BitVec 32 := 0#32
  let c1_i32 : BitVec 32 := 1#32
  let arg13 : BitVec 32 := Scf.iv c0_i32_1 c1_i32 k0_t2
  let c38_i32_1590 : BitVec 32 := 38#32
  let v3386 : BitVec 32 := Scalar.muli arg13 c38_i32_1590
  let c6_i32_1591 : BitVec 32 := 6#32
  let v3387 : BitVec 32 := Scalar.addi v3386 c6_i32_1591
  let c4_i32_1595 : BitVec 32 := 4#32
  let v3395 : BitVec 32 := Scalar.muli v3387 c4_i32_1595
  let v3396 : BitVec 32 := Scalar.addi v3394 v3395
  let c1_i32_1597 : BitVec 32 := 1#32
  let v3398 : BitVec 32 := Scalar.addi v3396 c1_i32_1597
  let v3415 : Index := Scalar.indexCast v3398
  let c0_1607 : Index := 0#32
  let c0_1608 : Index := 0#32
  ![v3415.toNat, 0, 0]
def k0_off96 (v3414 : BitVec 32) : Fin 2 → Nat :=
  let v3418 : Index := Scalar.indexCast v3414
  let c0_1609 : Index := 0#32
  ![v3418.toNat, 0]

def k0_chk33 (v3414 : BitVec 32) : Prop :=
  (∀ a, (k0_off96 v3414) a + S8x128.size a ≤ S18432x128.size a)
theorem k0_off96_inb : ∀ (v3414 : BitVec 32) (k0_hw33 : k0_chk33 v3414), ∀ a, (k0_off96 v3414) a + S8x128.size a ≤ S18432x128.size a := fun v3414 k0_hw33 => k0_hw33

def k0_off97 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1590 : BitVec 32 := 38#32
  let v3386 : BitVec 32 := Scalar.muli arg13 c38_i32_1590
  let c6_i32_1591 : BitVec 32 := 6#32
  let v3387 : BitVec 32 := Scalar.addi v3386 c6_i32_1591
  let c4_i32_1610 : BitVec 32 := 4#32
  let v3421 : BitVec 32 := Scalar.muli v3387 c4_i32_1610
  let c2_i32_1611 : BitVec 32 := 2#32
  let v3422 : BitVec 32 := Scalar.addi v3421 c2_i32_1611
  let v3423 : Index := Scalar.indexCast v3422
  ![v3423.toNat]
def k0_off98 (i : grid0.Coords) (k0_t2 : Fin k0_t2_loop.trips) (v3389 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1593 : BitVec 32 := 2#32
  let v3392 : BitVec 32 := Scalar.muli v2959 c2_i32_1593
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3390 : BitVec 32 := Scalar.shrui v3389 v2958
  let c1_i32_1592 : BitVec 32 := 1#32
  let v3391 : BitVec 32 := Scalar.andi v3390 c1_i32_1592
  let v3393 : BitVec 32 := Scalar.addi v3392 v3391
  let c1216_i32_1594 : BitVec 32 := 1216#32
  let v3394 : BitVec 32 := Scalar.muli v3393 c1216_i32_1594
  let c0_i32_1 : BitVec 32 := 0#32
  let c1_i32 : BitVec 32 := 1#32
  let arg13 : BitVec 32 := Scf.iv c0_i32_1 c1_i32 k0_t2
  let c38_i32_1590 : BitVec 32 := 38#32
  let v3386 : BitVec 32 := Scalar.muli arg13 c38_i32_1590
  let c6_i32_1591 : BitVec 32 := 6#32
  let v3387 : BitVec 32 := Scalar.addi v3386 c6_i32_1591
  let c4_i32_1595 : BitVec 32 := 4#32
  let v3395 : BitVec 32 := Scalar.muli v3387 c4_i32_1595
  let v3396 : BitVec 32 := Scalar.addi v3394 v3395
  let c2_i32_1598 : BitVec 32 := 2#32
  let v3399 : BitVec 32 := Scalar.addi v3396 c2_i32_1598
  let v3425 : Index := Scalar.indexCast v3399
  let c0_1612 : Index := 0#32
  let c0_1613 : Index := 0#32
  ![v3425.toNat, 0, 0]
def k0_off99 (v3424 : BitVec 32) : Fin 2 → Nat :=
  let v3428 : Index := Scalar.indexCast v3424
  let c0_1614 : Index := 0#32
  ![v3428.toNat, 0]

def k0_chk34 (v3424 : BitVec 32) : Prop :=
  (∀ a, (k0_off99 v3424) a + S8x128.size a ≤ S18432x128.size a)
theorem k0_off99_inb : ∀ (v3424 : BitVec 32) (k0_hw34 : k0_chk34 v3424), ∀ a, (k0_off99 v3424) a + S8x128.size a ≤ S18432x128.size a := fun v3424 k0_hw34 => k0_hw34

def k0_off100 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1590 : BitVec 32 := 38#32
  let v3386 : BitVec 32 := Scalar.muli arg13 c38_i32_1590
  let c6_i32_1591 : BitVec 32 := 6#32
  let v3387 : BitVec 32 := Scalar.addi v3386 c6_i32_1591
  let c4_i32_1615 : BitVec 32 := 4#32
  let v3431 : BitVec 32 := Scalar.muli v3387 c4_i32_1615
  let c3_i32_1616 : BitVec 32 := 3#32
  let v3432 : BitVec 32 := Scalar.addi v3431 c3_i32_1616
  let v3433 : Index := Scalar.indexCast v3432
  ![v3433.toNat]
def k0_off101 (i : grid0.Coords) (k0_t2 : Fin k0_t2_loop.trips) (v3389 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1593 : BitVec 32 := 2#32
  let v3392 : BitVec 32 := Scalar.muli v2959 c2_i32_1593
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3390 : BitVec 32 := Scalar.shrui v3389 v2958
  let c1_i32_1592 : BitVec 32 := 1#32
  let v3391 : BitVec 32 := Scalar.andi v3390 c1_i32_1592
  let v3393 : BitVec 32 := Scalar.addi v3392 v3391
  let c1216_i32_1594 : BitVec 32 := 1216#32
  let v3394 : BitVec 32 := Scalar.muli v3393 c1216_i32_1594
  let c0_i32_1 : BitVec 32 := 0#32
  let c1_i32 : BitVec 32 := 1#32
  let arg13 : BitVec 32 := Scf.iv c0_i32_1 c1_i32 k0_t2
  let c38_i32_1590 : BitVec 32 := 38#32
  let v3386 : BitVec 32 := Scalar.muli arg13 c38_i32_1590
  let c6_i32_1591 : BitVec 32 := 6#32
  let v3387 : BitVec 32 := Scalar.addi v3386 c6_i32_1591
  let c4_i32_1595 : BitVec 32 := 4#32
  let v3395 : BitVec 32 := Scalar.muli v3387 c4_i32_1595
  let v3396 : BitVec 32 := Scalar.addi v3394 v3395
  let c3_i32_1599 : BitVec 32 := 3#32
  let v3400 : BitVec 32 := Scalar.addi v3396 c3_i32_1599
  let v3435 : Index := Scalar.indexCast v3400
  let c0_1617 : Index := 0#32
  let c0_1618 : Index := 0#32
  ![v3435.toNat, 0, 0]
def k0_off102 (v3434 : BitVec 32) : Fin 2 → Nat :=
  let v3438 : Index := Scalar.indexCast v3434
  let c0_1619 : Index := 0#32
  ![v3438.toNat, 0]

def k0_chk35 (v3434 : BitVec 32) : Prop :=
  (∀ a, (k0_off102 v3434) a + S8x128.size a ≤ S18432x128.size a)
theorem k0_off102_inb : ∀ (v3434 : BitVec 32) (k0_hw35 : k0_chk35 v3434), ∀ a, (k0_off102 v3434) a + S8x128.size a ≤ S18432x128.size a := fun v3434 k0_hw35 => k0_hw35

def k0_off103 (i : grid0.Coords) (k0_t2 : Fin k0_t2_loop.trips) (v3389 : BitVec 32) (c0_i32_1596 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1593 : BitVec 32 := 2#32
  let v3392 : BitVec 32 := Scalar.muli v2959 c2_i32_1593
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3390 : BitVec 32 := Scalar.shrui v3389 v2958
  let c1_i32_1592 : BitVec 32 := 1#32
  let v3391 : BitVec 32 := Scalar.andi v3390 c1_i32_1592
  let v3393 : BitVec 32 := Scalar.addi v3392 v3391
  let c1216_i32_1594 : BitVec 32 := 1216#32
  let v3394 : BitVec 32 := Scalar.muli v3393 c1216_i32_1594
  let c0_i32_1 : BitVec 32 := 0#32
  let c1_i32 : BitVec 32 := 1#32
  let arg13 : BitVec 32 := Scf.iv c0_i32_1 c1_i32 k0_t2
  let c38_i32_1590 : BitVec 32 := 38#32
  let v3386 : BitVec 32 := Scalar.muli arg13 c38_i32_1590
  let c6_i32_1591 : BitVec 32 := 6#32
  let v3387 : BitVec 32 := Scalar.addi v3386 c6_i32_1591
  let c4_i32_1595 : BitVec 32 := 4#32
  let v3395 : BitVec 32 := Scalar.muli v3387 c4_i32_1595
  let v3396 : BitVec 32 := Scalar.addi v3394 v3395
  let v3397 : BitVec 32 := Scalar.addi v3396 c0_i32_1596
  let v3441 : Index := Scalar.indexCast v3397
  let c0_1620 : Index := 0#32
  let c0_1621 : Index := 0#32
  ![v3441.toNat, 0, 0]

def k0_chk31 (i : grid0.Coords) (k0_t2 : Fin k0_t2_loop.trips) (v3389 : BitVec 32) : Prop :=
  (∀ a, (k0_off92 i k0_t2 v3389) a + S1x8x128.size a ≤ S7296x8x128.size a) ∧
  (∀ a, (k0_off95 i k0_t2 v3389) a + S1x8x128.size a ≤ S7296x8x128.size a) ∧
  (∀ a, (k0_off98 i k0_t2 v3389) a + S1x8x128.size a ≤ S7296x8x128.size a) ∧
  (∀ a, (k0_off101 i k0_t2 v3389) a + S1x8x128.size a ≤ S7296x8x128.size a) ∧
  (∀ (r : Fin 4), ∀ a, (k0_off103 i k0_t2 v3389 (BitVec.ofNat 32 r.val)) a + S1x8x128.size a ≤ S7296x8x128.size a)
theorem k0_off92_inb : ∀ (i : grid0.Coords) (k0_t2 : Fin k0_t2_loop.trips) (v3389 : BitVec 32) (k0_hw31 : k0_chk31 i k0_t2 v3389), ∀ a, (k0_off92 i k0_t2 v3389) a + S1x8x128.size a ≤ S7296x8x128.size a := fun i k0_t2 v3389 k0_hw31 => k0_hw31.1
theorem k0_off95_inb : ∀ (i : grid0.Coords) (k0_t2 : Fin k0_t2_loop.trips) (v3389 : BitVec 32) (k0_hw31 : k0_chk31 i k0_t2 v3389), ∀ a, (k0_off95 i k0_t2 v3389) a + S1x8x128.size a ≤ S7296x8x128.size a := fun i k0_t2 v3389 k0_hw31 => k0_hw31.2.1
theorem k0_off98_inb : ∀ (i : grid0.Coords) (k0_t2 : Fin k0_t2_loop.trips) (v3389 : BitVec 32) (k0_hw31 : k0_chk31 i k0_t2 v3389), ∀ a, (k0_off98 i k0_t2 v3389) a + S1x8x128.size a ≤ S7296x8x128.size a := fun i k0_t2 v3389 k0_hw31 => k0_hw31.2.2.1
theorem k0_off101_inb : ∀ (i : grid0.Coords) (k0_t2 : Fin k0_t2_loop.trips) (v3389 : BitVec 32) (k0_hw31 : k0_chk31 i k0_t2 v3389), ∀ a, (k0_off101 i k0_t2 v3389) a + S1x8x128.size a ≤ S7296x8x128.size a := fun i k0_t2 v3389 k0_hw31 => k0_hw31.2.2.2.1
theorem k0_off103_inb : ∀ (i : grid0.Coords) (k0_t2 : Fin k0_t2_loop.trips) (v3389 : BitVec 32) (k0_hw31 : k0_chk31 i k0_t2 v3389), ∀ (r : Fin 4), ∀ a, (k0_off103 i k0_t2 v3389 (BitVec.ofNat 32 r.val)) a + S1x8x128.size a ≤ S7296x8x128.size a := fun i k0_t2 v3389 k0_hw31 r => k0_hw31.2.2.2.2 r

def k0_off104 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1628 : BitVec 32 := 38#32
  let v3457 : BitVec 32 := Scalar.muli arg13 c38_i32_1628
  let c7_i32 : BitVec 32 := 7#32
  let v3458 : BitVec 32 := Scalar.addi v3457 c7_i32
  let v3459 : Index := Scalar.indexCast v3458
  ![v3459.toNat]
def k0_off105 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1628 : BitVec 32 := 38#32
  let v3457 : BitVec 32 := Scalar.muli arg13 c38_i32_1628
  let c7_i32 : BitVec 32 := 7#32
  let v3458 : BitVec 32 := Scalar.addi v3457 c7_i32
  let c4_i32_1637 : BitVec 32 := 4#32
  let v3472 : BitVec 32 := Scalar.muli v3458 c4_i32_1637
  let c0_i32_1638 : BitVec 32 := 0#32
  let v3473 : BitVec 32 := Scalar.addi v3472 c0_i32_1638
  let v3474 : Index := Scalar.indexCast v3473
  ![v3474.toNat]
def k0_off106 (i : grid0.Coords) (k0_t2 : Fin k0_t2_loop.trips) (v3460 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1630 : BitVec 32 := 2#32
  let v3463 : BitVec 32 := Scalar.muli v2959 c2_i32_1630
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3461 : BitVec 32 := Scalar.shrui v3460 v2958
  let c1_i32_1629 : BitVec 32 := 1#32
  let v3462 : BitVec 32 := Scalar.andi v3461 c1_i32_1629
  let v3464 : BitVec 32 := Scalar.addi v3463 v3462
  let c1216_i32_1631 : BitVec 32 := 1216#32
  let v3465 : BitVec 32 := Scalar.muli v3464 c1216_i32_1631
  let c0_i32_1 : BitVec 32 := 0#32
  let c1_i32 : BitVec 32 := 1#32
  let arg13 : BitVec 32 := Scf.iv c0_i32_1 c1_i32 k0_t2
  let c38_i32_1628 : BitVec 32 := 38#32
  let v3457 : BitVec 32 := Scalar.muli arg13 c38_i32_1628
  let c7_i32 : BitVec 32 := 7#32
  let v3458 : BitVec 32 := Scalar.addi v3457 c7_i32
  let c4_i32_1632 : BitVec 32 := 4#32
  let v3466 : BitVec 32 := Scalar.muli v3458 c4_i32_1632
  let v3467 : BitVec 32 := Scalar.addi v3465 v3466
  let c0_i32_1633 : BitVec 32 := 0#32
  let v3468 : BitVec 32 := Scalar.addi v3467 c0_i32_1633
  let v3476 : Index := Scalar.indexCast v3468
  let c0_1639 : Index := 0#32
  let c0_1640 : Index := 0#32
  ![v3476.toNat, 0, 0]

def k0_off107 (v3475 : BitVec 32) : Fin 2 → Nat :=
  let v3479 : Index := Scalar.indexCast v3475
  let c0_1641 : Index := 0#32
  ![v3479.toNat, 0]

def k0_chk37 (v3475 : BitVec 32) : Prop :=
  (∀ a, (k0_off107 v3475) a + S8x128.size a ≤ S18432x128.size a)
theorem k0_off107_inb : ∀ (v3475 : BitVec 32) (k0_hw37 : k0_chk37 v3475), ∀ a, (k0_off107 v3475) a + S8x128.size a ≤ S18432x128.size a := fun v3475 k0_hw37 => k0_hw37

def k0_off108 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1628 : BitVec 32 := 38#32
  let v3457 : BitVec 32 := Scalar.muli arg13 c38_i32_1628
  let c7_i32 : BitVec 32 := 7#32
  let v3458 : BitVec 32 := Scalar.addi v3457 c7_i32
  let c4_i32_1642 : BitVec 32 := 4#32
  let v3482 : BitVec 32 := Scalar.muli v3458 c4_i32_1642
  let c1_i32_1643 : BitVec 32 := 1#32
  let v3483 : BitVec 32 := Scalar.addi v3482 c1_i32_1643
  let v3484 : Index := Scalar.indexCast v3483
  ![v3484.toNat]
def k0_off109 (i : grid0.Coords) (k0_t2 : Fin k0_t2_loop.trips) (v3460 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1630 : BitVec 32 := 2#32
  let v3463 : BitVec 32 := Scalar.muli v2959 c2_i32_1630
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3461 : BitVec 32 := Scalar.shrui v3460 v2958
  let c1_i32_1629 : BitVec 32 := 1#32
  let v3462 : BitVec 32 := Scalar.andi v3461 c1_i32_1629
  let v3464 : BitVec 32 := Scalar.addi v3463 v3462
  let c1216_i32_1631 : BitVec 32 := 1216#32
  let v3465 : BitVec 32 := Scalar.muli v3464 c1216_i32_1631
  let c0_i32_1 : BitVec 32 := 0#32
  let c1_i32 : BitVec 32 := 1#32
  let arg13 : BitVec 32 := Scf.iv c0_i32_1 c1_i32 k0_t2
  let c38_i32_1628 : BitVec 32 := 38#32
  let v3457 : BitVec 32 := Scalar.muli arg13 c38_i32_1628
  let c7_i32 : BitVec 32 := 7#32
  let v3458 : BitVec 32 := Scalar.addi v3457 c7_i32
  let c4_i32_1632 : BitVec 32 := 4#32
  let v3466 : BitVec 32 := Scalar.muli v3458 c4_i32_1632
  let v3467 : BitVec 32 := Scalar.addi v3465 v3466
  let c1_i32_1634 : BitVec 32 := 1#32
  let v3469 : BitVec 32 := Scalar.addi v3467 c1_i32_1634
  let v3486 : Index := Scalar.indexCast v3469
  let c0_1644 : Index := 0#32
  let c0_1645 : Index := 0#32
  ![v3486.toNat, 0, 0]
def k0_off110 (v3485 : BitVec 32) : Fin 2 → Nat :=
  let v3489 : Index := Scalar.indexCast v3485
  let c0_1646 : Index := 0#32
  ![v3489.toNat, 0]

def k0_chk38 (v3485 : BitVec 32) : Prop :=
  (∀ a, (k0_off110 v3485) a + S8x128.size a ≤ S18432x128.size a)
theorem k0_off110_inb : ∀ (v3485 : BitVec 32) (k0_hw38 : k0_chk38 v3485), ∀ a, (k0_off110 v3485) a + S8x128.size a ≤ S18432x128.size a := fun v3485 k0_hw38 => k0_hw38

def k0_off111 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1628 : BitVec 32 := 38#32
  let v3457 : BitVec 32 := Scalar.muli arg13 c38_i32_1628
  let c7_i32 : BitVec 32 := 7#32
  let v3458 : BitVec 32 := Scalar.addi v3457 c7_i32
  let c4_i32_1647 : BitVec 32 := 4#32
  let v3492 : BitVec 32 := Scalar.muli v3458 c4_i32_1647
  let c2_i32_1648 : BitVec 32 := 2#32
  let v3493 : BitVec 32 := Scalar.addi v3492 c2_i32_1648
  let v3494 : Index := Scalar.indexCast v3493
  ![v3494.toNat]
def k0_off112 (i : grid0.Coords) (k0_t2 : Fin k0_t2_loop.trips) (v3460 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1630 : BitVec 32 := 2#32
  let v3463 : BitVec 32 := Scalar.muli v2959 c2_i32_1630
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3461 : BitVec 32 := Scalar.shrui v3460 v2958
  let c1_i32_1629 : BitVec 32 := 1#32
  let v3462 : BitVec 32 := Scalar.andi v3461 c1_i32_1629
  let v3464 : BitVec 32 := Scalar.addi v3463 v3462
  let c1216_i32_1631 : BitVec 32 := 1216#32
  let v3465 : BitVec 32 := Scalar.muli v3464 c1216_i32_1631
  let c0_i32_1 : BitVec 32 := 0#32
  let c1_i32 : BitVec 32 := 1#32
  let arg13 : BitVec 32 := Scf.iv c0_i32_1 c1_i32 k0_t2
  let c38_i32_1628 : BitVec 32 := 38#32
  let v3457 : BitVec 32 := Scalar.muli arg13 c38_i32_1628
  let c7_i32 : BitVec 32 := 7#32
  let v3458 : BitVec 32 := Scalar.addi v3457 c7_i32
  let c4_i32_1632 : BitVec 32 := 4#32
  let v3466 : BitVec 32 := Scalar.muli v3458 c4_i32_1632
  let v3467 : BitVec 32 := Scalar.addi v3465 v3466
  let c2_i32_1635 : BitVec 32 := 2#32
  let v3470 : BitVec 32 := Scalar.addi v3467 c2_i32_1635
  let v3496 : Index := Scalar.indexCast v3470
  let c0_1649 : Index := 0#32
  let c0_1650 : Index := 0#32
  ![v3496.toNat, 0, 0]
def k0_off113 (v3495 : BitVec 32) : Fin 2 → Nat :=
  let v3499 : Index := Scalar.indexCast v3495
  let c0_1651 : Index := 0#32
  ![v3499.toNat, 0]

def k0_chk39 (v3495 : BitVec 32) : Prop :=
  (∀ a, (k0_off113 v3495) a + S8x128.size a ≤ S18432x128.size a)
theorem k0_off113_inb : ∀ (v3495 : BitVec 32) (k0_hw39 : k0_chk39 v3495), ∀ a, (k0_off113 v3495) a + S8x128.size a ≤ S18432x128.size a := fun v3495 k0_hw39 => k0_hw39

def k0_off114 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1628 : BitVec 32 := 38#32
  let v3457 : BitVec 32 := Scalar.muli arg13 c38_i32_1628
  let c7_i32 : BitVec 32 := 7#32
  let v3458 : BitVec 32 := Scalar.addi v3457 c7_i32
  let c4_i32_1652 : BitVec 32 := 4#32
  let v3502 : BitVec 32 := Scalar.muli v3458 c4_i32_1652
  let c3_i32_1653 : BitVec 32 := 3#32
  let v3503 : BitVec 32 := Scalar.addi v3502 c3_i32_1653
  let v3504 : Index := Scalar.indexCast v3503
  ![v3504.toNat]
def k0_off115 (i : grid0.Coords) (k0_t2 : Fin k0_t2_loop.trips) (v3460 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1630 : BitVec 32 := 2#32
  let v3463 : BitVec 32 := Scalar.muli v2959 c2_i32_1630
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3461 : BitVec 32 := Scalar.shrui v3460 v2958
  let c1_i32_1629 : BitVec 32 := 1#32
  let v3462 : BitVec 32 := Scalar.andi v3461 c1_i32_1629
  let v3464 : BitVec 32 := Scalar.addi v3463 v3462
  let c1216_i32_1631 : BitVec 32 := 1216#32
  let v3465 : BitVec 32 := Scalar.muli v3464 c1216_i32_1631
  let c0_i32_1 : BitVec 32 := 0#32
  let c1_i32 : BitVec 32 := 1#32
  let arg13 : BitVec 32 := Scf.iv c0_i32_1 c1_i32 k0_t2
  let c38_i32_1628 : BitVec 32 := 38#32
  let v3457 : BitVec 32 := Scalar.muli arg13 c38_i32_1628
  let c7_i32 : BitVec 32 := 7#32
  let v3458 : BitVec 32 := Scalar.addi v3457 c7_i32
  let c4_i32_1632 : BitVec 32 := 4#32
  let v3466 : BitVec 32 := Scalar.muli v3458 c4_i32_1632
  let v3467 : BitVec 32 := Scalar.addi v3465 v3466
  let c3_i32_1636 : BitVec 32 := 3#32
  let v3471 : BitVec 32 := Scalar.addi v3467 c3_i32_1636
  let v3506 : Index := Scalar.indexCast v3471
  let c0_1654 : Index := 0#32
  let c0_1655 : Index := 0#32
  ![v3506.toNat, 0, 0]
def k0_off116 (v3505 : BitVec 32) : Fin 2 → Nat :=
  let v3509 : Index := Scalar.indexCast v3505
  let c0_1656 : Index := 0#32
  ![v3509.toNat, 0]

def k0_chk40 (v3505 : BitVec 32) : Prop :=
  (∀ a, (k0_off116 v3505) a + S8x128.size a ≤ S18432x128.size a)
theorem k0_off116_inb : ∀ (v3505 : BitVec 32) (k0_hw40 : k0_chk40 v3505), ∀ a, (k0_off116 v3505) a + S8x128.size a ≤ S18432x128.size a := fun v3505 k0_hw40 => k0_hw40

def k0_off117 (i : grid0.Coords) (k0_t2 : Fin k0_t2_loop.trips) (v3460 : BitVec 32) (c0_i32_1633 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1630 : BitVec 32 := 2#32
  let v3463 : BitVec 32 := Scalar.muli v2959 c2_i32_1630
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3461 : BitVec 32 := Scalar.shrui v3460 v2958
  let c1_i32_1629 : BitVec 32 := 1#32
  let v3462 : BitVec 32 := Scalar.andi v3461 c1_i32_1629
  let v3464 : BitVec 32 := Scalar.addi v3463 v3462
  let c1216_i32_1631 : BitVec 32 := 1216#32
  let v3465 : BitVec 32 := Scalar.muli v3464 c1216_i32_1631
  let c0_i32_1 : BitVec 32 := 0#32
  let c1_i32 : BitVec 32 := 1#32
  let arg13 : BitVec 32 := Scf.iv c0_i32_1 c1_i32 k0_t2
  let c38_i32_1628 : BitVec 32 := 38#32
  let v3457 : BitVec 32 := Scalar.muli arg13 c38_i32_1628
  let c7_i32 : BitVec 32 := 7#32
  let v3458 : BitVec 32 := Scalar.addi v3457 c7_i32
  let c4_i32_1632 : BitVec 32 := 4#32
  let v3466 : BitVec 32 := Scalar.muli v3458 c4_i32_1632
  let v3467 : BitVec 32 := Scalar.addi v3465 v3466
  let v3468 : BitVec 32 := Scalar.addi v3467 c0_i32_1633
  let v3512 : Index := Scalar.indexCast v3468
  let c0_1657 : Index := 0#32
  let c0_1658 : Index := 0#32
  ![v3512.toNat, 0, 0]

def k0_chk36 (i : grid0.Coords) (k0_t2 : Fin k0_t2_loop.trips) (v3460 : BitVec 32) : Prop :=
  (∀ a, (k0_off106 i k0_t2 v3460) a + S1x8x128.size a ≤ S7296x8x128.size a) ∧
  (∀ a, (k0_off109 i k0_t2 v3460) a + S1x8x128.size a ≤ S7296x8x128.size a) ∧
  (∀ a, (k0_off112 i k0_t2 v3460) a + S1x8x128.size a ≤ S7296x8x128.size a) ∧
  (∀ a, (k0_off115 i k0_t2 v3460) a + S1x8x128.size a ≤ S7296x8x128.size a) ∧
  (∀ (r : Fin 4), ∀ a, (k0_off117 i k0_t2 v3460 (BitVec.ofNat 32 r.val)) a + S1x8x128.size a ≤ S7296x8x128.size a)
theorem k0_off106_inb : ∀ (i : grid0.Coords) (k0_t2 : Fin k0_t2_loop.trips) (v3460 : BitVec 32) (k0_hw36 : k0_chk36 i k0_t2 v3460), ∀ a, (k0_off106 i k0_t2 v3460) a + S1x8x128.size a ≤ S7296x8x128.size a := fun i k0_t2 v3460 k0_hw36 => k0_hw36.1
theorem k0_off109_inb : ∀ (i : grid0.Coords) (k0_t2 : Fin k0_t2_loop.trips) (v3460 : BitVec 32) (k0_hw36 : k0_chk36 i k0_t2 v3460), ∀ a, (k0_off109 i k0_t2 v3460) a + S1x8x128.size a ≤ S7296x8x128.size a := fun i k0_t2 v3460 k0_hw36 => k0_hw36.2.1
theorem k0_off112_inb : ∀ (i : grid0.Coords) (k0_t2 : Fin k0_t2_loop.trips) (v3460 : BitVec 32) (k0_hw36 : k0_chk36 i k0_t2 v3460), ∀ a, (k0_off112 i k0_t2 v3460) a + S1x8x128.size a ≤ S7296x8x128.size a := fun i k0_t2 v3460 k0_hw36 => k0_hw36.2.2.1
theorem k0_off115_inb : ∀ (i : grid0.Coords) (k0_t2 : Fin k0_t2_loop.trips) (v3460 : BitVec 32) (k0_hw36 : k0_chk36 i k0_t2 v3460), ∀ a, (k0_off115 i k0_t2 v3460) a + S1x8x128.size a ≤ S7296x8x128.size a := fun i k0_t2 v3460 k0_hw36 => k0_hw36.2.2.2.1
theorem k0_off117_inb : ∀ (i : grid0.Coords) (k0_t2 : Fin k0_t2_loop.trips) (v3460 : BitVec 32) (k0_hw36 : k0_chk36 i k0_t2 v3460), ∀ (r : Fin 4), ∀ a, (k0_off117 i k0_t2 v3460 (BitVec.ofNat 32 r.val)) a + S1x8x128.size a ≤ S7296x8x128.size a := fun i k0_t2 v3460 k0_hw36 r => k0_hw36.2.2.2.2 r

def k0_off118 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1665 : BitVec 32 := 38#32
  let v3528 : BitVec 32 := Scalar.muli arg13 c38_i32_1665
  let c8_i32_1666 : BitVec 32 := 8#32
  let v3529 : BitVec 32 := Scalar.addi v3528 c8_i32_1666
  let v3530 : Index := Scalar.indexCast v3529
  ![v3530.toNat]
def k0_off119 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1665 : BitVec 32 := 38#32
  let v3528 : BitVec 32 := Scalar.muli arg13 c38_i32_1665
  let c8_i32_1666 : BitVec 32 := 8#32
  let v3529 : BitVec 32 := Scalar.addi v3528 c8_i32_1666
  let c4_i32_1675 : BitVec 32 := 4#32
  let v3543 : BitVec 32 := Scalar.muli v3529 c4_i32_1675
  let c0_i32_1676 : BitVec 32 := 0#32
  let v3544 : BitVec 32 := Scalar.addi v3543 c0_i32_1676
  let v3545 : Index := Scalar.indexCast v3544
  ![v3545.toNat]
def k0_off120 (i : grid0.Coords) (k0_t2 : Fin k0_t2_loop.trips) (v3531 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1668 : BitVec 32 := 2#32
  let v3534 : BitVec 32 := Scalar.muli v2959 c2_i32_1668
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3532 : BitVec 32 := Scalar.shrui v3531 v2958
  let c1_i32_1667 : BitVec 32 := 1#32
  let v3533 : BitVec 32 := Scalar.andi v3532 c1_i32_1667
  let v3535 : BitVec 32 := Scalar.addi v3534 v3533
  let c1216_i32_1669 : BitVec 32 := 1216#32
  let v3536 : BitVec 32 := Scalar.muli v3535 c1216_i32_1669
  let c0_i32_1 : BitVec 32 := 0#32
  let c1_i32 : BitVec 32 := 1#32
  let arg13 : BitVec 32 := Scf.iv c0_i32_1 c1_i32 k0_t2
  let c38_i32_1665 : BitVec 32 := 38#32
  let v3528 : BitVec 32 := Scalar.muli arg13 c38_i32_1665
  let c8_i32_1666 : BitVec 32 := 8#32
  let v3529 : BitVec 32 := Scalar.addi v3528 c8_i32_1666
  let c4_i32_1670 : BitVec 32 := 4#32
  let v3537 : BitVec 32 := Scalar.muli v3529 c4_i32_1670
  let v3538 : BitVec 32 := Scalar.addi v3536 v3537
  let c0_i32_1671 : BitVec 32 := 0#32
  let v3539 : BitVec 32 := Scalar.addi v3538 c0_i32_1671
  let v3547 : Index := Scalar.indexCast v3539
  let c0_1677 : Index := 0#32
  let c0_1678 : Index := 0#32
  ![v3547.toNat, 0, 0]

def k0_off121 (v3546 : BitVec 32) : Fin 2 → Nat :=
  let v3550 : Index := Scalar.indexCast v3546
  let c0_1679 : Index := 0#32
  ![v3550.toNat, 0]

def k0_chk42 (v3546 : BitVec 32) : Prop :=
  (∀ a, (k0_off121 v3546) a + S8x128.size a ≤ S18432x128.size a)
theorem k0_off121_inb : ∀ (v3546 : BitVec 32) (k0_hw42 : k0_chk42 v3546), ∀ a, (k0_off121 v3546) a + S8x128.size a ≤ S18432x128.size a := fun v3546 k0_hw42 => k0_hw42

def k0_off122 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1665 : BitVec 32 := 38#32
  let v3528 : BitVec 32 := Scalar.muli arg13 c38_i32_1665
  let c8_i32_1666 : BitVec 32 := 8#32
  let v3529 : BitVec 32 := Scalar.addi v3528 c8_i32_1666
  let c4_i32_1680 : BitVec 32 := 4#32
  let v3553 : BitVec 32 := Scalar.muli v3529 c4_i32_1680
  let c1_i32_1681 : BitVec 32 := 1#32
  let v3554 : BitVec 32 := Scalar.addi v3553 c1_i32_1681
  let v3555 : Index := Scalar.indexCast v3554
  ![v3555.toNat]
def k0_off123 (i : grid0.Coords) (k0_t2 : Fin k0_t2_loop.trips) (v3531 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1668 : BitVec 32 := 2#32
  let v3534 : BitVec 32 := Scalar.muli v2959 c2_i32_1668
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3532 : BitVec 32 := Scalar.shrui v3531 v2958
  let c1_i32_1667 : BitVec 32 := 1#32
  let v3533 : BitVec 32 := Scalar.andi v3532 c1_i32_1667
  let v3535 : BitVec 32 := Scalar.addi v3534 v3533
  let c1216_i32_1669 : BitVec 32 := 1216#32
  let v3536 : BitVec 32 := Scalar.muli v3535 c1216_i32_1669
  let c0_i32_1 : BitVec 32 := 0#32
  let c1_i32 : BitVec 32 := 1#32
  let arg13 : BitVec 32 := Scf.iv c0_i32_1 c1_i32 k0_t2
  let c38_i32_1665 : BitVec 32 := 38#32
  let v3528 : BitVec 32 := Scalar.muli arg13 c38_i32_1665
  let c8_i32_1666 : BitVec 32 := 8#32
  let v3529 : BitVec 32 := Scalar.addi v3528 c8_i32_1666
  let c4_i32_1670 : BitVec 32 := 4#32
  let v3537 : BitVec 32 := Scalar.muli v3529 c4_i32_1670
  let v3538 : BitVec 32 := Scalar.addi v3536 v3537
  let c1_i32_1672 : BitVec 32 := 1#32
  let v3540 : BitVec 32 := Scalar.addi v3538 c1_i32_1672
  let v3557 : Index := Scalar.indexCast v3540
  let c0_1682 : Index := 0#32
  let c0_1683 : Index := 0#32
  ![v3557.toNat, 0, 0]
def k0_off124 (v3556 : BitVec 32) : Fin 2 → Nat :=
  let v3560 : Index := Scalar.indexCast v3556
  let c0_1684 : Index := 0#32
  ![v3560.toNat, 0]

def k0_chk43 (v3556 : BitVec 32) : Prop :=
  (∀ a, (k0_off124 v3556) a + S8x128.size a ≤ S18432x128.size a)
theorem k0_off124_inb : ∀ (v3556 : BitVec 32) (k0_hw43 : k0_chk43 v3556), ∀ a, (k0_off124 v3556) a + S8x128.size a ≤ S18432x128.size a := fun v3556 k0_hw43 => k0_hw43

def k0_off125 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1665 : BitVec 32 := 38#32
  let v3528 : BitVec 32 := Scalar.muli arg13 c38_i32_1665
  let c8_i32_1666 : BitVec 32 := 8#32
  let v3529 : BitVec 32 := Scalar.addi v3528 c8_i32_1666
  let c4_i32_1685 : BitVec 32 := 4#32
  let v3563 : BitVec 32 := Scalar.muli v3529 c4_i32_1685
  let c2_i32_1686 : BitVec 32 := 2#32
  let v3564 : BitVec 32 := Scalar.addi v3563 c2_i32_1686
  let v3565 : Index := Scalar.indexCast v3564
  ![v3565.toNat]
def k0_off126 (i : grid0.Coords) (k0_t2 : Fin k0_t2_loop.trips) (v3531 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1668 : BitVec 32 := 2#32
  let v3534 : BitVec 32 := Scalar.muli v2959 c2_i32_1668
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3532 : BitVec 32 := Scalar.shrui v3531 v2958
  let c1_i32_1667 : BitVec 32 := 1#32
  let v3533 : BitVec 32 := Scalar.andi v3532 c1_i32_1667
  let v3535 : BitVec 32 := Scalar.addi v3534 v3533
  let c1216_i32_1669 : BitVec 32 := 1216#32
  let v3536 : BitVec 32 := Scalar.muli v3535 c1216_i32_1669
  let c0_i32_1 : BitVec 32 := 0#32
  let c1_i32 : BitVec 32 := 1#32
  let arg13 : BitVec 32 := Scf.iv c0_i32_1 c1_i32 k0_t2
  let c38_i32_1665 : BitVec 32 := 38#32
  let v3528 : BitVec 32 := Scalar.muli arg13 c38_i32_1665
  let c8_i32_1666 : BitVec 32 := 8#32
  let v3529 : BitVec 32 := Scalar.addi v3528 c8_i32_1666
  let c4_i32_1670 : BitVec 32 := 4#32
  let v3537 : BitVec 32 := Scalar.muli v3529 c4_i32_1670
  let v3538 : BitVec 32 := Scalar.addi v3536 v3537
  let c2_i32_1673 : BitVec 32 := 2#32
  let v3541 : BitVec 32 := Scalar.addi v3538 c2_i32_1673
  let v3567 : Index := Scalar.indexCast v3541
  let c0_1687 : Index := 0#32
  let c0_1688 : Index := 0#32
  ![v3567.toNat, 0, 0]
def k0_off127 (v3566 : BitVec 32) : Fin 2 → Nat :=
  let v3570 : Index := Scalar.indexCast v3566
  let c0_1689 : Index := 0#32
  ![v3570.toNat, 0]

def k0_chk44 (v3566 : BitVec 32) : Prop :=
  (∀ a, (k0_off127 v3566) a + S8x128.size a ≤ S18432x128.size a)
theorem k0_off127_inb : ∀ (v3566 : BitVec 32) (k0_hw44 : k0_chk44 v3566), ∀ a, (k0_off127 v3566) a + S8x128.size a ≤ S18432x128.size a := fun v3566 k0_hw44 => k0_hw44

def k0_off128 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1665 : BitVec 32 := 38#32
  let v3528 : BitVec 32 := Scalar.muli arg13 c38_i32_1665
  let c8_i32_1666 : BitVec 32 := 8#32
  let v3529 : BitVec 32 := Scalar.addi v3528 c8_i32_1666
  let c4_i32_1690 : BitVec 32 := 4#32
  let v3573 : BitVec 32 := Scalar.muli v3529 c4_i32_1690
  let c3_i32_1691 : BitVec 32 := 3#32
  let v3574 : BitVec 32 := Scalar.addi v3573 c3_i32_1691
  let v3575 : Index := Scalar.indexCast v3574
  ![v3575.toNat]
def k0_off129 (i : grid0.Coords) (k0_t2 : Fin k0_t2_loop.trips) (v3531 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1668 : BitVec 32 := 2#32
  let v3534 : BitVec 32 := Scalar.muli v2959 c2_i32_1668
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3532 : BitVec 32 := Scalar.shrui v3531 v2958
  let c1_i32_1667 : BitVec 32 := 1#32
  let v3533 : BitVec 32 := Scalar.andi v3532 c1_i32_1667
  let v3535 : BitVec 32 := Scalar.addi v3534 v3533
  let c1216_i32_1669 : BitVec 32 := 1216#32
  let v3536 : BitVec 32 := Scalar.muli v3535 c1216_i32_1669
  let c0_i32_1 : BitVec 32 := 0#32
  let c1_i32 : BitVec 32 := 1#32
  let arg13 : BitVec 32 := Scf.iv c0_i32_1 c1_i32 k0_t2
  let c38_i32_1665 : BitVec 32 := 38#32
  let v3528 : BitVec 32 := Scalar.muli arg13 c38_i32_1665
  let c8_i32_1666 : BitVec 32 := 8#32
  let v3529 : BitVec 32 := Scalar.addi v3528 c8_i32_1666
  let c4_i32_1670 : BitVec 32 := 4#32
  let v3537 : BitVec 32 := Scalar.muli v3529 c4_i32_1670
  let v3538 : BitVec 32 := Scalar.addi v3536 v3537
  let c3_i32_1674 : BitVec 32 := 3#32
  let v3542 : BitVec 32 := Scalar.addi v3538 c3_i32_1674
  let v3577 : Index := Scalar.indexCast v3542
  let c0_1692 : Index := 0#32
  let c0_1693 : Index := 0#32
  ![v3577.toNat, 0, 0]
def k0_off130 (v3576 : BitVec 32) : Fin 2 → Nat :=
  let v3580 : Index := Scalar.indexCast v3576
  let c0_1694 : Index := 0#32
  ![v3580.toNat, 0]

def k0_chk45 (v3576 : BitVec 32) : Prop :=
  (∀ a, (k0_off130 v3576) a + S8x128.size a ≤ S18432x128.size a)
theorem k0_off130_inb : ∀ (v3576 : BitVec 32) (k0_hw45 : k0_chk45 v3576), ∀ a, (k0_off130 v3576) a + S8x128.size a ≤ S18432x128.size a := fun v3576 k0_hw45 => k0_hw45

def k0_off131 (i : grid0.Coords) (k0_t2 : Fin k0_t2_loop.trips) (v3531 : BitVec 32) (c0_i32_1671 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1668 : BitVec 32 := 2#32
  let v3534 : BitVec 32 := Scalar.muli v2959 c2_i32_1668
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3532 : BitVec 32 := Scalar.shrui v3531 v2958
  let c1_i32_1667 : BitVec 32 := 1#32
  let v3533 : BitVec 32 := Scalar.andi v3532 c1_i32_1667
  let v3535 : BitVec 32 := Scalar.addi v3534 v3533
  let c1216_i32_1669 : BitVec 32 := 1216#32
  let v3536 : BitVec 32 := Scalar.muli v3535 c1216_i32_1669
  let c0_i32_1 : BitVec 32 := 0#32
  let c1_i32 : BitVec 32 := 1#32
  let arg13 : BitVec 32 := Scf.iv c0_i32_1 c1_i32 k0_t2
  let c38_i32_1665 : BitVec 32 := 38#32
  let v3528 : BitVec 32 := Scalar.muli arg13 c38_i32_1665
  let c8_i32_1666 : BitVec 32 := 8#32
  let v3529 : BitVec 32 := Scalar.addi v3528 c8_i32_1666
  let c4_i32_1670 : BitVec 32 := 4#32
  let v3537 : BitVec 32 := Scalar.muli v3529 c4_i32_1670
  let v3538 : BitVec 32 := Scalar.addi v3536 v3537
  let v3539 : BitVec 32 := Scalar.addi v3538 c0_i32_1671
  let v3583 : Index := Scalar.indexCast v3539
  let c0_1695 : Index := 0#32
  let c0_1696 : Index := 0#32
  ![v3583.toNat, 0, 0]

def k0_chk41 (i : grid0.Coords) (k0_t2 : Fin k0_t2_loop.trips) (v3531 : BitVec 32) : Prop :=
  (∀ a, (k0_off120 i k0_t2 v3531) a + S1x8x128.size a ≤ S7296x8x128.size a) ∧
  (∀ a, (k0_off123 i k0_t2 v3531) a + S1x8x128.size a ≤ S7296x8x128.size a) ∧
  (∀ a, (k0_off126 i k0_t2 v3531) a + S1x8x128.size a ≤ S7296x8x128.size a) ∧
  (∀ a, (k0_off129 i k0_t2 v3531) a + S1x8x128.size a ≤ S7296x8x128.size a) ∧
  (∀ (r : Fin 4), ∀ a, (k0_off131 i k0_t2 v3531 (BitVec.ofNat 32 r.val)) a + S1x8x128.size a ≤ S7296x8x128.size a)
theorem k0_off120_inb : ∀ (i : grid0.Coords) (k0_t2 : Fin k0_t2_loop.trips) (v3531 : BitVec 32) (k0_hw41 : k0_chk41 i k0_t2 v3531), ∀ a, (k0_off120 i k0_t2 v3531) a + S1x8x128.size a ≤ S7296x8x128.size a := fun i k0_t2 v3531 k0_hw41 => k0_hw41.1
theorem k0_off123_inb : ∀ (i : grid0.Coords) (k0_t2 : Fin k0_t2_loop.trips) (v3531 : BitVec 32) (k0_hw41 : k0_chk41 i k0_t2 v3531), ∀ a, (k0_off123 i k0_t2 v3531) a + S1x8x128.size a ≤ S7296x8x128.size a := fun i k0_t2 v3531 k0_hw41 => k0_hw41.2.1
theorem k0_off126_inb : ∀ (i : grid0.Coords) (k0_t2 : Fin k0_t2_loop.trips) (v3531 : BitVec 32) (k0_hw41 : k0_chk41 i k0_t2 v3531), ∀ a, (k0_off126 i k0_t2 v3531) a + S1x8x128.size a ≤ S7296x8x128.size a := fun i k0_t2 v3531 k0_hw41 => k0_hw41.2.2.1
theorem k0_off129_inb : ∀ (i : grid0.Coords) (k0_t2 : Fin k0_t2_loop.trips) (v3531 : BitVec 32) (k0_hw41 : k0_chk41 i k0_t2 v3531), ∀ a, (k0_off129 i k0_t2 v3531) a + S1x8x128.size a ≤ S7296x8x128.size a := fun i k0_t2 v3531 k0_hw41 => k0_hw41.2.2.2.1
theorem k0_off131_inb : ∀ (i : grid0.Coords) (k0_t2 : Fin k0_t2_loop.trips) (v3531 : BitVec 32) (k0_hw41 : k0_chk41 i k0_t2 v3531), ∀ (r : Fin 4), ∀ a, (k0_off131 i k0_t2 v3531 (BitVec.ofNat 32 r.val)) a + S1x8x128.size a ≤ S7296x8x128.size a := fun i k0_t2 v3531 k0_hw41 r => k0_hw41.2.2.2.2 r

def k0_off132 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1703 : BitVec 32 := 38#32
  let v3599 : BitVec 32 := Scalar.muli arg13 c38_i32_1703
  let c9_i32 : BitVec 32 := 9#32
  let v3600 : BitVec 32 := Scalar.addi v3599 c9_i32
  let v3601 : Index := Scalar.indexCast v3600
  ![v3601.toNat]
def k0_off133 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1703 : BitVec 32 := 38#32
  let v3599 : BitVec 32 := Scalar.muli arg13 c38_i32_1703
  let c9_i32 : BitVec 32 := 9#32
  let v3600 : BitVec 32 := Scalar.addi v3599 c9_i32
  let c4_i32_1712 : BitVec 32 := 4#32
  let v3614 : BitVec 32 := Scalar.muli v3600 c4_i32_1712
  let c0_i32_1713 : BitVec 32 := 0#32
  let v3615 : BitVec 32 := Scalar.addi v3614 c0_i32_1713
  let v3616 : Index := Scalar.indexCast v3615
  ![v3616.toNat]
def k0_off134 (i : grid0.Coords) (k0_t2 : Fin k0_t2_loop.trips) (v3602 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1705 : BitVec 32 := 2#32
  let v3605 : BitVec 32 := Scalar.muli v2959 c2_i32_1705
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3603 : BitVec 32 := Scalar.shrui v3602 v2958
  let c1_i32_1704 : BitVec 32 := 1#32
  let v3604 : BitVec 32 := Scalar.andi v3603 c1_i32_1704
  let v3606 : BitVec 32 := Scalar.addi v3605 v3604
  let c1216_i32_1706 : BitVec 32 := 1216#32
  let v3607 : BitVec 32 := Scalar.muli v3606 c1216_i32_1706
  let c0_i32_1 : BitVec 32 := 0#32
  let c1_i32 : BitVec 32 := 1#32
  let arg13 : BitVec 32 := Scf.iv c0_i32_1 c1_i32 k0_t2
  let c38_i32_1703 : BitVec 32 := 38#32
  let v3599 : BitVec 32 := Scalar.muli arg13 c38_i32_1703
  let c9_i32 : BitVec 32 := 9#32
  let v3600 : BitVec 32 := Scalar.addi v3599 c9_i32
  let c4_i32_1707 : BitVec 32 := 4#32
  let v3608 : BitVec 32 := Scalar.muli v3600 c4_i32_1707
  let v3609 : BitVec 32 := Scalar.addi v3607 v3608
  let c0_i32_1708 : BitVec 32 := 0#32
  let v3610 : BitVec 32 := Scalar.addi v3609 c0_i32_1708
  let v3618 : Index := Scalar.indexCast v3610
  let c0_1714 : Index := 0#32
  let c0_1715 : Index := 0#32
  ![v3618.toNat, 0, 0]

def k0_off135 (v3617 : BitVec 32) : Fin 2 → Nat :=
  let v3621 : Index := Scalar.indexCast v3617
  let c0_1716 : Index := 0#32
  ![v3621.toNat, 0]

def k0_chk47 (v3617 : BitVec 32) : Prop :=
  (∀ a, (k0_off135 v3617) a + S8x128.size a ≤ S18432x128.size a)
theorem k0_off135_inb : ∀ (v3617 : BitVec 32) (k0_hw47 : k0_chk47 v3617), ∀ a, (k0_off135 v3617) a + S8x128.size a ≤ S18432x128.size a := fun v3617 k0_hw47 => k0_hw47

def k0_off136 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1703 : BitVec 32 := 38#32
  let v3599 : BitVec 32 := Scalar.muli arg13 c38_i32_1703
  let c9_i32 : BitVec 32 := 9#32
  let v3600 : BitVec 32 := Scalar.addi v3599 c9_i32
  let c4_i32_1717 : BitVec 32 := 4#32
  let v3624 : BitVec 32 := Scalar.muli v3600 c4_i32_1717
  let c1_i32_1718 : BitVec 32 := 1#32
  let v3625 : BitVec 32 := Scalar.addi v3624 c1_i32_1718
  let v3626 : Index := Scalar.indexCast v3625
  ![v3626.toNat]
def k0_off137 (i : grid0.Coords) (k0_t2 : Fin k0_t2_loop.trips) (v3602 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1705 : BitVec 32 := 2#32
  let v3605 : BitVec 32 := Scalar.muli v2959 c2_i32_1705
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3603 : BitVec 32 := Scalar.shrui v3602 v2958
  let c1_i32_1704 : BitVec 32 := 1#32
  let v3604 : BitVec 32 := Scalar.andi v3603 c1_i32_1704
  let v3606 : BitVec 32 := Scalar.addi v3605 v3604
  let c1216_i32_1706 : BitVec 32 := 1216#32
  let v3607 : BitVec 32 := Scalar.muli v3606 c1216_i32_1706
  let c0_i32_1 : BitVec 32 := 0#32
  let c1_i32 : BitVec 32 := 1#32
  let arg13 : BitVec 32 := Scf.iv c0_i32_1 c1_i32 k0_t2
  let c38_i32_1703 : BitVec 32 := 38#32
  let v3599 : BitVec 32 := Scalar.muli arg13 c38_i32_1703
  let c9_i32 : BitVec 32 := 9#32
  let v3600 : BitVec 32 := Scalar.addi v3599 c9_i32
  let c4_i32_1707 : BitVec 32 := 4#32
  let v3608 : BitVec 32 := Scalar.muli v3600 c4_i32_1707
  let v3609 : BitVec 32 := Scalar.addi v3607 v3608
  let c1_i32_1709 : BitVec 32 := 1#32
  let v3611 : BitVec 32 := Scalar.addi v3609 c1_i32_1709
  let v3628 : Index := Scalar.indexCast v3611
  let c0_1719 : Index := 0#32
  let c0_1720 : Index := 0#32
  ![v3628.toNat, 0, 0]
def k0_off138 (v3627 : BitVec 32) : Fin 2 → Nat :=
  let v3631 : Index := Scalar.indexCast v3627
  let c0_1721 : Index := 0#32
  ![v3631.toNat, 0]

def k0_chk48 (v3627 : BitVec 32) : Prop :=
  (∀ a, (k0_off138 v3627) a + S8x128.size a ≤ S18432x128.size a)
theorem k0_off138_inb : ∀ (v3627 : BitVec 32) (k0_hw48 : k0_chk48 v3627), ∀ a, (k0_off138 v3627) a + S8x128.size a ≤ S18432x128.size a := fun v3627 k0_hw48 => k0_hw48

def k0_off139 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1703 : BitVec 32 := 38#32
  let v3599 : BitVec 32 := Scalar.muli arg13 c38_i32_1703
  let c9_i32 : BitVec 32 := 9#32
  let v3600 : BitVec 32 := Scalar.addi v3599 c9_i32
  let c4_i32_1722 : BitVec 32 := 4#32
  let v3634 : BitVec 32 := Scalar.muli v3600 c4_i32_1722
  let c2_i32_1723 : BitVec 32 := 2#32
  let v3635 : BitVec 32 := Scalar.addi v3634 c2_i32_1723
  let v3636 : Index := Scalar.indexCast v3635
  ![v3636.toNat]
def k0_off140 (i : grid0.Coords) (k0_t2 : Fin k0_t2_loop.trips) (v3602 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1705 : BitVec 32 := 2#32
  let v3605 : BitVec 32 := Scalar.muli v2959 c2_i32_1705
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3603 : BitVec 32 := Scalar.shrui v3602 v2958
  let c1_i32_1704 : BitVec 32 := 1#32
  let v3604 : BitVec 32 := Scalar.andi v3603 c1_i32_1704
  let v3606 : BitVec 32 := Scalar.addi v3605 v3604
  let c1216_i32_1706 : BitVec 32 := 1216#32
  let v3607 : BitVec 32 := Scalar.muli v3606 c1216_i32_1706
  let c0_i32_1 : BitVec 32 := 0#32
  let c1_i32 : BitVec 32 := 1#32
  let arg13 : BitVec 32 := Scf.iv c0_i32_1 c1_i32 k0_t2
  let c38_i32_1703 : BitVec 32 := 38#32
  let v3599 : BitVec 32 := Scalar.muli arg13 c38_i32_1703
  let c9_i32 : BitVec 32 := 9#32
  let v3600 : BitVec 32 := Scalar.addi v3599 c9_i32
  let c4_i32_1707 : BitVec 32 := 4#32
  let v3608 : BitVec 32 := Scalar.muli v3600 c4_i32_1707
  let v3609 : BitVec 32 := Scalar.addi v3607 v3608
  let c2_i32_1710 : BitVec 32 := 2#32
  let v3612 : BitVec 32 := Scalar.addi v3609 c2_i32_1710
  let v3638 : Index := Scalar.indexCast v3612
  let c0_1724 : Index := 0#32
  let c0_1725 : Index := 0#32
  ![v3638.toNat, 0, 0]
def k0_off141 (v3637 : BitVec 32) : Fin 2 → Nat :=
  let v3641 : Index := Scalar.indexCast v3637
  let c0_1726 : Index := 0#32
  ![v3641.toNat, 0]

def k0_chk49 (v3637 : BitVec 32) : Prop :=
  (∀ a, (k0_off141 v3637) a + S8x128.size a ≤ S18432x128.size a)
theorem k0_off141_inb : ∀ (v3637 : BitVec 32) (k0_hw49 : k0_chk49 v3637), ∀ a, (k0_off141 v3637) a + S8x128.size a ≤ S18432x128.size a := fun v3637 k0_hw49 => k0_hw49

def k0_off142 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1703 : BitVec 32 := 38#32
  let v3599 : BitVec 32 := Scalar.muli arg13 c38_i32_1703
  let c9_i32 : BitVec 32 := 9#32
  let v3600 : BitVec 32 := Scalar.addi v3599 c9_i32
  let c4_i32_1727 : BitVec 32 := 4#32
  let v3644 : BitVec 32 := Scalar.muli v3600 c4_i32_1727
  let c3_i32_1728 : BitVec 32 := 3#32
  let v3645 : BitVec 32 := Scalar.addi v3644 c3_i32_1728
  let v3646 : Index := Scalar.indexCast v3645
  ![v3646.toNat]
def k0_off143 (i : grid0.Coords) (k0_t2 : Fin k0_t2_loop.trips) (v3602 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1705 : BitVec 32 := 2#32
  let v3605 : BitVec 32 := Scalar.muli v2959 c2_i32_1705
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3603 : BitVec 32 := Scalar.shrui v3602 v2958
  let c1_i32_1704 : BitVec 32 := 1#32
  let v3604 : BitVec 32 := Scalar.andi v3603 c1_i32_1704
  let v3606 : BitVec 32 := Scalar.addi v3605 v3604
  let c1216_i32_1706 : BitVec 32 := 1216#32
  let v3607 : BitVec 32 := Scalar.muli v3606 c1216_i32_1706
  let c0_i32_1 : BitVec 32 := 0#32
  let c1_i32 : BitVec 32 := 1#32
  let arg13 : BitVec 32 := Scf.iv c0_i32_1 c1_i32 k0_t2
  let c38_i32_1703 : BitVec 32 := 38#32
  let v3599 : BitVec 32 := Scalar.muli arg13 c38_i32_1703
  let c9_i32 : BitVec 32 := 9#32
  let v3600 : BitVec 32 := Scalar.addi v3599 c9_i32
  let c4_i32_1707 : BitVec 32 := 4#32
  let v3608 : BitVec 32 := Scalar.muli v3600 c4_i32_1707
  let v3609 : BitVec 32 := Scalar.addi v3607 v3608
  let c3_i32_1711 : BitVec 32 := 3#32
  let v3613 : BitVec 32 := Scalar.addi v3609 c3_i32_1711
  let v3648 : Index := Scalar.indexCast v3613
  let c0_1729 : Index := 0#32
  let c0_1730 : Index := 0#32
  ![v3648.toNat, 0, 0]
def k0_off144 (v3647 : BitVec 32) : Fin 2 → Nat :=
  let v3651 : Index := Scalar.indexCast v3647
  let c0_1731 : Index := 0#32
  ![v3651.toNat, 0]

def k0_chk50 (v3647 : BitVec 32) : Prop :=
  (∀ a, (k0_off144 v3647) a + S8x128.size a ≤ S18432x128.size a)
theorem k0_off144_inb : ∀ (v3647 : BitVec 32) (k0_hw50 : k0_chk50 v3647), ∀ a, (k0_off144 v3647) a + S8x128.size a ≤ S18432x128.size a := fun v3647 k0_hw50 => k0_hw50

def k0_off145 (i : grid0.Coords) (k0_t2 : Fin k0_t2_loop.trips) (v3602 : BitVec 32) (c0_i32_1708 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1705 : BitVec 32 := 2#32
  let v3605 : BitVec 32 := Scalar.muli v2959 c2_i32_1705
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3603 : BitVec 32 := Scalar.shrui v3602 v2958
  let c1_i32_1704 : BitVec 32 := 1#32
  let v3604 : BitVec 32 := Scalar.andi v3603 c1_i32_1704
  let v3606 : BitVec 32 := Scalar.addi v3605 v3604
  let c1216_i32_1706 : BitVec 32 := 1216#32
  let v3607 : BitVec 32 := Scalar.muli v3606 c1216_i32_1706
  let c0_i32_1 : BitVec 32 := 0#32
  let c1_i32 : BitVec 32 := 1#32
  let arg13 : BitVec 32 := Scf.iv c0_i32_1 c1_i32 k0_t2
  let c38_i32_1703 : BitVec 32 := 38#32
  let v3599 : BitVec 32 := Scalar.muli arg13 c38_i32_1703
  let c9_i32 : BitVec 32 := 9#32
  let v3600 : BitVec 32 := Scalar.addi v3599 c9_i32
  let c4_i32_1707 : BitVec 32 := 4#32
  let v3608 : BitVec 32 := Scalar.muli v3600 c4_i32_1707
  let v3609 : BitVec 32 := Scalar.addi v3607 v3608
  let v3610 : BitVec 32 := Scalar.addi v3609 c0_i32_1708
  let v3654 : Index := Scalar.indexCast v3610
  let c0_1732 : Index := 0#32
  let c0_1733 : Index := 0#32
  ![v3654.toNat, 0, 0]

def k0_chk46 (i : grid0.Coords) (k0_t2 : Fin k0_t2_loop.trips) (v3602 : BitVec 32) : Prop :=
  (∀ a, (k0_off134 i k0_t2 v3602) a + S1x8x128.size a ≤ S7296x8x128.size a) ∧
  (∀ a, (k0_off137 i k0_t2 v3602) a + S1x8x128.size a ≤ S7296x8x128.size a) ∧
  (∀ a, (k0_off140 i k0_t2 v3602) a + S1x8x128.size a ≤ S7296x8x128.size a) ∧
  (∀ a, (k0_off143 i k0_t2 v3602) a + S1x8x128.size a ≤ S7296x8x128.size a) ∧
  (∀ (r : Fin 4), ∀ a, (k0_off145 i k0_t2 v3602 (BitVec.ofNat 32 r.val)) a + S1x8x128.size a ≤ S7296x8x128.size a)
theorem k0_off134_inb : ∀ (i : grid0.Coords) (k0_t2 : Fin k0_t2_loop.trips) (v3602 : BitVec 32) (k0_hw46 : k0_chk46 i k0_t2 v3602), ∀ a, (k0_off134 i k0_t2 v3602) a + S1x8x128.size a ≤ S7296x8x128.size a := fun i k0_t2 v3602 k0_hw46 => k0_hw46.1
theorem k0_off137_inb : ∀ (i : grid0.Coords) (k0_t2 : Fin k0_t2_loop.trips) (v3602 : BitVec 32) (k0_hw46 : k0_chk46 i k0_t2 v3602), ∀ a, (k0_off137 i k0_t2 v3602) a + S1x8x128.size a ≤ S7296x8x128.size a := fun i k0_t2 v3602 k0_hw46 => k0_hw46.2.1
theorem k0_off140_inb : ∀ (i : grid0.Coords) (k0_t2 : Fin k0_t2_loop.trips) (v3602 : BitVec 32) (k0_hw46 : k0_chk46 i k0_t2 v3602), ∀ a, (k0_off140 i k0_t2 v3602) a + S1x8x128.size a ≤ S7296x8x128.size a := fun i k0_t2 v3602 k0_hw46 => k0_hw46.2.2.1
theorem k0_off143_inb : ∀ (i : grid0.Coords) (k0_t2 : Fin k0_t2_loop.trips) (v3602 : BitVec 32) (k0_hw46 : k0_chk46 i k0_t2 v3602), ∀ a, (k0_off143 i k0_t2 v3602) a + S1x8x128.size a ≤ S7296x8x128.size a := fun i k0_t2 v3602 k0_hw46 => k0_hw46.2.2.2.1
theorem k0_off145_inb : ∀ (i : grid0.Coords) (k0_t2 : Fin k0_t2_loop.trips) (v3602 : BitVec 32) (k0_hw46 : k0_chk46 i k0_t2 v3602), ∀ (r : Fin 4), ∀ a, (k0_off145 i k0_t2 v3602 (BitVec.ofNat 32 r.val)) a + S1x8x128.size a ≤ S7296x8x128.size a := fun i k0_t2 v3602 k0_hw46 r => k0_hw46.2.2.2.2 r

def k0_off146 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1740 : BitVec 32 := 38#32
  let v3670 : BitVec 32 := Scalar.muli arg13 c38_i32_1740
  let c10_i32 : BitVec 32 := 10#32
  let v3671 : BitVec 32 := Scalar.addi v3670 c10_i32
  let v3672 : Index := Scalar.indexCast v3671
  ![v3672.toNat]
def k0_off147 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1740 : BitVec 32 := 38#32
  let v3670 : BitVec 32 := Scalar.muli arg13 c38_i32_1740
  let c10_i32 : BitVec 32 := 10#32
  let v3671 : BitVec 32 := Scalar.addi v3670 c10_i32
  let c4_i32_1749 : BitVec 32 := 4#32
  let v3685 : BitVec 32 := Scalar.muli v3671 c4_i32_1749
  let c0_i32_1750 : BitVec 32 := 0#32
  let v3686 : BitVec 32 := Scalar.addi v3685 c0_i32_1750
  let v3687 : Index := Scalar.indexCast v3686
  ![v3687.toNat]
def k0_off148 (i : grid0.Coords) (k0_t2 : Fin k0_t2_loop.trips) (v3673 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1742 : BitVec 32 := 2#32
  let v3676 : BitVec 32 := Scalar.muli v2959 c2_i32_1742
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3674 : BitVec 32 := Scalar.shrui v3673 v2958
  let c1_i32_1741 : BitVec 32 := 1#32
  let v3675 : BitVec 32 := Scalar.andi v3674 c1_i32_1741
  let v3677 : BitVec 32 := Scalar.addi v3676 v3675
  let c1216_i32_1743 : BitVec 32 := 1216#32
  let v3678 : BitVec 32 := Scalar.muli v3677 c1216_i32_1743
  let c0_i32_1 : BitVec 32 := 0#32
  let c1_i32 : BitVec 32 := 1#32
  let arg13 : BitVec 32 := Scf.iv c0_i32_1 c1_i32 k0_t2
  let c38_i32_1740 : BitVec 32 := 38#32
  let v3670 : BitVec 32 := Scalar.muli arg13 c38_i32_1740
  let c10_i32 : BitVec 32 := 10#32
  let v3671 : BitVec 32 := Scalar.addi v3670 c10_i32
  let c4_i32_1744 : BitVec 32 := 4#32
  let v3679 : BitVec 32 := Scalar.muli v3671 c4_i32_1744
  let v3680 : BitVec 32 := Scalar.addi v3678 v3679
  let c0_i32_1745 : BitVec 32 := 0#32
  let v3681 : BitVec 32 := Scalar.addi v3680 c0_i32_1745
  let v3689 : Index := Scalar.indexCast v3681
  let c0_1751 : Index := 0#32
  let c0_1752 : Index := 0#32
  ![v3689.toNat, 0, 0]

def k0_off149 (v3688 : BitVec 32) : Fin 2 → Nat :=
  let v3692 : Index := Scalar.indexCast v3688
  let c0_1753 : Index := 0#32
  ![v3692.toNat, 0]

def k0_chk52 (v3688 : BitVec 32) : Prop :=
  (∀ a, (k0_off149 v3688) a + S8x128.size a ≤ S18432x128.size a)
theorem k0_off149_inb : ∀ (v3688 : BitVec 32) (k0_hw52 : k0_chk52 v3688), ∀ a, (k0_off149 v3688) a + S8x128.size a ≤ S18432x128.size a := fun v3688 k0_hw52 => k0_hw52

def k0_off150 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1740 : BitVec 32 := 38#32
  let v3670 : BitVec 32 := Scalar.muli arg13 c38_i32_1740
  let c10_i32 : BitVec 32 := 10#32
  let v3671 : BitVec 32 := Scalar.addi v3670 c10_i32
  let c4_i32_1754 : BitVec 32 := 4#32
  let v3695 : BitVec 32 := Scalar.muli v3671 c4_i32_1754
  let c1_i32_1755 : BitVec 32 := 1#32
  let v3696 : BitVec 32 := Scalar.addi v3695 c1_i32_1755
  let v3697 : Index := Scalar.indexCast v3696
  ![v3697.toNat]
def k0_off151 (i : grid0.Coords) (k0_t2 : Fin k0_t2_loop.trips) (v3673 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1742 : BitVec 32 := 2#32
  let v3676 : BitVec 32 := Scalar.muli v2959 c2_i32_1742
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3674 : BitVec 32 := Scalar.shrui v3673 v2958
  let c1_i32_1741 : BitVec 32 := 1#32
  let v3675 : BitVec 32 := Scalar.andi v3674 c1_i32_1741
  let v3677 : BitVec 32 := Scalar.addi v3676 v3675
  let c1216_i32_1743 : BitVec 32 := 1216#32
  let v3678 : BitVec 32 := Scalar.muli v3677 c1216_i32_1743
  let c0_i32_1 : BitVec 32 := 0#32
  let c1_i32 : BitVec 32 := 1#32
  let arg13 : BitVec 32 := Scf.iv c0_i32_1 c1_i32 k0_t2
  let c38_i32_1740 : BitVec 32 := 38#32
  let v3670 : BitVec 32 := Scalar.muli arg13 c38_i32_1740
  let c10_i32 : BitVec 32 := 10#32
  let v3671 : BitVec 32 := Scalar.addi v3670 c10_i32
  let c4_i32_1744 : BitVec 32 := 4#32
  let v3679 : BitVec 32 := Scalar.muli v3671 c4_i32_1744
  let v3680 : BitVec 32 := Scalar.addi v3678 v3679
  let c1_i32_1746 : BitVec 32 := 1#32
  let v3682 : BitVec 32 := Scalar.addi v3680 c1_i32_1746
  let v3699 : Index := Scalar.indexCast v3682
  let c0_1756 : Index := 0#32
  let c0_1757 : Index := 0#32
  ![v3699.toNat, 0, 0]
def k0_off152 (v3698 : BitVec 32) : Fin 2 → Nat :=
  let v3702 : Index := Scalar.indexCast v3698
  let c0_1758 : Index := 0#32
  ![v3702.toNat, 0]

def k0_chk53 (v3698 : BitVec 32) : Prop :=
  (∀ a, (k0_off152 v3698) a + S8x128.size a ≤ S18432x128.size a)
theorem k0_off152_inb : ∀ (v3698 : BitVec 32) (k0_hw53 : k0_chk53 v3698), ∀ a, (k0_off152 v3698) a + S8x128.size a ≤ S18432x128.size a := fun v3698 k0_hw53 => k0_hw53

def k0_off153 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1740 : BitVec 32 := 38#32
  let v3670 : BitVec 32 := Scalar.muli arg13 c38_i32_1740
  let c10_i32 : BitVec 32 := 10#32
  let v3671 : BitVec 32 := Scalar.addi v3670 c10_i32
  let c4_i32_1759 : BitVec 32 := 4#32
  let v3705 : BitVec 32 := Scalar.muli v3671 c4_i32_1759
  let c2_i32_1760 : BitVec 32 := 2#32
  let v3706 : BitVec 32 := Scalar.addi v3705 c2_i32_1760
  let v3707 : Index := Scalar.indexCast v3706
  ![v3707.toNat]
def k0_off154 (i : grid0.Coords) (k0_t2 : Fin k0_t2_loop.trips) (v3673 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1742 : BitVec 32 := 2#32
  let v3676 : BitVec 32 := Scalar.muli v2959 c2_i32_1742
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3674 : BitVec 32 := Scalar.shrui v3673 v2958
  let c1_i32_1741 : BitVec 32 := 1#32
  let v3675 : BitVec 32 := Scalar.andi v3674 c1_i32_1741
  let v3677 : BitVec 32 := Scalar.addi v3676 v3675
  let c1216_i32_1743 : BitVec 32 := 1216#32
  let v3678 : BitVec 32 := Scalar.muli v3677 c1216_i32_1743
  let c0_i32_1 : BitVec 32 := 0#32
  let c1_i32 : BitVec 32 := 1#32
  let arg13 : BitVec 32 := Scf.iv c0_i32_1 c1_i32 k0_t2
  let c38_i32_1740 : BitVec 32 := 38#32
  let v3670 : BitVec 32 := Scalar.muli arg13 c38_i32_1740
  let c10_i32 : BitVec 32 := 10#32
  let v3671 : BitVec 32 := Scalar.addi v3670 c10_i32
  let c4_i32_1744 : BitVec 32 := 4#32
  let v3679 : BitVec 32 := Scalar.muli v3671 c4_i32_1744
  let v3680 : BitVec 32 := Scalar.addi v3678 v3679
  let c2_i32_1747 : BitVec 32 := 2#32
  let v3683 : BitVec 32 := Scalar.addi v3680 c2_i32_1747
  let v3709 : Index := Scalar.indexCast v3683
  let c0_1761 : Index := 0#32
  let c0_1762 : Index := 0#32
  ![v3709.toNat, 0, 0]
def k0_off155 (v3708 : BitVec 32) : Fin 2 → Nat :=
  let v3712 : Index := Scalar.indexCast v3708
  let c0_1763 : Index := 0#32
  ![v3712.toNat, 0]

def k0_chk54 (v3708 : BitVec 32) : Prop :=
  (∀ a, (k0_off155 v3708) a + S8x128.size a ≤ S18432x128.size a)
theorem k0_off155_inb : ∀ (v3708 : BitVec 32) (k0_hw54 : k0_chk54 v3708), ∀ a, (k0_off155 v3708) a + S8x128.size a ≤ S18432x128.size a := fun v3708 k0_hw54 => k0_hw54

def k0_off156 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1740 : BitVec 32 := 38#32
  let v3670 : BitVec 32 := Scalar.muli arg13 c38_i32_1740
  let c10_i32 : BitVec 32 := 10#32
  let v3671 : BitVec 32 := Scalar.addi v3670 c10_i32
  let c4_i32_1764 : BitVec 32 := 4#32
  let v3715 : BitVec 32 := Scalar.muli v3671 c4_i32_1764
  let c3_i32_1765 : BitVec 32 := 3#32
  let v3716 : BitVec 32 := Scalar.addi v3715 c3_i32_1765
  let v3717 : Index := Scalar.indexCast v3716
  ![v3717.toNat]
def k0_off157 (i : grid0.Coords) (k0_t2 : Fin k0_t2_loop.trips) (v3673 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1742 : BitVec 32 := 2#32
  let v3676 : BitVec 32 := Scalar.muli v2959 c2_i32_1742
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3674 : BitVec 32 := Scalar.shrui v3673 v2958
  let c1_i32_1741 : BitVec 32 := 1#32
  let v3675 : BitVec 32 := Scalar.andi v3674 c1_i32_1741
  let v3677 : BitVec 32 := Scalar.addi v3676 v3675
  let c1216_i32_1743 : BitVec 32 := 1216#32
  let v3678 : BitVec 32 := Scalar.muli v3677 c1216_i32_1743
  let c0_i32_1 : BitVec 32 := 0#32
  let c1_i32 : BitVec 32 := 1#32
  let arg13 : BitVec 32 := Scf.iv c0_i32_1 c1_i32 k0_t2
  let c38_i32_1740 : BitVec 32 := 38#32
  let v3670 : BitVec 32 := Scalar.muli arg13 c38_i32_1740
  let c10_i32 : BitVec 32 := 10#32
  let v3671 : BitVec 32 := Scalar.addi v3670 c10_i32
  let c4_i32_1744 : BitVec 32 := 4#32
  let v3679 : BitVec 32 := Scalar.muli v3671 c4_i32_1744
  let v3680 : BitVec 32 := Scalar.addi v3678 v3679
  let c3_i32_1748 : BitVec 32 := 3#32
  let v3684 : BitVec 32 := Scalar.addi v3680 c3_i32_1748
  let v3719 : Index := Scalar.indexCast v3684
  let c0_1766 : Index := 0#32
  let c0_1767 : Index := 0#32
  ![v3719.toNat, 0, 0]
def k0_off158 (v3718 : BitVec 32) : Fin 2 → Nat :=
  let v3722 : Index := Scalar.indexCast v3718
  let c0_1768 : Index := 0#32
  ![v3722.toNat, 0]

def k0_chk55 (v3718 : BitVec 32) : Prop :=
  (∀ a, (k0_off158 v3718) a + S8x128.size a ≤ S18432x128.size a)
theorem k0_off158_inb : ∀ (v3718 : BitVec 32) (k0_hw55 : k0_chk55 v3718), ∀ a, (k0_off158 v3718) a + S8x128.size a ≤ S18432x128.size a := fun v3718 k0_hw55 => k0_hw55

def k0_off159 (i : grid0.Coords) (k0_t2 : Fin k0_t2_loop.trips) (v3673 : BitVec 32) (c0_i32_1745 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1742 : BitVec 32 := 2#32
  let v3676 : BitVec 32 := Scalar.muli v2959 c2_i32_1742
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3674 : BitVec 32 := Scalar.shrui v3673 v2958
  let c1_i32_1741 : BitVec 32 := 1#32
  let v3675 : BitVec 32 := Scalar.andi v3674 c1_i32_1741
  let v3677 : BitVec 32 := Scalar.addi v3676 v3675
  let c1216_i32_1743 : BitVec 32 := 1216#32
  let v3678 : BitVec 32 := Scalar.muli v3677 c1216_i32_1743
  let c0_i32_1 : BitVec 32 := 0#32
  let c1_i32 : BitVec 32 := 1#32
  let arg13 : BitVec 32 := Scf.iv c0_i32_1 c1_i32 k0_t2
  let c38_i32_1740 : BitVec 32 := 38#32
  let v3670 : BitVec 32 := Scalar.muli arg13 c38_i32_1740
  let c10_i32 : BitVec 32 := 10#32
  let v3671 : BitVec 32 := Scalar.addi v3670 c10_i32
  let c4_i32_1744 : BitVec 32 := 4#32
  let v3679 : BitVec 32 := Scalar.muli v3671 c4_i32_1744
  let v3680 : BitVec 32 := Scalar.addi v3678 v3679
  let v3681 : BitVec 32 := Scalar.addi v3680 c0_i32_1745
  let v3725 : Index := Scalar.indexCast v3681
  let c0_1769 : Index := 0#32
  let c0_1770 : Index := 0#32
  ![v3725.toNat, 0, 0]

def k0_chk51 (i : grid0.Coords) (k0_t2 : Fin k0_t2_loop.trips) (v3673 : BitVec 32) : Prop :=
  (∀ a, (k0_off148 i k0_t2 v3673) a + S1x8x128.size a ≤ S7296x8x128.size a) ∧
  (∀ a, (k0_off151 i k0_t2 v3673) a + S1x8x128.size a ≤ S7296x8x128.size a) ∧
  (∀ a, (k0_off154 i k0_t2 v3673) a + S1x8x128.size a ≤ S7296x8x128.size a) ∧
  (∀ a, (k0_off157 i k0_t2 v3673) a + S1x8x128.size a ≤ S7296x8x128.size a) ∧
  (∀ (r : Fin 4), ∀ a, (k0_off159 i k0_t2 v3673 (BitVec.ofNat 32 r.val)) a + S1x8x128.size a ≤ S7296x8x128.size a)
theorem k0_off148_inb : ∀ (i : grid0.Coords) (k0_t2 : Fin k0_t2_loop.trips) (v3673 : BitVec 32) (k0_hw51 : k0_chk51 i k0_t2 v3673), ∀ a, (k0_off148 i k0_t2 v3673) a + S1x8x128.size a ≤ S7296x8x128.size a := fun i k0_t2 v3673 k0_hw51 => k0_hw51.1
theorem k0_off151_inb : ∀ (i : grid0.Coords) (k0_t2 : Fin k0_t2_loop.trips) (v3673 : BitVec 32) (k0_hw51 : k0_chk51 i k0_t2 v3673), ∀ a, (k0_off151 i k0_t2 v3673) a + S1x8x128.size a ≤ S7296x8x128.size a := fun i k0_t2 v3673 k0_hw51 => k0_hw51.2.1
theorem k0_off154_inb : ∀ (i : grid0.Coords) (k0_t2 : Fin k0_t2_loop.trips) (v3673 : BitVec 32) (k0_hw51 : k0_chk51 i k0_t2 v3673), ∀ a, (k0_off154 i k0_t2 v3673) a + S1x8x128.size a ≤ S7296x8x128.size a := fun i k0_t2 v3673 k0_hw51 => k0_hw51.2.2.1
theorem k0_off157_inb : ∀ (i : grid0.Coords) (k0_t2 : Fin k0_t2_loop.trips) (v3673 : BitVec 32) (k0_hw51 : k0_chk51 i k0_t2 v3673), ∀ a, (k0_off157 i k0_t2 v3673) a + S1x8x128.size a ≤ S7296x8x128.size a := fun i k0_t2 v3673 k0_hw51 => k0_hw51.2.2.2.1
theorem k0_off159_inb : ∀ (i : grid0.Coords) (k0_t2 : Fin k0_t2_loop.trips) (v3673 : BitVec 32) (k0_hw51 : k0_chk51 i k0_t2 v3673), ∀ (r : Fin 4), ∀ a, (k0_off159 i k0_t2 v3673 (BitVec.ofNat 32 r.val)) a + S1x8x128.size a ≤ S7296x8x128.size a := fun i k0_t2 v3673 k0_hw51 r => k0_hw51.2.2.2.2 r

def k0_off160 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1777 : BitVec 32 := 38#32
  let v3741 : BitVec 32 := Scalar.muli arg13 c38_i32_1777
  let c11_i32 : BitVec 32 := 11#32
  let v3742 : BitVec 32 := Scalar.addi v3741 c11_i32
  let v3743 : Index := Scalar.indexCast v3742
  ![v3743.toNat]
def k0_off161 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1777 : BitVec 32 := 38#32
  let v3741 : BitVec 32 := Scalar.muli arg13 c38_i32_1777
  let c11_i32 : BitVec 32 := 11#32
  let v3742 : BitVec 32 := Scalar.addi v3741 c11_i32
  let c4_i32_1786 : BitVec 32 := 4#32
  let v3756 : BitVec 32 := Scalar.muli v3742 c4_i32_1786
  let c0_i32_1787 : BitVec 32 := 0#32
  let v3757 : BitVec 32 := Scalar.addi v3756 c0_i32_1787
  let v3758 : Index := Scalar.indexCast v3757
  ![v3758.toNat]
def k0_off162 (i : grid0.Coords) (k0_t2 : Fin k0_t2_loop.trips) (v3744 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1779 : BitVec 32 := 2#32
  let v3747 : BitVec 32 := Scalar.muli v2959 c2_i32_1779
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3745 : BitVec 32 := Scalar.shrui v3744 v2958
  let c1_i32_1778 : BitVec 32 := 1#32
  let v3746 : BitVec 32 := Scalar.andi v3745 c1_i32_1778
  let v3748 : BitVec 32 := Scalar.addi v3747 v3746
  let c1216_i32_1780 : BitVec 32 := 1216#32
  let v3749 : BitVec 32 := Scalar.muli v3748 c1216_i32_1780
  let c0_i32_1 : BitVec 32 := 0#32
  let c1_i32 : BitVec 32 := 1#32
  let arg13 : BitVec 32 := Scf.iv c0_i32_1 c1_i32 k0_t2
  let c38_i32_1777 : BitVec 32 := 38#32
  let v3741 : BitVec 32 := Scalar.muli arg13 c38_i32_1777
  let c11_i32 : BitVec 32 := 11#32
  let v3742 : BitVec 32 := Scalar.addi v3741 c11_i32
  let c4_i32_1781 : BitVec 32 := 4#32
  let v3750 : BitVec 32 := Scalar.muli v3742 c4_i32_1781
  let v3751 : BitVec 32 := Scalar.addi v3749 v3750
  let c0_i32_1782 : BitVec 32 := 0#32
  let v3752 : BitVec 32 := Scalar.addi v3751 c0_i32_1782
  let v3760 : Index := Scalar.indexCast v3752
  let c0_1788 : Index := 0#32
  let c0_1789 : Index := 0#32
  ![v3760.toNat, 0, 0]

def k0_off163 (v3759 : BitVec 32) : Fin 2 → Nat :=
  let v3763 : Index := Scalar.indexCast v3759
  let c0_1790 : Index := 0#32
  ![v3763.toNat, 0]

def k0_chk57 (v3759 : BitVec 32) : Prop :=
  (∀ a, (k0_off163 v3759) a + S8x128.size a ≤ S18432x128.size a)
theorem k0_off163_inb : ∀ (v3759 : BitVec 32) (k0_hw57 : k0_chk57 v3759), ∀ a, (k0_off163 v3759) a + S8x128.size a ≤ S18432x128.size a := fun v3759 k0_hw57 => k0_hw57

def k0_off164 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1777 : BitVec 32 := 38#32
  let v3741 : BitVec 32 := Scalar.muli arg13 c38_i32_1777
  let c11_i32 : BitVec 32 := 11#32
  let v3742 : BitVec 32 := Scalar.addi v3741 c11_i32
  let c4_i32_1791 : BitVec 32 := 4#32
  let v3766 : BitVec 32 := Scalar.muli v3742 c4_i32_1791
  let c1_i32_1792 : BitVec 32 := 1#32
  let v3767 : BitVec 32 := Scalar.addi v3766 c1_i32_1792
  let v3768 : Index := Scalar.indexCast v3767
  ![v3768.toNat]
def k0_off165 (i : grid0.Coords) (k0_t2 : Fin k0_t2_loop.trips) (v3744 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1779 : BitVec 32 := 2#32
  let v3747 : BitVec 32 := Scalar.muli v2959 c2_i32_1779
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3745 : BitVec 32 := Scalar.shrui v3744 v2958
  let c1_i32_1778 : BitVec 32 := 1#32
  let v3746 : BitVec 32 := Scalar.andi v3745 c1_i32_1778
  let v3748 : BitVec 32 := Scalar.addi v3747 v3746
  let c1216_i32_1780 : BitVec 32 := 1216#32
  let v3749 : BitVec 32 := Scalar.muli v3748 c1216_i32_1780
  let c0_i32_1 : BitVec 32 := 0#32
  let c1_i32 : BitVec 32 := 1#32
  let arg13 : BitVec 32 := Scf.iv c0_i32_1 c1_i32 k0_t2
  let c38_i32_1777 : BitVec 32 := 38#32
  let v3741 : BitVec 32 := Scalar.muli arg13 c38_i32_1777
  let c11_i32 : BitVec 32 := 11#32
  let v3742 : BitVec 32 := Scalar.addi v3741 c11_i32
  let c4_i32_1781 : BitVec 32 := 4#32
  let v3750 : BitVec 32 := Scalar.muli v3742 c4_i32_1781
  let v3751 : BitVec 32 := Scalar.addi v3749 v3750
  let c1_i32_1783 : BitVec 32 := 1#32
  let v3753 : BitVec 32 := Scalar.addi v3751 c1_i32_1783
  let v3770 : Index := Scalar.indexCast v3753
  let c0_1793 : Index := 0#32
  let c0_1794 : Index := 0#32
  ![v3770.toNat, 0, 0]
def k0_off166 (v3769 : BitVec 32) : Fin 2 → Nat :=
  let v3773 : Index := Scalar.indexCast v3769
  let c0_1795 : Index := 0#32
  ![v3773.toNat, 0]

def k0_chk58 (v3769 : BitVec 32) : Prop :=
  (∀ a, (k0_off166 v3769) a + S8x128.size a ≤ S18432x128.size a)
theorem k0_off166_inb : ∀ (v3769 : BitVec 32) (k0_hw58 : k0_chk58 v3769), ∀ a, (k0_off166 v3769) a + S8x128.size a ≤ S18432x128.size a := fun v3769 k0_hw58 => k0_hw58

def k0_off167 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1777 : BitVec 32 := 38#32
  let v3741 : BitVec 32 := Scalar.muli arg13 c38_i32_1777
  let c11_i32 : BitVec 32 := 11#32
  let v3742 : BitVec 32 := Scalar.addi v3741 c11_i32
  let c4_i32_1796 : BitVec 32 := 4#32
  let v3776 : BitVec 32 := Scalar.muli v3742 c4_i32_1796
  let c2_i32_1797 : BitVec 32 := 2#32
  let v3777 : BitVec 32 := Scalar.addi v3776 c2_i32_1797
  let v3778 : Index := Scalar.indexCast v3777
  ![v3778.toNat]
def k0_off168 (i : grid0.Coords) (k0_t2 : Fin k0_t2_loop.trips) (v3744 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1779 : BitVec 32 := 2#32
  let v3747 : BitVec 32 := Scalar.muli v2959 c2_i32_1779
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3745 : BitVec 32 := Scalar.shrui v3744 v2958
  let c1_i32_1778 : BitVec 32 := 1#32
  let v3746 : BitVec 32 := Scalar.andi v3745 c1_i32_1778
  let v3748 : BitVec 32 := Scalar.addi v3747 v3746
  let c1216_i32_1780 : BitVec 32 := 1216#32
  let v3749 : BitVec 32 := Scalar.muli v3748 c1216_i32_1780
  let c0_i32_1 : BitVec 32 := 0#32
  let c1_i32 : BitVec 32 := 1#32
  let arg13 : BitVec 32 := Scf.iv c0_i32_1 c1_i32 k0_t2
  let c38_i32_1777 : BitVec 32 := 38#32
  let v3741 : BitVec 32 := Scalar.muli arg13 c38_i32_1777
  let c11_i32 : BitVec 32 := 11#32
  let v3742 : BitVec 32 := Scalar.addi v3741 c11_i32
  let c4_i32_1781 : BitVec 32 := 4#32
  let v3750 : BitVec 32 := Scalar.muli v3742 c4_i32_1781
  let v3751 : BitVec 32 := Scalar.addi v3749 v3750
  let c2_i32_1784 : BitVec 32 := 2#32
  let v3754 : BitVec 32 := Scalar.addi v3751 c2_i32_1784
  let v3780 : Index := Scalar.indexCast v3754
  let c0_1798 : Index := 0#32
  let c0_1799 : Index := 0#32
  ![v3780.toNat, 0, 0]
def k0_off169 (v3779 : BitVec 32) : Fin 2 → Nat :=
  let v3783 : Index := Scalar.indexCast v3779
  let c0_1800 : Index := 0#32
  ![v3783.toNat, 0]

def k0_chk59 (v3779 : BitVec 32) : Prop :=
  (∀ a, (k0_off169 v3779) a + S8x128.size a ≤ S18432x128.size a)
theorem k0_off169_inb : ∀ (v3779 : BitVec 32) (k0_hw59 : k0_chk59 v3779), ∀ a, (k0_off169 v3779) a + S8x128.size a ≤ S18432x128.size a := fun v3779 k0_hw59 => k0_hw59

def k0_off170 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1777 : BitVec 32 := 38#32
  let v3741 : BitVec 32 := Scalar.muli arg13 c38_i32_1777
  let c11_i32 : BitVec 32 := 11#32
  let v3742 : BitVec 32 := Scalar.addi v3741 c11_i32
  let c4_i32_1801 : BitVec 32 := 4#32
  let v3786 : BitVec 32 := Scalar.muli v3742 c4_i32_1801
  let c3_i32_1802 : BitVec 32 := 3#32
  let v3787 : BitVec 32 := Scalar.addi v3786 c3_i32_1802
  let v3788 : Index := Scalar.indexCast v3787
  ![v3788.toNat]
def k0_off171 (i : grid0.Coords) (k0_t2 : Fin k0_t2_loop.trips) (v3744 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1779 : BitVec 32 := 2#32
  let v3747 : BitVec 32 := Scalar.muli v2959 c2_i32_1779
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3745 : BitVec 32 := Scalar.shrui v3744 v2958
  let c1_i32_1778 : BitVec 32 := 1#32
  let v3746 : BitVec 32 := Scalar.andi v3745 c1_i32_1778
  let v3748 : BitVec 32 := Scalar.addi v3747 v3746
  let c1216_i32_1780 : BitVec 32 := 1216#32
  let v3749 : BitVec 32 := Scalar.muli v3748 c1216_i32_1780
  let c0_i32_1 : BitVec 32 := 0#32
  let c1_i32 : BitVec 32 := 1#32
  let arg13 : BitVec 32 := Scf.iv c0_i32_1 c1_i32 k0_t2
  let c38_i32_1777 : BitVec 32 := 38#32
  let v3741 : BitVec 32 := Scalar.muli arg13 c38_i32_1777
  let c11_i32 : BitVec 32 := 11#32
  let v3742 : BitVec 32 := Scalar.addi v3741 c11_i32
  let c4_i32_1781 : BitVec 32 := 4#32
  let v3750 : BitVec 32 := Scalar.muli v3742 c4_i32_1781
  let v3751 : BitVec 32 := Scalar.addi v3749 v3750
  let c3_i32_1785 : BitVec 32 := 3#32
  let v3755 : BitVec 32 := Scalar.addi v3751 c3_i32_1785
  let v3790 : Index := Scalar.indexCast v3755
  let c0_1803 : Index := 0#32
  let c0_1804 : Index := 0#32
  ![v3790.toNat, 0, 0]
def k0_off172 (v3789 : BitVec 32) : Fin 2 → Nat :=
  let v3793 : Index := Scalar.indexCast v3789
  let c0_1805 : Index := 0#32
  ![v3793.toNat, 0]

def k0_chk60 (v3789 : BitVec 32) : Prop :=
  (∀ a, (k0_off172 v3789) a + S8x128.size a ≤ S18432x128.size a)
theorem k0_off172_inb : ∀ (v3789 : BitVec 32) (k0_hw60 : k0_chk60 v3789), ∀ a, (k0_off172 v3789) a + S8x128.size a ≤ S18432x128.size a := fun v3789 k0_hw60 => k0_hw60

def k0_off173 (i : grid0.Coords) (k0_t2 : Fin k0_t2_loop.trips) (v3744 : BitVec 32) (c0_i32_1782 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1779 : BitVec 32 := 2#32
  let v3747 : BitVec 32 := Scalar.muli v2959 c2_i32_1779
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3745 : BitVec 32 := Scalar.shrui v3744 v2958
  let c1_i32_1778 : BitVec 32 := 1#32
  let v3746 : BitVec 32 := Scalar.andi v3745 c1_i32_1778
  let v3748 : BitVec 32 := Scalar.addi v3747 v3746
  let c1216_i32_1780 : BitVec 32 := 1216#32
  let v3749 : BitVec 32 := Scalar.muli v3748 c1216_i32_1780
  let c0_i32_1 : BitVec 32 := 0#32
  let c1_i32 : BitVec 32 := 1#32
  let arg13 : BitVec 32 := Scf.iv c0_i32_1 c1_i32 k0_t2
  let c38_i32_1777 : BitVec 32 := 38#32
  let v3741 : BitVec 32 := Scalar.muli arg13 c38_i32_1777
  let c11_i32 : BitVec 32 := 11#32
  let v3742 : BitVec 32 := Scalar.addi v3741 c11_i32
  let c4_i32_1781 : BitVec 32 := 4#32
  let v3750 : BitVec 32 := Scalar.muli v3742 c4_i32_1781
  let v3751 : BitVec 32 := Scalar.addi v3749 v3750
  let v3752 : BitVec 32 := Scalar.addi v3751 c0_i32_1782
  let v3796 : Index := Scalar.indexCast v3752
  let c0_1806 : Index := 0#32
  let c0_1807 : Index := 0#32
  ![v3796.toNat, 0, 0]

def k0_chk56 (i : grid0.Coords) (k0_t2 : Fin k0_t2_loop.trips) (v3744 : BitVec 32) : Prop :=
  (∀ a, (k0_off162 i k0_t2 v3744) a + S1x8x128.size a ≤ S7296x8x128.size a) ∧
  (∀ a, (k0_off165 i k0_t2 v3744) a + S1x8x128.size a ≤ S7296x8x128.size a) ∧
  (∀ a, (k0_off168 i k0_t2 v3744) a + S1x8x128.size a ≤ S7296x8x128.size a) ∧
  (∀ a, (k0_off171 i k0_t2 v3744) a + S1x8x128.size a ≤ S7296x8x128.size a) ∧
  (∀ (r : Fin 4), ∀ a, (k0_off173 i k0_t2 v3744 (BitVec.ofNat 32 r.val)) a + S1x8x128.size a ≤ S7296x8x128.size a)
theorem k0_off162_inb : ∀ (i : grid0.Coords) (k0_t2 : Fin k0_t2_loop.trips) (v3744 : BitVec 32) (k0_hw56 : k0_chk56 i k0_t2 v3744), ∀ a, (k0_off162 i k0_t2 v3744) a + S1x8x128.size a ≤ S7296x8x128.size a := fun i k0_t2 v3744 k0_hw56 => k0_hw56.1
theorem k0_off165_inb : ∀ (i : grid0.Coords) (k0_t2 : Fin k0_t2_loop.trips) (v3744 : BitVec 32) (k0_hw56 : k0_chk56 i k0_t2 v3744), ∀ a, (k0_off165 i k0_t2 v3744) a + S1x8x128.size a ≤ S7296x8x128.size a := fun i k0_t2 v3744 k0_hw56 => k0_hw56.2.1
theorem k0_off168_inb : ∀ (i : grid0.Coords) (k0_t2 : Fin k0_t2_loop.trips) (v3744 : BitVec 32) (k0_hw56 : k0_chk56 i k0_t2 v3744), ∀ a, (k0_off168 i k0_t2 v3744) a + S1x8x128.size a ≤ S7296x8x128.size a := fun i k0_t2 v3744 k0_hw56 => k0_hw56.2.2.1
theorem k0_off171_inb : ∀ (i : grid0.Coords) (k0_t2 : Fin k0_t2_loop.trips) (v3744 : BitVec 32) (k0_hw56 : k0_chk56 i k0_t2 v3744), ∀ a, (k0_off171 i k0_t2 v3744) a + S1x8x128.size a ≤ S7296x8x128.size a := fun i k0_t2 v3744 k0_hw56 => k0_hw56.2.2.2.1
theorem k0_off173_inb : ∀ (i : grid0.Coords) (k0_t2 : Fin k0_t2_loop.trips) (v3744 : BitVec 32) (k0_hw56 : k0_chk56 i k0_t2 v3744), ∀ (r : Fin 4), ∀ a, (k0_off173 i k0_t2 v3744 (BitVec.ofNat 32 r.val)) a + S1x8x128.size a ≤ S7296x8x128.size a := fun i k0_t2 v3744 k0_hw56 r => k0_hw56.2.2.2.2 r

def k0_off174 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1814 : BitVec 32 := 38#32
  let v3812 : BitVec 32 := Scalar.muli arg13 c38_i32_1814
  let c12_i32 : BitVec 32 := 12#32
  let v3813 : BitVec 32 := Scalar.addi v3812 c12_i32
  let v3814 : Index := Scalar.indexCast v3813
  ![v3814.toNat]
def k0_off175 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1814 : BitVec 32 := 38#32
  let v3812 : BitVec 32 := Scalar.muli arg13 c38_i32_1814
  let c12_i32 : BitVec 32 := 12#32
  let v3813 : BitVec 32 := Scalar.addi v3812 c12_i32
  let c4_i32_1823 : BitVec 32 := 4#32
  let v3827 : BitVec 32 := Scalar.muli v3813 c4_i32_1823
  let c0_i32_1824 : BitVec 32 := 0#32
  let v3828 : BitVec 32 := Scalar.addi v3827 c0_i32_1824
  let v3829 : Index := Scalar.indexCast v3828
  ![v3829.toNat]
def k0_off176 (i : grid0.Coords) (k0_t2 : Fin k0_t2_loop.trips) (v3815 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1816 : BitVec 32 := 2#32
  let v3818 : BitVec 32 := Scalar.muli v2959 c2_i32_1816
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3816 : BitVec 32 := Scalar.shrui v3815 v2958
  let c1_i32_1815 : BitVec 32 := 1#32
  let v3817 : BitVec 32 := Scalar.andi v3816 c1_i32_1815
  let v3819 : BitVec 32 := Scalar.addi v3818 v3817
  let c1216_i32_1817 : BitVec 32 := 1216#32
  let v3820 : BitVec 32 := Scalar.muli v3819 c1216_i32_1817
  let c0_i32_1 : BitVec 32 := 0#32
  let c1_i32 : BitVec 32 := 1#32
  let arg13 : BitVec 32 := Scf.iv c0_i32_1 c1_i32 k0_t2
  let c38_i32_1814 : BitVec 32 := 38#32
  let v3812 : BitVec 32 := Scalar.muli arg13 c38_i32_1814
  let c12_i32 : BitVec 32 := 12#32
  let v3813 : BitVec 32 := Scalar.addi v3812 c12_i32
  let c4_i32_1818 : BitVec 32 := 4#32
  let v3821 : BitVec 32 := Scalar.muli v3813 c4_i32_1818
  let v3822 : BitVec 32 := Scalar.addi v3820 v3821
  let c0_i32_1819 : BitVec 32 := 0#32
  let v3823 : BitVec 32 := Scalar.addi v3822 c0_i32_1819
  let v3831 : Index := Scalar.indexCast v3823
  let c0_1825 : Index := 0#32
  let c0_1826 : Index := 0#32
  ![v3831.toNat, 0, 0]

def k0_off177 (v3830 : BitVec 32) : Fin 2 → Nat :=
  let v3834 : Index := Scalar.indexCast v3830
  let c0_1827 : Index := 0#32
  ![v3834.toNat, 0]

def k0_chk62 (v3830 : BitVec 32) : Prop :=
  (∀ a, (k0_off177 v3830) a + S8x128.size a ≤ S18432x128.size a)
theorem k0_off177_inb : ∀ (v3830 : BitVec 32) (k0_hw62 : k0_chk62 v3830), ∀ a, (k0_off177 v3830) a + S8x128.size a ≤ S18432x128.size a := fun v3830 k0_hw62 => k0_hw62

def k0_off178 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1814 : BitVec 32 := 38#32
  let v3812 : BitVec 32 := Scalar.muli arg13 c38_i32_1814
  let c12_i32 : BitVec 32 := 12#32
  let v3813 : BitVec 32 := Scalar.addi v3812 c12_i32
  let c4_i32_1828 : BitVec 32 := 4#32
  let v3837 : BitVec 32 := Scalar.muli v3813 c4_i32_1828
  let c1_i32_1829 : BitVec 32 := 1#32
  let v3838 : BitVec 32 := Scalar.addi v3837 c1_i32_1829
  let v3839 : Index := Scalar.indexCast v3838
  ![v3839.toNat]
def k0_off179 (i : grid0.Coords) (k0_t2 : Fin k0_t2_loop.trips) (v3815 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1816 : BitVec 32 := 2#32
  let v3818 : BitVec 32 := Scalar.muli v2959 c2_i32_1816
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3816 : BitVec 32 := Scalar.shrui v3815 v2958
  let c1_i32_1815 : BitVec 32 := 1#32
  let v3817 : BitVec 32 := Scalar.andi v3816 c1_i32_1815
  let v3819 : BitVec 32 := Scalar.addi v3818 v3817
  let c1216_i32_1817 : BitVec 32 := 1216#32
  let v3820 : BitVec 32 := Scalar.muli v3819 c1216_i32_1817
  let c0_i32_1 : BitVec 32 := 0#32
  let c1_i32 : BitVec 32 := 1#32
  let arg13 : BitVec 32 := Scf.iv c0_i32_1 c1_i32 k0_t2
  let c38_i32_1814 : BitVec 32 := 38#32
  let v3812 : BitVec 32 := Scalar.muli arg13 c38_i32_1814
  let c12_i32 : BitVec 32 := 12#32
  let v3813 : BitVec 32 := Scalar.addi v3812 c12_i32
  let c4_i32_1818 : BitVec 32 := 4#32
  let v3821 : BitVec 32 := Scalar.muli v3813 c4_i32_1818
  let v3822 : BitVec 32 := Scalar.addi v3820 v3821
  let c1_i32_1820 : BitVec 32 := 1#32
  let v3824 : BitVec 32 := Scalar.addi v3822 c1_i32_1820
  let v3841 : Index := Scalar.indexCast v3824
  let c0_1830 : Index := 0#32
  let c0_1831 : Index := 0#32
  ![v3841.toNat, 0, 0]
def k0_off180 (v3840 : BitVec 32) : Fin 2 → Nat :=
  let v3844 : Index := Scalar.indexCast v3840
  let c0_1832 : Index := 0#32
  ![v3844.toNat, 0]

def k0_chk63 (v3840 : BitVec 32) : Prop :=
  (∀ a, (k0_off180 v3840) a + S8x128.size a ≤ S18432x128.size a)
theorem k0_off180_inb : ∀ (v3840 : BitVec 32) (k0_hw63 : k0_chk63 v3840), ∀ a, (k0_off180 v3840) a + S8x128.size a ≤ S18432x128.size a := fun v3840 k0_hw63 => k0_hw63

def k0_off181 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1814 : BitVec 32 := 38#32
  let v3812 : BitVec 32 := Scalar.muli arg13 c38_i32_1814
  let c12_i32 : BitVec 32 := 12#32
  let v3813 : BitVec 32 := Scalar.addi v3812 c12_i32
  let c4_i32_1833 : BitVec 32 := 4#32
  let v3847 : BitVec 32 := Scalar.muli v3813 c4_i32_1833
  let c2_i32_1834 : BitVec 32 := 2#32
  let v3848 : BitVec 32 := Scalar.addi v3847 c2_i32_1834
  let v3849 : Index := Scalar.indexCast v3848
  ![v3849.toNat]
def k0_off182 (i : grid0.Coords) (k0_t2 : Fin k0_t2_loop.trips) (v3815 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1816 : BitVec 32 := 2#32
  let v3818 : BitVec 32 := Scalar.muli v2959 c2_i32_1816
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3816 : BitVec 32 := Scalar.shrui v3815 v2958
  let c1_i32_1815 : BitVec 32 := 1#32
  let v3817 : BitVec 32 := Scalar.andi v3816 c1_i32_1815
  let v3819 : BitVec 32 := Scalar.addi v3818 v3817
  let c1216_i32_1817 : BitVec 32 := 1216#32
  let v3820 : BitVec 32 := Scalar.muli v3819 c1216_i32_1817
  let c0_i32_1 : BitVec 32 := 0#32
  let c1_i32 : BitVec 32 := 1#32
  let arg13 : BitVec 32 := Scf.iv c0_i32_1 c1_i32 k0_t2
  let c38_i32_1814 : BitVec 32 := 38#32
  let v3812 : BitVec 32 := Scalar.muli arg13 c38_i32_1814
  let c12_i32 : BitVec 32 := 12#32
  let v3813 : BitVec 32 := Scalar.addi v3812 c12_i32
  let c4_i32_1818 : BitVec 32 := 4#32
  let v3821 : BitVec 32 := Scalar.muli v3813 c4_i32_1818
  let v3822 : BitVec 32 := Scalar.addi v3820 v3821
  let c2_i32_1821 : BitVec 32 := 2#32
  let v3825 : BitVec 32 := Scalar.addi v3822 c2_i32_1821
  let v3851 : Index := Scalar.indexCast v3825
  let c0_1835 : Index := 0#32
  let c0_1836 : Index := 0#32
  ![v3851.toNat, 0, 0]
def k0_off183 (v3850 : BitVec 32) : Fin 2 → Nat :=
  let v3854 : Index := Scalar.indexCast v3850
  let c0_1837 : Index := 0#32
  ![v3854.toNat, 0]

def k0_chk64 (v3850 : BitVec 32) : Prop :=
  (∀ a, (k0_off183 v3850) a + S8x128.size a ≤ S18432x128.size a)
theorem k0_off183_inb : ∀ (v3850 : BitVec 32) (k0_hw64 : k0_chk64 v3850), ∀ a, (k0_off183 v3850) a + S8x128.size a ≤ S18432x128.size a := fun v3850 k0_hw64 => k0_hw64

def k0_off184 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1814 : BitVec 32 := 38#32
  let v3812 : BitVec 32 := Scalar.muli arg13 c38_i32_1814
  let c12_i32 : BitVec 32 := 12#32
  let v3813 : BitVec 32 := Scalar.addi v3812 c12_i32
  let c4_i32_1838 : BitVec 32 := 4#32
  let v3857 : BitVec 32 := Scalar.muli v3813 c4_i32_1838
  let c3_i32_1839 : BitVec 32 := 3#32
  let v3858 : BitVec 32 := Scalar.addi v3857 c3_i32_1839
  let v3859 : Index := Scalar.indexCast v3858
  ![v3859.toNat]
def k0_off185 (i : grid0.Coords) (k0_t2 : Fin k0_t2_loop.trips) (v3815 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1816 : BitVec 32 := 2#32
  let v3818 : BitVec 32 := Scalar.muli v2959 c2_i32_1816
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3816 : BitVec 32 := Scalar.shrui v3815 v2958
  let c1_i32_1815 : BitVec 32 := 1#32
  let v3817 : BitVec 32 := Scalar.andi v3816 c1_i32_1815
  let v3819 : BitVec 32 := Scalar.addi v3818 v3817
  let c1216_i32_1817 : BitVec 32 := 1216#32
  let v3820 : BitVec 32 := Scalar.muli v3819 c1216_i32_1817
  let c0_i32_1 : BitVec 32 := 0#32
  let c1_i32 : BitVec 32 := 1#32
  let arg13 : BitVec 32 := Scf.iv c0_i32_1 c1_i32 k0_t2
  let c38_i32_1814 : BitVec 32 := 38#32
  let v3812 : BitVec 32 := Scalar.muli arg13 c38_i32_1814
  let c12_i32 : BitVec 32 := 12#32
  let v3813 : BitVec 32 := Scalar.addi v3812 c12_i32
  let c4_i32_1818 : BitVec 32 := 4#32
  let v3821 : BitVec 32 := Scalar.muli v3813 c4_i32_1818
  let v3822 : BitVec 32 := Scalar.addi v3820 v3821
  let c3_i32_1822 : BitVec 32 := 3#32
  let v3826 : BitVec 32 := Scalar.addi v3822 c3_i32_1822
  let v3861 : Index := Scalar.indexCast v3826
  let c0_1840 : Index := 0#32
  let c0_1841 : Index := 0#32
  ![v3861.toNat, 0, 0]
def k0_off186 (v3860 : BitVec 32) : Fin 2 → Nat :=
  let v3864 : Index := Scalar.indexCast v3860
  let c0_1842 : Index := 0#32
  ![v3864.toNat, 0]

def k0_chk65 (v3860 : BitVec 32) : Prop :=
  (∀ a, (k0_off186 v3860) a + S8x128.size a ≤ S18432x128.size a)
theorem k0_off186_inb : ∀ (v3860 : BitVec 32) (k0_hw65 : k0_chk65 v3860), ∀ a, (k0_off186 v3860) a + S8x128.size a ≤ S18432x128.size a := fun v3860 k0_hw65 => k0_hw65

def k0_off187 (i : grid0.Coords) (k0_t2 : Fin k0_t2_loop.trips) (v3815 : BitVec 32) (c0_i32_1819 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1816 : BitVec 32 := 2#32
  let v3818 : BitVec 32 := Scalar.muli v2959 c2_i32_1816
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3816 : BitVec 32 := Scalar.shrui v3815 v2958
  let c1_i32_1815 : BitVec 32 := 1#32
  let v3817 : BitVec 32 := Scalar.andi v3816 c1_i32_1815
  let v3819 : BitVec 32 := Scalar.addi v3818 v3817
  let c1216_i32_1817 : BitVec 32 := 1216#32
  let v3820 : BitVec 32 := Scalar.muli v3819 c1216_i32_1817
  let c0_i32_1 : BitVec 32 := 0#32
  let c1_i32 : BitVec 32 := 1#32
  let arg13 : BitVec 32 := Scf.iv c0_i32_1 c1_i32 k0_t2
  let c38_i32_1814 : BitVec 32 := 38#32
  let v3812 : BitVec 32 := Scalar.muli arg13 c38_i32_1814
  let c12_i32 : BitVec 32 := 12#32
  let v3813 : BitVec 32 := Scalar.addi v3812 c12_i32
  let c4_i32_1818 : BitVec 32 := 4#32
  let v3821 : BitVec 32 := Scalar.muli v3813 c4_i32_1818
  let v3822 : BitVec 32 := Scalar.addi v3820 v3821
  let v3823 : BitVec 32 := Scalar.addi v3822 c0_i32_1819
  let v3867 : Index := Scalar.indexCast v3823
  let c0_1843 : Index := 0#32
  let c0_1844 : Index := 0#32
  ![v3867.toNat, 0, 0]

def k0_chk61 (i : grid0.Coords) (k0_t2 : Fin k0_t2_loop.trips) (v3815 : BitVec 32) : Prop :=
  (∀ a, (k0_off176 i k0_t2 v3815) a + S1x8x128.size a ≤ S7296x8x128.size a) ∧
  (∀ a, (k0_off179 i k0_t2 v3815) a + S1x8x128.size a ≤ S7296x8x128.size a) ∧
  (∀ a, (k0_off182 i k0_t2 v3815) a + S1x8x128.size a ≤ S7296x8x128.size a) ∧
  (∀ a, (k0_off185 i k0_t2 v3815) a + S1x8x128.size a ≤ S7296x8x128.size a) ∧
  (∀ (r : Fin 4), ∀ a, (k0_off187 i k0_t2 v3815 (BitVec.ofNat 32 r.val)) a + S1x8x128.size a ≤ S7296x8x128.size a)
theorem k0_off176_inb : ∀ (i : grid0.Coords) (k0_t2 : Fin k0_t2_loop.trips) (v3815 : BitVec 32) (k0_hw61 : k0_chk61 i k0_t2 v3815), ∀ a, (k0_off176 i k0_t2 v3815) a + S1x8x128.size a ≤ S7296x8x128.size a := fun i k0_t2 v3815 k0_hw61 => k0_hw61.1
theorem k0_off179_inb : ∀ (i : grid0.Coords) (k0_t2 : Fin k0_t2_loop.trips) (v3815 : BitVec 32) (k0_hw61 : k0_chk61 i k0_t2 v3815), ∀ a, (k0_off179 i k0_t2 v3815) a + S1x8x128.size a ≤ S7296x8x128.size a := fun i k0_t2 v3815 k0_hw61 => k0_hw61.2.1
theorem k0_off182_inb : ∀ (i : grid0.Coords) (k0_t2 : Fin k0_t2_loop.trips) (v3815 : BitVec 32) (k0_hw61 : k0_chk61 i k0_t2 v3815), ∀ a, (k0_off182 i k0_t2 v3815) a + S1x8x128.size a ≤ S7296x8x128.size a := fun i k0_t2 v3815 k0_hw61 => k0_hw61.2.2.1
theorem k0_off185_inb : ∀ (i : grid0.Coords) (k0_t2 : Fin k0_t2_loop.trips) (v3815 : BitVec 32) (k0_hw61 : k0_chk61 i k0_t2 v3815), ∀ a, (k0_off185 i k0_t2 v3815) a + S1x8x128.size a ≤ S7296x8x128.size a := fun i k0_t2 v3815 k0_hw61 => k0_hw61.2.2.2.1
theorem k0_off187_inb : ∀ (i : grid0.Coords) (k0_t2 : Fin k0_t2_loop.trips) (v3815 : BitVec 32) (k0_hw61 : k0_chk61 i k0_t2 v3815), ∀ (r : Fin 4), ∀ a, (k0_off187 i k0_t2 v3815 (BitVec.ofNat 32 r.val)) a + S1x8x128.size a ≤ S7296x8x128.size a := fun i k0_t2 v3815 k0_hw61 r => k0_hw61.2.2.2.2 r

def k0_off188 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1851 : BitVec 32 := 38#32
  let v3883 : BitVec 32 := Scalar.muli arg13 c38_i32_1851
  let c13_i32 : BitVec 32 := 13#32
  let v3884 : BitVec 32 := Scalar.addi v3883 c13_i32
  let v3885 : Index := Scalar.indexCast v3884
  ![v3885.toNat]
def k0_off189 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1851 : BitVec 32 := 38#32
  let v3883 : BitVec 32 := Scalar.muli arg13 c38_i32_1851
  let c13_i32 : BitVec 32 := 13#32
  let v3884 : BitVec 32 := Scalar.addi v3883 c13_i32
  let c4_i32_1860 : BitVec 32 := 4#32
  let v3898 : BitVec 32 := Scalar.muli v3884 c4_i32_1860
  let c0_i32_1861 : BitVec 32 := 0#32
  let v3899 : BitVec 32 := Scalar.addi v3898 c0_i32_1861
  let v3900 : Index := Scalar.indexCast v3899
  ![v3900.toNat]
def k0_off190 (i : grid0.Coords) (k0_t2 : Fin k0_t2_loop.trips) (v3886 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1853 : BitVec 32 := 2#32
  let v3889 : BitVec 32 := Scalar.muli v2959 c2_i32_1853
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3887 : BitVec 32 := Scalar.shrui v3886 v2958
  let c1_i32_1852 : BitVec 32 := 1#32
  let v3888 : BitVec 32 := Scalar.andi v3887 c1_i32_1852
  let v3890 : BitVec 32 := Scalar.addi v3889 v3888
  let c1216_i32_1854 : BitVec 32 := 1216#32
  let v3891 : BitVec 32 := Scalar.muli v3890 c1216_i32_1854
  let c0_i32_1 : BitVec 32 := 0#32
  let c1_i32 : BitVec 32 := 1#32
  let arg13 : BitVec 32 := Scf.iv c0_i32_1 c1_i32 k0_t2
  let c38_i32_1851 : BitVec 32 := 38#32
  let v3883 : BitVec 32 := Scalar.muli arg13 c38_i32_1851
  let c13_i32 : BitVec 32 := 13#32
  let v3884 : BitVec 32 := Scalar.addi v3883 c13_i32
  let c4_i32_1855 : BitVec 32 := 4#32
  let v3892 : BitVec 32 := Scalar.muli v3884 c4_i32_1855
  let v3893 : BitVec 32 := Scalar.addi v3891 v3892
  let c0_i32_1856 : BitVec 32 := 0#32
  let v3894 : BitVec 32 := Scalar.addi v3893 c0_i32_1856
  let v3902 : Index := Scalar.indexCast v3894
  let c0_1862 : Index := 0#32
  let c0_1863 : Index := 0#32
  ![v3902.toNat, 0, 0]

def k0_off191 (v3901 : BitVec 32) : Fin 2 → Nat :=
  let v3905 : Index := Scalar.indexCast v3901
  let c0_1864 : Index := 0#32
  ![v3905.toNat, 0]

def k0_chk67 (v3901 : BitVec 32) : Prop :=
  (∀ a, (k0_off191 v3901) a + S8x128.size a ≤ S18432x128.size a)
theorem k0_off191_inb : ∀ (v3901 : BitVec 32) (k0_hw67 : k0_chk67 v3901), ∀ a, (k0_off191 v3901) a + S8x128.size a ≤ S18432x128.size a := fun v3901 k0_hw67 => k0_hw67

def k0_off192 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1851 : BitVec 32 := 38#32
  let v3883 : BitVec 32 := Scalar.muli arg13 c38_i32_1851
  let c13_i32 : BitVec 32 := 13#32
  let v3884 : BitVec 32 := Scalar.addi v3883 c13_i32
  let c4_i32_1865 : BitVec 32 := 4#32
  let v3908 : BitVec 32 := Scalar.muli v3884 c4_i32_1865
  let c1_i32_1866 : BitVec 32 := 1#32
  let v3909 : BitVec 32 := Scalar.addi v3908 c1_i32_1866
  let v3910 : Index := Scalar.indexCast v3909
  ![v3910.toNat]
def k0_off193 (i : grid0.Coords) (k0_t2 : Fin k0_t2_loop.trips) (v3886 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1853 : BitVec 32 := 2#32
  let v3889 : BitVec 32 := Scalar.muli v2959 c2_i32_1853
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3887 : BitVec 32 := Scalar.shrui v3886 v2958
  let c1_i32_1852 : BitVec 32 := 1#32
  let v3888 : BitVec 32 := Scalar.andi v3887 c1_i32_1852
  let v3890 : BitVec 32 := Scalar.addi v3889 v3888
  let c1216_i32_1854 : BitVec 32 := 1216#32
  let v3891 : BitVec 32 := Scalar.muli v3890 c1216_i32_1854
  let c0_i32_1 : BitVec 32 := 0#32
  let c1_i32 : BitVec 32 := 1#32
  let arg13 : BitVec 32 := Scf.iv c0_i32_1 c1_i32 k0_t2
  let c38_i32_1851 : BitVec 32 := 38#32
  let v3883 : BitVec 32 := Scalar.muli arg13 c38_i32_1851
  let c13_i32 : BitVec 32 := 13#32
  let v3884 : BitVec 32 := Scalar.addi v3883 c13_i32
  let c4_i32_1855 : BitVec 32 := 4#32
  let v3892 : BitVec 32 := Scalar.muli v3884 c4_i32_1855
  let v3893 : BitVec 32 := Scalar.addi v3891 v3892
  let c1_i32_1857 : BitVec 32 := 1#32
  let v3895 : BitVec 32 := Scalar.addi v3893 c1_i32_1857
  let v3912 : Index := Scalar.indexCast v3895
  let c0_1867 : Index := 0#32
  let c0_1868 : Index := 0#32
  ![v3912.toNat, 0, 0]
def k0_off194 (v3911 : BitVec 32) : Fin 2 → Nat :=
  let v3915 : Index := Scalar.indexCast v3911
  let c0_1869 : Index := 0#32
  ![v3915.toNat, 0]

def k0_chk68 (v3911 : BitVec 32) : Prop :=
  (∀ a, (k0_off194 v3911) a + S8x128.size a ≤ S18432x128.size a)
theorem k0_off194_inb : ∀ (v3911 : BitVec 32) (k0_hw68 : k0_chk68 v3911), ∀ a, (k0_off194 v3911) a + S8x128.size a ≤ S18432x128.size a := fun v3911 k0_hw68 => k0_hw68

def k0_off195 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1851 : BitVec 32 := 38#32
  let v3883 : BitVec 32 := Scalar.muli arg13 c38_i32_1851
  let c13_i32 : BitVec 32 := 13#32
  let v3884 : BitVec 32 := Scalar.addi v3883 c13_i32
  let c4_i32_1870 : BitVec 32 := 4#32
  let v3918 : BitVec 32 := Scalar.muli v3884 c4_i32_1870
  let c2_i32_1871 : BitVec 32 := 2#32
  let v3919 : BitVec 32 := Scalar.addi v3918 c2_i32_1871
  let v3920 : Index := Scalar.indexCast v3919
  ![v3920.toNat]
def k0_off196 (i : grid0.Coords) (k0_t2 : Fin k0_t2_loop.trips) (v3886 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1853 : BitVec 32 := 2#32
  let v3889 : BitVec 32 := Scalar.muli v2959 c2_i32_1853
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3887 : BitVec 32 := Scalar.shrui v3886 v2958
  let c1_i32_1852 : BitVec 32 := 1#32
  let v3888 : BitVec 32 := Scalar.andi v3887 c1_i32_1852
  let v3890 : BitVec 32 := Scalar.addi v3889 v3888
  let c1216_i32_1854 : BitVec 32 := 1216#32
  let v3891 : BitVec 32 := Scalar.muli v3890 c1216_i32_1854
  let c0_i32_1 : BitVec 32 := 0#32
  let c1_i32 : BitVec 32 := 1#32
  let arg13 : BitVec 32 := Scf.iv c0_i32_1 c1_i32 k0_t2
  let c38_i32_1851 : BitVec 32 := 38#32
  let v3883 : BitVec 32 := Scalar.muli arg13 c38_i32_1851
  let c13_i32 : BitVec 32 := 13#32
  let v3884 : BitVec 32 := Scalar.addi v3883 c13_i32
  let c4_i32_1855 : BitVec 32 := 4#32
  let v3892 : BitVec 32 := Scalar.muli v3884 c4_i32_1855
  let v3893 : BitVec 32 := Scalar.addi v3891 v3892
  let c2_i32_1858 : BitVec 32 := 2#32
  let v3896 : BitVec 32 := Scalar.addi v3893 c2_i32_1858
  let v3922 : Index := Scalar.indexCast v3896
  let c0_1872 : Index := 0#32
  let c0_1873 : Index := 0#32
  ![v3922.toNat, 0, 0]
def k0_off197 (v3921 : BitVec 32) : Fin 2 → Nat :=
  let v3925 : Index := Scalar.indexCast v3921
  let c0_1874 : Index := 0#32
  ![v3925.toNat, 0]

def k0_chk69 (v3921 : BitVec 32) : Prop :=
  (∀ a, (k0_off197 v3921) a + S8x128.size a ≤ S18432x128.size a)
theorem k0_off197_inb : ∀ (v3921 : BitVec 32) (k0_hw69 : k0_chk69 v3921), ∀ a, (k0_off197 v3921) a + S8x128.size a ≤ S18432x128.size a := fun v3921 k0_hw69 => k0_hw69

def k0_off198 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1851 : BitVec 32 := 38#32
  let v3883 : BitVec 32 := Scalar.muli arg13 c38_i32_1851
  let c13_i32 : BitVec 32 := 13#32
  let v3884 : BitVec 32 := Scalar.addi v3883 c13_i32
  let c4_i32_1875 : BitVec 32 := 4#32
  let v3928 : BitVec 32 := Scalar.muli v3884 c4_i32_1875
  let c3_i32_1876 : BitVec 32 := 3#32
  let v3929 : BitVec 32 := Scalar.addi v3928 c3_i32_1876
  let v3930 : Index := Scalar.indexCast v3929
  ![v3930.toNat]
def k0_off199 (i : grid0.Coords) (k0_t2 : Fin k0_t2_loop.trips) (v3886 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1853 : BitVec 32 := 2#32
  let v3889 : BitVec 32 := Scalar.muli v2959 c2_i32_1853
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3887 : BitVec 32 := Scalar.shrui v3886 v2958
  let c1_i32_1852 : BitVec 32 := 1#32
  let v3888 : BitVec 32 := Scalar.andi v3887 c1_i32_1852
  let v3890 : BitVec 32 := Scalar.addi v3889 v3888
  let c1216_i32_1854 : BitVec 32 := 1216#32
  let v3891 : BitVec 32 := Scalar.muli v3890 c1216_i32_1854
  let c0_i32_1 : BitVec 32 := 0#32
  let c1_i32 : BitVec 32 := 1#32
  let arg13 : BitVec 32 := Scf.iv c0_i32_1 c1_i32 k0_t2
  let c38_i32_1851 : BitVec 32 := 38#32
  let v3883 : BitVec 32 := Scalar.muli arg13 c38_i32_1851
  let c13_i32 : BitVec 32 := 13#32
  let v3884 : BitVec 32 := Scalar.addi v3883 c13_i32
  let c4_i32_1855 : BitVec 32 := 4#32
  let v3892 : BitVec 32 := Scalar.muli v3884 c4_i32_1855
  let v3893 : BitVec 32 := Scalar.addi v3891 v3892
  let c3_i32_1859 : BitVec 32 := 3#32
  let v3897 : BitVec 32 := Scalar.addi v3893 c3_i32_1859
  let v3932 : Index := Scalar.indexCast v3897
  let c0_1877 : Index := 0#32
  let c0_1878 : Index := 0#32
  ![v3932.toNat, 0, 0]
def k0_off200 (v3931 : BitVec 32) : Fin 2 → Nat :=
  let v3935 : Index := Scalar.indexCast v3931
  let c0_1879 : Index := 0#32
  ![v3935.toNat, 0]

def k0_chk70 (v3931 : BitVec 32) : Prop :=
  (∀ a, (k0_off200 v3931) a + S8x128.size a ≤ S18432x128.size a)
theorem k0_off200_inb : ∀ (v3931 : BitVec 32) (k0_hw70 : k0_chk70 v3931), ∀ a, (k0_off200 v3931) a + S8x128.size a ≤ S18432x128.size a := fun v3931 k0_hw70 => k0_hw70

def k0_off201 (i : grid0.Coords) (k0_t2 : Fin k0_t2_loop.trips) (v3886 : BitVec 32) (c0_i32_1856 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1853 : BitVec 32 := 2#32
  let v3889 : BitVec 32 := Scalar.muli v2959 c2_i32_1853
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3887 : BitVec 32 := Scalar.shrui v3886 v2958
  let c1_i32_1852 : BitVec 32 := 1#32
  let v3888 : BitVec 32 := Scalar.andi v3887 c1_i32_1852
  let v3890 : BitVec 32 := Scalar.addi v3889 v3888
  let c1216_i32_1854 : BitVec 32 := 1216#32
  let v3891 : BitVec 32 := Scalar.muli v3890 c1216_i32_1854
  let c0_i32_1 : BitVec 32 := 0#32
  let c1_i32 : BitVec 32 := 1#32
  let arg13 : BitVec 32 := Scf.iv c0_i32_1 c1_i32 k0_t2
  let c38_i32_1851 : BitVec 32 := 38#32
  let v3883 : BitVec 32 := Scalar.muli arg13 c38_i32_1851
  let c13_i32 : BitVec 32 := 13#32
  let v3884 : BitVec 32 := Scalar.addi v3883 c13_i32
  let c4_i32_1855 : BitVec 32 := 4#32
  let v3892 : BitVec 32 := Scalar.muli v3884 c4_i32_1855
  let v3893 : BitVec 32 := Scalar.addi v3891 v3892
  let v3894 : BitVec 32 := Scalar.addi v3893 c0_i32_1856
  let v3938 : Index := Scalar.indexCast v3894
  let c0_1880 : Index := 0#32
  let c0_1881 : Index := 0#32
  ![v3938.toNat, 0, 0]

def k0_chk66 (i : grid0.Coords) (k0_t2 : Fin k0_t2_loop.trips) (v3886 : BitVec 32) : Prop :=
  (∀ a, (k0_off190 i k0_t2 v3886) a + S1x8x128.size a ≤ S7296x8x128.size a) ∧
  (∀ a, (k0_off193 i k0_t2 v3886) a + S1x8x128.size a ≤ S7296x8x128.size a) ∧
  (∀ a, (k0_off196 i k0_t2 v3886) a + S1x8x128.size a ≤ S7296x8x128.size a) ∧
  (∀ a, (k0_off199 i k0_t2 v3886) a + S1x8x128.size a ≤ S7296x8x128.size a) ∧
  (∀ (r : Fin 4), ∀ a, (k0_off201 i k0_t2 v3886 (BitVec.ofNat 32 r.val)) a + S1x8x128.size a ≤ S7296x8x128.size a)
theorem k0_off190_inb : ∀ (i : grid0.Coords) (k0_t2 : Fin k0_t2_loop.trips) (v3886 : BitVec 32) (k0_hw66 : k0_chk66 i k0_t2 v3886), ∀ a, (k0_off190 i k0_t2 v3886) a + S1x8x128.size a ≤ S7296x8x128.size a := fun i k0_t2 v3886 k0_hw66 => k0_hw66.1
theorem k0_off193_inb : ∀ (i : grid0.Coords) (k0_t2 : Fin k0_t2_loop.trips) (v3886 : BitVec 32) (k0_hw66 : k0_chk66 i k0_t2 v3886), ∀ a, (k0_off193 i k0_t2 v3886) a + S1x8x128.size a ≤ S7296x8x128.size a := fun i k0_t2 v3886 k0_hw66 => k0_hw66.2.1
theorem k0_off196_inb : ∀ (i : grid0.Coords) (k0_t2 : Fin k0_t2_loop.trips) (v3886 : BitVec 32) (k0_hw66 : k0_chk66 i k0_t2 v3886), ∀ a, (k0_off196 i k0_t2 v3886) a + S1x8x128.size a ≤ S7296x8x128.size a := fun i k0_t2 v3886 k0_hw66 => k0_hw66.2.2.1
theorem k0_off199_inb : ∀ (i : grid0.Coords) (k0_t2 : Fin k0_t2_loop.trips) (v3886 : BitVec 32) (k0_hw66 : k0_chk66 i k0_t2 v3886), ∀ a, (k0_off199 i k0_t2 v3886) a + S1x8x128.size a ≤ S7296x8x128.size a := fun i k0_t2 v3886 k0_hw66 => k0_hw66.2.2.2.1
theorem k0_off201_inb : ∀ (i : grid0.Coords) (k0_t2 : Fin k0_t2_loop.trips) (v3886 : BitVec 32) (k0_hw66 : k0_chk66 i k0_t2 v3886), ∀ (r : Fin 4), ∀ a, (k0_off201 i k0_t2 v3886 (BitVec.ofNat 32 r.val)) a + S1x8x128.size a ≤ S7296x8x128.size a := fun i k0_t2 v3886 k0_hw66 r => k0_hw66.2.2.2.2 r

def k0_off202 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1888 : BitVec 32 := 38#32
  let v3954 : BitVec 32 := Scalar.muli arg13 c38_i32_1888
  let c14_i32 : BitVec 32 := 14#32
  let v3955 : BitVec 32 := Scalar.addi v3954 c14_i32
  let v3956 : Index := Scalar.indexCast v3955
  ![v3956.toNat]
def k0_off203 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1888 : BitVec 32 := 38#32
  let v3954 : BitVec 32 := Scalar.muli arg13 c38_i32_1888
  let c14_i32 : BitVec 32 := 14#32
  let v3955 : BitVec 32 := Scalar.addi v3954 c14_i32
  let c4_i32_1897 : BitVec 32 := 4#32
  let v3969 : BitVec 32 := Scalar.muli v3955 c4_i32_1897
  let c0_i32_1898 : BitVec 32 := 0#32
  let v3970 : BitVec 32 := Scalar.addi v3969 c0_i32_1898
  let v3971 : Index := Scalar.indexCast v3970
  ![v3971.toNat]
def k0_off204 (i : grid0.Coords) (k0_t2 : Fin k0_t2_loop.trips) (v3957 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1890 : BitVec 32 := 2#32
  let v3960 : BitVec 32 := Scalar.muli v2959 c2_i32_1890
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3958 : BitVec 32 := Scalar.shrui v3957 v2958
  let c1_i32_1889 : BitVec 32 := 1#32
  let v3959 : BitVec 32 := Scalar.andi v3958 c1_i32_1889
  let v3961 : BitVec 32 := Scalar.addi v3960 v3959
  let c1216_i32_1891 : BitVec 32 := 1216#32
  let v3962 : BitVec 32 := Scalar.muli v3961 c1216_i32_1891
  let c0_i32_1 : BitVec 32 := 0#32
  let c1_i32 : BitVec 32 := 1#32
  let arg13 : BitVec 32 := Scf.iv c0_i32_1 c1_i32 k0_t2
  let c38_i32_1888 : BitVec 32 := 38#32
  let v3954 : BitVec 32 := Scalar.muli arg13 c38_i32_1888
  let c14_i32 : BitVec 32 := 14#32
  let v3955 : BitVec 32 := Scalar.addi v3954 c14_i32
  let c4_i32_1892 : BitVec 32 := 4#32
  let v3963 : BitVec 32 := Scalar.muli v3955 c4_i32_1892
  let v3964 : BitVec 32 := Scalar.addi v3962 v3963
  let c0_i32_1893 : BitVec 32 := 0#32
  let v3965 : BitVec 32 := Scalar.addi v3964 c0_i32_1893
  let v3973 : Index := Scalar.indexCast v3965
  let c0_1899 : Index := 0#32
  let c0_1900 : Index := 0#32
  ![v3973.toNat, 0, 0]

def k0_off205 (v3972 : BitVec 32) : Fin 2 → Nat :=
  let v3976 : Index := Scalar.indexCast v3972
  let c0_1901 : Index := 0#32
  ![v3976.toNat, 0]

def k0_chk72 (v3972 : BitVec 32) : Prop :=
  (∀ a, (k0_off205 v3972) a + S8x128.size a ≤ S18432x128.size a)
theorem k0_off205_inb : ∀ (v3972 : BitVec 32) (k0_hw72 : k0_chk72 v3972), ∀ a, (k0_off205 v3972) a + S8x128.size a ≤ S18432x128.size a := fun v3972 k0_hw72 => k0_hw72

def k0_off206 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1888 : BitVec 32 := 38#32
  let v3954 : BitVec 32 := Scalar.muli arg13 c38_i32_1888
  let c14_i32 : BitVec 32 := 14#32
  let v3955 : BitVec 32 := Scalar.addi v3954 c14_i32
  let c4_i32_1902 : BitVec 32 := 4#32
  let v3979 : BitVec 32 := Scalar.muli v3955 c4_i32_1902
  let c1_i32_1903 : BitVec 32 := 1#32
  let v3980 : BitVec 32 := Scalar.addi v3979 c1_i32_1903
  let v3981 : Index := Scalar.indexCast v3980
  ![v3981.toNat]
def k0_off207 (i : grid0.Coords) (k0_t2 : Fin k0_t2_loop.trips) (v3957 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1890 : BitVec 32 := 2#32
  let v3960 : BitVec 32 := Scalar.muli v2959 c2_i32_1890
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3958 : BitVec 32 := Scalar.shrui v3957 v2958
  let c1_i32_1889 : BitVec 32 := 1#32
  let v3959 : BitVec 32 := Scalar.andi v3958 c1_i32_1889
  let v3961 : BitVec 32 := Scalar.addi v3960 v3959
  let c1216_i32_1891 : BitVec 32 := 1216#32
  let v3962 : BitVec 32 := Scalar.muli v3961 c1216_i32_1891
  let c0_i32_1 : BitVec 32 := 0#32
  let c1_i32 : BitVec 32 := 1#32
  let arg13 : BitVec 32 := Scf.iv c0_i32_1 c1_i32 k0_t2
  let c38_i32_1888 : BitVec 32 := 38#32
  let v3954 : BitVec 32 := Scalar.muli arg13 c38_i32_1888
  let c14_i32 : BitVec 32 := 14#32
  let v3955 : BitVec 32 := Scalar.addi v3954 c14_i32
  let c4_i32_1892 : BitVec 32 := 4#32
  let v3963 : BitVec 32 := Scalar.muli v3955 c4_i32_1892
  let v3964 : BitVec 32 := Scalar.addi v3962 v3963
  let c1_i32_1894 : BitVec 32 := 1#32
  let v3966 : BitVec 32 := Scalar.addi v3964 c1_i32_1894
  let v3983 : Index := Scalar.indexCast v3966
  let c0_1904 : Index := 0#32
  let c0_1905 : Index := 0#32
  ![v3983.toNat, 0, 0]
def k0_off208 (v3982 : BitVec 32) : Fin 2 → Nat :=
  let v3986 : Index := Scalar.indexCast v3982
  let c0_1906 : Index := 0#32
  ![v3986.toNat, 0]

def k0_chk73 (v3982 : BitVec 32) : Prop :=
  (∀ a, (k0_off208 v3982) a + S8x128.size a ≤ S18432x128.size a)
theorem k0_off208_inb : ∀ (v3982 : BitVec 32) (k0_hw73 : k0_chk73 v3982), ∀ a, (k0_off208 v3982) a + S8x128.size a ≤ S18432x128.size a := fun v3982 k0_hw73 => k0_hw73

def k0_off209 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1888 : BitVec 32 := 38#32
  let v3954 : BitVec 32 := Scalar.muli arg13 c38_i32_1888
  let c14_i32 : BitVec 32 := 14#32
  let v3955 : BitVec 32 := Scalar.addi v3954 c14_i32
  let c4_i32_1907 : BitVec 32 := 4#32
  let v3989 : BitVec 32 := Scalar.muli v3955 c4_i32_1907
  let c2_i32_1908 : BitVec 32 := 2#32
  let v3990 : BitVec 32 := Scalar.addi v3989 c2_i32_1908
  let v3991 : Index := Scalar.indexCast v3990
  ![v3991.toNat]
def k0_off210 (i : grid0.Coords) (k0_t2 : Fin k0_t2_loop.trips) (v3957 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1890 : BitVec 32 := 2#32
  let v3960 : BitVec 32 := Scalar.muli v2959 c2_i32_1890
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3958 : BitVec 32 := Scalar.shrui v3957 v2958
  let c1_i32_1889 : BitVec 32 := 1#32
  let v3959 : BitVec 32 := Scalar.andi v3958 c1_i32_1889
  let v3961 : BitVec 32 := Scalar.addi v3960 v3959
  let c1216_i32_1891 : BitVec 32 := 1216#32
  let v3962 : BitVec 32 := Scalar.muli v3961 c1216_i32_1891
  let c0_i32_1 : BitVec 32 := 0#32
  let c1_i32 : BitVec 32 := 1#32
  let arg13 : BitVec 32 := Scf.iv c0_i32_1 c1_i32 k0_t2
  let c38_i32_1888 : BitVec 32 := 38#32
  let v3954 : BitVec 32 := Scalar.muli arg13 c38_i32_1888
  let c14_i32 : BitVec 32 := 14#32
  let v3955 : BitVec 32 := Scalar.addi v3954 c14_i32
  let c4_i32_1892 : BitVec 32 := 4#32
  let v3963 : BitVec 32 := Scalar.muli v3955 c4_i32_1892
  let v3964 : BitVec 32 := Scalar.addi v3962 v3963
  let c2_i32_1895 : BitVec 32 := 2#32
  let v3967 : BitVec 32 := Scalar.addi v3964 c2_i32_1895
  let v3993 : Index := Scalar.indexCast v3967
  let c0_1909 : Index := 0#32
  let c0_1910 : Index := 0#32
  ![v3993.toNat, 0, 0]
def k0_off211 (v3992 : BitVec 32) : Fin 2 → Nat :=
  let v3996 : Index := Scalar.indexCast v3992
  let c0_1911 : Index := 0#32
  ![v3996.toNat, 0]

def k0_chk74 (v3992 : BitVec 32) : Prop :=
  (∀ a, (k0_off211 v3992) a + S8x128.size a ≤ S18432x128.size a)
theorem k0_off211_inb : ∀ (v3992 : BitVec 32) (k0_hw74 : k0_chk74 v3992), ∀ a, (k0_off211 v3992) a + S8x128.size a ≤ S18432x128.size a := fun v3992 k0_hw74 => k0_hw74

def k0_off212 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1888 : BitVec 32 := 38#32
  let v3954 : BitVec 32 := Scalar.muli arg13 c38_i32_1888
  let c14_i32 : BitVec 32 := 14#32
  let v3955 : BitVec 32 := Scalar.addi v3954 c14_i32
  let c4_i32_1912 : BitVec 32 := 4#32
  let v3999 : BitVec 32 := Scalar.muli v3955 c4_i32_1912
  let c3_i32_1913 : BitVec 32 := 3#32
  let v4000 : BitVec 32 := Scalar.addi v3999 c3_i32_1913
  let v4001 : Index := Scalar.indexCast v4000
  ![v4001.toNat]
def k0_off213 (i : grid0.Coords) (k0_t2 : Fin k0_t2_loop.trips) (v3957 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1890 : BitVec 32 := 2#32
  let v3960 : BitVec 32 := Scalar.muli v2959 c2_i32_1890
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3958 : BitVec 32 := Scalar.shrui v3957 v2958
  let c1_i32_1889 : BitVec 32 := 1#32
  let v3959 : BitVec 32 := Scalar.andi v3958 c1_i32_1889
  let v3961 : BitVec 32 := Scalar.addi v3960 v3959
  let c1216_i32_1891 : BitVec 32 := 1216#32
  let v3962 : BitVec 32 := Scalar.muli v3961 c1216_i32_1891
  let c0_i32_1 : BitVec 32 := 0#32
  let c1_i32 : BitVec 32 := 1#32
  let arg13 : BitVec 32 := Scf.iv c0_i32_1 c1_i32 k0_t2
  let c38_i32_1888 : BitVec 32 := 38#32
  let v3954 : BitVec 32 := Scalar.muli arg13 c38_i32_1888
  let c14_i32 : BitVec 32 := 14#32
  let v3955 : BitVec 32 := Scalar.addi v3954 c14_i32
  let c4_i32_1892 : BitVec 32 := 4#32
  let v3963 : BitVec 32 := Scalar.muli v3955 c4_i32_1892
  let v3964 : BitVec 32 := Scalar.addi v3962 v3963
  let c3_i32_1896 : BitVec 32 := 3#32
  let v3968 : BitVec 32 := Scalar.addi v3964 c3_i32_1896
  let v4003 : Index := Scalar.indexCast v3968
  let c0_1914 : Index := 0#32
  let c0_1915 : Index := 0#32
  ![v4003.toNat, 0, 0]
def k0_off214 (v4002 : BitVec 32) : Fin 2 → Nat :=
  let v4006 : Index := Scalar.indexCast v4002
  let c0_1916 : Index := 0#32
  ![v4006.toNat, 0]

def k0_chk75 (v4002 : BitVec 32) : Prop :=
  (∀ a, (k0_off214 v4002) a + S8x128.size a ≤ S18432x128.size a)
theorem k0_off214_inb : ∀ (v4002 : BitVec 32) (k0_hw75 : k0_chk75 v4002), ∀ a, (k0_off214 v4002) a + S8x128.size a ≤ S18432x128.size a := fun v4002 k0_hw75 => k0_hw75

def k0_off215 (i : grid0.Coords) (k0_t2 : Fin k0_t2_loop.trips) (v3957 : BitVec 32) (c0_i32_1893 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1890 : BitVec 32 := 2#32
  let v3960 : BitVec 32 := Scalar.muli v2959 c2_i32_1890
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v3958 : BitVec 32 := Scalar.shrui v3957 v2958
  let c1_i32_1889 : BitVec 32 := 1#32
  let v3959 : BitVec 32 := Scalar.andi v3958 c1_i32_1889
  let v3961 : BitVec 32 := Scalar.addi v3960 v3959
  let c1216_i32_1891 : BitVec 32 := 1216#32
  let v3962 : BitVec 32 := Scalar.muli v3961 c1216_i32_1891
  let c0_i32_1 : BitVec 32 := 0#32
  let c1_i32 : BitVec 32 := 1#32
  let arg13 : BitVec 32 := Scf.iv c0_i32_1 c1_i32 k0_t2
  let c38_i32_1888 : BitVec 32 := 38#32
  let v3954 : BitVec 32 := Scalar.muli arg13 c38_i32_1888
  let c14_i32 : BitVec 32 := 14#32
  let v3955 : BitVec 32 := Scalar.addi v3954 c14_i32
  let c4_i32_1892 : BitVec 32 := 4#32
  let v3963 : BitVec 32 := Scalar.muli v3955 c4_i32_1892
  let v3964 : BitVec 32 := Scalar.addi v3962 v3963
  let v3965 : BitVec 32 := Scalar.addi v3964 c0_i32_1893
  let v4009 : Index := Scalar.indexCast v3965
  let c0_1917 : Index := 0#32
  let c0_1918 : Index := 0#32
  ![v4009.toNat, 0, 0]

def k0_chk71 (i : grid0.Coords) (k0_t2 : Fin k0_t2_loop.trips) (v3957 : BitVec 32) : Prop :=
  (∀ a, (k0_off204 i k0_t2 v3957) a + S1x8x128.size a ≤ S7296x8x128.size a) ∧
  (∀ a, (k0_off207 i k0_t2 v3957) a + S1x8x128.size a ≤ S7296x8x128.size a) ∧
  (∀ a, (k0_off210 i k0_t2 v3957) a + S1x8x128.size a ≤ S7296x8x128.size a) ∧
  (∀ a, (k0_off213 i k0_t2 v3957) a + S1x8x128.size a ≤ S7296x8x128.size a) ∧
  (∀ (r : Fin 4), ∀ a, (k0_off215 i k0_t2 v3957 (BitVec.ofNat 32 r.val)) a + S1x8x128.size a ≤ S7296x8x128.size a)
theorem k0_off204_inb : ∀ (i : grid0.Coords) (k0_t2 : Fin k0_t2_loop.trips) (v3957 : BitVec 32) (k0_hw71 : k0_chk71 i k0_t2 v3957), ∀ a, (k0_off204 i k0_t2 v3957) a + S1x8x128.size a ≤ S7296x8x128.size a := fun i k0_t2 v3957 k0_hw71 => k0_hw71.1
theorem k0_off207_inb : ∀ (i : grid0.Coords) (k0_t2 : Fin k0_t2_loop.trips) (v3957 : BitVec 32) (k0_hw71 : k0_chk71 i k0_t2 v3957), ∀ a, (k0_off207 i k0_t2 v3957) a + S1x8x128.size a ≤ S7296x8x128.size a := fun i k0_t2 v3957 k0_hw71 => k0_hw71.2.1
theorem k0_off210_inb : ∀ (i : grid0.Coords) (k0_t2 : Fin k0_t2_loop.trips) (v3957 : BitVec 32) (k0_hw71 : k0_chk71 i k0_t2 v3957), ∀ a, (k0_off210 i k0_t2 v3957) a + S1x8x128.size a ≤ S7296x8x128.size a := fun i k0_t2 v3957 k0_hw71 => k0_hw71.2.2.1
theorem k0_off213_inb : ∀ (i : grid0.Coords) (k0_t2 : Fin k0_t2_loop.trips) (v3957 : BitVec 32) (k0_hw71 : k0_chk71 i k0_t2 v3957), ∀ a, (k0_off213 i k0_t2 v3957) a + S1x8x128.size a ≤ S7296x8x128.size a := fun i k0_t2 v3957 k0_hw71 => k0_hw71.2.2.2.1
theorem k0_off215_inb : ∀ (i : grid0.Coords) (k0_t2 : Fin k0_t2_loop.trips) (v3957 : BitVec 32) (k0_hw71 : k0_chk71 i k0_t2 v3957), ∀ (r : Fin 4), ∀ a, (k0_off215 i k0_t2 v3957 (BitVec.ofNat 32 r.val)) a + S1x8x128.size a ≤ S7296x8x128.size a := fun i k0_t2 v3957 k0_hw71 r => k0_hw71.2.2.2.2 r

def k0_off216 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1925 : BitVec 32 := 38#32
  let v4025 : BitVec 32 := Scalar.muli arg13 c38_i32_1925
  let c15_i32 : BitVec 32 := 15#32
  let v4026 : BitVec 32 := Scalar.addi v4025 c15_i32
  let v4027 : Index := Scalar.indexCast v4026
  ![v4027.toNat]
def k0_off217 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1925 : BitVec 32 := 38#32
  let v4025 : BitVec 32 := Scalar.muli arg13 c38_i32_1925
  let c15_i32 : BitVec 32 := 15#32
  let v4026 : BitVec 32 := Scalar.addi v4025 c15_i32
  let c4_i32_1934 : BitVec 32 := 4#32
  let v4040 : BitVec 32 := Scalar.muli v4026 c4_i32_1934
  let c0_i32_1935 : BitVec 32 := 0#32
  let v4041 : BitVec 32 := Scalar.addi v4040 c0_i32_1935
  let v4042 : Index := Scalar.indexCast v4041
  ![v4042.toNat]
def k0_off218 (i : grid0.Coords) (k0_t2 : Fin k0_t2_loop.trips) (v4028 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1927 : BitVec 32 := 2#32
  let v4031 : BitVec 32 := Scalar.muli v2959 c2_i32_1927
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4029 : BitVec 32 := Scalar.shrui v4028 v2958
  let c1_i32_1926 : BitVec 32 := 1#32
  let v4030 : BitVec 32 := Scalar.andi v4029 c1_i32_1926
  let v4032 : BitVec 32 := Scalar.addi v4031 v4030
  let c1216_i32_1928 : BitVec 32 := 1216#32
  let v4033 : BitVec 32 := Scalar.muli v4032 c1216_i32_1928
  let c0_i32_1 : BitVec 32 := 0#32
  let c1_i32 : BitVec 32 := 1#32
  let arg13 : BitVec 32 := Scf.iv c0_i32_1 c1_i32 k0_t2
  let c38_i32_1925 : BitVec 32 := 38#32
  let v4025 : BitVec 32 := Scalar.muli arg13 c38_i32_1925
  let c15_i32 : BitVec 32 := 15#32
  let v4026 : BitVec 32 := Scalar.addi v4025 c15_i32
  let c4_i32_1929 : BitVec 32 := 4#32
  let v4034 : BitVec 32 := Scalar.muli v4026 c4_i32_1929
  let v4035 : BitVec 32 := Scalar.addi v4033 v4034
  let c0_i32_1930 : BitVec 32 := 0#32
  let v4036 : BitVec 32 := Scalar.addi v4035 c0_i32_1930
  let v4044 : Index := Scalar.indexCast v4036
  let c0_1936 : Index := 0#32
  let c0_1937 : Index := 0#32
  ![v4044.toNat, 0, 0]

def k0_off219 (v4043 : BitVec 32) : Fin 2 → Nat :=
  let v4047 : Index := Scalar.indexCast v4043
  let c0_1938 : Index := 0#32
  ![v4047.toNat, 0]

def k0_chk77 (v4043 : BitVec 32) : Prop :=
  (∀ a, (k0_off219 v4043) a + S8x128.size a ≤ S18432x128.size a)
theorem k0_off219_inb : ∀ (v4043 : BitVec 32) (k0_hw77 : k0_chk77 v4043), ∀ a, (k0_off219 v4043) a + S8x128.size a ≤ S18432x128.size a := fun v4043 k0_hw77 => k0_hw77

def k0_off220 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1925 : BitVec 32 := 38#32
  let v4025 : BitVec 32 := Scalar.muli arg13 c38_i32_1925
  let c15_i32 : BitVec 32 := 15#32
  let v4026 : BitVec 32 := Scalar.addi v4025 c15_i32
  let c4_i32_1939 : BitVec 32 := 4#32
  let v4050 : BitVec 32 := Scalar.muli v4026 c4_i32_1939
  let c1_i32_1940 : BitVec 32 := 1#32
  let v4051 : BitVec 32 := Scalar.addi v4050 c1_i32_1940
  let v4052 : Index := Scalar.indexCast v4051
  ![v4052.toNat]
def k0_off221 (i : grid0.Coords) (k0_t2 : Fin k0_t2_loop.trips) (v4028 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1927 : BitVec 32 := 2#32
  let v4031 : BitVec 32 := Scalar.muli v2959 c2_i32_1927
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4029 : BitVec 32 := Scalar.shrui v4028 v2958
  let c1_i32_1926 : BitVec 32 := 1#32
  let v4030 : BitVec 32 := Scalar.andi v4029 c1_i32_1926
  let v4032 : BitVec 32 := Scalar.addi v4031 v4030
  let c1216_i32_1928 : BitVec 32 := 1216#32
  let v4033 : BitVec 32 := Scalar.muli v4032 c1216_i32_1928
  let c0_i32_1 : BitVec 32 := 0#32
  let c1_i32 : BitVec 32 := 1#32
  let arg13 : BitVec 32 := Scf.iv c0_i32_1 c1_i32 k0_t2
  let c38_i32_1925 : BitVec 32 := 38#32
  let v4025 : BitVec 32 := Scalar.muli arg13 c38_i32_1925
  let c15_i32 : BitVec 32 := 15#32
  let v4026 : BitVec 32 := Scalar.addi v4025 c15_i32
  let c4_i32_1929 : BitVec 32 := 4#32
  let v4034 : BitVec 32 := Scalar.muli v4026 c4_i32_1929
  let v4035 : BitVec 32 := Scalar.addi v4033 v4034
  let c1_i32_1931 : BitVec 32 := 1#32
  let v4037 : BitVec 32 := Scalar.addi v4035 c1_i32_1931
  let v4054 : Index := Scalar.indexCast v4037
  let c0_1941 : Index := 0#32
  let c0_1942 : Index := 0#32
  ![v4054.toNat, 0, 0]
def k0_off222 (v4053 : BitVec 32) : Fin 2 → Nat :=
  let v4057 : Index := Scalar.indexCast v4053
  let c0_1943 : Index := 0#32
  ![v4057.toNat, 0]

def k0_chk78 (v4053 : BitVec 32) : Prop :=
  (∀ a, (k0_off222 v4053) a + S8x128.size a ≤ S18432x128.size a)
theorem k0_off222_inb : ∀ (v4053 : BitVec 32) (k0_hw78 : k0_chk78 v4053), ∀ a, (k0_off222 v4053) a + S8x128.size a ≤ S18432x128.size a := fun v4053 k0_hw78 => k0_hw78

def k0_off223 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1925 : BitVec 32 := 38#32
  let v4025 : BitVec 32 := Scalar.muli arg13 c38_i32_1925
  let c15_i32 : BitVec 32 := 15#32
  let v4026 : BitVec 32 := Scalar.addi v4025 c15_i32
  let c4_i32_1944 : BitVec 32 := 4#32
  let v4060 : BitVec 32 := Scalar.muli v4026 c4_i32_1944
  let c2_i32_1945 : BitVec 32 := 2#32
  let v4061 : BitVec 32 := Scalar.addi v4060 c2_i32_1945
  let v4062 : Index := Scalar.indexCast v4061
  ![v4062.toNat]
def k0_off224 (i : grid0.Coords) (k0_t2 : Fin k0_t2_loop.trips) (v4028 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1927 : BitVec 32 := 2#32
  let v4031 : BitVec 32 := Scalar.muli v2959 c2_i32_1927
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4029 : BitVec 32 := Scalar.shrui v4028 v2958
  let c1_i32_1926 : BitVec 32 := 1#32
  let v4030 : BitVec 32 := Scalar.andi v4029 c1_i32_1926
  let v4032 : BitVec 32 := Scalar.addi v4031 v4030
  let c1216_i32_1928 : BitVec 32 := 1216#32
  let v4033 : BitVec 32 := Scalar.muli v4032 c1216_i32_1928
  let c0_i32_1 : BitVec 32 := 0#32
  let c1_i32 : BitVec 32 := 1#32
  let arg13 : BitVec 32 := Scf.iv c0_i32_1 c1_i32 k0_t2
  let c38_i32_1925 : BitVec 32 := 38#32
  let v4025 : BitVec 32 := Scalar.muli arg13 c38_i32_1925
  let c15_i32 : BitVec 32 := 15#32
  let v4026 : BitVec 32 := Scalar.addi v4025 c15_i32
  let c4_i32_1929 : BitVec 32 := 4#32
  let v4034 : BitVec 32 := Scalar.muli v4026 c4_i32_1929
  let v4035 : BitVec 32 := Scalar.addi v4033 v4034
  let c2_i32_1932 : BitVec 32 := 2#32
  let v4038 : BitVec 32 := Scalar.addi v4035 c2_i32_1932
  let v4064 : Index := Scalar.indexCast v4038
  let c0_1946 : Index := 0#32
  let c0_1947 : Index := 0#32
  ![v4064.toNat, 0, 0]
def k0_off225 (v4063 : BitVec 32) : Fin 2 → Nat :=
  let v4067 : Index := Scalar.indexCast v4063
  let c0_1948 : Index := 0#32
  ![v4067.toNat, 0]

def k0_chk79 (v4063 : BitVec 32) : Prop :=
  (∀ a, (k0_off225 v4063) a + S8x128.size a ≤ S18432x128.size a)
theorem k0_off225_inb : ∀ (v4063 : BitVec 32) (k0_hw79 : k0_chk79 v4063), ∀ a, (k0_off225 v4063) a + S8x128.size a ≤ S18432x128.size a := fun v4063 k0_hw79 => k0_hw79

def k0_off226 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1925 : BitVec 32 := 38#32
  let v4025 : BitVec 32 := Scalar.muli arg13 c38_i32_1925
  let c15_i32 : BitVec 32 := 15#32
  let v4026 : BitVec 32 := Scalar.addi v4025 c15_i32
  let c4_i32_1949 : BitVec 32 := 4#32
  let v4070 : BitVec 32 := Scalar.muli v4026 c4_i32_1949
  let c3_i32_1950 : BitVec 32 := 3#32
  let v4071 : BitVec 32 := Scalar.addi v4070 c3_i32_1950
  let v4072 : Index := Scalar.indexCast v4071
  ![v4072.toNat]
def k0_off227 (i : grid0.Coords) (k0_t2 : Fin k0_t2_loop.trips) (v4028 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1927 : BitVec 32 := 2#32
  let v4031 : BitVec 32 := Scalar.muli v2959 c2_i32_1927
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4029 : BitVec 32 := Scalar.shrui v4028 v2958
  let c1_i32_1926 : BitVec 32 := 1#32
  let v4030 : BitVec 32 := Scalar.andi v4029 c1_i32_1926
  let v4032 : BitVec 32 := Scalar.addi v4031 v4030
  let c1216_i32_1928 : BitVec 32 := 1216#32
  let v4033 : BitVec 32 := Scalar.muli v4032 c1216_i32_1928
  let c0_i32_1 : BitVec 32 := 0#32
  let c1_i32 : BitVec 32 := 1#32
  let arg13 : BitVec 32 := Scf.iv c0_i32_1 c1_i32 k0_t2
  let c38_i32_1925 : BitVec 32 := 38#32
  let v4025 : BitVec 32 := Scalar.muli arg13 c38_i32_1925
  let c15_i32 : BitVec 32 := 15#32
  let v4026 : BitVec 32 := Scalar.addi v4025 c15_i32
  let c4_i32_1929 : BitVec 32 := 4#32
  let v4034 : BitVec 32 := Scalar.muli v4026 c4_i32_1929
  let v4035 : BitVec 32 := Scalar.addi v4033 v4034
  let c3_i32_1933 : BitVec 32 := 3#32
  let v4039 : BitVec 32 := Scalar.addi v4035 c3_i32_1933
  let v4074 : Index := Scalar.indexCast v4039
  let c0_1951 : Index := 0#32
  let c0_1952 : Index := 0#32
  ![v4074.toNat, 0, 0]
def k0_off228 (v4073 : BitVec 32) : Fin 2 → Nat :=
  let v4077 : Index := Scalar.indexCast v4073
  let c0_1953 : Index := 0#32
  ![v4077.toNat, 0]

def k0_chk80 (v4073 : BitVec 32) : Prop :=
  (∀ a, (k0_off228 v4073) a + S8x128.size a ≤ S18432x128.size a)
theorem k0_off228_inb : ∀ (v4073 : BitVec 32) (k0_hw80 : k0_chk80 v4073), ∀ a, (k0_off228 v4073) a + S8x128.size a ≤ S18432x128.size a := fun v4073 k0_hw80 => k0_hw80

def k0_off229 (i : grid0.Coords) (k0_t2 : Fin k0_t2_loop.trips) (v4028 : BitVec 32) (c0_i32_1930 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1927 : BitVec 32 := 2#32
  let v4031 : BitVec 32 := Scalar.muli v2959 c2_i32_1927
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4029 : BitVec 32 := Scalar.shrui v4028 v2958
  let c1_i32_1926 : BitVec 32 := 1#32
  let v4030 : BitVec 32 := Scalar.andi v4029 c1_i32_1926
  let v4032 : BitVec 32 := Scalar.addi v4031 v4030
  let c1216_i32_1928 : BitVec 32 := 1216#32
  let v4033 : BitVec 32 := Scalar.muli v4032 c1216_i32_1928
  let c0_i32_1 : BitVec 32 := 0#32
  let c1_i32 : BitVec 32 := 1#32
  let arg13 : BitVec 32 := Scf.iv c0_i32_1 c1_i32 k0_t2
  let c38_i32_1925 : BitVec 32 := 38#32
  let v4025 : BitVec 32 := Scalar.muli arg13 c38_i32_1925
  let c15_i32 : BitVec 32 := 15#32
  let v4026 : BitVec 32 := Scalar.addi v4025 c15_i32
  let c4_i32_1929 : BitVec 32 := 4#32
  let v4034 : BitVec 32 := Scalar.muli v4026 c4_i32_1929
  let v4035 : BitVec 32 := Scalar.addi v4033 v4034
  let v4036 : BitVec 32 := Scalar.addi v4035 c0_i32_1930
  let v4080 : Index := Scalar.indexCast v4036
  let c0_1954 : Index := 0#32
  let c0_1955 : Index := 0#32
  ![v4080.toNat, 0, 0]

def k0_chk76 (i : grid0.Coords) (k0_t2 : Fin k0_t2_loop.trips) (v4028 : BitVec 32) : Prop :=
  (∀ a, (k0_off218 i k0_t2 v4028) a + S1x8x128.size a ≤ S7296x8x128.size a) ∧
  (∀ a, (k0_off221 i k0_t2 v4028) a + S1x8x128.size a ≤ S7296x8x128.size a) ∧
  (∀ a, (k0_off224 i k0_t2 v4028) a + S1x8x128.size a ≤ S7296x8x128.size a) ∧
  (∀ a, (k0_off227 i k0_t2 v4028) a + S1x8x128.size a ≤ S7296x8x128.size a) ∧
  (∀ (r : Fin 4), ∀ a, (k0_off229 i k0_t2 v4028 (BitVec.ofNat 32 r.val)) a + S1x8x128.size a ≤ S7296x8x128.size a)
theorem k0_off218_inb : ∀ (i : grid0.Coords) (k0_t2 : Fin k0_t2_loop.trips) (v4028 : BitVec 32) (k0_hw76 : k0_chk76 i k0_t2 v4028), ∀ a, (k0_off218 i k0_t2 v4028) a + S1x8x128.size a ≤ S7296x8x128.size a := fun i k0_t2 v4028 k0_hw76 => k0_hw76.1
theorem k0_off221_inb : ∀ (i : grid0.Coords) (k0_t2 : Fin k0_t2_loop.trips) (v4028 : BitVec 32) (k0_hw76 : k0_chk76 i k0_t2 v4028), ∀ a, (k0_off221 i k0_t2 v4028) a + S1x8x128.size a ≤ S7296x8x128.size a := fun i k0_t2 v4028 k0_hw76 => k0_hw76.2.1
theorem k0_off224_inb : ∀ (i : grid0.Coords) (k0_t2 : Fin k0_t2_loop.trips) (v4028 : BitVec 32) (k0_hw76 : k0_chk76 i k0_t2 v4028), ∀ a, (k0_off224 i k0_t2 v4028) a + S1x8x128.size a ≤ S7296x8x128.size a := fun i k0_t2 v4028 k0_hw76 => k0_hw76.2.2.1
theorem k0_off227_inb : ∀ (i : grid0.Coords) (k0_t2 : Fin k0_t2_loop.trips) (v4028 : BitVec 32) (k0_hw76 : k0_chk76 i k0_t2 v4028), ∀ a, (k0_off227 i k0_t2 v4028) a + S1x8x128.size a ≤ S7296x8x128.size a := fun i k0_t2 v4028 k0_hw76 => k0_hw76.2.2.2.1
theorem k0_off229_inb : ∀ (i : grid0.Coords) (k0_t2 : Fin k0_t2_loop.trips) (v4028 : BitVec 32) (k0_hw76 : k0_chk76 i k0_t2 v4028), ∀ (r : Fin 4), ∀ a, (k0_off229 i k0_t2 v4028 (BitVec.ofNat 32 r.val)) a + S1x8x128.size a ≤ S7296x8x128.size a := fun i k0_t2 v4028 k0_hw76 r => k0_hw76.2.2.2.2 r

def k0_off230 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1962 : BitVec 32 := 38#32
  let v4096 : BitVec 32 := Scalar.muli arg13 c38_i32_1962
  let c16_i32 : BitVec 32 := 16#32
  let v4097 : BitVec 32 := Scalar.addi v4096 c16_i32
  let v4098 : Index := Scalar.indexCast v4097
  ![v4098.toNat]
def k0_off231 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1962 : BitVec 32 := 38#32
  let v4096 : BitVec 32 := Scalar.muli arg13 c38_i32_1962
  let c16_i32 : BitVec 32 := 16#32
  let v4097 : BitVec 32 := Scalar.addi v4096 c16_i32
  let c4_i32_1971 : BitVec 32 := 4#32
  let v4111 : BitVec 32 := Scalar.muli v4097 c4_i32_1971
  let c0_i32_1972 : BitVec 32 := 0#32
  let v4112 : BitVec 32 := Scalar.addi v4111 c0_i32_1972
  let v4113 : Index := Scalar.indexCast v4112
  ![v4113.toNat]
def k0_off232 (i : grid0.Coords) (k0_t2 : Fin k0_t2_loop.trips) (v4099 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1964 : BitVec 32 := 2#32
  let v4102 : BitVec 32 := Scalar.muli v2959 c2_i32_1964
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4100 : BitVec 32 := Scalar.shrui v4099 v2958
  let c1_i32_1963 : BitVec 32 := 1#32
  let v4101 : BitVec 32 := Scalar.andi v4100 c1_i32_1963
  let v4103 : BitVec 32 := Scalar.addi v4102 v4101
  let c1216_i32_1965 : BitVec 32 := 1216#32
  let v4104 : BitVec 32 := Scalar.muli v4103 c1216_i32_1965
  let c0_i32_1 : BitVec 32 := 0#32
  let c1_i32 : BitVec 32 := 1#32
  let arg13 : BitVec 32 := Scf.iv c0_i32_1 c1_i32 k0_t2
  let c38_i32_1962 : BitVec 32 := 38#32
  let v4096 : BitVec 32 := Scalar.muli arg13 c38_i32_1962
  let c16_i32 : BitVec 32 := 16#32
  let v4097 : BitVec 32 := Scalar.addi v4096 c16_i32
  let c4_i32_1966 : BitVec 32 := 4#32
  let v4105 : BitVec 32 := Scalar.muli v4097 c4_i32_1966
  let v4106 : BitVec 32 := Scalar.addi v4104 v4105
  let c0_i32_1967 : BitVec 32 := 0#32
  let v4107 : BitVec 32 := Scalar.addi v4106 c0_i32_1967
  let v4115 : Index := Scalar.indexCast v4107
  let c0_1973 : Index := 0#32
  let c0_1974 : Index := 0#32
  ![v4115.toNat, 0, 0]

def k0_off233 (v4114 : BitVec 32) : Fin 2 → Nat :=
  let v4118 : Index := Scalar.indexCast v4114
  let c0_1975 : Index := 0#32
  ![v4118.toNat, 0]

def k0_chk82 (v4114 : BitVec 32) : Prop :=
  (∀ a, (k0_off233 v4114) a + S8x128.size a ≤ S18432x128.size a)
theorem k0_off233_inb : ∀ (v4114 : BitVec 32) (k0_hw82 : k0_chk82 v4114), ∀ a, (k0_off233 v4114) a + S8x128.size a ≤ S18432x128.size a := fun v4114 k0_hw82 => k0_hw82

def k0_off234 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1962 : BitVec 32 := 38#32
  let v4096 : BitVec 32 := Scalar.muli arg13 c38_i32_1962
  let c16_i32 : BitVec 32 := 16#32
  let v4097 : BitVec 32 := Scalar.addi v4096 c16_i32
  let c4_i32_1976 : BitVec 32 := 4#32
  let v4121 : BitVec 32 := Scalar.muli v4097 c4_i32_1976
  let c1_i32_1977 : BitVec 32 := 1#32
  let v4122 : BitVec 32 := Scalar.addi v4121 c1_i32_1977
  let v4123 : Index := Scalar.indexCast v4122
  ![v4123.toNat]
def k0_off235 (i : grid0.Coords) (k0_t2 : Fin k0_t2_loop.trips) (v4099 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1964 : BitVec 32 := 2#32
  let v4102 : BitVec 32 := Scalar.muli v2959 c2_i32_1964
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4100 : BitVec 32 := Scalar.shrui v4099 v2958
  let c1_i32_1963 : BitVec 32 := 1#32
  let v4101 : BitVec 32 := Scalar.andi v4100 c1_i32_1963
  let v4103 : BitVec 32 := Scalar.addi v4102 v4101
  let c1216_i32_1965 : BitVec 32 := 1216#32
  let v4104 : BitVec 32 := Scalar.muli v4103 c1216_i32_1965
  let c0_i32_1 : BitVec 32 := 0#32
  let c1_i32 : BitVec 32 := 1#32
  let arg13 : BitVec 32 := Scf.iv c0_i32_1 c1_i32 k0_t2
  let c38_i32_1962 : BitVec 32 := 38#32
  let v4096 : BitVec 32 := Scalar.muli arg13 c38_i32_1962
  let c16_i32 : BitVec 32 := 16#32
  let v4097 : BitVec 32 := Scalar.addi v4096 c16_i32
  let c4_i32_1966 : BitVec 32 := 4#32
  let v4105 : BitVec 32 := Scalar.muli v4097 c4_i32_1966
  let v4106 : BitVec 32 := Scalar.addi v4104 v4105
  let c1_i32_1968 : BitVec 32 := 1#32
  let v4108 : BitVec 32 := Scalar.addi v4106 c1_i32_1968
  let v4125 : Index := Scalar.indexCast v4108
  let c0_1978 : Index := 0#32
  let c0_1979 : Index := 0#32
  ![v4125.toNat, 0, 0]
def k0_off236 (v4124 : BitVec 32) : Fin 2 → Nat :=
  let v4128 : Index := Scalar.indexCast v4124
  let c0_1980 : Index := 0#32
  ![v4128.toNat, 0]

def k0_chk83 (v4124 : BitVec 32) : Prop :=
  (∀ a, (k0_off236 v4124) a + S8x128.size a ≤ S18432x128.size a)
theorem k0_off236_inb : ∀ (v4124 : BitVec 32) (k0_hw83 : k0_chk83 v4124), ∀ a, (k0_off236 v4124) a + S8x128.size a ≤ S18432x128.size a := fun v4124 k0_hw83 => k0_hw83

def k0_off237 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1962 : BitVec 32 := 38#32
  let v4096 : BitVec 32 := Scalar.muli arg13 c38_i32_1962
  let c16_i32 : BitVec 32 := 16#32
  let v4097 : BitVec 32 := Scalar.addi v4096 c16_i32
  let c4_i32_1981 : BitVec 32 := 4#32
  let v4131 : BitVec 32 := Scalar.muli v4097 c4_i32_1981
  let c2_i32_1982 : BitVec 32 := 2#32
  let v4132 : BitVec 32 := Scalar.addi v4131 c2_i32_1982
  let v4133 : Index := Scalar.indexCast v4132
  ![v4133.toNat]
def k0_off238 (i : grid0.Coords) (k0_t2 : Fin k0_t2_loop.trips) (v4099 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1964 : BitVec 32 := 2#32
  let v4102 : BitVec 32 := Scalar.muli v2959 c2_i32_1964
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4100 : BitVec 32 := Scalar.shrui v4099 v2958
  let c1_i32_1963 : BitVec 32 := 1#32
  let v4101 : BitVec 32 := Scalar.andi v4100 c1_i32_1963
  let v4103 : BitVec 32 := Scalar.addi v4102 v4101
  let c1216_i32_1965 : BitVec 32 := 1216#32
  let v4104 : BitVec 32 := Scalar.muli v4103 c1216_i32_1965
  let c0_i32_1 : BitVec 32 := 0#32
  let c1_i32 : BitVec 32 := 1#32
  let arg13 : BitVec 32 := Scf.iv c0_i32_1 c1_i32 k0_t2
  let c38_i32_1962 : BitVec 32 := 38#32
  let v4096 : BitVec 32 := Scalar.muli arg13 c38_i32_1962
  let c16_i32 : BitVec 32 := 16#32
  let v4097 : BitVec 32 := Scalar.addi v4096 c16_i32
  let c4_i32_1966 : BitVec 32 := 4#32
  let v4105 : BitVec 32 := Scalar.muli v4097 c4_i32_1966
  let v4106 : BitVec 32 := Scalar.addi v4104 v4105
  let c2_i32_1969 : BitVec 32 := 2#32
  let v4109 : BitVec 32 := Scalar.addi v4106 c2_i32_1969
  let v4135 : Index := Scalar.indexCast v4109
  let c0_1983 : Index := 0#32
  let c0_1984 : Index := 0#32
  ![v4135.toNat, 0, 0]
def k0_off239 (v4134 : BitVec 32) : Fin 2 → Nat :=
  let v4138 : Index := Scalar.indexCast v4134
  let c0_1985 : Index := 0#32
  ![v4138.toNat, 0]

def k0_chk84 (v4134 : BitVec 32) : Prop :=
  (∀ a, (k0_off239 v4134) a + S8x128.size a ≤ S18432x128.size a)
theorem k0_off239_inb : ∀ (v4134 : BitVec 32) (k0_hw84 : k0_chk84 v4134), ∀ a, (k0_off239 v4134) a + S8x128.size a ≤ S18432x128.size a := fun v4134 k0_hw84 => k0_hw84

def k0_off240 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1962 : BitVec 32 := 38#32
  let v4096 : BitVec 32 := Scalar.muli arg13 c38_i32_1962
  let c16_i32 : BitVec 32 := 16#32
  let v4097 : BitVec 32 := Scalar.addi v4096 c16_i32
  let c4_i32_1986 : BitVec 32 := 4#32
  let v4141 : BitVec 32 := Scalar.muli v4097 c4_i32_1986
  let c3_i32_1987 : BitVec 32 := 3#32
  let v4142 : BitVec 32 := Scalar.addi v4141 c3_i32_1987
  let v4143 : Index := Scalar.indexCast v4142
  ![v4143.toNat]
def k0_off241 (i : grid0.Coords) (k0_t2 : Fin k0_t2_loop.trips) (v4099 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1964 : BitVec 32 := 2#32
  let v4102 : BitVec 32 := Scalar.muli v2959 c2_i32_1964
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4100 : BitVec 32 := Scalar.shrui v4099 v2958
  let c1_i32_1963 : BitVec 32 := 1#32
  let v4101 : BitVec 32 := Scalar.andi v4100 c1_i32_1963
  let v4103 : BitVec 32 := Scalar.addi v4102 v4101
  let c1216_i32_1965 : BitVec 32 := 1216#32
  let v4104 : BitVec 32 := Scalar.muli v4103 c1216_i32_1965
  let c0_i32_1 : BitVec 32 := 0#32
  let c1_i32 : BitVec 32 := 1#32
  let arg13 : BitVec 32 := Scf.iv c0_i32_1 c1_i32 k0_t2
  let c38_i32_1962 : BitVec 32 := 38#32
  let v4096 : BitVec 32 := Scalar.muli arg13 c38_i32_1962
  let c16_i32 : BitVec 32 := 16#32
  let v4097 : BitVec 32 := Scalar.addi v4096 c16_i32
  let c4_i32_1966 : BitVec 32 := 4#32
  let v4105 : BitVec 32 := Scalar.muli v4097 c4_i32_1966
  let v4106 : BitVec 32 := Scalar.addi v4104 v4105
  let c3_i32_1970 : BitVec 32 := 3#32
  let v4110 : BitVec 32 := Scalar.addi v4106 c3_i32_1970
  let v4145 : Index := Scalar.indexCast v4110
  let c0_1988 : Index := 0#32
  let c0_1989 : Index := 0#32
  ![v4145.toNat, 0, 0]
def k0_off242 (v4144 : BitVec 32) : Fin 2 → Nat :=
  let v4148 : Index := Scalar.indexCast v4144
  let c0_1990 : Index := 0#32
  ![v4148.toNat, 0]

def k0_chk85 (v4144 : BitVec 32) : Prop :=
  (∀ a, (k0_off242 v4144) a + S8x128.size a ≤ S18432x128.size a)
theorem k0_off242_inb : ∀ (v4144 : BitVec 32) (k0_hw85 : k0_chk85 v4144), ∀ a, (k0_off242 v4144) a + S8x128.size a ≤ S18432x128.size a := fun v4144 k0_hw85 => k0_hw85

def k0_off243 (i : grid0.Coords) (k0_t2 : Fin k0_t2_loop.trips) (v4099 : BitVec 32) (c0_i32_1967 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_1964 : BitVec 32 := 2#32
  let v4102 : BitVec 32 := Scalar.muli v2959 c2_i32_1964
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4100 : BitVec 32 := Scalar.shrui v4099 v2958
  let c1_i32_1963 : BitVec 32 := 1#32
  let v4101 : BitVec 32 := Scalar.andi v4100 c1_i32_1963
  let v4103 : BitVec 32 := Scalar.addi v4102 v4101
  let c1216_i32_1965 : BitVec 32 := 1216#32
  let v4104 : BitVec 32 := Scalar.muli v4103 c1216_i32_1965
  let c0_i32_1 : BitVec 32 := 0#32
  let c1_i32 : BitVec 32 := 1#32
  let arg13 : BitVec 32 := Scf.iv c0_i32_1 c1_i32 k0_t2
  let c38_i32_1962 : BitVec 32 := 38#32
  let v4096 : BitVec 32 := Scalar.muli arg13 c38_i32_1962
  let c16_i32 : BitVec 32 := 16#32
  let v4097 : BitVec 32 := Scalar.addi v4096 c16_i32
  let c4_i32_1966 : BitVec 32 := 4#32
  let v4105 : BitVec 32 := Scalar.muli v4097 c4_i32_1966
  let v4106 : BitVec 32 := Scalar.addi v4104 v4105
  let v4107 : BitVec 32 := Scalar.addi v4106 c0_i32_1967
  let v4151 : Index := Scalar.indexCast v4107
  let c0_1991 : Index := 0#32
  let c0_1992 : Index := 0#32
  ![v4151.toNat, 0, 0]

def k0_chk81 (i : grid0.Coords) (k0_t2 : Fin k0_t2_loop.trips) (v4099 : BitVec 32) : Prop :=
  (∀ a, (k0_off232 i k0_t2 v4099) a + S1x8x128.size a ≤ S7296x8x128.size a) ∧
  (∀ a, (k0_off235 i k0_t2 v4099) a + S1x8x128.size a ≤ S7296x8x128.size a) ∧
  (∀ a, (k0_off238 i k0_t2 v4099) a + S1x8x128.size a ≤ S7296x8x128.size a) ∧
  (∀ a, (k0_off241 i k0_t2 v4099) a + S1x8x128.size a ≤ S7296x8x128.size a) ∧
  (∀ (r : Fin 4), ∀ a, (k0_off243 i k0_t2 v4099 (BitVec.ofNat 32 r.val)) a + S1x8x128.size a ≤ S7296x8x128.size a)
theorem k0_off232_inb : ∀ (i : grid0.Coords) (k0_t2 : Fin k0_t2_loop.trips) (v4099 : BitVec 32) (k0_hw81 : k0_chk81 i k0_t2 v4099), ∀ a, (k0_off232 i k0_t2 v4099) a + S1x8x128.size a ≤ S7296x8x128.size a := fun i k0_t2 v4099 k0_hw81 => k0_hw81.1
theorem k0_off235_inb : ∀ (i : grid0.Coords) (k0_t2 : Fin k0_t2_loop.trips) (v4099 : BitVec 32) (k0_hw81 : k0_chk81 i k0_t2 v4099), ∀ a, (k0_off235 i k0_t2 v4099) a + S1x8x128.size a ≤ S7296x8x128.size a := fun i k0_t2 v4099 k0_hw81 => k0_hw81.2.1
theorem k0_off238_inb : ∀ (i : grid0.Coords) (k0_t2 : Fin k0_t2_loop.trips) (v4099 : BitVec 32) (k0_hw81 : k0_chk81 i k0_t2 v4099), ∀ a, (k0_off238 i k0_t2 v4099) a + S1x8x128.size a ≤ S7296x8x128.size a := fun i k0_t2 v4099 k0_hw81 => k0_hw81.2.2.1
theorem k0_off241_inb : ∀ (i : grid0.Coords) (k0_t2 : Fin k0_t2_loop.trips) (v4099 : BitVec 32) (k0_hw81 : k0_chk81 i k0_t2 v4099), ∀ a, (k0_off241 i k0_t2 v4099) a + S1x8x128.size a ≤ S7296x8x128.size a := fun i k0_t2 v4099 k0_hw81 => k0_hw81.2.2.2.1
theorem k0_off243_inb : ∀ (i : grid0.Coords) (k0_t2 : Fin k0_t2_loop.trips) (v4099 : BitVec 32) (k0_hw81 : k0_chk81 i k0_t2 v4099), ∀ (r : Fin 4), ∀ a, (k0_off243 i k0_t2 v4099 (BitVec.ofNat 32 r.val)) a + S1x8x128.size a ≤ S7296x8x128.size a := fun i k0_t2 v4099 k0_hw81 r => k0_hw81.2.2.2.2 r

def k0_off244 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1999 : BitVec 32 := 38#32
  let v4167 : BitVec 32 := Scalar.muli arg13 c38_i32_1999
  let c17_i32 : BitVec 32 := 17#32
  let v4168 : BitVec 32 := Scalar.addi v4167 c17_i32
  let v4169 : Index := Scalar.indexCast v4168
  ![v4169.toNat]
def k0_off245 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1999 : BitVec 32 := 38#32
  let v4167 : BitVec 32 := Scalar.muli arg13 c38_i32_1999
  let c17_i32 : BitVec 32 := 17#32
  let v4168 : BitVec 32 := Scalar.addi v4167 c17_i32
  let c4_i32_2008 : BitVec 32 := 4#32
  let v4182 : BitVec 32 := Scalar.muli v4168 c4_i32_2008
  let c0_i32_2009 : BitVec 32 := 0#32
  let v4183 : BitVec 32 := Scalar.addi v4182 c0_i32_2009
  let v4184 : Index := Scalar.indexCast v4183
  ![v4184.toNat]
def k0_off246 (i : grid0.Coords) (k0_t2 : Fin k0_t2_loop.trips) (v4170 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2001 : BitVec 32 := 2#32
  let v4173 : BitVec 32 := Scalar.muli v2959 c2_i32_2001
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4171 : BitVec 32 := Scalar.shrui v4170 v2958
  let c1_i32_2000 : BitVec 32 := 1#32
  let v4172 : BitVec 32 := Scalar.andi v4171 c1_i32_2000
  let v4174 : BitVec 32 := Scalar.addi v4173 v4172
  let c1216_i32_2002 : BitVec 32 := 1216#32
  let v4175 : BitVec 32 := Scalar.muli v4174 c1216_i32_2002
  let c0_i32_1 : BitVec 32 := 0#32
  let c1_i32 : BitVec 32 := 1#32
  let arg13 : BitVec 32 := Scf.iv c0_i32_1 c1_i32 k0_t2
  let c38_i32_1999 : BitVec 32 := 38#32
  let v4167 : BitVec 32 := Scalar.muli arg13 c38_i32_1999
  let c17_i32 : BitVec 32 := 17#32
  let v4168 : BitVec 32 := Scalar.addi v4167 c17_i32
  let c4_i32_2003 : BitVec 32 := 4#32
  let v4176 : BitVec 32 := Scalar.muli v4168 c4_i32_2003
  let v4177 : BitVec 32 := Scalar.addi v4175 v4176
  let c0_i32_2004 : BitVec 32 := 0#32
  let v4178 : BitVec 32 := Scalar.addi v4177 c0_i32_2004
  let v4186 : Index := Scalar.indexCast v4178
  let c0_2010 : Index := 0#32
  let c0_2011 : Index := 0#32
  ![v4186.toNat, 0, 0]

def k0_off247 (v4185 : BitVec 32) : Fin 2 → Nat :=
  let v4189 : Index := Scalar.indexCast v4185
  let c0_2012 : Index := 0#32
  ![v4189.toNat, 0]

def k0_chk87 (v4185 : BitVec 32) : Prop :=
  (∀ a, (k0_off247 v4185) a + S8x128.size a ≤ S18432x128.size a)
theorem k0_off247_inb : ∀ (v4185 : BitVec 32) (k0_hw87 : k0_chk87 v4185), ∀ a, (k0_off247 v4185) a + S8x128.size a ≤ S18432x128.size a := fun v4185 k0_hw87 => k0_hw87

def k0_off248 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1999 : BitVec 32 := 38#32
  let v4167 : BitVec 32 := Scalar.muli arg13 c38_i32_1999
  let c17_i32 : BitVec 32 := 17#32
  let v4168 : BitVec 32 := Scalar.addi v4167 c17_i32
  let c4_i32_2013 : BitVec 32 := 4#32
  let v4192 : BitVec 32 := Scalar.muli v4168 c4_i32_2013
  let c1_i32_2014 : BitVec 32 := 1#32
  let v4193 : BitVec 32 := Scalar.addi v4192 c1_i32_2014
  let v4194 : Index := Scalar.indexCast v4193
  ![v4194.toNat]
def k0_off249 (i : grid0.Coords) (k0_t2 : Fin k0_t2_loop.trips) (v4170 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2001 : BitVec 32 := 2#32
  let v4173 : BitVec 32 := Scalar.muli v2959 c2_i32_2001
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4171 : BitVec 32 := Scalar.shrui v4170 v2958
  let c1_i32_2000 : BitVec 32 := 1#32
  let v4172 : BitVec 32 := Scalar.andi v4171 c1_i32_2000
  let v4174 : BitVec 32 := Scalar.addi v4173 v4172
  let c1216_i32_2002 : BitVec 32 := 1216#32
  let v4175 : BitVec 32 := Scalar.muli v4174 c1216_i32_2002
  let c0_i32_1 : BitVec 32 := 0#32
  let c1_i32 : BitVec 32 := 1#32
  let arg13 : BitVec 32 := Scf.iv c0_i32_1 c1_i32 k0_t2
  let c38_i32_1999 : BitVec 32 := 38#32
  let v4167 : BitVec 32 := Scalar.muli arg13 c38_i32_1999
  let c17_i32 : BitVec 32 := 17#32
  let v4168 : BitVec 32 := Scalar.addi v4167 c17_i32
  let c4_i32_2003 : BitVec 32 := 4#32
  let v4176 : BitVec 32 := Scalar.muli v4168 c4_i32_2003
  let v4177 : BitVec 32 := Scalar.addi v4175 v4176
  let c1_i32_2005 : BitVec 32 := 1#32
  let v4179 : BitVec 32 := Scalar.addi v4177 c1_i32_2005
  let v4196 : Index := Scalar.indexCast v4179
  let c0_2015 : Index := 0#32
  let c0_2016 : Index := 0#32
  ![v4196.toNat, 0, 0]
def k0_off250 (v4195 : BitVec 32) : Fin 2 → Nat :=
  let v4199 : Index := Scalar.indexCast v4195
  let c0_2017 : Index := 0#32
  ![v4199.toNat, 0]

def k0_chk88 (v4195 : BitVec 32) : Prop :=
  (∀ a, (k0_off250 v4195) a + S8x128.size a ≤ S18432x128.size a)
theorem k0_off250_inb : ∀ (v4195 : BitVec 32) (k0_hw88 : k0_chk88 v4195), ∀ a, (k0_off250 v4195) a + S8x128.size a ≤ S18432x128.size a := fun v4195 k0_hw88 => k0_hw88

def k0_off251 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1999 : BitVec 32 := 38#32
  let v4167 : BitVec 32 := Scalar.muli arg13 c38_i32_1999
  let c17_i32 : BitVec 32 := 17#32
  let v4168 : BitVec 32 := Scalar.addi v4167 c17_i32
  let c4_i32_2018 : BitVec 32 := 4#32
  let v4202 : BitVec 32 := Scalar.muli v4168 c4_i32_2018
  let c2_i32_2019 : BitVec 32 := 2#32
  let v4203 : BitVec 32 := Scalar.addi v4202 c2_i32_2019
  let v4204 : Index := Scalar.indexCast v4203
  ![v4204.toNat]
def k0_off252 (i : grid0.Coords) (k0_t2 : Fin k0_t2_loop.trips) (v4170 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2001 : BitVec 32 := 2#32
  let v4173 : BitVec 32 := Scalar.muli v2959 c2_i32_2001
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4171 : BitVec 32 := Scalar.shrui v4170 v2958
  let c1_i32_2000 : BitVec 32 := 1#32
  let v4172 : BitVec 32 := Scalar.andi v4171 c1_i32_2000
  let v4174 : BitVec 32 := Scalar.addi v4173 v4172
  let c1216_i32_2002 : BitVec 32 := 1216#32
  let v4175 : BitVec 32 := Scalar.muli v4174 c1216_i32_2002
  let c0_i32_1 : BitVec 32 := 0#32
  let c1_i32 : BitVec 32 := 1#32
  let arg13 : BitVec 32 := Scf.iv c0_i32_1 c1_i32 k0_t2
  let c38_i32_1999 : BitVec 32 := 38#32
  let v4167 : BitVec 32 := Scalar.muli arg13 c38_i32_1999
  let c17_i32 : BitVec 32 := 17#32
  let v4168 : BitVec 32 := Scalar.addi v4167 c17_i32
  let c4_i32_2003 : BitVec 32 := 4#32
  let v4176 : BitVec 32 := Scalar.muli v4168 c4_i32_2003
  let v4177 : BitVec 32 := Scalar.addi v4175 v4176
  let c2_i32_2006 : BitVec 32 := 2#32
  let v4180 : BitVec 32 := Scalar.addi v4177 c2_i32_2006
  let v4206 : Index := Scalar.indexCast v4180
  let c0_2020 : Index := 0#32
  let c0_2021 : Index := 0#32
  ![v4206.toNat, 0, 0]
def k0_off253 (v4205 : BitVec 32) : Fin 2 → Nat :=
  let v4209 : Index := Scalar.indexCast v4205
  let c0_2022 : Index := 0#32
  ![v4209.toNat, 0]

def k0_chk89 (v4205 : BitVec 32) : Prop :=
  (∀ a, (k0_off253 v4205) a + S8x128.size a ≤ S18432x128.size a)
theorem k0_off253_inb : ∀ (v4205 : BitVec 32) (k0_hw89 : k0_chk89 v4205), ∀ a, (k0_off253 v4205) a + S8x128.size a ≤ S18432x128.size a := fun v4205 k0_hw89 => k0_hw89

def k0_off254 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_1999 : BitVec 32 := 38#32
  let v4167 : BitVec 32 := Scalar.muli arg13 c38_i32_1999
  let c17_i32 : BitVec 32 := 17#32
  let v4168 : BitVec 32 := Scalar.addi v4167 c17_i32
  let c4_i32_2023 : BitVec 32 := 4#32
  let v4212 : BitVec 32 := Scalar.muli v4168 c4_i32_2023
  let c3_i32_2024 : BitVec 32 := 3#32
  let v4213 : BitVec 32 := Scalar.addi v4212 c3_i32_2024
  let v4214 : Index := Scalar.indexCast v4213
  ![v4214.toNat]
def k0_off255 (i : grid0.Coords) (k0_t2 : Fin k0_t2_loop.trips) (v4170 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2001 : BitVec 32 := 2#32
  let v4173 : BitVec 32 := Scalar.muli v2959 c2_i32_2001
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4171 : BitVec 32 := Scalar.shrui v4170 v2958
  let c1_i32_2000 : BitVec 32 := 1#32
  let v4172 : BitVec 32 := Scalar.andi v4171 c1_i32_2000
  let v4174 : BitVec 32 := Scalar.addi v4173 v4172
  let c1216_i32_2002 : BitVec 32 := 1216#32
  let v4175 : BitVec 32 := Scalar.muli v4174 c1216_i32_2002
  let c0_i32_1 : BitVec 32 := 0#32
  let c1_i32 : BitVec 32 := 1#32
  let arg13 : BitVec 32 := Scf.iv c0_i32_1 c1_i32 k0_t2
  let c38_i32_1999 : BitVec 32 := 38#32
  let v4167 : BitVec 32 := Scalar.muli arg13 c38_i32_1999
  let c17_i32 : BitVec 32 := 17#32
  let v4168 : BitVec 32 := Scalar.addi v4167 c17_i32
  let c4_i32_2003 : BitVec 32 := 4#32
  let v4176 : BitVec 32 := Scalar.muli v4168 c4_i32_2003
  let v4177 : BitVec 32 := Scalar.addi v4175 v4176
  let c3_i32_2007 : BitVec 32 := 3#32
  let v4181 : BitVec 32 := Scalar.addi v4177 c3_i32_2007
  let v4216 : Index := Scalar.indexCast v4181
  let c0_2025 : Index := 0#32
  let c0_2026 : Index := 0#32
  ![v4216.toNat, 0, 0]
def k0_off256 (v4215 : BitVec 32) : Fin 2 → Nat :=
  let v4219 : Index := Scalar.indexCast v4215
  let c0_2027 : Index := 0#32
  ![v4219.toNat, 0]

def k0_chk90 (v4215 : BitVec 32) : Prop :=
  (∀ a, (k0_off256 v4215) a + S8x128.size a ≤ S18432x128.size a)
theorem k0_off256_inb : ∀ (v4215 : BitVec 32) (k0_hw90 : k0_chk90 v4215), ∀ a, (k0_off256 v4215) a + S8x128.size a ≤ S18432x128.size a := fun v4215 k0_hw90 => k0_hw90

def k0_off257 (i : grid0.Coords) (k0_t2 : Fin k0_t2_loop.trips) (v4170 : BitVec 32) (c0_i32_2004 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2001 : BitVec 32 := 2#32
  let v4173 : BitVec 32 := Scalar.muli v2959 c2_i32_2001
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4171 : BitVec 32 := Scalar.shrui v4170 v2958
  let c1_i32_2000 : BitVec 32 := 1#32
  let v4172 : BitVec 32 := Scalar.andi v4171 c1_i32_2000
  let v4174 : BitVec 32 := Scalar.addi v4173 v4172
  let c1216_i32_2002 : BitVec 32 := 1216#32
  let v4175 : BitVec 32 := Scalar.muli v4174 c1216_i32_2002
  let c0_i32_1 : BitVec 32 := 0#32
  let c1_i32 : BitVec 32 := 1#32
  let arg13 : BitVec 32 := Scf.iv c0_i32_1 c1_i32 k0_t2
  let c38_i32_1999 : BitVec 32 := 38#32
  let v4167 : BitVec 32 := Scalar.muli arg13 c38_i32_1999
  let c17_i32 : BitVec 32 := 17#32
  let v4168 : BitVec 32 := Scalar.addi v4167 c17_i32
  let c4_i32_2003 : BitVec 32 := 4#32
  let v4176 : BitVec 32 := Scalar.muli v4168 c4_i32_2003
  let v4177 : BitVec 32 := Scalar.addi v4175 v4176
  let v4178 : BitVec 32 := Scalar.addi v4177 c0_i32_2004
  let v4222 : Index := Scalar.indexCast v4178
  let c0_2028 : Index := 0#32
  let c0_2029 : Index := 0#32
  ![v4222.toNat, 0, 0]

def k0_chk86 (i : grid0.Coords) (k0_t2 : Fin k0_t2_loop.trips) (v4170 : BitVec 32) : Prop :=
  (∀ a, (k0_off246 i k0_t2 v4170) a + S1x8x128.size a ≤ S7296x8x128.size a) ∧
  (∀ a, (k0_off249 i k0_t2 v4170) a + S1x8x128.size a ≤ S7296x8x128.size a) ∧
  (∀ a, (k0_off252 i k0_t2 v4170) a + S1x8x128.size a ≤ S7296x8x128.size a) ∧
  (∀ a, (k0_off255 i k0_t2 v4170) a + S1x8x128.size a ≤ S7296x8x128.size a) ∧
  (∀ (r : Fin 4), ∀ a, (k0_off257 i k0_t2 v4170 (BitVec.ofNat 32 r.val)) a + S1x8x128.size a ≤ S7296x8x128.size a)
theorem k0_off246_inb : ∀ (i : grid0.Coords) (k0_t2 : Fin k0_t2_loop.trips) (v4170 : BitVec 32) (k0_hw86 : k0_chk86 i k0_t2 v4170), ∀ a, (k0_off246 i k0_t2 v4170) a + S1x8x128.size a ≤ S7296x8x128.size a := fun i k0_t2 v4170 k0_hw86 => k0_hw86.1
theorem k0_off249_inb : ∀ (i : grid0.Coords) (k0_t2 : Fin k0_t2_loop.trips) (v4170 : BitVec 32) (k0_hw86 : k0_chk86 i k0_t2 v4170), ∀ a, (k0_off249 i k0_t2 v4170) a + S1x8x128.size a ≤ S7296x8x128.size a := fun i k0_t2 v4170 k0_hw86 => k0_hw86.2.1
theorem k0_off252_inb : ∀ (i : grid0.Coords) (k0_t2 : Fin k0_t2_loop.trips) (v4170 : BitVec 32) (k0_hw86 : k0_chk86 i k0_t2 v4170), ∀ a, (k0_off252 i k0_t2 v4170) a + S1x8x128.size a ≤ S7296x8x128.size a := fun i k0_t2 v4170 k0_hw86 => k0_hw86.2.2.1
theorem k0_off255_inb : ∀ (i : grid0.Coords) (k0_t2 : Fin k0_t2_loop.trips) (v4170 : BitVec 32) (k0_hw86 : k0_chk86 i k0_t2 v4170), ∀ a, (k0_off255 i k0_t2 v4170) a + S1x8x128.size a ≤ S7296x8x128.size a := fun i k0_t2 v4170 k0_hw86 => k0_hw86.2.2.2.1
theorem k0_off257_inb : ∀ (i : grid0.Coords) (k0_t2 : Fin k0_t2_loop.trips) (v4170 : BitVec 32) (k0_hw86 : k0_chk86 i k0_t2 v4170), ∀ (r : Fin 4), ∀ a, (k0_off257 i k0_t2 v4170 (BitVec.ofNat 32 r.val)) a + S1x8x128.size a ≤ S7296x8x128.size a := fun i k0_t2 v4170 k0_hw86 r => k0_hw86.2.2.2.2 r

def k0_off258 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2036 : BitVec 32 := 38#32
  let v4238 : BitVec 32 := Scalar.muli arg13 c38_i32_2036
  let c18_i32 : BitVec 32 := 18#32
  let v4239 : BitVec 32 := Scalar.addi v4238 c18_i32
  let v4240 : Index := Scalar.indexCast v4239
  ![v4240.toNat]
def k0_off259 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2036 : BitVec 32 := 38#32
  let v4238 : BitVec 32 := Scalar.muli arg13 c38_i32_2036
  let c18_i32 : BitVec 32 := 18#32
  let v4239 : BitVec 32 := Scalar.addi v4238 c18_i32
  let c4_i32_2045 : BitVec 32 := 4#32
  let v4253 : BitVec 32 := Scalar.muli v4239 c4_i32_2045
  let c0_i32_2046 : BitVec 32 := 0#32
  let v4254 : BitVec 32 := Scalar.addi v4253 c0_i32_2046
  let v4255 : Index := Scalar.indexCast v4254
  ![v4255.toNat]
def k0_off260 (i : grid0.Coords) (k0_t2 : Fin k0_t2_loop.trips) (v4241 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2038 : BitVec 32 := 2#32
  let v4244 : BitVec 32 := Scalar.muli v2959 c2_i32_2038
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4242 : BitVec 32 := Scalar.shrui v4241 v2958
  let c1_i32_2037 : BitVec 32 := 1#32
  let v4243 : BitVec 32 := Scalar.andi v4242 c1_i32_2037
  let v4245 : BitVec 32 := Scalar.addi v4244 v4243
  let c1216_i32_2039 : BitVec 32 := 1216#32
  let v4246 : BitVec 32 := Scalar.muli v4245 c1216_i32_2039
  let c0_i32_1 : BitVec 32 := 0#32
  let c1_i32 : BitVec 32 := 1#32
  let arg13 : BitVec 32 := Scf.iv c0_i32_1 c1_i32 k0_t2
  let c38_i32_2036 : BitVec 32 := 38#32
  let v4238 : BitVec 32 := Scalar.muli arg13 c38_i32_2036
  let c18_i32 : BitVec 32 := 18#32
  let v4239 : BitVec 32 := Scalar.addi v4238 c18_i32
  let c4_i32_2040 : BitVec 32 := 4#32
  let v4247 : BitVec 32 := Scalar.muli v4239 c4_i32_2040
  let v4248 : BitVec 32 := Scalar.addi v4246 v4247
  let c0_i32_2041 : BitVec 32 := 0#32
  let v4249 : BitVec 32 := Scalar.addi v4248 c0_i32_2041
  let v4257 : Index := Scalar.indexCast v4249
  let c0_2047 : Index := 0#32
  let c0_2048 : Index := 0#32
  ![v4257.toNat, 0, 0]

def k0_off261 (v4256 : BitVec 32) : Fin 2 → Nat :=
  let v4260 : Index := Scalar.indexCast v4256
  let c0_2049 : Index := 0#32
  ![v4260.toNat, 0]

def k0_chk92 (v4256 : BitVec 32) : Prop :=
  (∀ a, (k0_off261 v4256) a + S8x128.size a ≤ S18432x128.size a)
theorem k0_off261_inb : ∀ (v4256 : BitVec 32) (k0_hw92 : k0_chk92 v4256), ∀ a, (k0_off261 v4256) a + S8x128.size a ≤ S18432x128.size a := fun v4256 k0_hw92 => k0_hw92

def k0_off262 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2036 : BitVec 32 := 38#32
  let v4238 : BitVec 32 := Scalar.muli arg13 c38_i32_2036
  let c18_i32 : BitVec 32 := 18#32
  let v4239 : BitVec 32 := Scalar.addi v4238 c18_i32
  let c4_i32_2050 : BitVec 32 := 4#32
  let v4263 : BitVec 32 := Scalar.muli v4239 c4_i32_2050
  let c1_i32_2051 : BitVec 32 := 1#32
  let v4264 : BitVec 32 := Scalar.addi v4263 c1_i32_2051
  let v4265 : Index := Scalar.indexCast v4264
  ![v4265.toNat]
def k0_off263 (i : grid0.Coords) (k0_t2 : Fin k0_t2_loop.trips) (v4241 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2038 : BitVec 32 := 2#32
  let v4244 : BitVec 32 := Scalar.muli v2959 c2_i32_2038
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4242 : BitVec 32 := Scalar.shrui v4241 v2958
  let c1_i32_2037 : BitVec 32 := 1#32
  let v4243 : BitVec 32 := Scalar.andi v4242 c1_i32_2037
  let v4245 : BitVec 32 := Scalar.addi v4244 v4243
  let c1216_i32_2039 : BitVec 32 := 1216#32
  let v4246 : BitVec 32 := Scalar.muli v4245 c1216_i32_2039
  let c0_i32_1 : BitVec 32 := 0#32
  let c1_i32 : BitVec 32 := 1#32
  let arg13 : BitVec 32 := Scf.iv c0_i32_1 c1_i32 k0_t2
  let c38_i32_2036 : BitVec 32 := 38#32
  let v4238 : BitVec 32 := Scalar.muli arg13 c38_i32_2036
  let c18_i32 : BitVec 32 := 18#32
  let v4239 : BitVec 32 := Scalar.addi v4238 c18_i32
  let c4_i32_2040 : BitVec 32 := 4#32
  let v4247 : BitVec 32 := Scalar.muli v4239 c4_i32_2040
  let v4248 : BitVec 32 := Scalar.addi v4246 v4247
  let c1_i32_2042 : BitVec 32 := 1#32
  let v4250 : BitVec 32 := Scalar.addi v4248 c1_i32_2042
  let v4267 : Index := Scalar.indexCast v4250
  let c0_2052 : Index := 0#32
  let c0_2053 : Index := 0#32
  ![v4267.toNat, 0, 0]
def k0_off264 (v4266 : BitVec 32) : Fin 2 → Nat :=
  let v4270 : Index := Scalar.indexCast v4266
  let c0_2054 : Index := 0#32
  ![v4270.toNat, 0]

def k0_chk93 (v4266 : BitVec 32) : Prop :=
  (∀ a, (k0_off264 v4266) a + S8x128.size a ≤ S18432x128.size a)
theorem k0_off264_inb : ∀ (v4266 : BitVec 32) (k0_hw93 : k0_chk93 v4266), ∀ a, (k0_off264 v4266) a + S8x128.size a ≤ S18432x128.size a := fun v4266 k0_hw93 => k0_hw93

def k0_off265 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2036 : BitVec 32 := 38#32
  let v4238 : BitVec 32 := Scalar.muli arg13 c38_i32_2036
  let c18_i32 : BitVec 32 := 18#32
  let v4239 : BitVec 32 := Scalar.addi v4238 c18_i32
  let c4_i32_2055 : BitVec 32 := 4#32
  let v4273 : BitVec 32 := Scalar.muli v4239 c4_i32_2055
  let c2_i32_2056 : BitVec 32 := 2#32
  let v4274 : BitVec 32 := Scalar.addi v4273 c2_i32_2056
  let v4275 : Index := Scalar.indexCast v4274
  ![v4275.toNat]
def k0_off266 (i : grid0.Coords) (k0_t2 : Fin k0_t2_loop.trips) (v4241 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2038 : BitVec 32 := 2#32
  let v4244 : BitVec 32 := Scalar.muli v2959 c2_i32_2038
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4242 : BitVec 32 := Scalar.shrui v4241 v2958
  let c1_i32_2037 : BitVec 32 := 1#32
  let v4243 : BitVec 32 := Scalar.andi v4242 c1_i32_2037
  let v4245 : BitVec 32 := Scalar.addi v4244 v4243
  let c1216_i32_2039 : BitVec 32 := 1216#32
  let v4246 : BitVec 32 := Scalar.muli v4245 c1216_i32_2039
  let c0_i32_1 : BitVec 32 := 0#32
  let c1_i32 : BitVec 32 := 1#32
  let arg13 : BitVec 32 := Scf.iv c0_i32_1 c1_i32 k0_t2
  let c38_i32_2036 : BitVec 32 := 38#32
  let v4238 : BitVec 32 := Scalar.muli arg13 c38_i32_2036
  let c18_i32 : BitVec 32 := 18#32
  let v4239 : BitVec 32 := Scalar.addi v4238 c18_i32
  let c4_i32_2040 : BitVec 32 := 4#32
  let v4247 : BitVec 32 := Scalar.muli v4239 c4_i32_2040
  let v4248 : BitVec 32 := Scalar.addi v4246 v4247
  let c2_i32_2043 : BitVec 32 := 2#32
  let v4251 : BitVec 32 := Scalar.addi v4248 c2_i32_2043
  let v4277 : Index := Scalar.indexCast v4251
  let c0_2057 : Index := 0#32
  let c0_2058 : Index := 0#32
  ![v4277.toNat, 0, 0]
def k0_off267 (v4276 : BitVec 32) : Fin 2 → Nat :=
  let v4280 : Index := Scalar.indexCast v4276
  let c0_2059 : Index := 0#32
  ![v4280.toNat, 0]

def k0_chk94 (v4276 : BitVec 32) : Prop :=
  (∀ a, (k0_off267 v4276) a + S8x128.size a ≤ S18432x128.size a)
theorem k0_off267_inb : ∀ (v4276 : BitVec 32) (k0_hw94 : k0_chk94 v4276), ∀ a, (k0_off267 v4276) a + S8x128.size a ≤ S18432x128.size a := fun v4276 k0_hw94 => k0_hw94

def k0_off268 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2036 : BitVec 32 := 38#32
  let v4238 : BitVec 32 := Scalar.muli arg13 c38_i32_2036
  let c18_i32 : BitVec 32 := 18#32
  let v4239 : BitVec 32 := Scalar.addi v4238 c18_i32
  let c4_i32_2060 : BitVec 32 := 4#32
  let v4283 : BitVec 32 := Scalar.muli v4239 c4_i32_2060
  let c3_i32_2061 : BitVec 32 := 3#32
  let v4284 : BitVec 32 := Scalar.addi v4283 c3_i32_2061
  let v4285 : Index := Scalar.indexCast v4284
  ![v4285.toNat]
def k0_off269 (i : grid0.Coords) (k0_t2 : Fin k0_t2_loop.trips) (v4241 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2038 : BitVec 32 := 2#32
  let v4244 : BitVec 32 := Scalar.muli v2959 c2_i32_2038
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4242 : BitVec 32 := Scalar.shrui v4241 v2958
  let c1_i32_2037 : BitVec 32 := 1#32
  let v4243 : BitVec 32 := Scalar.andi v4242 c1_i32_2037
  let v4245 : BitVec 32 := Scalar.addi v4244 v4243
  let c1216_i32_2039 : BitVec 32 := 1216#32
  let v4246 : BitVec 32 := Scalar.muli v4245 c1216_i32_2039
  let c0_i32_1 : BitVec 32 := 0#32
  let c1_i32 : BitVec 32 := 1#32
  let arg13 : BitVec 32 := Scf.iv c0_i32_1 c1_i32 k0_t2
  let c38_i32_2036 : BitVec 32 := 38#32
  let v4238 : BitVec 32 := Scalar.muli arg13 c38_i32_2036
  let c18_i32 : BitVec 32 := 18#32
  let v4239 : BitVec 32 := Scalar.addi v4238 c18_i32
  let c4_i32_2040 : BitVec 32 := 4#32
  let v4247 : BitVec 32 := Scalar.muli v4239 c4_i32_2040
  let v4248 : BitVec 32 := Scalar.addi v4246 v4247
  let c3_i32_2044 : BitVec 32 := 3#32
  let v4252 : BitVec 32 := Scalar.addi v4248 c3_i32_2044
  let v4287 : Index := Scalar.indexCast v4252
  let c0_2062 : Index := 0#32
  let c0_2063 : Index := 0#32
  ![v4287.toNat, 0, 0]
def k0_off270 (v4286 : BitVec 32) : Fin 2 → Nat :=
  let v4290 : Index := Scalar.indexCast v4286
  let c0_2064 : Index := 0#32
  ![v4290.toNat, 0]

def k0_chk95 (v4286 : BitVec 32) : Prop :=
  (∀ a, (k0_off270 v4286) a + S8x128.size a ≤ S18432x128.size a)
theorem k0_off270_inb : ∀ (v4286 : BitVec 32) (k0_hw95 : k0_chk95 v4286), ∀ a, (k0_off270 v4286) a + S8x128.size a ≤ S18432x128.size a := fun v4286 k0_hw95 => k0_hw95

def k0_off271 (i : grid0.Coords) (k0_t2 : Fin k0_t2_loop.trips) (v4241 : BitVec 32) (c0_i32_2041 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2038 : BitVec 32 := 2#32
  let v4244 : BitVec 32 := Scalar.muli v2959 c2_i32_2038
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4242 : BitVec 32 := Scalar.shrui v4241 v2958
  let c1_i32_2037 : BitVec 32 := 1#32
  let v4243 : BitVec 32 := Scalar.andi v4242 c1_i32_2037
  let v4245 : BitVec 32 := Scalar.addi v4244 v4243
  let c1216_i32_2039 : BitVec 32 := 1216#32
  let v4246 : BitVec 32 := Scalar.muli v4245 c1216_i32_2039
  let c0_i32_1 : BitVec 32 := 0#32
  let c1_i32 : BitVec 32 := 1#32
  let arg13 : BitVec 32 := Scf.iv c0_i32_1 c1_i32 k0_t2
  let c38_i32_2036 : BitVec 32 := 38#32
  let v4238 : BitVec 32 := Scalar.muli arg13 c38_i32_2036
  let c18_i32 : BitVec 32 := 18#32
  let v4239 : BitVec 32 := Scalar.addi v4238 c18_i32
  let c4_i32_2040 : BitVec 32 := 4#32
  let v4247 : BitVec 32 := Scalar.muli v4239 c4_i32_2040
  let v4248 : BitVec 32 := Scalar.addi v4246 v4247
  let v4249 : BitVec 32 := Scalar.addi v4248 c0_i32_2041
  let v4293 : Index := Scalar.indexCast v4249
  let c0_2065 : Index := 0#32
  let c0_2066 : Index := 0#32
  ![v4293.toNat, 0, 0]

def k0_chk91 (i : grid0.Coords) (k0_t2 : Fin k0_t2_loop.trips) (v4241 : BitVec 32) : Prop :=
  (∀ a, (k0_off260 i k0_t2 v4241) a + S1x8x128.size a ≤ S7296x8x128.size a) ∧
  (∀ a, (k0_off263 i k0_t2 v4241) a + S1x8x128.size a ≤ S7296x8x128.size a) ∧
  (∀ a, (k0_off266 i k0_t2 v4241) a + S1x8x128.size a ≤ S7296x8x128.size a) ∧
  (∀ a, (k0_off269 i k0_t2 v4241) a + S1x8x128.size a ≤ S7296x8x128.size a) ∧
  (∀ (r : Fin 4), ∀ a, (k0_off271 i k0_t2 v4241 (BitVec.ofNat 32 r.val)) a + S1x8x128.size a ≤ S7296x8x128.size a)
theorem k0_off260_inb : ∀ (i : grid0.Coords) (k0_t2 : Fin k0_t2_loop.trips) (v4241 : BitVec 32) (k0_hw91 : k0_chk91 i k0_t2 v4241), ∀ a, (k0_off260 i k0_t2 v4241) a + S1x8x128.size a ≤ S7296x8x128.size a := fun i k0_t2 v4241 k0_hw91 => k0_hw91.1
theorem k0_off263_inb : ∀ (i : grid0.Coords) (k0_t2 : Fin k0_t2_loop.trips) (v4241 : BitVec 32) (k0_hw91 : k0_chk91 i k0_t2 v4241), ∀ a, (k0_off263 i k0_t2 v4241) a + S1x8x128.size a ≤ S7296x8x128.size a := fun i k0_t2 v4241 k0_hw91 => k0_hw91.2.1
theorem k0_off266_inb : ∀ (i : grid0.Coords) (k0_t2 : Fin k0_t2_loop.trips) (v4241 : BitVec 32) (k0_hw91 : k0_chk91 i k0_t2 v4241), ∀ a, (k0_off266 i k0_t2 v4241) a + S1x8x128.size a ≤ S7296x8x128.size a := fun i k0_t2 v4241 k0_hw91 => k0_hw91.2.2.1
theorem k0_off269_inb : ∀ (i : grid0.Coords) (k0_t2 : Fin k0_t2_loop.trips) (v4241 : BitVec 32) (k0_hw91 : k0_chk91 i k0_t2 v4241), ∀ a, (k0_off269 i k0_t2 v4241) a + S1x8x128.size a ≤ S7296x8x128.size a := fun i k0_t2 v4241 k0_hw91 => k0_hw91.2.2.2.1
theorem k0_off271_inb : ∀ (i : grid0.Coords) (k0_t2 : Fin k0_t2_loop.trips) (v4241 : BitVec 32) (k0_hw91 : k0_chk91 i k0_t2 v4241), ∀ (r : Fin 4), ∀ a, (k0_off271 i k0_t2 v4241 (BitVec.ofNat 32 r.val)) a + S1x8x128.size a ≤ S7296x8x128.size a := fun i k0_t2 v4241 k0_hw91 r => k0_hw91.2.2.2.2 r

def k0_off272 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2073 : BitVec 32 := 38#32
  let v4309 : BitVec 32 := Scalar.muli arg13 c38_i32_2073
  let c19_i32 : BitVec 32 := 19#32
  let v4310 : BitVec 32 := Scalar.addi v4309 c19_i32
  let v4311 : Index := Scalar.indexCast v4310
  ![v4311.toNat]
def k0_off273 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2073 : BitVec 32 := 38#32
  let v4309 : BitVec 32 := Scalar.muli arg13 c38_i32_2073
  let c19_i32 : BitVec 32 := 19#32
  let v4310 : BitVec 32 := Scalar.addi v4309 c19_i32
  let c4_i32_2082 : BitVec 32 := 4#32
  let v4324 : BitVec 32 := Scalar.muli v4310 c4_i32_2082
  let c0_i32_2083 : BitVec 32 := 0#32
  let v4325 : BitVec 32 := Scalar.addi v4324 c0_i32_2083
  let v4326 : Index := Scalar.indexCast v4325
  ![v4326.toNat]
def k0_off274 (i : grid0.Coords) (k0_t2 : Fin k0_t2_loop.trips) (v4312 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2075 : BitVec 32 := 2#32
  let v4315 : BitVec 32 := Scalar.muli v2959 c2_i32_2075
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4313 : BitVec 32 := Scalar.shrui v4312 v2958
  let c1_i32_2074 : BitVec 32 := 1#32
  let v4314 : BitVec 32 := Scalar.andi v4313 c1_i32_2074
  let v4316 : BitVec 32 := Scalar.addi v4315 v4314
  let c1216_i32_2076 : BitVec 32 := 1216#32
  let v4317 : BitVec 32 := Scalar.muli v4316 c1216_i32_2076
  let c0_i32_1 : BitVec 32 := 0#32
  let c1_i32 : BitVec 32 := 1#32
  let arg13 : BitVec 32 := Scf.iv c0_i32_1 c1_i32 k0_t2
  let c38_i32_2073 : BitVec 32 := 38#32
  let v4309 : BitVec 32 := Scalar.muli arg13 c38_i32_2073
  let c19_i32 : BitVec 32 := 19#32
  let v4310 : BitVec 32 := Scalar.addi v4309 c19_i32
  let c4_i32_2077 : BitVec 32 := 4#32
  let v4318 : BitVec 32 := Scalar.muli v4310 c4_i32_2077
  let v4319 : BitVec 32 := Scalar.addi v4317 v4318
  let c0_i32_2078 : BitVec 32 := 0#32
  let v4320 : BitVec 32 := Scalar.addi v4319 c0_i32_2078
  let v4328 : Index := Scalar.indexCast v4320
  let c0_2084 : Index := 0#32
  let c0_2085 : Index := 0#32
  ![v4328.toNat, 0, 0]

def k0_off275 (v4327 : BitVec 32) : Fin 2 → Nat :=
  let v4331 : Index := Scalar.indexCast v4327
  let c0_2086 : Index := 0#32
  ![v4331.toNat, 0]

def k0_chk97 (v4327 : BitVec 32) : Prop :=
  (∀ a, (k0_off275 v4327) a + S8x128.size a ≤ S18432x128.size a)
theorem k0_off275_inb : ∀ (v4327 : BitVec 32) (k0_hw97 : k0_chk97 v4327), ∀ a, (k0_off275 v4327) a + S8x128.size a ≤ S18432x128.size a := fun v4327 k0_hw97 => k0_hw97

def k0_off276 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2073 : BitVec 32 := 38#32
  let v4309 : BitVec 32 := Scalar.muli arg13 c38_i32_2073
  let c19_i32 : BitVec 32 := 19#32
  let v4310 : BitVec 32 := Scalar.addi v4309 c19_i32
  let c4_i32_2087 : BitVec 32 := 4#32
  let v4334 : BitVec 32 := Scalar.muli v4310 c4_i32_2087
  let c1_i32_2088 : BitVec 32 := 1#32
  let v4335 : BitVec 32 := Scalar.addi v4334 c1_i32_2088
  let v4336 : Index := Scalar.indexCast v4335
  ![v4336.toNat]
def k0_off277 (i : grid0.Coords) (k0_t2 : Fin k0_t2_loop.trips) (v4312 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2075 : BitVec 32 := 2#32
  let v4315 : BitVec 32 := Scalar.muli v2959 c2_i32_2075
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4313 : BitVec 32 := Scalar.shrui v4312 v2958
  let c1_i32_2074 : BitVec 32 := 1#32
  let v4314 : BitVec 32 := Scalar.andi v4313 c1_i32_2074
  let v4316 : BitVec 32 := Scalar.addi v4315 v4314
  let c1216_i32_2076 : BitVec 32 := 1216#32
  let v4317 : BitVec 32 := Scalar.muli v4316 c1216_i32_2076
  let c0_i32_1 : BitVec 32 := 0#32
  let c1_i32 : BitVec 32 := 1#32
  let arg13 : BitVec 32 := Scf.iv c0_i32_1 c1_i32 k0_t2
  let c38_i32_2073 : BitVec 32 := 38#32
  let v4309 : BitVec 32 := Scalar.muli arg13 c38_i32_2073
  let c19_i32 : BitVec 32 := 19#32
  let v4310 : BitVec 32 := Scalar.addi v4309 c19_i32
  let c4_i32_2077 : BitVec 32 := 4#32
  let v4318 : BitVec 32 := Scalar.muli v4310 c4_i32_2077
  let v4319 : BitVec 32 := Scalar.addi v4317 v4318
  let c1_i32_2079 : BitVec 32 := 1#32
  let v4321 : BitVec 32 := Scalar.addi v4319 c1_i32_2079
  let v4338 : Index := Scalar.indexCast v4321
  let c0_2089 : Index := 0#32
  let c0_2090 : Index := 0#32
  ![v4338.toNat, 0, 0]
def k0_off278 (v4337 : BitVec 32) : Fin 2 → Nat :=
  let v4341 : Index := Scalar.indexCast v4337
  let c0_2091 : Index := 0#32
  ![v4341.toNat, 0]

def k0_chk98 (v4337 : BitVec 32) : Prop :=
  (∀ a, (k0_off278 v4337) a + S8x128.size a ≤ S18432x128.size a)
theorem k0_off278_inb : ∀ (v4337 : BitVec 32) (k0_hw98 : k0_chk98 v4337), ∀ a, (k0_off278 v4337) a + S8x128.size a ≤ S18432x128.size a := fun v4337 k0_hw98 => k0_hw98

def k0_off279 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2073 : BitVec 32 := 38#32
  let v4309 : BitVec 32 := Scalar.muli arg13 c38_i32_2073
  let c19_i32 : BitVec 32 := 19#32
  let v4310 : BitVec 32 := Scalar.addi v4309 c19_i32
  let c4_i32_2092 : BitVec 32 := 4#32
  let v4344 : BitVec 32 := Scalar.muli v4310 c4_i32_2092
  let c2_i32_2093 : BitVec 32 := 2#32
  let v4345 : BitVec 32 := Scalar.addi v4344 c2_i32_2093
  let v4346 : Index := Scalar.indexCast v4345
  ![v4346.toNat]
def k0_off280 (i : grid0.Coords) (k0_t2 : Fin k0_t2_loop.trips) (v4312 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2075 : BitVec 32 := 2#32
  let v4315 : BitVec 32 := Scalar.muli v2959 c2_i32_2075
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4313 : BitVec 32 := Scalar.shrui v4312 v2958
  let c1_i32_2074 : BitVec 32 := 1#32
  let v4314 : BitVec 32 := Scalar.andi v4313 c1_i32_2074
  let v4316 : BitVec 32 := Scalar.addi v4315 v4314
  let c1216_i32_2076 : BitVec 32 := 1216#32
  let v4317 : BitVec 32 := Scalar.muli v4316 c1216_i32_2076
  let c0_i32_1 : BitVec 32 := 0#32
  let c1_i32 : BitVec 32 := 1#32
  let arg13 : BitVec 32 := Scf.iv c0_i32_1 c1_i32 k0_t2
  let c38_i32_2073 : BitVec 32 := 38#32
  let v4309 : BitVec 32 := Scalar.muli arg13 c38_i32_2073
  let c19_i32 : BitVec 32 := 19#32
  let v4310 : BitVec 32 := Scalar.addi v4309 c19_i32
  let c4_i32_2077 : BitVec 32 := 4#32
  let v4318 : BitVec 32 := Scalar.muli v4310 c4_i32_2077
  let v4319 : BitVec 32 := Scalar.addi v4317 v4318
  let c2_i32_2080 : BitVec 32 := 2#32
  let v4322 : BitVec 32 := Scalar.addi v4319 c2_i32_2080
  let v4348 : Index := Scalar.indexCast v4322
  let c0_2094 : Index := 0#32
  let c0_2095 : Index := 0#32
  ![v4348.toNat, 0, 0]
def k0_off281 (v4347 : BitVec 32) : Fin 2 → Nat :=
  let v4351 : Index := Scalar.indexCast v4347
  let c0_2096 : Index := 0#32
  ![v4351.toNat, 0]

def k0_chk99 (v4347 : BitVec 32) : Prop :=
  (∀ a, (k0_off281 v4347) a + S8x128.size a ≤ S18432x128.size a)
theorem k0_off281_inb : ∀ (v4347 : BitVec 32) (k0_hw99 : k0_chk99 v4347), ∀ a, (k0_off281 v4347) a + S8x128.size a ≤ S18432x128.size a := fun v4347 k0_hw99 => k0_hw99

def k0_off282 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2073 : BitVec 32 := 38#32
  let v4309 : BitVec 32 := Scalar.muli arg13 c38_i32_2073
  let c19_i32 : BitVec 32 := 19#32
  let v4310 : BitVec 32 := Scalar.addi v4309 c19_i32
  let c4_i32_2097 : BitVec 32 := 4#32
  let v4354 : BitVec 32 := Scalar.muli v4310 c4_i32_2097
  let c3_i32_2098 : BitVec 32 := 3#32
  let v4355 : BitVec 32 := Scalar.addi v4354 c3_i32_2098
  let v4356 : Index := Scalar.indexCast v4355
  ![v4356.toNat]
def k0_off283 (i : grid0.Coords) (k0_t2 : Fin k0_t2_loop.trips) (v4312 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2075 : BitVec 32 := 2#32
  let v4315 : BitVec 32 := Scalar.muli v2959 c2_i32_2075
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4313 : BitVec 32 := Scalar.shrui v4312 v2958
  let c1_i32_2074 : BitVec 32 := 1#32
  let v4314 : BitVec 32 := Scalar.andi v4313 c1_i32_2074
  let v4316 : BitVec 32 := Scalar.addi v4315 v4314
  let c1216_i32_2076 : BitVec 32 := 1216#32
  let v4317 : BitVec 32 := Scalar.muli v4316 c1216_i32_2076
  let c0_i32_1 : BitVec 32 := 0#32
  let c1_i32 : BitVec 32 := 1#32
  let arg13 : BitVec 32 := Scf.iv c0_i32_1 c1_i32 k0_t2
  let c38_i32_2073 : BitVec 32 := 38#32
  let v4309 : BitVec 32 := Scalar.muli arg13 c38_i32_2073
  let c19_i32 : BitVec 32 := 19#32
  let v4310 : BitVec 32 := Scalar.addi v4309 c19_i32
  let c4_i32_2077 : BitVec 32 := 4#32
  let v4318 : BitVec 32 := Scalar.muli v4310 c4_i32_2077
  let v4319 : BitVec 32 := Scalar.addi v4317 v4318
  let c3_i32_2081 : BitVec 32 := 3#32
  let v4323 : BitVec 32 := Scalar.addi v4319 c3_i32_2081
  let v4358 : Index := Scalar.indexCast v4323
  let c0_2099 : Index := 0#32
  let c0_2100 : Index := 0#32
  ![v4358.toNat, 0, 0]
def k0_off284 (v4357 : BitVec 32) : Fin 2 → Nat :=
  let v4361 : Index := Scalar.indexCast v4357
  let c0_2101 : Index := 0#32
  ![v4361.toNat, 0]

def k0_chk100 (v4357 : BitVec 32) : Prop :=
  (∀ a, (k0_off284 v4357) a + S8x128.size a ≤ S18432x128.size a)
theorem k0_off284_inb : ∀ (v4357 : BitVec 32) (k0_hw100 : k0_chk100 v4357), ∀ a, (k0_off284 v4357) a + S8x128.size a ≤ S18432x128.size a := fun v4357 k0_hw100 => k0_hw100

def k0_off285 (i : grid0.Coords) (k0_t2 : Fin k0_t2_loop.trips) (v4312 : BitVec 32) (c0_i32_2078 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2075 : BitVec 32 := 2#32
  let v4315 : BitVec 32 := Scalar.muli v2959 c2_i32_2075
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4313 : BitVec 32 := Scalar.shrui v4312 v2958
  let c1_i32_2074 : BitVec 32 := 1#32
  let v4314 : BitVec 32 := Scalar.andi v4313 c1_i32_2074
  let v4316 : BitVec 32 := Scalar.addi v4315 v4314
  let c1216_i32_2076 : BitVec 32 := 1216#32
  let v4317 : BitVec 32 := Scalar.muli v4316 c1216_i32_2076
  let c0_i32_1 : BitVec 32 := 0#32
  let c1_i32 : BitVec 32 := 1#32
  let arg13 : BitVec 32 := Scf.iv c0_i32_1 c1_i32 k0_t2
  let c38_i32_2073 : BitVec 32 := 38#32
  let v4309 : BitVec 32 := Scalar.muli arg13 c38_i32_2073
  let c19_i32 : BitVec 32 := 19#32
  let v4310 : BitVec 32 := Scalar.addi v4309 c19_i32
  let c4_i32_2077 : BitVec 32 := 4#32
  let v4318 : BitVec 32 := Scalar.muli v4310 c4_i32_2077
  let v4319 : BitVec 32 := Scalar.addi v4317 v4318
  let v4320 : BitVec 32 := Scalar.addi v4319 c0_i32_2078
  let v4364 : Index := Scalar.indexCast v4320
  let c0_2102 : Index := 0#32
  let c0_2103 : Index := 0#32
  ![v4364.toNat, 0, 0]

def k0_chk96 (i : grid0.Coords) (k0_t2 : Fin k0_t2_loop.trips) (v4312 : BitVec 32) : Prop :=
  (∀ a, (k0_off274 i k0_t2 v4312) a + S1x8x128.size a ≤ S7296x8x128.size a) ∧
  (∀ a, (k0_off277 i k0_t2 v4312) a + S1x8x128.size a ≤ S7296x8x128.size a) ∧
  (∀ a, (k0_off280 i k0_t2 v4312) a + S1x8x128.size a ≤ S7296x8x128.size a) ∧
  (∀ a, (k0_off283 i k0_t2 v4312) a + S1x8x128.size a ≤ S7296x8x128.size a) ∧
  (∀ (r : Fin 4), ∀ a, (k0_off285 i k0_t2 v4312 (BitVec.ofNat 32 r.val)) a + S1x8x128.size a ≤ S7296x8x128.size a)
theorem k0_off274_inb : ∀ (i : grid0.Coords) (k0_t2 : Fin k0_t2_loop.trips) (v4312 : BitVec 32) (k0_hw96 : k0_chk96 i k0_t2 v4312), ∀ a, (k0_off274 i k0_t2 v4312) a + S1x8x128.size a ≤ S7296x8x128.size a := fun i k0_t2 v4312 k0_hw96 => k0_hw96.1
theorem k0_off277_inb : ∀ (i : grid0.Coords) (k0_t2 : Fin k0_t2_loop.trips) (v4312 : BitVec 32) (k0_hw96 : k0_chk96 i k0_t2 v4312), ∀ a, (k0_off277 i k0_t2 v4312) a + S1x8x128.size a ≤ S7296x8x128.size a := fun i k0_t2 v4312 k0_hw96 => k0_hw96.2.1
theorem k0_off280_inb : ∀ (i : grid0.Coords) (k0_t2 : Fin k0_t2_loop.trips) (v4312 : BitVec 32) (k0_hw96 : k0_chk96 i k0_t2 v4312), ∀ a, (k0_off280 i k0_t2 v4312) a + S1x8x128.size a ≤ S7296x8x128.size a := fun i k0_t2 v4312 k0_hw96 => k0_hw96.2.2.1
theorem k0_off283_inb : ∀ (i : grid0.Coords) (k0_t2 : Fin k0_t2_loop.trips) (v4312 : BitVec 32) (k0_hw96 : k0_chk96 i k0_t2 v4312), ∀ a, (k0_off283 i k0_t2 v4312) a + S1x8x128.size a ≤ S7296x8x128.size a := fun i k0_t2 v4312 k0_hw96 => k0_hw96.2.2.2.1
theorem k0_off285_inb : ∀ (i : grid0.Coords) (k0_t2 : Fin k0_t2_loop.trips) (v4312 : BitVec 32) (k0_hw96 : k0_chk96 i k0_t2 v4312), ∀ (r : Fin 4), ∀ a, (k0_off285 i k0_t2 v4312 (BitVec.ofNat 32 r.val)) a + S1x8x128.size a ≤ S7296x8x128.size a := fun i k0_t2 v4312 k0_hw96 r => k0_hw96.2.2.2.2 r

def k0_off286 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2110 : BitVec 32 := 38#32
  let v4380 : BitVec 32 := Scalar.muli arg13 c38_i32_2110
  let c20_i32 : BitVec 32 := 20#32
  let v4381 : BitVec 32 := Scalar.addi v4380 c20_i32
  let v4382 : Index := Scalar.indexCast v4381
  ![v4382.toNat]
def k0_off287 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2110 : BitVec 32 := 38#32
  let v4380 : BitVec 32 := Scalar.muli arg13 c38_i32_2110
  let c20_i32 : BitVec 32 := 20#32
  let v4381 : BitVec 32 := Scalar.addi v4380 c20_i32
  let c4_i32_2119 : BitVec 32 := 4#32
  let v4395 : BitVec 32 := Scalar.muli v4381 c4_i32_2119
  let c0_i32_2120 : BitVec 32 := 0#32
  let v4396 : BitVec 32 := Scalar.addi v4395 c0_i32_2120
  let v4397 : Index := Scalar.indexCast v4396
  ![v4397.toNat]
def k0_off288 (i : grid0.Coords) (k0_t2 : Fin k0_t2_loop.trips) (v4383 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2112 : BitVec 32 := 2#32
  let v4386 : BitVec 32 := Scalar.muli v2959 c2_i32_2112
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4384 : BitVec 32 := Scalar.shrui v4383 v2958
  let c1_i32_2111 : BitVec 32 := 1#32
  let v4385 : BitVec 32 := Scalar.andi v4384 c1_i32_2111
  let v4387 : BitVec 32 := Scalar.addi v4386 v4385
  let c1216_i32_2113 : BitVec 32 := 1216#32
  let v4388 : BitVec 32 := Scalar.muli v4387 c1216_i32_2113
  let c0_i32_1 : BitVec 32 := 0#32
  let c1_i32 : BitVec 32 := 1#32
  let arg13 : BitVec 32 := Scf.iv c0_i32_1 c1_i32 k0_t2
  let c38_i32_2110 : BitVec 32 := 38#32
  let v4380 : BitVec 32 := Scalar.muli arg13 c38_i32_2110
  let c20_i32 : BitVec 32 := 20#32
  let v4381 : BitVec 32 := Scalar.addi v4380 c20_i32
  let c4_i32_2114 : BitVec 32 := 4#32
  let v4389 : BitVec 32 := Scalar.muli v4381 c4_i32_2114
  let v4390 : BitVec 32 := Scalar.addi v4388 v4389
  let c0_i32_2115 : BitVec 32 := 0#32
  let v4391 : BitVec 32 := Scalar.addi v4390 c0_i32_2115
  let v4399 : Index := Scalar.indexCast v4391
  let c0_2121 : Index := 0#32
  let c0_2122 : Index := 0#32
  ![v4399.toNat, 0, 0]

def k0_off289 (v4398 : BitVec 32) : Fin 2 → Nat :=
  let v4402 : Index := Scalar.indexCast v4398
  let c0_2123 : Index := 0#32
  ![v4402.toNat, 0]

def k0_chk102 (v4398 : BitVec 32) : Prop :=
  (∀ a, (k0_off289 v4398) a + S8x128.size a ≤ S18432x128.size a)
theorem k0_off289_inb : ∀ (v4398 : BitVec 32) (k0_hw102 : k0_chk102 v4398), ∀ a, (k0_off289 v4398) a + S8x128.size a ≤ S18432x128.size a := fun v4398 k0_hw102 => k0_hw102

def k0_off290 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2110 : BitVec 32 := 38#32
  let v4380 : BitVec 32 := Scalar.muli arg13 c38_i32_2110
  let c20_i32 : BitVec 32 := 20#32
  let v4381 : BitVec 32 := Scalar.addi v4380 c20_i32
  let c4_i32_2124 : BitVec 32 := 4#32
  let v4405 : BitVec 32 := Scalar.muli v4381 c4_i32_2124
  let c1_i32_2125 : BitVec 32 := 1#32
  let v4406 : BitVec 32 := Scalar.addi v4405 c1_i32_2125
  let v4407 : Index := Scalar.indexCast v4406
  ![v4407.toNat]
def k0_off291 (i : grid0.Coords) (k0_t2 : Fin k0_t2_loop.trips) (v4383 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2112 : BitVec 32 := 2#32
  let v4386 : BitVec 32 := Scalar.muli v2959 c2_i32_2112
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4384 : BitVec 32 := Scalar.shrui v4383 v2958
  let c1_i32_2111 : BitVec 32 := 1#32
  let v4385 : BitVec 32 := Scalar.andi v4384 c1_i32_2111
  let v4387 : BitVec 32 := Scalar.addi v4386 v4385
  let c1216_i32_2113 : BitVec 32 := 1216#32
  let v4388 : BitVec 32 := Scalar.muli v4387 c1216_i32_2113
  let c0_i32_1 : BitVec 32 := 0#32
  let c1_i32 : BitVec 32 := 1#32
  let arg13 : BitVec 32 := Scf.iv c0_i32_1 c1_i32 k0_t2
  let c38_i32_2110 : BitVec 32 := 38#32
  let v4380 : BitVec 32 := Scalar.muli arg13 c38_i32_2110
  let c20_i32 : BitVec 32 := 20#32
  let v4381 : BitVec 32 := Scalar.addi v4380 c20_i32
  let c4_i32_2114 : BitVec 32 := 4#32
  let v4389 : BitVec 32 := Scalar.muli v4381 c4_i32_2114
  let v4390 : BitVec 32 := Scalar.addi v4388 v4389
  let c1_i32_2116 : BitVec 32 := 1#32
  let v4392 : BitVec 32 := Scalar.addi v4390 c1_i32_2116
  let v4409 : Index := Scalar.indexCast v4392
  let c0_2126 : Index := 0#32
  let c0_2127 : Index := 0#32
  ![v4409.toNat, 0, 0]
def k0_off292 (v4408 : BitVec 32) : Fin 2 → Nat :=
  let v4412 : Index := Scalar.indexCast v4408
  let c0_2128 : Index := 0#32
  ![v4412.toNat, 0]

def k0_chk103 (v4408 : BitVec 32) : Prop :=
  (∀ a, (k0_off292 v4408) a + S8x128.size a ≤ S18432x128.size a)
theorem k0_off292_inb : ∀ (v4408 : BitVec 32) (k0_hw103 : k0_chk103 v4408), ∀ a, (k0_off292 v4408) a + S8x128.size a ≤ S18432x128.size a := fun v4408 k0_hw103 => k0_hw103

def k0_off293 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2110 : BitVec 32 := 38#32
  let v4380 : BitVec 32 := Scalar.muli arg13 c38_i32_2110
  let c20_i32 : BitVec 32 := 20#32
  let v4381 : BitVec 32 := Scalar.addi v4380 c20_i32
  let c4_i32_2129 : BitVec 32 := 4#32
  let v4415 : BitVec 32 := Scalar.muli v4381 c4_i32_2129
  let c2_i32_2130 : BitVec 32 := 2#32
  let v4416 : BitVec 32 := Scalar.addi v4415 c2_i32_2130
  let v4417 : Index := Scalar.indexCast v4416
  ![v4417.toNat]
def k0_off294 (i : grid0.Coords) (k0_t2 : Fin k0_t2_loop.trips) (v4383 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2112 : BitVec 32 := 2#32
  let v4386 : BitVec 32 := Scalar.muli v2959 c2_i32_2112
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4384 : BitVec 32 := Scalar.shrui v4383 v2958
  let c1_i32_2111 : BitVec 32 := 1#32
  let v4385 : BitVec 32 := Scalar.andi v4384 c1_i32_2111
  let v4387 : BitVec 32 := Scalar.addi v4386 v4385
  let c1216_i32_2113 : BitVec 32 := 1216#32
  let v4388 : BitVec 32 := Scalar.muli v4387 c1216_i32_2113
  let c0_i32_1 : BitVec 32 := 0#32
  let c1_i32 : BitVec 32 := 1#32
  let arg13 : BitVec 32 := Scf.iv c0_i32_1 c1_i32 k0_t2
  let c38_i32_2110 : BitVec 32 := 38#32
  let v4380 : BitVec 32 := Scalar.muli arg13 c38_i32_2110
  let c20_i32 : BitVec 32 := 20#32
  let v4381 : BitVec 32 := Scalar.addi v4380 c20_i32
  let c4_i32_2114 : BitVec 32 := 4#32
  let v4389 : BitVec 32 := Scalar.muli v4381 c4_i32_2114
  let v4390 : BitVec 32 := Scalar.addi v4388 v4389
  let c2_i32_2117 : BitVec 32 := 2#32
  let v4393 : BitVec 32 := Scalar.addi v4390 c2_i32_2117
  let v4419 : Index := Scalar.indexCast v4393
  let c0_2131 : Index := 0#32
  let c0_2132 : Index := 0#32
  ![v4419.toNat, 0, 0]
def k0_off295 (v4418 : BitVec 32) : Fin 2 → Nat :=
  let v4422 : Index := Scalar.indexCast v4418
  let c0_2133 : Index := 0#32
  ![v4422.toNat, 0]

def k0_chk104 (v4418 : BitVec 32) : Prop :=
  (∀ a, (k0_off295 v4418) a + S8x128.size a ≤ S18432x128.size a)
theorem k0_off295_inb : ∀ (v4418 : BitVec 32) (k0_hw104 : k0_chk104 v4418), ∀ a, (k0_off295 v4418) a + S8x128.size a ≤ S18432x128.size a := fun v4418 k0_hw104 => k0_hw104

def k0_off296 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2110 : BitVec 32 := 38#32
  let v4380 : BitVec 32 := Scalar.muli arg13 c38_i32_2110
  let c20_i32 : BitVec 32 := 20#32
  let v4381 : BitVec 32 := Scalar.addi v4380 c20_i32
  let c4_i32_2134 : BitVec 32 := 4#32
  let v4425 : BitVec 32 := Scalar.muli v4381 c4_i32_2134
  let c3_i32_2135 : BitVec 32 := 3#32
  let v4426 : BitVec 32 := Scalar.addi v4425 c3_i32_2135
  let v4427 : Index := Scalar.indexCast v4426
  ![v4427.toNat]
def k0_off297 (i : grid0.Coords) (k0_t2 : Fin k0_t2_loop.trips) (v4383 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2112 : BitVec 32 := 2#32
  let v4386 : BitVec 32 := Scalar.muli v2959 c2_i32_2112
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4384 : BitVec 32 := Scalar.shrui v4383 v2958
  let c1_i32_2111 : BitVec 32 := 1#32
  let v4385 : BitVec 32 := Scalar.andi v4384 c1_i32_2111
  let v4387 : BitVec 32 := Scalar.addi v4386 v4385
  let c1216_i32_2113 : BitVec 32 := 1216#32
  let v4388 : BitVec 32 := Scalar.muli v4387 c1216_i32_2113
  let c0_i32_1 : BitVec 32 := 0#32
  let c1_i32 : BitVec 32 := 1#32
  let arg13 : BitVec 32 := Scf.iv c0_i32_1 c1_i32 k0_t2
  let c38_i32_2110 : BitVec 32 := 38#32
  let v4380 : BitVec 32 := Scalar.muli arg13 c38_i32_2110
  let c20_i32 : BitVec 32 := 20#32
  let v4381 : BitVec 32 := Scalar.addi v4380 c20_i32
  let c4_i32_2114 : BitVec 32 := 4#32
  let v4389 : BitVec 32 := Scalar.muli v4381 c4_i32_2114
  let v4390 : BitVec 32 := Scalar.addi v4388 v4389
  let c3_i32_2118 : BitVec 32 := 3#32
  let v4394 : BitVec 32 := Scalar.addi v4390 c3_i32_2118
  let v4429 : Index := Scalar.indexCast v4394
  let c0_2136 : Index := 0#32
  let c0_2137 : Index := 0#32
  ![v4429.toNat, 0, 0]
def k0_off298 (v4428 : BitVec 32) : Fin 2 → Nat :=
  let v4432 : Index := Scalar.indexCast v4428
  let c0_2138 : Index := 0#32
  ![v4432.toNat, 0]

def k0_chk105 (v4428 : BitVec 32) : Prop :=
  (∀ a, (k0_off298 v4428) a + S8x128.size a ≤ S18432x128.size a)
theorem k0_off298_inb : ∀ (v4428 : BitVec 32) (k0_hw105 : k0_chk105 v4428), ∀ a, (k0_off298 v4428) a + S8x128.size a ≤ S18432x128.size a := fun v4428 k0_hw105 => k0_hw105

def k0_off299 (i : grid0.Coords) (k0_t2 : Fin k0_t2_loop.trips) (v4383 : BitVec 32) (c0_i32_2115 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2112 : BitVec 32 := 2#32
  let v4386 : BitVec 32 := Scalar.muli v2959 c2_i32_2112
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4384 : BitVec 32 := Scalar.shrui v4383 v2958
  let c1_i32_2111 : BitVec 32 := 1#32
  let v4385 : BitVec 32 := Scalar.andi v4384 c1_i32_2111
  let v4387 : BitVec 32 := Scalar.addi v4386 v4385
  let c1216_i32_2113 : BitVec 32 := 1216#32
  let v4388 : BitVec 32 := Scalar.muli v4387 c1216_i32_2113
  let c0_i32_1 : BitVec 32 := 0#32
  let c1_i32 : BitVec 32 := 1#32
  let arg13 : BitVec 32 := Scf.iv c0_i32_1 c1_i32 k0_t2
  let c38_i32_2110 : BitVec 32 := 38#32
  let v4380 : BitVec 32 := Scalar.muli arg13 c38_i32_2110
  let c20_i32 : BitVec 32 := 20#32
  let v4381 : BitVec 32 := Scalar.addi v4380 c20_i32
  let c4_i32_2114 : BitVec 32 := 4#32
  let v4389 : BitVec 32 := Scalar.muli v4381 c4_i32_2114
  let v4390 : BitVec 32 := Scalar.addi v4388 v4389
  let v4391 : BitVec 32 := Scalar.addi v4390 c0_i32_2115
  let v4435 : Index := Scalar.indexCast v4391
  let c0_2139 : Index := 0#32
  let c0_2140 : Index := 0#32
  ![v4435.toNat, 0, 0]

def k0_chk101 (i : grid0.Coords) (k0_t2 : Fin k0_t2_loop.trips) (v4383 : BitVec 32) : Prop :=
  (∀ a, (k0_off288 i k0_t2 v4383) a + S1x8x128.size a ≤ S7296x8x128.size a) ∧
  (∀ a, (k0_off291 i k0_t2 v4383) a + S1x8x128.size a ≤ S7296x8x128.size a) ∧
  (∀ a, (k0_off294 i k0_t2 v4383) a + S1x8x128.size a ≤ S7296x8x128.size a) ∧
  (∀ a, (k0_off297 i k0_t2 v4383) a + S1x8x128.size a ≤ S7296x8x128.size a) ∧
  (∀ (r : Fin 4), ∀ a, (k0_off299 i k0_t2 v4383 (BitVec.ofNat 32 r.val)) a + S1x8x128.size a ≤ S7296x8x128.size a)
theorem k0_off288_inb : ∀ (i : grid0.Coords) (k0_t2 : Fin k0_t2_loop.trips) (v4383 : BitVec 32) (k0_hw101 : k0_chk101 i k0_t2 v4383), ∀ a, (k0_off288 i k0_t2 v4383) a + S1x8x128.size a ≤ S7296x8x128.size a := fun i k0_t2 v4383 k0_hw101 => k0_hw101.1
theorem k0_off291_inb : ∀ (i : grid0.Coords) (k0_t2 : Fin k0_t2_loop.trips) (v4383 : BitVec 32) (k0_hw101 : k0_chk101 i k0_t2 v4383), ∀ a, (k0_off291 i k0_t2 v4383) a + S1x8x128.size a ≤ S7296x8x128.size a := fun i k0_t2 v4383 k0_hw101 => k0_hw101.2.1
theorem k0_off294_inb : ∀ (i : grid0.Coords) (k0_t2 : Fin k0_t2_loop.trips) (v4383 : BitVec 32) (k0_hw101 : k0_chk101 i k0_t2 v4383), ∀ a, (k0_off294 i k0_t2 v4383) a + S1x8x128.size a ≤ S7296x8x128.size a := fun i k0_t2 v4383 k0_hw101 => k0_hw101.2.2.1
theorem k0_off297_inb : ∀ (i : grid0.Coords) (k0_t2 : Fin k0_t2_loop.trips) (v4383 : BitVec 32) (k0_hw101 : k0_chk101 i k0_t2 v4383), ∀ a, (k0_off297 i k0_t2 v4383) a + S1x8x128.size a ≤ S7296x8x128.size a := fun i k0_t2 v4383 k0_hw101 => k0_hw101.2.2.2.1
theorem k0_off299_inb : ∀ (i : grid0.Coords) (k0_t2 : Fin k0_t2_loop.trips) (v4383 : BitVec 32) (k0_hw101 : k0_chk101 i k0_t2 v4383), ∀ (r : Fin 4), ∀ a, (k0_off299 i k0_t2 v4383 (BitVec.ofNat 32 r.val)) a + S1x8x128.size a ≤ S7296x8x128.size a := fun i k0_t2 v4383 k0_hw101 r => k0_hw101.2.2.2.2 r

def k0_off300 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2147 : BitVec 32 := 38#32
  let v4451 : BitVec 32 := Scalar.muli arg13 c38_i32_2147
  let c21_i32 : BitVec 32 := 21#32
  let v4452 : BitVec 32 := Scalar.addi v4451 c21_i32
  let v4453 : Index := Scalar.indexCast v4452
  ![v4453.toNat]
def k0_off301 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2147 : BitVec 32 := 38#32
  let v4451 : BitVec 32 := Scalar.muli arg13 c38_i32_2147
  let c21_i32 : BitVec 32 := 21#32
  let v4452 : BitVec 32 := Scalar.addi v4451 c21_i32
  let c4_i32_2156 : BitVec 32 := 4#32
  let v4466 : BitVec 32 := Scalar.muli v4452 c4_i32_2156
  let c0_i32_2157 : BitVec 32 := 0#32
  let v4467 : BitVec 32 := Scalar.addi v4466 c0_i32_2157
  let v4468 : Index := Scalar.indexCast v4467
  ![v4468.toNat]
def k0_off302 (i : grid0.Coords) (k0_t2 : Fin k0_t2_loop.trips) (v4454 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2149 : BitVec 32 := 2#32
  let v4457 : BitVec 32 := Scalar.muli v2959 c2_i32_2149
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4455 : BitVec 32 := Scalar.shrui v4454 v2958
  let c1_i32_2148 : BitVec 32 := 1#32
  let v4456 : BitVec 32 := Scalar.andi v4455 c1_i32_2148
  let v4458 : BitVec 32 := Scalar.addi v4457 v4456
  let c1216_i32_2150 : BitVec 32 := 1216#32
  let v4459 : BitVec 32 := Scalar.muli v4458 c1216_i32_2150
  let c0_i32_1 : BitVec 32 := 0#32
  let c1_i32 : BitVec 32 := 1#32
  let arg13 : BitVec 32 := Scf.iv c0_i32_1 c1_i32 k0_t2
  let c38_i32_2147 : BitVec 32 := 38#32
  let v4451 : BitVec 32 := Scalar.muli arg13 c38_i32_2147
  let c21_i32 : BitVec 32 := 21#32
  let v4452 : BitVec 32 := Scalar.addi v4451 c21_i32
  let c4_i32_2151 : BitVec 32 := 4#32
  let v4460 : BitVec 32 := Scalar.muli v4452 c4_i32_2151
  let v4461 : BitVec 32 := Scalar.addi v4459 v4460
  let c0_i32_2152 : BitVec 32 := 0#32
  let v4462 : BitVec 32 := Scalar.addi v4461 c0_i32_2152
  let v4470 : Index := Scalar.indexCast v4462
  let c0_2158 : Index := 0#32
  let c0_2159 : Index := 0#32
  ![v4470.toNat, 0, 0]

def k0_off303 (v4469 : BitVec 32) : Fin 2 → Nat :=
  let v4473 : Index := Scalar.indexCast v4469
  let c0_2160 : Index := 0#32
  ![v4473.toNat, 0]

def k0_chk107 (v4469 : BitVec 32) : Prop :=
  (∀ a, (k0_off303 v4469) a + S8x128.size a ≤ S18432x128.size a)
theorem k0_off303_inb : ∀ (v4469 : BitVec 32) (k0_hw107 : k0_chk107 v4469), ∀ a, (k0_off303 v4469) a + S8x128.size a ≤ S18432x128.size a := fun v4469 k0_hw107 => k0_hw107

def k0_off304 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2147 : BitVec 32 := 38#32
  let v4451 : BitVec 32 := Scalar.muli arg13 c38_i32_2147
  let c21_i32 : BitVec 32 := 21#32
  let v4452 : BitVec 32 := Scalar.addi v4451 c21_i32
  let c4_i32_2161 : BitVec 32 := 4#32
  let v4476 : BitVec 32 := Scalar.muli v4452 c4_i32_2161
  let c1_i32_2162 : BitVec 32 := 1#32
  let v4477 : BitVec 32 := Scalar.addi v4476 c1_i32_2162
  let v4478 : Index := Scalar.indexCast v4477
  ![v4478.toNat]
def k0_off305 (i : grid0.Coords) (k0_t2 : Fin k0_t2_loop.trips) (v4454 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2149 : BitVec 32 := 2#32
  let v4457 : BitVec 32 := Scalar.muli v2959 c2_i32_2149
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4455 : BitVec 32 := Scalar.shrui v4454 v2958
  let c1_i32_2148 : BitVec 32 := 1#32
  let v4456 : BitVec 32 := Scalar.andi v4455 c1_i32_2148
  let v4458 : BitVec 32 := Scalar.addi v4457 v4456
  let c1216_i32_2150 : BitVec 32 := 1216#32
  let v4459 : BitVec 32 := Scalar.muli v4458 c1216_i32_2150
  let c0_i32_1 : BitVec 32 := 0#32
  let c1_i32 : BitVec 32 := 1#32
  let arg13 : BitVec 32 := Scf.iv c0_i32_1 c1_i32 k0_t2
  let c38_i32_2147 : BitVec 32 := 38#32
  let v4451 : BitVec 32 := Scalar.muli arg13 c38_i32_2147
  let c21_i32 : BitVec 32 := 21#32
  let v4452 : BitVec 32 := Scalar.addi v4451 c21_i32
  let c4_i32_2151 : BitVec 32 := 4#32
  let v4460 : BitVec 32 := Scalar.muli v4452 c4_i32_2151
  let v4461 : BitVec 32 := Scalar.addi v4459 v4460
  let c1_i32_2153 : BitVec 32 := 1#32
  let v4463 : BitVec 32 := Scalar.addi v4461 c1_i32_2153
  let v4480 : Index := Scalar.indexCast v4463
  let c0_2163 : Index := 0#32
  let c0_2164 : Index := 0#32
  ![v4480.toNat, 0, 0]
def k0_off306 (v4479 : BitVec 32) : Fin 2 → Nat :=
  let v4483 : Index := Scalar.indexCast v4479
  let c0_2165 : Index := 0#32
  ![v4483.toNat, 0]

def k0_chk108 (v4479 : BitVec 32) : Prop :=
  (∀ a, (k0_off306 v4479) a + S8x128.size a ≤ S18432x128.size a)
theorem k0_off306_inb : ∀ (v4479 : BitVec 32) (k0_hw108 : k0_chk108 v4479), ∀ a, (k0_off306 v4479) a + S8x128.size a ≤ S18432x128.size a := fun v4479 k0_hw108 => k0_hw108

def k0_off307 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2147 : BitVec 32 := 38#32
  let v4451 : BitVec 32 := Scalar.muli arg13 c38_i32_2147
  let c21_i32 : BitVec 32 := 21#32
  let v4452 : BitVec 32 := Scalar.addi v4451 c21_i32
  let c4_i32_2166 : BitVec 32 := 4#32
  let v4486 : BitVec 32 := Scalar.muli v4452 c4_i32_2166
  let c2_i32_2167 : BitVec 32 := 2#32
  let v4487 : BitVec 32 := Scalar.addi v4486 c2_i32_2167
  let v4488 : Index := Scalar.indexCast v4487
  ![v4488.toNat]
def k0_off308 (i : grid0.Coords) (k0_t2 : Fin k0_t2_loop.trips) (v4454 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2149 : BitVec 32 := 2#32
  let v4457 : BitVec 32 := Scalar.muli v2959 c2_i32_2149
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4455 : BitVec 32 := Scalar.shrui v4454 v2958
  let c1_i32_2148 : BitVec 32 := 1#32
  let v4456 : BitVec 32 := Scalar.andi v4455 c1_i32_2148
  let v4458 : BitVec 32 := Scalar.addi v4457 v4456
  let c1216_i32_2150 : BitVec 32 := 1216#32
  let v4459 : BitVec 32 := Scalar.muli v4458 c1216_i32_2150
  let c0_i32_1 : BitVec 32 := 0#32
  let c1_i32 : BitVec 32 := 1#32
  let arg13 : BitVec 32 := Scf.iv c0_i32_1 c1_i32 k0_t2
  let c38_i32_2147 : BitVec 32 := 38#32
  let v4451 : BitVec 32 := Scalar.muli arg13 c38_i32_2147
  let c21_i32 : BitVec 32 := 21#32
  let v4452 : BitVec 32 := Scalar.addi v4451 c21_i32
  let c4_i32_2151 : BitVec 32 := 4#32
  let v4460 : BitVec 32 := Scalar.muli v4452 c4_i32_2151
  let v4461 : BitVec 32 := Scalar.addi v4459 v4460
  let c2_i32_2154 : BitVec 32 := 2#32
  let v4464 : BitVec 32 := Scalar.addi v4461 c2_i32_2154
  let v4490 : Index := Scalar.indexCast v4464
  let c0_2168 : Index := 0#32
  let c0_2169 : Index := 0#32
  ![v4490.toNat, 0, 0]
def k0_off309 (v4489 : BitVec 32) : Fin 2 → Nat :=
  let v4493 : Index := Scalar.indexCast v4489
  let c0_2170 : Index := 0#32
  ![v4493.toNat, 0]

def k0_chk109 (v4489 : BitVec 32) : Prop :=
  (∀ a, (k0_off309 v4489) a + S8x128.size a ≤ S18432x128.size a)
theorem k0_off309_inb : ∀ (v4489 : BitVec 32) (k0_hw109 : k0_chk109 v4489), ∀ a, (k0_off309 v4489) a + S8x128.size a ≤ S18432x128.size a := fun v4489 k0_hw109 => k0_hw109

def k0_off310 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2147 : BitVec 32 := 38#32
  let v4451 : BitVec 32 := Scalar.muli arg13 c38_i32_2147
  let c21_i32 : BitVec 32 := 21#32
  let v4452 : BitVec 32 := Scalar.addi v4451 c21_i32
  let c4_i32_2171 : BitVec 32 := 4#32
  let v4496 : BitVec 32 := Scalar.muli v4452 c4_i32_2171
  let c3_i32_2172 : BitVec 32 := 3#32
  let v4497 : BitVec 32 := Scalar.addi v4496 c3_i32_2172
  let v4498 : Index := Scalar.indexCast v4497
  ![v4498.toNat]
def k0_off311 (i : grid0.Coords) (k0_t2 : Fin k0_t2_loop.trips) (v4454 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2149 : BitVec 32 := 2#32
  let v4457 : BitVec 32 := Scalar.muli v2959 c2_i32_2149
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4455 : BitVec 32 := Scalar.shrui v4454 v2958
  let c1_i32_2148 : BitVec 32 := 1#32
  let v4456 : BitVec 32 := Scalar.andi v4455 c1_i32_2148
  let v4458 : BitVec 32 := Scalar.addi v4457 v4456
  let c1216_i32_2150 : BitVec 32 := 1216#32
  let v4459 : BitVec 32 := Scalar.muli v4458 c1216_i32_2150
  let c0_i32_1 : BitVec 32 := 0#32
  let c1_i32 : BitVec 32 := 1#32
  let arg13 : BitVec 32 := Scf.iv c0_i32_1 c1_i32 k0_t2
  let c38_i32_2147 : BitVec 32 := 38#32
  let v4451 : BitVec 32 := Scalar.muli arg13 c38_i32_2147
  let c21_i32 : BitVec 32 := 21#32
  let v4452 : BitVec 32 := Scalar.addi v4451 c21_i32
  let c4_i32_2151 : BitVec 32 := 4#32
  let v4460 : BitVec 32 := Scalar.muli v4452 c4_i32_2151
  let v4461 : BitVec 32 := Scalar.addi v4459 v4460
  let c3_i32_2155 : BitVec 32 := 3#32
  let v4465 : BitVec 32 := Scalar.addi v4461 c3_i32_2155
  let v4500 : Index := Scalar.indexCast v4465
  let c0_2173 : Index := 0#32
  let c0_2174 : Index := 0#32
  ![v4500.toNat, 0, 0]
def k0_off312 (v4499 : BitVec 32) : Fin 2 → Nat :=
  let v4503 : Index := Scalar.indexCast v4499
  let c0_2175 : Index := 0#32
  ![v4503.toNat, 0]

def k0_chk110 (v4499 : BitVec 32) : Prop :=
  (∀ a, (k0_off312 v4499) a + S8x128.size a ≤ S18432x128.size a)
theorem k0_off312_inb : ∀ (v4499 : BitVec 32) (k0_hw110 : k0_chk110 v4499), ∀ a, (k0_off312 v4499) a + S8x128.size a ≤ S18432x128.size a := fun v4499 k0_hw110 => k0_hw110

def k0_off313 (i : grid0.Coords) (k0_t2 : Fin k0_t2_loop.trips) (v4454 : BitVec 32) (c0_i32_2152 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2149 : BitVec 32 := 2#32
  let v4457 : BitVec 32 := Scalar.muli v2959 c2_i32_2149
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4455 : BitVec 32 := Scalar.shrui v4454 v2958
  let c1_i32_2148 : BitVec 32 := 1#32
  let v4456 : BitVec 32 := Scalar.andi v4455 c1_i32_2148
  let v4458 : BitVec 32 := Scalar.addi v4457 v4456
  let c1216_i32_2150 : BitVec 32 := 1216#32
  let v4459 : BitVec 32 := Scalar.muli v4458 c1216_i32_2150
  let c0_i32_1 : BitVec 32 := 0#32
  let c1_i32 : BitVec 32 := 1#32
  let arg13 : BitVec 32 := Scf.iv c0_i32_1 c1_i32 k0_t2
  let c38_i32_2147 : BitVec 32 := 38#32
  let v4451 : BitVec 32 := Scalar.muli arg13 c38_i32_2147
  let c21_i32 : BitVec 32 := 21#32
  let v4452 : BitVec 32 := Scalar.addi v4451 c21_i32
  let c4_i32_2151 : BitVec 32 := 4#32
  let v4460 : BitVec 32 := Scalar.muli v4452 c4_i32_2151
  let v4461 : BitVec 32 := Scalar.addi v4459 v4460
  let v4462 : BitVec 32 := Scalar.addi v4461 c0_i32_2152
  let v4506 : Index := Scalar.indexCast v4462
  let c0_2176 : Index := 0#32
  let c0_2177 : Index := 0#32
  ![v4506.toNat, 0, 0]

def k0_chk106 (i : grid0.Coords) (k0_t2 : Fin k0_t2_loop.trips) (v4454 : BitVec 32) : Prop :=
  (∀ a, (k0_off302 i k0_t2 v4454) a + S1x8x128.size a ≤ S7296x8x128.size a) ∧
  (∀ a, (k0_off305 i k0_t2 v4454) a + S1x8x128.size a ≤ S7296x8x128.size a) ∧
  (∀ a, (k0_off308 i k0_t2 v4454) a + S1x8x128.size a ≤ S7296x8x128.size a) ∧
  (∀ a, (k0_off311 i k0_t2 v4454) a + S1x8x128.size a ≤ S7296x8x128.size a) ∧
  (∀ (r : Fin 4), ∀ a, (k0_off313 i k0_t2 v4454 (BitVec.ofNat 32 r.val)) a + S1x8x128.size a ≤ S7296x8x128.size a)
theorem k0_off302_inb : ∀ (i : grid0.Coords) (k0_t2 : Fin k0_t2_loop.trips) (v4454 : BitVec 32) (k0_hw106 : k0_chk106 i k0_t2 v4454), ∀ a, (k0_off302 i k0_t2 v4454) a + S1x8x128.size a ≤ S7296x8x128.size a := fun i k0_t2 v4454 k0_hw106 => k0_hw106.1
theorem k0_off305_inb : ∀ (i : grid0.Coords) (k0_t2 : Fin k0_t2_loop.trips) (v4454 : BitVec 32) (k0_hw106 : k0_chk106 i k0_t2 v4454), ∀ a, (k0_off305 i k0_t2 v4454) a + S1x8x128.size a ≤ S7296x8x128.size a := fun i k0_t2 v4454 k0_hw106 => k0_hw106.2.1
theorem k0_off308_inb : ∀ (i : grid0.Coords) (k0_t2 : Fin k0_t2_loop.trips) (v4454 : BitVec 32) (k0_hw106 : k0_chk106 i k0_t2 v4454), ∀ a, (k0_off308 i k0_t2 v4454) a + S1x8x128.size a ≤ S7296x8x128.size a := fun i k0_t2 v4454 k0_hw106 => k0_hw106.2.2.1
theorem k0_off311_inb : ∀ (i : grid0.Coords) (k0_t2 : Fin k0_t2_loop.trips) (v4454 : BitVec 32) (k0_hw106 : k0_chk106 i k0_t2 v4454), ∀ a, (k0_off311 i k0_t2 v4454) a + S1x8x128.size a ≤ S7296x8x128.size a := fun i k0_t2 v4454 k0_hw106 => k0_hw106.2.2.2.1
theorem k0_off313_inb : ∀ (i : grid0.Coords) (k0_t2 : Fin k0_t2_loop.trips) (v4454 : BitVec 32) (k0_hw106 : k0_chk106 i k0_t2 v4454), ∀ (r : Fin 4), ∀ a, (k0_off313 i k0_t2 v4454 (BitVec.ofNat 32 r.val)) a + S1x8x128.size a ≤ S7296x8x128.size a := fun i k0_t2 v4454 k0_hw106 r => k0_hw106.2.2.2.2 r

def k0_off314 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2184 : BitVec 32 := 38#32
  let v4522 : BitVec 32 := Scalar.muli arg13 c38_i32_2184
  let c22_i32 : BitVec 32 := 22#32
  let v4523 : BitVec 32 := Scalar.addi v4522 c22_i32
  let v4524 : Index := Scalar.indexCast v4523
  ![v4524.toNat]
def k0_off315 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2184 : BitVec 32 := 38#32
  let v4522 : BitVec 32 := Scalar.muli arg13 c38_i32_2184
  let c22_i32 : BitVec 32 := 22#32
  let v4523 : BitVec 32 := Scalar.addi v4522 c22_i32
  let c4_i32_2193 : BitVec 32 := 4#32
  let v4537 : BitVec 32 := Scalar.muli v4523 c4_i32_2193
  let c0_i32_2194 : BitVec 32 := 0#32
  let v4538 : BitVec 32 := Scalar.addi v4537 c0_i32_2194
  let v4539 : Index := Scalar.indexCast v4538
  ![v4539.toNat]
def k0_off316 (i : grid0.Coords) (k0_t2 : Fin k0_t2_loop.trips) (v4525 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2186 : BitVec 32 := 2#32
  let v4528 : BitVec 32 := Scalar.muli v2959 c2_i32_2186
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4526 : BitVec 32 := Scalar.shrui v4525 v2958
  let c1_i32_2185 : BitVec 32 := 1#32
  let v4527 : BitVec 32 := Scalar.andi v4526 c1_i32_2185
  let v4529 : BitVec 32 := Scalar.addi v4528 v4527
  let c1216_i32_2187 : BitVec 32 := 1216#32
  let v4530 : BitVec 32 := Scalar.muli v4529 c1216_i32_2187
  let c0_i32_1 : BitVec 32 := 0#32
  let c1_i32 : BitVec 32 := 1#32
  let arg13 : BitVec 32 := Scf.iv c0_i32_1 c1_i32 k0_t2
  let c38_i32_2184 : BitVec 32 := 38#32
  let v4522 : BitVec 32 := Scalar.muli arg13 c38_i32_2184
  let c22_i32 : BitVec 32 := 22#32
  let v4523 : BitVec 32 := Scalar.addi v4522 c22_i32
  let c4_i32_2188 : BitVec 32 := 4#32
  let v4531 : BitVec 32 := Scalar.muli v4523 c4_i32_2188
  let v4532 : BitVec 32 := Scalar.addi v4530 v4531
  let c0_i32_2189 : BitVec 32 := 0#32
  let v4533 : BitVec 32 := Scalar.addi v4532 c0_i32_2189
  let v4541 : Index := Scalar.indexCast v4533
  let c0_2195 : Index := 0#32
  let c0_2196 : Index := 0#32
  ![v4541.toNat, 0, 0]

def k0_off317 (v4540 : BitVec 32) : Fin 2 → Nat :=
  let v4544 : Index := Scalar.indexCast v4540
  let c0_2197 : Index := 0#32
  ![v4544.toNat, 0]

def k0_chk112 (v4540 : BitVec 32) : Prop :=
  (∀ a, (k0_off317 v4540) a + S8x128.size a ≤ S18432x128.size a)
theorem k0_off317_inb : ∀ (v4540 : BitVec 32) (k0_hw112 : k0_chk112 v4540), ∀ a, (k0_off317 v4540) a + S8x128.size a ≤ S18432x128.size a := fun v4540 k0_hw112 => k0_hw112

def k0_off318 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2184 : BitVec 32 := 38#32
  let v4522 : BitVec 32 := Scalar.muli arg13 c38_i32_2184
  let c22_i32 : BitVec 32 := 22#32
  let v4523 : BitVec 32 := Scalar.addi v4522 c22_i32
  let c4_i32_2198 : BitVec 32 := 4#32
  let v4547 : BitVec 32 := Scalar.muli v4523 c4_i32_2198
  let c1_i32_2199 : BitVec 32 := 1#32
  let v4548 : BitVec 32 := Scalar.addi v4547 c1_i32_2199
  let v4549 : Index := Scalar.indexCast v4548
  ![v4549.toNat]
def k0_off319 (i : grid0.Coords) (k0_t2 : Fin k0_t2_loop.trips) (v4525 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2186 : BitVec 32 := 2#32
  let v4528 : BitVec 32 := Scalar.muli v2959 c2_i32_2186
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4526 : BitVec 32 := Scalar.shrui v4525 v2958
  let c1_i32_2185 : BitVec 32 := 1#32
  let v4527 : BitVec 32 := Scalar.andi v4526 c1_i32_2185
  let v4529 : BitVec 32 := Scalar.addi v4528 v4527
  let c1216_i32_2187 : BitVec 32 := 1216#32
  let v4530 : BitVec 32 := Scalar.muli v4529 c1216_i32_2187
  let c0_i32_1 : BitVec 32 := 0#32
  let c1_i32 : BitVec 32 := 1#32
  let arg13 : BitVec 32 := Scf.iv c0_i32_1 c1_i32 k0_t2
  let c38_i32_2184 : BitVec 32 := 38#32
  let v4522 : BitVec 32 := Scalar.muli arg13 c38_i32_2184
  let c22_i32 : BitVec 32 := 22#32
  let v4523 : BitVec 32 := Scalar.addi v4522 c22_i32
  let c4_i32_2188 : BitVec 32 := 4#32
  let v4531 : BitVec 32 := Scalar.muli v4523 c4_i32_2188
  let v4532 : BitVec 32 := Scalar.addi v4530 v4531
  let c1_i32_2190 : BitVec 32 := 1#32
  let v4534 : BitVec 32 := Scalar.addi v4532 c1_i32_2190
  let v4551 : Index := Scalar.indexCast v4534
  let c0_2200 : Index := 0#32
  let c0_2201 : Index := 0#32
  ![v4551.toNat, 0, 0]
def k0_off320 (v4550 : BitVec 32) : Fin 2 → Nat :=
  let v4554 : Index := Scalar.indexCast v4550
  let c0_2202 : Index := 0#32
  ![v4554.toNat, 0]

def k0_chk113 (v4550 : BitVec 32) : Prop :=
  (∀ a, (k0_off320 v4550) a + S8x128.size a ≤ S18432x128.size a)
theorem k0_off320_inb : ∀ (v4550 : BitVec 32) (k0_hw113 : k0_chk113 v4550), ∀ a, (k0_off320 v4550) a + S8x128.size a ≤ S18432x128.size a := fun v4550 k0_hw113 => k0_hw113

def k0_off321 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2184 : BitVec 32 := 38#32
  let v4522 : BitVec 32 := Scalar.muli arg13 c38_i32_2184
  let c22_i32 : BitVec 32 := 22#32
  let v4523 : BitVec 32 := Scalar.addi v4522 c22_i32
  let c4_i32_2203 : BitVec 32 := 4#32
  let v4557 : BitVec 32 := Scalar.muli v4523 c4_i32_2203
  let c2_i32_2204 : BitVec 32 := 2#32
  let v4558 : BitVec 32 := Scalar.addi v4557 c2_i32_2204
  let v4559 : Index := Scalar.indexCast v4558
  ![v4559.toNat]
def k0_off322 (i : grid0.Coords) (k0_t2 : Fin k0_t2_loop.trips) (v4525 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2186 : BitVec 32 := 2#32
  let v4528 : BitVec 32 := Scalar.muli v2959 c2_i32_2186
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4526 : BitVec 32 := Scalar.shrui v4525 v2958
  let c1_i32_2185 : BitVec 32 := 1#32
  let v4527 : BitVec 32 := Scalar.andi v4526 c1_i32_2185
  let v4529 : BitVec 32 := Scalar.addi v4528 v4527
  let c1216_i32_2187 : BitVec 32 := 1216#32
  let v4530 : BitVec 32 := Scalar.muli v4529 c1216_i32_2187
  let c0_i32_1 : BitVec 32 := 0#32
  let c1_i32 : BitVec 32 := 1#32
  let arg13 : BitVec 32 := Scf.iv c0_i32_1 c1_i32 k0_t2
  let c38_i32_2184 : BitVec 32 := 38#32
  let v4522 : BitVec 32 := Scalar.muli arg13 c38_i32_2184
  let c22_i32 : BitVec 32 := 22#32
  let v4523 : BitVec 32 := Scalar.addi v4522 c22_i32
  let c4_i32_2188 : BitVec 32 := 4#32
  let v4531 : BitVec 32 := Scalar.muli v4523 c4_i32_2188
  let v4532 : BitVec 32 := Scalar.addi v4530 v4531
  let c2_i32_2191 : BitVec 32 := 2#32
  let v4535 : BitVec 32 := Scalar.addi v4532 c2_i32_2191
  let v4561 : Index := Scalar.indexCast v4535
  let c0_2205 : Index := 0#32
  let c0_2206 : Index := 0#32
  ![v4561.toNat, 0, 0]
def k0_off323 (v4560 : BitVec 32) : Fin 2 → Nat :=
  let v4564 : Index := Scalar.indexCast v4560
  let c0_2207 : Index := 0#32
  ![v4564.toNat, 0]

def k0_chk114 (v4560 : BitVec 32) : Prop :=
  (∀ a, (k0_off323 v4560) a + S8x128.size a ≤ S18432x128.size a)
theorem k0_off323_inb : ∀ (v4560 : BitVec 32) (k0_hw114 : k0_chk114 v4560), ∀ a, (k0_off323 v4560) a + S8x128.size a ≤ S18432x128.size a := fun v4560 k0_hw114 => k0_hw114

def k0_off324 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2184 : BitVec 32 := 38#32
  let v4522 : BitVec 32 := Scalar.muli arg13 c38_i32_2184
  let c22_i32 : BitVec 32 := 22#32
  let v4523 : BitVec 32 := Scalar.addi v4522 c22_i32
  let c4_i32_2208 : BitVec 32 := 4#32
  let v4567 : BitVec 32 := Scalar.muli v4523 c4_i32_2208
  let c3_i32_2209 : BitVec 32 := 3#32
  let v4568 : BitVec 32 := Scalar.addi v4567 c3_i32_2209
  let v4569 : Index := Scalar.indexCast v4568
  ![v4569.toNat]
def k0_off325 (i : grid0.Coords) (k0_t2 : Fin k0_t2_loop.trips) (v4525 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2186 : BitVec 32 := 2#32
  let v4528 : BitVec 32 := Scalar.muli v2959 c2_i32_2186
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4526 : BitVec 32 := Scalar.shrui v4525 v2958
  let c1_i32_2185 : BitVec 32 := 1#32
  let v4527 : BitVec 32 := Scalar.andi v4526 c1_i32_2185
  let v4529 : BitVec 32 := Scalar.addi v4528 v4527
  let c1216_i32_2187 : BitVec 32 := 1216#32
  let v4530 : BitVec 32 := Scalar.muli v4529 c1216_i32_2187
  let c0_i32_1 : BitVec 32 := 0#32
  let c1_i32 : BitVec 32 := 1#32
  let arg13 : BitVec 32 := Scf.iv c0_i32_1 c1_i32 k0_t2
  let c38_i32_2184 : BitVec 32 := 38#32
  let v4522 : BitVec 32 := Scalar.muli arg13 c38_i32_2184
  let c22_i32 : BitVec 32 := 22#32
  let v4523 : BitVec 32 := Scalar.addi v4522 c22_i32
  let c4_i32_2188 : BitVec 32 := 4#32
  let v4531 : BitVec 32 := Scalar.muli v4523 c4_i32_2188
  let v4532 : BitVec 32 := Scalar.addi v4530 v4531
  let c3_i32_2192 : BitVec 32 := 3#32
  let v4536 : BitVec 32 := Scalar.addi v4532 c3_i32_2192
  let v4571 : Index := Scalar.indexCast v4536
  let c0_2210 : Index := 0#32
  let c0_2211 : Index := 0#32
  ![v4571.toNat, 0, 0]
def k0_off326 (v4570 : BitVec 32) : Fin 2 → Nat :=
  let v4574 : Index := Scalar.indexCast v4570
  let c0_2212 : Index := 0#32
  ![v4574.toNat, 0]

def k0_chk115 (v4570 : BitVec 32) : Prop :=
  (∀ a, (k0_off326 v4570) a + S8x128.size a ≤ S18432x128.size a)
theorem k0_off326_inb : ∀ (v4570 : BitVec 32) (k0_hw115 : k0_chk115 v4570), ∀ a, (k0_off326 v4570) a + S8x128.size a ≤ S18432x128.size a := fun v4570 k0_hw115 => k0_hw115

def k0_off327 (i : grid0.Coords) (k0_t2 : Fin k0_t2_loop.trips) (v4525 : BitVec 32) (c0_i32_2189 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2186 : BitVec 32 := 2#32
  let v4528 : BitVec 32 := Scalar.muli v2959 c2_i32_2186
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4526 : BitVec 32 := Scalar.shrui v4525 v2958
  let c1_i32_2185 : BitVec 32 := 1#32
  let v4527 : BitVec 32 := Scalar.andi v4526 c1_i32_2185
  let v4529 : BitVec 32 := Scalar.addi v4528 v4527
  let c1216_i32_2187 : BitVec 32 := 1216#32
  let v4530 : BitVec 32 := Scalar.muli v4529 c1216_i32_2187
  let c0_i32_1 : BitVec 32 := 0#32
  let c1_i32 : BitVec 32 := 1#32
  let arg13 : BitVec 32 := Scf.iv c0_i32_1 c1_i32 k0_t2
  let c38_i32_2184 : BitVec 32 := 38#32
  let v4522 : BitVec 32 := Scalar.muli arg13 c38_i32_2184
  let c22_i32 : BitVec 32 := 22#32
  let v4523 : BitVec 32 := Scalar.addi v4522 c22_i32
  let c4_i32_2188 : BitVec 32 := 4#32
  let v4531 : BitVec 32 := Scalar.muli v4523 c4_i32_2188
  let v4532 : BitVec 32 := Scalar.addi v4530 v4531
  let v4533 : BitVec 32 := Scalar.addi v4532 c0_i32_2189
  let v4577 : Index := Scalar.indexCast v4533
  let c0_2213 : Index := 0#32
  let c0_2214 : Index := 0#32
  ![v4577.toNat, 0, 0]

def k0_chk111 (i : grid0.Coords) (k0_t2 : Fin k0_t2_loop.trips) (v4525 : BitVec 32) : Prop :=
  (∀ a, (k0_off316 i k0_t2 v4525) a + S1x8x128.size a ≤ S7296x8x128.size a) ∧
  (∀ a, (k0_off319 i k0_t2 v4525) a + S1x8x128.size a ≤ S7296x8x128.size a) ∧
  (∀ a, (k0_off322 i k0_t2 v4525) a + S1x8x128.size a ≤ S7296x8x128.size a) ∧
  (∀ a, (k0_off325 i k0_t2 v4525) a + S1x8x128.size a ≤ S7296x8x128.size a) ∧
  (∀ (r : Fin 4), ∀ a, (k0_off327 i k0_t2 v4525 (BitVec.ofNat 32 r.val)) a + S1x8x128.size a ≤ S7296x8x128.size a)
theorem k0_off316_inb : ∀ (i : grid0.Coords) (k0_t2 : Fin k0_t2_loop.trips) (v4525 : BitVec 32) (k0_hw111 : k0_chk111 i k0_t2 v4525), ∀ a, (k0_off316 i k0_t2 v4525) a + S1x8x128.size a ≤ S7296x8x128.size a := fun i k0_t2 v4525 k0_hw111 => k0_hw111.1
theorem k0_off319_inb : ∀ (i : grid0.Coords) (k0_t2 : Fin k0_t2_loop.trips) (v4525 : BitVec 32) (k0_hw111 : k0_chk111 i k0_t2 v4525), ∀ a, (k0_off319 i k0_t2 v4525) a + S1x8x128.size a ≤ S7296x8x128.size a := fun i k0_t2 v4525 k0_hw111 => k0_hw111.2.1
theorem k0_off322_inb : ∀ (i : grid0.Coords) (k0_t2 : Fin k0_t2_loop.trips) (v4525 : BitVec 32) (k0_hw111 : k0_chk111 i k0_t2 v4525), ∀ a, (k0_off322 i k0_t2 v4525) a + S1x8x128.size a ≤ S7296x8x128.size a := fun i k0_t2 v4525 k0_hw111 => k0_hw111.2.2.1
theorem k0_off325_inb : ∀ (i : grid0.Coords) (k0_t2 : Fin k0_t2_loop.trips) (v4525 : BitVec 32) (k0_hw111 : k0_chk111 i k0_t2 v4525), ∀ a, (k0_off325 i k0_t2 v4525) a + S1x8x128.size a ≤ S7296x8x128.size a := fun i k0_t2 v4525 k0_hw111 => k0_hw111.2.2.2.1
theorem k0_off327_inb : ∀ (i : grid0.Coords) (k0_t2 : Fin k0_t2_loop.trips) (v4525 : BitVec 32) (k0_hw111 : k0_chk111 i k0_t2 v4525), ∀ (r : Fin 4), ∀ a, (k0_off327 i k0_t2 v4525 (BitVec.ofNat 32 r.val)) a + S1x8x128.size a ≤ S7296x8x128.size a := fun i k0_t2 v4525 k0_hw111 r => k0_hw111.2.2.2.2 r

def k0_off328 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2221 : BitVec 32 := 38#32
  let v4593 : BitVec 32 := Scalar.muli arg13 c38_i32_2221
  let c23_i32 : BitVec 32 := 23#32
  let v4594 : BitVec 32 := Scalar.addi v4593 c23_i32
  let v4595 : Index := Scalar.indexCast v4594
  ![v4595.toNat]
def k0_off329 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2221 : BitVec 32 := 38#32
  let v4593 : BitVec 32 := Scalar.muli arg13 c38_i32_2221
  let c23_i32 : BitVec 32 := 23#32
  let v4594 : BitVec 32 := Scalar.addi v4593 c23_i32
  let c4_i32_2230 : BitVec 32 := 4#32
  let v4608 : BitVec 32 := Scalar.muli v4594 c4_i32_2230
  let c0_i32_2231 : BitVec 32 := 0#32
  let v4609 : BitVec 32 := Scalar.addi v4608 c0_i32_2231
  let v4610 : Index := Scalar.indexCast v4609
  ![v4610.toNat]
def k0_off330 (i : grid0.Coords) (k0_t2 : Fin k0_t2_loop.trips) (v4596 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2223 : BitVec 32 := 2#32
  let v4599 : BitVec 32 := Scalar.muli v2959 c2_i32_2223
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4597 : BitVec 32 := Scalar.shrui v4596 v2958
  let c1_i32_2222 : BitVec 32 := 1#32
  let v4598 : BitVec 32 := Scalar.andi v4597 c1_i32_2222
  let v4600 : BitVec 32 := Scalar.addi v4599 v4598
  let c1216_i32_2224 : BitVec 32 := 1216#32
  let v4601 : BitVec 32 := Scalar.muli v4600 c1216_i32_2224
  let c0_i32_1 : BitVec 32 := 0#32
  let c1_i32 : BitVec 32 := 1#32
  let arg13 : BitVec 32 := Scf.iv c0_i32_1 c1_i32 k0_t2
  let c38_i32_2221 : BitVec 32 := 38#32
  let v4593 : BitVec 32 := Scalar.muli arg13 c38_i32_2221
  let c23_i32 : BitVec 32 := 23#32
  let v4594 : BitVec 32 := Scalar.addi v4593 c23_i32
  let c4_i32_2225 : BitVec 32 := 4#32
  let v4602 : BitVec 32 := Scalar.muli v4594 c4_i32_2225
  let v4603 : BitVec 32 := Scalar.addi v4601 v4602
  let c0_i32_2226 : BitVec 32 := 0#32
  let v4604 : BitVec 32 := Scalar.addi v4603 c0_i32_2226
  let v4612 : Index := Scalar.indexCast v4604
  let c0_2232 : Index := 0#32
  let c0_2233 : Index := 0#32
  ![v4612.toNat, 0, 0]

def k0_off331 (v4611 : BitVec 32) : Fin 2 → Nat :=
  let v4615 : Index := Scalar.indexCast v4611
  let c0_2234 : Index := 0#32
  ![v4615.toNat, 0]

def k0_chk117 (v4611 : BitVec 32) : Prop :=
  (∀ a, (k0_off331 v4611) a + S8x128.size a ≤ S18432x128.size a)
theorem k0_off331_inb : ∀ (v4611 : BitVec 32) (k0_hw117 : k0_chk117 v4611), ∀ a, (k0_off331 v4611) a + S8x128.size a ≤ S18432x128.size a := fun v4611 k0_hw117 => k0_hw117

def k0_off332 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2221 : BitVec 32 := 38#32
  let v4593 : BitVec 32 := Scalar.muli arg13 c38_i32_2221
  let c23_i32 : BitVec 32 := 23#32
  let v4594 : BitVec 32 := Scalar.addi v4593 c23_i32
  let c4_i32_2235 : BitVec 32 := 4#32
  let v4618 : BitVec 32 := Scalar.muli v4594 c4_i32_2235
  let c1_i32_2236 : BitVec 32 := 1#32
  let v4619 : BitVec 32 := Scalar.addi v4618 c1_i32_2236
  let v4620 : Index := Scalar.indexCast v4619
  ![v4620.toNat]
def k0_off333 (i : grid0.Coords) (k0_t2 : Fin k0_t2_loop.trips) (v4596 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2223 : BitVec 32 := 2#32
  let v4599 : BitVec 32 := Scalar.muli v2959 c2_i32_2223
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4597 : BitVec 32 := Scalar.shrui v4596 v2958
  let c1_i32_2222 : BitVec 32 := 1#32
  let v4598 : BitVec 32 := Scalar.andi v4597 c1_i32_2222
  let v4600 : BitVec 32 := Scalar.addi v4599 v4598
  let c1216_i32_2224 : BitVec 32 := 1216#32
  let v4601 : BitVec 32 := Scalar.muli v4600 c1216_i32_2224
  let c0_i32_1 : BitVec 32 := 0#32
  let c1_i32 : BitVec 32 := 1#32
  let arg13 : BitVec 32 := Scf.iv c0_i32_1 c1_i32 k0_t2
  let c38_i32_2221 : BitVec 32 := 38#32
  let v4593 : BitVec 32 := Scalar.muli arg13 c38_i32_2221
  let c23_i32 : BitVec 32 := 23#32
  let v4594 : BitVec 32 := Scalar.addi v4593 c23_i32
  let c4_i32_2225 : BitVec 32 := 4#32
  let v4602 : BitVec 32 := Scalar.muli v4594 c4_i32_2225
  let v4603 : BitVec 32 := Scalar.addi v4601 v4602
  let c1_i32_2227 : BitVec 32 := 1#32
  let v4605 : BitVec 32 := Scalar.addi v4603 c1_i32_2227
  let v4622 : Index := Scalar.indexCast v4605
  let c0_2237 : Index := 0#32
  let c0_2238 : Index := 0#32
  ![v4622.toNat, 0, 0]
def k0_off334 (v4621 : BitVec 32) : Fin 2 → Nat :=
  let v4625 : Index := Scalar.indexCast v4621
  let c0_2239 : Index := 0#32
  ![v4625.toNat, 0]

def k0_chk118 (v4621 : BitVec 32) : Prop :=
  (∀ a, (k0_off334 v4621) a + S8x128.size a ≤ S18432x128.size a)
theorem k0_off334_inb : ∀ (v4621 : BitVec 32) (k0_hw118 : k0_chk118 v4621), ∀ a, (k0_off334 v4621) a + S8x128.size a ≤ S18432x128.size a := fun v4621 k0_hw118 => k0_hw118

def k0_off335 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2221 : BitVec 32 := 38#32
  let v4593 : BitVec 32 := Scalar.muli arg13 c38_i32_2221
  let c23_i32 : BitVec 32 := 23#32
  let v4594 : BitVec 32 := Scalar.addi v4593 c23_i32
  let c4_i32_2240 : BitVec 32 := 4#32
  let v4628 : BitVec 32 := Scalar.muli v4594 c4_i32_2240
  let c2_i32_2241 : BitVec 32 := 2#32
  let v4629 : BitVec 32 := Scalar.addi v4628 c2_i32_2241
  let v4630 : Index := Scalar.indexCast v4629
  ![v4630.toNat]
def k0_off336 (i : grid0.Coords) (k0_t2 : Fin k0_t2_loop.trips) (v4596 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2223 : BitVec 32 := 2#32
  let v4599 : BitVec 32 := Scalar.muli v2959 c2_i32_2223
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4597 : BitVec 32 := Scalar.shrui v4596 v2958
  let c1_i32_2222 : BitVec 32 := 1#32
  let v4598 : BitVec 32 := Scalar.andi v4597 c1_i32_2222
  let v4600 : BitVec 32 := Scalar.addi v4599 v4598
  let c1216_i32_2224 : BitVec 32 := 1216#32
  let v4601 : BitVec 32 := Scalar.muli v4600 c1216_i32_2224
  let c0_i32_1 : BitVec 32 := 0#32
  let c1_i32 : BitVec 32 := 1#32
  let arg13 : BitVec 32 := Scf.iv c0_i32_1 c1_i32 k0_t2
  let c38_i32_2221 : BitVec 32 := 38#32
  let v4593 : BitVec 32 := Scalar.muli arg13 c38_i32_2221
  let c23_i32 : BitVec 32 := 23#32
  let v4594 : BitVec 32 := Scalar.addi v4593 c23_i32
  let c4_i32_2225 : BitVec 32 := 4#32
  let v4602 : BitVec 32 := Scalar.muli v4594 c4_i32_2225
  let v4603 : BitVec 32 := Scalar.addi v4601 v4602
  let c2_i32_2228 : BitVec 32 := 2#32
  let v4606 : BitVec 32 := Scalar.addi v4603 c2_i32_2228
  let v4632 : Index := Scalar.indexCast v4606
  let c0_2242 : Index := 0#32
  let c0_2243 : Index := 0#32
  ![v4632.toNat, 0, 0]
def k0_off337 (v4631 : BitVec 32) : Fin 2 → Nat :=
  let v4635 : Index := Scalar.indexCast v4631
  let c0_2244 : Index := 0#32
  ![v4635.toNat, 0]

def k0_chk119 (v4631 : BitVec 32) : Prop :=
  (∀ a, (k0_off337 v4631) a + S8x128.size a ≤ S18432x128.size a)
theorem k0_off337_inb : ∀ (v4631 : BitVec 32) (k0_hw119 : k0_chk119 v4631), ∀ a, (k0_off337 v4631) a + S8x128.size a ≤ S18432x128.size a := fun v4631 k0_hw119 => k0_hw119

def k0_off338 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2221 : BitVec 32 := 38#32
  let v4593 : BitVec 32 := Scalar.muli arg13 c38_i32_2221
  let c23_i32 : BitVec 32 := 23#32
  let v4594 : BitVec 32 := Scalar.addi v4593 c23_i32
  let c4_i32_2245 : BitVec 32 := 4#32
  let v4638 : BitVec 32 := Scalar.muli v4594 c4_i32_2245
  let c3_i32_2246 : BitVec 32 := 3#32
  let v4639 : BitVec 32 := Scalar.addi v4638 c3_i32_2246
  let v4640 : Index := Scalar.indexCast v4639
  ![v4640.toNat]
def k0_off339 (i : grid0.Coords) (k0_t2 : Fin k0_t2_loop.trips) (v4596 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2223 : BitVec 32 := 2#32
  let v4599 : BitVec 32 := Scalar.muli v2959 c2_i32_2223
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4597 : BitVec 32 := Scalar.shrui v4596 v2958
  let c1_i32_2222 : BitVec 32 := 1#32
  let v4598 : BitVec 32 := Scalar.andi v4597 c1_i32_2222
  let v4600 : BitVec 32 := Scalar.addi v4599 v4598
  let c1216_i32_2224 : BitVec 32 := 1216#32
  let v4601 : BitVec 32 := Scalar.muli v4600 c1216_i32_2224
  let c0_i32_1 : BitVec 32 := 0#32
  let c1_i32 : BitVec 32 := 1#32
  let arg13 : BitVec 32 := Scf.iv c0_i32_1 c1_i32 k0_t2
  let c38_i32_2221 : BitVec 32 := 38#32
  let v4593 : BitVec 32 := Scalar.muli arg13 c38_i32_2221
  let c23_i32 : BitVec 32 := 23#32
  let v4594 : BitVec 32 := Scalar.addi v4593 c23_i32
  let c4_i32_2225 : BitVec 32 := 4#32
  let v4602 : BitVec 32 := Scalar.muli v4594 c4_i32_2225
  let v4603 : BitVec 32 := Scalar.addi v4601 v4602
  let c3_i32_2229 : BitVec 32 := 3#32
  let v4607 : BitVec 32 := Scalar.addi v4603 c3_i32_2229
  let v4642 : Index := Scalar.indexCast v4607
  let c0_2247 : Index := 0#32
  let c0_2248 : Index := 0#32
  ![v4642.toNat, 0, 0]
def k0_off340 (v4641 : BitVec 32) : Fin 2 → Nat :=
  let v4645 : Index := Scalar.indexCast v4641
  let c0_2249 : Index := 0#32
  ![v4645.toNat, 0]

def k0_chk120 (v4641 : BitVec 32) : Prop :=
  (∀ a, (k0_off340 v4641) a + S8x128.size a ≤ S18432x128.size a)
theorem k0_off340_inb : ∀ (v4641 : BitVec 32) (k0_hw120 : k0_chk120 v4641), ∀ a, (k0_off340 v4641) a + S8x128.size a ≤ S18432x128.size a := fun v4641 k0_hw120 => k0_hw120

def k0_off341 (i : grid0.Coords) (k0_t2 : Fin k0_t2_loop.trips) (v4596 : BitVec 32) (c0_i32_2226 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2223 : BitVec 32 := 2#32
  let v4599 : BitVec 32 := Scalar.muli v2959 c2_i32_2223
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4597 : BitVec 32 := Scalar.shrui v4596 v2958
  let c1_i32_2222 : BitVec 32 := 1#32
  let v4598 : BitVec 32 := Scalar.andi v4597 c1_i32_2222
  let v4600 : BitVec 32 := Scalar.addi v4599 v4598
  let c1216_i32_2224 : BitVec 32 := 1216#32
  let v4601 : BitVec 32 := Scalar.muli v4600 c1216_i32_2224
  let c0_i32_1 : BitVec 32 := 0#32
  let c1_i32 : BitVec 32 := 1#32
  let arg13 : BitVec 32 := Scf.iv c0_i32_1 c1_i32 k0_t2
  let c38_i32_2221 : BitVec 32 := 38#32
  let v4593 : BitVec 32 := Scalar.muli arg13 c38_i32_2221
  let c23_i32 : BitVec 32 := 23#32
  let v4594 : BitVec 32 := Scalar.addi v4593 c23_i32
  let c4_i32_2225 : BitVec 32 := 4#32
  let v4602 : BitVec 32 := Scalar.muli v4594 c4_i32_2225
  let v4603 : BitVec 32 := Scalar.addi v4601 v4602
  let v4604 : BitVec 32 := Scalar.addi v4603 c0_i32_2226
  let v4648 : Index := Scalar.indexCast v4604
  let c0_2250 : Index := 0#32
  let c0_2251 : Index := 0#32
  ![v4648.toNat, 0, 0]

def k0_chk116 (i : grid0.Coords) (k0_t2 : Fin k0_t2_loop.trips) (v4596 : BitVec 32) : Prop :=
  (∀ a, (k0_off330 i k0_t2 v4596) a + S1x8x128.size a ≤ S7296x8x128.size a) ∧
  (∀ a, (k0_off333 i k0_t2 v4596) a + S1x8x128.size a ≤ S7296x8x128.size a) ∧
  (∀ a, (k0_off336 i k0_t2 v4596) a + S1x8x128.size a ≤ S7296x8x128.size a) ∧
  (∀ a, (k0_off339 i k0_t2 v4596) a + S1x8x128.size a ≤ S7296x8x128.size a) ∧
  (∀ (r : Fin 4), ∀ a, (k0_off341 i k0_t2 v4596 (BitVec.ofNat 32 r.val)) a + S1x8x128.size a ≤ S7296x8x128.size a)
theorem k0_off330_inb : ∀ (i : grid0.Coords) (k0_t2 : Fin k0_t2_loop.trips) (v4596 : BitVec 32) (k0_hw116 : k0_chk116 i k0_t2 v4596), ∀ a, (k0_off330 i k0_t2 v4596) a + S1x8x128.size a ≤ S7296x8x128.size a := fun i k0_t2 v4596 k0_hw116 => k0_hw116.1
theorem k0_off333_inb : ∀ (i : grid0.Coords) (k0_t2 : Fin k0_t2_loop.trips) (v4596 : BitVec 32) (k0_hw116 : k0_chk116 i k0_t2 v4596), ∀ a, (k0_off333 i k0_t2 v4596) a + S1x8x128.size a ≤ S7296x8x128.size a := fun i k0_t2 v4596 k0_hw116 => k0_hw116.2.1
theorem k0_off336_inb : ∀ (i : grid0.Coords) (k0_t2 : Fin k0_t2_loop.trips) (v4596 : BitVec 32) (k0_hw116 : k0_chk116 i k0_t2 v4596), ∀ a, (k0_off336 i k0_t2 v4596) a + S1x8x128.size a ≤ S7296x8x128.size a := fun i k0_t2 v4596 k0_hw116 => k0_hw116.2.2.1
theorem k0_off339_inb : ∀ (i : grid0.Coords) (k0_t2 : Fin k0_t2_loop.trips) (v4596 : BitVec 32) (k0_hw116 : k0_chk116 i k0_t2 v4596), ∀ a, (k0_off339 i k0_t2 v4596) a + S1x8x128.size a ≤ S7296x8x128.size a := fun i k0_t2 v4596 k0_hw116 => k0_hw116.2.2.2.1
theorem k0_off341_inb : ∀ (i : grid0.Coords) (k0_t2 : Fin k0_t2_loop.trips) (v4596 : BitVec 32) (k0_hw116 : k0_chk116 i k0_t2 v4596), ∀ (r : Fin 4), ∀ a, (k0_off341 i k0_t2 v4596 (BitVec.ofNat 32 r.val)) a + S1x8x128.size a ≤ S7296x8x128.size a := fun i k0_t2 v4596 k0_hw116 r => k0_hw116.2.2.2.2 r

def k0_off342 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2258 : BitVec 32 := 38#32
  let v4664 : BitVec 32 := Scalar.muli arg13 c38_i32_2258
  let c24_i32_2259 : BitVec 32 := 24#32
  let v4665 : BitVec 32 := Scalar.addi v4664 c24_i32_2259
  let v4666 : Index := Scalar.indexCast v4665
  ![v4666.toNat]
def k0_off343 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2258 : BitVec 32 := 38#32
  let v4664 : BitVec 32 := Scalar.muli arg13 c38_i32_2258
  let c24_i32_2259 : BitVec 32 := 24#32
  let v4665 : BitVec 32 := Scalar.addi v4664 c24_i32_2259
  let c4_i32_2268 : BitVec 32 := 4#32
  let v4679 : BitVec 32 := Scalar.muli v4665 c4_i32_2268
  let c0_i32_2269 : BitVec 32 := 0#32
  let v4680 : BitVec 32 := Scalar.addi v4679 c0_i32_2269
  let v4681 : Index := Scalar.indexCast v4680
  ![v4681.toNat]
def k0_off344 (i : grid0.Coords) (k0_t2 : Fin k0_t2_loop.trips) (v4667 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2261 : BitVec 32 := 2#32
  let v4670 : BitVec 32 := Scalar.muli v2959 c2_i32_2261
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4668 : BitVec 32 := Scalar.shrui v4667 v2958
  let c1_i32_2260 : BitVec 32 := 1#32
  let v4669 : BitVec 32 := Scalar.andi v4668 c1_i32_2260
  let v4671 : BitVec 32 := Scalar.addi v4670 v4669
  let c1216_i32_2262 : BitVec 32 := 1216#32
  let v4672 : BitVec 32 := Scalar.muli v4671 c1216_i32_2262
  let c0_i32_1 : BitVec 32 := 0#32
  let c1_i32 : BitVec 32 := 1#32
  let arg13 : BitVec 32 := Scf.iv c0_i32_1 c1_i32 k0_t2
  let c38_i32_2258 : BitVec 32 := 38#32
  let v4664 : BitVec 32 := Scalar.muli arg13 c38_i32_2258
  let c24_i32_2259 : BitVec 32 := 24#32
  let v4665 : BitVec 32 := Scalar.addi v4664 c24_i32_2259
  let c4_i32_2263 : BitVec 32 := 4#32
  let v4673 : BitVec 32 := Scalar.muli v4665 c4_i32_2263
  let v4674 : BitVec 32 := Scalar.addi v4672 v4673
  let c0_i32_2264 : BitVec 32 := 0#32
  let v4675 : BitVec 32 := Scalar.addi v4674 c0_i32_2264
  let v4683 : Index := Scalar.indexCast v4675
  let c0_2270 : Index := 0#32
  let c0_2271 : Index := 0#32
  ![v4683.toNat, 0, 0]

def k0_off345 (v4682 : BitVec 32) : Fin 2 → Nat :=
  let v4686 : Index := Scalar.indexCast v4682
  let c0_2272 : Index := 0#32
  ![v4686.toNat, 0]

def k0_chk122 (v4682 : BitVec 32) : Prop :=
  (∀ a, (k0_off345 v4682) a + S8x128.size a ≤ S18432x128.size a)
theorem k0_off345_inb : ∀ (v4682 : BitVec 32) (k0_hw122 : k0_chk122 v4682), ∀ a, (k0_off345 v4682) a + S8x128.size a ≤ S18432x128.size a := fun v4682 k0_hw122 => k0_hw122

def k0_off346 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2258 : BitVec 32 := 38#32
  let v4664 : BitVec 32 := Scalar.muli arg13 c38_i32_2258
  let c24_i32_2259 : BitVec 32 := 24#32
  let v4665 : BitVec 32 := Scalar.addi v4664 c24_i32_2259
  let c4_i32_2273 : BitVec 32 := 4#32
  let v4689 : BitVec 32 := Scalar.muli v4665 c4_i32_2273
  let c1_i32_2274 : BitVec 32 := 1#32
  let v4690 : BitVec 32 := Scalar.addi v4689 c1_i32_2274
  let v4691 : Index := Scalar.indexCast v4690
  ![v4691.toNat]
def k0_off347 (i : grid0.Coords) (k0_t2 : Fin k0_t2_loop.trips) (v4667 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2261 : BitVec 32 := 2#32
  let v4670 : BitVec 32 := Scalar.muli v2959 c2_i32_2261
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4668 : BitVec 32 := Scalar.shrui v4667 v2958
  let c1_i32_2260 : BitVec 32 := 1#32
  let v4669 : BitVec 32 := Scalar.andi v4668 c1_i32_2260
  let v4671 : BitVec 32 := Scalar.addi v4670 v4669
  let c1216_i32_2262 : BitVec 32 := 1216#32
  let v4672 : BitVec 32 := Scalar.muli v4671 c1216_i32_2262
  let c0_i32_1 : BitVec 32 := 0#32
  let c1_i32 : BitVec 32 := 1#32
  let arg13 : BitVec 32 := Scf.iv c0_i32_1 c1_i32 k0_t2
  let c38_i32_2258 : BitVec 32 := 38#32
  let v4664 : BitVec 32 := Scalar.muli arg13 c38_i32_2258
  let c24_i32_2259 : BitVec 32 := 24#32
  let v4665 : BitVec 32 := Scalar.addi v4664 c24_i32_2259
  let c4_i32_2263 : BitVec 32 := 4#32
  let v4673 : BitVec 32 := Scalar.muli v4665 c4_i32_2263
  let v4674 : BitVec 32 := Scalar.addi v4672 v4673
  let c1_i32_2265 : BitVec 32 := 1#32
  let v4676 : BitVec 32 := Scalar.addi v4674 c1_i32_2265
  let v4693 : Index := Scalar.indexCast v4676
  let c0_2275 : Index := 0#32
  let c0_2276 : Index := 0#32
  ![v4693.toNat, 0, 0]
def k0_off348 (v4692 : BitVec 32) : Fin 2 → Nat :=
  let v4696 : Index := Scalar.indexCast v4692
  let c0_2277 : Index := 0#32
  ![v4696.toNat, 0]

def k0_chk123 (v4692 : BitVec 32) : Prop :=
  (∀ a, (k0_off348 v4692) a + S8x128.size a ≤ S18432x128.size a)
theorem k0_off348_inb : ∀ (v4692 : BitVec 32) (k0_hw123 : k0_chk123 v4692), ∀ a, (k0_off348 v4692) a + S8x128.size a ≤ S18432x128.size a := fun v4692 k0_hw123 => k0_hw123

def k0_off349 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2258 : BitVec 32 := 38#32
  let v4664 : BitVec 32 := Scalar.muli arg13 c38_i32_2258
  let c24_i32_2259 : BitVec 32 := 24#32
  let v4665 : BitVec 32 := Scalar.addi v4664 c24_i32_2259
  let c4_i32_2278 : BitVec 32 := 4#32
  let v4699 : BitVec 32 := Scalar.muli v4665 c4_i32_2278
  let c2_i32_2279 : BitVec 32 := 2#32
  let v4700 : BitVec 32 := Scalar.addi v4699 c2_i32_2279
  let v4701 : Index := Scalar.indexCast v4700
  ![v4701.toNat]
def k0_off350 (i : grid0.Coords) (k0_t2 : Fin k0_t2_loop.trips) (v4667 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2261 : BitVec 32 := 2#32
  let v4670 : BitVec 32 := Scalar.muli v2959 c2_i32_2261
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4668 : BitVec 32 := Scalar.shrui v4667 v2958
  let c1_i32_2260 : BitVec 32 := 1#32
  let v4669 : BitVec 32 := Scalar.andi v4668 c1_i32_2260
  let v4671 : BitVec 32 := Scalar.addi v4670 v4669
  let c1216_i32_2262 : BitVec 32 := 1216#32
  let v4672 : BitVec 32 := Scalar.muli v4671 c1216_i32_2262
  let c0_i32_1 : BitVec 32 := 0#32
  let c1_i32 : BitVec 32 := 1#32
  let arg13 : BitVec 32 := Scf.iv c0_i32_1 c1_i32 k0_t2
  let c38_i32_2258 : BitVec 32 := 38#32
  let v4664 : BitVec 32 := Scalar.muli arg13 c38_i32_2258
  let c24_i32_2259 : BitVec 32 := 24#32
  let v4665 : BitVec 32 := Scalar.addi v4664 c24_i32_2259
  let c4_i32_2263 : BitVec 32 := 4#32
  let v4673 : BitVec 32 := Scalar.muli v4665 c4_i32_2263
  let v4674 : BitVec 32 := Scalar.addi v4672 v4673
  let c2_i32_2266 : BitVec 32 := 2#32
  let v4677 : BitVec 32 := Scalar.addi v4674 c2_i32_2266
  let v4703 : Index := Scalar.indexCast v4677
  let c0_2280 : Index := 0#32
  let c0_2281 : Index := 0#32
  ![v4703.toNat, 0, 0]
def k0_off351 (v4702 : BitVec 32) : Fin 2 → Nat :=
  let v4706 : Index := Scalar.indexCast v4702
  let c0_2282 : Index := 0#32
  ![v4706.toNat, 0]

def k0_chk124 (v4702 : BitVec 32) : Prop :=
  (∀ a, (k0_off351 v4702) a + S8x128.size a ≤ S18432x128.size a)
theorem k0_off351_inb : ∀ (v4702 : BitVec 32) (k0_hw124 : k0_chk124 v4702), ∀ a, (k0_off351 v4702) a + S8x128.size a ≤ S18432x128.size a := fun v4702 k0_hw124 => k0_hw124

def k0_off352 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2258 : BitVec 32 := 38#32
  let v4664 : BitVec 32 := Scalar.muli arg13 c38_i32_2258
  let c24_i32_2259 : BitVec 32 := 24#32
  let v4665 : BitVec 32 := Scalar.addi v4664 c24_i32_2259
  let c4_i32_2283 : BitVec 32 := 4#32
  let v4709 : BitVec 32 := Scalar.muli v4665 c4_i32_2283
  let c3_i32_2284 : BitVec 32 := 3#32
  let v4710 : BitVec 32 := Scalar.addi v4709 c3_i32_2284
  let v4711 : Index := Scalar.indexCast v4710
  ![v4711.toNat]
def k0_off353 (i : grid0.Coords) (k0_t2 : Fin k0_t2_loop.trips) (v4667 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2261 : BitVec 32 := 2#32
  let v4670 : BitVec 32 := Scalar.muli v2959 c2_i32_2261
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4668 : BitVec 32 := Scalar.shrui v4667 v2958
  let c1_i32_2260 : BitVec 32 := 1#32
  let v4669 : BitVec 32 := Scalar.andi v4668 c1_i32_2260
  let v4671 : BitVec 32 := Scalar.addi v4670 v4669
  let c1216_i32_2262 : BitVec 32 := 1216#32
  let v4672 : BitVec 32 := Scalar.muli v4671 c1216_i32_2262
  let c0_i32_1 : BitVec 32 := 0#32
  let c1_i32 : BitVec 32 := 1#32
  let arg13 : BitVec 32 := Scf.iv c0_i32_1 c1_i32 k0_t2
  let c38_i32_2258 : BitVec 32 := 38#32
  let v4664 : BitVec 32 := Scalar.muli arg13 c38_i32_2258
  let c24_i32_2259 : BitVec 32 := 24#32
  let v4665 : BitVec 32 := Scalar.addi v4664 c24_i32_2259
  let c4_i32_2263 : BitVec 32 := 4#32
  let v4673 : BitVec 32 := Scalar.muli v4665 c4_i32_2263
  let v4674 : BitVec 32 := Scalar.addi v4672 v4673
  let c3_i32_2267 : BitVec 32 := 3#32
  let v4678 : BitVec 32 := Scalar.addi v4674 c3_i32_2267
  let v4713 : Index := Scalar.indexCast v4678
  let c0_2285 : Index := 0#32
  let c0_2286 : Index := 0#32
  ![v4713.toNat, 0, 0]
def k0_off354 (v4712 : BitVec 32) : Fin 2 → Nat :=
  let v4716 : Index := Scalar.indexCast v4712
  let c0_2287 : Index := 0#32
  ![v4716.toNat, 0]

def k0_chk125 (v4712 : BitVec 32) : Prop :=
  (∀ a, (k0_off354 v4712) a + S8x128.size a ≤ S18432x128.size a)
theorem k0_off354_inb : ∀ (v4712 : BitVec 32) (k0_hw125 : k0_chk125 v4712), ∀ a, (k0_off354 v4712) a + S8x128.size a ≤ S18432x128.size a := fun v4712 k0_hw125 => k0_hw125

def k0_off355 (i : grid0.Coords) (k0_t2 : Fin k0_t2_loop.trips) (v4667 : BitVec 32) (c0_i32_2264 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2261 : BitVec 32 := 2#32
  let v4670 : BitVec 32 := Scalar.muli v2959 c2_i32_2261
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4668 : BitVec 32 := Scalar.shrui v4667 v2958
  let c1_i32_2260 : BitVec 32 := 1#32
  let v4669 : BitVec 32 := Scalar.andi v4668 c1_i32_2260
  let v4671 : BitVec 32 := Scalar.addi v4670 v4669
  let c1216_i32_2262 : BitVec 32 := 1216#32
  let v4672 : BitVec 32 := Scalar.muli v4671 c1216_i32_2262
  let c0_i32_1 : BitVec 32 := 0#32
  let c1_i32 : BitVec 32 := 1#32
  let arg13 : BitVec 32 := Scf.iv c0_i32_1 c1_i32 k0_t2
  let c38_i32_2258 : BitVec 32 := 38#32
  let v4664 : BitVec 32 := Scalar.muli arg13 c38_i32_2258
  let c24_i32_2259 : BitVec 32 := 24#32
  let v4665 : BitVec 32 := Scalar.addi v4664 c24_i32_2259
  let c4_i32_2263 : BitVec 32 := 4#32
  let v4673 : BitVec 32 := Scalar.muli v4665 c4_i32_2263
  let v4674 : BitVec 32 := Scalar.addi v4672 v4673
  let v4675 : BitVec 32 := Scalar.addi v4674 c0_i32_2264
  let v4719 : Index := Scalar.indexCast v4675
  let c0_2288 : Index := 0#32
  let c0_2289 : Index := 0#32
  ![v4719.toNat, 0, 0]

def k0_chk121 (i : grid0.Coords) (k0_t2 : Fin k0_t2_loop.trips) (v4667 : BitVec 32) : Prop :=
  (∀ a, (k0_off344 i k0_t2 v4667) a + S1x8x128.size a ≤ S7296x8x128.size a) ∧
  (∀ a, (k0_off347 i k0_t2 v4667) a + S1x8x128.size a ≤ S7296x8x128.size a) ∧
  (∀ a, (k0_off350 i k0_t2 v4667) a + S1x8x128.size a ≤ S7296x8x128.size a) ∧
  (∀ a, (k0_off353 i k0_t2 v4667) a + S1x8x128.size a ≤ S7296x8x128.size a) ∧
  (∀ (r : Fin 4), ∀ a, (k0_off355 i k0_t2 v4667 (BitVec.ofNat 32 r.val)) a + S1x8x128.size a ≤ S7296x8x128.size a)
theorem k0_off344_inb : ∀ (i : grid0.Coords) (k0_t2 : Fin k0_t2_loop.trips) (v4667 : BitVec 32) (k0_hw121 : k0_chk121 i k0_t2 v4667), ∀ a, (k0_off344 i k0_t2 v4667) a + S1x8x128.size a ≤ S7296x8x128.size a := fun i k0_t2 v4667 k0_hw121 => k0_hw121.1
theorem k0_off347_inb : ∀ (i : grid0.Coords) (k0_t2 : Fin k0_t2_loop.trips) (v4667 : BitVec 32) (k0_hw121 : k0_chk121 i k0_t2 v4667), ∀ a, (k0_off347 i k0_t2 v4667) a + S1x8x128.size a ≤ S7296x8x128.size a := fun i k0_t2 v4667 k0_hw121 => k0_hw121.2.1
theorem k0_off350_inb : ∀ (i : grid0.Coords) (k0_t2 : Fin k0_t2_loop.trips) (v4667 : BitVec 32) (k0_hw121 : k0_chk121 i k0_t2 v4667), ∀ a, (k0_off350 i k0_t2 v4667) a + S1x8x128.size a ≤ S7296x8x128.size a := fun i k0_t2 v4667 k0_hw121 => k0_hw121.2.2.1
theorem k0_off353_inb : ∀ (i : grid0.Coords) (k0_t2 : Fin k0_t2_loop.trips) (v4667 : BitVec 32) (k0_hw121 : k0_chk121 i k0_t2 v4667), ∀ a, (k0_off353 i k0_t2 v4667) a + S1x8x128.size a ≤ S7296x8x128.size a := fun i k0_t2 v4667 k0_hw121 => k0_hw121.2.2.2.1
theorem k0_off355_inb : ∀ (i : grid0.Coords) (k0_t2 : Fin k0_t2_loop.trips) (v4667 : BitVec 32) (k0_hw121 : k0_chk121 i k0_t2 v4667), ∀ (r : Fin 4), ∀ a, (k0_off355 i k0_t2 v4667 (BitVec.ofNat 32 r.val)) a + S1x8x128.size a ≤ S7296x8x128.size a := fun i k0_t2 v4667 k0_hw121 r => k0_hw121.2.2.2.2 r

def k0_off356 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2296 : BitVec 32 := 38#32
  let v4735 : BitVec 32 := Scalar.muli arg13 c38_i32_2296
  let c25_i32 : BitVec 32 := 25#32
  let v4736 : BitVec 32 := Scalar.addi v4735 c25_i32
  let v4737 : Index := Scalar.indexCast v4736
  ![v4737.toNat]
def k0_off357 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2296 : BitVec 32 := 38#32
  let v4735 : BitVec 32 := Scalar.muli arg13 c38_i32_2296
  let c25_i32 : BitVec 32 := 25#32
  let v4736 : BitVec 32 := Scalar.addi v4735 c25_i32
  let c4_i32_2305 : BitVec 32 := 4#32
  let v4750 : BitVec 32 := Scalar.muli v4736 c4_i32_2305
  let c0_i32_2306 : BitVec 32 := 0#32
  let v4751 : BitVec 32 := Scalar.addi v4750 c0_i32_2306
  let v4752 : Index := Scalar.indexCast v4751
  ![v4752.toNat]
def k0_off358 (i : grid0.Coords) (k0_t2 : Fin k0_t2_loop.trips) (v4738 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2298 : BitVec 32 := 2#32
  let v4741 : BitVec 32 := Scalar.muli v2959 c2_i32_2298
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4739 : BitVec 32 := Scalar.shrui v4738 v2958
  let c1_i32_2297 : BitVec 32 := 1#32
  let v4740 : BitVec 32 := Scalar.andi v4739 c1_i32_2297
  let v4742 : BitVec 32 := Scalar.addi v4741 v4740
  let c1216_i32_2299 : BitVec 32 := 1216#32
  let v4743 : BitVec 32 := Scalar.muli v4742 c1216_i32_2299
  let c0_i32_1 : BitVec 32 := 0#32
  let c1_i32 : BitVec 32 := 1#32
  let arg13 : BitVec 32 := Scf.iv c0_i32_1 c1_i32 k0_t2
  let c38_i32_2296 : BitVec 32 := 38#32
  let v4735 : BitVec 32 := Scalar.muli arg13 c38_i32_2296
  let c25_i32 : BitVec 32 := 25#32
  let v4736 : BitVec 32 := Scalar.addi v4735 c25_i32
  let c4_i32_2300 : BitVec 32 := 4#32
  let v4744 : BitVec 32 := Scalar.muli v4736 c4_i32_2300
  let v4745 : BitVec 32 := Scalar.addi v4743 v4744
  let c0_i32_2301 : BitVec 32 := 0#32
  let v4746 : BitVec 32 := Scalar.addi v4745 c0_i32_2301
  let v4754 : Index := Scalar.indexCast v4746
  let c0_2307 : Index := 0#32
  let c0_2308 : Index := 0#32
  ![v4754.toNat, 0, 0]

def k0_off359 (v4753 : BitVec 32) : Fin 2 → Nat :=
  let v4757 : Index := Scalar.indexCast v4753
  let c0_2309 : Index := 0#32
  ![v4757.toNat, 0]

def k0_chk127 (v4753 : BitVec 32) : Prop :=
  (∀ a, (k0_off359 v4753) a + S8x128.size a ≤ S18432x128.size a)
theorem k0_off359_inb : ∀ (v4753 : BitVec 32) (k0_hw127 : k0_chk127 v4753), ∀ a, (k0_off359 v4753) a + S8x128.size a ≤ S18432x128.size a := fun v4753 k0_hw127 => k0_hw127

def k0_off360 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2296 : BitVec 32 := 38#32
  let v4735 : BitVec 32 := Scalar.muli arg13 c38_i32_2296
  let c25_i32 : BitVec 32 := 25#32
  let v4736 : BitVec 32 := Scalar.addi v4735 c25_i32
  let c4_i32_2310 : BitVec 32 := 4#32
  let v4760 : BitVec 32 := Scalar.muli v4736 c4_i32_2310
  let c1_i32_2311 : BitVec 32 := 1#32
  let v4761 : BitVec 32 := Scalar.addi v4760 c1_i32_2311
  let v4762 : Index := Scalar.indexCast v4761
  ![v4762.toNat]
def k0_off361 (i : grid0.Coords) (k0_t2 : Fin k0_t2_loop.trips) (v4738 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2298 : BitVec 32 := 2#32
  let v4741 : BitVec 32 := Scalar.muli v2959 c2_i32_2298
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4739 : BitVec 32 := Scalar.shrui v4738 v2958
  let c1_i32_2297 : BitVec 32 := 1#32
  let v4740 : BitVec 32 := Scalar.andi v4739 c1_i32_2297
  let v4742 : BitVec 32 := Scalar.addi v4741 v4740
  let c1216_i32_2299 : BitVec 32 := 1216#32
  let v4743 : BitVec 32 := Scalar.muli v4742 c1216_i32_2299
  let c0_i32_1 : BitVec 32 := 0#32
  let c1_i32 : BitVec 32 := 1#32
  let arg13 : BitVec 32 := Scf.iv c0_i32_1 c1_i32 k0_t2
  let c38_i32_2296 : BitVec 32 := 38#32
  let v4735 : BitVec 32 := Scalar.muli arg13 c38_i32_2296
  let c25_i32 : BitVec 32 := 25#32
  let v4736 : BitVec 32 := Scalar.addi v4735 c25_i32
  let c4_i32_2300 : BitVec 32 := 4#32
  let v4744 : BitVec 32 := Scalar.muli v4736 c4_i32_2300
  let v4745 : BitVec 32 := Scalar.addi v4743 v4744
  let c1_i32_2302 : BitVec 32 := 1#32
  let v4747 : BitVec 32 := Scalar.addi v4745 c1_i32_2302
  let v4764 : Index := Scalar.indexCast v4747
  let c0_2312 : Index := 0#32
  let c0_2313 : Index := 0#32
  ![v4764.toNat, 0, 0]
def k0_off362 (v4763 : BitVec 32) : Fin 2 → Nat :=
  let v4767 : Index := Scalar.indexCast v4763
  let c0_2314 : Index := 0#32
  ![v4767.toNat, 0]

def k0_chk128 (v4763 : BitVec 32) : Prop :=
  (∀ a, (k0_off362 v4763) a + S8x128.size a ≤ S18432x128.size a)
theorem k0_off362_inb : ∀ (v4763 : BitVec 32) (k0_hw128 : k0_chk128 v4763), ∀ a, (k0_off362 v4763) a + S8x128.size a ≤ S18432x128.size a := fun v4763 k0_hw128 => k0_hw128

def k0_off363 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2296 : BitVec 32 := 38#32
  let v4735 : BitVec 32 := Scalar.muli arg13 c38_i32_2296
  let c25_i32 : BitVec 32 := 25#32
  let v4736 : BitVec 32 := Scalar.addi v4735 c25_i32
  let c4_i32_2315 : BitVec 32 := 4#32
  let v4770 : BitVec 32 := Scalar.muli v4736 c4_i32_2315
  let c2_i32_2316 : BitVec 32 := 2#32
  let v4771 : BitVec 32 := Scalar.addi v4770 c2_i32_2316
  let v4772 : Index := Scalar.indexCast v4771
  ![v4772.toNat]
def k0_off364 (i : grid0.Coords) (k0_t2 : Fin k0_t2_loop.trips) (v4738 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2298 : BitVec 32 := 2#32
  let v4741 : BitVec 32 := Scalar.muli v2959 c2_i32_2298
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4739 : BitVec 32 := Scalar.shrui v4738 v2958
  let c1_i32_2297 : BitVec 32 := 1#32
  let v4740 : BitVec 32 := Scalar.andi v4739 c1_i32_2297
  let v4742 : BitVec 32 := Scalar.addi v4741 v4740
  let c1216_i32_2299 : BitVec 32 := 1216#32
  let v4743 : BitVec 32 := Scalar.muli v4742 c1216_i32_2299
  let c0_i32_1 : BitVec 32 := 0#32
  let c1_i32 : BitVec 32 := 1#32
  let arg13 : BitVec 32 := Scf.iv c0_i32_1 c1_i32 k0_t2
  let c38_i32_2296 : BitVec 32 := 38#32
  let v4735 : BitVec 32 := Scalar.muli arg13 c38_i32_2296
  let c25_i32 : BitVec 32 := 25#32
  let v4736 : BitVec 32 := Scalar.addi v4735 c25_i32
  let c4_i32_2300 : BitVec 32 := 4#32
  let v4744 : BitVec 32 := Scalar.muli v4736 c4_i32_2300
  let v4745 : BitVec 32 := Scalar.addi v4743 v4744
  let c2_i32_2303 : BitVec 32 := 2#32
  let v4748 : BitVec 32 := Scalar.addi v4745 c2_i32_2303
  let v4774 : Index := Scalar.indexCast v4748
  let c0_2317 : Index := 0#32
  let c0_2318 : Index := 0#32
  ![v4774.toNat, 0, 0]
def k0_off365 (v4773 : BitVec 32) : Fin 2 → Nat :=
  let v4777 : Index := Scalar.indexCast v4773
  let c0_2319 : Index := 0#32
  ![v4777.toNat, 0]

def k0_chk129 (v4773 : BitVec 32) : Prop :=
  (∀ a, (k0_off365 v4773) a + S8x128.size a ≤ S18432x128.size a)
theorem k0_off365_inb : ∀ (v4773 : BitVec 32) (k0_hw129 : k0_chk129 v4773), ∀ a, (k0_off365 v4773) a + S8x128.size a ≤ S18432x128.size a := fun v4773 k0_hw129 => k0_hw129

def k0_off366 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2296 : BitVec 32 := 38#32
  let v4735 : BitVec 32 := Scalar.muli arg13 c38_i32_2296
  let c25_i32 : BitVec 32 := 25#32
  let v4736 : BitVec 32 := Scalar.addi v4735 c25_i32
  let c4_i32_2320 : BitVec 32 := 4#32
  let v4780 : BitVec 32 := Scalar.muli v4736 c4_i32_2320
  let c3_i32_2321 : BitVec 32 := 3#32
  let v4781 : BitVec 32 := Scalar.addi v4780 c3_i32_2321
  let v4782 : Index := Scalar.indexCast v4781
  ![v4782.toNat]
def k0_off367 (i : grid0.Coords) (k0_t2 : Fin k0_t2_loop.trips) (v4738 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2298 : BitVec 32 := 2#32
  let v4741 : BitVec 32 := Scalar.muli v2959 c2_i32_2298
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4739 : BitVec 32 := Scalar.shrui v4738 v2958
  let c1_i32_2297 : BitVec 32 := 1#32
  let v4740 : BitVec 32 := Scalar.andi v4739 c1_i32_2297
  let v4742 : BitVec 32 := Scalar.addi v4741 v4740
  let c1216_i32_2299 : BitVec 32 := 1216#32
  let v4743 : BitVec 32 := Scalar.muli v4742 c1216_i32_2299
  let c0_i32_1 : BitVec 32 := 0#32
  let c1_i32 : BitVec 32 := 1#32
  let arg13 : BitVec 32 := Scf.iv c0_i32_1 c1_i32 k0_t2
  let c38_i32_2296 : BitVec 32 := 38#32
  let v4735 : BitVec 32 := Scalar.muli arg13 c38_i32_2296
  let c25_i32 : BitVec 32 := 25#32
  let v4736 : BitVec 32 := Scalar.addi v4735 c25_i32
  let c4_i32_2300 : BitVec 32 := 4#32
  let v4744 : BitVec 32 := Scalar.muli v4736 c4_i32_2300
  let v4745 : BitVec 32 := Scalar.addi v4743 v4744
  let c3_i32_2304 : BitVec 32 := 3#32
  let v4749 : BitVec 32 := Scalar.addi v4745 c3_i32_2304
  let v4784 : Index := Scalar.indexCast v4749
  let c0_2322 : Index := 0#32
  let c0_2323 : Index := 0#32
  ![v4784.toNat, 0, 0]
def k0_off368 (v4783 : BitVec 32) : Fin 2 → Nat :=
  let v4787 : Index := Scalar.indexCast v4783
  let c0_2324 : Index := 0#32
  ![v4787.toNat, 0]

def k0_chk130 (v4783 : BitVec 32) : Prop :=
  (∀ a, (k0_off368 v4783) a + S8x128.size a ≤ S18432x128.size a)
theorem k0_off368_inb : ∀ (v4783 : BitVec 32) (k0_hw130 : k0_chk130 v4783), ∀ a, (k0_off368 v4783) a + S8x128.size a ≤ S18432x128.size a := fun v4783 k0_hw130 => k0_hw130

def k0_off369 (i : grid0.Coords) (k0_t2 : Fin k0_t2_loop.trips) (v4738 : BitVec 32) (c0_i32_2301 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2298 : BitVec 32 := 2#32
  let v4741 : BitVec 32 := Scalar.muli v2959 c2_i32_2298
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4739 : BitVec 32 := Scalar.shrui v4738 v2958
  let c1_i32_2297 : BitVec 32 := 1#32
  let v4740 : BitVec 32 := Scalar.andi v4739 c1_i32_2297
  let v4742 : BitVec 32 := Scalar.addi v4741 v4740
  let c1216_i32_2299 : BitVec 32 := 1216#32
  let v4743 : BitVec 32 := Scalar.muli v4742 c1216_i32_2299
  let c0_i32_1 : BitVec 32 := 0#32
  let c1_i32 : BitVec 32 := 1#32
  let arg13 : BitVec 32 := Scf.iv c0_i32_1 c1_i32 k0_t2
  let c38_i32_2296 : BitVec 32 := 38#32
  let v4735 : BitVec 32 := Scalar.muli arg13 c38_i32_2296
  let c25_i32 : BitVec 32 := 25#32
  let v4736 : BitVec 32 := Scalar.addi v4735 c25_i32
  let c4_i32_2300 : BitVec 32 := 4#32
  let v4744 : BitVec 32 := Scalar.muli v4736 c4_i32_2300
  let v4745 : BitVec 32 := Scalar.addi v4743 v4744
  let v4746 : BitVec 32 := Scalar.addi v4745 c0_i32_2301
  let v4790 : Index := Scalar.indexCast v4746
  let c0_2325 : Index := 0#32
  let c0_2326 : Index := 0#32
  ![v4790.toNat, 0, 0]

def k0_chk126 (i : grid0.Coords) (k0_t2 : Fin k0_t2_loop.trips) (v4738 : BitVec 32) : Prop :=
  (∀ a, (k0_off358 i k0_t2 v4738) a + S1x8x128.size a ≤ S7296x8x128.size a) ∧
  (∀ a, (k0_off361 i k0_t2 v4738) a + S1x8x128.size a ≤ S7296x8x128.size a) ∧
  (∀ a, (k0_off364 i k0_t2 v4738) a + S1x8x128.size a ≤ S7296x8x128.size a) ∧
  (∀ a, (k0_off367 i k0_t2 v4738) a + S1x8x128.size a ≤ S7296x8x128.size a) ∧
  (∀ (r : Fin 4), ∀ a, (k0_off369 i k0_t2 v4738 (BitVec.ofNat 32 r.val)) a + S1x8x128.size a ≤ S7296x8x128.size a)
theorem k0_off358_inb : ∀ (i : grid0.Coords) (k0_t2 : Fin k0_t2_loop.trips) (v4738 : BitVec 32) (k0_hw126 : k0_chk126 i k0_t2 v4738), ∀ a, (k0_off358 i k0_t2 v4738) a + S1x8x128.size a ≤ S7296x8x128.size a := fun i k0_t2 v4738 k0_hw126 => k0_hw126.1
theorem k0_off361_inb : ∀ (i : grid0.Coords) (k0_t2 : Fin k0_t2_loop.trips) (v4738 : BitVec 32) (k0_hw126 : k0_chk126 i k0_t2 v4738), ∀ a, (k0_off361 i k0_t2 v4738) a + S1x8x128.size a ≤ S7296x8x128.size a := fun i k0_t2 v4738 k0_hw126 => k0_hw126.2.1
theorem k0_off364_inb : ∀ (i : grid0.Coords) (k0_t2 : Fin k0_t2_loop.trips) (v4738 : BitVec 32) (k0_hw126 : k0_chk126 i k0_t2 v4738), ∀ a, (k0_off364 i k0_t2 v4738) a + S1x8x128.size a ≤ S7296x8x128.size a := fun i k0_t2 v4738 k0_hw126 => k0_hw126.2.2.1
theorem k0_off367_inb : ∀ (i : grid0.Coords) (k0_t2 : Fin k0_t2_loop.trips) (v4738 : BitVec 32) (k0_hw126 : k0_chk126 i k0_t2 v4738), ∀ a, (k0_off367 i k0_t2 v4738) a + S1x8x128.size a ≤ S7296x8x128.size a := fun i k0_t2 v4738 k0_hw126 => k0_hw126.2.2.2.1
theorem k0_off369_inb : ∀ (i : grid0.Coords) (k0_t2 : Fin k0_t2_loop.trips) (v4738 : BitVec 32) (k0_hw126 : k0_chk126 i k0_t2 v4738), ∀ (r : Fin 4), ∀ a, (k0_off369 i k0_t2 v4738 (BitVec.ofNat 32 r.val)) a + S1x8x128.size a ≤ S7296x8x128.size a := fun i k0_t2 v4738 k0_hw126 r => k0_hw126.2.2.2.2 r

def k0_off370 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2333 : BitVec 32 := 38#32
  let v4806 : BitVec 32 := Scalar.muli arg13 c38_i32_2333
  let c26_i32 : BitVec 32 := 26#32
  let v4807 : BitVec 32 := Scalar.addi v4806 c26_i32
  let v4808 : Index := Scalar.indexCast v4807
  ![v4808.toNat]
def k0_off371 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2333 : BitVec 32 := 38#32
  let v4806 : BitVec 32 := Scalar.muli arg13 c38_i32_2333
  let c26_i32 : BitVec 32 := 26#32
  let v4807 : BitVec 32 := Scalar.addi v4806 c26_i32
  let c4_i32_2342 : BitVec 32 := 4#32
  let v4821 : BitVec 32 := Scalar.muli v4807 c4_i32_2342
  let c0_i32_2343 : BitVec 32 := 0#32
  let v4822 : BitVec 32 := Scalar.addi v4821 c0_i32_2343
  let v4823 : Index := Scalar.indexCast v4822
  ![v4823.toNat]
def k0_off372 (i : grid0.Coords) (k0_t2 : Fin k0_t2_loop.trips) (v4809 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2335 : BitVec 32 := 2#32
  let v4812 : BitVec 32 := Scalar.muli v2959 c2_i32_2335
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4810 : BitVec 32 := Scalar.shrui v4809 v2958
  let c1_i32_2334 : BitVec 32 := 1#32
  let v4811 : BitVec 32 := Scalar.andi v4810 c1_i32_2334
  let v4813 : BitVec 32 := Scalar.addi v4812 v4811
  let c1216_i32_2336 : BitVec 32 := 1216#32
  let v4814 : BitVec 32 := Scalar.muli v4813 c1216_i32_2336
  let c0_i32_1 : BitVec 32 := 0#32
  let c1_i32 : BitVec 32 := 1#32
  let arg13 : BitVec 32 := Scf.iv c0_i32_1 c1_i32 k0_t2
  let c38_i32_2333 : BitVec 32 := 38#32
  let v4806 : BitVec 32 := Scalar.muli arg13 c38_i32_2333
  let c26_i32 : BitVec 32 := 26#32
  let v4807 : BitVec 32 := Scalar.addi v4806 c26_i32
  let c4_i32_2337 : BitVec 32 := 4#32
  let v4815 : BitVec 32 := Scalar.muli v4807 c4_i32_2337
  let v4816 : BitVec 32 := Scalar.addi v4814 v4815
  let c0_i32_2338 : BitVec 32 := 0#32
  let v4817 : BitVec 32 := Scalar.addi v4816 c0_i32_2338
  let v4825 : Index := Scalar.indexCast v4817
  let c0_2344 : Index := 0#32
  let c0_2345 : Index := 0#32
  ![v4825.toNat, 0, 0]

def k0_off373 (v4824 : BitVec 32) : Fin 2 → Nat :=
  let v4828 : Index := Scalar.indexCast v4824
  let c0_2346 : Index := 0#32
  ![v4828.toNat, 0]

def k0_chk132 (v4824 : BitVec 32) : Prop :=
  (∀ a, (k0_off373 v4824) a + S8x128.size a ≤ S18432x128.size a)
theorem k0_off373_inb : ∀ (v4824 : BitVec 32) (k0_hw132 : k0_chk132 v4824), ∀ a, (k0_off373 v4824) a + S8x128.size a ≤ S18432x128.size a := fun v4824 k0_hw132 => k0_hw132

def k0_off374 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2333 : BitVec 32 := 38#32
  let v4806 : BitVec 32 := Scalar.muli arg13 c38_i32_2333
  let c26_i32 : BitVec 32 := 26#32
  let v4807 : BitVec 32 := Scalar.addi v4806 c26_i32
  let c4_i32_2347 : BitVec 32 := 4#32
  let v4831 : BitVec 32 := Scalar.muli v4807 c4_i32_2347
  let c1_i32_2348 : BitVec 32 := 1#32
  let v4832 : BitVec 32 := Scalar.addi v4831 c1_i32_2348
  let v4833 : Index := Scalar.indexCast v4832
  ![v4833.toNat]
def k0_off375 (i : grid0.Coords) (k0_t2 : Fin k0_t2_loop.trips) (v4809 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2335 : BitVec 32 := 2#32
  let v4812 : BitVec 32 := Scalar.muli v2959 c2_i32_2335
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4810 : BitVec 32 := Scalar.shrui v4809 v2958
  let c1_i32_2334 : BitVec 32 := 1#32
  let v4811 : BitVec 32 := Scalar.andi v4810 c1_i32_2334
  let v4813 : BitVec 32 := Scalar.addi v4812 v4811
  let c1216_i32_2336 : BitVec 32 := 1216#32
  let v4814 : BitVec 32 := Scalar.muli v4813 c1216_i32_2336
  let c0_i32_1 : BitVec 32 := 0#32
  let c1_i32 : BitVec 32 := 1#32
  let arg13 : BitVec 32 := Scf.iv c0_i32_1 c1_i32 k0_t2
  let c38_i32_2333 : BitVec 32 := 38#32
  let v4806 : BitVec 32 := Scalar.muli arg13 c38_i32_2333
  let c26_i32 : BitVec 32 := 26#32
  let v4807 : BitVec 32 := Scalar.addi v4806 c26_i32
  let c4_i32_2337 : BitVec 32 := 4#32
  let v4815 : BitVec 32 := Scalar.muli v4807 c4_i32_2337
  let v4816 : BitVec 32 := Scalar.addi v4814 v4815
  let c1_i32_2339 : BitVec 32 := 1#32
  let v4818 : BitVec 32 := Scalar.addi v4816 c1_i32_2339
  let v4835 : Index := Scalar.indexCast v4818
  let c0_2349 : Index := 0#32
  let c0_2350 : Index := 0#32
  ![v4835.toNat, 0, 0]
def k0_off376 (v4834 : BitVec 32) : Fin 2 → Nat :=
  let v4838 : Index := Scalar.indexCast v4834
  let c0_2351 : Index := 0#32
  ![v4838.toNat, 0]

def k0_chk133 (v4834 : BitVec 32) : Prop :=
  (∀ a, (k0_off376 v4834) a + S8x128.size a ≤ S18432x128.size a)
theorem k0_off376_inb : ∀ (v4834 : BitVec 32) (k0_hw133 : k0_chk133 v4834), ∀ a, (k0_off376 v4834) a + S8x128.size a ≤ S18432x128.size a := fun v4834 k0_hw133 => k0_hw133

def k0_off377 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2333 : BitVec 32 := 38#32
  let v4806 : BitVec 32 := Scalar.muli arg13 c38_i32_2333
  let c26_i32 : BitVec 32 := 26#32
  let v4807 : BitVec 32 := Scalar.addi v4806 c26_i32
  let c4_i32_2352 : BitVec 32 := 4#32
  let v4841 : BitVec 32 := Scalar.muli v4807 c4_i32_2352
  let c2_i32_2353 : BitVec 32 := 2#32
  let v4842 : BitVec 32 := Scalar.addi v4841 c2_i32_2353
  let v4843 : Index := Scalar.indexCast v4842
  ![v4843.toNat]
def k0_off378 (i : grid0.Coords) (k0_t2 : Fin k0_t2_loop.trips) (v4809 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2335 : BitVec 32 := 2#32
  let v4812 : BitVec 32 := Scalar.muli v2959 c2_i32_2335
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4810 : BitVec 32 := Scalar.shrui v4809 v2958
  let c1_i32_2334 : BitVec 32 := 1#32
  let v4811 : BitVec 32 := Scalar.andi v4810 c1_i32_2334
  let v4813 : BitVec 32 := Scalar.addi v4812 v4811
  let c1216_i32_2336 : BitVec 32 := 1216#32
  let v4814 : BitVec 32 := Scalar.muli v4813 c1216_i32_2336
  let c0_i32_1 : BitVec 32 := 0#32
  let c1_i32 : BitVec 32 := 1#32
  let arg13 : BitVec 32 := Scf.iv c0_i32_1 c1_i32 k0_t2
  let c38_i32_2333 : BitVec 32 := 38#32
  let v4806 : BitVec 32 := Scalar.muli arg13 c38_i32_2333
  let c26_i32 : BitVec 32 := 26#32
  let v4807 : BitVec 32 := Scalar.addi v4806 c26_i32
  let c4_i32_2337 : BitVec 32 := 4#32
  let v4815 : BitVec 32 := Scalar.muli v4807 c4_i32_2337
  let v4816 : BitVec 32 := Scalar.addi v4814 v4815
  let c2_i32_2340 : BitVec 32 := 2#32
  let v4819 : BitVec 32 := Scalar.addi v4816 c2_i32_2340
  let v4845 : Index := Scalar.indexCast v4819
  let c0_2354 : Index := 0#32
  let c0_2355 : Index := 0#32
  ![v4845.toNat, 0, 0]
def k0_off379 (v4844 : BitVec 32) : Fin 2 → Nat :=
  let v4848 : Index := Scalar.indexCast v4844
  let c0_2356 : Index := 0#32
  ![v4848.toNat, 0]

def k0_chk134 (v4844 : BitVec 32) : Prop :=
  (∀ a, (k0_off379 v4844) a + S8x128.size a ≤ S18432x128.size a)
theorem k0_off379_inb : ∀ (v4844 : BitVec 32) (k0_hw134 : k0_chk134 v4844), ∀ a, (k0_off379 v4844) a + S8x128.size a ≤ S18432x128.size a := fun v4844 k0_hw134 => k0_hw134

def k0_off380 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2333 : BitVec 32 := 38#32
  let v4806 : BitVec 32 := Scalar.muli arg13 c38_i32_2333
  let c26_i32 : BitVec 32 := 26#32
  let v4807 : BitVec 32 := Scalar.addi v4806 c26_i32
  let c4_i32_2357 : BitVec 32 := 4#32
  let v4851 : BitVec 32 := Scalar.muli v4807 c4_i32_2357
  let c3_i32_2358 : BitVec 32 := 3#32
  let v4852 : BitVec 32 := Scalar.addi v4851 c3_i32_2358
  let v4853 : Index := Scalar.indexCast v4852
  ![v4853.toNat]
def k0_off381 (i : grid0.Coords) (k0_t2 : Fin k0_t2_loop.trips) (v4809 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2335 : BitVec 32 := 2#32
  let v4812 : BitVec 32 := Scalar.muli v2959 c2_i32_2335
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4810 : BitVec 32 := Scalar.shrui v4809 v2958
  let c1_i32_2334 : BitVec 32 := 1#32
  let v4811 : BitVec 32 := Scalar.andi v4810 c1_i32_2334
  let v4813 : BitVec 32 := Scalar.addi v4812 v4811
  let c1216_i32_2336 : BitVec 32 := 1216#32
  let v4814 : BitVec 32 := Scalar.muli v4813 c1216_i32_2336
  let c0_i32_1 : BitVec 32 := 0#32
  let c1_i32 : BitVec 32 := 1#32
  let arg13 : BitVec 32 := Scf.iv c0_i32_1 c1_i32 k0_t2
  let c38_i32_2333 : BitVec 32 := 38#32
  let v4806 : BitVec 32 := Scalar.muli arg13 c38_i32_2333
  let c26_i32 : BitVec 32 := 26#32
  let v4807 : BitVec 32 := Scalar.addi v4806 c26_i32
  let c4_i32_2337 : BitVec 32 := 4#32
  let v4815 : BitVec 32 := Scalar.muli v4807 c4_i32_2337
  let v4816 : BitVec 32 := Scalar.addi v4814 v4815
  let c3_i32_2341 : BitVec 32 := 3#32
  let v4820 : BitVec 32 := Scalar.addi v4816 c3_i32_2341
  let v4855 : Index := Scalar.indexCast v4820
  let c0_2359 : Index := 0#32
  let c0_2360 : Index := 0#32
  ![v4855.toNat, 0, 0]
def k0_off382 (v4854 : BitVec 32) : Fin 2 → Nat :=
  let v4858 : Index := Scalar.indexCast v4854
  let c0_2361 : Index := 0#32
  ![v4858.toNat, 0]

def k0_chk135 (v4854 : BitVec 32) : Prop :=
  (∀ a, (k0_off382 v4854) a + S8x128.size a ≤ S18432x128.size a)
theorem k0_off382_inb : ∀ (v4854 : BitVec 32) (k0_hw135 : k0_chk135 v4854), ∀ a, (k0_off382 v4854) a + S8x128.size a ≤ S18432x128.size a := fun v4854 k0_hw135 => k0_hw135

def k0_off383 (i : grid0.Coords) (k0_t2 : Fin k0_t2_loop.trips) (v4809 : BitVec 32) (c0_i32_2338 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2335 : BitVec 32 := 2#32
  let v4812 : BitVec 32 := Scalar.muli v2959 c2_i32_2335
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4810 : BitVec 32 := Scalar.shrui v4809 v2958
  let c1_i32_2334 : BitVec 32 := 1#32
  let v4811 : BitVec 32 := Scalar.andi v4810 c1_i32_2334
  let v4813 : BitVec 32 := Scalar.addi v4812 v4811
  let c1216_i32_2336 : BitVec 32 := 1216#32
  let v4814 : BitVec 32 := Scalar.muli v4813 c1216_i32_2336
  let c0_i32_1 : BitVec 32 := 0#32
  let c1_i32 : BitVec 32 := 1#32
  let arg13 : BitVec 32 := Scf.iv c0_i32_1 c1_i32 k0_t2
  let c38_i32_2333 : BitVec 32 := 38#32
  let v4806 : BitVec 32 := Scalar.muli arg13 c38_i32_2333
  let c26_i32 : BitVec 32 := 26#32
  let v4807 : BitVec 32 := Scalar.addi v4806 c26_i32
  let c4_i32_2337 : BitVec 32 := 4#32
  let v4815 : BitVec 32 := Scalar.muli v4807 c4_i32_2337
  let v4816 : BitVec 32 := Scalar.addi v4814 v4815
  let v4817 : BitVec 32 := Scalar.addi v4816 c0_i32_2338
  let v4861 : Index := Scalar.indexCast v4817
  let c0_2362 : Index := 0#32
  let c0_2363 : Index := 0#32
  ![v4861.toNat, 0, 0]

def k0_chk131 (i : grid0.Coords) (k0_t2 : Fin k0_t2_loop.trips) (v4809 : BitVec 32) : Prop :=
  (∀ a, (k0_off372 i k0_t2 v4809) a + S1x8x128.size a ≤ S7296x8x128.size a) ∧
  (∀ a, (k0_off375 i k0_t2 v4809) a + S1x8x128.size a ≤ S7296x8x128.size a) ∧
  (∀ a, (k0_off378 i k0_t2 v4809) a + S1x8x128.size a ≤ S7296x8x128.size a) ∧
  (∀ a, (k0_off381 i k0_t2 v4809) a + S1x8x128.size a ≤ S7296x8x128.size a) ∧
  (∀ (r : Fin 4), ∀ a, (k0_off383 i k0_t2 v4809 (BitVec.ofNat 32 r.val)) a + S1x8x128.size a ≤ S7296x8x128.size a)
theorem k0_off372_inb : ∀ (i : grid0.Coords) (k0_t2 : Fin k0_t2_loop.trips) (v4809 : BitVec 32) (k0_hw131 : k0_chk131 i k0_t2 v4809), ∀ a, (k0_off372 i k0_t2 v4809) a + S1x8x128.size a ≤ S7296x8x128.size a := fun i k0_t2 v4809 k0_hw131 => k0_hw131.1
theorem k0_off375_inb : ∀ (i : grid0.Coords) (k0_t2 : Fin k0_t2_loop.trips) (v4809 : BitVec 32) (k0_hw131 : k0_chk131 i k0_t2 v4809), ∀ a, (k0_off375 i k0_t2 v4809) a + S1x8x128.size a ≤ S7296x8x128.size a := fun i k0_t2 v4809 k0_hw131 => k0_hw131.2.1
theorem k0_off378_inb : ∀ (i : grid0.Coords) (k0_t2 : Fin k0_t2_loop.trips) (v4809 : BitVec 32) (k0_hw131 : k0_chk131 i k0_t2 v4809), ∀ a, (k0_off378 i k0_t2 v4809) a + S1x8x128.size a ≤ S7296x8x128.size a := fun i k0_t2 v4809 k0_hw131 => k0_hw131.2.2.1
theorem k0_off381_inb : ∀ (i : grid0.Coords) (k0_t2 : Fin k0_t2_loop.trips) (v4809 : BitVec 32) (k0_hw131 : k0_chk131 i k0_t2 v4809), ∀ a, (k0_off381 i k0_t2 v4809) a + S1x8x128.size a ≤ S7296x8x128.size a := fun i k0_t2 v4809 k0_hw131 => k0_hw131.2.2.2.1
theorem k0_off383_inb : ∀ (i : grid0.Coords) (k0_t2 : Fin k0_t2_loop.trips) (v4809 : BitVec 32) (k0_hw131 : k0_chk131 i k0_t2 v4809), ∀ (r : Fin 4), ∀ a, (k0_off383 i k0_t2 v4809 (BitVec.ofNat 32 r.val)) a + S1x8x128.size a ≤ S7296x8x128.size a := fun i k0_t2 v4809 k0_hw131 r => k0_hw131.2.2.2.2 r

def k0_off384 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2370 : BitVec 32 := 38#32
  let v4877 : BitVec 32 := Scalar.muli arg13 c38_i32_2370
  let c27_i32 : BitVec 32 := 27#32
  let v4878 : BitVec 32 := Scalar.addi v4877 c27_i32
  let v4879 : Index := Scalar.indexCast v4878
  ![v4879.toNat]
def k0_off385 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2370 : BitVec 32 := 38#32
  let v4877 : BitVec 32 := Scalar.muli arg13 c38_i32_2370
  let c27_i32 : BitVec 32 := 27#32
  let v4878 : BitVec 32 := Scalar.addi v4877 c27_i32
  let c4_i32_2379 : BitVec 32 := 4#32
  let v4892 : BitVec 32 := Scalar.muli v4878 c4_i32_2379
  let c0_i32_2380 : BitVec 32 := 0#32
  let v4893 : BitVec 32 := Scalar.addi v4892 c0_i32_2380
  let v4894 : Index := Scalar.indexCast v4893
  ![v4894.toNat]
def k0_off386 (i : grid0.Coords) (k0_t2 : Fin k0_t2_loop.trips) (v4880 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2372 : BitVec 32 := 2#32
  let v4883 : BitVec 32 := Scalar.muli v2959 c2_i32_2372
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4881 : BitVec 32 := Scalar.shrui v4880 v2958
  let c1_i32_2371 : BitVec 32 := 1#32
  let v4882 : BitVec 32 := Scalar.andi v4881 c1_i32_2371
  let v4884 : BitVec 32 := Scalar.addi v4883 v4882
  let c1216_i32_2373 : BitVec 32 := 1216#32
  let v4885 : BitVec 32 := Scalar.muli v4884 c1216_i32_2373
  let c0_i32_1 : BitVec 32 := 0#32
  let c1_i32 : BitVec 32 := 1#32
  let arg13 : BitVec 32 := Scf.iv c0_i32_1 c1_i32 k0_t2
  let c38_i32_2370 : BitVec 32 := 38#32
  let v4877 : BitVec 32 := Scalar.muli arg13 c38_i32_2370
  let c27_i32 : BitVec 32 := 27#32
  let v4878 : BitVec 32 := Scalar.addi v4877 c27_i32
  let c4_i32_2374 : BitVec 32 := 4#32
  let v4886 : BitVec 32 := Scalar.muli v4878 c4_i32_2374
  let v4887 : BitVec 32 := Scalar.addi v4885 v4886
  let c0_i32_2375 : BitVec 32 := 0#32
  let v4888 : BitVec 32 := Scalar.addi v4887 c0_i32_2375
  let v4896 : Index := Scalar.indexCast v4888
  let c0_2381 : Index := 0#32
  let c0_2382 : Index := 0#32
  ![v4896.toNat, 0, 0]

def k0_off387 (v4895 : BitVec 32) : Fin 2 → Nat :=
  let v4899 : Index := Scalar.indexCast v4895
  let c0_2383 : Index := 0#32
  ![v4899.toNat, 0]

def k0_chk137 (v4895 : BitVec 32) : Prop :=
  (∀ a, (k0_off387 v4895) a + S8x128.size a ≤ S18432x128.size a)
theorem k0_off387_inb : ∀ (v4895 : BitVec 32) (k0_hw137 : k0_chk137 v4895), ∀ a, (k0_off387 v4895) a + S8x128.size a ≤ S18432x128.size a := fun v4895 k0_hw137 => k0_hw137

def k0_off388 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2370 : BitVec 32 := 38#32
  let v4877 : BitVec 32 := Scalar.muli arg13 c38_i32_2370
  let c27_i32 : BitVec 32 := 27#32
  let v4878 : BitVec 32 := Scalar.addi v4877 c27_i32
  let c4_i32_2384 : BitVec 32 := 4#32
  let v4902 : BitVec 32 := Scalar.muli v4878 c4_i32_2384
  let c1_i32_2385 : BitVec 32 := 1#32
  let v4903 : BitVec 32 := Scalar.addi v4902 c1_i32_2385
  let v4904 : Index := Scalar.indexCast v4903
  ![v4904.toNat]
def k0_off389 (i : grid0.Coords) (k0_t2 : Fin k0_t2_loop.trips) (v4880 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2372 : BitVec 32 := 2#32
  let v4883 : BitVec 32 := Scalar.muli v2959 c2_i32_2372
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4881 : BitVec 32 := Scalar.shrui v4880 v2958
  let c1_i32_2371 : BitVec 32 := 1#32
  let v4882 : BitVec 32 := Scalar.andi v4881 c1_i32_2371
  let v4884 : BitVec 32 := Scalar.addi v4883 v4882
  let c1216_i32_2373 : BitVec 32 := 1216#32
  let v4885 : BitVec 32 := Scalar.muli v4884 c1216_i32_2373
  let c0_i32_1 : BitVec 32 := 0#32
  let c1_i32 : BitVec 32 := 1#32
  let arg13 : BitVec 32 := Scf.iv c0_i32_1 c1_i32 k0_t2
  let c38_i32_2370 : BitVec 32 := 38#32
  let v4877 : BitVec 32 := Scalar.muli arg13 c38_i32_2370
  let c27_i32 : BitVec 32 := 27#32
  let v4878 : BitVec 32 := Scalar.addi v4877 c27_i32
  let c4_i32_2374 : BitVec 32 := 4#32
  let v4886 : BitVec 32 := Scalar.muli v4878 c4_i32_2374
  let v4887 : BitVec 32 := Scalar.addi v4885 v4886
  let c1_i32_2376 : BitVec 32 := 1#32
  let v4889 : BitVec 32 := Scalar.addi v4887 c1_i32_2376
  let v4906 : Index := Scalar.indexCast v4889
  let c0_2386 : Index := 0#32
  let c0_2387 : Index := 0#32
  ![v4906.toNat, 0, 0]
def k0_off390 (v4905 : BitVec 32) : Fin 2 → Nat :=
  let v4909 : Index := Scalar.indexCast v4905
  let c0_2388 : Index := 0#32
  ![v4909.toNat, 0]

def k0_chk138 (v4905 : BitVec 32) : Prop :=
  (∀ a, (k0_off390 v4905) a + S8x128.size a ≤ S18432x128.size a)
theorem k0_off390_inb : ∀ (v4905 : BitVec 32) (k0_hw138 : k0_chk138 v4905), ∀ a, (k0_off390 v4905) a + S8x128.size a ≤ S18432x128.size a := fun v4905 k0_hw138 => k0_hw138

def k0_off391 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2370 : BitVec 32 := 38#32
  let v4877 : BitVec 32 := Scalar.muli arg13 c38_i32_2370
  let c27_i32 : BitVec 32 := 27#32
  let v4878 : BitVec 32 := Scalar.addi v4877 c27_i32
  let c4_i32_2389 : BitVec 32 := 4#32
  let v4912 : BitVec 32 := Scalar.muli v4878 c4_i32_2389
  let c2_i32_2390 : BitVec 32 := 2#32
  let v4913 : BitVec 32 := Scalar.addi v4912 c2_i32_2390
  let v4914 : Index := Scalar.indexCast v4913
  ![v4914.toNat]
def k0_off392 (i : grid0.Coords) (k0_t2 : Fin k0_t2_loop.trips) (v4880 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2372 : BitVec 32 := 2#32
  let v4883 : BitVec 32 := Scalar.muli v2959 c2_i32_2372
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4881 : BitVec 32 := Scalar.shrui v4880 v2958
  let c1_i32_2371 : BitVec 32 := 1#32
  let v4882 : BitVec 32 := Scalar.andi v4881 c1_i32_2371
  let v4884 : BitVec 32 := Scalar.addi v4883 v4882
  let c1216_i32_2373 : BitVec 32 := 1216#32
  let v4885 : BitVec 32 := Scalar.muli v4884 c1216_i32_2373
  let c0_i32_1 : BitVec 32 := 0#32
  let c1_i32 : BitVec 32 := 1#32
  let arg13 : BitVec 32 := Scf.iv c0_i32_1 c1_i32 k0_t2
  let c38_i32_2370 : BitVec 32 := 38#32
  let v4877 : BitVec 32 := Scalar.muli arg13 c38_i32_2370
  let c27_i32 : BitVec 32 := 27#32
  let v4878 : BitVec 32 := Scalar.addi v4877 c27_i32
  let c4_i32_2374 : BitVec 32 := 4#32
  let v4886 : BitVec 32 := Scalar.muli v4878 c4_i32_2374
  let v4887 : BitVec 32 := Scalar.addi v4885 v4886
  let c2_i32_2377 : BitVec 32 := 2#32
  let v4890 : BitVec 32 := Scalar.addi v4887 c2_i32_2377
  let v4916 : Index := Scalar.indexCast v4890
  let c0_2391 : Index := 0#32
  let c0_2392 : Index := 0#32
  ![v4916.toNat, 0, 0]
def k0_off393 (v4915 : BitVec 32) : Fin 2 → Nat :=
  let v4919 : Index := Scalar.indexCast v4915
  let c0_2393 : Index := 0#32
  ![v4919.toNat, 0]

def k0_chk139 (v4915 : BitVec 32) : Prop :=
  (∀ a, (k0_off393 v4915) a + S8x128.size a ≤ S18432x128.size a)
theorem k0_off393_inb : ∀ (v4915 : BitVec 32) (k0_hw139 : k0_chk139 v4915), ∀ a, (k0_off393 v4915) a + S8x128.size a ≤ S18432x128.size a := fun v4915 k0_hw139 => k0_hw139

def k0_off394 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2370 : BitVec 32 := 38#32
  let v4877 : BitVec 32 := Scalar.muli arg13 c38_i32_2370
  let c27_i32 : BitVec 32 := 27#32
  let v4878 : BitVec 32 := Scalar.addi v4877 c27_i32
  let c4_i32_2394 : BitVec 32 := 4#32
  let v4922 : BitVec 32 := Scalar.muli v4878 c4_i32_2394
  let c3_i32_2395 : BitVec 32 := 3#32
  let v4923 : BitVec 32 := Scalar.addi v4922 c3_i32_2395
  let v4924 : Index := Scalar.indexCast v4923
  ![v4924.toNat]
def k0_off395 (i : grid0.Coords) (k0_t2 : Fin k0_t2_loop.trips) (v4880 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2372 : BitVec 32 := 2#32
  let v4883 : BitVec 32 := Scalar.muli v2959 c2_i32_2372
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4881 : BitVec 32 := Scalar.shrui v4880 v2958
  let c1_i32_2371 : BitVec 32 := 1#32
  let v4882 : BitVec 32 := Scalar.andi v4881 c1_i32_2371
  let v4884 : BitVec 32 := Scalar.addi v4883 v4882
  let c1216_i32_2373 : BitVec 32 := 1216#32
  let v4885 : BitVec 32 := Scalar.muli v4884 c1216_i32_2373
  let c0_i32_1 : BitVec 32 := 0#32
  let c1_i32 : BitVec 32 := 1#32
  let arg13 : BitVec 32 := Scf.iv c0_i32_1 c1_i32 k0_t2
  let c38_i32_2370 : BitVec 32 := 38#32
  let v4877 : BitVec 32 := Scalar.muli arg13 c38_i32_2370
  let c27_i32 : BitVec 32 := 27#32
  let v4878 : BitVec 32 := Scalar.addi v4877 c27_i32
  let c4_i32_2374 : BitVec 32 := 4#32
  let v4886 : BitVec 32 := Scalar.muli v4878 c4_i32_2374
  let v4887 : BitVec 32 := Scalar.addi v4885 v4886
  let c3_i32_2378 : BitVec 32 := 3#32
  let v4891 : BitVec 32 := Scalar.addi v4887 c3_i32_2378
  let v4926 : Index := Scalar.indexCast v4891
  let c0_2396 : Index := 0#32
  let c0_2397 : Index := 0#32
  ![v4926.toNat, 0, 0]
def k0_off396 (v4925 : BitVec 32) : Fin 2 → Nat :=
  let v4929 : Index := Scalar.indexCast v4925
  let c0_2398 : Index := 0#32
  ![v4929.toNat, 0]

def k0_chk140 (v4925 : BitVec 32) : Prop :=
  (∀ a, (k0_off396 v4925) a + S8x128.size a ≤ S18432x128.size a)
theorem k0_off396_inb : ∀ (v4925 : BitVec 32) (k0_hw140 : k0_chk140 v4925), ∀ a, (k0_off396 v4925) a + S8x128.size a ≤ S18432x128.size a := fun v4925 k0_hw140 => k0_hw140

def k0_off397 (i : grid0.Coords) (k0_t2 : Fin k0_t2_loop.trips) (v4880 : BitVec 32) (c0_i32_2375 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2372 : BitVec 32 := 2#32
  let v4883 : BitVec 32 := Scalar.muli v2959 c2_i32_2372
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4881 : BitVec 32 := Scalar.shrui v4880 v2958
  let c1_i32_2371 : BitVec 32 := 1#32
  let v4882 : BitVec 32 := Scalar.andi v4881 c1_i32_2371
  let v4884 : BitVec 32 := Scalar.addi v4883 v4882
  let c1216_i32_2373 : BitVec 32 := 1216#32
  let v4885 : BitVec 32 := Scalar.muli v4884 c1216_i32_2373
  let c0_i32_1 : BitVec 32 := 0#32
  let c1_i32 : BitVec 32 := 1#32
  let arg13 : BitVec 32 := Scf.iv c0_i32_1 c1_i32 k0_t2
  let c38_i32_2370 : BitVec 32 := 38#32
  let v4877 : BitVec 32 := Scalar.muli arg13 c38_i32_2370
  let c27_i32 : BitVec 32 := 27#32
  let v4878 : BitVec 32 := Scalar.addi v4877 c27_i32
  let c4_i32_2374 : BitVec 32 := 4#32
  let v4886 : BitVec 32 := Scalar.muli v4878 c4_i32_2374
  let v4887 : BitVec 32 := Scalar.addi v4885 v4886
  let v4888 : BitVec 32 := Scalar.addi v4887 c0_i32_2375
  let v4932 : Index := Scalar.indexCast v4888
  let c0_2399 : Index := 0#32
  let c0_2400 : Index := 0#32
  ![v4932.toNat, 0, 0]

def k0_chk136 (i : grid0.Coords) (k0_t2 : Fin k0_t2_loop.trips) (v4880 : BitVec 32) : Prop :=
  (∀ a, (k0_off386 i k0_t2 v4880) a + S1x8x128.size a ≤ S7296x8x128.size a) ∧
  (∀ a, (k0_off389 i k0_t2 v4880) a + S1x8x128.size a ≤ S7296x8x128.size a) ∧
  (∀ a, (k0_off392 i k0_t2 v4880) a + S1x8x128.size a ≤ S7296x8x128.size a) ∧
  (∀ a, (k0_off395 i k0_t2 v4880) a + S1x8x128.size a ≤ S7296x8x128.size a) ∧
  (∀ (r : Fin 4), ∀ a, (k0_off397 i k0_t2 v4880 (BitVec.ofNat 32 r.val)) a + S1x8x128.size a ≤ S7296x8x128.size a)
theorem k0_off386_inb : ∀ (i : grid0.Coords) (k0_t2 : Fin k0_t2_loop.trips) (v4880 : BitVec 32) (k0_hw136 : k0_chk136 i k0_t2 v4880), ∀ a, (k0_off386 i k0_t2 v4880) a + S1x8x128.size a ≤ S7296x8x128.size a := fun i k0_t2 v4880 k0_hw136 => k0_hw136.1
theorem k0_off389_inb : ∀ (i : grid0.Coords) (k0_t2 : Fin k0_t2_loop.trips) (v4880 : BitVec 32) (k0_hw136 : k0_chk136 i k0_t2 v4880), ∀ a, (k0_off389 i k0_t2 v4880) a + S1x8x128.size a ≤ S7296x8x128.size a := fun i k0_t2 v4880 k0_hw136 => k0_hw136.2.1
theorem k0_off392_inb : ∀ (i : grid0.Coords) (k0_t2 : Fin k0_t2_loop.trips) (v4880 : BitVec 32) (k0_hw136 : k0_chk136 i k0_t2 v4880), ∀ a, (k0_off392 i k0_t2 v4880) a + S1x8x128.size a ≤ S7296x8x128.size a := fun i k0_t2 v4880 k0_hw136 => k0_hw136.2.2.1
theorem k0_off395_inb : ∀ (i : grid0.Coords) (k0_t2 : Fin k0_t2_loop.trips) (v4880 : BitVec 32) (k0_hw136 : k0_chk136 i k0_t2 v4880), ∀ a, (k0_off395 i k0_t2 v4880) a + S1x8x128.size a ≤ S7296x8x128.size a := fun i k0_t2 v4880 k0_hw136 => k0_hw136.2.2.2.1
theorem k0_off397_inb : ∀ (i : grid0.Coords) (k0_t2 : Fin k0_t2_loop.trips) (v4880 : BitVec 32) (k0_hw136 : k0_chk136 i k0_t2 v4880), ∀ (r : Fin 4), ∀ a, (k0_off397 i k0_t2 v4880 (BitVec.ofNat 32 r.val)) a + S1x8x128.size a ≤ S7296x8x128.size a := fun i k0_t2 v4880 k0_hw136 r => k0_hw136.2.2.2.2 r

def k0_off398 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2407 : BitVec 32 := 38#32
  let v4948 : BitVec 32 := Scalar.muli arg13 c38_i32_2407
  let c28_i32 : BitVec 32 := 28#32
  let v4949 : BitVec 32 := Scalar.addi v4948 c28_i32
  let v4950 : Index := Scalar.indexCast v4949
  ![v4950.toNat]
def k0_off399 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2407 : BitVec 32 := 38#32
  let v4948 : BitVec 32 := Scalar.muli arg13 c38_i32_2407
  let c28_i32 : BitVec 32 := 28#32
  let v4949 : BitVec 32 := Scalar.addi v4948 c28_i32
  let c4_i32_2416 : BitVec 32 := 4#32
  let v4963 : BitVec 32 := Scalar.muli v4949 c4_i32_2416
  let c0_i32_2417 : BitVec 32 := 0#32
  let v4964 : BitVec 32 := Scalar.addi v4963 c0_i32_2417
  let v4965 : Index := Scalar.indexCast v4964
  ![v4965.toNat]
def k0_off400 (i : grid0.Coords) (k0_t2 : Fin k0_t2_loop.trips) (v4951 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2409 : BitVec 32 := 2#32
  let v4954 : BitVec 32 := Scalar.muli v2959 c2_i32_2409
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4952 : BitVec 32 := Scalar.shrui v4951 v2958
  let c1_i32_2408 : BitVec 32 := 1#32
  let v4953 : BitVec 32 := Scalar.andi v4952 c1_i32_2408
  let v4955 : BitVec 32 := Scalar.addi v4954 v4953
  let c1216_i32_2410 : BitVec 32 := 1216#32
  let v4956 : BitVec 32 := Scalar.muli v4955 c1216_i32_2410
  let c0_i32_1 : BitVec 32 := 0#32
  let c1_i32 : BitVec 32 := 1#32
  let arg13 : BitVec 32 := Scf.iv c0_i32_1 c1_i32 k0_t2
  let c38_i32_2407 : BitVec 32 := 38#32
  let v4948 : BitVec 32 := Scalar.muli arg13 c38_i32_2407
  let c28_i32 : BitVec 32 := 28#32
  let v4949 : BitVec 32 := Scalar.addi v4948 c28_i32
  let c4_i32_2411 : BitVec 32 := 4#32
  let v4957 : BitVec 32 := Scalar.muli v4949 c4_i32_2411
  let v4958 : BitVec 32 := Scalar.addi v4956 v4957
  let c0_i32_2412 : BitVec 32 := 0#32
  let v4959 : BitVec 32 := Scalar.addi v4958 c0_i32_2412
  let v4967 : Index := Scalar.indexCast v4959
  let c0_2418 : Index := 0#32
  let c0_2419 : Index := 0#32
  ![v4967.toNat, 0, 0]

def k0_off401 (v4966 : BitVec 32) : Fin 2 → Nat :=
  let v4970 : Index := Scalar.indexCast v4966
  let c0_2420 : Index := 0#32
  ![v4970.toNat, 0]

def k0_chk142 (v4966 : BitVec 32) : Prop :=
  (∀ a, (k0_off401 v4966) a + S8x128.size a ≤ S18432x128.size a)
theorem k0_off401_inb : ∀ (v4966 : BitVec 32) (k0_hw142 : k0_chk142 v4966), ∀ a, (k0_off401 v4966) a + S8x128.size a ≤ S18432x128.size a := fun v4966 k0_hw142 => k0_hw142

def k0_off402 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2407 : BitVec 32 := 38#32
  let v4948 : BitVec 32 := Scalar.muli arg13 c38_i32_2407
  let c28_i32 : BitVec 32 := 28#32
  let v4949 : BitVec 32 := Scalar.addi v4948 c28_i32
  let c4_i32_2421 : BitVec 32 := 4#32
  let v4973 : BitVec 32 := Scalar.muli v4949 c4_i32_2421
  let c1_i32_2422 : BitVec 32 := 1#32
  let v4974 : BitVec 32 := Scalar.addi v4973 c1_i32_2422
  let v4975 : Index := Scalar.indexCast v4974
  ![v4975.toNat]
def k0_off403 (i : grid0.Coords) (k0_t2 : Fin k0_t2_loop.trips) (v4951 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2409 : BitVec 32 := 2#32
  let v4954 : BitVec 32 := Scalar.muli v2959 c2_i32_2409
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4952 : BitVec 32 := Scalar.shrui v4951 v2958
  let c1_i32_2408 : BitVec 32 := 1#32
  let v4953 : BitVec 32 := Scalar.andi v4952 c1_i32_2408
  let v4955 : BitVec 32 := Scalar.addi v4954 v4953
  let c1216_i32_2410 : BitVec 32 := 1216#32
  let v4956 : BitVec 32 := Scalar.muli v4955 c1216_i32_2410
  let c0_i32_1 : BitVec 32 := 0#32
  let c1_i32 : BitVec 32 := 1#32
  let arg13 : BitVec 32 := Scf.iv c0_i32_1 c1_i32 k0_t2
  let c38_i32_2407 : BitVec 32 := 38#32
  let v4948 : BitVec 32 := Scalar.muli arg13 c38_i32_2407
  let c28_i32 : BitVec 32 := 28#32
  let v4949 : BitVec 32 := Scalar.addi v4948 c28_i32
  let c4_i32_2411 : BitVec 32 := 4#32
  let v4957 : BitVec 32 := Scalar.muli v4949 c4_i32_2411
  let v4958 : BitVec 32 := Scalar.addi v4956 v4957
  let c1_i32_2413 : BitVec 32 := 1#32
  let v4960 : BitVec 32 := Scalar.addi v4958 c1_i32_2413
  let v4977 : Index := Scalar.indexCast v4960
  let c0_2423 : Index := 0#32
  let c0_2424 : Index := 0#32
  ![v4977.toNat, 0, 0]
def k0_off404 (v4976 : BitVec 32) : Fin 2 → Nat :=
  let v4980 : Index := Scalar.indexCast v4976
  let c0_2425 : Index := 0#32
  ![v4980.toNat, 0]

def k0_chk143 (v4976 : BitVec 32) : Prop :=
  (∀ a, (k0_off404 v4976) a + S8x128.size a ≤ S18432x128.size a)
theorem k0_off404_inb : ∀ (v4976 : BitVec 32) (k0_hw143 : k0_chk143 v4976), ∀ a, (k0_off404 v4976) a + S8x128.size a ≤ S18432x128.size a := fun v4976 k0_hw143 => k0_hw143

def k0_off405 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2407 : BitVec 32 := 38#32
  let v4948 : BitVec 32 := Scalar.muli arg13 c38_i32_2407
  let c28_i32 : BitVec 32 := 28#32
  let v4949 : BitVec 32 := Scalar.addi v4948 c28_i32
  let c4_i32_2426 : BitVec 32 := 4#32
  let v4983 : BitVec 32 := Scalar.muli v4949 c4_i32_2426
  let c2_i32_2427 : BitVec 32 := 2#32
  let v4984 : BitVec 32 := Scalar.addi v4983 c2_i32_2427
  let v4985 : Index := Scalar.indexCast v4984
  ![v4985.toNat]
def k0_off406 (i : grid0.Coords) (k0_t2 : Fin k0_t2_loop.trips) (v4951 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2409 : BitVec 32 := 2#32
  let v4954 : BitVec 32 := Scalar.muli v2959 c2_i32_2409
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4952 : BitVec 32 := Scalar.shrui v4951 v2958
  let c1_i32_2408 : BitVec 32 := 1#32
  let v4953 : BitVec 32 := Scalar.andi v4952 c1_i32_2408
  let v4955 : BitVec 32 := Scalar.addi v4954 v4953
  let c1216_i32_2410 : BitVec 32 := 1216#32
  let v4956 : BitVec 32 := Scalar.muli v4955 c1216_i32_2410
  let c0_i32_1 : BitVec 32 := 0#32
  let c1_i32 : BitVec 32 := 1#32
  let arg13 : BitVec 32 := Scf.iv c0_i32_1 c1_i32 k0_t2
  let c38_i32_2407 : BitVec 32 := 38#32
  let v4948 : BitVec 32 := Scalar.muli arg13 c38_i32_2407
  let c28_i32 : BitVec 32 := 28#32
  let v4949 : BitVec 32 := Scalar.addi v4948 c28_i32
  let c4_i32_2411 : BitVec 32 := 4#32
  let v4957 : BitVec 32 := Scalar.muli v4949 c4_i32_2411
  let v4958 : BitVec 32 := Scalar.addi v4956 v4957
  let c2_i32_2414 : BitVec 32 := 2#32
  let v4961 : BitVec 32 := Scalar.addi v4958 c2_i32_2414
  let v4987 : Index := Scalar.indexCast v4961
  let c0_2428 : Index := 0#32
  let c0_2429 : Index := 0#32
  ![v4987.toNat, 0, 0]
def k0_off407 (v4986 : BitVec 32) : Fin 2 → Nat :=
  let v4990 : Index := Scalar.indexCast v4986
  let c0_2430 : Index := 0#32
  ![v4990.toNat, 0]

def k0_chk144 (v4986 : BitVec 32) : Prop :=
  (∀ a, (k0_off407 v4986) a + S8x128.size a ≤ S18432x128.size a)
theorem k0_off407_inb : ∀ (v4986 : BitVec 32) (k0_hw144 : k0_chk144 v4986), ∀ a, (k0_off407 v4986) a + S8x128.size a ≤ S18432x128.size a := fun v4986 k0_hw144 => k0_hw144

def k0_off408 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2407 : BitVec 32 := 38#32
  let v4948 : BitVec 32 := Scalar.muli arg13 c38_i32_2407
  let c28_i32 : BitVec 32 := 28#32
  let v4949 : BitVec 32 := Scalar.addi v4948 c28_i32
  let c4_i32_2431 : BitVec 32 := 4#32
  let v4993 : BitVec 32 := Scalar.muli v4949 c4_i32_2431
  let c3_i32_2432 : BitVec 32 := 3#32
  let v4994 : BitVec 32 := Scalar.addi v4993 c3_i32_2432
  let v4995 : Index := Scalar.indexCast v4994
  ![v4995.toNat]
def k0_off409 (i : grid0.Coords) (k0_t2 : Fin k0_t2_loop.trips) (v4951 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2409 : BitVec 32 := 2#32
  let v4954 : BitVec 32 := Scalar.muli v2959 c2_i32_2409
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4952 : BitVec 32 := Scalar.shrui v4951 v2958
  let c1_i32_2408 : BitVec 32 := 1#32
  let v4953 : BitVec 32 := Scalar.andi v4952 c1_i32_2408
  let v4955 : BitVec 32 := Scalar.addi v4954 v4953
  let c1216_i32_2410 : BitVec 32 := 1216#32
  let v4956 : BitVec 32 := Scalar.muli v4955 c1216_i32_2410
  let c0_i32_1 : BitVec 32 := 0#32
  let c1_i32 : BitVec 32 := 1#32
  let arg13 : BitVec 32 := Scf.iv c0_i32_1 c1_i32 k0_t2
  let c38_i32_2407 : BitVec 32 := 38#32
  let v4948 : BitVec 32 := Scalar.muli arg13 c38_i32_2407
  let c28_i32 : BitVec 32 := 28#32
  let v4949 : BitVec 32 := Scalar.addi v4948 c28_i32
  let c4_i32_2411 : BitVec 32 := 4#32
  let v4957 : BitVec 32 := Scalar.muli v4949 c4_i32_2411
  let v4958 : BitVec 32 := Scalar.addi v4956 v4957
  let c3_i32_2415 : BitVec 32 := 3#32
  let v4962 : BitVec 32 := Scalar.addi v4958 c3_i32_2415
  let v4997 : Index := Scalar.indexCast v4962
  let c0_2433 : Index := 0#32
  let c0_2434 : Index := 0#32
  ![v4997.toNat, 0, 0]
def k0_off410 (v4996 : BitVec 32) : Fin 2 → Nat :=
  let v5000 : Index := Scalar.indexCast v4996
  let c0_2435 : Index := 0#32
  ![v5000.toNat, 0]

def k0_chk145 (v4996 : BitVec 32) : Prop :=
  (∀ a, (k0_off410 v4996) a + S8x128.size a ≤ S18432x128.size a)
theorem k0_off410_inb : ∀ (v4996 : BitVec 32) (k0_hw145 : k0_chk145 v4996), ∀ a, (k0_off410 v4996) a + S8x128.size a ≤ S18432x128.size a := fun v4996 k0_hw145 => k0_hw145

def k0_off411 (i : grid0.Coords) (k0_t2 : Fin k0_t2_loop.trips) (v4951 : BitVec 32) (c0_i32_2412 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2409 : BitVec 32 := 2#32
  let v4954 : BitVec 32 := Scalar.muli v2959 c2_i32_2409
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v4952 : BitVec 32 := Scalar.shrui v4951 v2958
  let c1_i32_2408 : BitVec 32 := 1#32
  let v4953 : BitVec 32 := Scalar.andi v4952 c1_i32_2408
  let v4955 : BitVec 32 := Scalar.addi v4954 v4953
  let c1216_i32_2410 : BitVec 32 := 1216#32
  let v4956 : BitVec 32 := Scalar.muli v4955 c1216_i32_2410
  let c0_i32_1 : BitVec 32 := 0#32
  let c1_i32 : BitVec 32 := 1#32
  let arg13 : BitVec 32 := Scf.iv c0_i32_1 c1_i32 k0_t2
  let c38_i32_2407 : BitVec 32 := 38#32
  let v4948 : BitVec 32 := Scalar.muli arg13 c38_i32_2407
  let c28_i32 : BitVec 32 := 28#32
  let v4949 : BitVec 32 := Scalar.addi v4948 c28_i32
  let c4_i32_2411 : BitVec 32 := 4#32
  let v4957 : BitVec 32 := Scalar.muli v4949 c4_i32_2411
  let v4958 : BitVec 32 := Scalar.addi v4956 v4957
  let v4959 : BitVec 32 := Scalar.addi v4958 c0_i32_2412
  let v5003 : Index := Scalar.indexCast v4959
  let c0_2436 : Index := 0#32
  let c0_2437 : Index := 0#32
  ![v5003.toNat, 0, 0]

def k0_chk141 (i : grid0.Coords) (k0_t2 : Fin k0_t2_loop.trips) (v4951 : BitVec 32) : Prop :=
  (∀ a, (k0_off400 i k0_t2 v4951) a + S1x8x128.size a ≤ S7296x8x128.size a) ∧
  (∀ a, (k0_off403 i k0_t2 v4951) a + S1x8x128.size a ≤ S7296x8x128.size a) ∧
  (∀ a, (k0_off406 i k0_t2 v4951) a + S1x8x128.size a ≤ S7296x8x128.size a) ∧
  (∀ a, (k0_off409 i k0_t2 v4951) a + S1x8x128.size a ≤ S7296x8x128.size a) ∧
  (∀ (r : Fin 4), ∀ a, (k0_off411 i k0_t2 v4951 (BitVec.ofNat 32 r.val)) a + S1x8x128.size a ≤ S7296x8x128.size a)
theorem k0_off400_inb : ∀ (i : grid0.Coords) (k0_t2 : Fin k0_t2_loop.trips) (v4951 : BitVec 32) (k0_hw141 : k0_chk141 i k0_t2 v4951), ∀ a, (k0_off400 i k0_t2 v4951) a + S1x8x128.size a ≤ S7296x8x128.size a := fun i k0_t2 v4951 k0_hw141 => k0_hw141.1
theorem k0_off403_inb : ∀ (i : grid0.Coords) (k0_t2 : Fin k0_t2_loop.trips) (v4951 : BitVec 32) (k0_hw141 : k0_chk141 i k0_t2 v4951), ∀ a, (k0_off403 i k0_t2 v4951) a + S1x8x128.size a ≤ S7296x8x128.size a := fun i k0_t2 v4951 k0_hw141 => k0_hw141.2.1
theorem k0_off406_inb : ∀ (i : grid0.Coords) (k0_t2 : Fin k0_t2_loop.trips) (v4951 : BitVec 32) (k0_hw141 : k0_chk141 i k0_t2 v4951), ∀ a, (k0_off406 i k0_t2 v4951) a + S1x8x128.size a ≤ S7296x8x128.size a := fun i k0_t2 v4951 k0_hw141 => k0_hw141.2.2.1
theorem k0_off409_inb : ∀ (i : grid0.Coords) (k0_t2 : Fin k0_t2_loop.trips) (v4951 : BitVec 32) (k0_hw141 : k0_chk141 i k0_t2 v4951), ∀ a, (k0_off409 i k0_t2 v4951) a + S1x8x128.size a ≤ S7296x8x128.size a := fun i k0_t2 v4951 k0_hw141 => k0_hw141.2.2.2.1
theorem k0_off411_inb : ∀ (i : grid0.Coords) (k0_t2 : Fin k0_t2_loop.trips) (v4951 : BitVec 32) (k0_hw141 : k0_chk141 i k0_t2 v4951), ∀ (r : Fin 4), ∀ a, (k0_off411 i k0_t2 v4951 (BitVec.ofNat 32 r.val)) a + S1x8x128.size a ≤ S7296x8x128.size a := fun i k0_t2 v4951 k0_hw141 r => k0_hw141.2.2.2.2 r

def k0_off412 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2444 : BitVec 32 := 38#32
  let v5019 : BitVec 32 := Scalar.muli arg13 c38_i32_2444
  let c29_i32 : BitVec 32 := 29#32
  let v5020 : BitVec 32 := Scalar.addi v5019 c29_i32
  let v5021 : Index := Scalar.indexCast v5020
  ![v5021.toNat]
def k0_off413 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2444 : BitVec 32 := 38#32
  let v5019 : BitVec 32 := Scalar.muli arg13 c38_i32_2444
  let c29_i32 : BitVec 32 := 29#32
  let v5020 : BitVec 32 := Scalar.addi v5019 c29_i32
  let c4_i32_2453 : BitVec 32 := 4#32
  let v5034 : BitVec 32 := Scalar.muli v5020 c4_i32_2453
  let c0_i32_2454 : BitVec 32 := 0#32
  let v5035 : BitVec 32 := Scalar.addi v5034 c0_i32_2454
  let v5036 : Index := Scalar.indexCast v5035
  ![v5036.toNat]
def k0_off414 (i : grid0.Coords) (k0_t2 : Fin k0_t2_loop.trips) (v5022 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2446 : BitVec 32 := 2#32
  let v5025 : BitVec 32 := Scalar.muli v2959 c2_i32_2446
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5023 : BitVec 32 := Scalar.shrui v5022 v2958
  let c1_i32_2445 : BitVec 32 := 1#32
  let v5024 : BitVec 32 := Scalar.andi v5023 c1_i32_2445
  let v5026 : BitVec 32 := Scalar.addi v5025 v5024
  let c1216_i32_2447 : BitVec 32 := 1216#32
  let v5027 : BitVec 32 := Scalar.muli v5026 c1216_i32_2447
  let c0_i32_1 : BitVec 32 := 0#32
  let c1_i32 : BitVec 32 := 1#32
  let arg13 : BitVec 32 := Scf.iv c0_i32_1 c1_i32 k0_t2
  let c38_i32_2444 : BitVec 32 := 38#32
  let v5019 : BitVec 32 := Scalar.muli arg13 c38_i32_2444
  let c29_i32 : BitVec 32 := 29#32
  let v5020 : BitVec 32 := Scalar.addi v5019 c29_i32
  let c4_i32_2448 : BitVec 32 := 4#32
  let v5028 : BitVec 32 := Scalar.muli v5020 c4_i32_2448
  let v5029 : BitVec 32 := Scalar.addi v5027 v5028
  let c0_i32_2449 : BitVec 32 := 0#32
  let v5030 : BitVec 32 := Scalar.addi v5029 c0_i32_2449
  let v5038 : Index := Scalar.indexCast v5030
  let c0_2455 : Index := 0#32
  let c0_2456 : Index := 0#32
  ![v5038.toNat, 0, 0]

def k0_off415 (v5037 : BitVec 32) : Fin 2 → Nat :=
  let v5041 : Index := Scalar.indexCast v5037
  let c0_2457 : Index := 0#32
  ![v5041.toNat, 0]

def k0_chk147 (v5037 : BitVec 32) : Prop :=
  (∀ a, (k0_off415 v5037) a + S8x128.size a ≤ S18432x128.size a)
theorem k0_off415_inb : ∀ (v5037 : BitVec 32) (k0_hw147 : k0_chk147 v5037), ∀ a, (k0_off415 v5037) a + S8x128.size a ≤ S18432x128.size a := fun v5037 k0_hw147 => k0_hw147

def k0_off416 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2444 : BitVec 32 := 38#32
  let v5019 : BitVec 32 := Scalar.muli arg13 c38_i32_2444
  let c29_i32 : BitVec 32 := 29#32
  let v5020 : BitVec 32 := Scalar.addi v5019 c29_i32
  let c4_i32_2458 : BitVec 32 := 4#32
  let v5044 : BitVec 32 := Scalar.muli v5020 c4_i32_2458
  let c1_i32_2459 : BitVec 32 := 1#32
  let v5045 : BitVec 32 := Scalar.addi v5044 c1_i32_2459
  let v5046 : Index := Scalar.indexCast v5045
  ![v5046.toNat]
def k0_off417 (i : grid0.Coords) (k0_t2 : Fin k0_t2_loop.trips) (v5022 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2446 : BitVec 32 := 2#32
  let v5025 : BitVec 32 := Scalar.muli v2959 c2_i32_2446
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5023 : BitVec 32 := Scalar.shrui v5022 v2958
  let c1_i32_2445 : BitVec 32 := 1#32
  let v5024 : BitVec 32 := Scalar.andi v5023 c1_i32_2445
  let v5026 : BitVec 32 := Scalar.addi v5025 v5024
  let c1216_i32_2447 : BitVec 32 := 1216#32
  let v5027 : BitVec 32 := Scalar.muli v5026 c1216_i32_2447
  let c0_i32_1 : BitVec 32 := 0#32
  let c1_i32 : BitVec 32 := 1#32
  let arg13 : BitVec 32 := Scf.iv c0_i32_1 c1_i32 k0_t2
  let c38_i32_2444 : BitVec 32 := 38#32
  let v5019 : BitVec 32 := Scalar.muli arg13 c38_i32_2444
  let c29_i32 : BitVec 32 := 29#32
  let v5020 : BitVec 32 := Scalar.addi v5019 c29_i32
  let c4_i32_2448 : BitVec 32 := 4#32
  let v5028 : BitVec 32 := Scalar.muli v5020 c4_i32_2448
  let v5029 : BitVec 32 := Scalar.addi v5027 v5028
  let c1_i32_2450 : BitVec 32 := 1#32
  let v5031 : BitVec 32 := Scalar.addi v5029 c1_i32_2450
  let v5048 : Index := Scalar.indexCast v5031
  let c0_2460 : Index := 0#32
  let c0_2461 : Index := 0#32
  ![v5048.toNat, 0, 0]
def k0_off418 (v5047 : BitVec 32) : Fin 2 → Nat :=
  let v5051 : Index := Scalar.indexCast v5047
  let c0_2462 : Index := 0#32
  ![v5051.toNat, 0]

def k0_chk148 (v5047 : BitVec 32) : Prop :=
  (∀ a, (k0_off418 v5047) a + S8x128.size a ≤ S18432x128.size a)
theorem k0_off418_inb : ∀ (v5047 : BitVec 32) (k0_hw148 : k0_chk148 v5047), ∀ a, (k0_off418 v5047) a + S8x128.size a ≤ S18432x128.size a := fun v5047 k0_hw148 => k0_hw148

def k0_off419 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2444 : BitVec 32 := 38#32
  let v5019 : BitVec 32 := Scalar.muli arg13 c38_i32_2444
  let c29_i32 : BitVec 32 := 29#32
  let v5020 : BitVec 32 := Scalar.addi v5019 c29_i32
  let c4_i32_2463 : BitVec 32 := 4#32
  let v5054 : BitVec 32 := Scalar.muli v5020 c4_i32_2463
  let c2_i32_2464 : BitVec 32 := 2#32
  let v5055 : BitVec 32 := Scalar.addi v5054 c2_i32_2464
  let v5056 : Index := Scalar.indexCast v5055
  ![v5056.toNat]
def k0_off420 (i : grid0.Coords) (k0_t2 : Fin k0_t2_loop.trips) (v5022 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2446 : BitVec 32 := 2#32
  let v5025 : BitVec 32 := Scalar.muli v2959 c2_i32_2446
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5023 : BitVec 32 := Scalar.shrui v5022 v2958
  let c1_i32_2445 : BitVec 32 := 1#32
  let v5024 : BitVec 32 := Scalar.andi v5023 c1_i32_2445
  let v5026 : BitVec 32 := Scalar.addi v5025 v5024
  let c1216_i32_2447 : BitVec 32 := 1216#32
  let v5027 : BitVec 32 := Scalar.muli v5026 c1216_i32_2447
  let c0_i32_1 : BitVec 32 := 0#32
  let c1_i32 : BitVec 32 := 1#32
  let arg13 : BitVec 32 := Scf.iv c0_i32_1 c1_i32 k0_t2
  let c38_i32_2444 : BitVec 32 := 38#32
  let v5019 : BitVec 32 := Scalar.muli arg13 c38_i32_2444
  let c29_i32 : BitVec 32 := 29#32
  let v5020 : BitVec 32 := Scalar.addi v5019 c29_i32
  let c4_i32_2448 : BitVec 32 := 4#32
  let v5028 : BitVec 32 := Scalar.muli v5020 c4_i32_2448
  let v5029 : BitVec 32 := Scalar.addi v5027 v5028
  let c2_i32_2451 : BitVec 32 := 2#32
  let v5032 : BitVec 32 := Scalar.addi v5029 c2_i32_2451
  let v5058 : Index := Scalar.indexCast v5032
  let c0_2465 : Index := 0#32
  let c0_2466 : Index := 0#32
  ![v5058.toNat, 0, 0]
def k0_off421 (v5057 : BitVec 32) : Fin 2 → Nat :=
  let v5061 : Index := Scalar.indexCast v5057
  let c0_2467 : Index := 0#32
  ![v5061.toNat, 0]

def k0_chk149 (v5057 : BitVec 32) : Prop :=
  (∀ a, (k0_off421 v5057) a + S8x128.size a ≤ S18432x128.size a)
theorem k0_off421_inb : ∀ (v5057 : BitVec 32) (k0_hw149 : k0_chk149 v5057), ∀ a, (k0_off421 v5057) a + S8x128.size a ≤ S18432x128.size a := fun v5057 k0_hw149 => k0_hw149

def k0_off422 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2444 : BitVec 32 := 38#32
  let v5019 : BitVec 32 := Scalar.muli arg13 c38_i32_2444
  let c29_i32 : BitVec 32 := 29#32
  let v5020 : BitVec 32 := Scalar.addi v5019 c29_i32
  let c4_i32_2468 : BitVec 32 := 4#32
  let v5064 : BitVec 32 := Scalar.muli v5020 c4_i32_2468
  let c3_i32_2469 : BitVec 32 := 3#32
  let v5065 : BitVec 32 := Scalar.addi v5064 c3_i32_2469
  let v5066 : Index := Scalar.indexCast v5065
  ![v5066.toNat]
def k0_off423 (i : grid0.Coords) (k0_t2 : Fin k0_t2_loop.trips) (v5022 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2446 : BitVec 32 := 2#32
  let v5025 : BitVec 32 := Scalar.muli v2959 c2_i32_2446
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5023 : BitVec 32 := Scalar.shrui v5022 v2958
  let c1_i32_2445 : BitVec 32 := 1#32
  let v5024 : BitVec 32 := Scalar.andi v5023 c1_i32_2445
  let v5026 : BitVec 32 := Scalar.addi v5025 v5024
  let c1216_i32_2447 : BitVec 32 := 1216#32
  let v5027 : BitVec 32 := Scalar.muli v5026 c1216_i32_2447
  let c0_i32_1 : BitVec 32 := 0#32
  let c1_i32 : BitVec 32 := 1#32
  let arg13 : BitVec 32 := Scf.iv c0_i32_1 c1_i32 k0_t2
  let c38_i32_2444 : BitVec 32 := 38#32
  let v5019 : BitVec 32 := Scalar.muli arg13 c38_i32_2444
  let c29_i32 : BitVec 32 := 29#32
  let v5020 : BitVec 32 := Scalar.addi v5019 c29_i32
  let c4_i32_2448 : BitVec 32 := 4#32
  let v5028 : BitVec 32 := Scalar.muli v5020 c4_i32_2448
  let v5029 : BitVec 32 := Scalar.addi v5027 v5028
  let c3_i32_2452 : BitVec 32 := 3#32
  let v5033 : BitVec 32 := Scalar.addi v5029 c3_i32_2452
  let v5068 : Index := Scalar.indexCast v5033
  let c0_2470 : Index := 0#32
  let c0_2471 : Index := 0#32
  ![v5068.toNat, 0, 0]
def k0_off424 (v5067 : BitVec 32) : Fin 2 → Nat :=
  let v5071 : Index := Scalar.indexCast v5067
  let c0_2472 : Index := 0#32
  ![v5071.toNat, 0]

def k0_chk150 (v5067 : BitVec 32) : Prop :=
  (∀ a, (k0_off424 v5067) a + S8x128.size a ≤ S18432x128.size a)
theorem k0_off424_inb : ∀ (v5067 : BitVec 32) (k0_hw150 : k0_chk150 v5067), ∀ a, (k0_off424 v5067) a + S8x128.size a ≤ S18432x128.size a := fun v5067 k0_hw150 => k0_hw150

def k0_off425 (i : grid0.Coords) (k0_t2 : Fin k0_t2_loop.trips) (v5022 : BitVec 32) (c0_i32_2449 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2446 : BitVec 32 := 2#32
  let v5025 : BitVec 32 := Scalar.muli v2959 c2_i32_2446
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5023 : BitVec 32 := Scalar.shrui v5022 v2958
  let c1_i32_2445 : BitVec 32 := 1#32
  let v5024 : BitVec 32 := Scalar.andi v5023 c1_i32_2445
  let v5026 : BitVec 32 := Scalar.addi v5025 v5024
  let c1216_i32_2447 : BitVec 32 := 1216#32
  let v5027 : BitVec 32 := Scalar.muli v5026 c1216_i32_2447
  let c0_i32_1 : BitVec 32 := 0#32
  let c1_i32 : BitVec 32 := 1#32
  let arg13 : BitVec 32 := Scf.iv c0_i32_1 c1_i32 k0_t2
  let c38_i32_2444 : BitVec 32 := 38#32
  let v5019 : BitVec 32 := Scalar.muli arg13 c38_i32_2444
  let c29_i32 : BitVec 32 := 29#32
  let v5020 : BitVec 32 := Scalar.addi v5019 c29_i32
  let c4_i32_2448 : BitVec 32 := 4#32
  let v5028 : BitVec 32 := Scalar.muli v5020 c4_i32_2448
  let v5029 : BitVec 32 := Scalar.addi v5027 v5028
  let v5030 : BitVec 32 := Scalar.addi v5029 c0_i32_2449
  let v5074 : Index := Scalar.indexCast v5030
  let c0_2473 : Index := 0#32
  let c0_2474 : Index := 0#32
  ![v5074.toNat, 0, 0]

def k0_chk146 (i : grid0.Coords) (k0_t2 : Fin k0_t2_loop.trips) (v5022 : BitVec 32) : Prop :=
  (∀ a, (k0_off414 i k0_t2 v5022) a + S1x8x128.size a ≤ S7296x8x128.size a) ∧
  (∀ a, (k0_off417 i k0_t2 v5022) a + S1x8x128.size a ≤ S7296x8x128.size a) ∧
  (∀ a, (k0_off420 i k0_t2 v5022) a + S1x8x128.size a ≤ S7296x8x128.size a) ∧
  (∀ a, (k0_off423 i k0_t2 v5022) a + S1x8x128.size a ≤ S7296x8x128.size a) ∧
  (∀ (r : Fin 4), ∀ a, (k0_off425 i k0_t2 v5022 (BitVec.ofNat 32 r.val)) a + S1x8x128.size a ≤ S7296x8x128.size a)
theorem k0_off414_inb : ∀ (i : grid0.Coords) (k0_t2 : Fin k0_t2_loop.trips) (v5022 : BitVec 32) (k0_hw146 : k0_chk146 i k0_t2 v5022), ∀ a, (k0_off414 i k0_t2 v5022) a + S1x8x128.size a ≤ S7296x8x128.size a := fun i k0_t2 v5022 k0_hw146 => k0_hw146.1
theorem k0_off417_inb : ∀ (i : grid0.Coords) (k0_t2 : Fin k0_t2_loop.trips) (v5022 : BitVec 32) (k0_hw146 : k0_chk146 i k0_t2 v5022), ∀ a, (k0_off417 i k0_t2 v5022) a + S1x8x128.size a ≤ S7296x8x128.size a := fun i k0_t2 v5022 k0_hw146 => k0_hw146.2.1
theorem k0_off420_inb : ∀ (i : grid0.Coords) (k0_t2 : Fin k0_t2_loop.trips) (v5022 : BitVec 32) (k0_hw146 : k0_chk146 i k0_t2 v5022), ∀ a, (k0_off420 i k0_t2 v5022) a + S1x8x128.size a ≤ S7296x8x128.size a := fun i k0_t2 v5022 k0_hw146 => k0_hw146.2.2.1
theorem k0_off423_inb : ∀ (i : grid0.Coords) (k0_t2 : Fin k0_t2_loop.trips) (v5022 : BitVec 32) (k0_hw146 : k0_chk146 i k0_t2 v5022), ∀ a, (k0_off423 i k0_t2 v5022) a + S1x8x128.size a ≤ S7296x8x128.size a := fun i k0_t2 v5022 k0_hw146 => k0_hw146.2.2.2.1
theorem k0_off425_inb : ∀ (i : grid0.Coords) (k0_t2 : Fin k0_t2_loop.trips) (v5022 : BitVec 32) (k0_hw146 : k0_chk146 i k0_t2 v5022), ∀ (r : Fin 4), ∀ a, (k0_off425 i k0_t2 v5022 (BitVec.ofNat 32 r.val)) a + S1x8x128.size a ≤ S7296x8x128.size a := fun i k0_t2 v5022 k0_hw146 r => k0_hw146.2.2.2.2 r

def k0_off426 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2481 : BitVec 32 := 38#32
  let v5090 : BitVec 32 := Scalar.muli arg13 c38_i32_2481
  let c30_i32 : BitVec 32 := 30#32
  let v5091 : BitVec 32 := Scalar.addi v5090 c30_i32
  let v5092 : Index := Scalar.indexCast v5091
  ![v5092.toNat]
def k0_off427 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2481 : BitVec 32 := 38#32
  let v5090 : BitVec 32 := Scalar.muli arg13 c38_i32_2481
  let c30_i32 : BitVec 32 := 30#32
  let v5091 : BitVec 32 := Scalar.addi v5090 c30_i32
  let c4_i32_2490 : BitVec 32 := 4#32
  let v5105 : BitVec 32 := Scalar.muli v5091 c4_i32_2490
  let c0_i32_2491 : BitVec 32 := 0#32
  let v5106 : BitVec 32 := Scalar.addi v5105 c0_i32_2491
  let v5107 : Index := Scalar.indexCast v5106
  ![v5107.toNat]
def k0_off428 (i : grid0.Coords) (k0_t2 : Fin k0_t2_loop.trips) (v5093 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2483 : BitVec 32 := 2#32
  let v5096 : BitVec 32 := Scalar.muli v2959 c2_i32_2483
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5094 : BitVec 32 := Scalar.shrui v5093 v2958
  let c1_i32_2482 : BitVec 32 := 1#32
  let v5095 : BitVec 32 := Scalar.andi v5094 c1_i32_2482
  let v5097 : BitVec 32 := Scalar.addi v5096 v5095
  let c1216_i32_2484 : BitVec 32 := 1216#32
  let v5098 : BitVec 32 := Scalar.muli v5097 c1216_i32_2484
  let c0_i32_1 : BitVec 32 := 0#32
  let c1_i32 : BitVec 32 := 1#32
  let arg13 : BitVec 32 := Scf.iv c0_i32_1 c1_i32 k0_t2
  let c38_i32_2481 : BitVec 32 := 38#32
  let v5090 : BitVec 32 := Scalar.muli arg13 c38_i32_2481
  let c30_i32 : BitVec 32 := 30#32
  let v5091 : BitVec 32 := Scalar.addi v5090 c30_i32
  let c4_i32_2485 : BitVec 32 := 4#32
  let v5099 : BitVec 32 := Scalar.muli v5091 c4_i32_2485
  let v5100 : BitVec 32 := Scalar.addi v5098 v5099
  let c0_i32_2486 : BitVec 32 := 0#32
  let v5101 : BitVec 32 := Scalar.addi v5100 c0_i32_2486
  let v5109 : Index := Scalar.indexCast v5101
  let c0_2492 : Index := 0#32
  let c0_2493 : Index := 0#32
  ![v5109.toNat, 0, 0]

def k0_off429 (v5108 : BitVec 32) : Fin 2 → Nat :=
  let v5112 : Index := Scalar.indexCast v5108
  let c0_2494 : Index := 0#32
  ![v5112.toNat, 0]

def k0_chk152 (v5108 : BitVec 32) : Prop :=
  (∀ a, (k0_off429 v5108) a + S8x128.size a ≤ S18432x128.size a)
theorem k0_off429_inb : ∀ (v5108 : BitVec 32) (k0_hw152 : k0_chk152 v5108), ∀ a, (k0_off429 v5108) a + S8x128.size a ≤ S18432x128.size a := fun v5108 k0_hw152 => k0_hw152

def k0_off430 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2481 : BitVec 32 := 38#32
  let v5090 : BitVec 32 := Scalar.muli arg13 c38_i32_2481
  let c30_i32 : BitVec 32 := 30#32
  let v5091 : BitVec 32 := Scalar.addi v5090 c30_i32
  let c4_i32_2495 : BitVec 32 := 4#32
  let v5115 : BitVec 32 := Scalar.muli v5091 c4_i32_2495
  let c1_i32_2496 : BitVec 32 := 1#32
  let v5116 : BitVec 32 := Scalar.addi v5115 c1_i32_2496
  let v5117 : Index := Scalar.indexCast v5116
  ![v5117.toNat]
def k0_off431 (i : grid0.Coords) (k0_t2 : Fin k0_t2_loop.trips) (v5093 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2483 : BitVec 32 := 2#32
  let v5096 : BitVec 32 := Scalar.muli v2959 c2_i32_2483
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5094 : BitVec 32 := Scalar.shrui v5093 v2958
  let c1_i32_2482 : BitVec 32 := 1#32
  let v5095 : BitVec 32 := Scalar.andi v5094 c1_i32_2482
  let v5097 : BitVec 32 := Scalar.addi v5096 v5095
  let c1216_i32_2484 : BitVec 32 := 1216#32
  let v5098 : BitVec 32 := Scalar.muli v5097 c1216_i32_2484
  let c0_i32_1 : BitVec 32 := 0#32
  let c1_i32 : BitVec 32 := 1#32
  let arg13 : BitVec 32 := Scf.iv c0_i32_1 c1_i32 k0_t2
  let c38_i32_2481 : BitVec 32 := 38#32
  let v5090 : BitVec 32 := Scalar.muli arg13 c38_i32_2481
  let c30_i32 : BitVec 32 := 30#32
  let v5091 : BitVec 32 := Scalar.addi v5090 c30_i32
  let c4_i32_2485 : BitVec 32 := 4#32
  let v5099 : BitVec 32 := Scalar.muli v5091 c4_i32_2485
  let v5100 : BitVec 32 := Scalar.addi v5098 v5099
  let c1_i32_2487 : BitVec 32 := 1#32
  let v5102 : BitVec 32 := Scalar.addi v5100 c1_i32_2487
  let v5119 : Index := Scalar.indexCast v5102
  let c0_2497 : Index := 0#32
  let c0_2498 : Index := 0#32
  ![v5119.toNat, 0, 0]
def k0_off432 (v5118 : BitVec 32) : Fin 2 → Nat :=
  let v5122 : Index := Scalar.indexCast v5118
  let c0_2499 : Index := 0#32
  ![v5122.toNat, 0]

def k0_chk153 (v5118 : BitVec 32) : Prop :=
  (∀ a, (k0_off432 v5118) a + S8x128.size a ≤ S18432x128.size a)
theorem k0_off432_inb : ∀ (v5118 : BitVec 32) (k0_hw153 : k0_chk153 v5118), ∀ a, (k0_off432 v5118) a + S8x128.size a ≤ S18432x128.size a := fun v5118 k0_hw153 => k0_hw153

def k0_off433 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2481 : BitVec 32 := 38#32
  let v5090 : BitVec 32 := Scalar.muli arg13 c38_i32_2481
  let c30_i32 : BitVec 32 := 30#32
  let v5091 : BitVec 32 := Scalar.addi v5090 c30_i32
  let c4_i32_2500 : BitVec 32 := 4#32
  let v5125 : BitVec 32 := Scalar.muli v5091 c4_i32_2500
  let c2_i32_2501 : BitVec 32 := 2#32
  let v5126 : BitVec 32 := Scalar.addi v5125 c2_i32_2501
  let v5127 : Index := Scalar.indexCast v5126
  ![v5127.toNat]
def k0_off434 (i : grid0.Coords) (k0_t2 : Fin k0_t2_loop.trips) (v5093 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2483 : BitVec 32 := 2#32
  let v5096 : BitVec 32 := Scalar.muli v2959 c2_i32_2483
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5094 : BitVec 32 := Scalar.shrui v5093 v2958
  let c1_i32_2482 : BitVec 32 := 1#32
  let v5095 : BitVec 32 := Scalar.andi v5094 c1_i32_2482
  let v5097 : BitVec 32 := Scalar.addi v5096 v5095
  let c1216_i32_2484 : BitVec 32 := 1216#32
  let v5098 : BitVec 32 := Scalar.muli v5097 c1216_i32_2484
  let c0_i32_1 : BitVec 32 := 0#32
  let c1_i32 : BitVec 32 := 1#32
  let arg13 : BitVec 32 := Scf.iv c0_i32_1 c1_i32 k0_t2
  let c38_i32_2481 : BitVec 32 := 38#32
  let v5090 : BitVec 32 := Scalar.muli arg13 c38_i32_2481
  let c30_i32 : BitVec 32 := 30#32
  let v5091 : BitVec 32 := Scalar.addi v5090 c30_i32
  let c4_i32_2485 : BitVec 32 := 4#32
  let v5099 : BitVec 32 := Scalar.muli v5091 c4_i32_2485
  let v5100 : BitVec 32 := Scalar.addi v5098 v5099
  let c2_i32_2488 : BitVec 32 := 2#32
  let v5103 : BitVec 32 := Scalar.addi v5100 c2_i32_2488
  let v5129 : Index := Scalar.indexCast v5103
  let c0_2502 : Index := 0#32
  let c0_2503 : Index := 0#32
  ![v5129.toNat, 0, 0]
def k0_off435 (v5128 : BitVec 32) : Fin 2 → Nat :=
  let v5132 : Index := Scalar.indexCast v5128
  let c0_2504 : Index := 0#32
  ![v5132.toNat, 0]

def k0_chk154 (v5128 : BitVec 32) : Prop :=
  (∀ a, (k0_off435 v5128) a + S8x128.size a ≤ S18432x128.size a)
theorem k0_off435_inb : ∀ (v5128 : BitVec 32) (k0_hw154 : k0_chk154 v5128), ∀ a, (k0_off435 v5128) a + S8x128.size a ≤ S18432x128.size a := fun v5128 k0_hw154 => k0_hw154

def k0_off436 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2481 : BitVec 32 := 38#32
  let v5090 : BitVec 32 := Scalar.muli arg13 c38_i32_2481
  let c30_i32 : BitVec 32 := 30#32
  let v5091 : BitVec 32 := Scalar.addi v5090 c30_i32
  let c4_i32_2505 : BitVec 32 := 4#32
  let v5135 : BitVec 32 := Scalar.muli v5091 c4_i32_2505
  let c3_i32_2506 : BitVec 32 := 3#32
  let v5136 : BitVec 32 := Scalar.addi v5135 c3_i32_2506
  let v5137 : Index := Scalar.indexCast v5136
  ![v5137.toNat]
def k0_off437 (i : grid0.Coords) (k0_t2 : Fin k0_t2_loop.trips) (v5093 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2483 : BitVec 32 := 2#32
  let v5096 : BitVec 32 := Scalar.muli v2959 c2_i32_2483
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5094 : BitVec 32 := Scalar.shrui v5093 v2958
  let c1_i32_2482 : BitVec 32 := 1#32
  let v5095 : BitVec 32 := Scalar.andi v5094 c1_i32_2482
  let v5097 : BitVec 32 := Scalar.addi v5096 v5095
  let c1216_i32_2484 : BitVec 32 := 1216#32
  let v5098 : BitVec 32 := Scalar.muli v5097 c1216_i32_2484
  let c0_i32_1 : BitVec 32 := 0#32
  let c1_i32 : BitVec 32 := 1#32
  let arg13 : BitVec 32 := Scf.iv c0_i32_1 c1_i32 k0_t2
  let c38_i32_2481 : BitVec 32 := 38#32
  let v5090 : BitVec 32 := Scalar.muli arg13 c38_i32_2481
  let c30_i32 : BitVec 32 := 30#32
  let v5091 : BitVec 32 := Scalar.addi v5090 c30_i32
  let c4_i32_2485 : BitVec 32 := 4#32
  let v5099 : BitVec 32 := Scalar.muli v5091 c4_i32_2485
  let v5100 : BitVec 32 := Scalar.addi v5098 v5099
  let c3_i32_2489 : BitVec 32 := 3#32
  let v5104 : BitVec 32 := Scalar.addi v5100 c3_i32_2489
  let v5139 : Index := Scalar.indexCast v5104
  let c0_2507 : Index := 0#32
  let c0_2508 : Index := 0#32
  ![v5139.toNat, 0, 0]
def k0_off438 (v5138 : BitVec 32) : Fin 2 → Nat :=
  let v5142 : Index := Scalar.indexCast v5138
  let c0_2509 : Index := 0#32
  ![v5142.toNat, 0]

def k0_chk155 (v5138 : BitVec 32) : Prop :=
  (∀ a, (k0_off438 v5138) a + S8x128.size a ≤ S18432x128.size a)
theorem k0_off438_inb : ∀ (v5138 : BitVec 32) (k0_hw155 : k0_chk155 v5138), ∀ a, (k0_off438 v5138) a + S8x128.size a ≤ S18432x128.size a := fun v5138 k0_hw155 => k0_hw155

def k0_off439 (i : grid0.Coords) (k0_t2 : Fin k0_t2_loop.trips) (v5093 : BitVec 32) (c0_i32_2486 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2483 : BitVec 32 := 2#32
  let v5096 : BitVec 32 := Scalar.muli v2959 c2_i32_2483
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5094 : BitVec 32 := Scalar.shrui v5093 v2958
  let c1_i32_2482 : BitVec 32 := 1#32
  let v5095 : BitVec 32 := Scalar.andi v5094 c1_i32_2482
  let v5097 : BitVec 32 := Scalar.addi v5096 v5095
  let c1216_i32_2484 : BitVec 32 := 1216#32
  let v5098 : BitVec 32 := Scalar.muli v5097 c1216_i32_2484
  let c0_i32_1 : BitVec 32 := 0#32
  let c1_i32 : BitVec 32 := 1#32
  let arg13 : BitVec 32 := Scf.iv c0_i32_1 c1_i32 k0_t2
  let c38_i32_2481 : BitVec 32 := 38#32
  let v5090 : BitVec 32 := Scalar.muli arg13 c38_i32_2481
  let c30_i32 : BitVec 32 := 30#32
  let v5091 : BitVec 32 := Scalar.addi v5090 c30_i32
  let c4_i32_2485 : BitVec 32 := 4#32
  let v5099 : BitVec 32 := Scalar.muli v5091 c4_i32_2485
  let v5100 : BitVec 32 := Scalar.addi v5098 v5099
  let v5101 : BitVec 32 := Scalar.addi v5100 c0_i32_2486
  let v5145 : Index := Scalar.indexCast v5101
  let c0_2510 : Index := 0#32
  let c0_2511 : Index := 0#32
  ![v5145.toNat, 0, 0]

def k0_chk151 (i : grid0.Coords) (k0_t2 : Fin k0_t2_loop.trips) (v5093 : BitVec 32) : Prop :=
  (∀ a, (k0_off428 i k0_t2 v5093) a + S1x8x128.size a ≤ S7296x8x128.size a) ∧
  (∀ a, (k0_off431 i k0_t2 v5093) a + S1x8x128.size a ≤ S7296x8x128.size a) ∧
  (∀ a, (k0_off434 i k0_t2 v5093) a + S1x8x128.size a ≤ S7296x8x128.size a) ∧
  (∀ a, (k0_off437 i k0_t2 v5093) a + S1x8x128.size a ≤ S7296x8x128.size a) ∧
  (∀ (r : Fin 4), ∀ a, (k0_off439 i k0_t2 v5093 (BitVec.ofNat 32 r.val)) a + S1x8x128.size a ≤ S7296x8x128.size a)
theorem k0_off428_inb : ∀ (i : grid0.Coords) (k0_t2 : Fin k0_t2_loop.trips) (v5093 : BitVec 32) (k0_hw151 : k0_chk151 i k0_t2 v5093), ∀ a, (k0_off428 i k0_t2 v5093) a + S1x8x128.size a ≤ S7296x8x128.size a := fun i k0_t2 v5093 k0_hw151 => k0_hw151.1
theorem k0_off431_inb : ∀ (i : grid0.Coords) (k0_t2 : Fin k0_t2_loop.trips) (v5093 : BitVec 32) (k0_hw151 : k0_chk151 i k0_t2 v5093), ∀ a, (k0_off431 i k0_t2 v5093) a + S1x8x128.size a ≤ S7296x8x128.size a := fun i k0_t2 v5093 k0_hw151 => k0_hw151.2.1
theorem k0_off434_inb : ∀ (i : grid0.Coords) (k0_t2 : Fin k0_t2_loop.trips) (v5093 : BitVec 32) (k0_hw151 : k0_chk151 i k0_t2 v5093), ∀ a, (k0_off434 i k0_t2 v5093) a + S1x8x128.size a ≤ S7296x8x128.size a := fun i k0_t2 v5093 k0_hw151 => k0_hw151.2.2.1
theorem k0_off437_inb : ∀ (i : grid0.Coords) (k0_t2 : Fin k0_t2_loop.trips) (v5093 : BitVec 32) (k0_hw151 : k0_chk151 i k0_t2 v5093), ∀ a, (k0_off437 i k0_t2 v5093) a + S1x8x128.size a ≤ S7296x8x128.size a := fun i k0_t2 v5093 k0_hw151 => k0_hw151.2.2.2.1
theorem k0_off439_inb : ∀ (i : grid0.Coords) (k0_t2 : Fin k0_t2_loop.trips) (v5093 : BitVec 32) (k0_hw151 : k0_chk151 i k0_t2 v5093), ∀ (r : Fin 4), ∀ a, (k0_off439 i k0_t2 v5093 (BitVec.ofNat 32 r.val)) a + S1x8x128.size a ≤ S7296x8x128.size a := fun i k0_t2 v5093 k0_hw151 r => k0_hw151.2.2.2.2 r

def k0_off440 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2518 : BitVec 32 := 38#32
  let v5161 : BitVec 32 := Scalar.muli arg13 c38_i32_2518
  let c31_i32 : BitVec 32 := 31#32
  let v5162 : BitVec 32 := Scalar.addi v5161 c31_i32
  let v5163 : Index := Scalar.indexCast v5162
  ![v5163.toNat]
def k0_off441 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2518 : BitVec 32 := 38#32
  let v5161 : BitVec 32 := Scalar.muli arg13 c38_i32_2518
  let c31_i32 : BitVec 32 := 31#32
  let v5162 : BitVec 32 := Scalar.addi v5161 c31_i32
  let c4_i32_2527 : BitVec 32 := 4#32
  let v5176 : BitVec 32 := Scalar.muli v5162 c4_i32_2527
  let c0_i32_2528 : BitVec 32 := 0#32
  let v5177 : BitVec 32 := Scalar.addi v5176 c0_i32_2528
  let v5178 : Index := Scalar.indexCast v5177
  ![v5178.toNat]
def k0_off442 (i : grid0.Coords) (k0_t2 : Fin k0_t2_loop.trips) (v5164 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2520 : BitVec 32 := 2#32
  let v5167 : BitVec 32 := Scalar.muli v2959 c2_i32_2520
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5165 : BitVec 32 := Scalar.shrui v5164 v2958
  let c1_i32_2519 : BitVec 32 := 1#32
  let v5166 : BitVec 32 := Scalar.andi v5165 c1_i32_2519
  let v5168 : BitVec 32 := Scalar.addi v5167 v5166
  let c1216_i32_2521 : BitVec 32 := 1216#32
  let v5169 : BitVec 32 := Scalar.muli v5168 c1216_i32_2521
  let c0_i32_1 : BitVec 32 := 0#32
  let c1_i32 : BitVec 32 := 1#32
  let arg13 : BitVec 32 := Scf.iv c0_i32_1 c1_i32 k0_t2
  let c38_i32_2518 : BitVec 32 := 38#32
  let v5161 : BitVec 32 := Scalar.muli arg13 c38_i32_2518
  let c31_i32 : BitVec 32 := 31#32
  let v5162 : BitVec 32 := Scalar.addi v5161 c31_i32
  let c4_i32_2522 : BitVec 32 := 4#32
  let v5170 : BitVec 32 := Scalar.muli v5162 c4_i32_2522
  let v5171 : BitVec 32 := Scalar.addi v5169 v5170
  let c0_i32_2523 : BitVec 32 := 0#32
  let v5172 : BitVec 32 := Scalar.addi v5171 c0_i32_2523
  let v5180 : Index := Scalar.indexCast v5172
  let c0_2529 : Index := 0#32
  let c0_2530 : Index := 0#32
  ![v5180.toNat, 0, 0]

def k0_off443 (v5179 : BitVec 32) : Fin 2 → Nat :=
  let v5183 : Index := Scalar.indexCast v5179
  let c0_2531 : Index := 0#32
  ![v5183.toNat, 0]

def k0_chk157 (v5179 : BitVec 32) : Prop :=
  (∀ a, (k0_off443 v5179) a + S8x128.size a ≤ S18432x128.size a)
theorem k0_off443_inb : ∀ (v5179 : BitVec 32) (k0_hw157 : k0_chk157 v5179), ∀ a, (k0_off443 v5179) a + S8x128.size a ≤ S18432x128.size a := fun v5179 k0_hw157 => k0_hw157

def k0_off444 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2518 : BitVec 32 := 38#32
  let v5161 : BitVec 32 := Scalar.muli arg13 c38_i32_2518
  let c31_i32 : BitVec 32 := 31#32
  let v5162 : BitVec 32 := Scalar.addi v5161 c31_i32
  let c4_i32_2532 : BitVec 32 := 4#32
  let v5186 : BitVec 32 := Scalar.muli v5162 c4_i32_2532
  let c1_i32_2533 : BitVec 32 := 1#32
  let v5187 : BitVec 32 := Scalar.addi v5186 c1_i32_2533
  let v5188 : Index := Scalar.indexCast v5187
  ![v5188.toNat]
def k0_off445 (i : grid0.Coords) (k0_t2 : Fin k0_t2_loop.trips) (v5164 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2520 : BitVec 32 := 2#32
  let v5167 : BitVec 32 := Scalar.muli v2959 c2_i32_2520
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5165 : BitVec 32 := Scalar.shrui v5164 v2958
  let c1_i32_2519 : BitVec 32 := 1#32
  let v5166 : BitVec 32 := Scalar.andi v5165 c1_i32_2519
  let v5168 : BitVec 32 := Scalar.addi v5167 v5166
  let c1216_i32_2521 : BitVec 32 := 1216#32
  let v5169 : BitVec 32 := Scalar.muli v5168 c1216_i32_2521
  let c0_i32_1 : BitVec 32 := 0#32
  let c1_i32 : BitVec 32 := 1#32
  let arg13 : BitVec 32 := Scf.iv c0_i32_1 c1_i32 k0_t2
  let c38_i32_2518 : BitVec 32 := 38#32
  let v5161 : BitVec 32 := Scalar.muli arg13 c38_i32_2518
  let c31_i32 : BitVec 32 := 31#32
  let v5162 : BitVec 32 := Scalar.addi v5161 c31_i32
  let c4_i32_2522 : BitVec 32 := 4#32
  let v5170 : BitVec 32 := Scalar.muli v5162 c4_i32_2522
  let v5171 : BitVec 32 := Scalar.addi v5169 v5170
  let c1_i32_2524 : BitVec 32 := 1#32
  let v5173 : BitVec 32 := Scalar.addi v5171 c1_i32_2524
  let v5190 : Index := Scalar.indexCast v5173
  let c0_2534 : Index := 0#32
  let c0_2535 : Index := 0#32
  ![v5190.toNat, 0, 0]
def k0_off446 (v5189 : BitVec 32) : Fin 2 → Nat :=
  let v5193 : Index := Scalar.indexCast v5189
  let c0_2536 : Index := 0#32
  ![v5193.toNat, 0]

def k0_chk158 (v5189 : BitVec 32) : Prop :=
  (∀ a, (k0_off446 v5189) a + S8x128.size a ≤ S18432x128.size a)
theorem k0_off446_inb : ∀ (v5189 : BitVec 32) (k0_hw158 : k0_chk158 v5189), ∀ a, (k0_off446 v5189) a + S8x128.size a ≤ S18432x128.size a := fun v5189 k0_hw158 => k0_hw158

def k0_off447 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2518 : BitVec 32 := 38#32
  let v5161 : BitVec 32 := Scalar.muli arg13 c38_i32_2518
  let c31_i32 : BitVec 32 := 31#32
  let v5162 : BitVec 32 := Scalar.addi v5161 c31_i32
  let c4_i32_2537 : BitVec 32 := 4#32
  let v5196 : BitVec 32 := Scalar.muli v5162 c4_i32_2537
  let c2_i32_2538 : BitVec 32 := 2#32
  let v5197 : BitVec 32 := Scalar.addi v5196 c2_i32_2538
  let v5198 : Index := Scalar.indexCast v5197
  ![v5198.toNat]
def k0_off448 (i : grid0.Coords) (k0_t2 : Fin k0_t2_loop.trips) (v5164 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2520 : BitVec 32 := 2#32
  let v5167 : BitVec 32 := Scalar.muli v2959 c2_i32_2520
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5165 : BitVec 32 := Scalar.shrui v5164 v2958
  let c1_i32_2519 : BitVec 32 := 1#32
  let v5166 : BitVec 32 := Scalar.andi v5165 c1_i32_2519
  let v5168 : BitVec 32 := Scalar.addi v5167 v5166
  let c1216_i32_2521 : BitVec 32 := 1216#32
  let v5169 : BitVec 32 := Scalar.muli v5168 c1216_i32_2521
  let c0_i32_1 : BitVec 32 := 0#32
  let c1_i32 : BitVec 32 := 1#32
  let arg13 : BitVec 32 := Scf.iv c0_i32_1 c1_i32 k0_t2
  let c38_i32_2518 : BitVec 32 := 38#32
  let v5161 : BitVec 32 := Scalar.muli arg13 c38_i32_2518
  let c31_i32 : BitVec 32 := 31#32
  let v5162 : BitVec 32 := Scalar.addi v5161 c31_i32
  let c4_i32_2522 : BitVec 32 := 4#32
  let v5170 : BitVec 32 := Scalar.muli v5162 c4_i32_2522
  let v5171 : BitVec 32 := Scalar.addi v5169 v5170
  let c2_i32_2525 : BitVec 32 := 2#32
  let v5174 : BitVec 32 := Scalar.addi v5171 c2_i32_2525
  let v5200 : Index := Scalar.indexCast v5174
  let c0_2539 : Index := 0#32
  let c0_2540 : Index := 0#32
  ![v5200.toNat, 0, 0]
def k0_off449 (v5199 : BitVec 32) : Fin 2 → Nat :=
  let v5203 : Index := Scalar.indexCast v5199
  let c0_2541 : Index := 0#32
  ![v5203.toNat, 0]

def k0_chk159 (v5199 : BitVec 32) : Prop :=
  (∀ a, (k0_off449 v5199) a + S8x128.size a ≤ S18432x128.size a)
theorem k0_off449_inb : ∀ (v5199 : BitVec 32) (k0_hw159 : k0_chk159 v5199), ∀ a, (k0_off449 v5199) a + S8x128.size a ≤ S18432x128.size a := fun v5199 k0_hw159 => k0_hw159

def k0_off450 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2518 : BitVec 32 := 38#32
  let v5161 : BitVec 32 := Scalar.muli arg13 c38_i32_2518
  let c31_i32 : BitVec 32 := 31#32
  let v5162 : BitVec 32 := Scalar.addi v5161 c31_i32
  let c4_i32_2542 : BitVec 32 := 4#32
  let v5206 : BitVec 32 := Scalar.muli v5162 c4_i32_2542
  let c3_i32_2543 : BitVec 32 := 3#32
  let v5207 : BitVec 32 := Scalar.addi v5206 c3_i32_2543
  let v5208 : Index := Scalar.indexCast v5207
  ![v5208.toNat]
def k0_off451 (i : grid0.Coords) (k0_t2 : Fin k0_t2_loop.trips) (v5164 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2520 : BitVec 32 := 2#32
  let v5167 : BitVec 32 := Scalar.muli v2959 c2_i32_2520
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5165 : BitVec 32 := Scalar.shrui v5164 v2958
  let c1_i32_2519 : BitVec 32 := 1#32
  let v5166 : BitVec 32 := Scalar.andi v5165 c1_i32_2519
  let v5168 : BitVec 32 := Scalar.addi v5167 v5166
  let c1216_i32_2521 : BitVec 32 := 1216#32
  let v5169 : BitVec 32 := Scalar.muli v5168 c1216_i32_2521
  let c0_i32_1 : BitVec 32 := 0#32
  let c1_i32 : BitVec 32 := 1#32
  let arg13 : BitVec 32 := Scf.iv c0_i32_1 c1_i32 k0_t2
  let c38_i32_2518 : BitVec 32 := 38#32
  let v5161 : BitVec 32 := Scalar.muli arg13 c38_i32_2518
  let c31_i32 : BitVec 32 := 31#32
  let v5162 : BitVec 32 := Scalar.addi v5161 c31_i32
  let c4_i32_2522 : BitVec 32 := 4#32
  let v5170 : BitVec 32 := Scalar.muli v5162 c4_i32_2522
  let v5171 : BitVec 32 := Scalar.addi v5169 v5170
  let c3_i32_2526 : BitVec 32 := 3#32
  let v5175 : BitVec 32 := Scalar.addi v5171 c3_i32_2526
  let v5210 : Index := Scalar.indexCast v5175
  let c0_2544 : Index := 0#32
  let c0_2545 : Index := 0#32
  ![v5210.toNat, 0, 0]
def k0_off452 (v5209 : BitVec 32) : Fin 2 → Nat :=
  let v5213 : Index := Scalar.indexCast v5209
  let c0_2546 : Index := 0#32
  ![v5213.toNat, 0]

def k0_chk160 (v5209 : BitVec 32) : Prop :=
  (∀ a, (k0_off452 v5209) a + S8x128.size a ≤ S18432x128.size a)
theorem k0_off452_inb : ∀ (v5209 : BitVec 32) (k0_hw160 : k0_chk160 v5209), ∀ a, (k0_off452 v5209) a + S8x128.size a ≤ S18432x128.size a := fun v5209 k0_hw160 => k0_hw160

def k0_off453 (i : grid0.Coords) (k0_t2 : Fin k0_t2_loop.trips) (v5164 : BitVec 32) (c0_i32_2523 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2520 : BitVec 32 := 2#32
  let v5167 : BitVec 32 := Scalar.muli v2959 c2_i32_2520
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5165 : BitVec 32 := Scalar.shrui v5164 v2958
  let c1_i32_2519 : BitVec 32 := 1#32
  let v5166 : BitVec 32 := Scalar.andi v5165 c1_i32_2519
  let v5168 : BitVec 32 := Scalar.addi v5167 v5166
  let c1216_i32_2521 : BitVec 32 := 1216#32
  let v5169 : BitVec 32 := Scalar.muli v5168 c1216_i32_2521
  let c0_i32_1 : BitVec 32 := 0#32
  let c1_i32 : BitVec 32 := 1#32
  let arg13 : BitVec 32 := Scf.iv c0_i32_1 c1_i32 k0_t2
  let c38_i32_2518 : BitVec 32 := 38#32
  let v5161 : BitVec 32 := Scalar.muli arg13 c38_i32_2518
  let c31_i32 : BitVec 32 := 31#32
  let v5162 : BitVec 32 := Scalar.addi v5161 c31_i32
  let c4_i32_2522 : BitVec 32 := 4#32
  let v5170 : BitVec 32 := Scalar.muli v5162 c4_i32_2522
  let v5171 : BitVec 32 := Scalar.addi v5169 v5170
  let v5172 : BitVec 32 := Scalar.addi v5171 c0_i32_2523
  let v5216 : Index := Scalar.indexCast v5172
  let c0_2547 : Index := 0#32
  let c0_2548 : Index := 0#32
  ![v5216.toNat, 0, 0]

def k0_chk156 (i : grid0.Coords) (k0_t2 : Fin k0_t2_loop.trips) (v5164 : BitVec 32) : Prop :=
  (∀ a, (k0_off442 i k0_t2 v5164) a + S1x8x128.size a ≤ S7296x8x128.size a) ∧
  (∀ a, (k0_off445 i k0_t2 v5164) a + S1x8x128.size a ≤ S7296x8x128.size a) ∧
  (∀ a, (k0_off448 i k0_t2 v5164) a + S1x8x128.size a ≤ S7296x8x128.size a) ∧
  (∀ a, (k0_off451 i k0_t2 v5164) a + S1x8x128.size a ≤ S7296x8x128.size a) ∧
  (∀ (r : Fin 4), ∀ a, (k0_off453 i k0_t2 v5164 (BitVec.ofNat 32 r.val)) a + S1x8x128.size a ≤ S7296x8x128.size a)
theorem k0_off442_inb : ∀ (i : grid0.Coords) (k0_t2 : Fin k0_t2_loop.trips) (v5164 : BitVec 32) (k0_hw156 : k0_chk156 i k0_t2 v5164), ∀ a, (k0_off442 i k0_t2 v5164) a + S1x8x128.size a ≤ S7296x8x128.size a := fun i k0_t2 v5164 k0_hw156 => k0_hw156.1
theorem k0_off445_inb : ∀ (i : grid0.Coords) (k0_t2 : Fin k0_t2_loop.trips) (v5164 : BitVec 32) (k0_hw156 : k0_chk156 i k0_t2 v5164), ∀ a, (k0_off445 i k0_t2 v5164) a + S1x8x128.size a ≤ S7296x8x128.size a := fun i k0_t2 v5164 k0_hw156 => k0_hw156.2.1
theorem k0_off448_inb : ∀ (i : grid0.Coords) (k0_t2 : Fin k0_t2_loop.trips) (v5164 : BitVec 32) (k0_hw156 : k0_chk156 i k0_t2 v5164), ∀ a, (k0_off448 i k0_t2 v5164) a + S1x8x128.size a ≤ S7296x8x128.size a := fun i k0_t2 v5164 k0_hw156 => k0_hw156.2.2.1
theorem k0_off451_inb : ∀ (i : grid0.Coords) (k0_t2 : Fin k0_t2_loop.trips) (v5164 : BitVec 32) (k0_hw156 : k0_chk156 i k0_t2 v5164), ∀ a, (k0_off451 i k0_t2 v5164) a + S1x8x128.size a ≤ S7296x8x128.size a := fun i k0_t2 v5164 k0_hw156 => k0_hw156.2.2.2.1
theorem k0_off453_inb : ∀ (i : grid0.Coords) (k0_t2 : Fin k0_t2_loop.trips) (v5164 : BitVec 32) (k0_hw156 : k0_chk156 i k0_t2 v5164), ∀ (r : Fin 4), ∀ a, (k0_off453 i k0_t2 v5164 (BitVec.ofNat 32 r.val)) a + S1x8x128.size a ≤ S7296x8x128.size a := fun i k0_t2 v5164 k0_hw156 r => k0_hw156.2.2.2.2 r

def k0_off454 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2555 : BitVec 32 := 38#32
  let v5232 : BitVec 32 := Scalar.muli arg13 c38_i32_2555
  let c32_i32 : BitVec 32 := 32#32
  let v5233 : BitVec 32 := Scalar.addi v5232 c32_i32
  let v5234 : Index := Scalar.indexCast v5233
  ![v5234.toNat]
def k0_off455 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2555 : BitVec 32 := 38#32
  let v5232 : BitVec 32 := Scalar.muli arg13 c38_i32_2555
  let c32_i32 : BitVec 32 := 32#32
  let v5233 : BitVec 32 := Scalar.addi v5232 c32_i32
  let c4_i32_2564 : BitVec 32 := 4#32
  let v5247 : BitVec 32 := Scalar.muli v5233 c4_i32_2564
  let c0_i32_2565 : BitVec 32 := 0#32
  let v5248 : BitVec 32 := Scalar.addi v5247 c0_i32_2565
  let v5249 : Index := Scalar.indexCast v5248
  ![v5249.toNat]
def k0_off456 (i : grid0.Coords) (k0_t2 : Fin k0_t2_loop.trips) (v5235 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2557 : BitVec 32 := 2#32
  let v5238 : BitVec 32 := Scalar.muli v2959 c2_i32_2557
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5236 : BitVec 32 := Scalar.shrui v5235 v2958
  let c1_i32_2556 : BitVec 32 := 1#32
  let v5237 : BitVec 32 := Scalar.andi v5236 c1_i32_2556
  let v5239 : BitVec 32 := Scalar.addi v5238 v5237
  let c1216_i32_2558 : BitVec 32 := 1216#32
  let v5240 : BitVec 32 := Scalar.muli v5239 c1216_i32_2558
  let c0_i32_1 : BitVec 32 := 0#32
  let c1_i32 : BitVec 32 := 1#32
  let arg13 : BitVec 32 := Scf.iv c0_i32_1 c1_i32 k0_t2
  let c38_i32_2555 : BitVec 32 := 38#32
  let v5232 : BitVec 32 := Scalar.muli arg13 c38_i32_2555
  let c32_i32 : BitVec 32 := 32#32
  let v5233 : BitVec 32 := Scalar.addi v5232 c32_i32
  let c4_i32_2559 : BitVec 32 := 4#32
  let v5241 : BitVec 32 := Scalar.muli v5233 c4_i32_2559
  let v5242 : BitVec 32 := Scalar.addi v5240 v5241
  let c0_i32_2560 : BitVec 32 := 0#32
  let v5243 : BitVec 32 := Scalar.addi v5242 c0_i32_2560
  let v5251 : Index := Scalar.indexCast v5243
  let c0_2566 : Index := 0#32
  let c0_2567 : Index := 0#32
  ![v5251.toNat, 0, 0]

def k0_off457 (v5250 : BitVec 32) : Fin 2 → Nat :=
  let v5254 : Index := Scalar.indexCast v5250
  let c0_2568 : Index := 0#32
  ![v5254.toNat, 0]

def k0_chk162 (v5250 : BitVec 32) : Prop :=
  (∀ a, (k0_off457 v5250) a + S8x128.size a ≤ S18432x128.size a)
theorem k0_off457_inb : ∀ (v5250 : BitVec 32) (k0_hw162 : k0_chk162 v5250), ∀ a, (k0_off457 v5250) a + S8x128.size a ≤ S18432x128.size a := fun v5250 k0_hw162 => k0_hw162

def k0_off458 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2555 : BitVec 32 := 38#32
  let v5232 : BitVec 32 := Scalar.muli arg13 c38_i32_2555
  let c32_i32 : BitVec 32 := 32#32
  let v5233 : BitVec 32 := Scalar.addi v5232 c32_i32
  let c4_i32_2569 : BitVec 32 := 4#32
  let v5257 : BitVec 32 := Scalar.muli v5233 c4_i32_2569
  let c1_i32_2570 : BitVec 32 := 1#32
  let v5258 : BitVec 32 := Scalar.addi v5257 c1_i32_2570
  let v5259 : Index := Scalar.indexCast v5258
  ![v5259.toNat]
def k0_off459 (i : grid0.Coords) (k0_t2 : Fin k0_t2_loop.trips) (v5235 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2557 : BitVec 32 := 2#32
  let v5238 : BitVec 32 := Scalar.muli v2959 c2_i32_2557
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5236 : BitVec 32 := Scalar.shrui v5235 v2958
  let c1_i32_2556 : BitVec 32 := 1#32
  let v5237 : BitVec 32 := Scalar.andi v5236 c1_i32_2556
  let v5239 : BitVec 32 := Scalar.addi v5238 v5237
  let c1216_i32_2558 : BitVec 32 := 1216#32
  let v5240 : BitVec 32 := Scalar.muli v5239 c1216_i32_2558
  let c0_i32_1 : BitVec 32 := 0#32
  let c1_i32 : BitVec 32 := 1#32
  let arg13 : BitVec 32 := Scf.iv c0_i32_1 c1_i32 k0_t2
  let c38_i32_2555 : BitVec 32 := 38#32
  let v5232 : BitVec 32 := Scalar.muli arg13 c38_i32_2555
  let c32_i32 : BitVec 32 := 32#32
  let v5233 : BitVec 32 := Scalar.addi v5232 c32_i32
  let c4_i32_2559 : BitVec 32 := 4#32
  let v5241 : BitVec 32 := Scalar.muli v5233 c4_i32_2559
  let v5242 : BitVec 32 := Scalar.addi v5240 v5241
  let c1_i32_2561 : BitVec 32 := 1#32
  let v5244 : BitVec 32 := Scalar.addi v5242 c1_i32_2561
  let v5261 : Index := Scalar.indexCast v5244
  let c0_2571 : Index := 0#32
  let c0_2572 : Index := 0#32
  ![v5261.toNat, 0, 0]
def k0_off460 (v5260 : BitVec 32) : Fin 2 → Nat :=
  let v5264 : Index := Scalar.indexCast v5260
  let c0_2573 : Index := 0#32
  ![v5264.toNat, 0]

def k0_chk163 (v5260 : BitVec 32) : Prop :=
  (∀ a, (k0_off460 v5260) a + S8x128.size a ≤ S18432x128.size a)
theorem k0_off460_inb : ∀ (v5260 : BitVec 32) (k0_hw163 : k0_chk163 v5260), ∀ a, (k0_off460 v5260) a + S8x128.size a ≤ S18432x128.size a := fun v5260 k0_hw163 => k0_hw163

def k0_off461 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2555 : BitVec 32 := 38#32
  let v5232 : BitVec 32 := Scalar.muli arg13 c38_i32_2555
  let c32_i32 : BitVec 32 := 32#32
  let v5233 : BitVec 32 := Scalar.addi v5232 c32_i32
  let c4_i32_2574 : BitVec 32 := 4#32
  let v5267 : BitVec 32 := Scalar.muli v5233 c4_i32_2574
  let c2_i32_2575 : BitVec 32 := 2#32
  let v5268 : BitVec 32 := Scalar.addi v5267 c2_i32_2575
  let v5269 : Index := Scalar.indexCast v5268
  ![v5269.toNat]
def k0_off462 (i : grid0.Coords) (k0_t2 : Fin k0_t2_loop.trips) (v5235 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2557 : BitVec 32 := 2#32
  let v5238 : BitVec 32 := Scalar.muli v2959 c2_i32_2557
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5236 : BitVec 32 := Scalar.shrui v5235 v2958
  let c1_i32_2556 : BitVec 32 := 1#32
  let v5237 : BitVec 32 := Scalar.andi v5236 c1_i32_2556
  let v5239 : BitVec 32 := Scalar.addi v5238 v5237
  let c1216_i32_2558 : BitVec 32 := 1216#32
  let v5240 : BitVec 32 := Scalar.muli v5239 c1216_i32_2558
  let c0_i32_1 : BitVec 32 := 0#32
  let c1_i32 : BitVec 32 := 1#32
  let arg13 : BitVec 32 := Scf.iv c0_i32_1 c1_i32 k0_t2
  let c38_i32_2555 : BitVec 32 := 38#32
  let v5232 : BitVec 32 := Scalar.muli arg13 c38_i32_2555
  let c32_i32 : BitVec 32 := 32#32
  let v5233 : BitVec 32 := Scalar.addi v5232 c32_i32
  let c4_i32_2559 : BitVec 32 := 4#32
  let v5241 : BitVec 32 := Scalar.muli v5233 c4_i32_2559
  let v5242 : BitVec 32 := Scalar.addi v5240 v5241
  let c2_i32_2562 : BitVec 32 := 2#32
  let v5245 : BitVec 32 := Scalar.addi v5242 c2_i32_2562
  let v5271 : Index := Scalar.indexCast v5245
  let c0_2576 : Index := 0#32
  let c0_2577 : Index := 0#32
  ![v5271.toNat, 0, 0]
def k0_off463 (v5270 : BitVec 32) : Fin 2 → Nat :=
  let v5274 : Index := Scalar.indexCast v5270
  let c0_2578 : Index := 0#32
  ![v5274.toNat, 0]

def k0_chk164 (v5270 : BitVec 32) : Prop :=
  (∀ a, (k0_off463 v5270) a + S8x128.size a ≤ S18432x128.size a)
theorem k0_off463_inb : ∀ (v5270 : BitVec 32) (k0_hw164 : k0_chk164 v5270), ∀ a, (k0_off463 v5270) a + S8x128.size a ≤ S18432x128.size a := fun v5270 k0_hw164 => k0_hw164

def k0_off464 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2555 : BitVec 32 := 38#32
  let v5232 : BitVec 32 := Scalar.muli arg13 c38_i32_2555
  let c32_i32 : BitVec 32 := 32#32
  let v5233 : BitVec 32 := Scalar.addi v5232 c32_i32
  let c4_i32_2579 : BitVec 32 := 4#32
  let v5277 : BitVec 32 := Scalar.muli v5233 c4_i32_2579
  let c3_i32_2580 : BitVec 32 := 3#32
  let v5278 : BitVec 32 := Scalar.addi v5277 c3_i32_2580
  let v5279 : Index := Scalar.indexCast v5278
  ![v5279.toNat]
def k0_off465 (i : grid0.Coords) (k0_t2 : Fin k0_t2_loop.trips) (v5235 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2557 : BitVec 32 := 2#32
  let v5238 : BitVec 32 := Scalar.muli v2959 c2_i32_2557
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5236 : BitVec 32 := Scalar.shrui v5235 v2958
  let c1_i32_2556 : BitVec 32 := 1#32
  let v5237 : BitVec 32 := Scalar.andi v5236 c1_i32_2556
  let v5239 : BitVec 32 := Scalar.addi v5238 v5237
  let c1216_i32_2558 : BitVec 32 := 1216#32
  let v5240 : BitVec 32 := Scalar.muli v5239 c1216_i32_2558
  let c0_i32_1 : BitVec 32 := 0#32
  let c1_i32 : BitVec 32 := 1#32
  let arg13 : BitVec 32 := Scf.iv c0_i32_1 c1_i32 k0_t2
  let c38_i32_2555 : BitVec 32 := 38#32
  let v5232 : BitVec 32 := Scalar.muli arg13 c38_i32_2555
  let c32_i32 : BitVec 32 := 32#32
  let v5233 : BitVec 32 := Scalar.addi v5232 c32_i32
  let c4_i32_2559 : BitVec 32 := 4#32
  let v5241 : BitVec 32 := Scalar.muli v5233 c4_i32_2559
  let v5242 : BitVec 32 := Scalar.addi v5240 v5241
  let c3_i32_2563 : BitVec 32 := 3#32
  let v5246 : BitVec 32 := Scalar.addi v5242 c3_i32_2563
  let v5281 : Index := Scalar.indexCast v5246
  let c0_2581 : Index := 0#32
  let c0_2582 : Index := 0#32
  ![v5281.toNat, 0, 0]
def k0_off466 (v5280 : BitVec 32) : Fin 2 → Nat :=
  let v5284 : Index := Scalar.indexCast v5280
  let c0_2583 : Index := 0#32
  ![v5284.toNat, 0]

def k0_chk165 (v5280 : BitVec 32) : Prop :=
  (∀ a, (k0_off466 v5280) a + S8x128.size a ≤ S18432x128.size a)
theorem k0_off466_inb : ∀ (v5280 : BitVec 32) (k0_hw165 : k0_chk165 v5280), ∀ a, (k0_off466 v5280) a + S8x128.size a ≤ S18432x128.size a := fun v5280 k0_hw165 => k0_hw165

def k0_off467 (i : grid0.Coords) (k0_t2 : Fin k0_t2_loop.trips) (v5235 : BitVec 32) (c0_i32_2560 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2557 : BitVec 32 := 2#32
  let v5238 : BitVec 32 := Scalar.muli v2959 c2_i32_2557
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5236 : BitVec 32 := Scalar.shrui v5235 v2958
  let c1_i32_2556 : BitVec 32 := 1#32
  let v5237 : BitVec 32 := Scalar.andi v5236 c1_i32_2556
  let v5239 : BitVec 32 := Scalar.addi v5238 v5237
  let c1216_i32_2558 : BitVec 32 := 1216#32
  let v5240 : BitVec 32 := Scalar.muli v5239 c1216_i32_2558
  let c0_i32_1 : BitVec 32 := 0#32
  let c1_i32 : BitVec 32 := 1#32
  let arg13 : BitVec 32 := Scf.iv c0_i32_1 c1_i32 k0_t2
  let c38_i32_2555 : BitVec 32 := 38#32
  let v5232 : BitVec 32 := Scalar.muli arg13 c38_i32_2555
  let c32_i32 : BitVec 32 := 32#32
  let v5233 : BitVec 32 := Scalar.addi v5232 c32_i32
  let c4_i32_2559 : BitVec 32 := 4#32
  let v5241 : BitVec 32 := Scalar.muli v5233 c4_i32_2559
  let v5242 : BitVec 32 := Scalar.addi v5240 v5241
  let v5243 : BitVec 32 := Scalar.addi v5242 c0_i32_2560
  let v5287 : Index := Scalar.indexCast v5243
  let c0_2584 : Index := 0#32
  let c0_2585 : Index := 0#32
  ![v5287.toNat, 0, 0]

def k0_chk161 (i : grid0.Coords) (k0_t2 : Fin k0_t2_loop.trips) (v5235 : BitVec 32) : Prop :=
  (∀ a, (k0_off456 i k0_t2 v5235) a + S1x8x128.size a ≤ S7296x8x128.size a) ∧
  (∀ a, (k0_off459 i k0_t2 v5235) a + S1x8x128.size a ≤ S7296x8x128.size a) ∧
  (∀ a, (k0_off462 i k0_t2 v5235) a + S1x8x128.size a ≤ S7296x8x128.size a) ∧
  (∀ a, (k0_off465 i k0_t2 v5235) a + S1x8x128.size a ≤ S7296x8x128.size a) ∧
  (∀ (r : Fin 4), ∀ a, (k0_off467 i k0_t2 v5235 (BitVec.ofNat 32 r.val)) a + S1x8x128.size a ≤ S7296x8x128.size a)
theorem k0_off456_inb : ∀ (i : grid0.Coords) (k0_t2 : Fin k0_t2_loop.trips) (v5235 : BitVec 32) (k0_hw161 : k0_chk161 i k0_t2 v5235), ∀ a, (k0_off456 i k0_t2 v5235) a + S1x8x128.size a ≤ S7296x8x128.size a := fun i k0_t2 v5235 k0_hw161 => k0_hw161.1
theorem k0_off459_inb : ∀ (i : grid0.Coords) (k0_t2 : Fin k0_t2_loop.trips) (v5235 : BitVec 32) (k0_hw161 : k0_chk161 i k0_t2 v5235), ∀ a, (k0_off459 i k0_t2 v5235) a + S1x8x128.size a ≤ S7296x8x128.size a := fun i k0_t2 v5235 k0_hw161 => k0_hw161.2.1
theorem k0_off462_inb : ∀ (i : grid0.Coords) (k0_t2 : Fin k0_t2_loop.trips) (v5235 : BitVec 32) (k0_hw161 : k0_chk161 i k0_t2 v5235), ∀ a, (k0_off462 i k0_t2 v5235) a + S1x8x128.size a ≤ S7296x8x128.size a := fun i k0_t2 v5235 k0_hw161 => k0_hw161.2.2.1
theorem k0_off465_inb : ∀ (i : grid0.Coords) (k0_t2 : Fin k0_t2_loop.trips) (v5235 : BitVec 32) (k0_hw161 : k0_chk161 i k0_t2 v5235), ∀ a, (k0_off465 i k0_t2 v5235) a + S1x8x128.size a ≤ S7296x8x128.size a := fun i k0_t2 v5235 k0_hw161 => k0_hw161.2.2.2.1
theorem k0_off467_inb : ∀ (i : grid0.Coords) (k0_t2 : Fin k0_t2_loop.trips) (v5235 : BitVec 32) (k0_hw161 : k0_chk161 i k0_t2 v5235), ∀ (r : Fin 4), ∀ a, (k0_off467 i k0_t2 v5235 (BitVec.ofNat 32 r.val)) a + S1x8x128.size a ≤ S7296x8x128.size a := fun i k0_t2 v5235 k0_hw161 r => k0_hw161.2.2.2.2 r

def k0_off468 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2592 : BitVec 32 := 38#32
  let v5303 : BitVec 32 := Scalar.muli arg13 c38_i32_2592
  let c33_i32 : BitVec 32 := 33#32
  let v5304 : BitVec 32 := Scalar.addi v5303 c33_i32
  let v5305 : Index := Scalar.indexCast v5304
  ![v5305.toNat]
def k0_off469 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2592 : BitVec 32 := 38#32
  let v5303 : BitVec 32 := Scalar.muli arg13 c38_i32_2592
  let c33_i32 : BitVec 32 := 33#32
  let v5304 : BitVec 32 := Scalar.addi v5303 c33_i32
  let c4_i32_2601 : BitVec 32 := 4#32
  let v5318 : BitVec 32 := Scalar.muli v5304 c4_i32_2601
  let c0_i32_2602 : BitVec 32 := 0#32
  let v5319 : BitVec 32 := Scalar.addi v5318 c0_i32_2602
  let v5320 : Index := Scalar.indexCast v5319
  ![v5320.toNat]
def k0_off470 (i : grid0.Coords) (k0_t2 : Fin k0_t2_loop.trips) (v5306 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2594 : BitVec 32 := 2#32
  let v5309 : BitVec 32 := Scalar.muli v2959 c2_i32_2594
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5307 : BitVec 32 := Scalar.shrui v5306 v2958
  let c1_i32_2593 : BitVec 32 := 1#32
  let v5308 : BitVec 32 := Scalar.andi v5307 c1_i32_2593
  let v5310 : BitVec 32 := Scalar.addi v5309 v5308
  let c1216_i32_2595 : BitVec 32 := 1216#32
  let v5311 : BitVec 32 := Scalar.muli v5310 c1216_i32_2595
  let c0_i32_1 : BitVec 32 := 0#32
  let c1_i32 : BitVec 32 := 1#32
  let arg13 : BitVec 32 := Scf.iv c0_i32_1 c1_i32 k0_t2
  let c38_i32_2592 : BitVec 32 := 38#32
  let v5303 : BitVec 32 := Scalar.muli arg13 c38_i32_2592
  let c33_i32 : BitVec 32 := 33#32
  let v5304 : BitVec 32 := Scalar.addi v5303 c33_i32
  let c4_i32_2596 : BitVec 32 := 4#32
  let v5312 : BitVec 32 := Scalar.muli v5304 c4_i32_2596
  let v5313 : BitVec 32 := Scalar.addi v5311 v5312
  let c0_i32_2597 : BitVec 32 := 0#32
  let v5314 : BitVec 32 := Scalar.addi v5313 c0_i32_2597
  let v5322 : Index := Scalar.indexCast v5314
  let c0_2603 : Index := 0#32
  let c0_2604 : Index := 0#32
  ![v5322.toNat, 0, 0]

def k0_off471 (v5321 : BitVec 32) : Fin 2 → Nat :=
  let v5325 : Index := Scalar.indexCast v5321
  let c0_2605 : Index := 0#32
  ![v5325.toNat, 0]

def k0_chk167 (v5321 : BitVec 32) : Prop :=
  (∀ a, (k0_off471 v5321) a + S8x128.size a ≤ S18432x128.size a)
theorem k0_off471_inb : ∀ (v5321 : BitVec 32) (k0_hw167 : k0_chk167 v5321), ∀ a, (k0_off471 v5321) a + S8x128.size a ≤ S18432x128.size a := fun v5321 k0_hw167 => k0_hw167

def k0_off472 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2592 : BitVec 32 := 38#32
  let v5303 : BitVec 32 := Scalar.muli arg13 c38_i32_2592
  let c33_i32 : BitVec 32 := 33#32
  let v5304 : BitVec 32 := Scalar.addi v5303 c33_i32
  let c4_i32_2606 : BitVec 32 := 4#32
  let v5328 : BitVec 32 := Scalar.muli v5304 c4_i32_2606
  let c1_i32_2607 : BitVec 32 := 1#32
  let v5329 : BitVec 32 := Scalar.addi v5328 c1_i32_2607
  let v5330 : Index := Scalar.indexCast v5329
  ![v5330.toNat]
def k0_off473 (i : grid0.Coords) (k0_t2 : Fin k0_t2_loop.trips) (v5306 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2594 : BitVec 32 := 2#32
  let v5309 : BitVec 32 := Scalar.muli v2959 c2_i32_2594
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5307 : BitVec 32 := Scalar.shrui v5306 v2958
  let c1_i32_2593 : BitVec 32 := 1#32
  let v5308 : BitVec 32 := Scalar.andi v5307 c1_i32_2593
  let v5310 : BitVec 32 := Scalar.addi v5309 v5308
  let c1216_i32_2595 : BitVec 32 := 1216#32
  let v5311 : BitVec 32 := Scalar.muli v5310 c1216_i32_2595
  let c0_i32_1 : BitVec 32 := 0#32
  let c1_i32 : BitVec 32 := 1#32
  let arg13 : BitVec 32 := Scf.iv c0_i32_1 c1_i32 k0_t2
  let c38_i32_2592 : BitVec 32 := 38#32
  let v5303 : BitVec 32 := Scalar.muli arg13 c38_i32_2592
  let c33_i32 : BitVec 32 := 33#32
  let v5304 : BitVec 32 := Scalar.addi v5303 c33_i32
  let c4_i32_2596 : BitVec 32 := 4#32
  let v5312 : BitVec 32 := Scalar.muli v5304 c4_i32_2596
  let v5313 : BitVec 32 := Scalar.addi v5311 v5312
  let c1_i32_2598 : BitVec 32 := 1#32
  let v5315 : BitVec 32 := Scalar.addi v5313 c1_i32_2598
  let v5332 : Index := Scalar.indexCast v5315
  let c0_2608 : Index := 0#32
  let c0_2609 : Index := 0#32
  ![v5332.toNat, 0, 0]
def k0_off474 (v5331 : BitVec 32) : Fin 2 → Nat :=
  let v5335 : Index := Scalar.indexCast v5331
  let c0_2610 : Index := 0#32
  ![v5335.toNat, 0]

def k0_chk168 (v5331 : BitVec 32) : Prop :=
  (∀ a, (k0_off474 v5331) a + S8x128.size a ≤ S18432x128.size a)
theorem k0_off474_inb : ∀ (v5331 : BitVec 32) (k0_hw168 : k0_chk168 v5331), ∀ a, (k0_off474 v5331) a + S8x128.size a ≤ S18432x128.size a := fun v5331 k0_hw168 => k0_hw168

def k0_off475 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2592 : BitVec 32 := 38#32
  let v5303 : BitVec 32 := Scalar.muli arg13 c38_i32_2592
  let c33_i32 : BitVec 32 := 33#32
  let v5304 : BitVec 32 := Scalar.addi v5303 c33_i32
  let c4_i32_2611 : BitVec 32 := 4#32
  let v5338 : BitVec 32 := Scalar.muli v5304 c4_i32_2611
  let c2_i32_2612 : BitVec 32 := 2#32
  let v5339 : BitVec 32 := Scalar.addi v5338 c2_i32_2612
  let v5340 : Index := Scalar.indexCast v5339
  ![v5340.toNat]
def k0_off476 (i : grid0.Coords) (k0_t2 : Fin k0_t2_loop.trips) (v5306 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2594 : BitVec 32 := 2#32
  let v5309 : BitVec 32 := Scalar.muli v2959 c2_i32_2594
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5307 : BitVec 32 := Scalar.shrui v5306 v2958
  let c1_i32_2593 : BitVec 32 := 1#32
  let v5308 : BitVec 32 := Scalar.andi v5307 c1_i32_2593
  let v5310 : BitVec 32 := Scalar.addi v5309 v5308
  let c1216_i32_2595 : BitVec 32 := 1216#32
  let v5311 : BitVec 32 := Scalar.muli v5310 c1216_i32_2595
  let c0_i32_1 : BitVec 32 := 0#32
  let c1_i32 : BitVec 32 := 1#32
  let arg13 : BitVec 32 := Scf.iv c0_i32_1 c1_i32 k0_t2
  let c38_i32_2592 : BitVec 32 := 38#32
  let v5303 : BitVec 32 := Scalar.muli arg13 c38_i32_2592
  let c33_i32 : BitVec 32 := 33#32
  let v5304 : BitVec 32 := Scalar.addi v5303 c33_i32
  let c4_i32_2596 : BitVec 32 := 4#32
  let v5312 : BitVec 32 := Scalar.muli v5304 c4_i32_2596
  let v5313 : BitVec 32 := Scalar.addi v5311 v5312
  let c2_i32_2599 : BitVec 32 := 2#32
  let v5316 : BitVec 32 := Scalar.addi v5313 c2_i32_2599
  let v5342 : Index := Scalar.indexCast v5316
  let c0_2613 : Index := 0#32
  let c0_2614 : Index := 0#32
  ![v5342.toNat, 0, 0]
def k0_off477 (v5341 : BitVec 32) : Fin 2 → Nat :=
  let v5345 : Index := Scalar.indexCast v5341
  let c0_2615 : Index := 0#32
  ![v5345.toNat, 0]

def k0_chk169 (v5341 : BitVec 32) : Prop :=
  (∀ a, (k0_off477 v5341) a + S8x128.size a ≤ S18432x128.size a)
theorem k0_off477_inb : ∀ (v5341 : BitVec 32) (k0_hw169 : k0_chk169 v5341), ∀ a, (k0_off477 v5341) a + S8x128.size a ≤ S18432x128.size a := fun v5341 k0_hw169 => k0_hw169

def k0_off478 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2592 : BitVec 32 := 38#32
  let v5303 : BitVec 32 := Scalar.muli arg13 c38_i32_2592
  let c33_i32 : BitVec 32 := 33#32
  let v5304 : BitVec 32 := Scalar.addi v5303 c33_i32
  let c4_i32_2616 : BitVec 32 := 4#32
  let v5348 : BitVec 32 := Scalar.muli v5304 c4_i32_2616
  let c3_i32_2617 : BitVec 32 := 3#32
  let v5349 : BitVec 32 := Scalar.addi v5348 c3_i32_2617
  let v5350 : Index := Scalar.indexCast v5349
  ![v5350.toNat]
def k0_off479 (i : grid0.Coords) (k0_t2 : Fin k0_t2_loop.trips) (v5306 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2594 : BitVec 32 := 2#32
  let v5309 : BitVec 32 := Scalar.muli v2959 c2_i32_2594
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5307 : BitVec 32 := Scalar.shrui v5306 v2958
  let c1_i32_2593 : BitVec 32 := 1#32
  let v5308 : BitVec 32 := Scalar.andi v5307 c1_i32_2593
  let v5310 : BitVec 32 := Scalar.addi v5309 v5308
  let c1216_i32_2595 : BitVec 32 := 1216#32
  let v5311 : BitVec 32 := Scalar.muli v5310 c1216_i32_2595
  let c0_i32_1 : BitVec 32 := 0#32
  let c1_i32 : BitVec 32 := 1#32
  let arg13 : BitVec 32 := Scf.iv c0_i32_1 c1_i32 k0_t2
  let c38_i32_2592 : BitVec 32 := 38#32
  let v5303 : BitVec 32 := Scalar.muli arg13 c38_i32_2592
  let c33_i32 : BitVec 32 := 33#32
  let v5304 : BitVec 32 := Scalar.addi v5303 c33_i32
  let c4_i32_2596 : BitVec 32 := 4#32
  let v5312 : BitVec 32 := Scalar.muli v5304 c4_i32_2596
  let v5313 : BitVec 32 := Scalar.addi v5311 v5312
  let c3_i32_2600 : BitVec 32 := 3#32
  let v5317 : BitVec 32 := Scalar.addi v5313 c3_i32_2600
  let v5352 : Index := Scalar.indexCast v5317
  let c0_2618 : Index := 0#32
  let c0_2619 : Index := 0#32
  ![v5352.toNat, 0, 0]
def k0_off480 (v5351 : BitVec 32) : Fin 2 → Nat :=
  let v5355 : Index := Scalar.indexCast v5351
  let c0_2620 : Index := 0#32
  ![v5355.toNat, 0]

def k0_chk170 (v5351 : BitVec 32) : Prop :=
  (∀ a, (k0_off480 v5351) a + S8x128.size a ≤ S18432x128.size a)
theorem k0_off480_inb : ∀ (v5351 : BitVec 32) (k0_hw170 : k0_chk170 v5351), ∀ a, (k0_off480 v5351) a + S8x128.size a ≤ S18432x128.size a := fun v5351 k0_hw170 => k0_hw170

def k0_off481 (i : grid0.Coords) (k0_t2 : Fin k0_t2_loop.trips) (v5306 : BitVec 32) (c0_i32_2597 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2594 : BitVec 32 := 2#32
  let v5309 : BitVec 32 := Scalar.muli v2959 c2_i32_2594
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5307 : BitVec 32 := Scalar.shrui v5306 v2958
  let c1_i32_2593 : BitVec 32 := 1#32
  let v5308 : BitVec 32 := Scalar.andi v5307 c1_i32_2593
  let v5310 : BitVec 32 := Scalar.addi v5309 v5308
  let c1216_i32_2595 : BitVec 32 := 1216#32
  let v5311 : BitVec 32 := Scalar.muli v5310 c1216_i32_2595
  let c0_i32_1 : BitVec 32 := 0#32
  let c1_i32 : BitVec 32 := 1#32
  let arg13 : BitVec 32 := Scf.iv c0_i32_1 c1_i32 k0_t2
  let c38_i32_2592 : BitVec 32 := 38#32
  let v5303 : BitVec 32 := Scalar.muli arg13 c38_i32_2592
  let c33_i32 : BitVec 32 := 33#32
  let v5304 : BitVec 32 := Scalar.addi v5303 c33_i32
  let c4_i32_2596 : BitVec 32 := 4#32
  let v5312 : BitVec 32 := Scalar.muli v5304 c4_i32_2596
  let v5313 : BitVec 32 := Scalar.addi v5311 v5312
  let v5314 : BitVec 32 := Scalar.addi v5313 c0_i32_2597
  let v5358 : Index := Scalar.indexCast v5314
  let c0_2621 : Index := 0#32
  let c0_2622 : Index := 0#32
  ![v5358.toNat, 0, 0]

def k0_chk166 (i : grid0.Coords) (k0_t2 : Fin k0_t2_loop.trips) (v5306 : BitVec 32) : Prop :=
  (∀ a, (k0_off470 i k0_t2 v5306) a + S1x8x128.size a ≤ S7296x8x128.size a) ∧
  (∀ a, (k0_off473 i k0_t2 v5306) a + S1x8x128.size a ≤ S7296x8x128.size a) ∧
  (∀ a, (k0_off476 i k0_t2 v5306) a + S1x8x128.size a ≤ S7296x8x128.size a) ∧
  (∀ a, (k0_off479 i k0_t2 v5306) a + S1x8x128.size a ≤ S7296x8x128.size a) ∧
  (∀ (r : Fin 4), ∀ a, (k0_off481 i k0_t2 v5306 (BitVec.ofNat 32 r.val)) a + S1x8x128.size a ≤ S7296x8x128.size a)
theorem k0_off470_inb : ∀ (i : grid0.Coords) (k0_t2 : Fin k0_t2_loop.trips) (v5306 : BitVec 32) (k0_hw166 : k0_chk166 i k0_t2 v5306), ∀ a, (k0_off470 i k0_t2 v5306) a + S1x8x128.size a ≤ S7296x8x128.size a := fun i k0_t2 v5306 k0_hw166 => k0_hw166.1
theorem k0_off473_inb : ∀ (i : grid0.Coords) (k0_t2 : Fin k0_t2_loop.trips) (v5306 : BitVec 32) (k0_hw166 : k0_chk166 i k0_t2 v5306), ∀ a, (k0_off473 i k0_t2 v5306) a + S1x8x128.size a ≤ S7296x8x128.size a := fun i k0_t2 v5306 k0_hw166 => k0_hw166.2.1
theorem k0_off476_inb : ∀ (i : grid0.Coords) (k0_t2 : Fin k0_t2_loop.trips) (v5306 : BitVec 32) (k0_hw166 : k0_chk166 i k0_t2 v5306), ∀ a, (k0_off476 i k0_t2 v5306) a + S1x8x128.size a ≤ S7296x8x128.size a := fun i k0_t2 v5306 k0_hw166 => k0_hw166.2.2.1
theorem k0_off479_inb : ∀ (i : grid0.Coords) (k0_t2 : Fin k0_t2_loop.trips) (v5306 : BitVec 32) (k0_hw166 : k0_chk166 i k0_t2 v5306), ∀ a, (k0_off479 i k0_t2 v5306) a + S1x8x128.size a ≤ S7296x8x128.size a := fun i k0_t2 v5306 k0_hw166 => k0_hw166.2.2.2.1
theorem k0_off481_inb : ∀ (i : grid0.Coords) (k0_t2 : Fin k0_t2_loop.trips) (v5306 : BitVec 32) (k0_hw166 : k0_chk166 i k0_t2 v5306), ∀ (r : Fin 4), ∀ a, (k0_off481 i k0_t2 v5306 (BitVec.ofNat 32 r.val)) a + S1x8x128.size a ≤ S7296x8x128.size a := fun i k0_t2 v5306 k0_hw166 r => k0_hw166.2.2.2.2 r

def k0_off482 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2629 : BitVec 32 := 38#32
  let v5374 : BitVec 32 := Scalar.muli arg13 c38_i32_2629
  let c34_i32 : BitVec 32 := 34#32
  let v5375 : BitVec 32 := Scalar.addi v5374 c34_i32
  let v5376 : Index := Scalar.indexCast v5375
  ![v5376.toNat]
def k0_off483 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2629 : BitVec 32 := 38#32
  let v5374 : BitVec 32 := Scalar.muli arg13 c38_i32_2629
  let c34_i32 : BitVec 32 := 34#32
  let v5375 : BitVec 32 := Scalar.addi v5374 c34_i32
  let c4_i32_2638 : BitVec 32 := 4#32
  let v5389 : BitVec 32 := Scalar.muli v5375 c4_i32_2638
  let c0_i32_2639 : BitVec 32 := 0#32
  let v5390 : BitVec 32 := Scalar.addi v5389 c0_i32_2639
  let v5391 : Index := Scalar.indexCast v5390
  ![v5391.toNat]
def k0_off484 (i : grid0.Coords) (k0_t2 : Fin k0_t2_loop.trips) (v5377 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2631 : BitVec 32 := 2#32
  let v5380 : BitVec 32 := Scalar.muli v2959 c2_i32_2631
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5378 : BitVec 32 := Scalar.shrui v5377 v2958
  let c1_i32_2630 : BitVec 32 := 1#32
  let v5379 : BitVec 32 := Scalar.andi v5378 c1_i32_2630
  let v5381 : BitVec 32 := Scalar.addi v5380 v5379
  let c1216_i32_2632 : BitVec 32 := 1216#32
  let v5382 : BitVec 32 := Scalar.muli v5381 c1216_i32_2632
  let c0_i32_1 : BitVec 32 := 0#32
  let c1_i32 : BitVec 32 := 1#32
  let arg13 : BitVec 32 := Scf.iv c0_i32_1 c1_i32 k0_t2
  let c38_i32_2629 : BitVec 32 := 38#32
  let v5374 : BitVec 32 := Scalar.muli arg13 c38_i32_2629
  let c34_i32 : BitVec 32 := 34#32
  let v5375 : BitVec 32 := Scalar.addi v5374 c34_i32
  let c4_i32_2633 : BitVec 32 := 4#32
  let v5383 : BitVec 32 := Scalar.muli v5375 c4_i32_2633
  let v5384 : BitVec 32 := Scalar.addi v5382 v5383
  let c0_i32_2634 : BitVec 32 := 0#32
  let v5385 : BitVec 32 := Scalar.addi v5384 c0_i32_2634
  let v5393 : Index := Scalar.indexCast v5385
  let c0_2640 : Index := 0#32
  let c0_2641 : Index := 0#32
  ![v5393.toNat, 0, 0]

def k0_off485 (v5392 : BitVec 32) : Fin 2 → Nat :=
  let v5396 : Index := Scalar.indexCast v5392
  let c0_2642 : Index := 0#32
  ![v5396.toNat, 0]

def k0_chk172 (v5392 : BitVec 32) : Prop :=
  (∀ a, (k0_off485 v5392) a + S8x128.size a ≤ S18432x128.size a)
theorem k0_off485_inb : ∀ (v5392 : BitVec 32) (k0_hw172 : k0_chk172 v5392), ∀ a, (k0_off485 v5392) a + S8x128.size a ≤ S18432x128.size a := fun v5392 k0_hw172 => k0_hw172

def k0_off486 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2629 : BitVec 32 := 38#32
  let v5374 : BitVec 32 := Scalar.muli arg13 c38_i32_2629
  let c34_i32 : BitVec 32 := 34#32
  let v5375 : BitVec 32 := Scalar.addi v5374 c34_i32
  let c4_i32_2643 : BitVec 32 := 4#32
  let v5399 : BitVec 32 := Scalar.muli v5375 c4_i32_2643
  let c1_i32_2644 : BitVec 32 := 1#32
  let v5400 : BitVec 32 := Scalar.addi v5399 c1_i32_2644
  let v5401 : Index := Scalar.indexCast v5400
  ![v5401.toNat]
def k0_off487 (i : grid0.Coords) (k0_t2 : Fin k0_t2_loop.trips) (v5377 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2631 : BitVec 32 := 2#32
  let v5380 : BitVec 32 := Scalar.muli v2959 c2_i32_2631
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5378 : BitVec 32 := Scalar.shrui v5377 v2958
  let c1_i32_2630 : BitVec 32 := 1#32
  let v5379 : BitVec 32 := Scalar.andi v5378 c1_i32_2630
  let v5381 : BitVec 32 := Scalar.addi v5380 v5379
  let c1216_i32_2632 : BitVec 32 := 1216#32
  let v5382 : BitVec 32 := Scalar.muli v5381 c1216_i32_2632
  let c0_i32_1 : BitVec 32 := 0#32
  let c1_i32 : BitVec 32 := 1#32
  let arg13 : BitVec 32 := Scf.iv c0_i32_1 c1_i32 k0_t2
  let c38_i32_2629 : BitVec 32 := 38#32
  let v5374 : BitVec 32 := Scalar.muli arg13 c38_i32_2629
  let c34_i32 : BitVec 32 := 34#32
  let v5375 : BitVec 32 := Scalar.addi v5374 c34_i32
  let c4_i32_2633 : BitVec 32 := 4#32
  let v5383 : BitVec 32 := Scalar.muli v5375 c4_i32_2633
  let v5384 : BitVec 32 := Scalar.addi v5382 v5383
  let c1_i32_2635 : BitVec 32 := 1#32
  let v5386 : BitVec 32 := Scalar.addi v5384 c1_i32_2635
  let v5403 : Index := Scalar.indexCast v5386
  let c0_2645 : Index := 0#32
  let c0_2646 : Index := 0#32
  ![v5403.toNat, 0, 0]
def k0_off488 (v5402 : BitVec 32) : Fin 2 → Nat :=
  let v5406 : Index := Scalar.indexCast v5402
  let c0_2647 : Index := 0#32
  ![v5406.toNat, 0]

def k0_chk173 (v5402 : BitVec 32) : Prop :=
  (∀ a, (k0_off488 v5402) a + S8x128.size a ≤ S18432x128.size a)
theorem k0_off488_inb : ∀ (v5402 : BitVec 32) (k0_hw173 : k0_chk173 v5402), ∀ a, (k0_off488 v5402) a + S8x128.size a ≤ S18432x128.size a := fun v5402 k0_hw173 => k0_hw173

def k0_off489 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2629 : BitVec 32 := 38#32
  let v5374 : BitVec 32 := Scalar.muli arg13 c38_i32_2629
  let c34_i32 : BitVec 32 := 34#32
  let v5375 : BitVec 32 := Scalar.addi v5374 c34_i32
  let c4_i32_2648 : BitVec 32 := 4#32
  let v5409 : BitVec 32 := Scalar.muli v5375 c4_i32_2648
  let c2_i32_2649 : BitVec 32 := 2#32
  let v5410 : BitVec 32 := Scalar.addi v5409 c2_i32_2649
  let v5411 : Index := Scalar.indexCast v5410
  ![v5411.toNat]
def k0_off490 (i : grid0.Coords) (k0_t2 : Fin k0_t2_loop.trips) (v5377 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2631 : BitVec 32 := 2#32
  let v5380 : BitVec 32 := Scalar.muli v2959 c2_i32_2631
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5378 : BitVec 32 := Scalar.shrui v5377 v2958
  let c1_i32_2630 : BitVec 32 := 1#32
  let v5379 : BitVec 32 := Scalar.andi v5378 c1_i32_2630
  let v5381 : BitVec 32 := Scalar.addi v5380 v5379
  let c1216_i32_2632 : BitVec 32 := 1216#32
  let v5382 : BitVec 32 := Scalar.muli v5381 c1216_i32_2632
  let c0_i32_1 : BitVec 32 := 0#32
  let c1_i32 : BitVec 32 := 1#32
  let arg13 : BitVec 32 := Scf.iv c0_i32_1 c1_i32 k0_t2
  let c38_i32_2629 : BitVec 32 := 38#32
  let v5374 : BitVec 32 := Scalar.muli arg13 c38_i32_2629
  let c34_i32 : BitVec 32 := 34#32
  let v5375 : BitVec 32 := Scalar.addi v5374 c34_i32
  let c4_i32_2633 : BitVec 32 := 4#32
  let v5383 : BitVec 32 := Scalar.muli v5375 c4_i32_2633
  let v5384 : BitVec 32 := Scalar.addi v5382 v5383
  let c2_i32_2636 : BitVec 32 := 2#32
  let v5387 : BitVec 32 := Scalar.addi v5384 c2_i32_2636
  let v5413 : Index := Scalar.indexCast v5387
  let c0_2650 : Index := 0#32
  let c0_2651 : Index := 0#32
  ![v5413.toNat, 0, 0]
def k0_off491 (v5412 : BitVec 32) : Fin 2 → Nat :=
  let v5416 : Index := Scalar.indexCast v5412
  let c0_2652 : Index := 0#32
  ![v5416.toNat, 0]

def k0_chk174 (v5412 : BitVec 32) : Prop :=
  (∀ a, (k0_off491 v5412) a + S8x128.size a ≤ S18432x128.size a)
theorem k0_off491_inb : ∀ (v5412 : BitVec 32) (k0_hw174 : k0_chk174 v5412), ∀ a, (k0_off491 v5412) a + S8x128.size a ≤ S18432x128.size a := fun v5412 k0_hw174 => k0_hw174

def k0_off492 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2629 : BitVec 32 := 38#32
  let v5374 : BitVec 32 := Scalar.muli arg13 c38_i32_2629
  let c34_i32 : BitVec 32 := 34#32
  let v5375 : BitVec 32 := Scalar.addi v5374 c34_i32
  let c4_i32_2653 : BitVec 32 := 4#32
  let v5419 : BitVec 32 := Scalar.muli v5375 c4_i32_2653
  let c3_i32_2654 : BitVec 32 := 3#32
  let v5420 : BitVec 32 := Scalar.addi v5419 c3_i32_2654
  let v5421 : Index := Scalar.indexCast v5420
  ![v5421.toNat]
def k0_off493 (i : grid0.Coords) (k0_t2 : Fin k0_t2_loop.trips) (v5377 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2631 : BitVec 32 := 2#32
  let v5380 : BitVec 32 := Scalar.muli v2959 c2_i32_2631
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5378 : BitVec 32 := Scalar.shrui v5377 v2958
  let c1_i32_2630 : BitVec 32 := 1#32
  let v5379 : BitVec 32 := Scalar.andi v5378 c1_i32_2630
  let v5381 : BitVec 32 := Scalar.addi v5380 v5379
  let c1216_i32_2632 : BitVec 32 := 1216#32
  let v5382 : BitVec 32 := Scalar.muli v5381 c1216_i32_2632
  let c0_i32_1 : BitVec 32 := 0#32
  let c1_i32 : BitVec 32 := 1#32
  let arg13 : BitVec 32 := Scf.iv c0_i32_1 c1_i32 k0_t2
  let c38_i32_2629 : BitVec 32 := 38#32
  let v5374 : BitVec 32 := Scalar.muli arg13 c38_i32_2629
  let c34_i32 : BitVec 32 := 34#32
  let v5375 : BitVec 32 := Scalar.addi v5374 c34_i32
  let c4_i32_2633 : BitVec 32 := 4#32
  let v5383 : BitVec 32 := Scalar.muli v5375 c4_i32_2633
  let v5384 : BitVec 32 := Scalar.addi v5382 v5383
  let c3_i32_2637 : BitVec 32 := 3#32
  let v5388 : BitVec 32 := Scalar.addi v5384 c3_i32_2637
  let v5423 : Index := Scalar.indexCast v5388
  let c0_2655 : Index := 0#32
  let c0_2656 : Index := 0#32
  ![v5423.toNat, 0, 0]
def k0_off494 (v5422 : BitVec 32) : Fin 2 → Nat :=
  let v5426 : Index := Scalar.indexCast v5422
  let c0_2657 : Index := 0#32
  ![v5426.toNat, 0]

def k0_chk175 (v5422 : BitVec 32) : Prop :=
  (∀ a, (k0_off494 v5422) a + S8x128.size a ≤ S18432x128.size a)
theorem k0_off494_inb : ∀ (v5422 : BitVec 32) (k0_hw175 : k0_chk175 v5422), ∀ a, (k0_off494 v5422) a + S8x128.size a ≤ S18432x128.size a := fun v5422 k0_hw175 => k0_hw175

def k0_off495 (i : grid0.Coords) (k0_t2 : Fin k0_t2_loop.trips) (v5377 : BitVec 32) (c0_i32_2634 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2631 : BitVec 32 := 2#32
  let v5380 : BitVec 32 := Scalar.muli v2959 c2_i32_2631
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5378 : BitVec 32 := Scalar.shrui v5377 v2958
  let c1_i32_2630 : BitVec 32 := 1#32
  let v5379 : BitVec 32 := Scalar.andi v5378 c1_i32_2630
  let v5381 : BitVec 32 := Scalar.addi v5380 v5379
  let c1216_i32_2632 : BitVec 32 := 1216#32
  let v5382 : BitVec 32 := Scalar.muli v5381 c1216_i32_2632
  let c0_i32_1 : BitVec 32 := 0#32
  let c1_i32 : BitVec 32 := 1#32
  let arg13 : BitVec 32 := Scf.iv c0_i32_1 c1_i32 k0_t2
  let c38_i32_2629 : BitVec 32 := 38#32
  let v5374 : BitVec 32 := Scalar.muli arg13 c38_i32_2629
  let c34_i32 : BitVec 32 := 34#32
  let v5375 : BitVec 32 := Scalar.addi v5374 c34_i32
  let c4_i32_2633 : BitVec 32 := 4#32
  let v5383 : BitVec 32 := Scalar.muli v5375 c4_i32_2633
  let v5384 : BitVec 32 := Scalar.addi v5382 v5383
  let v5385 : BitVec 32 := Scalar.addi v5384 c0_i32_2634
  let v5429 : Index := Scalar.indexCast v5385
  let c0_2658 : Index := 0#32
  let c0_2659 : Index := 0#32
  ![v5429.toNat, 0, 0]

def k0_chk171 (i : grid0.Coords) (k0_t2 : Fin k0_t2_loop.trips) (v5377 : BitVec 32) : Prop :=
  (∀ a, (k0_off484 i k0_t2 v5377) a + S1x8x128.size a ≤ S7296x8x128.size a) ∧
  (∀ a, (k0_off487 i k0_t2 v5377) a + S1x8x128.size a ≤ S7296x8x128.size a) ∧
  (∀ a, (k0_off490 i k0_t2 v5377) a + S1x8x128.size a ≤ S7296x8x128.size a) ∧
  (∀ a, (k0_off493 i k0_t2 v5377) a + S1x8x128.size a ≤ S7296x8x128.size a) ∧
  (∀ (r : Fin 4), ∀ a, (k0_off495 i k0_t2 v5377 (BitVec.ofNat 32 r.val)) a + S1x8x128.size a ≤ S7296x8x128.size a)
theorem k0_off484_inb : ∀ (i : grid0.Coords) (k0_t2 : Fin k0_t2_loop.trips) (v5377 : BitVec 32) (k0_hw171 : k0_chk171 i k0_t2 v5377), ∀ a, (k0_off484 i k0_t2 v5377) a + S1x8x128.size a ≤ S7296x8x128.size a := fun i k0_t2 v5377 k0_hw171 => k0_hw171.1
theorem k0_off487_inb : ∀ (i : grid0.Coords) (k0_t2 : Fin k0_t2_loop.trips) (v5377 : BitVec 32) (k0_hw171 : k0_chk171 i k0_t2 v5377), ∀ a, (k0_off487 i k0_t2 v5377) a + S1x8x128.size a ≤ S7296x8x128.size a := fun i k0_t2 v5377 k0_hw171 => k0_hw171.2.1
theorem k0_off490_inb : ∀ (i : grid0.Coords) (k0_t2 : Fin k0_t2_loop.trips) (v5377 : BitVec 32) (k0_hw171 : k0_chk171 i k0_t2 v5377), ∀ a, (k0_off490 i k0_t2 v5377) a + S1x8x128.size a ≤ S7296x8x128.size a := fun i k0_t2 v5377 k0_hw171 => k0_hw171.2.2.1
theorem k0_off493_inb : ∀ (i : grid0.Coords) (k0_t2 : Fin k0_t2_loop.trips) (v5377 : BitVec 32) (k0_hw171 : k0_chk171 i k0_t2 v5377), ∀ a, (k0_off493 i k0_t2 v5377) a + S1x8x128.size a ≤ S7296x8x128.size a := fun i k0_t2 v5377 k0_hw171 => k0_hw171.2.2.2.1
theorem k0_off495_inb : ∀ (i : grid0.Coords) (k0_t2 : Fin k0_t2_loop.trips) (v5377 : BitVec 32) (k0_hw171 : k0_chk171 i k0_t2 v5377), ∀ (r : Fin 4), ∀ a, (k0_off495 i k0_t2 v5377 (BitVec.ofNat 32 r.val)) a + S1x8x128.size a ≤ S7296x8x128.size a := fun i k0_t2 v5377 k0_hw171 r => k0_hw171.2.2.2.2 r

def k0_off496 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2666 : BitVec 32 := 38#32
  let v5445 : BitVec 32 := Scalar.muli arg13 c38_i32_2666
  let c35_i32 : BitVec 32 := 35#32
  let v5446 : BitVec 32 := Scalar.addi v5445 c35_i32
  let v5447 : Index := Scalar.indexCast v5446
  ![v5447.toNat]
def k0_off497 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2666 : BitVec 32 := 38#32
  let v5445 : BitVec 32 := Scalar.muli arg13 c38_i32_2666
  let c35_i32 : BitVec 32 := 35#32
  let v5446 : BitVec 32 := Scalar.addi v5445 c35_i32
  let c4_i32_2675 : BitVec 32 := 4#32
  let v5460 : BitVec 32 := Scalar.muli v5446 c4_i32_2675
  let c0_i32_2676 : BitVec 32 := 0#32
  let v5461 : BitVec 32 := Scalar.addi v5460 c0_i32_2676
  let v5462 : Index := Scalar.indexCast v5461
  ![v5462.toNat]
def k0_off498 (i : grid0.Coords) (k0_t2 : Fin k0_t2_loop.trips) (v5448 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2668 : BitVec 32 := 2#32
  let v5451 : BitVec 32 := Scalar.muli v2959 c2_i32_2668
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5449 : BitVec 32 := Scalar.shrui v5448 v2958
  let c1_i32_2667 : BitVec 32 := 1#32
  let v5450 : BitVec 32 := Scalar.andi v5449 c1_i32_2667
  let v5452 : BitVec 32 := Scalar.addi v5451 v5450
  let c1216_i32_2669 : BitVec 32 := 1216#32
  let v5453 : BitVec 32 := Scalar.muli v5452 c1216_i32_2669
  let c0_i32_1 : BitVec 32 := 0#32
  let c1_i32 : BitVec 32 := 1#32
  let arg13 : BitVec 32 := Scf.iv c0_i32_1 c1_i32 k0_t2
  let c38_i32_2666 : BitVec 32 := 38#32
  let v5445 : BitVec 32 := Scalar.muli arg13 c38_i32_2666
  let c35_i32 : BitVec 32 := 35#32
  let v5446 : BitVec 32 := Scalar.addi v5445 c35_i32
  let c4_i32_2670 : BitVec 32 := 4#32
  let v5454 : BitVec 32 := Scalar.muli v5446 c4_i32_2670
  let v5455 : BitVec 32 := Scalar.addi v5453 v5454
  let c0_i32_2671 : BitVec 32 := 0#32
  let v5456 : BitVec 32 := Scalar.addi v5455 c0_i32_2671
  let v5464 : Index := Scalar.indexCast v5456
  let c0_2677 : Index := 0#32
  let c0_2678 : Index := 0#32
  ![v5464.toNat, 0, 0]

def k0_off499 (v5463 : BitVec 32) : Fin 2 → Nat :=
  let v5467 : Index := Scalar.indexCast v5463
  let c0_2679 : Index := 0#32
  ![v5467.toNat, 0]

def k0_chk177 (v5463 : BitVec 32) : Prop :=
  (∀ a, (k0_off499 v5463) a + S8x128.size a ≤ S18432x128.size a)
theorem k0_off499_inb : ∀ (v5463 : BitVec 32) (k0_hw177 : k0_chk177 v5463), ∀ a, (k0_off499 v5463) a + S8x128.size a ≤ S18432x128.size a := fun v5463 k0_hw177 => k0_hw177

def k0_off500 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2666 : BitVec 32 := 38#32
  let v5445 : BitVec 32 := Scalar.muli arg13 c38_i32_2666
  let c35_i32 : BitVec 32 := 35#32
  let v5446 : BitVec 32 := Scalar.addi v5445 c35_i32
  let c4_i32_2680 : BitVec 32 := 4#32
  let v5470 : BitVec 32 := Scalar.muli v5446 c4_i32_2680
  let c1_i32_2681 : BitVec 32 := 1#32
  let v5471 : BitVec 32 := Scalar.addi v5470 c1_i32_2681
  let v5472 : Index := Scalar.indexCast v5471
  ![v5472.toNat]
def k0_off501 (i : grid0.Coords) (k0_t2 : Fin k0_t2_loop.trips) (v5448 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2668 : BitVec 32 := 2#32
  let v5451 : BitVec 32 := Scalar.muli v2959 c2_i32_2668
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5449 : BitVec 32 := Scalar.shrui v5448 v2958
  let c1_i32_2667 : BitVec 32 := 1#32
  let v5450 : BitVec 32 := Scalar.andi v5449 c1_i32_2667
  let v5452 : BitVec 32 := Scalar.addi v5451 v5450
  let c1216_i32_2669 : BitVec 32 := 1216#32
  let v5453 : BitVec 32 := Scalar.muli v5452 c1216_i32_2669
  let c0_i32_1 : BitVec 32 := 0#32
  let c1_i32 : BitVec 32 := 1#32
  let arg13 : BitVec 32 := Scf.iv c0_i32_1 c1_i32 k0_t2
  let c38_i32_2666 : BitVec 32 := 38#32
  let v5445 : BitVec 32 := Scalar.muli arg13 c38_i32_2666
  let c35_i32 : BitVec 32 := 35#32
  let v5446 : BitVec 32 := Scalar.addi v5445 c35_i32
  let c4_i32_2670 : BitVec 32 := 4#32
  let v5454 : BitVec 32 := Scalar.muli v5446 c4_i32_2670
  let v5455 : BitVec 32 := Scalar.addi v5453 v5454
  let c1_i32_2672 : BitVec 32 := 1#32
  let v5457 : BitVec 32 := Scalar.addi v5455 c1_i32_2672
  let v5474 : Index := Scalar.indexCast v5457
  let c0_2682 : Index := 0#32
  let c0_2683 : Index := 0#32
  ![v5474.toNat, 0, 0]
def k0_off502 (v5473 : BitVec 32) : Fin 2 → Nat :=
  let v5477 : Index := Scalar.indexCast v5473
  let c0_2684 : Index := 0#32
  ![v5477.toNat, 0]

def k0_chk178 (v5473 : BitVec 32) : Prop :=
  (∀ a, (k0_off502 v5473) a + S8x128.size a ≤ S18432x128.size a)
theorem k0_off502_inb : ∀ (v5473 : BitVec 32) (k0_hw178 : k0_chk178 v5473), ∀ a, (k0_off502 v5473) a + S8x128.size a ≤ S18432x128.size a := fun v5473 k0_hw178 => k0_hw178

def k0_off503 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2666 : BitVec 32 := 38#32
  let v5445 : BitVec 32 := Scalar.muli arg13 c38_i32_2666
  let c35_i32 : BitVec 32 := 35#32
  let v5446 : BitVec 32 := Scalar.addi v5445 c35_i32
  let c4_i32_2685 : BitVec 32 := 4#32
  let v5480 : BitVec 32 := Scalar.muli v5446 c4_i32_2685
  let c2_i32_2686 : BitVec 32 := 2#32
  let v5481 : BitVec 32 := Scalar.addi v5480 c2_i32_2686
  let v5482 : Index := Scalar.indexCast v5481
  ![v5482.toNat]
def k0_off504 (i : grid0.Coords) (k0_t2 : Fin k0_t2_loop.trips) (v5448 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2668 : BitVec 32 := 2#32
  let v5451 : BitVec 32 := Scalar.muli v2959 c2_i32_2668
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5449 : BitVec 32 := Scalar.shrui v5448 v2958
  let c1_i32_2667 : BitVec 32 := 1#32
  let v5450 : BitVec 32 := Scalar.andi v5449 c1_i32_2667
  let v5452 : BitVec 32 := Scalar.addi v5451 v5450
  let c1216_i32_2669 : BitVec 32 := 1216#32
  let v5453 : BitVec 32 := Scalar.muli v5452 c1216_i32_2669
  let c0_i32_1 : BitVec 32 := 0#32
  let c1_i32 : BitVec 32 := 1#32
  let arg13 : BitVec 32 := Scf.iv c0_i32_1 c1_i32 k0_t2
  let c38_i32_2666 : BitVec 32 := 38#32
  let v5445 : BitVec 32 := Scalar.muli arg13 c38_i32_2666
  let c35_i32 : BitVec 32 := 35#32
  let v5446 : BitVec 32 := Scalar.addi v5445 c35_i32
  let c4_i32_2670 : BitVec 32 := 4#32
  let v5454 : BitVec 32 := Scalar.muli v5446 c4_i32_2670
  let v5455 : BitVec 32 := Scalar.addi v5453 v5454
  let c2_i32_2673 : BitVec 32 := 2#32
  let v5458 : BitVec 32 := Scalar.addi v5455 c2_i32_2673
  let v5484 : Index := Scalar.indexCast v5458
  let c0_2687 : Index := 0#32
  let c0_2688 : Index := 0#32
  ![v5484.toNat, 0, 0]
def k0_off505 (v5483 : BitVec 32) : Fin 2 → Nat :=
  let v5487 : Index := Scalar.indexCast v5483
  let c0_2689 : Index := 0#32
  ![v5487.toNat, 0]

def k0_chk179 (v5483 : BitVec 32) : Prop :=
  (∀ a, (k0_off505 v5483) a + S8x128.size a ≤ S18432x128.size a)
theorem k0_off505_inb : ∀ (v5483 : BitVec 32) (k0_hw179 : k0_chk179 v5483), ∀ a, (k0_off505 v5483) a + S8x128.size a ≤ S18432x128.size a := fun v5483 k0_hw179 => k0_hw179

def k0_off506 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2666 : BitVec 32 := 38#32
  let v5445 : BitVec 32 := Scalar.muli arg13 c38_i32_2666
  let c35_i32 : BitVec 32 := 35#32
  let v5446 : BitVec 32 := Scalar.addi v5445 c35_i32
  let c4_i32_2690 : BitVec 32 := 4#32
  let v5490 : BitVec 32 := Scalar.muli v5446 c4_i32_2690
  let c3_i32_2691 : BitVec 32 := 3#32
  let v5491 : BitVec 32 := Scalar.addi v5490 c3_i32_2691
  let v5492 : Index := Scalar.indexCast v5491
  ![v5492.toNat]
def k0_off507 (i : grid0.Coords) (k0_t2 : Fin k0_t2_loop.trips) (v5448 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2668 : BitVec 32 := 2#32
  let v5451 : BitVec 32 := Scalar.muli v2959 c2_i32_2668
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5449 : BitVec 32 := Scalar.shrui v5448 v2958
  let c1_i32_2667 : BitVec 32 := 1#32
  let v5450 : BitVec 32 := Scalar.andi v5449 c1_i32_2667
  let v5452 : BitVec 32 := Scalar.addi v5451 v5450
  let c1216_i32_2669 : BitVec 32 := 1216#32
  let v5453 : BitVec 32 := Scalar.muli v5452 c1216_i32_2669
  let c0_i32_1 : BitVec 32 := 0#32
  let c1_i32 : BitVec 32 := 1#32
  let arg13 : BitVec 32 := Scf.iv c0_i32_1 c1_i32 k0_t2
  let c38_i32_2666 : BitVec 32 := 38#32
  let v5445 : BitVec 32 := Scalar.muli arg13 c38_i32_2666
  let c35_i32 : BitVec 32 := 35#32
  let v5446 : BitVec 32 := Scalar.addi v5445 c35_i32
  let c4_i32_2670 : BitVec 32 := 4#32
  let v5454 : BitVec 32 := Scalar.muli v5446 c4_i32_2670
  let v5455 : BitVec 32 := Scalar.addi v5453 v5454
  let c3_i32_2674 : BitVec 32 := 3#32
  let v5459 : BitVec 32 := Scalar.addi v5455 c3_i32_2674
  let v5494 : Index := Scalar.indexCast v5459
  let c0_2692 : Index := 0#32
  let c0_2693 : Index := 0#32
  ![v5494.toNat, 0, 0]
def k0_off508 (v5493 : BitVec 32) : Fin 2 → Nat :=
  let v5497 : Index := Scalar.indexCast v5493
  let c0_2694 : Index := 0#32
  ![v5497.toNat, 0]

def k0_chk180 (v5493 : BitVec 32) : Prop :=
  (∀ a, (k0_off508 v5493) a + S8x128.size a ≤ S18432x128.size a)
theorem k0_off508_inb : ∀ (v5493 : BitVec 32) (k0_hw180 : k0_chk180 v5493), ∀ a, (k0_off508 v5493) a + S8x128.size a ≤ S18432x128.size a := fun v5493 k0_hw180 => k0_hw180

def k0_off509 (i : grid0.Coords) (k0_t2 : Fin k0_t2_loop.trips) (v5448 : BitVec 32) (c0_i32_2671 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2668 : BitVec 32 := 2#32
  let v5451 : BitVec 32 := Scalar.muli v2959 c2_i32_2668
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5449 : BitVec 32 := Scalar.shrui v5448 v2958
  let c1_i32_2667 : BitVec 32 := 1#32
  let v5450 : BitVec 32 := Scalar.andi v5449 c1_i32_2667
  let v5452 : BitVec 32 := Scalar.addi v5451 v5450
  let c1216_i32_2669 : BitVec 32 := 1216#32
  let v5453 : BitVec 32 := Scalar.muli v5452 c1216_i32_2669
  let c0_i32_1 : BitVec 32 := 0#32
  let c1_i32 : BitVec 32 := 1#32
  let arg13 : BitVec 32 := Scf.iv c0_i32_1 c1_i32 k0_t2
  let c38_i32_2666 : BitVec 32 := 38#32
  let v5445 : BitVec 32 := Scalar.muli arg13 c38_i32_2666
  let c35_i32 : BitVec 32 := 35#32
  let v5446 : BitVec 32 := Scalar.addi v5445 c35_i32
  let c4_i32_2670 : BitVec 32 := 4#32
  let v5454 : BitVec 32 := Scalar.muli v5446 c4_i32_2670
  let v5455 : BitVec 32 := Scalar.addi v5453 v5454
  let v5456 : BitVec 32 := Scalar.addi v5455 c0_i32_2671
  let v5500 : Index := Scalar.indexCast v5456
  let c0_2695 : Index := 0#32
  let c0_2696 : Index := 0#32
  ![v5500.toNat, 0, 0]

def k0_chk176 (i : grid0.Coords) (k0_t2 : Fin k0_t2_loop.trips) (v5448 : BitVec 32) : Prop :=
  (∀ a, (k0_off498 i k0_t2 v5448) a + S1x8x128.size a ≤ S7296x8x128.size a) ∧
  (∀ a, (k0_off501 i k0_t2 v5448) a + S1x8x128.size a ≤ S7296x8x128.size a) ∧
  (∀ a, (k0_off504 i k0_t2 v5448) a + S1x8x128.size a ≤ S7296x8x128.size a) ∧
  (∀ a, (k0_off507 i k0_t2 v5448) a + S1x8x128.size a ≤ S7296x8x128.size a) ∧
  (∀ (r : Fin 4), ∀ a, (k0_off509 i k0_t2 v5448 (BitVec.ofNat 32 r.val)) a + S1x8x128.size a ≤ S7296x8x128.size a)
theorem k0_off498_inb : ∀ (i : grid0.Coords) (k0_t2 : Fin k0_t2_loop.trips) (v5448 : BitVec 32) (k0_hw176 : k0_chk176 i k0_t2 v5448), ∀ a, (k0_off498 i k0_t2 v5448) a + S1x8x128.size a ≤ S7296x8x128.size a := fun i k0_t2 v5448 k0_hw176 => k0_hw176.1
theorem k0_off501_inb : ∀ (i : grid0.Coords) (k0_t2 : Fin k0_t2_loop.trips) (v5448 : BitVec 32) (k0_hw176 : k0_chk176 i k0_t2 v5448), ∀ a, (k0_off501 i k0_t2 v5448) a + S1x8x128.size a ≤ S7296x8x128.size a := fun i k0_t2 v5448 k0_hw176 => k0_hw176.2.1
theorem k0_off504_inb : ∀ (i : grid0.Coords) (k0_t2 : Fin k0_t2_loop.trips) (v5448 : BitVec 32) (k0_hw176 : k0_chk176 i k0_t2 v5448), ∀ a, (k0_off504 i k0_t2 v5448) a + S1x8x128.size a ≤ S7296x8x128.size a := fun i k0_t2 v5448 k0_hw176 => k0_hw176.2.2.1
theorem k0_off507_inb : ∀ (i : grid0.Coords) (k0_t2 : Fin k0_t2_loop.trips) (v5448 : BitVec 32) (k0_hw176 : k0_chk176 i k0_t2 v5448), ∀ a, (k0_off507 i k0_t2 v5448) a + S1x8x128.size a ≤ S7296x8x128.size a := fun i k0_t2 v5448 k0_hw176 => k0_hw176.2.2.2.1
theorem k0_off509_inb : ∀ (i : grid0.Coords) (k0_t2 : Fin k0_t2_loop.trips) (v5448 : BitVec 32) (k0_hw176 : k0_chk176 i k0_t2 v5448), ∀ (r : Fin 4), ∀ a, (k0_off509 i k0_t2 v5448 (BitVec.ofNat 32 r.val)) a + S1x8x128.size a ≤ S7296x8x128.size a := fun i k0_t2 v5448 k0_hw176 r => k0_hw176.2.2.2.2 r

def k0_off510 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2703 : BitVec 32 := 38#32
  let v5516 : BitVec 32 := Scalar.muli arg13 c38_i32_2703
  let c36_i32 : BitVec 32 := 36#32
  let v5517 : BitVec 32 := Scalar.addi v5516 c36_i32
  let v5518 : Index := Scalar.indexCast v5517
  ![v5518.toNat]
def k0_off511 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2703 : BitVec 32 := 38#32
  let v5516 : BitVec 32 := Scalar.muli arg13 c38_i32_2703
  let c36_i32 : BitVec 32 := 36#32
  let v5517 : BitVec 32 := Scalar.addi v5516 c36_i32
  let c4_i32_2712 : BitVec 32 := 4#32
  let v5531 : BitVec 32 := Scalar.muli v5517 c4_i32_2712
  let c0_i32_2713 : BitVec 32 := 0#32
  let v5532 : BitVec 32 := Scalar.addi v5531 c0_i32_2713
  let v5533 : Index := Scalar.indexCast v5532
  ![v5533.toNat]
def k0_off512 (i : grid0.Coords) (k0_t2 : Fin k0_t2_loop.trips) (v5519 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2705 : BitVec 32 := 2#32
  let v5522 : BitVec 32 := Scalar.muli v2959 c2_i32_2705
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5520 : BitVec 32 := Scalar.shrui v5519 v2958
  let c1_i32_2704 : BitVec 32 := 1#32
  let v5521 : BitVec 32 := Scalar.andi v5520 c1_i32_2704
  let v5523 : BitVec 32 := Scalar.addi v5522 v5521
  let c1216_i32_2706 : BitVec 32 := 1216#32
  let v5524 : BitVec 32 := Scalar.muli v5523 c1216_i32_2706
  let c0_i32_1 : BitVec 32 := 0#32
  let c1_i32 : BitVec 32 := 1#32
  let arg13 : BitVec 32 := Scf.iv c0_i32_1 c1_i32 k0_t2
  let c38_i32_2703 : BitVec 32 := 38#32
  let v5516 : BitVec 32 := Scalar.muli arg13 c38_i32_2703
  let c36_i32 : BitVec 32 := 36#32
  let v5517 : BitVec 32 := Scalar.addi v5516 c36_i32
  let c4_i32_2707 : BitVec 32 := 4#32
  let v5525 : BitVec 32 := Scalar.muli v5517 c4_i32_2707
  let v5526 : BitVec 32 := Scalar.addi v5524 v5525
  let c0_i32_2708 : BitVec 32 := 0#32
  let v5527 : BitVec 32 := Scalar.addi v5526 c0_i32_2708
  let v5535 : Index := Scalar.indexCast v5527
  let c0_2714 : Index := 0#32
  let c0_2715 : Index := 0#32
  ![v5535.toNat, 0, 0]

def k0_off513 (v5534 : BitVec 32) : Fin 2 → Nat :=
  let v5538 : Index := Scalar.indexCast v5534
  let c0_2716 : Index := 0#32
  ![v5538.toNat, 0]

def k0_chk182 (v5534 : BitVec 32) : Prop :=
  (∀ a, (k0_off513 v5534) a + S8x128.size a ≤ S18432x128.size a)
theorem k0_off513_inb : ∀ (v5534 : BitVec 32) (k0_hw182 : k0_chk182 v5534), ∀ a, (k0_off513 v5534) a + S8x128.size a ≤ S18432x128.size a := fun v5534 k0_hw182 => k0_hw182

def k0_off514 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2703 : BitVec 32 := 38#32
  let v5516 : BitVec 32 := Scalar.muli arg13 c38_i32_2703
  let c36_i32 : BitVec 32 := 36#32
  let v5517 : BitVec 32 := Scalar.addi v5516 c36_i32
  let c4_i32_2717 : BitVec 32 := 4#32
  let v5541 : BitVec 32 := Scalar.muli v5517 c4_i32_2717
  let c1_i32_2718 : BitVec 32 := 1#32
  let v5542 : BitVec 32 := Scalar.addi v5541 c1_i32_2718
  let v5543 : Index := Scalar.indexCast v5542
  ![v5543.toNat]
def k0_off515 (i : grid0.Coords) (k0_t2 : Fin k0_t2_loop.trips) (v5519 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2705 : BitVec 32 := 2#32
  let v5522 : BitVec 32 := Scalar.muli v2959 c2_i32_2705
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5520 : BitVec 32 := Scalar.shrui v5519 v2958
  let c1_i32_2704 : BitVec 32 := 1#32
  let v5521 : BitVec 32 := Scalar.andi v5520 c1_i32_2704
  let v5523 : BitVec 32 := Scalar.addi v5522 v5521
  let c1216_i32_2706 : BitVec 32 := 1216#32
  let v5524 : BitVec 32 := Scalar.muli v5523 c1216_i32_2706
  let c0_i32_1 : BitVec 32 := 0#32
  let c1_i32 : BitVec 32 := 1#32
  let arg13 : BitVec 32 := Scf.iv c0_i32_1 c1_i32 k0_t2
  let c38_i32_2703 : BitVec 32 := 38#32
  let v5516 : BitVec 32 := Scalar.muli arg13 c38_i32_2703
  let c36_i32 : BitVec 32 := 36#32
  let v5517 : BitVec 32 := Scalar.addi v5516 c36_i32
  let c4_i32_2707 : BitVec 32 := 4#32
  let v5525 : BitVec 32 := Scalar.muli v5517 c4_i32_2707
  let v5526 : BitVec 32 := Scalar.addi v5524 v5525
  let c1_i32_2709 : BitVec 32 := 1#32
  let v5528 : BitVec 32 := Scalar.addi v5526 c1_i32_2709
  let v5545 : Index := Scalar.indexCast v5528
  let c0_2719 : Index := 0#32
  let c0_2720 : Index := 0#32
  ![v5545.toNat, 0, 0]
def k0_off516 (v5544 : BitVec 32) : Fin 2 → Nat :=
  let v5548 : Index := Scalar.indexCast v5544
  let c0_2721 : Index := 0#32
  ![v5548.toNat, 0]

def k0_chk183 (v5544 : BitVec 32) : Prop :=
  (∀ a, (k0_off516 v5544) a + S8x128.size a ≤ S18432x128.size a)
theorem k0_off516_inb : ∀ (v5544 : BitVec 32) (k0_hw183 : k0_chk183 v5544), ∀ a, (k0_off516 v5544) a + S8x128.size a ≤ S18432x128.size a := fun v5544 k0_hw183 => k0_hw183

def k0_off517 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2703 : BitVec 32 := 38#32
  let v5516 : BitVec 32 := Scalar.muli arg13 c38_i32_2703
  let c36_i32 : BitVec 32 := 36#32
  let v5517 : BitVec 32 := Scalar.addi v5516 c36_i32
  let c4_i32_2722 : BitVec 32 := 4#32
  let v5551 : BitVec 32 := Scalar.muli v5517 c4_i32_2722
  let c2_i32_2723 : BitVec 32 := 2#32
  let v5552 : BitVec 32 := Scalar.addi v5551 c2_i32_2723
  let v5553 : Index := Scalar.indexCast v5552
  ![v5553.toNat]
def k0_off518 (i : grid0.Coords) (k0_t2 : Fin k0_t2_loop.trips) (v5519 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2705 : BitVec 32 := 2#32
  let v5522 : BitVec 32 := Scalar.muli v2959 c2_i32_2705
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5520 : BitVec 32 := Scalar.shrui v5519 v2958
  let c1_i32_2704 : BitVec 32 := 1#32
  let v5521 : BitVec 32 := Scalar.andi v5520 c1_i32_2704
  let v5523 : BitVec 32 := Scalar.addi v5522 v5521
  let c1216_i32_2706 : BitVec 32 := 1216#32
  let v5524 : BitVec 32 := Scalar.muli v5523 c1216_i32_2706
  let c0_i32_1 : BitVec 32 := 0#32
  let c1_i32 : BitVec 32 := 1#32
  let arg13 : BitVec 32 := Scf.iv c0_i32_1 c1_i32 k0_t2
  let c38_i32_2703 : BitVec 32 := 38#32
  let v5516 : BitVec 32 := Scalar.muli arg13 c38_i32_2703
  let c36_i32 : BitVec 32 := 36#32
  let v5517 : BitVec 32 := Scalar.addi v5516 c36_i32
  let c4_i32_2707 : BitVec 32 := 4#32
  let v5525 : BitVec 32 := Scalar.muli v5517 c4_i32_2707
  let v5526 : BitVec 32 := Scalar.addi v5524 v5525
  let c2_i32_2710 : BitVec 32 := 2#32
  let v5529 : BitVec 32 := Scalar.addi v5526 c2_i32_2710
  let v5555 : Index := Scalar.indexCast v5529
  let c0_2724 : Index := 0#32
  let c0_2725 : Index := 0#32
  ![v5555.toNat, 0, 0]
def k0_off519 (v5554 : BitVec 32) : Fin 2 → Nat :=
  let v5558 : Index := Scalar.indexCast v5554
  let c0_2726 : Index := 0#32
  ![v5558.toNat, 0]

def k0_chk184 (v5554 : BitVec 32) : Prop :=
  (∀ a, (k0_off519 v5554) a + S8x128.size a ≤ S18432x128.size a)
theorem k0_off519_inb : ∀ (v5554 : BitVec 32) (k0_hw184 : k0_chk184 v5554), ∀ a, (k0_off519 v5554) a + S8x128.size a ≤ S18432x128.size a := fun v5554 k0_hw184 => k0_hw184

def k0_off520 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2703 : BitVec 32 := 38#32
  let v5516 : BitVec 32 := Scalar.muli arg13 c38_i32_2703
  let c36_i32 : BitVec 32 := 36#32
  let v5517 : BitVec 32 := Scalar.addi v5516 c36_i32
  let c4_i32_2727 : BitVec 32 := 4#32
  let v5561 : BitVec 32 := Scalar.muli v5517 c4_i32_2727
  let c3_i32_2728 : BitVec 32 := 3#32
  let v5562 : BitVec 32 := Scalar.addi v5561 c3_i32_2728
  let v5563 : Index := Scalar.indexCast v5562
  ![v5563.toNat]
def k0_off521 (i : grid0.Coords) (k0_t2 : Fin k0_t2_loop.trips) (v5519 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2705 : BitVec 32 := 2#32
  let v5522 : BitVec 32 := Scalar.muli v2959 c2_i32_2705
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5520 : BitVec 32 := Scalar.shrui v5519 v2958
  let c1_i32_2704 : BitVec 32 := 1#32
  let v5521 : BitVec 32 := Scalar.andi v5520 c1_i32_2704
  let v5523 : BitVec 32 := Scalar.addi v5522 v5521
  let c1216_i32_2706 : BitVec 32 := 1216#32
  let v5524 : BitVec 32 := Scalar.muli v5523 c1216_i32_2706
  let c0_i32_1 : BitVec 32 := 0#32
  let c1_i32 : BitVec 32 := 1#32
  let arg13 : BitVec 32 := Scf.iv c0_i32_1 c1_i32 k0_t2
  let c38_i32_2703 : BitVec 32 := 38#32
  let v5516 : BitVec 32 := Scalar.muli arg13 c38_i32_2703
  let c36_i32 : BitVec 32 := 36#32
  let v5517 : BitVec 32 := Scalar.addi v5516 c36_i32
  let c4_i32_2707 : BitVec 32 := 4#32
  let v5525 : BitVec 32 := Scalar.muli v5517 c4_i32_2707
  let v5526 : BitVec 32 := Scalar.addi v5524 v5525
  let c3_i32_2711 : BitVec 32 := 3#32
  let v5530 : BitVec 32 := Scalar.addi v5526 c3_i32_2711
  let v5565 : Index := Scalar.indexCast v5530
  let c0_2729 : Index := 0#32
  let c0_2730 : Index := 0#32
  ![v5565.toNat, 0, 0]
def k0_off522 (v5564 : BitVec 32) : Fin 2 → Nat :=
  let v5568 : Index := Scalar.indexCast v5564
  let c0_2731 : Index := 0#32
  ![v5568.toNat, 0]

def k0_chk185 (v5564 : BitVec 32) : Prop :=
  (∀ a, (k0_off522 v5564) a + S8x128.size a ≤ S18432x128.size a)
theorem k0_off522_inb : ∀ (v5564 : BitVec 32) (k0_hw185 : k0_chk185 v5564), ∀ a, (k0_off522 v5564) a + S8x128.size a ≤ S18432x128.size a := fun v5564 k0_hw185 => k0_hw185

def k0_off523 (i : grid0.Coords) (k0_t2 : Fin k0_t2_loop.trips) (v5519 : BitVec 32) (c0_i32_2708 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2705 : BitVec 32 := 2#32
  let v5522 : BitVec 32 := Scalar.muli v2959 c2_i32_2705
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5520 : BitVec 32 := Scalar.shrui v5519 v2958
  let c1_i32_2704 : BitVec 32 := 1#32
  let v5521 : BitVec 32 := Scalar.andi v5520 c1_i32_2704
  let v5523 : BitVec 32 := Scalar.addi v5522 v5521
  let c1216_i32_2706 : BitVec 32 := 1216#32
  let v5524 : BitVec 32 := Scalar.muli v5523 c1216_i32_2706
  let c0_i32_1 : BitVec 32 := 0#32
  let c1_i32 : BitVec 32 := 1#32
  let arg13 : BitVec 32 := Scf.iv c0_i32_1 c1_i32 k0_t2
  let c38_i32_2703 : BitVec 32 := 38#32
  let v5516 : BitVec 32 := Scalar.muli arg13 c38_i32_2703
  let c36_i32 : BitVec 32 := 36#32
  let v5517 : BitVec 32 := Scalar.addi v5516 c36_i32
  let c4_i32_2707 : BitVec 32 := 4#32
  let v5525 : BitVec 32 := Scalar.muli v5517 c4_i32_2707
  let v5526 : BitVec 32 := Scalar.addi v5524 v5525
  let v5527 : BitVec 32 := Scalar.addi v5526 c0_i32_2708
  let v5571 : Index := Scalar.indexCast v5527
  let c0_2732 : Index := 0#32
  let c0_2733 : Index := 0#32
  ![v5571.toNat, 0, 0]

def k0_chk181 (i : grid0.Coords) (k0_t2 : Fin k0_t2_loop.trips) (v5519 : BitVec 32) : Prop :=
  (∀ a, (k0_off512 i k0_t2 v5519) a + S1x8x128.size a ≤ S7296x8x128.size a) ∧
  (∀ a, (k0_off515 i k0_t2 v5519) a + S1x8x128.size a ≤ S7296x8x128.size a) ∧
  (∀ a, (k0_off518 i k0_t2 v5519) a + S1x8x128.size a ≤ S7296x8x128.size a) ∧
  (∀ a, (k0_off521 i k0_t2 v5519) a + S1x8x128.size a ≤ S7296x8x128.size a) ∧
  (∀ (r : Fin 4), ∀ a, (k0_off523 i k0_t2 v5519 (BitVec.ofNat 32 r.val)) a + S1x8x128.size a ≤ S7296x8x128.size a)
theorem k0_off512_inb : ∀ (i : grid0.Coords) (k0_t2 : Fin k0_t2_loop.trips) (v5519 : BitVec 32) (k0_hw181 : k0_chk181 i k0_t2 v5519), ∀ a, (k0_off512 i k0_t2 v5519) a + S1x8x128.size a ≤ S7296x8x128.size a := fun i k0_t2 v5519 k0_hw181 => k0_hw181.1
theorem k0_off515_inb : ∀ (i : grid0.Coords) (k0_t2 : Fin k0_t2_loop.trips) (v5519 : BitVec 32) (k0_hw181 : k0_chk181 i k0_t2 v5519), ∀ a, (k0_off515 i k0_t2 v5519) a + S1x8x128.size a ≤ S7296x8x128.size a := fun i k0_t2 v5519 k0_hw181 => k0_hw181.2.1
theorem k0_off518_inb : ∀ (i : grid0.Coords) (k0_t2 : Fin k0_t2_loop.trips) (v5519 : BitVec 32) (k0_hw181 : k0_chk181 i k0_t2 v5519), ∀ a, (k0_off518 i k0_t2 v5519) a + S1x8x128.size a ≤ S7296x8x128.size a := fun i k0_t2 v5519 k0_hw181 => k0_hw181.2.2.1
theorem k0_off521_inb : ∀ (i : grid0.Coords) (k0_t2 : Fin k0_t2_loop.trips) (v5519 : BitVec 32) (k0_hw181 : k0_chk181 i k0_t2 v5519), ∀ a, (k0_off521 i k0_t2 v5519) a + S1x8x128.size a ≤ S7296x8x128.size a := fun i k0_t2 v5519 k0_hw181 => k0_hw181.2.2.2.1
theorem k0_off523_inb : ∀ (i : grid0.Coords) (k0_t2 : Fin k0_t2_loop.trips) (v5519 : BitVec 32) (k0_hw181 : k0_chk181 i k0_t2 v5519), ∀ (r : Fin 4), ∀ a, (k0_off523 i k0_t2 v5519 (BitVec.ofNat 32 r.val)) a + S1x8x128.size a ≤ S7296x8x128.size a := fun i k0_t2 v5519 k0_hw181 r => k0_hw181.2.2.2.2 r

def k0_off524 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2740 : BitVec 32 := 38#32
  let v5587 : BitVec 32 := Scalar.muli arg13 c38_i32_2740
  let c37_i32 : BitVec 32 := 37#32
  let v5588 : BitVec 32 := Scalar.addi v5587 c37_i32
  let v5589 : Index := Scalar.indexCast v5588
  ![v5589.toNat]
def k0_off525 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2740 : BitVec 32 := 38#32
  let v5587 : BitVec 32 := Scalar.muli arg13 c38_i32_2740
  let c37_i32 : BitVec 32 := 37#32
  let v5588 : BitVec 32 := Scalar.addi v5587 c37_i32
  let c4_i32_2749 : BitVec 32 := 4#32
  let v5602 : BitVec 32 := Scalar.muli v5588 c4_i32_2749
  let c0_i32_2750 : BitVec 32 := 0#32
  let v5603 : BitVec 32 := Scalar.addi v5602 c0_i32_2750
  let v5604 : Index := Scalar.indexCast v5603
  ![v5604.toNat]
def k0_off526 (i : grid0.Coords) (k0_t2 : Fin k0_t2_loop.trips) (v5590 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2742 : BitVec 32 := 2#32
  let v5593 : BitVec 32 := Scalar.muli v2959 c2_i32_2742
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5591 : BitVec 32 := Scalar.shrui v5590 v2958
  let c1_i32_2741 : BitVec 32 := 1#32
  let v5592 : BitVec 32 := Scalar.andi v5591 c1_i32_2741
  let v5594 : BitVec 32 := Scalar.addi v5593 v5592
  let c1216_i32_2743 : BitVec 32 := 1216#32
  let v5595 : BitVec 32 := Scalar.muli v5594 c1216_i32_2743
  let c0_i32_1 : BitVec 32 := 0#32
  let c1_i32 : BitVec 32 := 1#32
  let arg13 : BitVec 32 := Scf.iv c0_i32_1 c1_i32 k0_t2
  let c38_i32_2740 : BitVec 32 := 38#32
  let v5587 : BitVec 32 := Scalar.muli arg13 c38_i32_2740
  let c37_i32 : BitVec 32 := 37#32
  let v5588 : BitVec 32 := Scalar.addi v5587 c37_i32
  let c4_i32_2744 : BitVec 32 := 4#32
  let v5596 : BitVec 32 := Scalar.muli v5588 c4_i32_2744
  let v5597 : BitVec 32 := Scalar.addi v5595 v5596
  let c0_i32_2745 : BitVec 32 := 0#32
  let v5598 : BitVec 32 := Scalar.addi v5597 c0_i32_2745
  let v5606 : Index := Scalar.indexCast v5598
  let c0_2751 : Index := 0#32
  let c0_2752 : Index := 0#32
  ![v5606.toNat, 0, 0]

def k0_off527 (v5605 : BitVec 32) : Fin 2 → Nat :=
  let v5609 : Index := Scalar.indexCast v5605
  let c0_2753 : Index := 0#32
  ![v5609.toNat, 0]

def k0_chk187 (v5605 : BitVec 32) : Prop :=
  (∀ a, (k0_off527 v5605) a + S8x128.size a ≤ S18432x128.size a)
theorem k0_off527_inb : ∀ (v5605 : BitVec 32) (k0_hw187 : k0_chk187 v5605), ∀ a, (k0_off527 v5605) a + S8x128.size a ≤ S18432x128.size a := fun v5605 k0_hw187 => k0_hw187

def k0_off528 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2740 : BitVec 32 := 38#32
  let v5587 : BitVec 32 := Scalar.muli arg13 c38_i32_2740
  let c37_i32 : BitVec 32 := 37#32
  let v5588 : BitVec 32 := Scalar.addi v5587 c37_i32
  let c4_i32_2754 : BitVec 32 := 4#32
  let v5612 : BitVec 32 := Scalar.muli v5588 c4_i32_2754
  let c1_i32_2755 : BitVec 32 := 1#32
  let v5613 : BitVec 32 := Scalar.addi v5612 c1_i32_2755
  let v5614 : Index := Scalar.indexCast v5613
  ![v5614.toNat]
def k0_off529 (i : grid0.Coords) (k0_t2 : Fin k0_t2_loop.trips) (v5590 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2742 : BitVec 32 := 2#32
  let v5593 : BitVec 32 := Scalar.muli v2959 c2_i32_2742
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5591 : BitVec 32 := Scalar.shrui v5590 v2958
  let c1_i32_2741 : BitVec 32 := 1#32
  let v5592 : BitVec 32 := Scalar.andi v5591 c1_i32_2741
  let v5594 : BitVec 32 := Scalar.addi v5593 v5592
  let c1216_i32_2743 : BitVec 32 := 1216#32
  let v5595 : BitVec 32 := Scalar.muli v5594 c1216_i32_2743
  let c0_i32_1 : BitVec 32 := 0#32
  let c1_i32 : BitVec 32 := 1#32
  let arg13 : BitVec 32 := Scf.iv c0_i32_1 c1_i32 k0_t2
  let c38_i32_2740 : BitVec 32 := 38#32
  let v5587 : BitVec 32 := Scalar.muli arg13 c38_i32_2740
  let c37_i32 : BitVec 32 := 37#32
  let v5588 : BitVec 32 := Scalar.addi v5587 c37_i32
  let c4_i32_2744 : BitVec 32 := 4#32
  let v5596 : BitVec 32 := Scalar.muli v5588 c4_i32_2744
  let v5597 : BitVec 32 := Scalar.addi v5595 v5596
  let c1_i32_2746 : BitVec 32 := 1#32
  let v5599 : BitVec 32 := Scalar.addi v5597 c1_i32_2746
  let v5616 : Index := Scalar.indexCast v5599
  let c0_2756 : Index := 0#32
  let c0_2757 : Index := 0#32
  ![v5616.toNat, 0, 0]
def k0_off530 (v5615 : BitVec 32) : Fin 2 → Nat :=
  let v5619 : Index := Scalar.indexCast v5615
  let c0_2758 : Index := 0#32
  ![v5619.toNat, 0]

def k0_chk188 (v5615 : BitVec 32) : Prop :=
  (∀ a, (k0_off530 v5615) a + S8x128.size a ≤ S18432x128.size a)
theorem k0_off530_inb : ∀ (v5615 : BitVec 32) (k0_hw188 : k0_chk188 v5615), ∀ a, (k0_off530 v5615) a + S8x128.size a ≤ S18432x128.size a := fun v5615 k0_hw188 => k0_hw188

def k0_off531 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2740 : BitVec 32 := 38#32
  let v5587 : BitVec 32 := Scalar.muli arg13 c38_i32_2740
  let c37_i32 : BitVec 32 := 37#32
  let v5588 : BitVec 32 := Scalar.addi v5587 c37_i32
  let c4_i32_2759 : BitVec 32 := 4#32
  let v5622 : BitVec 32 := Scalar.muli v5588 c4_i32_2759
  let c2_i32_2760 : BitVec 32 := 2#32
  let v5623 : BitVec 32 := Scalar.addi v5622 c2_i32_2760
  let v5624 : Index := Scalar.indexCast v5623
  ![v5624.toNat]
def k0_off532 (i : grid0.Coords) (k0_t2 : Fin k0_t2_loop.trips) (v5590 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2742 : BitVec 32 := 2#32
  let v5593 : BitVec 32 := Scalar.muli v2959 c2_i32_2742
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5591 : BitVec 32 := Scalar.shrui v5590 v2958
  let c1_i32_2741 : BitVec 32 := 1#32
  let v5592 : BitVec 32 := Scalar.andi v5591 c1_i32_2741
  let v5594 : BitVec 32 := Scalar.addi v5593 v5592
  let c1216_i32_2743 : BitVec 32 := 1216#32
  let v5595 : BitVec 32 := Scalar.muli v5594 c1216_i32_2743
  let c0_i32_1 : BitVec 32 := 0#32
  let c1_i32 : BitVec 32 := 1#32
  let arg13 : BitVec 32 := Scf.iv c0_i32_1 c1_i32 k0_t2
  let c38_i32_2740 : BitVec 32 := 38#32
  let v5587 : BitVec 32 := Scalar.muli arg13 c38_i32_2740
  let c37_i32 : BitVec 32 := 37#32
  let v5588 : BitVec 32 := Scalar.addi v5587 c37_i32
  let c4_i32_2744 : BitVec 32 := 4#32
  let v5596 : BitVec 32 := Scalar.muli v5588 c4_i32_2744
  let v5597 : BitVec 32 := Scalar.addi v5595 v5596
  let c2_i32_2747 : BitVec 32 := 2#32
  let v5600 : BitVec 32 := Scalar.addi v5597 c2_i32_2747
  let v5626 : Index := Scalar.indexCast v5600
  let c0_2761 : Index := 0#32
  let c0_2762 : Index := 0#32
  ![v5626.toNat, 0, 0]
def k0_off533 (v5625 : BitVec 32) : Fin 2 → Nat :=
  let v5629 : Index := Scalar.indexCast v5625
  let c0_2763 : Index := 0#32
  ![v5629.toNat, 0]

def k0_chk189 (v5625 : BitVec 32) : Prop :=
  (∀ a, (k0_off533 v5625) a + S8x128.size a ≤ S18432x128.size a)
theorem k0_off533_inb : ∀ (v5625 : BitVec 32) (k0_hw189 : k0_chk189 v5625), ∀ a, (k0_off533 v5625) a + S8x128.size a ≤ S18432x128.size a := fun v5625 k0_hw189 => k0_hw189

def k0_off534 (k0_t2 : Fin k0_t2_loop.trips) : Fin 1 → Nat :=
  let c0_i32_1 : BitVec 32 := 0#32
  let c1_i32 : BitVec 32 := 1#32
  let arg13 : BitVec 32 := Scf.iv c0_i32_1 c1_i32 k0_t2
  let c38_i32_2740 : BitVec 32 := 38#32
  let v5587 : BitVec 32 := Scalar.muli arg13 c38_i32_2740
  let c37_i32 : BitVec 32 := 37#32
  let v5588 : BitVec 32 := Scalar.addi v5587 c37_i32
  let c4_i32_2764 : BitVec 32 := 4#32
  let v5632 : BitVec 32 := Scalar.muli v5588 c4_i32_2764
  let c3_i32_2765 : BitVec 32 := 3#32
  let v5633 : BitVec 32 := Scalar.addi v5632 c3_i32_2765
  let v5634 : Index := Scalar.indexCast v5633
  ![v5634.toNat]
def k0_off535 (i : grid0.Coords) (k0_t2 : Fin k0_t2_loop.trips) (v5590 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2742 : BitVec 32 := 2#32
  let v5593 : BitVec 32 := Scalar.muli v2959 c2_i32_2742
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5591 : BitVec 32 := Scalar.shrui v5590 v2958
  let c1_i32_2741 : BitVec 32 := 1#32
  let v5592 : BitVec 32 := Scalar.andi v5591 c1_i32_2741
  let v5594 : BitVec 32 := Scalar.addi v5593 v5592
  let c1216_i32_2743 : BitVec 32 := 1216#32
  let v5595 : BitVec 32 := Scalar.muli v5594 c1216_i32_2743
  let c0_i32_1 : BitVec 32 := 0#32
  let c1_i32 : BitVec 32 := 1#32
  let arg13 : BitVec 32 := Scf.iv c0_i32_1 c1_i32 k0_t2
  let c38_i32_2740 : BitVec 32 := 38#32
  let v5587 : BitVec 32 := Scalar.muli arg13 c38_i32_2740
  let c37_i32 : BitVec 32 := 37#32
  let v5588 : BitVec 32 := Scalar.addi v5587 c37_i32
  let c4_i32_2744 : BitVec 32 := 4#32
  let v5596 : BitVec 32 := Scalar.muli v5588 c4_i32_2744
  let v5597 : BitVec 32 := Scalar.addi v5595 v5596
  let c3_i32_2748 : BitVec 32 := 3#32
  let v5601 : BitVec 32 := Scalar.addi v5597 c3_i32_2748
  let v5636 : Index := Scalar.indexCast v5601
  let c0_2766 : Index := 0#32
  let c0_2767 : Index := 0#32
  ![v5636.toNat, 0, 0]
def k0_off536 (v5635 : BitVec 32) : Fin 2 → Nat :=
  let v5639 : Index := Scalar.indexCast v5635
  let c0_2768 : Index := 0#32
  ![v5639.toNat, 0]

def k0_chk190 (v5635 : BitVec 32) : Prop :=
  (∀ a, (k0_off536 v5635) a + S8x128.size a ≤ S18432x128.size a)
theorem k0_off536_inb : ∀ (v5635 : BitVec 32) (k0_hw190 : k0_chk190 v5635), ∀ a, (k0_off536 v5635) a + S8x128.size a ≤ S18432x128.size a := fun v5635 k0_hw190 => k0_hw190

def k0_off537 (i : grid0.Coords) (k0_t2 : Fin k0_t2_loop.trips) (v5590 : BitVec 32) (c0_i32_2745 : BitVec 32) : Fin 3 → Nat :=
  let c2_i32_1355 : BitVec 32 := 2#32
  let arg0 : BitVec 32 := BitVec.ofNat 32 (i 0).val
  let v2938 : BitVec 32 := Scalar.muli c2_i32_1355 arg0
  let c1_i32_1356 : BitVec 32 := 1#32
  let v2939 : BitVec 32 := Scalar.subi v2938 c1_i32_1356
  let c0_i32_1357 : BitVec 32 := 0#32
  let v2940 : BitVec 32 := Scalar.maxsi v2939 c0_i32_1357
  let c3_i32_1364 : BitVec 32 := 3#32
  let v2959 : BitVec 32 := Scalar.remsi v2940 c3_i32_1364
  let c2_i32_2742 : BitVec 32 := 2#32
  let v5593 : BitVec 32 := Scalar.muli v2959 c2_i32_2742
  let c48_i32 : BitVec 32 := 48#32
  let v2941 : BitVec 32 := Scalar.remsi v2940 c48_i32
  let c0_i32_1358 : BitVec 32 := 0#32
  let v2943 : BitVec 1 := Scalar.cmpi .sgt v2941 c0_i32_1358
  let v2944 : BitVec 32 := Scalar.extui v2943
  let c0_i32_1359 : BitVec 32 := 0#32
  let v2945 : BitVec 1 := Scalar.cmpi .slt v2941 c0_i32_1359
  let v2946 : BitVec 32 := Scalar.extui v2945
  let v2947 : BitVec 32 := Scalar.subi v2944 v2946
  let c3_i32 : BitVec 32 := 3#32
  let c0_i32_1360 : BitVec 32 := 0#32
  let v2948 : BitVec 1 := Scalar.cmpi .sgt c3_i32 c0_i32_1360
  let v2949 : BitVec 32 := Scalar.extui v2948
  let c0_i32_1361 : BitVec 32 := 0#32
  let v2950 : BitVec 1 := Scalar.cmpi .slt c3_i32 c0_i32_1361
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1362 : BitVec 32 := 0#32
  let v2955 : BitVec 1 := Scalar.cmpi .ne v2954 c0_i32_1362
  let v2956 : BitVec 1 := Scalar.andi v2953 v2955
  let v2942 : BitVec 32 := Scalar.divsi v2941 c3_i32
  let c1_i32_1363 : BitVec 32 := 1#32
  let v2957 : BitVec 32 := Scalar.subi v2942 c1_i32_1363
  let v2958 : BitVec 32 := Scalar.select v2956 v2957 v2942
  let v5591 : BitVec 32 := Scalar.shrui v5590 v2958
  let c1_i32_2741 : BitVec 32 := 1#32
  let v5592 : BitVec 32 := Scalar.andi v5591 c1_i32_2741
  let v5594 : BitVec 32 := Scalar.addi v5593 v5592
  let c1216_i32_2743 : BitVec 32 := 1216#32
  let v5595 : BitVec 32 := Scalar.muli v5594 c1216_i32_2743
  let c0_i32_1 : BitVec 32 := 0#32
  let c1_i32 : BitVec 32 := 1#32
  let arg13 : BitVec 32 := Scf.iv c0_i32_1 c1_i32 k0_t2
  let c38_i32_2740 : BitVec 32 := 38#32
  let v5587 : BitVec 32 := Scalar.muli arg13 c38_i32_2740
  let c37_i32 : BitVec 32 := 37#32
  let v5588 : BitVec 32 := Scalar.addi v5587 c37_i32
  let c4_i32_2744 : BitVec 32 := 4#32
  let v5596 : BitVec 32 := Scalar.muli v5588 c4_i32_2744
  let v5597 : BitVec 32 := Scalar.addi v5595 v5596
  let v5598 : BitVec 32 := Scalar.addi v5597 c0_i32_2745
  let v5642 : Index := Scalar.indexCast v5598
  let c0_2769 : Index := 0#32
  let c0_2770 : Index := 0#32
  ![v5642.toNat, 0, 0]

def k0_chk186 (i : grid0.Coords) (k0_t2 : Fin k0_t2_loop.trips) (v5590 : BitVec 32) : Prop :=
  (∀ a, (k0_off526 i k0_t2 v5590) a + S1x8x128.size a ≤ S7296x8x128.size a) ∧
  (∀ a, (k0_off529 i k0_t2 v5590) a + S1x8x128.size a ≤ S7296x8x128.size a) ∧
  (∀ a, (k0_off532 i k0_t2 v5590) a + S1x8x128.size a ≤ S7296x8x128.size a) ∧
  (∀ a, (k0_off535 i k0_t2 v5590) a + S1x8x128.size a ≤ S7296x8x128.size a) ∧
  (∀ (r : Fin 4), ∀ a, (k0_off537 i k0_t2 v5590 (BitVec.ofNat 32 r.val)) a + S1x8x128.size a ≤ S7296x8x128.size a)
theorem k0_off526_inb : ∀ (i : grid0.Coords) (k0_t2 : Fin k0_t2_loop.trips) (v5590 : BitVec 32) (k0_hw186 : k0_chk186 i k0_t2 v5590), ∀ a, (k0_off526 i k0_t2 v5590) a + S1x8x128.size a ≤ S7296x8x128.size a := fun i k0_t2 v5590 k0_hw186 => k0_hw186.1
theorem k0_off529_inb : ∀ (i : grid0.Coords) (k0_t2 : Fin k0_t2_loop.trips) (v5590 : BitVec 32) (k0_hw186 : k0_chk186 i k0_t2 v5590), ∀ a, (k0_off529 i k0_t2 v5590) a + S1x8x128.size a ≤ S7296x8x128.size a := fun i k0_t2 v5590 k0_hw186 => k0_hw186.2.1
theorem k0_off532_inb : ∀ (i : grid0.Coords) (k0_t2 : Fin k0_t2_loop.trips) (v5590 : BitVec 32) (k0_hw186 : k0_chk186 i k0_t2 v5590), ∀ a, (k0_off532 i k0_t2 v5590) a + S1x8x128.size a ≤ S7296x8x128.size a := fun i k0_t2 v5590 k0_hw186 => k0_hw186.2.2.1
theorem k0_off535_inb : ∀ (i : grid0.Coords) (k0_t2 : Fin k0_t2_loop.trips) (v5590 : BitVec 32) (k0_hw186 : k0_chk186 i k0_t2 v5590), ∀ a, (k0_off535 i k0_t2 v5590) a + S1x8x128.size a ≤ S7296x8x128.size a := fun i k0_t2 v5590 k0_hw186 => k0_hw186.2.2.2.1
theorem k0_off537_inb : ∀ (i : grid0.Coords) (k0_t2 : Fin k0_t2_loop.trips) (v5590 : BitVec 32) (k0_hw186 : k0_chk186 i k0_t2 v5590), ∀ (r : Fin 4), ∀ a, (k0_off537 i k0_t2 v5590 (BitVec.ofNat 32 r.val)) a + S1x8x128.size a ≤ S7296x8x128.size a := fun i k0_t2 v5590 k0_hw186 r => k0_hw186.2.2.2.2 r

def k0_cond2 (i : grid0.Coords) : BitVec 1 :=
  let arg0 : BitVec 32 := BitVec.ofNat 32 (i 0).val
  let c24_i32 : BitVec 32 := 24#32
  let v4 : BitVec 32 := Scalar.remsi arg0 c24_i32
  let c0_i32_3 : BitVec 32 := 0#32
  let v5 : BitVec 1 := Scalar.cmpi .eq v4 c0_i32_3
  let c0_i32_4 : BitVec 32 := 0#32
  let v6 : BitVec 1 := Scalar.cmpi .sgt arg0 c0_i32_4
  let v7 : BitVec 1 := Scalar.andi v5 v6
  let v8 : BitVec 32 := Scalar.extui v7
  let c0_i32_5 : BitVec 32 := 0#32
  let v9 : BitVec 1 := Scalar.cmpi .ne v8 c0_i32_5
  v9

@[reducible] def k0_t3_loop : Scf.Loop 32 :=
  let c0_i32_7 : BitVec 32 := 0#32
  let c152_i32 : BitVec 32 := 152#32
  let v16 : BitVec 32 := Scalar.addi c0_i32_7 c152_i32
  let c1_i32_8 : BitVec 32 := 1#32
  ⟨c0_i32_7, v16, c1_i32_8⟩
def k0_off538 (k0_t3 : Fin k0_t3_loop.trips) : Fin 2 → Nat :=
  let c0_i32_7 : BitVec 32 := 0#32
  let c1_i32_8 : BitVec 32 := 1#32
  let arg13 : BitVec 32 := Scf.iv c0_i32_7 c1_i32_8 k0_t3
  let c8_i32_13 : BitVec 32 := 8#32
  let v18 : BitVec 32 := Scalar.muli arg13 c8_i32_13
  let v19 : Index := Scalar.indexCast v18
  let c0 : Index := 0#32
  ![v19.toNat, 0]
def k0_off539 (k0_t3 : Fin k0_t3_loop.trips) (c0_i32_19 : BitVec 32) (c0_i32_21 : BitVec 32) : Fin 2 → Nat :=
  let c0_i32_7 : BitVec 32 := 0#32
  let c1_i32_8 : BitVec 32 := 1#32
  let arg13 : BitVec 32 := Scf.iv c0_i32_7 c1_i32_8 k0_t3
  let c8_i32_18 : BitVec 32 := 8#32
  let v33 : BitVec 32 := Scalar.muli arg13 c8_i32_18
  let v34 : BitVec 32 := Scalar.addi c0_i32_19 v33
  let c8_i32_20 : BitVec 32 := 8#32
  let v35 : BitVec 32 := Scalar.muli v34 c8_i32_20
  let v36 : BitVec 32 := Scalar.addi v35 c0_i32_21
  let v38 : Index := Scalar.indexCast v36
  let c0_22 : Index := 0#32
  ![v38.toNat, 0]
def k0_off540 (k0_t3 : Fin k0_t3_loop.trips) : Fin 2 → Nat :=
  let c0_i32_7 : BitVec 32 := 0#32
  let c1_i32_8 : BitVec 32 := 1#32
  let arg13 : BitVec 32 := Scf.iv c0_i32_7 c1_i32_8 k0_t3
  let c8_i32_303 : BitVec 32 := 8#32
  let v579 : BitVec 32 := Scalar.muli arg13 c8_i32_303
  let v580 : Index := Scalar.indexCast v579
  let c0_304 : Index := 0#32
  ![v580.toNat, 0]
def k0_off541 (k0_t3 : Fin k0_t3_loop.trips) : Fin 2 → Nat :=
  let c0_i32_7 : BitVec 32 := 0#32
  let c1_i32_8 : BitVec 32 := 1#32
  let arg13 : BitVec 32 := Scf.iv c0_i32_7 c1_i32_8 k0_t3
  let c8_i32_305 : BitVec 32 := 8#32
  let v582 : BitVec 32 := Scalar.muli arg13 c8_i32_305
  let v583 : Index := Scalar.indexCast v582
  let c128 : Index := 128#32
  ![v583.toNat, 128]
def k0_off542 (k0_t3 : Fin k0_t3_loop.trips) : Fin 2 → Nat :=
  let c0_i32_7 : BitVec 32 := 0#32
  let c1_i32_8 : BitVec 32 := 1#32
  let arg13 : BitVec 32 := Scf.iv c0_i32_7 c1_i32_8 k0_t3
  let c8_i32_306 : BitVec 32 := 8#32
  let v585 : BitVec 32 := Scalar.muli arg13 c8_i32_306
  let v586 : Index := Scalar.indexCast v585
  let c256 : Index := 256#32
  ![v586.toNat, 256]
@[reducible] def k0_t4_loop : Scf.Loop 32 :=
  let c0_i32_10 : BitVec 32 := 0#32
  let c912_i32 : BitVec 32 := 912#32
  let v17 : BitVec 32 := Scalar.addi c0_i32_10 c912_i32
  let c1_i32_11 : BitVec 32 := 1#32
  ⟨c0_i32_10, v17, c1_i32_11⟩
def k0_off543 (k0_t4 : Fin k0_t4_loop.trips) : Fin 3 → Nat :=
  let c0_i32_10 : BitVec 32 := 0#32
  let c1_i32_11 : BitVec 32 := 1#32
  let arg13 : BitVec 32 := Scf.iv c0_i32_10 c1_i32_11 k0_t4
  let c8_i32_13 : BitVec 32 := 8#32
  let v19 : BitVec 32 := Scalar.muli arg13 c8_i32_13
  let v20 : Index := Scalar.indexCast v19
  let c0 : Index := 0#32
  let c0_14 : Index := 0#32
  ![v20.toNat, 0, 0]
def k0_cond3 (i : grid0.Coords) : BitVec 1 :=
  let arg0 : BitVec 32 := BitVec.ofNat 32 (i 0).val
  let c72_i32 : BitVec 32 := 72#32
  let v10 : BitVec 1 := Scalar.cmpi .slt arg0 c72_i32
  let v11 : BitVec 32 := Scalar.extui v10
  let c0_i32_6 : BitVec 32 := 0#32
  let v12 : BitVec 1 := Scalar.cmpi .ne v11 c0_i32_6
  v12

@[reducible] def k0_t5_loop : Scf.Loop 32 :=
  let c0_i32_7 : BitVec 32 := 0#32
  let c8_i32_8 : BitVec 32 := 8#32
  let v13 : BitVec 32 := Scalar.addi c0_i32_7 c8_i32_8
  let c1_i32_9 : BitVec 32 := 1#32
  ⟨c0_i32_7, v13, c1_i32_9⟩
def k0_off544 (k0_t5 : Fin k0_t5_loop.trips) (c0_i32_14 : BitVec 32) (c0_i32_15 : BitVec 32) (c0_i32_16 : BitVec 32) : Fin 4 → Nat :=
  let c0_17 : Index := 0#32
  let c0_i32_7 : BitVec 32 := 0#32
  let c1_i32_9 : BitVec 32 := 1#32
  let arg13 : BitVec 32 := Scf.iv c0_i32_7 c1_i32_9 k0_t5
  let c8_i32_13 : BitVec 32 := 8#32
  let v19 : BitVec 32 := Scalar.muli arg13 c8_i32_13
  let v20 : BitVec 32 := Scalar.addi c0_i32_14 v19
  let v21 : BitVec 32 := Scalar.addi v20 c0_i32_15
  let v22 : BitVec 32 := Scalar.addi v21 c0_i32_16
  let v23 : Index := Scalar.indexCast v22
  let c0_18 : Index := 0#32
  let c0_19 : Index := 0#32
  ![0, v23.toNat, 0, 0]
def k0_off545 (k0_t5 : Fin k0_t5_loop.trips) (c0_i32_14 : BitVec 32) (c0_i32_15 : BitVec 32) (c0_i32_16 : BitVec 32) (c0_i32_20 : BitVec 32) : Fin 2 → Nat :=
  let c0_i32_7 : BitVec 32 := 0#32
  let c1_i32_9 : BitVec 32 := 1#32
  let arg13 : BitVec 32 := Scf.iv c0_i32_7 c1_i32_9 k0_t5
  let c8_i32_13 : BitVec 32 := 8#32
  let v19 : BitVec 32 := Scalar.muli arg13 c8_i32_13
  let v20 : BitVec 32 := Scalar.addi c0_i32_14 v19
  let v21 : BitVec 32 := Scalar.addi v20 c0_i32_15
  let v22 : BitVec 32 := Scalar.addi v21 c0_i32_16
  let c4_i32 : BitVec 32 := 4#32
  let v27 : BitVec 32 := Scalar.muli v22 c4_i32
  let v28 : BitVec 32 := Scalar.addi v27 c0_i32_20
  let v29 : Index := Scalar.indexCast v28
  let c0_21 : Index := 0#32
  ![v29.toNat, 0]
def k0_off546 (k0_t5 : Fin k0_t5_loop.trips) (c0_i32_14 : BitVec 32) (c0_i32_15 : BitVec 32) (c0_i32_16 : BitVec 32) (c0_i32_23 : BitVec 32) : Fin 2 → Nat :=
  let c0_i32_7 : BitVec 32 := 0#32
  let c1_i32_9 : BitVec 32 := 1#32
  let arg13 : BitVec 32 := Scf.iv c0_i32_7 c1_i32_9 k0_t5
  let c8_i32_13 : BitVec 32 := 8#32
  let v19 : BitVec 32 := Scalar.muli arg13 c8_i32_13
  let v20 : BitVec 32 := Scalar.addi c0_i32_14 v19
  let v21 : BitVec 32 := Scalar.addi v20 c0_i32_15
  let v22 : BitVec 32 := Scalar.addi v21 c0_i32_16
  let c4_i32_22 : BitVec 32 := 4#32
  let v34 : BitVec 32 := Scalar.muli v22 c4_i32_22
  let v35 : BitVec 32 := Scalar.addi v34 c0_i32_23
  let c1_i32_24 : BitVec 32 := 1#32
  let v36 : BitVec 32 := Scalar.addi v35 c1_i32_24
  let v37 : Index := Scalar.indexCast v36
  let c0_25 : Index := 0#32
  ![v37.toNat, 0]
def k0_off547 (k0_t5 : Fin k0_t5_loop.trips) (c0_i32_1350 : BitVec 32) : Fin 2 → Nat :=
  let c0_i32_7 : BitVec 32 := 0#32
  let c1_i32_9 : BitVec 32 := 1#32
  let arg13 : BitVec 32 := Scf.iv c0_i32_7 c1_i32_9 k0_t5
  let v2899 : BitVec 32 := Scalar.addi c0_i32_1350 arg13
  let v2900 : Index := Scalar.indexCast v2899
  let c0_1351 : Index := 0#32
  ![v2900.toNat, 0]
def k0_off548 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32 : BitVec 32 := 38#32
  let v2960 : BitVec 32 := Scalar.muli arg13 c38_i32
  let c0_i32_1368 : BitVec 32 := 0#32
  let v2961 : BitVec 32 := Scalar.addi v2960 c0_i32_1368
  let v2962 : Index := Scalar.indexCast v2961
  ![v2962.toNat]
def k0_off549 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32 : BitVec 32 := 38#32
  let v2960 : BitVec 32 := Scalar.muli arg13 c38_i32
  let c0_i32_1368 : BitVec 32 := 0#32
  let v2961 : BitVec 32 := Scalar.addi v2960 c0_i32_1368
  let c4_i32_1376 : BitVec 32 := 4#32
  let v2975 : BitVec 32 := Scalar.muli v2961 c4_i32_1376
  let c0_i32_1377 : BitVec 32 := 0#32
  let v2976 : BitVec 32 := Scalar.addi v2975 c0_i32_1377
  let v2977 : Index := Scalar.indexCast v2976
  ![v2977.toNat]
def k0_off550 (i : grid0.Coords) (k0_t5 : Fin k0_t5_loop.trips) (v2963 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1370 : BitVec 32 := 2#32
  let v2966 : BitVec 32 := Scalar.muli v2959 c2_i32_1370
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v2964 : BitVec 32 := Scalar.shrui v2963 v2958
  let c1_i32_1369 : BitVec 32 := 1#32
  let v2965 : BitVec 32 := Scalar.andi v2964 c1_i32_1369
  let v2967 : BitVec 32 := Scalar.addi v2966 v2965
  let c1216_i32 : BitVec 32 := 1216#32
  let v2968 : BitVec 32 := Scalar.muli v2967 c1216_i32
  let c0_i32_7 : BitVec 32 := 0#32
  let c1_i32_9 : BitVec 32 := 1#32
  let arg13 : BitVec 32 := Scf.iv c0_i32_7 c1_i32_9 k0_t5
  let c38_i32 : BitVec 32 := 38#32
  let v2960 : BitVec 32 := Scalar.muli arg13 c38_i32
  let c0_i32_1368 : BitVec 32 := 0#32
  let v2961 : BitVec 32 := Scalar.addi v2960 c0_i32_1368
  let c4_i32_1371 : BitVec 32 := 4#32
  let v2969 : BitVec 32 := Scalar.muli v2961 c4_i32_1371
  let v2970 : BitVec 32 := Scalar.addi v2968 v2969
  let c0_i32_1372 : BitVec 32 := 0#32
  let v2971 : BitVec 32 := Scalar.addi v2970 c0_i32_1372
  let v2979 : Index := Scalar.indexCast v2971
  let c0_1378 : Index := 0#32
  let c0_1379 : Index := 0#32
  ![v2979.toNat, 0, 0]

def k0_off551 (v2978 : BitVec 32) : Fin 2 → Nat :=
  let v2982 : Index := Scalar.indexCast v2978
  let c0_1380 : Index := 0#32
  ![v2982.toNat, 0]

def k0_chk192 (i : grid0.Coords) (v2978 : BitVec 32) : Prop :=
  (∀ (k0_h3 : k0_cond3 i = 1#1), ∀ a, (k0_off551 v2978) a + S8x128.size a ≤ S18432x128.size a)
theorem k0_off551_inb : ∀ (i : grid0.Coords) (v2978 : BitVec 32) (k0_hw192 : k0_chk192 i v2978), ∀ (k0_h3 : k0_cond3 i = 1#1), ∀ a, (k0_off551 v2978) a + S8x128.size a ≤ S18432x128.size a := fun i v2978 k0_hw192 k0_h3 => k0_hw192 k0_h3

def k0_off552 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32 : BitVec 32 := 38#32
  let v2960 : BitVec 32 := Scalar.muli arg13 c38_i32
  let c0_i32_1368 : BitVec 32 := 0#32
  let v2961 : BitVec 32 := Scalar.addi v2960 c0_i32_1368
  let c4_i32_1381 : BitVec 32 := 4#32
  let v2985 : BitVec 32 := Scalar.muli v2961 c4_i32_1381
  let c1_i32_1382 : BitVec 32 := 1#32
  let v2986 : BitVec 32 := Scalar.addi v2985 c1_i32_1382
  let v2987 : Index := Scalar.indexCast v2986
  ![v2987.toNat]
def k0_off553 (i : grid0.Coords) (k0_t5 : Fin k0_t5_loop.trips) (v2963 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1370 : BitVec 32 := 2#32
  let v2966 : BitVec 32 := Scalar.muli v2959 c2_i32_1370
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v2964 : BitVec 32 := Scalar.shrui v2963 v2958
  let c1_i32_1369 : BitVec 32 := 1#32
  let v2965 : BitVec 32 := Scalar.andi v2964 c1_i32_1369
  let v2967 : BitVec 32 := Scalar.addi v2966 v2965
  let c1216_i32 : BitVec 32 := 1216#32
  let v2968 : BitVec 32 := Scalar.muli v2967 c1216_i32
  let c0_i32_7 : BitVec 32 := 0#32
  let c1_i32_9 : BitVec 32 := 1#32
  let arg13 : BitVec 32 := Scf.iv c0_i32_7 c1_i32_9 k0_t5
  let c38_i32 : BitVec 32 := 38#32
  let v2960 : BitVec 32 := Scalar.muli arg13 c38_i32
  let c0_i32_1368 : BitVec 32 := 0#32
  let v2961 : BitVec 32 := Scalar.addi v2960 c0_i32_1368
  let c4_i32_1371 : BitVec 32 := 4#32
  let v2969 : BitVec 32 := Scalar.muli v2961 c4_i32_1371
  let v2970 : BitVec 32 := Scalar.addi v2968 v2969
  let c1_i32_1373 : BitVec 32 := 1#32
  let v2972 : BitVec 32 := Scalar.addi v2970 c1_i32_1373
  let v2989 : Index := Scalar.indexCast v2972
  let c0_1383 : Index := 0#32
  let c0_1384 : Index := 0#32
  ![v2989.toNat, 0, 0]
def k0_off554 (v2988 : BitVec 32) : Fin 2 → Nat :=
  let v2992 : Index := Scalar.indexCast v2988
  let c0_1385 : Index := 0#32
  ![v2992.toNat, 0]

def k0_chk193 (i : grid0.Coords) (v2988 : BitVec 32) : Prop :=
  (∀ (k0_h3 : k0_cond3 i = 1#1), ∀ a, (k0_off554 v2988) a + S8x128.size a ≤ S18432x128.size a)
theorem k0_off554_inb : ∀ (i : grid0.Coords) (v2988 : BitVec 32) (k0_hw193 : k0_chk193 i v2988), ∀ (k0_h3 : k0_cond3 i = 1#1), ∀ a, (k0_off554 v2988) a + S8x128.size a ≤ S18432x128.size a := fun i v2988 k0_hw193 k0_h3 => k0_hw193 k0_h3

def k0_off555 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32 : BitVec 32 := 38#32
  let v2960 : BitVec 32 := Scalar.muli arg13 c38_i32
  let c0_i32_1368 : BitVec 32 := 0#32
  let v2961 : BitVec 32 := Scalar.addi v2960 c0_i32_1368
  let c4_i32_1386 : BitVec 32 := 4#32
  let v2995 : BitVec 32 := Scalar.muli v2961 c4_i32_1386
  let c2_i32_1387 : BitVec 32 := 2#32
  let v2996 : BitVec 32 := Scalar.addi v2995 c2_i32_1387
  let v2997 : Index := Scalar.indexCast v2996
  ![v2997.toNat]
def k0_off556 (i : grid0.Coords) (k0_t5 : Fin k0_t5_loop.trips) (v2963 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1370 : BitVec 32 := 2#32
  let v2966 : BitVec 32 := Scalar.muli v2959 c2_i32_1370
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v2964 : BitVec 32 := Scalar.shrui v2963 v2958
  let c1_i32_1369 : BitVec 32 := 1#32
  let v2965 : BitVec 32 := Scalar.andi v2964 c1_i32_1369
  let v2967 : BitVec 32 := Scalar.addi v2966 v2965
  let c1216_i32 : BitVec 32 := 1216#32
  let v2968 : BitVec 32 := Scalar.muli v2967 c1216_i32
  let c0_i32_7 : BitVec 32 := 0#32
  let c1_i32_9 : BitVec 32 := 1#32
  let arg13 : BitVec 32 := Scf.iv c0_i32_7 c1_i32_9 k0_t5
  let c38_i32 : BitVec 32 := 38#32
  let v2960 : BitVec 32 := Scalar.muli arg13 c38_i32
  let c0_i32_1368 : BitVec 32 := 0#32
  let v2961 : BitVec 32 := Scalar.addi v2960 c0_i32_1368
  let c4_i32_1371 : BitVec 32 := 4#32
  let v2969 : BitVec 32 := Scalar.muli v2961 c4_i32_1371
  let v2970 : BitVec 32 := Scalar.addi v2968 v2969
  let c2_i32_1374 : BitVec 32 := 2#32
  let v2973 : BitVec 32 := Scalar.addi v2970 c2_i32_1374
  let v2999 : Index := Scalar.indexCast v2973
  let c0_1388 : Index := 0#32
  let c0_1389 : Index := 0#32
  ![v2999.toNat, 0, 0]
def k0_off557 (v2998 : BitVec 32) : Fin 2 → Nat :=
  let v3002 : Index := Scalar.indexCast v2998
  let c0_1390 : Index := 0#32
  ![v3002.toNat, 0]

def k0_chk194 (i : grid0.Coords) (v2998 : BitVec 32) : Prop :=
  (∀ (k0_h3 : k0_cond3 i = 1#1), ∀ a, (k0_off557 v2998) a + S8x128.size a ≤ S18432x128.size a)
theorem k0_off557_inb : ∀ (i : grid0.Coords) (v2998 : BitVec 32) (k0_hw194 : k0_chk194 i v2998), ∀ (k0_h3 : k0_cond3 i = 1#1), ∀ a, (k0_off557 v2998) a + S8x128.size a ≤ S18432x128.size a := fun i v2998 k0_hw194 k0_h3 => k0_hw194 k0_h3

def k0_off558 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32 : BitVec 32 := 38#32
  let v2960 : BitVec 32 := Scalar.muli arg13 c38_i32
  let c0_i32_1368 : BitVec 32 := 0#32
  let v2961 : BitVec 32 := Scalar.addi v2960 c0_i32_1368
  let c4_i32_1391 : BitVec 32 := 4#32
  let v3005 : BitVec 32 := Scalar.muli v2961 c4_i32_1391
  let c3_i32_1392 : BitVec 32 := 3#32
  let v3006 : BitVec 32 := Scalar.addi v3005 c3_i32_1392
  let v3007 : Index := Scalar.indexCast v3006
  ![v3007.toNat]
def k0_off559 (i : grid0.Coords) (k0_t5 : Fin k0_t5_loop.trips) (v2963 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1370 : BitVec 32 := 2#32
  let v2966 : BitVec 32 := Scalar.muli v2959 c2_i32_1370
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v2964 : BitVec 32 := Scalar.shrui v2963 v2958
  let c1_i32_1369 : BitVec 32 := 1#32
  let v2965 : BitVec 32 := Scalar.andi v2964 c1_i32_1369
  let v2967 : BitVec 32 := Scalar.addi v2966 v2965
  let c1216_i32 : BitVec 32 := 1216#32
  let v2968 : BitVec 32 := Scalar.muli v2967 c1216_i32
  let c0_i32_7 : BitVec 32 := 0#32
  let c1_i32_9 : BitVec 32 := 1#32
  let arg13 : BitVec 32 := Scf.iv c0_i32_7 c1_i32_9 k0_t5
  let c38_i32 : BitVec 32 := 38#32
  let v2960 : BitVec 32 := Scalar.muli arg13 c38_i32
  let c0_i32_1368 : BitVec 32 := 0#32
  let v2961 : BitVec 32 := Scalar.addi v2960 c0_i32_1368
  let c4_i32_1371 : BitVec 32 := 4#32
  let v2969 : BitVec 32 := Scalar.muli v2961 c4_i32_1371
  let v2970 : BitVec 32 := Scalar.addi v2968 v2969
  let c3_i32_1375 : BitVec 32 := 3#32
  let v2974 : BitVec 32 := Scalar.addi v2970 c3_i32_1375
  let v3009 : Index := Scalar.indexCast v2974
  let c0_1393 : Index := 0#32
  let c0_1394 : Index := 0#32
  ![v3009.toNat, 0, 0]
def k0_off560 (v3008 : BitVec 32) : Fin 2 → Nat :=
  let v3012 : Index := Scalar.indexCast v3008
  let c0_1395 : Index := 0#32
  ![v3012.toNat, 0]

def k0_chk195 (i : grid0.Coords) (v3008 : BitVec 32) : Prop :=
  (∀ (k0_h3 : k0_cond3 i = 1#1), ∀ a, (k0_off560 v3008) a + S8x128.size a ≤ S18432x128.size a)
theorem k0_off560_inb : ∀ (i : grid0.Coords) (v3008 : BitVec 32) (k0_hw195 : k0_chk195 i v3008), ∀ (k0_h3 : k0_cond3 i = 1#1), ∀ a, (k0_off560 v3008) a + S8x128.size a ≤ S18432x128.size a := fun i v3008 k0_hw195 k0_h3 => k0_hw195 k0_h3

def k0_off561 (i : grid0.Coords) (k0_t5 : Fin k0_t5_loop.trips) (v2963 : BitVec 32) (c0_i32_1372 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1370 : BitVec 32 := 2#32
  let v2966 : BitVec 32 := Scalar.muli v2959 c2_i32_1370
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v2964 : BitVec 32 := Scalar.shrui v2963 v2958
  let c1_i32_1369 : BitVec 32 := 1#32
  let v2965 : BitVec 32 := Scalar.andi v2964 c1_i32_1369
  let v2967 : BitVec 32 := Scalar.addi v2966 v2965
  let c1216_i32 : BitVec 32 := 1216#32
  let v2968 : BitVec 32 := Scalar.muli v2967 c1216_i32
  let c0_i32_7 : BitVec 32 := 0#32
  let c1_i32_9 : BitVec 32 := 1#32
  let arg13 : BitVec 32 := Scf.iv c0_i32_7 c1_i32_9 k0_t5
  let c38_i32 : BitVec 32 := 38#32
  let v2960 : BitVec 32 := Scalar.muli arg13 c38_i32
  let c0_i32_1368 : BitVec 32 := 0#32
  let v2961 : BitVec 32 := Scalar.addi v2960 c0_i32_1368
  let c4_i32_1371 : BitVec 32 := 4#32
  let v2969 : BitVec 32 := Scalar.muli v2961 c4_i32_1371
  let v2970 : BitVec 32 := Scalar.addi v2968 v2969
  let v2971 : BitVec 32 := Scalar.addi v2970 c0_i32_1372
  let v3015 : Index := Scalar.indexCast v2971
  let c0_1396 : Index := 0#32
  let c0_1397 : Index := 0#32
  ![v3015.toNat, 0, 0]

def k0_chk191 (i : grid0.Coords) (k0_t5 : Fin k0_t5_loop.trips) (v2963 : BitVec 32) : Prop :=
  (∀ (k0_h3 : k0_cond3 i = 1#1), ∀ a, (k0_off550 i k0_t5 v2963) a + S1x8x128.size a ≤ S7296x8x128.size a) ∧
  (∀ (k0_h3 : k0_cond3 i = 1#1), ∀ a, (k0_off553 i k0_t5 v2963) a + S1x8x128.size a ≤ S7296x8x128.size a) ∧
  (∀ (k0_h3 : k0_cond3 i = 1#1), ∀ a, (k0_off556 i k0_t5 v2963) a + S1x8x128.size a ≤ S7296x8x128.size a) ∧
  (∀ (k0_h3 : k0_cond3 i = 1#1), ∀ a, (k0_off559 i k0_t5 v2963) a + S1x8x128.size a ≤ S7296x8x128.size a) ∧
  (∀ (k0_h3 : k0_cond3 i = 1#1), ∀ (r : Fin 4), ∀ a, (k0_off561 i k0_t5 v2963 (BitVec.ofNat 32 r.val)) a + S1x8x128.size a ≤ S7296x8x128.size a)
theorem k0_off550_inb : ∀ (i : grid0.Coords) (k0_t5 : Fin k0_t5_loop.trips) (v2963 : BitVec 32) (k0_hw191 : k0_chk191 i k0_t5 v2963), ∀ (k0_h3 : k0_cond3 i = 1#1), ∀ a, (k0_off550 i k0_t5 v2963) a + S1x8x128.size a ≤ S7296x8x128.size a := fun i k0_t5 v2963 k0_hw191 k0_h3 => k0_hw191.1 k0_h3
theorem k0_off553_inb : ∀ (i : grid0.Coords) (k0_t5 : Fin k0_t5_loop.trips) (v2963 : BitVec 32) (k0_hw191 : k0_chk191 i k0_t5 v2963), ∀ (k0_h3 : k0_cond3 i = 1#1), ∀ a, (k0_off553 i k0_t5 v2963) a + S1x8x128.size a ≤ S7296x8x128.size a := fun i k0_t5 v2963 k0_hw191 k0_h3 => k0_hw191.2.1 k0_h3
theorem k0_off556_inb : ∀ (i : grid0.Coords) (k0_t5 : Fin k0_t5_loop.trips) (v2963 : BitVec 32) (k0_hw191 : k0_chk191 i k0_t5 v2963), ∀ (k0_h3 : k0_cond3 i = 1#1), ∀ a, (k0_off556 i k0_t5 v2963) a + S1x8x128.size a ≤ S7296x8x128.size a := fun i k0_t5 v2963 k0_hw191 k0_h3 => k0_hw191.2.2.1 k0_h3
theorem k0_off559_inb : ∀ (i : grid0.Coords) (k0_t5 : Fin k0_t5_loop.trips) (v2963 : BitVec 32) (k0_hw191 : k0_chk191 i k0_t5 v2963), ∀ (k0_h3 : k0_cond3 i = 1#1), ∀ a, (k0_off559 i k0_t5 v2963) a + S1x8x128.size a ≤ S7296x8x128.size a := fun i k0_t5 v2963 k0_hw191 k0_h3 => k0_hw191.2.2.2.1 k0_h3
theorem k0_off561_inb : ∀ (i : grid0.Coords) (k0_t5 : Fin k0_t5_loop.trips) (v2963 : BitVec 32) (k0_hw191 : k0_chk191 i k0_t5 v2963), ∀ (k0_h3 : k0_cond3 i = 1#1), ∀ (r : Fin 4), ∀ a, (k0_off561 i k0_t5 v2963 (BitVec.ofNat 32 r.val)) a + S1x8x128.size a ≤ S7296x8x128.size a := fun i k0_t5 v2963 k0_hw191 k0_h3 r => k0_hw191.2.2.2.2 k0_h3 r

def k0_off562 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1404 : BitVec 32 := 38#32
  let v3031 : BitVec 32 := Scalar.muli arg13 c38_i32_1404
  let c1_i32_1405 : BitVec 32 := 1#32
  let v3032 : BitVec 32 := Scalar.addi v3031 c1_i32_1405
  let v3033 : Index := Scalar.indexCast v3032
  ![v3033.toNat]
def k0_off563 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1404 : BitVec 32 := 38#32
  let v3031 : BitVec 32 := Scalar.muli arg13 c38_i32_1404
  let c1_i32_1405 : BitVec 32 := 1#32
  let v3032 : BitVec 32 := Scalar.addi v3031 c1_i32_1405
  let c4_i32_1414 : BitVec 32 := 4#32
  let v3046 : BitVec 32 := Scalar.muli v3032 c4_i32_1414
  let c0_i32_1415 : BitVec 32 := 0#32
  let v3047 : BitVec 32 := Scalar.addi v3046 c0_i32_1415
  let v3048 : Index := Scalar.indexCast v3047
  ![v3048.toNat]
def k0_off564 (i : grid0.Coords) (k0_t5 : Fin k0_t5_loop.trips) (v3034 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1407 : BitVec 32 := 2#32
  let v3037 : BitVec 32 := Scalar.muli v2959 c2_i32_1407
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3035 : BitVec 32 := Scalar.shrui v3034 v2958
  let c1_i32_1406 : BitVec 32 := 1#32
  let v3036 : BitVec 32 := Scalar.andi v3035 c1_i32_1406
  let v3038 : BitVec 32 := Scalar.addi v3037 v3036
  let c1216_i32_1408 : BitVec 32 := 1216#32
  let v3039 : BitVec 32 := Scalar.muli v3038 c1216_i32_1408
  let c0_i32_7 : BitVec 32 := 0#32
  let c1_i32_9 : BitVec 32 := 1#32
  let arg13 : BitVec 32 := Scf.iv c0_i32_7 c1_i32_9 k0_t5
  let c38_i32_1404 : BitVec 32 := 38#32
  let v3031 : BitVec 32 := Scalar.muli arg13 c38_i32_1404
  let c1_i32_1405 : BitVec 32 := 1#32
  let v3032 : BitVec 32 := Scalar.addi v3031 c1_i32_1405
  let c4_i32_1409 : BitVec 32 := 4#32
  let v3040 : BitVec 32 := Scalar.muli v3032 c4_i32_1409
  let v3041 : BitVec 32 := Scalar.addi v3039 v3040
  let c0_i32_1410 : BitVec 32 := 0#32
  let v3042 : BitVec 32 := Scalar.addi v3041 c0_i32_1410
  let v3050 : Index := Scalar.indexCast v3042
  let c0_1416 : Index := 0#32
  let c0_1417 : Index := 0#32
  ![v3050.toNat, 0, 0]

def k0_off565 (v3049 : BitVec 32) : Fin 2 → Nat :=
  let v3053 : Index := Scalar.indexCast v3049
  let c0_1418 : Index := 0#32
  ![v3053.toNat, 0]

def k0_chk197 (i : grid0.Coords) (v3049 : BitVec 32) : Prop :=
  (∀ (k0_h3 : k0_cond3 i = 1#1), ∀ a, (k0_off565 v3049) a + S8x128.size a ≤ S18432x128.size a)
theorem k0_off565_inb : ∀ (i : grid0.Coords) (v3049 : BitVec 32) (k0_hw197 : k0_chk197 i v3049), ∀ (k0_h3 : k0_cond3 i = 1#1), ∀ a, (k0_off565 v3049) a + S8x128.size a ≤ S18432x128.size a := fun i v3049 k0_hw197 k0_h3 => k0_hw197 k0_h3

def k0_off566 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1404 : BitVec 32 := 38#32
  let v3031 : BitVec 32 := Scalar.muli arg13 c38_i32_1404
  let c1_i32_1405 : BitVec 32 := 1#32
  let v3032 : BitVec 32 := Scalar.addi v3031 c1_i32_1405
  let c4_i32_1419 : BitVec 32 := 4#32
  let v3056 : BitVec 32 := Scalar.muli v3032 c4_i32_1419
  let c1_i32_1420 : BitVec 32 := 1#32
  let v3057 : BitVec 32 := Scalar.addi v3056 c1_i32_1420
  let v3058 : Index := Scalar.indexCast v3057
  ![v3058.toNat]
def k0_off567 (i : grid0.Coords) (k0_t5 : Fin k0_t5_loop.trips) (v3034 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1407 : BitVec 32 := 2#32
  let v3037 : BitVec 32 := Scalar.muli v2959 c2_i32_1407
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3035 : BitVec 32 := Scalar.shrui v3034 v2958
  let c1_i32_1406 : BitVec 32 := 1#32
  let v3036 : BitVec 32 := Scalar.andi v3035 c1_i32_1406
  let v3038 : BitVec 32 := Scalar.addi v3037 v3036
  let c1216_i32_1408 : BitVec 32 := 1216#32
  let v3039 : BitVec 32 := Scalar.muli v3038 c1216_i32_1408
  let c0_i32_7 : BitVec 32 := 0#32
  let c1_i32_9 : BitVec 32 := 1#32
  let arg13 : BitVec 32 := Scf.iv c0_i32_7 c1_i32_9 k0_t5
  let c38_i32_1404 : BitVec 32 := 38#32
  let v3031 : BitVec 32 := Scalar.muli arg13 c38_i32_1404
  let c1_i32_1405 : BitVec 32 := 1#32
  let v3032 : BitVec 32 := Scalar.addi v3031 c1_i32_1405
  let c4_i32_1409 : BitVec 32 := 4#32
  let v3040 : BitVec 32 := Scalar.muli v3032 c4_i32_1409
  let v3041 : BitVec 32 := Scalar.addi v3039 v3040
  let c1_i32_1411 : BitVec 32 := 1#32
  let v3043 : BitVec 32 := Scalar.addi v3041 c1_i32_1411
  let v3060 : Index := Scalar.indexCast v3043
  let c0_1421 : Index := 0#32
  let c0_1422 : Index := 0#32
  ![v3060.toNat, 0, 0]
def k0_off568 (v3059 : BitVec 32) : Fin 2 → Nat :=
  let v3063 : Index := Scalar.indexCast v3059
  let c0_1423 : Index := 0#32
  ![v3063.toNat, 0]

def k0_chk198 (i : grid0.Coords) (v3059 : BitVec 32) : Prop :=
  (∀ (k0_h3 : k0_cond3 i = 1#1), ∀ a, (k0_off568 v3059) a + S8x128.size a ≤ S18432x128.size a)
theorem k0_off568_inb : ∀ (i : grid0.Coords) (v3059 : BitVec 32) (k0_hw198 : k0_chk198 i v3059), ∀ (k0_h3 : k0_cond3 i = 1#1), ∀ a, (k0_off568 v3059) a + S8x128.size a ≤ S18432x128.size a := fun i v3059 k0_hw198 k0_h3 => k0_hw198 k0_h3

def k0_off569 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1404 : BitVec 32 := 38#32
  let v3031 : BitVec 32 := Scalar.muli arg13 c38_i32_1404
  let c1_i32_1405 : BitVec 32 := 1#32
  let v3032 : BitVec 32 := Scalar.addi v3031 c1_i32_1405
  let c4_i32_1424 : BitVec 32 := 4#32
  let v3066 : BitVec 32 := Scalar.muli v3032 c4_i32_1424
  let c2_i32_1425 : BitVec 32 := 2#32
  let v3067 : BitVec 32 := Scalar.addi v3066 c2_i32_1425
  let v3068 : Index := Scalar.indexCast v3067
  ![v3068.toNat]
def k0_off570 (i : grid0.Coords) (k0_t5 : Fin k0_t5_loop.trips) (v3034 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1407 : BitVec 32 := 2#32
  let v3037 : BitVec 32 := Scalar.muli v2959 c2_i32_1407
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3035 : BitVec 32 := Scalar.shrui v3034 v2958
  let c1_i32_1406 : BitVec 32 := 1#32
  let v3036 : BitVec 32 := Scalar.andi v3035 c1_i32_1406
  let v3038 : BitVec 32 := Scalar.addi v3037 v3036
  let c1216_i32_1408 : BitVec 32 := 1216#32
  let v3039 : BitVec 32 := Scalar.muli v3038 c1216_i32_1408
  let c0_i32_7 : BitVec 32 := 0#32
  let c1_i32_9 : BitVec 32 := 1#32
  let arg13 : BitVec 32 := Scf.iv c0_i32_7 c1_i32_9 k0_t5
  let c38_i32_1404 : BitVec 32 := 38#32
  let v3031 : BitVec 32 := Scalar.muli arg13 c38_i32_1404
  let c1_i32_1405 : BitVec 32 := 1#32
  let v3032 : BitVec 32 := Scalar.addi v3031 c1_i32_1405
  let c4_i32_1409 : BitVec 32 := 4#32
  let v3040 : BitVec 32 := Scalar.muli v3032 c4_i32_1409
  let v3041 : BitVec 32 := Scalar.addi v3039 v3040
  let c2_i32_1412 : BitVec 32 := 2#32
  let v3044 : BitVec 32 := Scalar.addi v3041 c2_i32_1412
  let v3070 : Index := Scalar.indexCast v3044
  let c0_1426 : Index := 0#32
  let c0_1427 : Index := 0#32
  ![v3070.toNat, 0, 0]
def k0_off571 (v3069 : BitVec 32) : Fin 2 → Nat :=
  let v3073 : Index := Scalar.indexCast v3069
  let c0_1428 : Index := 0#32
  ![v3073.toNat, 0]

def k0_chk199 (i : grid0.Coords) (v3069 : BitVec 32) : Prop :=
  (∀ (k0_h3 : k0_cond3 i = 1#1), ∀ a, (k0_off571 v3069) a + S8x128.size a ≤ S18432x128.size a)
theorem k0_off571_inb : ∀ (i : grid0.Coords) (v3069 : BitVec 32) (k0_hw199 : k0_chk199 i v3069), ∀ (k0_h3 : k0_cond3 i = 1#1), ∀ a, (k0_off571 v3069) a + S8x128.size a ≤ S18432x128.size a := fun i v3069 k0_hw199 k0_h3 => k0_hw199 k0_h3

def k0_off572 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1404 : BitVec 32 := 38#32
  let v3031 : BitVec 32 := Scalar.muli arg13 c38_i32_1404
  let c1_i32_1405 : BitVec 32 := 1#32
  let v3032 : BitVec 32 := Scalar.addi v3031 c1_i32_1405
  let c4_i32_1429 : BitVec 32 := 4#32
  let v3076 : BitVec 32 := Scalar.muli v3032 c4_i32_1429
  let c3_i32_1430 : BitVec 32 := 3#32
  let v3077 : BitVec 32 := Scalar.addi v3076 c3_i32_1430
  let v3078 : Index := Scalar.indexCast v3077
  ![v3078.toNat]
def k0_off573 (i : grid0.Coords) (k0_t5 : Fin k0_t5_loop.trips) (v3034 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1407 : BitVec 32 := 2#32
  let v3037 : BitVec 32 := Scalar.muli v2959 c2_i32_1407
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3035 : BitVec 32 := Scalar.shrui v3034 v2958
  let c1_i32_1406 : BitVec 32 := 1#32
  let v3036 : BitVec 32 := Scalar.andi v3035 c1_i32_1406
  let v3038 : BitVec 32 := Scalar.addi v3037 v3036
  let c1216_i32_1408 : BitVec 32 := 1216#32
  let v3039 : BitVec 32 := Scalar.muli v3038 c1216_i32_1408
  let c0_i32_7 : BitVec 32 := 0#32
  let c1_i32_9 : BitVec 32 := 1#32
  let arg13 : BitVec 32 := Scf.iv c0_i32_7 c1_i32_9 k0_t5
  let c38_i32_1404 : BitVec 32 := 38#32
  let v3031 : BitVec 32 := Scalar.muli arg13 c38_i32_1404
  let c1_i32_1405 : BitVec 32 := 1#32
  let v3032 : BitVec 32 := Scalar.addi v3031 c1_i32_1405
  let c4_i32_1409 : BitVec 32 := 4#32
  let v3040 : BitVec 32 := Scalar.muli v3032 c4_i32_1409
  let v3041 : BitVec 32 := Scalar.addi v3039 v3040
  let c3_i32_1413 : BitVec 32 := 3#32
  let v3045 : BitVec 32 := Scalar.addi v3041 c3_i32_1413
  let v3080 : Index := Scalar.indexCast v3045
  let c0_1431 : Index := 0#32
  let c0_1432 : Index := 0#32
  ![v3080.toNat, 0, 0]
def k0_off574 (v3079 : BitVec 32) : Fin 2 → Nat :=
  let v3083 : Index := Scalar.indexCast v3079
  let c0_1433 : Index := 0#32
  ![v3083.toNat, 0]

def k0_chk200 (i : grid0.Coords) (v3079 : BitVec 32) : Prop :=
  (∀ (k0_h3 : k0_cond3 i = 1#1), ∀ a, (k0_off574 v3079) a + S8x128.size a ≤ S18432x128.size a)
theorem k0_off574_inb : ∀ (i : grid0.Coords) (v3079 : BitVec 32) (k0_hw200 : k0_chk200 i v3079), ∀ (k0_h3 : k0_cond3 i = 1#1), ∀ a, (k0_off574 v3079) a + S8x128.size a ≤ S18432x128.size a := fun i v3079 k0_hw200 k0_h3 => k0_hw200 k0_h3

def k0_off575 (i : grid0.Coords) (k0_t5 : Fin k0_t5_loop.trips) (v3034 : BitVec 32) (c0_i32_1410 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1407 : BitVec 32 := 2#32
  let v3037 : BitVec 32 := Scalar.muli v2959 c2_i32_1407
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3035 : BitVec 32 := Scalar.shrui v3034 v2958
  let c1_i32_1406 : BitVec 32 := 1#32
  let v3036 : BitVec 32 := Scalar.andi v3035 c1_i32_1406
  let v3038 : BitVec 32 := Scalar.addi v3037 v3036
  let c1216_i32_1408 : BitVec 32 := 1216#32
  let v3039 : BitVec 32 := Scalar.muli v3038 c1216_i32_1408
  let c0_i32_7 : BitVec 32 := 0#32
  let c1_i32_9 : BitVec 32 := 1#32
  let arg13 : BitVec 32 := Scf.iv c0_i32_7 c1_i32_9 k0_t5
  let c38_i32_1404 : BitVec 32 := 38#32
  let v3031 : BitVec 32 := Scalar.muli arg13 c38_i32_1404
  let c1_i32_1405 : BitVec 32 := 1#32
  let v3032 : BitVec 32 := Scalar.addi v3031 c1_i32_1405
  let c4_i32_1409 : BitVec 32 := 4#32
  let v3040 : BitVec 32 := Scalar.muli v3032 c4_i32_1409
  let v3041 : BitVec 32 := Scalar.addi v3039 v3040
  let v3042 : BitVec 32 := Scalar.addi v3041 c0_i32_1410
  let v3086 : Index := Scalar.indexCast v3042
  let c0_1434 : Index := 0#32
  let c0_1435 : Index := 0#32
  ![v3086.toNat, 0, 0]

def k0_chk196 (i : grid0.Coords) (k0_t5 : Fin k0_t5_loop.trips) (v3034 : BitVec 32) : Prop :=
  (∀ (k0_h3 : k0_cond3 i = 1#1), ∀ a, (k0_off564 i k0_t5 v3034) a + S1x8x128.size a ≤ S7296x8x128.size a) ∧
  (∀ (k0_h3 : k0_cond3 i = 1#1), ∀ a, (k0_off567 i k0_t5 v3034) a + S1x8x128.size a ≤ S7296x8x128.size a) ∧
  (∀ (k0_h3 : k0_cond3 i = 1#1), ∀ a, (k0_off570 i k0_t5 v3034) a + S1x8x128.size a ≤ S7296x8x128.size a) ∧
  (∀ (k0_h3 : k0_cond3 i = 1#1), ∀ a, (k0_off573 i k0_t5 v3034) a + S1x8x128.size a ≤ S7296x8x128.size a) ∧
  (∀ (k0_h3 : k0_cond3 i = 1#1), ∀ (r : Fin 4), ∀ a, (k0_off575 i k0_t5 v3034 (BitVec.ofNat 32 r.val)) a + S1x8x128.size a ≤ S7296x8x128.size a)
theorem k0_off564_inb : ∀ (i : grid0.Coords) (k0_t5 : Fin k0_t5_loop.trips) (v3034 : BitVec 32) (k0_hw196 : k0_chk196 i k0_t5 v3034), ∀ (k0_h3 : k0_cond3 i = 1#1), ∀ a, (k0_off564 i k0_t5 v3034) a + S1x8x128.size a ≤ S7296x8x128.size a := fun i k0_t5 v3034 k0_hw196 k0_h3 => k0_hw196.1 k0_h3
theorem k0_off567_inb : ∀ (i : grid0.Coords) (k0_t5 : Fin k0_t5_loop.trips) (v3034 : BitVec 32) (k0_hw196 : k0_chk196 i k0_t5 v3034), ∀ (k0_h3 : k0_cond3 i = 1#1), ∀ a, (k0_off567 i k0_t5 v3034) a + S1x8x128.size a ≤ S7296x8x128.size a := fun i k0_t5 v3034 k0_hw196 k0_h3 => k0_hw196.2.1 k0_h3
theorem k0_off570_inb : ∀ (i : grid0.Coords) (k0_t5 : Fin k0_t5_loop.trips) (v3034 : BitVec 32) (k0_hw196 : k0_chk196 i k0_t5 v3034), ∀ (k0_h3 : k0_cond3 i = 1#1), ∀ a, (k0_off570 i k0_t5 v3034) a + S1x8x128.size a ≤ S7296x8x128.size a := fun i k0_t5 v3034 k0_hw196 k0_h3 => k0_hw196.2.2.1 k0_h3
theorem k0_off573_inb : ∀ (i : grid0.Coords) (k0_t5 : Fin k0_t5_loop.trips) (v3034 : BitVec 32) (k0_hw196 : k0_chk196 i k0_t5 v3034), ∀ (k0_h3 : k0_cond3 i = 1#1), ∀ a, (k0_off573 i k0_t5 v3034) a + S1x8x128.size a ≤ S7296x8x128.size a := fun i k0_t5 v3034 k0_hw196 k0_h3 => k0_hw196.2.2.2.1 k0_h3
theorem k0_off575_inb : ∀ (i : grid0.Coords) (k0_t5 : Fin k0_t5_loop.trips) (v3034 : BitVec 32) (k0_hw196 : k0_chk196 i k0_t5 v3034), ∀ (k0_h3 : k0_cond3 i = 1#1), ∀ (r : Fin 4), ∀ a, (k0_off575 i k0_t5 v3034 (BitVec.ofNat 32 r.val)) a + S1x8x128.size a ≤ S7296x8x128.size a := fun i k0_t5 v3034 k0_hw196 k0_h3 r => k0_hw196.2.2.2.2 k0_h3 r

def k0_off576 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1442 : BitVec 32 := 38#32
  let v3102 : BitVec 32 := Scalar.muli arg13 c38_i32_1442
  let c2_i32_1443 : BitVec 32 := 2#32
  let v3103 : BitVec 32 := Scalar.addi v3102 c2_i32_1443
  let v3104 : Index := Scalar.indexCast v3103
  ![v3104.toNat]
def k0_off577 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1442 : BitVec 32 := 38#32
  let v3102 : BitVec 32 := Scalar.muli arg13 c38_i32_1442
  let c2_i32_1443 : BitVec 32 := 2#32
  let v3103 : BitVec 32 := Scalar.addi v3102 c2_i32_1443
  let c4_i32_1452 : BitVec 32 := 4#32
  let v3117 : BitVec 32 := Scalar.muli v3103 c4_i32_1452
  let c0_i32_1453 : BitVec 32 := 0#32
  let v3118 : BitVec 32 := Scalar.addi v3117 c0_i32_1453
  let v3119 : Index := Scalar.indexCast v3118
  ![v3119.toNat]
def k0_off578 (i : grid0.Coords) (k0_t5 : Fin k0_t5_loop.trips) (v3105 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1445 : BitVec 32 := 2#32
  let v3108 : BitVec 32 := Scalar.muli v2959 c2_i32_1445
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3106 : BitVec 32 := Scalar.shrui v3105 v2958
  let c1_i32_1444 : BitVec 32 := 1#32
  let v3107 : BitVec 32 := Scalar.andi v3106 c1_i32_1444
  let v3109 : BitVec 32 := Scalar.addi v3108 v3107
  let c1216_i32_1446 : BitVec 32 := 1216#32
  let v3110 : BitVec 32 := Scalar.muli v3109 c1216_i32_1446
  let c0_i32_7 : BitVec 32 := 0#32
  let c1_i32_9 : BitVec 32 := 1#32
  let arg13 : BitVec 32 := Scf.iv c0_i32_7 c1_i32_9 k0_t5
  let c38_i32_1442 : BitVec 32 := 38#32
  let v3102 : BitVec 32 := Scalar.muli arg13 c38_i32_1442
  let c2_i32_1443 : BitVec 32 := 2#32
  let v3103 : BitVec 32 := Scalar.addi v3102 c2_i32_1443
  let c4_i32_1447 : BitVec 32 := 4#32
  let v3111 : BitVec 32 := Scalar.muli v3103 c4_i32_1447
  let v3112 : BitVec 32 := Scalar.addi v3110 v3111
  let c0_i32_1448 : BitVec 32 := 0#32
  let v3113 : BitVec 32 := Scalar.addi v3112 c0_i32_1448
  let v3121 : Index := Scalar.indexCast v3113
  let c0_1454 : Index := 0#32
  let c0_1455 : Index := 0#32
  ![v3121.toNat, 0, 0]

def k0_off579 (v3120 : BitVec 32) : Fin 2 → Nat :=
  let v3124 : Index := Scalar.indexCast v3120
  let c0_1456 : Index := 0#32
  ![v3124.toNat, 0]

def k0_chk202 (i : grid0.Coords) (v3120 : BitVec 32) : Prop :=
  (∀ (k0_h3 : k0_cond3 i = 1#1), ∀ a, (k0_off579 v3120) a + S8x128.size a ≤ S18432x128.size a)
theorem k0_off579_inb : ∀ (i : grid0.Coords) (v3120 : BitVec 32) (k0_hw202 : k0_chk202 i v3120), ∀ (k0_h3 : k0_cond3 i = 1#1), ∀ a, (k0_off579 v3120) a + S8x128.size a ≤ S18432x128.size a := fun i v3120 k0_hw202 k0_h3 => k0_hw202 k0_h3

def k0_off580 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1442 : BitVec 32 := 38#32
  let v3102 : BitVec 32 := Scalar.muli arg13 c38_i32_1442
  let c2_i32_1443 : BitVec 32 := 2#32
  let v3103 : BitVec 32 := Scalar.addi v3102 c2_i32_1443
  let c4_i32_1457 : BitVec 32 := 4#32
  let v3127 : BitVec 32 := Scalar.muli v3103 c4_i32_1457
  let c1_i32_1458 : BitVec 32 := 1#32
  let v3128 : BitVec 32 := Scalar.addi v3127 c1_i32_1458
  let v3129 : Index := Scalar.indexCast v3128
  ![v3129.toNat]
def k0_off581 (i : grid0.Coords) (k0_t5 : Fin k0_t5_loop.trips) (v3105 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1445 : BitVec 32 := 2#32
  let v3108 : BitVec 32 := Scalar.muli v2959 c2_i32_1445
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3106 : BitVec 32 := Scalar.shrui v3105 v2958
  let c1_i32_1444 : BitVec 32 := 1#32
  let v3107 : BitVec 32 := Scalar.andi v3106 c1_i32_1444
  let v3109 : BitVec 32 := Scalar.addi v3108 v3107
  let c1216_i32_1446 : BitVec 32 := 1216#32
  let v3110 : BitVec 32 := Scalar.muli v3109 c1216_i32_1446
  let c0_i32_7 : BitVec 32 := 0#32
  let c1_i32_9 : BitVec 32 := 1#32
  let arg13 : BitVec 32 := Scf.iv c0_i32_7 c1_i32_9 k0_t5
  let c38_i32_1442 : BitVec 32 := 38#32
  let v3102 : BitVec 32 := Scalar.muli arg13 c38_i32_1442
  let c2_i32_1443 : BitVec 32 := 2#32
  let v3103 : BitVec 32 := Scalar.addi v3102 c2_i32_1443
  let c4_i32_1447 : BitVec 32 := 4#32
  let v3111 : BitVec 32 := Scalar.muli v3103 c4_i32_1447
  let v3112 : BitVec 32 := Scalar.addi v3110 v3111
  let c1_i32_1449 : BitVec 32 := 1#32
  let v3114 : BitVec 32 := Scalar.addi v3112 c1_i32_1449
  let v3131 : Index := Scalar.indexCast v3114
  let c0_1459 : Index := 0#32
  let c0_1460 : Index := 0#32
  ![v3131.toNat, 0, 0]
def k0_off582 (v3130 : BitVec 32) : Fin 2 → Nat :=
  let v3134 : Index := Scalar.indexCast v3130
  let c0_1461 : Index := 0#32
  ![v3134.toNat, 0]

def k0_chk203 (i : grid0.Coords) (v3130 : BitVec 32) : Prop :=
  (∀ (k0_h3 : k0_cond3 i = 1#1), ∀ a, (k0_off582 v3130) a + S8x128.size a ≤ S18432x128.size a)
theorem k0_off582_inb : ∀ (i : grid0.Coords) (v3130 : BitVec 32) (k0_hw203 : k0_chk203 i v3130), ∀ (k0_h3 : k0_cond3 i = 1#1), ∀ a, (k0_off582 v3130) a + S8x128.size a ≤ S18432x128.size a := fun i v3130 k0_hw203 k0_h3 => k0_hw203 k0_h3

def k0_off583 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1442 : BitVec 32 := 38#32
  let v3102 : BitVec 32 := Scalar.muli arg13 c38_i32_1442
  let c2_i32_1443 : BitVec 32 := 2#32
  let v3103 : BitVec 32 := Scalar.addi v3102 c2_i32_1443
  let c4_i32_1462 : BitVec 32 := 4#32
  let v3137 : BitVec 32 := Scalar.muli v3103 c4_i32_1462
  let c2_i32_1463 : BitVec 32 := 2#32
  let v3138 : BitVec 32 := Scalar.addi v3137 c2_i32_1463
  let v3139 : Index := Scalar.indexCast v3138
  ![v3139.toNat]
def k0_off584 (i : grid0.Coords) (k0_t5 : Fin k0_t5_loop.trips) (v3105 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1445 : BitVec 32 := 2#32
  let v3108 : BitVec 32 := Scalar.muli v2959 c2_i32_1445
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3106 : BitVec 32 := Scalar.shrui v3105 v2958
  let c1_i32_1444 : BitVec 32 := 1#32
  let v3107 : BitVec 32 := Scalar.andi v3106 c1_i32_1444
  let v3109 : BitVec 32 := Scalar.addi v3108 v3107
  let c1216_i32_1446 : BitVec 32 := 1216#32
  let v3110 : BitVec 32 := Scalar.muli v3109 c1216_i32_1446
  let c0_i32_7 : BitVec 32 := 0#32
  let c1_i32_9 : BitVec 32 := 1#32
  let arg13 : BitVec 32 := Scf.iv c0_i32_7 c1_i32_9 k0_t5
  let c38_i32_1442 : BitVec 32 := 38#32
  let v3102 : BitVec 32 := Scalar.muli arg13 c38_i32_1442
  let c2_i32_1443 : BitVec 32 := 2#32
  let v3103 : BitVec 32 := Scalar.addi v3102 c2_i32_1443
  let c4_i32_1447 : BitVec 32 := 4#32
  let v3111 : BitVec 32 := Scalar.muli v3103 c4_i32_1447
  let v3112 : BitVec 32 := Scalar.addi v3110 v3111
  let c2_i32_1450 : BitVec 32 := 2#32
  let v3115 : BitVec 32 := Scalar.addi v3112 c2_i32_1450
  let v3141 : Index := Scalar.indexCast v3115
  let c0_1464 : Index := 0#32
  let c0_1465 : Index := 0#32
  ![v3141.toNat, 0, 0]
def k0_off585 (v3140 : BitVec 32) : Fin 2 → Nat :=
  let v3144 : Index := Scalar.indexCast v3140
  let c0_1466 : Index := 0#32
  ![v3144.toNat, 0]

def k0_chk204 (i : grid0.Coords) (v3140 : BitVec 32) : Prop :=
  (∀ (k0_h3 : k0_cond3 i = 1#1), ∀ a, (k0_off585 v3140) a + S8x128.size a ≤ S18432x128.size a)
theorem k0_off585_inb : ∀ (i : grid0.Coords) (v3140 : BitVec 32) (k0_hw204 : k0_chk204 i v3140), ∀ (k0_h3 : k0_cond3 i = 1#1), ∀ a, (k0_off585 v3140) a + S8x128.size a ≤ S18432x128.size a := fun i v3140 k0_hw204 k0_h3 => k0_hw204 k0_h3

def k0_off586 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1442 : BitVec 32 := 38#32
  let v3102 : BitVec 32 := Scalar.muli arg13 c38_i32_1442
  let c2_i32_1443 : BitVec 32 := 2#32
  let v3103 : BitVec 32 := Scalar.addi v3102 c2_i32_1443
  let c4_i32_1467 : BitVec 32 := 4#32
  let v3147 : BitVec 32 := Scalar.muli v3103 c4_i32_1467
  let c3_i32_1468 : BitVec 32 := 3#32
  let v3148 : BitVec 32 := Scalar.addi v3147 c3_i32_1468
  let v3149 : Index := Scalar.indexCast v3148
  ![v3149.toNat]
def k0_off587 (i : grid0.Coords) (k0_t5 : Fin k0_t5_loop.trips) (v3105 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1445 : BitVec 32 := 2#32
  let v3108 : BitVec 32 := Scalar.muli v2959 c2_i32_1445
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3106 : BitVec 32 := Scalar.shrui v3105 v2958
  let c1_i32_1444 : BitVec 32 := 1#32
  let v3107 : BitVec 32 := Scalar.andi v3106 c1_i32_1444
  let v3109 : BitVec 32 := Scalar.addi v3108 v3107
  let c1216_i32_1446 : BitVec 32 := 1216#32
  let v3110 : BitVec 32 := Scalar.muli v3109 c1216_i32_1446
  let c0_i32_7 : BitVec 32 := 0#32
  let c1_i32_9 : BitVec 32 := 1#32
  let arg13 : BitVec 32 := Scf.iv c0_i32_7 c1_i32_9 k0_t5
  let c38_i32_1442 : BitVec 32 := 38#32
  let v3102 : BitVec 32 := Scalar.muli arg13 c38_i32_1442
  let c2_i32_1443 : BitVec 32 := 2#32
  let v3103 : BitVec 32 := Scalar.addi v3102 c2_i32_1443
  let c4_i32_1447 : BitVec 32 := 4#32
  let v3111 : BitVec 32 := Scalar.muli v3103 c4_i32_1447
  let v3112 : BitVec 32 := Scalar.addi v3110 v3111
  let c3_i32_1451 : BitVec 32 := 3#32
  let v3116 : BitVec 32 := Scalar.addi v3112 c3_i32_1451
  let v3151 : Index := Scalar.indexCast v3116
  let c0_1469 : Index := 0#32
  let c0_1470 : Index := 0#32
  ![v3151.toNat, 0, 0]
def k0_off588 (v3150 : BitVec 32) : Fin 2 → Nat :=
  let v3154 : Index := Scalar.indexCast v3150
  let c0_1471 : Index := 0#32
  ![v3154.toNat, 0]

def k0_chk205 (i : grid0.Coords) (v3150 : BitVec 32) : Prop :=
  (∀ (k0_h3 : k0_cond3 i = 1#1), ∀ a, (k0_off588 v3150) a + S8x128.size a ≤ S18432x128.size a)
theorem k0_off588_inb : ∀ (i : grid0.Coords) (v3150 : BitVec 32) (k0_hw205 : k0_chk205 i v3150), ∀ (k0_h3 : k0_cond3 i = 1#1), ∀ a, (k0_off588 v3150) a + S8x128.size a ≤ S18432x128.size a := fun i v3150 k0_hw205 k0_h3 => k0_hw205 k0_h3

def k0_off589 (i : grid0.Coords) (k0_t5 : Fin k0_t5_loop.trips) (v3105 : BitVec 32) (c0_i32_1448 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1445 : BitVec 32 := 2#32
  let v3108 : BitVec 32 := Scalar.muli v2959 c2_i32_1445
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3106 : BitVec 32 := Scalar.shrui v3105 v2958
  let c1_i32_1444 : BitVec 32 := 1#32
  let v3107 : BitVec 32 := Scalar.andi v3106 c1_i32_1444
  let v3109 : BitVec 32 := Scalar.addi v3108 v3107
  let c1216_i32_1446 : BitVec 32 := 1216#32
  let v3110 : BitVec 32 := Scalar.muli v3109 c1216_i32_1446
  let c0_i32_7 : BitVec 32 := 0#32
  let c1_i32_9 : BitVec 32 := 1#32
  let arg13 : BitVec 32 := Scf.iv c0_i32_7 c1_i32_9 k0_t5
  let c38_i32_1442 : BitVec 32 := 38#32
  let v3102 : BitVec 32 := Scalar.muli arg13 c38_i32_1442
  let c2_i32_1443 : BitVec 32 := 2#32
  let v3103 : BitVec 32 := Scalar.addi v3102 c2_i32_1443
  let c4_i32_1447 : BitVec 32 := 4#32
  let v3111 : BitVec 32 := Scalar.muli v3103 c4_i32_1447
  let v3112 : BitVec 32 := Scalar.addi v3110 v3111
  let v3113 : BitVec 32 := Scalar.addi v3112 c0_i32_1448
  let v3157 : Index := Scalar.indexCast v3113
  let c0_1472 : Index := 0#32
  let c0_1473 : Index := 0#32
  ![v3157.toNat, 0, 0]

def k0_chk201 (i : grid0.Coords) (k0_t5 : Fin k0_t5_loop.trips) (v3105 : BitVec 32) : Prop :=
  (∀ (k0_h3 : k0_cond3 i = 1#1), ∀ a, (k0_off578 i k0_t5 v3105) a + S1x8x128.size a ≤ S7296x8x128.size a) ∧
  (∀ (k0_h3 : k0_cond3 i = 1#1), ∀ a, (k0_off581 i k0_t5 v3105) a + S1x8x128.size a ≤ S7296x8x128.size a) ∧
  (∀ (k0_h3 : k0_cond3 i = 1#1), ∀ a, (k0_off584 i k0_t5 v3105) a + S1x8x128.size a ≤ S7296x8x128.size a) ∧
  (∀ (k0_h3 : k0_cond3 i = 1#1), ∀ a, (k0_off587 i k0_t5 v3105) a + S1x8x128.size a ≤ S7296x8x128.size a) ∧
  (∀ (k0_h3 : k0_cond3 i = 1#1), ∀ (r : Fin 4), ∀ a, (k0_off589 i k0_t5 v3105 (BitVec.ofNat 32 r.val)) a + S1x8x128.size a ≤ S7296x8x128.size a)
theorem k0_off578_inb : ∀ (i : grid0.Coords) (k0_t5 : Fin k0_t5_loop.trips) (v3105 : BitVec 32) (k0_hw201 : k0_chk201 i k0_t5 v3105), ∀ (k0_h3 : k0_cond3 i = 1#1), ∀ a, (k0_off578 i k0_t5 v3105) a + S1x8x128.size a ≤ S7296x8x128.size a := fun i k0_t5 v3105 k0_hw201 k0_h3 => k0_hw201.1 k0_h3
theorem k0_off581_inb : ∀ (i : grid0.Coords) (k0_t5 : Fin k0_t5_loop.trips) (v3105 : BitVec 32) (k0_hw201 : k0_chk201 i k0_t5 v3105), ∀ (k0_h3 : k0_cond3 i = 1#1), ∀ a, (k0_off581 i k0_t5 v3105) a + S1x8x128.size a ≤ S7296x8x128.size a := fun i k0_t5 v3105 k0_hw201 k0_h3 => k0_hw201.2.1 k0_h3
theorem k0_off584_inb : ∀ (i : grid0.Coords) (k0_t5 : Fin k0_t5_loop.trips) (v3105 : BitVec 32) (k0_hw201 : k0_chk201 i k0_t5 v3105), ∀ (k0_h3 : k0_cond3 i = 1#1), ∀ a, (k0_off584 i k0_t5 v3105) a + S1x8x128.size a ≤ S7296x8x128.size a := fun i k0_t5 v3105 k0_hw201 k0_h3 => k0_hw201.2.2.1 k0_h3
theorem k0_off587_inb : ∀ (i : grid0.Coords) (k0_t5 : Fin k0_t5_loop.trips) (v3105 : BitVec 32) (k0_hw201 : k0_chk201 i k0_t5 v3105), ∀ (k0_h3 : k0_cond3 i = 1#1), ∀ a, (k0_off587 i k0_t5 v3105) a + S1x8x128.size a ≤ S7296x8x128.size a := fun i k0_t5 v3105 k0_hw201 k0_h3 => k0_hw201.2.2.2.1 k0_h3
theorem k0_off589_inb : ∀ (i : grid0.Coords) (k0_t5 : Fin k0_t5_loop.trips) (v3105 : BitVec 32) (k0_hw201 : k0_chk201 i k0_t5 v3105), ∀ (k0_h3 : k0_cond3 i = 1#1), ∀ (r : Fin 4), ∀ a, (k0_off589 i k0_t5 v3105 (BitVec.ofNat 32 r.val)) a + S1x8x128.size a ≤ S7296x8x128.size a := fun i k0_t5 v3105 k0_hw201 k0_h3 r => k0_hw201.2.2.2.2 k0_h3 r

def k0_off590 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1480 : BitVec 32 := 38#32
  let v3173 : BitVec 32 := Scalar.muli arg13 c38_i32_1480
  let c3_i32_1481 : BitVec 32 := 3#32
  let v3174 : BitVec 32 := Scalar.addi v3173 c3_i32_1481
  let v3175 : Index := Scalar.indexCast v3174
  ![v3175.toNat]
def k0_off591 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1480 : BitVec 32 := 38#32
  let v3173 : BitVec 32 := Scalar.muli arg13 c38_i32_1480
  let c3_i32_1481 : BitVec 32 := 3#32
  let v3174 : BitVec 32 := Scalar.addi v3173 c3_i32_1481
  let c4_i32_1490 : BitVec 32 := 4#32
  let v3188 : BitVec 32 := Scalar.muli v3174 c4_i32_1490
  let c0_i32_1491 : BitVec 32 := 0#32
  let v3189 : BitVec 32 := Scalar.addi v3188 c0_i32_1491
  let v3190 : Index := Scalar.indexCast v3189
  ![v3190.toNat]
def k0_off592 (i : grid0.Coords) (k0_t5 : Fin k0_t5_loop.trips) (v3176 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1483 : BitVec 32 := 2#32
  let v3179 : BitVec 32 := Scalar.muli v2959 c2_i32_1483
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3177 : BitVec 32 := Scalar.shrui v3176 v2958
  let c1_i32_1482 : BitVec 32 := 1#32
  let v3178 : BitVec 32 := Scalar.andi v3177 c1_i32_1482
  let v3180 : BitVec 32 := Scalar.addi v3179 v3178
  let c1216_i32_1484 : BitVec 32 := 1216#32
  let v3181 : BitVec 32 := Scalar.muli v3180 c1216_i32_1484
  let c0_i32_7 : BitVec 32 := 0#32
  let c1_i32_9 : BitVec 32 := 1#32
  let arg13 : BitVec 32 := Scf.iv c0_i32_7 c1_i32_9 k0_t5
  let c38_i32_1480 : BitVec 32 := 38#32
  let v3173 : BitVec 32 := Scalar.muli arg13 c38_i32_1480
  let c3_i32_1481 : BitVec 32 := 3#32
  let v3174 : BitVec 32 := Scalar.addi v3173 c3_i32_1481
  let c4_i32_1485 : BitVec 32 := 4#32
  let v3182 : BitVec 32 := Scalar.muli v3174 c4_i32_1485
  let v3183 : BitVec 32 := Scalar.addi v3181 v3182
  let c0_i32_1486 : BitVec 32 := 0#32
  let v3184 : BitVec 32 := Scalar.addi v3183 c0_i32_1486
  let v3192 : Index := Scalar.indexCast v3184
  let c0_1492 : Index := 0#32
  let c0_1493 : Index := 0#32
  ![v3192.toNat, 0, 0]

def k0_off593 (v3191 : BitVec 32) : Fin 2 → Nat :=
  let v3195 : Index := Scalar.indexCast v3191
  let c0_1494 : Index := 0#32
  ![v3195.toNat, 0]

def k0_chk207 (i : grid0.Coords) (v3191 : BitVec 32) : Prop :=
  (∀ (k0_h3 : k0_cond3 i = 1#1), ∀ a, (k0_off593 v3191) a + S8x128.size a ≤ S18432x128.size a)
theorem k0_off593_inb : ∀ (i : grid0.Coords) (v3191 : BitVec 32) (k0_hw207 : k0_chk207 i v3191), ∀ (k0_h3 : k0_cond3 i = 1#1), ∀ a, (k0_off593 v3191) a + S8x128.size a ≤ S18432x128.size a := fun i v3191 k0_hw207 k0_h3 => k0_hw207 k0_h3

def k0_off594 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1480 : BitVec 32 := 38#32
  let v3173 : BitVec 32 := Scalar.muli arg13 c38_i32_1480
  let c3_i32_1481 : BitVec 32 := 3#32
  let v3174 : BitVec 32 := Scalar.addi v3173 c3_i32_1481
  let c4_i32_1495 : BitVec 32 := 4#32
  let v3198 : BitVec 32 := Scalar.muli v3174 c4_i32_1495
  let c1_i32_1496 : BitVec 32 := 1#32
  let v3199 : BitVec 32 := Scalar.addi v3198 c1_i32_1496
  let v3200 : Index := Scalar.indexCast v3199
  ![v3200.toNat]
def k0_off595 (i : grid0.Coords) (k0_t5 : Fin k0_t5_loop.trips) (v3176 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1483 : BitVec 32 := 2#32
  let v3179 : BitVec 32 := Scalar.muli v2959 c2_i32_1483
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3177 : BitVec 32 := Scalar.shrui v3176 v2958
  let c1_i32_1482 : BitVec 32 := 1#32
  let v3178 : BitVec 32 := Scalar.andi v3177 c1_i32_1482
  let v3180 : BitVec 32 := Scalar.addi v3179 v3178
  let c1216_i32_1484 : BitVec 32 := 1216#32
  let v3181 : BitVec 32 := Scalar.muli v3180 c1216_i32_1484
  let c0_i32_7 : BitVec 32 := 0#32
  let c1_i32_9 : BitVec 32 := 1#32
  let arg13 : BitVec 32 := Scf.iv c0_i32_7 c1_i32_9 k0_t5
  let c38_i32_1480 : BitVec 32 := 38#32
  let v3173 : BitVec 32 := Scalar.muli arg13 c38_i32_1480
  let c3_i32_1481 : BitVec 32 := 3#32
  let v3174 : BitVec 32 := Scalar.addi v3173 c3_i32_1481
  let c4_i32_1485 : BitVec 32 := 4#32
  let v3182 : BitVec 32 := Scalar.muli v3174 c4_i32_1485
  let v3183 : BitVec 32 := Scalar.addi v3181 v3182
  let c1_i32_1487 : BitVec 32 := 1#32
  let v3185 : BitVec 32 := Scalar.addi v3183 c1_i32_1487
  let v3202 : Index := Scalar.indexCast v3185
  let c0_1497 : Index := 0#32
  let c0_1498 : Index := 0#32
  ![v3202.toNat, 0, 0]
def k0_off596 (v3201 : BitVec 32) : Fin 2 → Nat :=
  let v3205 : Index := Scalar.indexCast v3201
  let c0_1499 : Index := 0#32
  ![v3205.toNat, 0]

def k0_chk208 (i : grid0.Coords) (v3201 : BitVec 32) : Prop :=
  (∀ (k0_h3 : k0_cond3 i = 1#1), ∀ a, (k0_off596 v3201) a + S8x128.size a ≤ S18432x128.size a)
theorem k0_off596_inb : ∀ (i : grid0.Coords) (v3201 : BitVec 32) (k0_hw208 : k0_chk208 i v3201), ∀ (k0_h3 : k0_cond3 i = 1#1), ∀ a, (k0_off596 v3201) a + S8x128.size a ≤ S18432x128.size a := fun i v3201 k0_hw208 k0_h3 => k0_hw208 k0_h3

def k0_off597 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1480 : BitVec 32 := 38#32
  let v3173 : BitVec 32 := Scalar.muli arg13 c38_i32_1480
  let c3_i32_1481 : BitVec 32 := 3#32
  let v3174 : BitVec 32 := Scalar.addi v3173 c3_i32_1481
  let c4_i32_1500 : BitVec 32 := 4#32
  let v3208 : BitVec 32 := Scalar.muli v3174 c4_i32_1500
  let c2_i32_1501 : BitVec 32 := 2#32
  let v3209 : BitVec 32 := Scalar.addi v3208 c2_i32_1501
  let v3210 : Index := Scalar.indexCast v3209
  ![v3210.toNat]
def k0_off598 (i : grid0.Coords) (k0_t5 : Fin k0_t5_loop.trips) (v3176 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1483 : BitVec 32 := 2#32
  let v3179 : BitVec 32 := Scalar.muli v2959 c2_i32_1483
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3177 : BitVec 32 := Scalar.shrui v3176 v2958
  let c1_i32_1482 : BitVec 32 := 1#32
  let v3178 : BitVec 32 := Scalar.andi v3177 c1_i32_1482
  let v3180 : BitVec 32 := Scalar.addi v3179 v3178
  let c1216_i32_1484 : BitVec 32 := 1216#32
  let v3181 : BitVec 32 := Scalar.muli v3180 c1216_i32_1484
  let c0_i32_7 : BitVec 32 := 0#32
  let c1_i32_9 : BitVec 32 := 1#32
  let arg13 : BitVec 32 := Scf.iv c0_i32_7 c1_i32_9 k0_t5
  let c38_i32_1480 : BitVec 32 := 38#32
  let v3173 : BitVec 32 := Scalar.muli arg13 c38_i32_1480
  let c3_i32_1481 : BitVec 32 := 3#32
  let v3174 : BitVec 32 := Scalar.addi v3173 c3_i32_1481
  let c4_i32_1485 : BitVec 32 := 4#32
  let v3182 : BitVec 32 := Scalar.muli v3174 c4_i32_1485
  let v3183 : BitVec 32 := Scalar.addi v3181 v3182
  let c2_i32_1488 : BitVec 32 := 2#32
  let v3186 : BitVec 32 := Scalar.addi v3183 c2_i32_1488
  let v3212 : Index := Scalar.indexCast v3186
  let c0_1502 : Index := 0#32
  let c0_1503 : Index := 0#32
  ![v3212.toNat, 0, 0]
def k0_off599 (v3211 : BitVec 32) : Fin 2 → Nat :=
  let v3215 : Index := Scalar.indexCast v3211
  let c0_1504 : Index := 0#32
  ![v3215.toNat, 0]

def k0_chk209 (i : grid0.Coords) (v3211 : BitVec 32) : Prop :=
  (∀ (k0_h3 : k0_cond3 i = 1#1), ∀ a, (k0_off599 v3211) a + S8x128.size a ≤ S18432x128.size a)
theorem k0_off599_inb : ∀ (i : grid0.Coords) (v3211 : BitVec 32) (k0_hw209 : k0_chk209 i v3211), ∀ (k0_h3 : k0_cond3 i = 1#1), ∀ a, (k0_off599 v3211) a + S8x128.size a ≤ S18432x128.size a := fun i v3211 k0_hw209 k0_h3 => k0_hw209 k0_h3

def k0_off600 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1480 : BitVec 32 := 38#32
  let v3173 : BitVec 32 := Scalar.muli arg13 c38_i32_1480
  let c3_i32_1481 : BitVec 32 := 3#32
  let v3174 : BitVec 32 := Scalar.addi v3173 c3_i32_1481
  let c4_i32_1505 : BitVec 32 := 4#32
  let v3218 : BitVec 32 := Scalar.muli v3174 c4_i32_1505
  let c3_i32_1506 : BitVec 32 := 3#32
  let v3219 : BitVec 32 := Scalar.addi v3218 c3_i32_1506
  let v3220 : Index := Scalar.indexCast v3219
  ![v3220.toNat]
def k0_off601 (i : grid0.Coords) (k0_t5 : Fin k0_t5_loop.trips) (v3176 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1483 : BitVec 32 := 2#32
  let v3179 : BitVec 32 := Scalar.muli v2959 c2_i32_1483
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3177 : BitVec 32 := Scalar.shrui v3176 v2958
  let c1_i32_1482 : BitVec 32 := 1#32
  let v3178 : BitVec 32 := Scalar.andi v3177 c1_i32_1482
  let v3180 : BitVec 32 := Scalar.addi v3179 v3178
  let c1216_i32_1484 : BitVec 32 := 1216#32
  let v3181 : BitVec 32 := Scalar.muli v3180 c1216_i32_1484
  let c0_i32_7 : BitVec 32 := 0#32
  let c1_i32_9 : BitVec 32 := 1#32
  let arg13 : BitVec 32 := Scf.iv c0_i32_7 c1_i32_9 k0_t5
  let c38_i32_1480 : BitVec 32 := 38#32
  let v3173 : BitVec 32 := Scalar.muli arg13 c38_i32_1480
  let c3_i32_1481 : BitVec 32 := 3#32
  let v3174 : BitVec 32 := Scalar.addi v3173 c3_i32_1481
  let c4_i32_1485 : BitVec 32 := 4#32
  let v3182 : BitVec 32 := Scalar.muli v3174 c4_i32_1485
  let v3183 : BitVec 32 := Scalar.addi v3181 v3182
  let c3_i32_1489 : BitVec 32 := 3#32
  let v3187 : BitVec 32 := Scalar.addi v3183 c3_i32_1489
  let v3222 : Index := Scalar.indexCast v3187
  let c0_1507 : Index := 0#32
  let c0_1508 : Index := 0#32
  ![v3222.toNat, 0, 0]
def k0_off602 (v3221 : BitVec 32) : Fin 2 → Nat :=
  let v3225 : Index := Scalar.indexCast v3221
  let c0_1509 : Index := 0#32
  ![v3225.toNat, 0]

def k0_chk210 (i : grid0.Coords) (v3221 : BitVec 32) : Prop :=
  (∀ (k0_h3 : k0_cond3 i = 1#1), ∀ a, (k0_off602 v3221) a + S8x128.size a ≤ S18432x128.size a)
theorem k0_off602_inb : ∀ (i : grid0.Coords) (v3221 : BitVec 32) (k0_hw210 : k0_chk210 i v3221), ∀ (k0_h3 : k0_cond3 i = 1#1), ∀ a, (k0_off602 v3221) a + S8x128.size a ≤ S18432x128.size a := fun i v3221 k0_hw210 k0_h3 => k0_hw210 k0_h3

def k0_off603 (i : grid0.Coords) (k0_t5 : Fin k0_t5_loop.trips) (v3176 : BitVec 32) (c0_i32_1486 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1483 : BitVec 32 := 2#32
  let v3179 : BitVec 32 := Scalar.muli v2959 c2_i32_1483
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3177 : BitVec 32 := Scalar.shrui v3176 v2958
  let c1_i32_1482 : BitVec 32 := 1#32
  let v3178 : BitVec 32 := Scalar.andi v3177 c1_i32_1482
  let v3180 : BitVec 32 := Scalar.addi v3179 v3178
  let c1216_i32_1484 : BitVec 32 := 1216#32
  let v3181 : BitVec 32 := Scalar.muli v3180 c1216_i32_1484
  let c0_i32_7 : BitVec 32 := 0#32
  let c1_i32_9 : BitVec 32 := 1#32
  let arg13 : BitVec 32 := Scf.iv c0_i32_7 c1_i32_9 k0_t5
  let c38_i32_1480 : BitVec 32 := 38#32
  let v3173 : BitVec 32 := Scalar.muli arg13 c38_i32_1480
  let c3_i32_1481 : BitVec 32 := 3#32
  let v3174 : BitVec 32 := Scalar.addi v3173 c3_i32_1481
  let c4_i32_1485 : BitVec 32 := 4#32
  let v3182 : BitVec 32 := Scalar.muli v3174 c4_i32_1485
  let v3183 : BitVec 32 := Scalar.addi v3181 v3182
  let v3184 : BitVec 32 := Scalar.addi v3183 c0_i32_1486
  let v3228 : Index := Scalar.indexCast v3184
  let c0_1510 : Index := 0#32
  let c0_1511 : Index := 0#32
  ![v3228.toNat, 0, 0]

def k0_chk206 (i : grid0.Coords) (k0_t5 : Fin k0_t5_loop.trips) (v3176 : BitVec 32) : Prop :=
  (∀ (k0_h3 : k0_cond3 i = 1#1), ∀ a, (k0_off592 i k0_t5 v3176) a + S1x8x128.size a ≤ S7296x8x128.size a) ∧
  (∀ (k0_h3 : k0_cond3 i = 1#1), ∀ a, (k0_off595 i k0_t5 v3176) a + S1x8x128.size a ≤ S7296x8x128.size a) ∧
  (∀ (k0_h3 : k0_cond3 i = 1#1), ∀ a, (k0_off598 i k0_t5 v3176) a + S1x8x128.size a ≤ S7296x8x128.size a) ∧
  (∀ (k0_h3 : k0_cond3 i = 1#1), ∀ a, (k0_off601 i k0_t5 v3176) a + S1x8x128.size a ≤ S7296x8x128.size a) ∧
  (∀ (k0_h3 : k0_cond3 i = 1#1), ∀ (r : Fin 4), ∀ a, (k0_off603 i k0_t5 v3176 (BitVec.ofNat 32 r.val)) a + S1x8x128.size a ≤ S7296x8x128.size a)
theorem k0_off592_inb : ∀ (i : grid0.Coords) (k0_t5 : Fin k0_t5_loop.trips) (v3176 : BitVec 32) (k0_hw206 : k0_chk206 i k0_t5 v3176), ∀ (k0_h3 : k0_cond3 i = 1#1), ∀ a, (k0_off592 i k0_t5 v3176) a + S1x8x128.size a ≤ S7296x8x128.size a := fun i k0_t5 v3176 k0_hw206 k0_h3 => k0_hw206.1 k0_h3
theorem k0_off595_inb : ∀ (i : grid0.Coords) (k0_t5 : Fin k0_t5_loop.trips) (v3176 : BitVec 32) (k0_hw206 : k0_chk206 i k0_t5 v3176), ∀ (k0_h3 : k0_cond3 i = 1#1), ∀ a, (k0_off595 i k0_t5 v3176) a + S1x8x128.size a ≤ S7296x8x128.size a := fun i k0_t5 v3176 k0_hw206 k0_h3 => k0_hw206.2.1 k0_h3
theorem k0_off598_inb : ∀ (i : grid0.Coords) (k0_t5 : Fin k0_t5_loop.trips) (v3176 : BitVec 32) (k0_hw206 : k0_chk206 i k0_t5 v3176), ∀ (k0_h3 : k0_cond3 i = 1#1), ∀ a, (k0_off598 i k0_t5 v3176) a + S1x8x128.size a ≤ S7296x8x128.size a := fun i k0_t5 v3176 k0_hw206 k0_h3 => k0_hw206.2.2.1 k0_h3
theorem k0_off601_inb : ∀ (i : grid0.Coords) (k0_t5 : Fin k0_t5_loop.trips) (v3176 : BitVec 32) (k0_hw206 : k0_chk206 i k0_t5 v3176), ∀ (k0_h3 : k0_cond3 i = 1#1), ∀ a, (k0_off601 i k0_t5 v3176) a + S1x8x128.size a ≤ S7296x8x128.size a := fun i k0_t5 v3176 k0_hw206 k0_h3 => k0_hw206.2.2.2.1 k0_h3
theorem k0_off603_inb : ∀ (i : grid0.Coords) (k0_t5 : Fin k0_t5_loop.trips) (v3176 : BitVec 32) (k0_hw206 : k0_chk206 i k0_t5 v3176), ∀ (k0_h3 : k0_cond3 i = 1#1), ∀ (r : Fin 4), ∀ a, (k0_off603 i k0_t5 v3176 (BitVec.ofNat 32 r.val)) a + S1x8x128.size a ≤ S7296x8x128.size a := fun i k0_t5 v3176 k0_hw206 k0_h3 r => k0_hw206.2.2.2.2 k0_h3 r

def k0_off604 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1518 : BitVec 32 := 38#32
  let v3244 : BitVec 32 := Scalar.muli arg13 c38_i32_1518
  let c4_i32_1519 : BitVec 32 := 4#32
  let v3245 : BitVec 32 := Scalar.addi v3244 c4_i32_1519
  let v3246 : Index := Scalar.indexCast v3245
  ![v3246.toNat]
def k0_off605 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1518 : BitVec 32 := 38#32
  let v3244 : BitVec 32 := Scalar.muli arg13 c38_i32_1518
  let c4_i32_1519 : BitVec 32 := 4#32
  let v3245 : BitVec 32 := Scalar.addi v3244 c4_i32_1519
  let c4_i32_1528 : BitVec 32 := 4#32
  let v3259 : BitVec 32 := Scalar.muli v3245 c4_i32_1528
  let c0_i32_1529 : BitVec 32 := 0#32
  let v3260 : BitVec 32 := Scalar.addi v3259 c0_i32_1529
  let v3261 : Index := Scalar.indexCast v3260
  ![v3261.toNat]
def k0_off606 (i : grid0.Coords) (k0_t5 : Fin k0_t5_loop.trips) (v3247 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1521 : BitVec 32 := 2#32
  let v3250 : BitVec 32 := Scalar.muli v2959 c2_i32_1521
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3248 : BitVec 32 := Scalar.shrui v3247 v2958
  let c1_i32_1520 : BitVec 32 := 1#32
  let v3249 : BitVec 32 := Scalar.andi v3248 c1_i32_1520
  let v3251 : BitVec 32 := Scalar.addi v3250 v3249
  let c1216_i32_1522 : BitVec 32 := 1216#32
  let v3252 : BitVec 32 := Scalar.muli v3251 c1216_i32_1522
  let c0_i32_7 : BitVec 32 := 0#32
  let c1_i32_9 : BitVec 32 := 1#32
  let arg13 : BitVec 32 := Scf.iv c0_i32_7 c1_i32_9 k0_t5
  let c38_i32_1518 : BitVec 32 := 38#32
  let v3244 : BitVec 32 := Scalar.muli arg13 c38_i32_1518
  let c4_i32_1519 : BitVec 32 := 4#32
  let v3245 : BitVec 32 := Scalar.addi v3244 c4_i32_1519
  let c4_i32_1523 : BitVec 32 := 4#32
  let v3253 : BitVec 32 := Scalar.muli v3245 c4_i32_1523
  let v3254 : BitVec 32 := Scalar.addi v3252 v3253
  let c0_i32_1524 : BitVec 32 := 0#32
  let v3255 : BitVec 32 := Scalar.addi v3254 c0_i32_1524
  let v3263 : Index := Scalar.indexCast v3255
  let c0_1530 : Index := 0#32
  let c0_1531 : Index := 0#32
  ![v3263.toNat, 0, 0]

def k0_off607 (v3262 : BitVec 32) : Fin 2 → Nat :=
  let v3266 : Index := Scalar.indexCast v3262
  let c0_1532 : Index := 0#32
  ![v3266.toNat, 0]

def k0_chk212 (i : grid0.Coords) (v3262 : BitVec 32) : Prop :=
  (∀ (k0_h3 : k0_cond3 i = 1#1), ∀ a, (k0_off607 v3262) a + S8x128.size a ≤ S18432x128.size a)
theorem k0_off607_inb : ∀ (i : grid0.Coords) (v3262 : BitVec 32) (k0_hw212 : k0_chk212 i v3262), ∀ (k0_h3 : k0_cond3 i = 1#1), ∀ a, (k0_off607 v3262) a + S8x128.size a ≤ S18432x128.size a := fun i v3262 k0_hw212 k0_h3 => k0_hw212 k0_h3

def k0_off608 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1518 : BitVec 32 := 38#32
  let v3244 : BitVec 32 := Scalar.muli arg13 c38_i32_1518
  let c4_i32_1519 : BitVec 32 := 4#32
  let v3245 : BitVec 32 := Scalar.addi v3244 c4_i32_1519
  let c4_i32_1533 : BitVec 32 := 4#32
  let v3269 : BitVec 32 := Scalar.muli v3245 c4_i32_1533
  let c1_i32_1534 : BitVec 32 := 1#32
  let v3270 : BitVec 32 := Scalar.addi v3269 c1_i32_1534
  let v3271 : Index := Scalar.indexCast v3270
  ![v3271.toNat]
def k0_off609 (i : grid0.Coords) (k0_t5 : Fin k0_t5_loop.trips) (v3247 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1521 : BitVec 32 := 2#32
  let v3250 : BitVec 32 := Scalar.muli v2959 c2_i32_1521
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3248 : BitVec 32 := Scalar.shrui v3247 v2958
  let c1_i32_1520 : BitVec 32 := 1#32
  let v3249 : BitVec 32 := Scalar.andi v3248 c1_i32_1520
  let v3251 : BitVec 32 := Scalar.addi v3250 v3249
  let c1216_i32_1522 : BitVec 32 := 1216#32
  let v3252 : BitVec 32 := Scalar.muli v3251 c1216_i32_1522
  let c0_i32_7 : BitVec 32 := 0#32
  let c1_i32_9 : BitVec 32 := 1#32
  let arg13 : BitVec 32 := Scf.iv c0_i32_7 c1_i32_9 k0_t5
  let c38_i32_1518 : BitVec 32 := 38#32
  let v3244 : BitVec 32 := Scalar.muli arg13 c38_i32_1518
  let c4_i32_1519 : BitVec 32 := 4#32
  let v3245 : BitVec 32 := Scalar.addi v3244 c4_i32_1519
  let c4_i32_1523 : BitVec 32 := 4#32
  let v3253 : BitVec 32 := Scalar.muli v3245 c4_i32_1523
  let v3254 : BitVec 32 := Scalar.addi v3252 v3253
  let c1_i32_1525 : BitVec 32 := 1#32
  let v3256 : BitVec 32 := Scalar.addi v3254 c1_i32_1525
  let v3273 : Index := Scalar.indexCast v3256
  let c0_1535 : Index := 0#32
  let c0_1536 : Index := 0#32
  ![v3273.toNat, 0, 0]
def k0_off610 (v3272 : BitVec 32) : Fin 2 → Nat :=
  let v3276 : Index := Scalar.indexCast v3272
  let c0_1537 : Index := 0#32
  ![v3276.toNat, 0]

def k0_chk213 (i : grid0.Coords) (v3272 : BitVec 32) : Prop :=
  (∀ (k0_h3 : k0_cond3 i = 1#1), ∀ a, (k0_off610 v3272) a + S8x128.size a ≤ S18432x128.size a)
theorem k0_off610_inb : ∀ (i : grid0.Coords) (v3272 : BitVec 32) (k0_hw213 : k0_chk213 i v3272), ∀ (k0_h3 : k0_cond3 i = 1#1), ∀ a, (k0_off610 v3272) a + S8x128.size a ≤ S18432x128.size a := fun i v3272 k0_hw213 k0_h3 => k0_hw213 k0_h3

def k0_off611 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1518 : BitVec 32 := 38#32
  let v3244 : BitVec 32 := Scalar.muli arg13 c38_i32_1518
  let c4_i32_1519 : BitVec 32 := 4#32
  let v3245 : BitVec 32 := Scalar.addi v3244 c4_i32_1519
  let c4_i32_1538 : BitVec 32 := 4#32
  let v3279 : BitVec 32 := Scalar.muli v3245 c4_i32_1538
  let c2_i32_1539 : BitVec 32 := 2#32
  let v3280 : BitVec 32 := Scalar.addi v3279 c2_i32_1539
  let v3281 : Index := Scalar.indexCast v3280
  ![v3281.toNat]
def k0_off612 (i : grid0.Coords) (k0_t5 : Fin k0_t5_loop.trips) (v3247 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1521 : BitVec 32 := 2#32
  let v3250 : BitVec 32 := Scalar.muli v2959 c2_i32_1521
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3248 : BitVec 32 := Scalar.shrui v3247 v2958
  let c1_i32_1520 : BitVec 32 := 1#32
  let v3249 : BitVec 32 := Scalar.andi v3248 c1_i32_1520
  let v3251 : BitVec 32 := Scalar.addi v3250 v3249
  let c1216_i32_1522 : BitVec 32 := 1216#32
  let v3252 : BitVec 32 := Scalar.muli v3251 c1216_i32_1522
  let c0_i32_7 : BitVec 32 := 0#32
  let c1_i32_9 : BitVec 32 := 1#32
  let arg13 : BitVec 32 := Scf.iv c0_i32_7 c1_i32_9 k0_t5
  let c38_i32_1518 : BitVec 32 := 38#32
  let v3244 : BitVec 32 := Scalar.muli arg13 c38_i32_1518
  let c4_i32_1519 : BitVec 32 := 4#32
  let v3245 : BitVec 32 := Scalar.addi v3244 c4_i32_1519
  let c4_i32_1523 : BitVec 32 := 4#32
  let v3253 : BitVec 32 := Scalar.muli v3245 c4_i32_1523
  let v3254 : BitVec 32 := Scalar.addi v3252 v3253
  let c2_i32_1526 : BitVec 32 := 2#32
  let v3257 : BitVec 32 := Scalar.addi v3254 c2_i32_1526
  let v3283 : Index := Scalar.indexCast v3257
  let c0_1540 : Index := 0#32
  let c0_1541 : Index := 0#32
  ![v3283.toNat, 0, 0]
def k0_off613 (v3282 : BitVec 32) : Fin 2 → Nat :=
  let v3286 : Index := Scalar.indexCast v3282
  let c0_1542 : Index := 0#32
  ![v3286.toNat, 0]

def k0_chk214 (i : grid0.Coords) (v3282 : BitVec 32) : Prop :=
  (∀ (k0_h3 : k0_cond3 i = 1#1), ∀ a, (k0_off613 v3282) a + S8x128.size a ≤ S18432x128.size a)
theorem k0_off613_inb : ∀ (i : grid0.Coords) (v3282 : BitVec 32) (k0_hw214 : k0_chk214 i v3282), ∀ (k0_h3 : k0_cond3 i = 1#1), ∀ a, (k0_off613 v3282) a + S8x128.size a ≤ S18432x128.size a := fun i v3282 k0_hw214 k0_h3 => k0_hw214 k0_h3

def k0_off614 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1518 : BitVec 32 := 38#32
  let v3244 : BitVec 32 := Scalar.muli arg13 c38_i32_1518
  let c4_i32_1519 : BitVec 32 := 4#32
  let v3245 : BitVec 32 := Scalar.addi v3244 c4_i32_1519
  let c4_i32_1543 : BitVec 32 := 4#32
  let v3289 : BitVec 32 := Scalar.muli v3245 c4_i32_1543
  let c3_i32_1544 : BitVec 32 := 3#32
  let v3290 : BitVec 32 := Scalar.addi v3289 c3_i32_1544
  let v3291 : Index := Scalar.indexCast v3290
  ![v3291.toNat]
def k0_off615 (i : grid0.Coords) (k0_t5 : Fin k0_t5_loop.trips) (v3247 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1521 : BitVec 32 := 2#32
  let v3250 : BitVec 32 := Scalar.muli v2959 c2_i32_1521
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3248 : BitVec 32 := Scalar.shrui v3247 v2958
  let c1_i32_1520 : BitVec 32 := 1#32
  let v3249 : BitVec 32 := Scalar.andi v3248 c1_i32_1520
  let v3251 : BitVec 32 := Scalar.addi v3250 v3249
  let c1216_i32_1522 : BitVec 32 := 1216#32
  let v3252 : BitVec 32 := Scalar.muli v3251 c1216_i32_1522
  let c0_i32_7 : BitVec 32 := 0#32
  let c1_i32_9 : BitVec 32 := 1#32
  let arg13 : BitVec 32 := Scf.iv c0_i32_7 c1_i32_9 k0_t5
  let c38_i32_1518 : BitVec 32 := 38#32
  let v3244 : BitVec 32 := Scalar.muli arg13 c38_i32_1518
  let c4_i32_1519 : BitVec 32 := 4#32
  let v3245 : BitVec 32 := Scalar.addi v3244 c4_i32_1519
  let c4_i32_1523 : BitVec 32 := 4#32
  let v3253 : BitVec 32 := Scalar.muli v3245 c4_i32_1523
  let v3254 : BitVec 32 := Scalar.addi v3252 v3253
  let c3_i32_1527 : BitVec 32 := 3#32
  let v3258 : BitVec 32 := Scalar.addi v3254 c3_i32_1527
  let v3293 : Index := Scalar.indexCast v3258
  let c0_1545 : Index := 0#32
  let c0_1546 : Index := 0#32
  ![v3293.toNat, 0, 0]
def k0_off616 (v3292 : BitVec 32) : Fin 2 → Nat :=
  let v3296 : Index := Scalar.indexCast v3292
  let c0_1547 : Index := 0#32
  ![v3296.toNat, 0]

def k0_chk215 (i : grid0.Coords) (v3292 : BitVec 32) : Prop :=
  (∀ (k0_h3 : k0_cond3 i = 1#1), ∀ a, (k0_off616 v3292) a + S8x128.size a ≤ S18432x128.size a)
theorem k0_off616_inb : ∀ (i : grid0.Coords) (v3292 : BitVec 32) (k0_hw215 : k0_chk215 i v3292), ∀ (k0_h3 : k0_cond3 i = 1#1), ∀ a, (k0_off616 v3292) a + S8x128.size a ≤ S18432x128.size a := fun i v3292 k0_hw215 k0_h3 => k0_hw215 k0_h3

def k0_off617 (i : grid0.Coords) (k0_t5 : Fin k0_t5_loop.trips) (v3247 : BitVec 32) (c0_i32_1524 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1521 : BitVec 32 := 2#32
  let v3250 : BitVec 32 := Scalar.muli v2959 c2_i32_1521
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3248 : BitVec 32 := Scalar.shrui v3247 v2958
  let c1_i32_1520 : BitVec 32 := 1#32
  let v3249 : BitVec 32 := Scalar.andi v3248 c1_i32_1520
  let v3251 : BitVec 32 := Scalar.addi v3250 v3249
  let c1216_i32_1522 : BitVec 32 := 1216#32
  let v3252 : BitVec 32 := Scalar.muli v3251 c1216_i32_1522
  let c0_i32_7 : BitVec 32 := 0#32
  let c1_i32_9 : BitVec 32 := 1#32
  let arg13 : BitVec 32 := Scf.iv c0_i32_7 c1_i32_9 k0_t5
  let c38_i32_1518 : BitVec 32 := 38#32
  let v3244 : BitVec 32 := Scalar.muli arg13 c38_i32_1518
  let c4_i32_1519 : BitVec 32 := 4#32
  let v3245 : BitVec 32 := Scalar.addi v3244 c4_i32_1519
  let c4_i32_1523 : BitVec 32 := 4#32
  let v3253 : BitVec 32 := Scalar.muli v3245 c4_i32_1523
  let v3254 : BitVec 32 := Scalar.addi v3252 v3253
  let v3255 : BitVec 32 := Scalar.addi v3254 c0_i32_1524
  let v3299 : Index := Scalar.indexCast v3255
  let c0_1548 : Index := 0#32
  let c0_1549 : Index := 0#32
  ![v3299.toNat, 0, 0]

def k0_chk211 (i : grid0.Coords) (k0_t5 : Fin k0_t5_loop.trips) (v3247 : BitVec 32) : Prop :=
  (∀ (k0_h3 : k0_cond3 i = 1#1), ∀ a, (k0_off606 i k0_t5 v3247) a + S1x8x128.size a ≤ S7296x8x128.size a) ∧
  (∀ (k0_h3 : k0_cond3 i = 1#1), ∀ a, (k0_off609 i k0_t5 v3247) a + S1x8x128.size a ≤ S7296x8x128.size a) ∧
  (∀ (k0_h3 : k0_cond3 i = 1#1), ∀ a, (k0_off612 i k0_t5 v3247) a + S1x8x128.size a ≤ S7296x8x128.size a) ∧
  (∀ (k0_h3 : k0_cond3 i = 1#1), ∀ a, (k0_off615 i k0_t5 v3247) a + S1x8x128.size a ≤ S7296x8x128.size a) ∧
  (∀ (k0_h3 : k0_cond3 i = 1#1), ∀ (r : Fin 4), ∀ a, (k0_off617 i k0_t5 v3247 (BitVec.ofNat 32 r.val)) a + S1x8x128.size a ≤ S7296x8x128.size a)
theorem k0_off606_inb : ∀ (i : grid0.Coords) (k0_t5 : Fin k0_t5_loop.trips) (v3247 : BitVec 32) (k0_hw211 : k0_chk211 i k0_t5 v3247), ∀ (k0_h3 : k0_cond3 i = 1#1), ∀ a, (k0_off606 i k0_t5 v3247) a + S1x8x128.size a ≤ S7296x8x128.size a := fun i k0_t5 v3247 k0_hw211 k0_h3 => k0_hw211.1 k0_h3
theorem k0_off609_inb : ∀ (i : grid0.Coords) (k0_t5 : Fin k0_t5_loop.trips) (v3247 : BitVec 32) (k0_hw211 : k0_chk211 i k0_t5 v3247), ∀ (k0_h3 : k0_cond3 i = 1#1), ∀ a, (k0_off609 i k0_t5 v3247) a + S1x8x128.size a ≤ S7296x8x128.size a := fun i k0_t5 v3247 k0_hw211 k0_h3 => k0_hw211.2.1 k0_h3
theorem k0_off612_inb : ∀ (i : grid0.Coords) (k0_t5 : Fin k0_t5_loop.trips) (v3247 : BitVec 32) (k0_hw211 : k0_chk211 i k0_t5 v3247), ∀ (k0_h3 : k0_cond3 i = 1#1), ∀ a, (k0_off612 i k0_t5 v3247) a + S1x8x128.size a ≤ S7296x8x128.size a := fun i k0_t5 v3247 k0_hw211 k0_h3 => k0_hw211.2.2.1 k0_h3
theorem k0_off615_inb : ∀ (i : grid0.Coords) (k0_t5 : Fin k0_t5_loop.trips) (v3247 : BitVec 32) (k0_hw211 : k0_chk211 i k0_t5 v3247), ∀ (k0_h3 : k0_cond3 i = 1#1), ∀ a, (k0_off615 i k0_t5 v3247) a + S1x8x128.size a ≤ S7296x8x128.size a := fun i k0_t5 v3247 k0_hw211 k0_h3 => k0_hw211.2.2.2.1 k0_h3
theorem k0_off617_inb : ∀ (i : grid0.Coords) (k0_t5 : Fin k0_t5_loop.trips) (v3247 : BitVec 32) (k0_hw211 : k0_chk211 i k0_t5 v3247), ∀ (k0_h3 : k0_cond3 i = 1#1), ∀ (r : Fin 4), ∀ a, (k0_off617 i k0_t5 v3247 (BitVec.ofNat 32 r.val)) a + S1x8x128.size a ≤ S7296x8x128.size a := fun i k0_t5 v3247 k0_hw211 k0_h3 r => k0_hw211.2.2.2.2 k0_h3 r

def k0_off618 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1556 : BitVec 32 := 38#32
  let v3315 : BitVec 32 := Scalar.muli arg13 c38_i32_1556
  let c5_i32 : BitVec 32 := 5#32
  let v3316 : BitVec 32 := Scalar.addi v3315 c5_i32
  let v3317 : Index := Scalar.indexCast v3316
  ![v3317.toNat]
def k0_off619 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1556 : BitVec 32 := 38#32
  let v3315 : BitVec 32 := Scalar.muli arg13 c38_i32_1556
  let c5_i32 : BitVec 32 := 5#32
  let v3316 : BitVec 32 := Scalar.addi v3315 c5_i32
  let c4_i32_1565 : BitVec 32 := 4#32
  let v3330 : BitVec 32 := Scalar.muli v3316 c4_i32_1565
  let c0_i32_1566 : BitVec 32 := 0#32
  let v3331 : BitVec 32 := Scalar.addi v3330 c0_i32_1566
  let v3332 : Index := Scalar.indexCast v3331
  ![v3332.toNat]
def k0_off620 (i : grid0.Coords) (k0_t5 : Fin k0_t5_loop.trips) (v3318 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1558 : BitVec 32 := 2#32
  let v3321 : BitVec 32 := Scalar.muli v2959 c2_i32_1558
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3319 : BitVec 32 := Scalar.shrui v3318 v2958
  let c1_i32_1557 : BitVec 32 := 1#32
  let v3320 : BitVec 32 := Scalar.andi v3319 c1_i32_1557
  let v3322 : BitVec 32 := Scalar.addi v3321 v3320
  let c1216_i32_1559 : BitVec 32 := 1216#32
  let v3323 : BitVec 32 := Scalar.muli v3322 c1216_i32_1559
  let c0_i32_7 : BitVec 32 := 0#32
  let c1_i32_9 : BitVec 32 := 1#32
  let arg13 : BitVec 32 := Scf.iv c0_i32_7 c1_i32_9 k0_t5
  let c38_i32_1556 : BitVec 32 := 38#32
  let v3315 : BitVec 32 := Scalar.muli arg13 c38_i32_1556
  let c5_i32 : BitVec 32 := 5#32
  let v3316 : BitVec 32 := Scalar.addi v3315 c5_i32
  let c4_i32_1560 : BitVec 32 := 4#32
  let v3324 : BitVec 32 := Scalar.muli v3316 c4_i32_1560
  let v3325 : BitVec 32 := Scalar.addi v3323 v3324
  let c0_i32_1561 : BitVec 32 := 0#32
  let v3326 : BitVec 32 := Scalar.addi v3325 c0_i32_1561
  let v3334 : Index := Scalar.indexCast v3326
  let c0_1567 : Index := 0#32
  let c0_1568 : Index := 0#32
  ![v3334.toNat, 0, 0]

def k0_off621 (v3333 : BitVec 32) : Fin 2 → Nat :=
  let v3337 : Index := Scalar.indexCast v3333
  let c0_1569 : Index := 0#32
  ![v3337.toNat, 0]

def k0_chk217 (i : grid0.Coords) (v3333 : BitVec 32) : Prop :=
  (∀ (k0_h3 : k0_cond3 i = 1#1), ∀ a, (k0_off621 v3333) a + S8x128.size a ≤ S18432x128.size a)
theorem k0_off621_inb : ∀ (i : grid0.Coords) (v3333 : BitVec 32) (k0_hw217 : k0_chk217 i v3333), ∀ (k0_h3 : k0_cond3 i = 1#1), ∀ a, (k0_off621 v3333) a + S8x128.size a ≤ S18432x128.size a := fun i v3333 k0_hw217 k0_h3 => k0_hw217 k0_h3

def k0_off622 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1556 : BitVec 32 := 38#32
  let v3315 : BitVec 32 := Scalar.muli arg13 c38_i32_1556
  let c5_i32 : BitVec 32 := 5#32
  let v3316 : BitVec 32 := Scalar.addi v3315 c5_i32
  let c4_i32_1570 : BitVec 32 := 4#32
  let v3340 : BitVec 32 := Scalar.muli v3316 c4_i32_1570
  let c1_i32_1571 : BitVec 32 := 1#32
  let v3341 : BitVec 32 := Scalar.addi v3340 c1_i32_1571
  let v3342 : Index := Scalar.indexCast v3341
  ![v3342.toNat]
def k0_off623 (i : grid0.Coords) (k0_t5 : Fin k0_t5_loop.trips) (v3318 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1558 : BitVec 32 := 2#32
  let v3321 : BitVec 32 := Scalar.muli v2959 c2_i32_1558
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3319 : BitVec 32 := Scalar.shrui v3318 v2958
  let c1_i32_1557 : BitVec 32 := 1#32
  let v3320 : BitVec 32 := Scalar.andi v3319 c1_i32_1557
  let v3322 : BitVec 32 := Scalar.addi v3321 v3320
  let c1216_i32_1559 : BitVec 32 := 1216#32
  let v3323 : BitVec 32 := Scalar.muli v3322 c1216_i32_1559
  let c0_i32_7 : BitVec 32 := 0#32
  let c1_i32_9 : BitVec 32 := 1#32
  let arg13 : BitVec 32 := Scf.iv c0_i32_7 c1_i32_9 k0_t5
  let c38_i32_1556 : BitVec 32 := 38#32
  let v3315 : BitVec 32 := Scalar.muli arg13 c38_i32_1556
  let c5_i32 : BitVec 32 := 5#32
  let v3316 : BitVec 32 := Scalar.addi v3315 c5_i32
  let c4_i32_1560 : BitVec 32 := 4#32
  let v3324 : BitVec 32 := Scalar.muli v3316 c4_i32_1560
  let v3325 : BitVec 32 := Scalar.addi v3323 v3324
  let c1_i32_1562 : BitVec 32 := 1#32
  let v3327 : BitVec 32 := Scalar.addi v3325 c1_i32_1562
  let v3344 : Index := Scalar.indexCast v3327
  let c0_1572 : Index := 0#32
  let c0_1573 : Index := 0#32
  ![v3344.toNat, 0, 0]
def k0_off624 (v3343 : BitVec 32) : Fin 2 → Nat :=
  let v3347 : Index := Scalar.indexCast v3343
  let c0_1574 : Index := 0#32
  ![v3347.toNat, 0]

def k0_chk218 (i : grid0.Coords) (v3343 : BitVec 32) : Prop :=
  (∀ (k0_h3 : k0_cond3 i = 1#1), ∀ a, (k0_off624 v3343) a + S8x128.size a ≤ S18432x128.size a)
theorem k0_off624_inb : ∀ (i : grid0.Coords) (v3343 : BitVec 32) (k0_hw218 : k0_chk218 i v3343), ∀ (k0_h3 : k0_cond3 i = 1#1), ∀ a, (k0_off624 v3343) a + S8x128.size a ≤ S18432x128.size a := fun i v3343 k0_hw218 k0_h3 => k0_hw218 k0_h3

def k0_off625 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1556 : BitVec 32 := 38#32
  let v3315 : BitVec 32 := Scalar.muli arg13 c38_i32_1556
  let c5_i32 : BitVec 32 := 5#32
  let v3316 : BitVec 32 := Scalar.addi v3315 c5_i32
  let c4_i32_1575 : BitVec 32 := 4#32
  let v3350 : BitVec 32 := Scalar.muli v3316 c4_i32_1575
  let c2_i32_1576 : BitVec 32 := 2#32
  let v3351 : BitVec 32 := Scalar.addi v3350 c2_i32_1576
  let v3352 : Index := Scalar.indexCast v3351
  ![v3352.toNat]
def k0_off626 (i : grid0.Coords) (k0_t5 : Fin k0_t5_loop.trips) (v3318 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1558 : BitVec 32 := 2#32
  let v3321 : BitVec 32 := Scalar.muli v2959 c2_i32_1558
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3319 : BitVec 32 := Scalar.shrui v3318 v2958
  let c1_i32_1557 : BitVec 32 := 1#32
  let v3320 : BitVec 32 := Scalar.andi v3319 c1_i32_1557
  let v3322 : BitVec 32 := Scalar.addi v3321 v3320
  let c1216_i32_1559 : BitVec 32 := 1216#32
  let v3323 : BitVec 32 := Scalar.muli v3322 c1216_i32_1559
  let c0_i32_7 : BitVec 32 := 0#32
  let c1_i32_9 : BitVec 32 := 1#32
  let arg13 : BitVec 32 := Scf.iv c0_i32_7 c1_i32_9 k0_t5
  let c38_i32_1556 : BitVec 32 := 38#32
  let v3315 : BitVec 32 := Scalar.muli arg13 c38_i32_1556
  let c5_i32 : BitVec 32 := 5#32
  let v3316 : BitVec 32 := Scalar.addi v3315 c5_i32
  let c4_i32_1560 : BitVec 32 := 4#32
  let v3324 : BitVec 32 := Scalar.muli v3316 c4_i32_1560
  let v3325 : BitVec 32 := Scalar.addi v3323 v3324
  let c2_i32_1563 : BitVec 32 := 2#32
  let v3328 : BitVec 32 := Scalar.addi v3325 c2_i32_1563
  let v3354 : Index := Scalar.indexCast v3328
  let c0_1577 : Index := 0#32
  let c0_1578 : Index := 0#32
  ![v3354.toNat, 0, 0]
def k0_off627 (v3353 : BitVec 32) : Fin 2 → Nat :=
  let v3357 : Index := Scalar.indexCast v3353
  let c0_1579 : Index := 0#32
  ![v3357.toNat, 0]

def k0_chk219 (i : grid0.Coords) (v3353 : BitVec 32) : Prop :=
  (∀ (k0_h3 : k0_cond3 i = 1#1), ∀ a, (k0_off627 v3353) a + S8x128.size a ≤ S18432x128.size a)
theorem k0_off627_inb : ∀ (i : grid0.Coords) (v3353 : BitVec 32) (k0_hw219 : k0_chk219 i v3353), ∀ (k0_h3 : k0_cond3 i = 1#1), ∀ a, (k0_off627 v3353) a + S8x128.size a ≤ S18432x128.size a := fun i v3353 k0_hw219 k0_h3 => k0_hw219 k0_h3

def k0_off628 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1556 : BitVec 32 := 38#32
  let v3315 : BitVec 32 := Scalar.muli arg13 c38_i32_1556
  let c5_i32 : BitVec 32 := 5#32
  let v3316 : BitVec 32 := Scalar.addi v3315 c5_i32
  let c4_i32_1580 : BitVec 32 := 4#32
  let v3360 : BitVec 32 := Scalar.muli v3316 c4_i32_1580
  let c3_i32_1581 : BitVec 32 := 3#32
  let v3361 : BitVec 32 := Scalar.addi v3360 c3_i32_1581
  let v3362 : Index := Scalar.indexCast v3361
  ![v3362.toNat]
def k0_off629 (i : grid0.Coords) (k0_t5 : Fin k0_t5_loop.trips) (v3318 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1558 : BitVec 32 := 2#32
  let v3321 : BitVec 32 := Scalar.muli v2959 c2_i32_1558
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3319 : BitVec 32 := Scalar.shrui v3318 v2958
  let c1_i32_1557 : BitVec 32 := 1#32
  let v3320 : BitVec 32 := Scalar.andi v3319 c1_i32_1557
  let v3322 : BitVec 32 := Scalar.addi v3321 v3320
  let c1216_i32_1559 : BitVec 32 := 1216#32
  let v3323 : BitVec 32 := Scalar.muli v3322 c1216_i32_1559
  let c0_i32_7 : BitVec 32 := 0#32
  let c1_i32_9 : BitVec 32 := 1#32
  let arg13 : BitVec 32 := Scf.iv c0_i32_7 c1_i32_9 k0_t5
  let c38_i32_1556 : BitVec 32 := 38#32
  let v3315 : BitVec 32 := Scalar.muli arg13 c38_i32_1556
  let c5_i32 : BitVec 32 := 5#32
  let v3316 : BitVec 32 := Scalar.addi v3315 c5_i32
  let c4_i32_1560 : BitVec 32 := 4#32
  let v3324 : BitVec 32 := Scalar.muli v3316 c4_i32_1560
  let v3325 : BitVec 32 := Scalar.addi v3323 v3324
  let c3_i32_1564 : BitVec 32 := 3#32
  let v3329 : BitVec 32 := Scalar.addi v3325 c3_i32_1564
  let v3364 : Index := Scalar.indexCast v3329
  let c0_1582 : Index := 0#32
  let c0_1583 : Index := 0#32
  ![v3364.toNat, 0, 0]
def k0_off630 (v3363 : BitVec 32) : Fin 2 → Nat :=
  let v3367 : Index := Scalar.indexCast v3363
  let c0_1584 : Index := 0#32
  ![v3367.toNat, 0]

def k0_chk220 (i : grid0.Coords) (v3363 : BitVec 32) : Prop :=
  (∀ (k0_h3 : k0_cond3 i = 1#1), ∀ a, (k0_off630 v3363) a + S8x128.size a ≤ S18432x128.size a)
theorem k0_off630_inb : ∀ (i : grid0.Coords) (v3363 : BitVec 32) (k0_hw220 : k0_chk220 i v3363), ∀ (k0_h3 : k0_cond3 i = 1#1), ∀ a, (k0_off630 v3363) a + S8x128.size a ≤ S18432x128.size a := fun i v3363 k0_hw220 k0_h3 => k0_hw220 k0_h3

def k0_off631 (i : grid0.Coords) (k0_t5 : Fin k0_t5_loop.trips) (v3318 : BitVec 32) (c0_i32_1561 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1558 : BitVec 32 := 2#32
  let v3321 : BitVec 32 := Scalar.muli v2959 c2_i32_1558
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3319 : BitVec 32 := Scalar.shrui v3318 v2958
  let c1_i32_1557 : BitVec 32 := 1#32
  let v3320 : BitVec 32 := Scalar.andi v3319 c1_i32_1557
  let v3322 : BitVec 32 := Scalar.addi v3321 v3320
  let c1216_i32_1559 : BitVec 32 := 1216#32
  let v3323 : BitVec 32 := Scalar.muli v3322 c1216_i32_1559
  let c0_i32_7 : BitVec 32 := 0#32
  let c1_i32_9 : BitVec 32 := 1#32
  let arg13 : BitVec 32 := Scf.iv c0_i32_7 c1_i32_9 k0_t5
  let c38_i32_1556 : BitVec 32 := 38#32
  let v3315 : BitVec 32 := Scalar.muli arg13 c38_i32_1556
  let c5_i32 : BitVec 32 := 5#32
  let v3316 : BitVec 32 := Scalar.addi v3315 c5_i32
  let c4_i32_1560 : BitVec 32 := 4#32
  let v3324 : BitVec 32 := Scalar.muli v3316 c4_i32_1560
  let v3325 : BitVec 32 := Scalar.addi v3323 v3324
  let v3326 : BitVec 32 := Scalar.addi v3325 c0_i32_1561
  let v3370 : Index := Scalar.indexCast v3326
  let c0_1585 : Index := 0#32
  let c0_1586 : Index := 0#32
  ![v3370.toNat, 0, 0]

def k0_chk216 (i : grid0.Coords) (k0_t5 : Fin k0_t5_loop.trips) (v3318 : BitVec 32) : Prop :=
  (∀ (k0_h3 : k0_cond3 i = 1#1), ∀ a, (k0_off620 i k0_t5 v3318) a + S1x8x128.size a ≤ S7296x8x128.size a) ∧
  (∀ (k0_h3 : k0_cond3 i = 1#1), ∀ a, (k0_off623 i k0_t5 v3318) a + S1x8x128.size a ≤ S7296x8x128.size a) ∧
  (∀ (k0_h3 : k0_cond3 i = 1#1), ∀ a, (k0_off626 i k0_t5 v3318) a + S1x8x128.size a ≤ S7296x8x128.size a) ∧
  (∀ (k0_h3 : k0_cond3 i = 1#1), ∀ a, (k0_off629 i k0_t5 v3318) a + S1x8x128.size a ≤ S7296x8x128.size a) ∧
  (∀ (k0_h3 : k0_cond3 i = 1#1), ∀ (r : Fin 4), ∀ a, (k0_off631 i k0_t5 v3318 (BitVec.ofNat 32 r.val)) a + S1x8x128.size a ≤ S7296x8x128.size a)
theorem k0_off620_inb : ∀ (i : grid0.Coords) (k0_t5 : Fin k0_t5_loop.trips) (v3318 : BitVec 32) (k0_hw216 : k0_chk216 i k0_t5 v3318), ∀ (k0_h3 : k0_cond3 i = 1#1), ∀ a, (k0_off620 i k0_t5 v3318) a + S1x8x128.size a ≤ S7296x8x128.size a := fun i k0_t5 v3318 k0_hw216 k0_h3 => k0_hw216.1 k0_h3
theorem k0_off623_inb : ∀ (i : grid0.Coords) (k0_t5 : Fin k0_t5_loop.trips) (v3318 : BitVec 32) (k0_hw216 : k0_chk216 i k0_t5 v3318), ∀ (k0_h3 : k0_cond3 i = 1#1), ∀ a, (k0_off623 i k0_t5 v3318) a + S1x8x128.size a ≤ S7296x8x128.size a := fun i k0_t5 v3318 k0_hw216 k0_h3 => k0_hw216.2.1 k0_h3
theorem k0_off626_inb : ∀ (i : grid0.Coords) (k0_t5 : Fin k0_t5_loop.trips) (v3318 : BitVec 32) (k0_hw216 : k0_chk216 i k0_t5 v3318), ∀ (k0_h3 : k0_cond3 i = 1#1), ∀ a, (k0_off626 i k0_t5 v3318) a + S1x8x128.size a ≤ S7296x8x128.size a := fun i k0_t5 v3318 k0_hw216 k0_h3 => k0_hw216.2.2.1 k0_h3
theorem k0_off629_inb : ∀ (i : grid0.Coords) (k0_t5 : Fin k0_t5_loop.trips) (v3318 : BitVec 32) (k0_hw216 : k0_chk216 i k0_t5 v3318), ∀ (k0_h3 : k0_cond3 i = 1#1), ∀ a, (k0_off629 i k0_t5 v3318) a + S1x8x128.size a ≤ S7296x8x128.size a := fun i k0_t5 v3318 k0_hw216 k0_h3 => k0_hw216.2.2.2.1 k0_h3
theorem k0_off631_inb : ∀ (i : grid0.Coords) (k0_t5 : Fin k0_t5_loop.trips) (v3318 : BitVec 32) (k0_hw216 : k0_chk216 i k0_t5 v3318), ∀ (k0_h3 : k0_cond3 i = 1#1), ∀ (r : Fin 4), ∀ a, (k0_off631 i k0_t5 v3318 (BitVec.ofNat 32 r.val)) a + S1x8x128.size a ≤ S7296x8x128.size a := fun i k0_t5 v3318 k0_hw216 k0_h3 r => k0_hw216.2.2.2.2 k0_h3 r

def k0_off632 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1593 : BitVec 32 := 38#32
  let v3386 : BitVec 32 := Scalar.muli arg13 c38_i32_1593
  let c6_i32_1594 : BitVec 32 := 6#32
  let v3387 : BitVec 32 := Scalar.addi v3386 c6_i32_1594
  let v3388 : Index := Scalar.indexCast v3387
  ![v3388.toNat]
def k0_off633 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1593 : BitVec 32 := 38#32
  let v3386 : BitVec 32 := Scalar.muli arg13 c38_i32_1593
  let c6_i32_1594 : BitVec 32 := 6#32
  let v3387 : BitVec 32 := Scalar.addi v3386 c6_i32_1594
  let c4_i32_1603 : BitVec 32 := 4#32
  let v3401 : BitVec 32 := Scalar.muli v3387 c4_i32_1603
  let c0_i32_1604 : BitVec 32 := 0#32
  let v3402 : BitVec 32 := Scalar.addi v3401 c0_i32_1604
  let v3403 : Index := Scalar.indexCast v3402
  ![v3403.toNat]
def k0_off634 (i : grid0.Coords) (k0_t5 : Fin k0_t5_loop.trips) (v3389 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1596 : BitVec 32 := 2#32
  let v3392 : BitVec 32 := Scalar.muli v2959 c2_i32_1596
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3390 : BitVec 32 := Scalar.shrui v3389 v2958
  let c1_i32_1595 : BitVec 32 := 1#32
  let v3391 : BitVec 32 := Scalar.andi v3390 c1_i32_1595
  let v3393 : BitVec 32 := Scalar.addi v3392 v3391
  let c1216_i32_1597 : BitVec 32 := 1216#32
  let v3394 : BitVec 32 := Scalar.muli v3393 c1216_i32_1597
  let c0_i32_7 : BitVec 32 := 0#32
  let c1_i32_9 : BitVec 32 := 1#32
  let arg13 : BitVec 32 := Scf.iv c0_i32_7 c1_i32_9 k0_t5
  let c38_i32_1593 : BitVec 32 := 38#32
  let v3386 : BitVec 32 := Scalar.muli arg13 c38_i32_1593
  let c6_i32_1594 : BitVec 32 := 6#32
  let v3387 : BitVec 32 := Scalar.addi v3386 c6_i32_1594
  let c4_i32_1598 : BitVec 32 := 4#32
  let v3395 : BitVec 32 := Scalar.muli v3387 c4_i32_1598
  let v3396 : BitVec 32 := Scalar.addi v3394 v3395
  let c0_i32_1599 : BitVec 32 := 0#32
  let v3397 : BitVec 32 := Scalar.addi v3396 c0_i32_1599
  let v3405 : Index := Scalar.indexCast v3397
  let c0_1605 : Index := 0#32
  let c0_1606 : Index := 0#32
  ![v3405.toNat, 0, 0]

def k0_off635 (v3404 : BitVec 32) : Fin 2 → Nat :=
  let v3408 : Index := Scalar.indexCast v3404
  let c0_1607 : Index := 0#32
  ![v3408.toNat, 0]

def k0_chk222 (i : grid0.Coords) (v3404 : BitVec 32) : Prop :=
  (∀ (k0_h3 : k0_cond3 i = 1#1), ∀ a, (k0_off635 v3404) a + S8x128.size a ≤ S18432x128.size a)
theorem k0_off635_inb : ∀ (i : grid0.Coords) (v3404 : BitVec 32) (k0_hw222 : k0_chk222 i v3404), ∀ (k0_h3 : k0_cond3 i = 1#1), ∀ a, (k0_off635 v3404) a + S8x128.size a ≤ S18432x128.size a := fun i v3404 k0_hw222 k0_h3 => k0_hw222 k0_h3

def k0_off636 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1593 : BitVec 32 := 38#32
  let v3386 : BitVec 32 := Scalar.muli arg13 c38_i32_1593
  let c6_i32_1594 : BitVec 32 := 6#32
  let v3387 : BitVec 32 := Scalar.addi v3386 c6_i32_1594
  let c4_i32_1608 : BitVec 32 := 4#32
  let v3411 : BitVec 32 := Scalar.muli v3387 c4_i32_1608
  let c1_i32_1609 : BitVec 32 := 1#32
  let v3412 : BitVec 32 := Scalar.addi v3411 c1_i32_1609
  let v3413 : Index := Scalar.indexCast v3412
  ![v3413.toNat]
def k0_off637 (i : grid0.Coords) (k0_t5 : Fin k0_t5_loop.trips) (v3389 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1596 : BitVec 32 := 2#32
  let v3392 : BitVec 32 := Scalar.muli v2959 c2_i32_1596
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3390 : BitVec 32 := Scalar.shrui v3389 v2958
  let c1_i32_1595 : BitVec 32 := 1#32
  let v3391 : BitVec 32 := Scalar.andi v3390 c1_i32_1595
  let v3393 : BitVec 32 := Scalar.addi v3392 v3391
  let c1216_i32_1597 : BitVec 32 := 1216#32
  let v3394 : BitVec 32 := Scalar.muli v3393 c1216_i32_1597
  let c0_i32_7 : BitVec 32 := 0#32
  let c1_i32_9 : BitVec 32 := 1#32
  let arg13 : BitVec 32 := Scf.iv c0_i32_7 c1_i32_9 k0_t5
  let c38_i32_1593 : BitVec 32 := 38#32
  let v3386 : BitVec 32 := Scalar.muli arg13 c38_i32_1593
  let c6_i32_1594 : BitVec 32 := 6#32
  let v3387 : BitVec 32 := Scalar.addi v3386 c6_i32_1594
  let c4_i32_1598 : BitVec 32 := 4#32
  let v3395 : BitVec 32 := Scalar.muli v3387 c4_i32_1598
  let v3396 : BitVec 32 := Scalar.addi v3394 v3395
  let c1_i32_1600 : BitVec 32 := 1#32
  let v3398 : BitVec 32 := Scalar.addi v3396 c1_i32_1600
  let v3415 : Index := Scalar.indexCast v3398
  let c0_1610 : Index := 0#32
  let c0_1611 : Index := 0#32
  ![v3415.toNat, 0, 0]
def k0_off638 (v3414 : BitVec 32) : Fin 2 → Nat :=
  let v3418 : Index := Scalar.indexCast v3414
  let c0_1612 : Index := 0#32
  ![v3418.toNat, 0]

def k0_chk223 (i : grid0.Coords) (v3414 : BitVec 32) : Prop :=
  (∀ (k0_h3 : k0_cond3 i = 1#1), ∀ a, (k0_off638 v3414) a + S8x128.size a ≤ S18432x128.size a)
theorem k0_off638_inb : ∀ (i : grid0.Coords) (v3414 : BitVec 32) (k0_hw223 : k0_chk223 i v3414), ∀ (k0_h3 : k0_cond3 i = 1#1), ∀ a, (k0_off638 v3414) a + S8x128.size a ≤ S18432x128.size a := fun i v3414 k0_hw223 k0_h3 => k0_hw223 k0_h3

def k0_off639 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1593 : BitVec 32 := 38#32
  let v3386 : BitVec 32 := Scalar.muli arg13 c38_i32_1593
  let c6_i32_1594 : BitVec 32 := 6#32
  let v3387 : BitVec 32 := Scalar.addi v3386 c6_i32_1594
  let c4_i32_1613 : BitVec 32 := 4#32
  let v3421 : BitVec 32 := Scalar.muli v3387 c4_i32_1613
  let c2_i32_1614 : BitVec 32 := 2#32
  let v3422 : BitVec 32 := Scalar.addi v3421 c2_i32_1614
  let v3423 : Index := Scalar.indexCast v3422
  ![v3423.toNat]
def k0_off640 (i : grid0.Coords) (k0_t5 : Fin k0_t5_loop.trips) (v3389 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1596 : BitVec 32 := 2#32
  let v3392 : BitVec 32 := Scalar.muli v2959 c2_i32_1596
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3390 : BitVec 32 := Scalar.shrui v3389 v2958
  let c1_i32_1595 : BitVec 32 := 1#32
  let v3391 : BitVec 32 := Scalar.andi v3390 c1_i32_1595
  let v3393 : BitVec 32 := Scalar.addi v3392 v3391
  let c1216_i32_1597 : BitVec 32 := 1216#32
  let v3394 : BitVec 32 := Scalar.muli v3393 c1216_i32_1597
  let c0_i32_7 : BitVec 32 := 0#32
  let c1_i32_9 : BitVec 32 := 1#32
  let arg13 : BitVec 32 := Scf.iv c0_i32_7 c1_i32_9 k0_t5
  let c38_i32_1593 : BitVec 32 := 38#32
  let v3386 : BitVec 32 := Scalar.muli arg13 c38_i32_1593
  let c6_i32_1594 : BitVec 32 := 6#32
  let v3387 : BitVec 32 := Scalar.addi v3386 c6_i32_1594
  let c4_i32_1598 : BitVec 32 := 4#32
  let v3395 : BitVec 32 := Scalar.muli v3387 c4_i32_1598
  let v3396 : BitVec 32 := Scalar.addi v3394 v3395
  let c2_i32_1601 : BitVec 32 := 2#32
  let v3399 : BitVec 32 := Scalar.addi v3396 c2_i32_1601
  let v3425 : Index := Scalar.indexCast v3399
  let c0_1615 : Index := 0#32
  let c0_1616 : Index := 0#32
  ![v3425.toNat, 0, 0]
def k0_off641 (v3424 : BitVec 32) : Fin 2 → Nat :=
  let v3428 : Index := Scalar.indexCast v3424
  let c0_1617 : Index := 0#32
  ![v3428.toNat, 0]

def k0_chk224 (i : grid0.Coords) (v3424 : BitVec 32) : Prop :=
  (∀ (k0_h3 : k0_cond3 i = 1#1), ∀ a, (k0_off641 v3424) a + S8x128.size a ≤ S18432x128.size a)
theorem k0_off641_inb : ∀ (i : grid0.Coords) (v3424 : BitVec 32) (k0_hw224 : k0_chk224 i v3424), ∀ (k0_h3 : k0_cond3 i = 1#1), ∀ a, (k0_off641 v3424) a + S8x128.size a ≤ S18432x128.size a := fun i v3424 k0_hw224 k0_h3 => k0_hw224 k0_h3

def k0_off642 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1593 : BitVec 32 := 38#32
  let v3386 : BitVec 32 := Scalar.muli arg13 c38_i32_1593
  let c6_i32_1594 : BitVec 32 := 6#32
  let v3387 : BitVec 32 := Scalar.addi v3386 c6_i32_1594
  let c4_i32_1618 : BitVec 32 := 4#32
  let v3431 : BitVec 32 := Scalar.muli v3387 c4_i32_1618
  let c3_i32_1619 : BitVec 32 := 3#32
  let v3432 : BitVec 32 := Scalar.addi v3431 c3_i32_1619
  let v3433 : Index := Scalar.indexCast v3432
  ![v3433.toNat]
def k0_off643 (i : grid0.Coords) (k0_t5 : Fin k0_t5_loop.trips) (v3389 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1596 : BitVec 32 := 2#32
  let v3392 : BitVec 32 := Scalar.muli v2959 c2_i32_1596
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3390 : BitVec 32 := Scalar.shrui v3389 v2958
  let c1_i32_1595 : BitVec 32 := 1#32
  let v3391 : BitVec 32 := Scalar.andi v3390 c1_i32_1595
  let v3393 : BitVec 32 := Scalar.addi v3392 v3391
  let c1216_i32_1597 : BitVec 32 := 1216#32
  let v3394 : BitVec 32 := Scalar.muli v3393 c1216_i32_1597
  let c0_i32_7 : BitVec 32 := 0#32
  let c1_i32_9 : BitVec 32 := 1#32
  let arg13 : BitVec 32 := Scf.iv c0_i32_7 c1_i32_9 k0_t5
  let c38_i32_1593 : BitVec 32 := 38#32
  let v3386 : BitVec 32 := Scalar.muli arg13 c38_i32_1593
  let c6_i32_1594 : BitVec 32 := 6#32
  let v3387 : BitVec 32 := Scalar.addi v3386 c6_i32_1594
  let c4_i32_1598 : BitVec 32 := 4#32
  let v3395 : BitVec 32 := Scalar.muli v3387 c4_i32_1598
  let v3396 : BitVec 32 := Scalar.addi v3394 v3395
  let c3_i32_1602 : BitVec 32 := 3#32
  let v3400 : BitVec 32 := Scalar.addi v3396 c3_i32_1602
  let v3435 : Index := Scalar.indexCast v3400
  let c0_1620 : Index := 0#32
  let c0_1621 : Index := 0#32
  ![v3435.toNat, 0, 0]
def k0_off644 (v3434 : BitVec 32) : Fin 2 → Nat :=
  let v3438 : Index := Scalar.indexCast v3434
  let c0_1622 : Index := 0#32
  ![v3438.toNat, 0]

def k0_chk225 (i : grid0.Coords) (v3434 : BitVec 32) : Prop :=
  (∀ (k0_h3 : k0_cond3 i = 1#1), ∀ a, (k0_off644 v3434) a + S8x128.size a ≤ S18432x128.size a)
theorem k0_off644_inb : ∀ (i : grid0.Coords) (v3434 : BitVec 32) (k0_hw225 : k0_chk225 i v3434), ∀ (k0_h3 : k0_cond3 i = 1#1), ∀ a, (k0_off644 v3434) a + S8x128.size a ≤ S18432x128.size a := fun i v3434 k0_hw225 k0_h3 => k0_hw225 k0_h3

def k0_off645 (i : grid0.Coords) (k0_t5 : Fin k0_t5_loop.trips) (v3389 : BitVec 32) (c0_i32_1599 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1596 : BitVec 32 := 2#32
  let v3392 : BitVec 32 := Scalar.muli v2959 c2_i32_1596
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3390 : BitVec 32 := Scalar.shrui v3389 v2958
  let c1_i32_1595 : BitVec 32 := 1#32
  let v3391 : BitVec 32 := Scalar.andi v3390 c1_i32_1595
  let v3393 : BitVec 32 := Scalar.addi v3392 v3391
  let c1216_i32_1597 : BitVec 32 := 1216#32
  let v3394 : BitVec 32 := Scalar.muli v3393 c1216_i32_1597
  let c0_i32_7 : BitVec 32 := 0#32
  let c1_i32_9 : BitVec 32 := 1#32
  let arg13 : BitVec 32 := Scf.iv c0_i32_7 c1_i32_9 k0_t5
  let c38_i32_1593 : BitVec 32 := 38#32
  let v3386 : BitVec 32 := Scalar.muli arg13 c38_i32_1593
  let c6_i32_1594 : BitVec 32 := 6#32
  let v3387 : BitVec 32 := Scalar.addi v3386 c6_i32_1594
  let c4_i32_1598 : BitVec 32 := 4#32
  let v3395 : BitVec 32 := Scalar.muli v3387 c4_i32_1598
  let v3396 : BitVec 32 := Scalar.addi v3394 v3395
  let v3397 : BitVec 32 := Scalar.addi v3396 c0_i32_1599
  let v3441 : Index := Scalar.indexCast v3397
  let c0_1623 : Index := 0#32
  let c0_1624 : Index := 0#32
  ![v3441.toNat, 0, 0]

def k0_chk221 (i : grid0.Coords) (k0_t5 : Fin k0_t5_loop.trips) (v3389 : BitVec 32) : Prop :=
  (∀ (k0_h3 : k0_cond3 i = 1#1), ∀ a, (k0_off634 i k0_t5 v3389) a + S1x8x128.size a ≤ S7296x8x128.size a) ∧
  (∀ (k0_h3 : k0_cond3 i = 1#1), ∀ a, (k0_off637 i k0_t5 v3389) a + S1x8x128.size a ≤ S7296x8x128.size a) ∧
  (∀ (k0_h3 : k0_cond3 i = 1#1), ∀ a, (k0_off640 i k0_t5 v3389) a + S1x8x128.size a ≤ S7296x8x128.size a) ∧
  (∀ (k0_h3 : k0_cond3 i = 1#1), ∀ a, (k0_off643 i k0_t5 v3389) a + S1x8x128.size a ≤ S7296x8x128.size a) ∧
  (∀ (k0_h3 : k0_cond3 i = 1#1), ∀ (r : Fin 4), ∀ a, (k0_off645 i k0_t5 v3389 (BitVec.ofNat 32 r.val)) a + S1x8x128.size a ≤ S7296x8x128.size a)
theorem k0_off634_inb : ∀ (i : grid0.Coords) (k0_t5 : Fin k0_t5_loop.trips) (v3389 : BitVec 32) (k0_hw221 : k0_chk221 i k0_t5 v3389), ∀ (k0_h3 : k0_cond3 i = 1#1), ∀ a, (k0_off634 i k0_t5 v3389) a + S1x8x128.size a ≤ S7296x8x128.size a := fun i k0_t5 v3389 k0_hw221 k0_h3 => k0_hw221.1 k0_h3
theorem k0_off637_inb : ∀ (i : grid0.Coords) (k0_t5 : Fin k0_t5_loop.trips) (v3389 : BitVec 32) (k0_hw221 : k0_chk221 i k0_t5 v3389), ∀ (k0_h3 : k0_cond3 i = 1#1), ∀ a, (k0_off637 i k0_t5 v3389) a + S1x8x128.size a ≤ S7296x8x128.size a := fun i k0_t5 v3389 k0_hw221 k0_h3 => k0_hw221.2.1 k0_h3
theorem k0_off640_inb : ∀ (i : grid0.Coords) (k0_t5 : Fin k0_t5_loop.trips) (v3389 : BitVec 32) (k0_hw221 : k0_chk221 i k0_t5 v3389), ∀ (k0_h3 : k0_cond3 i = 1#1), ∀ a, (k0_off640 i k0_t5 v3389) a + S1x8x128.size a ≤ S7296x8x128.size a := fun i k0_t5 v3389 k0_hw221 k0_h3 => k0_hw221.2.2.1 k0_h3
theorem k0_off643_inb : ∀ (i : grid0.Coords) (k0_t5 : Fin k0_t5_loop.trips) (v3389 : BitVec 32) (k0_hw221 : k0_chk221 i k0_t5 v3389), ∀ (k0_h3 : k0_cond3 i = 1#1), ∀ a, (k0_off643 i k0_t5 v3389) a + S1x8x128.size a ≤ S7296x8x128.size a := fun i k0_t5 v3389 k0_hw221 k0_h3 => k0_hw221.2.2.2.1 k0_h3
theorem k0_off645_inb : ∀ (i : grid0.Coords) (k0_t5 : Fin k0_t5_loop.trips) (v3389 : BitVec 32) (k0_hw221 : k0_chk221 i k0_t5 v3389), ∀ (k0_h3 : k0_cond3 i = 1#1), ∀ (r : Fin 4), ∀ a, (k0_off645 i k0_t5 v3389 (BitVec.ofNat 32 r.val)) a + S1x8x128.size a ≤ S7296x8x128.size a := fun i k0_t5 v3389 k0_hw221 k0_h3 r => k0_hw221.2.2.2.2 k0_h3 r

def k0_off646 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1631 : BitVec 32 := 38#32
  let v3457 : BitVec 32 := Scalar.muli arg13 c38_i32_1631
  let c7_i32 : BitVec 32 := 7#32
  let v3458 : BitVec 32 := Scalar.addi v3457 c7_i32
  let v3459 : Index := Scalar.indexCast v3458
  ![v3459.toNat]
def k0_off647 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1631 : BitVec 32 := 38#32
  let v3457 : BitVec 32 := Scalar.muli arg13 c38_i32_1631
  let c7_i32 : BitVec 32 := 7#32
  let v3458 : BitVec 32 := Scalar.addi v3457 c7_i32
  let c4_i32_1640 : BitVec 32 := 4#32
  let v3472 : BitVec 32 := Scalar.muli v3458 c4_i32_1640
  let c0_i32_1641 : BitVec 32 := 0#32
  let v3473 : BitVec 32 := Scalar.addi v3472 c0_i32_1641
  let v3474 : Index := Scalar.indexCast v3473
  ![v3474.toNat]
def k0_off648 (i : grid0.Coords) (k0_t5 : Fin k0_t5_loop.trips) (v3460 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1633 : BitVec 32 := 2#32
  let v3463 : BitVec 32 := Scalar.muli v2959 c2_i32_1633
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3461 : BitVec 32 := Scalar.shrui v3460 v2958
  let c1_i32_1632 : BitVec 32 := 1#32
  let v3462 : BitVec 32 := Scalar.andi v3461 c1_i32_1632
  let v3464 : BitVec 32 := Scalar.addi v3463 v3462
  let c1216_i32_1634 : BitVec 32 := 1216#32
  let v3465 : BitVec 32 := Scalar.muli v3464 c1216_i32_1634
  let c0_i32_7 : BitVec 32 := 0#32
  let c1_i32_9 : BitVec 32 := 1#32
  let arg13 : BitVec 32 := Scf.iv c0_i32_7 c1_i32_9 k0_t5
  let c38_i32_1631 : BitVec 32 := 38#32
  let v3457 : BitVec 32 := Scalar.muli arg13 c38_i32_1631
  let c7_i32 : BitVec 32 := 7#32
  let v3458 : BitVec 32 := Scalar.addi v3457 c7_i32
  let c4_i32_1635 : BitVec 32 := 4#32
  let v3466 : BitVec 32 := Scalar.muli v3458 c4_i32_1635
  let v3467 : BitVec 32 := Scalar.addi v3465 v3466
  let c0_i32_1636 : BitVec 32 := 0#32
  let v3468 : BitVec 32 := Scalar.addi v3467 c0_i32_1636
  let v3476 : Index := Scalar.indexCast v3468
  let c0_1642 : Index := 0#32
  let c0_1643 : Index := 0#32
  ![v3476.toNat, 0, 0]

def k0_off649 (v3475 : BitVec 32) : Fin 2 → Nat :=
  let v3479 : Index := Scalar.indexCast v3475
  let c0_1644 : Index := 0#32
  ![v3479.toNat, 0]

def k0_chk227 (i : grid0.Coords) (v3475 : BitVec 32) : Prop :=
  (∀ (k0_h3 : k0_cond3 i = 1#1), ∀ a, (k0_off649 v3475) a + S8x128.size a ≤ S18432x128.size a)
theorem k0_off649_inb : ∀ (i : grid0.Coords) (v3475 : BitVec 32) (k0_hw227 : k0_chk227 i v3475), ∀ (k0_h3 : k0_cond3 i = 1#1), ∀ a, (k0_off649 v3475) a + S8x128.size a ≤ S18432x128.size a := fun i v3475 k0_hw227 k0_h3 => k0_hw227 k0_h3

def k0_off650 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1631 : BitVec 32 := 38#32
  let v3457 : BitVec 32 := Scalar.muli arg13 c38_i32_1631
  let c7_i32 : BitVec 32 := 7#32
  let v3458 : BitVec 32 := Scalar.addi v3457 c7_i32
  let c4_i32_1645 : BitVec 32 := 4#32
  let v3482 : BitVec 32 := Scalar.muli v3458 c4_i32_1645
  let c1_i32_1646 : BitVec 32 := 1#32
  let v3483 : BitVec 32 := Scalar.addi v3482 c1_i32_1646
  let v3484 : Index := Scalar.indexCast v3483
  ![v3484.toNat]
def k0_off651 (i : grid0.Coords) (k0_t5 : Fin k0_t5_loop.trips) (v3460 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1633 : BitVec 32 := 2#32
  let v3463 : BitVec 32 := Scalar.muli v2959 c2_i32_1633
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3461 : BitVec 32 := Scalar.shrui v3460 v2958
  let c1_i32_1632 : BitVec 32 := 1#32
  let v3462 : BitVec 32 := Scalar.andi v3461 c1_i32_1632
  let v3464 : BitVec 32 := Scalar.addi v3463 v3462
  let c1216_i32_1634 : BitVec 32 := 1216#32
  let v3465 : BitVec 32 := Scalar.muli v3464 c1216_i32_1634
  let c0_i32_7 : BitVec 32 := 0#32
  let c1_i32_9 : BitVec 32 := 1#32
  let arg13 : BitVec 32 := Scf.iv c0_i32_7 c1_i32_9 k0_t5
  let c38_i32_1631 : BitVec 32 := 38#32
  let v3457 : BitVec 32 := Scalar.muli arg13 c38_i32_1631
  let c7_i32 : BitVec 32 := 7#32
  let v3458 : BitVec 32 := Scalar.addi v3457 c7_i32
  let c4_i32_1635 : BitVec 32 := 4#32
  let v3466 : BitVec 32 := Scalar.muli v3458 c4_i32_1635
  let v3467 : BitVec 32 := Scalar.addi v3465 v3466
  let c1_i32_1637 : BitVec 32 := 1#32
  let v3469 : BitVec 32 := Scalar.addi v3467 c1_i32_1637
  let v3486 : Index := Scalar.indexCast v3469
  let c0_1647 : Index := 0#32
  let c0_1648 : Index := 0#32
  ![v3486.toNat, 0, 0]
def k0_off652 (v3485 : BitVec 32) : Fin 2 → Nat :=
  let v3489 : Index := Scalar.indexCast v3485
  let c0_1649 : Index := 0#32
  ![v3489.toNat, 0]

def k0_chk228 (i : grid0.Coords) (v3485 : BitVec 32) : Prop :=
  (∀ (k0_h3 : k0_cond3 i = 1#1), ∀ a, (k0_off652 v3485) a + S8x128.size a ≤ S18432x128.size a)
theorem k0_off652_inb : ∀ (i : grid0.Coords) (v3485 : BitVec 32) (k0_hw228 : k0_chk228 i v3485), ∀ (k0_h3 : k0_cond3 i = 1#1), ∀ a, (k0_off652 v3485) a + S8x128.size a ≤ S18432x128.size a := fun i v3485 k0_hw228 k0_h3 => k0_hw228 k0_h3

def k0_off653 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1631 : BitVec 32 := 38#32
  let v3457 : BitVec 32 := Scalar.muli arg13 c38_i32_1631
  let c7_i32 : BitVec 32 := 7#32
  let v3458 : BitVec 32 := Scalar.addi v3457 c7_i32
  let c4_i32_1650 : BitVec 32 := 4#32
  let v3492 : BitVec 32 := Scalar.muli v3458 c4_i32_1650
  let c2_i32_1651 : BitVec 32 := 2#32
  let v3493 : BitVec 32 := Scalar.addi v3492 c2_i32_1651
  let v3494 : Index := Scalar.indexCast v3493
  ![v3494.toNat]
def k0_off654 (i : grid0.Coords) (k0_t5 : Fin k0_t5_loop.trips) (v3460 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1633 : BitVec 32 := 2#32
  let v3463 : BitVec 32 := Scalar.muli v2959 c2_i32_1633
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3461 : BitVec 32 := Scalar.shrui v3460 v2958
  let c1_i32_1632 : BitVec 32 := 1#32
  let v3462 : BitVec 32 := Scalar.andi v3461 c1_i32_1632
  let v3464 : BitVec 32 := Scalar.addi v3463 v3462
  let c1216_i32_1634 : BitVec 32 := 1216#32
  let v3465 : BitVec 32 := Scalar.muli v3464 c1216_i32_1634
  let c0_i32_7 : BitVec 32 := 0#32
  let c1_i32_9 : BitVec 32 := 1#32
  let arg13 : BitVec 32 := Scf.iv c0_i32_7 c1_i32_9 k0_t5
  let c38_i32_1631 : BitVec 32 := 38#32
  let v3457 : BitVec 32 := Scalar.muli arg13 c38_i32_1631
  let c7_i32 : BitVec 32 := 7#32
  let v3458 : BitVec 32 := Scalar.addi v3457 c7_i32
  let c4_i32_1635 : BitVec 32 := 4#32
  let v3466 : BitVec 32 := Scalar.muli v3458 c4_i32_1635
  let v3467 : BitVec 32 := Scalar.addi v3465 v3466
  let c2_i32_1638 : BitVec 32 := 2#32
  let v3470 : BitVec 32 := Scalar.addi v3467 c2_i32_1638
  let v3496 : Index := Scalar.indexCast v3470
  let c0_1652 : Index := 0#32
  let c0_1653 : Index := 0#32
  ![v3496.toNat, 0, 0]
def k0_off655 (v3495 : BitVec 32) : Fin 2 → Nat :=
  let v3499 : Index := Scalar.indexCast v3495
  let c0_1654 : Index := 0#32
  ![v3499.toNat, 0]

def k0_chk229 (i : grid0.Coords) (v3495 : BitVec 32) : Prop :=
  (∀ (k0_h3 : k0_cond3 i = 1#1), ∀ a, (k0_off655 v3495) a + S8x128.size a ≤ S18432x128.size a)
theorem k0_off655_inb : ∀ (i : grid0.Coords) (v3495 : BitVec 32) (k0_hw229 : k0_chk229 i v3495), ∀ (k0_h3 : k0_cond3 i = 1#1), ∀ a, (k0_off655 v3495) a + S8x128.size a ≤ S18432x128.size a := fun i v3495 k0_hw229 k0_h3 => k0_hw229 k0_h3

def k0_off656 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1631 : BitVec 32 := 38#32
  let v3457 : BitVec 32 := Scalar.muli arg13 c38_i32_1631
  let c7_i32 : BitVec 32 := 7#32
  let v3458 : BitVec 32 := Scalar.addi v3457 c7_i32
  let c4_i32_1655 : BitVec 32 := 4#32
  let v3502 : BitVec 32 := Scalar.muli v3458 c4_i32_1655
  let c3_i32_1656 : BitVec 32 := 3#32
  let v3503 : BitVec 32 := Scalar.addi v3502 c3_i32_1656
  let v3504 : Index := Scalar.indexCast v3503
  ![v3504.toNat]
def k0_off657 (i : grid0.Coords) (k0_t5 : Fin k0_t5_loop.trips) (v3460 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1633 : BitVec 32 := 2#32
  let v3463 : BitVec 32 := Scalar.muli v2959 c2_i32_1633
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3461 : BitVec 32 := Scalar.shrui v3460 v2958
  let c1_i32_1632 : BitVec 32 := 1#32
  let v3462 : BitVec 32 := Scalar.andi v3461 c1_i32_1632
  let v3464 : BitVec 32 := Scalar.addi v3463 v3462
  let c1216_i32_1634 : BitVec 32 := 1216#32
  let v3465 : BitVec 32 := Scalar.muli v3464 c1216_i32_1634
  let c0_i32_7 : BitVec 32 := 0#32
  let c1_i32_9 : BitVec 32 := 1#32
  let arg13 : BitVec 32 := Scf.iv c0_i32_7 c1_i32_9 k0_t5
  let c38_i32_1631 : BitVec 32 := 38#32
  let v3457 : BitVec 32 := Scalar.muli arg13 c38_i32_1631
  let c7_i32 : BitVec 32 := 7#32
  let v3458 : BitVec 32 := Scalar.addi v3457 c7_i32
  let c4_i32_1635 : BitVec 32 := 4#32
  let v3466 : BitVec 32 := Scalar.muli v3458 c4_i32_1635
  let v3467 : BitVec 32 := Scalar.addi v3465 v3466
  let c3_i32_1639 : BitVec 32 := 3#32
  let v3471 : BitVec 32 := Scalar.addi v3467 c3_i32_1639
  let v3506 : Index := Scalar.indexCast v3471
  let c0_1657 : Index := 0#32
  let c0_1658 : Index := 0#32
  ![v3506.toNat, 0, 0]
def k0_off658 (v3505 : BitVec 32) : Fin 2 → Nat :=
  let v3509 : Index := Scalar.indexCast v3505
  let c0_1659 : Index := 0#32
  ![v3509.toNat, 0]

def k0_chk230 (i : grid0.Coords) (v3505 : BitVec 32) : Prop :=
  (∀ (k0_h3 : k0_cond3 i = 1#1), ∀ a, (k0_off658 v3505) a + S8x128.size a ≤ S18432x128.size a)
theorem k0_off658_inb : ∀ (i : grid0.Coords) (v3505 : BitVec 32) (k0_hw230 : k0_chk230 i v3505), ∀ (k0_h3 : k0_cond3 i = 1#1), ∀ a, (k0_off658 v3505) a + S8x128.size a ≤ S18432x128.size a := fun i v3505 k0_hw230 k0_h3 => k0_hw230 k0_h3

def k0_off659 (i : grid0.Coords) (k0_t5 : Fin k0_t5_loop.trips) (v3460 : BitVec 32) (c0_i32_1636 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1633 : BitVec 32 := 2#32
  let v3463 : BitVec 32 := Scalar.muli v2959 c2_i32_1633
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3461 : BitVec 32 := Scalar.shrui v3460 v2958
  let c1_i32_1632 : BitVec 32 := 1#32
  let v3462 : BitVec 32 := Scalar.andi v3461 c1_i32_1632
  let v3464 : BitVec 32 := Scalar.addi v3463 v3462
  let c1216_i32_1634 : BitVec 32 := 1216#32
  let v3465 : BitVec 32 := Scalar.muli v3464 c1216_i32_1634
  let c0_i32_7 : BitVec 32 := 0#32
  let c1_i32_9 : BitVec 32 := 1#32
  let arg13 : BitVec 32 := Scf.iv c0_i32_7 c1_i32_9 k0_t5
  let c38_i32_1631 : BitVec 32 := 38#32
  let v3457 : BitVec 32 := Scalar.muli arg13 c38_i32_1631
  let c7_i32 : BitVec 32 := 7#32
  let v3458 : BitVec 32 := Scalar.addi v3457 c7_i32
  let c4_i32_1635 : BitVec 32 := 4#32
  let v3466 : BitVec 32 := Scalar.muli v3458 c4_i32_1635
  let v3467 : BitVec 32 := Scalar.addi v3465 v3466
  let v3468 : BitVec 32 := Scalar.addi v3467 c0_i32_1636
  let v3512 : Index := Scalar.indexCast v3468
  let c0_1660 : Index := 0#32
  let c0_1661 : Index := 0#32
  ![v3512.toNat, 0, 0]

def k0_chk226 (i : grid0.Coords) (k0_t5 : Fin k0_t5_loop.trips) (v3460 : BitVec 32) : Prop :=
  (∀ (k0_h3 : k0_cond3 i = 1#1), ∀ a, (k0_off648 i k0_t5 v3460) a + S1x8x128.size a ≤ S7296x8x128.size a) ∧
  (∀ (k0_h3 : k0_cond3 i = 1#1), ∀ a, (k0_off651 i k0_t5 v3460) a + S1x8x128.size a ≤ S7296x8x128.size a) ∧
  (∀ (k0_h3 : k0_cond3 i = 1#1), ∀ a, (k0_off654 i k0_t5 v3460) a + S1x8x128.size a ≤ S7296x8x128.size a) ∧
  (∀ (k0_h3 : k0_cond3 i = 1#1), ∀ a, (k0_off657 i k0_t5 v3460) a + S1x8x128.size a ≤ S7296x8x128.size a) ∧
  (∀ (k0_h3 : k0_cond3 i = 1#1), ∀ (r : Fin 4), ∀ a, (k0_off659 i k0_t5 v3460 (BitVec.ofNat 32 r.val)) a + S1x8x128.size a ≤ S7296x8x128.size a)
theorem k0_off648_inb : ∀ (i : grid0.Coords) (k0_t5 : Fin k0_t5_loop.trips) (v3460 : BitVec 32) (k0_hw226 : k0_chk226 i k0_t5 v3460), ∀ (k0_h3 : k0_cond3 i = 1#1), ∀ a, (k0_off648 i k0_t5 v3460) a + S1x8x128.size a ≤ S7296x8x128.size a := fun i k0_t5 v3460 k0_hw226 k0_h3 => k0_hw226.1 k0_h3
theorem k0_off651_inb : ∀ (i : grid0.Coords) (k0_t5 : Fin k0_t5_loop.trips) (v3460 : BitVec 32) (k0_hw226 : k0_chk226 i k0_t5 v3460), ∀ (k0_h3 : k0_cond3 i = 1#1), ∀ a, (k0_off651 i k0_t5 v3460) a + S1x8x128.size a ≤ S7296x8x128.size a := fun i k0_t5 v3460 k0_hw226 k0_h3 => k0_hw226.2.1 k0_h3
theorem k0_off654_inb : ∀ (i : grid0.Coords) (k0_t5 : Fin k0_t5_loop.trips) (v3460 : BitVec 32) (k0_hw226 : k0_chk226 i k0_t5 v3460), ∀ (k0_h3 : k0_cond3 i = 1#1), ∀ a, (k0_off654 i k0_t5 v3460) a + S1x8x128.size a ≤ S7296x8x128.size a := fun i k0_t5 v3460 k0_hw226 k0_h3 => k0_hw226.2.2.1 k0_h3
theorem k0_off657_inb : ∀ (i : grid0.Coords) (k0_t5 : Fin k0_t5_loop.trips) (v3460 : BitVec 32) (k0_hw226 : k0_chk226 i k0_t5 v3460), ∀ (k0_h3 : k0_cond3 i = 1#1), ∀ a, (k0_off657 i k0_t5 v3460) a + S1x8x128.size a ≤ S7296x8x128.size a := fun i k0_t5 v3460 k0_hw226 k0_h3 => k0_hw226.2.2.2.1 k0_h3
theorem k0_off659_inb : ∀ (i : grid0.Coords) (k0_t5 : Fin k0_t5_loop.trips) (v3460 : BitVec 32) (k0_hw226 : k0_chk226 i k0_t5 v3460), ∀ (k0_h3 : k0_cond3 i = 1#1), ∀ (r : Fin 4), ∀ a, (k0_off659 i k0_t5 v3460 (BitVec.ofNat 32 r.val)) a + S1x8x128.size a ≤ S7296x8x128.size a := fun i k0_t5 v3460 k0_hw226 k0_h3 r => k0_hw226.2.2.2.2 k0_h3 r

def k0_off660 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1668 : BitVec 32 := 38#32
  let v3528 : BitVec 32 := Scalar.muli arg13 c38_i32_1668
  let c8_i32_1669 : BitVec 32 := 8#32
  let v3529 : BitVec 32 := Scalar.addi v3528 c8_i32_1669
  let v3530 : Index := Scalar.indexCast v3529
  ![v3530.toNat]
def k0_off661 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1668 : BitVec 32 := 38#32
  let v3528 : BitVec 32 := Scalar.muli arg13 c38_i32_1668
  let c8_i32_1669 : BitVec 32 := 8#32
  let v3529 : BitVec 32 := Scalar.addi v3528 c8_i32_1669
  let c4_i32_1678 : BitVec 32 := 4#32
  let v3543 : BitVec 32 := Scalar.muli v3529 c4_i32_1678
  let c0_i32_1679 : BitVec 32 := 0#32
  let v3544 : BitVec 32 := Scalar.addi v3543 c0_i32_1679
  let v3545 : Index := Scalar.indexCast v3544
  ![v3545.toNat]
def k0_off662 (i : grid0.Coords) (k0_t5 : Fin k0_t5_loop.trips) (v3531 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1671 : BitVec 32 := 2#32
  let v3534 : BitVec 32 := Scalar.muli v2959 c2_i32_1671
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3532 : BitVec 32 := Scalar.shrui v3531 v2958
  let c1_i32_1670 : BitVec 32 := 1#32
  let v3533 : BitVec 32 := Scalar.andi v3532 c1_i32_1670
  let v3535 : BitVec 32 := Scalar.addi v3534 v3533
  let c1216_i32_1672 : BitVec 32 := 1216#32
  let v3536 : BitVec 32 := Scalar.muli v3535 c1216_i32_1672
  let c0_i32_7 : BitVec 32 := 0#32
  let c1_i32_9 : BitVec 32 := 1#32
  let arg13 : BitVec 32 := Scf.iv c0_i32_7 c1_i32_9 k0_t5
  let c38_i32_1668 : BitVec 32 := 38#32
  let v3528 : BitVec 32 := Scalar.muli arg13 c38_i32_1668
  let c8_i32_1669 : BitVec 32 := 8#32
  let v3529 : BitVec 32 := Scalar.addi v3528 c8_i32_1669
  let c4_i32_1673 : BitVec 32 := 4#32
  let v3537 : BitVec 32 := Scalar.muli v3529 c4_i32_1673
  let v3538 : BitVec 32 := Scalar.addi v3536 v3537
  let c0_i32_1674 : BitVec 32 := 0#32
  let v3539 : BitVec 32 := Scalar.addi v3538 c0_i32_1674
  let v3547 : Index := Scalar.indexCast v3539
  let c0_1680 : Index := 0#32
  let c0_1681 : Index := 0#32
  ![v3547.toNat, 0, 0]

def k0_off663 (v3546 : BitVec 32) : Fin 2 → Nat :=
  let v3550 : Index := Scalar.indexCast v3546
  let c0_1682 : Index := 0#32
  ![v3550.toNat, 0]

def k0_chk232 (i : grid0.Coords) (v3546 : BitVec 32) : Prop :=
  (∀ (k0_h3 : k0_cond3 i = 1#1), ∀ a, (k0_off663 v3546) a + S8x128.size a ≤ S18432x128.size a)
theorem k0_off663_inb : ∀ (i : grid0.Coords) (v3546 : BitVec 32) (k0_hw232 : k0_chk232 i v3546), ∀ (k0_h3 : k0_cond3 i = 1#1), ∀ a, (k0_off663 v3546) a + S8x128.size a ≤ S18432x128.size a := fun i v3546 k0_hw232 k0_h3 => k0_hw232 k0_h3

def k0_off664 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1668 : BitVec 32 := 38#32
  let v3528 : BitVec 32 := Scalar.muli arg13 c38_i32_1668
  let c8_i32_1669 : BitVec 32 := 8#32
  let v3529 : BitVec 32 := Scalar.addi v3528 c8_i32_1669
  let c4_i32_1683 : BitVec 32 := 4#32
  let v3553 : BitVec 32 := Scalar.muli v3529 c4_i32_1683
  let c1_i32_1684 : BitVec 32 := 1#32
  let v3554 : BitVec 32 := Scalar.addi v3553 c1_i32_1684
  let v3555 : Index := Scalar.indexCast v3554
  ![v3555.toNat]
def k0_off665 (i : grid0.Coords) (k0_t5 : Fin k0_t5_loop.trips) (v3531 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1671 : BitVec 32 := 2#32
  let v3534 : BitVec 32 := Scalar.muli v2959 c2_i32_1671
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3532 : BitVec 32 := Scalar.shrui v3531 v2958
  let c1_i32_1670 : BitVec 32 := 1#32
  let v3533 : BitVec 32 := Scalar.andi v3532 c1_i32_1670
  let v3535 : BitVec 32 := Scalar.addi v3534 v3533
  let c1216_i32_1672 : BitVec 32 := 1216#32
  let v3536 : BitVec 32 := Scalar.muli v3535 c1216_i32_1672
  let c0_i32_7 : BitVec 32 := 0#32
  let c1_i32_9 : BitVec 32 := 1#32
  let arg13 : BitVec 32 := Scf.iv c0_i32_7 c1_i32_9 k0_t5
  let c38_i32_1668 : BitVec 32 := 38#32
  let v3528 : BitVec 32 := Scalar.muli arg13 c38_i32_1668
  let c8_i32_1669 : BitVec 32 := 8#32
  let v3529 : BitVec 32 := Scalar.addi v3528 c8_i32_1669
  let c4_i32_1673 : BitVec 32 := 4#32
  let v3537 : BitVec 32 := Scalar.muli v3529 c4_i32_1673
  let v3538 : BitVec 32 := Scalar.addi v3536 v3537
  let c1_i32_1675 : BitVec 32 := 1#32
  let v3540 : BitVec 32 := Scalar.addi v3538 c1_i32_1675
  let v3557 : Index := Scalar.indexCast v3540
  let c0_1685 : Index := 0#32
  let c0_1686 : Index := 0#32
  ![v3557.toNat, 0, 0]
def k0_off666 (v3556 : BitVec 32) : Fin 2 → Nat :=
  let v3560 : Index := Scalar.indexCast v3556
  let c0_1687 : Index := 0#32
  ![v3560.toNat, 0]

def k0_chk233 (i : grid0.Coords) (v3556 : BitVec 32) : Prop :=
  (∀ (k0_h3 : k0_cond3 i = 1#1), ∀ a, (k0_off666 v3556) a + S8x128.size a ≤ S18432x128.size a)
theorem k0_off666_inb : ∀ (i : grid0.Coords) (v3556 : BitVec 32) (k0_hw233 : k0_chk233 i v3556), ∀ (k0_h3 : k0_cond3 i = 1#1), ∀ a, (k0_off666 v3556) a + S8x128.size a ≤ S18432x128.size a := fun i v3556 k0_hw233 k0_h3 => k0_hw233 k0_h3

def k0_off667 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1668 : BitVec 32 := 38#32
  let v3528 : BitVec 32 := Scalar.muli arg13 c38_i32_1668
  let c8_i32_1669 : BitVec 32 := 8#32
  let v3529 : BitVec 32 := Scalar.addi v3528 c8_i32_1669
  let c4_i32_1688 : BitVec 32 := 4#32
  let v3563 : BitVec 32 := Scalar.muli v3529 c4_i32_1688
  let c2_i32_1689 : BitVec 32 := 2#32
  let v3564 : BitVec 32 := Scalar.addi v3563 c2_i32_1689
  let v3565 : Index := Scalar.indexCast v3564
  ![v3565.toNat]
def k0_off668 (i : grid0.Coords) (k0_t5 : Fin k0_t5_loop.trips) (v3531 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1671 : BitVec 32 := 2#32
  let v3534 : BitVec 32 := Scalar.muli v2959 c2_i32_1671
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3532 : BitVec 32 := Scalar.shrui v3531 v2958
  let c1_i32_1670 : BitVec 32 := 1#32
  let v3533 : BitVec 32 := Scalar.andi v3532 c1_i32_1670
  let v3535 : BitVec 32 := Scalar.addi v3534 v3533
  let c1216_i32_1672 : BitVec 32 := 1216#32
  let v3536 : BitVec 32 := Scalar.muli v3535 c1216_i32_1672
  let c0_i32_7 : BitVec 32 := 0#32
  let c1_i32_9 : BitVec 32 := 1#32
  let arg13 : BitVec 32 := Scf.iv c0_i32_7 c1_i32_9 k0_t5
  let c38_i32_1668 : BitVec 32 := 38#32
  let v3528 : BitVec 32 := Scalar.muli arg13 c38_i32_1668
  let c8_i32_1669 : BitVec 32 := 8#32
  let v3529 : BitVec 32 := Scalar.addi v3528 c8_i32_1669
  let c4_i32_1673 : BitVec 32 := 4#32
  let v3537 : BitVec 32 := Scalar.muli v3529 c4_i32_1673
  let v3538 : BitVec 32 := Scalar.addi v3536 v3537
  let c2_i32_1676 : BitVec 32 := 2#32
  let v3541 : BitVec 32 := Scalar.addi v3538 c2_i32_1676
  let v3567 : Index := Scalar.indexCast v3541
  let c0_1690 : Index := 0#32
  let c0_1691 : Index := 0#32
  ![v3567.toNat, 0, 0]
def k0_off669 (v3566 : BitVec 32) : Fin 2 → Nat :=
  let v3570 : Index := Scalar.indexCast v3566
  let c0_1692 : Index := 0#32
  ![v3570.toNat, 0]

def k0_chk234 (i : grid0.Coords) (v3566 : BitVec 32) : Prop :=
  (∀ (k0_h3 : k0_cond3 i = 1#1), ∀ a, (k0_off669 v3566) a + S8x128.size a ≤ S18432x128.size a)
theorem k0_off669_inb : ∀ (i : grid0.Coords) (v3566 : BitVec 32) (k0_hw234 : k0_chk234 i v3566), ∀ (k0_h3 : k0_cond3 i = 1#1), ∀ a, (k0_off669 v3566) a + S8x128.size a ≤ S18432x128.size a := fun i v3566 k0_hw234 k0_h3 => k0_hw234 k0_h3

def k0_off670 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1668 : BitVec 32 := 38#32
  let v3528 : BitVec 32 := Scalar.muli arg13 c38_i32_1668
  let c8_i32_1669 : BitVec 32 := 8#32
  let v3529 : BitVec 32 := Scalar.addi v3528 c8_i32_1669
  let c4_i32_1693 : BitVec 32 := 4#32
  let v3573 : BitVec 32 := Scalar.muli v3529 c4_i32_1693
  let c3_i32_1694 : BitVec 32 := 3#32
  let v3574 : BitVec 32 := Scalar.addi v3573 c3_i32_1694
  let v3575 : Index := Scalar.indexCast v3574
  ![v3575.toNat]
def k0_off671 (i : grid0.Coords) (k0_t5 : Fin k0_t5_loop.trips) (v3531 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1671 : BitVec 32 := 2#32
  let v3534 : BitVec 32 := Scalar.muli v2959 c2_i32_1671
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3532 : BitVec 32 := Scalar.shrui v3531 v2958
  let c1_i32_1670 : BitVec 32 := 1#32
  let v3533 : BitVec 32 := Scalar.andi v3532 c1_i32_1670
  let v3535 : BitVec 32 := Scalar.addi v3534 v3533
  let c1216_i32_1672 : BitVec 32 := 1216#32
  let v3536 : BitVec 32 := Scalar.muli v3535 c1216_i32_1672
  let c0_i32_7 : BitVec 32 := 0#32
  let c1_i32_9 : BitVec 32 := 1#32
  let arg13 : BitVec 32 := Scf.iv c0_i32_7 c1_i32_9 k0_t5
  let c38_i32_1668 : BitVec 32 := 38#32
  let v3528 : BitVec 32 := Scalar.muli arg13 c38_i32_1668
  let c8_i32_1669 : BitVec 32 := 8#32
  let v3529 : BitVec 32 := Scalar.addi v3528 c8_i32_1669
  let c4_i32_1673 : BitVec 32 := 4#32
  let v3537 : BitVec 32 := Scalar.muli v3529 c4_i32_1673
  let v3538 : BitVec 32 := Scalar.addi v3536 v3537
  let c3_i32_1677 : BitVec 32 := 3#32
  let v3542 : BitVec 32 := Scalar.addi v3538 c3_i32_1677
  let v3577 : Index := Scalar.indexCast v3542
  let c0_1695 : Index := 0#32
  let c0_1696 : Index := 0#32
  ![v3577.toNat, 0, 0]
def k0_off672 (v3576 : BitVec 32) : Fin 2 → Nat :=
  let v3580 : Index := Scalar.indexCast v3576
  let c0_1697 : Index := 0#32
  ![v3580.toNat, 0]

def k0_chk235 (i : grid0.Coords) (v3576 : BitVec 32) : Prop :=
  (∀ (k0_h3 : k0_cond3 i = 1#1), ∀ a, (k0_off672 v3576) a + S8x128.size a ≤ S18432x128.size a)
theorem k0_off672_inb : ∀ (i : grid0.Coords) (v3576 : BitVec 32) (k0_hw235 : k0_chk235 i v3576), ∀ (k0_h3 : k0_cond3 i = 1#1), ∀ a, (k0_off672 v3576) a + S8x128.size a ≤ S18432x128.size a := fun i v3576 k0_hw235 k0_h3 => k0_hw235 k0_h3

def k0_off673 (i : grid0.Coords) (k0_t5 : Fin k0_t5_loop.trips) (v3531 : BitVec 32) (c0_i32_1674 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1671 : BitVec 32 := 2#32
  let v3534 : BitVec 32 := Scalar.muli v2959 c2_i32_1671
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3532 : BitVec 32 := Scalar.shrui v3531 v2958
  let c1_i32_1670 : BitVec 32 := 1#32
  let v3533 : BitVec 32 := Scalar.andi v3532 c1_i32_1670
  let v3535 : BitVec 32 := Scalar.addi v3534 v3533
  let c1216_i32_1672 : BitVec 32 := 1216#32
  let v3536 : BitVec 32 := Scalar.muli v3535 c1216_i32_1672
  let c0_i32_7 : BitVec 32 := 0#32
  let c1_i32_9 : BitVec 32 := 1#32
  let arg13 : BitVec 32 := Scf.iv c0_i32_7 c1_i32_9 k0_t5
  let c38_i32_1668 : BitVec 32 := 38#32
  let v3528 : BitVec 32 := Scalar.muli arg13 c38_i32_1668
  let c8_i32_1669 : BitVec 32 := 8#32
  let v3529 : BitVec 32 := Scalar.addi v3528 c8_i32_1669
  let c4_i32_1673 : BitVec 32 := 4#32
  let v3537 : BitVec 32 := Scalar.muli v3529 c4_i32_1673
  let v3538 : BitVec 32 := Scalar.addi v3536 v3537
  let v3539 : BitVec 32 := Scalar.addi v3538 c0_i32_1674
  let v3583 : Index := Scalar.indexCast v3539
  let c0_1698 : Index := 0#32
  let c0_1699 : Index := 0#32
  ![v3583.toNat, 0, 0]

def k0_chk231 (i : grid0.Coords) (k0_t5 : Fin k0_t5_loop.trips) (v3531 : BitVec 32) : Prop :=
  (∀ (k0_h3 : k0_cond3 i = 1#1), ∀ a, (k0_off662 i k0_t5 v3531) a + S1x8x128.size a ≤ S7296x8x128.size a) ∧
  (∀ (k0_h3 : k0_cond3 i = 1#1), ∀ a, (k0_off665 i k0_t5 v3531) a + S1x8x128.size a ≤ S7296x8x128.size a) ∧
  (∀ (k0_h3 : k0_cond3 i = 1#1), ∀ a, (k0_off668 i k0_t5 v3531) a + S1x8x128.size a ≤ S7296x8x128.size a) ∧
  (∀ (k0_h3 : k0_cond3 i = 1#1), ∀ a, (k0_off671 i k0_t5 v3531) a + S1x8x128.size a ≤ S7296x8x128.size a) ∧
  (∀ (k0_h3 : k0_cond3 i = 1#1), ∀ (r : Fin 4), ∀ a, (k0_off673 i k0_t5 v3531 (BitVec.ofNat 32 r.val)) a + S1x8x128.size a ≤ S7296x8x128.size a)
theorem k0_off662_inb : ∀ (i : grid0.Coords) (k0_t5 : Fin k0_t5_loop.trips) (v3531 : BitVec 32) (k0_hw231 : k0_chk231 i k0_t5 v3531), ∀ (k0_h3 : k0_cond3 i = 1#1), ∀ a, (k0_off662 i k0_t5 v3531) a + S1x8x128.size a ≤ S7296x8x128.size a := fun i k0_t5 v3531 k0_hw231 k0_h3 => k0_hw231.1 k0_h3
theorem k0_off665_inb : ∀ (i : grid0.Coords) (k0_t5 : Fin k0_t5_loop.trips) (v3531 : BitVec 32) (k0_hw231 : k0_chk231 i k0_t5 v3531), ∀ (k0_h3 : k0_cond3 i = 1#1), ∀ a, (k0_off665 i k0_t5 v3531) a + S1x8x128.size a ≤ S7296x8x128.size a := fun i k0_t5 v3531 k0_hw231 k0_h3 => k0_hw231.2.1 k0_h3
theorem k0_off668_inb : ∀ (i : grid0.Coords) (k0_t5 : Fin k0_t5_loop.trips) (v3531 : BitVec 32) (k0_hw231 : k0_chk231 i k0_t5 v3531), ∀ (k0_h3 : k0_cond3 i = 1#1), ∀ a, (k0_off668 i k0_t5 v3531) a + S1x8x128.size a ≤ S7296x8x128.size a := fun i k0_t5 v3531 k0_hw231 k0_h3 => k0_hw231.2.2.1 k0_h3
theorem k0_off671_inb : ∀ (i : grid0.Coords) (k0_t5 : Fin k0_t5_loop.trips) (v3531 : BitVec 32) (k0_hw231 : k0_chk231 i k0_t5 v3531), ∀ (k0_h3 : k0_cond3 i = 1#1), ∀ a, (k0_off671 i k0_t5 v3531) a + S1x8x128.size a ≤ S7296x8x128.size a := fun i k0_t5 v3531 k0_hw231 k0_h3 => k0_hw231.2.2.2.1 k0_h3
theorem k0_off673_inb : ∀ (i : grid0.Coords) (k0_t5 : Fin k0_t5_loop.trips) (v3531 : BitVec 32) (k0_hw231 : k0_chk231 i k0_t5 v3531), ∀ (k0_h3 : k0_cond3 i = 1#1), ∀ (r : Fin 4), ∀ a, (k0_off673 i k0_t5 v3531 (BitVec.ofNat 32 r.val)) a + S1x8x128.size a ≤ S7296x8x128.size a := fun i k0_t5 v3531 k0_hw231 k0_h3 r => k0_hw231.2.2.2.2 k0_h3 r

def k0_off674 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1706 : BitVec 32 := 38#32
  let v3599 : BitVec 32 := Scalar.muli arg13 c38_i32_1706
  let c9_i32 : BitVec 32 := 9#32
  let v3600 : BitVec 32 := Scalar.addi v3599 c9_i32
  let v3601 : Index := Scalar.indexCast v3600
  ![v3601.toNat]
def k0_off675 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1706 : BitVec 32 := 38#32
  let v3599 : BitVec 32 := Scalar.muli arg13 c38_i32_1706
  let c9_i32 : BitVec 32 := 9#32
  let v3600 : BitVec 32 := Scalar.addi v3599 c9_i32
  let c4_i32_1715 : BitVec 32 := 4#32
  let v3614 : BitVec 32 := Scalar.muli v3600 c4_i32_1715
  let c0_i32_1716 : BitVec 32 := 0#32
  let v3615 : BitVec 32 := Scalar.addi v3614 c0_i32_1716
  let v3616 : Index := Scalar.indexCast v3615
  ![v3616.toNat]
def k0_off676 (i : grid0.Coords) (k0_t5 : Fin k0_t5_loop.trips) (v3602 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1708 : BitVec 32 := 2#32
  let v3605 : BitVec 32 := Scalar.muli v2959 c2_i32_1708
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3603 : BitVec 32 := Scalar.shrui v3602 v2958
  let c1_i32_1707 : BitVec 32 := 1#32
  let v3604 : BitVec 32 := Scalar.andi v3603 c1_i32_1707
  let v3606 : BitVec 32 := Scalar.addi v3605 v3604
  let c1216_i32_1709 : BitVec 32 := 1216#32
  let v3607 : BitVec 32 := Scalar.muli v3606 c1216_i32_1709
  let c0_i32_7 : BitVec 32 := 0#32
  let c1_i32_9 : BitVec 32 := 1#32
  let arg13 : BitVec 32 := Scf.iv c0_i32_7 c1_i32_9 k0_t5
  let c38_i32_1706 : BitVec 32 := 38#32
  let v3599 : BitVec 32 := Scalar.muli arg13 c38_i32_1706
  let c9_i32 : BitVec 32 := 9#32
  let v3600 : BitVec 32 := Scalar.addi v3599 c9_i32
  let c4_i32_1710 : BitVec 32 := 4#32
  let v3608 : BitVec 32 := Scalar.muli v3600 c4_i32_1710
  let v3609 : BitVec 32 := Scalar.addi v3607 v3608
  let c0_i32_1711 : BitVec 32 := 0#32
  let v3610 : BitVec 32 := Scalar.addi v3609 c0_i32_1711
  let v3618 : Index := Scalar.indexCast v3610
  let c0_1717 : Index := 0#32
  let c0_1718 : Index := 0#32
  ![v3618.toNat, 0, 0]

def k0_off677 (v3617 : BitVec 32) : Fin 2 → Nat :=
  let v3621 : Index := Scalar.indexCast v3617
  let c0_1719 : Index := 0#32
  ![v3621.toNat, 0]

def k0_chk237 (i : grid0.Coords) (v3617 : BitVec 32) : Prop :=
  (∀ (k0_h3 : k0_cond3 i = 1#1), ∀ a, (k0_off677 v3617) a + S8x128.size a ≤ S18432x128.size a)
theorem k0_off677_inb : ∀ (i : grid0.Coords) (v3617 : BitVec 32) (k0_hw237 : k0_chk237 i v3617), ∀ (k0_h3 : k0_cond3 i = 1#1), ∀ a, (k0_off677 v3617) a + S8x128.size a ≤ S18432x128.size a := fun i v3617 k0_hw237 k0_h3 => k0_hw237 k0_h3

def k0_off678 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1706 : BitVec 32 := 38#32
  let v3599 : BitVec 32 := Scalar.muli arg13 c38_i32_1706
  let c9_i32 : BitVec 32 := 9#32
  let v3600 : BitVec 32 := Scalar.addi v3599 c9_i32
  let c4_i32_1720 : BitVec 32 := 4#32
  let v3624 : BitVec 32 := Scalar.muli v3600 c4_i32_1720
  let c1_i32_1721 : BitVec 32 := 1#32
  let v3625 : BitVec 32 := Scalar.addi v3624 c1_i32_1721
  let v3626 : Index := Scalar.indexCast v3625
  ![v3626.toNat]
def k0_off679 (i : grid0.Coords) (k0_t5 : Fin k0_t5_loop.trips) (v3602 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1708 : BitVec 32 := 2#32
  let v3605 : BitVec 32 := Scalar.muli v2959 c2_i32_1708
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3603 : BitVec 32 := Scalar.shrui v3602 v2958
  let c1_i32_1707 : BitVec 32 := 1#32
  let v3604 : BitVec 32 := Scalar.andi v3603 c1_i32_1707
  let v3606 : BitVec 32 := Scalar.addi v3605 v3604
  let c1216_i32_1709 : BitVec 32 := 1216#32
  let v3607 : BitVec 32 := Scalar.muli v3606 c1216_i32_1709
  let c0_i32_7 : BitVec 32 := 0#32
  let c1_i32_9 : BitVec 32 := 1#32
  let arg13 : BitVec 32 := Scf.iv c0_i32_7 c1_i32_9 k0_t5
  let c38_i32_1706 : BitVec 32 := 38#32
  let v3599 : BitVec 32 := Scalar.muli arg13 c38_i32_1706
  let c9_i32 : BitVec 32 := 9#32
  let v3600 : BitVec 32 := Scalar.addi v3599 c9_i32
  let c4_i32_1710 : BitVec 32 := 4#32
  let v3608 : BitVec 32 := Scalar.muli v3600 c4_i32_1710
  let v3609 : BitVec 32 := Scalar.addi v3607 v3608
  let c1_i32_1712 : BitVec 32 := 1#32
  let v3611 : BitVec 32 := Scalar.addi v3609 c1_i32_1712
  let v3628 : Index := Scalar.indexCast v3611
  let c0_1722 : Index := 0#32
  let c0_1723 : Index := 0#32
  ![v3628.toNat, 0, 0]
def k0_off680 (v3627 : BitVec 32) : Fin 2 → Nat :=
  let v3631 : Index := Scalar.indexCast v3627
  let c0_1724 : Index := 0#32
  ![v3631.toNat, 0]

def k0_chk238 (i : grid0.Coords) (v3627 : BitVec 32) : Prop :=
  (∀ (k0_h3 : k0_cond3 i = 1#1), ∀ a, (k0_off680 v3627) a + S8x128.size a ≤ S18432x128.size a)
theorem k0_off680_inb : ∀ (i : grid0.Coords) (v3627 : BitVec 32) (k0_hw238 : k0_chk238 i v3627), ∀ (k0_h3 : k0_cond3 i = 1#1), ∀ a, (k0_off680 v3627) a + S8x128.size a ≤ S18432x128.size a := fun i v3627 k0_hw238 k0_h3 => k0_hw238 k0_h3

def k0_off681 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1706 : BitVec 32 := 38#32
  let v3599 : BitVec 32 := Scalar.muli arg13 c38_i32_1706
  let c9_i32 : BitVec 32 := 9#32
  let v3600 : BitVec 32 := Scalar.addi v3599 c9_i32
  let c4_i32_1725 : BitVec 32 := 4#32
  let v3634 : BitVec 32 := Scalar.muli v3600 c4_i32_1725
  let c2_i32_1726 : BitVec 32 := 2#32
  let v3635 : BitVec 32 := Scalar.addi v3634 c2_i32_1726
  let v3636 : Index := Scalar.indexCast v3635
  ![v3636.toNat]
def k0_off682 (i : grid0.Coords) (k0_t5 : Fin k0_t5_loop.trips) (v3602 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1708 : BitVec 32 := 2#32
  let v3605 : BitVec 32 := Scalar.muli v2959 c2_i32_1708
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3603 : BitVec 32 := Scalar.shrui v3602 v2958
  let c1_i32_1707 : BitVec 32 := 1#32
  let v3604 : BitVec 32 := Scalar.andi v3603 c1_i32_1707
  let v3606 : BitVec 32 := Scalar.addi v3605 v3604
  let c1216_i32_1709 : BitVec 32 := 1216#32
  let v3607 : BitVec 32 := Scalar.muli v3606 c1216_i32_1709
  let c0_i32_7 : BitVec 32 := 0#32
  let c1_i32_9 : BitVec 32 := 1#32
  let arg13 : BitVec 32 := Scf.iv c0_i32_7 c1_i32_9 k0_t5
  let c38_i32_1706 : BitVec 32 := 38#32
  let v3599 : BitVec 32 := Scalar.muli arg13 c38_i32_1706
  let c9_i32 : BitVec 32 := 9#32
  let v3600 : BitVec 32 := Scalar.addi v3599 c9_i32
  let c4_i32_1710 : BitVec 32 := 4#32
  let v3608 : BitVec 32 := Scalar.muli v3600 c4_i32_1710
  let v3609 : BitVec 32 := Scalar.addi v3607 v3608
  let c2_i32_1713 : BitVec 32 := 2#32
  let v3612 : BitVec 32 := Scalar.addi v3609 c2_i32_1713
  let v3638 : Index := Scalar.indexCast v3612
  let c0_1727 : Index := 0#32
  let c0_1728 : Index := 0#32
  ![v3638.toNat, 0, 0]
def k0_off683 (v3637 : BitVec 32) : Fin 2 → Nat :=
  let v3641 : Index := Scalar.indexCast v3637
  let c0_1729 : Index := 0#32
  ![v3641.toNat, 0]

def k0_chk239 (i : grid0.Coords) (v3637 : BitVec 32) : Prop :=
  (∀ (k0_h3 : k0_cond3 i = 1#1), ∀ a, (k0_off683 v3637) a + S8x128.size a ≤ S18432x128.size a)
theorem k0_off683_inb : ∀ (i : grid0.Coords) (v3637 : BitVec 32) (k0_hw239 : k0_chk239 i v3637), ∀ (k0_h3 : k0_cond3 i = 1#1), ∀ a, (k0_off683 v3637) a + S8x128.size a ≤ S18432x128.size a := fun i v3637 k0_hw239 k0_h3 => k0_hw239 k0_h3

def k0_off684 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1706 : BitVec 32 := 38#32
  let v3599 : BitVec 32 := Scalar.muli arg13 c38_i32_1706
  let c9_i32 : BitVec 32 := 9#32
  let v3600 : BitVec 32 := Scalar.addi v3599 c9_i32
  let c4_i32_1730 : BitVec 32 := 4#32
  let v3644 : BitVec 32 := Scalar.muli v3600 c4_i32_1730
  let c3_i32_1731 : BitVec 32 := 3#32
  let v3645 : BitVec 32 := Scalar.addi v3644 c3_i32_1731
  let v3646 : Index := Scalar.indexCast v3645
  ![v3646.toNat]
def k0_off685 (i : grid0.Coords) (k0_t5 : Fin k0_t5_loop.trips) (v3602 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1708 : BitVec 32 := 2#32
  let v3605 : BitVec 32 := Scalar.muli v2959 c2_i32_1708
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3603 : BitVec 32 := Scalar.shrui v3602 v2958
  let c1_i32_1707 : BitVec 32 := 1#32
  let v3604 : BitVec 32 := Scalar.andi v3603 c1_i32_1707
  let v3606 : BitVec 32 := Scalar.addi v3605 v3604
  let c1216_i32_1709 : BitVec 32 := 1216#32
  let v3607 : BitVec 32 := Scalar.muli v3606 c1216_i32_1709
  let c0_i32_7 : BitVec 32 := 0#32
  let c1_i32_9 : BitVec 32 := 1#32
  let arg13 : BitVec 32 := Scf.iv c0_i32_7 c1_i32_9 k0_t5
  let c38_i32_1706 : BitVec 32 := 38#32
  let v3599 : BitVec 32 := Scalar.muli arg13 c38_i32_1706
  let c9_i32 : BitVec 32 := 9#32
  let v3600 : BitVec 32 := Scalar.addi v3599 c9_i32
  let c4_i32_1710 : BitVec 32 := 4#32
  let v3608 : BitVec 32 := Scalar.muli v3600 c4_i32_1710
  let v3609 : BitVec 32 := Scalar.addi v3607 v3608
  let c3_i32_1714 : BitVec 32 := 3#32
  let v3613 : BitVec 32 := Scalar.addi v3609 c3_i32_1714
  let v3648 : Index := Scalar.indexCast v3613
  let c0_1732 : Index := 0#32
  let c0_1733 : Index := 0#32
  ![v3648.toNat, 0, 0]
def k0_off686 (v3647 : BitVec 32) : Fin 2 → Nat :=
  let v3651 : Index := Scalar.indexCast v3647
  let c0_1734 : Index := 0#32
  ![v3651.toNat, 0]

def k0_chk240 (i : grid0.Coords) (v3647 : BitVec 32) : Prop :=
  (∀ (k0_h3 : k0_cond3 i = 1#1), ∀ a, (k0_off686 v3647) a + S8x128.size a ≤ S18432x128.size a)
theorem k0_off686_inb : ∀ (i : grid0.Coords) (v3647 : BitVec 32) (k0_hw240 : k0_chk240 i v3647), ∀ (k0_h3 : k0_cond3 i = 1#1), ∀ a, (k0_off686 v3647) a + S8x128.size a ≤ S18432x128.size a := fun i v3647 k0_hw240 k0_h3 => k0_hw240 k0_h3

def k0_off687 (i : grid0.Coords) (k0_t5 : Fin k0_t5_loop.trips) (v3602 : BitVec 32) (c0_i32_1711 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1708 : BitVec 32 := 2#32
  let v3605 : BitVec 32 := Scalar.muli v2959 c2_i32_1708
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3603 : BitVec 32 := Scalar.shrui v3602 v2958
  let c1_i32_1707 : BitVec 32 := 1#32
  let v3604 : BitVec 32 := Scalar.andi v3603 c1_i32_1707
  let v3606 : BitVec 32 := Scalar.addi v3605 v3604
  let c1216_i32_1709 : BitVec 32 := 1216#32
  let v3607 : BitVec 32 := Scalar.muli v3606 c1216_i32_1709
  let c0_i32_7 : BitVec 32 := 0#32
  let c1_i32_9 : BitVec 32 := 1#32
  let arg13 : BitVec 32 := Scf.iv c0_i32_7 c1_i32_9 k0_t5
  let c38_i32_1706 : BitVec 32 := 38#32
  let v3599 : BitVec 32 := Scalar.muli arg13 c38_i32_1706
  let c9_i32 : BitVec 32 := 9#32
  let v3600 : BitVec 32 := Scalar.addi v3599 c9_i32
  let c4_i32_1710 : BitVec 32 := 4#32
  let v3608 : BitVec 32 := Scalar.muli v3600 c4_i32_1710
  let v3609 : BitVec 32 := Scalar.addi v3607 v3608
  let v3610 : BitVec 32 := Scalar.addi v3609 c0_i32_1711
  let v3654 : Index := Scalar.indexCast v3610
  let c0_1735 : Index := 0#32
  let c0_1736 : Index := 0#32
  ![v3654.toNat, 0, 0]

def k0_chk236 (i : grid0.Coords) (k0_t5 : Fin k0_t5_loop.trips) (v3602 : BitVec 32) : Prop :=
  (∀ (k0_h3 : k0_cond3 i = 1#1), ∀ a, (k0_off676 i k0_t5 v3602) a + S1x8x128.size a ≤ S7296x8x128.size a) ∧
  (∀ (k0_h3 : k0_cond3 i = 1#1), ∀ a, (k0_off679 i k0_t5 v3602) a + S1x8x128.size a ≤ S7296x8x128.size a) ∧
  (∀ (k0_h3 : k0_cond3 i = 1#1), ∀ a, (k0_off682 i k0_t5 v3602) a + S1x8x128.size a ≤ S7296x8x128.size a) ∧
  (∀ (k0_h3 : k0_cond3 i = 1#1), ∀ a, (k0_off685 i k0_t5 v3602) a + S1x8x128.size a ≤ S7296x8x128.size a) ∧
  (∀ (k0_h3 : k0_cond3 i = 1#1), ∀ (r : Fin 4), ∀ a, (k0_off687 i k0_t5 v3602 (BitVec.ofNat 32 r.val)) a + S1x8x128.size a ≤ S7296x8x128.size a)
theorem k0_off676_inb : ∀ (i : grid0.Coords) (k0_t5 : Fin k0_t5_loop.trips) (v3602 : BitVec 32) (k0_hw236 : k0_chk236 i k0_t5 v3602), ∀ (k0_h3 : k0_cond3 i = 1#1), ∀ a, (k0_off676 i k0_t5 v3602) a + S1x8x128.size a ≤ S7296x8x128.size a := fun i k0_t5 v3602 k0_hw236 k0_h3 => k0_hw236.1 k0_h3
theorem k0_off679_inb : ∀ (i : grid0.Coords) (k0_t5 : Fin k0_t5_loop.trips) (v3602 : BitVec 32) (k0_hw236 : k0_chk236 i k0_t5 v3602), ∀ (k0_h3 : k0_cond3 i = 1#1), ∀ a, (k0_off679 i k0_t5 v3602) a + S1x8x128.size a ≤ S7296x8x128.size a := fun i k0_t5 v3602 k0_hw236 k0_h3 => k0_hw236.2.1 k0_h3
theorem k0_off682_inb : ∀ (i : grid0.Coords) (k0_t5 : Fin k0_t5_loop.trips) (v3602 : BitVec 32) (k0_hw236 : k0_chk236 i k0_t5 v3602), ∀ (k0_h3 : k0_cond3 i = 1#1), ∀ a, (k0_off682 i k0_t5 v3602) a + S1x8x128.size a ≤ S7296x8x128.size a := fun i k0_t5 v3602 k0_hw236 k0_h3 => k0_hw236.2.2.1 k0_h3
theorem k0_off685_inb : ∀ (i : grid0.Coords) (k0_t5 : Fin k0_t5_loop.trips) (v3602 : BitVec 32) (k0_hw236 : k0_chk236 i k0_t5 v3602), ∀ (k0_h3 : k0_cond3 i = 1#1), ∀ a, (k0_off685 i k0_t5 v3602) a + S1x8x128.size a ≤ S7296x8x128.size a := fun i k0_t5 v3602 k0_hw236 k0_h3 => k0_hw236.2.2.2.1 k0_h3
theorem k0_off687_inb : ∀ (i : grid0.Coords) (k0_t5 : Fin k0_t5_loop.trips) (v3602 : BitVec 32) (k0_hw236 : k0_chk236 i k0_t5 v3602), ∀ (k0_h3 : k0_cond3 i = 1#1), ∀ (r : Fin 4), ∀ a, (k0_off687 i k0_t5 v3602 (BitVec.ofNat 32 r.val)) a + S1x8x128.size a ≤ S7296x8x128.size a := fun i k0_t5 v3602 k0_hw236 k0_h3 r => k0_hw236.2.2.2.2 k0_h3 r

def k0_off688 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1743 : BitVec 32 := 38#32
  let v3670 : BitVec 32 := Scalar.muli arg13 c38_i32_1743
  let c10_i32 : BitVec 32 := 10#32
  let v3671 : BitVec 32 := Scalar.addi v3670 c10_i32
  let v3672 : Index := Scalar.indexCast v3671
  ![v3672.toNat]
def k0_off689 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1743 : BitVec 32 := 38#32
  let v3670 : BitVec 32 := Scalar.muli arg13 c38_i32_1743
  let c10_i32 : BitVec 32 := 10#32
  let v3671 : BitVec 32 := Scalar.addi v3670 c10_i32
  let c4_i32_1752 : BitVec 32 := 4#32
  let v3685 : BitVec 32 := Scalar.muli v3671 c4_i32_1752
  let c0_i32_1753 : BitVec 32 := 0#32
  let v3686 : BitVec 32 := Scalar.addi v3685 c0_i32_1753
  let v3687 : Index := Scalar.indexCast v3686
  ![v3687.toNat]
def k0_off690 (i : grid0.Coords) (k0_t5 : Fin k0_t5_loop.trips) (v3673 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1745 : BitVec 32 := 2#32
  let v3676 : BitVec 32 := Scalar.muli v2959 c2_i32_1745
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3674 : BitVec 32 := Scalar.shrui v3673 v2958
  let c1_i32_1744 : BitVec 32 := 1#32
  let v3675 : BitVec 32 := Scalar.andi v3674 c1_i32_1744
  let v3677 : BitVec 32 := Scalar.addi v3676 v3675
  let c1216_i32_1746 : BitVec 32 := 1216#32
  let v3678 : BitVec 32 := Scalar.muli v3677 c1216_i32_1746
  let c0_i32_7 : BitVec 32 := 0#32
  let c1_i32_9 : BitVec 32 := 1#32
  let arg13 : BitVec 32 := Scf.iv c0_i32_7 c1_i32_9 k0_t5
  let c38_i32_1743 : BitVec 32 := 38#32
  let v3670 : BitVec 32 := Scalar.muli arg13 c38_i32_1743
  let c10_i32 : BitVec 32 := 10#32
  let v3671 : BitVec 32 := Scalar.addi v3670 c10_i32
  let c4_i32_1747 : BitVec 32 := 4#32
  let v3679 : BitVec 32 := Scalar.muli v3671 c4_i32_1747
  let v3680 : BitVec 32 := Scalar.addi v3678 v3679
  let c0_i32_1748 : BitVec 32 := 0#32
  let v3681 : BitVec 32 := Scalar.addi v3680 c0_i32_1748
  let v3689 : Index := Scalar.indexCast v3681
  let c0_1754 : Index := 0#32
  let c0_1755 : Index := 0#32
  ![v3689.toNat, 0, 0]

def k0_off691 (v3688 : BitVec 32) : Fin 2 → Nat :=
  let v3692 : Index := Scalar.indexCast v3688
  let c0_1756 : Index := 0#32
  ![v3692.toNat, 0]

def k0_chk242 (i : grid0.Coords) (v3688 : BitVec 32) : Prop :=
  (∀ (k0_h3 : k0_cond3 i = 1#1), ∀ a, (k0_off691 v3688) a + S8x128.size a ≤ S18432x128.size a)
theorem k0_off691_inb : ∀ (i : grid0.Coords) (v3688 : BitVec 32) (k0_hw242 : k0_chk242 i v3688), ∀ (k0_h3 : k0_cond3 i = 1#1), ∀ a, (k0_off691 v3688) a + S8x128.size a ≤ S18432x128.size a := fun i v3688 k0_hw242 k0_h3 => k0_hw242 k0_h3

def k0_off692 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1743 : BitVec 32 := 38#32
  let v3670 : BitVec 32 := Scalar.muli arg13 c38_i32_1743
  let c10_i32 : BitVec 32 := 10#32
  let v3671 : BitVec 32 := Scalar.addi v3670 c10_i32
  let c4_i32_1757 : BitVec 32 := 4#32
  let v3695 : BitVec 32 := Scalar.muli v3671 c4_i32_1757
  let c1_i32_1758 : BitVec 32 := 1#32
  let v3696 : BitVec 32 := Scalar.addi v3695 c1_i32_1758
  let v3697 : Index := Scalar.indexCast v3696
  ![v3697.toNat]
def k0_off693 (i : grid0.Coords) (k0_t5 : Fin k0_t5_loop.trips) (v3673 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1745 : BitVec 32 := 2#32
  let v3676 : BitVec 32 := Scalar.muli v2959 c2_i32_1745
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3674 : BitVec 32 := Scalar.shrui v3673 v2958
  let c1_i32_1744 : BitVec 32 := 1#32
  let v3675 : BitVec 32 := Scalar.andi v3674 c1_i32_1744
  let v3677 : BitVec 32 := Scalar.addi v3676 v3675
  let c1216_i32_1746 : BitVec 32 := 1216#32
  let v3678 : BitVec 32 := Scalar.muli v3677 c1216_i32_1746
  let c0_i32_7 : BitVec 32 := 0#32
  let c1_i32_9 : BitVec 32 := 1#32
  let arg13 : BitVec 32 := Scf.iv c0_i32_7 c1_i32_9 k0_t5
  let c38_i32_1743 : BitVec 32 := 38#32
  let v3670 : BitVec 32 := Scalar.muli arg13 c38_i32_1743
  let c10_i32 : BitVec 32 := 10#32
  let v3671 : BitVec 32 := Scalar.addi v3670 c10_i32
  let c4_i32_1747 : BitVec 32 := 4#32
  let v3679 : BitVec 32 := Scalar.muli v3671 c4_i32_1747
  let v3680 : BitVec 32 := Scalar.addi v3678 v3679
  let c1_i32_1749 : BitVec 32 := 1#32
  let v3682 : BitVec 32 := Scalar.addi v3680 c1_i32_1749
  let v3699 : Index := Scalar.indexCast v3682
  let c0_1759 : Index := 0#32
  let c0_1760 : Index := 0#32
  ![v3699.toNat, 0, 0]
def k0_off694 (v3698 : BitVec 32) : Fin 2 → Nat :=
  let v3702 : Index := Scalar.indexCast v3698
  let c0_1761 : Index := 0#32
  ![v3702.toNat, 0]

def k0_chk243 (i : grid0.Coords) (v3698 : BitVec 32) : Prop :=
  (∀ (k0_h3 : k0_cond3 i = 1#1), ∀ a, (k0_off694 v3698) a + S8x128.size a ≤ S18432x128.size a)
theorem k0_off694_inb : ∀ (i : grid0.Coords) (v3698 : BitVec 32) (k0_hw243 : k0_chk243 i v3698), ∀ (k0_h3 : k0_cond3 i = 1#1), ∀ a, (k0_off694 v3698) a + S8x128.size a ≤ S18432x128.size a := fun i v3698 k0_hw243 k0_h3 => k0_hw243 k0_h3

def k0_off695 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1743 : BitVec 32 := 38#32
  let v3670 : BitVec 32 := Scalar.muli arg13 c38_i32_1743
  let c10_i32 : BitVec 32 := 10#32
  let v3671 : BitVec 32 := Scalar.addi v3670 c10_i32
  let c4_i32_1762 : BitVec 32 := 4#32
  let v3705 : BitVec 32 := Scalar.muli v3671 c4_i32_1762
  let c2_i32_1763 : BitVec 32 := 2#32
  let v3706 : BitVec 32 := Scalar.addi v3705 c2_i32_1763
  let v3707 : Index := Scalar.indexCast v3706
  ![v3707.toNat]
def k0_off696 (i : grid0.Coords) (k0_t5 : Fin k0_t5_loop.trips) (v3673 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1745 : BitVec 32 := 2#32
  let v3676 : BitVec 32 := Scalar.muli v2959 c2_i32_1745
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3674 : BitVec 32 := Scalar.shrui v3673 v2958
  let c1_i32_1744 : BitVec 32 := 1#32
  let v3675 : BitVec 32 := Scalar.andi v3674 c1_i32_1744
  let v3677 : BitVec 32 := Scalar.addi v3676 v3675
  let c1216_i32_1746 : BitVec 32 := 1216#32
  let v3678 : BitVec 32 := Scalar.muli v3677 c1216_i32_1746
  let c0_i32_7 : BitVec 32 := 0#32
  let c1_i32_9 : BitVec 32 := 1#32
  let arg13 : BitVec 32 := Scf.iv c0_i32_7 c1_i32_9 k0_t5
  let c38_i32_1743 : BitVec 32 := 38#32
  let v3670 : BitVec 32 := Scalar.muli arg13 c38_i32_1743
  let c10_i32 : BitVec 32 := 10#32
  let v3671 : BitVec 32 := Scalar.addi v3670 c10_i32
  let c4_i32_1747 : BitVec 32 := 4#32
  let v3679 : BitVec 32 := Scalar.muli v3671 c4_i32_1747
  let v3680 : BitVec 32 := Scalar.addi v3678 v3679
  let c2_i32_1750 : BitVec 32 := 2#32
  let v3683 : BitVec 32 := Scalar.addi v3680 c2_i32_1750
  let v3709 : Index := Scalar.indexCast v3683
  let c0_1764 : Index := 0#32
  let c0_1765 : Index := 0#32
  ![v3709.toNat, 0, 0]
def k0_off697 (v3708 : BitVec 32) : Fin 2 → Nat :=
  let v3712 : Index := Scalar.indexCast v3708
  let c0_1766 : Index := 0#32
  ![v3712.toNat, 0]

def k0_chk244 (i : grid0.Coords) (v3708 : BitVec 32) : Prop :=
  (∀ (k0_h3 : k0_cond3 i = 1#1), ∀ a, (k0_off697 v3708) a + S8x128.size a ≤ S18432x128.size a)
theorem k0_off697_inb : ∀ (i : grid0.Coords) (v3708 : BitVec 32) (k0_hw244 : k0_chk244 i v3708), ∀ (k0_h3 : k0_cond3 i = 1#1), ∀ a, (k0_off697 v3708) a + S8x128.size a ≤ S18432x128.size a := fun i v3708 k0_hw244 k0_h3 => k0_hw244 k0_h3

def k0_off698 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1743 : BitVec 32 := 38#32
  let v3670 : BitVec 32 := Scalar.muli arg13 c38_i32_1743
  let c10_i32 : BitVec 32 := 10#32
  let v3671 : BitVec 32 := Scalar.addi v3670 c10_i32
  let c4_i32_1767 : BitVec 32 := 4#32
  let v3715 : BitVec 32 := Scalar.muli v3671 c4_i32_1767
  let c3_i32_1768 : BitVec 32 := 3#32
  let v3716 : BitVec 32 := Scalar.addi v3715 c3_i32_1768
  let v3717 : Index := Scalar.indexCast v3716
  ![v3717.toNat]
def k0_off699 (i : grid0.Coords) (k0_t5 : Fin k0_t5_loop.trips) (v3673 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1745 : BitVec 32 := 2#32
  let v3676 : BitVec 32 := Scalar.muli v2959 c2_i32_1745
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3674 : BitVec 32 := Scalar.shrui v3673 v2958
  let c1_i32_1744 : BitVec 32 := 1#32
  let v3675 : BitVec 32 := Scalar.andi v3674 c1_i32_1744
  let v3677 : BitVec 32 := Scalar.addi v3676 v3675
  let c1216_i32_1746 : BitVec 32 := 1216#32
  let v3678 : BitVec 32 := Scalar.muli v3677 c1216_i32_1746
  let c0_i32_7 : BitVec 32 := 0#32
  let c1_i32_9 : BitVec 32 := 1#32
  let arg13 : BitVec 32 := Scf.iv c0_i32_7 c1_i32_9 k0_t5
  let c38_i32_1743 : BitVec 32 := 38#32
  let v3670 : BitVec 32 := Scalar.muli arg13 c38_i32_1743
  let c10_i32 : BitVec 32 := 10#32
  let v3671 : BitVec 32 := Scalar.addi v3670 c10_i32
  let c4_i32_1747 : BitVec 32 := 4#32
  let v3679 : BitVec 32 := Scalar.muli v3671 c4_i32_1747
  let v3680 : BitVec 32 := Scalar.addi v3678 v3679
  let c3_i32_1751 : BitVec 32 := 3#32
  let v3684 : BitVec 32 := Scalar.addi v3680 c3_i32_1751
  let v3719 : Index := Scalar.indexCast v3684
  let c0_1769 : Index := 0#32
  let c0_1770 : Index := 0#32
  ![v3719.toNat, 0, 0]
def k0_off700 (v3718 : BitVec 32) : Fin 2 → Nat :=
  let v3722 : Index := Scalar.indexCast v3718
  let c0_1771 : Index := 0#32
  ![v3722.toNat, 0]

def k0_chk245 (i : grid0.Coords) (v3718 : BitVec 32) : Prop :=
  (∀ (k0_h3 : k0_cond3 i = 1#1), ∀ a, (k0_off700 v3718) a + S8x128.size a ≤ S18432x128.size a)
theorem k0_off700_inb : ∀ (i : grid0.Coords) (v3718 : BitVec 32) (k0_hw245 : k0_chk245 i v3718), ∀ (k0_h3 : k0_cond3 i = 1#1), ∀ a, (k0_off700 v3718) a + S8x128.size a ≤ S18432x128.size a := fun i v3718 k0_hw245 k0_h3 => k0_hw245 k0_h3

def k0_off701 (i : grid0.Coords) (k0_t5 : Fin k0_t5_loop.trips) (v3673 : BitVec 32) (c0_i32_1748 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1745 : BitVec 32 := 2#32
  let v3676 : BitVec 32 := Scalar.muli v2959 c2_i32_1745
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3674 : BitVec 32 := Scalar.shrui v3673 v2958
  let c1_i32_1744 : BitVec 32 := 1#32
  let v3675 : BitVec 32 := Scalar.andi v3674 c1_i32_1744
  let v3677 : BitVec 32 := Scalar.addi v3676 v3675
  let c1216_i32_1746 : BitVec 32 := 1216#32
  let v3678 : BitVec 32 := Scalar.muli v3677 c1216_i32_1746
  let c0_i32_7 : BitVec 32 := 0#32
  let c1_i32_9 : BitVec 32 := 1#32
  let arg13 : BitVec 32 := Scf.iv c0_i32_7 c1_i32_9 k0_t5
  let c38_i32_1743 : BitVec 32 := 38#32
  let v3670 : BitVec 32 := Scalar.muli arg13 c38_i32_1743
  let c10_i32 : BitVec 32 := 10#32
  let v3671 : BitVec 32 := Scalar.addi v3670 c10_i32
  let c4_i32_1747 : BitVec 32 := 4#32
  let v3679 : BitVec 32 := Scalar.muli v3671 c4_i32_1747
  let v3680 : BitVec 32 := Scalar.addi v3678 v3679
  let v3681 : BitVec 32 := Scalar.addi v3680 c0_i32_1748
  let v3725 : Index := Scalar.indexCast v3681
  let c0_1772 : Index := 0#32
  let c0_1773 : Index := 0#32
  ![v3725.toNat, 0, 0]

def k0_chk241 (i : grid0.Coords) (k0_t5 : Fin k0_t5_loop.trips) (v3673 : BitVec 32) : Prop :=
  (∀ (k0_h3 : k0_cond3 i = 1#1), ∀ a, (k0_off690 i k0_t5 v3673) a + S1x8x128.size a ≤ S7296x8x128.size a) ∧
  (∀ (k0_h3 : k0_cond3 i = 1#1), ∀ a, (k0_off693 i k0_t5 v3673) a + S1x8x128.size a ≤ S7296x8x128.size a) ∧
  (∀ (k0_h3 : k0_cond3 i = 1#1), ∀ a, (k0_off696 i k0_t5 v3673) a + S1x8x128.size a ≤ S7296x8x128.size a) ∧
  (∀ (k0_h3 : k0_cond3 i = 1#1), ∀ a, (k0_off699 i k0_t5 v3673) a + S1x8x128.size a ≤ S7296x8x128.size a) ∧
  (∀ (k0_h3 : k0_cond3 i = 1#1), ∀ (r : Fin 4), ∀ a, (k0_off701 i k0_t5 v3673 (BitVec.ofNat 32 r.val)) a + S1x8x128.size a ≤ S7296x8x128.size a)
theorem k0_off690_inb : ∀ (i : grid0.Coords) (k0_t5 : Fin k0_t5_loop.trips) (v3673 : BitVec 32) (k0_hw241 : k0_chk241 i k0_t5 v3673), ∀ (k0_h3 : k0_cond3 i = 1#1), ∀ a, (k0_off690 i k0_t5 v3673) a + S1x8x128.size a ≤ S7296x8x128.size a := fun i k0_t5 v3673 k0_hw241 k0_h3 => k0_hw241.1 k0_h3
theorem k0_off693_inb : ∀ (i : grid0.Coords) (k0_t5 : Fin k0_t5_loop.trips) (v3673 : BitVec 32) (k0_hw241 : k0_chk241 i k0_t5 v3673), ∀ (k0_h3 : k0_cond3 i = 1#1), ∀ a, (k0_off693 i k0_t5 v3673) a + S1x8x128.size a ≤ S7296x8x128.size a := fun i k0_t5 v3673 k0_hw241 k0_h3 => k0_hw241.2.1 k0_h3
theorem k0_off696_inb : ∀ (i : grid0.Coords) (k0_t5 : Fin k0_t5_loop.trips) (v3673 : BitVec 32) (k0_hw241 : k0_chk241 i k0_t5 v3673), ∀ (k0_h3 : k0_cond3 i = 1#1), ∀ a, (k0_off696 i k0_t5 v3673) a + S1x8x128.size a ≤ S7296x8x128.size a := fun i k0_t5 v3673 k0_hw241 k0_h3 => k0_hw241.2.2.1 k0_h3
theorem k0_off699_inb : ∀ (i : grid0.Coords) (k0_t5 : Fin k0_t5_loop.trips) (v3673 : BitVec 32) (k0_hw241 : k0_chk241 i k0_t5 v3673), ∀ (k0_h3 : k0_cond3 i = 1#1), ∀ a, (k0_off699 i k0_t5 v3673) a + S1x8x128.size a ≤ S7296x8x128.size a := fun i k0_t5 v3673 k0_hw241 k0_h3 => k0_hw241.2.2.2.1 k0_h3
theorem k0_off701_inb : ∀ (i : grid0.Coords) (k0_t5 : Fin k0_t5_loop.trips) (v3673 : BitVec 32) (k0_hw241 : k0_chk241 i k0_t5 v3673), ∀ (k0_h3 : k0_cond3 i = 1#1), ∀ (r : Fin 4), ∀ a, (k0_off701 i k0_t5 v3673 (BitVec.ofNat 32 r.val)) a + S1x8x128.size a ≤ S7296x8x128.size a := fun i k0_t5 v3673 k0_hw241 k0_h3 r => k0_hw241.2.2.2.2 k0_h3 r

def k0_off702 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1780 : BitVec 32 := 38#32
  let v3741 : BitVec 32 := Scalar.muli arg13 c38_i32_1780
  let c11_i32 : BitVec 32 := 11#32
  let v3742 : BitVec 32 := Scalar.addi v3741 c11_i32
  let v3743 : Index := Scalar.indexCast v3742
  ![v3743.toNat]
def k0_off703 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1780 : BitVec 32 := 38#32
  let v3741 : BitVec 32 := Scalar.muli arg13 c38_i32_1780
  let c11_i32 : BitVec 32 := 11#32
  let v3742 : BitVec 32 := Scalar.addi v3741 c11_i32
  let c4_i32_1789 : BitVec 32 := 4#32
  let v3756 : BitVec 32 := Scalar.muli v3742 c4_i32_1789
  let c0_i32_1790 : BitVec 32 := 0#32
  let v3757 : BitVec 32 := Scalar.addi v3756 c0_i32_1790
  let v3758 : Index := Scalar.indexCast v3757
  ![v3758.toNat]
def k0_off704 (i : grid0.Coords) (k0_t5 : Fin k0_t5_loop.trips) (v3744 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1782 : BitVec 32 := 2#32
  let v3747 : BitVec 32 := Scalar.muli v2959 c2_i32_1782
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3745 : BitVec 32 := Scalar.shrui v3744 v2958
  let c1_i32_1781 : BitVec 32 := 1#32
  let v3746 : BitVec 32 := Scalar.andi v3745 c1_i32_1781
  let v3748 : BitVec 32 := Scalar.addi v3747 v3746
  let c1216_i32_1783 : BitVec 32 := 1216#32
  let v3749 : BitVec 32 := Scalar.muli v3748 c1216_i32_1783
  let c0_i32_7 : BitVec 32 := 0#32
  let c1_i32_9 : BitVec 32 := 1#32
  let arg13 : BitVec 32 := Scf.iv c0_i32_7 c1_i32_9 k0_t5
  let c38_i32_1780 : BitVec 32 := 38#32
  let v3741 : BitVec 32 := Scalar.muli arg13 c38_i32_1780
  let c11_i32 : BitVec 32 := 11#32
  let v3742 : BitVec 32 := Scalar.addi v3741 c11_i32
  let c4_i32_1784 : BitVec 32 := 4#32
  let v3750 : BitVec 32 := Scalar.muli v3742 c4_i32_1784
  let v3751 : BitVec 32 := Scalar.addi v3749 v3750
  let c0_i32_1785 : BitVec 32 := 0#32
  let v3752 : BitVec 32 := Scalar.addi v3751 c0_i32_1785
  let v3760 : Index := Scalar.indexCast v3752
  let c0_1791 : Index := 0#32
  let c0_1792 : Index := 0#32
  ![v3760.toNat, 0, 0]

def k0_off705 (v3759 : BitVec 32) : Fin 2 → Nat :=
  let v3763 : Index := Scalar.indexCast v3759
  let c0_1793 : Index := 0#32
  ![v3763.toNat, 0]

def k0_chk247 (i : grid0.Coords) (v3759 : BitVec 32) : Prop :=
  (∀ (k0_h3 : k0_cond3 i = 1#1), ∀ a, (k0_off705 v3759) a + S8x128.size a ≤ S18432x128.size a)
theorem k0_off705_inb : ∀ (i : grid0.Coords) (v3759 : BitVec 32) (k0_hw247 : k0_chk247 i v3759), ∀ (k0_h3 : k0_cond3 i = 1#1), ∀ a, (k0_off705 v3759) a + S8x128.size a ≤ S18432x128.size a := fun i v3759 k0_hw247 k0_h3 => k0_hw247 k0_h3

def k0_off706 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1780 : BitVec 32 := 38#32
  let v3741 : BitVec 32 := Scalar.muli arg13 c38_i32_1780
  let c11_i32 : BitVec 32 := 11#32
  let v3742 : BitVec 32 := Scalar.addi v3741 c11_i32
  let c4_i32_1794 : BitVec 32 := 4#32
  let v3766 : BitVec 32 := Scalar.muli v3742 c4_i32_1794
  let c1_i32_1795 : BitVec 32 := 1#32
  let v3767 : BitVec 32 := Scalar.addi v3766 c1_i32_1795
  let v3768 : Index := Scalar.indexCast v3767
  ![v3768.toNat]
def k0_off707 (i : grid0.Coords) (k0_t5 : Fin k0_t5_loop.trips) (v3744 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1782 : BitVec 32 := 2#32
  let v3747 : BitVec 32 := Scalar.muli v2959 c2_i32_1782
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3745 : BitVec 32 := Scalar.shrui v3744 v2958
  let c1_i32_1781 : BitVec 32 := 1#32
  let v3746 : BitVec 32 := Scalar.andi v3745 c1_i32_1781
  let v3748 : BitVec 32 := Scalar.addi v3747 v3746
  let c1216_i32_1783 : BitVec 32 := 1216#32
  let v3749 : BitVec 32 := Scalar.muli v3748 c1216_i32_1783
  let c0_i32_7 : BitVec 32 := 0#32
  let c1_i32_9 : BitVec 32 := 1#32
  let arg13 : BitVec 32 := Scf.iv c0_i32_7 c1_i32_9 k0_t5
  let c38_i32_1780 : BitVec 32 := 38#32
  let v3741 : BitVec 32 := Scalar.muli arg13 c38_i32_1780
  let c11_i32 : BitVec 32 := 11#32
  let v3742 : BitVec 32 := Scalar.addi v3741 c11_i32
  let c4_i32_1784 : BitVec 32 := 4#32
  let v3750 : BitVec 32 := Scalar.muli v3742 c4_i32_1784
  let v3751 : BitVec 32 := Scalar.addi v3749 v3750
  let c1_i32_1786 : BitVec 32 := 1#32
  let v3753 : BitVec 32 := Scalar.addi v3751 c1_i32_1786
  let v3770 : Index := Scalar.indexCast v3753
  let c0_1796 : Index := 0#32
  let c0_1797 : Index := 0#32
  ![v3770.toNat, 0, 0]
def k0_off708 (v3769 : BitVec 32) : Fin 2 → Nat :=
  let v3773 : Index := Scalar.indexCast v3769
  let c0_1798 : Index := 0#32
  ![v3773.toNat, 0]

def k0_chk248 (i : grid0.Coords) (v3769 : BitVec 32) : Prop :=
  (∀ (k0_h3 : k0_cond3 i = 1#1), ∀ a, (k0_off708 v3769) a + S8x128.size a ≤ S18432x128.size a)
theorem k0_off708_inb : ∀ (i : grid0.Coords) (v3769 : BitVec 32) (k0_hw248 : k0_chk248 i v3769), ∀ (k0_h3 : k0_cond3 i = 1#1), ∀ a, (k0_off708 v3769) a + S8x128.size a ≤ S18432x128.size a := fun i v3769 k0_hw248 k0_h3 => k0_hw248 k0_h3

def k0_off709 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1780 : BitVec 32 := 38#32
  let v3741 : BitVec 32 := Scalar.muli arg13 c38_i32_1780
  let c11_i32 : BitVec 32 := 11#32
  let v3742 : BitVec 32 := Scalar.addi v3741 c11_i32
  let c4_i32_1799 : BitVec 32 := 4#32
  let v3776 : BitVec 32 := Scalar.muli v3742 c4_i32_1799
  let c2_i32_1800 : BitVec 32 := 2#32
  let v3777 : BitVec 32 := Scalar.addi v3776 c2_i32_1800
  let v3778 : Index := Scalar.indexCast v3777
  ![v3778.toNat]
def k0_off710 (i : grid0.Coords) (k0_t5 : Fin k0_t5_loop.trips) (v3744 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1782 : BitVec 32 := 2#32
  let v3747 : BitVec 32 := Scalar.muli v2959 c2_i32_1782
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3745 : BitVec 32 := Scalar.shrui v3744 v2958
  let c1_i32_1781 : BitVec 32 := 1#32
  let v3746 : BitVec 32 := Scalar.andi v3745 c1_i32_1781
  let v3748 : BitVec 32 := Scalar.addi v3747 v3746
  let c1216_i32_1783 : BitVec 32 := 1216#32
  let v3749 : BitVec 32 := Scalar.muli v3748 c1216_i32_1783
  let c0_i32_7 : BitVec 32 := 0#32
  let c1_i32_9 : BitVec 32 := 1#32
  let arg13 : BitVec 32 := Scf.iv c0_i32_7 c1_i32_9 k0_t5
  let c38_i32_1780 : BitVec 32 := 38#32
  let v3741 : BitVec 32 := Scalar.muli arg13 c38_i32_1780
  let c11_i32 : BitVec 32 := 11#32
  let v3742 : BitVec 32 := Scalar.addi v3741 c11_i32
  let c4_i32_1784 : BitVec 32 := 4#32
  let v3750 : BitVec 32 := Scalar.muli v3742 c4_i32_1784
  let v3751 : BitVec 32 := Scalar.addi v3749 v3750
  let c2_i32_1787 : BitVec 32 := 2#32
  let v3754 : BitVec 32 := Scalar.addi v3751 c2_i32_1787
  let v3780 : Index := Scalar.indexCast v3754
  let c0_1801 : Index := 0#32
  let c0_1802 : Index := 0#32
  ![v3780.toNat, 0, 0]
def k0_off711 (v3779 : BitVec 32) : Fin 2 → Nat :=
  let v3783 : Index := Scalar.indexCast v3779
  let c0_1803 : Index := 0#32
  ![v3783.toNat, 0]

def k0_chk249 (i : grid0.Coords) (v3779 : BitVec 32) : Prop :=
  (∀ (k0_h3 : k0_cond3 i = 1#1), ∀ a, (k0_off711 v3779) a + S8x128.size a ≤ S18432x128.size a)
theorem k0_off711_inb : ∀ (i : grid0.Coords) (v3779 : BitVec 32) (k0_hw249 : k0_chk249 i v3779), ∀ (k0_h3 : k0_cond3 i = 1#1), ∀ a, (k0_off711 v3779) a + S8x128.size a ≤ S18432x128.size a := fun i v3779 k0_hw249 k0_h3 => k0_hw249 k0_h3

def k0_off712 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1780 : BitVec 32 := 38#32
  let v3741 : BitVec 32 := Scalar.muli arg13 c38_i32_1780
  let c11_i32 : BitVec 32 := 11#32
  let v3742 : BitVec 32 := Scalar.addi v3741 c11_i32
  let c4_i32_1804 : BitVec 32 := 4#32
  let v3786 : BitVec 32 := Scalar.muli v3742 c4_i32_1804
  let c3_i32_1805 : BitVec 32 := 3#32
  let v3787 : BitVec 32 := Scalar.addi v3786 c3_i32_1805
  let v3788 : Index := Scalar.indexCast v3787
  ![v3788.toNat]
def k0_off713 (i : grid0.Coords) (k0_t5 : Fin k0_t5_loop.trips) (v3744 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1782 : BitVec 32 := 2#32
  let v3747 : BitVec 32 := Scalar.muli v2959 c2_i32_1782
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3745 : BitVec 32 := Scalar.shrui v3744 v2958
  let c1_i32_1781 : BitVec 32 := 1#32
  let v3746 : BitVec 32 := Scalar.andi v3745 c1_i32_1781
  let v3748 : BitVec 32 := Scalar.addi v3747 v3746
  let c1216_i32_1783 : BitVec 32 := 1216#32
  let v3749 : BitVec 32 := Scalar.muli v3748 c1216_i32_1783
  let c0_i32_7 : BitVec 32 := 0#32
  let c1_i32_9 : BitVec 32 := 1#32
  let arg13 : BitVec 32 := Scf.iv c0_i32_7 c1_i32_9 k0_t5
  let c38_i32_1780 : BitVec 32 := 38#32
  let v3741 : BitVec 32 := Scalar.muli arg13 c38_i32_1780
  let c11_i32 : BitVec 32 := 11#32
  let v3742 : BitVec 32 := Scalar.addi v3741 c11_i32
  let c4_i32_1784 : BitVec 32 := 4#32
  let v3750 : BitVec 32 := Scalar.muli v3742 c4_i32_1784
  let v3751 : BitVec 32 := Scalar.addi v3749 v3750
  let c3_i32_1788 : BitVec 32 := 3#32
  let v3755 : BitVec 32 := Scalar.addi v3751 c3_i32_1788
  let v3790 : Index := Scalar.indexCast v3755
  let c0_1806 : Index := 0#32
  let c0_1807 : Index := 0#32
  ![v3790.toNat, 0, 0]
def k0_off714 (v3789 : BitVec 32) : Fin 2 → Nat :=
  let v3793 : Index := Scalar.indexCast v3789
  let c0_1808 : Index := 0#32
  ![v3793.toNat, 0]

def k0_chk250 (i : grid0.Coords) (v3789 : BitVec 32) : Prop :=
  (∀ (k0_h3 : k0_cond3 i = 1#1), ∀ a, (k0_off714 v3789) a + S8x128.size a ≤ S18432x128.size a)
theorem k0_off714_inb : ∀ (i : grid0.Coords) (v3789 : BitVec 32) (k0_hw250 : k0_chk250 i v3789), ∀ (k0_h3 : k0_cond3 i = 1#1), ∀ a, (k0_off714 v3789) a + S8x128.size a ≤ S18432x128.size a := fun i v3789 k0_hw250 k0_h3 => k0_hw250 k0_h3

def k0_off715 (i : grid0.Coords) (k0_t5 : Fin k0_t5_loop.trips) (v3744 : BitVec 32) (c0_i32_1785 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1782 : BitVec 32 := 2#32
  let v3747 : BitVec 32 := Scalar.muli v2959 c2_i32_1782
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3745 : BitVec 32 := Scalar.shrui v3744 v2958
  let c1_i32_1781 : BitVec 32 := 1#32
  let v3746 : BitVec 32 := Scalar.andi v3745 c1_i32_1781
  let v3748 : BitVec 32 := Scalar.addi v3747 v3746
  let c1216_i32_1783 : BitVec 32 := 1216#32
  let v3749 : BitVec 32 := Scalar.muli v3748 c1216_i32_1783
  let c0_i32_7 : BitVec 32 := 0#32
  let c1_i32_9 : BitVec 32 := 1#32
  let arg13 : BitVec 32 := Scf.iv c0_i32_7 c1_i32_9 k0_t5
  let c38_i32_1780 : BitVec 32 := 38#32
  let v3741 : BitVec 32 := Scalar.muli arg13 c38_i32_1780
  let c11_i32 : BitVec 32 := 11#32
  let v3742 : BitVec 32 := Scalar.addi v3741 c11_i32
  let c4_i32_1784 : BitVec 32 := 4#32
  let v3750 : BitVec 32 := Scalar.muli v3742 c4_i32_1784
  let v3751 : BitVec 32 := Scalar.addi v3749 v3750
  let v3752 : BitVec 32 := Scalar.addi v3751 c0_i32_1785
  let v3796 : Index := Scalar.indexCast v3752
  let c0_1809 : Index := 0#32
  let c0_1810 : Index := 0#32
  ![v3796.toNat, 0, 0]

def k0_chk246 (i : grid0.Coords) (k0_t5 : Fin k0_t5_loop.trips) (v3744 : BitVec 32) : Prop :=
  (∀ (k0_h3 : k0_cond3 i = 1#1), ∀ a, (k0_off704 i k0_t5 v3744) a + S1x8x128.size a ≤ S7296x8x128.size a) ∧
  (∀ (k0_h3 : k0_cond3 i = 1#1), ∀ a, (k0_off707 i k0_t5 v3744) a + S1x8x128.size a ≤ S7296x8x128.size a) ∧
  (∀ (k0_h3 : k0_cond3 i = 1#1), ∀ a, (k0_off710 i k0_t5 v3744) a + S1x8x128.size a ≤ S7296x8x128.size a) ∧
  (∀ (k0_h3 : k0_cond3 i = 1#1), ∀ a, (k0_off713 i k0_t5 v3744) a + S1x8x128.size a ≤ S7296x8x128.size a) ∧
  (∀ (k0_h3 : k0_cond3 i = 1#1), ∀ (r : Fin 4), ∀ a, (k0_off715 i k0_t5 v3744 (BitVec.ofNat 32 r.val)) a + S1x8x128.size a ≤ S7296x8x128.size a)
theorem k0_off704_inb : ∀ (i : grid0.Coords) (k0_t5 : Fin k0_t5_loop.trips) (v3744 : BitVec 32) (k0_hw246 : k0_chk246 i k0_t5 v3744), ∀ (k0_h3 : k0_cond3 i = 1#1), ∀ a, (k0_off704 i k0_t5 v3744) a + S1x8x128.size a ≤ S7296x8x128.size a := fun i k0_t5 v3744 k0_hw246 k0_h3 => k0_hw246.1 k0_h3
theorem k0_off707_inb : ∀ (i : grid0.Coords) (k0_t5 : Fin k0_t5_loop.trips) (v3744 : BitVec 32) (k0_hw246 : k0_chk246 i k0_t5 v3744), ∀ (k0_h3 : k0_cond3 i = 1#1), ∀ a, (k0_off707 i k0_t5 v3744) a + S1x8x128.size a ≤ S7296x8x128.size a := fun i k0_t5 v3744 k0_hw246 k0_h3 => k0_hw246.2.1 k0_h3
theorem k0_off710_inb : ∀ (i : grid0.Coords) (k0_t5 : Fin k0_t5_loop.trips) (v3744 : BitVec 32) (k0_hw246 : k0_chk246 i k0_t5 v3744), ∀ (k0_h3 : k0_cond3 i = 1#1), ∀ a, (k0_off710 i k0_t5 v3744) a + S1x8x128.size a ≤ S7296x8x128.size a := fun i k0_t5 v3744 k0_hw246 k0_h3 => k0_hw246.2.2.1 k0_h3
theorem k0_off713_inb : ∀ (i : grid0.Coords) (k0_t5 : Fin k0_t5_loop.trips) (v3744 : BitVec 32) (k0_hw246 : k0_chk246 i k0_t5 v3744), ∀ (k0_h3 : k0_cond3 i = 1#1), ∀ a, (k0_off713 i k0_t5 v3744) a + S1x8x128.size a ≤ S7296x8x128.size a := fun i k0_t5 v3744 k0_hw246 k0_h3 => k0_hw246.2.2.2.1 k0_h3
theorem k0_off715_inb : ∀ (i : grid0.Coords) (k0_t5 : Fin k0_t5_loop.trips) (v3744 : BitVec 32) (k0_hw246 : k0_chk246 i k0_t5 v3744), ∀ (k0_h3 : k0_cond3 i = 1#1), ∀ (r : Fin 4), ∀ a, (k0_off715 i k0_t5 v3744 (BitVec.ofNat 32 r.val)) a + S1x8x128.size a ≤ S7296x8x128.size a := fun i k0_t5 v3744 k0_hw246 k0_h3 r => k0_hw246.2.2.2.2 k0_h3 r

def k0_off716 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1817 : BitVec 32 := 38#32
  let v3812 : BitVec 32 := Scalar.muli arg13 c38_i32_1817
  let c12_i32 : BitVec 32 := 12#32
  let v3813 : BitVec 32 := Scalar.addi v3812 c12_i32
  let v3814 : Index := Scalar.indexCast v3813
  ![v3814.toNat]
def k0_off717 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1817 : BitVec 32 := 38#32
  let v3812 : BitVec 32 := Scalar.muli arg13 c38_i32_1817
  let c12_i32 : BitVec 32 := 12#32
  let v3813 : BitVec 32 := Scalar.addi v3812 c12_i32
  let c4_i32_1826 : BitVec 32 := 4#32
  let v3827 : BitVec 32 := Scalar.muli v3813 c4_i32_1826
  let c0_i32_1827 : BitVec 32 := 0#32
  let v3828 : BitVec 32 := Scalar.addi v3827 c0_i32_1827
  let v3829 : Index := Scalar.indexCast v3828
  ![v3829.toNat]
def k0_off718 (i : grid0.Coords) (k0_t5 : Fin k0_t5_loop.trips) (v3815 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1819 : BitVec 32 := 2#32
  let v3818 : BitVec 32 := Scalar.muli v2959 c2_i32_1819
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3816 : BitVec 32 := Scalar.shrui v3815 v2958
  let c1_i32_1818 : BitVec 32 := 1#32
  let v3817 : BitVec 32 := Scalar.andi v3816 c1_i32_1818
  let v3819 : BitVec 32 := Scalar.addi v3818 v3817
  let c1216_i32_1820 : BitVec 32 := 1216#32
  let v3820 : BitVec 32 := Scalar.muli v3819 c1216_i32_1820
  let c0_i32_7 : BitVec 32 := 0#32
  let c1_i32_9 : BitVec 32 := 1#32
  let arg13 : BitVec 32 := Scf.iv c0_i32_7 c1_i32_9 k0_t5
  let c38_i32_1817 : BitVec 32 := 38#32
  let v3812 : BitVec 32 := Scalar.muli arg13 c38_i32_1817
  let c12_i32 : BitVec 32 := 12#32
  let v3813 : BitVec 32 := Scalar.addi v3812 c12_i32
  let c4_i32_1821 : BitVec 32 := 4#32
  let v3821 : BitVec 32 := Scalar.muli v3813 c4_i32_1821
  let v3822 : BitVec 32 := Scalar.addi v3820 v3821
  let c0_i32_1822 : BitVec 32 := 0#32
  let v3823 : BitVec 32 := Scalar.addi v3822 c0_i32_1822
  let v3831 : Index := Scalar.indexCast v3823
  let c0_1828 : Index := 0#32
  let c0_1829 : Index := 0#32
  ![v3831.toNat, 0, 0]

def k0_off719 (v3830 : BitVec 32) : Fin 2 → Nat :=
  let v3834 : Index := Scalar.indexCast v3830
  let c0_1830 : Index := 0#32
  ![v3834.toNat, 0]

def k0_chk252 (i : grid0.Coords) (v3830 : BitVec 32) : Prop :=
  (∀ (k0_h3 : k0_cond3 i = 1#1), ∀ a, (k0_off719 v3830) a + S8x128.size a ≤ S18432x128.size a)
theorem k0_off719_inb : ∀ (i : grid0.Coords) (v3830 : BitVec 32) (k0_hw252 : k0_chk252 i v3830), ∀ (k0_h3 : k0_cond3 i = 1#1), ∀ a, (k0_off719 v3830) a + S8x128.size a ≤ S18432x128.size a := fun i v3830 k0_hw252 k0_h3 => k0_hw252 k0_h3

def k0_off720 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1817 : BitVec 32 := 38#32
  let v3812 : BitVec 32 := Scalar.muli arg13 c38_i32_1817
  let c12_i32 : BitVec 32 := 12#32
  let v3813 : BitVec 32 := Scalar.addi v3812 c12_i32
  let c4_i32_1831 : BitVec 32 := 4#32
  let v3837 : BitVec 32 := Scalar.muli v3813 c4_i32_1831
  let c1_i32_1832 : BitVec 32 := 1#32
  let v3838 : BitVec 32 := Scalar.addi v3837 c1_i32_1832
  let v3839 : Index := Scalar.indexCast v3838
  ![v3839.toNat]
def k0_off721 (i : grid0.Coords) (k0_t5 : Fin k0_t5_loop.trips) (v3815 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1819 : BitVec 32 := 2#32
  let v3818 : BitVec 32 := Scalar.muli v2959 c2_i32_1819
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3816 : BitVec 32 := Scalar.shrui v3815 v2958
  let c1_i32_1818 : BitVec 32 := 1#32
  let v3817 : BitVec 32 := Scalar.andi v3816 c1_i32_1818
  let v3819 : BitVec 32 := Scalar.addi v3818 v3817
  let c1216_i32_1820 : BitVec 32 := 1216#32
  let v3820 : BitVec 32 := Scalar.muli v3819 c1216_i32_1820
  let c0_i32_7 : BitVec 32 := 0#32
  let c1_i32_9 : BitVec 32 := 1#32
  let arg13 : BitVec 32 := Scf.iv c0_i32_7 c1_i32_9 k0_t5
  let c38_i32_1817 : BitVec 32 := 38#32
  let v3812 : BitVec 32 := Scalar.muli arg13 c38_i32_1817
  let c12_i32 : BitVec 32 := 12#32
  let v3813 : BitVec 32 := Scalar.addi v3812 c12_i32
  let c4_i32_1821 : BitVec 32 := 4#32
  let v3821 : BitVec 32 := Scalar.muli v3813 c4_i32_1821
  let v3822 : BitVec 32 := Scalar.addi v3820 v3821
  let c1_i32_1823 : BitVec 32 := 1#32
  let v3824 : BitVec 32 := Scalar.addi v3822 c1_i32_1823
  let v3841 : Index := Scalar.indexCast v3824
  let c0_1833 : Index := 0#32
  let c0_1834 : Index := 0#32
  ![v3841.toNat, 0, 0]
def k0_off722 (v3840 : BitVec 32) : Fin 2 → Nat :=
  let v3844 : Index := Scalar.indexCast v3840
  let c0_1835 : Index := 0#32
  ![v3844.toNat, 0]

def k0_chk253 (i : grid0.Coords) (v3840 : BitVec 32) : Prop :=
  (∀ (k0_h3 : k0_cond3 i = 1#1), ∀ a, (k0_off722 v3840) a + S8x128.size a ≤ S18432x128.size a)
theorem k0_off722_inb : ∀ (i : grid0.Coords) (v3840 : BitVec 32) (k0_hw253 : k0_chk253 i v3840), ∀ (k0_h3 : k0_cond3 i = 1#1), ∀ a, (k0_off722 v3840) a + S8x128.size a ≤ S18432x128.size a := fun i v3840 k0_hw253 k0_h3 => k0_hw253 k0_h3

def k0_off723 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1817 : BitVec 32 := 38#32
  let v3812 : BitVec 32 := Scalar.muli arg13 c38_i32_1817
  let c12_i32 : BitVec 32 := 12#32
  let v3813 : BitVec 32 := Scalar.addi v3812 c12_i32
  let c4_i32_1836 : BitVec 32 := 4#32
  let v3847 : BitVec 32 := Scalar.muli v3813 c4_i32_1836
  let c2_i32_1837 : BitVec 32 := 2#32
  let v3848 : BitVec 32 := Scalar.addi v3847 c2_i32_1837
  let v3849 : Index := Scalar.indexCast v3848
  ![v3849.toNat]
def k0_off724 (i : grid0.Coords) (k0_t5 : Fin k0_t5_loop.trips) (v3815 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1819 : BitVec 32 := 2#32
  let v3818 : BitVec 32 := Scalar.muli v2959 c2_i32_1819
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3816 : BitVec 32 := Scalar.shrui v3815 v2958
  let c1_i32_1818 : BitVec 32 := 1#32
  let v3817 : BitVec 32 := Scalar.andi v3816 c1_i32_1818
  let v3819 : BitVec 32 := Scalar.addi v3818 v3817
  let c1216_i32_1820 : BitVec 32 := 1216#32
  let v3820 : BitVec 32 := Scalar.muli v3819 c1216_i32_1820
  let c0_i32_7 : BitVec 32 := 0#32
  let c1_i32_9 : BitVec 32 := 1#32
  let arg13 : BitVec 32 := Scf.iv c0_i32_7 c1_i32_9 k0_t5
  let c38_i32_1817 : BitVec 32 := 38#32
  let v3812 : BitVec 32 := Scalar.muli arg13 c38_i32_1817
  let c12_i32 : BitVec 32 := 12#32
  let v3813 : BitVec 32 := Scalar.addi v3812 c12_i32
  let c4_i32_1821 : BitVec 32 := 4#32
  let v3821 : BitVec 32 := Scalar.muli v3813 c4_i32_1821
  let v3822 : BitVec 32 := Scalar.addi v3820 v3821
  let c2_i32_1824 : BitVec 32 := 2#32
  let v3825 : BitVec 32 := Scalar.addi v3822 c2_i32_1824
  let v3851 : Index := Scalar.indexCast v3825
  let c0_1838 : Index := 0#32
  let c0_1839 : Index := 0#32
  ![v3851.toNat, 0, 0]
def k0_off725 (v3850 : BitVec 32) : Fin 2 → Nat :=
  let v3854 : Index := Scalar.indexCast v3850
  let c0_1840 : Index := 0#32
  ![v3854.toNat, 0]

def k0_chk254 (i : grid0.Coords) (v3850 : BitVec 32) : Prop :=
  (∀ (k0_h3 : k0_cond3 i = 1#1), ∀ a, (k0_off725 v3850) a + S8x128.size a ≤ S18432x128.size a)
theorem k0_off725_inb : ∀ (i : grid0.Coords) (v3850 : BitVec 32) (k0_hw254 : k0_chk254 i v3850), ∀ (k0_h3 : k0_cond3 i = 1#1), ∀ a, (k0_off725 v3850) a + S8x128.size a ≤ S18432x128.size a := fun i v3850 k0_hw254 k0_h3 => k0_hw254 k0_h3

def k0_off726 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1817 : BitVec 32 := 38#32
  let v3812 : BitVec 32 := Scalar.muli arg13 c38_i32_1817
  let c12_i32 : BitVec 32 := 12#32
  let v3813 : BitVec 32 := Scalar.addi v3812 c12_i32
  let c4_i32_1841 : BitVec 32 := 4#32
  let v3857 : BitVec 32 := Scalar.muli v3813 c4_i32_1841
  let c3_i32_1842 : BitVec 32 := 3#32
  let v3858 : BitVec 32 := Scalar.addi v3857 c3_i32_1842
  let v3859 : Index := Scalar.indexCast v3858
  ![v3859.toNat]
def k0_off727 (i : grid0.Coords) (k0_t5 : Fin k0_t5_loop.trips) (v3815 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1819 : BitVec 32 := 2#32
  let v3818 : BitVec 32 := Scalar.muli v2959 c2_i32_1819
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3816 : BitVec 32 := Scalar.shrui v3815 v2958
  let c1_i32_1818 : BitVec 32 := 1#32
  let v3817 : BitVec 32 := Scalar.andi v3816 c1_i32_1818
  let v3819 : BitVec 32 := Scalar.addi v3818 v3817
  let c1216_i32_1820 : BitVec 32 := 1216#32
  let v3820 : BitVec 32 := Scalar.muli v3819 c1216_i32_1820
  let c0_i32_7 : BitVec 32 := 0#32
  let c1_i32_9 : BitVec 32 := 1#32
  let arg13 : BitVec 32 := Scf.iv c0_i32_7 c1_i32_9 k0_t5
  let c38_i32_1817 : BitVec 32 := 38#32
  let v3812 : BitVec 32 := Scalar.muli arg13 c38_i32_1817
  let c12_i32 : BitVec 32 := 12#32
  let v3813 : BitVec 32 := Scalar.addi v3812 c12_i32
  let c4_i32_1821 : BitVec 32 := 4#32
  let v3821 : BitVec 32 := Scalar.muli v3813 c4_i32_1821
  let v3822 : BitVec 32 := Scalar.addi v3820 v3821
  let c3_i32_1825 : BitVec 32 := 3#32
  let v3826 : BitVec 32 := Scalar.addi v3822 c3_i32_1825
  let v3861 : Index := Scalar.indexCast v3826
  let c0_1843 : Index := 0#32
  let c0_1844 : Index := 0#32
  ![v3861.toNat, 0, 0]
def k0_off728 (v3860 : BitVec 32) : Fin 2 → Nat :=
  let v3864 : Index := Scalar.indexCast v3860
  let c0_1845 : Index := 0#32
  ![v3864.toNat, 0]

def k0_chk255 (i : grid0.Coords) (v3860 : BitVec 32) : Prop :=
  (∀ (k0_h3 : k0_cond3 i = 1#1), ∀ a, (k0_off728 v3860) a + S8x128.size a ≤ S18432x128.size a)
theorem k0_off728_inb : ∀ (i : grid0.Coords) (v3860 : BitVec 32) (k0_hw255 : k0_chk255 i v3860), ∀ (k0_h3 : k0_cond3 i = 1#1), ∀ a, (k0_off728 v3860) a + S8x128.size a ≤ S18432x128.size a := fun i v3860 k0_hw255 k0_h3 => k0_hw255 k0_h3

def k0_off729 (i : grid0.Coords) (k0_t5 : Fin k0_t5_loop.trips) (v3815 : BitVec 32) (c0_i32_1822 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1819 : BitVec 32 := 2#32
  let v3818 : BitVec 32 := Scalar.muli v2959 c2_i32_1819
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3816 : BitVec 32 := Scalar.shrui v3815 v2958
  let c1_i32_1818 : BitVec 32 := 1#32
  let v3817 : BitVec 32 := Scalar.andi v3816 c1_i32_1818
  let v3819 : BitVec 32 := Scalar.addi v3818 v3817
  let c1216_i32_1820 : BitVec 32 := 1216#32
  let v3820 : BitVec 32 := Scalar.muli v3819 c1216_i32_1820
  let c0_i32_7 : BitVec 32 := 0#32
  let c1_i32_9 : BitVec 32 := 1#32
  let arg13 : BitVec 32 := Scf.iv c0_i32_7 c1_i32_9 k0_t5
  let c38_i32_1817 : BitVec 32 := 38#32
  let v3812 : BitVec 32 := Scalar.muli arg13 c38_i32_1817
  let c12_i32 : BitVec 32 := 12#32
  let v3813 : BitVec 32 := Scalar.addi v3812 c12_i32
  let c4_i32_1821 : BitVec 32 := 4#32
  let v3821 : BitVec 32 := Scalar.muli v3813 c4_i32_1821
  let v3822 : BitVec 32 := Scalar.addi v3820 v3821
  let v3823 : BitVec 32 := Scalar.addi v3822 c0_i32_1822
  let v3867 : Index := Scalar.indexCast v3823
  let c0_1846 : Index := 0#32
  let c0_1847 : Index := 0#32
  ![v3867.toNat, 0, 0]

def k0_chk251 (i : grid0.Coords) (k0_t5 : Fin k0_t5_loop.trips) (v3815 : BitVec 32) : Prop :=
  (∀ (k0_h3 : k0_cond3 i = 1#1), ∀ a, (k0_off718 i k0_t5 v3815) a + S1x8x128.size a ≤ S7296x8x128.size a) ∧
  (∀ (k0_h3 : k0_cond3 i = 1#1), ∀ a, (k0_off721 i k0_t5 v3815) a + S1x8x128.size a ≤ S7296x8x128.size a) ∧
  (∀ (k0_h3 : k0_cond3 i = 1#1), ∀ a, (k0_off724 i k0_t5 v3815) a + S1x8x128.size a ≤ S7296x8x128.size a) ∧
  (∀ (k0_h3 : k0_cond3 i = 1#1), ∀ a, (k0_off727 i k0_t5 v3815) a + S1x8x128.size a ≤ S7296x8x128.size a) ∧
  (∀ (k0_h3 : k0_cond3 i = 1#1), ∀ (r : Fin 4), ∀ a, (k0_off729 i k0_t5 v3815 (BitVec.ofNat 32 r.val)) a + S1x8x128.size a ≤ S7296x8x128.size a)
theorem k0_off718_inb : ∀ (i : grid0.Coords) (k0_t5 : Fin k0_t5_loop.trips) (v3815 : BitVec 32) (k0_hw251 : k0_chk251 i k0_t5 v3815), ∀ (k0_h3 : k0_cond3 i = 1#1), ∀ a, (k0_off718 i k0_t5 v3815) a + S1x8x128.size a ≤ S7296x8x128.size a := fun i k0_t5 v3815 k0_hw251 k0_h3 => k0_hw251.1 k0_h3
theorem k0_off721_inb : ∀ (i : grid0.Coords) (k0_t5 : Fin k0_t5_loop.trips) (v3815 : BitVec 32) (k0_hw251 : k0_chk251 i k0_t5 v3815), ∀ (k0_h3 : k0_cond3 i = 1#1), ∀ a, (k0_off721 i k0_t5 v3815) a + S1x8x128.size a ≤ S7296x8x128.size a := fun i k0_t5 v3815 k0_hw251 k0_h3 => k0_hw251.2.1 k0_h3
theorem k0_off724_inb : ∀ (i : grid0.Coords) (k0_t5 : Fin k0_t5_loop.trips) (v3815 : BitVec 32) (k0_hw251 : k0_chk251 i k0_t5 v3815), ∀ (k0_h3 : k0_cond3 i = 1#1), ∀ a, (k0_off724 i k0_t5 v3815) a + S1x8x128.size a ≤ S7296x8x128.size a := fun i k0_t5 v3815 k0_hw251 k0_h3 => k0_hw251.2.2.1 k0_h3
theorem k0_off727_inb : ∀ (i : grid0.Coords) (k0_t5 : Fin k0_t5_loop.trips) (v3815 : BitVec 32) (k0_hw251 : k0_chk251 i k0_t5 v3815), ∀ (k0_h3 : k0_cond3 i = 1#1), ∀ a, (k0_off727 i k0_t5 v3815) a + S1x8x128.size a ≤ S7296x8x128.size a := fun i k0_t5 v3815 k0_hw251 k0_h3 => k0_hw251.2.2.2.1 k0_h3
theorem k0_off729_inb : ∀ (i : grid0.Coords) (k0_t5 : Fin k0_t5_loop.trips) (v3815 : BitVec 32) (k0_hw251 : k0_chk251 i k0_t5 v3815), ∀ (k0_h3 : k0_cond3 i = 1#1), ∀ (r : Fin 4), ∀ a, (k0_off729 i k0_t5 v3815 (BitVec.ofNat 32 r.val)) a + S1x8x128.size a ≤ S7296x8x128.size a := fun i k0_t5 v3815 k0_hw251 k0_h3 r => k0_hw251.2.2.2.2 k0_h3 r

def k0_off730 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1854 : BitVec 32 := 38#32
  let v3883 : BitVec 32 := Scalar.muli arg13 c38_i32_1854
  let c13_i32 : BitVec 32 := 13#32
  let v3884 : BitVec 32 := Scalar.addi v3883 c13_i32
  let v3885 : Index := Scalar.indexCast v3884
  ![v3885.toNat]
def k0_off731 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1854 : BitVec 32 := 38#32
  let v3883 : BitVec 32 := Scalar.muli arg13 c38_i32_1854
  let c13_i32 : BitVec 32 := 13#32
  let v3884 : BitVec 32 := Scalar.addi v3883 c13_i32
  let c4_i32_1863 : BitVec 32 := 4#32
  let v3898 : BitVec 32 := Scalar.muli v3884 c4_i32_1863
  let c0_i32_1864 : BitVec 32 := 0#32
  let v3899 : BitVec 32 := Scalar.addi v3898 c0_i32_1864
  let v3900 : Index := Scalar.indexCast v3899
  ![v3900.toNat]
def k0_off732 (i : grid0.Coords) (k0_t5 : Fin k0_t5_loop.trips) (v3886 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1856 : BitVec 32 := 2#32
  let v3889 : BitVec 32 := Scalar.muli v2959 c2_i32_1856
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3887 : BitVec 32 := Scalar.shrui v3886 v2958
  let c1_i32_1855 : BitVec 32 := 1#32
  let v3888 : BitVec 32 := Scalar.andi v3887 c1_i32_1855
  let v3890 : BitVec 32 := Scalar.addi v3889 v3888
  let c1216_i32_1857 : BitVec 32 := 1216#32
  let v3891 : BitVec 32 := Scalar.muli v3890 c1216_i32_1857
  let c0_i32_7 : BitVec 32 := 0#32
  let c1_i32_9 : BitVec 32 := 1#32
  let arg13 : BitVec 32 := Scf.iv c0_i32_7 c1_i32_9 k0_t5
  let c38_i32_1854 : BitVec 32 := 38#32
  let v3883 : BitVec 32 := Scalar.muli arg13 c38_i32_1854
  let c13_i32 : BitVec 32 := 13#32
  let v3884 : BitVec 32 := Scalar.addi v3883 c13_i32
  let c4_i32_1858 : BitVec 32 := 4#32
  let v3892 : BitVec 32 := Scalar.muli v3884 c4_i32_1858
  let v3893 : BitVec 32 := Scalar.addi v3891 v3892
  let c0_i32_1859 : BitVec 32 := 0#32
  let v3894 : BitVec 32 := Scalar.addi v3893 c0_i32_1859
  let v3902 : Index := Scalar.indexCast v3894
  let c0_1865 : Index := 0#32
  let c0_1866 : Index := 0#32
  ![v3902.toNat, 0, 0]

def k0_off733 (v3901 : BitVec 32) : Fin 2 → Nat :=
  let v3905 : Index := Scalar.indexCast v3901
  let c0_1867 : Index := 0#32
  ![v3905.toNat, 0]

def k0_chk257 (i : grid0.Coords) (v3901 : BitVec 32) : Prop :=
  (∀ (k0_h3 : k0_cond3 i = 1#1), ∀ a, (k0_off733 v3901) a + S8x128.size a ≤ S18432x128.size a)
theorem k0_off733_inb : ∀ (i : grid0.Coords) (v3901 : BitVec 32) (k0_hw257 : k0_chk257 i v3901), ∀ (k0_h3 : k0_cond3 i = 1#1), ∀ a, (k0_off733 v3901) a + S8x128.size a ≤ S18432x128.size a := fun i v3901 k0_hw257 k0_h3 => k0_hw257 k0_h3

def k0_off734 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1854 : BitVec 32 := 38#32
  let v3883 : BitVec 32 := Scalar.muli arg13 c38_i32_1854
  let c13_i32 : BitVec 32 := 13#32
  let v3884 : BitVec 32 := Scalar.addi v3883 c13_i32
  let c4_i32_1868 : BitVec 32 := 4#32
  let v3908 : BitVec 32 := Scalar.muli v3884 c4_i32_1868
  let c1_i32_1869 : BitVec 32 := 1#32
  let v3909 : BitVec 32 := Scalar.addi v3908 c1_i32_1869
  let v3910 : Index := Scalar.indexCast v3909
  ![v3910.toNat]
def k0_off735 (i : grid0.Coords) (k0_t5 : Fin k0_t5_loop.trips) (v3886 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1856 : BitVec 32 := 2#32
  let v3889 : BitVec 32 := Scalar.muli v2959 c2_i32_1856
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3887 : BitVec 32 := Scalar.shrui v3886 v2958
  let c1_i32_1855 : BitVec 32 := 1#32
  let v3888 : BitVec 32 := Scalar.andi v3887 c1_i32_1855
  let v3890 : BitVec 32 := Scalar.addi v3889 v3888
  let c1216_i32_1857 : BitVec 32 := 1216#32
  let v3891 : BitVec 32 := Scalar.muli v3890 c1216_i32_1857
  let c0_i32_7 : BitVec 32 := 0#32
  let c1_i32_9 : BitVec 32 := 1#32
  let arg13 : BitVec 32 := Scf.iv c0_i32_7 c1_i32_9 k0_t5
  let c38_i32_1854 : BitVec 32 := 38#32
  let v3883 : BitVec 32 := Scalar.muli arg13 c38_i32_1854
  let c13_i32 : BitVec 32 := 13#32
  let v3884 : BitVec 32 := Scalar.addi v3883 c13_i32
  let c4_i32_1858 : BitVec 32 := 4#32
  let v3892 : BitVec 32 := Scalar.muli v3884 c4_i32_1858
  let v3893 : BitVec 32 := Scalar.addi v3891 v3892
  let c1_i32_1860 : BitVec 32 := 1#32
  let v3895 : BitVec 32 := Scalar.addi v3893 c1_i32_1860
  let v3912 : Index := Scalar.indexCast v3895
  let c0_1870 : Index := 0#32
  let c0_1871 : Index := 0#32
  ![v3912.toNat, 0, 0]
def k0_off736 (v3911 : BitVec 32) : Fin 2 → Nat :=
  let v3915 : Index := Scalar.indexCast v3911
  let c0_1872 : Index := 0#32
  ![v3915.toNat, 0]

def k0_chk258 (i : grid0.Coords) (v3911 : BitVec 32) : Prop :=
  (∀ (k0_h3 : k0_cond3 i = 1#1), ∀ a, (k0_off736 v3911) a + S8x128.size a ≤ S18432x128.size a)
theorem k0_off736_inb : ∀ (i : grid0.Coords) (v3911 : BitVec 32) (k0_hw258 : k0_chk258 i v3911), ∀ (k0_h3 : k0_cond3 i = 1#1), ∀ a, (k0_off736 v3911) a + S8x128.size a ≤ S18432x128.size a := fun i v3911 k0_hw258 k0_h3 => k0_hw258 k0_h3

def k0_off737 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1854 : BitVec 32 := 38#32
  let v3883 : BitVec 32 := Scalar.muli arg13 c38_i32_1854
  let c13_i32 : BitVec 32 := 13#32
  let v3884 : BitVec 32 := Scalar.addi v3883 c13_i32
  let c4_i32_1873 : BitVec 32 := 4#32
  let v3918 : BitVec 32 := Scalar.muli v3884 c4_i32_1873
  let c2_i32_1874 : BitVec 32 := 2#32
  let v3919 : BitVec 32 := Scalar.addi v3918 c2_i32_1874
  let v3920 : Index := Scalar.indexCast v3919
  ![v3920.toNat]
def k0_off738 (i : grid0.Coords) (k0_t5 : Fin k0_t5_loop.trips) (v3886 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1856 : BitVec 32 := 2#32
  let v3889 : BitVec 32 := Scalar.muli v2959 c2_i32_1856
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3887 : BitVec 32 := Scalar.shrui v3886 v2958
  let c1_i32_1855 : BitVec 32 := 1#32
  let v3888 : BitVec 32 := Scalar.andi v3887 c1_i32_1855
  let v3890 : BitVec 32 := Scalar.addi v3889 v3888
  let c1216_i32_1857 : BitVec 32 := 1216#32
  let v3891 : BitVec 32 := Scalar.muli v3890 c1216_i32_1857
  let c0_i32_7 : BitVec 32 := 0#32
  let c1_i32_9 : BitVec 32 := 1#32
  let arg13 : BitVec 32 := Scf.iv c0_i32_7 c1_i32_9 k0_t5
  let c38_i32_1854 : BitVec 32 := 38#32
  let v3883 : BitVec 32 := Scalar.muli arg13 c38_i32_1854
  let c13_i32 : BitVec 32 := 13#32
  let v3884 : BitVec 32 := Scalar.addi v3883 c13_i32
  let c4_i32_1858 : BitVec 32 := 4#32
  let v3892 : BitVec 32 := Scalar.muli v3884 c4_i32_1858
  let v3893 : BitVec 32 := Scalar.addi v3891 v3892
  let c2_i32_1861 : BitVec 32 := 2#32
  let v3896 : BitVec 32 := Scalar.addi v3893 c2_i32_1861
  let v3922 : Index := Scalar.indexCast v3896
  let c0_1875 : Index := 0#32
  let c0_1876 : Index := 0#32
  ![v3922.toNat, 0, 0]
def k0_off739 (v3921 : BitVec 32) : Fin 2 → Nat :=
  let v3925 : Index := Scalar.indexCast v3921
  let c0_1877 : Index := 0#32
  ![v3925.toNat, 0]

def k0_chk259 (i : grid0.Coords) (v3921 : BitVec 32) : Prop :=
  (∀ (k0_h3 : k0_cond3 i = 1#1), ∀ a, (k0_off739 v3921) a + S8x128.size a ≤ S18432x128.size a)
theorem k0_off739_inb : ∀ (i : grid0.Coords) (v3921 : BitVec 32) (k0_hw259 : k0_chk259 i v3921), ∀ (k0_h3 : k0_cond3 i = 1#1), ∀ a, (k0_off739 v3921) a + S8x128.size a ≤ S18432x128.size a := fun i v3921 k0_hw259 k0_h3 => k0_hw259 k0_h3

def k0_off740 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1854 : BitVec 32 := 38#32
  let v3883 : BitVec 32 := Scalar.muli arg13 c38_i32_1854
  let c13_i32 : BitVec 32 := 13#32
  let v3884 : BitVec 32 := Scalar.addi v3883 c13_i32
  let c4_i32_1878 : BitVec 32 := 4#32
  let v3928 : BitVec 32 := Scalar.muli v3884 c4_i32_1878
  let c3_i32_1879 : BitVec 32 := 3#32
  let v3929 : BitVec 32 := Scalar.addi v3928 c3_i32_1879
  let v3930 : Index := Scalar.indexCast v3929
  ![v3930.toNat]
def k0_off741 (i : grid0.Coords) (k0_t5 : Fin k0_t5_loop.trips) (v3886 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1856 : BitVec 32 := 2#32
  let v3889 : BitVec 32 := Scalar.muli v2959 c2_i32_1856
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3887 : BitVec 32 := Scalar.shrui v3886 v2958
  let c1_i32_1855 : BitVec 32 := 1#32
  let v3888 : BitVec 32 := Scalar.andi v3887 c1_i32_1855
  let v3890 : BitVec 32 := Scalar.addi v3889 v3888
  let c1216_i32_1857 : BitVec 32 := 1216#32
  let v3891 : BitVec 32 := Scalar.muli v3890 c1216_i32_1857
  let c0_i32_7 : BitVec 32 := 0#32
  let c1_i32_9 : BitVec 32 := 1#32
  let arg13 : BitVec 32 := Scf.iv c0_i32_7 c1_i32_9 k0_t5
  let c38_i32_1854 : BitVec 32 := 38#32
  let v3883 : BitVec 32 := Scalar.muli arg13 c38_i32_1854
  let c13_i32 : BitVec 32 := 13#32
  let v3884 : BitVec 32 := Scalar.addi v3883 c13_i32
  let c4_i32_1858 : BitVec 32 := 4#32
  let v3892 : BitVec 32 := Scalar.muli v3884 c4_i32_1858
  let v3893 : BitVec 32 := Scalar.addi v3891 v3892
  let c3_i32_1862 : BitVec 32 := 3#32
  let v3897 : BitVec 32 := Scalar.addi v3893 c3_i32_1862
  let v3932 : Index := Scalar.indexCast v3897
  let c0_1880 : Index := 0#32
  let c0_1881 : Index := 0#32
  ![v3932.toNat, 0, 0]
def k0_off742 (v3931 : BitVec 32) : Fin 2 → Nat :=
  let v3935 : Index := Scalar.indexCast v3931
  let c0_1882 : Index := 0#32
  ![v3935.toNat, 0]

def k0_chk260 (i : grid0.Coords) (v3931 : BitVec 32) : Prop :=
  (∀ (k0_h3 : k0_cond3 i = 1#1), ∀ a, (k0_off742 v3931) a + S8x128.size a ≤ S18432x128.size a)
theorem k0_off742_inb : ∀ (i : grid0.Coords) (v3931 : BitVec 32) (k0_hw260 : k0_chk260 i v3931), ∀ (k0_h3 : k0_cond3 i = 1#1), ∀ a, (k0_off742 v3931) a + S8x128.size a ≤ S18432x128.size a := fun i v3931 k0_hw260 k0_h3 => k0_hw260 k0_h3

def k0_off743 (i : grid0.Coords) (k0_t5 : Fin k0_t5_loop.trips) (v3886 : BitVec 32) (c0_i32_1859 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1856 : BitVec 32 := 2#32
  let v3889 : BitVec 32 := Scalar.muli v2959 c2_i32_1856
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3887 : BitVec 32 := Scalar.shrui v3886 v2958
  let c1_i32_1855 : BitVec 32 := 1#32
  let v3888 : BitVec 32 := Scalar.andi v3887 c1_i32_1855
  let v3890 : BitVec 32 := Scalar.addi v3889 v3888
  let c1216_i32_1857 : BitVec 32 := 1216#32
  let v3891 : BitVec 32 := Scalar.muli v3890 c1216_i32_1857
  let c0_i32_7 : BitVec 32 := 0#32
  let c1_i32_9 : BitVec 32 := 1#32
  let arg13 : BitVec 32 := Scf.iv c0_i32_7 c1_i32_9 k0_t5
  let c38_i32_1854 : BitVec 32 := 38#32
  let v3883 : BitVec 32 := Scalar.muli arg13 c38_i32_1854
  let c13_i32 : BitVec 32 := 13#32
  let v3884 : BitVec 32 := Scalar.addi v3883 c13_i32
  let c4_i32_1858 : BitVec 32 := 4#32
  let v3892 : BitVec 32 := Scalar.muli v3884 c4_i32_1858
  let v3893 : BitVec 32 := Scalar.addi v3891 v3892
  let v3894 : BitVec 32 := Scalar.addi v3893 c0_i32_1859
  let v3938 : Index := Scalar.indexCast v3894
  let c0_1883 : Index := 0#32
  let c0_1884 : Index := 0#32
  ![v3938.toNat, 0, 0]

def k0_chk256 (i : grid0.Coords) (k0_t5 : Fin k0_t5_loop.trips) (v3886 : BitVec 32) : Prop :=
  (∀ (k0_h3 : k0_cond3 i = 1#1), ∀ a, (k0_off732 i k0_t5 v3886) a + S1x8x128.size a ≤ S7296x8x128.size a) ∧
  (∀ (k0_h3 : k0_cond3 i = 1#1), ∀ a, (k0_off735 i k0_t5 v3886) a + S1x8x128.size a ≤ S7296x8x128.size a) ∧
  (∀ (k0_h3 : k0_cond3 i = 1#1), ∀ a, (k0_off738 i k0_t5 v3886) a + S1x8x128.size a ≤ S7296x8x128.size a) ∧
  (∀ (k0_h3 : k0_cond3 i = 1#1), ∀ a, (k0_off741 i k0_t5 v3886) a + S1x8x128.size a ≤ S7296x8x128.size a) ∧
  (∀ (k0_h3 : k0_cond3 i = 1#1), ∀ (r : Fin 4), ∀ a, (k0_off743 i k0_t5 v3886 (BitVec.ofNat 32 r.val)) a + S1x8x128.size a ≤ S7296x8x128.size a)
theorem k0_off732_inb : ∀ (i : grid0.Coords) (k0_t5 : Fin k0_t5_loop.trips) (v3886 : BitVec 32) (k0_hw256 : k0_chk256 i k0_t5 v3886), ∀ (k0_h3 : k0_cond3 i = 1#1), ∀ a, (k0_off732 i k0_t5 v3886) a + S1x8x128.size a ≤ S7296x8x128.size a := fun i k0_t5 v3886 k0_hw256 k0_h3 => k0_hw256.1 k0_h3
theorem k0_off735_inb : ∀ (i : grid0.Coords) (k0_t5 : Fin k0_t5_loop.trips) (v3886 : BitVec 32) (k0_hw256 : k0_chk256 i k0_t5 v3886), ∀ (k0_h3 : k0_cond3 i = 1#1), ∀ a, (k0_off735 i k0_t5 v3886) a + S1x8x128.size a ≤ S7296x8x128.size a := fun i k0_t5 v3886 k0_hw256 k0_h3 => k0_hw256.2.1 k0_h3
theorem k0_off738_inb : ∀ (i : grid0.Coords) (k0_t5 : Fin k0_t5_loop.trips) (v3886 : BitVec 32) (k0_hw256 : k0_chk256 i k0_t5 v3886), ∀ (k0_h3 : k0_cond3 i = 1#1), ∀ a, (k0_off738 i k0_t5 v3886) a + S1x8x128.size a ≤ S7296x8x128.size a := fun i k0_t5 v3886 k0_hw256 k0_h3 => k0_hw256.2.2.1 k0_h3
theorem k0_off741_inb : ∀ (i : grid0.Coords) (k0_t5 : Fin k0_t5_loop.trips) (v3886 : BitVec 32) (k0_hw256 : k0_chk256 i k0_t5 v3886), ∀ (k0_h3 : k0_cond3 i = 1#1), ∀ a, (k0_off741 i k0_t5 v3886) a + S1x8x128.size a ≤ S7296x8x128.size a := fun i k0_t5 v3886 k0_hw256 k0_h3 => k0_hw256.2.2.2.1 k0_h3
theorem k0_off743_inb : ∀ (i : grid0.Coords) (k0_t5 : Fin k0_t5_loop.trips) (v3886 : BitVec 32) (k0_hw256 : k0_chk256 i k0_t5 v3886), ∀ (k0_h3 : k0_cond3 i = 1#1), ∀ (r : Fin 4), ∀ a, (k0_off743 i k0_t5 v3886 (BitVec.ofNat 32 r.val)) a + S1x8x128.size a ≤ S7296x8x128.size a := fun i k0_t5 v3886 k0_hw256 k0_h3 r => k0_hw256.2.2.2.2 k0_h3 r

def k0_off744 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1891 : BitVec 32 := 38#32
  let v3954 : BitVec 32 := Scalar.muli arg13 c38_i32_1891
  let c14_i32 : BitVec 32 := 14#32
  let v3955 : BitVec 32 := Scalar.addi v3954 c14_i32
  let v3956 : Index := Scalar.indexCast v3955
  ![v3956.toNat]
def k0_off745 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1891 : BitVec 32 := 38#32
  let v3954 : BitVec 32 := Scalar.muli arg13 c38_i32_1891
  let c14_i32 : BitVec 32 := 14#32
  let v3955 : BitVec 32 := Scalar.addi v3954 c14_i32
  let c4_i32_1900 : BitVec 32 := 4#32
  let v3969 : BitVec 32 := Scalar.muli v3955 c4_i32_1900
  let c0_i32_1901 : BitVec 32 := 0#32
  let v3970 : BitVec 32 := Scalar.addi v3969 c0_i32_1901
  let v3971 : Index := Scalar.indexCast v3970
  ![v3971.toNat]
def k0_off746 (i : grid0.Coords) (k0_t5 : Fin k0_t5_loop.trips) (v3957 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1893 : BitVec 32 := 2#32
  let v3960 : BitVec 32 := Scalar.muli v2959 c2_i32_1893
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3958 : BitVec 32 := Scalar.shrui v3957 v2958
  let c1_i32_1892 : BitVec 32 := 1#32
  let v3959 : BitVec 32 := Scalar.andi v3958 c1_i32_1892
  let v3961 : BitVec 32 := Scalar.addi v3960 v3959
  let c1216_i32_1894 : BitVec 32 := 1216#32
  let v3962 : BitVec 32 := Scalar.muli v3961 c1216_i32_1894
  let c0_i32_7 : BitVec 32 := 0#32
  let c1_i32_9 : BitVec 32 := 1#32
  let arg13 : BitVec 32 := Scf.iv c0_i32_7 c1_i32_9 k0_t5
  let c38_i32_1891 : BitVec 32 := 38#32
  let v3954 : BitVec 32 := Scalar.muli arg13 c38_i32_1891
  let c14_i32 : BitVec 32 := 14#32
  let v3955 : BitVec 32 := Scalar.addi v3954 c14_i32
  let c4_i32_1895 : BitVec 32 := 4#32
  let v3963 : BitVec 32 := Scalar.muli v3955 c4_i32_1895
  let v3964 : BitVec 32 := Scalar.addi v3962 v3963
  let c0_i32_1896 : BitVec 32 := 0#32
  let v3965 : BitVec 32 := Scalar.addi v3964 c0_i32_1896
  let v3973 : Index := Scalar.indexCast v3965
  let c0_1902 : Index := 0#32
  let c0_1903 : Index := 0#32
  ![v3973.toNat, 0, 0]

def k0_off747 (v3972 : BitVec 32) : Fin 2 → Nat :=
  let v3976 : Index := Scalar.indexCast v3972
  let c0_1904 : Index := 0#32
  ![v3976.toNat, 0]

def k0_chk262 (i : grid0.Coords) (v3972 : BitVec 32) : Prop :=
  (∀ (k0_h3 : k0_cond3 i = 1#1), ∀ a, (k0_off747 v3972) a + S8x128.size a ≤ S18432x128.size a)
theorem k0_off747_inb : ∀ (i : grid0.Coords) (v3972 : BitVec 32) (k0_hw262 : k0_chk262 i v3972), ∀ (k0_h3 : k0_cond3 i = 1#1), ∀ a, (k0_off747 v3972) a + S8x128.size a ≤ S18432x128.size a := fun i v3972 k0_hw262 k0_h3 => k0_hw262 k0_h3

def k0_off748 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1891 : BitVec 32 := 38#32
  let v3954 : BitVec 32 := Scalar.muli arg13 c38_i32_1891
  let c14_i32 : BitVec 32 := 14#32
  let v3955 : BitVec 32 := Scalar.addi v3954 c14_i32
  let c4_i32_1905 : BitVec 32 := 4#32
  let v3979 : BitVec 32 := Scalar.muli v3955 c4_i32_1905
  let c1_i32_1906 : BitVec 32 := 1#32
  let v3980 : BitVec 32 := Scalar.addi v3979 c1_i32_1906
  let v3981 : Index := Scalar.indexCast v3980
  ![v3981.toNat]
def k0_off749 (i : grid0.Coords) (k0_t5 : Fin k0_t5_loop.trips) (v3957 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1893 : BitVec 32 := 2#32
  let v3960 : BitVec 32 := Scalar.muli v2959 c2_i32_1893
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3958 : BitVec 32 := Scalar.shrui v3957 v2958
  let c1_i32_1892 : BitVec 32 := 1#32
  let v3959 : BitVec 32 := Scalar.andi v3958 c1_i32_1892
  let v3961 : BitVec 32 := Scalar.addi v3960 v3959
  let c1216_i32_1894 : BitVec 32 := 1216#32
  let v3962 : BitVec 32 := Scalar.muli v3961 c1216_i32_1894
  let c0_i32_7 : BitVec 32 := 0#32
  let c1_i32_9 : BitVec 32 := 1#32
  let arg13 : BitVec 32 := Scf.iv c0_i32_7 c1_i32_9 k0_t5
  let c38_i32_1891 : BitVec 32 := 38#32
  let v3954 : BitVec 32 := Scalar.muli arg13 c38_i32_1891
  let c14_i32 : BitVec 32 := 14#32
  let v3955 : BitVec 32 := Scalar.addi v3954 c14_i32
  let c4_i32_1895 : BitVec 32 := 4#32
  let v3963 : BitVec 32 := Scalar.muli v3955 c4_i32_1895
  let v3964 : BitVec 32 := Scalar.addi v3962 v3963
  let c1_i32_1897 : BitVec 32 := 1#32
  let v3966 : BitVec 32 := Scalar.addi v3964 c1_i32_1897
  let v3983 : Index := Scalar.indexCast v3966
  let c0_1907 : Index := 0#32
  let c0_1908 : Index := 0#32
  ![v3983.toNat, 0, 0]
def k0_off750 (v3982 : BitVec 32) : Fin 2 → Nat :=
  let v3986 : Index := Scalar.indexCast v3982
  let c0_1909 : Index := 0#32
  ![v3986.toNat, 0]

def k0_chk263 (i : grid0.Coords) (v3982 : BitVec 32) : Prop :=
  (∀ (k0_h3 : k0_cond3 i = 1#1), ∀ a, (k0_off750 v3982) a + S8x128.size a ≤ S18432x128.size a)
theorem k0_off750_inb : ∀ (i : grid0.Coords) (v3982 : BitVec 32) (k0_hw263 : k0_chk263 i v3982), ∀ (k0_h3 : k0_cond3 i = 1#1), ∀ a, (k0_off750 v3982) a + S8x128.size a ≤ S18432x128.size a := fun i v3982 k0_hw263 k0_h3 => k0_hw263 k0_h3

def k0_off751 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1891 : BitVec 32 := 38#32
  let v3954 : BitVec 32 := Scalar.muli arg13 c38_i32_1891
  let c14_i32 : BitVec 32 := 14#32
  let v3955 : BitVec 32 := Scalar.addi v3954 c14_i32
  let c4_i32_1910 : BitVec 32 := 4#32
  let v3989 : BitVec 32 := Scalar.muli v3955 c4_i32_1910
  let c2_i32_1911 : BitVec 32 := 2#32
  let v3990 : BitVec 32 := Scalar.addi v3989 c2_i32_1911
  let v3991 : Index := Scalar.indexCast v3990
  ![v3991.toNat]
def k0_off752 (i : grid0.Coords) (k0_t5 : Fin k0_t5_loop.trips) (v3957 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1893 : BitVec 32 := 2#32
  let v3960 : BitVec 32 := Scalar.muli v2959 c2_i32_1893
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3958 : BitVec 32 := Scalar.shrui v3957 v2958
  let c1_i32_1892 : BitVec 32 := 1#32
  let v3959 : BitVec 32 := Scalar.andi v3958 c1_i32_1892
  let v3961 : BitVec 32 := Scalar.addi v3960 v3959
  let c1216_i32_1894 : BitVec 32 := 1216#32
  let v3962 : BitVec 32 := Scalar.muli v3961 c1216_i32_1894
  let c0_i32_7 : BitVec 32 := 0#32
  let c1_i32_9 : BitVec 32 := 1#32
  let arg13 : BitVec 32 := Scf.iv c0_i32_7 c1_i32_9 k0_t5
  let c38_i32_1891 : BitVec 32 := 38#32
  let v3954 : BitVec 32 := Scalar.muli arg13 c38_i32_1891
  let c14_i32 : BitVec 32 := 14#32
  let v3955 : BitVec 32 := Scalar.addi v3954 c14_i32
  let c4_i32_1895 : BitVec 32 := 4#32
  let v3963 : BitVec 32 := Scalar.muli v3955 c4_i32_1895
  let v3964 : BitVec 32 := Scalar.addi v3962 v3963
  let c2_i32_1898 : BitVec 32 := 2#32
  let v3967 : BitVec 32 := Scalar.addi v3964 c2_i32_1898
  let v3993 : Index := Scalar.indexCast v3967
  let c0_1912 : Index := 0#32
  let c0_1913 : Index := 0#32
  ![v3993.toNat, 0, 0]
def k0_off753 (v3992 : BitVec 32) : Fin 2 → Nat :=
  let v3996 : Index := Scalar.indexCast v3992
  let c0_1914 : Index := 0#32
  ![v3996.toNat, 0]

def k0_chk264 (i : grid0.Coords) (v3992 : BitVec 32) : Prop :=
  (∀ (k0_h3 : k0_cond3 i = 1#1), ∀ a, (k0_off753 v3992) a + S8x128.size a ≤ S18432x128.size a)
theorem k0_off753_inb : ∀ (i : grid0.Coords) (v3992 : BitVec 32) (k0_hw264 : k0_chk264 i v3992), ∀ (k0_h3 : k0_cond3 i = 1#1), ∀ a, (k0_off753 v3992) a + S8x128.size a ≤ S18432x128.size a := fun i v3992 k0_hw264 k0_h3 => k0_hw264 k0_h3

def k0_off754 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1891 : BitVec 32 := 38#32
  let v3954 : BitVec 32 := Scalar.muli arg13 c38_i32_1891
  let c14_i32 : BitVec 32 := 14#32
  let v3955 : BitVec 32 := Scalar.addi v3954 c14_i32
  let c4_i32_1915 : BitVec 32 := 4#32
  let v3999 : BitVec 32 := Scalar.muli v3955 c4_i32_1915
  let c3_i32_1916 : BitVec 32 := 3#32
  let v4000 : BitVec 32 := Scalar.addi v3999 c3_i32_1916
  let v4001 : Index := Scalar.indexCast v4000
  ![v4001.toNat]
def k0_off755 (i : grid0.Coords) (k0_t5 : Fin k0_t5_loop.trips) (v3957 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1893 : BitVec 32 := 2#32
  let v3960 : BitVec 32 := Scalar.muli v2959 c2_i32_1893
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3958 : BitVec 32 := Scalar.shrui v3957 v2958
  let c1_i32_1892 : BitVec 32 := 1#32
  let v3959 : BitVec 32 := Scalar.andi v3958 c1_i32_1892
  let v3961 : BitVec 32 := Scalar.addi v3960 v3959
  let c1216_i32_1894 : BitVec 32 := 1216#32
  let v3962 : BitVec 32 := Scalar.muli v3961 c1216_i32_1894
  let c0_i32_7 : BitVec 32 := 0#32
  let c1_i32_9 : BitVec 32 := 1#32
  let arg13 : BitVec 32 := Scf.iv c0_i32_7 c1_i32_9 k0_t5
  let c38_i32_1891 : BitVec 32 := 38#32
  let v3954 : BitVec 32 := Scalar.muli arg13 c38_i32_1891
  let c14_i32 : BitVec 32 := 14#32
  let v3955 : BitVec 32 := Scalar.addi v3954 c14_i32
  let c4_i32_1895 : BitVec 32 := 4#32
  let v3963 : BitVec 32 := Scalar.muli v3955 c4_i32_1895
  let v3964 : BitVec 32 := Scalar.addi v3962 v3963
  let c3_i32_1899 : BitVec 32 := 3#32
  let v3968 : BitVec 32 := Scalar.addi v3964 c3_i32_1899
  let v4003 : Index := Scalar.indexCast v3968
  let c0_1917 : Index := 0#32
  let c0_1918 : Index := 0#32
  ![v4003.toNat, 0, 0]
def k0_off756 (v4002 : BitVec 32) : Fin 2 → Nat :=
  let v4006 : Index := Scalar.indexCast v4002
  let c0_1919 : Index := 0#32
  ![v4006.toNat, 0]

def k0_chk265 (i : grid0.Coords) (v4002 : BitVec 32) : Prop :=
  (∀ (k0_h3 : k0_cond3 i = 1#1), ∀ a, (k0_off756 v4002) a + S8x128.size a ≤ S18432x128.size a)
theorem k0_off756_inb : ∀ (i : grid0.Coords) (v4002 : BitVec 32) (k0_hw265 : k0_chk265 i v4002), ∀ (k0_h3 : k0_cond3 i = 1#1), ∀ a, (k0_off756 v4002) a + S8x128.size a ≤ S18432x128.size a := fun i v4002 k0_hw265 k0_h3 => k0_hw265 k0_h3

def k0_off757 (i : grid0.Coords) (k0_t5 : Fin k0_t5_loop.trips) (v3957 : BitVec 32) (c0_i32_1896 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1893 : BitVec 32 := 2#32
  let v3960 : BitVec 32 := Scalar.muli v2959 c2_i32_1893
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v3958 : BitVec 32 := Scalar.shrui v3957 v2958
  let c1_i32_1892 : BitVec 32 := 1#32
  let v3959 : BitVec 32 := Scalar.andi v3958 c1_i32_1892
  let v3961 : BitVec 32 := Scalar.addi v3960 v3959
  let c1216_i32_1894 : BitVec 32 := 1216#32
  let v3962 : BitVec 32 := Scalar.muli v3961 c1216_i32_1894
  let c0_i32_7 : BitVec 32 := 0#32
  let c1_i32_9 : BitVec 32 := 1#32
  let arg13 : BitVec 32 := Scf.iv c0_i32_7 c1_i32_9 k0_t5
  let c38_i32_1891 : BitVec 32 := 38#32
  let v3954 : BitVec 32 := Scalar.muli arg13 c38_i32_1891
  let c14_i32 : BitVec 32 := 14#32
  let v3955 : BitVec 32 := Scalar.addi v3954 c14_i32
  let c4_i32_1895 : BitVec 32 := 4#32
  let v3963 : BitVec 32 := Scalar.muli v3955 c4_i32_1895
  let v3964 : BitVec 32 := Scalar.addi v3962 v3963
  let v3965 : BitVec 32 := Scalar.addi v3964 c0_i32_1896
  let v4009 : Index := Scalar.indexCast v3965
  let c0_1920 : Index := 0#32
  let c0_1921 : Index := 0#32
  ![v4009.toNat, 0, 0]

def k0_chk261 (i : grid0.Coords) (k0_t5 : Fin k0_t5_loop.trips) (v3957 : BitVec 32) : Prop :=
  (∀ (k0_h3 : k0_cond3 i = 1#1), ∀ a, (k0_off746 i k0_t5 v3957) a + S1x8x128.size a ≤ S7296x8x128.size a) ∧
  (∀ (k0_h3 : k0_cond3 i = 1#1), ∀ a, (k0_off749 i k0_t5 v3957) a + S1x8x128.size a ≤ S7296x8x128.size a) ∧
  (∀ (k0_h3 : k0_cond3 i = 1#1), ∀ a, (k0_off752 i k0_t5 v3957) a + S1x8x128.size a ≤ S7296x8x128.size a) ∧
  (∀ (k0_h3 : k0_cond3 i = 1#1), ∀ a, (k0_off755 i k0_t5 v3957) a + S1x8x128.size a ≤ S7296x8x128.size a) ∧
  (∀ (k0_h3 : k0_cond3 i = 1#1), ∀ (r : Fin 4), ∀ a, (k0_off757 i k0_t5 v3957 (BitVec.ofNat 32 r.val)) a + S1x8x128.size a ≤ S7296x8x128.size a)
theorem k0_off746_inb : ∀ (i : grid0.Coords) (k0_t5 : Fin k0_t5_loop.trips) (v3957 : BitVec 32) (k0_hw261 : k0_chk261 i k0_t5 v3957), ∀ (k0_h3 : k0_cond3 i = 1#1), ∀ a, (k0_off746 i k0_t5 v3957) a + S1x8x128.size a ≤ S7296x8x128.size a := fun i k0_t5 v3957 k0_hw261 k0_h3 => k0_hw261.1 k0_h3
theorem k0_off749_inb : ∀ (i : grid0.Coords) (k0_t5 : Fin k0_t5_loop.trips) (v3957 : BitVec 32) (k0_hw261 : k0_chk261 i k0_t5 v3957), ∀ (k0_h3 : k0_cond3 i = 1#1), ∀ a, (k0_off749 i k0_t5 v3957) a + S1x8x128.size a ≤ S7296x8x128.size a := fun i k0_t5 v3957 k0_hw261 k0_h3 => k0_hw261.2.1 k0_h3
theorem k0_off752_inb : ∀ (i : grid0.Coords) (k0_t5 : Fin k0_t5_loop.trips) (v3957 : BitVec 32) (k0_hw261 : k0_chk261 i k0_t5 v3957), ∀ (k0_h3 : k0_cond3 i = 1#1), ∀ a, (k0_off752 i k0_t5 v3957) a + S1x8x128.size a ≤ S7296x8x128.size a := fun i k0_t5 v3957 k0_hw261 k0_h3 => k0_hw261.2.2.1 k0_h3
theorem k0_off755_inb : ∀ (i : grid0.Coords) (k0_t5 : Fin k0_t5_loop.trips) (v3957 : BitVec 32) (k0_hw261 : k0_chk261 i k0_t5 v3957), ∀ (k0_h3 : k0_cond3 i = 1#1), ∀ a, (k0_off755 i k0_t5 v3957) a + S1x8x128.size a ≤ S7296x8x128.size a := fun i k0_t5 v3957 k0_hw261 k0_h3 => k0_hw261.2.2.2.1 k0_h3
theorem k0_off757_inb : ∀ (i : grid0.Coords) (k0_t5 : Fin k0_t5_loop.trips) (v3957 : BitVec 32) (k0_hw261 : k0_chk261 i k0_t5 v3957), ∀ (k0_h3 : k0_cond3 i = 1#1), ∀ (r : Fin 4), ∀ a, (k0_off757 i k0_t5 v3957 (BitVec.ofNat 32 r.val)) a + S1x8x128.size a ≤ S7296x8x128.size a := fun i k0_t5 v3957 k0_hw261 k0_h3 r => k0_hw261.2.2.2.2 k0_h3 r

def k0_off758 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1928 : BitVec 32 := 38#32
  let v4025 : BitVec 32 := Scalar.muli arg13 c38_i32_1928
  let c15_i32 : BitVec 32 := 15#32
  let v4026 : BitVec 32 := Scalar.addi v4025 c15_i32
  let v4027 : Index := Scalar.indexCast v4026
  ![v4027.toNat]
def k0_off759 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1928 : BitVec 32 := 38#32
  let v4025 : BitVec 32 := Scalar.muli arg13 c38_i32_1928
  let c15_i32 : BitVec 32 := 15#32
  let v4026 : BitVec 32 := Scalar.addi v4025 c15_i32
  let c4_i32_1937 : BitVec 32 := 4#32
  let v4040 : BitVec 32 := Scalar.muli v4026 c4_i32_1937
  let c0_i32_1938 : BitVec 32 := 0#32
  let v4041 : BitVec 32 := Scalar.addi v4040 c0_i32_1938
  let v4042 : Index := Scalar.indexCast v4041
  ![v4042.toNat]
def k0_off760 (i : grid0.Coords) (k0_t5 : Fin k0_t5_loop.trips) (v4028 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1930 : BitVec 32 := 2#32
  let v4031 : BitVec 32 := Scalar.muli v2959 c2_i32_1930
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4029 : BitVec 32 := Scalar.shrui v4028 v2958
  let c1_i32_1929 : BitVec 32 := 1#32
  let v4030 : BitVec 32 := Scalar.andi v4029 c1_i32_1929
  let v4032 : BitVec 32 := Scalar.addi v4031 v4030
  let c1216_i32_1931 : BitVec 32 := 1216#32
  let v4033 : BitVec 32 := Scalar.muli v4032 c1216_i32_1931
  let c0_i32_7 : BitVec 32 := 0#32
  let c1_i32_9 : BitVec 32 := 1#32
  let arg13 : BitVec 32 := Scf.iv c0_i32_7 c1_i32_9 k0_t5
  let c38_i32_1928 : BitVec 32 := 38#32
  let v4025 : BitVec 32 := Scalar.muli arg13 c38_i32_1928
  let c15_i32 : BitVec 32 := 15#32
  let v4026 : BitVec 32 := Scalar.addi v4025 c15_i32
  let c4_i32_1932 : BitVec 32 := 4#32
  let v4034 : BitVec 32 := Scalar.muli v4026 c4_i32_1932
  let v4035 : BitVec 32 := Scalar.addi v4033 v4034
  let c0_i32_1933 : BitVec 32 := 0#32
  let v4036 : BitVec 32 := Scalar.addi v4035 c0_i32_1933
  let v4044 : Index := Scalar.indexCast v4036
  let c0_1939 : Index := 0#32
  let c0_1940 : Index := 0#32
  ![v4044.toNat, 0, 0]

def k0_off761 (v4043 : BitVec 32) : Fin 2 → Nat :=
  let v4047 : Index := Scalar.indexCast v4043
  let c0_1941 : Index := 0#32
  ![v4047.toNat, 0]

def k0_chk267 (i : grid0.Coords) (v4043 : BitVec 32) : Prop :=
  (∀ (k0_h3 : k0_cond3 i = 1#1), ∀ a, (k0_off761 v4043) a + S8x128.size a ≤ S18432x128.size a)
theorem k0_off761_inb : ∀ (i : grid0.Coords) (v4043 : BitVec 32) (k0_hw267 : k0_chk267 i v4043), ∀ (k0_h3 : k0_cond3 i = 1#1), ∀ a, (k0_off761 v4043) a + S8x128.size a ≤ S18432x128.size a := fun i v4043 k0_hw267 k0_h3 => k0_hw267 k0_h3

def k0_off762 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1928 : BitVec 32 := 38#32
  let v4025 : BitVec 32 := Scalar.muli arg13 c38_i32_1928
  let c15_i32 : BitVec 32 := 15#32
  let v4026 : BitVec 32 := Scalar.addi v4025 c15_i32
  let c4_i32_1942 : BitVec 32 := 4#32
  let v4050 : BitVec 32 := Scalar.muli v4026 c4_i32_1942
  let c1_i32_1943 : BitVec 32 := 1#32
  let v4051 : BitVec 32 := Scalar.addi v4050 c1_i32_1943
  let v4052 : Index := Scalar.indexCast v4051
  ![v4052.toNat]
def k0_off763 (i : grid0.Coords) (k0_t5 : Fin k0_t5_loop.trips) (v4028 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1930 : BitVec 32 := 2#32
  let v4031 : BitVec 32 := Scalar.muli v2959 c2_i32_1930
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4029 : BitVec 32 := Scalar.shrui v4028 v2958
  let c1_i32_1929 : BitVec 32 := 1#32
  let v4030 : BitVec 32 := Scalar.andi v4029 c1_i32_1929
  let v4032 : BitVec 32 := Scalar.addi v4031 v4030
  let c1216_i32_1931 : BitVec 32 := 1216#32
  let v4033 : BitVec 32 := Scalar.muli v4032 c1216_i32_1931
  let c0_i32_7 : BitVec 32 := 0#32
  let c1_i32_9 : BitVec 32 := 1#32
  let arg13 : BitVec 32 := Scf.iv c0_i32_7 c1_i32_9 k0_t5
  let c38_i32_1928 : BitVec 32 := 38#32
  let v4025 : BitVec 32 := Scalar.muli arg13 c38_i32_1928
  let c15_i32 : BitVec 32 := 15#32
  let v4026 : BitVec 32 := Scalar.addi v4025 c15_i32
  let c4_i32_1932 : BitVec 32 := 4#32
  let v4034 : BitVec 32 := Scalar.muli v4026 c4_i32_1932
  let v4035 : BitVec 32 := Scalar.addi v4033 v4034
  let c1_i32_1934 : BitVec 32 := 1#32
  let v4037 : BitVec 32 := Scalar.addi v4035 c1_i32_1934
  let v4054 : Index := Scalar.indexCast v4037
  let c0_1944 : Index := 0#32
  let c0_1945 : Index := 0#32
  ![v4054.toNat, 0, 0]
def k0_off764 (v4053 : BitVec 32) : Fin 2 → Nat :=
  let v4057 : Index := Scalar.indexCast v4053
  let c0_1946 : Index := 0#32
  ![v4057.toNat, 0]

def k0_chk268 (i : grid0.Coords) (v4053 : BitVec 32) : Prop :=
  (∀ (k0_h3 : k0_cond3 i = 1#1), ∀ a, (k0_off764 v4053) a + S8x128.size a ≤ S18432x128.size a)
theorem k0_off764_inb : ∀ (i : grid0.Coords) (v4053 : BitVec 32) (k0_hw268 : k0_chk268 i v4053), ∀ (k0_h3 : k0_cond3 i = 1#1), ∀ a, (k0_off764 v4053) a + S8x128.size a ≤ S18432x128.size a := fun i v4053 k0_hw268 k0_h3 => k0_hw268 k0_h3

def k0_off765 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1928 : BitVec 32 := 38#32
  let v4025 : BitVec 32 := Scalar.muli arg13 c38_i32_1928
  let c15_i32 : BitVec 32 := 15#32
  let v4026 : BitVec 32 := Scalar.addi v4025 c15_i32
  let c4_i32_1947 : BitVec 32 := 4#32
  let v4060 : BitVec 32 := Scalar.muli v4026 c4_i32_1947
  let c2_i32_1948 : BitVec 32 := 2#32
  let v4061 : BitVec 32 := Scalar.addi v4060 c2_i32_1948
  let v4062 : Index := Scalar.indexCast v4061
  ![v4062.toNat]
def k0_off766 (i : grid0.Coords) (k0_t5 : Fin k0_t5_loop.trips) (v4028 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1930 : BitVec 32 := 2#32
  let v4031 : BitVec 32 := Scalar.muli v2959 c2_i32_1930
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4029 : BitVec 32 := Scalar.shrui v4028 v2958
  let c1_i32_1929 : BitVec 32 := 1#32
  let v4030 : BitVec 32 := Scalar.andi v4029 c1_i32_1929
  let v4032 : BitVec 32 := Scalar.addi v4031 v4030
  let c1216_i32_1931 : BitVec 32 := 1216#32
  let v4033 : BitVec 32 := Scalar.muli v4032 c1216_i32_1931
  let c0_i32_7 : BitVec 32 := 0#32
  let c1_i32_9 : BitVec 32 := 1#32
  let arg13 : BitVec 32 := Scf.iv c0_i32_7 c1_i32_9 k0_t5
  let c38_i32_1928 : BitVec 32 := 38#32
  let v4025 : BitVec 32 := Scalar.muli arg13 c38_i32_1928
  let c15_i32 : BitVec 32 := 15#32
  let v4026 : BitVec 32 := Scalar.addi v4025 c15_i32
  let c4_i32_1932 : BitVec 32 := 4#32
  let v4034 : BitVec 32 := Scalar.muli v4026 c4_i32_1932
  let v4035 : BitVec 32 := Scalar.addi v4033 v4034
  let c2_i32_1935 : BitVec 32 := 2#32
  let v4038 : BitVec 32 := Scalar.addi v4035 c2_i32_1935
  let v4064 : Index := Scalar.indexCast v4038
  let c0_1949 : Index := 0#32
  let c0_1950 : Index := 0#32
  ![v4064.toNat, 0, 0]
def k0_off767 (v4063 : BitVec 32) : Fin 2 → Nat :=
  let v4067 : Index := Scalar.indexCast v4063
  let c0_1951 : Index := 0#32
  ![v4067.toNat, 0]

def k0_chk269 (i : grid0.Coords) (v4063 : BitVec 32) : Prop :=
  (∀ (k0_h3 : k0_cond3 i = 1#1), ∀ a, (k0_off767 v4063) a + S8x128.size a ≤ S18432x128.size a)
theorem k0_off767_inb : ∀ (i : grid0.Coords) (v4063 : BitVec 32) (k0_hw269 : k0_chk269 i v4063), ∀ (k0_h3 : k0_cond3 i = 1#1), ∀ a, (k0_off767 v4063) a + S8x128.size a ≤ S18432x128.size a := fun i v4063 k0_hw269 k0_h3 => k0_hw269 k0_h3

def k0_off768 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1928 : BitVec 32 := 38#32
  let v4025 : BitVec 32 := Scalar.muli arg13 c38_i32_1928
  let c15_i32 : BitVec 32 := 15#32
  let v4026 : BitVec 32 := Scalar.addi v4025 c15_i32
  let c4_i32_1952 : BitVec 32 := 4#32
  let v4070 : BitVec 32 := Scalar.muli v4026 c4_i32_1952
  let c3_i32_1953 : BitVec 32 := 3#32
  let v4071 : BitVec 32 := Scalar.addi v4070 c3_i32_1953
  let v4072 : Index := Scalar.indexCast v4071
  ![v4072.toNat]
def k0_off769 (i : grid0.Coords) (k0_t5 : Fin k0_t5_loop.trips) (v4028 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1930 : BitVec 32 := 2#32
  let v4031 : BitVec 32 := Scalar.muli v2959 c2_i32_1930
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4029 : BitVec 32 := Scalar.shrui v4028 v2958
  let c1_i32_1929 : BitVec 32 := 1#32
  let v4030 : BitVec 32 := Scalar.andi v4029 c1_i32_1929
  let v4032 : BitVec 32 := Scalar.addi v4031 v4030
  let c1216_i32_1931 : BitVec 32 := 1216#32
  let v4033 : BitVec 32 := Scalar.muli v4032 c1216_i32_1931
  let c0_i32_7 : BitVec 32 := 0#32
  let c1_i32_9 : BitVec 32 := 1#32
  let arg13 : BitVec 32 := Scf.iv c0_i32_7 c1_i32_9 k0_t5
  let c38_i32_1928 : BitVec 32 := 38#32
  let v4025 : BitVec 32 := Scalar.muli arg13 c38_i32_1928
  let c15_i32 : BitVec 32 := 15#32
  let v4026 : BitVec 32 := Scalar.addi v4025 c15_i32
  let c4_i32_1932 : BitVec 32 := 4#32
  let v4034 : BitVec 32 := Scalar.muli v4026 c4_i32_1932
  let v4035 : BitVec 32 := Scalar.addi v4033 v4034
  let c3_i32_1936 : BitVec 32 := 3#32
  let v4039 : BitVec 32 := Scalar.addi v4035 c3_i32_1936
  let v4074 : Index := Scalar.indexCast v4039
  let c0_1954 : Index := 0#32
  let c0_1955 : Index := 0#32
  ![v4074.toNat, 0, 0]
def k0_off770 (v4073 : BitVec 32) : Fin 2 → Nat :=
  let v4077 : Index := Scalar.indexCast v4073
  let c0_1956 : Index := 0#32
  ![v4077.toNat, 0]

def k0_chk270 (i : grid0.Coords) (v4073 : BitVec 32) : Prop :=
  (∀ (k0_h3 : k0_cond3 i = 1#1), ∀ a, (k0_off770 v4073) a + S8x128.size a ≤ S18432x128.size a)
theorem k0_off770_inb : ∀ (i : grid0.Coords) (v4073 : BitVec 32) (k0_hw270 : k0_chk270 i v4073), ∀ (k0_h3 : k0_cond3 i = 1#1), ∀ a, (k0_off770 v4073) a + S8x128.size a ≤ S18432x128.size a := fun i v4073 k0_hw270 k0_h3 => k0_hw270 k0_h3

def k0_off771 (i : grid0.Coords) (k0_t5 : Fin k0_t5_loop.trips) (v4028 : BitVec 32) (c0_i32_1933 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1930 : BitVec 32 := 2#32
  let v4031 : BitVec 32 := Scalar.muli v2959 c2_i32_1930
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4029 : BitVec 32 := Scalar.shrui v4028 v2958
  let c1_i32_1929 : BitVec 32 := 1#32
  let v4030 : BitVec 32 := Scalar.andi v4029 c1_i32_1929
  let v4032 : BitVec 32 := Scalar.addi v4031 v4030
  let c1216_i32_1931 : BitVec 32 := 1216#32
  let v4033 : BitVec 32 := Scalar.muli v4032 c1216_i32_1931
  let c0_i32_7 : BitVec 32 := 0#32
  let c1_i32_9 : BitVec 32 := 1#32
  let arg13 : BitVec 32 := Scf.iv c0_i32_7 c1_i32_9 k0_t5
  let c38_i32_1928 : BitVec 32 := 38#32
  let v4025 : BitVec 32 := Scalar.muli arg13 c38_i32_1928
  let c15_i32 : BitVec 32 := 15#32
  let v4026 : BitVec 32 := Scalar.addi v4025 c15_i32
  let c4_i32_1932 : BitVec 32 := 4#32
  let v4034 : BitVec 32 := Scalar.muli v4026 c4_i32_1932
  let v4035 : BitVec 32 := Scalar.addi v4033 v4034
  let v4036 : BitVec 32 := Scalar.addi v4035 c0_i32_1933
  let v4080 : Index := Scalar.indexCast v4036
  let c0_1957 : Index := 0#32
  let c0_1958 : Index := 0#32
  ![v4080.toNat, 0, 0]

def k0_chk266 (i : grid0.Coords) (k0_t5 : Fin k0_t5_loop.trips) (v4028 : BitVec 32) : Prop :=
  (∀ (k0_h3 : k0_cond3 i = 1#1), ∀ a, (k0_off760 i k0_t5 v4028) a + S1x8x128.size a ≤ S7296x8x128.size a) ∧
  (∀ (k0_h3 : k0_cond3 i = 1#1), ∀ a, (k0_off763 i k0_t5 v4028) a + S1x8x128.size a ≤ S7296x8x128.size a) ∧
  (∀ (k0_h3 : k0_cond3 i = 1#1), ∀ a, (k0_off766 i k0_t5 v4028) a + S1x8x128.size a ≤ S7296x8x128.size a) ∧
  (∀ (k0_h3 : k0_cond3 i = 1#1), ∀ a, (k0_off769 i k0_t5 v4028) a + S1x8x128.size a ≤ S7296x8x128.size a) ∧
  (∀ (k0_h3 : k0_cond3 i = 1#1), ∀ (r : Fin 4), ∀ a, (k0_off771 i k0_t5 v4028 (BitVec.ofNat 32 r.val)) a + S1x8x128.size a ≤ S7296x8x128.size a)
theorem k0_off760_inb : ∀ (i : grid0.Coords) (k0_t5 : Fin k0_t5_loop.trips) (v4028 : BitVec 32) (k0_hw266 : k0_chk266 i k0_t5 v4028), ∀ (k0_h3 : k0_cond3 i = 1#1), ∀ a, (k0_off760 i k0_t5 v4028) a + S1x8x128.size a ≤ S7296x8x128.size a := fun i k0_t5 v4028 k0_hw266 k0_h3 => k0_hw266.1 k0_h3
theorem k0_off763_inb : ∀ (i : grid0.Coords) (k0_t5 : Fin k0_t5_loop.trips) (v4028 : BitVec 32) (k0_hw266 : k0_chk266 i k0_t5 v4028), ∀ (k0_h3 : k0_cond3 i = 1#1), ∀ a, (k0_off763 i k0_t5 v4028) a + S1x8x128.size a ≤ S7296x8x128.size a := fun i k0_t5 v4028 k0_hw266 k0_h3 => k0_hw266.2.1 k0_h3
theorem k0_off766_inb : ∀ (i : grid0.Coords) (k0_t5 : Fin k0_t5_loop.trips) (v4028 : BitVec 32) (k0_hw266 : k0_chk266 i k0_t5 v4028), ∀ (k0_h3 : k0_cond3 i = 1#1), ∀ a, (k0_off766 i k0_t5 v4028) a + S1x8x128.size a ≤ S7296x8x128.size a := fun i k0_t5 v4028 k0_hw266 k0_h3 => k0_hw266.2.2.1 k0_h3
theorem k0_off769_inb : ∀ (i : grid0.Coords) (k0_t5 : Fin k0_t5_loop.trips) (v4028 : BitVec 32) (k0_hw266 : k0_chk266 i k0_t5 v4028), ∀ (k0_h3 : k0_cond3 i = 1#1), ∀ a, (k0_off769 i k0_t5 v4028) a + S1x8x128.size a ≤ S7296x8x128.size a := fun i k0_t5 v4028 k0_hw266 k0_h3 => k0_hw266.2.2.2.1 k0_h3
theorem k0_off771_inb : ∀ (i : grid0.Coords) (k0_t5 : Fin k0_t5_loop.trips) (v4028 : BitVec 32) (k0_hw266 : k0_chk266 i k0_t5 v4028), ∀ (k0_h3 : k0_cond3 i = 1#1), ∀ (r : Fin 4), ∀ a, (k0_off771 i k0_t5 v4028 (BitVec.ofNat 32 r.val)) a + S1x8x128.size a ≤ S7296x8x128.size a := fun i k0_t5 v4028 k0_hw266 k0_h3 r => k0_hw266.2.2.2.2 k0_h3 r

def k0_off772 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1965 : BitVec 32 := 38#32
  let v4096 : BitVec 32 := Scalar.muli arg13 c38_i32_1965
  let c16_i32 : BitVec 32 := 16#32
  let v4097 : BitVec 32 := Scalar.addi v4096 c16_i32
  let v4098 : Index := Scalar.indexCast v4097
  ![v4098.toNat]
def k0_off773 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1965 : BitVec 32 := 38#32
  let v4096 : BitVec 32 := Scalar.muli arg13 c38_i32_1965
  let c16_i32 : BitVec 32 := 16#32
  let v4097 : BitVec 32 := Scalar.addi v4096 c16_i32
  let c4_i32_1974 : BitVec 32 := 4#32
  let v4111 : BitVec 32 := Scalar.muli v4097 c4_i32_1974
  let c0_i32_1975 : BitVec 32 := 0#32
  let v4112 : BitVec 32 := Scalar.addi v4111 c0_i32_1975
  let v4113 : Index := Scalar.indexCast v4112
  ![v4113.toNat]
def k0_off774 (i : grid0.Coords) (k0_t5 : Fin k0_t5_loop.trips) (v4099 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1967 : BitVec 32 := 2#32
  let v4102 : BitVec 32 := Scalar.muli v2959 c2_i32_1967
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4100 : BitVec 32 := Scalar.shrui v4099 v2958
  let c1_i32_1966 : BitVec 32 := 1#32
  let v4101 : BitVec 32 := Scalar.andi v4100 c1_i32_1966
  let v4103 : BitVec 32 := Scalar.addi v4102 v4101
  let c1216_i32_1968 : BitVec 32 := 1216#32
  let v4104 : BitVec 32 := Scalar.muli v4103 c1216_i32_1968
  let c0_i32_7 : BitVec 32 := 0#32
  let c1_i32_9 : BitVec 32 := 1#32
  let arg13 : BitVec 32 := Scf.iv c0_i32_7 c1_i32_9 k0_t5
  let c38_i32_1965 : BitVec 32 := 38#32
  let v4096 : BitVec 32 := Scalar.muli arg13 c38_i32_1965
  let c16_i32 : BitVec 32 := 16#32
  let v4097 : BitVec 32 := Scalar.addi v4096 c16_i32
  let c4_i32_1969 : BitVec 32 := 4#32
  let v4105 : BitVec 32 := Scalar.muli v4097 c4_i32_1969
  let v4106 : BitVec 32 := Scalar.addi v4104 v4105
  let c0_i32_1970 : BitVec 32 := 0#32
  let v4107 : BitVec 32 := Scalar.addi v4106 c0_i32_1970
  let v4115 : Index := Scalar.indexCast v4107
  let c0_1976 : Index := 0#32
  let c0_1977 : Index := 0#32
  ![v4115.toNat, 0, 0]

def k0_off775 (v4114 : BitVec 32) : Fin 2 → Nat :=
  let v4118 : Index := Scalar.indexCast v4114
  let c0_1978 : Index := 0#32
  ![v4118.toNat, 0]

def k0_chk272 (i : grid0.Coords) (v4114 : BitVec 32) : Prop :=
  (∀ (k0_h3 : k0_cond3 i = 1#1), ∀ a, (k0_off775 v4114) a + S8x128.size a ≤ S18432x128.size a)
theorem k0_off775_inb : ∀ (i : grid0.Coords) (v4114 : BitVec 32) (k0_hw272 : k0_chk272 i v4114), ∀ (k0_h3 : k0_cond3 i = 1#1), ∀ a, (k0_off775 v4114) a + S8x128.size a ≤ S18432x128.size a := fun i v4114 k0_hw272 k0_h3 => k0_hw272 k0_h3

def k0_off776 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1965 : BitVec 32 := 38#32
  let v4096 : BitVec 32 := Scalar.muli arg13 c38_i32_1965
  let c16_i32 : BitVec 32 := 16#32
  let v4097 : BitVec 32 := Scalar.addi v4096 c16_i32
  let c4_i32_1979 : BitVec 32 := 4#32
  let v4121 : BitVec 32 := Scalar.muli v4097 c4_i32_1979
  let c1_i32_1980 : BitVec 32 := 1#32
  let v4122 : BitVec 32 := Scalar.addi v4121 c1_i32_1980
  let v4123 : Index := Scalar.indexCast v4122
  ![v4123.toNat]
def k0_off777 (i : grid0.Coords) (k0_t5 : Fin k0_t5_loop.trips) (v4099 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1967 : BitVec 32 := 2#32
  let v4102 : BitVec 32 := Scalar.muli v2959 c2_i32_1967
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4100 : BitVec 32 := Scalar.shrui v4099 v2958
  let c1_i32_1966 : BitVec 32 := 1#32
  let v4101 : BitVec 32 := Scalar.andi v4100 c1_i32_1966
  let v4103 : BitVec 32 := Scalar.addi v4102 v4101
  let c1216_i32_1968 : BitVec 32 := 1216#32
  let v4104 : BitVec 32 := Scalar.muli v4103 c1216_i32_1968
  let c0_i32_7 : BitVec 32 := 0#32
  let c1_i32_9 : BitVec 32 := 1#32
  let arg13 : BitVec 32 := Scf.iv c0_i32_7 c1_i32_9 k0_t5
  let c38_i32_1965 : BitVec 32 := 38#32
  let v4096 : BitVec 32 := Scalar.muli arg13 c38_i32_1965
  let c16_i32 : BitVec 32 := 16#32
  let v4097 : BitVec 32 := Scalar.addi v4096 c16_i32
  let c4_i32_1969 : BitVec 32 := 4#32
  let v4105 : BitVec 32 := Scalar.muli v4097 c4_i32_1969
  let v4106 : BitVec 32 := Scalar.addi v4104 v4105
  let c1_i32_1971 : BitVec 32 := 1#32
  let v4108 : BitVec 32 := Scalar.addi v4106 c1_i32_1971
  let v4125 : Index := Scalar.indexCast v4108
  let c0_1981 : Index := 0#32
  let c0_1982 : Index := 0#32
  ![v4125.toNat, 0, 0]
def k0_off778 (v4124 : BitVec 32) : Fin 2 → Nat :=
  let v4128 : Index := Scalar.indexCast v4124
  let c0_1983 : Index := 0#32
  ![v4128.toNat, 0]

def k0_chk273 (i : grid0.Coords) (v4124 : BitVec 32) : Prop :=
  (∀ (k0_h3 : k0_cond3 i = 1#1), ∀ a, (k0_off778 v4124) a + S8x128.size a ≤ S18432x128.size a)
theorem k0_off778_inb : ∀ (i : grid0.Coords) (v4124 : BitVec 32) (k0_hw273 : k0_chk273 i v4124), ∀ (k0_h3 : k0_cond3 i = 1#1), ∀ a, (k0_off778 v4124) a + S8x128.size a ≤ S18432x128.size a := fun i v4124 k0_hw273 k0_h3 => k0_hw273 k0_h3

def k0_off779 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1965 : BitVec 32 := 38#32
  let v4096 : BitVec 32 := Scalar.muli arg13 c38_i32_1965
  let c16_i32 : BitVec 32 := 16#32
  let v4097 : BitVec 32 := Scalar.addi v4096 c16_i32
  let c4_i32_1984 : BitVec 32 := 4#32
  let v4131 : BitVec 32 := Scalar.muli v4097 c4_i32_1984
  let c2_i32_1985 : BitVec 32 := 2#32
  let v4132 : BitVec 32 := Scalar.addi v4131 c2_i32_1985
  let v4133 : Index := Scalar.indexCast v4132
  ![v4133.toNat]
def k0_off780 (i : grid0.Coords) (k0_t5 : Fin k0_t5_loop.trips) (v4099 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1967 : BitVec 32 := 2#32
  let v4102 : BitVec 32 := Scalar.muli v2959 c2_i32_1967
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4100 : BitVec 32 := Scalar.shrui v4099 v2958
  let c1_i32_1966 : BitVec 32 := 1#32
  let v4101 : BitVec 32 := Scalar.andi v4100 c1_i32_1966
  let v4103 : BitVec 32 := Scalar.addi v4102 v4101
  let c1216_i32_1968 : BitVec 32 := 1216#32
  let v4104 : BitVec 32 := Scalar.muli v4103 c1216_i32_1968
  let c0_i32_7 : BitVec 32 := 0#32
  let c1_i32_9 : BitVec 32 := 1#32
  let arg13 : BitVec 32 := Scf.iv c0_i32_7 c1_i32_9 k0_t5
  let c38_i32_1965 : BitVec 32 := 38#32
  let v4096 : BitVec 32 := Scalar.muli arg13 c38_i32_1965
  let c16_i32 : BitVec 32 := 16#32
  let v4097 : BitVec 32 := Scalar.addi v4096 c16_i32
  let c4_i32_1969 : BitVec 32 := 4#32
  let v4105 : BitVec 32 := Scalar.muli v4097 c4_i32_1969
  let v4106 : BitVec 32 := Scalar.addi v4104 v4105
  let c2_i32_1972 : BitVec 32 := 2#32
  let v4109 : BitVec 32 := Scalar.addi v4106 c2_i32_1972
  let v4135 : Index := Scalar.indexCast v4109
  let c0_1986 : Index := 0#32
  let c0_1987 : Index := 0#32
  ![v4135.toNat, 0, 0]
def k0_off781 (v4134 : BitVec 32) : Fin 2 → Nat :=
  let v4138 : Index := Scalar.indexCast v4134
  let c0_1988 : Index := 0#32
  ![v4138.toNat, 0]

def k0_chk274 (i : grid0.Coords) (v4134 : BitVec 32) : Prop :=
  (∀ (k0_h3 : k0_cond3 i = 1#1), ∀ a, (k0_off781 v4134) a + S8x128.size a ≤ S18432x128.size a)
theorem k0_off781_inb : ∀ (i : grid0.Coords) (v4134 : BitVec 32) (k0_hw274 : k0_chk274 i v4134), ∀ (k0_h3 : k0_cond3 i = 1#1), ∀ a, (k0_off781 v4134) a + S8x128.size a ≤ S18432x128.size a := fun i v4134 k0_hw274 k0_h3 => k0_hw274 k0_h3

def k0_off782 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_1965 : BitVec 32 := 38#32
  let v4096 : BitVec 32 := Scalar.muli arg13 c38_i32_1965
  let c16_i32 : BitVec 32 := 16#32
  let v4097 : BitVec 32 := Scalar.addi v4096 c16_i32
  let c4_i32_1989 : BitVec 32 := 4#32
  let v4141 : BitVec 32 := Scalar.muli v4097 c4_i32_1989
  let c3_i32_1990 : BitVec 32 := 3#32
  let v4142 : BitVec 32 := Scalar.addi v4141 c3_i32_1990
  let v4143 : Index := Scalar.indexCast v4142
  ![v4143.toNat]
def k0_off783 (i : grid0.Coords) (k0_t5 : Fin k0_t5_loop.trips) (v4099 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1967 : BitVec 32 := 2#32
  let v4102 : BitVec 32 := Scalar.muli v2959 c2_i32_1967
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4100 : BitVec 32 := Scalar.shrui v4099 v2958
  let c1_i32_1966 : BitVec 32 := 1#32
  let v4101 : BitVec 32 := Scalar.andi v4100 c1_i32_1966
  let v4103 : BitVec 32 := Scalar.addi v4102 v4101
  let c1216_i32_1968 : BitVec 32 := 1216#32
  let v4104 : BitVec 32 := Scalar.muli v4103 c1216_i32_1968
  let c0_i32_7 : BitVec 32 := 0#32
  let c1_i32_9 : BitVec 32 := 1#32
  let arg13 : BitVec 32 := Scf.iv c0_i32_7 c1_i32_9 k0_t5
  let c38_i32_1965 : BitVec 32 := 38#32
  let v4096 : BitVec 32 := Scalar.muli arg13 c38_i32_1965
  let c16_i32 : BitVec 32 := 16#32
  let v4097 : BitVec 32 := Scalar.addi v4096 c16_i32
  let c4_i32_1969 : BitVec 32 := 4#32
  let v4105 : BitVec 32 := Scalar.muli v4097 c4_i32_1969
  let v4106 : BitVec 32 := Scalar.addi v4104 v4105
  let c3_i32_1973 : BitVec 32 := 3#32
  let v4110 : BitVec 32 := Scalar.addi v4106 c3_i32_1973
  let v4145 : Index := Scalar.indexCast v4110
  let c0_1991 : Index := 0#32
  let c0_1992 : Index := 0#32
  ![v4145.toNat, 0, 0]
def k0_off784 (v4144 : BitVec 32) : Fin 2 → Nat :=
  let v4148 : Index := Scalar.indexCast v4144
  let c0_1993 : Index := 0#32
  ![v4148.toNat, 0]

def k0_chk275 (i : grid0.Coords) (v4144 : BitVec 32) : Prop :=
  (∀ (k0_h3 : k0_cond3 i = 1#1), ∀ a, (k0_off784 v4144) a + S8x128.size a ≤ S18432x128.size a)
theorem k0_off784_inb : ∀ (i : grid0.Coords) (v4144 : BitVec 32) (k0_hw275 : k0_chk275 i v4144), ∀ (k0_h3 : k0_cond3 i = 1#1), ∀ a, (k0_off784 v4144) a + S8x128.size a ≤ S18432x128.size a := fun i v4144 k0_hw275 k0_h3 => k0_hw275 k0_h3

def k0_off785 (i : grid0.Coords) (k0_t5 : Fin k0_t5_loop.trips) (v4099 : BitVec 32) (c0_i32_1970 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_1967 : BitVec 32 := 2#32
  let v4102 : BitVec 32 := Scalar.muli v2959 c2_i32_1967
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4100 : BitVec 32 := Scalar.shrui v4099 v2958
  let c1_i32_1966 : BitVec 32 := 1#32
  let v4101 : BitVec 32 := Scalar.andi v4100 c1_i32_1966
  let v4103 : BitVec 32 := Scalar.addi v4102 v4101
  let c1216_i32_1968 : BitVec 32 := 1216#32
  let v4104 : BitVec 32 := Scalar.muli v4103 c1216_i32_1968
  let c0_i32_7 : BitVec 32 := 0#32
  let c1_i32_9 : BitVec 32 := 1#32
  let arg13 : BitVec 32 := Scf.iv c0_i32_7 c1_i32_9 k0_t5
  let c38_i32_1965 : BitVec 32 := 38#32
  let v4096 : BitVec 32 := Scalar.muli arg13 c38_i32_1965
  let c16_i32 : BitVec 32 := 16#32
  let v4097 : BitVec 32 := Scalar.addi v4096 c16_i32
  let c4_i32_1969 : BitVec 32 := 4#32
  let v4105 : BitVec 32 := Scalar.muli v4097 c4_i32_1969
  let v4106 : BitVec 32 := Scalar.addi v4104 v4105
  let v4107 : BitVec 32 := Scalar.addi v4106 c0_i32_1970
  let v4151 : Index := Scalar.indexCast v4107
  let c0_1994 : Index := 0#32
  let c0_1995 : Index := 0#32
  ![v4151.toNat, 0, 0]

def k0_chk271 (i : grid0.Coords) (k0_t5 : Fin k0_t5_loop.trips) (v4099 : BitVec 32) : Prop :=
  (∀ (k0_h3 : k0_cond3 i = 1#1), ∀ a, (k0_off774 i k0_t5 v4099) a + S1x8x128.size a ≤ S7296x8x128.size a) ∧
  (∀ (k0_h3 : k0_cond3 i = 1#1), ∀ a, (k0_off777 i k0_t5 v4099) a + S1x8x128.size a ≤ S7296x8x128.size a) ∧
  (∀ (k0_h3 : k0_cond3 i = 1#1), ∀ a, (k0_off780 i k0_t5 v4099) a + S1x8x128.size a ≤ S7296x8x128.size a) ∧
  (∀ (k0_h3 : k0_cond3 i = 1#1), ∀ a, (k0_off783 i k0_t5 v4099) a + S1x8x128.size a ≤ S7296x8x128.size a) ∧
  (∀ (k0_h3 : k0_cond3 i = 1#1), ∀ (r : Fin 4), ∀ a, (k0_off785 i k0_t5 v4099 (BitVec.ofNat 32 r.val)) a + S1x8x128.size a ≤ S7296x8x128.size a)
theorem k0_off774_inb : ∀ (i : grid0.Coords) (k0_t5 : Fin k0_t5_loop.trips) (v4099 : BitVec 32) (k0_hw271 : k0_chk271 i k0_t5 v4099), ∀ (k0_h3 : k0_cond3 i = 1#1), ∀ a, (k0_off774 i k0_t5 v4099) a + S1x8x128.size a ≤ S7296x8x128.size a := fun i k0_t5 v4099 k0_hw271 k0_h3 => k0_hw271.1 k0_h3
theorem k0_off777_inb : ∀ (i : grid0.Coords) (k0_t5 : Fin k0_t5_loop.trips) (v4099 : BitVec 32) (k0_hw271 : k0_chk271 i k0_t5 v4099), ∀ (k0_h3 : k0_cond3 i = 1#1), ∀ a, (k0_off777 i k0_t5 v4099) a + S1x8x128.size a ≤ S7296x8x128.size a := fun i k0_t5 v4099 k0_hw271 k0_h3 => k0_hw271.2.1 k0_h3
theorem k0_off780_inb : ∀ (i : grid0.Coords) (k0_t5 : Fin k0_t5_loop.trips) (v4099 : BitVec 32) (k0_hw271 : k0_chk271 i k0_t5 v4099), ∀ (k0_h3 : k0_cond3 i = 1#1), ∀ a, (k0_off780 i k0_t5 v4099) a + S1x8x128.size a ≤ S7296x8x128.size a := fun i k0_t5 v4099 k0_hw271 k0_h3 => k0_hw271.2.2.1 k0_h3
theorem k0_off783_inb : ∀ (i : grid0.Coords) (k0_t5 : Fin k0_t5_loop.trips) (v4099 : BitVec 32) (k0_hw271 : k0_chk271 i k0_t5 v4099), ∀ (k0_h3 : k0_cond3 i = 1#1), ∀ a, (k0_off783 i k0_t5 v4099) a + S1x8x128.size a ≤ S7296x8x128.size a := fun i k0_t5 v4099 k0_hw271 k0_h3 => k0_hw271.2.2.2.1 k0_h3
theorem k0_off785_inb : ∀ (i : grid0.Coords) (k0_t5 : Fin k0_t5_loop.trips) (v4099 : BitVec 32) (k0_hw271 : k0_chk271 i k0_t5 v4099), ∀ (k0_h3 : k0_cond3 i = 1#1), ∀ (r : Fin 4), ∀ a, (k0_off785 i k0_t5 v4099 (BitVec.ofNat 32 r.val)) a + S1x8x128.size a ≤ S7296x8x128.size a := fun i k0_t5 v4099 k0_hw271 k0_h3 r => k0_hw271.2.2.2.2 k0_h3 r

def k0_off786 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2002 : BitVec 32 := 38#32
  let v4167 : BitVec 32 := Scalar.muli arg13 c38_i32_2002
  let c17_i32 : BitVec 32 := 17#32
  let v4168 : BitVec 32 := Scalar.addi v4167 c17_i32
  let v4169 : Index := Scalar.indexCast v4168
  ![v4169.toNat]
def k0_off787 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2002 : BitVec 32 := 38#32
  let v4167 : BitVec 32 := Scalar.muli arg13 c38_i32_2002
  let c17_i32 : BitVec 32 := 17#32
  let v4168 : BitVec 32 := Scalar.addi v4167 c17_i32
  let c4_i32_2011 : BitVec 32 := 4#32
  let v4182 : BitVec 32 := Scalar.muli v4168 c4_i32_2011
  let c0_i32_2012 : BitVec 32 := 0#32
  let v4183 : BitVec 32 := Scalar.addi v4182 c0_i32_2012
  let v4184 : Index := Scalar.indexCast v4183
  ![v4184.toNat]
def k0_off788 (i : grid0.Coords) (k0_t5 : Fin k0_t5_loop.trips) (v4170 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2004 : BitVec 32 := 2#32
  let v4173 : BitVec 32 := Scalar.muli v2959 c2_i32_2004
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4171 : BitVec 32 := Scalar.shrui v4170 v2958
  let c1_i32_2003 : BitVec 32 := 1#32
  let v4172 : BitVec 32 := Scalar.andi v4171 c1_i32_2003
  let v4174 : BitVec 32 := Scalar.addi v4173 v4172
  let c1216_i32_2005 : BitVec 32 := 1216#32
  let v4175 : BitVec 32 := Scalar.muli v4174 c1216_i32_2005
  let c0_i32_7 : BitVec 32 := 0#32
  let c1_i32_9 : BitVec 32 := 1#32
  let arg13 : BitVec 32 := Scf.iv c0_i32_7 c1_i32_9 k0_t5
  let c38_i32_2002 : BitVec 32 := 38#32
  let v4167 : BitVec 32 := Scalar.muli arg13 c38_i32_2002
  let c17_i32 : BitVec 32 := 17#32
  let v4168 : BitVec 32 := Scalar.addi v4167 c17_i32
  let c4_i32_2006 : BitVec 32 := 4#32
  let v4176 : BitVec 32 := Scalar.muli v4168 c4_i32_2006
  let v4177 : BitVec 32 := Scalar.addi v4175 v4176
  let c0_i32_2007 : BitVec 32 := 0#32
  let v4178 : BitVec 32 := Scalar.addi v4177 c0_i32_2007
  let v4186 : Index := Scalar.indexCast v4178
  let c0_2013 : Index := 0#32
  let c0_2014 : Index := 0#32
  ![v4186.toNat, 0, 0]

def k0_off789 (v4185 : BitVec 32) : Fin 2 → Nat :=
  let v4189 : Index := Scalar.indexCast v4185
  let c0_2015 : Index := 0#32
  ![v4189.toNat, 0]

def k0_chk277 (i : grid0.Coords) (v4185 : BitVec 32) : Prop :=
  (∀ (k0_h3 : k0_cond3 i = 1#1), ∀ a, (k0_off789 v4185) a + S8x128.size a ≤ S18432x128.size a)
theorem k0_off789_inb : ∀ (i : grid0.Coords) (v4185 : BitVec 32) (k0_hw277 : k0_chk277 i v4185), ∀ (k0_h3 : k0_cond3 i = 1#1), ∀ a, (k0_off789 v4185) a + S8x128.size a ≤ S18432x128.size a := fun i v4185 k0_hw277 k0_h3 => k0_hw277 k0_h3

def k0_off790 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2002 : BitVec 32 := 38#32
  let v4167 : BitVec 32 := Scalar.muli arg13 c38_i32_2002
  let c17_i32 : BitVec 32 := 17#32
  let v4168 : BitVec 32 := Scalar.addi v4167 c17_i32
  let c4_i32_2016 : BitVec 32 := 4#32
  let v4192 : BitVec 32 := Scalar.muli v4168 c4_i32_2016
  let c1_i32_2017 : BitVec 32 := 1#32
  let v4193 : BitVec 32 := Scalar.addi v4192 c1_i32_2017
  let v4194 : Index := Scalar.indexCast v4193
  ![v4194.toNat]
def k0_off791 (i : grid0.Coords) (k0_t5 : Fin k0_t5_loop.trips) (v4170 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2004 : BitVec 32 := 2#32
  let v4173 : BitVec 32 := Scalar.muli v2959 c2_i32_2004
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4171 : BitVec 32 := Scalar.shrui v4170 v2958
  let c1_i32_2003 : BitVec 32 := 1#32
  let v4172 : BitVec 32 := Scalar.andi v4171 c1_i32_2003
  let v4174 : BitVec 32 := Scalar.addi v4173 v4172
  let c1216_i32_2005 : BitVec 32 := 1216#32
  let v4175 : BitVec 32 := Scalar.muli v4174 c1216_i32_2005
  let c0_i32_7 : BitVec 32 := 0#32
  let c1_i32_9 : BitVec 32 := 1#32
  let arg13 : BitVec 32 := Scf.iv c0_i32_7 c1_i32_9 k0_t5
  let c38_i32_2002 : BitVec 32 := 38#32
  let v4167 : BitVec 32 := Scalar.muli arg13 c38_i32_2002
  let c17_i32 : BitVec 32 := 17#32
  let v4168 : BitVec 32 := Scalar.addi v4167 c17_i32
  let c4_i32_2006 : BitVec 32 := 4#32
  let v4176 : BitVec 32 := Scalar.muli v4168 c4_i32_2006
  let v4177 : BitVec 32 := Scalar.addi v4175 v4176
  let c1_i32_2008 : BitVec 32 := 1#32
  let v4179 : BitVec 32 := Scalar.addi v4177 c1_i32_2008
  let v4196 : Index := Scalar.indexCast v4179
  let c0_2018 : Index := 0#32
  let c0_2019 : Index := 0#32
  ![v4196.toNat, 0, 0]
def k0_off792 (v4195 : BitVec 32) : Fin 2 → Nat :=
  let v4199 : Index := Scalar.indexCast v4195
  let c0_2020 : Index := 0#32
  ![v4199.toNat, 0]

def k0_chk278 (i : grid0.Coords) (v4195 : BitVec 32) : Prop :=
  (∀ (k0_h3 : k0_cond3 i = 1#1), ∀ a, (k0_off792 v4195) a + S8x128.size a ≤ S18432x128.size a)
theorem k0_off792_inb : ∀ (i : grid0.Coords) (v4195 : BitVec 32) (k0_hw278 : k0_chk278 i v4195), ∀ (k0_h3 : k0_cond3 i = 1#1), ∀ a, (k0_off792 v4195) a + S8x128.size a ≤ S18432x128.size a := fun i v4195 k0_hw278 k0_h3 => k0_hw278 k0_h3

def k0_off793 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2002 : BitVec 32 := 38#32
  let v4167 : BitVec 32 := Scalar.muli arg13 c38_i32_2002
  let c17_i32 : BitVec 32 := 17#32
  let v4168 : BitVec 32 := Scalar.addi v4167 c17_i32
  let c4_i32_2021 : BitVec 32 := 4#32
  let v4202 : BitVec 32 := Scalar.muli v4168 c4_i32_2021
  let c2_i32_2022 : BitVec 32 := 2#32
  let v4203 : BitVec 32 := Scalar.addi v4202 c2_i32_2022
  let v4204 : Index := Scalar.indexCast v4203
  ![v4204.toNat]
def k0_off794 (i : grid0.Coords) (k0_t5 : Fin k0_t5_loop.trips) (v4170 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2004 : BitVec 32 := 2#32
  let v4173 : BitVec 32 := Scalar.muli v2959 c2_i32_2004
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4171 : BitVec 32 := Scalar.shrui v4170 v2958
  let c1_i32_2003 : BitVec 32 := 1#32
  let v4172 : BitVec 32 := Scalar.andi v4171 c1_i32_2003
  let v4174 : BitVec 32 := Scalar.addi v4173 v4172
  let c1216_i32_2005 : BitVec 32 := 1216#32
  let v4175 : BitVec 32 := Scalar.muli v4174 c1216_i32_2005
  let c0_i32_7 : BitVec 32 := 0#32
  let c1_i32_9 : BitVec 32 := 1#32
  let arg13 : BitVec 32 := Scf.iv c0_i32_7 c1_i32_9 k0_t5
  let c38_i32_2002 : BitVec 32 := 38#32
  let v4167 : BitVec 32 := Scalar.muli arg13 c38_i32_2002
  let c17_i32 : BitVec 32 := 17#32
  let v4168 : BitVec 32 := Scalar.addi v4167 c17_i32
  let c4_i32_2006 : BitVec 32 := 4#32
  let v4176 : BitVec 32 := Scalar.muli v4168 c4_i32_2006
  let v4177 : BitVec 32 := Scalar.addi v4175 v4176
  let c2_i32_2009 : BitVec 32 := 2#32
  let v4180 : BitVec 32 := Scalar.addi v4177 c2_i32_2009
  let v4206 : Index := Scalar.indexCast v4180
  let c0_2023 : Index := 0#32
  let c0_2024 : Index := 0#32
  ![v4206.toNat, 0, 0]
def k0_off795 (v4205 : BitVec 32) : Fin 2 → Nat :=
  let v4209 : Index := Scalar.indexCast v4205
  let c0_2025 : Index := 0#32
  ![v4209.toNat, 0]

def k0_chk279 (i : grid0.Coords) (v4205 : BitVec 32) : Prop :=
  (∀ (k0_h3 : k0_cond3 i = 1#1), ∀ a, (k0_off795 v4205) a + S8x128.size a ≤ S18432x128.size a)
theorem k0_off795_inb : ∀ (i : grid0.Coords) (v4205 : BitVec 32) (k0_hw279 : k0_chk279 i v4205), ∀ (k0_h3 : k0_cond3 i = 1#1), ∀ a, (k0_off795 v4205) a + S8x128.size a ≤ S18432x128.size a := fun i v4205 k0_hw279 k0_h3 => k0_hw279 k0_h3

def k0_off796 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2002 : BitVec 32 := 38#32
  let v4167 : BitVec 32 := Scalar.muli arg13 c38_i32_2002
  let c17_i32 : BitVec 32 := 17#32
  let v4168 : BitVec 32 := Scalar.addi v4167 c17_i32
  let c4_i32_2026 : BitVec 32 := 4#32
  let v4212 : BitVec 32 := Scalar.muli v4168 c4_i32_2026
  let c3_i32_2027 : BitVec 32 := 3#32
  let v4213 : BitVec 32 := Scalar.addi v4212 c3_i32_2027
  let v4214 : Index := Scalar.indexCast v4213
  ![v4214.toNat]
def k0_off797 (i : grid0.Coords) (k0_t5 : Fin k0_t5_loop.trips) (v4170 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2004 : BitVec 32 := 2#32
  let v4173 : BitVec 32 := Scalar.muli v2959 c2_i32_2004
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4171 : BitVec 32 := Scalar.shrui v4170 v2958
  let c1_i32_2003 : BitVec 32 := 1#32
  let v4172 : BitVec 32 := Scalar.andi v4171 c1_i32_2003
  let v4174 : BitVec 32 := Scalar.addi v4173 v4172
  let c1216_i32_2005 : BitVec 32 := 1216#32
  let v4175 : BitVec 32 := Scalar.muli v4174 c1216_i32_2005
  let c0_i32_7 : BitVec 32 := 0#32
  let c1_i32_9 : BitVec 32 := 1#32
  let arg13 : BitVec 32 := Scf.iv c0_i32_7 c1_i32_9 k0_t5
  let c38_i32_2002 : BitVec 32 := 38#32
  let v4167 : BitVec 32 := Scalar.muli arg13 c38_i32_2002
  let c17_i32 : BitVec 32 := 17#32
  let v4168 : BitVec 32 := Scalar.addi v4167 c17_i32
  let c4_i32_2006 : BitVec 32 := 4#32
  let v4176 : BitVec 32 := Scalar.muli v4168 c4_i32_2006
  let v4177 : BitVec 32 := Scalar.addi v4175 v4176
  let c3_i32_2010 : BitVec 32 := 3#32
  let v4181 : BitVec 32 := Scalar.addi v4177 c3_i32_2010
  let v4216 : Index := Scalar.indexCast v4181
  let c0_2028 : Index := 0#32
  let c0_2029 : Index := 0#32
  ![v4216.toNat, 0, 0]
def k0_off798 (v4215 : BitVec 32) : Fin 2 → Nat :=
  let v4219 : Index := Scalar.indexCast v4215
  let c0_2030 : Index := 0#32
  ![v4219.toNat, 0]

def k0_chk280 (i : grid0.Coords) (v4215 : BitVec 32) : Prop :=
  (∀ (k0_h3 : k0_cond3 i = 1#1), ∀ a, (k0_off798 v4215) a + S8x128.size a ≤ S18432x128.size a)
theorem k0_off798_inb : ∀ (i : grid0.Coords) (v4215 : BitVec 32) (k0_hw280 : k0_chk280 i v4215), ∀ (k0_h3 : k0_cond3 i = 1#1), ∀ a, (k0_off798 v4215) a + S8x128.size a ≤ S18432x128.size a := fun i v4215 k0_hw280 k0_h3 => k0_hw280 k0_h3

def k0_off799 (i : grid0.Coords) (k0_t5 : Fin k0_t5_loop.trips) (v4170 : BitVec 32) (c0_i32_2007 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2004 : BitVec 32 := 2#32
  let v4173 : BitVec 32 := Scalar.muli v2959 c2_i32_2004
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4171 : BitVec 32 := Scalar.shrui v4170 v2958
  let c1_i32_2003 : BitVec 32 := 1#32
  let v4172 : BitVec 32 := Scalar.andi v4171 c1_i32_2003
  let v4174 : BitVec 32 := Scalar.addi v4173 v4172
  let c1216_i32_2005 : BitVec 32 := 1216#32
  let v4175 : BitVec 32 := Scalar.muli v4174 c1216_i32_2005
  let c0_i32_7 : BitVec 32 := 0#32
  let c1_i32_9 : BitVec 32 := 1#32
  let arg13 : BitVec 32 := Scf.iv c0_i32_7 c1_i32_9 k0_t5
  let c38_i32_2002 : BitVec 32 := 38#32
  let v4167 : BitVec 32 := Scalar.muli arg13 c38_i32_2002
  let c17_i32 : BitVec 32 := 17#32
  let v4168 : BitVec 32 := Scalar.addi v4167 c17_i32
  let c4_i32_2006 : BitVec 32 := 4#32
  let v4176 : BitVec 32 := Scalar.muli v4168 c4_i32_2006
  let v4177 : BitVec 32 := Scalar.addi v4175 v4176
  let v4178 : BitVec 32 := Scalar.addi v4177 c0_i32_2007
  let v4222 : Index := Scalar.indexCast v4178
  let c0_2031 : Index := 0#32
  let c0_2032 : Index := 0#32
  ![v4222.toNat, 0, 0]

def k0_chk276 (i : grid0.Coords) (k0_t5 : Fin k0_t5_loop.trips) (v4170 : BitVec 32) : Prop :=
  (∀ (k0_h3 : k0_cond3 i = 1#1), ∀ a, (k0_off788 i k0_t5 v4170) a + S1x8x128.size a ≤ S7296x8x128.size a) ∧
  (∀ (k0_h3 : k0_cond3 i = 1#1), ∀ a, (k0_off791 i k0_t5 v4170) a + S1x8x128.size a ≤ S7296x8x128.size a) ∧
  (∀ (k0_h3 : k0_cond3 i = 1#1), ∀ a, (k0_off794 i k0_t5 v4170) a + S1x8x128.size a ≤ S7296x8x128.size a) ∧
  (∀ (k0_h3 : k0_cond3 i = 1#1), ∀ a, (k0_off797 i k0_t5 v4170) a + S1x8x128.size a ≤ S7296x8x128.size a) ∧
  (∀ (k0_h3 : k0_cond3 i = 1#1), ∀ (r : Fin 4), ∀ a, (k0_off799 i k0_t5 v4170 (BitVec.ofNat 32 r.val)) a + S1x8x128.size a ≤ S7296x8x128.size a)
theorem k0_off788_inb : ∀ (i : grid0.Coords) (k0_t5 : Fin k0_t5_loop.trips) (v4170 : BitVec 32) (k0_hw276 : k0_chk276 i k0_t5 v4170), ∀ (k0_h3 : k0_cond3 i = 1#1), ∀ a, (k0_off788 i k0_t5 v4170) a + S1x8x128.size a ≤ S7296x8x128.size a := fun i k0_t5 v4170 k0_hw276 k0_h3 => k0_hw276.1 k0_h3
theorem k0_off791_inb : ∀ (i : grid0.Coords) (k0_t5 : Fin k0_t5_loop.trips) (v4170 : BitVec 32) (k0_hw276 : k0_chk276 i k0_t5 v4170), ∀ (k0_h3 : k0_cond3 i = 1#1), ∀ a, (k0_off791 i k0_t5 v4170) a + S1x8x128.size a ≤ S7296x8x128.size a := fun i k0_t5 v4170 k0_hw276 k0_h3 => k0_hw276.2.1 k0_h3
theorem k0_off794_inb : ∀ (i : grid0.Coords) (k0_t5 : Fin k0_t5_loop.trips) (v4170 : BitVec 32) (k0_hw276 : k0_chk276 i k0_t5 v4170), ∀ (k0_h3 : k0_cond3 i = 1#1), ∀ a, (k0_off794 i k0_t5 v4170) a + S1x8x128.size a ≤ S7296x8x128.size a := fun i k0_t5 v4170 k0_hw276 k0_h3 => k0_hw276.2.2.1 k0_h3
theorem k0_off797_inb : ∀ (i : grid0.Coords) (k0_t5 : Fin k0_t5_loop.trips) (v4170 : BitVec 32) (k0_hw276 : k0_chk276 i k0_t5 v4170), ∀ (k0_h3 : k0_cond3 i = 1#1), ∀ a, (k0_off797 i k0_t5 v4170) a + S1x8x128.size a ≤ S7296x8x128.size a := fun i k0_t5 v4170 k0_hw276 k0_h3 => k0_hw276.2.2.2.1 k0_h3
theorem k0_off799_inb : ∀ (i : grid0.Coords) (k0_t5 : Fin k0_t5_loop.trips) (v4170 : BitVec 32) (k0_hw276 : k0_chk276 i k0_t5 v4170), ∀ (k0_h3 : k0_cond3 i = 1#1), ∀ (r : Fin 4), ∀ a, (k0_off799 i k0_t5 v4170 (BitVec.ofNat 32 r.val)) a + S1x8x128.size a ≤ S7296x8x128.size a := fun i k0_t5 v4170 k0_hw276 k0_h3 r => k0_hw276.2.2.2.2 k0_h3 r

def k0_off800 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2039 : BitVec 32 := 38#32
  let v4238 : BitVec 32 := Scalar.muli arg13 c38_i32_2039
  let c18_i32 : BitVec 32 := 18#32
  let v4239 : BitVec 32 := Scalar.addi v4238 c18_i32
  let v4240 : Index := Scalar.indexCast v4239
  ![v4240.toNat]
def k0_off801 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2039 : BitVec 32 := 38#32
  let v4238 : BitVec 32 := Scalar.muli arg13 c38_i32_2039
  let c18_i32 : BitVec 32 := 18#32
  let v4239 : BitVec 32 := Scalar.addi v4238 c18_i32
  let c4_i32_2048 : BitVec 32 := 4#32
  let v4253 : BitVec 32 := Scalar.muli v4239 c4_i32_2048
  let c0_i32_2049 : BitVec 32 := 0#32
  let v4254 : BitVec 32 := Scalar.addi v4253 c0_i32_2049
  let v4255 : Index := Scalar.indexCast v4254
  ![v4255.toNat]
def k0_off802 (i : grid0.Coords) (k0_t5 : Fin k0_t5_loop.trips) (v4241 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2041 : BitVec 32 := 2#32
  let v4244 : BitVec 32 := Scalar.muli v2959 c2_i32_2041
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4242 : BitVec 32 := Scalar.shrui v4241 v2958
  let c1_i32_2040 : BitVec 32 := 1#32
  let v4243 : BitVec 32 := Scalar.andi v4242 c1_i32_2040
  let v4245 : BitVec 32 := Scalar.addi v4244 v4243
  let c1216_i32_2042 : BitVec 32 := 1216#32
  let v4246 : BitVec 32 := Scalar.muli v4245 c1216_i32_2042
  let c0_i32_7 : BitVec 32 := 0#32
  let c1_i32_9 : BitVec 32 := 1#32
  let arg13 : BitVec 32 := Scf.iv c0_i32_7 c1_i32_9 k0_t5
  let c38_i32_2039 : BitVec 32 := 38#32
  let v4238 : BitVec 32 := Scalar.muli arg13 c38_i32_2039
  let c18_i32 : BitVec 32 := 18#32
  let v4239 : BitVec 32 := Scalar.addi v4238 c18_i32
  let c4_i32_2043 : BitVec 32 := 4#32
  let v4247 : BitVec 32 := Scalar.muli v4239 c4_i32_2043
  let v4248 : BitVec 32 := Scalar.addi v4246 v4247
  let c0_i32_2044 : BitVec 32 := 0#32
  let v4249 : BitVec 32 := Scalar.addi v4248 c0_i32_2044
  let v4257 : Index := Scalar.indexCast v4249
  let c0_2050 : Index := 0#32
  let c0_2051 : Index := 0#32
  ![v4257.toNat, 0, 0]

def k0_off803 (v4256 : BitVec 32) : Fin 2 → Nat :=
  let v4260 : Index := Scalar.indexCast v4256
  let c0_2052 : Index := 0#32
  ![v4260.toNat, 0]

def k0_chk282 (i : grid0.Coords) (v4256 : BitVec 32) : Prop :=
  (∀ (k0_h3 : k0_cond3 i = 1#1), ∀ a, (k0_off803 v4256) a + S8x128.size a ≤ S18432x128.size a)
theorem k0_off803_inb : ∀ (i : grid0.Coords) (v4256 : BitVec 32) (k0_hw282 : k0_chk282 i v4256), ∀ (k0_h3 : k0_cond3 i = 1#1), ∀ a, (k0_off803 v4256) a + S8x128.size a ≤ S18432x128.size a := fun i v4256 k0_hw282 k0_h3 => k0_hw282 k0_h3

def k0_off804 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2039 : BitVec 32 := 38#32
  let v4238 : BitVec 32 := Scalar.muli arg13 c38_i32_2039
  let c18_i32 : BitVec 32 := 18#32
  let v4239 : BitVec 32 := Scalar.addi v4238 c18_i32
  let c4_i32_2053 : BitVec 32 := 4#32
  let v4263 : BitVec 32 := Scalar.muli v4239 c4_i32_2053
  let c1_i32_2054 : BitVec 32 := 1#32
  let v4264 : BitVec 32 := Scalar.addi v4263 c1_i32_2054
  let v4265 : Index := Scalar.indexCast v4264
  ![v4265.toNat]
def k0_off805 (i : grid0.Coords) (k0_t5 : Fin k0_t5_loop.trips) (v4241 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2041 : BitVec 32 := 2#32
  let v4244 : BitVec 32 := Scalar.muli v2959 c2_i32_2041
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4242 : BitVec 32 := Scalar.shrui v4241 v2958
  let c1_i32_2040 : BitVec 32 := 1#32
  let v4243 : BitVec 32 := Scalar.andi v4242 c1_i32_2040
  let v4245 : BitVec 32 := Scalar.addi v4244 v4243
  let c1216_i32_2042 : BitVec 32 := 1216#32
  let v4246 : BitVec 32 := Scalar.muli v4245 c1216_i32_2042
  let c0_i32_7 : BitVec 32 := 0#32
  let c1_i32_9 : BitVec 32 := 1#32
  let arg13 : BitVec 32 := Scf.iv c0_i32_7 c1_i32_9 k0_t5
  let c38_i32_2039 : BitVec 32 := 38#32
  let v4238 : BitVec 32 := Scalar.muli arg13 c38_i32_2039
  let c18_i32 : BitVec 32 := 18#32
  let v4239 : BitVec 32 := Scalar.addi v4238 c18_i32
  let c4_i32_2043 : BitVec 32 := 4#32
  let v4247 : BitVec 32 := Scalar.muli v4239 c4_i32_2043
  let v4248 : BitVec 32 := Scalar.addi v4246 v4247
  let c1_i32_2045 : BitVec 32 := 1#32
  let v4250 : BitVec 32 := Scalar.addi v4248 c1_i32_2045
  let v4267 : Index := Scalar.indexCast v4250
  let c0_2055 : Index := 0#32
  let c0_2056 : Index := 0#32
  ![v4267.toNat, 0, 0]
def k0_off806 (v4266 : BitVec 32) : Fin 2 → Nat :=
  let v4270 : Index := Scalar.indexCast v4266
  let c0_2057 : Index := 0#32
  ![v4270.toNat, 0]

def k0_chk283 (i : grid0.Coords) (v4266 : BitVec 32) : Prop :=
  (∀ (k0_h3 : k0_cond3 i = 1#1), ∀ a, (k0_off806 v4266) a + S8x128.size a ≤ S18432x128.size a)
theorem k0_off806_inb : ∀ (i : grid0.Coords) (v4266 : BitVec 32) (k0_hw283 : k0_chk283 i v4266), ∀ (k0_h3 : k0_cond3 i = 1#1), ∀ a, (k0_off806 v4266) a + S8x128.size a ≤ S18432x128.size a := fun i v4266 k0_hw283 k0_h3 => k0_hw283 k0_h3

def k0_off807 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2039 : BitVec 32 := 38#32
  let v4238 : BitVec 32 := Scalar.muli arg13 c38_i32_2039
  let c18_i32 : BitVec 32 := 18#32
  let v4239 : BitVec 32 := Scalar.addi v4238 c18_i32
  let c4_i32_2058 : BitVec 32 := 4#32
  let v4273 : BitVec 32 := Scalar.muli v4239 c4_i32_2058
  let c2_i32_2059 : BitVec 32 := 2#32
  let v4274 : BitVec 32 := Scalar.addi v4273 c2_i32_2059
  let v4275 : Index := Scalar.indexCast v4274
  ![v4275.toNat]
def k0_off808 (i : grid0.Coords) (k0_t5 : Fin k0_t5_loop.trips) (v4241 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2041 : BitVec 32 := 2#32
  let v4244 : BitVec 32 := Scalar.muli v2959 c2_i32_2041
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4242 : BitVec 32 := Scalar.shrui v4241 v2958
  let c1_i32_2040 : BitVec 32 := 1#32
  let v4243 : BitVec 32 := Scalar.andi v4242 c1_i32_2040
  let v4245 : BitVec 32 := Scalar.addi v4244 v4243
  let c1216_i32_2042 : BitVec 32 := 1216#32
  let v4246 : BitVec 32 := Scalar.muli v4245 c1216_i32_2042
  let c0_i32_7 : BitVec 32 := 0#32
  let c1_i32_9 : BitVec 32 := 1#32
  let arg13 : BitVec 32 := Scf.iv c0_i32_7 c1_i32_9 k0_t5
  let c38_i32_2039 : BitVec 32 := 38#32
  let v4238 : BitVec 32 := Scalar.muli arg13 c38_i32_2039
  let c18_i32 : BitVec 32 := 18#32
  let v4239 : BitVec 32 := Scalar.addi v4238 c18_i32
  let c4_i32_2043 : BitVec 32 := 4#32
  let v4247 : BitVec 32 := Scalar.muli v4239 c4_i32_2043
  let v4248 : BitVec 32 := Scalar.addi v4246 v4247
  let c2_i32_2046 : BitVec 32 := 2#32
  let v4251 : BitVec 32 := Scalar.addi v4248 c2_i32_2046
  let v4277 : Index := Scalar.indexCast v4251
  let c0_2060 : Index := 0#32
  let c0_2061 : Index := 0#32
  ![v4277.toNat, 0, 0]
def k0_off809 (v4276 : BitVec 32) : Fin 2 → Nat :=
  let v4280 : Index := Scalar.indexCast v4276
  let c0_2062 : Index := 0#32
  ![v4280.toNat, 0]

def k0_chk284 (i : grid0.Coords) (v4276 : BitVec 32) : Prop :=
  (∀ (k0_h3 : k0_cond3 i = 1#1), ∀ a, (k0_off809 v4276) a + S8x128.size a ≤ S18432x128.size a)
theorem k0_off809_inb : ∀ (i : grid0.Coords) (v4276 : BitVec 32) (k0_hw284 : k0_chk284 i v4276), ∀ (k0_h3 : k0_cond3 i = 1#1), ∀ a, (k0_off809 v4276) a + S8x128.size a ≤ S18432x128.size a := fun i v4276 k0_hw284 k0_h3 => k0_hw284 k0_h3

def k0_off810 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2039 : BitVec 32 := 38#32
  let v4238 : BitVec 32 := Scalar.muli arg13 c38_i32_2039
  let c18_i32 : BitVec 32 := 18#32
  let v4239 : BitVec 32 := Scalar.addi v4238 c18_i32
  let c4_i32_2063 : BitVec 32 := 4#32
  let v4283 : BitVec 32 := Scalar.muli v4239 c4_i32_2063
  let c3_i32_2064 : BitVec 32 := 3#32
  let v4284 : BitVec 32 := Scalar.addi v4283 c3_i32_2064
  let v4285 : Index := Scalar.indexCast v4284
  ![v4285.toNat]
def k0_off811 (i : grid0.Coords) (k0_t5 : Fin k0_t5_loop.trips) (v4241 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2041 : BitVec 32 := 2#32
  let v4244 : BitVec 32 := Scalar.muli v2959 c2_i32_2041
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4242 : BitVec 32 := Scalar.shrui v4241 v2958
  let c1_i32_2040 : BitVec 32 := 1#32
  let v4243 : BitVec 32 := Scalar.andi v4242 c1_i32_2040
  let v4245 : BitVec 32 := Scalar.addi v4244 v4243
  let c1216_i32_2042 : BitVec 32 := 1216#32
  let v4246 : BitVec 32 := Scalar.muli v4245 c1216_i32_2042
  let c0_i32_7 : BitVec 32 := 0#32
  let c1_i32_9 : BitVec 32 := 1#32
  let arg13 : BitVec 32 := Scf.iv c0_i32_7 c1_i32_9 k0_t5
  let c38_i32_2039 : BitVec 32 := 38#32
  let v4238 : BitVec 32 := Scalar.muli arg13 c38_i32_2039
  let c18_i32 : BitVec 32 := 18#32
  let v4239 : BitVec 32 := Scalar.addi v4238 c18_i32
  let c4_i32_2043 : BitVec 32 := 4#32
  let v4247 : BitVec 32 := Scalar.muli v4239 c4_i32_2043
  let v4248 : BitVec 32 := Scalar.addi v4246 v4247
  let c3_i32_2047 : BitVec 32 := 3#32
  let v4252 : BitVec 32 := Scalar.addi v4248 c3_i32_2047
  let v4287 : Index := Scalar.indexCast v4252
  let c0_2065 : Index := 0#32
  let c0_2066 : Index := 0#32
  ![v4287.toNat, 0, 0]
def k0_off812 (v4286 : BitVec 32) : Fin 2 → Nat :=
  let v4290 : Index := Scalar.indexCast v4286
  let c0_2067 : Index := 0#32
  ![v4290.toNat, 0]

def k0_chk285 (i : grid0.Coords) (v4286 : BitVec 32) : Prop :=
  (∀ (k0_h3 : k0_cond3 i = 1#1), ∀ a, (k0_off812 v4286) a + S8x128.size a ≤ S18432x128.size a)
theorem k0_off812_inb : ∀ (i : grid0.Coords) (v4286 : BitVec 32) (k0_hw285 : k0_chk285 i v4286), ∀ (k0_h3 : k0_cond3 i = 1#1), ∀ a, (k0_off812 v4286) a + S8x128.size a ≤ S18432x128.size a := fun i v4286 k0_hw285 k0_h3 => k0_hw285 k0_h3

def k0_off813 (i : grid0.Coords) (k0_t5 : Fin k0_t5_loop.trips) (v4241 : BitVec 32) (c0_i32_2044 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2041 : BitVec 32 := 2#32
  let v4244 : BitVec 32 := Scalar.muli v2959 c2_i32_2041
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4242 : BitVec 32 := Scalar.shrui v4241 v2958
  let c1_i32_2040 : BitVec 32 := 1#32
  let v4243 : BitVec 32 := Scalar.andi v4242 c1_i32_2040
  let v4245 : BitVec 32 := Scalar.addi v4244 v4243
  let c1216_i32_2042 : BitVec 32 := 1216#32
  let v4246 : BitVec 32 := Scalar.muli v4245 c1216_i32_2042
  let c0_i32_7 : BitVec 32 := 0#32
  let c1_i32_9 : BitVec 32 := 1#32
  let arg13 : BitVec 32 := Scf.iv c0_i32_7 c1_i32_9 k0_t5
  let c38_i32_2039 : BitVec 32 := 38#32
  let v4238 : BitVec 32 := Scalar.muli arg13 c38_i32_2039
  let c18_i32 : BitVec 32 := 18#32
  let v4239 : BitVec 32 := Scalar.addi v4238 c18_i32
  let c4_i32_2043 : BitVec 32 := 4#32
  let v4247 : BitVec 32 := Scalar.muli v4239 c4_i32_2043
  let v4248 : BitVec 32 := Scalar.addi v4246 v4247
  let v4249 : BitVec 32 := Scalar.addi v4248 c0_i32_2044
  let v4293 : Index := Scalar.indexCast v4249
  let c0_2068 : Index := 0#32
  let c0_2069 : Index := 0#32
  ![v4293.toNat, 0, 0]

def k0_chk281 (i : grid0.Coords) (k0_t5 : Fin k0_t5_loop.trips) (v4241 : BitVec 32) : Prop :=
  (∀ (k0_h3 : k0_cond3 i = 1#1), ∀ a, (k0_off802 i k0_t5 v4241) a + S1x8x128.size a ≤ S7296x8x128.size a) ∧
  (∀ (k0_h3 : k0_cond3 i = 1#1), ∀ a, (k0_off805 i k0_t5 v4241) a + S1x8x128.size a ≤ S7296x8x128.size a) ∧
  (∀ (k0_h3 : k0_cond3 i = 1#1), ∀ a, (k0_off808 i k0_t5 v4241) a + S1x8x128.size a ≤ S7296x8x128.size a) ∧
  (∀ (k0_h3 : k0_cond3 i = 1#1), ∀ a, (k0_off811 i k0_t5 v4241) a + S1x8x128.size a ≤ S7296x8x128.size a) ∧
  (∀ (k0_h3 : k0_cond3 i = 1#1), ∀ (r : Fin 4), ∀ a, (k0_off813 i k0_t5 v4241 (BitVec.ofNat 32 r.val)) a + S1x8x128.size a ≤ S7296x8x128.size a)
theorem k0_off802_inb : ∀ (i : grid0.Coords) (k0_t5 : Fin k0_t5_loop.trips) (v4241 : BitVec 32) (k0_hw281 : k0_chk281 i k0_t5 v4241), ∀ (k0_h3 : k0_cond3 i = 1#1), ∀ a, (k0_off802 i k0_t5 v4241) a + S1x8x128.size a ≤ S7296x8x128.size a := fun i k0_t5 v4241 k0_hw281 k0_h3 => k0_hw281.1 k0_h3
theorem k0_off805_inb : ∀ (i : grid0.Coords) (k0_t5 : Fin k0_t5_loop.trips) (v4241 : BitVec 32) (k0_hw281 : k0_chk281 i k0_t5 v4241), ∀ (k0_h3 : k0_cond3 i = 1#1), ∀ a, (k0_off805 i k0_t5 v4241) a + S1x8x128.size a ≤ S7296x8x128.size a := fun i k0_t5 v4241 k0_hw281 k0_h3 => k0_hw281.2.1 k0_h3
theorem k0_off808_inb : ∀ (i : grid0.Coords) (k0_t5 : Fin k0_t5_loop.trips) (v4241 : BitVec 32) (k0_hw281 : k0_chk281 i k0_t5 v4241), ∀ (k0_h3 : k0_cond3 i = 1#1), ∀ a, (k0_off808 i k0_t5 v4241) a + S1x8x128.size a ≤ S7296x8x128.size a := fun i k0_t5 v4241 k0_hw281 k0_h3 => k0_hw281.2.2.1 k0_h3
theorem k0_off811_inb : ∀ (i : grid0.Coords) (k0_t5 : Fin k0_t5_loop.trips) (v4241 : BitVec 32) (k0_hw281 : k0_chk281 i k0_t5 v4241), ∀ (k0_h3 : k0_cond3 i = 1#1), ∀ a, (k0_off811 i k0_t5 v4241) a + S1x8x128.size a ≤ S7296x8x128.size a := fun i k0_t5 v4241 k0_hw281 k0_h3 => k0_hw281.2.2.2.1 k0_h3
theorem k0_off813_inb : ∀ (i : grid0.Coords) (k0_t5 : Fin k0_t5_loop.trips) (v4241 : BitVec 32) (k0_hw281 : k0_chk281 i k0_t5 v4241), ∀ (k0_h3 : k0_cond3 i = 1#1), ∀ (r : Fin 4), ∀ a, (k0_off813 i k0_t5 v4241 (BitVec.ofNat 32 r.val)) a + S1x8x128.size a ≤ S7296x8x128.size a := fun i k0_t5 v4241 k0_hw281 k0_h3 r => k0_hw281.2.2.2.2 k0_h3 r

def k0_off814 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2076 : BitVec 32 := 38#32
  let v4309 : BitVec 32 := Scalar.muli arg13 c38_i32_2076
  let c19_i32 : BitVec 32 := 19#32
  let v4310 : BitVec 32 := Scalar.addi v4309 c19_i32
  let v4311 : Index := Scalar.indexCast v4310
  ![v4311.toNat]
def k0_off815 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2076 : BitVec 32 := 38#32
  let v4309 : BitVec 32 := Scalar.muli arg13 c38_i32_2076
  let c19_i32 : BitVec 32 := 19#32
  let v4310 : BitVec 32 := Scalar.addi v4309 c19_i32
  let c4_i32_2085 : BitVec 32 := 4#32
  let v4324 : BitVec 32 := Scalar.muli v4310 c4_i32_2085
  let c0_i32_2086 : BitVec 32 := 0#32
  let v4325 : BitVec 32 := Scalar.addi v4324 c0_i32_2086
  let v4326 : Index := Scalar.indexCast v4325
  ![v4326.toNat]
def k0_off816 (i : grid0.Coords) (k0_t5 : Fin k0_t5_loop.trips) (v4312 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2078 : BitVec 32 := 2#32
  let v4315 : BitVec 32 := Scalar.muli v2959 c2_i32_2078
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4313 : BitVec 32 := Scalar.shrui v4312 v2958
  let c1_i32_2077 : BitVec 32 := 1#32
  let v4314 : BitVec 32 := Scalar.andi v4313 c1_i32_2077
  let v4316 : BitVec 32 := Scalar.addi v4315 v4314
  let c1216_i32_2079 : BitVec 32 := 1216#32
  let v4317 : BitVec 32 := Scalar.muli v4316 c1216_i32_2079
  let c0_i32_7 : BitVec 32 := 0#32
  let c1_i32_9 : BitVec 32 := 1#32
  let arg13 : BitVec 32 := Scf.iv c0_i32_7 c1_i32_9 k0_t5
  let c38_i32_2076 : BitVec 32 := 38#32
  let v4309 : BitVec 32 := Scalar.muli arg13 c38_i32_2076
  let c19_i32 : BitVec 32 := 19#32
  let v4310 : BitVec 32 := Scalar.addi v4309 c19_i32
  let c4_i32_2080 : BitVec 32 := 4#32
  let v4318 : BitVec 32 := Scalar.muli v4310 c4_i32_2080
  let v4319 : BitVec 32 := Scalar.addi v4317 v4318
  let c0_i32_2081 : BitVec 32 := 0#32
  let v4320 : BitVec 32 := Scalar.addi v4319 c0_i32_2081
  let v4328 : Index := Scalar.indexCast v4320
  let c0_2087 : Index := 0#32
  let c0_2088 : Index := 0#32
  ![v4328.toNat, 0, 0]

def k0_off817 (v4327 : BitVec 32) : Fin 2 → Nat :=
  let v4331 : Index := Scalar.indexCast v4327
  let c0_2089 : Index := 0#32
  ![v4331.toNat, 0]

def k0_chk287 (i : grid0.Coords) (v4327 : BitVec 32) : Prop :=
  (∀ (k0_h3 : k0_cond3 i = 1#1), ∀ a, (k0_off817 v4327) a + S8x128.size a ≤ S18432x128.size a)
theorem k0_off817_inb : ∀ (i : grid0.Coords) (v4327 : BitVec 32) (k0_hw287 : k0_chk287 i v4327), ∀ (k0_h3 : k0_cond3 i = 1#1), ∀ a, (k0_off817 v4327) a + S8x128.size a ≤ S18432x128.size a := fun i v4327 k0_hw287 k0_h3 => k0_hw287 k0_h3

def k0_off818 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2076 : BitVec 32 := 38#32
  let v4309 : BitVec 32 := Scalar.muli arg13 c38_i32_2076
  let c19_i32 : BitVec 32 := 19#32
  let v4310 : BitVec 32 := Scalar.addi v4309 c19_i32
  let c4_i32_2090 : BitVec 32 := 4#32
  let v4334 : BitVec 32 := Scalar.muli v4310 c4_i32_2090
  let c1_i32_2091 : BitVec 32 := 1#32
  let v4335 : BitVec 32 := Scalar.addi v4334 c1_i32_2091
  let v4336 : Index := Scalar.indexCast v4335
  ![v4336.toNat]
def k0_off819 (i : grid0.Coords) (k0_t5 : Fin k0_t5_loop.trips) (v4312 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2078 : BitVec 32 := 2#32
  let v4315 : BitVec 32 := Scalar.muli v2959 c2_i32_2078
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4313 : BitVec 32 := Scalar.shrui v4312 v2958
  let c1_i32_2077 : BitVec 32 := 1#32
  let v4314 : BitVec 32 := Scalar.andi v4313 c1_i32_2077
  let v4316 : BitVec 32 := Scalar.addi v4315 v4314
  let c1216_i32_2079 : BitVec 32 := 1216#32
  let v4317 : BitVec 32 := Scalar.muli v4316 c1216_i32_2079
  let c0_i32_7 : BitVec 32 := 0#32
  let c1_i32_9 : BitVec 32 := 1#32
  let arg13 : BitVec 32 := Scf.iv c0_i32_7 c1_i32_9 k0_t5
  let c38_i32_2076 : BitVec 32 := 38#32
  let v4309 : BitVec 32 := Scalar.muli arg13 c38_i32_2076
  let c19_i32 : BitVec 32 := 19#32
  let v4310 : BitVec 32 := Scalar.addi v4309 c19_i32
  let c4_i32_2080 : BitVec 32 := 4#32
  let v4318 : BitVec 32 := Scalar.muli v4310 c4_i32_2080
  let v4319 : BitVec 32 := Scalar.addi v4317 v4318
  let c1_i32_2082 : BitVec 32 := 1#32
  let v4321 : BitVec 32 := Scalar.addi v4319 c1_i32_2082
  let v4338 : Index := Scalar.indexCast v4321
  let c0_2092 : Index := 0#32
  let c0_2093 : Index := 0#32
  ![v4338.toNat, 0, 0]
def k0_off820 (v4337 : BitVec 32) : Fin 2 → Nat :=
  let v4341 : Index := Scalar.indexCast v4337
  let c0_2094 : Index := 0#32
  ![v4341.toNat, 0]

def k0_chk288 (i : grid0.Coords) (v4337 : BitVec 32) : Prop :=
  (∀ (k0_h3 : k0_cond3 i = 1#1), ∀ a, (k0_off820 v4337) a + S8x128.size a ≤ S18432x128.size a)
theorem k0_off820_inb : ∀ (i : grid0.Coords) (v4337 : BitVec 32) (k0_hw288 : k0_chk288 i v4337), ∀ (k0_h3 : k0_cond3 i = 1#1), ∀ a, (k0_off820 v4337) a + S8x128.size a ≤ S18432x128.size a := fun i v4337 k0_hw288 k0_h3 => k0_hw288 k0_h3

def k0_off821 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2076 : BitVec 32 := 38#32
  let v4309 : BitVec 32 := Scalar.muli arg13 c38_i32_2076
  let c19_i32 : BitVec 32 := 19#32
  let v4310 : BitVec 32 := Scalar.addi v4309 c19_i32
  let c4_i32_2095 : BitVec 32 := 4#32
  let v4344 : BitVec 32 := Scalar.muli v4310 c4_i32_2095
  let c2_i32_2096 : BitVec 32 := 2#32
  let v4345 : BitVec 32 := Scalar.addi v4344 c2_i32_2096
  let v4346 : Index := Scalar.indexCast v4345
  ![v4346.toNat]
def k0_off822 (i : grid0.Coords) (k0_t5 : Fin k0_t5_loop.trips) (v4312 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2078 : BitVec 32 := 2#32
  let v4315 : BitVec 32 := Scalar.muli v2959 c2_i32_2078
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4313 : BitVec 32 := Scalar.shrui v4312 v2958
  let c1_i32_2077 : BitVec 32 := 1#32
  let v4314 : BitVec 32 := Scalar.andi v4313 c1_i32_2077
  let v4316 : BitVec 32 := Scalar.addi v4315 v4314
  let c1216_i32_2079 : BitVec 32 := 1216#32
  let v4317 : BitVec 32 := Scalar.muli v4316 c1216_i32_2079
  let c0_i32_7 : BitVec 32 := 0#32
  let c1_i32_9 : BitVec 32 := 1#32
  let arg13 : BitVec 32 := Scf.iv c0_i32_7 c1_i32_9 k0_t5
  let c38_i32_2076 : BitVec 32 := 38#32
  let v4309 : BitVec 32 := Scalar.muli arg13 c38_i32_2076
  let c19_i32 : BitVec 32 := 19#32
  let v4310 : BitVec 32 := Scalar.addi v4309 c19_i32
  let c4_i32_2080 : BitVec 32 := 4#32
  let v4318 : BitVec 32 := Scalar.muli v4310 c4_i32_2080
  let v4319 : BitVec 32 := Scalar.addi v4317 v4318
  let c2_i32_2083 : BitVec 32 := 2#32
  let v4322 : BitVec 32 := Scalar.addi v4319 c2_i32_2083
  let v4348 : Index := Scalar.indexCast v4322
  let c0_2097 : Index := 0#32
  let c0_2098 : Index := 0#32
  ![v4348.toNat, 0, 0]
def k0_off823 (v4347 : BitVec 32) : Fin 2 → Nat :=
  let v4351 : Index := Scalar.indexCast v4347
  let c0_2099 : Index := 0#32
  ![v4351.toNat, 0]

def k0_chk289 (i : grid0.Coords) (v4347 : BitVec 32) : Prop :=
  (∀ (k0_h3 : k0_cond3 i = 1#1), ∀ a, (k0_off823 v4347) a + S8x128.size a ≤ S18432x128.size a)
theorem k0_off823_inb : ∀ (i : grid0.Coords) (v4347 : BitVec 32) (k0_hw289 : k0_chk289 i v4347), ∀ (k0_h3 : k0_cond3 i = 1#1), ∀ a, (k0_off823 v4347) a + S8x128.size a ≤ S18432x128.size a := fun i v4347 k0_hw289 k0_h3 => k0_hw289 k0_h3

def k0_off824 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2076 : BitVec 32 := 38#32
  let v4309 : BitVec 32 := Scalar.muli arg13 c38_i32_2076
  let c19_i32 : BitVec 32 := 19#32
  let v4310 : BitVec 32 := Scalar.addi v4309 c19_i32
  let c4_i32_2100 : BitVec 32 := 4#32
  let v4354 : BitVec 32 := Scalar.muli v4310 c4_i32_2100
  let c3_i32_2101 : BitVec 32 := 3#32
  let v4355 : BitVec 32 := Scalar.addi v4354 c3_i32_2101
  let v4356 : Index := Scalar.indexCast v4355
  ![v4356.toNat]
def k0_off825 (i : grid0.Coords) (k0_t5 : Fin k0_t5_loop.trips) (v4312 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2078 : BitVec 32 := 2#32
  let v4315 : BitVec 32 := Scalar.muli v2959 c2_i32_2078
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4313 : BitVec 32 := Scalar.shrui v4312 v2958
  let c1_i32_2077 : BitVec 32 := 1#32
  let v4314 : BitVec 32 := Scalar.andi v4313 c1_i32_2077
  let v4316 : BitVec 32 := Scalar.addi v4315 v4314
  let c1216_i32_2079 : BitVec 32 := 1216#32
  let v4317 : BitVec 32 := Scalar.muli v4316 c1216_i32_2079
  let c0_i32_7 : BitVec 32 := 0#32
  let c1_i32_9 : BitVec 32 := 1#32
  let arg13 : BitVec 32 := Scf.iv c0_i32_7 c1_i32_9 k0_t5
  let c38_i32_2076 : BitVec 32 := 38#32
  let v4309 : BitVec 32 := Scalar.muli arg13 c38_i32_2076
  let c19_i32 : BitVec 32 := 19#32
  let v4310 : BitVec 32 := Scalar.addi v4309 c19_i32
  let c4_i32_2080 : BitVec 32 := 4#32
  let v4318 : BitVec 32 := Scalar.muli v4310 c4_i32_2080
  let v4319 : BitVec 32 := Scalar.addi v4317 v4318
  let c3_i32_2084 : BitVec 32 := 3#32
  let v4323 : BitVec 32 := Scalar.addi v4319 c3_i32_2084
  let v4358 : Index := Scalar.indexCast v4323
  let c0_2102 : Index := 0#32
  let c0_2103 : Index := 0#32
  ![v4358.toNat, 0, 0]
def k0_off826 (v4357 : BitVec 32) : Fin 2 → Nat :=
  let v4361 : Index := Scalar.indexCast v4357
  let c0_2104 : Index := 0#32
  ![v4361.toNat, 0]

def k0_chk290 (i : grid0.Coords) (v4357 : BitVec 32) : Prop :=
  (∀ (k0_h3 : k0_cond3 i = 1#1), ∀ a, (k0_off826 v4357) a + S8x128.size a ≤ S18432x128.size a)
theorem k0_off826_inb : ∀ (i : grid0.Coords) (v4357 : BitVec 32) (k0_hw290 : k0_chk290 i v4357), ∀ (k0_h3 : k0_cond3 i = 1#1), ∀ a, (k0_off826 v4357) a + S8x128.size a ≤ S18432x128.size a := fun i v4357 k0_hw290 k0_h3 => k0_hw290 k0_h3

def k0_off827 (i : grid0.Coords) (k0_t5 : Fin k0_t5_loop.trips) (v4312 : BitVec 32) (c0_i32_2081 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2078 : BitVec 32 := 2#32
  let v4315 : BitVec 32 := Scalar.muli v2959 c2_i32_2078
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4313 : BitVec 32 := Scalar.shrui v4312 v2958
  let c1_i32_2077 : BitVec 32 := 1#32
  let v4314 : BitVec 32 := Scalar.andi v4313 c1_i32_2077
  let v4316 : BitVec 32 := Scalar.addi v4315 v4314
  let c1216_i32_2079 : BitVec 32 := 1216#32
  let v4317 : BitVec 32 := Scalar.muli v4316 c1216_i32_2079
  let c0_i32_7 : BitVec 32 := 0#32
  let c1_i32_9 : BitVec 32 := 1#32
  let arg13 : BitVec 32 := Scf.iv c0_i32_7 c1_i32_9 k0_t5
  let c38_i32_2076 : BitVec 32 := 38#32
  let v4309 : BitVec 32 := Scalar.muli arg13 c38_i32_2076
  let c19_i32 : BitVec 32 := 19#32
  let v4310 : BitVec 32 := Scalar.addi v4309 c19_i32
  let c4_i32_2080 : BitVec 32 := 4#32
  let v4318 : BitVec 32 := Scalar.muli v4310 c4_i32_2080
  let v4319 : BitVec 32 := Scalar.addi v4317 v4318
  let v4320 : BitVec 32 := Scalar.addi v4319 c0_i32_2081
  let v4364 : Index := Scalar.indexCast v4320
  let c0_2105 : Index := 0#32
  let c0_2106 : Index := 0#32
  ![v4364.toNat, 0, 0]

def k0_chk286 (i : grid0.Coords) (k0_t5 : Fin k0_t5_loop.trips) (v4312 : BitVec 32) : Prop :=
  (∀ (k0_h3 : k0_cond3 i = 1#1), ∀ a, (k0_off816 i k0_t5 v4312) a + S1x8x128.size a ≤ S7296x8x128.size a) ∧
  (∀ (k0_h3 : k0_cond3 i = 1#1), ∀ a, (k0_off819 i k0_t5 v4312) a + S1x8x128.size a ≤ S7296x8x128.size a) ∧
  (∀ (k0_h3 : k0_cond3 i = 1#1), ∀ a, (k0_off822 i k0_t5 v4312) a + S1x8x128.size a ≤ S7296x8x128.size a) ∧
  (∀ (k0_h3 : k0_cond3 i = 1#1), ∀ a, (k0_off825 i k0_t5 v4312) a + S1x8x128.size a ≤ S7296x8x128.size a) ∧
  (∀ (k0_h3 : k0_cond3 i = 1#1), ∀ (r : Fin 4), ∀ a, (k0_off827 i k0_t5 v4312 (BitVec.ofNat 32 r.val)) a + S1x8x128.size a ≤ S7296x8x128.size a)
theorem k0_off816_inb : ∀ (i : grid0.Coords) (k0_t5 : Fin k0_t5_loop.trips) (v4312 : BitVec 32) (k0_hw286 : k0_chk286 i k0_t5 v4312), ∀ (k0_h3 : k0_cond3 i = 1#1), ∀ a, (k0_off816 i k0_t5 v4312) a + S1x8x128.size a ≤ S7296x8x128.size a := fun i k0_t5 v4312 k0_hw286 k0_h3 => k0_hw286.1 k0_h3
theorem k0_off819_inb : ∀ (i : grid0.Coords) (k0_t5 : Fin k0_t5_loop.trips) (v4312 : BitVec 32) (k0_hw286 : k0_chk286 i k0_t5 v4312), ∀ (k0_h3 : k0_cond3 i = 1#1), ∀ a, (k0_off819 i k0_t5 v4312) a + S1x8x128.size a ≤ S7296x8x128.size a := fun i k0_t5 v4312 k0_hw286 k0_h3 => k0_hw286.2.1 k0_h3
theorem k0_off822_inb : ∀ (i : grid0.Coords) (k0_t5 : Fin k0_t5_loop.trips) (v4312 : BitVec 32) (k0_hw286 : k0_chk286 i k0_t5 v4312), ∀ (k0_h3 : k0_cond3 i = 1#1), ∀ a, (k0_off822 i k0_t5 v4312) a + S1x8x128.size a ≤ S7296x8x128.size a := fun i k0_t5 v4312 k0_hw286 k0_h3 => k0_hw286.2.2.1 k0_h3
theorem k0_off825_inb : ∀ (i : grid0.Coords) (k0_t5 : Fin k0_t5_loop.trips) (v4312 : BitVec 32) (k0_hw286 : k0_chk286 i k0_t5 v4312), ∀ (k0_h3 : k0_cond3 i = 1#1), ∀ a, (k0_off825 i k0_t5 v4312) a + S1x8x128.size a ≤ S7296x8x128.size a := fun i k0_t5 v4312 k0_hw286 k0_h3 => k0_hw286.2.2.2.1 k0_h3
theorem k0_off827_inb : ∀ (i : grid0.Coords) (k0_t5 : Fin k0_t5_loop.trips) (v4312 : BitVec 32) (k0_hw286 : k0_chk286 i k0_t5 v4312), ∀ (k0_h3 : k0_cond3 i = 1#1), ∀ (r : Fin 4), ∀ a, (k0_off827 i k0_t5 v4312 (BitVec.ofNat 32 r.val)) a + S1x8x128.size a ≤ S7296x8x128.size a := fun i k0_t5 v4312 k0_hw286 k0_h3 r => k0_hw286.2.2.2.2 k0_h3 r

def k0_off828 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2113 : BitVec 32 := 38#32
  let v4380 : BitVec 32 := Scalar.muli arg13 c38_i32_2113
  let c20_i32 : BitVec 32 := 20#32
  let v4381 : BitVec 32 := Scalar.addi v4380 c20_i32
  let v4382 : Index := Scalar.indexCast v4381
  ![v4382.toNat]
def k0_off829 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2113 : BitVec 32 := 38#32
  let v4380 : BitVec 32 := Scalar.muli arg13 c38_i32_2113
  let c20_i32 : BitVec 32 := 20#32
  let v4381 : BitVec 32 := Scalar.addi v4380 c20_i32
  let c4_i32_2122 : BitVec 32 := 4#32
  let v4395 : BitVec 32 := Scalar.muli v4381 c4_i32_2122
  let c0_i32_2123 : BitVec 32 := 0#32
  let v4396 : BitVec 32 := Scalar.addi v4395 c0_i32_2123
  let v4397 : Index := Scalar.indexCast v4396
  ![v4397.toNat]
def k0_off830 (i : grid0.Coords) (k0_t5 : Fin k0_t5_loop.trips) (v4383 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2115 : BitVec 32 := 2#32
  let v4386 : BitVec 32 := Scalar.muli v2959 c2_i32_2115
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4384 : BitVec 32 := Scalar.shrui v4383 v2958
  let c1_i32_2114 : BitVec 32 := 1#32
  let v4385 : BitVec 32 := Scalar.andi v4384 c1_i32_2114
  let v4387 : BitVec 32 := Scalar.addi v4386 v4385
  let c1216_i32_2116 : BitVec 32 := 1216#32
  let v4388 : BitVec 32 := Scalar.muli v4387 c1216_i32_2116
  let c0_i32_7 : BitVec 32 := 0#32
  let c1_i32_9 : BitVec 32 := 1#32
  let arg13 : BitVec 32 := Scf.iv c0_i32_7 c1_i32_9 k0_t5
  let c38_i32_2113 : BitVec 32 := 38#32
  let v4380 : BitVec 32 := Scalar.muli arg13 c38_i32_2113
  let c20_i32 : BitVec 32 := 20#32
  let v4381 : BitVec 32 := Scalar.addi v4380 c20_i32
  let c4_i32_2117 : BitVec 32 := 4#32
  let v4389 : BitVec 32 := Scalar.muli v4381 c4_i32_2117
  let v4390 : BitVec 32 := Scalar.addi v4388 v4389
  let c0_i32_2118 : BitVec 32 := 0#32
  let v4391 : BitVec 32 := Scalar.addi v4390 c0_i32_2118
  let v4399 : Index := Scalar.indexCast v4391
  let c0_2124 : Index := 0#32
  let c0_2125 : Index := 0#32
  ![v4399.toNat, 0, 0]

def k0_off831 (v4398 : BitVec 32) : Fin 2 → Nat :=
  let v4402 : Index := Scalar.indexCast v4398
  let c0_2126 : Index := 0#32
  ![v4402.toNat, 0]

def k0_chk292 (i : grid0.Coords) (v4398 : BitVec 32) : Prop :=
  (∀ (k0_h3 : k0_cond3 i = 1#1), ∀ a, (k0_off831 v4398) a + S8x128.size a ≤ S18432x128.size a)
theorem k0_off831_inb : ∀ (i : grid0.Coords) (v4398 : BitVec 32) (k0_hw292 : k0_chk292 i v4398), ∀ (k0_h3 : k0_cond3 i = 1#1), ∀ a, (k0_off831 v4398) a + S8x128.size a ≤ S18432x128.size a := fun i v4398 k0_hw292 k0_h3 => k0_hw292 k0_h3

def k0_off832 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2113 : BitVec 32 := 38#32
  let v4380 : BitVec 32 := Scalar.muli arg13 c38_i32_2113
  let c20_i32 : BitVec 32 := 20#32
  let v4381 : BitVec 32 := Scalar.addi v4380 c20_i32
  let c4_i32_2127 : BitVec 32 := 4#32
  let v4405 : BitVec 32 := Scalar.muli v4381 c4_i32_2127
  let c1_i32_2128 : BitVec 32 := 1#32
  let v4406 : BitVec 32 := Scalar.addi v4405 c1_i32_2128
  let v4407 : Index := Scalar.indexCast v4406
  ![v4407.toNat]
def k0_off833 (i : grid0.Coords) (k0_t5 : Fin k0_t5_loop.trips) (v4383 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2115 : BitVec 32 := 2#32
  let v4386 : BitVec 32 := Scalar.muli v2959 c2_i32_2115
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4384 : BitVec 32 := Scalar.shrui v4383 v2958
  let c1_i32_2114 : BitVec 32 := 1#32
  let v4385 : BitVec 32 := Scalar.andi v4384 c1_i32_2114
  let v4387 : BitVec 32 := Scalar.addi v4386 v4385
  let c1216_i32_2116 : BitVec 32 := 1216#32
  let v4388 : BitVec 32 := Scalar.muli v4387 c1216_i32_2116
  let c0_i32_7 : BitVec 32 := 0#32
  let c1_i32_9 : BitVec 32 := 1#32
  let arg13 : BitVec 32 := Scf.iv c0_i32_7 c1_i32_9 k0_t5
  let c38_i32_2113 : BitVec 32 := 38#32
  let v4380 : BitVec 32 := Scalar.muli arg13 c38_i32_2113
  let c20_i32 : BitVec 32 := 20#32
  let v4381 : BitVec 32 := Scalar.addi v4380 c20_i32
  let c4_i32_2117 : BitVec 32 := 4#32
  let v4389 : BitVec 32 := Scalar.muli v4381 c4_i32_2117
  let v4390 : BitVec 32 := Scalar.addi v4388 v4389
  let c1_i32_2119 : BitVec 32 := 1#32
  let v4392 : BitVec 32 := Scalar.addi v4390 c1_i32_2119
  let v4409 : Index := Scalar.indexCast v4392
  let c0_2129 : Index := 0#32
  let c0_2130 : Index := 0#32
  ![v4409.toNat, 0, 0]
def k0_off834 (v4408 : BitVec 32) : Fin 2 → Nat :=
  let v4412 : Index := Scalar.indexCast v4408
  let c0_2131 : Index := 0#32
  ![v4412.toNat, 0]

def k0_chk293 (i : grid0.Coords) (v4408 : BitVec 32) : Prop :=
  (∀ (k0_h3 : k0_cond3 i = 1#1), ∀ a, (k0_off834 v4408) a + S8x128.size a ≤ S18432x128.size a)
theorem k0_off834_inb : ∀ (i : grid0.Coords) (v4408 : BitVec 32) (k0_hw293 : k0_chk293 i v4408), ∀ (k0_h3 : k0_cond3 i = 1#1), ∀ a, (k0_off834 v4408) a + S8x128.size a ≤ S18432x128.size a := fun i v4408 k0_hw293 k0_h3 => k0_hw293 k0_h3

def k0_off835 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2113 : BitVec 32 := 38#32
  let v4380 : BitVec 32 := Scalar.muli arg13 c38_i32_2113
  let c20_i32 : BitVec 32 := 20#32
  let v4381 : BitVec 32 := Scalar.addi v4380 c20_i32
  let c4_i32_2132 : BitVec 32 := 4#32
  let v4415 : BitVec 32 := Scalar.muli v4381 c4_i32_2132
  let c2_i32_2133 : BitVec 32 := 2#32
  let v4416 : BitVec 32 := Scalar.addi v4415 c2_i32_2133
  let v4417 : Index := Scalar.indexCast v4416
  ![v4417.toNat]
def k0_off836 (i : grid0.Coords) (k0_t5 : Fin k0_t5_loop.trips) (v4383 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2115 : BitVec 32 := 2#32
  let v4386 : BitVec 32 := Scalar.muli v2959 c2_i32_2115
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4384 : BitVec 32 := Scalar.shrui v4383 v2958
  let c1_i32_2114 : BitVec 32 := 1#32
  let v4385 : BitVec 32 := Scalar.andi v4384 c1_i32_2114
  let v4387 : BitVec 32 := Scalar.addi v4386 v4385
  let c1216_i32_2116 : BitVec 32 := 1216#32
  let v4388 : BitVec 32 := Scalar.muli v4387 c1216_i32_2116
  let c0_i32_7 : BitVec 32 := 0#32
  let c1_i32_9 : BitVec 32 := 1#32
  let arg13 : BitVec 32 := Scf.iv c0_i32_7 c1_i32_9 k0_t5
  let c38_i32_2113 : BitVec 32 := 38#32
  let v4380 : BitVec 32 := Scalar.muli arg13 c38_i32_2113
  let c20_i32 : BitVec 32 := 20#32
  let v4381 : BitVec 32 := Scalar.addi v4380 c20_i32
  let c4_i32_2117 : BitVec 32 := 4#32
  let v4389 : BitVec 32 := Scalar.muli v4381 c4_i32_2117
  let v4390 : BitVec 32 := Scalar.addi v4388 v4389
  let c2_i32_2120 : BitVec 32 := 2#32
  let v4393 : BitVec 32 := Scalar.addi v4390 c2_i32_2120
  let v4419 : Index := Scalar.indexCast v4393
  let c0_2134 : Index := 0#32
  let c0_2135 : Index := 0#32
  ![v4419.toNat, 0, 0]
def k0_off837 (v4418 : BitVec 32) : Fin 2 → Nat :=
  let v4422 : Index := Scalar.indexCast v4418
  let c0_2136 : Index := 0#32
  ![v4422.toNat, 0]

def k0_chk294 (i : grid0.Coords) (v4418 : BitVec 32) : Prop :=
  (∀ (k0_h3 : k0_cond3 i = 1#1), ∀ a, (k0_off837 v4418) a + S8x128.size a ≤ S18432x128.size a)
theorem k0_off837_inb : ∀ (i : grid0.Coords) (v4418 : BitVec 32) (k0_hw294 : k0_chk294 i v4418), ∀ (k0_h3 : k0_cond3 i = 1#1), ∀ a, (k0_off837 v4418) a + S8x128.size a ≤ S18432x128.size a := fun i v4418 k0_hw294 k0_h3 => k0_hw294 k0_h3

def k0_off838 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2113 : BitVec 32 := 38#32
  let v4380 : BitVec 32 := Scalar.muli arg13 c38_i32_2113
  let c20_i32 : BitVec 32 := 20#32
  let v4381 : BitVec 32 := Scalar.addi v4380 c20_i32
  let c4_i32_2137 : BitVec 32 := 4#32
  let v4425 : BitVec 32 := Scalar.muli v4381 c4_i32_2137
  let c3_i32_2138 : BitVec 32 := 3#32
  let v4426 : BitVec 32 := Scalar.addi v4425 c3_i32_2138
  let v4427 : Index := Scalar.indexCast v4426
  ![v4427.toNat]
def k0_off839 (i : grid0.Coords) (k0_t5 : Fin k0_t5_loop.trips) (v4383 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2115 : BitVec 32 := 2#32
  let v4386 : BitVec 32 := Scalar.muli v2959 c2_i32_2115
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4384 : BitVec 32 := Scalar.shrui v4383 v2958
  let c1_i32_2114 : BitVec 32 := 1#32
  let v4385 : BitVec 32 := Scalar.andi v4384 c1_i32_2114
  let v4387 : BitVec 32 := Scalar.addi v4386 v4385
  let c1216_i32_2116 : BitVec 32 := 1216#32
  let v4388 : BitVec 32 := Scalar.muli v4387 c1216_i32_2116
  let c0_i32_7 : BitVec 32 := 0#32
  let c1_i32_9 : BitVec 32 := 1#32
  let arg13 : BitVec 32 := Scf.iv c0_i32_7 c1_i32_9 k0_t5
  let c38_i32_2113 : BitVec 32 := 38#32
  let v4380 : BitVec 32 := Scalar.muli arg13 c38_i32_2113
  let c20_i32 : BitVec 32 := 20#32
  let v4381 : BitVec 32 := Scalar.addi v4380 c20_i32
  let c4_i32_2117 : BitVec 32 := 4#32
  let v4389 : BitVec 32 := Scalar.muli v4381 c4_i32_2117
  let v4390 : BitVec 32 := Scalar.addi v4388 v4389
  let c3_i32_2121 : BitVec 32 := 3#32
  let v4394 : BitVec 32 := Scalar.addi v4390 c3_i32_2121
  let v4429 : Index := Scalar.indexCast v4394
  let c0_2139 : Index := 0#32
  let c0_2140 : Index := 0#32
  ![v4429.toNat, 0, 0]
def k0_off840 (v4428 : BitVec 32) : Fin 2 → Nat :=
  let v4432 : Index := Scalar.indexCast v4428
  let c0_2141 : Index := 0#32
  ![v4432.toNat, 0]

def k0_chk295 (i : grid0.Coords) (v4428 : BitVec 32) : Prop :=
  (∀ (k0_h3 : k0_cond3 i = 1#1), ∀ a, (k0_off840 v4428) a + S8x128.size a ≤ S18432x128.size a)
theorem k0_off840_inb : ∀ (i : grid0.Coords) (v4428 : BitVec 32) (k0_hw295 : k0_chk295 i v4428), ∀ (k0_h3 : k0_cond3 i = 1#1), ∀ a, (k0_off840 v4428) a + S8x128.size a ≤ S18432x128.size a := fun i v4428 k0_hw295 k0_h3 => k0_hw295 k0_h3

def k0_off841 (i : grid0.Coords) (k0_t5 : Fin k0_t5_loop.trips) (v4383 : BitVec 32) (c0_i32_2118 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2115 : BitVec 32 := 2#32
  let v4386 : BitVec 32 := Scalar.muli v2959 c2_i32_2115
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4384 : BitVec 32 := Scalar.shrui v4383 v2958
  let c1_i32_2114 : BitVec 32 := 1#32
  let v4385 : BitVec 32 := Scalar.andi v4384 c1_i32_2114
  let v4387 : BitVec 32 := Scalar.addi v4386 v4385
  let c1216_i32_2116 : BitVec 32 := 1216#32
  let v4388 : BitVec 32 := Scalar.muli v4387 c1216_i32_2116
  let c0_i32_7 : BitVec 32 := 0#32
  let c1_i32_9 : BitVec 32 := 1#32
  let arg13 : BitVec 32 := Scf.iv c0_i32_7 c1_i32_9 k0_t5
  let c38_i32_2113 : BitVec 32 := 38#32
  let v4380 : BitVec 32 := Scalar.muli arg13 c38_i32_2113
  let c20_i32 : BitVec 32 := 20#32
  let v4381 : BitVec 32 := Scalar.addi v4380 c20_i32
  let c4_i32_2117 : BitVec 32 := 4#32
  let v4389 : BitVec 32 := Scalar.muli v4381 c4_i32_2117
  let v4390 : BitVec 32 := Scalar.addi v4388 v4389
  let v4391 : BitVec 32 := Scalar.addi v4390 c0_i32_2118
  let v4435 : Index := Scalar.indexCast v4391
  let c0_2142 : Index := 0#32
  let c0_2143 : Index := 0#32
  ![v4435.toNat, 0, 0]

def k0_chk291 (i : grid0.Coords) (k0_t5 : Fin k0_t5_loop.trips) (v4383 : BitVec 32) : Prop :=
  (∀ (k0_h3 : k0_cond3 i = 1#1), ∀ a, (k0_off830 i k0_t5 v4383) a + S1x8x128.size a ≤ S7296x8x128.size a) ∧
  (∀ (k0_h3 : k0_cond3 i = 1#1), ∀ a, (k0_off833 i k0_t5 v4383) a + S1x8x128.size a ≤ S7296x8x128.size a) ∧
  (∀ (k0_h3 : k0_cond3 i = 1#1), ∀ a, (k0_off836 i k0_t5 v4383) a + S1x8x128.size a ≤ S7296x8x128.size a) ∧
  (∀ (k0_h3 : k0_cond3 i = 1#1), ∀ a, (k0_off839 i k0_t5 v4383) a + S1x8x128.size a ≤ S7296x8x128.size a) ∧
  (∀ (k0_h3 : k0_cond3 i = 1#1), ∀ (r : Fin 4), ∀ a, (k0_off841 i k0_t5 v4383 (BitVec.ofNat 32 r.val)) a + S1x8x128.size a ≤ S7296x8x128.size a)
theorem k0_off830_inb : ∀ (i : grid0.Coords) (k0_t5 : Fin k0_t5_loop.trips) (v4383 : BitVec 32) (k0_hw291 : k0_chk291 i k0_t5 v4383), ∀ (k0_h3 : k0_cond3 i = 1#1), ∀ a, (k0_off830 i k0_t5 v4383) a + S1x8x128.size a ≤ S7296x8x128.size a := fun i k0_t5 v4383 k0_hw291 k0_h3 => k0_hw291.1 k0_h3
theorem k0_off833_inb : ∀ (i : grid0.Coords) (k0_t5 : Fin k0_t5_loop.trips) (v4383 : BitVec 32) (k0_hw291 : k0_chk291 i k0_t5 v4383), ∀ (k0_h3 : k0_cond3 i = 1#1), ∀ a, (k0_off833 i k0_t5 v4383) a + S1x8x128.size a ≤ S7296x8x128.size a := fun i k0_t5 v4383 k0_hw291 k0_h3 => k0_hw291.2.1 k0_h3
theorem k0_off836_inb : ∀ (i : grid0.Coords) (k0_t5 : Fin k0_t5_loop.trips) (v4383 : BitVec 32) (k0_hw291 : k0_chk291 i k0_t5 v4383), ∀ (k0_h3 : k0_cond3 i = 1#1), ∀ a, (k0_off836 i k0_t5 v4383) a + S1x8x128.size a ≤ S7296x8x128.size a := fun i k0_t5 v4383 k0_hw291 k0_h3 => k0_hw291.2.2.1 k0_h3
theorem k0_off839_inb : ∀ (i : grid0.Coords) (k0_t5 : Fin k0_t5_loop.trips) (v4383 : BitVec 32) (k0_hw291 : k0_chk291 i k0_t5 v4383), ∀ (k0_h3 : k0_cond3 i = 1#1), ∀ a, (k0_off839 i k0_t5 v4383) a + S1x8x128.size a ≤ S7296x8x128.size a := fun i k0_t5 v4383 k0_hw291 k0_h3 => k0_hw291.2.2.2.1 k0_h3
theorem k0_off841_inb : ∀ (i : grid0.Coords) (k0_t5 : Fin k0_t5_loop.trips) (v4383 : BitVec 32) (k0_hw291 : k0_chk291 i k0_t5 v4383), ∀ (k0_h3 : k0_cond3 i = 1#1), ∀ (r : Fin 4), ∀ a, (k0_off841 i k0_t5 v4383 (BitVec.ofNat 32 r.val)) a + S1x8x128.size a ≤ S7296x8x128.size a := fun i k0_t5 v4383 k0_hw291 k0_h3 r => k0_hw291.2.2.2.2 k0_h3 r

def k0_off842 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2150 : BitVec 32 := 38#32
  let v4451 : BitVec 32 := Scalar.muli arg13 c38_i32_2150
  let c21_i32 : BitVec 32 := 21#32
  let v4452 : BitVec 32 := Scalar.addi v4451 c21_i32
  let v4453 : Index := Scalar.indexCast v4452
  ![v4453.toNat]
def k0_off843 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2150 : BitVec 32 := 38#32
  let v4451 : BitVec 32 := Scalar.muli arg13 c38_i32_2150
  let c21_i32 : BitVec 32 := 21#32
  let v4452 : BitVec 32 := Scalar.addi v4451 c21_i32
  let c4_i32_2159 : BitVec 32 := 4#32
  let v4466 : BitVec 32 := Scalar.muli v4452 c4_i32_2159
  let c0_i32_2160 : BitVec 32 := 0#32
  let v4467 : BitVec 32 := Scalar.addi v4466 c0_i32_2160
  let v4468 : Index := Scalar.indexCast v4467
  ![v4468.toNat]
def k0_off844 (i : grid0.Coords) (k0_t5 : Fin k0_t5_loop.trips) (v4454 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2152 : BitVec 32 := 2#32
  let v4457 : BitVec 32 := Scalar.muli v2959 c2_i32_2152
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4455 : BitVec 32 := Scalar.shrui v4454 v2958
  let c1_i32_2151 : BitVec 32 := 1#32
  let v4456 : BitVec 32 := Scalar.andi v4455 c1_i32_2151
  let v4458 : BitVec 32 := Scalar.addi v4457 v4456
  let c1216_i32_2153 : BitVec 32 := 1216#32
  let v4459 : BitVec 32 := Scalar.muli v4458 c1216_i32_2153
  let c0_i32_7 : BitVec 32 := 0#32
  let c1_i32_9 : BitVec 32 := 1#32
  let arg13 : BitVec 32 := Scf.iv c0_i32_7 c1_i32_9 k0_t5
  let c38_i32_2150 : BitVec 32 := 38#32
  let v4451 : BitVec 32 := Scalar.muli arg13 c38_i32_2150
  let c21_i32 : BitVec 32 := 21#32
  let v4452 : BitVec 32 := Scalar.addi v4451 c21_i32
  let c4_i32_2154 : BitVec 32 := 4#32
  let v4460 : BitVec 32 := Scalar.muli v4452 c4_i32_2154
  let v4461 : BitVec 32 := Scalar.addi v4459 v4460
  let c0_i32_2155 : BitVec 32 := 0#32
  let v4462 : BitVec 32 := Scalar.addi v4461 c0_i32_2155
  let v4470 : Index := Scalar.indexCast v4462
  let c0_2161 : Index := 0#32
  let c0_2162 : Index := 0#32
  ![v4470.toNat, 0, 0]

def k0_off845 (v4469 : BitVec 32) : Fin 2 → Nat :=
  let v4473 : Index := Scalar.indexCast v4469
  let c0_2163 : Index := 0#32
  ![v4473.toNat, 0]

def k0_chk297 (i : grid0.Coords) (v4469 : BitVec 32) : Prop :=
  (∀ (k0_h3 : k0_cond3 i = 1#1), ∀ a, (k0_off845 v4469) a + S8x128.size a ≤ S18432x128.size a)
theorem k0_off845_inb : ∀ (i : grid0.Coords) (v4469 : BitVec 32) (k0_hw297 : k0_chk297 i v4469), ∀ (k0_h3 : k0_cond3 i = 1#1), ∀ a, (k0_off845 v4469) a + S8x128.size a ≤ S18432x128.size a := fun i v4469 k0_hw297 k0_h3 => k0_hw297 k0_h3

def k0_off846 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2150 : BitVec 32 := 38#32
  let v4451 : BitVec 32 := Scalar.muli arg13 c38_i32_2150
  let c21_i32 : BitVec 32 := 21#32
  let v4452 : BitVec 32 := Scalar.addi v4451 c21_i32
  let c4_i32_2164 : BitVec 32 := 4#32
  let v4476 : BitVec 32 := Scalar.muli v4452 c4_i32_2164
  let c1_i32_2165 : BitVec 32 := 1#32
  let v4477 : BitVec 32 := Scalar.addi v4476 c1_i32_2165
  let v4478 : Index := Scalar.indexCast v4477
  ![v4478.toNat]
def k0_off847 (i : grid0.Coords) (k0_t5 : Fin k0_t5_loop.trips) (v4454 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2152 : BitVec 32 := 2#32
  let v4457 : BitVec 32 := Scalar.muli v2959 c2_i32_2152
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4455 : BitVec 32 := Scalar.shrui v4454 v2958
  let c1_i32_2151 : BitVec 32 := 1#32
  let v4456 : BitVec 32 := Scalar.andi v4455 c1_i32_2151
  let v4458 : BitVec 32 := Scalar.addi v4457 v4456
  let c1216_i32_2153 : BitVec 32 := 1216#32
  let v4459 : BitVec 32 := Scalar.muli v4458 c1216_i32_2153
  let c0_i32_7 : BitVec 32 := 0#32
  let c1_i32_9 : BitVec 32 := 1#32
  let arg13 : BitVec 32 := Scf.iv c0_i32_7 c1_i32_9 k0_t5
  let c38_i32_2150 : BitVec 32 := 38#32
  let v4451 : BitVec 32 := Scalar.muli arg13 c38_i32_2150
  let c21_i32 : BitVec 32 := 21#32
  let v4452 : BitVec 32 := Scalar.addi v4451 c21_i32
  let c4_i32_2154 : BitVec 32 := 4#32
  let v4460 : BitVec 32 := Scalar.muli v4452 c4_i32_2154
  let v4461 : BitVec 32 := Scalar.addi v4459 v4460
  let c1_i32_2156 : BitVec 32 := 1#32
  let v4463 : BitVec 32 := Scalar.addi v4461 c1_i32_2156
  let v4480 : Index := Scalar.indexCast v4463
  let c0_2166 : Index := 0#32
  let c0_2167 : Index := 0#32
  ![v4480.toNat, 0, 0]
def k0_off848 (v4479 : BitVec 32) : Fin 2 → Nat :=
  let v4483 : Index := Scalar.indexCast v4479
  let c0_2168 : Index := 0#32
  ![v4483.toNat, 0]

def k0_chk298 (i : grid0.Coords) (v4479 : BitVec 32) : Prop :=
  (∀ (k0_h3 : k0_cond3 i = 1#1), ∀ a, (k0_off848 v4479) a + S8x128.size a ≤ S18432x128.size a)
theorem k0_off848_inb : ∀ (i : grid0.Coords) (v4479 : BitVec 32) (k0_hw298 : k0_chk298 i v4479), ∀ (k0_h3 : k0_cond3 i = 1#1), ∀ a, (k0_off848 v4479) a + S8x128.size a ≤ S18432x128.size a := fun i v4479 k0_hw298 k0_h3 => k0_hw298 k0_h3

def k0_off849 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2150 : BitVec 32 := 38#32
  let v4451 : BitVec 32 := Scalar.muli arg13 c38_i32_2150
  let c21_i32 : BitVec 32 := 21#32
  let v4452 : BitVec 32 := Scalar.addi v4451 c21_i32
  let c4_i32_2169 : BitVec 32 := 4#32
  let v4486 : BitVec 32 := Scalar.muli v4452 c4_i32_2169
  let c2_i32_2170 : BitVec 32 := 2#32
  let v4487 : BitVec 32 := Scalar.addi v4486 c2_i32_2170
  let v4488 : Index := Scalar.indexCast v4487
  ![v4488.toNat]
def k0_off850 (i : grid0.Coords) (k0_t5 : Fin k0_t5_loop.trips) (v4454 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2152 : BitVec 32 := 2#32
  let v4457 : BitVec 32 := Scalar.muli v2959 c2_i32_2152
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4455 : BitVec 32 := Scalar.shrui v4454 v2958
  let c1_i32_2151 : BitVec 32 := 1#32
  let v4456 : BitVec 32 := Scalar.andi v4455 c1_i32_2151
  let v4458 : BitVec 32 := Scalar.addi v4457 v4456
  let c1216_i32_2153 : BitVec 32 := 1216#32
  let v4459 : BitVec 32 := Scalar.muli v4458 c1216_i32_2153
  let c0_i32_7 : BitVec 32 := 0#32
  let c1_i32_9 : BitVec 32 := 1#32
  let arg13 : BitVec 32 := Scf.iv c0_i32_7 c1_i32_9 k0_t5
  let c38_i32_2150 : BitVec 32 := 38#32
  let v4451 : BitVec 32 := Scalar.muli arg13 c38_i32_2150
  let c21_i32 : BitVec 32 := 21#32
  let v4452 : BitVec 32 := Scalar.addi v4451 c21_i32
  let c4_i32_2154 : BitVec 32 := 4#32
  let v4460 : BitVec 32 := Scalar.muli v4452 c4_i32_2154
  let v4461 : BitVec 32 := Scalar.addi v4459 v4460
  let c2_i32_2157 : BitVec 32 := 2#32
  let v4464 : BitVec 32 := Scalar.addi v4461 c2_i32_2157
  let v4490 : Index := Scalar.indexCast v4464
  let c0_2171 : Index := 0#32
  let c0_2172 : Index := 0#32
  ![v4490.toNat, 0, 0]
def k0_off851 (v4489 : BitVec 32) : Fin 2 → Nat :=
  let v4493 : Index := Scalar.indexCast v4489
  let c0_2173 : Index := 0#32
  ![v4493.toNat, 0]

def k0_chk299 (i : grid0.Coords) (v4489 : BitVec 32) : Prop :=
  (∀ (k0_h3 : k0_cond3 i = 1#1), ∀ a, (k0_off851 v4489) a + S8x128.size a ≤ S18432x128.size a)
theorem k0_off851_inb : ∀ (i : grid0.Coords) (v4489 : BitVec 32) (k0_hw299 : k0_chk299 i v4489), ∀ (k0_h3 : k0_cond3 i = 1#1), ∀ a, (k0_off851 v4489) a + S8x128.size a ≤ S18432x128.size a := fun i v4489 k0_hw299 k0_h3 => k0_hw299 k0_h3

def k0_off852 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2150 : BitVec 32 := 38#32
  let v4451 : BitVec 32 := Scalar.muli arg13 c38_i32_2150
  let c21_i32 : BitVec 32 := 21#32
  let v4452 : BitVec 32 := Scalar.addi v4451 c21_i32
  let c4_i32_2174 : BitVec 32 := 4#32
  let v4496 : BitVec 32 := Scalar.muli v4452 c4_i32_2174
  let c3_i32_2175 : BitVec 32 := 3#32
  let v4497 : BitVec 32 := Scalar.addi v4496 c3_i32_2175
  let v4498 : Index := Scalar.indexCast v4497
  ![v4498.toNat]
def k0_off853 (i : grid0.Coords) (k0_t5 : Fin k0_t5_loop.trips) (v4454 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2152 : BitVec 32 := 2#32
  let v4457 : BitVec 32 := Scalar.muli v2959 c2_i32_2152
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4455 : BitVec 32 := Scalar.shrui v4454 v2958
  let c1_i32_2151 : BitVec 32 := 1#32
  let v4456 : BitVec 32 := Scalar.andi v4455 c1_i32_2151
  let v4458 : BitVec 32 := Scalar.addi v4457 v4456
  let c1216_i32_2153 : BitVec 32 := 1216#32
  let v4459 : BitVec 32 := Scalar.muli v4458 c1216_i32_2153
  let c0_i32_7 : BitVec 32 := 0#32
  let c1_i32_9 : BitVec 32 := 1#32
  let arg13 : BitVec 32 := Scf.iv c0_i32_7 c1_i32_9 k0_t5
  let c38_i32_2150 : BitVec 32 := 38#32
  let v4451 : BitVec 32 := Scalar.muli arg13 c38_i32_2150
  let c21_i32 : BitVec 32 := 21#32
  let v4452 : BitVec 32 := Scalar.addi v4451 c21_i32
  let c4_i32_2154 : BitVec 32 := 4#32
  let v4460 : BitVec 32 := Scalar.muli v4452 c4_i32_2154
  let v4461 : BitVec 32 := Scalar.addi v4459 v4460
  let c3_i32_2158 : BitVec 32 := 3#32
  let v4465 : BitVec 32 := Scalar.addi v4461 c3_i32_2158
  let v4500 : Index := Scalar.indexCast v4465
  let c0_2176 : Index := 0#32
  let c0_2177 : Index := 0#32
  ![v4500.toNat, 0, 0]
def k0_off854 (v4499 : BitVec 32) : Fin 2 → Nat :=
  let v4503 : Index := Scalar.indexCast v4499
  let c0_2178 : Index := 0#32
  ![v4503.toNat, 0]

def k0_chk300 (i : grid0.Coords) (v4499 : BitVec 32) : Prop :=
  (∀ (k0_h3 : k0_cond3 i = 1#1), ∀ a, (k0_off854 v4499) a + S8x128.size a ≤ S18432x128.size a)
theorem k0_off854_inb : ∀ (i : grid0.Coords) (v4499 : BitVec 32) (k0_hw300 : k0_chk300 i v4499), ∀ (k0_h3 : k0_cond3 i = 1#1), ∀ a, (k0_off854 v4499) a + S8x128.size a ≤ S18432x128.size a := fun i v4499 k0_hw300 k0_h3 => k0_hw300 k0_h3

def k0_off855 (i : grid0.Coords) (k0_t5 : Fin k0_t5_loop.trips) (v4454 : BitVec 32) (c0_i32_2155 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2152 : BitVec 32 := 2#32
  let v4457 : BitVec 32 := Scalar.muli v2959 c2_i32_2152
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4455 : BitVec 32 := Scalar.shrui v4454 v2958
  let c1_i32_2151 : BitVec 32 := 1#32
  let v4456 : BitVec 32 := Scalar.andi v4455 c1_i32_2151
  let v4458 : BitVec 32 := Scalar.addi v4457 v4456
  let c1216_i32_2153 : BitVec 32 := 1216#32
  let v4459 : BitVec 32 := Scalar.muli v4458 c1216_i32_2153
  let c0_i32_7 : BitVec 32 := 0#32
  let c1_i32_9 : BitVec 32 := 1#32
  let arg13 : BitVec 32 := Scf.iv c0_i32_7 c1_i32_9 k0_t5
  let c38_i32_2150 : BitVec 32 := 38#32
  let v4451 : BitVec 32 := Scalar.muli arg13 c38_i32_2150
  let c21_i32 : BitVec 32 := 21#32
  let v4452 : BitVec 32 := Scalar.addi v4451 c21_i32
  let c4_i32_2154 : BitVec 32 := 4#32
  let v4460 : BitVec 32 := Scalar.muli v4452 c4_i32_2154
  let v4461 : BitVec 32 := Scalar.addi v4459 v4460
  let v4462 : BitVec 32 := Scalar.addi v4461 c0_i32_2155
  let v4506 : Index := Scalar.indexCast v4462
  let c0_2179 : Index := 0#32
  let c0_2180 : Index := 0#32
  ![v4506.toNat, 0, 0]

def k0_chk296 (i : grid0.Coords) (k0_t5 : Fin k0_t5_loop.trips) (v4454 : BitVec 32) : Prop :=
  (∀ (k0_h3 : k0_cond3 i = 1#1), ∀ a, (k0_off844 i k0_t5 v4454) a + S1x8x128.size a ≤ S7296x8x128.size a) ∧
  (∀ (k0_h3 : k0_cond3 i = 1#1), ∀ a, (k0_off847 i k0_t5 v4454) a + S1x8x128.size a ≤ S7296x8x128.size a) ∧
  (∀ (k0_h3 : k0_cond3 i = 1#1), ∀ a, (k0_off850 i k0_t5 v4454) a + S1x8x128.size a ≤ S7296x8x128.size a) ∧
  (∀ (k0_h3 : k0_cond3 i = 1#1), ∀ a, (k0_off853 i k0_t5 v4454) a + S1x8x128.size a ≤ S7296x8x128.size a) ∧
  (∀ (k0_h3 : k0_cond3 i = 1#1), ∀ (r : Fin 4), ∀ a, (k0_off855 i k0_t5 v4454 (BitVec.ofNat 32 r.val)) a + S1x8x128.size a ≤ S7296x8x128.size a)
theorem k0_off844_inb : ∀ (i : grid0.Coords) (k0_t5 : Fin k0_t5_loop.trips) (v4454 : BitVec 32) (k0_hw296 : k0_chk296 i k0_t5 v4454), ∀ (k0_h3 : k0_cond3 i = 1#1), ∀ a, (k0_off844 i k0_t5 v4454) a + S1x8x128.size a ≤ S7296x8x128.size a := fun i k0_t5 v4454 k0_hw296 k0_h3 => k0_hw296.1 k0_h3
theorem k0_off847_inb : ∀ (i : grid0.Coords) (k0_t5 : Fin k0_t5_loop.trips) (v4454 : BitVec 32) (k0_hw296 : k0_chk296 i k0_t5 v4454), ∀ (k0_h3 : k0_cond3 i = 1#1), ∀ a, (k0_off847 i k0_t5 v4454) a + S1x8x128.size a ≤ S7296x8x128.size a := fun i k0_t5 v4454 k0_hw296 k0_h3 => k0_hw296.2.1 k0_h3
theorem k0_off850_inb : ∀ (i : grid0.Coords) (k0_t5 : Fin k0_t5_loop.trips) (v4454 : BitVec 32) (k0_hw296 : k0_chk296 i k0_t5 v4454), ∀ (k0_h3 : k0_cond3 i = 1#1), ∀ a, (k0_off850 i k0_t5 v4454) a + S1x8x128.size a ≤ S7296x8x128.size a := fun i k0_t5 v4454 k0_hw296 k0_h3 => k0_hw296.2.2.1 k0_h3
theorem k0_off853_inb : ∀ (i : grid0.Coords) (k0_t5 : Fin k0_t5_loop.trips) (v4454 : BitVec 32) (k0_hw296 : k0_chk296 i k0_t5 v4454), ∀ (k0_h3 : k0_cond3 i = 1#1), ∀ a, (k0_off853 i k0_t5 v4454) a + S1x8x128.size a ≤ S7296x8x128.size a := fun i k0_t5 v4454 k0_hw296 k0_h3 => k0_hw296.2.2.2.1 k0_h3
theorem k0_off855_inb : ∀ (i : grid0.Coords) (k0_t5 : Fin k0_t5_loop.trips) (v4454 : BitVec 32) (k0_hw296 : k0_chk296 i k0_t5 v4454), ∀ (k0_h3 : k0_cond3 i = 1#1), ∀ (r : Fin 4), ∀ a, (k0_off855 i k0_t5 v4454 (BitVec.ofNat 32 r.val)) a + S1x8x128.size a ≤ S7296x8x128.size a := fun i k0_t5 v4454 k0_hw296 k0_h3 r => k0_hw296.2.2.2.2 k0_h3 r

def k0_off856 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2187 : BitVec 32 := 38#32
  let v4522 : BitVec 32 := Scalar.muli arg13 c38_i32_2187
  let c22_i32 : BitVec 32 := 22#32
  let v4523 : BitVec 32 := Scalar.addi v4522 c22_i32
  let v4524 : Index := Scalar.indexCast v4523
  ![v4524.toNat]
def k0_off857 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2187 : BitVec 32 := 38#32
  let v4522 : BitVec 32 := Scalar.muli arg13 c38_i32_2187
  let c22_i32 : BitVec 32 := 22#32
  let v4523 : BitVec 32 := Scalar.addi v4522 c22_i32
  let c4_i32_2196 : BitVec 32 := 4#32
  let v4537 : BitVec 32 := Scalar.muli v4523 c4_i32_2196
  let c0_i32_2197 : BitVec 32 := 0#32
  let v4538 : BitVec 32 := Scalar.addi v4537 c0_i32_2197
  let v4539 : Index := Scalar.indexCast v4538
  ![v4539.toNat]
def k0_off858 (i : grid0.Coords) (k0_t5 : Fin k0_t5_loop.trips) (v4525 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2189 : BitVec 32 := 2#32
  let v4528 : BitVec 32 := Scalar.muli v2959 c2_i32_2189
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4526 : BitVec 32 := Scalar.shrui v4525 v2958
  let c1_i32_2188 : BitVec 32 := 1#32
  let v4527 : BitVec 32 := Scalar.andi v4526 c1_i32_2188
  let v4529 : BitVec 32 := Scalar.addi v4528 v4527
  let c1216_i32_2190 : BitVec 32 := 1216#32
  let v4530 : BitVec 32 := Scalar.muli v4529 c1216_i32_2190
  let c0_i32_7 : BitVec 32 := 0#32
  let c1_i32_9 : BitVec 32 := 1#32
  let arg13 : BitVec 32 := Scf.iv c0_i32_7 c1_i32_9 k0_t5
  let c38_i32_2187 : BitVec 32 := 38#32
  let v4522 : BitVec 32 := Scalar.muli arg13 c38_i32_2187
  let c22_i32 : BitVec 32 := 22#32
  let v4523 : BitVec 32 := Scalar.addi v4522 c22_i32
  let c4_i32_2191 : BitVec 32 := 4#32
  let v4531 : BitVec 32 := Scalar.muli v4523 c4_i32_2191
  let v4532 : BitVec 32 := Scalar.addi v4530 v4531
  let c0_i32_2192 : BitVec 32 := 0#32
  let v4533 : BitVec 32 := Scalar.addi v4532 c0_i32_2192
  let v4541 : Index := Scalar.indexCast v4533
  let c0_2198 : Index := 0#32
  let c0_2199 : Index := 0#32
  ![v4541.toNat, 0, 0]

def k0_off859 (v4540 : BitVec 32) : Fin 2 → Nat :=
  let v4544 : Index := Scalar.indexCast v4540
  let c0_2200 : Index := 0#32
  ![v4544.toNat, 0]

def k0_chk302 (i : grid0.Coords) (v4540 : BitVec 32) : Prop :=
  (∀ (k0_h3 : k0_cond3 i = 1#1), ∀ a, (k0_off859 v4540) a + S8x128.size a ≤ S18432x128.size a)
theorem k0_off859_inb : ∀ (i : grid0.Coords) (v4540 : BitVec 32) (k0_hw302 : k0_chk302 i v4540), ∀ (k0_h3 : k0_cond3 i = 1#1), ∀ a, (k0_off859 v4540) a + S8x128.size a ≤ S18432x128.size a := fun i v4540 k0_hw302 k0_h3 => k0_hw302 k0_h3

def k0_off860 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2187 : BitVec 32 := 38#32
  let v4522 : BitVec 32 := Scalar.muli arg13 c38_i32_2187
  let c22_i32 : BitVec 32 := 22#32
  let v4523 : BitVec 32 := Scalar.addi v4522 c22_i32
  let c4_i32_2201 : BitVec 32 := 4#32
  let v4547 : BitVec 32 := Scalar.muli v4523 c4_i32_2201
  let c1_i32_2202 : BitVec 32 := 1#32
  let v4548 : BitVec 32 := Scalar.addi v4547 c1_i32_2202
  let v4549 : Index := Scalar.indexCast v4548
  ![v4549.toNat]
def k0_off861 (i : grid0.Coords) (k0_t5 : Fin k0_t5_loop.trips) (v4525 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2189 : BitVec 32 := 2#32
  let v4528 : BitVec 32 := Scalar.muli v2959 c2_i32_2189
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4526 : BitVec 32 := Scalar.shrui v4525 v2958
  let c1_i32_2188 : BitVec 32 := 1#32
  let v4527 : BitVec 32 := Scalar.andi v4526 c1_i32_2188
  let v4529 : BitVec 32 := Scalar.addi v4528 v4527
  let c1216_i32_2190 : BitVec 32 := 1216#32
  let v4530 : BitVec 32 := Scalar.muli v4529 c1216_i32_2190
  let c0_i32_7 : BitVec 32 := 0#32
  let c1_i32_9 : BitVec 32 := 1#32
  let arg13 : BitVec 32 := Scf.iv c0_i32_7 c1_i32_9 k0_t5
  let c38_i32_2187 : BitVec 32 := 38#32
  let v4522 : BitVec 32 := Scalar.muli arg13 c38_i32_2187
  let c22_i32 : BitVec 32 := 22#32
  let v4523 : BitVec 32 := Scalar.addi v4522 c22_i32
  let c4_i32_2191 : BitVec 32 := 4#32
  let v4531 : BitVec 32 := Scalar.muli v4523 c4_i32_2191
  let v4532 : BitVec 32 := Scalar.addi v4530 v4531
  let c1_i32_2193 : BitVec 32 := 1#32
  let v4534 : BitVec 32 := Scalar.addi v4532 c1_i32_2193
  let v4551 : Index := Scalar.indexCast v4534
  let c0_2203 : Index := 0#32
  let c0_2204 : Index := 0#32
  ![v4551.toNat, 0, 0]
def k0_off862 (v4550 : BitVec 32) : Fin 2 → Nat :=
  let v4554 : Index := Scalar.indexCast v4550
  let c0_2205 : Index := 0#32
  ![v4554.toNat, 0]

def k0_chk303 (i : grid0.Coords) (v4550 : BitVec 32) : Prop :=
  (∀ (k0_h3 : k0_cond3 i = 1#1), ∀ a, (k0_off862 v4550) a + S8x128.size a ≤ S18432x128.size a)
theorem k0_off862_inb : ∀ (i : grid0.Coords) (v4550 : BitVec 32) (k0_hw303 : k0_chk303 i v4550), ∀ (k0_h3 : k0_cond3 i = 1#1), ∀ a, (k0_off862 v4550) a + S8x128.size a ≤ S18432x128.size a := fun i v4550 k0_hw303 k0_h3 => k0_hw303 k0_h3

def k0_off863 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2187 : BitVec 32 := 38#32
  let v4522 : BitVec 32 := Scalar.muli arg13 c38_i32_2187
  let c22_i32 : BitVec 32 := 22#32
  let v4523 : BitVec 32 := Scalar.addi v4522 c22_i32
  let c4_i32_2206 : BitVec 32 := 4#32
  let v4557 : BitVec 32 := Scalar.muli v4523 c4_i32_2206
  let c2_i32_2207 : BitVec 32 := 2#32
  let v4558 : BitVec 32 := Scalar.addi v4557 c2_i32_2207
  let v4559 : Index := Scalar.indexCast v4558
  ![v4559.toNat]
def k0_off864 (i : grid0.Coords) (k0_t5 : Fin k0_t5_loop.trips) (v4525 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2189 : BitVec 32 := 2#32
  let v4528 : BitVec 32 := Scalar.muli v2959 c2_i32_2189
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4526 : BitVec 32 := Scalar.shrui v4525 v2958
  let c1_i32_2188 : BitVec 32 := 1#32
  let v4527 : BitVec 32 := Scalar.andi v4526 c1_i32_2188
  let v4529 : BitVec 32 := Scalar.addi v4528 v4527
  let c1216_i32_2190 : BitVec 32 := 1216#32
  let v4530 : BitVec 32 := Scalar.muli v4529 c1216_i32_2190
  let c0_i32_7 : BitVec 32 := 0#32
  let c1_i32_9 : BitVec 32 := 1#32
  let arg13 : BitVec 32 := Scf.iv c0_i32_7 c1_i32_9 k0_t5
  let c38_i32_2187 : BitVec 32 := 38#32
  let v4522 : BitVec 32 := Scalar.muli arg13 c38_i32_2187
  let c22_i32 : BitVec 32 := 22#32
  let v4523 : BitVec 32 := Scalar.addi v4522 c22_i32
  let c4_i32_2191 : BitVec 32 := 4#32
  let v4531 : BitVec 32 := Scalar.muli v4523 c4_i32_2191
  let v4532 : BitVec 32 := Scalar.addi v4530 v4531
  let c2_i32_2194 : BitVec 32 := 2#32
  let v4535 : BitVec 32 := Scalar.addi v4532 c2_i32_2194
  let v4561 : Index := Scalar.indexCast v4535
  let c0_2208 : Index := 0#32
  let c0_2209 : Index := 0#32
  ![v4561.toNat, 0, 0]
def k0_off865 (v4560 : BitVec 32) : Fin 2 → Nat :=
  let v4564 : Index := Scalar.indexCast v4560
  let c0_2210 : Index := 0#32
  ![v4564.toNat, 0]

def k0_chk304 (i : grid0.Coords) (v4560 : BitVec 32) : Prop :=
  (∀ (k0_h3 : k0_cond3 i = 1#1), ∀ a, (k0_off865 v4560) a + S8x128.size a ≤ S18432x128.size a)
theorem k0_off865_inb : ∀ (i : grid0.Coords) (v4560 : BitVec 32) (k0_hw304 : k0_chk304 i v4560), ∀ (k0_h3 : k0_cond3 i = 1#1), ∀ a, (k0_off865 v4560) a + S8x128.size a ≤ S18432x128.size a := fun i v4560 k0_hw304 k0_h3 => k0_hw304 k0_h3

def k0_off866 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2187 : BitVec 32 := 38#32
  let v4522 : BitVec 32 := Scalar.muli arg13 c38_i32_2187
  let c22_i32 : BitVec 32 := 22#32
  let v4523 : BitVec 32 := Scalar.addi v4522 c22_i32
  let c4_i32_2211 : BitVec 32 := 4#32
  let v4567 : BitVec 32 := Scalar.muli v4523 c4_i32_2211
  let c3_i32_2212 : BitVec 32 := 3#32
  let v4568 : BitVec 32 := Scalar.addi v4567 c3_i32_2212
  let v4569 : Index := Scalar.indexCast v4568
  ![v4569.toNat]
def k0_off867 (i : grid0.Coords) (k0_t5 : Fin k0_t5_loop.trips) (v4525 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2189 : BitVec 32 := 2#32
  let v4528 : BitVec 32 := Scalar.muli v2959 c2_i32_2189
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4526 : BitVec 32 := Scalar.shrui v4525 v2958
  let c1_i32_2188 : BitVec 32 := 1#32
  let v4527 : BitVec 32 := Scalar.andi v4526 c1_i32_2188
  let v4529 : BitVec 32 := Scalar.addi v4528 v4527
  let c1216_i32_2190 : BitVec 32 := 1216#32
  let v4530 : BitVec 32 := Scalar.muli v4529 c1216_i32_2190
  let c0_i32_7 : BitVec 32 := 0#32
  let c1_i32_9 : BitVec 32 := 1#32
  let arg13 : BitVec 32 := Scf.iv c0_i32_7 c1_i32_9 k0_t5
  let c38_i32_2187 : BitVec 32 := 38#32
  let v4522 : BitVec 32 := Scalar.muli arg13 c38_i32_2187
  let c22_i32 : BitVec 32 := 22#32
  let v4523 : BitVec 32 := Scalar.addi v4522 c22_i32
  let c4_i32_2191 : BitVec 32 := 4#32
  let v4531 : BitVec 32 := Scalar.muli v4523 c4_i32_2191
  let v4532 : BitVec 32 := Scalar.addi v4530 v4531
  let c3_i32_2195 : BitVec 32 := 3#32
  let v4536 : BitVec 32 := Scalar.addi v4532 c3_i32_2195
  let v4571 : Index := Scalar.indexCast v4536
  let c0_2213 : Index := 0#32
  let c0_2214 : Index := 0#32
  ![v4571.toNat, 0, 0]
def k0_off868 (v4570 : BitVec 32) : Fin 2 → Nat :=
  let v4574 : Index := Scalar.indexCast v4570
  let c0_2215 : Index := 0#32
  ![v4574.toNat, 0]

def k0_chk305 (i : grid0.Coords) (v4570 : BitVec 32) : Prop :=
  (∀ (k0_h3 : k0_cond3 i = 1#1), ∀ a, (k0_off868 v4570) a + S8x128.size a ≤ S18432x128.size a)
theorem k0_off868_inb : ∀ (i : grid0.Coords) (v4570 : BitVec 32) (k0_hw305 : k0_chk305 i v4570), ∀ (k0_h3 : k0_cond3 i = 1#1), ∀ a, (k0_off868 v4570) a + S8x128.size a ≤ S18432x128.size a := fun i v4570 k0_hw305 k0_h3 => k0_hw305 k0_h3

def k0_off869 (i : grid0.Coords) (k0_t5 : Fin k0_t5_loop.trips) (v4525 : BitVec 32) (c0_i32_2192 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2189 : BitVec 32 := 2#32
  let v4528 : BitVec 32 := Scalar.muli v2959 c2_i32_2189
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4526 : BitVec 32 := Scalar.shrui v4525 v2958
  let c1_i32_2188 : BitVec 32 := 1#32
  let v4527 : BitVec 32 := Scalar.andi v4526 c1_i32_2188
  let v4529 : BitVec 32 := Scalar.addi v4528 v4527
  let c1216_i32_2190 : BitVec 32 := 1216#32
  let v4530 : BitVec 32 := Scalar.muli v4529 c1216_i32_2190
  let c0_i32_7 : BitVec 32 := 0#32
  let c1_i32_9 : BitVec 32 := 1#32
  let arg13 : BitVec 32 := Scf.iv c0_i32_7 c1_i32_9 k0_t5
  let c38_i32_2187 : BitVec 32 := 38#32
  let v4522 : BitVec 32 := Scalar.muli arg13 c38_i32_2187
  let c22_i32 : BitVec 32 := 22#32
  let v4523 : BitVec 32 := Scalar.addi v4522 c22_i32
  let c4_i32_2191 : BitVec 32 := 4#32
  let v4531 : BitVec 32 := Scalar.muli v4523 c4_i32_2191
  let v4532 : BitVec 32 := Scalar.addi v4530 v4531
  let v4533 : BitVec 32 := Scalar.addi v4532 c0_i32_2192
  let v4577 : Index := Scalar.indexCast v4533
  let c0_2216 : Index := 0#32
  let c0_2217 : Index := 0#32
  ![v4577.toNat, 0, 0]

def k0_chk301 (i : grid0.Coords) (k0_t5 : Fin k0_t5_loop.trips) (v4525 : BitVec 32) : Prop :=
  (∀ (k0_h3 : k0_cond3 i = 1#1), ∀ a, (k0_off858 i k0_t5 v4525) a + S1x8x128.size a ≤ S7296x8x128.size a) ∧
  (∀ (k0_h3 : k0_cond3 i = 1#1), ∀ a, (k0_off861 i k0_t5 v4525) a + S1x8x128.size a ≤ S7296x8x128.size a) ∧
  (∀ (k0_h3 : k0_cond3 i = 1#1), ∀ a, (k0_off864 i k0_t5 v4525) a + S1x8x128.size a ≤ S7296x8x128.size a) ∧
  (∀ (k0_h3 : k0_cond3 i = 1#1), ∀ a, (k0_off867 i k0_t5 v4525) a + S1x8x128.size a ≤ S7296x8x128.size a) ∧
  (∀ (k0_h3 : k0_cond3 i = 1#1), ∀ (r : Fin 4), ∀ a, (k0_off869 i k0_t5 v4525 (BitVec.ofNat 32 r.val)) a + S1x8x128.size a ≤ S7296x8x128.size a)
theorem k0_off858_inb : ∀ (i : grid0.Coords) (k0_t5 : Fin k0_t5_loop.trips) (v4525 : BitVec 32) (k0_hw301 : k0_chk301 i k0_t5 v4525), ∀ (k0_h3 : k0_cond3 i = 1#1), ∀ a, (k0_off858 i k0_t5 v4525) a + S1x8x128.size a ≤ S7296x8x128.size a := fun i k0_t5 v4525 k0_hw301 k0_h3 => k0_hw301.1 k0_h3
theorem k0_off861_inb : ∀ (i : grid0.Coords) (k0_t5 : Fin k0_t5_loop.trips) (v4525 : BitVec 32) (k0_hw301 : k0_chk301 i k0_t5 v4525), ∀ (k0_h3 : k0_cond3 i = 1#1), ∀ a, (k0_off861 i k0_t5 v4525) a + S1x8x128.size a ≤ S7296x8x128.size a := fun i k0_t5 v4525 k0_hw301 k0_h3 => k0_hw301.2.1 k0_h3
theorem k0_off864_inb : ∀ (i : grid0.Coords) (k0_t5 : Fin k0_t5_loop.trips) (v4525 : BitVec 32) (k0_hw301 : k0_chk301 i k0_t5 v4525), ∀ (k0_h3 : k0_cond3 i = 1#1), ∀ a, (k0_off864 i k0_t5 v4525) a + S1x8x128.size a ≤ S7296x8x128.size a := fun i k0_t5 v4525 k0_hw301 k0_h3 => k0_hw301.2.2.1 k0_h3
theorem k0_off867_inb : ∀ (i : grid0.Coords) (k0_t5 : Fin k0_t5_loop.trips) (v4525 : BitVec 32) (k0_hw301 : k0_chk301 i k0_t5 v4525), ∀ (k0_h3 : k0_cond3 i = 1#1), ∀ a, (k0_off867 i k0_t5 v4525) a + S1x8x128.size a ≤ S7296x8x128.size a := fun i k0_t5 v4525 k0_hw301 k0_h3 => k0_hw301.2.2.2.1 k0_h3
theorem k0_off869_inb : ∀ (i : grid0.Coords) (k0_t5 : Fin k0_t5_loop.trips) (v4525 : BitVec 32) (k0_hw301 : k0_chk301 i k0_t5 v4525), ∀ (k0_h3 : k0_cond3 i = 1#1), ∀ (r : Fin 4), ∀ a, (k0_off869 i k0_t5 v4525 (BitVec.ofNat 32 r.val)) a + S1x8x128.size a ≤ S7296x8x128.size a := fun i k0_t5 v4525 k0_hw301 k0_h3 r => k0_hw301.2.2.2.2 k0_h3 r

def k0_off870 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2224 : BitVec 32 := 38#32
  let v4593 : BitVec 32 := Scalar.muli arg13 c38_i32_2224
  let c23_i32 : BitVec 32 := 23#32
  let v4594 : BitVec 32 := Scalar.addi v4593 c23_i32
  let v4595 : Index := Scalar.indexCast v4594
  ![v4595.toNat]
def k0_off871 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2224 : BitVec 32 := 38#32
  let v4593 : BitVec 32 := Scalar.muli arg13 c38_i32_2224
  let c23_i32 : BitVec 32 := 23#32
  let v4594 : BitVec 32 := Scalar.addi v4593 c23_i32
  let c4_i32_2233 : BitVec 32 := 4#32
  let v4608 : BitVec 32 := Scalar.muli v4594 c4_i32_2233
  let c0_i32_2234 : BitVec 32 := 0#32
  let v4609 : BitVec 32 := Scalar.addi v4608 c0_i32_2234
  let v4610 : Index := Scalar.indexCast v4609
  ![v4610.toNat]
def k0_off872 (i : grid0.Coords) (k0_t5 : Fin k0_t5_loop.trips) (v4596 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2226 : BitVec 32 := 2#32
  let v4599 : BitVec 32 := Scalar.muli v2959 c2_i32_2226
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4597 : BitVec 32 := Scalar.shrui v4596 v2958
  let c1_i32_2225 : BitVec 32 := 1#32
  let v4598 : BitVec 32 := Scalar.andi v4597 c1_i32_2225
  let v4600 : BitVec 32 := Scalar.addi v4599 v4598
  let c1216_i32_2227 : BitVec 32 := 1216#32
  let v4601 : BitVec 32 := Scalar.muli v4600 c1216_i32_2227
  let c0_i32_7 : BitVec 32 := 0#32
  let c1_i32_9 : BitVec 32 := 1#32
  let arg13 : BitVec 32 := Scf.iv c0_i32_7 c1_i32_9 k0_t5
  let c38_i32_2224 : BitVec 32 := 38#32
  let v4593 : BitVec 32 := Scalar.muli arg13 c38_i32_2224
  let c23_i32 : BitVec 32 := 23#32
  let v4594 : BitVec 32 := Scalar.addi v4593 c23_i32
  let c4_i32_2228 : BitVec 32 := 4#32
  let v4602 : BitVec 32 := Scalar.muli v4594 c4_i32_2228
  let v4603 : BitVec 32 := Scalar.addi v4601 v4602
  let c0_i32_2229 : BitVec 32 := 0#32
  let v4604 : BitVec 32 := Scalar.addi v4603 c0_i32_2229
  let v4612 : Index := Scalar.indexCast v4604
  let c0_2235 : Index := 0#32
  let c0_2236 : Index := 0#32
  ![v4612.toNat, 0, 0]

def k0_off873 (v4611 : BitVec 32) : Fin 2 → Nat :=
  let v4615 : Index := Scalar.indexCast v4611
  let c0_2237 : Index := 0#32
  ![v4615.toNat, 0]

def k0_chk307 (i : grid0.Coords) (v4611 : BitVec 32) : Prop :=
  (∀ (k0_h3 : k0_cond3 i = 1#1), ∀ a, (k0_off873 v4611) a + S8x128.size a ≤ S18432x128.size a)
theorem k0_off873_inb : ∀ (i : grid0.Coords) (v4611 : BitVec 32) (k0_hw307 : k0_chk307 i v4611), ∀ (k0_h3 : k0_cond3 i = 1#1), ∀ a, (k0_off873 v4611) a + S8x128.size a ≤ S18432x128.size a := fun i v4611 k0_hw307 k0_h3 => k0_hw307 k0_h3

def k0_off874 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2224 : BitVec 32 := 38#32
  let v4593 : BitVec 32 := Scalar.muli arg13 c38_i32_2224
  let c23_i32 : BitVec 32 := 23#32
  let v4594 : BitVec 32 := Scalar.addi v4593 c23_i32
  let c4_i32_2238 : BitVec 32 := 4#32
  let v4618 : BitVec 32 := Scalar.muli v4594 c4_i32_2238
  let c1_i32_2239 : BitVec 32 := 1#32
  let v4619 : BitVec 32 := Scalar.addi v4618 c1_i32_2239
  let v4620 : Index := Scalar.indexCast v4619
  ![v4620.toNat]
def k0_off875 (i : grid0.Coords) (k0_t5 : Fin k0_t5_loop.trips) (v4596 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2226 : BitVec 32 := 2#32
  let v4599 : BitVec 32 := Scalar.muli v2959 c2_i32_2226
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4597 : BitVec 32 := Scalar.shrui v4596 v2958
  let c1_i32_2225 : BitVec 32 := 1#32
  let v4598 : BitVec 32 := Scalar.andi v4597 c1_i32_2225
  let v4600 : BitVec 32 := Scalar.addi v4599 v4598
  let c1216_i32_2227 : BitVec 32 := 1216#32
  let v4601 : BitVec 32 := Scalar.muli v4600 c1216_i32_2227
  let c0_i32_7 : BitVec 32 := 0#32
  let c1_i32_9 : BitVec 32 := 1#32
  let arg13 : BitVec 32 := Scf.iv c0_i32_7 c1_i32_9 k0_t5
  let c38_i32_2224 : BitVec 32 := 38#32
  let v4593 : BitVec 32 := Scalar.muli arg13 c38_i32_2224
  let c23_i32 : BitVec 32 := 23#32
  let v4594 : BitVec 32 := Scalar.addi v4593 c23_i32
  let c4_i32_2228 : BitVec 32 := 4#32
  let v4602 : BitVec 32 := Scalar.muli v4594 c4_i32_2228
  let v4603 : BitVec 32 := Scalar.addi v4601 v4602
  let c1_i32_2230 : BitVec 32 := 1#32
  let v4605 : BitVec 32 := Scalar.addi v4603 c1_i32_2230
  let v4622 : Index := Scalar.indexCast v4605
  let c0_2240 : Index := 0#32
  let c0_2241 : Index := 0#32
  ![v4622.toNat, 0, 0]
def k0_off876 (v4621 : BitVec 32) : Fin 2 → Nat :=
  let v4625 : Index := Scalar.indexCast v4621
  let c0_2242 : Index := 0#32
  ![v4625.toNat, 0]

def k0_chk308 (i : grid0.Coords) (v4621 : BitVec 32) : Prop :=
  (∀ (k0_h3 : k0_cond3 i = 1#1), ∀ a, (k0_off876 v4621) a + S8x128.size a ≤ S18432x128.size a)
theorem k0_off876_inb : ∀ (i : grid0.Coords) (v4621 : BitVec 32) (k0_hw308 : k0_chk308 i v4621), ∀ (k0_h3 : k0_cond3 i = 1#1), ∀ a, (k0_off876 v4621) a + S8x128.size a ≤ S18432x128.size a := fun i v4621 k0_hw308 k0_h3 => k0_hw308 k0_h3

def k0_off877 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2224 : BitVec 32 := 38#32
  let v4593 : BitVec 32 := Scalar.muli arg13 c38_i32_2224
  let c23_i32 : BitVec 32 := 23#32
  let v4594 : BitVec 32 := Scalar.addi v4593 c23_i32
  let c4_i32_2243 : BitVec 32 := 4#32
  let v4628 : BitVec 32 := Scalar.muli v4594 c4_i32_2243
  let c2_i32_2244 : BitVec 32 := 2#32
  let v4629 : BitVec 32 := Scalar.addi v4628 c2_i32_2244
  let v4630 : Index := Scalar.indexCast v4629
  ![v4630.toNat]
def k0_off878 (i : grid0.Coords) (k0_t5 : Fin k0_t5_loop.trips) (v4596 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2226 : BitVec 32 := 2#32
  let v4599 : BitVec 32 := Scalar.muli v2959 c2_i32_2226
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4597 : BitVec 32 := Scalar.shrui v4596 v2958
  let c1_i32_2225 : BitVec 32 := 1#32
  let v4598 : BitVec 32 := Scalar.andi v4597 c1_i32_2225
  let v4600 : BitVec 32 := Scalar.addi v4599 v4598
  let c1216_i32_2227 : BitVec 32 := 1216#32
  let v4601 : BitVec 32 := Scalar.muli v4600 c1216_i32_2227
  let c0_i32_7 : BitVec 32 := 0#32
  let c1_i32_9 : BitVec 32 := 1#32
  let arg13 : BitVec 32 := Scf.iv c0_i32_7 c1_i32_9 k0_t5
  let c38_i32_2224 : BitVec 32 := 38#32
  let v4593 : BitVec 32 := Scalar.muli arg13 c38_i32_2224
  let c23_i32 : BitVec 32 := 23#32
  let v4594 : BitVec 32 := Scalar.addi v4593 c23_i32
  let c4_i32_2228 : BitVec 32 := 4#32
  let v4602 : BitVec 32 := Scalar.muli v4594 c4_i32_2228
  let v4603 : BitVec 32 := Scalar.addi v4601 v4602
  let c2_i32_2231 : BitVec 32 := 2#32
  let v4606 : BitVec 32 := Scalar.addi v4603 c2_i32_2231
  let v4632 : Index := Scalar.indexCast v4606
  let c0_2245 : Index := 0#32
  let c0_2246 : Index := 0#32
  ![v4632.toNat, 0, 0]
def k0_off879 (v4631 : BitVec 32) : Fin 2 → Nat :=
  let v4635 : Index := Scalar.indexCast v4631
  let c0_2247 : Index := 0#32
  ![v4635.toNat, 0]

def k0_chk309 (i : grid0.Coords) (v4631 : BitVec 32) : Prop :=
  (∀ (k0_h3 : k0_cond3 i = 1#1), ∀ a, (k0_off879 v4631) a + S8x128.size a ≤ S18432x128.size a)
theorem k0_off879_inb : ∀ (i : grid0.Coords) (v4631 : BitVec 32) (k0_hw309 : k0_chk309 i v4631), ∀ (k0_h3 : k0_cond3 i = 1#1), ∀ a, (k0_off879 v4631) a + S8x128.size a ≤ S18432x128.size a := fun i v4631 k0_hw309 k0_h3 => k0_hw309 k0_h3

def k0_off880 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2224 : BitVec 32 := 38#32
  let v4593 : BitVec 32 := Scalar.muli arg13 c38_i32_2224
  let c23_i32 : BitVec 32 := 23#32
  let v4594 : BitVec 32 := Scalar.addi v4593 c23_i32
  let c4_i32_2248 : BitVec 32 := 4#32
  let v4638 : BitVec 32 := Scalar.muli v4594 c4_i32_2248
  let c3_i32_2249 : BitVec 32 := 3#32
  let v4639 : BitVec 32 := Scalar.addi v4638 c3_i32_2249
  let v4640 : Index := Scalar.indexCast v4639
  ![v4640.toNat]
def k0_off881 (i : grid0.Coords) (k0_t5 : Fin k0_t5_loop.trips) (v4596 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2226 : BitVec 32 := 2#32
  let v4599 : BitVec 32 := Scalar.muli v2959 c2_i32_2226
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4597 : BitVec 32 := Scalar.shrui v4596 v2958
  let c1_i32_2225 : BitVec 32 := 1#32
  let v4598 : BitVec 32 := Scalar.andi v4597 c1_i32_2225
  let v4600 : BitVec 32 := Scalar.addi v4599 v4598
  let c1216_i32_2227 : BitVec 32 := 1216#32
  let v4601 : BitVec 32 := Scalar.muli v4600 c1216_i32_2227
  let c0_i32_7 : BitVec 32 := 0#32
  let c1_i32_9 : BitVec 32 := 1#32
  let arg13 : BitVec 32 := Scf.iv c0_i32_7 c1_i32_9 k0_t5
  let c38_i32_2224 : BitVec 32 := 38#32
  let v4593 : BitVec 32 := Scalar.muli arg13 c38_i32_2224
  let c23_i32 : BitVec 32 := 23#32
  let v4594 : BitVec 32 := Scalar.addi v4593 c23_i32
  let c4_i32_2228 : BitVec 32 := 4#32
  let v4602 : BitVec 32 := Scalar.muli v4594 c4_i32_2228
  let v4603 : BitVec 32 := Scalar.addi v4601 v4602
  let c3_i32_2232 : BitVec 32 := 3#32
  let v4607 : BitVec 32 := Scalar.addi v4603 c3_i32_2232
  let v4642 : Index := Scalar.indexCast v4607
  let c0_2250 : Index := 0#32
  let c0_2251 : Index := 0#32
  ![v4642.toNat, 0, 0]
def k0_off882 (v4641 : BitVec 32) : Fin 2 → Nat :=
  let v4645 : Index := Scalar.indexCast v4641
  let c0_2252 : Index := 0#32
  ![v4645.toNat, 0]

def k0_chk310 (i : grid0.Coords) (v4641 : BitVec 32) : Prop :=
  (∀ (k0_h3 : k0_cond3 i = 1#1), ∀ a, (k0_off882 v4641) a + S8x128.size a ≤ S18432x128.size a)
theorem k0_off882_inb : ∀ (i : grid0.Coords) (v4641 : BitVec 32) (k0_hw310 : k0_chk310 i v4641), ∀ (k0_h3 : k0_cond3 i = 1#1), ∀ a, (k0_off882 v4641) a + S8x128.size a ≤ S18432x128.size a := fun i v4641 k0_hw310 k0_h3 => k0_hw310 k0_h3

def k0_off883 (i : grid0.Coords) (k0_t5 : Fin k0_t5_loop.trips) (v4596 : BitVec 32) (c0_i32_2229 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2226 : BitVec 32 := 2#32
  let v4599 : BitVec 32 := Scalar.muli v2959 c2_i32_2226
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4597 : BitVec 32 := Scalar.shrui v4596 v2958
  let c1_i32_2225 : BitVec 32 := 1#32
  let v4598 : BitVec 32 := Scalar.andi v4597 c1_i32_2225
  let v4600 : BitVec 32 := Scalar.addi v4599 v4598
  let c1216_i32_2227 : BitVec 32 := 1216#32
  let v4601 : BitVec 32 := Scalar.muli v4600 c1216_i32_2227
  let c0_i32_7 : BitVec 32 := 0#32
  let c1_i32_9 : BitVec 32 := 1#32
  let arg13 : BitVec 32 := Scf.iv c0_i32_7 c1_i32_9 k0_t5
  let c38_i32_2224 : BitVec 32 := 38#32
  let v4593 : BitVec 32 := Scalar.muli arg13 c38_i32_2224
  let c23_i32 : BitVec 32 := 23#32
  let v4594 : BitVec 32 := Scalar.addi v4593 c23_i32
  let c4_i32_2228 : BitVec 32 := 4#32
  let v4602 : BitVec 32 := Scalar.muli v4594 c4_i32_2228
  let v4603 : BitVec 32 := Scalar.addi v4601 v4602
  let v4604 : BitVec 32 := Scalar.addi v4603 c0_i32_2229
  let v4648 : Index := Scalar.indexCast v4604
  let c0_2253 : Index := 0#32
  let c0_2254 : Index := 0#32
  ![v4648.toNat, 0, 0]

def k0_chk306 (i : grid0.Coords) (k0_t5 : Fin k0_t5_loop.trips) (v4596 : BitVec 32) : Prop :=
  (∀ (k0_h3 : k0_cond3 i = 1#1), ∀ a, (k0_off872 i k0_t5 v4596) a + S1x8x128.size a ≤ S7296x8x128.size a) ∧
  (∀ (k0_h3 : k0_cond3 i = 1#1), ∀ a, (k0_off875 i k0_t5 v4596) a + S1x8x128.size a ≤ S7296x8x128.size a) ∧
  (∀ (k0_h3 : k0_cond3 i = 1#1), ∀ a, (k0_off878 i k0_t5 v4596) a + S1x8x128.size a ≤ S7296x8x128.size a) ∧
  (∀ (k0_h3 : k0_cond3 i = 1#1), ∀ a, (k0_off881 i k0_t5 v4596) a + S1x8x128.size a ≤ S7296x8x128.size a) ∧
  (∀ (k0_h3 : k0_cond3 i = 1#1), ∀ (r : Fin 4), ∀ a, (k0_off883 i k0_t5 v4596 (BitVec.ofNat 32 r.val)) a + S1x8x128.size a ≤ S7296x8x128.size a)
theorem k0_off872_inb : ∀ (i : grid0.Coords) (k0_t5 : Fin k0_t5_loop.trips) (v4596 : BitVec 32) (k0_hw306 : k0_chk306 i k0_t5 v4596), ∀ (k0_h3 : k0_cond3 i = 1#1), ∀ a, (k0_off872 i k0_t5 v4596) a + S1x8x128.size a ≤ S7296x8x128.size a := fun i k0_t5 v4596 k0_hw306 k0_h3 => k0_hw306.1 k0_h3
theorem k0_off875_inb : ∀ (i : grid0.Coords) (k0_t5 : Fin k0_t5_loop.trips) (v4596 : BitVec 32) (k0_hw306 : k0_chk306 i k0_t5 v4596), ∀ (k0_h3 : k0_cond3 i = 1#1), ∀ a, (k0_off875 i k0_t5 v4596) a + S1x8x128.size a ≤ S7296x8x128.size a := fun i k0_t5 v4596 k0_hw306 k0_h3 => k0_hw306.2.1 k0_h3
theorem k0_off878_inb : ∀ (i : grid0.Coords) (k0_t5 : Fin k0_t5_loop.trips) (v4596 : BitVec 32) (k0_hw306 : k0_chk306 i k0_t5 v4596), ∀ (k0_h3 : k0_cond3 i = 1#1), ∀ a, (k0_off878 i k0_t5 v4596) a + S1x8x128.size a ≤ S7296x8x128.size a := fun i k0_t5 v4596 k0_hw306 k0_h3 => k0_hw306.2.2.1 k0_h3
theorem k0_off881_inb : ∀ (i : grid0.Coords) (k0_t5 : Fin k0_t5_loop.trips) (v4596 : BitVec 32) (k0_hw306 : k0_chk306 i k0_t5 v4596), ∀ (k0_h3 : k0_cond3 i = 1#1), ∀ a, (k0_off881 i k0_t5 v4596) a + S1x8x128.size a ≤ S7296x8x128.size a := fun i k0_t5 v4596 k0_hw306 k0_h3 => k0_hw306.2.2.2.1 k0_h3
theorem k0_off883_inb : ∀ (i : grid0.Coords) (k0_t5 : Fin k0_t5_loop.trips) (v4596 : BitVec 32) (k0_hw306 : k0_chk306 i k0_t5 v4596), ∀ (k0_h3 : k0_cond3 i = 1#1), ∀ (r : Fin 4), ∀ a, (k0_off883 i k0_t5 v4596 (BitVec.ofNat 32 r.val)) a + S1x8x128.size a ≤ S7296x8x128.size a := fun i k0_t5 v4596 k0_hw306 k0_h3 r => k0_hw306.2.2.2.2 k0_h3 r

def k0_off884 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2261 : BitVec 32 := 38#32
  let v4664 : BitVec 32 := Scalar.muli arg13 c38_i32_2261
  let c24_i32_2262 : BitVec 32 := 24#32
  let v4665 : BitVec 32 := Scalar.addi v4664 c24_i32_2262
  let v4666 : Index := Scalar.indexCast v4665
  ![v4666.toNat]
def k0_off885 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2261 : BitVec 32 := 38#32
  let v4664 : BitVec 32 := Scalar.muli arg13 c38_i32_2261
  let c24_i32_2262 : BitVec 32 := 24#32
  let v4665 : BitVec 32 := Scalar.addi v4664 c24_i32_2262
  let c4_i32_2271 : BitVec 32 := 4#32
  let v4679 : BitVec 32 := Scalar.muli v4665 c4_i32_2271
  let c0_i32_2272 : BitVec 32 := 0#32
  let v4680 : BitVec 32 := Scalar.addi v4679 c0_i32_2272
  let v4681 : Index := Scalar.indexCast v4680
  ![v4681.toNat]
def k0_off886 (i : grid0.Coords) (k0_t5 : Fin k0_t5_loop.trips) (v4667 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2264 : BitVec 32 := 2#32
  let v4670 : BitVec 32 := Scalar.muli v2959 c2_i32_2264
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4668 : BitVec 32 := Scalar.shrui v4667 v2958
  let c1_i32_2263 : BitVec 32 := 1#32
  let v4669 : BitVec 32 := Scalar.andi v4668 c1_i32_2263
  let v4671 : BitVec 32 := Scalar.addi v4670 v4669
  let c1216_i32_2265 : BitVec 32 := 1216#32
  let v4672 : BitVec 32 := Scalar.muli v4671 c1216_i32_2265
  let c0_i32_7 : BitVec 32 := 0#32
  let c1_i32_9 : BitVec 32 := 1#32
  let arg13 : BitVec 32 := Scf.iv c0_i32_7 c1_i32_9 k0_t5
  let c38_i32_2261 : BitVec 32 := 38#32
  let v4664 : BitVec 32 := Scalar.muli arg13 c38_i32_2261
  let c24_i32_2262 : BitVec 32 := 24#32
  let v4665 : BitVec 32 := Scalar.addi v4664 c24_i32_2262
  let c4_i32_2266 : BitVec 32 := 4#32
  let v4673 : BitVec 32 := Scalar.muli v4665 c4_i32_2266
  let v4674 : BitVec 32 := Scalar.addi v4672 v4673
  let c0_i32_2267 : BitVec 32 := 0#32
  let v4675 : BitVec 32 := Scalar.addi v4674 c0_i32_2267
  let v4683 : Index := Scalar.indexCast v4675
  let c0_2273 : Index := 0#32
  let c0_2274 : Index := 0#32
  ![v4683.toNat, 0, 0]

def k0_off887 (v4682 : BitVec 32) : Fin 2 → Nat :=
  let v4686 : Index := Scalar.indexCast v4682
  let c0_2275 : Index := 0#32
  ![v4686.toNat, 0]

def k0_chk312 (i : grid0.Coords) (v4682 : BitVec 32) : Prop :=
  (∀ (k0_h3 : k0_cond3 i = 1#1), ∀ a, (k0_off887 v4682) a + S8x128.size a ≤ S18432x128.size a)
theorem k0_off887_inb : ∀ (i : grid0.Coords) (v4682 : BitVec 32) (k0_hw312 : k0_chk312 i v4682), ∀ (k0_h3 : k0_cond3 i = 1#1), ∀ a, (k0_off887 v4682) a + S8x128.size a ≤ S18432x128.size a := fun i v4682 k0_hw312 k0_h3 => k0_hw312 k0_h3

def k0_off888 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2261 : BitVec 32 := 38#32
  let v4664 : BitVec 32 := Scalar.muli arg13 c38_i32_2261
  let c24_i32_2262 : BitVec 32 := 24#32
  let v4665 : BitVec 32 := Scalar.addi v4664 c24_i32_2262
  let c4_i32_2276 : BitVec 32 := 4#32
  let v4689 : BitVec 32 := Scalar.muli v4665 c4_i32_2276
  let c1_i32_2277 : BitVec 32 := 1#32
  let v4690 : BitVec 32 := Scalar.addi v4689 c1_i32_2277
  let v4691 : Index := Scalar.indexCast v4690
  ![v4691.toNat]
def k0_off889 (i : grid0.Coords) (k0_t5 : Fin k0_t5_loop.trips) (v4667 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2264 : BitVec 32 := 2#32
  let v4670 : BitVec 32 := Scalar.muli v2959 c2_i32_2264
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4668 : BitVec 32 := Scalar.shrui v4667 v2958
  let c1_i32_2263 : BitVec 32 := 1#32
  let v4669 : BitVec 32 := Scalar.andi v4668 c1_i32_2263
  let v4671 : BitVec 32 := Scalar.addi v4670 v4669
  let c1216_i32_2265 : BitVec 32 := 1216#32
  let v4672 : BitVec 32 := Scalar.muli v4671 c1216_i32_2265
  let c0_i32_7 : BitVec 32 := 0#32
  let c1_i32_9 : BitVec 32 := 1#32
  let arg13 : BitVec 32 := Scf.iv c0_i32_7 c1_i32_9 k0_t5
  let c38_i32_2261 : BitVec 32 := 38#32
  let v4664 : BitVec 32 := Scalar.muli arg13 c38_i32_2261
  let c24_i32_2262 : BitVec 32 := 24#32
  let v4665 : BitVec 32 := Scalar.addi v4664 c24_i32_2262
  let c4_i32_2266 : BitVec 32 := 4#32
  let v4673 : BitVec 32 := Scalar.muli v4665 c4_i32_2266
  let v4674 : BitVec 32 := Scalar.addi v4672 v4673
  let c1_i32_2268 : BitVec 32 := 1#32
  let v4676 : BitVec 32 := Scalar.addi v4674 c1_i32_2268
  let v4693 : Index := Scalar.indexCast v4676
  let c0_2278 : Index := 0#32
  let c0_2279 : Index := 0#32
  ![v4693.toNat, 0, 0]
def k0_off890 (v4692 : BitVec 32) : Fin 2 → Nat :=
  let v4696 : Index := Scalar.indexCast v4692
  let c0_2280 : Index := 0#32
  ![v4696.toNat, 0]

def k0_chk313 (i : grid0.Coords) (v4692 : BitVec 32) : Prop :=
  (∀ (k0_h3 : k0_cond3 i = 1#1), ∀ a, (k0_off890 v4692) a + S8x128.size a ≤ S18432x128.size a)
theorem k0_off890_inb : ∀ (i : grid0.Coords) (v4692 : BitVec 32) (k0_hw313 : k0_chk313 i v4692), ∀ (k0_h3 : k0_cond3 i = 1#1), ∀ a, (k0_off890 v4692) a + S8x128.size a ≤ S18432x128.size a := fun i v4692 k0_hw313 k0_h3 => k0_hw313 k0_h3

def k0_off891 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2261 : BitVec 32 := 38#32
  let v4664 : BitVec 32 := Scalar.muli arg13 c38_i32_2261
  let c24_i32_2262 : BitVec 32 := 24#32
  let v4665 : BitVec 32 := Scalar.addi v4664 c24_i32_2262
  let c4_i32_2281 : BitVec 32 := 4#32
  let v4699 : BitVec 32 := Scalar.muli v4665 c4_i32_2281
  let c2_i32_2282 : BitVec 32 := 2#32
  let v4700 : BitVec 32 := Scalar.addi v4699 c2_i32_2282
  let v4701 : Index := Scalar.indexCast v4700
  ![v4701.toNat]
def k0_off892 (i : grid0.Coords) (k0_t5 : Fin k0_t5_loop.trips) (v4667 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2264 : BitVec 32 := 2#32
  let v4670 : BitVec 32 := Scalar.muli v2959 c2_i32_2264
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4668 : BitVec 32 := Scalar.shrui v4667 v2958
  let c1_i32_2263 : BitVec 32 := 1#32
  let v4669 : BitVec 32 := Scalar.andi v4668 c1_i32_2263
  let v4671 : BitVec 32 := Scalar.addi v4670 v4669
  let c1216_i32_2265 : BitVec 32 := 1216#32
  let v4672 : BitVec 32 := Scalar.muli v4671 c1216_i32_2265
  let c0_i32_7 : BitVec 32 := 0#32
  let c1_i32_9 : BitVec 32 := 1#32
  let arg13 : BitVec 32 := Scf.iv c0_i32_7 c1_i32_9 k0_t5
  let c38_i32_2261 : BitVec 32 := 38#32
  let v4664 : BitVec 32 := Scalar.muli arg13 c38_i32_2261
  let c24_i32_2262 : BitVec 32 := 24#32
  let v4665 : BitVec 32 := Scalar.addi v4664 c24_i32_2262
  let c4_i32_2266 : BitVec 32 := 4#32
  let v4673 : BitVec 32 := Scalar.muli v4665 c4_i32_2266
  let v4674 : BitVec 32 := Scalar.addi v4672 v4673
  let c2_i32_2269 : BitVec 32 := 2#32
  let v4677 : BitVec 32 := Scalar.addi v4674 c2_i32_2269
  let v4703 : Index := Scalar.indexCast v4677
  let c0_2283 : Index := 0#32
  let c0_2284 : Index := 0#32
  ![v4703.toNat, 0, 0]
def k0_off893 (v4702 : BitVec 32) : Fin 2 → Nat :=
  let v4706 : Index := Scalar.indexCast v4702
  let c0_2285 : Index := 0#32
  ![v4706.toNat, 0]

def k0_chk314 (i : grid0.Coords) (v4702 : BitVec 32) : Prop :=
  (∀ (k0_h3 : k0_cond3 i = 1#1), ∀ a, (k0_off893 v4702) a + S8x128.size a ≤ S18432x128.size a)
theorem k0_off893_inb : ∀ (i : grid0.Coords) (v4702 : BitVec 32) (k0_hw314 : k0_chk314 i v4702), ∀ (k0_h3 : k0_cond3 i = 1#1), ∀ a, (k0_off893 v4702) a + S8x128.size a ≤ S18432x128.size a := fun i v4702 k0_hw314 k0_h3 => k0_hw314 k0_h3

def k0_off894 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2261 : BitVec 32 := 38#32
  let v4664 : BitVec 32 := Scalar.muli arg13 c38_i32_2261
  let c24_i32_2262 : BitVec 32 := 24#32
  let v4665 : BitVec 32 := Scalar.addi v4664 c24_i32_2262
  let c4_i32_2286 : BitVec 32 := 4#32
  let v4709 : BitVec 32 := Scalar.muli v4665 c4_i32_2286
  let c3_i32_2287 : BitVec 32 := 3#32
  let v4710 : BitVec 32 := Scalar.addi v4709 c3_i32_2287
  let v4711 : Index := Scalar.indexCast v4710
  ![v4711.toNat]
def k0_off895 (i : grid0.Coords) (k0_t5 : Fin k0_t5_loop.trips) (v4667 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2264 : BitVec 32 := 2#32
  let v4670 : BitVec 32 := Scalar.muli v2959 c2_i32_2264
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4668 : BitVec 32 := Scalar.shrui v4667 v2958
  let c1_i32_2263 : BitVec 32 := 1#32
  let v4669 : BitVec 32 := Scalar.andi v4668 c1_i32_2263
  let v4671 : BitVec 32 := Scalar.addi v4670 v4669
  let c1216_i32_2265 : BitVec 32 := 1216#32
  let v4672 : BitVec 32 := Scalar.muli v4671 c1216_i32_2265
  let c0_i32_7 : BitVec 32 := 0#32
  let c1_i32_9 : BitVec 32 := 1#32
  let arg13 : BitVec 32 := Scf.iv c0_i32_7 c1_i32_9 k0_t5
  let c38_i32_2261 : BitVec 32 := 38#32
  let v4664 : BitVec 32 := Scalar.muli arg13 c38_i32_2261
  let c24_i32_2262 : BitVec 32 := 24#32
  let v4665 : BitVec 32 := Scalar.addi v4664 c24_i32_2262
  let c4_i32_2266 : BitVec 32 := 4#32
  let v4673 : BitVec 32 := Scalar.muli v4665 c4_i32_2266
  let v4674 : BitVec 32 := Scalar.addi v4672 v4673
  let c3_i32_2270 : BitVec 32 := 3#32
  let v4678 : BitVec 32 := Scalar.addi v4674 c3_i32_2270
  let v4713 : Index := Scalar.indexCast v4678
  let c0_2288 : Index := 0#32
  let c0_2289 : Index := 0#32
  ![v4713.toNat, 0, 0]
def k0_off896 (v4712 : BitVec 32) : Fin 2 → Nat :=
  let v4716 : Index := Scalar.indexCast v4712
  let c0_2290 : Index := 0#32
  ![v4716.toNat, 0]

def k0_chk315 (i : grid0.Coords) (v4712 : BitVec 32) : Prop :=
  (∀ (k0_h3 : k0_cond3 i = 1#1), ∀ a, (k0_off896 v4712) a + S8x128.size a ≤ S18432x128.size a)
theorem k0_off896_inb : ∀ (i : grid0.Coords) (v4712 : BitVec 32) (k0_hw315 : k0_chk315 i v4712), ∀ (k0_h3 : k0_cond3 i = 1#1), ∀ a, (k0_off896 v4712) a + S8x128.size a ≤ S18432x128.size a := fun i v4712 k0_hw315 k0_h3 => k0_hw315 k0_h3

def k0_off897 (i : grid0.Coords) (k0_t5 : Fin k0_t5_loop.trips) (v4667 : BitVec 32) (c0_i32_2267 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2264 : BitVec 32 := 2#32
  let v4670 : BitVec 32 := Scalar.muli v2959 c2_i32_2264
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4668 : BitVec 32 := Scalar.shrui v4667 v2958
  let c1_i32_2263 : BitVec 32 := 1#32
  let v4669 : BitVec 32 := Scalar.andi v4668 c1_i32_2263
  let v4671 : BitVec 32 := Scalar.addi v4670 v4669
  let c1216_i32_2265 : BitVec 32 := 1216#32
  let v4672 : BitVec 32 := Scalar.muli v4671 c1216_i32_2265
  let c0_i32_7 : BitVec 32 := 0#32
  let c1_i32_9 : BitVec 32 := 1#32
  let arg13 : BitVec 32 := Scf.iv c0_i32_7 c1_i32_9 k0_t5
  let c38_i32_2261 : BitVec 32 := 38#32
  let v4664 : BitVec 32 := Scalar.muli arg13 c38_i32_2261
  let c24_i32_2262 : BitVec 32 := 24#32
  let v4665 : BitVec 32 := Scalar.addi v4664 c24_i32_2262
  let c4_i32_2266 : BitVec 32 := 4#32
  let v4673 : BitVec 32 := Scalar.muli v4665 c4_i32_2266
  let v4674 : BitVec 32 := Scalar.addi v4672 v4673
  let v4675 : BitVec 32 := Scalar.addi v4674 c0_i32_2267
  let v4719 : Index := Scalar.indexCast v4675
  let c0_2291 : Index := 0#32
  let c0_2292 : Index := 0#32
  ![v4719.toNat, 0, 0]

def k0_chk311 (i : grid0.Coords) (k0_t5 : Fin k0_t5_loop.trips) (v4667 : BitVec 32) : Prop :=
  (∀ (k0_h3 : k0_cond3 i = 1#1), ∀ a, (k0_off886 i k0_t5 v4667) a + S1x8x128.size a ≤ S7296x8x128.size a) ∧
  (∀ (k0_h3 : k0_cond3 i = 1#1), ∀ a, (k0_off889 i k0_t5 v4667) a + S1x8x128.size a ≤ S7296x8x128.size a) ∧
  (∀ (k0_h3 : k0_cond3 i = 1#1), ∀ a, (k0_off892 i k0_t5 v4667) a + S1x8x128.size a ≤ S7296x8x128.size a) ∧
  (∀ (k0_h3 : k0_cond3 i = 1#1), ∀ a, (k0_off895 i k0_t5 v4667) a + S1x8x128.size a ≤ S7296x8x128.size a) ∧
  (∀ (k0_h3 : k0_cond3 i = 1#1), ∀ (r : Fin 4), ∀ a, (k0_off897 i k0_t5 v4667 (BitVec.ofNat 32 r.val)) a + S1x8x128.size a ≤ S7296x8x128.size a)
theorem k0_off886_inb : ∀ (i : grid0.Coords) (k0_t5 : Fin k0_t5_loop.trips) (v4667 : BitVec 32) (k0_hw311 : k0_chk311 i k0_t5 v4667), ∀ (k0_h3 : k0_cond3 i = 1#1), ∀ a, (k0_off886 i k0_t5 v4667) a + S1x8x128.size a ≤ S7296x8x128.size a := fun i k0_t5 v4667 k0_hw311 k0_h3 => k0_hw311.1 k0_h3
theorem k0_off889_inb : ∀ (i : grid0.Coords) (k0_t5 : Fin k0_t5_loop.trips) (v4667 : BitVec 32) (k0_hw311 : k0_chk311 i k0_t5 v4667), ∀ (k0_h3 : k0_cond3 i = 1#1), ∀ a, (k0_off889 i k0_t5 v4667) a + S1x8x128.size a ≤ S7296x8x128.size a := fun i k0_t5 v4667 k0_hw311 k0_h3 => k0_hw311.2.1 k0_h3
theorem k0_off892_inb : ∀ (i : grid0.Coords) (k0_t5 : Fin k0_t5_loop.trips) (v4667 : BitVec 32) (k0_hw311 : k0_chk311 i k0_t5 v4667), ∀ (k0_h3 : k0_cond3 i = 1#1), ∀ a, (k0_off892 i k0_t5 v4667) a + S1x8x128.size a ≤ S7296x8x128.size a := fun i k0_t5 v4667 k0_hw311 k0_h3 => k0_hw311.2.2.1 k0_h3
theorem k0_off895_inb : ∀ (i : grid0.Coords) (k0_t5 : Fin k0_t5_loop.trips) (v4667 : BitVec 32) (k0_hw311 : k0_chk311 i k0_t5 v4667), ∀ (k0_h3 : k0_cond3 i = 1#1), ∀ a, (k0_off895 i k0_t5 v4667) a + S1x8x128.size a ≤ S7296x8x128.size a := fun i k0_t5 v4667 k0_hw311 k0_h3 => k0_hw311.2.2.2.1 k0_h3
theorem k0_off897_inb : ∀ (i : grid0.Coords) (k0_t5 : Fin k0_t5_loop.trips) (v4667 : BitVec 32) (k0_hw311 : k0_chk311 i k0_t5 v4667), ∀ (k0_h3 : k0_cond3 i = 1#1), ∀ (r : Fin 4), ∀ a, (k0_off897 i k0_t5 v4667 (BitVec.ofNat 32 r.val)) a + S1x8x128.size a ≤ S7296x8x128.size a := fun i k0_t5 v4667 k0_hw311 k0_h3 r => k0_hw311.2.2.2.2 k0_h3 r

def k0_off898 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2299 : BitVec 32 := 38#32
  let v4735 : BitVec 32 := Scalar.muli arg13 c38_i32_2299
  let c25_i32 : BitVec 32 := 25#32
  let v4736 : BitVec 32 := Scalar.addi v4735 c25_i32
  let v4737 : Index := Scalar.indexCast v4736
  ![v4737.toNat]
def k0_off899 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2299 : BitVec 32 := 38#32
  let v4735 : BitVec 32 := Scalar.muli arg13 c38_i32_2299
  let c25_i32 : BitVec 32 := 25#32
  let v4736 : BitVec 32 := Scalar.addi v4735 c25_i32
  let c4_i32_2308 : BitVec 32 := 4#32
  let v4750 : BitVec 32 := Scalar.muli v4736 c4_i32_2308
  let c0_i32_2309 : BitVec 32 := 0#32
  let v4751 : BitVec 32 := Scalar.addi v4750 c0_i32_2309
  let v4752 : Index := Scalar.indexCast v4751
  ![v4752.toNat]
def k0_off900 (i : grid0.Coords) (k0_t5 : Fin k0_t5_loop.trips) (v4738 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2301 : BitVec 32 := 2#32
  let v4741 : BitVec 32 := Scalar.muli v2959 c2_i32_2301
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4739 : BitVec 32 := Scalar.shrui v4738 v2958
  let c1_i32_2300 : BitVec 32 := 1#32
  let v4740 : BitVec 32 := Scalar.andi v4739 c1_i32_2300
  let v4742 : BitVec 32 := Scalar.addi v4741 v4740
  let c1216_i32_2302 : BitVec 32 := 1216#32
  let v4743 : BitVec 32 := Scalar.muli v4742 c1216_i32_2302
  let c0_i32_7 : BitVec 32 := 0#32
  let c1_i32_9 : BitVec 32 := 1#32
  let arg13 : BitVec 32 := Scf.iv c0_i32_7 c1_i32_9 k0_t5
  let c38_i32_2299 : BitVec 32 := 38#32
  let v4735 : BitVec 32 := Scalar.muli arg13 c38_i32_2299
  let c25_i32 : BitVec 32 := 25#32
  let v4736 : BitVec 32 := Scalar.addi v4735 c25_i32
  let c4_i32_2303 : BitVec 32 := 4#32
  let v4744 : BitVec 32 := Scalar.muli v4736 c4_i32_2303
  let v4745 : BitVec 32 := Scalar.addi v4743 v4744
  let c0_i32_2304 : BitVec 32 := 0#32
  let v4746 : BitVec 32 := Scalar.addi v4745 c0_i32_2304
  let v4754 : Index := Scalar.indexCast v4746
  let c0_2310 : Index := 0#32
  let c0_2311 : Index := 0#32
  ![v4754.toNat, 0, 0]

def k0_off901 (v4753 : BitVec 32) : Fin 2 → Nat :=
  let v4757 : Index := Scalar.indexCast v4753
  let c0_2312 : Index := 0#32
  ![v4757.toNat, 0]

def k0_chk317 (i : grid0.Coords) (v4753 : BitVec 32) : Prop :=
  (∀ (k0_h3 : k0_cond3 i = 1#1), ∀ a, (k0_off901 v4753) a + S8x128.size a ≤ S18432x128.size a)
theorem k0_off901_inb : ∀ (i : grid0.Coords) (v4753 : BitVec 32) (k0_hw317 : k0_chk317 i v4753), ∀ (k0_h3 : k0_cond3 i = 1#1), ∀ a, (k0_off901 v4753) a + S8x128.size a ≤ S18432x128.size a := fun i v4753 k0_hw317 k0_h3 => k0_hw317 k0_h3

def k0_off902 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2299 : BitVec 32 := 38#32
  let v4735 : BitVec 32 := Scalar.muli arg13 c38_i32_2299
  let c25_i32 : BitVec 32 := 25#32
  let v4736 : BitVec 32 := Scalar.addi v4735 c25_i32
  let c4_i32_2313 : BitVec 32 := 4#32
  let v4760 : BitVec 32 := Scalar.muli v4736 c4_i32_2313
  let c1_i32_2314 : BitVec 32 := 1#32
  let v4761 : BitVec 32 := Scalar.addi v4760 c1_i32_2314
  let v4762 : Index := Scalar.indexCast v4761
  ![v4762.toNat]
def k0_off903 (i : grid0.Coords) (k0_t5 : Fin k0_t5_loop.trips) (v4738 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2301 : BitVec 32 := 2#32
  let v4741 : BitVec 32 := Scalar.muli v2959 c2_i32_2301
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4739 : BitVec 32 := Scalar.shrui v4738 v2958
  let c1_i32_2300 : BitVec 32 := 1#32
  let v4740 : BitVec 32 := Scalar.andi v4739 c1_i32_2300
  let v4742 : BitVec 32 := Scalar.addi v4741 v4740
  let c1216_i32_2302 : BitVec 32 := 1216#32
  let v4743 : BitVec 32 := Scalar.muli v4742 c1216_i32_2302
  let c0_i32_7 : BitVec 32 := 0#32
  let c1_i32_9 : BitVec 32 := 1#32
  let arg13 : BitVec 32 := Scf.iv c0_i32_7 c1_i32_9 k0_t5
  let c38_i32_2299 : BitVec 32 := 38#32
  let v4735 : BitVec 32 := Scalar.muli arg13 c38_i32_2299
  let c25_i32 : BitVec 32 := 25#32
  let v4736 : BitVec 32 := Scalar.addi v4735 c25_i32
  let c4_i32_2303 : BitVec 32 := 4#32
  let v4744 : BitVec 32 := Scalar.muli v4736 c4_i32_2303
  let v4745 : BitVec 32 := Scalar.addi v4743 v4744
  let c1_i32_2305 : BitVec 32 := 1#32
  let v4747 : BitVec 32 := Scalar.addi v4745 c1_i32_2305
  let v4764 : Index := Scalar.indexCast v4747
  let c0_2315 : Index := 0#32
  let c0_2316 : Index := 0#32
  ![v4764.toNat, 0, 0]
def k0_off904 (v4763 : BitVec 32) : Fin 2 → Nat :=
  let v4767 : Index := Scalar.indexCast v4763
  let c0_2317 : Index := 0#32
  ![v4767.toNat, 0]

def k0_chk318 (i : grid0.Coords) (v4763 : BitVec 32) : Prop :=
  (∀ (k0_h3 : k0_cond3 i = 1#1), ∀ a, (k0_off904 v4763) a + S8x128.size a ≤ S18432x128.size a)
theorem k0_off904_inb : ∀ (i : grid0.Coords) (v4763 : BitVec 32) (k0_hw318 : k0_chk318 i v4763), ∀ (k0_h3 : k0_cond3 i = 1#1), ∀ a, (k0_off904 v4763) a + S8x128.size a ≤ S18432x128.size a := fun i v4763 k0_hw318 k0_h3 => k0_hw318 k0_h3

def k0_off905 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2299 : BitVec 32 := 38#32
  let v4735 : BitVec 32 := Scalar.muli arg13 c38_i32_2299
  let c25_i32 : BitVec 32 := 25#32
  let v4736 : BitVec 32 := Scalar.addi v4735 c25_i32
  let c4_i32_2318 : BitVec 32 := 4#32
  let v4770 : BitVec 32 := Scalar.muli v4736 c4_i32_2318
  let c2_i32_2319 : BitVec 32 := 2#32
  let v4771 : BitVec 32 := Scalar.addi v4770 c2_i32_2319
  let v4772 : Index := Scalar.indexCast v4771
  ![v4772.toNat]
def k0_off906 (i : grid0.Coords) (k0_t5 : Fin k0_t5_loop.trips) (v4738 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2301 : BitVec 32 := 2#32
  let v4741 : BitVec 32 := Scalar.muli v2959 c2_i32_2301
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4739 : BitVec 32 := Scalar.shrui v4738 v2958
  let c1_i32_2300 : BitVec 32 := 1#32
  let v4740 : BitVec 32 := Scalar.andi v4739 c1_i32_2300
  let v4742 : BitVec 32 := Scalar.addi v4741 v4740
  let c1216_i32_2302 : BitVec 32 := 1216#32
  let v4743 : BitVec 32 := Scalar.muli v4742 c1216_i32_2302
  let c0_i32_7 : BitVec 32 := 0#32
  let c1_i32_9 : BitVec 32 := 1#32
  let arg13 : BitVec 32 := Scf.iv c0_i32_7 c1_i32_9 k0_t5
  let c38_i32_2299 : BitVec 32 := 38#32
  let v4735 : BitVec 32 := Scalar.muli arg13 c38_i32_2299
  let c25_i32 : BitVec 32 := 25#32
  let v4736 : BitVec 32 := Scalar.addi v4735 c25_i32
  let c4_i32_2303 : BitVec 32 := 4#32
  let v4744 : BitVec 32 := Scalar.muli v4736 c4_i32_2303
  let v4745 : BitVec 32 := Scalar.addi v4743 v4744
  let c2_i32_2306 : BitVec 32 := 2#32
  let v4748 : BitVec 32 := Scalar.addi v4745 c2_i32_2306
  let v4774 : Index := Scalar.indexCast v4748
  let c0_2320 : Index := 0#32
  let c0_2321 : Index := 0#32
  ![v4774.toNat, 0, 0]
def k0_off907 (v4773 : BitVec 32) : Fin 2 → Nat :=
  let v4777 : Index := Scalar.indexCast v4773
  let c0_2322 : Index := 0#32
  ![v4777.toNat, 0]

def k0_chk319 (i : grid0.Coords) (v4773 : BitVec 32) : Prop :=
  (∀ (k0_h3 : k0_cond3 i = 1#1), ∀ a, (k0_off907 v4773) a + S8x128.size a ≤ S18432x128.size a)
theorem k0_off907_inb : ∀ (i : grid0.Coords) (v4773 : BitVec 32) (k0_hw319 : k0_chk319 i v4773), ∀ (k0_h3 : k0_cond3 i = 1#1), ∀ a, (k0_off907 v4773) a + S8x128.size a ≤ S18432x128.size a := fun i v4773 k0_hw319 k0_h3 => k0_hw319 k0_h3

def k0_off908 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2299 : BitVec 32 := 38#32
  let v4735 : BitVec 32 := Scalar.muli arg13 c38_i32_2299
  let c25_i32 : BitVec 32 := 25#32
  let v4736 : BitVec 32 := Scalar.addi v4735 c25_i32
  let c4_i32_2323 : BitVec 32 := 4#32
  let v4780 : BitVec 32 := Scalar.muli v4736 c4_i32_2323
  let c3_i32_2324 : BitVec 32 := 3#32
  let v4781 : BitVec 32 := Scalar.addi v4780 c3_i32_2324
  let v4782 : Index := Scalar.indexCast v4781
  ![v4782.toNat]
def k0_off909 (i : grid0.Coords) (k0_t5 : Fin k0_t5_loop.trips) (v4738 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2301 : BitVec 32 := 2#32
  let v4741 : BitVec 32 := Scalar.muli v2959 c2_i32_2301
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4739 : BitVec 32 := Scalar.shrui v4738 v2958
  let c1_i32_2300 : BitVec 32 := 1#32
  let v4740 : BitVec 32 := Scalar.andi v4739 c1_i32_2300
  let v4742 : BitVec 32 := Scalar.addi v4741 v4740
  let c1216_i32_2302 : BitVec 32 := 1216#32
  let v4743 : BitVec 32 := Scalar.muli v4742 c1216_i32_2302
  let c0_i32_7 : BitVec 32 := 0#32
  let c1_i32_9 : BitVec 32 := 1#32
  let arg13 : BitVec 32 := Scf.iv c0_i32_7 c1_i32_9 k0_t5
  let c38_i32_2299 : BitVec 32 := 38#32
  let v4735 : BitVec 32 := Scalar.muli arg13 c38_i32_2299
  let c25_i32 : BitVec 32 := 25#32
  let v4736 : BitVec 32 := Scalar.addi v4735 c25_i32
  let c4_i32_2303 : BitVec 32 := 4#32
  let v4744 : BitVec 32 := Scalar.muli v4736 c4_i32_2303
  let v4745 : BitVec 32 := Scalar.addi v4743 v4744
  let c3_i32_2307 : BitVec 32 := 3#32
  let v4749 : BitVec 32 := Scalar.addi v4745 c3_i32_2307
  let v4784 : Index := Scalar.indexCast v4749
  let c0_2325 : Index := 0#32
  let c0_2326 : Index := 0#32
  ![v4784.toNat, 0, 0]
def k0_off910 (v4783 : BitVec 32) : Fin 2 → Nat :=
  let v4787 : Index := Scalar.indexCast v4783
  let c0_2327 : Index := 0#32
  ![v4787.toNat, 0]

def k0_chk320 (i : grid0.Coords) (v4783 : BitVec 32) : Prop :=
  (∀ (k0_h3 : k0_cond3 i = 1#1), ∀ a, (k0_off910 v4783) a + S8x128.size a ≤ S18432x128.size a)
theorem k0_off910_inb : ∀ (i : grid0.Coords) (v4783 : BitVec 32) (k0_hw320 : k0_chk320 i v4783), ∀ (k0_h3 : k0_cond3 i = 1#1), ∀ a, (k0_off910 v4783) a + S8x128.size a ≤ S18432x128.size a := fun i v4783 k0_hw320 k0_h3 => k0_hw320 k0_h3

def k0_off911 (i : grid0.Coords) (k0_t5 : Fin k0_t5_loop.trips) (v4738 : BitVec 32) (c0_i32_2304 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2301 : BitVec 32 := 2#32
  let v4741 : BitVec 32 := Scalar.muli v2959 c2_i32_2301
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4739 : BitVec 32 := Scalar.shrui v4738 v2958
  let c1_i32_2300 : BitVec 32 := 1#32
  let v4740 : BitVec 32 := Scalar.andi v4739 c1_i32_2300
  let v4742 : BitVec 32 := Scalar.addi v4741 v4740
  let c1216_i32_2302 : BitVec 32 := 1216#32
  let v4743 : BitVec 32 := Scalar.muli v4742 c1216_i32_2302
  let c0_i32_7 : BitVec 32 := 0#32
  let c1_i32_9 : BitVec 32 := 1#32
  let arg13 : BitVec 32 := Scf.iv c0_i32_7 c1_i32_9 k0_t5
  let c38_i32_2299 : BitVec 32 := 38#32
  let v4735 : BitVec 32 := Scalar.muli arg13 c38_i32_2299
  let c25_i32 : BitVec 32 := 25#32
  let v4736 : BitVec 32 := Scalar.addi v4735 c25_i32
  let c4_i32_2303 : BitVec 32 := 4#32
  let v4744 : BitVec 32 := Scalar.muli v4736 c4_i32_2303
  let v4745 : BitVec 32 := Scalar.addi v4743 v4744
  let v4746 : BitVec 32 := Scalar.addi v4745 c0_i32_2304
  let v4790 : Index := Scalar.indexCast v4746
  let c0_2328 : Index := 0#32
  let c0_2329 : Index := 0#32
  ![v4790.toNat, 0, 0]

def k0_chk316 (i : grid0.Coords) (k0_t5 : Fin k0_t5_loop.trips) (v4738 : BitVec 32) : Prop :=
  (∀ (k0_h3 : k0_cond3 i = 1#1), ∀ a, (k0_off900 i k0_t5 v4738) a + S1x8x128.size a ≤ S7296x8x128.size a) ∧
  (∀ (k0_h3 : k0_cond3 i = 1#1), ∀ a, (k0_off903 i k0_t5 v4738) a + S1x8x128.size a ≤ S7296x8x128.size a) ∧
  (∀ (k0_h3 : k0_cond3 i = 1#1), ∀ a, (k0_off906 i k0_t5 v4738) a + S1x8x128.size a ≤ S7296x8x128.size a) ∧
  (∀ (k0_h3 : k0_cond3 i = 1#1), ∀ a, (k0_off909 i k0_t5 v4738) a + S1x8x128.size a ≤ S7296x8x128.size a) ∧
  (∀ (k0_h3 : k0_cond3 i = 1#1), ∀ (r : Fin 4), ∀ a, (k0_off911 i k0_t5 v4738 (BitVec.ofNat 32 r.val)) a + S1x8x128.size a ≤ S7296x8x128.size a)
theorem k0_off900_inb : ∀ (i : grid0.Coords) (k0_t5 : Fin k0_t5_loop.trips) (v4738 : BitVec 32) (k0_hw316 : k0_chk316 i k0_t5 v4738), ∀ (k0_h3 : k0_cond3 i = 1#1), ∀ a, (k0_off900 i k0_t5 v4738) a + S1x8x128.size a ≤ S7296x8x128.size a := fun i k0_t5 v4738 k0_hw316 k0_h3 => k0_hw316.1 k0_h3
theorem k0_off903_inb : ∀ (i : grid0.Coords) (k0_t5 : Fin k0_t5_loop.trips) (v4738 : BitVec 32) (k0_hw316 : k0_chk316 i k0_t5 v4738), ∀ (k0_h3 : k0_cond3 i = 1#1), ∀ a, (k0_off903 i k0_t5 v4738) a + S1x8x128.size a ≤ S7296x8x128.size a := fun i k0_t5 v4738 k0_hw316 k0_h3 => k0_hw316.2.1 k0_h3
theorem k0_off906_inb : ∀ (i : grid0.Coords) (k0_t5 : Fin k0_t5_loop.trips) (v4738 : BitVec 32) (k0_hw316 : k0_chk316 i k0_t5 v4738), ∀ (k0_h3 : k0_cond3 i = 1#1), ∀ a, (k0_off906 i k0_t5 v4738) a + S1x8x128.size a ≤ S7296x8x128.size a := fun i k0_t5 v4738 k0_hw316 k0_h3 => k0_hw316.2.2.1 k0_h3
theorem k0_off909_inb : ∀ (i : grid0.Coords) (k0_t5 : Fin k0_t5_loop.trips) (v4738 : BitVec 32) (k0_hw316 : k0_chk316 i k0_t5 v4738), ∀ (k0_h3 : k0_cond3 i = 1#1), ∀ a, (k0_off909 i k0_t5 v4738) a + S1x8x128.size a ≤ S7296x8x128.size a := fun i k0_t5 v4738 k0_hw316 k0_h3 => k0_hw316.2.2.2.1 k0_h3
theorem k0_off911_inb : ∀ (i : grid0.Coords) (k0_t5 : Fin k0_t5_loop.trips) (v4738 : BitVec 32) (k0_hw316 : k0_chk316 i k0_t5 v4738), ∀ (k0_h3 : k0_cond3 i = 1#1), ∀ (r : Fin 4), ∀ a, (k0_off911 i k0_t5 v4738 (BitVec.ofNat 32 r.val)) a + S1x8x128.size a ≤ S7296x8x128.size a := fun i k0_t5 v4738 k0_hw316 k0_h3 r => k0_hw316.2.2.2.2 k0_h3 r

def k0_off912 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2336 : BitVec 32 := 38#32
  let v4806 : BitVec 32 := Scalar.muli arg13 c38_i32_2336
  let c26_i32 : BitVec 32 := 26#32
  let v4807 : BitVec 32 := Scalar.addi v4806 c26_i32
  let v4808 : Index := Scalar.indexCast v4807
  ![v4808.toNat]
def k0_off913 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2336 : BitVec 32 := 38#32
  let v4806 : BitVec 32 := Scalar.muli arg13 c38_i32_2336
  let c26_i32 : BitVec 32 := 26#32
  let v4807 : BitVec 32 := Scalar.addi v4806 c26_i32
  let c4_i32_2345 : BitVec 32 := 4#32
  let v4821 : BitVec 32 := Scalar.muli v4807 c4_i32_2345
  let c0_i32_2346 : BitVec 32 := 0#32
  let v4822 : BitVec 32 := Scalar.addi v4821 c0_i32_2346
  let v4823 : Index := Scalar.indexCast v4822
  ![v4823.toNat]
def k0_off914 (i : grid0.Coords) (k0_t5 : Fin k0_t5_loop.trips) (v4809 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2338 : BitVec 32 := 2#32
  let v4812 : BitVec 32 := Scalar.muli v2959 c2_i32_2338
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4810 : BitVec 32 := Scalar.shrui v4809 v2958
  let c1_i32_2337 : BitVec 32 := 1#32
  let v4811 : BitVec 32 := Scalar.andi v4810 c1_i32_2337
  let v4813 : BitVec 32 := Scalar.addi v4812 v4811
  let c1216_i32_2339 : BitVec 32 := 1216#32
  let v4814 : BitVec 32 := Scalar.muli v4813 c1216_i32_2339
  let c0_i32_7 : BitVec 32 := 0#32
  let c1_i32_9 : BitVec 32 := 1#32
  let arg13 : BitVec 32 := Scf.iv c0_i32_7 c1_i32_9 k0_t5
  let c38_i32_2336 : BitVec 32 := 38#32
  let v4806 : BitVec 32 := Scalar.muli arg13 c38_i32_2336
  let c26_i32 : BitVec 32 := 26#32
  let v4807 : BitVec 32 := Scalar.addi v4806 c26_i32
  let c4_i32_2340 : BitVec 32 := 4#32
  let v4815 : BitVec 32 := Scalar.muli v4807 c4_i32_2340
  let v4816 : BitVec 32 := Scalar.addi v4814 v4815
  let c0_i32_2341 : BitVec 32 := 0#32
  let v4817 : BitVec 32 := Scalar.addi v4816 c0_i32_2341
  let v4825 : Index := Scalar.indexCast v4817
  let c0_2347 : Index := 0#32
  let c0_2348 : Index := 0#32
  ![v4825.toNat, 0, 0]

def k0_off915 (v4824 : BitVec 32) : Fin 2 → Nat :=
  let v4828 : Index := Scalar.indexCast v4824
  let c0_2349 : Index := 0#32
  ![v4828.toNat, 0]

def k0_chk322 (i : grid0.Coords) (v4824 : BitVec 32) : Prop :=
  (∀ (k0_h3 : k0_cond3 i = 1#1), ∀ a, (k0_off915 v4824) a + S8x128.size a ≤ S18432x128.size a)
theorem k0_off915_inb : ∀ (i : grid0.Coords) (v4824 : BitVec 32) (k0_hw322 : k0_chk322 i v4824), ∀ (k0_h3 : k0_cond3 i = 1#1), ∀ a, (k0_off915 v4824) a + S8x128.size a ≤ S18432x128.size a := fun i v4824 k0_hw322 k0_h3 => k0_hw322 k0_h3

def k0_off916 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2336 : BitVec 32 := 38#32
  let v4806 : BitVec 32 := Scalar.muli arg13 c38_i32_2336
  let c26_i32 : BitVec 32 := 26#32
  let v4807 : BitVec 32 := Scalar.addi v4806 c26_i32
  let c4_i32_2350 : BitVec 32 := 4#32
  let v4831 : BitVec 32 := Scalar.muli v4807 c4_i32_2350
  let c1_i32_2351 : BitVec 32 := 1#32
  let v4832 : BitVec 32 := Scalar.addi v4831 c1_i32_2351
  let v4833 : Index := Scalar.indexCast v4832
  ![v4833.toNat]
def k0_off917 (i : grid0.Coords) (k0_t5 : Fin k0_t5_loop.trips) (v4809 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2338 : BitVec 32 := 2#32
  let v4812 : BitVec 32 := Scalar.muli v2959 c2_i32_2338
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4810 : BitVec 32 := Scalar.shrui v4809 v2958
  let c1_i32_2337 : BitVec 32 := 1#32
  let v4811 : BitVec 32 := Scalar.andi v4810 c1_i32_2337
  let v4813 : BitVec 32 := Scalar.addi v4812 v4811
  let c1216_i32_2339 : BitVec 32 := 1216#32
  let v4814 : BitVec 32 := Scalar.muli v4813 c1216_i32_2339
  let c0_i32_7 : BitVec 32 := 0#32
  let c1_i32_9 : BitVec 32 := 1#32
  let arg13 : BitVec 32 := Scf.iv c0_i32_7 c1_i32_9 k0_t5
  let c38_i32_2336 : BitVec 32 := 38#32
  let v4806 : BitVec 32 := Scalar.muli arg13 c38_i32_2336
  let c26_i32 : BitVec 32 := 26#32
  let v4807 : BitVec 32 := Scalar.addi v4806 c26_i32
  let c4_i32_2340 : BitVec 32 := 4#32
  let v4815 : BitVec 32 := Scalar.muli v4807 c4_i32_2340
  let v4816 : BitVec 32 := Scalar.addi v4814 v4815
  let c1_i32_2342 : BitVec 32 := 1#32
  let v4818 : BitVec 32 := Scalar.addi v4816 c1_i32_2342
  let v4835 : Index := Scalar.indexCast v4818
  let c0_2352 : Index := 0#32
  let c0_2353 : Index := 0#32
  ![v4835.toNat, 0, 0]
def k0_off918 (v4834 : BitVec 32) : Fin 2 → Nat :=
  let v4838 : Index := Scalar.indexCast v4834
  let c0_2354 : Index := 0#32
  ![v4838.toNat, 0]

def k0_chk323 (i : grid0.Coords) (v4834 : BitVec 32) : Prop :=
  (∀ (k0_h3 : k0_cond3 i = 1#1), ∀ a, (k0_off918 v4834) a + S8x128.size a ≤ S18432x128.size a)
theorem k0_off918_inb : ∀ (i : grid0.Coords) (v4834 : BitVec 32) (k0_hw323 : k0_chk323 i v4834), ∀ (k0_h3 : k0_cond3 i = 1#1), ∀ a, (k0_off918 v4834) a + S8x128.size a ≤ S18432x128.size a := fun i v4834 k0_hw323 k0_h3 => k0_hw323 k0_h3

def k0_off919 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2336 : BitVec 32 := 38#32
  let v4806 : BitVec 32 := Scalar.muli arg13 c38_i32_2336
  let c26_i32 : BitVec 32 := 26#32
  let v4807 : BitVec 32 := Scalar.addi v4806 c26_i32
  let c4_i32_2355 : BitVec 32 := 4#32
  let v4841 : BitVec 32 := Scalar.muli v4807 c4_i32_2355
  let c2_i32_2356 : BitVec 32 := 2#32
  let v4842 : BitVec 32 := Scalar.addi v4841 c2_i32_2356
  let v4843 : Index := Scalar.indexCast v4842
  ![v4843.toNat]
def k0_off920 (i : grid0.Coords) (k0_t5 : Fin k0_t5_loop.trips) (v4809 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2338 : BitVec 32 := 2#32
  let v4812 : BitVec 32 := Scalar.muli v2959 c2_i32_2338
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4810 : BitVec 32 := Scalar.shrui v4809 v2958
  let c1_i32_2337 : BitVec 32 := 1#32
  let v4811 : BitVec 32 := Scalar.andi v4810 c1_i32_2337
  let v4813 : BitVec 32 := Scalar.addi v4812 v4811
  let c1216_i32_2339 : BitVec 32 := 1216#32
  let v4814 : BitVec 32 := Scalar.muli v4813 c1216_i32_2339
  let c0_i32_7 : BitVec 32 := 0#32
  let c1_i32_9 : BitVec 32 := 1#32
  let arg13 : BitVec 32 := Scf.iv c0_i32_7 c1_i32_9 k0_t5
  let c38_i32_2336 : BitVec 32 := 38#32
  let v4806 : BitVec 32 := Scalar.muli arg13 c38_i32_2336
  let c26_i32 : BitVec 32 := 26#32
  let v4807 : BitVec 32 := Scalar.addi v4806 c26_i32
  let c4_i32_2340 : BitVec 32 := 4#32
  let v4815 : BitVec 32 := Scalar.muli v4807 c4_i32_2340
  let v4816 : BitVec 32 := Scalar.addi v4814 v4815
  let c2_i32_2343 : BitVec 32 := 2#32
  let v4819 : BitVec 32 := Scalar.addi v4816 c2_i32_2343
  let v4845 : Index := Scalar.indexCast v4819
  let c0_2357 : Index := 0#32
  let c0_2358 : Index := 0#32
  ![v4845.toNat, 0, 0]
def k0_off921 (v4844 : BitVec 32) : Fin 2 → Nat :=
  let v4848 : Index := Scalar.indexCast v4844
  let c0_2359 : Index := 0#32
  ![v4848.toNat, 0]

def k0_chk324 (i : grid0.Coords) (v4844 : BitVec 32) : Prop :=
  (∀ (k0_h3 : k0_cond3 i = 1#1), ∀ a, (k0_off921 v4844) a + S8x128.size a ≤ S18432x128.size a)
theorem k0_off921_inb : ∀ (i : grid0.Coords) (v4844 : BitVec 32) (k0_hw324 : k0_chk324 i v4844), ∀ (k0_h3 : k0_cond3 i = 1#1), ∀ a, (k0_off921 v4844) a + S8x128.size a ≤ S18432x128.size a := fun i v4844 k0_hw324 k0_h3 => k0_hw324 k0_h3

def k0_off922 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2336 : BitVec 32 := 38#32
  let v4806 : BitVec 32 := Scalar.muli arg13 c38_i32_2336
  let c26_i32 : BitVec 32 := 26#32
  let v4807 : BitVec 32 := Scalar.addi v4806 c26_i32
  let c4_i32_2360 : BitVec 32 := 4#32
  let v4851 : BitVec 32 := Scalar.muli v4807 c4_i32_2360
  let c3_i32_2361 : BitVec 32 := 3#32
  let v4852 : BitVec 32 := Scalar.addi v4851 c3_i32_2361
  let v4853 : Index := Scalar.indexCast v4852
  ![v4853.toNat]
def k0_off923 (i : grid0.Coords) (k0_t5 : Fin k0_t5_loop.trips) (v4809 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2338 : BitVec 32 := 2#32
  let v4812 : BitVec 32 := Scalar.muli v2959 c2_i32_2338
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4810 : BitVec 32 := Scalar.shrui v4809 v2958
  let c1_i32_2337 : BitVec 32 := 1#32
  let v4811 : BitVec 32 := Scalar.andi v4810 c1_i32_2337
  let v4813 : BitVec 32 := Scalar.addi v4812 v4811
  let c1216_i32_2339 : BitVec 32 := 1216#32
  let v4814 : BitVec 32 := Scalar.muli v4813 c1216_i32_2339
  let c0_i32_7 : BitVec 32 := 0#32
  let c1_i32_9 : BitVec 32 := 1#32
  let arg13 : BitVec 32 := Scf.iv c0_i32_7 c1_i32_9 k0_t5
  let c38_i32_2336 : BitVec 32 := 38#32
  let v4806 : BitVec 32 := Scalar.muli arg13 c38_i32_2336
  let c26_i32 : BitVec 32 := 26#32
  let v4807 : BitVec 32 := Scalar.addi v4806 c26_i32
  let c4_i32_2340 : BitVec 32 := 4#32
  let v4815 : BitVec 32 := Scalar.muli v4807 c4_i32_2340
  let v4816 : BitVec 32 := Scalar.addi v4814 v4815
  let c3_i32_2344 : BitVec 32 := 3#32
  let v4820 : BitVec 32 := Scalar.addi v4816 c3_i32_2344
  let v4855 : Index := Scalar.indexCast v4820
  let c0_2362 : Index := 0#32
  let c0_2363 : Index := 0#32
  ![v4855.toNat, 0, 0]
def k0_off924 (v4854 : BitVec 32) : Fin 2 → Nat :=
  let v4858 : Index := Scalar.indexCast v4854
  let c0_2364 : Index := 0#32
  ![v4858.toNat, 0]

def k0_chk325 (i : grid0.Coords) (v4854 : BitVec 32) : Prop :=
  (∀ (k0_h3 : k0_cond3 i = 1#1), ∀ a, (k0_off924 v4854) a + S8x128.size a ≤ S18432x128.size a)
theorem k0_off924_inb : ∀ (i : grid0.Coords) (v4854 : BitVec 32) (k0_hw325 : k0_chk325 i v4854), ∀ (k0_h3 : k0_cond3 i = 1#1), ∀ a, (k0_off924 v4854) a + S8x128.size a ≤ S18432x128.size a := fun i v4854 k0_hw325 k0_h3 => k0_hw325 k0_h3

def k0_off925 (i : grid0.Coords) (k0_t5 : Fin k0_t5_loop.trips) (v4809 : BitVec 32) (c0_i32_2341 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2338 : BitVec 32 := 2#32
  let v4812 : BitVec 32 := Scalar.muli v2959 c2_i32_2338
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4810 : BitVec 32 := Scalar.shrui v4809 v2958
  let c1_i32_2337 : BitVec 32 := 1#32
  let v4811 : BitVec 32 := Scalar.andi v4810 c1_i32_2337
  let v4813 : BitVec 32 := Scalar.addi v4812 v4811
  let c1216_i32_2339 : BitVec 32 := 1216#32
  let v4814 : BitVec 32 := Scalar.muli v4813 c1216_i32_2339
  let c0_i32_7 : BitVec 32 := 0#32
  let c1_i32_9 : BitVec 32 := 1#32
  let arg13 : BitVec 32 := Scf.iv c0_i32_7 c1_i32_9 k0_t5
  let c38_i32_2336 : BitVec 32 := 38#32
  let v4806 : BitVec 32 := Scalar.muli arg13 c38_i32_2336
  let c26_i32 : BitVec 32 := 26#32
  let v4807 : BitVec 32 := Scalar.addi v4806 c26_i32
  let c4_i32_2340 : BitVec 32 := 4#32
  let v4815 : BitVec 32 := Scalar.muli v4807 c4_i32_2340
  let v4816 : BitVec 32 := Scalar.addi v4814 v4815
  let v4817 : BitVec 32 := Scalar.addi v4816 c0_i32_2341
  let v4861 : Index := Scalar.indexCast v4817
  let c0_2365 : Index := 0#32
  let c0_2366 : Index := 0#32
  ![v4861.toNat, 0, 0]

def k0_chk321 (i : grid0.Coords) (k0_t5 : Fin k0_t5_loop.trips) (v4809 : BitVec 32) : Prop :=
  (∀ (k0_h3 : k0_cond3 i = 1#1), ∀ a, (k0_off914 i k0_t5 v4809) a + S1x8x128.size a ≤ S7296x8x128.size a) ∧
  (∀ (k0_h3 : k0_cond3 i = 1#1), ∀ a, (k0_off917 i k0_t5 v4809) a + S1x8x128.size a ≤ S7296x8x128.size a) ∧
  (∀ (k0_h3 : k0_cond3 i = 1#1), ∀ a, (k0_off920 i k0_t5 v4809) a + S1x8x128.size a ≤ S7296x8x128.size a) ∧
  (∀ (k0_h3 : k0_cond3 i = 1#1), ∀ a, (k0_off923 i k0_t5 v4809) a + S1x8x128.size a ≤ S7296x8x128.size a) ∧
  (∀ (k0_h3 : k0_cond3 i = 1#1), ∀ (r : Fin 4), ∀ a, (k0_off925 i k0_t5 v4809 (BitVec.ofNat 32 r.val)) a + S1x8x128.size a ≤ S7296x8x128.size a)
theorem k0_off914_inb : ∀ (i : grid0.Coords) (k0_t5 : Fin k0_t5_loop.trips) (v4809 : BitVec 32) (k0_hw321 : k0_chk321 i k0_t5 v4809), ∀ (k0_h3 : k0_cond3 i = 1#1), ∀ a, (k0_off914 i k0_t5 v4809) a + S1x8x128.size a ≤ S7296x8x128.size a := fun i k0_t5 v4809 k0_hw321 k0_h3 => k0_hw321.1 k0_h3
theorem k0_off917_inb : ∀ (i : grid0.Coords) (k0_t5 : Fin k0_t5_loop.trips) (v4809 : BitVec 32) (k0_hw321 : k0_chk321 i k0_t5 v4809), ∀ (k0_h3 : k0_cond3 i = 1#1), ∀ a, (k0_off917 i k0_t5 v4809) a + S1x8x128.size a ≤ S7296x8x128.size a := fun i k0_t5 v4809 k0_hw321 k0_h3 => k0_hw321.2.1 k0_h3
theorem k0_off920_inb : ∀ (i : grid0.Coords) (k0_t5 : Fin k0_t5_loop.trips) (v4809 : BitVec 32) (k0_hw321 : k0_chk321 i k0_t5 v4809), ∀ (k0_h3 : k0_cond3 i = 1#1), ∀ a, (k0_off920 i k0_t5 v4809) a + S1x8x128.size a ≤ S7296x8x128.size a := fun i k0_t5 v4809 k0_hw321 k0_h3 => k0_hw321.2.2.1 k0_h3
theorem k0_off923_inb : ∀ (i : grid0.Coords) (k0_t5 : Fin k0_t5_loop.trips) (v4809 : BitVec 32) (k0_hw321 : k0_chk321 i k0_t5 v4809), ∀ (k0_h3 : k0_cond3 i = 1#1), ∀ a, (k0_off923 i k0_t5 v4809) a + S1x8x128.size a ≤ S7296x8x128.size a := fun i k0_t5 v4809 k0_hw321 k0_h3 => k0_hw321.2.2.2.1 k0_h3
theorem k0_off925_inb : ∀ (i : grid0.Coords) (k0_t5 : Fin k0_t5_loop.trips) (v4809 : BitVec 32) (k0_hw321 : k0_chk321 i k0_t5 v4809), ∀ (k0_h3 : k0_cond3 i = 1#1), ∀ (r : Fin 4), ∀ a, (k0_off925 i k0_t5 v4809 (BitVec.ofNat 32 r.val)) a + S1x8x128.size a ≤ S7296x8x128.size a := fun i k0_t5 v4809 k0_hw321 k0_h3 r => k0_hw321.2.2.2.2 k0_h3 r

def k0_off926 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2373 : BitVec 32 := 38#32
  let v4877 : BitVec 32 := Scalar.muli arg13 c38_i32_2373
  let c27_i32 : BitVec 32 := 27#32
  let v4878 : BitVec 32 := Scalar.addi v4877 c27_i32
  let v4879 : Index := Scalar.indexCast v4878
  ![v4879.toNat]
def k0_off927 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2373 : BitVec 32 := 38#32
  let v4877 : BitVec 32 := Scalar.muli arg13 c38_i32_2373
  let c27_i32 : BitVec 32 := 27#32
  let v4878 : BitVec 32 := Scalar.addi v4877 c27_i32
  let c4_i32_2382 : BitVec 32 := 4#32
  let v4892 : BitVec 32 := Scalar.muli v4878 c4_i32_2382
  let c0_i32_2383 : BitVec 32 := 0#32
  let v4893 : BitVec 32 := Scalar.addi v4892 c0_i32_2383
  let v4894 : Index := Scalar.indexCast v4893
  ![v4894.toNat]
def k0_off928 (i : grid0.Coords) (k0_t5 : Fin k0_t5_loop.trips) (v4880 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2375 : BitVec 32 := 2#32
  let v4883 : BitVec 32 := Scalar.muli v2959 c2_i32_2375
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4881 : BitVec 32 := Scalar.shrui v4880 v2958
  let c1_i32_2374 : BitVec 32 := 1#32
  let v4882 : BitVec 32 := Scalar.andi v4881 c1_i32_2374
  let v4884 : BitVec 32 := Scalar.addi v4883 v4882
  let c1216_i32_2376 : BitVec 32 := 1216#32
  let v4885 : BitVec 32 := Scalar.muli v4884 c1216_i32_2376
  let c0_i32_7 : BitVec 32 := 0#32
  let c1_i32_9 : BitVec 32 := 1#32
  let arg13 : BitVec 32 := Scf.iv c0_i32_7 c1_i32_9 k0_t5
  let c38_i32_2373 : BitVec 32 := 38#32
  let v4877 : BitVec 32 := Scalar.muli arg13 c38_i32_2373
  let c27_i32 : BitVec 32 := 27#32
  let v4878 : BitVec 32 := Scalar.addi v4877 c27_i32
  let c4_i32_2377 : BitVec 32 := 4#32
  let v4886 : BitVec 32 := Scalar.muli v4878 c4_i32_2377
  let v4887 : BitVec 32 := Scalar.addi v4885 v4886
  let c0_i32_2378 : BitVec 32 := 0#32
  let v4888 : BitVec 32 := Scalar.addi v4887 c0_i32_2378
  let v4896 : Index := Scalar.indexCast v4888
  let c0_2384 : Index := 0#32
  let c0_2385 : Index := 0#32
  ![v4896.toNat, 0, 0]

def k0_off929 (v4895 : BitVec 32) : Fin 2 → Nat :=
  let v4899 : Index := Scalar.indexCast v4895
  let c0_2386 : Index := 0#32
  ![v4899.toNat, 0]

def k0_chk327 (i : grid0.Coords) (v4895 : BitVec 32) : Prop :=
  (∀ (k0_h3 : k0_cond3 i = 1#1), ∀ a, (k0_off929 v4895) a + S8x128.size a ≤ S18432x128.size a)
theorem k0_off929_inb : ∀ (i : grid0.Coords) (v4895 : BitVec 32) (k0_hw327 : k0_chk327 i v4895), ∀ (k0_h3 : k0_cond3 i = 1#1), ∀ a, (k0_off929 v4895) a + S8x128.size a ≤ S18432x128.size a := fun i v4895 k0_hw327 k0_h3 => k0_hw327 k0_h3

def k0_off930 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2373 : BitVec 32 := 38#32
  let v4877 : BitVec 32 := Scalar.muli arg13 c38_i32_2373
  let c27_i32 : BitVec 32 := 27#32
  let v4878 : BitVec 32 := Scalar.addi v4877 c27_i32
  let c4_i32_2387 : BitVec 32 := 4#32
  let v4902 : BitVec 32 := Scalar.muli v4878 c4_i32_2387
  let c1_i32_2388 : BitVec 32 := 1#32
  let v4903 : BitVec 32 := Scalar.addi v4902 c1_i32_2388
  let v4904 : Index := Scalar.indexCast v4903
  ![v4904.toNat]
def k0_off931 (i : grid0.Coords) (k0_t5 : Fin k0_t5_loop.trips) (v4880 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2375 : BitVec 32 := 2#32
  let v4883 : BitVec 32 := Scalar.muli v2959 c2_i32_2375
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4881 : BitVec 32 := Scalar.shrui v4880 v2958
  let c1_i32_2374 : BitVec 32 := 1#32
  let v4882 : BitVec 32 := Scalar.andi v4881 c1_i32_2374
  let v4884 : BitVec 32 := Scalar.addi v4883 v4882
  let c1216_i32_2376 : BitVec 32 := 1216#32
  let v4885 : BitVec 32 := Scalar.muli v4884 c1216_i32_2376
  let c0_i32_7 : BitVec 32 := 0#32
  let c1_i32_9 : BitVec 32 := 1#32
  let arg13 : BitVec 32 := Scf.iv c0_i32_7 c1_i32_9 k0_t5
  let c38_i32_2373 : BitVec 32 := 38#32
  let v4877 : BitVec 32 := Scalar.muli arg13 c38_i32_2373
  let c27_i32 : BitVec 32 := 27#32
  let v4878 : BitVec 32 := Scalar.addi v4877 c27_i32
  let c4_i32_2377 : BitVec 32 := 4#32
  let v4886 : BitVec 32 := Scalar.muli v4878 c4_i32_2377
  let v4887 : BitVec 32 := Scalar.addi v4885 v4886
  let c1_i32_2379 : BitVec 32 := 1#32
  let v4889 : BitVec 32 := Scalar.addi v4887 c1_i32_2379
  let v4906 : Index := Scalar.indexCast v4889
  let c0_2389 : Index := 0#32
  let c0_2390 : Index := 0#32
  ![v4906.toNat, 0, 0]
def k0_off932 (v4905 : BitVec 32) : Fin 2 → Nat :=
  let v4909 : Index := Scalar.indexCast v4905
  let c0_2391 : Index := 0#32
  ![v4909.toNat, 0]

def k0_chk328 (i : grid0.Coords) (v4905 : BitVec 32) : Prop :=
  (∀ (k0_h3 : k0_cond3 i = 1#1), ∀ a, (k0_off932 v4905) a + S8x128.size a ≤ S18432x128.size a)
theorem k0_off932_inb : ∀ (i : grid0.Coords) (v4905 : BitVec 32) (k0_hw328 : k0_chk328 i v4905), ∀ (k0_h3 : k0_cond3 i = 1#1), ∀ a, (k0_off932 v4905) a + S8x128.size a ≤ S18432x128.size a := fun i v4905 k0_hw328 k0_h3 => k0_hw328 k0_h3

def k0_off933 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2373 : BitVec 32 := 38#32
  let v4877 : BitVec 32 := Scalar.muli arg13 c38_i32_2373
  let c27_i32 : BitVec 32 := 27#32
  let v4878 : BitVec 32 := Scalar.addi v4877 c27_i32
  let c4_i32_2392 : BitVec 32 := 4#32
  let v4912 : BitVec 32 := Scalar.muli v4878 c4_i32_2392
  let c2_i32_2393 : BitVec 32 := 2#32
  let v4913 : BitVec 32 := Scalar.addi v4912 c2_i32_2393
  let v4914 : Index := Scalar.indexCast v4913
  ![v4914.toNat]
def k0_off934 (i : grid0.Coords) (k0_t5 : Fin k0_t5_loop.trips) (v4880 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2375 : BitVec 32 := 2#32
  let v4883 : BitVec 32 := Scalar.muli v2959 c2_i32_2375
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4881 : BitVec 32 := Scalar.shrui v4880 v2958
  let c1_i32_2374 : BitVec 32 := 1#32
  let v4882 : BitVec 32 := Scalar.andi v4881 c1_i32_2374
  let v4884 : BitVec 32 := Scalar.addi v4883 v4882
  let c1216_i32_2376 : BitVec 32 := 1216#32
  let v4885 : BitVec 32 := Scalar.muli v4884 c1216_i32_2376
  let c0_i32_7 : BitVec 32 := 0#32
  let c1_i32_9 : BitVec 32 := 1#32
  let arg13 : BitVec 32 := Scf.iv c0_i32_7 c1_i32_9 k0_t5
  let c38_i32_2373 : BitVec 32 := 38#32
  let v4877 : BitVec 32 := Scalar.muli arg13 c38_i32_2373
  let c27_i32 : BitVec 32 := 27#32
  let v4878 : BitVec 32 := Scalar.addi v4877 c27_i32
  let c4_i32_2377 : BitVec 32 := 4#32
  let v4886 : BitVec 32 := Scalar.muli v4878 c4_i32_2377
  let v4887 : BitVec 32 := Scalar.addi v4885 v4886
  let c2_i32_2380 : BitVec 32 := 2#32
  let v4890 : BitVec 32 := Scalar.addi v4887 c2_i32_2380
  let v4916 : Index := Scalar.indexCast v4890
  let c0_2394 : Index := 0#32
  let c0_2395 : Index := 0#32
  ![v4916.toNat, 0, 0]
def k0_off935 (v4915 : BitVec 32) : Fin 2 → Nat :=
  let v4919 : Index := Scalar.indexCast v4915
  let c0_2396 : Index := 0#32
  ![v4919.toNat, 0]

def k0_chk329 (i : grid0.Coords) (v4915 : BitVec 32) : Prop :=
  (∀ (k0_h3 : k0_cond3 i = 1#1), ∀ a, (k0_off935 v4915) a + S8x128.size a ≤ S18432x128.size a)
theorem k0_off935_inb : ∀ (i : grid0.Coords) (v4915 : BitVec 32) (k0_hw329 : k0_chk329 i v4915), ∀ (k0_h3 : k0_cond3 i = 1#1), ∀ a, (k0_off935 v4915) a + S8x128.size a ≤ S18432x128.size a := fun i v4915 k0_hw329 k0_h3 => k0_hw329 k0_h3

def k0_off936 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2373 : BitVec 32 := 38#32
  let v4877 : BitVec 32 := Scalar.muli arg13 c38_i32_2373
  let c27_i32 : BitVec 32 := 27#32
  let v4878 : BitVec 32 := Scalar.addi v4877 c27_i32
  let c4_i32_2397 : BitVec 32 := 4#32
  let v4922 : BitVec 32 := Scalar.muli v4878 c4_i32_2397
  let c3_i32_2398 : BitVec 32 := 3#32
  let v4923 : BitVec 32 := Scalar.addi v4922 c3_i32_2398
  let v4924 : Index := Scalar.indexCast v4923
  ![v4924.toNat]
def k0_off937 (i : grid0.Coords) (k0_t5 : Fin k0_t5_loop.trips) (v4880 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2375 : BitVec 32 := 2#32
  let v4883 : BitVec 32 := Scalar.muli v2959 c2_i32_2375
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4881 : BitVec 32 := Scalar.shrui v4880 v2958
  let c1_i32_2374 : BitVec 32 := 1#32
  let v4882 : BitVec 32 := Scalar.andi v4881 c1_i32_2374
  let v4884 : BitVec 32 := Scalar.addi v4883 v4882
  let c1216_i32_2376 : BitVec 32 := 1216#32
  let v4885 : BitVec 32 := Scalar.muli v4884 c1216_i32_2376
  let c0_i32_7 : BitVec 32 := 0#32
  let c1_i32_9 : BitVec 32 := 1#32
  let arg13 : BitVec 32 := Scf.iv c0_i32_7 c1_i32_9 k0_t5
  let c38_i32_2373 : BitVec 32 := 38#32
  let v4877 : BitVec 32 := Scalar.muli arg13 c38_i32_2373
  let c27_i32 : BitVec 32 := 27#32
  let v4878 : BitVec 32 := Scalar.addi v4877 c27_i32
  let c4_i32_2377 : BitVec 32 := 4#32
  let v4886 : BitVec 32 := Scalar.muli v4878 c4_i32_2377
  let v4887 : BitVec 32 := Scalar.addi v4885 v4886
  let c3_i32_2381 : BitVec 32 := 3#32
  let v4891 : BitVec 32 := Scalar.addi v4887 c3_i32_2381
  let v4926 : Index := Scalar.indexCast v4891
  let c0_2399 : Index := 0#32
  let c0_2400 : Index := 0#32
  ![v4926.toNat, 0, 0]
def k0_off938 (v4925 : BitVec 32) : Fin 2 → Nat :=
  let v4929 : Index := Scalar.indexCast v4925
  let c0_2401 : Index := 0#32
  ![v4929.toNat, 0]

def k0_chk330 (i : grid0.Coords) (v4925 : BitVec 32) : Prop :=
  (∀ (k0_h3 : k0_cond3 i = 1#1), ∀ a, (k0_off938 v4925) a + S8x128.size a ≤ S18432x128.size a)
theorem k0_off938_inb : ∀ (i : grid0.Coords) (v4925 : BitVec 32) (k0_hw330 : k0_chk330 i v4925), ∀ (k0_h3 : k0_cond3 i = 1#1), ∀ a, (k0_off938 v4925) a + S8x128.size a ≤ S18432x128.size a := fun i v4925 k0_hw330 k0_h3 => k0_hw330 k0_h3

def k0_off939 (i : grid0.Coords) (k0_t5 : Fin k0_t5_loop.trips) (v4880 : BitVec 32) (c0_i32_2378 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2375 : BitVec 32 := 2#32
  let v4883 : BitVec 32 := Scalar.muli v2959 c2_i32_2375
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4881 : BitVec 32 := Scalar.shrui v4880 v2958
  let c1_i32_2374 : BitVec 32 := 1#32
  let v4882 : BitVec 32 := Scalar.andi v4881 c1_i32_2374
  let v4884 : BitVec 32 := Scalar.addi v4883 v4882
  let c1216_i32_2376 : BitVec 32 := 1216#32
  let v4885 : BitVec 32 := Scalar.muli v4884 c1216_i32_2376
  let c0_i32_7 : BitVec 32 := 0#32
  let c1_i32_9 : BitVec 32 := 1#32
  let arg13 : BitVec 32 := Scf.iv c0_i32_7 c1_i32_9 k0_t5
  let c38_i32_2373 : BitVec 32 := 38#32
  let v4877 : BitVec 32 := Scalar.muli arg13 c38_i32_2373
  let c27_i32 : BitVec 32 := 27#32
  let v4878 : BitVec 32 := Scalar.addi v4877 c27_i32
  let c4_i32_2377 : BitVec 32 := 4#32
  let v4886 : BitVec 32 := Scalar.muli v4878 c4_i32_2377
  let v4887 : BitVec 32 := Scalar.addi v4885 v4886
  let v4888 : BitVec 32 := Scalar.addi v4887 c0_i32_2378
  let v4932 : Index := Scalar.indexCast v4888
  let c0_2402 : Index := 0#32
  let c0_2403 : Index := 0#32
  ![v4932.toNat, 0, 0]

def k0_chk326 (i : grid0.Coords) (k0_t5 : Fin k0_t5_loop.trips) (v4880 : BitVec 32) : Prop :=
  (∀ (k0_h3 : k0_cond3 i = 1#1), ∀ a, (k0_off928 i k0_t5 v4880) a + S1x8x128.size a ≤ S7296x8x128.size a) ∧
  (∀ (k0_h3 : k0_cond3 i = 1#1), ∀ a, (k0_off931 i k0_t5 v4880) a + S1x8x128.size a ≤ S7296x8x128.size a) ∧
  (∀ (k0_h3 : k0_cond3 i = 1#1), ∀ a, (k0_off934 i k0_t5 v4880) a + S1x8x128.size a ≤ S7296x8x128.size a) ∧
  (∀ (k0_h3 : k0_cond3 i = 1#1), ∀ a, (k0_off937 i k0_t5 v4880) a + S1x8x128.size a ≤ S7296x8x128.size a) ∧
  (∀ (k0_h3 : k0_cond3 i = 1#1), ∀ (r : Fin 4), ∀ a, (k0_off939 i k0_t5 v4880 (BitVec.ofNat 32 r.val)) a + S1x8x128.size a ≤ S7296x8x128.size a)
theorem k0_off928_inb : ∀ (i : grid0.Coords) (k0_t5 : Fin k0_t5_loop.trips) (v4880 : BitVec 32) (k0_hw326 : k0_chk326 i k0_t5 v4880), ∀ (k0_h3 : k0_cond3 i = 1#1), ∀ a, (k0_off928 i k0_t5 v4880) a + S1x8x128.size a ≤ S7296x8x128.size a := fun i k0_t5 v4880 k0_hw326 k0_h3 => k0_hw326.1 k0_h3
theorem k0_off931_inb : ∀ (i : grid0.Coords) (k0_t5 : Fin k0_t5_loop.trips) (v4880 : BitVec 32) (k0_hw326 : k0_chk326 i k0_t5 v4880), ∀ (k0_h3 : k0_cond3 i = 1#1), ∀ a, (k0_off931 i k0_t5 v4880) a + S1x8x128.size a ≤ S7296x8x128.size a := fun i k0_t5 v4880 k0_hw326 k0_h3 => k0_hw326.2.1 k0_h3
theorem k0_off934_inb : ∀ (i : grid0.Coords) (k0_t5 : Fin k0_t5_loop.trips) (v4880 : BitVec 32) (k0_hw326 : k0_chk326 i k0_t5 v4880), ∀ (k0_h3 : k0_cond3 i = 1#1), ∀ a, (k0_off934 i k0_t5 v4880) a + S1x8x128.size a ≤ S7296x8x128.size a := fun i k0_t5 v4880 k0_hw326 k0_h3 => k0_hw326.2.2.1 k0_h3
theorem k0_off937_inb : ∀ (i : grid0.Coords) (k0_t5 : Fin k0_t5_loop.trips) (v4880 : BitVec 32) (k0_hw326 : k0_chk326 i k0_t5 v4880), ∀ (k0_h3 : k0_cond3 i = 1#1), ∀ a, (k0_off937 i k0_t5 v4880) a + S1x8x128.size a ≤ S7296x8x128.size a := fun i k0_t5 v4880 k0_hw326 k0_h3 => k0_hw326.2.2.2.1 k0_h3
theorem k0_off939_inb : ∀ (i : grid0.Coords) (k0_t5 : Fin k0_t5_loop.trips) (v4880 : BitVec 32) (k0_hw326 : k0_chk326 i k0_t5 v4880), ∀ (k0_h3 : k0_cond3 i = 1#1), ∀ (r : Fin 4), ∀ a, (k0_off939 i k0_t5 v4880 (BitVec.ofNat 32 r.val)) a + S1x8x128.size a ≤ S7296x8x128.size a := fun i k0_t5 v4880 k0_hw326 k0_h3 r => k0_hw326.2.2.2.2 k0_h3 r

def k0_off940 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2410 : BitVec 32 := 38#32
  let v4948 : BitVec 32 := Scalar.muli arg13 c38_i32_2410
  let c28_i32 : BitVec 32 := 28#32
  let v4949 : BitVec 32 := Scalar.addi v4948 c28_i32
  let v4950 : Index := Scalar.indexCast v4949
  ![v4950.toNat]
def k0_off941 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2410 : BitVec 32 := 38#32
  let v4948 : BitVec 32 := Scalar.muli arg13 c38_i32_2410
  let c28_i32 : BitVec 32 := 28#32
  let v4949 : BitVec 32 := Scalar.addi v4948 c28_i32
  let c4_i32_2419 : BitVec 32 := 4#32
  let v4963 : BitVec 32 := Scalar.muli v4949 c4_i32_2419
  let c0_i32_2420 : BitVec 32 := 0#32
  let v4964 : BitVec 32 := Scalar.addi v4963 c0_i32_2420
  let v4965 : Index := Scalar.indexCast v4964
  ![v4965.toNat]
def k0_off942 (i : grid0.Coords) (k0_t5 : Fin k0_t5_loop.trips) (v4951 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2412 : BitVec 32 := 2#32
  let v4954 : BitVec 32 := Scalar.muli v2959 c2_i32_2412
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4952 : BitVec 32 := Scalar.shrui v4951 v2958
  let c1_i32_2411 : BitVec 32 := 1#32
  let v4953 : BitVec 32 := Scalar.andi v4952 c1_i32_2411
  let v4955 : BitVec 32 := Scalar.addi v4954 v4953
  let c1216_i32_2413 : BitVec 32 := 1216#32
  let v4956 : BitVec 32 := Scalar.muli v4955 c1216_i32_2413
  let c0_i32_7 : BitVec 32 := 0#32
  let c1_i32_9 : BitVec 32 := 1#32
  let arg13 : BitVec 32 := Scf.iv c0_i32_7 c1_i32_9 k0_t5
  let c38_i32_2410 : BitVec 32 := 38#32
  let v4948 : BitVec 32 := Scalar.muli arg13 c38_i32_2410
  let c28_i32 : BitVec 32 := 28#32
  let v4949 : BitVec 32 := Scalar.addi v4948 c28_i32
  let c4_i32_2414 : BitVec 32 := 4#32
  let v4957 : BitVec 32 := Scalar.muli v4949 c4_i32_2414
  let v4958 : BitVec 32 := Scalar.addi v4956 v4957
  let c0_i32_2415 : BitVec 32 := 0#32
  let v4959 : BitVec 32 := Scalar.addi v4958 c0_i32_2415
  let v4967 : Index := Scalar.indexCast v4959
  let c0_2421 : Index := 0#32
  let c0_2422 : Index := 0#32
  ![v4967.toNat, 0, 0]

def k0_off943 (v4966 : BitVec 32) : Fin 2 → Nat :=
  let v4970 : Index := Scalar.indexCast v4966
  let c0_2423 : Index := 0#32
  ![v4970.toNat, 0]

def k0_chk332 (i : grid0.Coords) (v4966 : BitVec 32) : Prop :=
  (∀ (k0_h3 : k0_cond3 i = 1#1), ∀ a, (k0_off943 v4966) a + S8x128.size a ≤ S18432x128.size a)
theorem k0_off943_inb : ∀ (i : grid0.Coords) (v4966 : BitVec 32) (k0_hw332 : k0_chk332 i v4966), ∀ (k0_h3 : k0_cond3 i = 1#1), ∀ a, (k0_off943 v4966) a + S8x128.size a ≤ S18432x128.size a := fun i v4966 k0_hw332 k0_h3 => k0_hw332 k0_h3

def k0_off944 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2410 : BitVec 32 := 38#32
  let v4948 : BitVec 32 := Scalar.muli arg13 c38_i32_2410
  let c28_i32 : BitVec 32 := 28#32
  let v4949 : BitVec 32 := Scalar.addi v4948 c28_i32
  let c4_i32_2424 : BitVec 32 := 4#32
  let v4973 : BitVec 32 := Scalar.muli v4949 c4_i32_2424
  let c1_i32_2425 : BitVec 32 := 1#32
  let v4974 : BitVec 32 := Scalar.addi v4973 c1_i32_2425
  let v4975 : Index := Scalar.indexCast v4974
  ![v4975.toNat]
def k0_off945 (i : grid0.Coords) (k0_t5 : Fin k0_t5_loop.trips) (v4951 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2412 : BitVec 32 := 2#32
  let v4954 : BitVec 32 := Scalar.muli v2959 c2_i32_2412
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4952 : BitVec 32 := Scalar.shrui v4951 v2958
  let c1_i32_2411 : BitVec 32 := 1#32
  let v4953 : BitVec 32 := Scalar.andi v4952 c1_i32_2411
  let v4955 : BitVec 32 := Scalar.addi v4954 v4953
  let c1216_i32_2413 : BitVec 32 := 1216#32
  let v4956 : BitVec 32 := Scalar.muli v4955 c1216_i32_2413
  let c0_i32_7 : BitVec 32 := 0#32
  let c1_i32_9 : BitVec 32 := 1#32
  let arg13 : BitVec 32 := Scf.iv c0_i32_7 c1_i32_9 k0_t5
  let c38_i32_2410 : BitVec 32 := 38#32
  let v4948 : BitVec 32 := Scalar.muli arg13 c38_i32_2410
  let c28_i32 : BitVec 32 := 28#32
  let v4949 : BitVec 32 := Scalar.addi v4948 c28_i32
  let c4_i32_2414 : BitVec 32 := 4#32
  let v4957 : BitVec 32 := Scalar.muli v4949 c4_i32_2414
  let v4958 : BitVec 32 := Scalar.addi v4956 v4957
  let c1_i32_2416 : BitVec 32 := 1#32
  let v4960 : BitVec 32 := Scalar.addi v4958 c1_i32_2416
  let v4977 : Index := Scalar.indexCast v4960
  let c0_2426 : Index := 0#32
  let c0_2427 : Index := 0#32
  ![v4977.toNat, 0, 0]
def k0_off946 (v4976 : BitVec 32) : Fin 2 → Nat :=
  let v4980 : Index := Scalar.indexCast v4976
  let c0_2428 : Index := 0#32
  ![v4980.toNat, 0]

def k0_chk333 (i : grid0.Coords) (v4976 : BitVec 32) : Prop :=
  (∀ (k0_h3 : k0_cond3 i = 1#1), ∀ a, (k0_off946 v4976) a + S8x128.size a ≤ S18432x128.size a)
theorem k0_off946_inb : ∀ (i : grid0.Coords) (v4976 : BitVec 32) (k0_hw333 : k0_chk333 i v4976), ∀ (k0_h3 : k0_cond3 i = 1#1), ∀ a, (k0_off946 v4976) a + S8x128.size a ≤ S18432x128.size a := fun i v4976 k0_hw333 k0_h3 => k0_hw333 k0_h3

def k0_off947 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2410 : BitVec 32 := 38#32
  let v4948 : BitVec 32 := Scalar.muli arg13 c38_i32_2410
  let c28_i32 : BitVec 32 := 28#32
  let v4949 : BitVec 32 := Scalar.addi v4948 c28_i32
  let c4_i32_2429 : BitVec 32 := 4#32
  let v4983 : BitVec 32 := Scalar.muli v4949 c4_i32_2429
  let c2_i32_2430 : BitVec 32 := 2#32
  let v4984 : BitVec 32 := Scalar.addi v4983 c2_i32_2430
  let v4985 : Index := Scalar.indexCast v4984
  ![v4985.toNat]
def k0_off948 (i : grid0.Coords) (k0_t5 : Fin k0_t5_loop.trips) (v4951 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2412 : BitVec 32 := 2#32
  let v4954 : BitVec 32 := Scalar.muli v2959 c2_i32_2412
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4952 : BitVec 32 := Scalar.shrui v4951 v2958
  let c1_i32_2411 : BitVec 32 := 1#32
  let v4953 : BitVec 32 := Scalar.andi v4952 c1_i32_2411
  let v4955 : BitVec 32 := Scalar.addi v4954 v4953
  let c1216_i32_2413 : BitVec 32 := 1216#32
  let v4956 : BitVec 32 := Scalar.muli v4955 c1216_i32_2413
  let c0_i32_7 : BitVec 32 := 0#32
  let c1_i32_9 : BitVec 32 := 1#32
  let arg13 : BitVec 32 := Scf.iv c0_i32_7 c1_i32_9 k0_t5
  let c38_i32_2410 : BitVec 32 := 38#32
  let v4948 : BitVec 32 := Scalar.muli arg13 c38_i32_2410
  let c28_i32 : BitVec 32 := 28#32
  let v4949 : BitVec 32 := Scalar.addi v4948 c28_i32
  let c4_i32_2414 : BitVec 32 := 4#32
  let v4957 : BitVec 32 := Scalar.muli v4949 c4_i32_2414
  let v4958 : BitVec 32 := Scalar.addi v4956 v4957
  let c2_i32_2417 : BitVec 32 := 2#32
  let v4961 : BitVec 32 := Scalar.addi v4958 c2_i32_2417
  let v4987 : Index := Scalar.indexCast v4961
  let c0_2431 : Index := 0#32
  let c0_2432 : Index := 0#32
  ![v4987.toNat, 0, 0]
def k0_off949 (v4986 : BitVec 32) : Fin 2 → Nat :=
  let v4990 : Index := Scalar.indexCast v4986
  let c0_2433 : Index := 0#32
  ![v4990.toNat, 0]

def k0_chk334 (i : grid0.Coords) (v4986 : BitVec 32) : Prop :=
  (∀ (k0_h3 : k0_cond3 i = 1#1), ∀ a, (k0_off949 v4986) a + S8x128.size a ≤ S18432x128.size a)
theorem k0_off949_inb : ∀ (i : grid0.Coords) (v4986 : BitVec 32) (k0_hw334 : k0_chk334 i v4986), ∀ (k0_h3 : k0_cond3 i = 1#1), ∀ a, (k0_off949 v4986) a + S8x128.size a ≤ S18432x128.size a := fun i v4986 k0_hw334 k0_h3 => k0_hw334 k0_h3

def k0_off950 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2410 : BitVec 32 := 38#32
  let v4948 : BitVec 32 := Scalar.muli arg13 c38_i32_2410
  let c28_i32 : BitVec 32 := 28#32
  let v4949 : BitVec 32 := Scalar.addi v4948 c28_i32
  let c4_i32_2434 : BitVec 32 := 4#32
  let v4993 : BitVec 32 := Scalar.muli v4949 c4_i32_2434
  let c3_i32_2435 : BitVec 32 := 3#32
  let v4994 : BitVec 32 := Scalar.addi v4993 c3_i32_2435
  let v4995 : Index := Scalar.indexCast v4994
  ![v4995.toNat]
def k0_off951 (i : grid0.Coords) (k0_t5 : Fin k0_t5_loop.trips) (v4951 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2412 : BitVec 32 := 2#32
  let v4954 : BitVec 32 := Scalar.muli v2959 c2_i32_2412
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4952 : BitVec 32 := Scalar.shrui v4951 v2958
  let c1_i32_2411 : BitVec 32 := 1#32
  let v4953 : BitVec 32 := Scalar.andi v4952 c1_i32_2411
  let v4955 : BitVec 32 := Scalar.addi v4954 v4953
  let c1216_i32_2413 : BitVec 32 := 1216#32
  let v4956 : BitVec 32 := Scalar.muli v4955 c1216_i32_2413
  let c0_i32_7 : BitVec 32 := 0#32
  let c1_i32_9 : BitVec 32 := 1#32
  let arg13 : BitVec 32 := Scf.iv c0_i32_7 c1_i32_9 k0_t5
  let c38_i32_2410 : BitVec 32 := 38#32
  let v4948 : BitVec 32 := Scalar.muli arg13 c38_i32_2410
  let c28_i32 : BitVec 32 := 28#32
  let v4949 : BitVec 32 := Scalar.addi v4948 c28_i32
  let c4_i32_2414 : BitVec 32 := 4#32
  let v4957 : BitVec 32 := Scalar.muli v4949 c4_i32_2414
  let v4958 : BitVec 32 := Scalar.addi v4956 v4957
  let c3_i32_2418 : BitVec 32 := 3#32
  let v4962 : BitVec 32 := Scalar.addi v4958 c3_i32_2418
  let v4997 : Index := Scalar.indexCast v4962
  let c0_2436 : Index := 0#32
  let c0_2437 : Index := 0#32
  ![v4997.toNat, 0, 0]
def k0_off952 (v4996 : BitVec 32) : Fin 2 → Nat :=
  let v5000 : Index := Scalar.indexCast v4996
  let c0_2438 : Index := 0#32
  ![v5000.toNat, 0]

def k0_chk335 (i : grid0.Coords) (v4996 : BitVec 32) : Prop :=
  (∀ (k0_h3 : k0_cond3 i = 1#1), ∀ a, (k0_off952 v4996) a + S8x128.size a ≤ S18432x128.size a)
theorem k0_off952_inb : ∀ (i : grid0.Coords) (v4996 : BitVec 32) (k0_hw335 : k0_chk335 i v4996), ∀ (k0_h3 : k0_cond3 i = 1#1), ∀ a, (k0_off952 v4996) a + S8x128.size a ≤ S18432x128.size a := fun i v4996 k0_hw335 k0_h3 => k0_hw335 k0_h3

def k0_off953 (i : grid0.Coords) (k0_t5 : Fin k0_t5_loop.trips) (v4951 : BitVec 32) (c0_i32_2415 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2412 : BitVec 32 := 2#32
  let v4954 : BitVec 32 := Scalar.muli v2959 c2_i32_2412
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v4952 : BitVec 32 := Scalar.shrui v4951 v2958
  let c1_i32_2411 : BitVec 32 := 1#32
  let v4953 : BitVec 32 := Scalar.andi v4952 c1_i32_2411
  let v4955 : BitVec 32 := Scalar.addi v4954 v4953
  let c1216_i32_2413 : BitVec 32 := 1216#32
  let v4956 : BitVec 32 := Scalar.muli v4955 c1216_i32_2413
  let c0_i32_7 : BitVec 32 := 0#32
  let c1_i32_9 : BitVec 32 := 1#32
  let arg13 : BitVec 32 := Scf.iv c0_i32_7 c1_i32_9 k0_t5
  let c38_i32_2410 : BitVec 32 := 38#32
  let v4948 : BitVec 32 := Scalar.muli arg13 c38_i32_2410
  let c28_i32 : BitVec 32 := 28#32
  let v4949 : BitVec 32 := Scalar.addi v4948 c28_i32
  let c4_i32_2414 : BitVec 32 := 4#32
  let v4957 : BitVec 32 := Scalar.muli v4949 c4_i32_2414
  let v4958 : BitVec 32 := Scalar.addi v4956 v4957
  let v4959 : BitVec 32 := Scalar.addi v4958 c0_i32_2415
  let v5003 : Index := Scalar.indexCast v4959
  let c0_2439 : Index := 0#32
  let c0_2440 : Index := 0#32
  ![v5003.toNat, 0, 0]

def k0_chk331 (i : grid0.Coords) (k0_t5 : Fin k0_t5_loop.trips) (v4951 : BitVec 32) : Prop :=
  (∀ (k0_h3 : k0_cond3 i = 1#1), ∀ a, (k0_off942 i k0_t5 v4951) a + S1x8x128.size a ≤ S7296x8x128.size a) ∧
  (∀ (k0_h3 : k0_cond3 i = 1#1), ∀ a, (k0_off945 i k0_t5 v4951) a + S1x8x128.size a ≤ S7296x8x128.size a) ∧
  (∀ (k0_h3 : k0_cond3 i = 1#1), ∀ a, (k0_off948 i k0_t5 v4951) a + S1x8x128.size a ≤ S7296x8x128.size a) ∧
  (∀ (k0_h3 : k0_cond3 i = 1#1), ∀ a, (k0_off951 i k0_t5 v4951) a + S1x8x128.size a ≤ S7296x8x128.size a) ∧
  (∀ (k0_h3 : k0_cond3 i = 1#1), ∀ (r : Fin 4), ∀ a, (k0_off953 i k0_t5 v4951 (BitVec.ofNat 32 r.val)) a + S1x8x128.size a ≤ S7296x8x128.size a)
theorem k0_off942_inb : ∀ (i : grid0.Coords) (k0_t5 : Fin k0_t5_loop.trips) (v4951 : BitVec 32) (k0_hw331 : k0_chk331 i k0_t5 v4951), ∀ (k0_h3 : k0_cond3 i = 1#1), ∀ a, (k0_off942 i k0_t5 v4951) a + S1x8x128.size a ≤ S7296x8x128.size a := fun i k0_t5 v4951 k0_hw331 k0_h3 => k0_hw331.1 k0_h3
theorem k0_off945_inb : ∀ (i : grid0.Coords) (k0_t5 : Fin k0_t5_loop.trips) (v4951 : BitVec 32) (k0_hw331 : k0_chk331 i k0_t5 v4951), ∀ (k0_h3 : k0_cond3 i = 1#1), ∀ a, (k0_off945 i k0_t5 v4951) a + S1x8x128.size a ≤ S7296x8x128.size a := fun i k0_t5 v4951 k0_hw331 k0_h3 => k0_hw331.2.1 k0_h3
theorem k0_off948_inb : ∀ (i : grid0.Coords) (k0_t5 : Fin k0_t5_loop.trips) (v4951 : BitVec 32) (k0_hw331 : k0_chk331 i k0_t5 v4951), ∀ (k0_h3 : k0_cond3 i = 1#1), ∀ a, (k0_off948 i k0_t5 v4951) a + S1x8x128.size a ≤ S7296x8x128.size a := fun i k0_t5 v4951 k0_hw331 k0_h3 => k0_hw331.2.2.1 k0_h3
theorem k0_off951_inb : ∀ (i : grid0.Coords) (k0_t5 : Fin k0_t5_loop.trips) (v4951 : BitVec 32) (k0_hw331 : k0_chk331 i k0_t5 v4951), ∀ (k0_h3 : k0_cond3 i = 1#1), ∀ a, (k0_off951 i k0_t5 v4951) a + S1x8x128.size a ≤ S7296x8x128.size a := fun i k0_t5 v4951 k0_hw331 k0_h3 => k0_hw331.2.2.2.1 k0_h3
theorem k0_off953_inb : ∀ (i : grid0.Coords) (k0_t5 : Fin k0_t5_loop.trips) (v4951 : BitVec 32) (k0_hw331 : k0_chk331 i k0_t5 v4951), ∀ (k0_h3 : k0_cond3 i = 1#1), ∀ (r : Fin 4), ∀ a, (k0_off953 i k0_t5 v4951 (BitVec.ofNat 32 r.val)) a + S1x8x128.size a ≤ S7296x8x128.size a := fun i k0_t5 v4951 k0_hw331 k0_h3 r => k0_hw331.2.2.2.2 k0_h3 r

def k0_off954 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2447 : BitVec 32 := 38#32
  let v5019 : BitVec 32 := Scalar.muli arg13 c38_i32_2447
  let c29_i32 : BitVec 32 := 29#32
  let v5020 : BitVec 32 := Scalar.addi v5019 c29_i32
  let v5021 : Index := Scalar.indexCast v5020
  ![v5021.toNat]
def k0_off955 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2447 : BitVec 32 := 38#32
  let v5019 : BitVec 32 := Scalar.muli arg13 c38_i32_2447
  let c29_i32 : BitVec 32 := 29#32
  let v5020 : BitVec 32 := Scalar.addi v5019 c29_i32
  let c4_i32_2456 : BitVec 32 := 4#32
  let v5034 : BitVec 32 := Scalar.muli v5020 c4_i32_2456
  let c0_i32_2457 : BitVec 32 := 0#32
  let v5035 : BitVec 32 := Scalar.addi v5034 c0_i32_2457
  let v5036 : Index := Scalar.indexCast v5035
  ![v5036.toNat]
def k0_off956 (i : grid0.Coords) (k0_t5 : Fin k0_t5_loop.trips) (v5022 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2449 : BitVec 32 := 2#32
  let v5025 : BitVec 32 := Scalar.muli v2959 c2_i32_2449
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5023 : BitVec 32 := Scalar.shrui v5022 v2958
  let c1_i32_2448 : BitVec 32 := 1#32
  let v5024 : BitVec 32 := Scalar.andi v5023 c1_i32_2448
  let v5026 : BitVec 32 := Scalar.addi v5025 v5024
  let c1216_i32_2450 : BitVec 32 := 1216#32
  let v5027 : BitVec 32 := Scalar.muli v5026 c1216_i32_2450
  let c0_i32_7 : BitVec 32 := 0#32
  let c1_i32_9 : BitVec 32 := 1#32
  let arg13 : BitVec 32 := Scf.iv c0_i32_7 c1_i32_9 k0_t5
  let c38_i32_2447 : BitVec 32 := 38#32
  let v5019 : BitVec 32 := Scalar.muli arg13 c38_i32_2447
  let c29_i32 : BitVec 32 := 29#32
  let v5020 : BitVec 32 := Scalar.addi v5019 c29_i32
  let c4_i32_2451 : BitVec 32 := 4#32
  let v5028 : BitVec 32 := Scalar.muli v5020 c4_i32_2451
  let v5029 : BitVec 32 := Scalar.addi v5027 v5028
  let c0_i32_2452 : BitVec 32 := 0#32
  let v5030 : BitVec 32 := Scalar.addi v5029 c0_i32_2452
  let v5038 : Index := Scalar.indexCast v5030
  let c0_2458 : Index := 0#32
  let c0_2459 : Index := 0#32
  ![v5038.toNat, 0, 0]

def k0_off957 (v5037 : BitVec 32) : Fin 2 → Nat :=
  let v5041 : Index := Scalar.indexCast v5037
  let c0_2460 : Index := 0#32
  ![v5041.toNat, 0]

def k0_chk337 (i : grid0.Coords) (v5037 : BitVec 32) : Prop :=
  (∀ (k0_h3 : k0_cond3 i = 1#1), ∀ a, (k0_off957 v5037) a + S8x128.size a ≤ S18432x128.size a)
theorem k0_off957_inb : ∀ (i : grid0.Coords) (v5037 : BitVec 32) (k0_hw337 : k0_chk337 i v5037), ∀ (k0_h3 : k0_cond3 i = 1#1), ∀ a, (k0_off957 v5037) a + S8x128.size a ≤ S18432x128.size a := fun i v5037 k0_hw337 k0_h3 => k0_hw337 k0_h3

def k0_off958 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2447 : BitVec 32 := 38#32
  let v5019 : BitVec 32 := Scalar.muli arg13 c38_i32_2447
  let c29_i32 : BitVec 32 := 29#32
  let v5020 : BitVec 32 := Scalar.addi v5019 c29_i32
  let c4_i32_2461 : BitVec 32 := 4#32
  let v5044 : BitVec 32 := Scalar.muli v5020 c4_i32_2461
  let c1_i32_2462 : BitVec 32 := 1#32
  let v5045 : BitVec 32 := Scalar.addi v5044 c1_i32_2462
  let v5046 : Index := Scalar.indexCast v5045
  ![v5046.toNat]
def k0_off959 (i : grid0.Coords) (k0_t5 : Fin k0_t5_loop.trips) (v5022 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2449 : BitVec 32 := 2#32
  let v5025 : BitVec 32 := Scalar.muli v2959 c2_i32_2449
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5023 : BitVec 32 := Scalar.shrui v5022 v2958
  let c1_i32_2448 : BitVec 32 := 1#32
  let v5024 : BitVec 32 := Scalar.andi v5023 c1_i32_2448
  let v5026 : BitVec 32 := Scalar.addi v5025 v5024
  let c1216_i32_2450 : BitVec 32 := 1216#32
  let v5027 : BitVec 32 := Scalar.muli v5026 c1216_i32_2450
  let c0_i32_7 : BitVec 32 := 0#32
  let c1_i32_9 : BitVec 32 := 1#32
  let arg13 : BitVec 32 := Scf.iv c0_i32_7 c1_i32_9 k0_t5
  let c38_i32_2447 : BitVec 32 := 38#32
  let v5019 : BitVec 32 := Scalar.muli arg13 c38_i32_2447
  let c29_i32 : BitVec 32 := 29#32
  let v5020 : BitVec 32 := Scalar.addi v5019 c29_i32
  let c4_i32_2451 : BitVec 32 := 4#32
  let v5028 : BitVec 32 := Scalar.muli v5020 c4_i32_2451
  let v5029 : BitVec 32 := Scalar.addi v5027 v5028
  let c1_i32_2453 : BitVec 32 := 1#32
  let v5031 : BitVec 32 := Scalar.addi v5029 c1_i32_2453
  let v5048 : Index := Scalar.indexCast v5031
  let c0_2463 : Index := 0#32
  let c0_2464 : Index := 0#32
  ![v5048.toNat, 0, 0]
def k0_off960 (v5047 : BitVec 32) : Fin 2 → Nat :=
  let v5051 : Index := Scalar.indexCast v5047
  let c0_2465 : Index := 0#32
  ![v5051.toNat, 0]

def k0_chk338 (i : grid0.Coords) (v5047 : BitVec 32) : Prop :=
  (∀ (k0_h3 : k0_cond3 i = 1#1), ∀ a, (k0_off960 v5047) a + S8x128.size a ≤ S18432x128.size a)
theorem k0_off960_inb : ∀ (i : grid0.Coords) (v5047 : BitVec 32) (k0_hw338 : k0_chk338 i v5047), ∀ (k0_h3 : k0_cond3 i = 1#1), ∀ a, (k0_off960 v5047) a + S8x128.size a ≤ S18432x128.size a := fun i v5047 k0_hw338 k0_h3 => k0_hw338 k0_h3

def k0_off961 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2447 : BitVec 32 := 38#32
  let v5019 : BitVec 32 := Scalar.muli arg13 c38_i32_2447
  let c29_i32 : BitVec 32 := 29#32
  let v5020 : BitVec 32 := Scalar.addi v5019 c29_i32
  let c4_i32_2466 : BitVec 32 := 4#32
  let v5054 : BitVec 32 := Scalar.muli v5020 c4_i32_2466
  let c2_i32_2467 : BitVec 32 := 2#32
  let v5055 : BitVec 32 := Scalar.addi v5054 c2_i32_2467
  let v5056 : Index := Scalar.indexCast v5055
  ![v5056.toNat]
def k0_off962 (i : grid0.Coords) (k0_t5 : Fin k0_t5_loop.trips) (v5022 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2449 : BitVec 32 := 2#32
  let v5025 : BitVec 32 := Scalar.muli v2959 c2_i32_2449
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5023 : BitVec 32 := Scalar.shrui v5022 v2958
  let c1_i32_2448 : BitVec 32 := 1#32
  let v5024 : BitVec 32 := Scalar.andi v5023 c1_i32_2448
  let v5026 : BitVec 32 := Scalar.addi v5025 v5024
  let c1216_i32_2450 : BitVec 32 := 1216#32
  let v5027 : BitVec 32 := Scalar.muli v5026 c1216_i32_2450
  let c0_i32_7 : BitVec 32 := 0#32
  let c1_i32_9 : BitVec 32 := 1#32
  let arg13 : BitVec 32 := Scf.iv c0_i32_7 c1_i32_9 k0_t5
  let c38_i32_2447 : BitVec 32 := 38#32
  let v5019 : BitVec 32 := Scalar.muli arg13 c38_i32_2447
  let c29_i32 : BitVec 32 := 29#32
  let v5020 : BitVec 32 := Scalar.addi v5019 c29_i32
  let c4_i32_2451 : BitVec 32 := 4#32
  let v5028 : BitVec 32 := Scalar.muli v5020 c4_i32_2451
  let v5029 : BitVec 32 := Scalar.addi v5027 v5028
  let c2_i32_2454 : BitVec 32 := 2#32
  let v5032 : BitVec 32 := Scalar.addi v5029 c2_i32_2454
  let v5058 : Index := Scalar.indexCast v5032
  let c0_2468 : Index := 0#32
  let c0_2469 : Index := 0#32
  ![v5058.toNat, 0, 0]
def k0_off963 (v5057 : BitVec 32) : Fin 2 → Nat :=
  let v5061 : Index := Scalar.indexCast v5057
  let c0_2470 : Index := 0#32
  ![v5061.toNat, 0]

def k0_chk339 (i : grid0.Coords) (v5057 : BitVec 32) : Prop :=
  (∀ (k0_h3 : k0_cond3 i = 1#1), ∀ a, (k0_off963 v5057) a + S8x128.size a ≤ S18432x128.size a)
theorem k0_off963_inb : ∀ (i : grid0.Coords) (v5057 : BitVec 32) (k0_hw339 : k0_chk339 i v5057), ∀ (k0_h3 : k0_cond3 i = 1#1), ∀ a, (k0_off963 v5057) a + S8x128.size a ≤ S18432x128.size a := fun i v5057 k0_hw339 k0_h3 => k0_hw339 k0_h3

def k0_off964 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2447 : BitVec 32 := 38#32
  let v5019 : BitVec 32 := Scalar.muli arg13 c38_i32_2447
  let c29_i32 : BitVec 32 := 29#32
  let v5020 : BitVec 32 := Scalar.addi v5019 c29_i32
  let c4_i32_2471 : BitVec 32 := 4#32
  let v5064 : BitVec 32 := Scalar.muli v5020 c4_i32_2471
  let c3_i32_2472 : BitVec 32 := 3#32
  let v5065 : BitVec 32 := Scalar.addi v5064 c3_i32_2472
  let v5066 : Index := Scalar.indexCast v5065
  ![v5066.toNat]
def k0_off965 (i : grid0.Coords) (k0_t5 : Fin k0_t5_loop.trips) (v5022 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2449 : BitVec 32 := 2#32
  let v5025 : BitVec 32 := Scalar.muli v2959 c2_i32_2449
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5023 : BitVec 32 := Scalar.shrui v5022 v2958
  let c1_i32_2448 : BitVec 32 := 1#32
  let v5024 : BitVec 32 := Scalar.andi v5023 c1_i32_2448
  let v5026 : BitVec 32 := Scalar.addi v5025 v5024
  let c1216_i32_2450 : BitVec 32 := 1216#32
  let v5027 : BitVec 32 := Scalar.muli v5026 c1216_i32_2450
  let c0_i32_7 : BitVec 32 := 0#32
  let c1_i32_9 : BitVec 32 := 1#32
  let arg13 : BitVec 32 := Scf.iv c0_i32_7 c1_i32_9 k0_t5
  let c38_i32_2447 : BitVec 32 := 38#32
  let v5019 : BitVec 32 := Scalar.muli arg13 c38_i32_2447
  let c29_i32 : BitVec 32 := 29#32
  let v5020 : BitVec 32 := Scalar.addi v5019 c29_i32
  let c4_i32_2451 : BitVec 32 := 4#32
  let v5028 : BitVec 32 := Scalar.muli v5020 c4_i32_2451
  let v5029 : BitVec 32 := Scalar.addi v5027 v5028
  let c3_i32_2455 : BitVec 32 := 3#32
  let v5033 : BitVec 32 := Scalar.addi v5029 c3_i32_2455
  let v5068 : Index := Scalar.indexCast v5033
  let c0_2473 : Index := 0#32
  let c0_2474 : Index := 0#32
  ![v5068.toNat, 0, 0]
def k0_off966 (v5067 : BitVec 32) : Fin 2 → Nat :=
  let v5071 : Index := Scalar.indexCast v5067
  let c0_2475 : Index := 0#32
  ![v5071.toNat, 0]

def k0_chk340 (i : grid0.Coords) (v5067 : BitVec 32) : Prop :=
  (∀ (k0_h3 : k0_cond3 i = 1#1), ∀ a, (k0_off966 v5067) a + S8x128.size a ≤ S18432x128.size a)
theorem k0_off966_inb : ∀ (i : grid0.Coords) (v5067 : BitVec 32) (k0_hw340 : k0_chk340 i v5067), ∀ (k0_h3 : k0_cond3 i = 1#1), ∀ a, (k0_off966 v5067) a + S8x128.size a ≤ S18432x128.size a := fun i v5067 k0_hw340 k0_h3 => k0_hw340 k0_h3

def k0_off967 (i : grid0.Coords) (k0_t5 : Fin k0_t5_loop.trips) (v5022 : BitVec 32) (c0_i32_2452 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2449 : BitVec 32 := 2#32
  let v5025 : BitVec 32 := Scalar.muli v2959 c2_i32_2449
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5023 : BitVec 32 := Scalar.shrui v5022 v2958
  let c1_i32_2448 : BitVec 32 := 1#32
  let v5024 : BitVec 32 := Scalar.andi v5023 c1_i32_2448
  let v5026 : BitVec 32 := Scalar.addi v5025 v5024
  let c1216_i32_2450 : BitVec 32 := 1216#32
  let v5027 : BitVec 32 := Scalar.muli v5026 c1216_i32_2450
  let c0_i32_7 : BitVec 32 := 0#32
  let c1_i32_9 : BitVec 32 := 1#32
  let arg13 : BitVec 32 := Scf.iv c0_i32_7 c1_i32_9 k0_t5
  let c38_i32_2447 : BitVec 32 := 38#32
  let v5019 : BitVec 32 := Scalar.muli arg13 c38_i32_2447
  let c29_i32 : BitVec 32 := 29#32
  let v5020 : BitVec 32 := Scalar.addi v5019 c29_i32
  let c4_i32_2451 : BitVec 32 := 4#32
  let v5028 : BitVec 32 := Scalar.muli v5020 c4_i32_2451
  let v5029 : BitVec 32 := Scalar.addi v5027 v5028
  let v5030 : BitVec 32 := Scalar.addi v5029 c0_i32_2452
  let v5074 : Index := Scalar.indexCast v5030
  let c0_2476 : Index := 0#32
  let c0_2477 : Index := 0#32
  ![v5074.toNat, 0, 0]

def k0_chk336 (i : grid0.Coords) (k0_t5 : Fin k0_t5_loop.trips) (v5022 : BitVec 32) : Prop :=
  (∀ (k0_h3 : k0_cond3 i = 1#1), ∀ a, (k0_off956 i k0_t5 v5022) a + S1x8x128.size a ≤ S7296x8x128.size a) ∧
  (∀ (k0_h3 : k0_cond3 i = 1#1), ∀ a, (k0_off959 i k0_t5 v5022) a + S1x8x128.size a ≤ S7296x8x128.size a) ∧
  (∀ (k0_h3 : k0_cond3 i = 1#1), ∀ a, (k0_off962 i k0_t5 v5022) a + S1x8x128.size a ≤ S7296x8x128.size a) ∧
  (∀ (k0_h3 : k0_cond3 i = 1#1), ∀ a, (k0_off965 i k0_t5 v5022) a + S1x8x128.size a ≤ S7296x8x128.size a) ∧
  (∀ (k0_h3 : k0_cond3 i = 1#1), ∀ (r : Fin 4), ∀ a, (k0_off967 i k0_t5 v5022 (BitVec.ofNat 32 r.val)) a + S1x8x128.size a ≤ S7296x8x128.size a)
theorem k0_off956_inb : ∀ (i : grid0.Coords) (k0_t5 : Fin k0_t5_loop.trips) (v5022 : BitVec 32) (k0_hw336 : k0_chk336 i k0_t5 v5022), ∀ (k0_h3 : k0_cond3 i = 1#1), ∀ a, (k0_off956 i k0_t5 v5022) a + S1x8x128.size a ≤ S7296x8x128.size a := fun i k0_t5 v5022 k0_hw336 k0_h3 => k0_hw336.1 k0_h3
theorem k0_off959_inb : ∀ (i : grid0.Coords) (k0_t5 : Fin k0_t5_loop.trips) (v5022 : BitVec 32) (k0_hw336 : k0_chk336 i k0_t5 v5022), ∀ (k0_h3 : k0_cond3 i = 1#1), ∀ a, (k0_off959 i k0_t5 v5022) a + S1x8x128.size a ≤ S7296x8x128.size a := fun i k0_t5 v5022 k0_hw336 k0_h3 => k0_hw336.2.1 k0_h3
theorem k0_off962_inb : ∀ (i : grid0.Coords) (k0_t5 : Fin k0_t5_loop.trips) (v5022 : BitVec 32) (k0_hw336 : k0_chk336 i k0_t5 v5022), ∀ (k0_h3 : k0_cond3 i = 1#1), ∀ a, (k0_off962 i k0_t5 v5022) a + S1x8x128.size a ≤ S7296x8x128.size a := fun i k0_t5 v5022 k0_hw336 k0_h3 => k0_hw336.2.2.1 k0_h3
theorem k0_off965_inb : ∀ (i : grid0.Coords) (k0_t5 : Fin k0_t5_loop.trips) (v5022 : BitVec 32) (k0_hw336 : k0_chk336 i k0_t5 v5022), ∀ (k0_h3 : k0_cond3 i = 1#1), ∀ a, (k0_off965 i k0_t5 v5022) a + S1x8x128.size a ≤ S7296x8x128.size a := fun i k0_t5 v5022 k0_hw336 k0_h3 => k0_hw336.2.2.2.1 k0_h3
theorem k0_off967_inb : ∀ (i : grid0.Coords) (k0_t5 : Fin k0_t5_loop.trips) (v5022 : BitVec 32) (k0_hw336 : k0_chk336 i k0_t5 v5022), ∀ (k0_h3 : k0_cond3 i = 1#1), ∀ (r : Fin 4), ∀ a, (k0_off967 i k0_t5 v5022 (BitVec.ofNat 32 r.val)) a + S1x8x128.size a ≤ S7296x8x128.size a := fun i k0_t5 v5022 k0_hw336 k0_h3 r => k0_hw336.2.2.2.2 k0_h3 r

def k0_off968 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2484 : BitVec 32 := 38#32
  let v5090 : BitVec 32 := Scalar.muli arg13 c38_i32_2484
  let c30_i32 : BitVec 32 := 30#32
  let v5091 : BitVec 32 := Scalar.addi v5090 c30_i32
  let v5092 : Index := Scalar.indexCast v5091
  ![v5092.toNat]
def k0_off969 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2484 : BitVec 32 := 38#32
  let v5090 : BitVec 32 := Scalar.muli arg13 c38_i32_2484
  let c30_i32 : BitVec 32 := 30#32
  let v5091 : BitVec 32 := Scalar.addi v5090 c30_i32
  let c4_i32_2493 : BitVec 32 := 4#32
  let v5105 : BitVec 32 := Scalar.muli v5091 c4_i32_2493
  let c0_i32_2494 : BitVec 32 := 0#32
  let v5106 : BitVec 32 := Scalar.addi v5105 c0_i32_2494
  let v5107 : Index := Scalar.indexCast v5106
  ![v5107.toNat]
def k0_off970 (i : grid0.Coords) (k0_t5 : Fin k0_t5_loop.trips) (v5093 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2486 : BitVec 32 := 2#32
  let v5096 : BitVec 32 := Scalar.muli v2959 c2_i32_2486
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5094 : BitVec 32 := Scalar.shrui v5093 v2958
  let c1_i32_2485 : BitVec 32 := 1#32
  let v5095 : BitVec 32 := Scalar.andi v5094 c1_i32_2485
  let v5097 : BitVec 32 := Scalar.addi v5096 v5095
  let c1216_i32_2487 : BitVec 32 := 1216#32
  let v5098 : BitVec 32 := Scalar.muli v5097 c1216_i32_2487
  let c0_i32_7 : BitVec 32 := 0#32
  let c1_i32_9 : BitVec 32 := 1#32
  let arg13 : BitVec 32 := Scf.iv c0_i32_7 c1_i32_9 k0_t5
  let c38_i32_2484 : BitVec 32 := 38#32
  let v5090 : BitVec 32 := Scalar.muli arg13 c38_i32_2484
  let c30_i32 : BitVec 32 := 30#32
  let v5091 : BitVec 32 := Scalar.addi v5090 c30_i32
  let c4_i32_2488 : BitVec 32 := 4#32
  let v5099 : BitVec 32 := Scalar.muli v5091 c4_i32_2488
  let v5100 : BitVec 32 := Scalar.addi v5098 v5099
  let c0_i32_2489 : BitVec 32 := 0#32
  let v5101 : BitVec 32 := Scalar.addi v5100 c0_i32_2489
  let v5109 : Index := Scalar.indexCast v5101
  let c0_2495 : Index := 0#32
  let c0_2496 : Index := 0#32
  ![v5109.toNat, 0, 0]

def k0_off971 (v5108 : BitVec 32) : Fin 2 → Nat :=
  let v5112 : Index := Scalar.indexCast v5108
  let c0_2497 : Index := 0#32
  ![v5112.toNat, 0]

def k0_chk342 (i : grid0.Coords) (v5108 : BitVec 32) : Prop :=
  (∀ (k0_h3 : k0_cond3 i = 1#1), ∀ a, (k0_off971 v5108) a + S8x128.size a ≤ S18432x128.size a)
theorem k0_off971_inb : ∀ (i : grid0.Coords) (v5108 : BitVec 32) (k0_hw342 : k0_chk342 i v5108), ∀ (k0_h3 : k0_cond3 i = 1#1), ∀ a, (k0_off971 v5108) a + S8x128.size a ≤ S18432x128.size a := fun i v5108 k0_hw342 k0_h3 => k0_hw342 k0_h3

def k0_off972 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2484 : BitVec 32 := 38#32
  let v5090 : BitVec 32 := Scalar.muli arg13 c38_i32_2484
  let c30_i32 : BitVec 32 := 30#32
  let v5091 : BitVec 32 := Scalar.addi v5090 c30_i32
  let c4_i32_2498 : BitVec 32 := 4#32
  let v5115 : BitVec 32 := Scalar.muli v5091 c4_i32_2498
  let c1_i32_2499 : BitVec 32 := 1#32
  let v5116 : BitVec 32 := Scalar.addi v5115 c1_i32_2499
  let v5117 : Index := Scalar.indexCast v5116
  ![v5117.toNat]
def k0_off973 (i : grid0.Coords) (k0_t5 : Fin k0_t5_loop.trips) (v5093 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2486 : BitVec 32 := 2#32
  let v5096 : BitVec 32 := Scalar.muli v2959 c2_i32_2486
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5094 : BitVec 32 := Scalar.shrui v5093 v2958
  let c1_i32_2485 : BitVec 32 := 1#32
  let v5095 : BitVec 32 := Scalar.andi v5094 c1_i32_2485
  let v5097 : BitVec 32 := Scalar.addi v5096 v5095
  let c1216_i32_2487 : BitVec 32 := 1216#32
  let v5098 : BitVec 32 := Scalar.muli v5097 c1216_i32_2487
  let c0_i32_7 : BitVec 32 := 0#32
  let c1_i32_9 : BitVec 32 := 1#32
  let arg13 : BitVec 32 := Scf.iv c0_i32_7 c1_i32_9 k0_t5
  let c38_i32_2484 : BitVec 32 := 38#32
  let v5090 : BitVec 32 := Scalar.muli arg13 c38_i32_2484
  let c30_i32 : BitVec 32 := 30#32
  let v5091 : BitVec 32 := Scalar.addi v5090 c30_i32
  let c4_i32_2488 : BitVec 32 := 4#32
  let v5099 : BitVec 32 := Scalar.muli v5091 c4_i32_2488
  let v5100 : BitVec 32 := Scalar.addi v5098 v5099
  let c1_i32_2490 : BitVec 32 := 1#32
  let v5102 : BitVec 32 := Scalar.addi v5100 c1_i32_2490
  let v5119 : Index := Scalar.indexCast v5102
  let c0_2500 : Index := 0#32
  let c0_2501 : Index := 0#32
  ![v5119.toNat, 0, 0]
def k0_off974 (v5118 : BitVec 32) : Fin 2 → Nat :=
  let v5122 : Index := Scalar.indexCast v5118
  let c0_2502 : Index := 0#32
  ![v5122.toNat, 0]

def k0_chk343 (i : grid0.Coords) (v5118 : BitVec 32) : Prop :=
  (∀ (k0_h3 : k0_cond3 i = 1#1), ∀ a, (k0_off974 v5118) a + S8x128.size a ≤ S18432x128.size a)
theorem k0_off974_inb : ∀ (i : grid0.Coords) (v5118 : BitVec 32) (k0_hw343 : k0_chk343 i v5118), ∀ (k0_h3 : k0_cond3 i = 1#1), ∀ a, (k0_off974 v5118) a + S8x128.size a ≤ S18432x128.size a := fun i v5118 k0_hw343 k0_h3 => k0_hw343 k0_h3

def k0_off975 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2484 : BitVec 32 := 38#32
  let v5090 : BitVec 32 := Scalar.muli arg13 c38_i32_2484
  let c30_i32 : BitVec 32 := 30#32
  let v5091 : BitVec 32 := Scalar.addi v5090 c30_i32
  let c4_i32_2503 : BitVec 32 := 4#32
  let v5125 : BitVec 32 := Scalar.muli v5091 c4_i32_2503
  let c2_i32_2504 : BitVec 32 := 2#32
  let v5126 : BitVec 32 := Scalar.addi v5125 c2_i32_2504
  let v5127 : Index := Scalar.indexCast v5126
  ![v5127.toNat]
def k0_off976 (i : grid0.Coords) (k0_t5 : Fin k0_t5_loop.trips) (v5093 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2486 : BitVec 32 := 2#32
  let v5096 : BitVec 32 := Scalar.muli v2959 c2_i32_2486
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5094 : BitVec 32 := Scalar.shrui v5093 v2958
  let c1_i32_2485 : BitVec 32 := 1#32
  let v5095 : BitVec 32 := Scalar.andi v5094 c1_i32_2485
  let v5097 : BitVec 32 := Scalar.addi v5096 v5095
  let c1216_i32_2487 : BitVec 32 := 1216#32
  let v5098 : BitVec 32 := Scalar.muli v5097 c1216_i32_2487
  let c0_i32_7 : BitVec 32 := 0#32
  let c1_i32_9 : BitVec 32 := 1#32
  let arg13 : BitVec 32 := Scf.iv c0_i32_7 c1_i32_9 k0_t5
  let c38_i32_2484 : BitVec 32 := 38#32
  let v5090 : BitVec 32 := Scalar.muli arg13 c38_i32_2484
  let c30_i32 : BitVec 32 := 30#32
  let v5091 : BitVec 32 := Scalar.addi v5090 c30_i32
  let c4_i32_2488 : BitVec 32 := 4#32
  let v5099 : BitVec 32 := Scalar.muli v5091 c4_i32_2488
  let v5100 : BitVec 32 := Scalar.addi v5098 v5099
  let c2_i32_2491 : BitVec 32 := 2#32
  let v5103 : BitVec 32 := Scalar.addi v5100 c2_i32_2491
  let v5129 : Index := Scalar.indexCast v5103
  let c0_2505 : Index := 0#32
  let c0_2506 : Index := 0#32
  ![v5129.toNat, 0, 0]
def k0_off977 (v5128 : BitVec 32) : Fin 2 → Nat :=
  let v5132 : Index := Scalar.indexCast v5128
  let c0_2507 : Index := 0#32
  ![v5132.toNat, 0]

def k0_chk344 (i : grid0.Coords) (v5128 : BitVec 32) : Prop :=
  (∀ (k0_h3 : k0_cond3 i = 1#1), ∀ a, (k0_off977 v5128) a + S8x128.size a ≤ S18432x128.size a)
theorem k0_off977_inb : ∀ (i : grid0.Coords) (v5128 : BitVec 32) (k0_hw344 : k0_chk344 i v5128), ∀ (k0_h3 : k0_cond3 i = 1#1), ∀ a, (k0_off977 v5128) a + S8x128.size a ≤ S18432x128.size a := fun i v5128 k0_hw344 k0_h3 => k0_hw344 k0_h3

def k0_off978 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2484 : BitVec 32 := 38#32
  let v5090 : BitVec 32 := Scalar.muli arg13 c38_i32_2484
  let c30_i32 : BitVec 32 := 30#32
  let v5091 : BitVec 32 := Scalar.addi v5090 c30_i32
  let c4_i32_2508 : BitVec 32 := 4#32
  let v5135 : BitVec 32 := Scalar.muli v5091 c4_i32_2508
  let c3_i32_2509 : BitVec 32 := 3#32
  let v5136 : BitVec 32 := Scalar.addi v5135 c3_i32_2509
  let v5137 : Index := Scalar.indexCast v5136
  ![v5137.toNat]
def k0_off979 (i : grid0.Coords) (k0_t5 : Fin k0_t5_loop.trips) (v5093 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2486 : BitVec 32 := 2#32
  let v5096 : BitVec 32 := Scalar.muli v2959 c2_i32_2486
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5094 : BitVec 32 := Scalar.shrui v5093 v2958
  let c1_i32_2485 : BitVec 32 := 1#32
  let v5095 : BitVec 32 := Scalar.andi v5094 c1_i32_2485
  let v5097 : BitVec 32 := Scalar.addi v5096 v5095
  let c1216_i32_2487 : BitVec 32 := 1216#32
  let v5098 : BitVec 32 := Scalar.muli v5097 c1216_i32_2487
  let c0_i32_7 : BitVec 32 := 0#32
  let c1_i32_9 : BitVec 32 := 1#32
  let arg13 : BitVec 32 := Scf.iv c0_i32_7 c1_i32_9 k0_t5
  let c38_i32_2484 : BitVec 32 := 38#32
  let v5090 : BitVec 32 := Scalar.muli arg13 c38_i32_2484
  let c30_i32 : BitVec 32 := 30#32
  let v5091 : BitVec 32 := Scalar.addi v5090 c30_i32
  let c4_i32_2488 : BitVec 32 := 4#32
  let v5099 : BitVec 32 := Scalar.muli v5091 c4_i32_2488
  let v5100 : BitVec 32 := Scalar.addi v5098 v5099
  let c3_i32_2492 : BitVec 32 := 3#32
  let v5104 : BitVec 32 := Scalar.addi v5100 c3_i32_2492
  let v5139 : Index := Scalar.indexCast v5104
  let c0_2510 : Index := 0#32
  let c0_2511 : Index := 0#32
  ![v5139.toNat, 0, 0]
def k0_off980 (v5138 : BitVec 32) : Fin 2 → Nat :=
  let v5142 : Index := Scalar.indexCast v5138
  let c0_2512 : Index := 0#32
  ![v5142.toNat, 0]

def k0_chk345 (i : grid0.Coords) (v5138 : BitVec 32) : Prop :=
  (∀ (k0_h3 : k0_cond3 i = 1#1), ∀ a, (k0_off980 v5138) a + S8x128.size a ≤ S18432x128.size a)
theorem k0_off980_inb : ∀ (i : grid0.Coords) (v5138 : BitVec 32) (k0_hw345 : k0_chk345 i v5138), ∀ (k0_h3 : k0_cond3 i = 1#1), ∀ a, (k0_off980 v5138) a + S8x128.size a ≤ S18432x128.size a := fun i v5138 k0_hw345 k0_h3 => k0_hw345 k0_h3

def k0_off981 (i : grid0.Coords) (k0_t5 : Fin k0_t5_loop.trips) (v5093 : BitVec 32) (c0_i32_2489 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2486 : BitVec 32 := 2#32
  let v5096 : BitVec 32 := Scalar.muli v2959 c2_i32_2486
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5094 : BitVec 32 := Scalar.shrui v5093 v2958
  let c1_i32_2485 : BitVec 32 := 1#32
  let v5095 : BitVec 32 := Scalar.andi v5094 c1_i32_2485
  let v5097 : BitVec 32 := Scalar.addi v5096 v5095
  let c1216_i32_2487 : BitVec 32 := 1216#32
  let v5098 : BitVec 32 := Scalar.muli v5097 c1216_i32_2487
  let c0_i32_7 : BitVec 32 := 0#32
  let c1_i32_9 : BitVec 32 := 1#32
  let arg13 : BitVec 32 := Scf.iv c0_i32_7 c1_i32_9 k0_t5
  let c38_i32_2484 : BitVec 32 := 38#32
  let v5090 : BitVec 32 := Scalar.muli arg13 c38_i32_2484
  let c30_i32 : BitVec 32 := 30#32
  let v5091 : BitVec 32 := Scalar.addi v5090 c30_i32
  let c4_i32_2488 : BitVec 32 := 4#32
  let v5099 : BitVec 32 := Scalar.muli v5091 c4_i32_2488
  let v5100 : BitVec 32 := Scalar.addi v5098 v5099
  let v5101 : BitVec 32 := Scalar.addi v5100 c0_i32_2489
  let v5145 : Index := Scalar.indexCast v5101
  let c0_2513 : Index := 0#32
  let c0_2514 : Index := 0#32
  ![v5145.toNat, 0, 0]

def k0_chk341 (i : grid0.Coords) (k0_t5 : Fin k0_t5_loop.trips) (v5093 : BitVec 32) : Prop :=
  (∀ (k0_h3 : k0_cond3 i = 1#1), ∀ a, (k0_off970 i k0_t5 v5093) a + S1x8x128.size a ≤ S7296x8x128.size a) ∧
  (∀ (k0_h3 : k0_cond3 i = 1#1), ∀ a, (k0_off973 i k0_t5 v5093) a + S1x8x128.size a ≤ S7296x8x128.size a) ∧
  (∀ (k0_h3 : k0_cond3 i = 1#1), ∀ a, (k0_off976 i k0_t5 v5093) a + S1x8x128.size a ≤ S7296x8x128.size a) ∧
  (∀ (k0_h3 : k0_cond3 i = 1#1), ∀ a, (k0_off979 i k0_t5 v5093) a + S1x8x128.size a ≤ S7296x8x128.size a) ∧
  (∀ (k0_h3 : k0_cond3 i = 1#1), ∀ (r : Fin 4), ∀ a, (k0_off981 i k0_t5 v5093 (BitVec.ofNat 32 r.val)) a + S1x8x128.size a ≤ S7296x8x128.size a)
theorem k0_off970_inb : ∀ (i : grid0.Coords) (k0_t5 : Fin k0_t5_loop.trips) (v5093 : BitVec 32) (k0_hw341 : k0_chk341 i k0_t5 v5093), ∀ (k0_h3 : k0_cond3 i = 1#1), ∀ a, (k0_off970 i k0_t5 v5093) a + S1x8x128.size a ≤ S7296x8x128.size a := fun i k0_t5 v5093 k0_hw341 k0_h3 => k0_hw341.1 k0_h3
theorem k0_off973_inb : ∀ (i : grid0.Coords) (k0_t5 : Fin k0_t5_loop.trips) (v5093 : BitVec 32) (k0_hw341 : k0_chk341 i k0_t5 v5093), ∀ (k0_h3 : k0_cond3 i = 1#1), ∀ a, (k0_off973 i k0_t5 v5093) a + S1x8x128.size a ≤ S7296x8x128.size a := fun i k0_t5 v5093 k0_hw341 k0_h3 => k0_hw341.2.1 k0_h3
theorem k0_off976_inb : ∀ (i : grid0.Coords) (k0_t5 : Fin k0_t5_loop.trips) (v5093 : BitVec 32) (k0_hw341 : k0_chk341 i k0_t5 v5093), ∀ (k0_h3 : k0_cond3 i = 1#1), ∀ a, (k0_off976 i k0_t5 v5093) a + S1x8x128.size a ≤ S7296x8x128.size a := fun i k0_t5 v5093 k0_hw341 k0_h3 => k0_hw341.2.2.1 k0_h3
theorem k0_off979_inb : ∀ (i : grid0.Coords) (k0_t5 : Fin k0_t5_loop.trips) (v5093 : BitVec 32) (k0_hw341 : k0_chk341 i k0_t5 v5093), ∀ (k0_h3 : k0_cond3 i = 1#1), ∀ a, (k0_off979 i k0_t5 v5093) a + S1x8x128.size a ≤ S7296x8x128.size a := fun i k0_t5 v5093 k0_hw341 k0_h3 => k0_hw341.2.2.2.1 k0_h3
theorem k0_off981_inb : ∀ (i : grid0.Coords) (k0_t5 : Fin k0_t5_loop.trips) (v5093 : BitVec 32) (k0_hw341 : k0_chk341 i k0_t5 v5093), ∀ (k0_h3 : k0_cond3 i = 1#1), ∀ (r : Fin 4), ∀ a, (k0_off981 i k0_t5 v5093 (BitVec.ofNat 32 r.val)) a + S1x8x128.size a ≤ S7296x8x128.size a := fun i k0_t5 v5093 k0_hw341 k0_h3 r => k0_hw341.2.2.2.2 k0_h3 r

def k0_off982 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2521 : BitVec 32 := 38#32
  let v5161 : BitVec 32 := Scalar.muli arg13 c38_i32_2521
  let c31_i32 : BitVec 32 := 31#32
  let v5162 : BitVec 32 := Scalar.addi v5161 c31_i32
  let v5163 : Index := Scalar.indexCast v5162
  ![v5163.toNat]
def k0_off983 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2521 : BitVec 32 := 38#32
  let v5161 : BitVec 32 := Scalar.muli arg13 c38_i32_2521
  let c31_i32 : BitVec 32 := 31#32
  let v5162 : BitVec 32 := Scalar.addi v5161 c31_i32
  let c4_i32_2530 : BitVec 32 := 4#32
  let v5176 : BitVec 32 := Scalar.muli v5162 c4_i32_2530
  let c0_i32_2531 : BitVec 32 := 0#32
  let v5177 : BitVec 32 := Scalar.addi v5176 c0_i32_2531
  let v5178 : Index := Scalar.indexCast v5177
  ![v5178.toNat]
def k0_off984 (i : grid0.Coords) (k0_t5 : Fin k0_t5_loop.trips) (v5164 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2523 : BitVec 32 := 2#32
  let v5167 : BitVec 32 := Scalar.muli v2959 c2_i32_2523
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5165 : BitVec 32 := Scalar.shrui v5164 v2958
  let c1_i32_2522 : BitVec 32 := 1#32
  let v5166 : BitVec 32 := Scalar.andi v5165 c1_i32_2522
  let v5168 : BitVec 32 := Scalar.addi v5167 v5166
  let c1216_i32_2524 : BitVec 32 := 1216#32
  let v5169 : BitVec 32 := Scalar.muli v5168 c1216_i32_2524
  let c0_i32_7 : BitVec 32 := 0#32
  let c1_i32_9 : BitVec 32 := 1#32
  let arg13 : BitVec 32 := Scf.iv c0_i32_7 c1_i32_9 k0_t5
  let c38_i32_2521 : BitVec 32 := 38#32
  let v5161 : BitVec 32 := Scalar.muli arg13 c38_i32_2521
  let c31_i32 : BitVec 32 := 31#32
  let v5162 : BitVec 32 := Scalar.addi v5161 c31_i32
  let c4_i32_2525 : BitVec 32 := 4#32
  let v5170 : BitVec 32 := Scalar.muli v5162 c4_i32_2525
  let v5171 : BitVec 32 := Scalar.addi v5169 v5170
  let c0_i32_2526 : BitVec 32 := 0#32
  let v5172 : BitVec 32 := Scalar.addi v5171 c0_i32_2526
  let v5180 : Index := Scalar.indexCast v5172
  let c0_2532 : Index := 0#32
  let c0_2533 : Index := 0#32
  ![v5180.toNat, 0, 0]

def k0_off985 (v5179 : BitVec 32) : Fin 2 → Nat :=
  let v5183 : Index := Scalar.indexCast v5179
  let c0_2534 : Index := 0#32
  ![v5183.toNat, 0]

def k0_chk347 (i : grid0.Coords) (v5179 : BitVec 32) : Prop :=
  (∀ (k0_h3 : k0_cond3 i = 1#1), ∀ a, (k0_off985 v5179) a + S8x128.size a ≤ S18432x128.size a)
theorem k0_off985_inb : ∀ (i : grid0.Coords) (v5179 : BitVec 32) (k0_hw347 : k0_chk347 i v5179), ∀ (k0_h3 : k0_cond3 i = 1#1), ∀ a, (k0_off985 v5179) a + S8x128.size a ≤ S18432x128.size a := fun i v5179 k0_hw347 k0_h3 => k0_hw347 k0_h3

def k0_off986 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2521 : BitVec 32 := 38#32
  let v5161 : BitVec 32 := Scalar.muli arg13 c38_i32_2521
  let c31_i32 : BitVec 32 := 31#32
  let v5162 : BitVec 32 := Scalar.addi v5161 c31_i32
  let c4_i32_2535 : BitVec 32 := 4#32
  let v5186 : BitVec 32 := Scalar.muli v5162 c4_i32_2535
  let c1_i32_2536 : BitVec 32 := 1#32
  let v5187 : BitVec 32 := Scalar.addi v5186 c1_i32_2536
  let v5188 : Index := Scalar.indexCast v5187
  ![v5188.toNat]
def k0_off987 (i : grid0.Coords) (k0_t5 : Fin k0_t5_loop.trips) (v5164 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2523 : BitVec 32 := 2#32
  let v5167 : BitVec 32 := Scalar.muli v2959 c2_i32_2523
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5165 : BitVec 32 := Scalar.shrui v5164 v2958
  let c1_i32_2522 : BitVec 32 := 1#32
  let v5166 : BitVec 32 := Scalar.andi v5165 c1_i32_2522
  let v5168 : BitVec 32 := Scalar.addi v5167 v5166
  let c1216_i32_2524 : BitVec 32 := 1216#32
  let v5169 : BitVec 32 := Scalar.muli v5168 c1216_i32_2524
  let c0_i32_7 : BitVec 32 := 0#32
  let c1_i32_9 : BitVec 32 := 1#32
  let arg13 : BitVec 32 := Scf.iv c0_i32_7 c1_i32_9 k0_t5
  let c38_i32_2521 : BitVec 32 := 38#32
  let v5161 : BitVec 32 := Scalar.muli arg13 c38_i32_2521
  let c31_i32 : BitVec 32 := 31#32
  let v5162 : BitVec 32 := Scalar.addi v5161 c31_i32
  let c4_i32_2525 : BitVec 32 := 4#32
  let v5170 : BitVec 32 := Scalar.muli v5162 c4_i32_2525
  let v5171 : BitVec 32 := Scalar.addi v5169 v5170
  let c1_i32_2527 : BitVec 32 := 1#32
  let v5173 : BitVec 32 := Scalar.addi v5171 c1_i32_2527
  let v5190 : Index := Scalar.indexCast v5173
  let c0_2537 : Index := 0#32
  let c0_2538 : Index := 0#32
  ![v5190.toNat, 0, 0]
def k0_off988 (v5189 : BitVec 32) : Fin 2 → Nat :=
  let v5193 : Index := Scalar.indexCast v5189
  let c0_2539 : Index := 0#32
  ![v5193.toNat, 0]

def k0_chk348 (i : grid0.Coords) (v5189 : BitVec 32) : Prop :=
  (∀ (k0_h3 : k0_cond3 i = 1#1), ∀ a, (k0_off988 v5189) a + S8x128.size a ≤ S18432x128.size a)
theorem k0_off988_inb : ∀ (i : grid0.Coords) (v5189 : BitVec 32) (k0_hw348 : k0_chk348 i v5189), ∀ (k0_h3 : k0_cond3 i = 1#1), ∀ a, (k0_off988 v5189) a + S8x128.size a ≤ S18432x128.size a := fun i v5189 k0_hw348 k0_h3 => k0_hw348 k0_h3

def k0_off989 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2521 : BitVec 32 := 38#32
  let v5161 : BitVec 32 := Scalar.muli arg13 c38_i32_2521
  let c31_i32 : BitVec 32 := 31#32
  let v5162 : BitVec 32 := Scalar.addi v5161 c31_i32
  let c4_i32_2540 : BitVec 32 := 4#32
  let v5196 : BitVec 32 := Scalar.muli v5162 c4_i32_2540
  let c2_i32_2541 : BitVec 32 := 2#32
  let v5197 : BitVec 32 := Scalar.addi v5196 c2_i32_2541
  let v5198 : Index := Scalar.indexCast v5197
  ![v5198.toNat]
def k0_off990 (i : grid0.Coords) (k0_t5 : Fin k0_t5_loop.trips) (v5164 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2523 : BitVec 32 := 2#32
  let v5167 : BitVec 32 := Scalar.muli v2959 c2_i32_2523
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5165 : BitVec 32 := Scalar.shrui v5164 v2958
  let c1_i32_2522 : BitVec 32 := 1#32
  let v5166 : BitVec 32 := Scalar.andi v5165 c1_i32_2522
  let v5168 : BitVec 32 := Scalar.addi v5167 v5166
  let c1216_i32_2524 : BitVec 32 := 1216#32
  let v5169 : BitVec 32 := Scalar.muli v5168 c1216_i32_2524
  let c0_i32_7 : BitVec 32 := 0#32
  let c1_i32_9 : BitVec 32 := 1#32
  let arg13 : BitVec 32 := Scf.iv c0_i32_7 c1_i32_9 k0_t5
  let c38_i32_2521 : BitVec 32 := 38#32
  let v5161 : BitVec 32 := Scalar.muli arg13 c38_i32_2521
  let c31_i32 : BitVec 32 := 31#32
  let v5162 : BitVec 32 := Scalar.addi v5161 c31_i32
  let c4_i32_2525 : BitVec 32 := 4#32
  let v5170 : BitVec 32 := Scalar.muli v5162 c4_i32_2525
  let v5171 : BitVec 32 := Scalar.addi v5169 v5170
  let c2_i32_2528 : BitVec 32 := 2#32
  let v5174 : BitVec 32 := Scalar.addi v5171 c2_i32_2528
  let v5200 : Index := Scalar.indexCast v5174
  let c0_2542 : Index := 0#32
  let c0_2543 : Index := 0#32
  ![v5200.toNat, 0, 0]
def k0_off991 (v5199 : BitVec 32) : Fin 2 → Nat :=
  let v5203 : Index := Scalar.indexCast v5199
  let c0_2544 : Index := 0#32
  ![v5203.toNat, 0]

def k0_chk349 (i : grid0.Coords) (v5199 : BitVec 32) : Prop :=
  (∀ (k0_h3 : k0_cond3 i = 1#1), ∀ a, (k0_off991 v5199) a + S8x128.size a ≤ S18432x128.size a)
theorem k0_off991_inb : ∀ (i : grid0.Coords) (v5199 : BitVec 32) (k0_hw349 : k0_chk349 i v5199), ∀ (k0_h3 : k0_cond3 i = 1#1), ∀ a, (k0_off991 v5199) a + S8x128.size a ≤ S18432x128.size a := fun i v5199 k0_hw349 k0_h3 => k0_hw349 k0_h3

def k0_off992 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2521 : BitVec 32 := 38#32
  let v5161 : BitVec 32 := Scalar.muli arg13 c38_i32_2521
  let c31_i32 : BitVec 32 := 31#32
  let v5162 : BitVec 32 := Scalar.addi v5161 c31_i32
  let c4_i32_2545 : BitVec 32 := 4#32
  let v5206 : BitVec 32 := Scalar.muli v5162 c4_i32_2545
  let c3_i32_2546 : BitVec 32 := 3#32
  let v5207 : BitVec 32 := Scalar.addi v5206 c3_i32_2546
  let v5208 : Index := Scalar.indexCast v5207
  ![v5208.toNat]
def k0_off993 (i : grid0.Coords) (k0_t5 : Fin k0_t5_loop.trips) (v5164 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2523 : BitVec 32 := 2#32
  let v5167 : BitVec 32 := Scalar.muli v2959 c2_i32_2523
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5165 : BitVec 32 := Scalar.shrui v5164 v2958
  let c1_i32_2522 : BitVec 32 := 1#32
  let v5166 : BitVec 32 := Scalar.andi v5165 c1_i32_2522
  let v5168 : BitVec 32 := Scalar.addi v5167 v5166
  let c1216_i32_2524 : BitVec 32 := 1216#32
  let v5169 : BitVec 32 := Scalar.muli v5168 c1216_i32_2524
  let c0_i32_7 : BitVec 32 := 0#32
  let c1_i32_9 : BitVec 32 := 1#32
  let arg13 : BitVec 32 := Scf.iv c0_i32_7 c1_i32_9 k0_t5
  let c38_i32_2521 : BitVec 32 := 38#32
  let v5161 : BitVec 32 := Scalar.muli arg13 c38_i32_2521
  let c31_i32 : BitVec 32 := 31#32
  let v5162 : BitVec 32 := Scalar.addi v5161 c31_i32
  let c4_i32_2525 : BitVec 32 := 4#32
  let v5170 : BitVec 32 := Scalar.muli v5162 c4_i32_2525
  let v5171 : BitVec 32 := Scalar.addi v5169 v5170
  let c3_i32_2529 : BitVec 32 := 3#32
  let v5175 : BitVec 32 := Scalar.addi v5171 c3_i32_2529
  let v5210 : Index := Scalar.indexCast v5175
  let c0_2547 : Index := 0#32
  let c0_2548 : Index := 0#32
  ![v5210.toNat, 0, 0]
def k0_off994 (v5209 : BitVec 32) : Fin 2 → Nat :=
  let v5213 : Index := Scalar.indexCast v5209
  let c0_2549 : Index := 0#32
  ![v5213.toNat, 0]

def k0_chk350 (i : grid0.Coords) (v5209 : BitVec 32) : Prop :=
  (∀ (k0_h3 : k0_cond3 i = 1#1), ∀ a, (k0_off994 v5209) a + S8x128.size a ≤ S18432x128.size a)
theorem k0_off994_inb : ∀ (i : grid0.Coords) (v5209 : BitVec 32) (k0_hw350 : k0_chk350 i v5209), ∀ (k0_h3 : k0_cond3 i = 1#1), ∀ a, (k0_off994 v5209) a + S8x128.size a ≤ S18432x128.size a := fun i v5209 k0_hw350 k0_h3 => k0_hw350 k0_h3

def k0_off995 (i : grid0.Coords) (k0_t5 : Fin k0_t5_loop.trips) (v5164 : BitVec 32) (c0_i32_2526 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2523 : BitVec 32 := 2#32
  let v5167 : BitVec 32 := Scalar.muli v2959 c2_i32_2523
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5165 : BitVec 32 := Scalar.shrui v5164 v2958
  let c1_i32_2522 : BitVec 32 := 1#32
  let v5166 : BitVec 32 := Scalar.andi v5165 c1_i32_2522
  let v5168 : BitVec 32 := Scalar.addi v5167 v5166
  let c1216_i32_2524 : BitVec 32 := 1216#32
  let v5169 : BitVec 32 := Scalar.muli v5168 c1216_i32_2524
  let c0_i32_7 : BitVec 32 := 0#32
  let c1_i32_9 : BitVec 32 := 1#32
  let arg13 : BitVec 32 := Scf.iv c0_i32_7 c1_i32_9 k0_t5
  let c38_i32_2521 : BitVec 32 := 38#32
  let v5161 : BitVec 32 := Scalar.muli arg13 c38_i32_2521
  let c31_i32 : BitVec 32 := 31#32
  let v5162 : BitVec 32 := Scalar.addi v5161 c31_i32
  let c4_i32_2525 : BitVec 32 := 4#32
  let v5170 : BitVec 32 := Scalar.muli v5162 c4_i32_2525
  let v5171 : BitVec 32 := Scalar.addi v5169 v5170
  let v5172 : BitVec 32 := Scalar.addi v5171 c0_i32_2526
  let v5216 : Index := Scalar.indexCast v5172
  let c0_2550 : Index := 0#32
  let c0_2551 : Index := 0#32
  ![v5216.toNat, 0, 0]

def k0_chk346 (i : grid0.Coords) (k0_t5 : Fin k0_t5_loop.trips) (v5164 : BitVec 32) : Prop :=
  (∀ (k0_h3 : k0_cond3 i = 1#1), ∀ a, (k0_off984 i k0_t5 v5164) a + S1x8x128.size a ≤ S7296x8x128.size a) ∧
  (∀ (k0_h3 : k0_cond3 i = 1#1), ∀ a, (k0_off987 i k0_t5 v5164) a + S1x8x128.size a ≤ S7296x8x128.size a) ∧
  (∀ (k0_h3 : k0_cond3 i = 1#1), ∀ a, (k0_off990 i k0_t5 v5164) a + S1x8x128.size a ≤ S7296x8x128.size a) ∧
  (∀ (k0_h3 : k0_cond3 i = 1#1), ∀ a, (k0_off993 i k0_t5 v5164) a + S1x8x128.size a ≤ S7296x8x128.size a) ∧
  (∀ (k0_h3 : k0_cond3 i = 1#1), ∀ (r : Fin 4), ∀ a, (k0_off995 i k0_t5 v5164 (BitVec.ofNat 32 r.val)) a + S1x8x128.size a ≤ S7296x8x128.size a)
theorem k0_off984_inb : ∀ (i : grid0.Coords) (k0_t5 : Fin k0_t5_loop.trips) (v5164 : BitVec 32) (k0_hw346 : k0_chk346 i k0_t5 v5164), ∀ (k0_h3 : k0_cond3 i = 1#1), ∀ a, (k0_off984 i k0_t5 v5164) a + S1x8x128.size a ≤ S7296x8x128.size a := fun i k0_t5 v5164 k0_hw346 k0_h3 => k0_hw346.1 k0_h3
theorem k0_off987_inb : ∀ (i : grid0.Coords) (k0_t5 : Fin k0_t5_loop.trips) (v5164 : BitVec 32) (k0_hw346 : k0_chk346 i k0_t5 v5164), ∀ (k0_h3 : k0_cond3 i = 1#1), ∀ a, (k0_off987 i k0_t5 v5164) a + S1x8x128.size a ≤ S7296x8x128.size a := fun i k0_t5 v5164 k0_hw346 k0_h3 => k0_hw346.2.1 k0_h3
theorem k0_off990_inb : ∀ (i : grid0.Coords) (k0_t5 : Fin k0_t5_loop.trips) (v5164 : BitVec 32) (k0_hw346 : k0_chk346 i k0_t5 v5164), ∀ (k0_h3 : k0_cond3 i = 1#1), ∀ a, (k0_off990 i k0_t5 v5164) a + S1x8x128.size a ≤ S7296x8x128.size a := fun i k0_t5 v5164 k0_hw346 k0_h3 => k0_hw346.2.2.1 k0_h3
theorem k0_off993_inb : ∀ (i : grid0.Coords) (k0_t5 : Fin k0_t5_loop.trips) (v5164 : BitVec 32) (k0_hw346 : k0_chk346 i k0_t5 v5164), ∀ (k0_h3 : k0_cond3 i = 1#1), ∀ a, (k0_off993 i k0_t5 v5164) a + S1x8x128.size a ≤ S7296x8x128.size a := fun i k0_t5 v5164 k0_hw346 k0_h3 => k0_hw346.2.2.2.1 k0_h3
theorem k0_off995_inb : ∀ (i : grid0.Coords) (k0_t5 : Fin k0_t5_loop.trips) (v5164 : BitVec 32) (k0_hw346 : k0_chk346 i k0_t5 v5164), ∀ (k0_h3 : k0_cond3 i = 1#1), ∀ (r : Fin 4), ∀ a, (k0_off995 i k0_t5 v5164 (BitVec.ofNat 32 r.val)) a + S1x8x128.size a ≤ S7296x8x128.size a := fun i k0_t5 v5164 k0_hw346 k0_h3 r => k0_hw346.2.2.2.2 k0_h3 r

def k0_off996 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2558 : BitVec 32 := 38#32
  let v5232 : BitVec 32 := Scalar.muli arg13 c38_i32_2558
  let c32_i32 : BitVec 32 := 32#32
  let v5233 : BitVec 32 := Scalar.addi v5232 c32_i32
  let v5234 : Index := Scalar.indexCast v5233
  ![v5234.toNat]
def k0_off997 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2558 : BitVec 32 := 38#32
  let v5232 : BitVec 32 := Scalar.muli arg13 c38_i32_2558
  let c32_i32 : BitVec 32 := 32#32
  let v5233 : BitVec 32 := Scalar.addi v5232 c32_i32
  let c4_i32_2567 : BitVec 32 := 4#32
  let v5247 : BitVec 32 := Scalar.muli v5233 c4_i32_2567
  let c0_i32_2568 : BitVec 32 := 0#32
  let v5248 : BitVec 32 := Scalar.addi v5247 c0_i32_2568
  let v5249 : Index := Scalar.indexCast v5248
  ![v5249.toNat]
def k0_off998 (i : grid0.Coords) (k0_t5 : Fin k0_t5_loop.trips) (v5235 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2560 : BitVec 32 := 2#32
  let v5238 : BitVec 32 := Scalar.muli v2959 c2_i32_2560
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5236 : BitVec 32 := Scalar.shrui v5235 v2958
  let c1_i32_2559 : BitVec 32 := 1#32
  let v5237 : BitVec 32 := Scalar.andi v5236 c1_i32_2559
  let v5239 : BitVec 32 := Scalar.addi v5238 v5237
  let c1216_i32_2561 : BitVec 32 := 1216#32
  let v5240 : BitVec 32 := Scalar.muli v5239 c1216_i32_2561
  let c0_i32_7 : BitVec 32 := 0#32
  let c1_i32_9 : BitVec 32 := 1#32
  let arg13 : BitVec 32 := Scf.iv c0_i32_7 c1_i32_9 k0_t5
  let c38_i32_2558 : BitVec 32 := 38#32
  let v5232 : BitVec 32 := Scalar.muli arg13 c38_i32_2558
  let c32_i32 : BitVec 32 := 32#32
  let v5233 : BitVec 32 := Scalar.addi v5232 c32_i32
  let c4_i32_2562 : BitVec 32 := 4#32
  let v5241 : BitVec 32 := Scalar.muli v5233 c4_i32_2562
  let v5242 : BitVec 32 := Scalar.addi v5240 v5241
  let c0_i32_2563 : BitVec 32 := 0#32
  let v5243 : BitVec 32 := Scalar.addi v5242 c0_i32_2563
  let v5251 : Index := Scalar.indexCast v5243
  let c0_2569 : Index := 0#32
  let c0_2570 : Index := 0#32
  ![v5251.toNat, 0, 0]

def k0_off999 (v5250 : BitVec 32) : Fin 2 → Nat :=
  let v5254 : Index := Scalar.indexCast v5250
  let c0_2571 : Index := 0#32
  ![v5254.toNat, 0]

def k0_chk352 (i : grid0.Coords) (v5250 : BitVec 32) : Prop :=
  (∀ (k0_h3 : k0_cond3 i = 1#1), ∀ a, (k0_off999 v5250) a + S8x128.size a ≤ S18432x128.size a)
theorem k0_off999_inb : ∀ (i : grid0.Coords) (v5250 : BitVec 32) (k0_hw352 : k0_chk352 i v5250), ∀ (k0_h3 : k0_cond3 i = 1#1), ∀ a, (k0_off999 v5250) a + S8x128.size a ≤ S18432x128.size a := fun i v5250 k0_hw352 k0_h3 => k0_hw352 k0_h3

def k0_off1000 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2558 : BitVec 32 := 38#32
  let v5232 : BitVec 32 := Scalar.muli arg13 c38_i32_2558
  let c32_i32 : BitVec 32 := 32#32
  let v5233 : BitVec 32 := Scalar.addi v5232 c32_i32
  let c4_i32_2572 : BitVec 32 := 4#32
  let v5257 : BitVec 32 := Scalar.muli v5233 c4_i32_2572
  let c1_i32_2573 : BitVec 32 := 1#32
  let v5258 : BitVec 32 := Scalar.addi v5257 c1_i32_2573
  let v5259 : Index := Scalar.indexCast v5258
  ![v5259.toNat]
def k0_off1001 (i : grid0.Coords) (k0_t5 : Fin k0_t5_loop.trips) (v5235 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2560 : BitVec 32 := 2#32
  let v5238 : BitVec 32 := Scalar.muli v2959 c2_i32_2560
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5236 : BitVec 32 := Scalar.shrui v5235 v2958
  let c1_i32_2559 : BitVec 32 := 1#32
  let v5237 : BitVec 32 := Scalar.andi v5236 c1_i32_2559
  let v5239 : BitVec 32 := Scalar.addi v5238 v5237
  let c1216_i32_2561 : BitVec 32 := 1216#32
  let v5240 : BitVec 32 := Scalar.muli v5239 c1216_i32_2561
  let c0_i32_7 : BitVec 32 := 0#32
  let c1_i32_9 : BitVec 32 := 1#32
  let arg13 : BitVec 32 := Scf.iv c0_i32_7 c1_i32_9 k0_t5
  let c38_i32_2558 : BitVec 32 := 38#32
  let v5232 : BitVec 32 := Scalar.muli arg13 c38_i32_2558
  let c32_i32 : BitVec 32 := 32#32
  let v5233 : BitVec 32 := Scalar.addi v5232 c32_i32
  let c4_i32_2562 : BitVec 32 := 4#32
  let v5241 : BitVec 32 := Scalar.muli v5233 c4_i32_2562
  let v5242 : BitVec 32 := Scalar.addi v5240 v5241
  let c1_i32_2564 : BitVec 32 := 1#32
  let v5244 : BitVec 32 := Scalar.addi v5242 c1_i32_2564
  let v5261 : Index := Scalar.indexCast v5244
  let c0_2574 : Index := 0#32
  let c0_2575 : Index := 0#32
  ![v5261.toNat, 0, 0]
def k0_off1002 (v5260 : BitVec 32) : Fin 2 → Nat :=
  let v5264 : Index := Scalar.indexCast v5260
  let c0_2576 : Index := 0#32
  ![v5264.toNat, 0]

def k0_chk353 (i : grid0.Coords) (v5260 : BitVec 32) : Prop :=
  (∀ (k0_h3 : k0_cond3 i = 1#1), ∀ a, (k0_off1002 v5260) a + S8x128.size a ≤ S18432x128.size a)
theorem k0_off1002_inb : ∀ (i : grid0.Coords) (v5260 : BitVec 32) (k0_hw353 : k0_chk353 i v5260), ∀ (k0_h3 : k0_cond3 i = 1#1), ∀ a, (k0_off1002 v5260) a + S8x128.size a ≤ S18432x128.size a := fun i v5260 k0_hw353 k0_h3 => k0_hw353 k0_h3

def k0_off1003 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2558 : BitVec 32 := 38#32
  let v5232 : BitVec 32 := Scalar.muli arg13 c38_i32_2558
  let c32_i32 : BitVec 32 := 32#32
  let v5233 : BitVec 32 := Scalar.addi v5232 c32_i32
  let c4_i32_2577 : BitVec 32 := 4#32
  let v5267 : BitVec 32 := Scalar.muli v5233 c4_i32_2577
  let c2_i32_2578 : BitVec 32 := 2#32
  let v5268 : BitVec 32 := Scalar.addi v5267 c2_i32_2578
  let v5269 : Index := Scalar.indexCast v5268
  ![v5269.toNat]
def k0_off1004 (i : grid0.Coords) (k0_t5 : Fin k0_t5_loop.trips) (v5235 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2560 : BitVec 32 := 2#32
  let v5238 : BitVec 32 := Scalar.muli v2959 c2_i32_2560
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5236 : BitVec 32 := Scalar.shrui v5235 v2958
  let c1_i32_2559 : BitVec 32 := 1#32
  let v5237 : BitVec 32 := Scalar.andi v5236 c1_i32_2559
  let v5239 : BitVec 32 := Scalar.addi v5238 v5237
  let c1216_i32_2561 : BitVec 32 := 1216#32
  let v5240 : BitVec 32 := Scalar.muli v5239 c1216_i32_2561
  let c0_i32_7 : BitVec 32 := 0#32
  let c1_i32_9 : BitVec 32 := 1#32
  let arg13 : BitVec 32 := Scf.iv c0_i32_7 c1_i32_9 k0_t5
  let c38_i32_2558 : BitVec 32 := 38#32
  let v5232 : BitVec 32 := Scalar.muli arg13 c38_i32_2558
  let c32_i32 : BitVec 32 := 32#32
  let v5233 : BitVec 32 := Scalar.addi v5232 c32_i32
  let c4_i32_2562 : BitVec 32 := 4#32
  let v5241 : BitVec 32 := Scalar.muli v5233 c4_i32_2562
  let v5242 : BitVec 32 := Scalar.addi v5240 v5241
  let c2_i32_2565 : BitVec 32 := 2#32
  let v5245 : BitVec 32 := Scalar.addi v5242 c2_i32_2565
  let v5271 : Index := Scalar.indexCast v5245
  let c0_2579 : Index := 0#32
  let c0_2580 : Index := 0#32
  ![v5271.toNat, 0, 0]
def k0_off1005 (v5270 : BitVec 32) : Fin 2 → Nat :=
  let v5274 : Index := Scalar.indexCast v5270
  let c0_2581 : Index := 0#32
  ![v5274.toNat, 0]

def k0_chk354 (i : grid0.Coords) (v5270 : BitVec 32) : Prop :=
  (∀ (k0_h3 : k0_cond3 i = 1#1), ∀ a, (k0_off1005 v5270) a + S8x128.size a ≤ S18432x128.size a)
theorem k0_off1005_inb : ∀ (i : grid0.Coords) (v5270 : BitVec 32) (k0_hw354 : k0_chk354 i v5270), ∀ (k0_h3 : k0_cond3 i = 1#1), ∀ a, (k0_off1005 v5270) a + S8x128.size a ≤ S18432x128.size a := fun i v5270 k0_hw354 k0_h3 => k0_hw354 k0_h3

def k0_off1006 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2558 : BitVec 32 := 38#32
  let v5232 : BitVec 32 := Scalar.muli arg13 c38_i32_2558
  let c32_i32 : BitVec 32 := 32#32
  let v5233 : BitVec 32 := Scalar.addi v5232 c32_i32
  let c4_i32_2582 : BitVec 32 := 4#32
  let v5277 : BitVec 32 := Scalar.muli v5233 c4_i32_2582
  let c3_i32_2583 : BitVec 32 := 3#32
  let v5278 : BitVec 32 := Scalar.addi v5277 c3_i32_2583
  let v5279 : Index := Scalar.indexCast v5278
  ![v5279.toNat]
def k0_off1007 (i : grid0.Coords) (k0_t5 : Fin k0_t5_loop.trips) (v5235 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2560 : BitVec 32 := 2#32
  let v5238 : BitVec 32 := Scalar.muli v2959 c2_i32_2560
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5236 : BitVec 32 := Scalar.shrui v5235 v2958
  let c1_i32_2559 : BitVec 32 := 1#32
  let v5237 : BitVec 32 := Scalar.andi v5236 c1_i32_2559
  let v5239 : BitVec 32 := Scalar.addi v5238 v5237
  let c1216_i32_2561 : BitVec 32 := 1216#32
  let v5240 : BitVec 32 := Scalar.muli v5239 c1216_i32_2561
  let c0_i32_7 : BitVec 32 := 0#32
  let c1_i32_9 : BitVec 32 := 1#32
  let arg13 : BitVec 32 := Scf.iv c0_i32_7 c1_i32_9 k0_t5
  let c38_i32_2558 : BitVec 32 := 38#32
  let v5232 : BitVec 32 := Scalar.muli arg13 c38_i32_2558
  let c32_i32 : BitVec 32 := 32#32
  let v5233 : BitVec 32 := Scalar.addi v5232 c32_i32
  let c4_i32_2562 : BitVec 32 := 4#32
  let v5241 : BitVec 32 := Scalar.muli v5233 c4_i32_2562
  let v5242 : BitVec 32 := Scalar.addi v5240 v5241
  let c3_i32_2566 : BitVec 32 := 3#32
  let v5246 : BitVec 32 := Scalar.addi v5242 c3_i32_2566
  let v5281 : Index := Scalar.indexCast v5246
  let c0_2584 : Index := 0#32
  let c0_2585 : Index := 0#32
  ![v5281.toNat, 0, 0]
def k0_off1008 (v5280 : BitVec 32) : Fin 2 → Nat :=
  let v5284 : Index := Scalar.indexCast v5280
  let c0_2586 : Index := 0#32
  ![v5284.toNat, 0]

def k0_chk355 (i : grid0.Coords) (v5280 : BitVec 32) : Prop :=
  (∀ (k0_h3 : k0_cond3 i = 1#1), ∀ a, (k0_off1008 v5280) a + S8x128.size a ≤ S18432x128.size a)
theorem k0_off1008_inb : ∀ (i : grid0.Coords) (v5280 : BitVec 32) (k0_hw355 : k0_chk355 i v5280), ∀ (k0_h3 : k0_cond3 i = 1#1), ∀ a, (k0_off1008 v5280) a + S8x128.size a ≤ S18432x128.size a := fun i v5280 k0_hw355 k0_h3 => k0_hw355 k0_h3

def k0_off1009 (i : grid0.Coords) (k0_t5 : Fin k0_t5_loop.trips) (v5235 : BitVec 32) (c0_i32_2563 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2560 : BitVec 32 := 2#32
  let v5238 : BitVec 32 := Scalar.muli v2959 c2_i32_2560
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5236 : BitVec 32 := Scalar.shrui v5235 v2958
  let c1_i32_2559 : BitVec 32 := 1#32
  let v5237 : BitVec 32 := Scalar.andi v5236 c1_i32_2559
  let v5239 : BitVec 32 := Scalar.addi v5238 v5237
  let c1216_i32_2561 : BitVec 32 := 1216#32
  let v5240 : BitVec 32 := Scalar.muli v5239 c1216_i32_2561
  let c0_i32_7 : BitVec 32 := 0#32
  let c1_i32_9 : BitVec 32 := 1#32
  let arg13 : BitVec 32 := Scf.iv c0_i32_7 c1_i32_9 k0_t5
  let c38_i32_2558 : BitVec 32 := 38#32
  let v5232 : BitVec 32 := Scalar.muli arg13 c38_i32_2558
  let c32_i32 : BitVec 32 := 32#32
  let v5233 : BitVec 32 := Scalar.addi v5232 c32_i32
  let c4_i32_2562 : BitVec 32 := 4#32
  let v5241 : BitVec 32 := Scalar.muli v5233 c4_i32_2562
  let v5242 : BitVec 32 := Scalar.addi v5240 v5241
  let v5243 : BitVec 32 := Scalar.addi v5242 c0_i32_2563
  let v5287 : Index := Scalar.indexCast v5243
  let c0_2587 : Index := 0#32
  let c0_2588 : Index := 0#32
  ![v5287.toNat, 0, 0]

def k0_chk351 (i : grid0.Coords) (k0_t5 : Fin k0_t5_loop.trips) (v5235 : BitVec 32) : Prop :=
  (∀ (k0_h3 : k0_cond3 i = 1#1), ∀ a, (k0_off998 i k0_t5 v5235) a + S1x8x128.size a ≤ S7296x8x128.size a) ∧
  (∀ (k0_h3 : k0_cond3 i = 1#1), ∀ a, (k0_off1001 i k0_t5 v5235) a + S1x8x128.size a ≤ S7296x8x128.size a) ∧
  (∀ (k0_h3 : k0_cond3 i = 1#1), ∀ a, (k0_off1004 i k0_t5 v5235) a + S1x8x128.size a ≤ S7296x8x128.size a) ∧
  (∀ (k0_h3 : k0_cond3 i = 1#1), ∀ a, (k0_off1007 i k0_t5 v5235) a + S1x8x128.size a ≤ S7296x8x128.size a) ∧
  (∀ (k0_h3 : k0_cond3 i = 1#1), ∀ (r : Fin 4), ∀ a, (k0_off1009 i k0_t5 v5235 (BitVec.ofNat 32 r.val)) a + S1x8x128.size a ≤ S7296x8x128.size a)
theorem k0_off998_inb : ∀ (i : grid0.Coords) (k0_t5 : Fin k0_t5_loop.trips) (v5235 : BitVec 32) (k0_hw351 : k0_chk351 i k0_t5 v5235), ∀ (k0_h3 : k0_cond3 i = 1#1), ∀ a, (k0_off998 i k0_t5 v5235) a + S1x8x128.size a ≤ S7296x8x128.size a := fun i k0_t5 v5235 k0_hw351 k0_h3 => k0_hw351.1 k0_h3
theorem k0_off1001_inb : ∀ (i : grid0.Coords) (k0_t5 : Fin k0_t5_loop.trips) (v5235 : BitVec 32) (k0_hw351 : k0_chk351 i k0_t5 v5235), ∀ (k0_h3 : k0_cond3 i = 1#1), ∀ a, (k0_off1001 i k0_t5 v5235) a + S1x8x128.size a ≤ S7296x8x128.size a := fun i k0_t5 v5235 k0_hw351 k0_h3 => k0_hw351.2.1 k0_h3
theorem k0_off1004_inb : ∀ (i : grid0.Coords) (k0_t5 : Fin k0_t5_loop.trips) (v5235 : BitVec 32) (k0_hw351 : k0_chk351 i k0_t5 v5235), ∀ (k0_h3 : k0_cond3 i = 1#1), ∀ a, (k0_off1004 i k0_t5 v5235) a + S1x8x128.size a ≤ S7296x8x128.size a := fun i k0_t5 v5235 k0_hw351 k0_h3 => k0_hw351.2.2.1 k0_h3
theorem k0_off1007_inb : ∀ (i : grid0.Coords) (k0_t5 : Fin k0_t5_loop.trips) (v5235 : BitVec 32) (k0_hw351 : k0_chk351 i k0_t5 v5235), ∀ (k0_h3 : k0_cond3 i = 1#1), ∀ a, (k0_off1007 i k0_t5 v5235) a + S1x8x128.size a ≤ S7296x8x128.size a := fun i k0_t5 v5235 k0_hw351 k0_h3 => k0_hw351.2.2.2.1 k0_h3
theorem k0_off1009_inb : ∀ (i : grid0.Coords) (k0_t5 : Fin k0_t5_loop.trips) (v5235 : BitVec 32) (k0_hw351 : k0_chk351 i k0_t5 v5235), ∀ (k0_h3 : k0_cond3 i = 1#1), ∀ (r : Fin 4), ∀ a, (k0_off1009 i k0_t5 v5235 (BitVec.ofNat 32 r.val)) a + S1x8x128.size a ≤ S7296x8x128.size a := fun i k0_t5 v5235 k0_hw351 k0_h3 r => k0_hw351.2.2.2.2 k0_h3 r

def k0_off1010 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2595 : BitVec 32 := 38#32
  let v5303 : BitVec 32 := Scalar.muli arg13 c38_i32_2595
  let c33_i32 : BitVec 32 := 33#32
  let v5304 : BitVec 32 := Scalar.addi v5303 c33_i32
  let v5305 : Index := Scalar.indexCast v5304
  ![v5305.toNat]
def k0_off1011 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2595 : BitVec 32 := 38#32
  let v5303 : BitVec 32 := Scalar.muli arg13 c38_i32_2595
  let c33_i32 : BitVec 32 := 33#32
  let v5304 : BitVec 32 := Scalar.addi v5303 c33_i32
  let c4_i32_2604 : BitVec 32 := 4#32
  let v5318 : BitVec 32 := Scalar.muli v5304 c4_i32_2604
  let c0_i32_2605 : BitVec 32 := 0#32
  let v5319 : BitVec 32 := Scalar.addi v5318 c0_i32_2605
  let v5320 : Index := Scalar.indexCast v5319
  ![v5320.toNat]
def k0_off1012 (i : grid0.Coords) (k0_t5 : Fin k0_t5_loop.trips) (v5306 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2597 : BitVec 32 := 2#32
  let v5309 : BitVec 32 := Scalar.muli v2959 c2_i32_2597
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5307 : BitVec 32 := Scalar.shrui v5306 v2958
  let c1_i32_2596 : BitVec 32 := 1#32
  let v5308 : BitVec 32 := Scalar.andi v5307 c1_i32_2596
  let v5310 : BitVec 32 := Scalar.addi v5309 v5308
  let c1216_i32_2598 : BitVec 32 := 1216#32
  let v5311 : BitVec 32 := Scalar.muli v5310 c1216_i32_2598
  let c0_i32_7 : BitVec 32 := 0#32
  let c1_i32_9 : BitVec 32 := 1#32
  let arg13 : BitVec 32 := Scf.iv c0_i32_7 c1_i32_9 k0_t5
  let c38_i32_2595 : BitVec 32 := 38#32
  let v5303 : BitVec 32 := Scalar.muli arg13 c38_i32_2595
  let c33_i32 : BitVec 32 := 33#32
  let v5304 : BitVec 32 := Scalar.addi v5303 c33_i32
  let c4_i32_2599 : BitVec 32 := 4#32
  let v5312 : BitVec 32 := Scalar.muli v5304 c4_i32_2599
  let v5313 : BitVec 32 := Scalar.addi v5311 v5312
  let c0_i32_2600 : BitVec 32 := 0#32
  let v5314 : BitVec 32 := Scalar.addi v5313 c0_i32_2600
  let v5322 : Index := Scalar.indexCast v5314
  let c0_2606 : Index := 0#32
  let c0_2607 : Index := 0#32
  ![v5322.toNat, 0, 0]

def k0_off1013 (v5321 : BitVec 32) : Fin 2 → Nat :=
  let v5325 : Index := Scalar.indexCast v5321
  let c0_2608 : Index := 0#32
  ![v5325.toNat, 0]

def k0_chk357 (i : grid0.Coords) (v5321 : BitVec 32) : Prop :=
  (∀ (k0_h3 : k0_cond3 i = 1#1), ∀ a, (k0_off1013 v5321) a + S8x128.size a ≤ S18432x128.size a)
theorem k0_off1013_inb : ∀ (i : grid0.Coords) (v5321 : BitVec 32) (k0_hw357 : k0_chk357 i v5321), ∀ (k0_h3 : k0_cond3 i = 1#1), ∀ a, (k0_off1013 v5321) a + S8x128.size a ≤ S18432x128.size a := fun i v5321 k0_hw357 k0_h3 => k0_hw357 k0_h3

def k0_off1014 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2595 : BitVec 32 := 38#32
  let v5303 : BitVec 32 := Scalar.muli arg13 c38_i32_2595
  let c33_i32 : BitVec 32 := 33#32
  let v5304 : BitVec 32 := Scalar.addi v5303 c33_i32
  let c4_i32_2609 : BitVec 32 := 4#32
  let v5328 : BitVec 32 := Scalar.muli v5304 c4_i32_2609
  let c1_i32_2610 : BitVec 32 := 1#32
  let v5329 : BitVec 32 := Scalar.addi v5328 c1_i32_2610
  let v5330 : Index := Scalar.indexCast v5329
  ![v5330.toNat]
def k0_off1015 (i : grid0.Coords) (k0_t5 : Fin k0_t5_loop.trips) (v5306 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2597 : BitVec 32 := 2#32
  let v5309 : BitVec 32 := Scalar.muli v2959 c2_i32_2597
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5307 : BitVec 32 := Scalar.shrui v5306 v2958
  let c1_i32_2596 : BitVec 32 := 1#32
  let v5308 : BitVec 32 := Scalar.andi v5307 c1_i32_2596
  let v5310 : BitVec 32 := Scalar.addi v5309 v5308
  let c1216_i32_2598 : BitVec 32 := 1216#32
  let v5311 : BitVec 32 := Scalar.muli v5310 c1216_i32_2598
  let c0_i32_7 : BitVec 32 := 0#32
  let c1_i32_9 : BitVec 32 := 1#32
  let arg13 : BitVec 32 := Scf.iv c0_i32_7 c1_i32_9 k0_t5
  let c38_i32_2595 : BitVec 32 := 38#32
  let v5303 : BitVec 32 := Scalar.muli arg13 c38_i32_2595
  let c33_i32 : BitVec 32 := 33#32
  let v5304 : BitVec 32 := Scalar.addi v5303 c33_i32
  let c4_i32_2599 : BitVec 32 := 4#32
  let v5312 : BitVec 32 := Scalar.muli v5304 c4_i32_2599
  let v5313 : BitVec 32 := Scalar.addi v5311 v5312
  let c1_i32_2601 : BitVec 32 := 1#32
  let v5315 : BitVec 32 := Scalar.addi v5313 c1_i32_2601
  let v5332 : Index := Scalar.indexCast v5315
  let c0_2611 : Index := 0#32
  let c0_2612 : Index := 0#32
  ![v5332.toNat, 0, 0]
def k0_off1016 (v5331 : BitVec 32) : Fin 2 → Nat :=
  let v5335 : Index := Scalar.indexCast v5331
  let c0_2613 : Index := 0#32
  ![v5335.toNat, 0]

def k0_chk358 (i : grid0.Coords) (v5331 : BitVec 32) : Prop :=
  (∀ (k0_h3 : k0_cond3 i = 1#1), ∀ a, (k0_off1016 v5331) a + S8x128.size a ≤ S18432x128.size a)
theorem k0_off1016_inb : ∀ (i : grid0.Coords) (v5331 : BitVec 32) (k0_hw358 : k0_chk358 i v5331), ∀ (k0_h3 : k0_cond3 i = 1#1), ∀ a, (k0_off1016 v5331) a + S8x128.size a ≤ S18432x128.size a := fun i v5331 k0_hw358 k0_h3 => k0_hw358 k0_h3

def k0_off1017 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2595 : BitVec 32 := 38#32
  let v5303 : BitVec 32 := Scalar.muli arg13 c38_i32_2595
  let c33_i32 : BitVec 32 := 33#32
  let v5304 : BitVec 32 := Scalar.addi v5303 c33_i32
  let c4_i32_2614 : BitVec 32 := 4#32
  let v5338 : BitVec 32 := Scalar.muli v5304 c4_i32_2614
  let c2_i32_2615 : BitVec 32 := 2#32
  let v5339 : BitVec 32 := Scalar.addi v5338 c2_i32_2615
  let v5340 : Index := Scalar.indexCast v5339
  ![v5340.toNat]
def k0_off1018 (i : grid0.Coords) (k0_t5 : Fin k0_t5_loop.trips) (v5306 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2597 : BitVec 32 := 2#32
  let v5309 : BitVec 32 := Scalar.muli v2959 c2_i32_2597
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5307 : BitVec 32 := Scalar.shrui v5306 v2958
  let c1_i32_2596 : BitVec 32 := 1#32
  let v5308 : BitVec 32 := Scalar.andi v5307 c1_i32_2596
  let v5310 : BitVec 32 := Scalar.addi v5309 v5308
  let c1216_i32_2598 : BitVec 32 := 1216#32
  let v5311 : BitVec 32 := Scalar.muli v5310 c1216_i32_2598
  let c0_i32_7 : BitVec 32 := 0#32
  let c1_i32_9 : BitVec 32 := 1#32
  let arg13 : BitVec 32 := Scf.iv c0_i32_7 c1_i32_9 k0_t5
  let c38_i32_2595 : BitVec 32 := 38#32
  let v5303 : BitVec 32 := Scalar.muli arg13 c38_i32_2595
  let c33_i32 : BitVec 32 := 33#32
  let v5304 : BitVec 32 := Scalar.addi v5303 c33_i32
  let c4_i32_2599 : BitVec 32 := 4#32
  let v5312 : BitVec 32 := Scalar.muli v5304 c4_i32_2599
  let v5313 : BitVec 32 := Scalar.addi v5311 v5312
  let c2_i32_2602 : BitVec 32 := 2#32
  let v5316 : BitVec 32 := Scalar.addi v5313 c2_i32_2602
  let v5342 : Index := Scalar.indexCast v5316
  let c0_2616 : Index := 0#32
  let c0_2617 : Index := 0#32
  ![v5342.toNat, 0, 0]
def k0_off1019 (v5341 : BitVec 32) : Fin 2 → Nat :=
  let v5345 : Index := Scalar.indexCast v5341
  let c0_2618 : Index := 0#32
  ![v5345.toNat, 0]

def k0_chk359 (i : grid0.Coords) (v5341 : BitVec 32) : Prop :=
  (∀ (k0_h3 : k0_cond3 i = 1#1), ∀ a, (k0_off1019 v5341) a + S8x128.size a ≤ S18432x128.size a)
theorem k0_off1019_inb : ∀ (i : grid0.Coords) (v5341 : BitVec 32) (k0_hw359 : k0_chk359 i v5341), ∀ (k0_h3 : k0_cond3 i = 1#1), ∀ a, (k0_off1019 v5341) a + S8x128.size a ≤ S18432x128.size a := fun i v5341 k0_hw359 k0_h3 => k0_hw359 k0_h3

def k0_off1020 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2595 : BitVec 32 := 38#32
  let v5303 : BitVec 32 := Scalar.muli arg13 c38_i32_2595
  let c33_i32 : BitVec 32 := 33#32
  let v5304 : BitVec 32 := Scalar.addi v5303 c33_i32
  let c4_i32_2619 : BitVec 32 := 4#32
  let v5348 : BitVec 32 := Scalar.muli v5304 c4_i32_2619
  let c3_i32_2620 : BitVec 32 := 3#32
  let v5349 : BitVec 32 := Scalar.addi v5348 c3_i32_2620
  let v5350 : Index := Scalar.indexCast v5349
  ![v5350.toNat]
def k0_off1021 (i : grid0.Coords) (k0_t5 : Fin k0_t5_loop.trips) (v5306 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2597 : BitVec 32 := 2#32
  let v5309 : BitVec 32 := Scalar.muli v2959 c2_i32_2597
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5307 : BitVec 32 := Scalar.shrui v5306 v2958
  let c1_i32_2596 : BitVec 32 := 1#32
  let v5308 : BitVec 32 := Scalar.andi v5307 c1_i32_2596
  let v5310 : BitVec 32 := Scalar.addi v5309 v5308
  let c1216_i32_2598 : BitVec 32 := 1216#32
  let v5311 : BitVec 32 := Scalar.muli v5310 c1216_i32_2598
  let c0_i32_7 : BitVec 32 := 0#32
  let c1_i32_9 : BitVec 32 := 1#32
  let arg13 : BitVec 32 := Scf.iv c0_i32_7 c1_i32_9 k0_t5
  let c38_i32_2595 : BitVec 32 := 38#32
  let v5303 : BitVec 32 := Scalar.muli arg13 c38_i32_2595
  let c33_i32 : BitVec 32 := 33#32
  let v5304 : BitVec 32 := Scalar.addi v5303 c33_i32
  let c4_i32_2599 : BitVec 32 := 4#32
  let v5312 : BitVec 32 := Scalar.muli v5304 c4_i32_2599
  let v5313 : BitVec 32 := Scalar.addi v5311 v5312
  let c3_i32_2603 : BitVec 32 := 3#32
  let v5317 : BitVec 32 := Scalar.addi v5313 c3_i32_2603
  let v5352 : Index := Scalar.indexCast v5317
  let c0_2621 : Index := 0#32
  let c0_2622 : Index := 0#32
  ![v5352.toNat, 0, 0]
def k0_off1022 (v5351 : BitVec 32) : Fin 2 → Nat :=
  let v5355 : Index := Scalar.indexCast v5351
  let c0_2623 : Index := 0#32
  ![v5355.toNat, 0]

def k0_chk360 (i : grid0.Coords) (v5351 : BitVec 32) : Prop :=
  (∀ (k0_h3 : k0_cond3 i = 1#1), ∀ a, (k0_off1022 v5351) a + S8x128.size a ≤ S18432x128.size a)
theorem k0_off1022_inb : ∀ (i : grid0.Coords) (v5351 : BitVec 32) (k0_hw360 : k0_chk360 i v5351), ∀ (k0_h3 : k0_cond3 i = 1#1), ∀ a, (k0_off1022 v5351) a + S8x128.size a ≤ S18432x128.size a := fun i v5351 k0_hw360 k0_h3 => k0_hw360 k0_h3

def k0_off1023 (i : grid0.Coords) (k0_t5 : Fin k0_t5_loop.trips) (v5306 : BitVec 32) (c0_i32_2600 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2597 : BitVec 32 := 2#32
  let v5309 : BitVec 32 := Scalar.muli v2959 c2_i32_2597
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5307 : BitVec 32 := Scalar.shrui v5306 v2958
  let c1_i32_2596 : BitVec 32 := 1#32
  let v5308 : BitVec 32 := Scalar.andi v5307 c1_i32_2596
  let v5310 : BitVec 32 := Scalar.addi v5309 v5308
  let c1216_i32_2598 : BitVec 32 := 1216#32
  let v5311 : BitVec 32 := Scalar.muli v5310 c1216_i32_2598
  let c0_i32_7 : BitVec 32 := 0#32
  let c1_i32_9 : BitVec 32 := 1#32
  let arg13 : BitVec 32 := Scf.iv c0_i32_7 c1_i32_9 k0_t5
  let c38_i32_2595 : BitVec 32 := 38#32
  let v5303 : BitVec 32 := Scalar.muli arg13 c38_i32_2595
  let c33_i32 : BitVec 32 := 33#32
  let v5304 : BitVec 32 := Scalar.addi v5303 c33_i32
  let c4_i32_2599 : BitVec 32 := 4#32
  let v5312 : BitVec 32 := Scalar.muli v5304 c4_i32_2599
  let v5313 : BitVec 32 := Scalar.addi v5311 v5312
  let v5314 : BitVec 32 := Scalar.addi v5313 c0_i32_2600
  let v5358 : Index := Scalar.indexCast v5314
  let c0_2624 : Index := 0#32
  let c0_2625 : Index := 0#32
  ![v5358.toNat, 0, 0]

def k0_chk356 (i : grid0.Coords) (k0_t5 : Fin k0_t5_loop.trips) (v5306 : BitVec 32) : Prop :=
  (∀ (k0_h3 : k0_cond3 i = 1#1), ∀ a, (k0_off1012 i k0_t5 v5306) a + S1x8x128.size a ≤ S7296x8x128.size a) ∧
  (∀ (k0_h3 : k0_cond3 i = 1#1), ∀ a, (k0_off1015 i k0_t5 v5306) a + S1x8x128.size a ≤ S7296x8x128.size a) ∧
  (∀ (k0_h3 : k0_cond3 i = 1#1), ∀ a, (k0_off1018 i k0_t5 v5306) a + S1x8x128.size a ≤ S7296x8x128.size a) ∧
  (∀ (k0_h3 : k0_cond3 i = 1#1), ∀ a, (k0_off1021 i k0_t5 v5306) a + S1x8x128.size a ≤ S7296x8x128.size a) ∧
  (∀ (k0_h3 : k0_cond3 i = 1#1), ∀ (r : Fin 4), ∀ a, (k0_off1023 i k0_t5 v5306 (BitVec.ofNat 32 r.val)) a + S1x8x128.size a ≤ S7296x8x128.size a)
theorem k0_off1012_inb : ∀ (i : grid0.Coords) (k0_t5 : Fin k0_t5_loop.trips) (v5306 : BitVec 32) (k0_hw356 : k0_chk356 i k0_t5 v5306), ∀ (k0_h3 : k0_cond3 i = 1#1), ∀ a, (k0_off1012 i k0_t5 v5306) a + S1x8x128.size a ≤ S7296x8x128.size a := fun i k0_t5 v5306 k0_hw356 k0_h3 => k0_hw356.1 k0_h3
theorem k0_off1015_inb : ∀ (i : grid0.Coords) (k0_t5 : Fin k0_t5_loop.trips) (v5306 : BitVec 32) (k0_hw356 : k0_chk356 i k0_t5 v5306), ∀ (k0_h3 : k0_cond3 i = 1#1), ∀ a, (k0_off1015 i k0_t5 v5306) a + S1x8x128.size a ≤ S7296x8x128.size a := fun i k0_t5 v5306 k0_hw356 k0_h3 => k0_hw356.2.1 k0_h3
theorem k0_off1018_inb : ∀ (i : grid0.Coords) (k0_t5 : Fin k0_t5_loop.trips) (v5306 : BitVec 32) (k0_hw356 : k0_chk356 i k0_t5 v5306), ∀ (k0_h3 : k0_cond3 i = 1#1), ∀ a, (k0_off1018 i k0_t5 v5306) a + S1x8x128.size a ≤ S7296x8x128.size a := fun i k0_t5 v5306 k0_hw356 k0_h3 => k0_hw356.2.2.1 k0_h3
theorem k0_off1021_inb : ∀ (i : grid0.Coords) (k0_t5 : Fin k0_t5_loop.trips) (v5306 : BitVec 32) (k0_hw356 : k0_chk356 i k0_t5 v5306), ∀ (k0_h3 : k0_cond3 i = 1#1), ∀ a, (k0_off1021 i k0_t5 v5306) a + S1x8x128.size a ≤ S7296x8x128.size a := fun i k0_t5 v5306 k0_hw356 k0_h3 => k0_hw356.2.2.2.1 k0_h3
theorem k0_off1023_inb : ∀ (i : grid0.Coords) (k0_t5 : Fin k0_t5_loop.trips) (v5306 : BitVec 32) (k0_hw356 : k0_chk356 i k0_t5 v5306), ∀ (k0_h3 : k0_cond3 i = 1#1), ∀ (r : Fin 4), ∀ a, (k0_off1023 i k0_t5 v5306 (BitVec.ofNat 32 r.val)) a + S1x8x128.size a ≤ S7296x8x128.size a := fun i k0_t5 v5306 k0_hw356 k0_h3 r => k0_hw356.2.2.2.2 k0_h3 r

def k0_off1024 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2632 : BitVec 32 := 38#32
  let v5374 : BitVec 32 := Scalar.muli arg13 c38_i32_2632
  let c34_i32 : BitVec 32 := 34#32
  let v5375 : BitVec 32 := Scalar.addi v5374 c34_i32
  let v5376 : Index := Scalar.indexCast v5375
  ![v5376.toNat]
def k0_off1025 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2632 : BitVec 32 := 38#32
  let v5374 : BitVec 32 := Scalar.muli arg13 c38_i32_2632
  let c34_i32 : BitVec 32 := 34#32
  let v5375 : BitVec 32 := Scalar.addi v5374 c34_i32
  let c4_i32_2641 : BitVec 32 := 4#32
  let v5389 : BitVec 32 := Scalar.muli v5375 c4_i32_2641
  let c0_i32_2642 : BitVec 32 := 0#32
  let v5390 : BitVec 32 := Scalar.addi v5389 c0_i32_2642
  let v5391 : Index := Scalar.indexCast v5390
  ![v5391.toNat]
def k0_off1026 (i : grid0.Coords) (k0_t5 : Fin k0_t5_loop.trips) (v5377 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2634 : BitVec 32 := 2#32
  let v5380 : BitVec 32 := Scalar.muli v2959 c2_i32_2634
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5378 : BitVec 32 := Scalar.shrui v5377 v2958
  let c1_i32_2633 : BitVec 32 := 1#32
  let v5379 : BitVec 32 := Scalar.andi v5378 c1_i32_2633
  let v5381 : BitVec 32 := Scalar.addi v5380 v5379
  let c1216_i32_2635 : BitVec 32 := 1216#32
  let v5382 : BitVec 32 := Scalar.muli v5381 c1216_i32_2635
  let c0_i32_7 : BitVec 32 := 0#32
  let c1_i32_9 : BitVec 32 := 1#32
  let arg13 : BitVec 32 := Scf.iv c0_i32_7 c1_i32_9 k0_t5
  let c38_i32_2632 : BitVec 32 := 38#32
  let v5374 : BitVec 32 := Scalar.muli arg13 c38_i32_2632
  let c34_i32 : BitVec 32 := 34#32
  let v5375 : BitVec 32 := Scalar.addi v5374 c34_i32
  let c4_i32_2636 : BitVec 32 := 4#32
  let v5383 : BitVec 32 := Scalar.muli v5375 c4_i32_2636
  let v5384 : BitVec 32 := Scalar.addi v5382 v5383
  let c0_i32_2637 : BitVec 32 := 0#32
  let v5385 : BitVec 32 := Scalar.addi v5384 c0_i32_2637
  let v5393 : Index := Scalar.indexCast v5385
  let c0_2643 : Index := 0#32
  let c0_2644 : Index := 0#32
  ![v5393.toNat, 0, 0]

def k0_off1027 (v5392 : BitVec 32) : Fin 2 → Nat :=
  let v5396 : Index := Scalar.indexCast v5392
  let c0_2645 : Index := 0#32
  ![v5396.toNat, 0]

def k0_chk362 (i : grid0.Coords) (v5392 : BitVec 32) : Prop :=
  (∀ (k0_h3 : k0_cond3 i = 1#1), ∀ a, (k0_off1027 v5392) a + S8x128.size a ≤ S18432x128.size a)
theorem k0_off1027_inb : ∀ (i : grid0.Coords) (v5392 : BitVec 32) (k0_hw362 : k0_chk362 i v5392), ∀ (k0_h3 : k0_cond3 i = 1#1), ∀ a, (k0_off1027 v5392) a + S8x128.size a ≤ S18432x128.size a := fun i v5392 k0_hw362 k0_h3 => k0_hw362 k0_h3

def k0_off1028 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2632 : BitVec 32 := 38#32
  let v5374 : BitVec 32 := Scalar.muli arg13 c38_i32_2632
  let c34_i32 : BitVec 32 := 34#32
  let v5375 : BitVec 32 := Scalar.addi v5374 c34_i32
  let c4_i32_2646 : BitVec 32 := 4#32
  let v5399 : BitVec 32 := Scalar.muli v5375 c4_i32_2646
  let c1_i32_2647 : BitVec 32 := 1#32
  let v5400 : BitVec 32 := Scalar.addi v5399 c1_i32_2647
  let v5401 : Index := Scalar.indexCast v5400
  ![v5401.toNat]
def k0_off1029 (i : grid0.Coords) (k0_t5 : Fin k0_t5_loop.trips) (v5377 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2634 : BitVec 32 := 2#32
  let v5380 : BitVec 32 := Scalar.muli v2959 c2_i32_2634
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5378 : BitVec 32 := Scalar.shrui v5377 v2958
  let c1_i32_2633 : BitVec 32 := 1#32
  let v5379 : BitVec 32 := Scalar.andi v5378 c1_i32_2633
  let v5381 : BitVec 32 := Scalar.addi v5380 v5379
  let c1216_i32_2635 : BitVec 32 := 1216#32
  let v5382 : BitVec 32 := Scalar.muli v5381 c1216_i32_2635
  let c0_i32_7 : BitVec 32 := 0#32
  let c1_i32_9 : BitVec 32 := 1#32
  let arg13 : BitVec 32 := Scf.iv c0_i32_7 c1_i32_9 k0_t5
  let c38_i32_2632 : BitVec 32 := 38#32
  let v5374 : BitVec 32 := Scalar.muli arg13 c38_i32_2632
  let c34_i32 : BitVec 32 := 34#32
  let v5375 : BitVec 32 := Scalar.addi v5374 c34_i32
  let c4_i32_2636 : BitVec 32 := 4#32
  let v5383 : BitVec 32 := Scalar.muli v5375 c4_i32_2636
  let v5384 : BitVec 32 := Scalar.addi v5382 v5383
  let c1_i32_2638 : BitVec 32 := 1#32
  let v5386 : BitVec 32 := Scalar.addi v5384 c1_i32_2638
  let v5403 : Index := Scalar.indexCast v5386
  let c0_2648 : Index := 0#32
  let c0_2649 : Index := 0#32
  ![v5403.toNat, 0, 0]
def k0_off1030 (v5402 : BitVec 32) : Fin 2 → Nat :=
  let v5406 : Index := Scalar.indexCast v5402
  let c0_2650 : Index := 0#32
  ![v5406.toNat, 0]

def k0_chk363 (i : grid0.Coords) (v5402 : BitVec 32) : Prop :=
  (∀ (k0_h3 : k0_cond3 i = 1#1), ∀ a, (k0_off1030 v5402) a + S8x128.size a ≤ S18432x128.size a)
theorem k0_off1030_inb : ∀ (i : grid0.Coords) (v5402 : BitVec 32) (k0_hw363 : k0_chk363 i v5402), ∀ (k0_h3 : k0_cond3 i = 1#1), ∀ a, (k0_off1030 v5402) a + S8x128.size a ≤ S18432x128.size a := fun i v5402 k0_hw363 k0_h3 => k0_hw363 k0_h3

def k0_off1031 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2632 : BitVec 32 := 38#32
  let v5374 : BitVec 32 := Scalar.muli arg13 c38_i32_2632
  let c34_i32 : BitVec 32 := 34#32
  let v5375 : BitVec 32 := Scalar.addi v5374 c34_i32
  let c4_i32_2651 : BitVec 32 := 4#32
  let v5409 : BitVec 32 := Scalar.muli v5375 c4_i32_2651
  let c2_i32_2652 : BitVec 32 := 2#32
  let v5410 : BitVec 32 := Scalar.addi v5409 c2_i32_2652
  let v5411 : Index := Scalar.indexCast v5410
  ![v5411.toNat]
def k0_off1032 (i : grid0.Coords) (k0_t5 : Fin k0_t5_loop.trips) (v5377 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2634 : BitVec 32 := 2#32
  let v5380 : BitVec 32 := Scalar.muli v2959 c2_i32_2634
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5378 : BitVec 32 := Scalar.shrui v5377 v2958
  let c1_i32_2633 : BitVec 32 := 1#32
  let v5379 : BitVec 32 := Scalar.andi v5378 c1_i32_2633
  let v5381 : BitVec 32 := Scalar.addi v5380 v5379
  let c1216_i32_2635 : BitVec 32 := 1216#32
  let v5382 : BitVec 32 := Scalar.muli v5381 c1216_i32_2635
  let c0_i32_7 : BitVec 32 := 0#32
  let c1_i32_9 : BitVec 32 := 1#32
  let arg13 : BitVec 32 := Scf.iv c0_i32_7 c1_i32_9 k0_t5
  let c38_i32_2632 : BitVec 32 := 38#32
  let v5374 : BitVec 32 := Scalar.muli arg13 c38_i32_2632
  let c34_i32 : BitVec 32 := 34#32
  let v5375 : BitVec 32 := Scalar.addi v5374 c34_i32
  let c4_i32_2636 : BitVec 32 := 4#32
  let v5383 : BitVec 32 := Scalar.muli v5375 c4_i32_2636
  let v5384 : BitVec 32 := Scalar.addi v5382 v5383
  let c2_i32_2639 : BitVec 32 := 2#32
  let v5387 : BitVec 32 := Scalar.addi v5384 c2_i32_2639
  let v5413 : Index := Scalar.indexCast v5387
  let c0_2653 : Index := 0#32
  let c0_2654 : Index := 0#32
  ![v5413.toNat, 0, 0]
def k0_off1033 (v5412 : BitVec 32) : Fin 2 → Nat :=
  let v5416 : Index := Scalar.indexCast v5412
  let c0_2655 : Index := 0#32
  ![v5416.toNat, 0]

def k0_chk364 (i : grid0.Coords) (v5412 : BitVec 32) : Prop :=
  (∀ (k0_h3 : k0_cond3 i = 1#1), ∀ a, (k0_off1033 v5412) a + S8x128.size a ≤ S18432x128.size a)
theorem k0_off1033_inb : ∀ (i : grid0.Coords) (v5412 : BitVec 32) (k0_hw364 : k0_chk364 i v5412), ∀ (k0_h3 : k0_cond3 i = 1#1), ∀ a, (k0_off1033 v5412) a + S8x128.size a ≤ S18432x128.size a := fun i v5412 k0_hw364 k0_h3 => k0_hw364 k0_h3

def k0_off1034 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2632 : BitVec 32 := 38#32
  let v5374 : BitVec 32 := Scalar.muli arg13 c38_i32_2632
  let c34_i32 : BitVec 32 := 34#32
  let v5375 : BitVec 32 := Scalar.addi v5374 c34_i32
  let c4_i32_2656 : BitVec 32 := 4#32
  let v5419 : BitVec 32 := Scalar.muli v5375 c4_i32_2656
  let c3_i32_2657 : BitVec 32 := 3#32
  let v5420 : BitVec 32 := Scalar.addi v5419 c3_i32_2657
  let v5421 : Index := Scalar.indexCast v5420
  ![v5421.toNat]
def k0_off1035 (i : grid0.Coords) (k0_t5 : Fin k0_t5_loop.trips) (v5377 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2634 : BitVec 32 := 2#32
  let v5380 : BitVec 32 := Scalar.muli v2959 c2_i32_2634
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5378 : BitVec 32 := Scalar.shrui v5377 v2958
  let c1_i32_2633 : BitVec 32 := 1#32
  let v5379 : BitVec 32 := Scalar.andi v5378 c1_i32_2633
  let v5381 : BitVec 32 := Scalar.addi v5380 v5379
  let c1216_i32_2635 : BitVec 32 := 1216#32
  let v5382 : BitVec 32 := Scalar.muli v5381 c1216_i32_2635
  let c0_i32_7 : BitVec 32 := 0#32
  let c1_i32_9 : BitVec 32 := 1#32
  let arg13 : BitVec 32 := Scf.iv c0_i32_7 c1_i32_9 k0_t5
  let c38_i32_2632 : BitVec 32 := 38#32
  let v5374 : BitVec 32 := Scalar.muli arg13 c38_i32_2632
  let c34_i32 : BitVec 32 := 34#32
  let v5375 : BitVec 32 := Scalar.addi v5374 c34_i32
  let c4_i32_2636 : BitVec 32 := 4#32
  let v5383 : BitVec 32 := Scalar.muli v5375 c4_i32_2636
  let v5384 : BitVec 32 := Scalar.addi v5382 v5383
  let c3_i32_2640 : BitVec 32 := 3#32
  let v5388 : BitVec 32 := Scalar.addi v5384 c3_i32_2640
  let v5423 : Index := Scalar.indexCast v5388
  let c0_2658 : Index := 0#32
  let c0_2659 : Index := 0#32
  ![v5423.toNat, 0, 0]
def k0_off1036 (v5422 : BitVec 32) : Fin 2 → Nat :=
  let v5426 : Index := Scalar.indexCast v5422
  let c0_2660 : Index := 0#32
  ![v5426.toNat, 0]

def k0_chk365 (i : grid0.Coords) (v5422 : BitVec 32) : Prop :=
  (∀ (k0_h3 : k0_cond3 i = 1#1), ∀ a, (k0_off1036 v5422) a + S8x128.size a ≤ S18432x128.size a)
theorem k0_off1036_inb : ∀ (i : grid0.Coords) (v5422 : BitVec 32) (k0_hw365 : k0_chk365 i v5422), ∀ (k0_h3 : k0_cond3 i = 1#1), ∀ a, (k0_off1036 v5422) a + S8x128.size a ≤ S18432x128.size a := fun i v5422 k0_hw365 k0_h3 => k0_hw365 k0_h3

def k0_off1037 (i : grid0.Coords) (k0_t5 : Fin k0_t5_loop.trips) (v5377 : BitVec 32) (c0_i32_2637 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2634 : BitVec 32 := 2#32
  let v5380 : BitVec 32 := Scalar.muli v2959 c2_i32_2634
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5378 : BitVec 32 := Scalar.shrui v5377 v2958
  let c1_i32_2633 : BitVec 32 := 1#32
  let v5379 : BitVec 32 := Scalar.andi v5378 c1_i32_2633
  let v5381 : BitVec 32 := Scalar.addi v5380 v5379
  let c1216_i32_2635 : BitVec 32 := 1216#32
  let v5382 : BitVec 32 := Scalar.muli v5381 c1216_i32_2635
  let c0_i32_7 : BitVec 32 := 0#32
  let c1_i32_9 : BitVec 32 := 1#32
  let arg13 : BitVec 32 := Scf.iv c0_i32_7 c1_i32_9 k0_t5
  let c38_i32_2632 : BitVec 32 := 38#32
  let v5374 : BitVec 32 := Scalar.muli arg13 c38_i32_2632
  let c34_i32 : BitVec 32 := 34#32
  let v5375 : BitVec 32 := Scalar.addi v5374 c34_i32
  let c4_i32_2636 : BitVec 32 := 4#32
  let v5383 : BitVec 32 := Scalar.muli v5375 c4_i32_2636
  let v5384 : BitVec 32 := Scalar.addi v5382 v5383
  let v5385 : BitVec 32 := Scalar.addi v5384 c0_i32_2637
  let v5429 : Index := Scalar.indexCast v5385
  let c0_2661 : Index := 0#32
  let c0_2662 : Index := 0#32
  ![v5429.toNat, 0, 0]

def k0_chk361 (i : grid0.Coords) (k0_t5 : Fin k0_t5_loop.trips) (v5377 : BitVec 32) : Prop :=
  (∀ (k0_h3 : k0_cond3 i = 1#1), ∀ a, (k0_off1026 i k0_t5 v5377) a + S1x8x128.size a ≤ S7296x8x128.size a) ∧
  (∀ (k0_h3 : k0_cond3 i = 1#1), ∀ a, (k0_off1029 i k0_t5 v5377) a + S1x8x128.size a ≤ S7296x8x128.size a) ∧
  (∀ (k0_h3 : k0_cond3 i = 1#1), ∀ a, (k0_off1032 i k0_t5 v5377) a + S1x8x128.size a ≤ S7296x8x128.size a) ∧
  (∀ (k0_h3 : k0_cond3 i = 1#1), ∀ a, (k0_off1035 i k0_t5 v5377) a + S1x8x128.size a ≤ S7296x8x128.size a) ∧
  (∀ (k0_h3 : k0_cond3 i = 1#1), ∀ (r : Fin 4), ∀ a, (k0_off1037 i k0_t5 v5377 (BitVec.ofNat 32 r.val)) a + S1x8x128.size a ≤ S7296x8x128.size a)
theorem k0_off1026_inb : ∀ (i : grid0.Coords) (k0_t5 : Fin k0_t5_loop.trips) (v5377 : BitVec 32) (k0_hw361 : k0_chk361 i k0_t5 v5377), ∀ (k0_h3 : k0_cond3 i = 1#1), ∀ a, (k0_off1026 i k0_t5 v5377) a + S1x8x128.size a ≤ S7296x8x128.size a := fun i k0_t5 v5377 k0_hw361 k0_h3 => k0_hw361.1 k0_h3
theorem k0_off1029_inb : ∀ (i : grid0.Coords) (k0_t5 : Fin k0_t5_loop.trips) (v5377 : BitVec 32) (k0_hw361 : k0_chk361 i k0_t5 v5377), ∀ (k0_h3 : k0_cond3 i = 1#1), ∀ a, (k0_off1029 i k0_t5 v5377) a + S1x8x128.size a ≤ S7296x8x128.size a := fun i k0_t5 v5377 k0_hw361 k0_h3 => k0_hw361.2.1 k0_h3
theorem k0_off1032_inb : ∀ (i : grid0.Coords) (k0_t5 : Fin k0_t5_loop.trips) (v5377 : BitVec 32) (k0_hw361 : k0_chk361 i k0_t5 v5377), ∀ (k0_h3 : k0_cond3 i = 1#1), ∀ a, (k0_off1032 i k0_t5 v5377) a + S1x8x128.size a ≤ S7296x8x128.size a := fun i k0_t5 v5377 k0_hw361 k0_h3 => k0_hw361.2.2.1 k0_h3
theorem k0_off1035_inb : ∀ (i : grid0.Coords) (k0_t5 : Fin k0_t5_loop.trips) (v5377 : BitVec 32) (k0_hw361 : k0_chk361 i k0_t5 v5377), ∀ (k0_h3 : k0_cond3 i = 1#1), ∀ a, (k0_off1035 i k0_t5 v5377) a + S1x8x128.size a ≤ S7296x8x128.size a := fun i k0_t5 v5377 k0_hw361 k0_h3 => k0_hw361.2.2.2.1 k0_h3
theorem k0_off1037_inb : ∀ (i : grid0.Coords) (k0_t5 : Fin k0_t5_loop.trips) (v5377 : BitVec 32) (k0_hw361 : k0_chk361 i k0_t5 v5377), ∀ (k0_h3 : k0_cond3 i = 1#1), ∀ (r : Fin 4), ∀ a, (k0_off1037 i k0_t5 v5377 (BitVec.ofNat 32 r.val)) a + S1x8x128.size a ≤ S7296x8x128.size a := fun i k0_t5 v5377 k0_hw361 k0_h3 r => k0_hw361.2.2.2.2 k0_h3 r

def k0_off1038 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2669 : BitVec 32 := 38#32
  let v5445 : BitVec 32 := Scalar.muli arg13 c38_i32_2669
  let c35_i32 : BitVec 32 := 35#32
  let v5446 : BitVec 32 := Scalar.addi v5445 c35_i32
  let v5447 : Index := Scalar.indexCast v5446
  ![v5447.toNat]
def k0_off1039 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2669 : BitVec 32 := 38#32
  let v5445 : BitVec 32 := Scalar.muli arg13 c38_i32_2669
  let c35_i32 : BitVec 32 := 35#32
  let v5446 : BitVec 32 := Scalar.addi v5445 c35_i32
  let c4_i32_2678 : BitVec 32 := 4#32
  let v5460 : BitVec 32 := Scalar.muli v5446 c4_i32_2678
  let c0_i32_2679 : BitVec 32 := 0#32
  let v5461 : BitVec 32 := Scalar.addi v5460 c0_i32_2679
  let v5462 : Index := Scalar.indexCast v5461
  ![v5462.toNat]
def k0_off1040 (i : grid0.Coords) (k0_t5 : Fin k0_t5_loop.trips) (v5448 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2671 : BitVec 32 := 2#32
  let v5451 : BitVec 32 := Scalar.muli v2959 c2_i32_2671
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5449 : BitVec 32 := Scalar.shrui v5448 v2958
  let c1_i32_2670 : BitVec 32 := 1#32
  let v5450 : BitVec 32 := Scalar.andi v5449 c1_i32_2670
  let v5452 : BitVec 32 := Scalar.addi v5451 v5450
  let c1216_i32_2672 : BitVec 32 := 1216#32
  let v5453 : BitVec 32 := Scalar.muli v5452 c1216_i32_2672
  let c0_i32_7 : BitVec 32 := 0#32
  let c1_i32_9 : BitVec 32 := 1#32
  let arg13 : BitVec 32 := Scf.iv c0_i32_7 c1_i32_9 k0_t5
  let c38_i32_2669 : BitVec 32 := 38#32
  let v5445 : BitVec 32 := Scalar.muli arg13 c38_i32_2669
  let c35_i32 : BitVec 32 := 35#32
  let v5446 : BitVec 32 := Scalar.addi v5445 c35_i32
  let c4_i32_2673 : BitVec 32 := 4#32
  let v5454 : BitVec 32 := Scalar.muli v5446 c4_i32_2673
  let v5455 : BitVec 32 := Scalar.addi v5453 v5454
  let c0_i32_2674 : BitVec 32 := 0#32
  let v5456 : BitVec 32 := Scalar.addi v5455 c0_i32_2674
  let v5464 : Index := Scalar.indexCast v5456
  let c0_2680 : Index := 0#32
  let c0_2681 : Index := 0#32
  ![v5464.toNat, 0, 0]

def k0_off1041 (v5463 : BitVec 32) : Fin 2 → Nat :=
  let v5467 : Index := Scalar.indexCast v5463
  let c0_2682 : Index := 0#32
  ![v5467.toNat, 0]

def k0_chk367 (i : grid0.Coords) (v5463 : BitVec 32) : Prop :=
  (∀ (k0_h3 : k0_cond3 i = 1#1), ∀ a, (k0_off1041 v5463) a + S8x128.size a ≤ S18432x128.size a)
theorem k0_off1041_inb : ∀ (i : grid0.Coords) (v5463 : BitVec 32) (k0_hw367 : k0_chk367 i v5463), ∀ (k0_h3 : k0_cond3 i = 1#1), ∀ a, (k0_off1041 v5463) a + S8x128.size a ≤ S18432x128.size a := fun i v5463 k0_hw367 k0_h3 => k0_hw367 k0_h3

def k0_off1042 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2669 : BitVec 32 := 38#32
  let v5445 : BitVec 32 := Scalar.muli arg13 c38_i32_2669
  let c35_i32 : BitVec 32 := 35#32
  let v5446 : BitVec 32 := Scalar.addi v5445 c35_i32
  let c4_i32_2683 : BitVec 32 := 4#32
  let v5470 : BitVec 32 := Scalar.muli v5446 c4_i32_2683
  let c1_i32_2684 : BitVec 32 := 1#32
  let v5471 : BitVec 32 := Scalar.addi v5470 c1_i32_2684
  let v5472 : Index := Scalar.indexCast v5471
  ![v5472.toNat]
def k0_off1043 (i : grid0.Coords) (k0_t5 : Fin k0_t5_loop.trips) (v5448 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2671 : BitVec 32 := 2#32
  let v5451 : BitVec 32 := Scalar.muli v2959 c2_i32_2671
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5449 : BitVec 32 := Scalar.shrui v5448 v2958
  let c1_i32_2670 : BitVec 32 := 1#32
  let v5450 : BitVec 32 := Scalar.andi v5449 c1_i32_2670
  let v5452 : BitVec 32 := Scalar.addi v5451 v5450
  let c1216_i32_2672 : BitVec 32 := 1216#32
  let v5453 : BitVec 32 := Scalar.muli v5452 c1216_i32_2672
  let c0_i32_7 : BitVec 32 := 0#32
  let c1_i32_9 : BitVec 32 := 1#32
  let arg13 : BitVec 32 := Scf.iv c0_i32_7 c1_i32_9 k0_t5
  let c38_i32_2669 : BitVec 32 := 38#32
  let v5445 : BitVec 32 := Scalar.muli arg13 c38_i32_2669
  let c35_i32 : BitVec 32 := 35#32
  let v5446 : BitVec 32 := Scalar.addi v5445 c35_i32
  let c4_i32_2673 : BitVec 32 := 4#32
  let v5454 : BitVec 32 := Scalar.muli v5446 c4_i32_2673
  let v5455 : BitVec 32 := Scalar.addi v5453 v5454
  let c1_i32_2675 : BitVec 32 := 1#32
  let v5457 : BitVec 32 := Scalar.addi v5455 c1_i32_2675
  let v5474 : Index := Scalar.indexCast v5457
  let c0_2685 : Index := 0#32
  let c0_2686 : Index := 0#32
  ![v5474.toNat, 0, 0]
def k0_off1044 (v5473 : BitVec 32) : Fin 2 → Nat :=
  let v5477 : Index := Scalar.indexCast v5473
  let c0_2687 : Index := 0#32
  ![v5477.toNat, 0]

def k0_chk368 (i : grid0.Coords) (v5473 : BitVec 32) : Prop :=
  (∀ (k0_h3 : k0_cond3 i = 1#1), ∀ a, (k0_off1044 v5473) a + S8x128.size a ≤ S18432x128.size a)
theorem k0_off1044_inb : ∀ (i : grid0.Coords) (v5473 : BitVec 32) (k0_hw368 : k0_chk368 i v5473), ∀ (k0_h3 : k0_cond3 i = 1#1), ∀ a, (k0_off1044 v5473) a + S8x128.size a ≤ S18432x128.size a := fun i v5473 k0_hw368 k0_h3 => k0_hw368 k0_h3

def k0_off1045 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2669 : BitVec 32 := 38#32
  let v5445 : BitVec 32 := Scalar.muli arg13 c38_i32_2669
  let c35_i32 : BitVec 32 := 35#32
  let v5446 : BitVec 32 := Scalar.addi v5445 c35_i32
  let c4_i32_2688 : BitVec 32 := 4#32
  let v5480 : BitVec 32 := Scalar.muli v5446 c4_i32_2688
  let c2_i32_2689 : BitVec 32 := 2#32
  let v5481 : BitVec 32 := Scalar.addi v5480 c2_i32_2689
  let v5482 : Index := Scalar.indexCast v5481
  ![v5482.toNat]

variable {F : FTy → Type} [FloatOps F]

def k0_off1046 (i : grid0.Coords) (k0_t5 : Fin k0_t5_loop.trips) (v5448 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2671 : BitVec 32 := 2#32
  let v5451 : BitVec 32 := Scalar.muli v2959 c2_i32_2671
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5449 : BitVec 32 := Scalar.shrui v5448 v2958
  let c1_i32_2670 : BitVec 32 := 1#32
  let v5450 : BitVec 32 := Scalar.andi v5449 c1_i32_2670
  let v5452 : BitVec 32 := Scalar.addi v5451 v5450
  let c1216_i32_2672 : BitVec 32 := 1216#32
  let v5453 : BitVec 32 := Scalar.muli v5452 c1216_i32_2672
  let c0_i32_7 : BitVec 32 := 0#32
  let c1_i32_9 : BitVec 32 := 1#32
  let arg13 : BitVec 32 := Scf.iv c0_i32_7 c1_i32_9 k0_t5
  let c38_i32_2669 : BitVec 32 := 38#32
  let v5445 : BitVec 32 := Scalar.muli arg13 c38_i32_2669
  let c35_i32 : BitVec 32 := 35#32
  let v5446 : BitVec 32 := Scalar.addi v5445 c35_i32
  let c4_i32_2673 : BitVec 32 := 4#32
  let v5454 : BitVec 32 := Scalar.muli v5446 c4_i32_2673
  let v5455 : BitVec 32 := Scalar.addi v5453 v5454
  let c2_i32_2676 : BitVec 32 := 2#32
  let v5458 : BitVec 32 := Scalar.addi v5455 c2_i32_2676
  let v5484 : Index := Scalar.indexCast v5458
  let c0_2690 : Index := 0#32
  let c0_2691 : Index := 0#32
  ![v5484.toNat, 0, 0]
def k0_off1047 (v5483 : BitVec 32) : Fin 2 → Nat :=
  let v5487 : Index := Scalar.indexCast v5483
  let c0_2692 : Index := 0#32
  ![v5487.toNat, 0]

def k0_chk369 (i : grid0.Coords) (v5483 : BitVec 32) : Prop :=
  (∀ (k0_h3 : k0_cond3 i = 1#1), ∀ a, (k0_off1047 v5483) a + S8x128.size a ≤ S18432x128.size a)
theorem k0_off1047_inb : ∀ (i : grid0.Coords) (v5483 : BitVec 32) (k0_hw369 : k0_chk369 i v5483), ∀ (k0_h3 : k0_cond3 i = 1#1), ∀ a, (k0_off1047 v5483) a + S8x128.size a ≤ S18432x128.size a := fun i v5483 k0_hw369 k0_h3 => k0_hw369 k0_h3

def k0_off1048 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2669 : BitVec 32 := 38#32
  let v5445 : BitVec 32 := Scalar.muli arg13 c38_i32_2669
  let c35_i32 : BitVec 32 := 35#32
  let v5446 : BitVec 32 := Scalar.addi v5445 c35_i32
  let c4_i32_2693 : BitVec 32 := 4#32
  let v5490 : BitVec 32 := Scalar.muli v5446 c4_i32_2693
  let c3_i32_2694 : BitVec 32 := 3#32
  let v5491 : BitVec 32 := Scalar.addi v5490 c3_i32_2694
  let v5492 : Index := Scalar.indexCast v5491
  ![v5492.toNat]
def k0_off1049 (i : grid0.Coords) (k0_t5 : Fin k0_t5_loop.trips) (v5448 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2671 : BitVec 32 := 2#32
  let v5451 : BitVec 32 := Scalar.muli v2959 c2_i32_2671
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5449 : BitVec 32 := Scalar.shrui v5448 v2958
  let c1_i32_2670 : BitVec 32 := 1#32
  let v5450 : BitVec 32 := Scalar.andi v5449 c1_i32_2670
  let v5452 : BitVec 32 := Scalar.addi v5451 v5450
  let c1216_i32_2672 : BitVec 32 := 1216#32
  let v5453 : BitVec 32 := Scalar.muli v5452 c1216_i32_2672
  let c0_i32_7 : BitVec 32 := 0#32
  let c1_i32_9 : BitVec 32 := 1#32
  let arg13 : BitVec 32 := Scf.iv c0_i32_7 c1_i32_9 k0_t5
  let c38_i32_2669 : BitVec 32 := 38#32
  let v5445 : BitVec 32 := Scalar.muli arg13 c38_i32_2669
  let c35_i32 : BitVec 32 := 35#32
  let v5446 : BitVec 32 := Scalar.addi v5445 c35_i32
  let c4_i32_2673 : BitVec 32 := 4#32
  let v5454 : BitVec 32 := Scalar.muli v5446 c4_i32_2673
  let v5455 : BitVec 32 := Scalar.addi v5453 v5454
  let c3_i32_2677 : BitVec 32 := 3#32
  let v5459 : BitVec 32 := Scalar.addi v5455 c3_i32_2677
  let v5494 : Index := Scalar.indexCast v5459
  let c0_2695 : Index := 0#32
  let c0_2696 : Index := 0#32
  ![v5494.toNat, 0, 0]
def k0_off1050 (v5493 : BitVec 32) : Fin 2 → Nat :=
  let v5497 : Index := Scalar.indexCast v5493
  let c0_2697 : Index := 0#32
  ![v5497.toNat, 0]

def k0_chk370 (i : grid0.Coords) (v5493 : BitVec 32) : Prop :=
  (∀ (k0_h3 : k0_cond3 i = 1#1), ∀ a, (k0_off1050 v5493) a + S8x128.size a ≤ S18432x128.size a)
theorem k0_off1050_inb : ∀ (i : grid0.Coords) (v5493 : BitVec 32) (k0_hw370 : k0_chk370 i v5493), ∀ (k0_h3 : k0_cond3 i = 1#1), ∀ a, (k0_off1050 v5493) a + S8x128.size a ≤ S18432x128.size a := fun i v5493 k0_hw370 k0_h3 => k0_hw370 k0_h3

def k0_off1051 (i : grid0.Coords) (k0_t5 : Fin k0_t5_loop.trips) (v5448 : BitVec 32) (c0_i32_2674 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2671 : BitVec 32 := 2#32
  let v5451 : BitVec 32 := Scalar.muli v2959 c2_i32_2671
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5449 : BitVec 32 := Scalar.shrui v5448 v2958
  let c1_i32_2670 : BitVec 32 := 1#32
  let v5450 : BitVec 32 := Scalar.andi v5449 c1_i32_2670
  let v5452 : BitVec 32 := Scalar.addi v5451 v5450
  let c1216_i32_2672 : BitVec 32 := 1216#32
  let v5453 : BitVec 32 := Scalar.muli v5452 c1216_i32_2672
  let c0_i32_7 : BitVec 32 := 0#32
  let c1_i32_9 : BitVec 32 := 1#32
  let arg13 : BitVec 32 := Scf.iv c0_i32_7 c1_i32_9 k0_t5
  let c38_i32_2669 : BitVec 32 := 38#32
  let v5445 : BitVec 32 := Scalar.muli arg13 c38_i32_2669
  let c35_i32 : BitVec 32 := 35#32
  let v5446 : BitVec 32 := Scalar.addi v5445 c35_i32
  let c4_i32_2673 : BitVec 32 := 4#32
  let v5454 : BitVec 32 := Scalar.muli v5446 c4_i32_2673
  let v5455 : BitVec 32 := Scalar.addi v5453 v5454
  let v5456 : BitVec 32 := Scalar.addi v5455 c0_i32_2674
  let v5500 : Index := Scalar.indexCast v5456
  let c0_2698 : Index := 0#32
  let c0_2699 : Index := 0#32
  ![v5500.toNat, 0, 0]

def k0_chk366 (i : grid0.Coords) (k0_t5 : Fin k0_t5_loop.trips) (v5448 : BitVec 32) : Prop :=
  (∀ (k0_h3 : k0_cond3 i = 1#1), ∀ a, (k0_off1040 i k0_t5 v5448) a + S1x8x128.size a ≤ S7296x8x128.size a) ∧
  (∀ (k0_h3 : k0_cond3 i = 1#1), ∀ a, (k0_off1043 i k0_t5 v5448) a + S1x8x128.size a ≤ S7296x8x128.size a) ∧
  (∀ (k0_h3 : k0_cond3 i = 1#1), ∀ a, (k0_off1046 i k0_t5 v5448) a + S1x8x128.size a ≤ S7296x8x128.size a) ∧
  (∀ (k0_h3 : k0_cond3 i = 1#1), ∀ a, (k0_off1049 i k0_t5 v5448) a + S1x8x128.size a ≤ S7296x8x128.size a) ∧
  (∀ (k0_h3 : k0_cond3 i = 1#1), ∀ (r : Fin 4), ∀ a, (k0_off1051 i k0_t5 v5448 (BitVec.ofNat 32 r.val)) a + S1x8x128.size a ≤ S7296x8x128.size a)
theorem k0_off1040_inb : ∀ (i : grid0.Coords) (k0_t5 : Fin k0_t5_loop.trips) (v5448 : BitVec 32) (k0_hw366 : k0_chk366 i k0_t5 v5448), ∀ (k0_h3 : k0_cond3 i = 1#1), ∀ a, (k0_off1040 i k0_t5 v5448) a + S1x8x128.size a ≤ S7296x8x128.size a := fun i k0_t5 v5448 k0_hw366 k0_h3 => k0_hw366.1 k0_h3
theorem k0_off1043_inb : ∀ (i : grid0.Coords) (k0_t5 : Fin k0_t5_loop.trips) (v5448 : BitVec 32) (k0_hw366 : k0_chk366 i k0_t5 v5448), ∀ (k0_h3 : k0_cond3 i = 1#1), ∀ a, (k0_off1043 i k0_t5 v5448) a + S1x8x128.size a ≤ S7296x8x128.size a := fun i k0_t5 v5448 k0_hw366 k0_h3 => k0_hw366.2.1 k0_h3
theorem k0_off1046_inb : ∀ (i : grid0.Coords) (k0_t5 : Fin k0_t5_loop.trips) (v5448 : BitVec 32) (k0_hw366 : k0_chk366 i k0_t5 v5448), ∀ (k0_h3 : k0_cond3 i = 1#1), ∀ a, (k0_off1046 i k0_t5 v5448) a + S1x8x128.size a ≤ S7296x8x128.size a := fun i k0_t5 v5448 k0_hw366 k0_h3 => k0_hw366.2.2.1 k0_h3
theorem k0_off1049_inb : ∀ (i : grid0.Coords) (k0_t5 : Fin k0_t5_loop.trips) (v5448 : BitVec 32) (k0_hw366 : k0_chk366 i k0_t5 v5448), ∀ (k0_h3 : k0_cond3 i = 1#1), ∀ a, (k0_off1049 i k0_t5 v5448) a + S1x8x128.size a ≤ S7296x8x128.size a := fun i k0_t5 v5448 k0_hw366 k0_h3 => k0_hw366.2.2.2.1 k0_h3
theorem k0_off1051_inb : ∀ (i : grid0.Coords) (k0_t5 : Fin k0_t5_loop.trips) (v5448 : BitVec 32) (k0_hw366 : k0_chk366 i k0_t5 v5448), ∀ (k0_h3 : k0_cond3 i = 1#1), ∀ (r : Fin 4), ∀ a, (k0_off1051 i k0_t5 v5448 (BitVec.ofNat 32 r.val)) a + S1x8x128.size a ≤ S7296x8x128.size a := fun i k0_t5 v5448 k0_hw366 k0_h3 r => k0_hw366.2.2.2.2 k0_h3 r

def k0_off1052 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2706 : BitVec 32 := 38#32
  let v5516 : BitVec 32 := Scalar.muli arg13 c38_i32_2706
  let c36_i32 : BitVec 32 := 36#32
  let v5517 : BitVec 32 := Scalar.addi v5516 c36_i32
  let v5518 : Index := Scalar.indexCast v5517
  ![v5518.toNat]
def k0_off1053 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2706 : BitVec 32 := 38#32
  let v5516 : BitVec 32 := Scalar.muli arg13 c38_i32_2706
  let c36_i32 : BitVec 32 := 36#32
  let v5517 : BitVec 32 := Scalar.addi v5516 c36_i32
  let c4_i32_2715 : BitVec 32 := 4#32
  let v5531 : BitVec 32 := Scalar.muli v5517 c4_i32_2715
  let c0_i32_2716 : BitVec 32 := 0#32
  let v5532 : BitVec 32 := Scalar.addi v5531 c0_i32_2716
  let v5533 : Index := Scalar.indexCast v5532
  ![v5533.toNat]
def k0_off1054 (i : grid0.Coords) (k0_t5 : Fin k0_t5_loop.trips) (v5519 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2708 : BitVec 32 := 2#32
  let v5522 : BitVec 32 := Scalar.muli v2959 c2_i32_2708
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5520 : BitVec 32 := Scalar.shrui v5519 v2958
  let c1_i32_2707 : BitVec 32 := 1#32
  let v5521 : BitVec 32 := Scalar.andi v5520 c1_i32_2707
  let v5523 : BitVec 32 := Scalar.addi v5522 v5521
  let c1216_i32_2709 : BitVec 32 := 1216#32
  let v5524 : BitVec 32 := Scalar.muli v5523 c1216_i32_2709
  let c0_i32_7 : BitVec 32 := 0#32
  let c1_i32_9 : BitVec 32 := 1#32
  let arg13 : BitVec 32 := Scf.iv c0_i32_7 c1_i32_9 k0_t5
  let c38_i32_2706 : BitVec 32 := 38#32
  let v5516 : BitVec 32 := Scalar.muli arg13 c38_i32_2706
  let c36_i32 : BitVec 32 := 36#32
  let v5517 : BitVec 32 := Scalar.addi v5516 c36_i32
  let c4_i32_2710 : BitVec 32 := 4#32
  let v5525 : BitVec 32 := Scalar.muli v5517 c4_i32_2710
  let v5526 : BitVec 32 := Scalar.addi v5524 v5525
  let c0_i32_2711 : BitVec 32 := 0#32
  let v5527 : BitVec 32 := Scalar.addi v5526 c0_i32_2711
  let v5535 : Index := Scalar.indexCast v5527
  let c0_2717 : Index := 0#32
  let c0_2718 : Index := 0#32
  ![v5535.toNat, 0, 0]

def k0_off1055 (v5534 : BitVec 32) : Fin 2 → Nat :=
  let v5538 : Index := Scalar.indexCast v5534
  let c0_2719 : Index := 0#32
  ![v5538.toNat, 0]

def k0_chk372 (i : grid0.Coords) (v5534 : BitVec 32) : Prop :=
  (∀ (k0_h3 : k0_cond3 i = 1#1), ∀ a, (k0_off1055 v5534) a + S8x128.size a ≤ S18432x128.size a)
theorem k0_off1055_inb : ∀ (i : grid0.Coords) (v5534 : BitVec 32) (k0_hw372 : k0_chk372 i v5534), ∀ (k0_h3 : k0_cond3 i = 1#1), ∀ a, (k0_off1055 v5534) a + S8x128.size a ≤ S18432x128.size a := fun i v5534 k0_hw372 k0_h3 => k0_hw372 k0_h3

def k0_off1056 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2706 : BitVec 32 := 38#32
  let v5516 : BitVec 32 := Scalar.muli arg13 c38_i32_2706
  let c36_i32 : BitVec 32 := 36#32
  let v5517 : BitVec 32 := Scalar.addi v5516 c36_i32
  let c4_i32_2720 : BitVec 32 := 4#32
  let v5541 : BitVec 32 := Scalar.muli v5517 c4_i32_2720
  let c1_i32_2721 : BitVec 32 := 1#32
  let v5542 : BitVec 32 := Scalar.addi v5541 c1_i32_2721
  let v5543 : Index := Scalar.indexCast v5542
  ![v5543.toNat]
def k0_off1057 (i : grid0.Coords) (k0_t5 : Fin k0_t5_loop.trips) (v5519 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2708 : BitVec 32 := 2#32
  let v5522 : BitVec 32 := Scalar.muli v2959 c2_i32_2708
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5520 : BitVec 32 := Scalar.shrui v5519 v2958
  let c1_i32_2707 : BitVec 32 := 1#32
  let v5521 : BitVec 32 := Scalar.andi v5520 c1_i32_2707
  let v5523 : BitVec 32 := Scalar.addi v5522 v5521
  let c1216_i32_2709 : BitVec 32 := 1216#32
  let v5524 : BitVec 32 := Scalar.muli v5523 c1216_i32_2709
  let c0_i32_7 : BitVec 32 := 0#32
  let c1_i32_9 : BitVec 32 := 1#32
  let arg13 : BitVec 32 := Scf.iv c0_i32_7 c1_i32_9 k0_t5
  let c38_i32_2706 : BitVec 32 := 38#32
  let v5516 : BitVec 32 := Scalar.muli arg13 c38_i32_2706
  let c36_i32 : BitVec 32 := 36#32
  let v5517 : BitVec 32 := Scalar.addi v5516 c36_i32
  let c4_i32_2710 : BitVec 32 := 4#32
  let v5525 : BitVec 32 := Scalar.muli v5517 c4_i32_2710
  let v5526 : BitVec 32 := Scalar.addi v5524 v5525
  let c1_i32_2712 : BitVec 32 := 1#32
  let v5528 : BitVec 32 := Scalar.addi v5526 c1_i32_2712
  let v5545 : Index := Scalar.indexCast v5528
  let c0_2722 : Index := 0#32
  let c0_2723 : Index := 0#32
  ![v5545.toNat, 0, 0]
def k0_off1058 (v5544 : BitVec 32) : Fin 2 → Nat :=
  let v5548 : Index := Scalar.indexCast v5544
  let c0_2724 : Index := 0#32
  ![v5548.toNat, 0]

def k0_chk373 (i : grid0.Coords) (v5544 : BitVec 32) : Prop :=
  (∀ (k0_h3 : k0_cond3 i = 1#1), ∀ a, (k0_off1058 v5544) a + S8x128.size a ≤ S18432x128.size a)
theorem k0_off1058_inb : ∀ (i : grid0.Coords) (v5544 : BitVec 32) (k0_hw373 : k0_chk373 i v5544), ∀ (k0_h3 : k0_cond3 i = 1#1), ∀ a, (k0_off1058 v5544) a + S8x128.size a ≤ S18432x128.size a := fun i v5544 k0_hw373 k0_h3 => k0_hw373 k0_h3

def k0_off1059 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2706 : BitVec 32 := 38#32
  let v5516 : BitVec 32 := Scalar.muli arg13 c38_i32_2706
  let c36_i32 : BitVec 32 := 36#32
  let v5517 : BitVec 32 := Scalar.addi v5516 c36_i32
  let c4_i32_2725 : BitVec 32 := 4#32
  let v5551 : BitVec 32 := Scalar.muli v5517 c4_i32_2725
  let c2_i32_2726 : BitVec 32 := 2#32
  let v5552 : BitVec 32 := Scalar.addi v5551 c2_i32_2726
  let v5553 : Index := Scalar.indexCast v5552
  ![v5553.toNat]
def k0_off1060 (i : grid0.Coords) (k0_t5 : Fin k0_t5_loop.trips) (v5519 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2708 : BitVec 32 := 2#32
  let v5522 : BitVec 32 := Scalar.muli v2959 c2_i32_2708
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5520 : BitVec 32 := Scalar.shrui v5519 v2958
  let c1_i32_2707 : BitVec 32 := 1#32
  let v5521 : BitVec 32 := Scalar.andi v5520 c1_i32_2707
  let v5523 : BitVec 32 := Scalar.addi v5522 v5521
  let c1216_i32_2709 : BitVec 32 := 1216#32
  let v5524 : BitVec 32 := Scalar.muli v5523 c1216_i32_2709
  let c0_i32_7 : BitVec 32 := 0#32
  let c1_i32_9 : BitVec 32 := 1#32
  let arg13 : BitVec 32 := Scf.iv c0_i32_7 c1_i32_9 k0_t5
  let c38_i32_2706 : BitVec 32 := 38#32
  let v5516 : BitVec 32 := Scalar.muli arg13 c38_i32_2706
  let c36_i32 : BitVec 32 := 36#32
  let v5517 : BitVec 32 := Scalar.addi v5516 c36_i32
  let c4_i32_2710 : BitVec 32 := 4#32
  let v5525 : BitVec 32 := Scalar.muli v5517 c4_i32_2710
  let v5526 : BitVec 32 := Scalar.addi v5524 v5525
  let c2_i32_2713 : BitVec 32 := 2#32
  let v5529 : BitVec 32 := Scalar.addi v5526 c2_i32_2713
  let v5555 : Index := Scalar.indexCast v5529
  let c0_2727 : Index := 0#32
  let c0_2728 : Index := 0#32
  ![v5555.toNat, 0, 0]
def k0_off1061 (v5554 : BitVec 32) : Fin 2 → Nat :=
  let v5558 : Index := Scalar.indexCast v5554
  let c0_2729 : Index := 0#32
  ![v5558.toNat, 0]

def k0_chk374 (i : grid0.Coords) (v5554 : BitVec 32) : Prop :=
  (∀ (k0_h3 : k0_cond3 i = 1#1), ∀ a, (k0_off1061 v5554) a + S8x128.size a ≤ S18432x128.size a)
theorem k0_off1061_inb : ∀ (i : grid0.Coords) (v5554 : BitVec 32) (k0_hw374 : k0_chk374 i v5554), ∀ (k0_h3 : k0_cond3 i = 1#1), ∀ a, (k0_off1061 v5554) a + S8x128.size a ≤ S18432x128.size a := fun i v5554 k0_hw374 k0_h3 => k0_hw374 k0_h3

def k0_off1062 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2706 : BitVec 32 := 38#32
  let v5516 : BitVec 32 := Scalar.muli arg13 c38_i32_2706
  let c36_i32 : BitVec 32 := 36#32
  let v5517 : BitVec 32 := Scalar.addi v5516 c36_i32
  let c4_i32_2730 : BitVec 32 := 4#32
  let v5561 : BitVec 32 := Scalar.muli v5517 c4_i32_2730
  let c3_i32_2731 : BitVec 32 := 3#32
  let v5562 : BitVec 32 := Scalar.addi v5561 c3_i32_2731
  let v5563 : Index := Scalar.indexCast v5562
  ![v5563.toNat]
def k0_off1063 (i : grid0.Coords) (k0_t5 : Fin k0_t5_loop.trips) (v5519 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2708 : BitVec 32 := 2#32
  let v5522 : BitVec 32 := Scalar.muli v2959 c2_i32_2708
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5520 : BitVec 32 := Scalar.shrui v5519 v2958
  let c1_i32_2707 : BitVec 32 := 1#32
  let v5521 : BitVec 32 := Scalar.andi v5520 c1_i32_2707
  let v5523 : BitVec 32 := Scalar.addi v5522 v5521
  let c1216_i32_2709 : BitVec 32 := 1216#32
  let v5524 : BitVec 32 := Scalar.muli v5523 c1216_i32_2709
  let c0_i32_7 : BitVec 32 := 0#32
  let c1_i32_9 : BitVec 32 := 1#32
  let arg13 : BitVec 32 := Scf.iv c0_i32_7 c1_i32_9 k0_t5
  let c38_i32_2706 : BitVec 32 := 38#32
  let v5516 : BitVec 32 := Scalar.muli arg13 c38_i32_2706
  let c36_i32 : BitVec 32 := 36#32
  let v5517 : BitVec 32 := Scalar.addi v5516 c36_i32
  let c4_i32_2710 : BitVec 32 := 4#32
  let v5525 : BitVec 32 := Scalar.muli v5517 c4_i32_2710
  let v5526 : BitVec 32 := Scalar.addi v5524 v5525
  let c3_i32_2714 : BitVec 32 := 3#32
  let v5530 : BitVec 32 := Scalar.addi v5526 c3_i32_2714
  let v5565 : Index := Scalar.indexCast v5530
  let c0_2732 : Index := 0#32
  let c0_2733 : Index := 0#32
  ![v5565.toNat, 0, 0]
def k0_off1064 (v5564 : BitVec 32) : Fin 2 → Nat :=
  let v5568 : Index := Scalar.indexCast v5564
  let c0_2734 : Index := 0#32
  ![v5568.toNat, 0]

def k0_chk375 (i : grid0.Coords) (v5564 : BitVec 32) : Prop :=
  (∀ (k0_h3 : k0_cond3 i = 1#1), ∀ a, (k0_off1064 v5564) a + S8x128.size a ≤ S18432x128.size a)
theorem k0_off1064_inb : ∀ (i : grid0.Coords) (v5564 : BitVec 32) (k0_hw375 : k0_chk375 i v5564), ∀ (k0_h3 : k0_cond3 i = 1#1), ∀ a, (k0_off1064 v5564) a + S8x128.size a ≤ S18432x128.size a := fun i v5564 k0_hw375 k0_h3 => k0_hw375 k0_h3

def k0_off1065 (i : grid0.Coords) (k0_t5 : Fin k0_t5_loop.trips) (v5519 : BitVec 32) (c0_i32_2711 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2708 : BitVec 32 := 2#32
  let v5522 : BitVec 32 := Scalar.muli v2959 c2_i32_2708
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5520 : BitVec 32 := Scalar.shrui v5519 v2958
  let c1_i32_2707 : BitVec 32 := 1#32
  let v5521 : BitVec 32 := Scalar.andi v5520 c1_i32_2707
  let v5523 : BitVec 32 := Scalar.addi v5522 v5521
  let c1216_i32_2709 : BitVec 32 := 1216#32
  let v5524 : BitVec 32 := Scalar.muli v5523 c1216_i32_2709
  let c0_i32_7 : BitVec 32 := 0#32
  let c1_i32_9 : BitVec 32 := 1#32
  let arg13 : BitVec 32 := Scf.iv c0_i32_7 c1_i32_9 k0_t5
  let c38_i32_2706 : BitVec 32 := 38#32
  let v5516 : BitVec 32 := Scalar.muli arg13 c38_i32_2706
  let c36_i32 : BitVec 32 := 36#32
  let v5517 : BitVec 32 := Scalar.addi v5516 c36_i32
  let c4_i32_2710 : BitVec 32 := 4#32
  let v5525 : BitVec 32 := Scalar.muli v5517 c4_i32_2710
  let v5526 : BitVec 32 := Scalar.addi v5524 v5525
  let v5527 : BitVec 32 := Scalar.addi v5526 c0_i32_2711
  let v5571 : Index := Scalar.indexCast v5527
  let c0_2735 : Index := 0#32
  let c0_2736 : Index := 0#32
  ![v5571.toNat, 0, 0]

def k0_chk371 (i : grid0.Coords) (k0_t5 : Fin k0_t5_loop.trips) (v5519 : BitVec 32) : Prop :=
  (∀ (k0_h3 : k0_cond3 i = 1#1), ∀ a, (k0_off1054 i k0_t5 v5519) a + S1x8x128.size a ≤ S7296x8x128.size a) ∧
  (∀ (k0_h3 : k0_cond3 i = 1#1), ∀ a, (k0_off1057 i k0_t5 v5519) a + S1x8x128.size a ≤ S7296x8x128.size a) ∧
  (∀ (k0_h3 : k0_cond3 i = 1#1), ∀ a, (k0_off1060 i k0_t5 v5519) a + S1x8x128.size a ≤ S7296x8x128.size a) ∧
  (∀ (k0_h3 : k0_cond3 i = 1#1), ∀ a, (k0_off1063 i k0_t5 v5519) a + S1x8x128.size a ≤ S7296x8x128.size a) ∧
  (∀ (k0_h3 : k0_cond3 i = 1#1), ∀ (r : Fin 4), ∀ a, (k0_off1065 i k0_t5 v5519 (BitVec.ofNat 32 r.val)) a + S1x8x128.size a ≤ S7296x8x128.size a)
theorem k0_off1054_inb : ∀ (i : grid0.Coords) (k0_t5 : Fin k0_t5_loop.trips) (v5519 : BitVec 32) (k0_hw371 : k0_chk371 i k0_t5 v5519), ∀ (k0_h3 : k0_cond3 i = 1#1), ∀ a, (k0_off1054 i k0_t5 v5519) a + S1x8x128.size a ≤ S7296x8x128.size a := fun i k0_t5 v5519 k0_hw371 k0_h3 => k0_hw371.1 k0_h3
theorem k0_off1057_inb : ∀ (i : grid0.Coords) (k0_t5 : Fin k0_t5_loop.trips) (v5519 : BitVec 32) (k0_hw371 : k0_chk371 i k0_t5 v5519), ∀ (k0_h3 : k0_cond3 i = 1#1), ∀ a, (k0_off1057 i k0_t5 v5519) a + S1x8x128.size a ≤ S7296x8x128.size a := fun i k0_t5 v5519 k0_hw371 k0_h3 => k0_hw371.2.1 k0_h3
theorem k0_off1060_inb : ∀ (i : grid0.Coords) (k0_t5 : Fin k0_t5_loop.trips) (v5519 : BitVec 32) (k0_hw371 : k0_chk371 i k0_t5 v5519), ∀ (k0_h3 : k0_cond3 i = 1#1), ∀ a, (k0_off1060 i k0_t5 v5519) a + S1x8x128.size a ≤ S7296x8x128.size a := fun i k0_t5 v5519 k0_hw371 k0_h3 => k0_hw371.2.2.1 k0_h3
theorem k0_off1063_inb : ∀ (i : grid0.Coords) (k0_t5 : Fin k0_t5_loop.trips) (v5519 : BitVec 32) (k0_hw371 : k0_chk371 i k0_t5 v5519), ∀ (k0_h3 : k0_cond3 i = 1#1), ∀ a, (k0_off1063 i k0_t5 v5519) a + S1x8x128.size a ≤ S7296x8x128.size a := fun i k0_t5 v5519 k0_hw371 k0_h3 => k0_hw371.2.2.2.1 k0_h3
theorem k0_off1065_inb : ∀ (i : grid0.Coords) (k0_t5 : Fin k0_t5_loop.trips) (v5519 : BitVec 32) (k0_hw371 : k0_chk371 i k0_t5 v5519), ∀ (k0_h3 : k0_cond3 i = 1#1), ∀ (r : Fin 4), ∀ a, (k0_off1065 i k0_t5 v5519 (BitVec.ofNat 32 r.val)) a + S1x8x128.size a ≤ S7296x8x128.size a := fun i k0_t5 v5519 k0_hw371 k0_h3 r => k0_hw371.2.2.2.2 k0_h3 r

def k0_off1066 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2743 : BitVec 32 := 38#32
  let v5587 : BitVec 32 := Scalar.muli arg13 c38_i32_2743
  let c37_i32 : BitVec 32 := 37#32
  let v5588 : BitVec 32 := Scalar.addi v5587 c37_i32
  let v5589 : Index := Scalar.indexCast v5588
  ![v5589.toNat]
def k0_off1067 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2743 : BitVec 32 := 38#32
  let v5587 : BitVec 32 := Scalar.muli arg13 c38_i32_2743
  let c37_i32 : BitVec 32 := 37#32
  let v5588 : BitVec 32 := Scalar.addi v5587 c37_i32
  let c4_i32_2752 : BitVec 32 := 4#32
  let v5602 : BitVec 32 := Scalar.muli v5588 c4_i32_2752
  let c0_i32_2753 : BitVec 32 := 0#32
  let v5603 : BitVec 32 := Scalar.addi v5602 c0_i32_2753
  let v5604 : Index := Scalar.indexCast v5603
  ![v5604.toNat]
def k0_off1068 (i : grid0.Coords) (k0_t5 : Fin k0_t5_loop.trips) (v5590 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2745 : BitVec 32 := 2#32
  let v5593 : BitVec 32 := Scalar.muli v2959 c2_i32_2745
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5591 : BitVec 32 := Scalar.shrui v5590 v2958
  let c1_i32_2744 : BitVec 32 := 1#32
  let v5592 : BitVec 32 := Scalar.andi v5591 c1_i32_2744
  let v5594 : BitVec 32 := Scalar.addi v5593 v5592
  let c1216_i32_2746 : BitVec 32 := 1216#32
  let v5595 : BitVec 32 := Scalar.muli v5594 c1216_i32_2746
  let c0_i32_7 : BitVec 32 := 0#32
  let c1_i32_9 : BitVec 32 := 1#32
  let arg13 : BitVec 32 := Scf.iv c0_i32_7 c1_i32_9 k0_t5
  let c38_i32_2743 : BitVec 32 := 38#32
  let v5587 : BitVec 32 := Scalar.muli arg13 c38_i32_2743
  let c37_i32 : BitVec 32 := 37#32
  let v5588 : BitVec 32 := Scalar.addi v5587 c37_i32
  let c4_i32_2747 : BitVec 32 := 4#32
  let v5596 : BitVec 32 := Scalar.muli v5588 c4_i32_2747
  let v5597 : BitVec 32 := Scalar.addi v5595 v5596
  let c0_i32_2748 : BitVec 32 := 0#32
  let v5598 : BitVec 32 := Scalar.addi v5597 c0_i32_2748
  let v5606 : Index := Scalar.indexCast v5598
  let c0_2754 : Index := 0#32
  let c0_2755 : Index := 0#32
  ![v5606.toNat, 0, 0]

def k0_off1069 (v5605 : BitVec 32) : Fin 2 → Nat :=
  let v5609 : Index := Scalar.indexCast v5605
  let c0_2756 : Index := 0#32
  ![v5609.toNat, 0]

def k0_chk377 (i : grid0.Coords) (v5605 : BitVec 32) : Prop :=
  (∀ (k0_h3 : k0_cond3 i = 1#1), ∀ a, (k0_off1069 v5605) a + S8x128.size a ≤ S18432x128.size a)
theorem k0_off1069_inb : ∀ (i : grid0.Coords) (v5605 : BitVec 32) (k0_hw377 : k0_chk377 i v5605), ∀ (k0_h3 : k0_cond3 i = 1#1), ∀ a, (k0_off1069 v5605) a + S8x128.size a ≤ S18432x128.size a := fun i v5605 k0_hw377 k0_h3 => k0_hw377 k0_h3

def k0_off1070 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2743 : BitVec 32 := 38#32
  let v5587 : BitVec 32 := Scalar.muli arg13 c38_i32_2743
  let c37_i32 : BitVec 32 := 37#32
  let v5588 : BitVec 32 := Scalar.addi v5587 c37_i32
  let c4_i32_2757 : BitVec 32 := 4#32
  let v5612 : BitVec 32 := Scalar.muli v5588 c4_i32_2757
  let c1_i32_2758 : BitVec 32 := 1#32
  let v5613 : BitVec 32 := Scalar.addi v5612 c1_i32_2758
  let v5614 : Index := Scalar.indexCast v5613
  ![v5614.toNat]
def k0_off1071 (i : grid0.Coords) (k0_t5 : Fin k0_t5_loop.trips) (v5590 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2745 : BitVec 32 := 2#32
  let v5593 : BitVec 32 := Scalar.muli v2959 c2_i32_2745
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5591 : BitVec 32 := Scalar.shrui v5590 v2958
  let c1_i32_2744 : BitVec 32 := 1#32
  let v5592 : BitVec 32 := Scalar.andi v5591 c1_i32_2744
  let v5594 : BitVec 32 := Scalar.addi v5593 v5592
  let c1216_i32_2746 : BitVec 32 := 1216#32
  let v5595 : BitVec 32 := Scalar.muli v5594 c1216_i32_2746
  let c0_i32_7 : BitVec 32 := 0#32
  let c1_i32_9 : BitVec 32 := 1#32
  let arg13 : BitVec 32 := Scf.iv c0_i32_7 c1_i32_9 k0_t5
  let c38_i32_2743 : BitVec 32 := 38#32
  let v5587 : BitVec 32 := Scalar.muli arg13 c38_i32_2743
  let c37_i32 : BitVec 32 := 37#32
  let v5588 : BitVec 32 := Scalar.addi v5587 c37_i32
  let c4_i32_2747 : BitVec 32 := 4#32
  let v5596 : BitVec 32 := Scalar.muli v5588 c4_i32_2747
  let v5597 : BitVec 32 := Scalar.addi v5595 v5596
  let c1_i32_2749 : BitVec 32 := 1#32
  let v5599 : BitVec 32 := Scalar.addi v5597 c1_i32_2749
  let v5616 : Index := Scalar.indexCast v5599
  let c0_2759 : Index := 0#32
  let c0_2760 : Index := 0#32
  ![v5616.toNat, 0, 0]
def k0_off1072 (v5615 : BitVec 32) : Fin 2 → Nat :=
  let v5619 : Index := Scalar.indexCast v5615
  let c0_2761 : Index := 0#32
  ![v5619.toNat, 0]

def k0_chk378 (i : grid0.Coords) (v5615 : BitVec 32) : Prop :=
  (∀ (k0_h3 : k0_cond3 i = 1#1), ∀ a, (k0_off1072 v5615) a + S8x128.size a ≤ S18432x128.size a)
theorem k0_off1072_inb : ∀ (i : grid0.Coords) (v5615 : BitVec 32) (k0_hw378 : k0_chk378 i v5615), ∀ (k0_h3 : k0_cond3 i = 1#1), ∀ a, (k0_off1072 v5615) a + S8x128.size a ≤ S18432x128.size a := fun i v5615 k0_hw378 k0_h3 => k0_hw378 k0_h3

def k0_off1073 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2743 : BitVec 32 := 38#32
  let v5587 : BitVec 32 := Scalar.muli arg13 c38_i32_2743
  let c37_i32 : BitVec 32 := 37#32
  let v5588 : BitVec 32 := Scalar.addi v5587 c37_i32
  let c4_i32_2762 : BitVec 32 := 4#32
  let v5622 : BitVec 32 := Scalar.muli v5588 c4_i32_2762
  let c2_i32_2763 : BitVec 32 := 2#32
  let v5623 : BitVec 32 := Scalar.addi v5622 c2_i32_2763
  let v5624 : Index := Scalar.indexCast v5623
  ![v5624.toNat]
def k0_off1074 (i : grid0.Coords) (k0_t5 : Fin k0_t5_loop.trips) (v5590 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2745 : BitVec 32 := 2#32
  let v5593 : BitVec 32 := Scalar.muli v2959 c2_i32_2745
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5591 : BitVec 32 := Scalar.shrui v5590 v2958
  let c1_i32_2744 : BitVec 32 := 1#32
  let v5592 : BitVec 32 := Scalar.andi v5591 c1_i32_2744
  let v5594 : BitVec 32 := Scalar.addi v5593 v5592
  let c1216_i32_2746 : BitVec 32 := 1216#32
  let v5595 : BitVec 32 := Scalar.muli v5594 c1216_i32_2746
  let c0_i32_7 : BitVec 32 := 0#32
  let c1_i32_9 : BitVec 32 := 1#32
  let arg13 : BitVec 32 := Scf.iv c0_i32_7 c1_i32_9 k0_t5
  let c38_i32_2743 : BitVec 32 := 38#32
  let v5587 : BitVec 32 := Scalar.muli arg13 c38_i32_2743
  let c37_i32 : BitVec 32 := 37#32
  let v5588 : BitVec 32 := Scalar.addi v5587 c37_i32
  let c4_i32_2747 : BitVec 32 := 4#32
  let v5596 : BitVec 32 := Scalar.muli v5588 c4_i32_2747
  let v5597 : BitVec 32 := Scalar.addi v5595 v5596
  let c2_i32_2750 : BitVec 32 := 2#32
  let v5600 : BitVec 32 := Scalar.addi v5597 c2_i32_2750
  let v5626 : Index := Scalar.indexCast v5600
  let c0_2764 : Index := 0#32
  let c0_2765 : Index := 0#32
  ![v5626.toNat, 0, 0]
def k0_off1075 (v5625 : BitVec 32) : Fin 2 → Nat :=
  let v5629 : Index := Scalar.indexCast v5625
  let c0_2766 : Index := 0#32
  ![v5629.toNat, 0]

def k0_chk379 (i : grid0.Coords) (v5625 : BitVec 32) : Prop :=
  (∀ (k0_h3 : k0_cond3 i = 1#1), ∀ a, (k0_off1075 v5625) a + S8x128.size a ≤ S18432x128.size a)
theorem k0_off1075_inb : ∀ (i : grid0.Coords) (v5625 : BitVec 32) (k0_hw379 : k0_chk379 i v5625), ∀ (k0_h3 : k0_cond3 i = 1#1), ∀ a, (k0_off1075 v5625) a + S8x128.size a ≤ S18432x128.size a := fun i v5625 k0_hw379 k0_h3 => k0_hw379 k0_h3

def k0_off1076 (k0_t5 : Fin k0_t5_loop.trips) : Fin 1 → Nat :=
  let c0_i32_7 : BitVec 32 := 0#32
  let c1_i32_9 : BitVec 32 := 1#32
  let arg13 : BitVec 32 := Scf.iv c0_i32_7 c1_i32_9 k0_t5
  let c38_i32_2743 : BitVec 32 := 38#32
  let v5587 : BitVec 32 := Scalar.muli arg13 c38_i32_2743
  let c37_i32 : BitVec 32 := 37#32
  let v5588 : BitVec 32 := Scalar.addi v5587 c37_i32
  let c4_i32_2767 : BitVec 32 := 4#32
  let v5632 : BitVec 32 := Scalar.muli v5588 c4_i32_2767
  let c3_i32_2768 : BitVec 32 := 3#32
  let v5633 : BitVec 32 := Scalar.addi v5632 c3_i32_2768
  let v5634 : Index := Scalar.indexCast v5633
  ![v5634.toNat]
def k0_off1077 (i : grid0.Coords) (k0_t5 : Fin k0_t5_loop.trips) (v5590 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2745 : BitVec 32 := 2#32
  let v5593 : BitVec 32 := Scalar.muli v2959 c2_i32_2745
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5591 : BitVec 32 := Scalar.shrui v5590 v2958
  let c1_i32_2744 : BitVec 32 := 1#32
  let v5592 : BitVec 32 := Scalar.andi v5591 c1_i32_2744
  let v5594 : BitVec 32 := Scalar.addi v5593 v5592
  let c1216_i32_2746 : BitVec 32 := 1216#32
  let v5595 : BitVec 32 := Scalar.muli v5594 c1216_i32_2746
  let c0_i32_7 : BitVec 32 := 0#32
  let c1_i32_9 : BitVec 32 := 1#32
  let arg13 : BitVec 32 := Scf.iv c0_i32_7 c1_i32_9 k0_t5
  let c38_i32_2743 : BitVec 32 := 38#32
  let v5587 : BitVec 32 := Scalar.muli arg13 c38_i32_2743
  let c37_i32 : BitVec 32 := 37#32
  let v5588 : BitVec 32 := Scalar.addi v5587 c37_i32
  let c4_i32_2747 : BitVec 32 := 4#32
  let v5596 : BitVec 32 := Scalar.muli v5588 c4_i32_2747
  let v5597 : BitVec 32 := Scalar.addi v5595 v5596
  let c3_i32_2751 : BitVec 32 := 3#32
  let v5601 : BitVec 32 := Scalar.addi v5597 c3_i32_2751
  let v5636 : Index := Scalar.indexCast v5601
  let c0_2769 : Index := 0#32
  let c0_2770 : Index := 0#32
  ![v5636.toNat, 0, 0]
def k0_off1078 (v5635 : BitVec 32) : Fin 2 → Nat :=
  let v5639 : Index := Scalar.indexCast v5635
  let c0_2771 : Index := 0#32
  ![v5639.toNat, 0]

def k0_chk380 (i : grid0.Coords) (v5635 : BitVec 32) : Prop :=
  (∀ (k0_h3 : k0_cond3 i = 1#1), ∀ a, (k0_off1078 v5635) a + S8x128.size a ≤ S18432x128.size a)
theorem k0_off1078_inb : ∀ (i : grid0.Coords) (v5635 : BitVec 32) (k0_hw380 : k0_chk380 i v5635), ∀ (k0_h3 : k0_cond3 i = 1#1), ∀ a, (k0_off1078 v5635) a + S8x128.size a ≤ S18432x128.size a := fun i v5635 k0_hw380 k0_h3 => k0_hw380 k0_h3

def k0_off1079 (i : grid0.Coords) (k0_t5 : Fin k0_t5_loop.trips) (v5590 : BitVec 32) (c0_i32_2748 : BitVec 32) : Fin 3 → Nat :=
  let c2_i32_1359 : BitVec 32 := 2#32
  let arg0 : BitVec 32 := BitVec.ofNat 32 (i 0).val
  let v2939 : BitVec 32 := Scalar.muli c2_i32_1359 arg0
  let c0_i32_1360 : BitVec 32 := 0#32
  let v2940 : BitVec 32 := Scalar.maxsi v2939 c0_i32_1360
  let c3_i32_1367 : BitVec 32 := 3#32
  let v2959 : BitVec 32 := Scalar.remsi v2940 c3_i32_1367
  let c2_i32_2745 : BitVec 32 := 2#32
  let v5593 : BitVec 32 := Scalar.muli v2959 c2_i32_2745
  let c48_i32 : BitVec 32 := 48#32
  let v2941 : BitVec 32 := Scalar.remsi v2940 c48_i32
  let c0_i32_1361 : BitVec 32 := 0#32
  let v2943 : BitVec 1 := Scalar.cmpi .sgt v2941 c0_i32_1361
  let v2944 : BitVec 32 := Scalar.extui v2943
  let c0_i32_1362 : BitVec 32 := 0#32
  let v2945 : BitVec 1 := Scalar.cmpi .slt v2941 c0_i32_1362
  let v2946 : BitVec 32 := Scalar.extui v2945
  let v2947 : BitVec 32 := Scalar.subi v2944 v2946
  let c3_i32 : BitVec 32 := 3#32
  let c0_i32_1363 : BitVec 32 := 0#32
  let v2948 : BitVec 1 := Scalar.cmpi .sgt c3_i32 c0_i32_1363
  let v2949 : BitVec 32 := Scalar.extui v2948
  let c0_i32_1364 : BitVec 32 := 0#32
  let v2950 : BitVec 1 := Scalar.cmpi .slt c3_i32 c0_i32_1364
  let v2951 : BitVec 32 := Scalar.extui v2950
  let v2952 : BitVec 32 := Scalar.subi v2949 v2951
  let v2953 : BitVec 1 := Scalar.cmpi .ne v2947 v2952
  let v2954 : BitVec 32 := Scalar.remsi v2941 c3_i32
  let c0_i32_1365 : BitVec 32 := 0#32
  let v2955 : BitVec 1 := Scalar.cmpi .ne v2954 c0_i32_1365
  let v2956 : BitVec 1 := Scalar.andi v2953 v2955
  let v2942 : BitVec 32 := Scalar.divsi v2941 c3_i32
  let c1_i32_1366 : BitVec 32 := 1#32
  let v2957 : BitVec 32 := Scalar.subi v2942 c1_i32_1366
  let v2958 : BitVec 32 := Scalar.select v2956 v2957 v2942
  let v5591 : BitVec 32 := Scalar.shrui v5590 v2958
  let c1_i32_2744 : BitVec 32 := 1#32
  let v5592 : BitVec 32 := Scalar.andi v5591 c1_i32_2744
  let v5594 : BitVec 32 := Scalar.addi v5593 v5592
  let c1216_i32_2746 : BitVec 32 := 1216#32
  let v5595 : BitVec 32 := Scalar.muli v5594 c1216_i32_2746
  let c0_i32_7 : BitVec 32 := 0#32
  let c1_i32_9 : BitVec 32 := 1#32
  let arg13 : BitVec 32 := Scf.iv c0_i32_7 c1_i32_9 k0_t5
  let c38_i32_2743 : BitVec 32 := 38#32
  let v5587 : BitVec 32 := Scalar.muli arg13 c38_i32_2743
  let c37_i32 : BitVec 32 := 37#32
  let v5588 : BitVec 32 := Scalar.addi v5587 c37_i32
  let c4_i32_2747 : BitVec 32 := 4#32
  let v5596 : BitVec 32 := Scalar.muli v5588 c4_i32_2747
  let v5597 : BitVec 32 := Scalar.addi v5595 v5596
  let v5598 : BitVec 32 := Scalar.addi v5597 c0_i32_2748
  let v5642 : Index := Scalar.indexCast v5598
  let c0_2772 : Index := 0#32
  let c0_2773 : Index := 0#32
  ![v5642.toNat, 0, 0]

def k0_chk376 (i : grid0.Coords) (k0_t5 : Fin k0_t5_loop.trips) (v5590 : BitVec 32) : Prop :=
  (∀ (k0_h3 : k0_cond3 i = 1#1), ∀ a, (k0_off1068 i k0_t5 v5590) a + S1x8x128.size a ≤ S7296x8x128.size a) ∧
  (∀ (k0_h3 : k0_cond3 i = 1#1), ∀ a, (k0_off1071 i k0_t5 v5590) a + S1x8x128.size a ≤ S7296x8x128.size a) ∧
  (∀ (k0_h3 : k0_cond3 i = 1#1), ∀ a, (k0_off1074 i k0_t5 v5590) a + S1x8x128.size a ≤ S7296x8x128.size a) ∧
  (∀ (k0_h3 : k0_cond3 i = 1#1), ∀ a, (k0_off1077 i k0_t5 v5590) a + S1x8x128.size a ≤ S7296x8x128.size a) ∧
  (∀ (k0_h3 : k0_cond3 i = 1#1), ∀ (r : Fin 4), ∀ a, (k0_off1079 i k0_t5 v5590 (BitVec.ofNat 32 r.val)) a + S1x8x128.size a ≤ S7296x8x128.size a)
theorem k0_off1068_inb : ∀ (i : grid0.Coords) (k0_t5 : Fin k0_t5_loop.trips) (v5590 : BitVec 32) (k0_hw376 : k0_chk376 i k0_t5 v5590), ∀ (k0_h3 : k0_cond3 i = 1#1), ∀ a, (k0_off1068 i k0_t5 v5590) a + S1x8x128.size a ≤ S7296x8x128.size a := fun i k0_t5 v5590 k0_hw376 k0_h3 => k0_hw376.1 k0_h3
theorem k0_off1071_inb : ∀ (i : grid0.Coords) (k0_t5 : Fin k0_t5_loop.trips) (v5590 : BitVec 32) (k0_hw376 : k0_chk376 i k0_t5 v5590), ∀ (k0_h3 : k0_cond3 i = 1#1), ∀ a, (k0_off1071 i k0_t5 v5590) a + S1x8x128.size a ≤ S7296x8x128.size a := fun i k0_t5 v5590 k0_hw376 k0_h3 => k0_hw376.2.1 k0_h3
theorem k0_off1074_inb : ∀ (i : grid0.Coords) (k0_t5 : Fin k0_t5_loop.trips) (v5590 : BitVec 32) (k0_hw376 : k0_chk376 i k0_t5 v5590), ∀ (k0_h3 : k0_cond3 i = 1#1), ∀ a, (k0_off1074 i k0_t5 v5590) a + S1x8x128.size a ≤ S7296x8x128.size a := fun i k0_t5 v5590 k0_hw376 k0_h3 => k0_hw376.2.2.1 k0_h3
theorem k0_off1077_inb : ∀ (i : grid0.Coords) (k0_t5 : Fin k0_t5_loop.trips) (v5590 : BitVec 32) (k0_hw376 : k0_chk376 i k0_t5 v5590), ∀ (k0_h3 : k0_cond3 i = 1#1), ∀ a, (k0_off1077 i k0_t5 v5590) a + S1x8x128.size a ≤ S7296x8x128.size a := fun i k0_t5 v5590 k0_hw376 k0_h3 => k0_hw376.2.2.2.1 k0_h3
theorem k0_off1079_inb : ∀ (i : grid0.Coords) (k0_t5 : Fin k0_t5_loop.trips) (v5590 : BitVec 32) (k0_hw376 : k0_chk376 i k0_t5 v5590), ∀ (k0_h3 : k0_cond3 i = 1#1), ∀ (r : Fin 4), ∀ a, (k0_off1079 i k0_t5 v5590 (BitVec.ofNat 32 r.val)) a + S1x8x128.size a ≤ S7296x8x128.size a := fun i k0_t5 v5590 k0_hw376 k0_h3 r => k0_hw376.2.2.2.2 k0_h3 r

def cc0_transform_0 (i : grid0.Coords) : Fin 4 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c143_i32 : BitVec 32 := 143#32
  let v2 : BitVec 32 := Scalar.minsi v1 c143_i32
  let c48_i32 : BitVec 32 := 48#32
  let v3 : BitVec 32 := Scalar.divsi v2 c48_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c48_i32 c0_i32_2
  let v10 : BitVec 32 := Scalar.extui v9
  let c0_i32_3 : BitVec 32 := 0#32
  let v11 : BitVec 1 := Scalar.cmpi .slt c48_i32 c0_i32_3
  let v12 : BitVec 32 := Scalar.extui v11
  let v13 : BitVec 32 := Scalar.subi v10 v12
  let v14 : BitVec 1 := Scalar.cmpi .ne v8 v13
  let v15 : BitVec 32 := Scalar.remsi v2 c48_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c48_i32_5 : BitVec 32 := 48#32
  let c0_i32_6 : BitVec 32 := 0#32
  let v20 : BitVec 1 := Scalar.cmpi .eq c48_i32_5 c0_i32_6
  let c1_i32_7 : BitVec 32 := 1#32
  let v21 : BitVec 32 := Scalar.select v20 c1_i32_7 c48_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c3_i32 : BitVec 32 := 3#32
  let v30 : BitVec 32 := Scalar.muli v19 c3_i32
  let c3_i32_11 : BitVec 32 := 3#32
  let c0_i32_12 : BitVec 32 := 0#32
  let v31 : BitVec 1 := Scalar.cmpi .eq c3_i32_11 c0_i32_12
  let c1_i32_13 : BitVec 32 := 1#32
  let v32 : BitVec 32 := Scalar.select v31 c1_i32_13 c3_i32_11
  let v33 : BitVec 32 := Scalar.remsi v29 v32
  let c0_i32_14 : BitVec 32 := 0#32
  let v34 : BitVec 1 := Scalar.cmpi .ne v33 c0_i32_14
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let v38 : BitVec 1 := Scalar.andi v37 v34
  let v39 : BitVec 32 := Scalar.addi v33 v32
  let v40 : BitVec 32 := Scalar.select v38 v39 v33
  let v41 : BitVec 32 := Scalar.addi v30 v40
  let c3_i32_17 : BitVec 32 := 3#32
  let v42 : BitVec 32 := Scalar.divsi v29 c3_i32_17
  let c0_i32_18 : BitVec 32 := 0#32
  let v43 : BitVec 1 := Scalar.cmpi .sgt v29 c0_i32_18
  let v44 : BitVec 32 := Scalar.extui v43
  let c0_i32_19 : BitVec 32 := 0#32
  let v45 : BitVec 1 := Scalar.cmpi .slt v29 c0_i32_19
  let v46 : BitVec 32 := Scalar.extui v45
  let v47 : BitVec 32 := Scalar.subi v44 v46
  let c0_i32_20 : BitVec 32 := 0#32
  let v48 : BitVec 1 := Scalar.cmpi .sgt c3_i32_17 c0_i32_20
  let v49 : BitVec 32 := Scalar.extui v48
  let c0_i32_21 : BitVec 32 := 0#32
  let v50 : BitVec 1 := Scalar.cmpi .slt c3_i32_17 c0_i32_21
  let v51 : BitVec 32 := Scalar.extui v50
  let v52 : BitVec 32 := Scalar.subi v49 v51
  let v53 : BitVec 1 := Scalar.cmpi .ne v47 v52
  let v54 : BitVec 32 := Scalar.remsi v29 c3_i32_17
  let c0_i32_22 : BitVec 32 := 0#32
  let v55 : BitVec 1 := Scalar.cmpi .ne v54 c0_i32_22
  let v56 : BitVec 1 := Scalar.andi v53 v55
  let c1_i32_23 : BitVec 32 := 1#32
  let v57 : BitVec 32 := Scalar.subi v42 c1_i32_23
  let v58 : BitVec 32 := Scalar.select v56 v57 v42
  let c0_i32_24 : BitVec 32 := 0#32
  let c0_i32_25 : BitVec 32 := 0#32
  let c0_i32_26 : BitVec 32 := 0#32
  ![v41.toNat, v58.toNat, c0_i32_24.toNat, c0_i32_25.toNat]

def cc0_transform_1 (i : grid0.Coords) : Fin 4 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c143_i32 : BitVec 32 := 143#32
  let v2 : BitVec 32 := Scalar.minsi v1 c143_i32
  let c48_i32 : BitVec 32 := 48#32
  let v3 : BitVec 32 := Scalar.divsi v2 c48_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c48_i32 c0_i32_1
  let v10 : BitVec 32 := Scalar.extui v9
  let c0_i32_2 : BitVec 32 := 0#32
  let v11 : BitVec 1 := Scalar.cmpi .slt c48_i32 c0_i32_2
  let v12 : BitVec 32 := Scalar.extui v11
  let v13 : BitVec 32 := Scalar.subi v10 v12
  let v14 : BitVec 1 := Scalar.cmpi .ne v8 v13
  let v15 : BitVec 32 := Scalar.remsi v2 c48_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c48_i32_5 : BitVec 32 := 48#32
  let c0_i32_6 : BitVec 32 := 0#32
  let v20 : BitVec 1 := Scalar.cmpi .eq c48_i32_5 c0_i32_6
  let c1_i32_7 : BitVec 32 := 1#32
  let v21 : BitVec 32 := Scalar.select v20 c1_i32_7 c48_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c3_i32 : BitVec 32 := 3#32
  let v30 : BitVec 32 := Scalar.muli v19 c3_i32
  let c3_i32_11 : BitVec 32 := 3#32
  let c0_i32_12 : BitVec 32 := 0#32
  let v31 : BitVec 1 := Scalar.cmpi .eq c3_i32_11 c0_i32_12
  let c1_i32_13 : BitVec 32 := 1#32
  let v32 : BitVec 32 := Scalar.select v31 c1_i32_13 c3_i32_11
  let v33 : BitVec 32 := Scalar.remsi v29 v32
  let c0_i32_14 : BitVec 32 := 0#32
  let v34 : BitVec 1 := Scalar.cmpi .ne v33 c0_i32_14
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let v38 : BitVec 1 := Scalar.andi v37 v34
  let v39 : BitVec 32 := Scalar.addi v33 v32
  let v40 : BitVec 32 := Scalar.select v38 v39 v33
  let v41 : BitVec 32 := Scalar.addi v30 v40
  let c3_i32_17 : BitVec 32 := 3#32
  let v42 : BitVec 32 := Scalar.divsi v29 c3_i32_17
  let c0_i32_18 : BitVec 32 := 0#32
  let v43 : BitVec 1 := Scalar.cmpi .sgt v29 c0_i32_18
  let v44 : BitVec 32 := Scalar.extui v43
  let c0_i32_19 : BitVec 32 := 0#32
  let v45 : BitVec 1 := Scalar.cmpi .slt v29 c0_i32_19
  let v46 : BitVec 32 := Scalar.extui v45
  let v47 : BitVec 32 := Scalar.subi v44 v46
  let c0_i32_20 : BitVec 32 := 0#32
  let v48 : BitVec 1 := Scalar.cmpi .sgt c3_i32_17 c0_i32_20
  let v49 : BitVec 32 := Scalar.extui v48
  let c0_i32_21 : BitVec 32 := 0#32
  let v50 : BitVec 1 := Scalar.cmpi .slt c3_i32_17 c0_i32_21
  let v51 : BitVec 32 := Scalar.extui v50
  let v52 : BitVec 32 := Scalar.subi v49 v51
  let v53 : BitVec 1 := Scalar.cmpi .ne v47 v52
  let v54 : BitVec 32 := Scalar.remsi v29 c3_i32_17
  let c0_i32_22 : BitVec 32 := 0#32
  let v55 : BitVec 1 := Scalar.cmpi .ne v54 c0_i32_22
  let v56 : BitVec 1 := Scalar.andi v53 v55
  let c1_i32_23 : BitVec 32 := 1#32
  let v57 : BitVec 32 := Scalar.subi v42 c1_i32_23
  let v58 : BitVec 32 := Scalar.select v56 v57 v42
  let c0_i32_24 : BitVec 32 := 0#32
  let c0_i32_25 : BitVec 32 := 0#32
  let c0_i32_26 : BitVec 32 := 0#32
  ![v41.toNat, v58.toNat, c0_i32_24.toNat, c0_i32_25.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c143_i32 : BitVec 32 := 143#32
  let v2 : BitVec 32 := Scalar.minsi v1 c143_i32
  let c48_i32 : BitVec 32 := 48#32
  let v3 : BitVec 32 := Scalar.divsi v2 c48_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c48_i32 c0_i32_2
  let v10 : BitVec 32 := Scalar.extui v9
  let c0_i32_3 : BitVec 32 := 0#32
  let v11 : BitVec 1 := Scalar.cmpi .slt c48_i32 c0_i32_3
  let v12 : BitVec 32 := Scalar.extui v11
  let v13 : BitVec 32 := Scalar.subi v10 v12
  let v14 : BitVec 1 := Scalar.cmpi .ne v8 v13
  let v15 : BitVec 32 := Scalar.remsi v2 c48_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c48_i32_5 : BitVec 32 := 48#32
  let c0_i32_6 : BitVec 32 := 0#32
  let v20 : BitVec 1 := Scalar.cmpi .eq c48_i32_5 c0_i32_6
  let c1_i32_7 : BitVec 32 := 1#32
  let v21 : BitVec 32 := Scalar.select v20 c1_i32_7 c48_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c3_i32 : BitVec 32 := 3#32
  let v30 : BitVec 32 := Scalar.muli v19 c3_i32
  let c3_i32_11 : BitVec 32 := 3#32
  let c0_i32_12 : BitVec 32 := 0#32
  let v31 : BitVec 1 := Scalar.cmpi .eq c3_i32_11 c0_i32_12
  let c1_i32_13 : BitVec 32 := 1#32
  let v32 : BitVec 32 := Scalar.select v31 c1_i32_13 c3_i32_11
  let v33 : BitVec 32 := Scalar.remsi v29 v32
  let c0_i32_14 : BitVec 32 := 0#32
  let v34 : BitVec 1 := Scalar.cmpi .ne v33 c0_i32_14
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let v38 : BitVec 1 := Scalar.andi v37 v34
  let v39 : BitVec 32 := Scalar.addi v33 v32
  let v40 : BitVec 32 := Scalar.select v38 v39 v33
  let v41 : BitVec 32 := Scalar.addi v30 v40
  let c3_i32_17 : BitVec 32 := 3#32
  let v42 : BitVec 32 := Scalar.divsi v29 c3_i32_17
  let c0_i32_18 : BitVec 32 := 0#32
  let v43 : BitVec 1 := Scalar.cmpi .sgt v29 c0_i32_18
  let v44 : BitVec 32 := Scalar.extui v43
  let c0_i32_19 : BitVec 32 := 0#32
  let v45 : BitVec 1 := Scalar.cmpi .slt v29 c0_i32_19
  let v46 : BitVec 32 := Scalar.extui v45
  let v47 : BitVec 32 := Scalar.subi v44 v46
  let c0_i32_20 : BitVec 32 := 0#32
  let v48 : BitVec 1 := Scalar.cmpi .sgt c3_i32_17 c0_i32_20
  let v49 : BitVec 32 := Scalar.extui v48
  let c0_i32_21 : BitVec 32 := 0#32
  let v50 : BitVec 1 := Scalar.cmpi .slt c3_i32_17 c0_i32_21
  let v51 : BitVec 32 := Scalar.extui v50
  let v52 : BitVec 32 := Scalar.subi v49 v51
  let v53 : BitVec 1 := Scalar.cmpi .ne v47 v52
  let v54 : BitVec 32 := Scalar.remsi v29 c3_i32_17
  let c0_i32_22 : BitVec 32 := 0#32
  let v55 : BitVec 1 := Scalar.cmpi .ne v54 c0_i32_22
  let v56 : BitVec 1 := Scalar.andi v53 v55
  let c1_i32_23 : BitVec 32 := 1#32
  let v57 : BitVec 32 := Scalar.subi v42 c1_i32_23
  let v58 : BitVec 32 := Scalar.select v56 v57 v42
  let c0_i32_24 : BitVec 32 := 0#32
  let c0_i32_25 : BitVec 32 := 0#32
  ![v58.toNat, c0_i32_24.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c143_i32 : BitVec 32 := 143#32
  let v2 : BitVec 32 := Scalar.minsi v1 c143_i32
  let c48_i32 : BitVec 32 := 48#32
  let v3 : BitVec 32 := Scalar.divsi v2 c48_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c48_i32 c0_i32_1
  let v10 : BitVec 32 := Scalar.extui v9
  let c0_i32_2 : BitVec 32 := 0#32
  let v11 : BitVec 1 := Scalar.cmpi .slt c48_i32 c0_i32_2
  let v12 : BitVec 32 := Scalar.extui v11
  let v13 : BitVec 32 := Scalar.subi v10 v12
  let v14 : BitVec 1 := Scalar.cmpi .ne v8 v13
  let v15 : BitVec 32 := Scalar.remsi v2 c48_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c48_i32_5 : BitVec 32 := 48#32
  let c0_i32_6 : BitVec 32 := 0#32
  let v20 : BitVec 1 := Scalar.cmpi .eq c48_i32_5 c0_i32_6
  let c1_i32_7 : BitVec 32 := 1#32
  let v21 : BitVec 32 := Scalar.select v20 c1_i32_7 c48_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c3_i32 : BitVec 32 := 3#32
  let v30 : BitVec 32 := Scalar.muli v19 c3_i32
  let c3_i32_11 : BitVec 32 := 3#32
  let c0_i32_12 : BitVec 32 := 0#32
  let v31 : BitVec 1 := Scalar.cmpi .eq c3_i32_11 c0_i32_12
  let c1_i32_13 : BitVec 32 := 1#32
  let v32 : BitVec 32 := Scalar.select v31 c1_i32_13 c3_i32_11
  let v33 : BitVec 32 := Scalar.remsi v29 v32
  let c0_i32_14 : BitVec 32 := 0#32
  let v34 : BitVec 1 := Scalar.cmpi .ne v33 c0_i32_14
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let v38 : BitVec 1 := Scalar.andi v37 v34
  let v39 : BitVec 32 := Scalar.addi v33 v32
  let v40 : BitVec 32 := Scalar.select v38 v39 v33
  let v41 : BitVec 32 := Scalar.addi v30 v40
  let c3_i32_17 : BitVec 32 := 3#32
  let v42 : BitVec 32 := Scalar.divsi v29 c3_i32_17
  let c0_i32_18 : BitVec 32 := 0#32
  let v43 : BitVec 1 := Scalar.cmpi .sgt v29 c0_i32_18
  let v44 : BitVec 32 := Scalar.extui v43
  let c0_i32_19 : BitVec 32 := 0#32
  let v45 : BitVec 1 := Scalar.cmpi .slt v29 c0_i32_19
  let v46 : BitVec 32 := Scalar.extui v45
  let v47 : BitVec 32 := Scalar.subi v44 v46
  let c0_i32_20 : BitVec 32 := 0#32
  let v48 : BitVec 1 := Scalar.cmpi .sgt c3_i32_17 c0_i32_20
  let v49 : BitVec 32 := Scalar.extui v48
  let c0_i32_21 : BitVec 32 := 0#32
  let v50 : BitVec 1 := Scalar.cmpi .slt c3_i32_17 c0_i32_21
  let v51 : BitVec 32 := Scalar.extui v50
  let v52 : BitVec 32 := Scalar.subi v49 v51
  let v53 : BitVec 1 := Scalar.cmpi .ne v47 v52
  let v54 : BitVec 32 := Scalar.remsi v29 c3_i32_17
  let c0_i32_22 : BitVec 32 := 0#32
  let v55 : BitVec 1 := Scalar.cmpi .ne v54 c0_i32_22
  let v56 : BitVec 1 := Scalar.andi v53 v55
  let c1_i32_23 : BitVec 32 := 1#32
  let v57 : BitVec 32 := Scalar.subi v42 c1_i32_23
  let v58 : BitVec 32 := Scalar.select v56 v57 v42
  let c0_i32_24 : BitVec 32 := 0#32
  let c0_i32_25 : BitVec 32 := 0#32
  ![v58.toNat, c0_i32_24.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c24_i32 : BitVec 32 := 24#32
  let v2 : BitVec 32 := Scalar.divsi v1 c24_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c24_i32 c0_i32_2
  let v9 : BitVec 32 := Scalar.extui v8
  let c0_i32_3 : BitVec 32 := 0#32
  let v10 : BitVec 1 := Scalar.cmpi .slt c24_i32 c0_i32_3
  let v11 : BitVec 32 := Scalar.extui v10
  let v12 : BitVec 32 := Scalar.subi v9 v11
  let v13 : BitVec 1 := Scalar.cmpi .ne v7 v12
  let v14 : BitVec 32 := Scalar.remsi v1 c24_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![c0_i32_6.toNat, v18.toNat]

abbrev stage0_0 : Fin 2 → Memref sig .tc .vmem S1x512x32x128 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x32x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1216x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1216x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x72x4194304 : Shape := ⟨3, ![1, 72, 4194304]⟩
abbrev S1x4194304 : Shape := ⟨2, ![1, 4194304]⟩
abbrev S1216 : Shape := ⟨1, ![1216]⟩
abbrev S304 : Shape := ⟨1, ![304]⟩
abbrev S1x1x4194304 : Shape := ⟨3, ![1, 1, 4194304]⟩
abbrev S9x8x1024x4x2x4x128 : Shape := ⟨7, ![9, 8, 1024, 4, 2, 4, 128]⟩
abbrev S304x1 : Shape := ⟨2, ![304, 1]⟩
abbrev S304x4 : Shape := ⟨2, ![304, 4]⟩
abbrev S_ : Shape := ⟨0, ![]⟩
abbrev S4194304 : Shape := ⟨1, ![4194304]⟩
abbrev S1216x1 : Shape := ⟨2, ![1216, 1]⟩
abbrev S1216x4194304 : Shape := ⟨2, ![1216, 4194304]⟩
abbrev S1216x1024x4x2x4x128 : Shape := ⟨6, ![1216, 1024, 4, 2, 4, 128]⟩
abbrev S4x4x1216x9x8 : Shape := ⟨5, ![4, 4, 1216, 9, 8]⟩
abbrev S1216x9x4x4x8 : Shape := ⟨5, ![1216, 9, 4, 4, 8]⟩
abbrev S1216x1152 : Shape := ⟨2, ![1216, 1152]⟩

abbrev nBuf : Space → Nat
  | .hbm => 50
  | .vmem => 0
  | .smem => 0
  | _ => 0

abbrev bufTy : (tb : Table) → Fin (tcTables nBuf tb) → BufTy
  | .hbm, ⟨0, _⟩ => ⟨S1x72x4194304, .i8⟩
  | .hbm, ⟨1, _⟩ => ⟨S1x4194304, .f32⟩
  | .hbm, ⟨2, _⟩ => ⟨S1x4194304, .i8⟩
  | .hbm, ⟨3, _⟩ => ⟨S1216, .i32⟩
  | .hbm, ⟨4, _⟩ => ⟨S304, .i32⟩
  | .hbm, ⟨5, _⟩ => ⟨S1x4194304, .i32⟩
  | .hbm, ⟨6, _⟩ => ⟨S1x4194304, .f32⟩
  | .hbm, ⟨7, _⟩ => ⟨S1x4194304, .f32⟩
  | .hbm, ⟨8, _⟩ => ⟨S1x4194304, .bf16⟩
  | .hbm, ⟨9, _⟩ => ⟨S1x72x4194304, .i32⟩
  | .hbm, ⟨10, _⟩ => ⟨S1x72x4194304, .f32⟩
  | .hbm, ⟨11, _⟩ => ⟨S1x72x4194304, .bf16⟩
  | .hbm, ⟨12, _⟩ => ⟨S1x1x4194304, .bf16⟩
  | .hbm, ⟨13, _⟩ => ⟨S1x72x4194304, .bf16⟩
  | .hbm, ⟨14, _⟩ => ⟨S1x72x4194304, .bf16⟩
  | .hbm, ⟨15, _⟩ => ⟨S9x8x1024x4x2x4x128, .bf16⟩
  | .hbm, ⟨16, _⟩ => ⟨S304x1, .i32⟩
  | .hbm, ⟨17, _⟩ => ⟨S304x4, .i32⟩
  | .hbm, ⟨18, _⟩ => ⟨S1216, .i32⟩
  | .hbm, ⟨19, _⟩ => ⟨S_, .i32⟩
  | .hbm, ⟨20, _⟩ => ⟨S1216, .i32⟩
  | .hbm, ⟨21, _⟩ => ⟨S1216, .i32⟩
  | .hbm, ⟨22, _⟩ => ⟨S_, .i32⟩
  | .hbm, ⟨23, _⟩ => ⟨S1216, .i32⟩
  | .hbm, ⟨24, _⟩ => ⟨S1216, .i32⟩
  | .hbm, ⟨25, _⟩ => ⟨S_, .i32⟩
  | .hbm, ⟨26, _⟩ => ⟨S1216, .i32⟩
  | .hbm, ⟨27, _⟩ => ⟨S1216, .i32⟩
  | .hbm, ⟨28, _⟩ => ⟨S1216, .i32⟩
  | .hbm, ⟨29, _⟩ => ⟨S4194304, .i32⟩
  | .hbm, ⟨30, _⟩ => ⟨S1216x1, .i32⟩
  | .hbm, ⟨31, _⟩ => ⟨S1x4194304, .i32⟩
  | .hbm, ⟨32, _⟩ => ⟨S1216x4194304, .i32⟩
  | .hbm, ⟨33, _⟩ => ⟨S1216x4194304, .i32⟩
  | .hbm, ⟨34, _⟩ => ⟨S1216x4194304, .i32⟩
  | .hbm, ⟨35, _⟩ => ⟨S1216x4194304, .i32⟩
  | .hbm, ⟨36, _⟩ => ⟨S_, .i32⟩
  | .hbm, ⟨37, _⟩ => ⟨S1216x4194304, .i32⟩
  | .hbm, ⟨38, _⟩ => ⟨S1216x4194304, .i32⟩
  | .hbm, ⟨39, _⟩ => ⟨S_, .i32⟩
  | .hbm, ⟨40, _⟩ => ⟨S1216x4194304, .i32⟩
  | .hbm, ⟨41, _⟩ => ⟨S1216x4194304, .i32⟩
  | .hbm, ⟨42, _⟩ => ⟨S_, .i32⟩
  | .hbm, ⟨43, _⟩ => ⟨S1216x4194304, .i32⟩
  | .hbm, ⟨44, _⟩ => ⟨S1216x4194304, .i32⟩
  | .hbm, ⟨45, _⟩ => ⟨S1216x4194304, .bf16⟩
  | .hbm, ⟨46, _⟩ => ⟨S1216x1024x4x2x4x128, .bf16⟩
  | .hbm, ⟨47, _⟩ => ⟨S4x4x1216x9x8, .f32⟩
  | .hbm, ⟨48, _⟩ => ⟨S1216x9x4x4x8, .f32⟩
  | .hbm, ⟨49, _⟩ => ⟨S1216x1152, .f32⟩
  | _, _ => ⟨S1x72x4194304, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Trip.lean ====
module

public import Idealize.ShloMosaic.Lib.Pipeline
public import Idealize.ShloMosaic.Lib.Scf
public import Idealize.ShloMosaic.Lib.Sig
public import Idealize.ShloMosaic.PureOps

@[expose] public section

/-! # One trip of the kernel's phase loop, written by its structure

The kernel prints a trip of a phase as one straight line of some eleven hundred memory
operations. Here the same trip is written as what it is: eight pairs of tile products,
three butterfly stages, eight strided row stores, and thirty-eight equal visit groups.
Everything is written in continuation form, so that each operation comes out at the head. -/

noncomputable section

namespace Cert.Trip

open Idealize.ShloMosaic Idealize.SL.Sem

abbrev S1 : Shape := ⟨1, ![1]⟩
abbrev S304 : Shape := ⟨1, ![304]⟩
abbrev S1216 : Shape := ⟨1, ![1216]⟩
abbrev S8x128 : Shape := ⟨2, ![8, 128]⟩
abbrev S1x8x128 : Shape := ⟨3, ![1, 8, 128]⟩
abbrev S7296x8x128 : Shape := ⟨3, ![7296, 8, 128]⟩
abbrev S18432x128 : Shape := ⟨2, ![18432, 128]⟩
abbrev S256x128 : Shape := ⟨2, ![256, 128]⟩
abbrev S256x256 : Shape := ⟨2, ![256, 256]⟩
abbrev S128x256 : Shape := ⟨2, ![128, 256]⟩
abbrev S128x128 : Shape := ⟨2, ![128, 128]⟩
abbrev S1x128 : Shape := ⟨2, ![1, 128]⟩
abbrev S16x128 : Shape := ⟨2, ![16, 128]⟩
abbrev S32x128 : Shape := ⟨2, ![32, 128]⟩
abbrev S1x1x32x128 : Shape := ⟨4, ![1, 1, 32, 128]⟩
abbrev S1x512x32x128 : Shape := ⟨4, ![1, 512, 32, 128]⟩
abbrev S2048x128 : Shape := ⟨2, ![2048, 128]⟩

/-! ## Words -/

/-- The loop variable of trip `n`. -/
def ivar (n : Nat) : BitVec 32 := Scf.iv 0#32 1#32 n

/-- The half-block's index in `o`, from the half-block's number: the number modulo 48, divided by three. -/
def oOf (b : BitVec 32) : BitVec 32 :=
  Scalar.select
    (Scalar.andi
      (Scalar.cmpi .ne
        (Scalar.subi (Scalar.extui (Scalar.cmpi .sgt (Scalar.remsi b 48#32) 0#32) : BitVec 32)
          (Scalar.extui (Scalar.cmpi .slt (Scalar.remsi b 48#32) 0#32) : BitVec 32))
        (Scalar.subi (Scalar.extui (Scalar.cmpi .sgt 3#32 0#32) : BitVec 32)
          (Scalar.extui (Scalar.cmpi .slt 3#32 0#32) : BitVec 32)))
      (Scalar.cmpi .ne (Scalar.remsi (Scalar.remsi b 48#32) 3#32) 0#32))
    (Scalar.subi (Scalar.divsi (Scalar.remsi b 48#32) 3#32) 1#32)
    (Scalar.divsi (Scalar.remsi b 48#32) 3#32)

/-- The index of visit group `k` of trip `n`. -/
def gix (n k : Nat) : BitVec 32 := Scalar.addi (Scalar.muli (ivar n) 38#32) (BitVec.ofNat 32 k)

/-- The accumulator row a visit adds to, before the slot within the group. -/
def accRow (b : BitVec 32) (n k : Nat) (w : BitVec 32) : BitVec 32 :=
  Scalar.addi
    (Scalar.muli (Scalar.addi (Scalar.muli (Scalar.remsi b 3#32) 2#32) (Scalar.andi (Scalar.shrui w (oOf b)) 1#32)) 1216#32)
    (Scalar.muli (gix n k) 4#32)

/-- The offsets of the visited accumulator tile. -/
def accOff (b : BitVec 32) (n k : Nat) (w : BitVec 32) (u : BitVec 32) : Fin 3 → Nat :=
  ![(Scalar.indexCast (Scalar.addi (accRow b n k w) u)).toNat, 0, 0]

/-- The offset of the group's class word. -/
def clsOff (n k : Nat) : Fin 1 → Nat := ![(Scalar.indexCast (gix n k)).toNat]

/-- The offset of the row word of the group's slot `u`. -/
def rowOff (n k : Nat) (u : Nat) : Fin 1 → Nat :=
  ![(Scalar.indexCast (Scalar.addi (Scalar.muli (gix n k) 4#32) (BitVec.ofNat 32 u))).toNat]

/-- The offsets of the slab rows a row word names. -/
def slabOff (v : BitVec 32) : Fin 2 → Nat := ![(Scalar.indexCast v).toNat, 0]

/-- The row of tiles that trip `n` reads at `(q, c, β)`. -/
def vix (n q c β : Nat) : BitVec 32 :=
  Scalar.addi (Scalar.addi (Scalar.addi (BitVec.ofNat 32 (64 * q)) (Scalar.muli (ivar n) 8#32)) (BitVec.ofNat 32 (2 * c)))
    (BitVec.ofNat 32 β)

def xOff (n q c β : Nat) : Fin 4 → Nat := ![0, (Scalar.indexCast (vix n q c β)).toNat, 0, 0]
def r0Off (n q c β hh : Nat) : Fin 2 → Nat :=
  ![(Scalar.indexCast (Scalar.addi (Scalar.muli (vix n q c β) 4#32) (BitVec.ofNat 32 (2 * hh)))).toNat, 0]
def r1Off (n q c β hh : Nat) : Fin 2 → Nat :=
  ![(Scalar.indexCast (Scalar.addi (Scalar.addi (Scalar.muli (vix n q c β) 4#32) (BitVec.ofNat 32 (2 * hh))) 1#32)).toNat, 0]
def stOff (n q : Nat) : Fin 2 → Nat := ![(Scalar.indexCast (Scalar.addi (BitVec.ofNat 32 (2304 * q)) (ivar n))).toNat, 0]

/-! ## Shapes -/

theorem pos1 : S1.numel = 1 := by decide
theorem pos1' : 0 < S1.numel := by decide
theorem pos8x128 : 0 < S8x128.numel := by decide +kernel
theorem pos1x8x128 : 0 < S1x8x128.numel := by decide +kernel
theorem pos1x128 : 0 < S1x128.numel := by decide +kernel
theorem pos256x128 : 0 < S256x128.numel := by decide +kernel
theorem pos256x256 : 0 < S256x256.numel := by decide +kernel
theorem pos1x1x32x128 : 0 < S1x1x32x128.numel := by decide +kernel
theorem spos : ∀ a : Fin 2, 0 < (![9, 1] : Fin 2 → Nat) a := by decide
theorem cast8 : S1x8x128.ShapeCasts S8x128 := by decide +kernel
theorem catRows : Shape.Concatenates [S16x128, S16x128, S16x128, S16x128, S16x128, S16x128, S16x128, S16x128] S128x128 0 := by decide
theorem catSide : Shape.Concatenates [S128x128, S128x128] S128x256 1 := by decide
theorem catQ : Shape.Concatenates [S128x256, S128x256] S256x256 0 := by decide

/-! ## Bounds -/

theorem clsOff_fin : ∀ (n : Fin 8) (k : Fin 38), ∀ a, clsOff n k a + S1.size a ≤ S304.size a := by decide +kernel
theorem rowOff_fin : ∀ (n : Fin 8) (k : Fin 38) (u : Fin 4), ∀ a, rowOff n k u a + S1.size a ≤ S1216.size a := by decide +kernel
theorem xOff_fin : ∀ (n q : Fin 8) (c : Fin 4) (β : Fin 2), ∀ a, xOff n q c β a + S1x1x32x128.size a ≤ S1x512x32x128.size a := by
  decide +kernel
theorem r0Off_fin : ∀ (n q : Fin 8) (c : Fin 4) (β hh : Fin 2), ∀ a, r0Off n q c β hh a + S1x128.size a ≤ S2048x128.size a := by
  decide +kernel
theorem r1Off_fin : ∀ (n q : Fin 8) (c : Fin 4) (β hh : Fin 2), ∀ a, r1Off n q c β hh a + S1x128.size a ≤ S2048x128.size a := by
  decide +kernel
theorem stOff_fin : ∀ (n q : Fin 8), ∀ a,
    S256x128.size a = 0 ∨ stOff n q a + (![9, 1] : Fin 2 → Nat) a * (S256x128.size a - 1) < S18432x128.size a := by
  decide +kernel

/-- What a class word must satisfy: the visited accumulator tiles lie in the accumulator. -/
def clsOk (b : BitVec 32) (n k : Nat) (w : BitVec 32) : Prop :=
  (∀ a, accOff b n k w 0#32 a + S1x8x128.size a ≤ S7296x8x128.size a) ∧
  (∀ a, accOff b n k w 1#32 a + S1x8x128.size a ≤ S7296x8x128.size a) ∧
  (∀ a, accOff b n k w 2#32 a + S1x8x128.size a ≤ S7296x8x128.size a) ∧
  (∀ a, accOff b n k w 3#32 a + S1x8x128.size a ≤ S7296x8x128.size a) ∧
  (∀ r : Fin 4, ∀ a, accOff b n k w (BitVec.ofNat 32 r.val) a + S1x8x128.size a ≤ S7296x8x128.size a)

instance (b : BitVec 32) (n k : Nat) (w : BitVec 32) : Decidable (clsOk b n k w) :=
  decidable_of_iff' _ (Iff.of_eq (clsOk.eq_1 b n k w))

/-- What a row word must satisfy: the eight rows it names lie in the slab. -/
def rowOk (v : BitVec 32) : Prop := ∀ a, slabOff v a + S8x128.size a ≤ S18432x128.size a

instance (v : BitVec 32) : Decidable (rowOk v) := decidable_of_iff' _ (Iff.of_eq (rowOk.eq_1 v))

/-- The same two conditions where they are asked only under a condition `G` of the grid point. -/
def clsOkIf (G : Prop) (b : BitVec 32) (n k : Nat) (w : BitVec 32) : Prop :=
  (∀ _ : G, ∀ a, accOff b n k w 0#32 a + S1x8x128.size a ≤ S7296x8x128.size a) ∧
  (∀ _ : G, ∀ a, accOff b n k w 1#32 a + S1x8x128.size a ≤ S7296x8x128.size a) ∧
  (∀ _ : G, ∀ a, accOff b n k w 2#32 a + S1x8x128.size a ≤ S7296x8x128.size a) ∧
  (∀ _ : G, ∀ a, accOff b n k w 3#32 a + S1x8x128.size a ≤ S7296x8x128.size a) ∧
  (∀ _ : G, ∀ r : Fin 4, ∀ a, accOff b n k w (BitVec.ofNat 32 r.val) a + S1x8x128.size a ≤ S7296x8x128.size a)

def rowOkIf (G : Prop) (v : BitVec 32) : Prop := ∀ _ : G, ∀ a, slabOff v a + S8x128.size a ≤ S18432x128.size a

instance (G : Prop) [Decidable G] (b : BitVec 32) (n k : Nat) (w : BitVec 32) : Decidable (clsOkIf G b n k w) :=
  decidable_of_iff' _ (Iff.of_eq (clsOkIf.eq_1 G b n k w))

instance (G : Prop) [Decidable G] (v : BitVec 32) : Decidable (rowOkIf G v) := decidable_of_iff' _ (Iff.of_eq (rowOkIf.eq_1 G v))

/-- The conditions a trip's visits ask of the words they read, and that they keep the visits in bounds. -/
structure Checks (b : BitVec 32) (n : Nat) where
  cls : Nat → BitVec 32 → Prop
  clsD : ∀ k w, Decidable (cls k w)
  clsI : ∀ k w, cls k w → clsOk b n k w
  clsT : ∀ k w, clsOk b n k w → cls k w
  row : BitVec 32 → Prop
  rowD : ∀ v, Decidable (row v)
  rowI : ∀ v, row v → rowOk v
  rowT : ∀ v, rowOk v → row v

/-- The conditions, asked outright. -/
@[reducible] def plain (b : BitVec 32) (n : Nat) : Checks b n where
  cls k w := clsOk b n k w
  clsD _ _ := inferInstance
  clsI _ _ h := h
  clsT _ _ h := h
  row v := rowOk v
  rowD _ := inferInstance
  rowI _ h := h
  rowT _ h := h

/-- The conditions, asked under `G`, where `G` holds. -/
@[reducible] def guarded (G : Prop) [Decidable G] (hG : G) (b : BitVec 32) (n : Nat) : Checks b n where
  cls k w := clsOkIf G b n k w
  clsD _ _ := inferInstance
  clsI _ _ h := ⟨h.1 hG, h.2.1 hG, h.2.2.1 hG, h.2.2.2.1 hG, h.2.2.2.2 hG⟩
  clsT _ _ h := ⟨fun _ => h.1, fun _ => h.2.1, fun _ => h.2.2.1, fun _ => h.2.2.2.1, fun _ => h.2.2.2.2⟩
  row v := rowOkIf G v
  rowD _ := inferInstance
  rowI _ h := h hG
  rowT _ h := fun _ => h

/-! ## The program -/

variable {nD : Nat} {τ : Topo} {sig : RefSig} {F : FTy → Type} [FloatOps F] {Λ : Labels}

section Visits

variable (rows : Memref sig .tc .smem S1216 .i32) (cls : Memref sig .tc .smem S304 .i32)
  (acc : Memref sig .tc .vmem S7296x8x128 .f32) (slab : Memref sig .tc .vmem S18432x128 .f32)
  (b : BitVec 32) (n : Fin 8) (ck : Checks b n.val)

/-- Slot `u` of a visit: read the row word, the accumulator tile and the slab rows, hand on the sum. -/
def slotC (k : Fin 38) (w : BitVec 32) (u : Fin 4)
    (hu : ∀ a, accOff b n k w (BitVec.ofNat 32 u.val) a + S1x8x128.size a ≤ S7296x8x128.size a)
    (cont : FVec F S8x128 .f32 → Prog (TpuEff nD τ sig (Elt F) Λ .tc) Unit) :
    Prog (TpuEff nD τ sig (Elt F) Λ .tc) Unit :=
  smemLoadElt rows (Rect.unit (s := S1216) (rowOff n k u.val) S1.size (rowOff_fin n k u))
      (View.loads_smem_one rfl pos1) (Shape.Idx.first (s := S1) pos1') fun v : BitVec 32 =>
  .op (.assume (ck.row v) (ck.rowD v)) fun hv =>
  .op (.load acc (Rect.unit (s := S7296x8x128) (accOff b n k w (BitVec.ofNat 32 u.val)) S1x8x128.size hu).toLoadRect
    (View.loadsAt_vmem pos1x8x128)) fun x =>
  .op (.load (e := .f32) slab (Rect.unit (s := S18432x128) (slabOff v) S8x128.size (ck.rowI v hv.down)).toLoadRect
    (View.loadsAt_vmem pos8x128)) fun y =>
  cont (addf (shapeCast S8x128 x cast8 : FVec F S8x128 .f32) (y : FVec F S8x128 .f32))

/-- Write back slot `u` of a visit. -/
def backC (k : Fin 38) (w : BitVec 32) (u : Fin 4)
    (hu : ∀ a, accOff b n k w (BitVec.ofNat 32 u.val) a + S1x8x128.size a ≤ S7296x8x128.size a)
    (new : FVec F S8x128 .f32)
    (cont : Prog (TpuEff nD τ sig (Elt F) Λ .tc) Unit) :
    Prog (TpuEff nD τ sig (Elt F) Λ .tc) Unit :=
  .op (.load acc (Rect.unit (s := S7296x8x128) (accOff b n k w (BitVec.ofNat 32 u.val)) S1x8x128.size hu).toLoadRect
    (View.loadsAt_vmem pos1x8x128)) fun _ =>
  .op (.store acc (Rect.unit (s := S7296x8x128) (accOff b n k w (BitVec.ofNat 32 u.val)) S1x8x128.size hu)
    (shapeCast S1x8x128 new (by decide)) Finset.univ (View.stores_vmem_bits_univ pos1x8x128 rfl) (.inl rfl)) fun _ =>
  cont

/-- Visit group `k`: read the class word, add the four slots' slab rows to the accumulator. -/
def groupC (k : Fin 38) (cont : Prog (TpuEff nD τ sig (Elt F) Λ .tc) Unit) :
    Prog (TpuEff nD τ sig (Elt F) Λ .tc) Unit :=
  smemLoadElt cls (Rect.unit (s := S304) (clsOff n k) S1.size (clsOff_fin n k))
      (View.loads_smem_one rfl pos1) (Shape.Idx.first (s := S1) pos1') fun w : BitVec 32 =>
  .op (.assume (ck.cls k w) (ck.clsD k w)) fun hw =>
  slotC rows acc slab b n ck k w 0 ((ck.clsI k w hw.down).2.2.2.2 0) fun n0 =>
  slotC rows acc slab b n ck k w 1 ((ck.clsI k w hw.down).2.2.2.2 1) fun n1 =>
  slotC rows acc slab b n ck k w 2 ((ck.clsI k w hw.down).2.2.2.2 2) fun n2 =>
  slotC rows acc slab b n ck k w 3 ((ck.clsI k w hw.down).2.2.2.2 3) fun n3 =>
  backC acc b n k w 0 ((ck.clsI k w hw.down).2.2.2.2 0) n0 <|
  backC acc b n k w 1 ((ck.clsI k w hw.down).2.2.2.2 1) n1 <|
  backC acc b n k w 2 ((ck.clsI k w hw.down).2.2.2.2 2) n2 <|
  backC acc b n k w 3 ((ck.clsI k w hw.down).2.2.2.2 3) n3 cont

/-- The last `r` of the thirty-eight visit groups. -/
def groupsC : (r : Nat) → r ≤ 38 → Prog (TpuEff nD τ sig (Elt F) Λ .tc) Unit
  | 0, _ => .ret ⟨⟩
  | r + 1, h => groupC rows cls acc slab b n ck ⟨37 - r, by omega⟩ (groupsC r (by omega))

end Visits

section Tiles

variable (xs : Memref sig .tc .vmem S1x512x32x128 .i8) (rs : Memref sig .tc .vmem S2048x128 .bf16)
  (hm : Memref sig .tc .vmem S256x256 .bf16) (slab : Memref sig .tc .vmem S18432x128 .f32) (n : Fin 8)

/-- Which of two scale rows a row of a sixteen-row part takes: the first eight rows the first. -/
def firstHalf : IVec S16x128 1 := cmpi .slt (iota .tc S16x128 32 [0] (by decide)) (broadcast S16x128 8#32)

/-- A scale row, over sixteen rows. -/
def bcRow (r : Vec F S1x128 .bf16) : FVec F S16x128 .bf16 :=
  broadcastTo S16x128 (shapeCast S1x128 (shapeCast S1x128 r (by decide)) (by decide)) (by decide)

/-- A tile of codes, as floats. -/
def tileF (x : Vec F S1x1x32x128 .i8) : FVec F S32x128 .bf16 := sitofp .bf16 (shapeCast S32x128 x (by decide) : IVec S32x128 8)

/-- Rows 0–15 of a scaled tile. -/
def part0 (x : Vec F S1x1x32x128 .i8) (r0 r1 : Vec F S1x128 .bf16) : FVec F S16x128 .bf16 :=
  mulf (extractStridedSlice S16x128 ![0, 0] (tileF x) (by decide)) (select firstHalf (bcRow r0) (bcRow r1))

/-- Rows 16–31 of a scaled tile. -/
def part1 (x : Vec F S1x1x32x128 .i8) (r0 r1 : Vec F S1x128 .bf16) : FVec F S16x128 .bf16 :=
  mulf (extractStridedSlice S16x128 ![16, 0] (tileF x) (by decide)) (select firstHalf (bcRow r0) (bcRow r1))

/-- One scaled tile: its two sixteen-row parts. -/
def cellC (q : Fin 8) (c : Fin 4) (β : Fin 2)
    (cont : FVec F S16x128 .bf16 → FVec F S16x128 .bf16 → Prog (TpuEff nD τ sig (Elt F) Λ .tc) Unit) :
    Prog (TpuEff nD τ sig (Elt F) Λ .tc) Unit :=
  .op (.load xs (Rect.unit (s := S1x512x32x128) (xOff n q.val c.val β.val) S1x1x32x128.size (xOff_fin n q c β)).toLoadRect
    (View.loadsAt_vmem pos1x1x32x128)) fun x =>
  .op (.load rs (Rect.unit (s := S2048x128) (r0Off n q.val c.val β.val 0) S1x128.size (r0Off_fin n q c β 0)).toLoadRect
    (View.loadsAt_vmem pos1x128)) fun r00 =>
  .op (.load rs (Rect.unit (s := S2048x128) (r1Off n q.val c.val β.val 0) S1x128.size (r1Off_fin n q c β 0)).toLoadRect
    (View.loadsAt_vmem pos1x128)) fun r01 =>
  .op (.load rs (Rect.unit (s := S2048x128) (r0Off n q.val c.val β.val 1) S1x128.size (r0Off_fin n q c β 1)).toLoadRect
    (View.loadsAt_vmem pos1x128)) fun r10 =>
  .op (.load rs (Rect.unit (s := S2048x128) (r1Off n q.val c.val β.val 1) S1x128.size (r1Off_fin n q c β 1)).toLoadRect
    (View.loadsAt_vmem pos1x128)) fun r11 =>
  cont (part0 x r00 r01) (part1 x r10 r11)

/-- Four scaled tiles, stacked. -/
def stackC (q : Fin 8) (β : Fin 2) (cont : FVec F S128x128 .bf16 → Prog (TpuEff nD τ sig (Elt F) Λ .tc) Unit) :
    Prog (TpuEff nD τ sig (Elt F) Λ .tc) Unit :=
  cellC xs rs n q 0 β fun a0 a1 =>
  cellC xs rs n q 1 β fun b0 b1 =>
  cellC xs rs n q 2 β fun c0 c1 =>
  cellC xs rs n q 3 β fun d0 d1 =>
  cont (concatenate S128x128 0 [⟨S16x128, a0⟩, ⟨S16x128, a1⟩, ⟨S16x128, b0⟩, ⟨S16x128, b1⟩,
    ⟨S16x128, c0⟩, ⟨S16x128, c1⟩, ⟨S16x128, d0⟩, ⟨S16x128, d1⟩] catRows)

/-- Two stacks side by side. -/
def sideC (q : Fin 8) (cont : FVec F S128x256 .bf16 → Prog (TpuEff nD τ sig (Elt F) Λ .tc) Unit) :
    Prog (TpuEff nD τ sig (Elt F) Λ .tc) Unit :=
  stackC xs rs n q 0 fun a =>
  stackC xs rs n q 1 fun b =>
  cont (concatenate S128x256 1 [⟨S128x128, a⟩, ⟨S128x128, b⟩] catSide)

/-- The contraction of the tile product: both operands along their second axis. -/
def dotD : DotDims S256x256 S256x256 S256x256 where
  lhsContracting := [1]
  rhsContracting := [1]
  lhsNonContracting := [0]
  rhsNonContracting := [0]
  lhsBatch := []
  rhsBatch := []
  wf := by decide

/-- The product of the transform matrix with two `q`s' tiles. -/
def prodT (h : Vec F S256x256 .bf16) (a b : FVec F S128x256 .bf16) : FVec F S256x256 .f32 :=
  matmul dotD none (shapeCast S256x256 h (by decide) : FVec F S256x256 .bf16)
    (concatenate S256x256 0 [⟨S128x256, a⟩, ⟨S128x256, b⟩] catQ) (constant S256x256 .f32 0x00000000#32)

def lo (y : FVec F S256x256 .f32) : FVec F S256x128 .f32 := extractStridedSlice S256x128 ![0, 0] y (by decide)
def hi (y : FVec F S256x256 .f32) : FVec F S256x128 .f32 := extractStridedSlice S256x128 ![0, 128] y (by decide)

/-- Store the transformed rows of output index `q`. -/
def storeC (q : Fin 8) (y : FVec F S256x128 .f32) (cont : Prog (TpuEff nD τ sig (Elt F) Λ .tc) Unit) :
    Prog (TpuEff nD τ sig (Elt F) Λ .tc) Unit :=
  .op (.load slab (⟨stOff n q.val, S256x128.size, ![9, 1], stOff_fin n q⟩ : LoadRect S18432x128)
    (View.loadsAt_vmem pos256x128)) fun _ =>
  .op (.store slab ⟨(⟨stOff n q.val, S256x128.size, ![9, 1], stOff_fin n q⟩ : LoadRect S18432x128), spos⟩
    (shapeCast S256x128 y (by decide)) Finset.univ (View.stores_vmem_bits_univ pos256x128 rfl) (.inl rfl)) fun _ =>
  cont

/-- Three butterfly stages over the eight parts, then the eight stores. -/
def bflyC (y0 y1 y2 y3 y4 y5 y6 y7 : FVec F S256x128 .f32) (cont : Prog (TpuEff nD τ sig (Elt F) Λ .tc) Unit) :
    Prog (TpuEff nD τ sig (Elt F) Λ .tc) Unit :=
  storeC slab n 0 (addf (addf (addf y0 y1) (addf y2 y3)) (addf (addf y4 y5) (addf y6 y7))) <|
  storeC slab n 1 (addf (addf (subf y0 y1) (subf y2 y3)) (addf (subf y4 y5) (subf y6 y7))) <|
  storeC slab n 2 (addf (subf (addf y0 y1) (addf y2 y3)) (subf (addf y4 y5) (addf y6 y7))) <|
  storeC slab n 3 (addf (subf (subf y0 y1) (subf y2 y3)) (subf (subf y4 y5) (subf y6 y7))) <|
  storeC slab n 4 (subf (addf (addf y0 y1) (addf y2 y3)) (addf (addf y4 y5) (addf y6 y7))) <|
  storeC slab n 5 (subf (addf (subf y0 y1) (subf y2 y3)) (addf (subf y4 y5) (subf y6 y7))) <|
  storeC slab n 6 (subf (subf (addf y0 y1) (addf y2 y3)) (subf (addf y4 y5) (addf y6 y7))) <|
  storeC slab n 7 (subf (subf (subf y0 y1) (subf y2 y3)) (subf (subf y4 y5) (subf y6 y7))) cont

/-- The tile products of trip `n`, transformed and stored. -/
def tilesC (cont : Prog (TpuEff nD τ sig (Elt F) Λ .tc) Unit) : Prog (TpuEff nD τ sig (Elt F) Λ .tc) Unit :=
  .op (.load hm (Rect.unit (s := S256x256) ![0, 0] S256x256.size (by decide)).toLoadRect (View.loadsAt_vmem pos256x256)) fun h =>
  sideC xs rs n 0 fun a0 => sideC xs rs n 1 fun a1 =>
  sideC xs rs n 2 fun a2 => sideC xs rs n 3 fun a3 =>
  sideC xs rs n 4 fun a4 => sideC xs rs n 5 fun a5 =>
  sideC xs rs n 6 fun a6 => sideC xs rs n 7 fun a7 =>
  bflyC slab n (lo (prodT h a0 a1)) (hi (prodT h a0 a1)) (lo (prodT h a2 a3)) (hi (prodT h a2 a3))
    (lo (prodT h a4 a5)) (hi (prodT h a4 a5)) (lo (prodT h a6 a7)) (hi (prodT h a6 a7)) cont

end Tiles

/-- The trip: tiles into `slabW`, visits from `slabR`. -/
def trip (rows : Memref sig .tc .smem S1216 .i32) (cls : Memref sig .tc .smem S304 .i32)
    (xs : Memref sig .tc .vmem S1x512x32x128 .i8) (rs : Memref sig .tc .vmem S2048x128 .bf16)
    (hm : Memref sig .tc .vmem S256x256 .bf16) (slabW slabR : Memref sig .tc .vmem S18432x128 .f32)
    (acc : Memref sig .tc .vmem S7296x8x128 .f32) (b : BitVec 32) (n : Fin 8) (ck : Checks b n.val) :
    Prog (TpuEff nD τ sig (Elt F) Λ .tc) Unit :=
  tilesC xs rs hm slabW n (groupsC rows cls acc slabR b n ck 38 (Nat.le_refl _))

/-! ## The finish of a pass -/

abbrev S58368x128 : Shape := ⟨2, ![58368, 128]⟩
abbrev S1216x1 : Shape := ⟨2, ![1216, 1]⟩
abbrev S1216x384 : Shape := ⟨2, ![1216, 384]⟩
abbrev S8x1 : Shape := ⟨2, ![8, 1]⟩

def codeOff (i : Nat) : Fin 2 → Nat := ![(Scalar.indexCast (Scalar.muli (ivar i) 8#32)).toNat, 0]

/-- The offsets, in the accumulator seen as rows of 128 lanes, of row `n` of the eight slots `8i…8i+7` of set `a`. -/
def flatOff (i a n : Nat) : Fin 2 → Nat :=
  ![(Scalar.indexCast (Scalar.addi (Scalar.muli (Scalar.addi (BitVec.ofNat 32 (1216 * a)) (Scalar.muli (ivar i) 8#32)) 8#32)
    (BitVec.ofNat 32 n))).toNat, 0]

def outOff (i g : Nat) : Fin 2 → Nat := ![(Scalar.indexCast (Scalar.muli (ivar i) 8#32)).toNat, 128 * g]

theorem pos8x1 : 0 < S8x1.numel := by decide +kernel
theorem codeOff_fin : ∀ (i : Fin 152), ∀ a, codeOff i a + S8x1.size a ≤ S1216x1.size a := by decide +kernel
theorem flatOff_fin : ∀ (i : Fin 152) (b : Fin 6) (n : Fin 8), ∀ a,
    S8x128.size a = 0 ∨ flatOff i b n a + (![8, 1] : Fin 2 → Nat) a * (S8x128.size a - 1) < S58368x128.size a := by
  decide +kernel
theorem outOff_fin : ∀ (i : Fin 152) (g : Fin 3), ∀ a, outOff i g a + S8x128.size a ≤ S1216x384.size a := by decide +kernel

section Finish

variable (flat : Memref sig .tc .vmem S58368x128 .f32) (code : Memref sig .tc .vmem S1216x1 .i32)
  (out : Memref sig .tc .vmem S1216x384 .f32) (i : Fin 152)

/-- The transform index of a lane: the lane number over eight. -/
def laneIx : IVec S8x128 32 := shrsi (iota .tc S8x128 32 [1] (by decide)) (broadcast S8x128 3#32)

/-- The parity, for step `n`, of a slot's code and a lane's transform index. -/
def par (cv : Vec F S8x1 .i32) (n : Nat) : IVec S8x128 32 :=
  andi (ctpop (andi (broadcastTo S8x128 (shapeCast S8x1 (shapeCast S8x1 cv (by decide)) (by decide) : IVec S8x1 32) (by decide))
    (addi laneIx (broadcast S8x128 (BitVec.ofNat 32 (16 * n)))))) (broadcast S8x128 1#32)

/-- Add the signed difference of a pair of rows. -/
def addPair (s : IVec S8x128 32) (z p m : FVec F S8x128 .f32) : FVec F S8x128 .f32 :=
  addf z (select (cmpi .eq s (broadcast S8x128 1#32))
    (subf (broadcast S8x128 (Scalar.ofBits .f32 0x00000000#32 : F .f32)) (subf p m)) (subf p m))

/-- Load the two rows of step `n`, group `g`. -/
def pairC (n : Fin 8) (g0 g1 : Fin 6) (cont : FVec F S8x128 .f32 → FVec F S8x128 .f32 → Prog (TpuEff nD τ sig (Elt F) Λ .tc) Unit) :
    Prog (TpuEff nD τ sig (Elt F) Λ .tc) Unit :=
  .op (.load (e := .f32) flat (⟨flatOff i.val g0.val n.val, S8x128.size, ![8, 1], flatOff_fin i g0 n⟩ : LoadRect S58368x128)
    (View.loadsAt_vmem pos8x128)) fun p =>
  .op (.load (e := .f32) flat (⟨flatOff i.val g1.val n.val, S8x128.size, ![8, 1], flatOff_fin i g1 n⟩ : LoadRect S58368x128)
    (View.loadsAt_vmem pos8x128)) fun m =>
  cont p m

/-- Step `n` of the last butterfly sum, for the three groups. -/
def stepC (cv : Vec F S8x1 .i32) (n : Fin 8) (z0 z1 z2 : FVec F S8x128 .f32)
    (cont : FVec F S8x128 .f32 → FVec F S8x128 .f32 → FVec F S8x128 .f32 → Prog (TpuEff nD τ sig (Elt F) Λ .tc) Unit) :
    Prog (TpuEff nD τ sig (Elt F) Λ .tc) Unit :=
  pairC flat i n 0 1 fun p0 m0 =>
  pairC flat i n 2 3 fun p1 m1 =>
  pairC flat i n 4 5 fun p2 m2 =>
  cont (addPair (par cv n.val) z0 p0 m0) (addPair (par cv n.val) z1 p1 m1) (addPair (par cv n.val) z2 p2 m2)

/-- Store the result tile of group `g`. -/
def outC (g : Fin 3) (z : FVec F S8x128 .f32) (cont : Prog (TpuEff nD τ sig (Elt F) Λ .tc) Unit) :
    Prog (TpuEff nD τ sig (Elt F) Λ .tc) Unit :=
  .op (.load out (Rect.unit (s := S1216x384) (outOff i.val g.val) S8x128.size (outOff_fin i g)).toLoadRect
    (View.loadsAt_vmem pos8x128)) fun _ =>
  .op (.store out (Rect.unit (s := S1216x384) (outOff i.val g.val) S8x128.size (outOff_fin i g)) z Finset.univ
    (View.stores_vmem_bits_univ pos8x128 rfl) (.inl rfl)) fun _ =>
  cont

def zeroT : FVec F S8x128 .f32 := broadcast S8x128 (Scalar.ofBits .f32 0x00000000#32 : F .f32)

/-- One trip of the finish: eight slots, all steps, three groups. -/
def finC : Prog (TpuEff nD τ sig (Elt F) Λ .tc) Unit :=
  .op (.load code (Rect.unit (s := S1216x1) (codeOff i.val) S8x1.size (codeOff_fin i)).toLoadRect (View.loadsAt_vmem pos8x1)) fun cv =>
  stepC flat i cv 0 zeroT zeroT zeroT fun a0 a1 a2 =>
  stepC flat i cv 1 a0 a1 a2 fun b0 b1 b2 =>
  stepC flat i cv 2 b0 b1 b2 fun c0 c1 c2 =>
  stepC flat i cv 3 c0 c1 c2 fun d0 d1 d2 =>
  stepC flat i cv 4 d0 d1 d2 fun e0 e1 e2 =>
  stepC flat i cv 5 e0 e1 e2 fun f0 f1 f2 =>
  stepC flat i cv 6 f0 f1 f2 fun g0 g1 g2 =>
  stepC flat i cv 7 g0 g1 g2 fun h0 h1 h2 =>
  outC out i 0 h0 <| outC out i 1 h1 <| outC out i 2 h2 (.ret ⟨⟩)

end Finish

end Cert.Trip
-- ==== Proof.Own.lean ====
module

public import Idealize.ShloMosaic.Lib.Exec
public import Idealize.ShloMosaic.Lib.Tactic
public import Idealize.ShloMosaic.Lib.Pipeline.Kit

@[expose] public section

/-! # A memref's contents as a function of its indices

`owns c m q X` says that device `c` holds share `q` of the memref `m`, whose element at every
index `i` is `X i`. A load gives the elements under its coordinates; a store changes them. -/

noncomputable section

namespace Cert.Trip

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} {Λ : Labels}

local notation "𝕄G" => MT nD τ sig Unit (Elt F) ℕ (UR sig nD τ) ℕ

/-- `X` with the elements of the rectangle `r` replaced by `w`. -/
def upd {s : Shape} {α : Type} (r : Rect s) (X : s.Idx → α) (w : r.shape.Idx → α) : s.Idx → α := fun i =>
  open Classical in if h : ∃ x, r.emb x = i then w h.choose else X i

theorem upd_emb {s : Shape} {α : Type} (r : Rect s) (X : s.Idx → α) (w : r.shape.Idx → α) (x : r.shape.Idx) :
    upd r X w (r.emb x) = w x := by
  have h : ∃ y, r.emb y = r.emb x := ⟨x, rfl⟩
  unfold upd
  rw [dif_pos h, r.emb.injective h.choose_spec]

theorem upd_not {s : Shape} {α : Type} (r : Rect s) (X : s.Idx → α) (w : r.shape.Idx → α) (i : s.Idx)
    (h : ∀ x, r.emb x ≠ i) : upd r X w i = X i := by
  unfold upd
  rw [dif_neg (fun ⟨x, hx⟩ => h x hx)]

variable (c : Dev nD)

/-- Device `c` holds share `q` of memref `m`, whose elements are `X`. -/
def owns {sp : CoreSpace} {s : Shape} {e : EltTy} (m : Memref sig .tc sp s e) (q : PosShare TreeShare)
    (X : s.Idx → Elt F e) : sProp 𝕄G :=
  iprop(∃ f, ⌜m.view.read (Elt F) f = X⌝ ∗ (m.view.loc (c : Thread nD τ) ↦[m.view.set]{q} f))

variable {defs : Defs nD τ sig (Elt F) Λ} (𝒱 : Variants) (bd : Option 𝒱.V) (E : Set ℕ)

/-- A load continues at the elements under its coordinates. -/
theorem owns_load {β : Type} {Q : β → sProp 𝕄G} {sp : CoreSpace} {s : Shape} {e : EltTy} {m : Memref sig .tc sp s e} {q : PosShare TreeShare}
    {X : s.Idx → Elt F e} {r : LoadRect s} {hl : m.view.LoadsAt r}
    {k : (r.shape.Idx → Elt F e) → Prog (TpuEff nD τ sig (Elt F) Λ .tc) β} :
    owns c m q X ⊢ iprop((owns c m q X -∗ wp frame (wpE defs 𝒱 (c : Thread nD τ) bd) E (k fun x => X (r.idx x)) Q)
      -∗ wp frame (wpE defs 𝒱 (c : Thread nD τ) bd) E (.op (.load m r hl) k) Q) := by
  unfold owns
  iintro ⟨%f, %hf, H⟩
  iintro Hk
  iapply (wp_load 𝒱 (c : Thread nD τ) bd E (m := m) (r := r) (hl := hl) (k := k) (S := m.view.set) (q := q) (f := f)
    (m.view.setOn_subset_set _)) $$ H
  iintro H
  have hv : m.view.readAt (Elt F) r f = fun x => X (r.idx x) := by
    funext x; rw [View.readAt_apply, hf]
  rw [hv]
  iapply Hk
  iexists f
  isplitr
  · ipureintro; exact hf
  iexact H

/-- An unmasked store replaces the elements of its rectangle. -/
theorem owns_store {β : Type} {Q : β → sProp 𝕄G} {sp : CoreSpace} {s : Shape} {e : EltTy} {m : Memref sig .tc sp s e}
    {X : s.Idx → Elt F e} {r : Rect s} {w : r.shape.Idx → Elt F e} {hx : (m.access r).Stores Finset.univ}
    {hm : (Finset.univ : Finset r.shape.Idx) = Finset.univ ∨ ∀ a, r.stride a = 1}
    {k : PUnit → Prog (TpuEff nD τ sig (Elt F) Λ .tc) β} :
    owns c m fullShare X ⊢ iprop((owns c m fullShare (upd r X w) -∗ wp frame (wpE defs 𝒱 (c : Thread nD τ) bd) E (k ⟨⟩) Q)
      -∗ wp frame (wpE defs 𝒱 (c : Thread nD τ) bd) E (.op (.store m r w Finset.univ hx hm) k) Q) := by
  unfold owns
  iintro ⟨%f, %hf, H⟩
  iintro Hk
  iapply (wp_store 𝒱 (c : Thread nD τ) bd E (m := m) (r := r) (w := w) (hx := hx) (hm := hm) (k := k) (S := m.view.set) (f := f)
    (m.setOn_access_subset r _)) $$ H
  iintro H
  iapply Hk
  iexists _
  isplitr
  rotate_left
  · iexact H
  ipureintro
  funext i
  by_cases h : ∃ x, r.emb x = i
  · obtain ⟨x, rfl⟩ := h
    rw [upd_emb]
    exact View.read_slice_write_emb (v := m.view) r f w (Finset.mem_univ x)
  · rw [upd_not _ _ _ _ (fun x hx => h ⟨x, hx⟩), ← hf]
    refine View.read_slice_write_of_not_mem (v := m.view) r f w _ ?_
    simpa using fun x hx => h ⟨x, hx⟩

/-- The scalar load of one word. -/
theorem owns_word {β : Type} {Q : β → sProp 𝕄G} {s : Shape} {e : EltTy} {m : Memref sig .tc .smem s e} {q : PosShare TreeShare}
    {X : s.Idx → Elt F e} {r : Rect s} {hw : (m.access r).Loads} {x : r.shape.Idx}
    {k : Elt F e → Prog (TpuEff nD τ sig (Elt F) Λ .tc) β} :
    owns c m q X ⊢ iprop((owns c m q X -∗ wp frame (wpE defs 𝒱 (c : Thread nD τ) bd) E (k (X (r.emb x))) Q)
      -∗ wp frame (wpE defs 𝒱 (c : Thread nD τ) bd) E (smemLoadElt m r hw x k) Q) :=
  owns_load c 𝒱 bd E (k := fun f => k (f x))

/-- This is the library's ownership of a memref. -/
theorem owns_eq {sp : CoreSpace} {s : Shape} {e : EltTy} (m : Memref sig .tc sp s e) (q : PosShare TreeShare) (X : s.Idx → Elt F e) :
    owns c m q X = (Idealize.ShloMosaic.owns (c : Thread nD τ) m q X : sProp 𝕄G) := rfl

/-- A memref seen in another shape holds the same elements, at the indices of equal place. -/
theorem owns_reshape {sp : CoreSpace} {s s' : Shape} {e : EltTy} (m : Memref sig .tc sp s e) (q : PosShare TreeShare) (X : s.Idx → Elt F e)
    (h : s'.numel = s.numel) (hr : 2 ≤ s.rank ∧ 2 ≤ s'.rank) (hc : m.view.Contiguous) :
    (owns c m q X : sProp 𝕄G) = owns c (m.reshape s' h hr hc) q (fun i => X (Shape.reshapeEquiv h i)) := by
  unfold owns
  have hset : (m.reshape s' h hr hc).view.set = m.view.set := View.set_reshape (v := m.view) h
  have hread : ∀ f : m.view.ty.Contents (Elt F), (m.view.read (Elt F) f = X)
      = ((m.reshape s' h hr hc).view.read (Elt F) f = fun i => X (Shape.reshapeEquiv h i)) := fun f => by
    refine propext ⟨fun e => ?_, fun e => ?_⟩
    · rw [← e]; rfl
    · funext i
      have e' : m.view.read (Elt F) f (Shape.reshapeEquiv h ((Shape.reshapeEquiv h).symm i))
          = X (Shape.reshapeEquiv h ((Shape.reshapeEquiv h).symm i)) := congrFun e ((Shape.reshapeEquiv h).symm i)
      rwa [Equiv.apply_symm_apply] at e'
  refine congrArg _ (funext fun f => ?_)
  rw [hset, hread f]

end Cert.Trip
-- ==== Proof.TripWp.lean ====
module

public import proofs.«01_k».proof.Proof.Trip
public import proofs.«01_k».proof.Proof.Own

@[expose] public section

/-! # What a trip does, as functions of the contents it finds

For each piece of the structured trip: the function it computes, and the proof that running it
continues with the memory at that function's value. -/

noncomputable section

namespace Cert.Trip

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F] {Λ : Labels}

local notation "𝕄G" => MT nD τ sig Unit (Elt F) ℕ (UR sig nD τ) ℕ

/-- The elements of `X` under the coordinates of `r`. -/
def gather {s : Shape} {α : Type} (X : s.Idx → α) (r : LoadRect s) : r.shape.Idx → α := fun x => X (r.idx x)

variable (c : Dev nD) {defs : Defs nD τ sig (Elt F) Λ} (𝒱 : Variants) (bd : Option 𝒱.V) (E : Set ℕ)

section Visits

/-- The row word of slot `u` of group `k`. -/
def rowW (Xr : S1216.Idx → BitVec 32) (n : Fin 8) (k : Fin 38) (u : Fin 4) : BitVec 32 :=
  Xr ((Rect.unit (s := S1216) (rowOff n k u.val) S1.size (rowOff_fin n k u)).emb (Shape.Idx.first (s := S1) pos1'))

/-- The class word of group `k`. -/
def clsW (Xc : S304.Idx → BitVec 32) (n : Fin 8) (k : Fin 38) : BitVec 32 :=
  Xc ((Rect.unit (s := S304) (clsOff n k) S1.size (clsOff_fin n k)).emb (Shape.Idx.first (s := S1) pos1'))

variable {b : BitVec 32} {n : Fin 8} (hc : ∀ (k : Fin 38) w, clsOk b n.val k.val w)
  (Xr : S1216.Idx → BitVec 32) (hr : ∀ j, rowOk (Xr j)) (Xc : S304.Idx → BitVec 32)

/-- The accumulator tile of a slot. -/
def accR (hc : ∀ (k : Fin 38) w, clsOk b n.val k.val w) (k : Fin 38) (w : BitVec 32) (u : Fin 4) : Rect S7296x8x128 :=
  Rect.unit (s := S7296x8x128) (accOff b n k w (BitVec.ofNat 32 u.val)) S1x8x128.size ((hc k w).2.2.2.2 u)

/-- The slab rows of a slot. -/
def slabRc (hr : ∀ j, rowOk (Xr j)) (k : Fin 38) (u : Fin 4) : Rect S18432x128 :=
  Rect.unit (s := S18432x128) (slabOff (rowW Xr n k u)) S8x128.size (hr _)

/-- What slot `u` of a group hands on: the accumulator tile plus the slab rows. -/
def slotV (A : S7296x8x128.Idx → F .f32) (S : S18432x128.Idx → F .f32) (k : Fin 38) (w : BitVec 32) (u : Fin 4) : FVec F S8x128 .f32 :=
  addf (shapeCast S8x128 (gather A (accR hc k w u).toLoadRect : FVec F S1x8x128 .f32) cast8 : FVec F S8x128 .f32)
    (gather S (slabRc (n := n) Xr hr k u).toLoadRect : FVec F S8x128 .f32)

/-- The accumulator with slot `u`'s tile replaced. -/
def backV (A : S7296x8x128.Idx → F .f32) (k : Fin 38) (w : BitVec 32) (u : Fin 4) (new : FVec F S8x128 .f32) :
    S7296x8x128.Idx → F .f32 :=
  upd (accR hc k w u) A (shapeCast S1x8x128 new (by decide))

/-- The accumulator after visit group `k`. -/
def groupV (S : S18432x128.Idx → F .f32) (k : Fin 38) (A : S7296x8x128.Idx → F .f32) : S7296x8x128.Idx → F .f32 :=
  backV hc (backV hc (backV hc (backV hc A
      k (clsW Xc n k) 0 (slotV hc Xr hr A S k (clsW Xc n k) 0))
      k (clsW Xc n k) 1 (slotV hc Xr hr A S k (clsW Xc n k) 1))
      k (clsW Xc n k) 2 (slotV hc Xr hr A S k (clsW Xc n k) 2))
      k (clsW Xc n k) 3 (slotV hc Xr hr A S k (clsW Xc n k) 3)

/-- The accumulator after the last `r` visit groups. -/
def groupsV (S : S18432x128.Idx → F .f32) : (r : Nat) → r ≤ 38 → (S7296x8x128.Idx → F .f32) → S7296x8x128.Idx → F .f32
  | 0, _, A => A
  | r + 1, h, A => groupsV S r (by omega) (groupV hc Xr hr Xc S ⟨37 - r, by omega⟩ A)

variable {rows : Memref sig .tc .smem S1216 .i32} {cls : Memref sig .tc .smem S304 .i32}
  {acc : Memref sig .tc .vmem S7296x8x128 .f32} {slab : Memref sig .tc .vmem S18432x128 .f32}
  {ck : Checks b n.val} {qr qc : PosShare TreeShare} {A : S7296x8x128.Idx → F .f32} {S : S18432x128.Idx → F .f32}

theorem slotC_wp {Q : Unit → sProp 𝕄G} (k : Fin 38) (w : BitVec 32) (u : Fin 4)
    {hu : ∀ a, accOff b n k w (BitVec.ofNat 32 u.val) a + S1x8x128.size a ≤ S7296x8x128.size a}
    {cont : FVec F S8x128 .f32 → Prog (TpuEff nD τ sig (Elt F) Λ .tc) Unit} :
    iprop(owns c rows qr Xr ∗ owns c acc fullShare A ∗ owns c slab fullShare S)
      ⊢ iprop((owns c rows qr Xr ∗ owns c acc fullShare A ∗ owns c slab fullShare S
          -∗ wp frame (wpE defs 𝒱 (c : Thread nD τ) bd) E (cont (slotV hc Xr hr A S k w u)) Q)
        -∗ wp frame (wpE defs 𝒱 (c : Thread nD τ) bd) E (slotC rows acc slab b n ck k w u hu cont) Q) := by
  unfold slotC
  iintro ⟨Hr, Ha, Hs⟩ Hk
  iapply (owns_word c 𝒱 bd E) $$ Hr
  iintro Hr
  iapply (wp_assume 𝒱 (c : Thread nD τ) bd E (ck.rowT _ (hr _)))
  iapply (owns_load c 𝒱 bd E) $$ Ha
  iintro Ha
  iapply (owns_load c 𝒱 bd E) $$ Hs
  iintro Hs
  iapply Hk
  isplitl [Hr]; · iexact Hr
  isplitl [Ha]; · iexact Ha
  iexact Hs

theorem backC_wp {Q : Unit → sProp 𝕄G} (k : Fin 38) (w : BitVec 32) (u : Fin 4)
    {hu : ∀ a, accOff b n k w (BitVec.ofNat 32 u.val) a + S1x8x128.size a ≤ S7296x8x128.size a}
    {new : FVec F S8x128 .f32} {cont : Prog (TpuEff nD τ sig (Elt F) Λ .tc) Unit} :
    owns c acc fullShare A
      ⊢ iprop((owns c acc fullShare (backV hc A k w u new) -∗ wp frame (wpE defs 𝒱 (c : Thread nD τ) bd) E cont Q)
        -∗ wp frame (wpE defs 𝒱 (c : Thread nD τ) bd) E (backC acc b n k w u hu new cont) Q) := by
  unfold backC
  iintro Ha Hk
  iapply (owns_load c 𝒱 bd E) $$ Ha
  iintro Ha
  iapply (owns_store c 𝒱 bd E) $$ Ha
  iintro Ha
  iapply Hk
  iexact Ha

theorem groupC_wp {Q : Unit → sProp 𝕄G} (k : Fin 38) {cont : Prog (TpuEff nD τ sig (Elt F) Λ .tc) Unit} :
    iprop(owns c rows qr Xr ∗ owns c cls qc Xc ∗ owns c acc fullShare A ∗ owns c slab fullShare S)
      ⊢ iprop((owns c rows qr Xr ∗ owns c cls qc Xc ∗ owns c acc fullShare (groupV hc Xr hr Xc S k A) ∗ owns c slab fullShare S
          -∗ wp frame (wpE defs 𝒱 (c : Thread nD τ) bd) E cont Q)
        -∗ wp frame (wpE defs 𝒱 (c : Thread nD τ) bd) E (groupC rows cls acc slab b n ck k cont) Q) := by
  unfold groupC
  iintro ⟨Hr, Hc, Ha, Hs⟩ Hk
  iapply (owns_word c 𝒱 bd E) $$ Hc
  iintro Hc
  iapply (wp_assume 𝒱 (c : Thread nD τ) bd E (ck.clsT k _ (hc k _)))
  iapply (slotC_wp c 𝒱 bd E hc Xr hr k _ 0) $$ [Hr Ha Hs]
  · isplitl [Hr]; · iexact Hr
    isplitl [Ha]; · iexact Ha
    iexact Hs
  iintro H
  iapply (slotC_wp c 𝒱 bd E hc Xr hr k _ 1) $$ H
  iintro H
  iapply (slotC_wp c 𝒱 bd E hc Xr hr k _ 2) $$ H
  iintro H
  iapply (slotC_wp c 𝒱 bd E hc Xr hr k _ 3) $$ H
  iintro ⟨Hr, Ha, Hs⟩
  iapply (backC_wp c 𝒱 bd E hc k _ 0) $$ Ha
  iintro Ha
  iapply (backC_wp c 𝒱 bd E hc k _ 1) $$ Ha
  iintro Ha
  iapply (backC_wp c 𝒱 bd E hc k _ 2) $$ Ha
  iintro Ha
  iapply (backC_wp c 𝒱 bd E hc k _ 3) $$ Ha
  iintro Ha
  iapply Hk
  isplitl [Hr]; · iexact Hr
  isplitl [Hc]; · iexact Hc
  isplitl [Ha]; · iexact Ha
  iexact Hs

theorem groupsC_wp {Q : Unit → sProp 𝕄G} (r : Nat) (h : r ≤ 38) : ∀ {A : S7296x8x128.Idx → F .f32},
    iprop(owns c rows qr Xr ∗ owns c cls qc Xc ∗ owns c acc fullShare A ∗ owns c slab fullShare S)
      ⊢ iprop((owns c rows qr Xr ∗ owns c cls qc Xc ∗ owns c acc fullShare (groupsV hc Xr hr Xc S r h A) ∗ owns c slab fullShare S
          -∗ Q ())
        -∗ wp frame (wpE defs 𝒱 (c : Thread nD τ) bd) E (groupsC rows cls acc slab b n ck r h) Q) := by
  induction r with
  | zero =>
    intro A
    rw [groupsC, groupsV, wp_ret]
    iintro H Hk
    imodintro
    iapply Hk $$ H
  | succ r ih =>
    intro A
    rw [groupsC, groupsV]
    iintro H Hk
    iapply (groupC_wp c 𝒱 bd E hc Xr hr Xc _) $$ H
    iintro H
    iapply (ih _) $$ H
    iexact Hk

end Visits

section Tiles

/-- The rectangles a tile's loads go through. -/
def xR (n q : Fin 8) (k : Fin 4) (β : Fin 2) : Rect S1x512x32x128 :=
  Rect.unit (s := S1x512x32x128) (xOff n q.val k.val β.val) S1x1x32x128.size (xOff_fin n q k β)
def r0R (n q : Fin 8) (k : Fin 4) (β hh : Fin 2) : Rect S2048x128 :=
  Rect.unit (s := S2048x128) (r0Off n q.val k.val β.val hh.val) S1x128.size (r0Off_fin n q k β hh)
def r1R (n q : Fin 8) (k : Fin 4) (β hh : Fin 2) : Rect S2048x128 :=
  Rect.unit (s := S2048x128) (r1Off n q.val k.val β.val hh.val) S1x128.size (r1Off_fin n q k β hh)

variable (X : S1x512x32x128.Idx → BitVec 8) (R : S2048x128.Idx → F .bf16) (H : S256x256.Idx → F .bf16) (n : Fin 8)

/-- Rows 0–15, and rows 16–31, of the scaled tile `(q, k, β)`. -/
def cell0 (q : Fin 8) (k : Fin 4) (β : Fin 2) : FVec F S16x128 .bf16 :=
  part0 (gather X (xR n q k β).toLoadRect) (gather R (r0R n q k β 0).toLoadRect) (gather R (r1R n q k β 0).toLoadRect)
def cell1 (q : Fin 8) (k : Fin 4) (β : Fin 2) : FVec F S16x128 .bf16 :=
  part1 (gather X (xR n q k β).toLoadRect) (gather R (r0R n q k β 1).toLoadRect) (gather R (r1R n q k β 1).toLoadRect)

/-- Four scaled tiles, stacked. -/
def stackV (q : Fin 8) (β : Fin 2) : FVec F S128x128 .bf16 :=
  concatenate S128x128 0 [⟨S16x128, cell0 X R n q 0 β⟩, ⟨S16x128, cell1 X R n q 0 β⟩, ⟨S16x128, cell0 X R n q 1 β⟩,
    ⟨S16x128, cell1 X R n q 1 β⟩, ⟨S16x128, cell0 X R n q 2 β⟩, ⟨S16x128, cell1 X R n q 2 β⟩,
    ⟨S16x128, cell0 X R n q 3 β⟩, ⟨S16x128, cell1 X R n q 3 β⟩] catRows

/-- Two stacks side by side. -/
def sideV (q : Fin 8) : FVec F S128x256 .bf16 :=
  concatenate S128x256 1 [⟨S128x128, stackV X R n q 0⟩, ⟨S128x128, stackV X R n q 1⟩] catSide

/-- The product of the transform matrix with the tiles of a pair of `q`s. -/
def prodV (q q' : Fin 8) : FVec F S256x256 .f32 :=
  prodT (gather H (Rect.unit (s := S256x256) ![0, 0] S256x256.size (by decide)).toLoadRect) (sideV X R n q) (sideV X R n q')

/-- Its part of index `q`. -/
def rowsV : Fin 8 → FVec F S256x128 .f32 :=
  ![lo (prodV X R H n 0 1), hi (prodV X R H n 0 1), lo (prodV X R H n 2 3), hi (prodV X R H n 2 3),
    lo (prodV X R H n 4 5), hi (prodV X R H n 4 5), lo (prodV X R H n 6 7), hi (prodV X R H n 6 7)]

/-- The rectangle of output index `q`'s strided rows. -/
def stR (q : Fin 8) : Rect S18432x128 :=
  ⟨(⟨stOff n q.val, S256x128.size, ![9, 1], stOff_fin n q⟩ : LoadRect S18432x128), spos⟩

/-- Store `y` to output index `q`'s rows. -/
def stV (S : S18432x128.Idx → F .f32) (q : Fin 8) (y : FVec F S256x128 .f32) : S18432x128.Idx → F .f32 :=
  upd (stR n q) S (shapeCast S256x128 y (by decide))

/-- The slab after the eight stores of the three butterfly stages over `y0 … y7`. -/
def bflyV (y0 y1 y2 y3 y4 y5 y6 y7 : FVec F S256x128 .f32) (S : S18432x128.Idx → F .f32) : S18432x128.Idx → F .f32 :=
  stV n (stV n (stV n (stV n (stV n (stV n (stV n (stV n S
    0 (addf (addf (addf y0 y1) (addf y2 y3)) (addf (addf y4 y5) (addf y6 y7))))
    1 (addf (addf (subf y0 y1) (subf y2 y3)) (addf (subf y4 y5) (subf y6 y7))))
    2 (addf (subf (addf y0 y1) (addf y2 y3)) (subf (addf y4 y5) (addf y6 y7))))
    3 (addf (subf (subf y0 y1) (subf y2 y3)) (subf (subf y4 y5) (subf y6 y7))))
    4 (subf (addf (addf y0 y1) (addf y2 y3)) (addf (addf y4 y5) (addf y6 y7))))
    5 (subf (addf (subf y0 y1) (subf y2 y3)) (addf (subf y4 y5) (subf y6 y7))))
    6 (subf (subf (addf y0 y1) (addf y2 y3)) (subf (addf y4 y5) (addf y6 y7))))
    7 (subf (subf (subf y0 y1) (subf y2 y3)) (subf (subf y4 y5) (subf y6 y7)))

/-- The slab after the tiles of trip `n`. -/
def tilesV (S : S18432x128.Idx → F .f32) : S18432x128.Idx → F .f32 :=
  bflyV n (lo (prodV X R H n 0 1)) (hi (prodV X R H n 0 1)) (lo (prodV X R H n 2 3)) (hi (prodV X R H n 2 3))
    (lo (prodV X R H n 4 5)) (hi (prodV X R H n 4 5)) (lo (prodV X R H n 6 7)) (hi (prodV X R H n 6 7)) S

variable {xs : Memref sig .tc .vmem S1x512x32x128 .i8} {rs : Memref sig .tc .vmem S2048x128 .bf16}
  {hm : Memref sig .tc .vmem S256x256 .bf16} {slab : Memref sig .tc .vmem S18432x128 .f32}
  {qx qs qh : PosShare TreeShare} {S : S18432x128.Idx → F .f32}

theorem cellC_wp {Q : Unit → sProp 𝕄G} (q : Fin 8) (k : Fin 4) (β : Fin 2)
    {cont : FVec F S16x128 .bf16 → FVec F S16x128 .bf16 → Prog (TpuEff nD τ sig (Elt F) Λ .tc) Unit} :
    iprop(owns c xs qx X ∗ owns c rs qs R)
      ⊢ iprop((owns c xs qx X ∗ owns c rs qs R
          -∗ wp frame (wpE defs 𝒱 (c : Thread nD τ) bd) E (cont (cell0 X R n q k β) (cell1 X R n q k β)) Q)
        -∗ wp frame (wpE defs 𝒱 (c : Thread nD τ) bd) E (cellC xs rs n q k β cont) Q) := by
  unfold cellC
  iintro ⟨Hx, Hr⟩ Hk
  iapply (owns_load c 𝒱 bd E) $$ Hx
  iintro Hx
  iapply (owns_load c 𝒱 bd E) $$ Hr
  iintro Hr
  iapply (owns_load c 𝒱 bd E) $$ Hr
  iintro Hr
  iapply (owns_load c 𝒱 bd E) $$ Hr
  iintro Hr
  iapply (owns_load c 𝒱 bd E) $$ Hr
  iintro Hr
  iapply Hk
  isplitl [Hx]; · iexact Hx
  iexact Hr

theorem stackC_wp {Q : Unit → sProp 𝕄G} (q : Fin 8) (β : Fin 2)
    {cont : FVec F S128x128 .bf16 → Prog (TpuEff nD τ sig (Elt F) Λ .tc) Unit} :
    iprop(owns c xs qx X ∗ owns c rs qs R)
      ⊢ iprop((owns c xs qx X ∗ owns c rs qs R -∗ wp frame (wpE defs 𝒱 (c : Thread nD τ) bd) E (cont (stackV X R n q β)) Q)
        -∗ wp frame (wpE defs 𝒱 (c : Thread nD τ) bd) E (stackC xs rs n q β cont) Q) := by
  unfold stackC
  iintro H Hk
  iapply (cellC_wp c 𝒱 bd E X R n q 0 β) $$ H
  iintro H
  iapply (cellC_wp c 𝒱 bd E X R n q 1 β) $$ H
  iintro H
  iapply (cellC_wp c 𝒱 bd E X R n q 2 β) $$ H
  iintro H
  iapply (cellC_wp c 𝒱 bd E X R n q 3 β) $$ H
  iexact Hk

theorem sideC_wp {Q : Unit → sProp 𝕄G} (q : Fin 8)
    {cont : FVec F S128x256 .bf16 → Prog (TpuEff nD τ sig (Elt F) Λ .tc) Unit} :
    iprop(owns c xs qx X ∗ owns c rs qs R)
      ⊢ iprop((owns c xs qx X ∗ owns c rs qs R -∗ wp frame (wpE defs 𝒱 (c : Thread nD τ) bd) E (cont (sideV X R n q)) Q)
        -∗ wp frame (wpE defs 𝒱 (c : Thread nD τ) bd) E (sideC xs rs n q cont) Q) := by
  unfold sideC
  iintro H Hk
  iapply (stackC_wp c 𝒱 bd E X R n q 0) $$ H
  iintro H
  iapply (stackC_wp c 𝒱 bd E X R n q 1) $$ H
  iexact Hk

theorem storeC_wp {Q : Unit → sProp 𝕄G} (q : Fin 8) {y : FVec F S256x128 .f32}
    {cont : Prog (TpuEff nD τ sig (Elt F) Λ .tc) Unit} :
    owns c slab fullShare S
      ⊢ iprop((owns c slab fullShare (stV n S q y) -∗ wp frame (wpE defs 𝒱 (c : Thread nD τ) bd) E cont Q)
        -∗ wp frame (wpE defs 𝒱 (c : Thread nD τ) bd) E (storeC slab n q y cont) Q) := by
  unfold storeC
  iintro H Hk
  iapply (owns_load c 𝒱 bd E) $$ H
  iintro H
  iapply (owns_store c 𝒱 bd E) $$ H
  iexact Hk

theorem bflyC_wp {Q : Unit → sProp 𝕄G} {y0 y1 y2 y3 y4 y5 y6 y7 : FVec F S256x128 .f32}
    {cont : Prog (TpuEff nD τ sig (Elt F) Λ .tc) Unit} :
    owns c slab fullShare S
      ⊢ iprop((owns c slab fullShare (bflyV n y0 y1 y2 y3 y4 y5 y6 y7 S) -∗ wp frame (wpE defs 𝒱 (c : Thread nD τ) bd) E cont Q)
        -∗ wp frame (wpE defs 𝒱 (c : Thread nD τ) bd) E (bflyC slab n y0 y1 y2 y3 y4 y5 y6 y7 cont) Q) := by
  unfold bflyC
  iintro H Hk
  iapply (storeC_wp c 𝒱 bd E n 0) $$ H
  iintro H
  iapply (storeC_wp c 𝒱 bd E n 1) $$ H
  iintro H
  iapply (storeC_wp c 𝒱 bd E n 2) $$ H
  iintro H
  iapply (storeC_wp c 𝒱 bd E n 3) $$ H
  iintro H
  iapply (storeC_wp c 𝒱 bd E n 4) $$ H
  iintro H
  iapply (storeC_wp c 𝒱 bd E n 5) $$ H
  iintro H
  iapply (storeC_wp c 𝒱 bd E n 6) $$ H
  iintro H
  iapply (storeC_wp c 𝒱 bd E n 7) $$ H
  iexact Hk

theorem tilesC_wp {Q : Unit → sProp 𝕄G} {cont : Prog (TpuEff nD τ sig (Elt F) Λ .tc) Unit} :
    iprop((owns c xs qx X ∗ owns c rs qs R) ∗ owns c hm qh H ∗ owns c slab fullShare S)
      ⊢ iprop(((owns c xs qx X ∗ owns c rs qs R) ∗ owns c hm qh H ∗ owns c slab fullShare (tilesV X R H n S)
          -∗ wp frame (wpE defs 𝒱 (c : Thread nD τ) bd) E cont Q)
        -∗ wp frame (wpE defs 𝒱 (c : Thread nD τ) bd) E (tilesC xs rs hm slab n cont) Q) := by
  unfold tilesC
  iintro ⟨H, Hh, Hs⟩ Hk
  iapply (owns_load c 𝒱 bd E) $$ Hh
  iintro Hh
  iapply (sideC_wp c 𝒱 bd E X R n 0) $$ H
  iintro H
  iapply (sideC_wp c 𝒱 bd E X R n 1) $$ H
  iintro H
  iapply (sideC_wp c 𝒱 bd E X R n 2) $$ H
  iintro H
  iapply (sideC_wp c 𝒱 bd E X R n 3) $$ H
  iintro H
  iapply (sideC_wp c 𝒱 bd E X R n 4) $$ H
  iintro H
  iapply (sideC_wp c 𝒱 bd E X R n 5) $$ H
  iintro H
  iapply (sideC_wp c 𝒱 bd E X R n 6) $$ H
  iintro H
  iapply (sideC_wp c 𝒱 bd E X R n 7) $$ H
  iintro H
  iapply (bflyC_wp c 𝒱 bd E n) $$ Hs
  iintro Hs
  iapply Hk
  isplitl [H]; · iexact H
  isplitl [Hh]; · iexact Hh
  iexact Hs

end Tiles

section Finish

variable (B : S58368x128.Idx → F .f32) (K : S1216x1.Idx → BitVec 32) (i : Fin 152)

/-- The rows of step `n`, set `g`, of the trip's eight slots. -/
def flatL (n : Fin 8) (g : Fin 6) : LoadRect S58368x128 := ⟨flatOff i.val g.val n.val, S8x128.size, ![8, 1], flatOff_fin i g n⟩

/-- The codes of the trip's eight slots. -/
def codeV : S8x1.Idx → BitVec 32 := gather K (Rect.unit (s := S1216x1) (codeOff i.val) S8x1.size (codeOff_fin i)).toLoadRect

/-- The sum over the first `n` steps of the signed differences of the row pairs of sets `g0`, `g1`. -/
def sumV (g0 g1 : Fin 6) : (n : Nat) → n ≤ 8 → FVec F S8x128 .f32
  | 0, _ => zeroT
  | n + 1, h => addPair (par (F := F) (codeV K i) n) (sumV g0 g1 n (by omega)) (gather B (flatL i ⟨n, by omega⟩ g0)) (gather B (flatL i ⟨n, by omega⟩ g1))

/-- Store the result tile of group `g`. -/
def outV (O : S1216x384.Idx → F .f32) (g : Fin 3) (z : FVec F S8x128 .f32) : S1216x384.Idx → F .f32 :=
  upd (Rect.unit (s := S1216x384) (outOff i.val g.val) S8x128.size (outOff_fin i g)) O z

/-- The output block after the trip. -/
def finV (O : S1216x384.Idx → F .f32) : S1216x384.Idx → F .f32 :=
  outV i (outV i (outV i O 0 (sumV B K i 0 1 8 (Nat.le_refl _))) 1 (sumV B K i 2 3 8 (Nat.le_refl _))) 2 (sumV B K i 4 5 8 (Nat.le_refl _))

variable {flat : Memref sig .tc .vmem S58368x128 .f32} {code : Memref sig .tc .vmem S1216x1 .i32}
  {out : Memref sig .tc .vmem S1216x384 .f32} {qk : PosShare TreeShare} {O : S1216x384.Idx → F .f32}

theorem pairC_wp {Q : Unit → sProp 𝕄G} (n : Fin 8) (g0 g1 : Fin 6)
    {cont : FVec F S8x128 .f32 → FVec F S8x128 .f32 → Prog (TpuEff nD τ sig (Elt F) Λ .tc) Unit} :
    owns c flat fullShare B
      ⊢ iprop((owns c flat fullShare B
          -∗ wp frame (wpE defs 𝒱 (c : Thread nD τ) bd) E (cont (gather B (flatL i n g0)) (gather B (flatL i n g1))) Q)
        -∗ wp frame (wpE defs 𝒱 (c : Thread nD τ) bd) E (pairC flat i n g0 g1 cont) Q) := by
  unfold pairC
  iintro H Hk
  iapply (owns_load c 𝒱 bd E) $$ H
  iintro H
  iapply (owns_load c 𝒱 bd E) $$ H
  iexact Hk

theorem stepC_wp {Q : Unit → sProp 𝕄G} (n : Fin 8)
    {cont : FVec F S8x128 .f32 → FVec F S8x128 .f32 → FVec F S8x128 .f32 → Prog (TpuEff nD τ sig (Elt F) Λ .tc) Unit} :
    owns c flat fullShare B
      ⊢ iprop((owns c flat fullShare B
          -∗ wp frame (wpE defs 𝒱 (c : Thread nD τ) bd) E
              (cont (sumV B K i 0 1 (n.val + 1) n.isLt) (sumV B K i 2 3 (n.val + 1) n.isLt) (sumV B K i 4 5 (n.val + 1) n.isLt)) Q)
        -∗ wp frame (wpE defs 𝒱 (c : Thread nD τ) bd) E (stepC flat i (codeV K i) n
              (sumV B K i 0 1 n.val n.isLt.le) (sumV B K i 2 3 n.val n.isLt.le) (sumV B K i 4 5 n.val n.isLt.le) cont) Q) := by
  unfold stepC
  iintro H Hk
  iapply (pairC_wp c 𝒱 bd E B i n 0 1) $$ H
  iintro H
  iapply (pairC_wp c 𝒱 bd E B i n 2 3) $$ H
  iintro H
  iapply (pairC_wp c 𝒱 bd E B i n 4 5) $$ H
  iexact Hk

theorem outC_wp {Q : Unit → sProp 𝕄G} (g : Fin 3) {z : FVec F S8x128 .f32} {cont : Prog (TpuEff nD τ sig (Elt F) Λ .tc) Unit} :
    owns c out fullShare O
      ⊢ iprop((owns c out fullShare (outV i O g z) -∗ wp frame (wpE defs 𝒱 (c : Thread nD τ) bd) E cont Q)
        -∗ wp frame (wpE defs 𝒱 (c : Thread nD τ) bd) E (outC out i g z cont) Q) := by
  unfold outC
  iintro H Hk
  iapply (owns_load c 𝒱 bd E) $$ H
  iintro H
  iapply (owns_store c 𝒱 bd E) $$ H
  iexact Hk

theorem finC_wp {Q : Unit → sProp 𝕄G} :
    iprop(owns c flat fullShare B ∗ owns c code qk K ∗ owns c out fullShare O)
      ⊢ iprop((owns c flat fullShare B ∗ owns c code qk K ∗ owns c out fullShare (finV B K i O) -∗ Q ())
        -∗ wp frame (wpE defs 𝒱 (c : Thread nD τ) bd) E (finC flat code out i) Q) := by
  unfold finC
  iintro ⟨H, Hc, Ho⟩ Hk
  iapply (owns_load c 𝒱 bd E) $$ Hc
  iintro Hc
  iapply (stepC_wp c 𝒱 bd E B K i 0) $$ H
  iintro H
  iapply (stepC_wp c 𝒱 bd E B K i 1) $$ H
  iintro H
  iapply (stepC_wp c 𝒱 bd E B K i 2) $$ H
  iintro H
  iapply (stepC_wp c 𝒱 bd E B K i 3) $$ H
  iintro H
  iapply (stepC_wp c 𝒱 bd E B K i 4) $$ H
  iintro H
  iapply (stepC_wp c 𝒱 bd E B K i 5) $$ H
  iintro H
  iapply (stepC_wp c 𝒱 bd E B K i 6) $$ H
  iintro H
  iapply (stepC_wp c 𝒱 bd E B K i 7) $$ H
  iintro H
  iapply (outC_wp c 𝒱 bd E i 0) $$ Ho
  iintro Ho
  iapply (outC_wp c 𝒱 bd E i 1) $$ Ho
  iintro Ho
  iapply (outC_wp c 𝒱 bd E i 2) $$ Ho
  iintro Ho
  rw [wp_ret]
  imodintro
  iapply Hk
  isplitl [H]; · iexact H
  isplitl [Hc]; · iexact Hc
  iexact Ho

end Finish

end Cert.Trip
-- ==== Proof.Point.lean ====
module

public import proofs.«01_k».proof.Proof.TripWp

@[expose] public section

/-! # One grid point of the main call

The grid point as a program over its buffers (`pointC`), the contents it leaves as functions of the
contents it finds (`stV`, `outV`), and the proof that it does so (`pointC_wp`). -/

noncomputable section

namespace Cert.Trip

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F] {Λ : Labels}

local notation "𝕄G" => MT nD τ sig Unit (Elt F) ℕ (UR sig nD τ) ℕ

/-! ## Counted loops -/

/-- `k` trips of a loop of `N` trips, as a function of what the loop finds. -/
def runT {N : Nat} {α : Type} (f : Fin N → α → α) : Nat → α → α
  | 0, s => s
  | k + 1, s => if h : k < N then f ⟨k, h⟩ (runT f k s) else runT f k s

/-- The trips of a loop from 0 below `ub`, by 1. -/
abbrev tripsTo (ub : BitVec 32) : Nat := Scf.trips 0#32 ub 1#32

/-- A loop of `N` trips without a carried value. -/
def loopC (ub : BitVec 32) (hok : Scf.OK 0#32 ub 1#32) {N : Nat} (hN : tripsTo ub = N)
    (body : Fin N → Prog (TpuEff nD τ sig (Elt F) Λ .tc) Unit) (cont : Prog (TpuEff nD τ sig (Elt F) Λ .tc) Unit) :
    Prog (TpuEff nD τ sig (Elt F) Λ .tc) Unit :=
  Scf.for 0#32 ub 1#32 hok () (fun t _ => body ⟨t.val, hN ▸ t.isLt⟩) >>= fun _ => cont

variable (c : Dev nD) {defs : Defs nD τ sig (Elt F) Λ} (𝒱 : Variants) (bd : Option 𝒱.V) (E : Set ℕ)

/-- A loop whose trips turn what they hold at `s` into what they hold at `f n s` leaves `runT f N`. -/
theorem loopC_wp {Q : Unit → sProp 𝕄G} {ub : BitVec 32} {hok : Scf.OK 0#32 ub 1#32} {N : Nat} {hN : tripsTo ub = N}
    {body : Fin N → Prog (TpuEff nD τ sig (Elt F) Λ .tc) Unit} {cont : Prog (TpuEff nD τ sig (Elt F) Λ .tc) Unit}
    {α : Type} (own : α → sProp 𝕄G) (f : Fin N → α → α)
    (hbody : ∀ (n : Fin N) (s : α) (R : Unit → sProp 𝕄G), own s ⊢ iprop((own (f n s) -∗ R ()) -∗ wp frame (wpE defs 𝒱 (c : Thread nD τ) bd) E (body n) R))
    (s : α) :
    own s ⊢ iprop((own (runT f N s) -∗ wp frame (wpE defs 𝒱 (c : Thread nD τ) bd) E cont Q)
      -∗ wp frame (wpE defs 𝒱 (c : Thread nD τ) bd) E (loopC ub hok hN body cont) Q) := by
  unfold loopC
  subst hN
  have hb : ∀ (k : Fin (tripsTo ub)) (acc : Unit), own (runT f k.val s)
      ⊢ wp frame (wpE defs 𝒱 (c : Thread nD τ) bd) E (body k) (fun _ => own (runT f (k.val + 1) s)) := fun k acc => by
    have h := hbody k (runT f k.val s) (fun _ => own (runT f (k.val + 1) s))
    have e : runT f (k.val + 1) s = f k (runT f k.val s) := by
      show (if h : k.val < _ then _ else _) = _
      rw [dif_pos k.isLt]
    rw [e] at h ⊢
    iintro H
    iapply h $$ H
    iintro H
    iexact H
  change own (runT f 0 s) ⊢ _
  iintro H Hk
  iapply (Scf.wp_for_bind frame (wpE defs 𝒱 (c : Thread nD τ) bd) E 0#32 ub 1#32 hok () (fun t _ => body ⟨t.val, t.isLt⟩)
    (fun k _ => own (runT f k s)) hb (kk := fun _ => cont)) $$ [H]
  · iexact H
  iintro %a H
  iapply Hk $$ H

/-! ## The loops that zero -/

def zOff (i : Nat) : Fin 2 → Nat := ![(Scalar.indexCast (Scalar.muli (ivar i) 8#32)).toNat, 0]
abbrev S8x8x128 : Shape := ⟨3, ![8, 8, 128]⟩
def zOff3 (i : Nat) : Fin 3 → Nat := ![(Scalar.indexCast (Scalar.muli (ivar i) 8#32)).toNat, 0, 0]
theorem zOff_fin : ∀ i : Fin 2304, ∀ a, zOff i a + S8x128.size a ≤ S18432x128.size a := by decide +kernel
theorem zOff3_fin : ∀ i : Fin 912, ∀ a, zOff3 i a + S8x8x128.size a ≤ S7296x8x128.size a := by decide +kernel
theorem pos8x8x128 : 0 < S8x8x128.numel := by decide +kernel
theorem pos7296x8x128 : 0 < S7296x8x128.numel := by decide +kernel
theorem whole7296 : ∀ a, (![0, 0, 0] : Fin 3 → Nat) a + S7296x8x128.size a ≤ S7296x8x128.size a := by decide +kernel

/-- The constant zero. -/
abbrev zf : F .f32 := Scalar.ofBits .f32 0x00000000#32

/-- The zeros stored to eight rows of a slab. -/
def zTile : FVec F S8x128 .f32 := shapeCast S8x128 (broadcast S8x128 (zf : F .f32) : FVec F S8x128 .f32) (by decide)
def zTile3 : FVec F S8x8x128 .f32 := shapeCast S8x8x128 (broadcast S8x8x128 (zf : F .f32) : FVec F S8x8x128 .f32) (by decide)
def zAcc : FVec F S7296x8x128 .f32 := shapeCast S7296x8x128 (broadcast S7296x8x128 (zf : F .f32) : FVec F S7296x8x128 .f32) (by decide)

def zR (i : Fin 2304) : Rect S18432x128 := Rect.unit (s := S18432x128) (zOff i) S8x128.size (zOff_fin i)
def zR3 (i : Fin 912) : Rect S7296x8x128 := Rect.unit (s := S7296x8x128) (zOff3 i) S8x8x128.size (zOff3_fin i)
def allR : Rect S7296x8x128 := Rect.unit (s := S7296x8x128) ![0, 0, 0] S7296x8x128.size whole7296

/-- Zero eight rows of a slab. -/
def zslabC (slab : Memref sig .tc .vmem S18432x128 .f32) (i : Fin 2304) : Prog (TpuEff nD τ sig (Elt F) Λ .tc) Unit :=
  .op (.load slab (Rect.unit (s := S18432x128) (zOff i) S8x128.size (zOff_fin i)).toLoadRect (View.loadsAt_vmem pos8x128)) fun _ =>
  .op (.store slab (Rect.unit (s := S18432x128) (zOff i) S8x128.size (zOff_fin i)) (zTile (F := F)) Finset.univ
    (View.stores_vmem_bits_univ pos8x128 rfl) (.inl rfl)) fun _ => .ret ⟨⟩

/-- Zero eight entries of the accumulator. -/
def zaccC (acc : Memref sig .tc .vmem S7296x8x128 .f32) (i : Fin 912) : Prog (TpuEff nD τ sig (Elt F) Λ .tc) Unit :=
  .op (.load acc (Rect.unit (s := S7296x8x128) (zOff3 i) S8x8x128.size (zOff3_fin i)).toLoadRect (View.loadsAt_vmem pos8x8x128)) fun _ =>
  .op (.store acc (Rect.unit (s := S7296x8x128) (zOff3 i) S8x8x128.size (zOff3_fin i)) (zTile3 (F := F)) Finset.univ
    (View.stores_vmem_bits_univ pos8x8x128 rfl) (.inl rfl)) fun _ => .ret ⟨⟩

/-- Zero the whole accumulator at once. -/
def zallC (acc : Memref sig .tc .vmem S7296x8x128 .f32) (cont : Prog (TpuEff nD τ sig (Elt F) Λ .tc) Unit) :
    Prog (TpuEff nD τ sig (Elt F) Λ .tc) Unit :=
  .op (.load acc (Rect.unit (s := S7296x8x128) ![0, 0, 0] S7296x8x128.size whole7296).toLoadRect (View.loadsAt_vmem pos7296x8x128)) fun _ =>
  .op (.store acc (Rect.unit (s := S7296x8x128) ![0, 0, 0] S7296x8x128.size whole7296) (zAcc (F := F)) Finset.univ
    (View.stores_vmem_bits_univ pos7296x8x128 rfl) (.inl rfl)) fun _ => cont

def zslabV (i : Fin 2304) (S : S18432x128.Idx → F .f32) : S18432x128.Idx → F .f32 := upd (zR i) S (zTile (F := F))
def zaccV (i : Fin 912) (A : S7296x8x128.Idx → F .f32) : S7296x8x128.Idx → F .f32 := upd (zR3 i) A (zTile3 (F := F))
def zallV (A : S7296x8x128.Idx → F .f32) : S7296x8x128.Idx → F .f32 := upd allR A (zAcc (F := F))

theorem zslabC_wp {slab : Memref sig .tc .vmem S18432x128 .f32} (i : Fin 2304) (S : S18432x128.Idx → F .f32) (Q : Unit → sProp 𝕄G) :
    owns c slab fullShare S ⊢ iprop((owns c slab fullShare (zslabV i S) -∗ Q ())
      -∗ wp frame (wpE defs 𝒱 (c : Thread nD τ) bd) E (zslabC slab i) Q) := by
  unfold zslabC zslabV zR
  iintro H Hk
  iapply (owns_load c 𝒱 bd E) $$ H
  iintro H
  iapply (owns_store c 𝒱 bd E) $$ H
  iintro H
  rw [wp_ret]
  imodintro
  iapply Hk $$ H

theorem zaccC_wp {acc : Memref sig .tc .vmem S7296x8x128 .f32} (i : Fin 912) (A : S7296x8x128.Idx → F .f32) (Q : Unit → sProp 𝕄G) :
    owns c acc fullShare A ⊢ iprop((owns c acc fullShare (zaccV i A) -∗ Q ())
      -∗ wp frame (wpE defs 𝒱 (c : Thread nD τ) bd) E (zaccC acc i) Q) := by
  unfold zaccC zaccV zR3
  iintro H Hk
  iapply (owns_load c 𝒱 bd E) $$ H
  iintro H
  iapply (owns_store c 𝒱 bd E) $$ H
  iintro H
  rw [wp_ret]
  imodintro
  iapply Hk $$ H

theorem zallC_wp {Q : Unit → sProp 𝕄G} {acc : Memref sig .tc .vmem S7296x8x128 .f32} {cont : Prog (TpuEff nD τ sig (Elt F) Λ .tc) Unit}
    (A : S7296x8x128.Idx → F .f32) :
    owns c acc fullShare A ⊢ iprop((owns c acc fullShare (zallV A) -∗ wp frame (wpE defs 𝒱 (c : Thread nD τ) bd) E cont Q)
      -∗ wp frame (wpE defs 𝒱 (c : Thread nD τ) bd) E (zallC acc cont) Q) := by
  unfold zallC zallV allR
  iintro H Hk
  iapply (owns_load c 𝒱 bd E) $$ H
  iintro H
  iapply (owns_store c 𝒱 bd E) $$ H
  iintro H
  iapply Hk $$ H

/-! ## The eight trips of a phase -/

/-- What the eight trips leave in the slab they write. -/
def tilesAll (X : S1x512x32x128.Idx → BitVec 8) (R : S2048x128.Idx → F .bf16) (H : S256x256.Idx → F .bf16)
    (S : S18432x128.Idx → F .f32) : S18432x128.Idx → F .f32 :=
  runT (N := 8) (fun n S => tilesV X R H n S) 8 S

/-- What the eight trips leave in the accumulator. -/
def visitsAll {b : BitVec 32} (hc : ∀ (n : Fin 8) (k : Fin 38) w, clsOk b n.val k w) (Xr : S1216.Idx → BitVec 32) (hr : ∀ j, rowOk (Xr j))
    (Xc : S304.Idx → BitVec 32) (S : S18432x128.Idx → F .f32) (A : S7296x8x128.Idx → F .f32) : S7296x8x128.Idx → F .f32 :=
  runT (N := 8) (fun n A => groupsV (hc n) Xr hr Xc S 38 (Nat.le_refl _) A) 8 A

theorem runT_prod {N : Nat} {α β : Type} (f : Fin N → α → α) (g : Fin N → β → β) (k : Nat) (s : α × β) :
    runT (fun n (p : α × β) => (f n p.1, g n p.2)) k s = (runT f k s.1, runT g k s.2) := by
  induction k with
  | zero => rfl
  | succ k ih =>
    unfold runT
    split
    · rw [ih]
    · exact ih

theorem trips8 : tripsTo (Scalar.addi 0#32 8#32) = 8 := by decide
theorem ok8 : Scf.OK 0#32 (Scalar.addi 0#32 8#32) 1#32 := by decide
theorem trips152 : tripsTo (Scalar.addi 0#32 152#32) = 152 := by decide
theorem ok152 : Scf.OK 0#32 (Scalar.addi 0#32 152#32) 1#32 := by decide
theorem trips912 : tripsTo (Scalar.addi 0#32 912#32) = 912 := by decide
theorem ok912 : Scf.OK 0#32 (Scalar.addi 0#32 912#32) 1#32 := by decide
theorem trips2304 : tripsTo (Scalar.addi 0#32 2304#32) = 2304 := by decide
theorem ok2304 : Scf.OK 0#32 (Scalar.addi 0#32 2304#32) 1#32 := by decide

section Phase

variable {rows : Memref sig .tc .smem S1216 .i32} {cls : Memref sig .tc .smem S304 .i32}
  {xs : Memref sig .tc .vmem S1x512x32x128 .i8} {rs : Memref sig .tc .vmem S2048x128 .bf16}
  {hm : Memref sig .tc .vmem S256x256 .bf16} {slabW slabR : Memref sig .tc .vmem S18432x128 .f32}
  {acc : Memref sig .tc .vmem S7296x8x128 .f32} {b : BitVec 32} {ck : ∀ n : Fin 8, Checks b n.val}
  {qr qc qx qs qh : PosShare TreeShare}
  (X : S1x512x32x128.Idx → BitVec 8) (R : S2048x128.Idx → F .bf16) (H : S256x256.Idx → F .bf16)
  (hc : ∀ (n : Fin 8) (k : Fin 38) w, clsOk b n.val k w) (Xr : S1216.Idx → BitVec 32) (hr : ∀ j, rowOk (Xr j)) (Xc : S304.Idx → BitVec 32)
  (SR : S18432x128.Idx → F .f32)

/-- The buffers of a phase. -/
def phaseOwn (rows : Memref sig .tc .smem S1216 .i32) (cls : Memref sig .tc .smem S304 .i32)
    (xs : Memref sig .tc .vmem S1x512x32x128 .i8) (rs : Memref sig .tc .vmem S2048x128 .bf16)
    (hm : Memref sig .tc .vmem S256x256 .bf16) (slabW slabR : Memref sig .tc .vmem S18432x128 .f32)
    (acc : Memref sig .tc .vmem S7296x8x128 .f32) (qr qc qx qs qh : PosShare TreeShare)
    (p : (S18432x128.Idx → F .f32) × (S7296x8x128.Idx → F .f32)) : sProp 𝕄G :=
  iprop(((owns c xs qx X ∗ owns c rs qs R) ∗ owns c hm qh H ∗ owns c slabW fullShare p.1)
    ∗ (owns c rows qr Xr ∗ owns c cls qc Xc ∗ owns c acc fullShare p.2 ∗ owns c slabR fullShare SR))

theorem trip_wp (n : Fin 8) (p : (S18432x128.Idx → F .f32) × (S7296x8x128.Idx → F .f32)) (Q : Unit → sProp 𝕄G) :
    phaseOwn c X R H Xr Xc SR rows cls xs rs hm slabW slabR acc qr qc qx qs qh p
      ⊢ iprop((phaseOwn c X R H Xr Xc SR rows cls xs rs hm slabW slabR acc qr qc qx qs qh
            (tilesV X R H n p.1, groupsV (hc n) Xr hr Xc SR 38 (Nat.le_refl _) p.2) -∗ Q ())
        -∗ wp frame (wpE defs 𝒱 (c : Thread nD τ) bd) E (trip rows cls xs rs hm slabW slabR acc b n (ck n)) Q) := by
  unfold phaseOwn trip
  iintro ⟨H1, H2⟩ Hk
  iapply (tilesC_wp c 𝒱 bd E X R H n) $$ H1
  iintro H1
  iapply (groupsC_wp c 𝒱 bd E (hc n) Xr hr Xc 38 (Nat.le_refl _)) $$ H2
  iintro H2
  iapply Hk
  isplitl [H1]
  · iexact H1
  · iexact H2

/-- The eight trips. -/
def phaseC (rows : Memref sig .tc .smem S1216 .i32) (cls : Memref sig .tc .smem S304 .i32)
    (xs : Memref sig .tc .vmem S1x512x32x128 .i8) (rs : Memref sig .tc .vmem S2048x128 .bf16)
    (hm : Memref sig .tc .vmem S256x256 .bf16) (slabW slabR : Memref sig .tc .vmem S18432x128 .f32)
    (acc : Memref sig .tc .vmem S7296x8x128 .f32) (b : BitVec 32) (ck : ∀ n : Fin 8, Checks b n.val)
    (cont : Prog (TpuEff nD τ sig (Elt F) Λ .tc) Unit) : Prog (TpuEff nD τ sig (Elt F) Λ .tc) Unit :=
  loopC (Scalar.addi 0#32 8#32) ok8 trips8 (fun n => trip rows cls xs rs hm slabW slabR acc b n (ck n)) cont

theorem phaseC_wp {Q : Unit → sProp 𝕄G} {cont : Prog (TpuEff nD τ sig (Elt F) Λ .tc) Unit}
    (S : S18432x128.Idx → F .f32) (A : S7296x8x128.Idx → F .f32) :
    phaseOwn c X R H Xr Xc SR rows cls xs rs hm slabW slabR acc qr qc qx qs qh (S, A)
      ⊢ iprop((phaseOwn c X R H Xr Xc SR rows cls xs rs hm slabW slabR acc qr qc qx qs qh (tilesAll X R H S, visitsAll hc Xr hr Xc SR A)
            -∗ wp frame (wpE defs 𝒱 (c : Thread nD τ) bd) E cont Q)
        -∗ wp frame (wpE defs 𝒱 (c : Thread nD τ) bd) E (phaseC rows cls xs rs hm slabW slabR acc b ck cont) Q) := by
  have h := loopC_wp (Q := Q) (hok := ok8) (hN := trips8) (body := fun n => trip rows cls xs rs hm slabW slabR acc b n (ck n)) (cont := cont)
    c (defs := defs) 𝒱 bd E (phaseOwn c X R H Xr Xc SR rows cls xs rs hm slabW slabR acc qr qc qx qs qh)
    (fun n (p : (S18432x128.Idx → F .f32) × (S7296x8x128.Idx → F .f32)) => (tilesV X R H n p.1, groupsV (hc n) Xr hr Xc SR 38 (Nat.le_refl _) p.2))
    (fun n p Q => trip_wp c 𝒱 bd E X R H hc Xr hr Xc SR n p Q) (S, A)
  rw [runT_prod] at h
  exact h

end Phase

/-! ## The finish -/

theorem numelFlat : S58368x128.numel = S7296x8x128.numel := by decide +kernel
theorem rankFlat : 2 ≤ S7296x8x128.rank ∧ 2 ≤ S58368x128.rank := by decide

/-- The accumulator seen as rows of 128 lanes. -/
abbrev flatM (acc : Memref sig .tc .vmem S7296x8x128 .f32) (hacc : acc.view.Contiguous) : Memref sig .tc .vmem S58368x128 .f32 :=
  acc.reshape S58368x128 numelFlat rankFlat hacc

/-- Its contents. -/
def flatV (A : S7296x8x128.Idx → F .f32) : S58368x128.Idx → F .f32 := fun i => A (Shape.reshapeEquiv numelFlat i)

/-- The output block after the finish. -/
def finAll (A : S7296x8x128.Idx → F .f32) (K : S1216x1.Idx → BitVec 32) (O : S1216x384.Idx → F .f32) : S1216x384.Idx → F .f32 :=
  runT (N := 152) (fun i O => finV (flatV A) K i O) 152 O

theorem finLoop_wp {Q : Unit → sProp 𝕄G} {cont : Prog (TpuEff nD τ sig (Elt F) Λ .tc) Unit}
    {acc : Memref sig .tc .vmem S7296x8x128 .f32} {hacc : acc.view.Contiguous} {code : Memref sig .tc .vmem S1216x1 .i32}
    {out : Memref sig .tc .vmem S1216x384 .f32} {qk : PosShare TreeShare}
    (A : S7296x8x128.Idx → F .f32) (K : S1216x1.Idx → BitVec 32) (O : S1216x384.Idx → F .f32) :
    iprop(owns c acc fullShare A ∗ owns c code qk K ∗ owns c out fullShare O)
      ⊢ iprop((owns c acc fullShare A ∗ owns c code qk K ∗ owns c out fullShare (finAll A K O)
            -∗ wp frame (wpE defs 𝒱 (c : Thread nD τ) bd) E cont Q)
        -∗ wp frame (wpE defs 𝒱 (c : Thread nD τ) bd) E
          (loopC (Scalar.addi 0#32 152#32) ok152 trips152 (fun i => finC (flatM acc hacc) code out i) cont) Q) := by
  have e : (owns c acc fullShare A : sProp 𝕄G) = owns c (flatM acc hacc) fullShare (flatV A) :=
    owns_reshape c acc fullShare A numelFlat rankFlat hacc
  rw [e]
  exact loopC_wp c 𝒱 bd E (fun O => iprop(owns c (flatM acc hacc) fullShare (flatV A) ∗ owns c code qk K ∗ owns c out fullShare O))
    (fun i O => finV (flatV A) K i O) (fun i O Q => finC_wp c 𝒱 bd E (flatV A) K i) O

/-! ## The grid point -/

section Point

variable (rows : Memref sig .tc .smem S1216 .i32) (cls : Memref sig .tc .smem S304 .i32)
  (x1 x2 : Memref sig .tc .vmem S1x512x32x128 .i8) (r1 r2 : Memref sig .tc .vmem S2048x128 .bf16)
  (hm : Memref sig .tc .vmem S256x256 .bf16) (code : Memref sig .tc .vmem S1216x1 .i32) (out : Memref sig .tc .vmem S1216x384 .f32)
  (sA sB : Memref sig .tc .vmem S18432x128 .f32) (acc : Memref sig .tc .vmem S7296x8x128 .f32) (hacc : acc.view.Contiguous)
  (c1 c2 c3 : Prop) [Decidable c1] [Decidable c2] [Decidable c3]
  (bA bB : BitVec 32)

/-- The first point's zeros. -/
def stage1C (cont : Prog (TpuEff nD τ sig (Elt F) Λ .tc) Unit) : Prog (TpuEff nD τ sig (Elt F) Λ .tc) Unit :=
  if c1 then loopC (Scalar.addi 0#32 2304#32) ok2304 trips2304 (zslabC sB) (zallC acc cont) else cont

/-- The finish, where a pass ends, and the zeros the next pass begins from. -/
def stage3C (cont : Prog (TpuEff nD τ sig (Elt F) Λ .tc) Unit) : Prog (TpuEff nD τ sig (Elt F) Λ .tc) Unit :=
  if c2 then loopC (Scalar.addi 0#32 152#32) ok152 trips152 (fun i => finC (flatM acc hacc) code out i)
    (loopC (Scalar.addi 0#32 912#32) ok912 trips912 (zaccC acc) cont) else cont

/-- The second phase. -/
def stage4C : Prog (TpuEff nD τ sig (Elt F) Λ .tc) Unit :=
  if h : c3 then phaseC rows cls x2 r2 hm sB sA acc bB (fun n => guarded c3 h bB n.val) (.ret ⟨⟩) else .ret ⟨⟩

/-- The grid point. -/
def pointC : Prog (TpuEff nD τ sig (Elt F) Λ .tc) Unit :=
  stage1C sB acc c1 (phaseC rows cls x1 r1 hm sA sB acc bA (fun n => plain bA n.val)
    (stage3C code out acc hacc c2 (stage4C rows cls x2 r2 hm sA sB acc c3 bB)))

end Point

/-- The three scratch buffers' contents. -/
structure St (F : FTy → Type) where
  a : S18432x128.Idx → F .f32
  b : S18432x128.Idx → F .f32
  acc : S7296x8x128.Idx → F .f32

section PointV

variable {bA bB : BitVec 32} (c1 c2 c3 : Prop) [Decidable c1] [Decidable c2] [Decidable c3]
  (hcA : ∀ (n : Fin 8) (k : Fin 38) w, clsOk bA n.val k w) (hcB : ∀ (n : Fin 8) (k : Fin 38) w, clsOk bB n.val k w)
  (Xr : S1216.Idx → BitVec 32) (hr : ∀ j, rowOk (Xr j)) (Xc : S304.Idx → BitVec 32)
  (X1 X2 : S1x512x32x128.Idx → BitVec 8) (R1 R2 : S2048x128.Idx → F .bf16) (H : S256x256.Idx → F .bf16) (K : S1216x1.Idx → BitVec 32)

/-- The scratch after the first point's zeros, -/
def st1 (s : St F) : St F := if c1 then ⟨s.a, runT zslabV 2304 s.b, zallV s.acc⟩ else s

/-- after the first phase, -/
def st2 (s : St F) : St F :=
  ⟨tilesAll X1 R1 H (st1 c1 s).a, (st1 c1 s).b, visitsAll hcA Xr hr Xc (st1 c1 s).b (st1 c1 s).acc⟩

/-- after the finish, -/
def st3 (s : St F) : St F :=
  if c2 then ⟨s.a, s.b, runT zaccV 912 s.acc⟩ else s

/-- after the second phase. -/
def st4 (s : St F) : St F :=
  if c3 then ⟨s.a, tilesAll X2 R2 H s.b, visitsAll hcB Xr hr Xc s.a s.acc⟩ else s

/-- The scratch after a grid point. -/
def pointV (s : St F) : St F := st4 c3 hcB Xr hr Xc X2 R2 H (st3 c2 (st2 c1 hcA Xr hr Xc X1 R1 H s))

/-- The output block after a grid point. -/
def pointO (s : St F) (O : S1216x384.Idx → F .f32) : S1216x384.Idx → F .f32 :=
  if c2 then finAll (st2 c1 hcA Xr hr Xc X1 R1 H s).acc K O else O

variable {rows : Memref sig .tc .smem S1216 .i32} {cls : Memref sig .tc .smem S304 .i32}
  {x1 x2 : Memref sig .tc .vmem S1x512x32x128 .i8} {r1 r2 : Memref sig .tc .vmem S2048x128 .bf16}
  {hm : Memref sig .tc .vmem S256x256 .bf16} {code : Memref sig .tc .vmem S1216x1 .i32} {out : Memref sig .tc .vmem S1216x384 .f32}
  {sA sB : Memref sig .tc .vmem S18432x128 .f32} {acc : Memref sig .tc .vmem S7296x8x128 .f32} {hacc : acc.view.Contiguous}
  {qr qc qx1 qx2 qr1 qr2 qh qk : PosShare TreeShare}

/-- The scratch held at a state. -/
def scr (sA sB : Memref sig .tc .vmem S18432x128 .f32) (acc : Memref sig .tc .vmem S7296x8x128 .f32) (s : St F) : sProp 𝕄G :=
  iprop(owns c sA fullShare s.a ∗ owns c sB fullShare s.b ∗ owns c acc fullShare s.acc)

theorem stage1C_wp {Q : Unit → sProp 𝕄G} {cont : Prog (TpuEff nD τ sig (Elt F) Λ .tc) Unit} (s : St F) :
    scr c sA sB acc s ⊢ iprop((scr c sA sB acc (st1 c1 s) -∗ wp frame (wpE defs 𝒱 (c : Thread nD τ) bd) E cont Q)
      -∗ wp frame (wpE defs 𝒱 (c : Thread nD τ) bd) E (stage1C sB acc c1 cont) Q) := by
  unfold stage1C st1
  split
  · unfold scr
    iintro ⟨Ha, Hb, Hc⟩ Hk
    iapply (loopC_wp c 𝒱 bd E (fun S => owns c sB fullShare S) zslabV (fun i S Q => zslabC_wp c 𝒱 bd E i S Q)) $$ Hb
    iintro Hb
    iapply (zallC_wp c 𝒱 bd E) $$ Hc
    iintro Hc
    iapply Hk
    isplitl [Ha]
    · iexact Ha
    isplitl [Hb]
    · iexact Hb
    · iexact Hc
  · iintro H Hk
    iapply Hk $$ H

theorem stage3C_wp {Q : Unit → sProp 𝕄G} {cont : Prog (TpuEff nD τ sig (Elt F) Λ .tc) Unit} (s : St F) (O : S1216x384.Idx → F .f32) :
    iprop(scr c sA sB acc s ∗ owns c code qk K ∗ owns c out fullShare O)
      ⊢ iprop((scr c sA sB acc (st3 c2 s) ∗ owns c code qk K ∗ owns c out fullShare (if c2 then finAll s.acc K O else O)
          -∗ wp frame (wpE defs 𝒱 (c : Thread nD τ) bd) E cont Q)
      -∗ wp frame (wpE defs 𝒱 (c : Thread nD τ) bd) E (stage3C code out acc hacc c2 cont) Q) := by
  unfold stage3C st3
  by_cases h : c2
  · rw [if_pos h, if_pos h, if_pos h]
    unfold scr
    iintro ⟨⟨Ha, Hb, Hc⟩, Hd, Ho⟩ Hk
    iapply (finLoop_wp c 𝒱 bd E s.acc K O) $$ [Hc Hd Ho]
    · isplitl [Hc]
      · iexact Hc
      isplitl [Hd]
      · iexact Hd
      · iexact Ho
    iintro ⟨Hc, Hd, Ho⟩
    iapply (loopC_wp c 𝒱 bd E (fun S => owns c acc fullShare S) zaccV (fun i S Q => zaccC_wp c 𝒱 bd E i S Q)) $$ Hc
    iintro Hc
    iapply Hk
    isplitl [Ha Hb Hc]
    · isplitl [Ha]
      · iexact Ha
      isplitl [Hb]
      · iexact Hb
      · iexact Hc
    isplitl [Hd]
    · iexact Hd
    · iexact Ho
  · rw [if_neg h, if_neg h, if_neg h]
    iintro H Hk
    iapply Hk $$ H

/-- The buffers a grid point only reads. -/
def inp (rows : Memref sig .tc .smem S1216 .i32) (cls : Memref sig .tc .smem S304 .i32)
    (x1 x2 : Memref sig .tc .vmem S1x512x32x128 .i8) (r1 r2 : Memref sig .tc .vmem S2048x128 .bf16)
    (hm : Memref sig .tc .vmem S256x256 .bf16) (code : Memref sig .tc .vmem S1216x1 .i32)
    (qr qc qx1 qx2 qr1 qr2 qh qk : PosShare TreeShare) : sProp 𝕄G :=
  iprop(owns c rows qr Xr ∗ owns c cls qc Xc ∗ owns c x1 qx1 X1 ∗ owns c x2 qx2 X2 ∗ owns c r1 qr1 R1 ∗ owns c r2 qr2 R2
    ∗ owns c hm qh H ∗ owns c code qk K)

theorem pointC_wp {Q : Unit → sProp 𝕄G} (s : St F) (O : S1216x384.Idx → F .f32) :
    iprop(inp c Xr Xc X1 X2 R1 R2 H K rows cls x1 x2 r1 r2 hm code qr qc qx1 qx2 qr1 qr2 qh qk
        ∗ scr c sA sB acc s ∗ owns c out fullShare O)
      ⊢ iprop((inp c Xr Xc X1 X2 R1 R2 H K rows cls x1 x2 r1 r2 hm code qr qc qx1 qx2 qr1 qr2 qh qk
        ∗ scr c sA sB acc (pointV c1 c2 c3 hcA hcB Xr hr Xc X1 X2 R1 R2 H s)
        ∗ owns c out fullShare (pointO c1 c2 hcA Xr hr Xc X1 R1 H K s O) -∗ Q ())
      -∗ wp frame (wpE defs 𝒱 (c : Thread nD τ) bd) E
          (pointC rows cls x1 x2 r1 r2 hm code out sA sB acc hacc c1 c2 c3 bA bB) Q) := by
  unfold pointC
  unfold inp
  iintro ⟨⟨Hr, Hc, Hx1, Hx2, Hr1, Hr2, Hh, Hk⟩, Hs, Ho⟩ Hq
  iapply (stage1C_wp c 𝒱 bd E c1 s) $$ Hs
  iintro Hs
  unfold scr
  icases Hs with ⟨Ha, Hb, Hacc⟩
  have p1 := phaseC_wp (Q := Q) (rows := rows) (cls := cls) (xs := x1) (rs := r1) (hm := hm) (slabW := sA) (slabR := sB) (acc := acc)
    (ck := fun n => plain bA n.val) (qr := qr) (qc := qc) (qx := qx1) (qs := qr1) (qh := qh)
    (cont := stage3C code out acc hacc c2 (stage4C rows cls x2 r2 hm sA sB acc c3 bB))
    c (defs := defs) 𝒱 bd E X1 R1 H hcA Xr hr Xc (st1 c1 s).b (st1 c1 s).a (st1 c1 s).acc
  unfold phaseOwn at p1
  iapply p1 $$ [Hr Hc Hx1 Hr1 Hh Ha Hb Hacc]
  · isplitl [Hx1 Hr1 Hh Ha]
    · isplitl [Hx1 Hr1]
      · isplitl [Hx1]
        · iexact Hx1
        · iexact Hr1
      isplitl [Hh]
      · iexact Hh
      · iexact Ha
    isplitl [Hr]
    · iexact Hr
    isplitl [Hc]
    · iexact Hc
    isplitl [Hacc]
    · iexact Hacc
    · iexact Hb
  iintro ⟨⟨⟨Hx1, Hr1⟩, Hh, Ha⟩, Hr, Hc, Hacc, Hb⟩
  have p3 := stage3C_wp (Q := Q) (sA := sA) (sB := sB) (acc := acc) (hacc := hacc) (code := code) (out := out) (qk := qk)
    (cont := stage4C rows cls x2 r2 hm sA sB acc c3 bB)
    c (defs := defs) 𝒱 bd E c2 K (st2 c1 hcA Xr hr Xc X1 R1 H s) O
  unfold scr at p3
  iapply p3 $$ [Ha Hb Hacc Hk Ho]
  · isplitl [Ha Hb Hacc]
    · isplitl [Ha]
      · iexact Ha
      isplitl [Hb]
      · iexact Hb
      · iexact Hacc
    isplitl [Hk]
    · iexact Hk
    · iexact Ho
  iintro ⟨⟨Ha, Hb, Hacc⟩, Hk, Ho⟩
  unfold pointV st4 stage4C
  unfold pointO
  generalize st3 c2 (st2 c1 hcA Xr hr Xc X1 R1 H s) = s3
  by_cases h : c3
  · rw [dif_pos h, if_pos h]
    have p4 := phaseC_wp (Q := Q) (rows := rows) (cls := cls) (xs := x2) (rs := r2) (hm := hm) (slabW := sB) (slabR := sA) (acc := acc)
      (ck := fun n => guarded c3 h bB n.val) (qr := qr) (qc := qc) (qx := qx2) (qs := qr2) (qh := qh)
      (cont := (.ret ⟨⟩ : Prog (TpuEff nD τ sig (Elt F) Λ .tc) Unit))
      c (defs := defs) 𝒱 bd E X2 R2 H hcB Xr hr Xc s3.a s3.b s3.acc
    unfold phaseOwn at p4
    iapply p4 $$ [Hr Hc Hx2 Hr2 Hh Ha Hb Hacc]
    · isplitl [Hx2 Hr2 Hh Hb]
      · isplitl [Hx2 Hr2]
        · isplitl [Hx2]
          · iexact Hx2
          · iexact Hr2
        isplitl [Hh]
        · iexact Hh
        · iexact Hb
      isplitl [Hr]
      · iexact Hr
      isplitl [Hc]
      · iexact Hc
      isplitl [Hacc]
      · iexact Hacc
      · iexact Ha
    iintro ⟨⟨⟨Hx2, Hr2⟩, Hh, Hb⟩, Hr, Hc, Hacc, Ha⟩
    rw [wp_ret]
    imodintro
    iapply Hq
    isplitl [Hr Hc Hx1 Hx2 Hr1 Hr2 Hh Hk]
    · iframe
    isplitl [Ha Hb Hacc]
    · iframe
    · iexact Ho
  · rw [dif_neg h, if_neg h]
    rw [wp_ret]
    imodintro
    iapply Hq
    isplitl [Hr Hc Hx1 Hx2 Hr1 Hr2 Hh Hk]
    · iframe
    isplitl [Ha Hb Hacc]
    · iframe
    · iexact Ho

end PointV

end Cert.Trip
-- ==== Proof.Refold.lean ====
module

public import proofs.«01_k».proof.Proof.Gen.Kernel.Skeleton
public import proofs.«01_k».proof.Proof.Point

@[expose] public section

noncomputable section

namespace Cert.Kernel.Own

open Idealize.ShloMosaic Idealize.SL.Sem Cert.Kernel.Gen

variable {F : FTy → Type} [FloatOps F]

/-- The half-block that phase A of grid point `i` visits. -/
def blkA (i : grid0.Coords) : BitVec 32 :=
  Scalar.maxsi (Scalar.subi (Scalar.muli 2#32 (BitVec.ofNat 32 (i 0).val)) 1#32) 0#32

theorem trips2 : k0_t2_loop.trips = 8 := by decide

theorem trips5 : k0_t5_loop.trips = 8 := by decide
theorem trips3 : k0_t3_loop.trips = 152 := by decide

/-- The half-block that phase B of grid point `i` visits. -/
def blkB (i : grid0.Coords) : BitVec 32 :=
  Scalar.maxsi (Scalar.muli 2#32 (BitVec.ofNat 32 (i 0).val)) 0#32

variable (i : grid0.Coords) (arg1 : Memref sig .tc .smem S1216 .i32) (harg1 : arg1.IsWhole) (arg2 : Memref sig .tc .smem S304 .i32) (harg2 : arg2.IsWhole) (arg3 : Memref sig .tc .vmem S1x512x32x128 .i8) (harg3 : arg3.IsWhole) (arg4 : Memref sig .tc .vmem S1x512x32x128 .i8) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S256x256 .bf16) (harg7 : arg7.IsWhole) (arg8 : Memref sig .tc .vmem S1216x1 .i32) (harg8 : arg8.IsWhole) (arg9 : Memref sig .tc .vmem S1216x384 .f32) (harg9 : arg9.IsWhole) (arg10 : Memref sig .tc .vmem S18432x128 .f32) (harg10 : arg10.IsWhole) (arg11 : Memref sig .tc .vmem S18432x128 .f32) (harg11 : arg11.IsWhole) (arg12 : Memref sig .tc .vmem S7296x8x128 .f32) (harg12 : arg12.IsWhole)

set_option maxRecDepth 100000 in
set_option maxHeartbeats 0 in
/-- A trip of phase A is the structured trip: tiles into the first slab, visits from the second. -/
theorem t2_body (arg0 : BitVec 32) (t : Fin k0_t2_loop.trips) :
    k0_t2_body (F := F) i arg1 harg1 arg2 harg2 arg3 harg3 arg4 harg4 arg5 harg5 arg6 harg6 arg7 harg7 arg8 harg8 arg9 harg9 arg10 harg10 arg11 harg11 arg12 harg12 arg0 t ()
      = Cert.Trip.trip arg1 arg2 arg3 arg5 arg7 arg10 arg11 arg12 (blkA i) ⟨t.val, trips2 ▸ t.isLt⟩ (Cert.Trip.plain _ _) := by
  rfl

set_option maxRecDepth 100000 in
set_option maxHeartbeats 0 in
/-- A trip of phase B is the structured trip: tiles into the second slab, visits from the first. -/
theorem t5_body (arg0 : BitVec 32) (h3 : k0_cond3 i = 1#1) (t : Fin k0_t5_loop.trips) :
    k0_t5_body (F := F) i arg1 harg1 arg2 harg2 arg3 harg3 arg4 harg4 arg5 harg5 arg6 harg6 arg7 harg7 arg8 harg8 arg9 harg9 arg10 harg10 arg11 harg11 arg12 harg12 arg0 h3 t ()
      = Cert.Trip.trip arg1 arg2 arg4 arg6 arg7 arg11 arg10 arg12 (blkB i) ⟨t.val, trips5 ▸ t.isLt⟩ (Cert.Trip.guarded (k0_cond3 i = 1#1) h3 _ _) := by
  rfl

/-- The accumulator seen as rows of 128 lanes. -/
abbrev flat (arg12 : Memref sig .tc .vmem S7296x8x128 .f32) (harg12 : arg12.IsWhole) : Memref sig .tc .vmem S58368x128 .f32 :=
  arg12.reshape S58368x128 reshapes_S7296x8x128_S58368x128.1 reshapes_S7296x8x128_S58368x128.2 harg12.contiguous

set_option maxRecDepth 100000 in
set_option maxHeartbeats 0 in
/-- A trip of the finish is the structured finish. -/
theorem t3_body (h2 : k0_cond2 i = 1#1) (t : Fin k0_t3_loop.trips) :
    k0_t3_body (F := F) i arg1 harg1 arg2 harg2 arg3 harg3 arg4 harg4 arg5 harg5 arg6 harg6 arg7 harg7 arg8 harg8 arg9 harg9 arg10 harg10 arg11 harg11 arg12 harg12 h2 t ()
      = Cert.Trip.finC (flat arg12 harg12) arg8 arg9 ⟨t.val, trips3 ▸ t.isLt⟩ := by
  rfl

theorem trips1 : k0_t1_loop.trips = 2304 := by decide
theorem trips4 : k0_t4_loop.trips = 912 := by decide

/-- A trip of the loop that zeros the second slab. -/
theorem t1_body (h1 : k0_cond1 i = 1#1) (t : Fin k0_t1_loop.trips) :
    k0_t1_body (F := F) i arg1 harg1 arg2 harg2 arg3 harg3 arg4 harg4 arg5 harg5 arg6 harg6 arg7 harg7 arg8 harg8 arg9 harg9 arg10 harg10 arg11 harg11 arg12 harg12 h1 t ()
      = Cert.Trip.zslabC arg11 ⟨t.val, trips1 ▸ t.isLt⟩ := by
  rfl

/-- A trip of the loop that zeros the accumulator. -/
theorem t4_body (h2 : k0_cond2 i = 1#1) (t : Fin k0_t4_loop.trips) :
    k0_t4_body (F := F) i arg1 harg1 arg2 harg2 arg3 harg3 arg4 harg4 arg5 harg5 arg6 harg6 arg7 harg7 arg8 harg8 arg9 harg9 arg10 harg10 arg11 harg11 arg12 harg12 h2 t ()
      = Cert.Trip.zaccC arg12 ⟨t.val, trips4 ▸ t.isLt⟩ := by
  rfl

set_option maxRecDepth 100000 in
set_option maxHeartbeats 0 in
/-- The call's body at grid point `i` is the structured grid point. -/
theorem main_eq :
    cc0_srht_main (F := F) i arg1 harg1 arg2 harg2 arg3 harg3 arg4 harg4 arg5 harg5 arg6 harg6 arg7 harg7 arg8 harg8 arg9 harg9 arg10 harg10 arg11 harg11 arg12 harg12
      = Cert.Trip.pointC arg1 arg2 arg3 arg4 arg5 arg6 arg7 arg8 arg9 arg10 arg11 arg12 harg12.contiguous
          (k0_cond1 i = 1#1) (k0_cond2 i = 1#1) (k0_cond3 i = 1#1) (blkA i) (blkB i) := by
  rw [cc0_srht_main_eq_skeleton]
  unfold cc0_srht_main_skel
  have e1 : ∀ h1, k0_t1_body (F := F) i arg1 harg1 arg2 harg2 arg3 harg3 arg4 harg4 arg5 harg5 arg6 harg6 arg7 harg7 arg8 harg8 arg9 harg9 arg10 harg10 arg11 harg11 arg12 harg12 h1 = fun t _ => Cert.Trip.zslabC arg11 ⟨t.val, trips1 ▸ t.isLt⟩ :=
    fun h1 => funext fun t => funext fun _ => t1_body i arg1 harg1 arg2 harg2 arg3 harg3 arg4 harg4 arg5 harg5 arg6 harg6 arg7 harg7 arg8 harg8 arg9 harg9 arg10 harg10 arg11 harg11 arg12 harg12 h1 t
  have e2 : ∀ a0, k0_t2_body (F := F) i arg1 harg1 arg2 harg2 arg3 harg3 arg4 harg4 arg5 harg5 arg6 harg6 arg7 harg7 arg8 harg8 arg9 harg9 arg10 harg10 arg11 harg11 arg12 harg12 a0 = fun t _ => Cert.Trip.trip arg1 arg2 arg3 arg5 arg7 arg10 arg11 arg12 (blkA i) ⟨t.val, trips2 ▸ t.isLt⟩ (Cert.Trip.plain _ _) :=
    fun a0 => funext fun t => funext fun _ => t2_body i arg1 harg1 arg2 harg2 arg3 harg3 arg4 harg4 arg5 harg5 arg6 harg6 arg7 harg7 arg8 harg8 arg9 harg9 arg10 harg10 arg11 harg11 arg12 harg12 a0 t
  have e3 : ∀ h2, k0_t3_body (F := F) i arg1 harg1 arg2 harg2 arg3 harg3 arg4 harg4 arg5 harg5 arg6 harg6 arg7 harg7 arg8 harg8 arg9 harg9 arg10 harg10 arg11 harg11 arg12 harg12 h2 = fun t _ => Cert.Trip.finC (flat arg12 harg12) arg8 arg9 ⟨t.val, trips3 ▸ t.isLt⟩ :=
    fun h2 => funext fun t => funext fun _ => t3_body i arg1 harg1 arg2 harg2 arg3 harg3 arg4 harg4 arg5 harg5 arg6 harg6 arg7 harg7 arg8 harg8 arg9 harg9 arg10 harg10 arg11 harg11 arg12 harg12 h2 t
  have e4 : ∀ h2, k0_t4_body (F := F) i arg1 harg1 arg2 harg2 arg3 harg3 arg4 harg4 arg5 harg5 arg6 harg6 arg7 harg7 arg8 harg8 arg9 harg9 arg10 harg10 arg11 harg11 arg12 harg12 h2 = fun t _ => Cert.Trip.zaccC arg12 ⟨t.val, trips4 ▸ t.isLt⟩ :=
    fun h2 => funext fun t => funext fun _ => t4_body i arg1 harg1 arg2 harg2 arg3 harg3 arg4 harg4 arg5 harg5 arg6 harg6 arg7 harg7 arg8 harg8 arg9 harg9 arg10 harg10 arg11 harg11 arg12 harg12 h2 t
  have e5 : ∀ a0 h3, k0_t5_body (F := F) i arg1 harg1 arg2 harg2 arg3 harg3 arg4 harg4 arg5 harg5 arg6 harg6 arg7 harg7 arg8 harg8 arg9 harg9 arg10 harg10 arg11 harg11 arg12 harg12 a0 h3 = fun t _ => Cert.Trip.trip arg1 arg2 arg4 arg6 arg7 arg11 arg10 arg12 (blkB i) ⟨t.val, trips5 ▸ t.isLt⟩ (Cert.Trip.guarded (k0_cond3 i = 1#1) h3 _ _) :=
    fun a0 h3 => funext fun t => funext fun _ => t5_body i arg1 harg1 arg2 harg2 arg3 harg3 arg4 harg4 arg5 harg5 arg6 harg6 arg7 harg7 arg8 harg8 arg9 harg9 arg10 harg10 arg11 harg11 arg12 harg12 a0 h3 t
  simp only [e1, e2, e3, e4, e5]
  clear e1 e2 e3 e4 e5
  unfold Cert.Trip.pointC Cert.Trip.stage1C Cert.Trip.stage3C Cert.Trip.stage4C
  by_cases h1 : k0_cond1 i = 1#1 <;> by_cases h2 : k0_cond2 i = 1#1 <;> by_cases h3 : k0_cond3 i = 1#1
  · rw [dif_pos h1, dif_pos h2, dif_pos h3, if_pos h1, if_pos h2, dif_pos h3]; rfl
  · rw [dif_pos h1, dif_pos h2, dif_neg h3, if_pos h1, if_pos h2, dif_neg h3]; rfl
  · rw [dif_pos h1, dif_neg h2, dif_pos h3, if_pos h1, if_neg h2, dif_pos h3]; rfl
  · rw [dif_pos h1, dif_neg h2, dif_neg h3, if_pos h1, if_neg h2, dif_neg h3]; rfl
  · rw [dif_neg h1, dif_pos h2, dif_pos h3, if_neg h1, if_pos h2, dif_pos h3]; rfl
  · rw [dif_neg h1, dif_pos h2, dif_neg h3, if_neg h1, if_pos h2, dif_neg h3]; rfl
  · rw [dif_neg h1, dif_neg h2, dif_pos h3, if_neg h1, if_neg h2, dif_pos h3]; rfl
  · rw [dif_neg h1, dif_neg h2, dif_neg h3, if_neg h1, if_neg h2, dif_neg h3]; rfl

end Cert.Kernel.Own
-- ==== Proof.Facts.lean ====
module

public import proofs.«01_k».proof.Proof.Point

@[expose] public section

/-! # Every word the kernel reads keeps it in bounds -/

noncomputable section

namespace Cert.Trip

open Idealize.ShloMosaic Idealize.SL.Sem

/-- The lowest bit of a word is 0 or 1. -/
theorem and_one_cases (x : BitVec 32) : ∃ s : Fin 2, Scalar.andi x 1#32 = BitVec.ofNat 32 s.val := by
  have h : (Scalar.andi x 1#32).toNat = x.toNat % 2 := by
    show (x &&& 1#32).toNat = _
    rw [BitVec.toNat_and]
    exact Nat.and_two_pow_sub_one_eq_mod x.toNat 1
  refine ⟨⟨x.toNat % 2, Nat.mod_lt _ (by omega)⟩, BitVec.eq_of_toNat_eq ?_⟩
  rw [h, BitVec.toNat_ofNat]
  show _ = (x.toNat % 2) % 2 ^ 32
  omega

theorem acc_bound : ∀ (g : Fin 3) (s : Fin 2) (n : Fin 8) (k : Fin 38) (u : Fin 4),
    (Scalar.indexCast (Scalar.addi (Scalar.addi
      (Scalar.muli (Scalar.addi (Scalar.muli (BitVec.ofNat 32 g.val) 2#32) (BitVec.ofNat 32 s.val)) 1216#32)
      (Scalar.muli (gix n.val k.val) 4#32)) (BitVec.ofNat 32 u.val))).toNat
      = (g.val * 2 + s.val) * 1216 + (n.val * 38 + k.val) * 4 + u.val := by decide +kernel

/-- Where a visit adds: the row of the accumulator, by the half-block's group and the class word's bit. -/
theorem accOff_eq {b : BitVec 32} {g : Fin 3} (hg : Scalar.remsi b 3#32 = BitVec.ofNat 32 g.val) {w : BitVec 32} {s : Fin 2}
    (hs : Scalar.andi (Scalar.shrui w (oOf b)) 1#32 = BitVec.ofNat 32 s.val) (n : Fin 8) (k : Fin 38) (u : Fin 4) :
    accOff b n.val k.val w (BitVec.ofNat 32 u.val) = ![(g.val * 2 + s.val) * 1216 + (n.val * 38 + k.val) * 4 + u.val, 0, 0] := by
  unfold accOff accRow
  rw [hg, hs, acc_bound]

theorem accOff_inb {b : BitVec 32} {g : Fin 3} (hg : Scalar.remsi b 3#32 = BitVec.ofNat 32 g.val) (w : BitVec 32)
    (n : Fin 8) (k : Fin 38) (u : Fin 4) : ∀ a, accOff b n.val k.val w (BitVec.ofNat 32 u.val) a + S1x8x128.size a ≤ S7296x8x128.size a := by
  obtain ⟨s, hs⟩ := and_one_cases (Scalar.shrui w (oOf b))
  rw [accOff_eq hg hs]
  intro a
  have h1 := g.isLt; have h2 := s.isLt; have h3 := n.isLt; have h4 := k.isLt; have h5 := u.isLt
  match a with
  | 0 => show (g.val * 2 + s.val) * 1216 + (n.val * 38 + k.val) * 4 + u.val + 1 ≤ 7296; omega
  | 1 => show 0 + 8 ≤ 8; omega
  | 2 => show 0 + 128 ≤ 128; omega

theorem clsOk_of {b : BitVec 32} (hb : ∃ g : Fin 3, Scalar.remsi b 3#32 = BitVec.ofNat 32 g.val) (n : Fin 8) (k : Fin 38) (w : BitVec 32) :
    clsOk b n.val k.val w := by
  obtain ⟨g, hg⟩ := hb
  exact ⟨accOff_inb hg w n k 0, accOff_inb hg w n k 1, accOff_inb hg w n k 2, accOff_inb hg w n k 3, fun u => accOff_inb hg w n k u⟩

/-- A row word up to 18424 names eight rows of the slab. -/
theorem rowOk_of {v : BitVec 32} (h : v.toNat ≤ 18424) : rowOk v := by
  intro a
  match a with
  | 0 => show (Scalar.indexCast v).toNat + 8 ≤ 18432
         have : (Scalar.indexCast v).toNat ≤ v.toNat := by
           show (v.setWidth _).toNat ≤ _
           rw [BitVec.toNat_setWidth]
           exact Nat.mod_le _ _
         omega
  | 1 => show 0 + 128 ≤ 128; omega

/-- The row word the program computes from a slot's transform index. -/
def rowWord (x : BitVec 32) : BitVec 32 :=
  let row := ((x.sshiftRight' 15#32 &&& 7#32) * 256#32 + ((x &&& 127#32) ||| ((x.sshiftRight' 9#32 &&& 1#32) <<< 7#32))) * 9#32
  let code := (((x.sshiftRight' 12#32 &&& 7#32) <<< 4#32) ||| ((x.sshiftRight' 10#32 &&& 3#32) <<< 2#32)) ||| (x.sshiftRight' 7#32 &&& 3#32)
  (row * 128#32 + code).sshiftRight' 7#32

theorem and7 (y : BitVec 32) : (y &&& 7#32).toNat < 8 := by
  rw [BitVec.toNat_and]; exact lt_of_le_of_lt Nat.and_le_right (by decide)

/-- The row word, as a number: nine times the slab row before padding. -/
theorem rowWord_toNat (x : BitVec 32) : (rowWord x).toNat =
    ((x.sshiftRight' 15#32 &&& 7#32).toNat * 256 + ((x &&& 127#32) ||| ((x.sshiftRight' 9#32 &&& 1#32) <<< 7#32)).toNat) * 9 := by
  unfold rowWord
  have ha := and7 (x.sshiftRight' 15#32)
  have hb : ((x &&& 127#32) ||| ((x.sshiftRight' 9#32 &&& 1#32) <<< 7#32)).toNat < 2 ^ 8 := by
    rw [BitVec.toNat_or]
    refine Nat.or_lt_two_pow ?_ ?_
    · rw [BitVec.toNat_and]; exact lt_of_le_of_lt Nat.and_le_right (by decide)
    · obtain ⟨s, hs⟩ := and_one_cases (x.sshiftRight' 9#32)
      have hs' : x.sshiftRight' 9#32 &&& 1#32 = BitVec.ofNat 32 s.val := hs
      rw [hs']
      clear hs hs'
      revert s; decide
  have hc : ((((x.sshiftRight' 12#32 &&& 7#32) <<< 4#32) ||| ((x.sshiftRight' 10#32 &&& 3#32) <<< 2#32)) ||| (x.sshiftRight' 7#32 &&& 3#32)).toNat < 2 ^ 7 := by
    have h4 : ∀ y : BitVec 32, ∃ s : Fin 4, y &&& 3#32 = BitVec.ofNat 32 s.val := fun y =>
      ⟨⟨(y &&& 3#32).toNat, by rw [BitVec.toNat_and]; exact lt_of_le_of_lt Nat.and_le_right (by decide)⟩, by simp⟩
    have h8 : ∃ s : Fin 8, x.sshiftRight' 12#32 &&& 7#32 = BitVec.ofNat 32 s.val :=
      ⟨⟨(x.sshiftRight' 12#32 &&& 7#32).toNat, and7 _⟩, by simp⟩
    obtain ⟨s, hs⟩ := h8
    obtain ⟨s', hs'⟩ := h4 (x.sshiftRight' 10#32)
    obtain ⟨s'', hs''⟩ := h4 (x.sshiftRight' 7#32)
    rw [hs, hs', hs'']
    clear hs hs' hs''
    revert s s' s''; decide
  generalize (x.sshiftRight' 15#32 &&& 7#32) = a at *
  generalize ((x &&& 127#32) ||| ((x.sshiftRight' 9#32 &&& 1#32) <<< 7#32)) = b at *
  generalize ((((x.sshiftRight' 12#32 &&& 7#32) <<< 4#32) ||| ((x.sshiftRight' 10#32 &&& 3#32) <<< 2#32)) ||| (x.sshiftRight' 7#32 &&& 3#32)) = d at *
  have hm : ((a * 256#32 + b) * 9#32 * 128#32 + d).toNat = (a.toNat * 256 + b.toNat) * 9 * 128 + d.toNat := by
    simp only [BitVec.toNat_add, BitVec.toNat_mul, BitVec.toNat_ofNat]
    omega
  show (BitVec.sshiftRight' _ 7#32).toNat = _
  have hmsb : ((a * 256#32 + b) * 9#32 * 128#32 + d).msb = false := by
    rw [BitVec.msb_eq_false_iff_two_mul_lt, hm]; omega
  show (BitVec.sshiftRight _ (7#32).toNat).toNat = _
  rw [BitVec.sshiftRight_eq_of_msb_false hmsb, BitVec.toNat_ushiftRight, hm]
  show (_ : Nat) >>> 7 = _
  rw [Nat.shiftRight_eq_div_pow]
  omega

theorem rowWord_ok (x : BitVec 32) : rowOk (rowWord x) := by
  refine rowOk_of ?_
  rw [rowWord_toNat]
  have ha := and7 (x.sshiftRight' 15#32)
  have hb : ((x &&& 127#32) ||| ((x.sshiftRight' 9#32 &&& 1#32) <<< 7#32)).toNat < 2 ^ 8 := by
    rw [BitVec.toNat_or]
    refine Nat.or_lt_two_pow ?_ ?_
    · rw [BitVec.toNat_and]; exact lt_of_le_of_lt Nat.and_le_right (by decide)
    · obtain ⟨s, hs⟩ := and_one_cases (x.sshiftRight' 9#32)
      have hs' : x.sshiftRight' 9#32 &&& 1#32 = BitVec.ofNat 32 s.val := hs
      rw [hs']
      clear hs hs'
      revert s; decide
  omega

end Cert.Trip
-- ==== Proof.Run.lean ====
module

public import proofs.«01_k».proof.Proof.Gen.Kernel.Launch
public import proofs.«01_k».proof.Proof.Refold
public import proofs.«01_k».proof.Proof.Facts
public import Idealize.ShloMosaic.Lib.Pipeline.FrameBody
public import Idealize.ShloMosaic.Lib.Pipeline.ArrRel
public import Idealize.ShloMosaic.Lib.Claim
public import Idealize.ShloMosaic.Adequacy
public import Idealize.ShloMosaic.Init

@[expose] public section

/-! # The run of the whole program

The host operations before the call, the words the call reads in scalar memory, the body obligation of
the pipeline from the structured grid point, and the run. -/

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄G" => MT nD τ sig Unit (Elt F) ℕ (UR sig nD τ) ℕ

/-- The contents of memory when the call starts. -/
abbrev V (m : (ℓ : Loc nD τ sig) → Buf (Elt F) ℓ) (c : Dev nD) (b : Ref sig .tc) : Buf (Elt F) ((c.tc : Thread nD τ).loc b) :=
  StableHlo.after (hostOps0 (F := F)) (fun b => m (c, b)) b

theorem V_rows (m : (ℓ : Loc nD τ sig) → Buf (Elt F) ℓ) (c : Dev nD) :
    (V m c main_v60 : S1216.Idx → BitVec 32) = fun j => Cert.Trip.rowWord ((m (c, main_arg3) : S1216.Idx → BitVec 32) j) := by
  unfold_abbrev_sides
  after_results
  rfl

theorem rows_ok (m : (ℓ : Loc nD τ sig) → Buf (Elt F) ℓ) (c : Dev nD) :
    ∀ j, Cert.Trip.rowOk ((V m c main_v60 : S1216.Idx → BitVec 32) j) := by
  rw [V_rows]; exact fun j => Cert.Trip.rowWord_ok _

/-- The tables' contents at the call. -/
def adm (m : (ℓ : Loc nD τ sig) → Buf (Elt F) ℓ) : (p : Fin 1) → (pcfgs (F := F) p).Adm :=
  fun _ => ⟨fun k => V m 0 (pre0.ref k), trivial⟩

/-- The pipeline at those tables. -/
abbrev cfgM (m : (ℓ : Loc nD τ sig) → Buf (Elt F) ℓ) : Pipeline.Cfg sig Λ₀ := Pipeline.pin (pcfgs (F := F)) (adm m) 0

theorem blkA_ok : ∀ t : Fin 73, ∃ g : Fin 3, Scalar.remsi (blkA (grid0.coords t)) 3#32 = BitVec.ofNat 32 g.val := by decide +kernel
theorem blkB_ok : ∀ t : Fin 73, ∃ g : Fin 3, Scalar.remsi (blkB (grid0.coords t)) 3#32 = BitVec.ofNat 32 g.val := by decide +kernel

variable (m : (ℓ : Loc nD τ sig) → Buf (Elt F) ℓ) (c : Dev nD)

/-- What input window `w` holds at grid point `t`: its block of the array. -/
def inW (w : Fin 7) (t : Fin (cfgM m).N) : ((cfgM m).win w).block.Idx → Elt F ((cfgM m).win w).elt :=
  ((cfgM m).win w).fill ((cfgM m).grid.coords t) (fun _ => Classical.arbitrary _)
    ((((cfgM m).win w).blk t).view.read (Elt F) (V m c (Pipeline.arrRef (cfgM m).spec w)))

/-- The scratch after grid point `t`, from the scratch before it. -/
def stNext (t : Fin 73) (s : Cert.Trip.St F) : Cert.Trip.St F :=
  Cert.Trip.pointV (k0_cond1 (grid0.coords t) = 1#1) (k0_cond2 (grid0.coords t) = 1#1) (k0_cond3 (grid0.coords t) = 1#1)
    (Cert.Trip.clsOk_of (blkA_ok t)) (Cert.Trip.clsOk_of (blkB_ok t))
    (V m c main_v60) (rows_ok m c) (V m c main_v75)
    (inW m c 0 t) (inW m c 1 t) (inW m c 2 t) (inW m c 3 t) (inW m c 4 t) s

/-- The output block after grid point `t`, from the scratch before it and the block it finds. -/
def outNext (t : Fin 73) (s : Cert.Trip.St F) (O : S1216x384.Idx → F .f32) : S1216x384.Idx → F .f32 :=
  Cert.Trip.pointO (k0_cond1 (grid0.coords t) = 1#1) (k0_cond2 (grid0.coords t) = 1#1)
    (Cert.Trip.clsOk_of (blkA_ok t))
    (V m c main_v60) (rows_ok m c) (V m c main_v75)
    (inW m c 0 t) (inW m c 2 t) (inW m c 4 t) (inW m c 5 t) s O

/-- The scratch before grid point `t`, from the scratch before the first. -/
def stAt (s : Cert.Trip.St F) (t : Nat) : Cert.Trip.St F := Cert.Trip.runT (N := 73) (stNext m c) t s

/-- What the body leaves in each window's buffer. -/
def aft (w : Fin 7) (t : Fin (cfgM m).N) :
    (Y X : ((cfgM m).win w).block.Idx → Elt F ((cfgM m).win w).elt) → Prop :=
  match w with
  | 0 => fun Y X => X = Y
  | 1 => fun Y X => X = Y
  | 2 => fun Y X => X = Y
  | 3 => fun Y X => X = Y
  | 4 => fun Y X => X = Y
  | 5 => fun Y X => X = Y
  | 6 => fun Y X => ∃ s, X = outNext m c t (stAt m c s t.val) Y

/-- The proof data of the pipeline. -/
def rd : Pipeline.RDat τ (Elt F) Unit ℕ (UR sig nD τ) ℕ (cfgM m) c where
  A w := V m c (Pipeline.arrRef (cfgM m).spec w)
  after := aft m c
  Φ t := iprop(Pipeline.ΦT (Val := Elt F) pre0 (adm m 0).1 c ∗ (∃ r, prngReg c r)
    ∗ ∃ s, Cert.Trip.scr c (Memref.whole cc0_scratch0) (Memref.whole cc0_scratch1) (Memref.whole cc0_scratch2) (stAt m c s t.val))
  q w := Pipeline.shareOf (cfgM m).spec w
  owed _ := 0

theorem clip_none (w : Fin 7) (i : (cfgM m).grid.Coords) (a) : ((cfgM m).win w).clip i a = none := rfl

theorem finds_in (w : Fin 7) (hw : ((cfgM m).win w).isOut = false) (hk : ∀ t Y X, aft m c w t Y X → X = Y) (t : Fin (cfgM m).N) (Y)
    (h : (rd m c).Finds w t Y) : Y = inW m c w t := by
  obtain ⟨d, rfl⟩ := (rd m c).finds_in_eq_fetched w hw (fun _ _ _ => rfl) hk t Y h
  exact Pipeline.fill_of_clip_none (cfg := cfgM m) w ((cfgM m).grid.coords t) (clip_none m w _) _ _ _

theorem in_of (w : Fin 7) (hw : ((cfgM m).win w).isOut = false) (hk : ∀ t Y X, aft m c w t Y X → X = Y) {t : Fin (cfgM m).N}
    {Y : (w : Fin 7) → ((cfgM m).win w).block.Idx → Elt F ((cfgM m).win w).elt} (h : ∀ w, (rd m c).Finds w t (Y w)) : Y w = inW m c w t :=
  finds_in m c w hw hk t _ (h w)

instance : Subsingleton (Dev nD) := ⟨fun a b => Fin.ext (by have := a.isLt; have := b.isLt; simp only [nD] at *; omega)⟩

set_option maxRecDepth 20000 in
set_option maxHeartbeats 2000000 in
/-- The two tables, as the body holds them. -/
theorem tables_eq : (Pipeline.ΦT (Val := Elt F) (U := UR sig nD τ) pre0 (adm m 0).1 c : sProp 𝕄G)
    = iprop(Cert.Trip.owns c (Memref.whole main_v60) fullShare.right (V m c main_v60)
        ∗ Cert.Trip.owns c (Memref.whole main_v75) fullShare.right (V m c main_v75)) := by
  obtain rfl : c = 0 := Subsingleton.elim _ _
  unfold Pipeline.ΦT Pipeline.prefHeld
  rw [show (Cert.Trip.owns 0 (Memref.whole main_v60) fullShare.right (V m 0 main_v60) : sProp 𝕄G) = _ from
    owns_whole ((0 : Dev nD) : Thread nD τ) main_v60 fullShare.right (V m 0 main_v60),
    show (Cert.Trip.owns 0 (Memref.whole main_v75) fullShare.right (V m 0 main_v75) : sProp 𝕄G) = _ from
    owns_whole ((0 : Dev nD) : Thread nD τ) main_v75 fullShare.right (V m 0 main_v75)]
  exact bigSep_univ_eq_bigSepL [(0 : Fin 2), (1 : Fin 2)] (by decide) (by decide) _

theorem stAt_succ (s : Cert.Trip.St F) (t : Fin 73) : stAt m c s (t.val + 1) = stNext m c t (stAt m c s t.val) := by
  show (if h : t.val < 73 then _ else _) = _
  rw [dif_pos t.isLt]
  rfl

theorem body : (rd m c).BodyObligation defs₀ Variants.none () Set.univ := by
  intro t Y hY
  have e0 := in_of m c 0 rfl (fun _ _ _ h => h) hY
  have e1 := in_of m c 1 rfl (fun _ _ _ h => h) hY
  have e2 := in_of m c 2 rfl (fun _ _ _ h => h) hY
  have e3 := in_of m c 3 rfl (fun _ _ _ h => h) hY
  have e4 := in_of m c 4 rfl (fun _ _ _ h => h) hY
  have e5 := in_of m c 5 rfl (fun _ _ _ h => h) hY
  have hm : defs₀ (F := F) .tc (cfgM m).body ((cfgM m).bodyArgs t ((cfgM m).slots t)) = _ :=
    main_eq (F := F) (grid0.coords t) (Memref.whole main_v60) (Memref.isWhole_whole _) (Memref.whole main_v75) (Memref.isWhole_whole _)
      (spec0_0.stage (((cfgM m).slots t) 0)) (hstage0_0 ((((cfgM m).slots t) 0).cast nbuf0_0))
      (spec0_1.stage (((cfgM m).slots t) 1)) (hstage0_1 ((((cfgM m).slots t) 1).cast nbuf0_1))
      (spec0_2.stage (((cfgM m).slots t) 2)) (hstage0_2 ((((cfgM m).slots t) 2).cast nbuf0_2))
      (spec0_3.stage (((cfgM m).slots t) 3)) (hstage0_3 ((((cfgM m).slots t) 3).cast nbuf0_3))
      (spec0_4.stage (((cfgM m).slots t) 4)) (hstage0_4 ((((cfgM m).slots t) 4).cast nbuf0_4))
      (spec0_5.stage (((cfgM m).slots t) 5)) (hstage0_5 ((((cfgM m).slots t) 5).cast nbuf0_5))
      (spec0_6.stage (((cfgM m).slots t) 6)) (hstage0_6 ((((cfgM m).slots t) 6).cast nbuf0_6))
      (Memref.whole cc0_scratch0) (Memref.isWhole_whole _) (Memref.whole cc0_scratch1) (Memref.isWhole_whole _) (Memref.whole cc0_scratch2) (Memref.isWhole_whole _)
  rw [hm, bigSep_W0, bigSep_W0, e0, e1, e2, e3, e4, e5]
  clear hm
  show iprop((Pipeline.ΦT (Val := Elt F) pre0 (adm m 0).1 c ∗ (∃ r, prngReg c r)
    ∗ ∃ s, Cert.Trip.scr c (Memref.whole cc0_scratch0) (Memref.whole cc0_scratch1) (Memref.whole cc0_scratch2) (stAt m c s t.val))
    ∗ (rd m c).owesAt () t.castSucc
    ∗ Cert.Trip.owns c (spec0_0.stage (((cfgM m).slots t) 0)) fullShare (inW m c 0 t)
    ∗ Cert.Trip.owns c (spec0_1.stage (((cfgM m).slots t) 1)) fullShare (inW m c 1 t)
    ∗ Cert.Trip.owns c (spec0_2.stage (((cfgM m).slots t) 2)) fullShare (inW m c 2 t)
    ∗ Cert.Trip.owns c (spec0_3.stage (((cfgM m).slots t) 3)) fullShare (inW m c 3 t)
    ∗ Cert.Trip.owns c (spec0_4.stage (((cfgM m).slots t) 4)) fullShare (inW m c 4 t)
    ∗ Cert.Trip.owns c (spec0_5.stage (((cfgM m).slots t) 5)) fullShare (inW m c 5 t)
    ∗ Cert.Trip.owns c (spec0_6.stage (((cfgM m).slots t) 6)) fullShare (Y 6))
    ⊢ wp _ _ _ _ fun _ => iprop((Pipeline.ΦT (Val := Elt F) pre0 (adm m 0).1 c ∗ (∃ r, prngReg c r)
    ∗ ∃ s, Cert.Trip.scr c (Memref.whole cc0_scratch0) (Memref.whole cc0_scratch1) (Memref.whole cc0_scratch2) (stAt m c s (t.val + 1)))
    ∗ (rd m c).owesAt () t.succ
    ∗ (∃ X, ⌜aft m c 0 t (inW m c 0 t) X⌝ ∗ Cert.Trip.owns c (spec0_0.stage (((cfgM m).slots t) 0)) fullShare X)
    ∗ (∃ X, ⌜aft m c 1 t (inW m c 1 t) X⌝ ∗ Cert.Trip.owns c (spec0_1.stage (((cfgM m).slots t) 1)) fullShare X)
    ∗ (∃ X, ⌜aft m c 2 t (inW m c 2 t) X⌝ ∗ Cert.Trip.owns c (spec0_2.stage (((cfgM m).slots t) 2)) fullShare X)
    ∗ (∃ X, ⌜aft m c 3 t (inW m c 3 t) X⌝ ∗ Cert.Trip.owns c (spec0_3.stage (((cfgM m).slots t) 3)) fullShare X)
    ∗ (∃ X, ⌜aft m c 4 t (inW m c 4 t) X⌝ ∗ Cert.Trip.owns c (spec0_4.stage (((cfgM m).slots t) 4)) fullShare X)
    ∗ (∃ X, ⌜aft m c 5 t (inW m c 5 t) X⌝ ∗ Cert.Trip.owns c (spec0_5.stage (((cfgM m).slots t) 5)) fullShare X)
    ∗ (∃ X, ⌜aft m c 6 t (Y 6) X⌝ ∗ Cert.Trip.owns c (spec0_6.stage (((cfgM m).slots t) 6)) fullShare X))
  rw [tables_eq]
  iintro ⟨⟨⟨Ht1, Ht2⟩, Hp, ⟨%s, Hs⟩⟩, Hw, H0, H1, H2, H3, H4, H5, H6⟩
  iapply (Cert.Trip.pointC_wp c Variants.none none Set.univ
    (k0_cond1 (grid0.coords t) = 1#1) (k0_cond2 (grid0.coords t) = 1#1) (k0_cond3 (grid0.coords t) = 1#1)
    (Cert.Trip.clsOk_of (blkA_ok t)) (Cert.Trip.clsOk_of (blkB_ok t))
    (V m c main_v60) (rows_ok m c) (V m c main_v75)
    (inW m c 0 t) (inW m c 1 t) (inW m c 2 t) (inW m c 3 t) (inW m c 4 t) (inW m c 5 t) (stAt m c s t.val) (Y 6)
    (qr := fullShare.right) (qc := fullShare.right) (qx1 := fullShare) (qx2 := fullShare) (qr1 := fullShare) (qr2 := fullShare)
    (qh := fullShare) (qk := fullShare)) $$ [Ht1 Ht2 Hs H0 H1 H2 H3 H4 H5 H6]
  · unfold Cert.Trip.inp
    isplitl [Ht1 Ht2 H0 H1 H2 H3 H4 H5]
    · isplitl [Ht1]
      · iexact Ht1
      isplitl [Ht2]
      · iexact Ht2
      isplitl [H0]
      · iexact H0
      isplitl [H1]
      · iexact H1
      isplitl [H2]
      · iexact H2
      isplitl [H3]
      · iexact H3
      isplitl [H4]
      · iexact H4
      · iexact H5
    isplitl [Hs]
    · iexact Hs
    · iexact H6
  unfold Cert.Trip.inp
  iintro ⟨⟨Ht1, Ht2, H0, H1, H2, H3, H4, H5⟩, Hs, H6⟩
  isplitl [Ht1 Ht2 Hp Hs]
  · isplitl [Ht1 Ht2]
    · isplitl [Ht1]
      · iexact Ht1
      · iexact Ht2
    isplitl [Hp]
    · iexact Hp
    iexists s
    iapply (show (Cert.Trip.scr c (Memref.whole cc0_scratch0) (Memref.whole cc0_scratch1) (Memref.whole cc0_scratch2) (stNext m c t (stAt m c s t.val)) : sProp 𝕄G)
      ⊢ Cert.Trip.scr c (Memref.whole cc0_scratch0) (Memref.whole cc0_scratch1) (Memref.whole cc0_scratch2) (stAt m c s (t.val + 1)) from by
        rw [stAt_succ m c s t]) $$ [Hs]
    iexact Hs
  isplitl [Hw]
  · iexact Hw
  isplitl [H0]
  · iexists (inW m c 0 t)
    isplitr
    · ipureintro; rfl
    iexact H0
  isplitl [H1]
  · iexists (inW m c 1 t)
    isplitr
    · ipureintro; rfl
    iexact H1
  isplitl [H2]
  · iexists (inW m c 2 t)
    isplitr
    · ipureintro; rfl
    iexact H2
  isplitl [H3]
  · iexists (inW m c 3 t)
    isplitr
    · ipureintro; rfl
    iexact H3
  isplitl [H4]
  · iexists (inW m c 4 t)
    isplitr
    · ipureintro; rfl
    iexact H4
  isplitl [H5]
  · iexists (inW m c 5 t)
    isplitr
    · ipureintro; rfl
    iexact H5
  iexists _
  isplitr
  rotate_left
  · iexact H6
  · ipureintro
    exact ⟨s, rfl⟩

/-- The scoped rest of the launch and the tables are the invariant before the first point. -/
theorem start : iprop(Pipeline.ΦA (cfgM m).spec c ∗ Pipeline.ΦT (Val := Elt F) pre0 (adm m 0).1 c) ⊢ (rd m c).Φ 0 := by
  show iprop((Pipeline.scopedRest spec0 c ∗ ∃ r, prngReg c r) ∗ Pipeline.ΦT (Val := Elt F) pre0 (adm m 0).1 c)
    ⊢ (iprop(Pipeline.ΦT (Val := Elt F) pre0 (adm m 0).1 c ∗ (∃ r, prngReg c r)
    ∗ ∃ s, Cert.Trip.scr c (Memref.whole cc0_scratch0) (Memref.whole cc0_scratch1) (Memref.whole cc0_scratch2) s) : sProp 𝕄G)
  rw [scopedRest0_eq]
  iintro ⟨⟨⟨⟨%fa, Ha⟩, ⟨%fb, Hb⟩, ⟨%fc, Hc⟩⟩, Hp⟩, Ht⟩
  isplitl [Ht]
  · iexact Ht
  isplitl [Hp]
  · iexact Hp
  iexists (⟨fa, fb, fc⟩ : Cert.Trip.St F)
  unfold Cert.Trip.scr
  isplitl [Ha]
  · iapply (Entails.of_eq (owns_whole (c : Thread nD τ) cc0_scratch0 fullShare fa).symm : _ ⊢ (Cert.Trip.owns c (Memref.whole cc0_scratch0) fullShare fa : sProp 𝕄G)) $$ [Ha]
    iexact Ha
  isplitl [Hb]
  · iapply (Entails.of_eq (owns_whole (c : Thread nD τ) cc0_scratch1 fullShare fb).symm : _ ⊢ (Cert.Trip.owns c (Memref.whole cc0_scratch1) fullShare fb : sProp 𝕄G)) $$ [Hb]
    iexact Hb
  · iapply (Entails.of_eq (owns_whole (c : Thread nD τ) cc0_scratch2 fullShare fc).symm : _ ⊢ (Cert.Trip.owns c (Memref.whole cc0_scratch2) fullShare fc : sProp 𝕄G)) $$ [Hc]
    iexact Hc

theorem own0 (f : Buf (Elt F) ((c : Thread nD τ).loc cc0_scratch0)) :
    (Cert.Trip.owns c (Memref.whole cc0_scratch0) fullShare f : sProp 𝕄G) ⊢ ((c : Thread nD τ).loc cc0_scratch0) ↦{fullShare} f :=
  Entails.of_eq (owns_whole (c : Thread nD τ) cc0_scratch0 fullShare f)

theorem own1 (f : Buf (Elt F) ((c : Thread nD τ).loc cc0_scratch1)) :
    (Cert.Trip.owns c (Memref.whole cc0_scratch1) fullShare f : sProp 𝕄G) ⊢ ((c : Thread nD τ).loc cc0_scratch1) ↦{fullShare} f :=
  Entails.of_eq (owns_whole (c : Thread nD τ) cc0_scratch1 fullShare f)

theorem own2 (f : Buf (Elt F) ((c : Thread nD τ).loc cc0_scratch2)) :
    (Cert.Trip.owns c (Memref.whole cc0_scratch2) fullShare f : sProp 𝕄G) ⊢ ((c : Thread nD τ).loc cc0_scratch2) ↦{fullShare} f :=
  Entails.of_eq (owns_whole (c : Thread nD τ) cc0_scratch2 fullShare f)

/-- The invariant after the last point gives the scoped rest of the launch back. -/
theorem finish : (rd m c).Φ (Fin.last (cfgM m).N) ⊢ Pipeline.ΦA (cfgM m).spec c := by
  show (iprop(Pipeline.ΦT (Val := Elt F) pre0 (adm m 0).1 c ∗ (∃ r, prngReg c r)
    ∗ ∃ s, Cert.Trip.scr c (Memref.whole cc0_scratch0) (Memref.whole cc0_scratch1) (Memref.whole cc0_scratch2) (stAt m c s 73)) : sProp 𝕄G)
    ⊢ iprop(Pipeline.scopedRest spec0 c ∗ ∃ r, prngReg c r)
  rw [scopedRest0_eq]
  unfold Cert.Trip.scr
  iintro ⟨Ht, Hp, ⟨%s, Ha, Hb, Hc⟩⟩
  isplitr [Hp]
  rotate_left
  · iexact Hp
  isplitl [Ha]
  · iexists (stAt m c s 73).a
    iapply (own0 c (stAt m c s 73).a) $$ [Ha]
    iexact Ha
  isplitl [Hb]
  · iexists (stAt m c s 73).b
    iapply (own1 c (stAt m c s 73).b) $$ [Hb]
    iexact Hb
  · iexists (stAt m c s 73).acc
    iapply (own2 c (stAt m c s 73).acc) $$ [Hc]
    iexact Hc

theorem hostOps0_fresh : (hostOps0 : List (HloOp τ sig (Elt F))).Forall fun op => op.fresh = ∅ := by
  repeat' first | exact rfl | apply And.intro

set_option maxHeartbeats 4000000 in
/-- The run: every array ends as the proof data say, every other buffer as the host operations left it. -/
theorem run (g : Dev nD → PrngReg) :
    θ_run (defs (F := F)) (onTc (τ := τ) (main (F := F))) ⟨m, fun _ => 0, g⟩
      (fun r => Pipeline.RDat.FramePost (cfgM m) (rd m) (V m) r ∧ r.2.sem = fun _ => 0) :=
  Pipeline.RDat.θ_run_frameP_track_shared (pcfgs (F := F)) (adm m) 0 launch₀0 defs₀ Variants.none (rd m) m g (main (F := F))
    (body m) (fun _ _ _ => rfl) (fun _ _ => rfl) (V m)
    (Pipeline.hmainP_prefix (pcfgs (F := F)) 0 defs₀ Variants.none m (main (F := F)) hostOps0 hostOps0_sub hostOps0_fresh main_chain)
    (fun _ _ => rfl) (fun c k => by obtain rfl : c = 0 := Subsingleton.elim _ _; rfl) (start m) (finish m) _ (fun _ h => h)

theorem V_arg0 : V m c main_arg0 = m (c, main_arg0) := by unfold_abbrev_sides; after_results
theorem V_arg1 : V m c main_arg1 = m (c, main_arg1) := by unfold_abbrev_sides; after_results
theorem V_arg2 : V m c main_arg2 = m (c, main_arg2) := by unfold_abbrev_sides; after_results
theorem V_arg3 : V m c main_arg3 = m (c, main_arg3) := by unfold_abbrev_sides; after_results
theorem V_arg4 : V m c main_arg4 = m (c, main_arg4) := by unfold_abbrev_sides; after_results

theorem rest (b : Ref sig .tc) (hs : b.isScoped = false) (ha : ∀ w, (spec0 w).arr.view.ref ≠ b) : b ∈ Pipeline.restRefs sig (cfgM m).spec :=
  Pipeline.mem_restRefs_of b hs ha

/-- The program runs, its arguments end unchanged and every semaphore reads zero. -/
theorem quiescent (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c =>
    ⟨((h.1 c).2 main_arg0 (rest m _ rfl (by decide))).trans (V_arg0 m c), ((h.1 c).2 main_arg1 (rest m _ rfl (by decide))).trans (V_arg1 m c),
      ((h.1 c).2 main_arg2 (rest m _ rfl (by decide))).trans (V_arg2 m c), ((h.1 c).2 main_arg3 (rest m _ rfl (by decide))).trans (V_arg3 m c),
      ((h.1 c).2 main_arg4 (rest m _ rfl (by decide))).trans (V_arg4 m c)⟩, h.2⟩) (run m g)

end Cert.Kernel.Own
-- ==== Proof.RefoldIdeal.lean ====
module

public import proofs.«01_k».proof.Proof.Gen.KernelIdeal.Skeleton
public import proofs.«01_k».proof.Proof.Point

@[expose] public section

noncomputable section

namespace Cert.KernelIdeal.Own

open Idealize.ShloMosaic Idealize.SL.Sem Cert.KernelIdeal.Gen

variable {F : FTy → Type} [FloatOps F]

/-- The half-block that phase A of grid point `i` visits. -/
def blkA (i : grid0.Coords) : BitVec 32 :=
  Scalar.maxsi (Scalar.subi (Scalar.muli 2#32 (BitVec.ofNat 32 (i 0).val)) 1#32) 0#32

theorem trips2 : k0_t2_loop.trips = 8 := by decide

theorem trips5 : k0_t5_loop.trips = 8 := by decide
theorem trips3 : k0_t3_loop.trips = 152 := by decide

/-- The half-block that phase B of grid point `i` visits. -/
def blkB (i : grid0.Coords) : BitVec 32 :=
  Scalar.maxsi (Scalar.muli 2#32 (BitVec.ofNat 32 (i 0).val)) 0#32

variable (i : grid0.Coords) (arg1 : Memref sig .tc .smem S1216 .i32) (harg1 : arg1.IsWhole) (arg2 : Memref sig .tc .smem S304 .i32) (harg2 : arg2.IsWhole) (arg3 : Memref sig .tc .vmem S1x512x32x128 .i8) (harg3 : arg3.IsWhole) (arg4 : Memref sig .tc .vmem S1x512x32x128 .i8) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S256x256 .bf16) (harg7 : arg7.IsWhole) (arg8 : Memref sig .tc .vmem S1216x1 .i32) (harg8 : arg8.IsWhole) (arg9 : Memref sig .tc .vmem S1216x384 .f32) (harg9 : arg9.IsWhole) (arg10 : Memref sig .tc .vmem S18432x128 .f32) (harg10 : arg10.IsWhole) (arg11 : Memref sig .tc .vmem S18432x128 .f32) (harg11 : arg11.IsWhole) (arg12 : Memref sig .tc .vmem S7296x8x128 .f32) (harg12 : arg12.IsWhole)

set_option maxRecDepth 100000 in
set_option maxHeartbeats 0 in
/-- A trip of phase A is the structured trip: tiles into the first slab, visits from the second. -/
theorem t2_body (arg0 : BitVec 32) (t : Fin k0_t2_loop.trips) :
    k0_t2_body (F := F) i arg1 harg1 arg2 harg2 arg3 harg3 arg4 harg4 arg5 harg5 arg6 harg6 arg7 harg7 arg8 harg8 arg9 harg9 arg10 harg10 arg11 harg11 arg12 harg12 arg0 t ()
      = Cert.Trip.trip arg1 arg2 arg3 arg5 arg7 arg10 arg11 arg12 (blkA i) ⟨t.val, trips2 ▸ t.isLt⟩ (Cert.Trip.plain _ _) := by
  rfl

set_option maxRecDepth 100000 in
set_option maxHeartbeats 0 in
/-- A trip of phase B is the structured trip: tiles into the second slab, visits from the first. -/
theorem t5_body (arg0 : BitVec 32) (h3 : k0_cond3 i = 1#1) (t : Fin k0_t5_loop.trips) :
    k0_t5_body (F := F) i arg1 harg1 arg2 harg2 arg3 harg3 arg4 harg4 arg5 harg5 arg6 harg6 arg7 harg7 arg8 harg8 arg9 harg9 arg10 harg10 arg11 harg11 arg12 harg12 arg0 h3 t ()
      = Cert.Trip.trip arg1 arg2 arg4 arg6 arg7 arg11 arg10 arg12 (blkB i) ⟨t.val, trips5 ▸ t.isLt⟩ (Cert.Trip.guarded (k0_cond3 i = 1#1) h3 _ _) := by
  rfl

/-- The accumulator seen as rows of 128 lanes. -/
abbrev flat (arg12 : Memref sig .tc .vmem S7296x8x128 .f32) (harg12 : arg12.IsWhole) : Memref sig .tc .vmem S58368x128 .f32 :=
  arg12.reshape S58368x128 reshapes_S7296x8x128_S58368x128.1 reshapes_S7296x8x128_S58368x128.2 harg12.contiguous

set_option maxRecDepth 100000 in
set_option maxHeartbeats 0 in
/-- A trip of the finish is the structured finish. -/
theorem t3_body (h2 : k0_cond2 i = 1#1) (t : Fin k0_t3_loop.trips) :
    k0_t3_body (F := F) i arg1 harg1 arg2 harg2 arg3 harg3 arg4 harg4 arg5 harg5 arg6 harg6 arg7 harg7 arg8 harg8 arg9 harg9 arg10 harg10 arg11 harg11 arg12 harg12 h2 t ()
      = Cert.Trip.finC (flat arg12 harg12) arg8 arg9 ⟨t.val, trips3 ▸ t.isLt⟩ := by
  rfl

theorem trips1 : k0_t1_loop.trips = 2304 := by decide
theorem trips4 : k0_t4_loop.trips = 912 := by decide

/-- A trip of the loop that zeros the second slab. -/
theorem t1_body (h1 : k0_cond1 i = 1#1) (t : Fin k0_t1_loop.trips) :
    k0_t1_body (F := F) i arg1 harg1 arg2 harg2 arg3 harg3 arg4 harg4 arg5 harg5 arg6 harg6 arg7 harg7 arg8 harg8 arg9 harg9 arg10 harg10 arg11 harg11 arg12 harg12 h1 t ()
      = Cert.Trip.zslabC arg11 ⟨t.val, trips1 ▸ t.isLt⟩ := by
  rfl

/-- A trip of the loop that zeros the accumulator. -/
theorem t4_body (h2 : k0_cond2 i = 1#1) (t : Fin k0_t4_loop.trips) :
    k0_t4_body (F := F) i arg1 harg1 arg2 harg2 arg3 harg3 arg4 harg4 arg5 harg5 arg6 harg6 arg7 harg7 arg8 harg8 arg9 harg9 arg10 harg10 arg11 harg11 arg12 harg12 h2 t ()
      = Cert.Trip.zaccC arg12 ⟨t.val, trips4 ▸ t.isLt⟩ := by
  rfl

set_option maxRecDepth 100000 in
set_option maxHeartbeats 0 in
/-- The call's body at grid point `i` is the structured grid point. -/
theorem main_eq :
    cc0_srht_main (F := F) i arg1 harg1 arg2 harg2 arg3 harg3 arg4 harg4 arg5 harg5 arg6 harg6 arg7 harg7 arg8 harg8 arg9 harg9 arg10 harg10 arg11 harg11 arg12 harg12
      = Cert.Trip.pointC arg1 arg2 arg3 arg4 arg5 arg6 arg7 arg8 arg9 arg10 arg11 arg12 harg12.contiguous
          (k0_cond1 i = 1#1) (k0_cond2 i = 1#1) (k0_cond3 i = 1#1) (blkA i) (blkB i) := by
  rw [cc0_srht_main_eq_skeleton]
  unfold cc0_srht_main_skel
  have e1 : ∀ h1, k0_t1_body (F := F) i arg1 harg1 arg2 harg2 arg3 harg3 arg4 harg4 arg5 harg5 arg6 harg6 arg7 harg7 arg8 harg8 arg9 harg9 arg10 harg10 arg11 harg11 arg12 harg12 h1 = fun t _ => Cert.Trip.zslabC arg11 ⟨t.val, trips1 ▸ t.isLt⟩ :=
    fun h1 => funext fun t => funext fun _ => t1_body i arg1 harg1 arg2 harg2 arg3 harg3 arg4 harg4 arg5 harg5 arg6 harg6 arg7 harg7 arg8 harg8 arg9 harg9 arg10 harg10 arg11 harg11 arg12 harg12 h1 t
  have e2 : ∀ a0, k0_t2_body (F := F) i arg1 harg1 arg2 harg2 arg3 harg3 arg4 harg4 arg5 harg5 arg6 harg6 arg7 harg7 arg8 harg8 arg9 harg9 arg10 harg10 arg11 harg11 arg12 harg12 a0 = fun t _ => Cert.Trip.trip arg1 arg2 arg3 arg5 arg7 arg10 arg11 arg12 (blkA i) ⟨t.val, trips2 ▸ t.isLt⟩ (Cert.Trip.plain _ _) :=
    fun a0 => funext fun t => funext fun _ => t2_body i arg1 harg1 arg2 harg2 arg3 harg3 arg4 harg4 arg5 harg5 arg6 harg6 arg7 harg7 arg8 harg8 arg9 harg9 arg10 harg10 arg11 harg11 arg12 harg12 a0 t
  have e3 : ∀ h2, k0_t3_body (F := F) i arg1 harg1 arg2 harg2 arg3 harg3 arg4 harg4 arg5 harg5 arg6 harg6 arg7 harg7 arg8 harg8 arg9 harg9 arg10 harg10 arg11 harg11 arg12 harg12 h2 = fun t _ => Cert.Trip.finC (flat arg12 harg12) arg8 arg9 ⟨t.val, trips3 ▸ t.isLt⟩ :=
    fun h2 => funext fun t => funext fun _ => t3_body i arg1 harg1 arg2 harg2 arg3 harg3 arg4 harg4 arg5 harg5 arg6 harg6 arg7 harg7 arg8 harg8 arg9 harg9 arg10 harg10 arg11 harg11 arg12 harg12 h2 t
  have e4 : ∀ h2, k0_t4_body (F := F) i arg1 harg1 arg2 harg2 arg3 harg3 arg4 harg4 arg5 harg5 arg6 harg6 arg7 harg7 arg8 harg8 arg9 harg9 arg10 harg10 arg11 harg11 arg12 harg12 h2 = fun t _ => Cert.Trip.zaccC arg12 ⟨t.val, trips4 ▸ t.isLt⟩ :=
    fun h2 => funext fun t => funext fun _ => t4_body i arg1 harg1 arg2 harg2 arg3 harg3 arg4 harg4 arg5 harg5 arg6 harg6 arg7 harg7 arg8 harg8 arg9 harg9 arg10 harg10 arg11 harg11 arg12 harg12 h2 t
  have e5 : ∀ a0 h3, k0_t5_body (F := F) i arg1 harg1 arg2 harg2 arg3 harg3 arg4 harg4 arg5 harg5 arg6 harg6 arg7 harg7 arg8 harg8 arg9 harg9 arg10 harg10 arg11 harg11 arg12 harg12 a0 h3 = fun t _ => Cert.Trip.trip arg1 arg2 arg4 arg6 arg7 arg11 arg10 arg12 (blkB i) ⟨t.val, trips5 ▸ t.isLt⟩ (Cert.Trip.guarded (k0_cond3 i = 1#1) h3 _ _) :=
    fun a0 h3 => funext fun t => funext fun _ => t5_body i arg1 harg1 arg2 harg2 arg3 harg3 arg4 harg4 arg5 harg5 arg6 harg6 arg7 harg7 arg8 harg8 arg9 harg9 arg10 harg10 arg11 harg11 arg12 harg12 a0 h3 t
  simp only [e1, e2, e3, e4, e5]
  clear e1 e2 e3 e4 e5
  unfold Cert.Trip.pointC Cert.Trip.stage1C Cert.Trip.stage3C Cert.Trip.stage4C
  by_cases h1 : k0_cond1 i = 1#1 <;> by_cases h2 : k0_cond2 i = 1#1 <;> by_cases h3 : k0_cond3 i = 1#1
  · rw [dif_pos h1, dif_pos h2, dif_pos h3, if_pos h1, if_pos h2, dif_pos h3]; rfl
  · rw [dif_pos h1, dif_pos h2, dif_neg h3, if_pos h1, if_pos h2, dif_neg h3]; rfl
  · rw [dif_pos h1, dif_neg h2, dif_pos h3, if_pos h1, if_neg h2, dif_pos h3]; rfl
  · rw [dif_pos h1, dif_neg h2, dif_neg h3, if_pos h1, if_neg h2, dif_neg h3]; rfl
  · rw [dif_neg h1, dif_pos h2, dif_pos h3, if_neg h1, if_pos h2, dif_pos h3]; rfl
  · rw [dif_neg h1, dif_pos h2, dif_neg h3, if_neg h1, if_pos h2, dif_neg h3]; rfl
  · rw [dif_neg h1, dif_neg h2, dif_pos h3, if_neg h1, if_neg h2, dif_pos h3]; rfl
  · rw [dif_neg h1, dif_neg h2, dif_neg h3, if_neg h1, if_neg h2, dif_neg h3]; rfl

end Cert.KernelIdeal.Own
-- ==== Proof.RunIdeal.lean ====
module

public import proofs.«01_k».proof.Proof.Gen.KernelIdeal.Launch
public import proofs.«01_k».proof.Proof.RefoldIdeal
public import proofs.«01_k».proof.Proof.Facts
public import Idealize.ShloMosaic.Lib.Pipeline.FrameBody
public import Idealize.ShloMosaic.Lib.Pipeline.ArrRel
public import Idealize.ShloMosaic.Lib.Claim
public import Idealize.ShloMosaic.Adequacy
public import Idealize.ShloMosaic.Init

@[expose] public section

/-! # The run of the whole program

The host operations before the call, the words the call reads in scalar memory, the body obligation of
the pipeline from the structured grid point, and the run. -/

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- The contents of memory when the call starts. -/
abbrev V (m : (ℓ : Loc nD τ sig) → Buf (Elt F) ℓ) (c : Dev nD) (b : Ref sig .tc) : Buf (Elt F) ((c.tc : Thread nD τ).loc b) :=
  StableHlo.after (hostOps0 (F := F)) (fun b => m (c, b)) b

theorem V_rows (m : (ℓ : Loc nD τ sig) → Buf (Elt F) ℓ) (c : Dev nD) :
    (V m c main_v60 : S1216.Idx → BitVec 32) = fun j => Cert.Trip.rowWord ((m (c, main_arg3) : S1216.Idx → BitVec 32) j) := by
  unfold_abbrev_sides
  after_results
  rfl

theorem rows_ok (m : (ℓ : Loc nD τ sig) → Buf (Elt F) ℓ) (c : Dev nD) :
    ∀ j, Cert.Trip.rowOk ((V m c main_v60 : S1216.Idx → BitVec 32) j) := by
  rw [V_rows]; exact fun j => Cert.Trip.rowWord_ok _

/-- The tables' contents at the call. -/
def adm (m : (ℓ : Loc nD τ sig) → Buf (Elt F) ℓ) : (p : Fin 1) → (pcfgs (F := F) p).Adm :=
  fun _ => ⟨fun k => V m 0 (pre0.ref k), trivial⟩

/-- The pipeline at those tables. -/
abbrev cfgM (m : (ℓ : Loc nD τ sig) → Buf (Elt F) ℓ) : Pipeline.Cfg sig Λ₀ := Pipeline.pin (pcfgs (F := F)) (adm m) 0

theorem blkA_ok : ∀ t : Fin 73, ∃ g : Fin 3, Scalar.remsi (blkA (grid0.coords t)) 3#32 = BitVec.ofNat 32 g.val := by decide +kernel
theorem blkB_ok : ∀ t : Fin 73, ∃ g : Fin 3, Scalar.remsi (blkB (grid0.coords t)) 3#32 = BitVec.ofNat 32 g.val := by decide +kernel

variable (m : (ℓ : Loc nD τ sig) → Buf (Elt F) ℓ) (c : Dev nD)

/-- What input window `w` holds at grid point `t`: its block of the array. -/
def inW (w : Fin 7) (t : Fin (cfgM m).N) : ((cfgM m).win w).block.Idx → Elt F ((cfgM m).win w).elt :=
  ((cfgM m).win w).fill ((cfgM m).grid.coords t) (fun _ => Classical.arbitrary _)
    ((((cfgM m).win w).blk t).view.read (Elt F) (V m c (Pipeline.arrRef (cfgM m).spec w)))

/-- The scratch after grid point `t`, from the scratch before it. -/
def stNext (t : Fin 73) (s : Cert.Trip.St F) : Cert.Trip.St F :=
  Cert.Trip.pointV (k0_cond1 (grid0.coords t) = 1#1) (k0_cond2 (grid0.coords t) = 1#1) (k0_cond3 (grid0.coords t) = 1#1)
    (Cert.Trip.clsOk_of (blkA_ok t)) (Cert.Trip.clsOk_of (blkB_ok t))
    (V m c main_v60) (rows_ok m c) (V m c main_v75)
    (inW m c 0 t) (inW m c 1 t) (inW m c 2 t) (inW m c 3 t) (inW m c 4 t) s

/-- The output block after grid point `t`, from the scratch before it and the block it finds. -/
def outNext (t : Fin 73) (s : Cert.Trip.St F) (O : S1216x384.Idx → F .f32) : S1216x384.Idx → F .f32 :=
  Cert.Trip.pointO (k0_cond1 (grid0.coords t) = 1#1) (k0_cond2 (grid0.coords t) = 1#1)
    (Cert.Trip.clsOk_of (blkA_ok t))
    (V m c main_v60) (rows_ok m c) (V m c main_v75)
    (inW m c 0 t) (inW m c 2 t) (inW m c 4 t) (inW m c 5 t) s O

/-- The scratch before grid point `t`, from the scratch before the first. -/
def stAt (s : Cert.Trip.St F) (t : Nat) : Cert.Trip.St F := Cert.Trip.runT (N := 73) (stNext m c) t s

/-- What the body leaves in each window's buffer. -/
def aft (w : Fin 7) (t : Fin (cfgM m).N) :
    (Y X : ((cfgM m).win w).block.Idx → Elt F ((cfgM m).win w).elt) → Prop :=
  match w with
  | 0 => fun Y X => X = Y
  | 1 => fun Y X => X = Y
  | 2 => fun Y X => X = Y
  | 3 => fun Y X => X = Y
  | 4 => fun Y X => X = Y
  | 5 => fun Y X => X = Y
  | 6 => fun Y X => ∃ s, X = outNext m c t (stAt m c s t.val) Y

/-- The proof data of the pipeline. -/
def rd : Pipeline.RDat τ (Elt F) Unit ℕ (UR sig nD τ) ℕ (cfgM m) c where
  A w := V m c (Pipeline.arrRef (cfgM m).spec w)
  after := aft m c
  Φ t := iprop(Pipeline.ΦT (Val := Elt F) pre0 (adm m 0).1 c ∗ (∃ r, prngReg c r)
    ∗ ∃ s, Cert.Trip.scr c (Memref.whole cc0_scratch0) (Memref.whole cc0_scratch1) (Memref.whole cc0_scratch2) (stAt m c s t.val))
  q w := Pipeline.shareOf (cfgM m).spec w
  owed _ := 0

theorem clip_none (w : Fin 7) (i : (cfgM m).grid.Coords) (a) : ((cfgM m).win w).clip i a = none := rfl

theorem finds_in (w : Fin 7) (hw : ((cfgM m).win w).isOut = false) (hk : ∀ t Y X, aft m c w t Y X → X = Y) (t : Fin (cfgM m).N) (Y)
    (h : (rd m c).Finds w t Y) : Y = inW m c w t := by
  obtain ⟨d, rfl⟩ := (rd m c).finds_in_eq_fetched w hw (fun _ _ _ => rfl) hk t Y h
  exact Pipeline.fill_of_clip_none (cfg := cfgM m) w ((cfgM m).grid.coords t) (clip_none m w _) _ _ _

theorem in_of (w : Fin 7) (hw : ((cfgM m).win w).isOut = false) (hk : ∀ t Y X, aft m c w t Y X → X = Y) {t : Fin (cfgM m).N}
    {Y : (w : Fin 7) → ((cfgM m).win w).block.Idx → Elt F ((cfgM m).win w).elt} (h : ∀ w, (rd m c).Finds w t (Y w)) : Y w = inW m c w t :=
  finds_in m c w hw hk t _ (h w)

instance : Subsingleton (Dev nD) := ⟨fun a b => Fin.ext (by have := a.isLt; have := b.isLt; simp only [nD] at *; omega)⟩

set_option maxRecDepth 20000 in
set_option maxHeartbeats 2000000 in
/-- The two tables, as the body holds them. -/
theorem tables_eq : (Pipeline.ΦT (Val := Elt F) (U := UR sig nD τ) pre0 (adm m 0).1 c : sProp 𝕄G)
    = iprop(Cert.Trip.owns c (Memref.whole main_v60) fullShare.right (V m c main_v60)
        ∗ Cert.Trip.owns c (Memref.whole main_v75) fullShare.right (V m c main_v75)) := by
  obtain rfl : c = 0 := Subsingleton.elim _ _
  unfold Pipeline.ΦT Pipeline.prefHeld
  rw [show (Cert.Trip.owns 0 (Memref.whole main_v60) fullShare.right (V m 0 main_v60) : sProp 𝕄G) = _ from
    owns_whole ((0 : Dev nD) : Thread nD τ) main_v60 fullShare.right (V m 0 main_v60),
    show (Cert.Trip.owns 0 (Memref.whole main_v75) fullShare.right (V m 0 main_v75) : sProp 𝕄G) = _ from
    owns_whole ((0 : Dev nD) : Thread nD τ) main_v75 fullShare.right (V m 0 main_v75)]
  exact bigSep_univ_eq_bigSepL [(0 : Fin 2), (1 : Fin 2)] (by decide) (by decide) _

theorem stAt_succ (s : Cert.Trip.St F) (t : Fin 73) : stAt m c s (t.val + 1) = stNext m c t (stAt m c s t.val) := by
  show (if h : t.val < 73 then _ else _) = _
  rw [dif_pos t.isLt]
  rfl

theorem body : (rd m c).BodyObligation defs₀ Variants.none () Set.univ := by
  intro t Y hY
  have e0 := in_of m c 0 rfl (fun _ _ _ h => h) hY
  have e1 := in_of m c 1 rfl (fun _ _ _ h => h) hY
  have e2 := in_of m c 2 rfl (fun _ _ _ h => h) hY
  have e3 := in_of m c 3 rfl (fun _ _ _ h => h) hY
  have e4 := in_of m c 4 rfl (fun _ _ _ h => h) hY
  have e5 := in_of m c 5 rfl (fun _ _ _ h => h) hY
  have hm : defs₀ (F := F) .tc (cfgM m).body ((cfgM m).bodyArgs t ((cfgM m).slots t)) = _ :=
    main_eq (F := F) (grid0.coords t) (Memref.whole main_v60) (Memref.isWhole_whole _) (Memref.whole main_v75) (Memref.isWhole_whole _)
      (spec0_0.stage (((cfgM m).slots t) 0)) (hstage0_0 ((((cfgM m).slots t) 0).cast nbuf0_0))
      (spec0_1.stage (((cfgM m).slots t) 1)) (hstage0_1 ((((cfgM m).slots t) 1).cast nbuf0_1))
      (spec0_2.stage (((cfgM m).slots t) 2)) (hstage0_2 ((((cfgM m).slots t) 2).cast nbuf0_2))
      (spec0_3.stage (((cfgM m).slots t) 3)) (hstage0_3 ((((cfgM m).slots t) 3).cast nbuf0_3))
      (spec0_4.stage (((cfgM m).slots t) 4)) (hstage0_4 ((((cfgM m).slots t) 4).cast nbuf0_4))
      (spec0_5.stage (((cfgM m).slots t) 5)) (hstage0_5 ((((cfgM m).slots t) 5).cast nbuf0_5))
      (spec0_6.stage (((cfgM m).slots t) 6)) (hstage0_6 ((((cfgM m).slots t) 6).cast nbuf0_6))
      (Memref.whole cc0_scratch0) (Memref.isWhole_whole _) (Memref.whole cc0_scratch1) (Memref.isWhole_whole _) (Memref.whole cc0_scratch2) (Memref.isWhole_whole _)
  rw [hm, bigSep_W0, bigSep_W0, e0, e1, e2, e3, e4, e5]
  clear hm
  show iprop((Pipeline.ΦT (Val := Elt F) pre0 (adm m 0).1 c ∗ (∃ r, prngReg c r)
    ∗ ∃ s, Cert.Trip.scr c (Memref.whole cc0_scratch0) (Memref.whole cc0_scratch1) (Memref.whole cc0_scratch2) (stAt m c s t.val))
    ∗ (rd m c).owesAt () t.castSucc
    ∗ Cert.Trip.owns c (spec0_0.stage (((cfgM m).slots t) 0)) fullShare (inW m c 0 t)
    ∗ Cert.Trip.owns c (spec0_1.stage (((cfgM m).slots t) 1)) fullShare (inW m c 1 t)
    ∗ Cert.Trip.owns c (spec0_2.stage (((cfgM m).slots t) 2)) fullShare (inW m c 2 t)
    ∗ Cert.Trip.owns c (spec0_3.stage (((cfgM m).slots t) 3)) fullShare (inW m c 3 t)
    ∗ Cert.Trip.owns c (spec0_4.stage (((cfgM m).slots t) 4)) fullShare (inW m c 4 t)
    ∗ Cert.Trip.owns c (spec0_5.stage (((cfgM m).slots t) 5)) fullShare (inW m c 5 t)
    ∗ Cert.Trip.owns c (spec0_6.stage (((cfgM m).slots t) 6)) fullShare (Y 6))
    ⊢ wp _ _ _ _ fun _ => iprop((Pipeline.ΦT (Val := Elt F) pre0 (adm m 0).1 c ∗ (∃ r, prngReg c r)
    ∗ ∃ s, Cert.Trip.scr c (Memref.whole cc0_scratch0) (Memref.whole cc0_scratch1) (Memref.whole cc0_scratch2) (stAt m c s (t.val + 1)))
    ∗ (rd m c).owesAt () t.succ
    ∗ (∃ X, ⌜aft m c 0 t (inW m c 0 t) X⌝ ∗ Cert.Trip.owns c (spec0_0.stage (((cfgM m).slots t) 0)) fullShare X)
    ∗ (∃ X, ⌜aft m c 1 t (inW m c 1 t) X⌝ ∗ Cert.Trip.owns c (spec0_1.stage (((cfgM m).slots t) 1)) fullShare X)
    ∗ (∃ X, ⌜aft m c 2 t (inW m c 2 t) X⌝ ∗ Cert.Trip.owns c (spec0_2.stage (((cfgM m).slots t) 2)) fullShare X)
    ∗ (∃ X, ⌜aft m c 3 t (inW m c 3 t) X⌝ ∗ Cert.Trip.owns c (spec0_3.stage (((cfgM m).slots t) 3)) fullShare X)
    ∗ (∃ X, ⌜aft m c 4 t (inW m c 4 t) X⌝ ∗ Cert.Trip.owns c (spec0_4.stage (((cfgM m).slots t) 4)) fullShare X)
    ∗ (∃ X, ⌜aft m c 5 t (inW m c 5 t) X⌝ ∗ Cert.Trip.owns c (spec0_5.stage (((cfgM m).slots t) 5)) fullShare X)
    ∗ (∃ X, ⌜aft m c 6 t (Y 6) X⌝ ∗ Cert.Trip.owns c (spec0_6.stage (((cfgM m).slots t) 6)) fullShare X))
  rw [tables_eq]
  iintro ⟨⟨⟨Ht1, Ht2⟩, Hp, ⟨%s, Hs⟩⟩, Hw, H0, H1, H2, H3, H4, H5, H6⟩
  iapply (Cert.Trip.pointC_wp c Variants.none none Set.univ
    (k0_cond1 (grid0.coords t) = 1#1) (k0_cond2 (grid0.coords t) = 1#1) (k0_cond3 (grid0.coords t) = 1#1)
    (Cert.Trip.clsOk_of (blkA_ok t)) (Cert.Trip.clsOk_of (blkB_ok t))
    (V m c main_v60) (rows_ok m c) (V m c main_v75)
    (inW m c 0 t) (inW m c 1 t) (inW m c 2 t) (inW m c 3 t) (inW m c 4 t) (inW m c 5 t) (stAt m c s t.val) (Y 6)
    (qr := fullShare.right) (qc := fullShare.right) (qx1 := fullShare) (qx2 := fullShare) (qr1 := fullShare) (qr2 := fullShare)
    (qh := fullShare) (qk := fullShare)) $$ [Ht1 Ht2 Hs H0 H1 H2 H3 H4 H5 H6]
  · unfold Cert.Trip.inp
    isplitl [Ht1 Ht2 H0 H1 H2 H3 H4 H5]
    · isplitl [Ht1]
      · iexact Ht1
      isplitl [Ht2]
      · iexact Ht2
      isplitl [H0]
      · iexact H0
      isplitl [H1]
      · iexact H1
      isplitl [H2]
      · iexact H2
      isplitl [H3]
      · iexact H3
      isplitl [H4]
      · iexact H4
      · iexact H5
    isplitl [Hs]
    · iexact Hs
    · iexact H6
  unfold Cert.Trip.inp
  iintro ⟨⟨Ht1, Ht2, H0, H1, H2, H3, H4, H5⟩, Hs, H6⟩
  isplitl [Ht1 Ht2 Hp Hs]
  · isplitl [Ht1 Ht2]
    · isplitl [Ht1]
      · iexact Ht1
      · iexact Ht2
    isplitl [Hp]
    · iexact Hp
    iexists s
    iapply (show (Cert.Trip.scr c (Memref.whole cc0_scratch0) (Memref.whole cc0_scratch1) (Memref.whole cc0_scratch2) (stNext m c t (stAt m c s t.val)) : sProp 𝕄G)
      ⊢ Cert.Trip.scr c (Memref.whole cc0_scratch0) (Memref.whole cc0_scratch1) (Memref.whole cc0_scratch2) (stAt m c s (t.val + 1)) from by
        rw [stAt_succ m c s t]) $$ [Hs]
    iexact Hs
  isplitl [Hw]
  · iexact Hw
  isplitl [H0]
  · iexists (inW m c 0 t)
    isplitr
    · ipureintro; rfl
    iexact H0
  isplitl [H1]
  · iexists (inW m c 1 t)
    isplitr
    · ipureintro; rfl
    iexact H1
  isplitl [H2]
  · iexists (inW m c 2 t)
    isplitr
    · ipureintro; rfl
    iexact H2
  isplitl [H3]
  · iexists (inW m c 3 t)
    isplitr
    · ipureintro; rfl
    iexact H3
  isplitl [H4]
  · iexists (inW m c 4 t)
    isplitr
    · ipureintro; rfl
    iexact H4
  isplitl [H5]
  · iexists (inW m c 5 t)
    isplitr
    · ipureintro; rfl
    iexact H5
  iexists _
  isplitr
  rotate_left
  · iexact H6
  · ipureintro
    exact ⟨s, rfl⟩

/-- The scoped rest of the launch and the tables are the invariant before the first point. -/
theorem start : iprop(Pipeline.ΦA (cfgM m).spec c ∗ Pipeline.ΦT (Val := Elt F) pre0 (adm m 0).1 c) ⊢ (rd m c).Φ 0 := by
  show iprop((Pipeline.scopedRest spec0 c ∗ ∃ r, prngReg c r) ∗ Pipeline.ΦT (Val := Elt F) pre0 (adm m 0).1 c)
    ⊢ (iprop(Pipeline.ΦT (Val := Elt F) pre0 (adm m 0).1 c ∗ (∃ r, prngReg c r)
    ∗ ∃ s, Cert.Trip.scr c (Memref.whole cc0_scratch0) (Memref.whole cc0_scratch1) (Memref.whole cc0_scratch2) s) : sProp 𝕄G)
  rw [scopedRest0_eq]
  iintro ⟨⟨⟨⟨%fa, Ha⟩, ⟨%fb, Hb⟩, ⟨%fc, Hc⟩⟩, Hp⟩, Ht⟩
  isplitl [Ht]
  · iexact Ht
  isplitl [Hp]
  · iexact Hp
  iexists (⟨fa, fb, fc⟩ : Cert.Trip.St F)
  unfold Cert.Trip.scr
  isplitl [Ha]
  · iapply (Entails.of_eq (owns_whole (c : Thread nD τ) cc0_scratch0 fullShare fa).symm : _ ⊢ (Cert.Trip.owns c (Memref.whole cc0_scratch0) fullShare fa : sProp 𝕄G)) $$ [Ha]
    iexact Ha
  isplitl [Hb]
  · iapply (Entails.of_eq (owns_whole (c : Thread nD τ) cc0_scratch1 fullShare fb).symm : _ ⊢ (Cert.Trip.owns c (Memref.whole cc0_scratch1) fullShare fb : sProp 𝕄G)) $$ [Hb]
    iexact Hb
  · iapply (Entails.of_eq (owns_whole (c : Thread nD τ) cc0_scratch2 fullShare fc).symm : _ ⊢ (Cert.Trip.owns c (Memref.whole cc0_scratch2) fullShare fc : sProp 𝕄G)) $$ [Hc]
    iexact Hc

theorem own0 (f : Buf (Elt F) ((c : Thread nD τ).loc cc0_scratch0)) :
    (Cert.Trip.owns c (Memref.whole cc0_scratch0) fullShare f : sProp 𝕄G) ⊢ ((c : Thread nD τ).loc cc0_scratch0) ↦{fullShare} f :=
  Entails.of_eq (owns_whole (c : Thread nD τ) cc0_scratch0 fullShare f)

theorem own1 (f : Buf (Elt F) ((c : Thread nD τ).loc cc0_scratch1)) :
    (Cert.Trip.owns c (Memref.whole cc0_scratch1) fullShare f : sProp 𝕄G) ⊢ ((c : Thread nD τ).loc cc0_scratch1) ↦{fullShare} f :=
  Entails.of_eq (owns_whole (c : Thread nD τ) cc0_scratch1 fullShare f)

theorem own2 (f : Buf (Elt F) ((c : Thread nD τ).loc cc0_scratch2)) :
    (Cert.Trip.owns c (Memref.whole cc0_scratch2) fullShare f : sProp 𝕄G) ⊢ ((c : Thread nD τ).loc cc0_scratch2) ↦{fullShare} f :=
  Entails.of_eq (owns_whole (c : Thread nD τ) cc0_scratch2 fullShare f)

/-- The invariant after the last point gives the scoped rest of the launch back. -/
theorem finish : (rd m c).Φ (Fin.last (cfgM m).N) ⊢ Pipeline.ΦA (cfgM m).spec c := by
  show (iprop(Pipeline.ΦT (Val := Elt F) pre0 (adm m 0).1 c ∗ (∃ r, prngReg c r)
    ∗ ∃ s, Cert.Trip.scr c (Memref.whole cc0_scratch0) (Memref.whole cc0_scratch1) (Memref.whole cc0_scratch2) (stAt m c s 73)) : sProp 𝕄G)
    ⊢ iprop(Pipeline.scopedRest spec0 c ∗ ∃ r, prngReg c r)
  rw [scopedRest0_eq]
  unfold Cert.Trip.scr
  iintro ⟨Ht, Hp, ⟨%s, Ha, Hb, Hc⟩⟩
  isplitr [Hp]
  rotate_left
  · iexact Hp
  isplitl [Ha]
  · iexists (stAt m c s 73).a
    iapply (own0 c (stAt m c s 73).a) $$ [Ha]
    iexact Ha
  isplitl [Hb]
  · iexists (stAt m c s 73).b
    iapply (own1 c (stAt m c s 73).b) $$ [Hb]
    iexact Hb
  · iexists (stAt m c s 73).acc
    iapply (own2 c (stAt m c s 73).acc) $$ [Hc]
    iexact Hc

theorem hostOps0_fresh : (hostOps0 : List (HloOp τ sig (Elt F))).Forall fun op => op.fresh = ∅ := by
  repeat' first | exact rfl | apply And.intro

set_option maxHeartbeats 4000000 in
/-- The run: every array ends as the proof data say, every other buffer as the host operations left it. -/
theorem run (g : Dev nD → PrngReg) :
    θ_run (defs (F := F)) (onTc (τ := τ) (main (F := F))) ⟨m, fun _ => 0, g⟩
      (fun r => Pipeline.RDat.FramePost (cfgM m) (rd m) (V m) r ∧ r.2.sem = fun _ => 0) :=
  Pipeline.RDat.θ_run_frameP_track_shared (pcfgs (F := F)) (adm m) 0 launch₀0 defs₀ Variants.none (rd m) m g (main (F := F))
    (body m) (fun _ _ _ => rfl) (fun _ _ => rfl) (V m)
    (Pipeline.hmainP_prefix (pcfgs (F := F)) 0 defs₀ Variants.none m (main (F := F)) hostOps0 hostOps0_sub hostOps0_fresh main_chain)
    (fun _ _ => rfl) (fun c k => by obtain rfl : c = 0 := Subsingleton.elim _ _; rfl) (start m) (finish m) _ (fun _ h => h)

theorem V_arg0 : V m c main_arg0 = m (c, main_arg0) := by unfold_abbrev_sides; after_results
theorem V_arg1 : V m c main_arg1 = m (c, main_arg1) := by unfold_abbrev_sides; after_results
theorem V_arg2 : V m c main_arg2 = m (c, main_arg2) := by unfold_abbrev_sides; after_results
theorem V_arg3 : V m c main_arg3 = m (c, main_arg3) := by unfold_abbrev_sides; after_results
theorem V_arg4 : V m c main_arg4 = m (c, main_arg4) := by unfold_abbrev_sides; after_results

theorem rest (b : Ref sig .tc) (hs : b.isScoped = false) (ha : ∀ w, (spec0 w).arr.view.ref ≠ b) : b ∈ Pipeline.restRefs sig (cfgM m).spec :=
  Pipeline.mem_restRefs_of b hs ha

/-- The program runs, its arguments end unchanged and every semaphore reads zero. -/
theorem quiescent (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c =>
    ⟨((h.1 c).2 main_arg0 (rest m _ rfl (by decide))).trans (V_arg0 m c), ((h.1 c).2 main_arg1 (rest m _ rfl (by decide))).trans (V_arg1 m c),
      ((h.1 c).2 main_arg2 (rest m _ rfl (by decide))).trans (V_arg2 m c), ((h.1 c).2 main_arg3 (rest m _ rfl (by decide))).trans (V_arg3 m c),
      ((h.1 c).2 main_arg4 (rest m _ rfl (by decide))).trans (V_arg4 m c)⟩, h.2⟩) (run m g)

end Cert.KernelIdeal.Own
-- ==== Proof.Parity.lean ====
module

public import Idealize.ShloMosaic.PureOps
public import Mathlib.Data.EReal.Operations
public import Mathlib.Algebra.BigOperators.Fin

@[expose] public section

/-! # Signs of a Walsh–Hadamard transform

The parity of the bits two numbers share, the sign it stands for, and the word operations that
compute it. Then finite sums of reals as extended reals. -/

noncomputable section

namespace Cert.Trip

open Idealize.ShloMosaic

/-- The parity of the number of places below `n` where both `a` and `b` have a set bit. -/
def pty : Nat → Nat → Nat → Bool
  | 0, _, _ => false
  | n + 1, a, b => (pty n a b) ^^ (a.testBit n && b.testBit n)

/-- The sign of a parity. -/
def sg (p : Bool) : ℝ := if p then -1 else 1

theorem sg_xor (p q : Bool) : sg (p ^^ q) = sg p * sg q := by
  unfold sg
  cases p <;> cases q <;> norm_num

theorem pty_congr (n a a' b b' : Nat) (h : ∀ i < n, (a.testBit i && b.testBit i) = (a'.testBit i && b'.testBit i)) :
    pty n a b = pty n a' b' := by
  induction n with
  | zero => rfl
  | succ n ih => unfold pty; rw [ih fun i hi => h i (by omega), h n (by omega)]

/-- A parity over `m + n` places is the parity of the low places and that of the high ones. -/
theorem pty_add (m n a b : Nat) : pty (m + n) a b = (pty m a b ^^ pty n (a / 2 ^ m) (b / 2 ^ m)) := by
  induction n with
  | zero => simp [pty]
  | succ n ih =>
    rw [← Nat.add_assoc, pty, ih, pty, Nat.testBit_div_two_pow, Nat.testBit_div_two_pow, Bool.xor_assoc, Nat.add_comm n m]

theorem pty_low (n a b : Nat) : pty n a b = pty n (a % 2 ^ n) b :=
  pty_congr _ _ _ _ _ fun i hi => by rw [Nat.testBit_mod_two_pow]; simp [hi]

theorem pty_low' (n a b : Nat) : pty n a b = pty n a (b % 2 ^ n) :=
  pty_congr _ _ _ _ _ fun i hi => by rw [Nat.testBit_mod_two_pow]; simp [hi]

theorem pty_comm (n a b : Nat) : pty n a b = pty n b a := by
  induction n with
  | zero => rfl
  | succ n ih => unfold pty; rw [ih, Bool.and_comm]

/-- The parity with a number made of a high and a low part. -/
theorem pty_split (m n a hi lo : Nat) (h : lo < 2 ^ m) :
    pty (m + n) a (hi * 2 ^ m + lo) = (pty m a lo ^^ pty n (a / 2 ^ m) hi) := by
  rw [pty_add, pty_low' m a]
  have e1 : (hi * 2 ^ m + lo) % 2 ^ m = lo := by
    rw [Nat.add_comm, Nat.add_mul_mod_self_right, Nat.mod_eq_of_lt h]
  have e2 : (hi * 2 ^ m + lo) / 2 ^ m = hi := by
    rw [Nat.add_comm, Nat.add_mul_div_right _ _ (Nat.two_pow_pos m), Nat.div_eq_of_lt h, Nat.zero_add]
  rw [e1, e2]

/-- Places where one number has no bit do not count. -/
theorem pty_short (m n a b : Nat) (h : b < 2 ^ m) : pty (m + n) a b = pty m a b := by
  induction n with
  | zero => rfl
  | succ n ih =>
    rw [← Nat.add_assoc, pty, ih, Nat.testBit_lt_two_pow (i := m + n) (lt_of_lt_of_le h (Nat.pow_le_pow_right (by omega) (by omega)))]
    simp

theorem filter_pty (x y : BitVec 32) (n : Nat) :
    ((List.range n).filter fun i => (x &&& y).getLsbD i).length % 2 = if pty n x.toNat y.toNat then 1 else 0 := by
  induction n with
  | zero => rfl
  | succ n ih =>
    rw [List.range_succ, List.filter_append, List.length_append, pty]
    have e : (x &&& y).getLsbD n = (x.toNat.testBit n && y.toNat.testBit n) := by rw [BitVec.getLsbD_and]; rfl
    have e2 : (List.filter (fun i => (x &&& y).getLsbD i) [n]).length = if (x.toNat.testBit n && y.toNat.testBit n) then 1 else 0 := by
      rw [List.filter_singleton, e]
      cases (x.toNat.testBit n && y.toNat.testBit n) <;> rfl
    rw [e2]
    cases hp : pty n x.toNat y.toNat <;> cases hq : (x.toNat.testBit n && y.toNat.testBit n) <;> simp [hp] at ih ⊢ <;> omega

/-- The lowest bit of a word's population count, the word a conjunction. -/
theorem ctpop_pty (x y : BitVec 32) : IntOp.andi (IntOp.ctpop (IntOp.andi x y)) 1#32 = if pty 32 x.toNat y.toNat then 1#32 else 0#32 := by
  have h := filter_pty x y 32
  refine BitVec.eq_of_toNat_eq ?_
  have h1 : (IntOp.andi (IntOp.ctpop (IntOp.andi x y)) 1#32).toNat = (IntOp.ctpop (IntOp.andi x y)).toNat % 2 := by
    show (_ &&& 1#32).toNat = _
    rw [BitVec.toNat_and]
    exact Nat.and_two_pow_sub_one_eq_mod _ 1
  rw [h1]
  show (BitVec.ofNat 32 ((List.range 32).filter fun i => (x &&& y).getLsbD i).length).toNat % 2 = _
  rw [BitVec.toNat_ofNat, Nat.mod_mod_of_dvd _ (by decide : 2 ∣ 2 ^ 32), h]
  cases pty 32 x.toNat y.toNat <;> rfl

/-! ## Sums of reals as extended reals -/

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem sum_of_coe {ι : Type} (s : Finset ι) (g : ι → EReal) (f : ι → ℝ) (h : ∀ i ∈ s, g i = ((f i : ℝ) : EReal)) :
    (∑ i ∈ s, g i) = ((∑ i ∈ s, f i : ℝ) : EReal) := by
  rw [Finset.sum_congr rfl h, coe_sum]

end Cert.Trip
-- ==== Proof.ValHost.lean ====
module

public import proofs.«01_k».proof.Proof.RunIdeal
public import proofs.«01_k».proof.Proof.Parity
public import Idealize.ShloMosaic.Lib.ValueIdx
public import Idealize.ShloMosaic.Lib.IdealHost
public import Idealize.ShloMosaic.Lib.Pipeline.Value
public import Idealize.ShloMosaic.PureOps.Ideal.Laws
public import Idealize.ShloMosaic.PureOps.Reduce

@[expose] public section

/-! # The host arrays at the call, element by element -/

noncomputable section

namespace Cert.KernelIdeal.Own

open Idealize.ShloMosaic Idealize.ShloMosaic.TcCoe Idealize.ShloMosaic.Tactic Idealize.ShloMosaic.ValueIdx
open Idealize.SL.Sem
open Cert.KernelIdeal.Gen Cert.Trip

/-- A field of bits read by an arithmetic shift and a mask. -/
theorem field_toNat (x : BitVec 32) (k w : Nat) (h : k + w ≤ 32) (hw : w < 32) :
    (x.sshiftRight k &&& BitVec.ofNat 32 (2 ^ w - 1)).toNat = x.toNat / 2 ^ k % 2 ^ w := by
  have e : (BitVec.ofNat 32 (2 ^ w - 1)).toNat = 2 ^ w - 1 := by
    rw [BitVec.toNat_ofNat, Nat.mod_eq_of_lt]
    have : 2 ^ w < 2 ^ 32 := Nat.pow_lt_pow_right (by omega) hw
    omega
  rw [BitVec.toNat_and, e, Nat.and_two_pow_sub_one_eq_mod]
  apply Nat.eq_of_testBit_eq
  intro i
  rw [Nat.testBit_mod_two_pow, Nat.testBit_mod_two_pow, Nat.testBit_div_two_pow]
  by_cases hi : i < w
  · have a : (x.sshiftRight k).toNat.testBit i = (x.sshiftRight k).getLsbD i := rfl
    have b : x.toNat.testBit (i + k) = x.getLsbD (i + k) := rfl
    rw [a, b, BitVec.getLsbD_sshiftRight, if_pos (by omega), Nat.add_comm k i]
    simp [hi, show i < 32 by omega]
  · simp [hi]

theorem or_toNat (a b n : Nat) (h : b < 2 ^ n) : a * 2 ^ n ||| b = a * 2 ^ n + b := by
  rw [Nat.mul_comm, Nat.two_pow_add_eq_or_of_lt h]

/-- The row word and the code word of a slot's transform index, in bits of the index. -/
theorem rowWord_bits (x : BitVec 32) : (rowWord x).toNat =
    (x.toNat / 2 ^ 15 % 2 ^ 3 * 256 + (x.toNat / 2 ^ 9 % 2 ^ 1 * 2 ^ 7 + x.toNat % 2 ^ 7)) * 9 := by
  rw [rowWord_toNat]
  have h15 := field_toNat x 15 3 (by omega) (by omega)
  have h9 := field_toNat x 9 1 (by omega) (by omega)
  have h0 : (x &&& 127#32).toNat = x.toNat % 2 ^ 7 := by
    rw [BitVec.toNat_and]; exact Nat.and_two_pow_sub_one_eq_mod _ 7
  have e : ((x &&& 127#32) ||| ((x.sshiftRight' 9#32 &&& 1#32) <<< 7#32)).toNat = x.toNat / 2 ^ 9 % 2 ^ 1 * 2 ^ 7 + x.toNat % 2 ^ 7 := by
    rw [BitVec.toNat_or, h0, ← or_toNat _ _ 7 (Nat.mod_lt _ (by decide)), Nat.or_comm]
    congr 1
    show ((x.sshiftRight 9 &&& BitVec.ofNat 32 (2 ^ 1 - 1)) <<< 7).toNat = _
    rw [BitVec.toNat_shiftLeft, h9, Nat.shiftLeft_eq, Nat.mod_eq_of_lt]
    have := Nat.mod_lt (x.toNat / 2 ^ 9) (show 0 < 2 ^ 1 by decide)
    omega
  rw [e]
  congr 3

/-- The finish code of a slot's transform index. -/
def codeWord (x : BitVec 32) : BitVec 32 :=
  let row := ((x.sshiftRight' 15#32 &&& 7#32) * 256#32 + ((x &&& 127#32) ||| ((x.sshiftRight' 9#32 &&& 1#32) <<< 7#32))) * 9#32
  let code := (((x.sshiftRight' 12#32 &&& 7#32) <<< 4#32) ||| ((x.sshiftRight' 10#32 &&& 3#32) <<< 2#32)) ||| (x.sshiftRight' 7#32 &&& 3#32)
  (row * 128#32 + code) &&& 127#32

theorem codeWord_bits (x : BitVec 32) : (codeWord x).toNat =
    x.toNat / 2 ^ 12 % 2 ^ 3 * 16 + x.toNat / 2 ^ 10 % 2 ^ 2 * 4 + x.toNat / 2 ^ 7 % 2 ^ 2 := by
  have h12 : (x.sshiftRight' 12#32 &&& 7#32).toNat = _ := field_toNat x 12 3 (by omega) (by omega)
  have h10 : (x.sshiftRight' 10#32 &&& 3#32).toNat = _ := field_toNat x 10 2 (by omega) (by omega)
  have h7 : (x.sshiftRight' 7#32 &&& 3#32).toNat = _ := field_toNat x 7 2 (by omega) (by omega)
  have l12 := Nat.mod_lt (x.toNat / 2 ^ 12) (show 0 < 2 ^ 3 by decide)
  have l10 := Nat.mod_lt (x.toNat / 2 ^ 10) (show 0 < 2 ^ 2 by decide)
  have l7 := Nat.mod_lt (x.toNat / 2 ^ 7) (show 0 < 2 ^ 2 by decide)
  unfold codeWord
  dsimp only
  generalize (((x.sshiftRight' 15#32 &&& 7#32) * 256#32 + ((x &&& 127#32) ||| ((x.sshiftRight' 9#32 &&& 1#32) <<< 7#32))) * 9#32) = row
  generalize hA : x.toNat / 2 ^ 12 % 2 ^ 3 = A at *
  generalize hB : x.toNat / 2 ^ 10 % 2 ^ 2 = B at *
  generalize hC : x.toNat / 2 ^ 7 % 2 ^ 2 = C at *
  have eA : ((x.sshiftRight' 12#32 &&& 7#32) <<< 4#32).toNat = A * 2 ^ 4 := by
    show ((x.sshiftRight' 12#32 &&& 7#32) <<< 4).toNat = _
    rw [BitVec.toNat_shiftLeft, h12, Nat.shiftLeft_eq, Nat.mod_eq_of_lt]; omega
  have eB : ((x.sshiftRight' 10#32 &&& 3#32) <<< 2#32).toNat = B * 2 ^ 2 := by
    show ((x.sshiftRight' 10#32 &&& 3#32) <<< 2).toNat = _
    rw [BitVec.toNat_shiftLeft, h10, Nat.shiftLeft_eq, Nat.mod_eq_of_lt]; omega
  have e : ((((x.sshiftRight' 12#32 &&& 7#32) <<< 4#32) ||| ((x.sshiftRight' 10#32 &&& 3#32) <<< 2#32)) ||| (x.sshiftRight' 7#32 &&& 3#32)).toNat
      = A * 16 + B * 4 + C := by
    rw [BitVec.toNat_or, BitVec.toNat_or, eA, eB, h7, or_toNat A (B * 2 ^ 2) 4 (by omega),
      show A * 2 ^ 4 + B * 2 ^ 2 = (A * 4 + B) * 2 ^ 2 by ring, or_toNat _ C 2 (by omega)]
    ring
  have e127 : ∀ y : BitVec 32, (y &&& 127#32).toNat = y.toNat % 128 := fun y => by
    rw [BitVec.toNat_and]; exact Nat.and_two_pow_sub_one_eq_mod _ 7
  rw [e127, BitVec.toNat_add, e, BitVec.toNat_mul, BitVec.toNat_ofNat]
  omega

variable (m : (ℓ : Loc nD τ sig) → Buf (Elt Ideal) ℓ) (c : Dev nD)

/-- The argument arrays: the codes, the scales, the signs, the slots' transform indices, the quartets' classes. -/
abbrev a0 : S1x72x4194304.Idx → BitVec 8 := m (c, main_arg0)
abbrev a1 : S1x4194304.Idx → EReal := m (c, main_arg1)
abbrev a2 : S1x4194304.Idx → BitVec 8 := m (c, main_arg2)
abbrev a3 : S1216.Idx → BitVec 32 := m (c, main_arg3)
abbrev a4 : S304.Idx → BitVec 32 := m (c, main_arg4)

theorem V_codes :
    (V m c main_v63 : S1216x1.Idx → BitVec 32) = broadcastInDim S1216x1 ![0] bcast_S1216_S1216x1_0
      (fun j => codeWord (a3 m c j)) := by
  unfold_abbrev_sides
  after_results
  rfl

theorem V_codes_at (s : Fin 1216) :
    (V m c main_v63 : S1216x1.Idx → BitVec 32) (ix2 s 0) = codeWord (a3 m c (ix1 s)) := by
  rw [V_codes]
  exact broadcastInDim_apply _ _ _ _ (ix1 s) (fun a => by obtain rfl : a = 0 := Subsingleton.elim _ _; rfl)

theorem V_x :
    (V m c main_v2 : S9x8192x32x128.Idx → BitVec 8) = shapeCast S9x8192x32x128 (transpose S9x8192x4x8x128 [0, 2, 3, 1, 4]
      (shapeCast S9x8x8192x4x128 (a0 m c) shapeCasts_S1x72x4194304_S9x8x8192x4x128)
        transposes_S9x8x8192x4x128_S9x8192x4x8x128_0_2_3_1_4) shapeCasts_S9x8192x4x8x128_S9x8192x32x128 := by
  unfold_abbrev_sides
  after_results
  rfl

theorem V_x_at (g : Fin 9) (W : Fin 8192) (ρ : Fin 32) (l : Fin 128) :
    (V m c main_v2 : S9x8192x32x128.Idx → BitVec 8) (ix4 g W ρ l) = a0 m c
      (ix3 0 ⟨g.val * 8 + ρ.val % 8, by omega⟩ ⟨W.val * 512 + ρ.val / 8 * 128 + l.val, by omega⟩) := by
  rw [V_x]
  rw [shapeCast_apply (j := ix4 g W ρ l) (k := ix5 g W (⟨ρ.val / 8, by omega⟩ : Fin 4) (⟨ρ.val % 8, by omega⟩ : Fin 8) l)]
  · rw [transpose_apply (j := _) (k := ix5 g (⟨ρ.val % 8, by omega⟩ : Fin 8) W (⟨ρ.val / 8, by omega⟩ : Fin 4) l)]
    · rw [shapeCast_apply]
      rw [Shape.rowMajor_val_three, Shape.rowMajor_val_five]
      show (0 * 72 + (g.val * 8 + ρ.val % 8)) * 4194304 + (W.val * 512 + ρ.val / 8 * 128 + l.val)
        = (((g.val * 8 + ρ.val % 8) * 8192 + W.val) * 4 + ρ.val / 8) * 128 + l.val
      omega
    · intro a; fin_cases a <;> rfl
  · rw [Shape.rowMajor_val_four, Shape.rowMajor_val_five]
    show (((g.val * 8192 + W.val) * 4 + ρ.val / 8) * 8 + ρ.val % 8) * 128 + l.val = ((g.val * 8192 + W.val) * 32 + ρ.val) * 128 + l.val
    omega

theorem V_rs :
    (V m c main_v7 : S32768x128.Idx → Ideal .bf16) = shapeCast S32768x128
      (fun i => a1 m c i
        * (((a2 m c i).signExtend 32).toInt : ℝ) : S1x4194304.Idx → Ideal .bf16)
      shapeCasts_S1x4194304_S32768x128 := by
  unfold_abbrev_sides
  after_results
  rfl

theorem V_rs_at (r : Fin 32768) (l : Fin 128) :
    (V m c main_v7 : S32768x128.Idx → Ideal .bf16) (ix2 r l)
      = a1 m c (ix2 0 ⟨r.val * 128 + l.val, by omega⟩)
        * (((a2 m c (ix2 0 ⟨r.val * 128 + l.val, by omega⟩)).toInt : ℝ) : EReal) := by
  rw [V_rs]
  rw [shapeCast_apply (j := ix2 r l) (k := ix2 (0 : Fin 1) (⟨r.val * 128 + l.val, by omega⟩ : Fin 4194304))]
  · rw [BitVec.toInt_signExtend_of_le (by decide)]
  · rw [Shape.rowMajor_val_two, Shape.rowMajor_val_two]
    show 0 * 4194304 + (r.val * 128 + l.val) = r.val * 128 + l.val
    omega

theorem V_h :
    (V m c main_v18 : S256x256.Idx → Ideal .bf16) = fun i => (((IntOp.subi 1#32 (IntOp.muli 2#32
      (IntOp.andi (IntOp.ctpop (IntOp.andi (BitVec.ofNat 32 (i 0).val) (BitVec.ofNat 32 (i 1).val))) 1#32))).toInt : ℝ) : EReal) := by
  unfold_abbrev_sides
  after_results
  rfl

theorem sign_word (b : Bool) : (((IntOp.subi 1#32 (IntOp.muli 2#32 (if b then 1#32 else 0#32))).toInt : ℝ)) = sg b := by
  cases b
  · show (((1 : Int) : ℝ)) = 1; norm_num
  · show (((-1 : Int) : ℝ)) = -1; norm_num

theorem V_h_at (r k : Fin 256) :
    (V m c main_v18 : S256x256.Idx → Ideal .bf16) (ix2 r k) = ((sg (pty 8 r.val k.val) : ℝ) : EReal) := by
  rw [V_h]
  show (((IntOp.subi 1#32 (IntOp.muli 2#32
      (IntOp.andi (IntOp.ctpop (IntOp.andi (BitVec.ofNat 32 r.val) (BitVec.ofNat 32 k.val))) 1#32))).toInt : ℝ) : EReal) = _
  rw [ctpop_pty, sign_word, BitVec.toNat_ofNat, BitVec.toNat_ofNat, Nat.mod_eq_of_lt (by omega), Nat.mod_eq_of_lt (by omega),
    show (32 : Nat) = 8 + 24 from rfl, pty_short 8 24 _ _ (by omega)]

end Cert.KernelIdeal.Own
-- ==== Proof.ValVisit.lean ====
module

public import proofs.«01_k».proof.Proof.Facts
public import Idealize.ShloMosaic.Lib.ValueIdx
public import Idealize.ShloMosaic.Lib.Pipeline.Value
public import Idealize.ShloMosaic.PureOps.Ideal.Laws

@[expose] public section

/-! # What the visits add to the accumulator

Reading the functions of `TripWp` and `Point` at one index: loops that touch an element once,
replaced rectangles, and the visits of a half-block. -/

noncomputable section

namespace Cert.Trip

open Idealize.ShloMosaic Idealize.ShloMosaic.ValueIdx

/-! ## Loops and rectangles at an index -/

theorem runT_stable {N : Nat} {ι α : Type} (f : Fin N → (ι → α) → ι → α) (i : ι) (k : Nat) (S : ι → α)
    (h : ∀ (j : Fin N) S, j.val < k → f j S i = S i) : runT f k S i = S i := by
  induction k with
  | zero => rfl
  | succ k ih =>
    unfold runT
    split
    · rw [h _ _ (Nat.lt_succ_self k), ih fun j S hj => h j S (by omega)]
    · exact ih fun j S hj => h j S (by omega)

/-- A loop of which one trip alone changes the element `i`. -/
theorem runT_once {N : Nat} {ι α : Type} (f : Fin N → (ι → α) → ι → α) (i : ι) (k0 : Fin N) (g : α → α)
    (h0 : ∀ S, f k0 S i = g (S i)) (h1 : ∀ k, k ≠ k0 → ∀ S, f k S i = S i) (S : ι → α) : runT f N S i = g (S i) := by
  have key : ∀ k, k0.val < k → runT f k S i = g (S i) := by
    intro k hk
    induction k with
    | zero => omega
    | succ k ih =>
      unfold runT
      split
      · rename_i h
        by_cases e : k = k0.val
        · have e' : (⟨k, h⟩ : Fin N) = k0 := Fin.ext e
          rw [e', h0, runT_stable f i k S fun j S hj => h1 j (fun hj' => by rw [hj'] at hj; omega) S]
        · rw [h1 _ (fun e' => e (congrArg Fin.val e')), ih (by omega)]
      · exact ih (by have := k0.isLt; omega)
  exact key N k0.isLt

theorem upd_in {s : Shape} {α : Type} (r : Rect s) (X : s.Idx → α) (w : r.shape.Idx → α) (i : s.Idx) (x : r.shape.Idx)
    (h : ∀ a, r.off a + r.stride a * (x a).val = (i a).val) : upd r X w i = w x := by
  have e : r.emb x = i := funext fun a => Fin.ext (h a)
  rw [← e, upd_emb]

theorem upd_out {s : Shape} {α : Type} (r : Rect s) (X : s.Idx → α) (w : r.shape.Idx → α) (i : s.Idx) (a : Fin s.rank)
    (h : ∀ x : r.shape.Idx, r.off a + r.stride a * (x a).val ≠ (i a).val) : upd r X w i = X i :=
  upd_not r X w i fun x e => h x (congrArg (fun j : s.Idx => (j a).val) e)

/-! ## The visits -/

section Visits

variable {b : BitVec 32} {n : Fin 8} (hc : ∀ (k : Fin 38) w, clsOk b n.val k.val w)
  (Xr : S1216.Idx → BitVec 32) (hr : ∀ j, rowOk (Xr j)) (Xc : S304.Idx → BitVec 32)
  {g : Fin 3} (hg : Scalar.remsi b 3#32 = BitVec.ofNat 32 g.val)
  (A : S7296x8x128.Idx → Ideal .f32) (S : S18432x128.Idx → Ideal .f32)

include hg in
theorem accR_off (k : Fin 38) (w : BitVec 32) (u : Fin 4) {s : Fin 2}
    (hs : Scalar.andi (Scalar.shrui w (oOf b)) 1#32 = BitVec.ofNat 32 s.val) :
    (accR hc k w u).off = ![(g.val * 2 + s.val) * 1216 + (n.val * 38 + k.val) * 4 + u.val, 0, 0] :=
  accOff_eq hg hs n k u

theorem row_eq_fin : ∀ (n : Fin 8) (k : Fin 38) (u : Fin 4), rowOff n.val k.val u.val = ![(n.val * 38 + k.val) * 4 + u.val] := by decide +kernel
theorem cls_eq_fin : ∀ (n : Fin 8) (k : Fin 38), clsOff n.val k.val = ![n.val * 38 + k.val] := by decide +kernel

/-- The row word and the class word of a slot, by the slot's number. -/
theorem rowW_eq (k : Fin 38) (u : Fin 4) (h : (n.val * 38 + k.val) * 4 + u.val < 1216) :
    rowW Xr n k u = Xr (ix1 ⟨(n.val * 38 + k.val) * 4 + u.val, h⟩) := by
  unfold rowW
  refine congrArg Xr (funext fun a => Fin.ext ?_)
  match a with
  | ⟨0, _⟩ =>
    exact congrFun (row_eq_fin n k u) 0

theorem clsW_eq (k : Fin 38) (h : n.val * 38 + k.val < 304) : clsW Xc n k = Xc (ix1 ⟨n.val * 38 + k.val, h⟩) := by
  unfold clsW
  refine congrArg Xc (funext fun a => Fin.ext ?_)
  match a with
  | ⟨0, _⟩ =>
    exact congrFun (cls_eq_fin n k) 0

theorem slab_word (v : BitVec 32) (hv : v.toNat < 2 ^ 31) : slabOff v = ![v.toNat, 0] := by
  unfold slabOff
  have : (Scalar.indexCast v).toNat = v.toNat := by
    show (v.setWidth _).toNat = _
    rw [BitVec.toNat_setWidth]
    exact Nat.mod_eq_of_lt (by have := v.isLt; exact lt_of_lt_of_le this (by decide))
  rw [this]

include hg in
theorem back_hit (k : Fin 38) (w : BitVec 32) (u : Fin 4) (new : FVec Ideal S8x128 .f32) {s : Fin 2}
    (hs : Scalar.andi (Scalar.shrui w (oOf b)) 1#32 = BitVec.ofNat 32 s.val) (r : Fin 7296) (e : Fin 8) (l : Fin 128)
    (hrow : r.val = (g.val * 2 + s.val) * 1216 + (n.val * 38 + k.val) * 4 + u.val) :
    backV hc A k w u new (ix3 r e l) = new (ix2 e l) := by
  unfold backV
  have ho := accR_off hc hg k w u hs
  refine (upd_in (accR hc k w u) A _ (ix3 r e l) (ix3 (0 : Fin 1) e l : S1x8x128.Idx) ?_).trans ?_
  · intro a
    rw [ho]
    match a with
    | ⟨0, _⟩ => show _ + 1 * 0 = r.val; rw [hrow]; rfl
    | ⟨1, _⟩ => show 0 + 1 * e.val = e.val; omega
    | ⟨2, _⟩ => show 0 + 1 * l.val = l.val; omega
  · refine shapeCast_apply _ _ _ (ix2 e l) ?_
    rw [Shape.rowMajor_val_two, Shape.rowMajor_val_three]
    show e.val * 128 + l.val = (0 * 8 + e.val) * 128 + l.val
    omega

include hg in
theorem back_miss (k : Fin 38) (w : BitVec 32) (u : Fin 4) (new : FVec Ideal S8x128 .f32) {s : Fin 2}
    (hs : Scalar.andi (Scalar.shrui w (oOf b)) 1#32 = BitVec.ofNat 32 s.val) (r : Fin 7296) (e : Fin 8) (l : Fin 128)
    (hrow : r.val ≠ (g.val * 2 + s.val) * 1216 + (n.val * 38 + k.val) * 4 + u.val) :
    backV hc A k w u new (ix3 r e l) = A (ix3 r e l) := by
  unfold backV
  have ho := accR_off hc hg k w u hs
  refine upd_out (accR hc k w u) A _ (ix3 r e l) ⟨0, by decide⟩ ?_
  intro x
  rw [ho]
  have hx : ((show S1x8x128.Idx from x) 0).val < 1 := ((show S1x8x128.Idx from x) 0).isLt
  intro h
  have h' : (g.val * 2 + s.val) * 1216 + (n.val * 38 + k.val) * 4 + u.val + 1 * ((show S1x8x128.Idx from x) 0).val = r.val := h
  omega

include hg in
theorem slot_at (k : Fin 38) (w : BitVec 32) (u : Fin 4) {s : Fin 2}
    (hs : Scalar.andi (Scalar.shrui w (oOf b)) 1#32 = BitVec.ofNat 32 s.val) (r : Fin 7296) (e : Fin 8) (l : Fin 128)
    (hrow : r.val = (g.val * 2 + s.val) * 1216 + (n.val * 38 + k.val) * 4 + u.val)
    (q : Fin 18432) (hv : (rowW Xr n k u).toNat < 2 ^ 31) (hq : q.val = (rowW Xr n k u).toNat + e.val) :
    slotV hc Xr hr A S k w u (ix2 e l) = A (ix3 r e l) + S (ix2 q l) := by
  have ho := accR_off hc hg k w u hs
  unfold slotV
  refine congrArg₂ (fun x y : EReal => x + y) ?_ ?_
  · refine (shapeCast_apply _ _ _ (ix3 (0 : Fin 1) e l) ?_).trans (congrArg A (funext fun a => Fin.ext ?_))
    · rw [Shape.rowMajor_val_two, Shape.rowMajor_val_three]
      show (0 * 8 + e.val) * 128 + l.val = e.val * 128 + l.val
      omega
    · show (accR hc k w u).off a + 1 * _ = _
      rw [ho]
      match a with
      | ⟨0, _⟩ => show _ + 1 * 0 = r.val; rw [hrow]; rfl
      | ⟨1, _⟩ => show 0 + 1 * e.val = e.val; omega
      | ⟨2, _⟩ => show 0 + 1 * l.val = l.val; omega
  · refine congrArg S (funext fun a => Fin.ext ?_)
    show slabOff (rowW Xr n k u) a + 1 * _ = _
    rw [slab_word _ hv]
    match a with
    | ⟨0, _⟩ => show (rowW Xr n k u).toNat + 1 * e.val = q.val; omega
    | ⟨1, _⟩ => show 0 + 1 * l.val = l.val; omega

theorem fin4 : ∀ u : Fin 4, u = 0 ∨ u = 1 ∨ u = 2 ∨ u = 3 := by decide

include hg in
/-- A group adds to its own four rows, -/
theorem group_hit (k : Fin 38) (u : Fin 4) {s : Fin 2}
    (hs : Scalar.andi (Scalar.shrui (clsW Xc n k) (oOf b)) 1#32 = BitVec.ofNat 32 s.val) (r : Fin 7296) (e : Fin 8) (l : Fin 128)
    (hrow : r.val = (g.val * 2 + s.val) * 1216 + (n.val * 38 + k.val) * 4 + u.val)
    (q : Fin 18432) (hv : (rowW Xr n k u).toNat < 2 ^ 31) (hq : q.val = (rowW Xr n k u).toNat + e.val) :
    groupV hc Xr hr Xc S k A (ix3 r e l) = A (ix3 r e l) + S (ix2 q l) := by
  unfold groupV
  have m := fun A' (u' : Fin 4) new (h : u'.val ≠ u.val) => back_miss hc hg A' k (clsW Xc n k) u' new hs r e l (by omega)
  have z := slot_at hc Xr hr hg A S k _ u hs r e l hrow q hv hq
  have t := fun A' new => back_hit hc hg A' k (clsW Xc n k) u new hs r e l hrow
  have hu : u = 0 ∨ u = 1 ∨ u = 2 ∨ u = 3 := fin4 u
  rcases hu with e | e | e | e <;> subst e
  · rw [m _ 3 _ (by decide), m _ 2 _ (by decide), m _ 1 _ (by decide), t, z]
  · rw [m _ 3 _ (by decide), m _ 2 _ (by decide), t, z]
  · rw [m _ 3 _ (by decide), t, z]
  · rw [t, z]

include hg in
/-- and leaves every other row. -/
theorem group_miss (k : Fin 38) {s : Fin 2}
    (hs : Scalar.andi (Scalar.shrui (clsW Xc n k) (oOf b)) 1#32 = BitVec.ofNat 32 s.val) (r : Fin 7296) (e : Fin 8) (l : Fin 128)
    (hrow : r.val < (g.val * 2 + s.val) * 1216 + (n.val * 38 + k.val) * 4 ∨ (g.val * 2 + s.val) * 1216 + (n.val * 38 + k.val) * 4 + 4 ≤ r.val) :
    groupV hc Xr hr Xc S k A (ix3 r e l) = A (ix3 r e l) := by
  unfold groupV
  have m := fun A' (u' : Fin 4) new => back_miss hc hg A' k (clsW Xc n k) u' new hs r e l (by have := u'.isLt; omega)
  rw [m, m, m, m]

/-- The groups of a trip, where one of them alone changes the element `i`. -/
theorem groups_once (i : S7296x8x128.Idx) (k0 : Fin 38) (v : EReal)
    (h0 : ∀ A, groupV hc Xr hr Xc S k0 A i = A i + v) (h1 : ∀ k, k ≠ k0 → ∀ A, groupV hc Xr hr Xc S k A i = A i)
    (r : Nat) (h : r ≤ 38) : ∀ A, groupsV hc Xr hr Xc S r h A i = A i + (if 38 - r ≤ k0.val then v else 0) := by
  induction r with
  | zero => intro A; rw [groupsV, if_neg (by have := k0.isLt; omega)]; exact (add_zero (A i)).symm
  | succ r ih =>
    intro A
    rw [groupsV, ih]
    by_cases e : 37 - r = k0.val
    · have e' : (⟨37 - r, by omega⟩ : Fin 38) = k0 := Fin.ext e
      rw [e', h0, if_neg (by omega), if_pos (by omega), add_zero]
    · rw [h1 _ (fun e' => e (congrArg Fin.val e'))]
      by_cases e2 : 38 - r ≤ k0.val
      · rw [if_pos e2, if_pos (by omega)]
      · rw [if_neg e2, if_neg (by omega)]

theorem groups_none (i : S7296x8x128.Idx) (h1 : ∀ k, ∀ A, groupV hc Xr hr Xc S k A i = A i)
    (r : Nat) (h : r ≤ 38) : ∀ A, groupsV hc Xr hr Xc S r h A i = A i := by
  induction r with
  | zero => intro A; rfl
  | succ r ih => intro A; rw [groupsV, ih, h1]

end Visits

/-- What the visits of a half-block add at a slot's row of a set, -/
theorem visits_at {b : BitVec 32} (hc : ∀ (n : Fin 8) (k : Fin 38) w, clsOk b n.val k w) (Xr : S1216.Idx → BitVec 32) (hr : ∀ j, rowOk (Xr j))
    (hv : ∀ j, (Xr j).toNat ≤ 18424) (Xc : S304.Idx → BitVec 32) (S : S18432x128.Idx → Ideal .f32) (A : S7296x8x128.Idx → Ideal .f32)
    {g : Fin 3} (hg : Scalar.remsi b 3#32 = BitVec.ofNat 32 g.val) (a : Fin 6) (s : Fin 1216) (e : Fin 8) (l : Fin 128)
    (bit : Fin 2) (hbit : Scalar.andi (Scalar.shrui (Xc (ix1 ⟨s.val / 4, by omega⟩)) (oOf b)) 1#32 = BitVec.ofNat 32 bit.val) :
    visitsAll hc Xr hr Xc S A (ix3 ⟨a.val * 1216 + s.val, by omega⟩ e l)
      = A (ix3 ⟨a.val * 1216 + s.val, by omega⟩ e l)
        + (if a.val = g.val * 2 + bit.val then S (ix2 ⟨(Xr (ix1 s)).toNat + e.val, by have := hv (ix1 s); omega⟩ l) else 0) := by
  unfold visitsAll
  have hs4 : s.val / 4 < 304 := by omega
  let n0 : Fin 8 := ⟨s.val / 152, by omega⟩
  let k0 : Fin 38 := ⟨s.val % 152 / 4, by omega⟩
  let u0 : Fin 4 := ⟨s.val % 4, by omega⟩
  have hk : (n0.val * 38 + k0.val) = s.val / 4 := by show s.val / 152 * 38 + s.val % 152 / 4 = _; omega
  have hsl : (n0.val * 38 + k0.val) * 4 + u0.val = s.val := by rw [hk]; show s.val / 4 * 4 + s.val % 4 = _; omega
  have hcw : clsW Xc n0 k0 = Xc (ix1 ⟨s.val / 4, by omega⟩) := by
    rw [clsW_eq Xc k0 (by omega)]; exact congrArg (fun x => Xc (ix1 x)) (Fin.ext hk)
  have hrw : rowW Xr n0 k0 u0 = Xr (ix1 s) := by
    rw [rowW_eq Xr k0 u0 (by omega)]; exact congrArg (fun x => Xr (ix1 x)) (Fin.ext hsl)
  refine runT_once (α := EReal) _ _ n0 (fun x => x + _) (fun A' => ?_) (fun n hn A' => ?_) A
  · refine (groups_once (hc n0) Xr hr Xc S _ k0
      (if a.val = g.val * 2 + bit.val then S (ix2 ⟨(Xr (ix1 s)).toNat + e.val, by have := hv (ix1 s); omega⟩ l) else 0)
      (fun A'' => ?_) (fun k hkk A'' => ?_) 38 (Nat.le_refl _) A').trans ?_
    · split
      · rename_i ha
        exact group_hit (hc n0) Xr hr Xc hg A'' S k0 u0 (by rw [hcw]; exact hbit) _ e l (by show a.val * 1216 + s.val = _; rw [ha]; omega) _
          (by rw [hrw]; have := hv (ix1 s); omega) (by rw [hrw])
      · rename_i ha
        refine (group_miss (hc n0) Xr hr Xc hg A'' S k0 (by rw [hcw]; exact hbit) _ e l ?_).trans (add_zero (A'' _ : EReal)).symm
        show a.val * 1216 + s.val < _ ∨ _ ≤ a.val * 1216 + s.val
        omega
    · obtain ⟨s', hs'⟩ := and_one_cases (Scalar.shrui (clsW Xc n0 k) (oOf b))
      refine group_miss (hc n0) Xr hr Xc hg A'' S k hs' _ e l ?_
      show a.val * 1216 + s.val < _ ∨ _ ≤ a.val * 1216 + s.val
      have h1 : k.val ≠ k0.val := fun h => hkk (Fin.ext h)
      have := s'.isLt; have := n0.isLt; have := k.isLt
      omega
    · rw [if_pos (by omega)]
  · refine groups_none (hc n) Xr hr Xc S _ (fun k A'' => ?_) 38 (Nat.le_refl _) A'
    obtain ⟨s', hs'⟩ := and_one_cases (Scalar.shrui (clsW Xc n k) (oOf b))
    refine group_miss (hc n) Xr hr Xc hg A'' S k hs' _ e l ?_
    show a.val * 1216 + s.val < _ ∨ _ ≤ a.val * 1216 + s.val
    have h1 : n.val ≠ n0.val := fun h => hn (Fin.ext h)
    have := s'.isLt; have := k.isLt
    omega

end Cert.Trip
-- ==== Proof.ValTile.lean ====
module

public import proofs.«01_k».proof.Proof.ValVisit
public import proofs.«01_k».proof.Proof.Parity

@[expose] public section

/-! # What the tiles of a half-block leave in the slab -/

noncomputable section

namespace Cert.Trip

open Idealize.ShloMosaic Idealize.ShloMosaic.ValueIdx

theorem xOff_eq_fin : ∀ (n q : Fin 8) (k : Fin 4) (β : Fin 2),
    xOff n.val q.val k.val β.val = ![0, 64 * q.val + 8 * n.val + 2 * k.val + β.val, 0, 0] := by decide +kernel
theorem r0Off_eq_fin : ∀ (n q : Fin 8) (k : Fin 4) (β hh : Fin 2),
    r0Off n.val q.val k.val β.val hh.val = ![(64 * q.val + 8 * n.val + 2 * k.val + β.val) * 4 + 2 * hh.val, 0] := by decide +kernel
theorem r1Off_eq_fin : ∀ (n q : Fin 8) (k : Fin 4) (β hh : Fin 2),
    r1Off n.val q.val k.val β.val hh.val = ![(64 * q.val + 8 * n.val + 2 * k.val + β.val) * 4 + 2 * hh.val + 1, 0] := by decide +kernel
theorem stOff_eq_fin : ∀ (n q : Fin 8), stOff n.val q.val = ![2304 * q.val + n.val, 0] := by decide +kernel
theorem half_fin : ∀ r : Fin 16, BitVec.ofBool ((BitVec.ofNat 32 r.val).slt 8#32) = if r.val < 8 then 1#1 else 0#1 := by decide +kernel

section Tile

variable (X : S1x512x32x128.Idx → BitVec 8) (R : S2048x128.Idx → Ideal .bf16) (H : S256x256.Idx → Ideal .bf16) (n : Fin 8)

/-- A scaled code. -/
def cellVal (V : Fin 512) (ρ : Fin 32) (l : Fin 128) : EReal :=
  (((X (ix4 0 V ρ l)).toInt : ℝ) : EReal) * R (ix2 ⟨V.val * 4 + ρ.val / 8, by omega⟩ l)

/-- The row of tiles of `(q, k, β)`. -/
def vRow (n q : Fin 8) (k : Fin 4) (β : Fin 2) : Fin 512 := ⟨64 * q.val + 8 * n.val + 2 * k.val + β.val, by omega⟩

theorem tileF_at (q : Fin 8) (k : Fin 4) (β : Fin 2) (ρ : Fin 32) (l : Fin 128) :
    tileF (F := Ideal) (gather X (xR n q k β).toLoadRect) (ix2 ρ l) = (((X (ix4 0 (vRow n q k β) ρ l)).toInt : ℝ) : EReal) := by
  unfold tileF
  refine congrArg (fun x : BitVec 8 => ((x.toInt : ℝ) : EReal)) ?_
  refine (shapeCast_apply (s := S1x1x32x128) _ _ _ (ix4 (0 : Fin 1) (0 : Fin 1) ρ l) ?_).trans (congrArg X (funext fun a => Fin.ext ?_))
  · rw [Shape.rowMajor_val_two, Shape.rowMajor_val_four]
    show ((0 * 1 + 0) * 32 + ρ.val) * 128 + l.val = ρ.val * 128 + l.val
    omega
  · have h := xOff_eq_fin n q k β
    match a with
    | ⟨0, _⟩ =>
      have h' : xOff n.val q.val k.val β.val 0 = 0 := congrFun h 0
      show xOff n.val q.val k.val β.val 0 + 1 * 0 = 0
      omega
    | ⟨1, _⟩ =>
      have h' : xOff n.val q.val k.val β.val 1 = 64 * q.val + 8 * n.val + 2 * k.val + β.val := congrFun h 1
      show xOff n.val q.val k.val β.val 1 + 1 * 0 = 64 * q.val + 8 * n.val + 2 * k.val + β.val
      omega
    | ⟨2, _⟩ =>
      have h' : xOff n.val q.val k.val β.val 2 = 0 := congrFun h 2
      show xOff n.val q.val k.val β.val 2 + 1 * ρ.val = ρ.val
      omega
    | ⟨3, _⟩ =>
      have h' : xOff n.val q.val k.val β.val 3 = 0 := congrFun h 3
      show xOff n.val q.val k.val β.val 3 + 1 * l.val = l.val
      omega

theorem bcRow_at (x : Vec Ideal S1x128 .bf16) (r : Fin 16) (l : Fin 128) : bcRow x (ix2 r l) = x (ix2 0 l) := by
  unfold bcRow
  rw [shapeCast_self, shapeCast_self]
  refine broadcastTo_apply _ _ _ (ix2 0 l) ?_
  intro a
  match a with
  | ⟨0, _⟩ => rfl
  | ⟨1, _⟩ => rfl

theorem firstHalf_at (r : Fin 16) (l : Fin 128) : firstHalf (ix2 r l) = if r.val < 8 then 1#1 else 0#1 := by
  unfold firstHalf
  rw [← half_fin r]
  show BitVec.ofBool ((iota .tc S16x128 32 [0] _ (ix2 r l)).slt 8#32) = _
  rw [iota_single_apply]

/-- The scale factor of a row of a part. -/
theorem scale_at (q : Fin 8) (k : Fin 4) (β hh : Fin 2) (r : Fin 16) (l : Fin 128) :
    select firstHalf (bcRow (gather R (r0R n q k β hh).toLoadRect)) (bcRow (gather R (r1R n q k β hh).toLoadRect)) (ix2 r l)
      = R (ix2 ⟨(vRow n q k β).val * 4 + (hh.val * 16 + r.val) / 8, by omega⟩ l) := by
  show (if firstHalf (ix2 r l) = 1#1 then _ else _) = _
  rw [firstHalf_at]
  by_cases h : r.val < 8
  · rw [if_pos h, if_pos rfl]
    refine (bcRow_at _ r l).trans (congrArg R (funext fun a => Fin.ext ?_))
    match a with
    | ⟨0, _⟩ =>
      have h' : r0Off n.val q.val k.val β.val hh.val 0 = _ := congrFun (r0Off_eq_fin n q k β hh) 0
      have h'' : r0Off n.val q.val k.val β.val hh.val 0 = (64 * q.val + 8 * n.val + 2 * k.val + β.val) * 4 + 2 * hh.val := h'
      show r0Off n.val q.val k.val β.val hh.val 0 + 1 * 0 = (64 * q.val + 8 * n.val + 2 * k.val + β.val) * 4 + (hh.val * 16 + r.val) / 8
      omega
    | ⟨1, _⟩ =>
      have h' : r0Off n.val q.val k.val β.val hh.val 1 = 0 := congrFun (r0Off_eq_fin n q k β hh) 1
      show r0Off n.val q.val k.val β.val hh.val 1 + 1 * l.val = l.val
      omega
  · rw [if_neg h, if_neg (by decide)]
    refine (bcRow_at _ r l).trans (congrArg R (funext fun a => Fin.ext ?_))
    match a with
    | ⟨0, _⟩ =>
      have h' : r1Off n.val q.val k.val β.val hh.val 0 = _ := congrFun (r1Off_eq_fin n q k β hh) 0
      have h'' : r1Off n.val q.val k.val β.val hh.val 0 = (64 * q.val + 8 * n.val + 2 * k.val + β.val) * 4 + 2 * hh.val + 1 := h'
      show r1Off n.val q.val k.val β.val hh.val 0 + 1 * 0 = (64 * q.val + 8 * n.val + 2 * k.val + β.val) * 4 + (hh.val * 16 + r.val) / 8
      have := r.isLt
      omega
    | ⟨1, _⟩ =>
      have h' : r1Off n.val q.val k.val β.val hh.val 1 = 0 := congrFun (r1Off_eq_fin n q k β hh) 1
      show r1Off n.val q.val k.val β.val hh.val 1 + 1 * l.val = l.val
      omega

theorem cell0_at (q : Fin 8) (k : Fin 4) (β : Fin 2) (r : Fin 16) (l : Fin 128) :
    cell0 X R n q k β (ix2 r l) = cellVal X R (vRow n q k β) ⟨r.val, by omega⟩ l := by
  unfold cell0 part0 cellVal
  refine congrArg₂ (fun x y : EReal => x * y) ?_ ?_
  · refine (extractStridedSlice_apply (s := S32x128) (t := S16x128) _ _ _ _ (ix2 (⟨r.val, by omega⟩ : Fin 32) l) ?_).trans (tileF_at X n q k β _ l)
    intro a
    match a with
    | ⟨0, _⟩ => show r.val = 0 + r.val; omega
    | ⟨1, _⟩ => show l.val = 0 + l.val; omega
  · refine (scale_at R n q k β 0 r l).trans (congrArg (fun i : Fin 2048 => R (ix2 i l)) (Fin.ext ?_))
    show (vRow n q k β).val * 4 + (0 * 16 + r.val) / 8 = (vRow n q k β).val * 4 + r.val / 8
    omega

theorem cell1_at (q : Fin 8) (k : Fin 4) (β : Fin 2) (r : Fin 16) (l : Fin 128) :
    cell1 X R n q k β (ix2 r l) = cellVal X R (vRow n q k β) ⟨16 + r.val, by omega⟩ l := by
  unfold cell1 part1 cellVal
  refine congrArg₂ (fun x y : EReal => x * y) ?_ ?_
  · refine (extractStridedSlice_apply (s := S32x128) (t := S16x128) _ _ _ _ (ix2 (⟨16 + r.val, by omega⟩ : Fin 32) l) ?_).trans (tileF_at X n q k β _ l)
    intro a
    match a with
    | ⟨0, _⟩ => rfl
    | ⟨1, _⟩ => show l.val = 0 + l.val; omega
  · refine (scale_at R n q k β 1 r l).trans (congrArg (fun i : Fin 2048 => R (ix2 i l)) (Fin.ext ?_))
    show (vRow n q k β).val * 4 + (1 * 16 + r.val) / 8 = (vRow n q k β).val * 4 + (16 + r.val) / 8
    omega

/-- The eight parts of a stack. -/
def cells (q : Fin 8) (β : Fin 2) (p : Fin 8) : FVec Ideal S16x128 .bf16 :=
  match p with
  | 0 => cell0 X R n q 0 β
  | 1 => cell1 X R n q 0 β
  | 2 => cell0 X R n q 1 β
  | 3 => cell1 X R n q 1 β
  | 4 => cell0 X R n q 2 β
  | 5 => cell1 X R n q 2 β
  | 6 => cell0 X R n q 3 β
  | 7 => cell1 X R n q 3 β

theorem cells_at (q : Fin 8) (β : Fin 2) (p : Fin 8) (r : Fin 16) (l : Fin 128) :
    cells X R n q β p (ix2 r l) = cellVal X R (vRow n q ⟨p.val / 2, by omega⟩ β) ⟨p.val % 2 * 16 + r.val, by omega⟩ l := by
  have e0 : ∀ k : Fin 4, cellVal X R (vRow n q k β) ⟨r.val, by omega⟩ l = cellVal X R (vRow n q k β) ⟨0 * 16 + r.val, by omega⟩ l :=
    fun k => congrArg (fun i => cellVal X R (vRow n q k β) i l) (Fin.ext (by show r.val = 0 * 16 + r.val; omega))
  match p with
  | 0 => exact (cell0_at X R n q 0 β r l).trans (e0 0)
  | 1 => exact cell1_at X R n q 0 β r l
  | 2 => exact (cell0_at X R n q 1 β r l).trans (e0 1)
  | 3 => exact cell1_at X R n q 1 β r l
  | 4 => exact (cell0_at X R n q 2 β r l).trans (e0 2)
  | 5 => exact cell1_at X R n q 2 β r l
  | 6 => exact (cell0_at X R n q 3 β r l).trans (e0 3)
  | 7 => exact cell1_at X R n q 3 β r l

theorem stack_at (q : Fin 8) (β : Fin 2) (i : Fin 128) (l : Fin 128) :
    stackV X R n q β (ix2 i l) = cellVal X R (vRow n q ⟨i.val / 32, by omega⟩ β) ⟨i.val % 32, by omega⟩ l := by
  have e : stackV X R n q β = concatenate S128x128 0 (List.ofFn fun p : Fin 8 => (⟨S16x128, cells X R n q β p⟩ : (s : Shape) × (s.Idx → Ideal .bf16))) catRows := rfl
  rw [e]
  refine (concatenate_ofFn_apply (t := S128x128) (s₁ := S16x128) 0 (cells X R n q β) catRows rfl 16 rfl (ix2 i l) ⟨i.val / 16, by omega⟩ rfl
    (ix2 (⟨i.val % 16, by omega⟩ : Fin 16) l) rfl ?_).trans ?_
  · intro b hb
    match b with
    | ⟨0, _⟩ => exact absurd rfl hb
    | ⟨1, _⟩ => rfl
  · rw [cells_at]
    refine congrArg₂ (fun k ρ => cellVal X R (vRow n q k β) ρ l) (Fin.ext ?_) (Fin.ext ?_)
    · show i.val / 16 / 2 = i.val / 32; omega
    · show i.val / 16 % 2 * 16 + i.val % 16 = i.val % 32; omega

theorem side_at (q : Fin 8) (i : Fin 128) (j : Fin 256) :
    sideV X R n q (ix2 i j) = cellVal X R (vRow n q ⟨i.val / 32, by omega⟩ ⟨j.val / 128, by omega⟩) ⟨i.val % 32, by omega⟩ ⟨j.val % 128, by omega⟩ := by
  unfold sideV
  by_cases h : j.val < 128
  · refine (concatenate_pair_apply_left (t := S128x256) 1 _ _ catSide (ix2 i j) rfl (ix2 i (⟨j.val, h⟩ : Fin 128)) ?_).trans ?_
    · intro b
      match b with
      | ⟨0, _⟩ => rfl
      | ⟨1, _⟩ => rfl
    · rw [stack_at]
      refine congrArg₂ (fun β l => cellVal X R (vRow n q ⟨i.val / 32, _⟩ β) ⟨i.val % 32, _⟩ l) (Fin.ext ?_) (Fin.ext ?_)
      · show 0 = j.val / 128; omega
      · show j.val = j.val % 128; omega
  · refine (concatenate_pair_apply_right (t := S128x256) 1 _ _ catSide (ix2 i j) rfl rfl (ix2 i (⟨j.val - 128, by omega⟩ : Fin 128)) ?_ ?_).trans ?_
    · intro b hb
      match b with
      | ⟨0, _⟩ => rfl
      | ⟨1, _⟩ => exact absurd rfl hb
    · show j.val - 128 + 128 = j.val; omega
    · rw [stack_at]
      refine congrArg₂ (fun β l => cellVal X R (vRow n q ⟨i.val / 32, _⟩ β) ⟨i.val % 32, _⟩ l) (Fin.ext ?_) (Fin.ext ?_)
      · show 1 = j.val / 128; omega
      · show j.val - 128 = j.val % 128; omega

/-- Two sides, one above the other. -/
theorem pair_at (a b : FVec Ideal S128x256 .bf16) (i : Fin 256) (j : Fin 256) :
    concatenate S256x256 0 [⟨S128x256, a⟩, ⟨S128x256, b⟩] catQ (ix2 i j)
      = if h : i.val < 128 then a (ix2 ⟨i.val, h⟩ j) else b (ix2 ⟨i.val - 128, by omega⟩ j) := by
  split
  · rename_i h
    refine concatenate_pair_apply_left (t := S256x256) 0 _ _ catQ (ix2 i j) rfl (ix2 (⟨i.val, h⟩ : Fin 128) j) ?_
    intro b
    match b with
    | ⟨0, _⟩ => rfl
    | ⟨1, _⟩ => rfl
  · refine concatenate_pair_apply_right (t := S256x256) 0 _ _ catQ (ix2 i j) rfl rfl (ix2 (⟨i.val - 128, by omega⟩ : Fin 128) j) ?_ ?_
    · intro b hb
      match b with
      | ⟨0, _⟩ => exact absurd rfl hb
      | ⟨1, _⟩ => rfl
    · show i.val - 128 + 128 = i.val; omega

theorem prod_at (q q' : Fin 8) (r i : Fin 256) :
    prodV X R H n q q' (ix2 r i) = ∑ j : Fin 256, (H (ix2 r j) : EReal)
      * (if h : i.val < 128 then sideV X R n q (ix2 ⟨i.val, h⟩ j) else sideV X R n q' (ix2 ⟨i.val - 128, by omega⟩ j)) := by
  unfold prodV prodT
  simp only [matmul]
  rw [Ideal.matmul_constant_zero_apply]
  refine Fintype.sum_equiv (contrEquiv1 dotD 256 rfl rfl) _ _ (fun k => ?_)
  have hk := congrArg (fun x : EReal => x) (pair_at (sideV X R n q) (sideV X R n q') i (contrEquiv1 dotD 256 rfl rfl k))
  refine congrArg₂ (fun x y : EReal => x * y) ?_ (Eq.trans (congrArg _ ?_) hk)
  · rw [shapeCast_self]
    refine congrArg H (funext fun a => Fin.ext ?_)
    match a with
    | ⟨0, _⟩ => show 0 + 1 * r.val = r.val; omega
    | ⟨1, _⟩ => show 0 + 1 * (k ⟨0, by decide⟩).val = (k ⟨0, by decide⟩).val; omega
  · funext a
    match a with
    | ⟨0, _⟩ => rfl
    | ⟨1, _⟩ => rfl

variable (f : Nat → Nat → Nat → ℝ)
  (hf : ∀ (V : Fin 512) (ρ : Fin 32) (l : Fin 128), cellVal X R V ρ l = ((f V.val ρ.val l.val : ℝ) : EReal))
  (hH : ∀ r j : Fin 256, H (ix2 r j) = ((sg (pty 8 r.val j.val) : ℝ) : EReal))

/-- The transform, over the lower eight places, of a `q`'s tile. -/
def yv (f : Nat → Nat → Nat → ℝ) (n q r i : Nat) : ℝ :=
  ∑ j : Fin 256, sg (pty 8 r j.val) * f (64 * q + 8 * n + 2 * (i / 32) + j.val / 128) (i % 32) (j.val % 128)

include hf hH in
theorem side_sum (q : Fin 8) (r : Fin 256) (i : Fin 128) :
    (∑ j : Fin 256, (H (ix2 r j) : EReal) * sideV X R n q (ix2 i j)) = ((yv f n.val q.val r.val i.val : ℝ) : EReal) := by
  refine sum_of_coe _ _ _ fun j _ => ?_
  rw [side_at, hf, hH, ← EReal.coe_mul]
  rfl

include hf hH in
theorem lo_at (q q' : Fin 8) (r : Fin 256) (i : Fin 128) :
    lo (prodV X R H n q q') (ix2 r i) = ((yv f n.val q.val r.val i.val : ℝ) : EReal) := by
  unfold lo
  refine (extractStridedSlice_apply (s := S256x256) (t := S256x128) _ _ _ _ (ix2 r (⟨i.val, by omega⟩ : Fin 256)) ?_).trans ?_
  · intro a
    match a with
    | ⟨0, _⟩ => show r.val = 0 + r.val; omega
    | ⟨1, _⟩ => show i.val = 0 + i.val; omega
  · rw [prod_at, ← side_sum X R H n f hf hH q r i]
    refine Finset.sum_congr rfl fun j _ => ?_
    rw [dif_pos (by exact i.isLt)]

include hf hH in
theorem hi_at (q q' : Fin 8) (r : Fin 256) (i : Fin 128) :
    hi (prodV X R H n q q') (ix2 r i) = ((yv f n.val q'.val r.val i.val : ℝ) : EReal) := by
  unfold hi
  refine (extractStridedSlice_apply (s := S256x256) (t := S256x128) _ _ _ _ (ix2 r (⟨128 + i.val, by omega⟩ : Fin 256)) ?_).trans ?_
  · intro a
    match a with
    | ⟨0, _⟩ => show r.val = 0 + r.val; omega
    | ⟨1, _⟩ => rfl
  · rw [prod_at, ← side_sum X R H n f hf hH q' r i]
    refine Finset.sum_congr rfl fun j _ => ?_
    rw [dif_neg (by show ¬ 128 + i.val < 128; omega)]
    refine congrArg (fun i' : Fin 128 => (H (ix2 r j) : EReal) * sideV X R n q' (ix2 i' j)) (Fin.ext ?_)
    show 128 + i.val - 128 = i.val
    omega

theorem st_hit (S : S18432x128.Idx → Ideal .f32) (q : Fin 8) (y : FVec Ideal S256x128 .f32) (r : Fin 256) (i : Fin 128) :
    stV n S q y (ix2 ⟨(q.val * 256 + r.val) * 9 + n.val, by omega⟩ i) = y (ix2 r i) := by
  unfold stV
  rw [shapeCast_self]
  refine upd_in (stR n q) S y _ (ix2 r i : S256x128.Idx) ?_
  intro a
  match a with
  | ⟨0, _⟩ =>
    have h : stOff n.val q.val 0 = 2304 * q.val + n.val := congrFun (stOff_eq_fin n q) 0
    show stOff n.val q.val 0 + 9 * r.val = (q.val * 256 + r.val) * 9 + n.val
    omega
  | ⟨1, _⟩ =>
    have h : stOff n.val q.val 1 = 0 := congrFun (stOff_eq_fin n q) 1
    show stOff n.val q.val 1 + 1 * i.val = i.val
    omega

theorem st_miss (S : S18432x128.Idx → Ideal .f32) (q q' n' : Fin 8) (y : FVec Ideal S256x128 .f32) (r : Fin 256) (i : Fin 128)
    (h : n'.val ≠ n.val ∨ q'.val ≠ q.val) :
    stV n S q y (ix2 ⟨(q'.val * 256 + r.val) * 9 + n'.val, by omega⟩ i) = S (ix2 ⟨(q'.val * 256 + r.val) * 9 + n'.val, by omega⟩ i) := by
  unfold stV
  refine upd_out (stR n q) S _ _ ⟨0, by decide⟩ ?_
  intro x hx
  have hb : ((show S256x128.Idx from x) 0).val < 256 := ((show S256x128.Idx from x) 0).isLt
  have h0 : stOff n.val q.val 0 = 2304 * q.val + n.val := congrFun (stOff_eq_fin n q) 0
  have h' : stOff n.val q.val 0 + 9 * ((show S256x128.Idx from x) 0).val = (q'.val * 256 + r.val) * 9 + n'.val := hx
  have := n.isLt; have := n'.isLt; have := r.isLt
  omega

/-- The slab's value after the tiles: row `ρ` before padding, step `e`, column `i`. -/
def tb (f : Nat → Nat → Nat → ℝ) (ρ e i : Nat) : ℝ :=
  ∑ q ∈ Finset.range 8, sg (pty 3 (ρ / 256) q) * yv f e q (ρ % 256) i

theorem fin8 : ∀ u : Fin 8, u = 0 ∨ u = 1 ∨ u = 2 ∨ u = 3 ∨ u = 4 ∨ u = 5 ∨ u = 6 ∨ u = 7 := by decide

/-- Three butterfly stages, at the row where the result of index `q'` goes. -/
theorem bfly_at (y : Fin 8 → FVec Ideal S256x128 .f32) (S : S18432x128.Idx → Ideal .f32) (q' : Fin 8) (r : Fin 256) (i : Fin 128)
    (v : Nat → ℝ) (hv : ∀ q : Fin 8, y q (ix2 r i) = ((v q.val : ℝ) : EReal)) :
    bflyV n (y 0) (y 1) (y 2) (y 3) (y 4) (y 5) (y 6) (y 7) S (ix2 ⟨(q'.val * 256 + r.val) * 9 + n.val, by omega⟩ i)
      = ((∑ q ∈ Finset.range 8, sg (pty 3 q'.val q) * v q : ℝ) : EReal) := by
  have m := fun S (q : Fin 8) y (h : q'.val ≠ q.val) => st_miss n S q q' n y r i (.inr h)
  have t := fun S y => st_hit n S q' y r i
  have ha : ∀ (a b : FVec Ideal S256x128 .f32) (x y : ℝ), a (ix2 r i) = (x : EReal) → b (ix2 r i) = (y : EReal) → addf a b (ix2 r i) = ((x + y : ℝ) : EReal) :=
    fun a b x y h1 h2 => by
      show (a (ix2 r i) : EReal) + b (ix2 r i) = _
      rw [h1, h2, EReal.coe_add]
  have hs : ∀ (a b : FVec Ideal S256x128 .f32) (x y : ℝ), a (ix2 r i) = (x : EReal) → b (ix2 r i) = (y : EReal) → subf a b (ix2 r i) = ((x - y : ℝ) : EReal) :=
    fun a b x y h1 h2 => by
      show (a (ix2 r i) : EReal) - b (ix2 r i) = _
      rw [h1, h2, EReal.coe_sub]
  have h0 : y 0 (ix2 r i) = ((v 0 : ℝ) : EReal) := hv 0
  have h1 : y 1 (ix2 r i) = ((v 1 : ℝ) : EReal) := hv 1
  have h2 : y 2 (ix2 r i) = ((v 2 : ℝ) : EReal) := hv 2
  have h3 : y 3 (ix2 r i) = ((v 3 : ℝ) : EReal) := hv 3
  have h4 : y 4 (ix2 r i) = ((v 4 : ℝ) : EReal) := hv 4
  have h5 : y 5 (ix2 r i) = ((v 5 : ℝ) : EReal) := hv 5
  have h6 : y 6 (ix2 r i) = ((v 6 : ℝ) : EReal) := hv 6
  have h7 : y 7 (ix2 r i) = ((v 7 : ℝ) : EReal) := hv 7
  have A01 := ha _ _ _ _ h0 h1; have A23 := ha _ _ _ _ h2 h3; have A45 := ha _ _ _ _ h4 h5; have A67 := ha _ _ _ _ h6 h7
  have D01 := hs _ _ _ _ h0 h1; have D23 := hs _ _ _ _ h2 h3; have D45 := hs _ _ _ _ h4 h5; have D67 := hs _ _ _ _ h6 h7
  have hsum : ∀ p : Nat, (∑ q ∈ Finset.range 8, sg (pty 3 p q) * v q) = sg (pty 3 p 0) * v 0 + sg (pty 3 p 1) * v 1 + sg (pty 3 p 2) * v 2
      + sg (pty 3 p 3) * v 3 + sg (pty 3 p 4) * v 4 + sg (pty 3 p 5) * v 5 + sg (pty 3 p 6) * v 6 + sg (pty 3 p 7) * v 7 := fun p => by
    simp only [Finset.sum_range_succ, Finset.sum_range_zero, zero_add]
  have P : sg true = -1 := rfl
  have N : sg false = 1 := rfl
  unfold bflyV
  rw [hsum]
  rcases fin8 q' with e | e | e | e | e | e | e | e <;> subst e
  · rw [m _ 7 _ (by decide), m _ 6 _ (by decide), m _ 5 _ (by decide), m _ 4 _ (by decide), m _ 3 _ (by decide), m _ 2 _ (by decide), m _ 1 _ (by decide), t]
    refine (ha _ _ _ _ (ha _ _ _ _ A01 A23) (ha _ _ _ _ A45 A67)).trans (congrArg _ ?_)
    show _ = sg false * v 0 + sg false * v 1 + sg false * v 2 + sg false * v 3 + sg false * v 4 + sg false * v 5 + sg false * v 6 + sg false * v 7
    rw [N]; ring
  · rw [m _ 7 _ (by decide), m _ 6 _ (by decide), m _ 5 _ (by decide), m _ 4 _ (by decide), m _ 3 _ (by decide), m _ 2 _ (by decide), t]
    refine (ha _ _ _ _ (ha _ _ _ _ D01 D23) (ha _ _ _ _ D45 D67)).trans (congrArg _ ?_)
    show _ = sg false * v 0 + sg true * v 1 + sg false * v 2 + sg true * v 3 + sg false * v 4 + sg true * v 5 + sg false * v 6 + sg true * v 7
    rw [N, P]; ring
  · rw [m _ 7 _ (by decide), m _ 6 _ (by decide), m _ 5 _ (by decide), m _ 4 _ (by decide), m _ 3 _ (by decide), t]
    refine (ha _ _ _ _ (hs _ _ _ _ A01 A23) (hs _ _ _ _ A45 A67)).trans (congrArg _ ?_)
    show _ = sg false * v 0 + sg false * v 1 + sg true * v 2 + sg true * v 3 + sg false * v 4 + sg false * v 5 + sg true * v 6 + sg true * v 7
    rw [N, P]; ring
  · rw [m _ 7 _ (by decide), m _ 6 _ (by decide), m _ 5 _ (by decide), m _ 4 _ (by decide), t]
    refine (ha _ _ _ _ (hs _ _ _ _ D01 D23) (hs _ _ _ _ D45 D67)).trans (congrArg _ ?_)
    show _ = sg false * v 0 + sg true * v 1 + sg true * v 2 + sg false * v 3 + sg false * v 4 + sg true * v 5 + sg true * v 6 + sg false * v 7
    rw [N, P]; ring
  · rw [m _ 7 _ (by decide), m _ 6 _ (by decide), m _ 5 _ (by decide), t]
    refine (hs _ _ _ _ (ha _ _ _ _ A01 A23) (ha _ _ _ _ A45 A67)).trans (congrArg _ ?_)
    show _ = sg false * v 0 + sg false * v 1 + sg false * v 2 + sg false * v 3 + sg true * v 4 + sg true * v 5 + sg true * v 6 + sg true * v 7
    rw [N, P]; ring
  · rw [m _ 7 _ (by decide), m _ 6 _ (by decide), t]
    refine (hs _ _ _ _ (ha _ _ _ _ D01 D23) (ha _ _ _ _ D45 D67)).trans (congrArg _ ?_)
    show _ = sg false * v 0 + sg true * v 1 + sg false * v 2 + sg true * v 3 + sg true * v 4 + sg false * v 5 + sg true * v 6 + sg false * v 7
    rw [N, P]; ring
  · rw [m _ 7 _ (by decide), t]
    refine (hs _ _ _ _ (hs _ _ _ _ A01 A23) (hs _ _ _ _ A45 A67)).trans (congrArg _ ?_)
    show _ = sg false * v 0 + sg false * v 1 + sg true * v 2 + sg true * v 3 + sg true * v 4 + sg true * v 5 + sg false * v 6 + sg false * v 7
    rw [N, P]; ring
  · rw [t]
    refine (hs _ _ _ _ (hs _ _ _ _ D01 D23) (hs _ _ _ _ D45 D67)).trans (congrArg _ ?_)
    show _ = sg false * v 0 + sg true * v 1 + sg true * v 2 + sg false * v 3 + sg true * v 4 + sg false * v 5 + sg false * v 6 + sg true * v 7
    rw [N, P]; ring

end Tile

/-- The slab after the eight trips' tiles. -/
theorem tiles_at (X : S1x512x32x128.Idx → BitVec 8) (R : S2048x128.Idx → Ideal .bf16) (H : S256x256.Idx → Ideal .bf16)
    (f : Nat → Nat → Nat → ℝ)
    (hf : ∀ (V : Fin 512) (ρ : Fin 32) (l : Fin 128), cellVal X R V ρ l = ((f V.val ρ.val l.val : ℝ) : EReal))
    (hH : ∀ r j : Fin 256, H (ix2 r j) = ((sg (pty 8 r.val j.val) : ℝ) : EReal))
    (S : S18432x128.Idx → Ideal .f32) (ρ : Fin 2048) (e : Fin 8) (i : Fin 128) :
    tilesAll X R H S (ix2 ⟨ρ.val * 9 + e.val, by omega⟩ i) = ((tb f ρ.val e.val i.val : ℝ) : EReal) := by
  unfold tilesAll
  have hρ : (⟨ρ.val * 9 + e.val, by omega⟩ : Fin 18432) = ⟨((⟨ρ.val / 256, by omega⟩ : Fin 8).val * 256 + (⟨ρ.val % 256, by omega⟩ : Fin 256).val) * 9 + e.val, by
      show (ρ.val / 256 * 256 + ρ.val % 256) * 9 + e.val < 18432; omega⟩ := Fin.ext (by
    show ρ.val * 9 + e.val = (ρ.val / 256 * 256 + ρ.val % 256) * 9 + e.val; omega)
  rw [hρ]
  refine runT_once (α := EReal) _ _ e (fun _ => _) (fun S => ?_) (fun k hk S => ?_) S
  · unfold tilesV
    refine (bfly_at e (fun q : Fin 8 => match q with
        | 0 => lo (prodV X R H e 0 1) | 1 => hi (prodV X R H e 0 1) | 2 => lo (prodV X R H e 2 3) | 3 => hi (prodV X R H e 2 3)
        | 4 => lo (prodV X R H e 4 5) | 5 => hi (prodV X R H e 4 5) | 6 => lo (prodV X R H e 6 7) | 7 => hi (prodV X R H e 6 7))
      S ⟨ρ.val / 256, by omega⟩ ⟨ρ.val % 256, by omega⟩ i (fun q => yv f e.val q (ρ.val % 256) i.val) ?_).trans rfl
    intro q
    rcases fin8 q with h | h | h | h | h | h | h | h <;> subst h
    · exact lo_at X R H e f hf hH 0 1 _ i
    · exact hi_at X R H e f hf hH 0 1 _ i
    · exact lo_at X R H e f hf hH 2 3 _ i
    · exact hi_at X R H e f hf hH 2 3 _ i
    · exact lo_at X R H e f hf hH 4 5 _ i
    · exact hi_at X R H e f hf hH 4 5 _ i
    · exact lo_at X R H e f hf hH 6 7 _ i
    · exact hi_at X R H e f hf hH 6 7 _ i
  · unfold tilesV bflyV
    have m := fun S (q : Fin 8) y => st_miss k S q ⟨ρ.val / 256, by omega⟩ e y ⟨ρ.val % 256, by omega⟩ i (.inl fun h => hk (Fin.ext h.symm))
    rw [m, m, m, m, m, m, m, m]

end Cert.Trip
-- ==== Proof.ValWin.lean ====
module

public import proofs.«01_k».proof.Proof.ValHost
public import proofs.«01_k».proof.Proof.ValTile

@[expose] public section

/-! # What the windows hold at each grid point, and the words of the grid point -/

noncomputable section

namespace Cert.KernelIdeal.Own

open Idealize.ShloMosaic Idealize.ShloMosaic.TcCoe Idealize.ShloMosaic.Tactic Idealize.ShloMosaic.ValueIdx
open Idealize.SL.Sem
open Cert.KernelIdeal.Gen Cert.Trip

/-- The half-block of the first phase's product, of its visits, and of the second phase's product. -/
def bA (t : Fin 73) : Nat := min (2 * t.val) 143
def bV (t : Fin 73) : Nat := 2 * t.val - 1
def bB (t : Fin 73) : Nat := min (2 * t.val + 1) 143

/-- The group of columns and the outer bits of a half-block. -/
def gOf (b : Nat) : Nat := b / 48 * 3 + b % 3
def outer (b : Nat) : Nat := b % 48 / 3

theorem t0_eq : ∀ t : Fin 73, cc0_transform_0 (grid0.coords t) = ![gOf (bA t), outer (bA t), 0, 0] := by decide +kernel
theorem t1_eq : ∀ t : Fin 73, cc0_transform_1 (grid0.coords t) = ![gOf (bB t), outer (bB t), 0, 0] := by decide +kernel
theorem t2_eq : ∀ t : Fin 73, cc0_transform_2 (grid0.coords t) = ![outer (bA t), 0] := by decide +kernel
theorem t3_eq : ∀ t : Fin 73, cc0_transform_3 (grid0.coords t) = ![outer (bB t), 0] := by decide +kernel
theorem t4_eq : ∀ t : Fin 73, cc0_transform_4 (grid0.coords t) = ![0, 0] := by decide +kernel
theorem t5_eq : ∀ t : Fin 73, cc0_transform_5 (grid0.coords t) = ![0, 0] := by decide +kernel
theorem t6_eq : ∀ t : Fin 73, cc0_transform_6 (grid0.coords t) = ![0, (t.val - 1) / 24] := by decide +kernel

theorem blkA_rem : ∀ t : Fin 73, Scalar.remsi (blkA (grid0.coords t)) 3#32 = BitVec.ofNat 32 (bV t % 3) := by decide +kernel
theorem blkA_o : ∀ t : Fin 73, oOf (blkA (grid0.coords t)) = BitVec.ofNat 32 (outer (bV t)) := by decide +kernel
theorem blkB_rem : ∀ t : Fin 72, Scalar.remsi (blkB (grid0.coords (Fin.castLE (by decide) t : Fin 73))) 3#32 = BitVec.ofNat 32 (2 * t.val % 3) := by decide +kernel
theorem blkB_o : ∀ t : Fin 72, oOf (blkB (grid0.coords (Fin.castLE (by decide) t : Fin 73))) = BitVec.ofNat 32 (outer (2 * t.val)) := by decide +kernel
theorem cond1_eq : ∀ t : Fin 73, k0_cond1 (grid0.coords t) = 1#1 ↔ t.val = 0 := by decide +kernel
theorem cond2_eq : ∀ t : Fin 73, k0_cond2 (grid0.coords t) = 1#1 ↔ (t.val % 24 = 0 ∧ 0 < t.val) := by decide +kernel
theorem cond3_eq : ∀ t : Fin 73, k0_cond3 (grid0.coords t) = 1#1 ↔ t.val < 72 := by decide +kernel

theorem gOf_lt {b : Nat} (h : b ≤ 143) : gOf b < 9 := by unfold gOf; omega
theorem outer_lt (b : Nat) : outer b < 16 := by unfold outer; omega
theorem bA_le (t : Fin 73) : bA t ≤ 143 := by unfold bA; omega
theorem bB_le (t : Fin 73) : bB t ≤ 143 := by unfold bB; omega

variable (m : (ℓ : Loc nD τ sig) → Buf (Elt Ideal) ℓ) (c : Dev nD)

/-- A window whose blocks lie inside its array holds the block it fetched, element by element. -/
theorem fill_full {G : Pipeline.Grid} (w : Pipeline.Window sig G) (i : G.Coords) (hc : ∀ a, w.clip i a = none) {α : Type}
    (d : w.block.Idx → α) (g : (w.xblock i).Idx → α) (j : w.block.Idx) :
    ∃ j' : (w.xblock i).Idx, (∀ a, (j' a).val = (j a).val) ∧ w.fill i d g j = g j' := by
  have hm : w.moved i j = true :=
    (w.moved_iff _ j).mpr fun a => by have := (j a).isLt; unfold Pipeline.Window.xsize; rw [hc a]; exact this
  refine ⟨_, ?_, dif_pos hm⟩
  intro a; rfl

theorem inW0_emb (t : Fin 73) (j : S1x512x32x128.Idx) :
    ∃ i : S9x8192x32x128.Idx, (∀ a, (i a).val = cc0_transform_0 (grid0.coords t) a * S1x512x32x128.size a + (j a).val)
      ∧ (inW m c 0 t : S1x512x32x128.Idx → BitVec 8) j = (V m c main_v2 : S9x8192x32x128.Idx → BitVec 8) i := by
  obtain ⟨j', hj, e⟩ := fill_full ((cfgM m).win 0) ((cfgM m).grid.coords t) (clip_none m 0 _) (fun _ => Classical.arbitrary _)
    ((((cfgM m).win 0).blk t).view.read (Elt Ideal) (V m c (Pipeline.arrRef (cfgM m).spec 0))) j
  refine ⟨(((cfgM m).win 0).rect t).emb j', ?_, ?_⟩
  · intro a
    refine (Pipeline.Window.rect_emb_val ((cfgM m).win 0) t j' a rfl).trans ?_
    exact congrArg (cc0_transform_0 (grid0.coords t) a * S1x512x32x128.size a + ·) (hj a)
  · exact e

theorem inW1_emb (t : Fin 73) (j : S1x512x32x128.Idx) :
    ∃ i : S9x8192x32x128.Idx, (∀ a, (i a).val = cc0_transform_1 (grid0.coords t) a * S1x512x32x128.size a + (j a).val)
      ∧ (inW m c 1 t : S1x512x32x128.Idx → BitVec 8) j = (V m c main_v2 : S9x8192x32x128.Idx → BitVec 8) i := by
  obtain ⟨j', hj, e⟩ := fill_full ((cfgM m).win 1) ((cfgM m).grid.coords t) (clip_none m 1 _) (fun _ => Classical.arbitrary _)
    ((((cfgM m).win 1).blk t).view.read (Elt Ideal) (V m c (Pipeline.arrRef (cfgM m).spec 1))) j
  refine ⟨(((cfgM m).win 1).rect t).emb j', ?_, ?_⟩
  · intro a
    refine (Pipeline.Window.rect_emb_val ((cfgM m).win 1) t j' a rfl).trans ?_
    exact congrArg (cc0_transform_1 (grid0.coords t) a * S1x512x32x128.size a + ·) (hj a)
  · exact e

theorem inW2_emb (t : Fin 73) (j : S2048x128.Idx) :
    ∃ i : S32768x128.Idx, (∀ a, (i a).val = cc0_transform_2 (grid0.coords t) a * S2048x128.size a + (j a).val)
      ∧ (inW m c 2 t : S2048x128.Idx → Ideal .bf16) j = (V m c main_v7 : S32768x128.Idx → Ideal .bf16) i := by
  obtain ⟨j', hj, e⟩ := fill_full ((cfgM m).win 2) ((cfgM m).grid.coords t) (clip_none m 2 _) (fun _ => Classical.arbitrary _)
    ((((cfgM m).win 2).blk t).view.read (Elt Ideal) (V m c (Pipeline.arrRef (cfgM m).spec 2))) j
  refine ⟨(((cfgM m).win 2).rect t).emb j', ?_, ?_⟩
  · intro a
    refine (Pipeline.Window.rect_emb_val ((cfgM m).win 2) t j' a rfl).trans ?_
    exact congrArg (cc0_transform_2 (grid0.coords t) a * S2048x128.size a + ·) (hj a)
  · exact e

theorem inW3_emb (t : Fin 73) (j : S2048x128.Idx) :
    ∃ i : S32768x128.Idx, (∀ a, (i a).val = cc0_transform_3 (grid0.coords t) a * S2048x128.size a + (j a).val)
      ∧ (inW m c 3 t : S2048x128.Idx → Ideal .bf16) j = (V m c main_v7 : S32768x128.Idx → Ideal .bf16) i := by
  obtain ⟨j', hj, e⟩ := fill_full ((cfgM m).win 3) ((cfgM m).grid.coords t) (clip_none m 3 _) (fun _ => Classical.arbitrary _)
    ((((cfgM m).win 3).blk t).view.read (Elt Ideal) (V m c (Pipeline.arrRef (cfgM m).spec 3))) j
  refine ⟨(((cfgM m).win 3).rect t).emb j', ?_, ?_⟩
  · intro a
    refine (Pipeline.Window.rect_emb_val ((cfgM m).win 3) t j' a rfl).trans ?_
    exact congrArg (cc0_transform_3 (grid0.coords t) a * S2048x128.size a + ·) (hj a)
  · exact e

theorem inW4_emb (t : Fin 73) (j : S256x256.Idx) :
    ∃ i : S256x256.Idx, (∀ a, (i a).val = cc0_transform_4 (grid0.coords t) a * S256x256.size a + (j a).val)
      ∧ (inW m c 4 t : S256x256.Idx → Ideal .bf16) j = (V m c main_v18 : S256x256.Idx → Ideal .bf16) i := by
  obtain ⟨j', hj, e⟩ := fill_full ((cfgM m).win 4) ((cfgM m).grid.coords t) (clip_none m 4 _) (fun _ => Classical.arbitrary _)
    ((((cfgM m).win 4).blk t).view.read (Elt Ideal) (V m c (Pipeline.arrRef (cfgM m).spec 4))) j
  refine ⟨(((cfgM m).win 4).rect t).emb j', ?_, ?_⟩
  · intro a
    refine (Pipeline.Window.rect_emb_val ((cfgM m).win 4) t j' a rfl).trans ?_
    exact congrArg (cc0_transform_4 (grid0.coords t) a * S256x256.size a + ·) (hj a)
  · exact e

theorem inW5_emb (t : Fin 73) (j : S1216x1.Idx) :
    ∃ i : S1216x1.Idx, (∀ a, (i a).val = cc0_transform_5 (grid0.coords t) a * S1216x1.size a + (j a).val)
      ∧ (inW m c 5 t : S1216x1.Idx → BitVec 32) j = (V m c main_v63 : S1216x1.Idx → BitVec 32) i := by
  obtain ⟨j', hj, e⟩ := fill_full ((cfgM m).win 5) ((cfgM m).grid.coords t) (clip_none m 5 _) (fun _ => Classical.arbitrary _)
    ((((cfgM m).win 5).blk t).view.read (Elt Ideal) (V m c (Pipeline.arrRef (cfgM m).spec 5))) j
  refine ⟨(((cfgM m).win 5).rect t).emb j', ?_, ?_⟩
  · intro a
    refine (Pipeline.Window.rect_emb_val ((cfgM m).win 5) t j' a rfl).trans ?_
    exact congrArg (cc0_transform_5 (grid0.coords t) a * S1216x1.size a + ·) (hj a)
  · exact e

theorem inW0_at (t : Fin 73) (W : Fin 512) (ρ : Fin 32) (l : Fin 128) :
    (inW m c 0 t : S1x512x32x128.Idx → BitVec 8) (ix4 0 W ρ l) = (V m c main_v2 : S9x8192x32x128.Idx → BitVec 8)
      (ix4 ⟨gOf (bA t), gOf_lt (bA_le t)⟩ ⟨outer (bA t) * 512 + W.val, by have := outer_lt (bA t); omega⟩ ρ l) := by
  obtain ⟨i, hi, e⟩ := inW0_emb m c t (ix4 0 W ρ l)
  rw [e]
  refine congrArg _ (funext fun a => Fin.ext ?_)
  rw [hi, t0_eq]
  fin_cases a
  · show gOf (bA t) * 1 + 0 = _; rw [Nat.mul_one]; rfl
  · rfl
  · show 0 * 32 + ρ.val = _; rw [Nat.zero_mul, Nat.zero_add]
  · show 0 * 128 + l.val = _; rw [Nat.zero_mul, Nat.zero_add]

theorem inW1_at (t : Fin 73) (W : Fin 512) (ρ : Fin 32) (l : Fin 128) :
    (inW m c 1 t : S1x512x32x128.Idx → BitVec 8) (ix4 0 W ρ l) = (V m c main_v2 : S9x8192x32x128.Idx → BitVec 8)
      (ix4 ⟨gOf (bB t), gOf_lt (bB_le t)⟩ ⟨outer (bB t) * 512 + W.val, by have := outer_lt (bB t); omega⟩ ρ l) := by
  obtain ⟨i, hi, e⟩ := inW1_emb m c t (ix4 0 W ρ l)
  rw [e]
  refine congrArg _ (funext fun a => Fin.ext ?_)
  rw [hi, t1_eq]
  fin_cases a
  · show gOf (bB t) * 1 + 0 = _; rw [Nat.mul_one]; rfl
  · rfl
  · show 0 * 32 + ρ.val = _; rw [Nat.zero_mul, Nat.zero_add]
  · show 0 * 128 + l.val = _; rw [Nat.zero_mul, Nat.zero_add]

theorem inW2_at (t : Fin 73) (r : Fin 2048) (l : Fin 128) :
    (inW m c 2 t : S2048x128.Idx → Ideal .bf16) (ix2 r l) = (V m c main_v7 : S32768x128.Idx → Ideal .bf16)
      (ix2 ⟨outer (bA t) * 2048 + r.val, by have := outer_lt (bA t); omega⟩ l) := by
  obtain ⟨i, hi, e⟩ := inW2_emb m c t (ix2 r l)
  rw [e]
  refine congrArg _ (funext fun a => Fin.ext ?_)
  rw [hi, t2_eq]
  fin_cases a
  · rfl
  · show 0 * 128 + l.val = _; rw [Nat.zero_mul, Nat.zero_add]

theorem inW3_at (t : Fin 73) (r : Fin 2048) (l : Fin 128) :
    (inW m c 3 t : S2048x128.Idx → Ideal .bf16) (ix2 r l) = (V m c main_v7 : S32768x128.Idx → Ideal .bf16)
      (ix2 ⟨outer (bB t) * 2048 + r.val, by have := outer_lt (bB t); omega⟩ l) := by
  obtain ⟨i, hi, e⟩ := inW3_emb m c t (ix2 r l)
  rw [e]
  refine congrArg _ (funext fun a => Fin.ext ?_)
  rw [hi, t3_eq]
  fin_cases a
  · rfl
  · show 0 * 128 + l.val = _; rw [Nat.zero_mul, Nat.zero_add]

theorem inW4_at (t : Fin 73) (r k : Fin 256) :
    (inW m c 4 t : S256x256.Idx → Ideal .bf16) (ix2 r k) = ((sg (pty 8 r.val k.val) : ℝ) : EReal) := by
  obtain ⟨i, hi, e⟩ := inW4_emb m c t (ix2 r k)
  rw [e, ← V_h_at m c r k]
  refine congrArg _ (funext fun a => Fin.ext ?_)
  rw [hi, t4_eq]
  fin_cases a
  · show 0 * 256 + r.val = _; rw [Nat.zero_mul, Nat.zero_add]
  · show 0 * 256 + k.val = _; rw [Nat.zero_mul, Nat.zero_add]

theorem inW5_at (t : Fin 73) (s : Fin 1216) :
    (inW m c 5 t : S1216x1.Idx → BitVec 32) (ix2 s 0) = codeWord (a3 m c (ix1 s)) := by
  obtain ⟨i, hi, e⟩ := inW5_emb m c t (ix2 s 0)
  rw [e, ← V_codes_at m c s]
  refine congrArg _ (funext fun a => Fin.ext ?_)
  rw [hi, t5_eq]
  fin_cases a
  · show 0 * 1216 + s.val = _; rw [Nat.zero_mul, Nat.zero_add]
  · rfl

/-! ## Under the precondition every scaled code is a real number -/

/-- The scale times the sign of a position. -/
def rsR (p : Nat) : ℝ := if h : p < 4194304 then ((a1 m c (ix2 0 ⟨p, h⟩) : EReal)).toReal * ((a2 m c (ix2 0 ⟨p, h⟩)).toInt : ℝ) else 0

/-- The scaled code of a column at a position. -/
def xR (col p : Nat) : ℝ :=
  (if h : col < 72 ∧ p < 4194304 then ((a0 m c (ix3 0 ⟨col, h.1⟩ ⟨p, h.2⟩)).toInt : ℝ) else 0) * rsR m c p

/-- The scaled codes of a half-block, window by window. -/
def fB (b W ρ l : Nat) : ℝ := xR m c (gOf b * 8 + ρ % 8) ((outer b * 512 + W) * 512 + ρ / 8 * 128 + l)

variable (hfin : ∀ p : Fin 4194304, ∃ r : ℝ, a1 m c (ix2 0 p) = (r : EReal))
include hfin

theorem V_rs_real (r : Fin 32768) (l : Fin 128) :
    (V m c main_v7 : S32768x128.Idx → Ideal .bf16) (ix2 r l) = ((rsR m c (r.val * 128 + l.val) : ℝ) : EReal) := by
  have hlt : r.val * 128 + l.val < 4194304 := by omega
  obtain ⟨x, hx⟩ := hfin ⟨r.val * 128 + l.val, hlt⟩
  rw [V_rs_at, hx]
  unfold rsR
  rw [dif_pos hlt, hx, EReal.toReal_coe, EReal.coe_mul]

theorem cellA (t : Fin 73) (W : Fin 512) (ρ : Fin 32) (l : Fin 128) :
    cellVal (inW m c 0 t) (inW m c 2 t) W ρ l = ((fB m c (bA t) W.val ρ.val l.val : ℝ) : EReal) := by
  have hg := gOf_lt (bA_le t)
  have ho := outer_lt (bA t)
  unfold cellVal fB xR
  rw [inW0_at, inW2_at, V_rs_real m c hfin, V_x_at, dif_pos (by constructor <;> omega), EReal.coe_mul]
  congr 2
  · congr 1; show (outer (bA t) * 2048 + (W.val * 4 + ρ.val / 8)) * 128 + l.val = _; omega

theorem cellB (t : Fin 73) (W : Fin 512) (ρ : Fin 32) (l : Fin 128) :
    cellVal (inW m c 1 t) (inW m c 3 t) W ρ l = ((fB m c (bB t) W.val ρ.val l.val : ℝ) : EReal) := by
  have hg := gOf_lt (bB_le t)
  have ho := outer_lt (bB t)
  unfold cellVal fB xR
  rw [inW1_at, inW3_at, V_rs_real m c hfin, V_x_at, dif_pos (by constructor <;> omega), EReal.coe_mul]
  congr 2
  · congr 1; show (outer (bB t) * 2048 + (W.val * 4 + ρ.val / 8)) * 128 + l.val = _; omega

end Cert.KernelIdeal.Own
-- ==== Proof.ValMask.lean ====
module

public import proofs.«01_k».proof.Proof.ValHost

@[expose] public section

/-! # The sign masks of the quartets, bit by bit -/

noncomputable section

namespace Cert.KernelIdeal.Own

open Idealize.ShloMosaic Idealize.ShloMosaic.TcCoe Idealize.ShloMosaic.Tactic Idealize.ShloMosaic.ValueIdx
open Idealize.SL.Sem
open Cert.KernelIdeal.Gen Cert.Trip

variable (m : (ℓ : Loc nD τ sig) → Buf (Elt Ideal) ℓ) (c : Dev nD)

/-- The classes, and the numbers below sixteen, over all pairs. -/
def clsAll : S304x16.Idx → BitVec 32 :=
  broadcastInDim S304x16 ![0, 1] bcast_S304x1_S304x16_0_1 (broadcastInDim S304x1 ![0] bcast_S304_S304x1_0 (a4 m c))
def idAll : S304x16.Idx → BitVec 32 :=
  broadcastInDim S304x16 ![0, 1] bcast_S1x16_S304x16_0_1 (broadcastInDim S1x16 ![1] bcast_S16_S1x16_1 (iotaInDim S16 32 0))

theorem clsAll_at (s : Fin 304) (o : Fin 16) : clsAll m c (ix2 s o) = a4 m c (ix1 s) := by
  unfold clsAll
  rw [broadcastInDim_apply _ _ _ _ (ix2 s 0) (fun a => by fin_cases a <;> rfl)]
  exact broadcastInDim_apply _ _ _ _ (ix1 s) (fun a => by obtain rfl : a = 0 := Subsingleton.elim _ _; rfl)

theorem idAll_at (s : Fin 304) (o : Fin 16) : idAll (ix2 s o) = BitVec.ofNat 32 o.val := by
  unfold idAll
  rw [broadcastInDim_apply _ _ _ _ (ix2 0 o) (fun a => by fin_cases a <;> rfl)]
  exact broadcastInDim_apply _ _ _ _ (ix1 o) (fun a => by obtain rfl : a = 0 := Subsingleton.elim _ _; rfl)

/-- The shifted parities. -/
def bitAll : S304x16.Idx → BitVec 32 := fun i =>
  IntOp.shli .host (IntOp.andi (IntOp.ctpop (IntOp.andi (clsAll m c i) (idAll i))) 1#32) (idAll i)

theorem V_mask : (V m c main_v75 : S304.Idx → BitVec 32)
    = Host.reduce IntOp.addi (bitAll m c) (constantI S_ 32 0#32) reducesTo_S304x16_S304_d1 h_S_ := by
  unfold_abbrev_sides
  after_results
  rfl

def pb (x : BitVec 32) (o : Nat) : Nat := if pty 4 x.toNat o then 1 else 0
theorem pb_le (x : BitVec 32) (o : Nat) : pb x o ≤ 1 := by unfold pb; split <;> omega

theorem bitAll_at (s : Fin 304) (o : Fin 16) : bitAll m c (ix2 s o) = BitVec.ofNat 32 (pb (a4 m c (ix1 s)) o.val * 2 ^ o.val) := by
  unfold bitAll
  have hp : pty 32 (a4 m c (ix1 s)).toNat o.val = pty 4 (a4 m c (ix1 s)).toNat o.val := pty_short 4 28 _ _ (by omega)
  rw [clsAll_at, idAll_at, ctpop_pty, BitVec.toNat_ofNat, Nat.mod_eq_of_lt (by omega), hp]
  unfold pb
  generalize pty 4 _ _ = b
  clear hp
  revert b o
  decide

theorem reduces_mask : S304x16.Reduces [1] S304 := by decide

theorem lift_mask (s : Fin 304) (k : Fin (S304x16.size 1)) : reduces_mask.lift (ix1 s) k = ix2 s (⟨k.val, k.isLt⟩ : Fin 16) := by
  funext a; apply Fin.ext
  fin_cases a <;> rfl

theorem fold16 (b : BitVec 32) (f : Fin 16 → BitVec 32) : (Finset.univ : Finset (Fin 16)).fold IntOp.addi b f
    = f 0 + (f 1 + (f 2 + (f 3 + (f 4 + (f 5 + (f 6 + (f 7 + (f 8 + (f 9 + (f 10 + (f 11 + (f 12 + (f 13 + (f 14 + (f 15 + b))))))))))))))) := rfl

theorem mask_sum (s : Fin 304) : ((V m c main_v75 : S304.Idx → BitVec 32) (ix1 s)).toNat =
    ∑ o : Fin 16, pb (a4 m c (ix1 s)) o.val * 2 ^ o.val := by
  rw [V_mask, Host.reduce_eq_fold_single IntOp.addi _ _ _ reduces_mask]
  have e : (bitAll m c ∘ reduces_mask.lift (ix1 s)) = fun k : Fin 16 => BitVec.ofNat 32 (pb (a4 m c (ix1 s)) k.val * 2 ^ k.val) :=
    funext fun k => (congrArg (bitAll m c) (lift_mask s k)).trans (bitAll_at m c s ⟨k.val, k.isLt⟩)
  refine (congrArg BitVec.toNat ((congrArg (Finset.fold IntOp.addi _ · _) e).trans (fold16 _ _))).trans ?_
  have hb := pb_le (a4 m c (ix1 s))
  generalize pb (a4 m c (ix1 s)) = q at *
  have h0 := hb 0; have h1 := hb 1; have h2 := hb 2; have h3 := hb 3; have h4 := hb 4; have h5 := hb 5; have h6 := hb 6; have h7 := hb 7
  have h8 := hb 8; have h9 := hb 9; have h10 := hb 10; have h11 := hb 11; have h12 := hb 12; have h13 := hb 13; have h14 := hb 14; have h15 := hb 15
  have hz : (constantI S_ 32 0#32) (Shape.Idx.first h_S_) = 0#32 := rfl
  rw [hz]
  simp only [Fin.sum_univ_succ, BitVec.toNat_add, BitVec.toNat_ofNat]
  simp
  omega

theorem mask_bit (q : Nat → Nat) (hb : ∀ o, q o ≤ 1) (o : Fin 16) : (∑ k : Fin 16, q k.val * 2 ^ k.val) / 2 ^ o.val % 2 = q o.val := by
  have h0 := hb 0; have h1 := hb 1; have h2 := hb 2; have h3 := hb 3; have h4 := hb 4; have h5 := hb 5; have h6 := hb 6; have h7 := hb 7
  have h8 := hb 8; have h9 := hb 9; have h10 := hb 10; have h11 := hb 11; have h12 := hb 12; have h13 := hb 13; have h14 := hb 14; have h15 := hb 15
  simp only [Fin.sum_univ_succ]
  simp
  obtain ⟨o, ho⟩ := o
  interval_cases o <;> simp <;> omega

/-- The sign masks at the call. -/
abbrev maskV : S304.Idx → BitVec 32 := V m c main_v75

theorem mask_at (s : Fin 304) (o : Fin 16) :
    Scalar.andi (Scalar.shrui ((V m c main_v75 : S304.Idx → BitVec 32) (ix1 s)) (BitVec.ofNat 32 o.val)) 1#32
      = BitVec.ofNat 32 (pb (a4 m c (ix1 s)) o.val) := by
  have e : Scalar.shrui ((V m c main_v75 : S304.Idx → BitVec 32) (ix1 s)) (BitVec.ofNat 32 o.val)
      = (maskV m c (ix1 s)) >>> (BitVec.ofNat 32 o.val) := by
    refine if_pos ?_
    rw [BitVec.toNat_ofNat]; omega
  rw [e]
  apply BitVec.eq_of_toNat_eq
  show (_ &&& 1#32 : BitVec 32).toNat = _
  have hp := pb_le (a4 m c (ix1 s)) o.val
  have e1 : (BitVec.ofNat 32 (pb (a4 m c (ix1 s)) o.val)).toNat = pb (a4 m c (ix1 s)) o.val := by
    rw [BitVec.toNat_ofNat]; omega
  rw [BitVec.toNat_and, e1]
  have e2 : (maskV m c (ix1 s) >>> BitVec.ofNat 32 o.val) = maskV m c (ix1 s) >>> (BitVec.ofNat 32 o.val).toNat := rfl
  rw [e2, show (1#32).toNat = 1 from rfl, BitVec.toNat_ofNat, Nat.mod_eq_of_lt (by omega), BitVec.toNat_ushiftRight, Nat.shiftRight_eq_div_pow, Nat.and_one_is_mod, mask_sum]
  exact mask_bit _ (pb_le _) o

end Cert.KernelIdeal.Own
-- ==== Proof.ValFinish.lean ====
module

public import proofs.«01_k».proof.Proof.ValVisit
public import proofs.«01_k».proof.Proof.Parity

@[expose] public section

/-! # What the finish stores, and what the zeroing loops leave -/

noncomputable section

namespace Cert.Trip

open Idealize.ShloMosaic Idealize.ShloMosaic.ValueIdx

/-! ## Zeros -/

theorem zOff_eq_fin : ∀ i : Fin 2304, zOff i.val = ![i.val * 8, 0] := by decide +kernel
theorem zOff3_eq_fin : ∀ i : Fin 912, zOff3 i.val = ![i.val * 8, 0, 0] := by decide +kernel

theorem zf_eq : (zf : Ideal .f32) = ((0 : ℝ) : EReal) := Ideal.ofBits_zero_f32

theorem zslab_at (S : S18432x128.Idx → Ideal .f32) (r : Fin 18432) (l : Fin 128) :
    runT (N := 2304) zslabV 2304 S (ix2 r l) = ((0 : ℝ) : EReal) := by
  refine runT_once (α := EReal) _ _ ⟨r.val / 8, by omega⟩ (fun _ => ((0 : ℝ) : EReal)) (fun S => ?_) (fun k hk S => ?_) S
  · unfold zslabV
    refine (upd_in (zR _) S _ (ix2 r l) (ix2 (⟨r.val % 8, by omega⟩ : Fin 8) l : S8x128.Idx) ?_).trans zf_eq
    intro a
    show zOff (r.val / 8) a + 1 * _ = _
    rw [zOff_eq_fin ⟨r.val / 8, by omega⟩]
    match a with
    | ⟨0, _⟩ => show r.val / 8 * 8 + 1 * (r.val % 8) = r.val; omega
    | ⟨1, _⟩ => show 0 + 1 * l.val = l.val; omega
  · unfold zslabV
    refine upd_out (zR k) S _ (ix2 r l) ⟨0, by decide⟩ ?_
    intro x
    have hx : ((show S8x128.Idx from x) 0).val < 8 := ((show S8x128.Idx from x) 0).isLt
    intro h
    have h' : zOff k.val 0 + 1 * ((show S8x128.Idx from x) 0).val = r.val := h
    rw [zOff_eq_fin] at h'
    have h'' : k.val * 8 + 1 * ((show S8x128.Idx from x) 0).val = r.val := h'
    exact hk (Fin.ext (by show k.val = r.val / 8; omega))

theorem zacc_at (S : S7296x8x128.Idx → Ideal .f32) (r : Fin 7296) (e : Fin 8) (l : Fin 128) :
    runT (N := 912) zaccV 912 S (ix3 r e l) = ((0 : ℝ) : EReal) := by
  refine runT_once (α := EReal) _ _ ⟨r.val / 8, by omega⟩ (fun _ => ((0 : ℝ) : EReal)) (fun S => ?_) (fun k hk S => ?_) S
  · unfold zaccV
    refine (upd_in (zR3 _) S _ (ix3 r e l) (ix3 (⟨r.val % 8, by omega⟩ : Fin 8) e l : S8x8x128.Idx) ?_).trans zf_eq
    intro a
    show zOff3 (r.val / 8) a + 1 * _ = _
    rw [zOff3_eq_fin ⟨r.val / 8, by omega⟩]
    match a with
    | ⟨0, _⟩ => show r.val / 8 * 8 + 1 * (r.val % 8) = r.val; omega
    | ⟨1, _⟩ => show 0 + 1 * e.val = e.val; omega
    | ⟨2, _⟩ => show 0 + 1 * l.val = l.val; omega
  · unfold zaccV
    refine upd_out (zR3 k) S _ (ix3 r e l) ⟨0, by decide⟩ ?_
    intro x
    have hx : ((show S8x8x128.Idx from x) 0).val < 8 := ((show S8x8x128.Idx from x) 0).isLt
    intro h
    have h' : zOff3 k.val 0 + 1 * ((show S8x8x128.Idx from x) 0).val = r.val := h
    rw [zOff3_eq_fin] at h'
    have h'' : k.val * 8 + 1 * ((show S8x8x128.Idx from x) 0).val = r.val := h'
    exact hk (Fin.ext (by show k.val = r.val / 8; omega))

theorem zall_at (S : S7296x8x128.Idx → Ideal .f32) (i : S7296x8x128.Idx) : zallV S i = ((0 : ℝ) : EReal) := by
  unfold zallV
  refine (upd_in allR S _ i i ?_).trans zf_eq
  intro a
  have : allR.off a = 0 := by
    match a with
    | ⟨0, _⟩ => rfl
    | ⟨1, _⟩ => rfl
    | ⟨2, _⟩ => rfl
  rw [this]
  show 0 + 1 * (i a).val = (i a).val
  omega

/-! ## The finish -/

theorem flatOff_eq_fin : ∀ (i : Fin 152) (a : Fin 6) (n : Fin 8), flatOff i.val a.val n.val = ![(1216 * a.val + i.val * 8) * 8 + n.val, 0] := by
  decide +kernel
theorem codeOff_eq_fin : ∀ i : Fin 152, codeOff i.val = ![i.val * 8, 0] := by decide +kernel
theorem outOff_eq_fin : ∀ (i : Fin 152) (g : Fin 3), outOff i.val g.val = ![i.val * 8, 128 * g.val] := by decide +kernel
theorem lane_fin : ∀ (l : Fin 128) (n : Fin 8),
    IntOp.addi (IntOp.shrsi .vector (BitVec.ofNat 32 l.val) 3#32) (BitVec.ofNat 32 (16 * n.val)) = BitVec.ofNat 32 (l.val / 8 + 16 * n.val) := by
  decide +kernel

section Finish

variable (A : S7296x8x128.Idx → Ideal .f32) (K : S1216x1.Idx → BitVec 32)

theorem flat_at (i : Fin 152) (n : Fin 8) (a : Fin 6) (r : Fin 8) (l : Fin 128) :
    gather (flatV A) (flatL i n a) (ix2 r l) = A (ix3 ⟨a.val * 1216 + (i.val * 8 + r.val), by omega⟩ n l) := by
  show A (Shape.reshapeEquiv numelFlat ((flatL i n a).idx (ix2 r l))) = _
  refine congrArg A (Shape.reshapeEquiv_eq_of_rowMajor numelFlat ?_)
  rw [Shape.rowMajor_val_two, Shape.rowMajor_val_three]
  have e0 : ((flatL i n a).idx (ix2 r l) 0).val = (1216 * a.val + i.val * 8) * 8 + n.val + 8 * r.val := by
    show flatOff i.val a.val n.val 0 + 8 * r.val = _
    rw [flatOff_eq_fin]; rfl
  have e1 : ((flatL i n a).idx (ix2 r l) 1).val = l.val := by
    show flatOff i.val a.val n.val 1 + 1 * l.val = _
    rw [flatOff_eq_fin]
    show 0 + 1 * l.val = l.val
    omega
  rw [e0, e1]
  show ((a.val * 1216 + (i.val * 8 + r.val)) * 8 + n.val) * 128 + l.val = _ * 128 + l.val
  omega

theorem code_at (i : Fin 152) (r : Fin 8) : codeV K i (ix2 r 0) = K (ix2 ⟨i.val * 8 + r.val, by omega⟩ 0) := by
  refine congrArg K (funext fun a => Fin.ext ?_)
  match a with
  | ⟨0, _⟩ =>
    have h : codeOff i.val 0 = i.val * 8 := congrFun (codeOff_eq_fin i) 0
    show codeOff i.val 0 + 1 * r.val = i.val * 8 + r.val
    omega
  | ⟨1, _⟩ =>
    have h : codeOff i.val 1 = 0 := congrFun (codeOff_eq_fin i) 1
    show codeOff i.val 1 + 1 * 0 = 0
    omega

theorem par_at (i : Fin 152) (n : Fin 8) (r : Fin 8) (l : Fin 128) : par (F := Ideal) (codeV K i) n.val (ix2 r l)
    = if pty 7 (K (ix2 ⟨i.val * 8 + r.val, by omega⟩ 0)).toNat (l.val / 8 + 16 * n.val) then 1#32 else 0#32 := by
  have hcode : ∀ (h1 h2 : S8x1.ShapeCasts S8x1) (h3 : S8x1.Broadcasts S8x128),
      broadcastTo S8x128 (shapeCast S8x1 (shapeCast S8x1 (codeV K i) h1) h2 : IVec S8x1 32) h3 (ix2 r l)
      = K (ix2 ⟨i.val * 8 + r.val, by omega⟩ 0) := by
    intro h1 h2 h3
    rw [shapeCast_self, shapeCast_self, ← code_at K i r]
    refine broadcastTo_apply _ _ _ (ix2 r 0) ?_
    intro a
    match a with
    | ⟨0, _⟩ => rfl
    | ⟨1, _⟩ => rfl
  have hlane : addi laneIx (broadcast S8x128 (BitVec.ofNat 32 (16 * n.val))) (ix2 r l) = BitVec.ofNat 32 (l.val / 8 + 16 * n.val) := by
    rw [← lane_fin]
    show IntOp.addi (IntOp.shrsi .vector (iota .tc S8x128 32 [1] _ (ix2 r l)) 3#32) _ = _
    rw [iota_single_apply]
    rfl
  unfold par
  show IntOp.andi (IntOp.ctpop (IntOp.andi _ _)) 1#32 = _
  rw [hcode, hlane, ctpop_pty]
  have hl : l.val / 8 + 16 * n.val < 2 ^ 7 := by have := l.isLt; have := n.isLt; omega
  have e : (BitVec.ofNat 32 (l.val / 8 + 16 * n.val)).toNat = l.val / 8 + 16 * n.val := by
    rw [BitVec.toNat_ofNat]; exact Nat.mod_eq_of_lt (by omega)
  have e7 : pty 32 (K (ix2 ⟨i.val * 8 + r.val, by omega⟩ 0)).toNat (l.val / 8 + 16 * n.val) = pty 7 (K (ix2 ⟨i.val * 8 + r.val, by omega⟩ 0)).toNat (l.val / 8 + 16 * n.val) :=
    pty_short 7 25 _ _ hl
  rw [e, e7]

/-- A signed difference added. -/
theorem addPair_at (s : IVec S8x128 32) (z p m : FVec Ideal S8x128 .f32) (j : S8x128.Idx) (t : Bool) (z' p' m' : ℝ)
    (hs : s j = if t then 1#32 else 0#32) (hz : z j = (z' : EReal)) (hp : p j = (p' : EReal)) (hm : m j = (m' : EReal)) :
    addPair s z p m j = ((z' + sg t * (p' - m') : ℝ) : EReal) := by
  have e : addPair s z p m j = z j + (if s j = 1#32 then (((0 : ℝ) : EReal)) - (p j - m j) else p j - m j) := by
    unfold addPair
    refine congrArg (fun x : EReal => z j + x) ?_
    show (if (BitVec.ofBool (s j == 1#32)) = 1#1 then _ else _) = _
    by_cases h : s j = 1#32
    · rw [if_pos (by rw [h]; rfl), if_pos h]
      refine congrArg (fun x : EReal => x - (p j - m j)) zf_eq
    · rw [if_neg (by rw [beq_false_of_ne h]; decide), if_neg h]
      rfl
  rw [e, hs, hz, hp, hm]
  unfold sg
  cases t
  · rw [if_neg (by decide), if_neg (by decide), ← EReal.coe_sub, ← EReal.coe_add, one_mul]
  · rw [if_pos (by decide), if_pos rfl, ← EReal.coe_sub, ← EReal.coe_sub, ← EReal.coe_add]
    congr 1
    ring

theorem accRow_lt (a : Fin 6) (s : Fin 1216) : a.val * 1216 + s.val < 7296 := by omega

variable (f : Nat → Nat → Nat → Nat → ℝ)
  (hA : ∀ (a : Fin 6) (s : Fin 1216) (e : Fin 8) (l : Fin 128), A (ix3 ⟨a.val * 1216 + s.val, accRow_lt a s⟩ e l) = ((f a.val s.val e.val l.val : ℝ) : EReal))

/-- The signed sum over the first `n` steps. -/
def finSum (k : Nat) (f : Nat → Nat → Nat → Nat → ℝ) (a0 a1 s l n : Nat) : ℝ :=
  ∑ e ∈ Finset.range n, sg (pty 7 k (l / 8 + 16 * e)) * (f a0 s e l - f a1 s e l)

include hA in
theorem sum_at (i : Fin 152) (a0 a1 : Fin 6) (r : Fin 8) (l : Fin 128) (n : Nat) (h : n ≤ 8) :
    sumV (flatV A) K i a0 a1 n h (ix2 r l)
      = ((finSum (K (ix2 ⟨i.val * 8 + r.val, by omega⟩ 0)).toNat f a0.val a1.val (i.val * 8 + r.val) l.val n : ℝ) : EReal) := by
  induction n with
  | zero =>
    unfold sumV finSum
    rw [Finset.sum_range_zero]
    exact zf_eq
  | succ n ih =>
    unfold sumV
    refine (addPair_at _ _ _ _ _ _ _ _ _ (par_at K i ⟨n, by omega⟩ r l) (ih (by omega)) ((flat_at A i ⟨n, by omega⟩ a0 r l).trans
      (hA a0 ⟨i.val * 8 + r.val, by omega⟩ ⟨n, by omega⟩ l)) ((flat_at A i ⟨n, by omega⟩ a1 r l).trans
      (hA a1 ⟨i.val * 8 + r.val, by omega⟩ ⟨n, by omega⟩ l))).trans ?_
    unfold finSum
    rw [Finset.sum_range_succ]

theorem out_hit (i : Fin 152) (O : S1216x384.Idx → Ideal .f32) (g : Fin 3) (z : FVec Ideal S8x128 .f32) (s : Fin 1216) (l : Fin 128)
    (hi : s.val / 8 = i.val) : outV i O g z (ix2 s ⟨g.val * 128 + l.val, by omega⟩) = z (ix2 ⟨s.val % 8, by omega⟩ l) := by
  unfold outV
  refine upd_in (Rect.unit (s := S1216x384) (outOff i.val g.val) S8x128.size (outOff_fin i g)) _ _ _
    (ix2 (⟨s.val % 8, by omega⟩ : Fin 8) l : S8x128.Idx) ?_
  intro a
  match a with
  | ⟨0, _⟩ =>
    have h : outOff i.val g.val 0 = i.val * 8 := congrFun (outOff_eq_fin i g) 0
    show outOff i.val g.val 0 + 1 * (s.val % 8) = s.val
    omega
  | ⟨1, _⟩ =>
    have h : outOff i.val g.val 1 = 128 * g.val := congrFun (outOff_eq_fin i g) 1
    show outOff i.val g.val 1 + 1 * l.val = g.val * 128 + l.val
    omega

theorem out_miss (i : Fin 152) (O : S1216x384.Idx → Ideal .f32) (g g' : Fin 3) (z : FVec Ideal S8x128 .f32) (s : Fin 1216) (l : Fin 128)
    (h : s.val / 8 ≠ i.val ∨ g'.val ≠ g.val) :
    outV i O g z (ix2 s ⟨g'.val * 128 + l.val, by omega⟩) = O (ix2 s ⟨g'.val * 128 + l.val, by omega⟩) := by
  unfold outV
  rcases h with h | h
  · refine upd_out _ _ _ _ ⟨0, by decide⟩ ?_
    intro x hx
    have hb : ((show S8x128.Idx from x) 0).val < 8 := ((show S8x128.Idx from x) 0).isLt
    have h' : outOff i.val g.val 0 + 1 * ((show S8x128.Idx from x) 0).val = s.val := hx
    rw [outOff_eq_fin] at h'
    have h'' : i.val * 8 + 1 * ((show S8x128.Idx from x) 0).val = s.val := h'
    omega
  · refine upd_out _ _ _ _ ⟨1, by decide⟩ ?_
    intro x hx
    have hb : ((show S8x128.Idx from x) 1).val < 128 := ((show S8x128.Idx from x) 1).isLt
    have h' : outOff i.val g.val 1 + 1 * ((show S8x128.Idx from x) 1).val = g'.val * 128 + l.val := hx
    rw [outOff_eq_fin] at h'
    have h'' : 128 * g.val + 1 * ((show S8x128.Idx from x) 1).val = g'.val * 128 + l.val := h'
    have := l.isLt
    omega

theorem fin3 : ∀ g : Fin 3, g = 0 ∨ g = 1 ∨ g = 2 := by decide

include hA in
/-- The output block after the finish. -/
theorem finAll_at (O : S1216x384.Idx → Ideal .f32) (s : Fin 1216) (g : Fin 3) (l : Fin 128) :
    finAll A K O (ix2 s ⟨g.val * 128 + l.val, by omega⟩)
      = ((finSum (K (ix2 s 0)).toNat f (g.val * 2) (g.val * 2 + 1) s.val l.val 8 : ℝ) : EReal) := by
  unfold finAll
  have hs : s.val / 8 * 8 + s.val % 8 = s.val := by omega
  have key : ∀ a0 a1 : Fin 6, sumV (flatV A) K ⟨s.val / 8, by omega⟩ a0 a1 8 (Nat.le_refl _) (ix2 ⟨s.val % 8, by omega⟩ l)
      = ((finSum (K (ix2 s 0)).toNat f a0.val a1.val s.val l.val 8 : ℝ) : EReal) := fun a0 a1 => by
    refine (sum_at A K f hA ⟨s.val / 8, by omega⟩ a0 a1 ⟨s.val % 8, by omega⟩ l 8 (Nat.le_refl _)).trans ?_
    have e : (⟨s.val / 8 * 8 + s.val % 8, by omega⟩ : Fin 1216) = s := Fin.ext hs
    show ((finSum (K (ix2 (⟨s.val / 8 * 8 + s.val % 8, _⟩ : Fin 1216) 0)).toNat f a0.val a1.val (s.val / 8 * 8 + s.val % 8) l.val 8 : ℝ) : EReal) = _
    rw [e, hs]
  refine runT_once (α := EReal) _ _ ⟨s.val / 8, by omega⟩ (fun _ => _) (fun O => ?_) (fun k hk O => ?_) O
  · unfold finV
    have m := fun O (g' : Fin 3) z (h : g.val ≠ g'.val) => out_miss ⟨s.val / 8, by omega⟩ O g' g z s l (.inr h)
    have t := fun O z => out_hit ⟨s.val / 8, by omega⟩ O g z s l rfl
    rcases fin3 g with e | e | e <;> subst e
    · rw [m _ 2 _ (by decide), m _ 1 _ (by decide), t, key]; rfl
    · rw [m _ 2 _ (by decide), t, key]; rfl
    · rw [t, key]; rfl
  · unfold finV
    have m := fun O (g' : Fin 3) z => out_miss k O g' g z s l (.inl fun h => hk (Fin.ext h.symm))
    rw [m, m, m]

end Finish

end Cert.Trip
-- ==== Proof.ValRun.lean ====
module

public import proofs.«01_k».proof.Proof.ValWin
public import proofs.«01_k».proof.Proof.ValMask
public import proofs.«01_k».proof.Proof.ValFinish

@[expose] public section

/-! # What the scratch holds between grid points

Before point `t ≥ 1` the second slab holds the transform of half-block `2t − 1`, and the accumulator holds, for every
slot, the rows of the half-blocks of the current pass that have been visited. -/

noncomputable section

namespace Cert.KernelIdeal.Own

open Idealize.ShloMosaic Idealize.ShloMosaic.TcCoe Idealize.ShloMosaic.Tactic Idealize.ShloMosaic.ValueIdx
open Idealize.SL.Sem
open Cert.KernelIdeal.Gen Cert.Trip

section Parts

variable {bA bB : BitVec 32} (c1 c2 c3 : Prop) [Decidable c1] [Decidable c2] [Decidable c3]
  (hcA : ∀ (n : Fin 8) (k : Fin 38) w, clsOk bA n.val k w) (hcB : ∀ (n : Fin 8) (k : Fin 38) w, clsOk bB n.val k w)
  (Xr : S1216.Idx → BitVec 32) (hr : ∀ j, rowOk (Xr j)) (Xc : S304.Idx → BitVec 32)
  (X1 X2 : S1x512x32x128.Idx → BitVec 8) (R1 R2 : S2048x128.Idx → Ideal .bf16) (H : S256x256.Idx → Ideal .bf16) (K : S1216x1.Idx → BitVec 32)
  (s : St Ideal)

theorem st1_pos (h : c1) : st1 c1 s = ⟨s.a, runT (N := 2304) zslabV 2304 s.b, zallV s.acc⟩ := by unfold st1; rw [if_pos h]
theorem st1_neg (h : ¬ c1) : st1 c1 s = s := by unfold st1; rw [if_neg h]
theorem st2_a : (st2 c1 hcA Xr hr Xc X1 R1 H s).a = tilesAll X1 R1 H (st1 c1 s).a := by unfold st2; rfl
theorem st2_acc : (st2 c1 hcA Xr hr Xc X1 R1 H s).acc = visitsAll hcA Xr hr Xc (st1 c1 s).b (st1 c1 s).acc := by simp only [st2]
theorem st3_pos (h : c2) : st3 c2 s = ⟨s.a, s.b, runT (N := 912) zaccV 912 s.acc⟩ := by unfold st3; rw [if_pos h]
theorem st3_neg (h : ¬ c2) : st3 c2 s = s := by unfold st3; rw [if_neg h]
theorem st4_b (h : c3) : (st4 c3 hcB Xr hr Xc X2 R2 H s).b = tilesAll X2 R2 H s.b := by unfold st4; rw [if_pos h]
theorem st4_acc (h : c3) : (st4 c3 hcB Xr hr Xc X2 R2 H s).acc = visitsAll hcB Xr hr Xc s.a s.acc := by unfold st4; rw [if_pos h]
theorem pointO_pos (h : c2) (O : S1216x384.Idx → Ideal .f32) :
    pointO c1 c2 hcA Xr hr Xc X1 R1 H K s O = finAll (st2 c1 hcA Xr hr Xc X1 R1 H s).acc K O := by unfold pointO; rw [if_pos h]

end Parts

variable (m : (ℓ : Loc nD τ sig) → Buf (Elt Ideal) ℓ) (c : Dev nD)

/-- A slot's transform index, as a number. -/
def sl (s : Nat) : Nat := if h : s < 1216 then (a3 m c (ix1 ⟨s, h⟩)).toNat else 0
/-- The parity of a slot's class with the outer bits of a half-block. -/
def clsBit (s o : Nat) : Nat := if h : s / 4 < 304 then pb (a4 m c (ix1 ⟨s / 4, h⟩)) o else 0
/-- The slab row of a slot. -/
def rowN (s : Nat) : Nat := sl m c s / 2 ^ 15 % 2 ^ 3 * 256 + (sl m c s / 2 ^ 9 % 2 ^ 1 * 2 ^ 7 + sl m c s % 2 ^ 7)

theorem rowN_lt (s : Nat) : rowN m c s < 2048 := by unfold rowN; omega

/-- The rows the call reads in scalar memory. -/
abbrev rowsV : S1216.Idx → BitVec 32 := V m c main_v60

theorem rowsV_at (s : Fin 1216) : (rowsV m c (ix1 s)).toNat = rowN m c s.val * 9 := by
  have e : rowsV m c = fun j => rowWord (a3 m c j) := V_rows m c
  rw [e]
  show (rowWord (a3 m c (ix1 s))).toNat = _
  rw [rowWord_bits]
  unfold rowN sl
  rw [dif_pos s.isLt]

theorem rowsV_le (j : S1216.Idx) : (rowsV m c j).toNat ≤ 18424 := by
  obtain ⟨s, rfl⟩ : ∃ s : Fin 1216, j = ix1 s := ⟨j 0, funext fun a => by obtain rfl : a = 0 := Subsingleton.elim _ _; rfl⟩
  rw [rowsV_at]
  have := rowN_lt m c s.val
  omega

/-- What half-block `b` adds to an accumulator row. -/
def contrib (b a s e l : Nat) : ℝ := if a = b % 3 * 2 + clsBit m c s (outer b) then tb (fB m c b) (rowN m c s) e l else 0

/-- The accumulator after the half-blocks from `lo` on, below `hi`. -/
def accR (lo hi a s e l : Nat) : ℝ := ∑ b ∈ Finset.Ico lo hi, contrib m c b a s e l

def SlabIs (S : S18432x128.Idx → Ideal .f32) (T : Nat → Nat → Nat → ℝ) : Prop :=
  ∀ (ρ : Fin 2048) (e : Fin 8) (i : Fin 128), S (ix2 ⟨ρ.val * 9 + e.val, by omega⟩ i) = ((T ρ.val e.val i.val : ℝ) : EReal)
def AccIs (A : S7296x8x128.Idx → Ideal .f32) (f : Nat → Nat → Nat → Nat → ℝ) : Prop :=
  ∀ (a : Fin 6) (s : Fin 1216) (e : Fin 8) (l : Fin 128), A (ix3 ⟨a.val * 1216 + s.val, by omega⟩ e l) = ((f a.val s.val e.val l.val : ℝ) : EReal)

/-- The visits of a half-block. -/
theorem visits_real {w : BitVec 32} (hc : ∀ (n : Fin 8) (k : Fin 38) v, clsOk w n.val k v) (b : Nat)
    (hg : Scalar.remsi w 3#32 = BitVec.ofNat 32 (b % 3)) (ho : oOf w = BitVec.ofNat 32 (outer b))
    {S : S18432x128.Idx → Ideal .f32} {T : Nat → Nat → Nat → ℝ} (hS : SlabIs S T)
    {A : S7296x8x128.Idx → Ideal .f32} {f : Nat → Nat → Nat → Nat → ℝ} (hA : AccIs A f) :
    AccIs (visitsAll hc (rowsV m c) (rows_ok m c) (maskV m c) S A)
      (fun a s e l => f a s e l + if a = b % 3 * 2 + clsBit m c s (outer b) then T (rowN m c s) e l else 0) := by
  intro a s e l
  have hs4 : s.val / 4 < 304 := by omega
  have hbit : clsBit m c s.val (outer b) < 2 := by
    unfold clsBit; rw [dif_pos hs4]; have := pb_le (a4 m c (ix1 ⟨s.val / 4, hs4⟩)) (outer b); omega
  rw [visits_at hc (rowsV m c) (rows_ok m c) (rowsV_le m c) (maskV m c) S A (g := ⟨b % 3, Nat.mod_lt _ (by decide)⟩) hg a s e l ⟨_, hbit⟩ (by
    rw [ho]
    have e1 := mask_at m c ⟨s.val / 4, hs4⟩ ⟨outer b, outer_lt b⟩
    refine e1.trans ?_
    show _ = BitVec.ofNat 32 (clsBit m c s.val (outer b))
    unfold clsBit
    rw [dif_pos hs4])]
  rw [hA a s e l, EReal.coe_add]
  congr 1
  show (if a.val = b % 3 * 2 + clsBit m c s.val (outer b) then _ else _) = _
  split
  · have hr := rowN_lt m c s.val
    refine Eq.trans ?_ (hS ⟨rowN m c s.val, hr⟩ e l)
    congr 2
    apply Fin.ext
    show (rowsV m c (ix1 s)).toNat + e.val = rowN m c s.val * 9 + e.val
    rw [rowsV_at]
  · rfl

theorem accR_succ {lo b : Nat} (h : lo ≤ b) (a s e l : Nat) :
    accR m c lo (b + 1) a s e l = accR m c lo b a s e l + contrib m c b a s e l := by
  unfold accR; exact Finset.sum_Ico_succ_top h _

variable (hfin : ∀ p : Fin 4194304, ∃ r : ℝ, a1 m c (ix2 0 p) = (r : EReal))

/-- The state before point `t`. -/
def Inv (t : Nat) (s : St Ideal) : Prop :=
  1 ≤ t → SlabIs s.b (tb (fB m c (2 * t - 1))) ∧ AccIs s.acc (accR m c (48 * ((t - 1) / 24)) (2 * t - 1))

/-- The state between the two phases of point `t`. -/
abbrev mid (t : Fin 73) (s : St Ideal) : St Ideal :=
  st2 (k0_cond1 (grid0.coords t) = 1#1) (clsOk_of (blkA_ok t)) (rowsV m c) (rows_ok m c) (maskV m c)
    (inW m c 0 t) (inW m c 2 t) (inW m c 4 t) s

include hfin in
theorem mid_a (t : Fin 73) (s : St Ideal) : SlabIs (mid m c t s).a (tb (fB m c (bA t))) := by
  intro ρ e i
  rw [st2_a]
  exact tiles_at _ _ _ _ (cellA m c hfin t) (inW4_at m c t) _ ρ e i

theorem mid_acc (t : Fin 73) (s : St Ideal) (hI : Inv m c t.val s) :
    AccIs (mid m c t s).acc (accR m c (48 * ((t.val - 1) / 24)) (2 * t.val)) := by
  rw [st2_acc]
  by_cases h0 : t.val = 0
  · have h1 : k0_cond1 (grid0.coords t) = 1#1 := (cond1_eq t).mpr h0
    rw [st1_pos _ _ h1]
    have hz := visits_real m c (clsOk_of (blkA_ok t)) (bV t) (blkA_rem t) (blkA_o t) (S := runT (N := 2304) zslabV 2304 s.b) (T := fun _ _ _ => 0)
      (fun ρ e i => zslab_at _ _ _) (A := zallV s.acc) (f := fun _ _ _ _ => 0) (fun a s e l => zall_at _ _)
    intro a s' e l
    rw [hz a s' e l]
    simp [h0, accR]
  · have h1 : ¬ k0_cond1 (grid0.coords t) = 1#1 := fun h => h0 ((cond1_eq t).mp h)
    rw [st1_neg _ _ h1]
    obtain ⟨hb, ha⟩ := hI (by omega)
    have hz := visits_real m c (clsOk_of (blkA_ok t)) (bV t) (blkA_rem t) (blkA_o t) hb ha
    intro a s' e l
    rw [hz a s' e l]
    have e2 : 2 * t.val = 2 * t.val - 1 + 1 := by omega
    conv_rhs => rw [e2, accR_succ m c (by omega)]
    rfl

include hfin in
theorem inv_next (t : Fin 73) (h72 : t.val < 72) (s : St Ideal) (hI : Inv m c t.val s) : Inv m c (t.val + 1) (stNext m c t s) := by
  intro _
  have hA := mid_a m c hfin t s
  have hacc := mid_acc m c t s hI
  have h3 : k0_cond3 (grid0.coords t) = 1#1 := (cond3_eq t).mpr h72
  have hbA : bA t = 2 * t.val := by unfold bA; omega
  have hbB : bB t = 2 * t.val + 1 := by unfold bB; omega
  have hst3 : SlabIs (st3 (k0_cond2 (grid0.coords t) = 1#1) (mid m c t s)).a (tb (fB m c (2 * t.val)))
      ∧ AccIs (st3 (k0_cond2 (grid0.coords t) = 1#1) (mid m c t s)).acc (accR m c (48 * (t.val / 24)) (2 * t.val)) := by
    rw [hbA] at hA
    by_cases h2 : k0_cond2 (grid0.coords t) = 1#1
    · have h2' := (cond2_eq t).mp h2
      rw [st3_pos _ _ h2]
      refine ⟨hA, fun a s' e l => ?_⟩
      rw [show accR m c (48 * (t.val / 24)) (2 * t.val) a s' e l = 0 by unfold accR; rw [show 2 * t.val = 48 * (t.val / 24) by omega]; simp]
      exact zacc_at _ _ _ _
    · have h2' : ¬ (t.val % 24 = 0 ∧ 0 < t.val) := fun h => h2 ((cond2_eq t).mpr h)
      rw [st3_neg _ _ h2]
      refine ⟨hA, ?_⟩
      rw [show t.val / 24 = (t.val - 1) / 24 by omega]
      exact hacc
  generalize hgen : st3 (k0_cond2 (grid0.coords t) = 1#1) (mid m c t s) = u at hst3
  have hnext : stNext m c t s = st4 (k0_cond3 (grid0.coords t) = 1#1) (clsOk_of (blkB_ok t)) (rowsV m c) (rows_ok m c) (maskV m c)
      (inW m c 1 t) (inW m c 3 t) (inW m c 4 t) u := by
    rw [← hgen]; unfold stNext pointV; rfl
  rw [hnext, show t.val + 1 - 1 = t.val by omega, show 2 * (t.val + 1) - 1 = 2 * t.val + 1 by omega, st4_b _ _ _ _ _ _ _ _ _ h3, st4_acc _ _ _ _ _ _ _ _ _ h3]
  have hz := visits_real m c (clsOk_of (blkB_ok t)) (2 * t.val) (blkB_rem ⟨t.val, h72⟩) (blkB_o ⟨t.val, h72⟩) hst3.1 hst3.2
  have hf : (fun a s e l => accR m c (48 * (t.val / 24)) (2 * t.val) a s e l
      + if a = 2 * t.val % 3 * 2 + clsBit m c s (outer (2 * t.val)) then tb (fB m c (2 * t.val)) (rowN m c s) e l else 0)
      = accR m c (48 * (t.val / 24)) (2 * t.val + 1) := by
    funext a s' e l
    rw [accR_succ m c (by omega)]
    rfl
  rw [hf] at hz
  have hB : SlabIs (tilesAll (inW m c 1 t) (inW m c 3 t) (inW m c 4 t) u.b) (tb (fB m c (bB t))) := fun ρ e i =>
    tiles_at _ _ _ _ (cellB m c hfin t) (inW4_at m c t) _ ρ e i
  rw [hbB] at hB
  exact ⟨hB, hz⟩

include hfin in
theorem inv_at (s0 : St Ideal) (t : Nat) (ht : t ≤ 72) : Inv m c t (stAt m c s0 t) := by
  induction t with
  | zero => intro h; omega
  | succ t ih =>
    rw [stAt_succ m c s0 ⟨t, by omega⟩]
    exact inv_next m c hfin ⟨t, by omega⟩ (by show t < 72; omega) _ (ih (by omega))

/-- The result, one element: slot `s`, group `g`, column and lane `l`. -/
def zR (s g l : Nat) : ℝ :=
  finSum (sl m c s / 2 ^ 12 % 2 ^ 3 * 16 + sl m c s / 2 ^ 10 % 2 ^ 2 * 4 + sl m c s / 2 ^ 7 % 2 ^ 2)
    (accR m c (48 * (g / 3)) (48 * (g / 3) + 48)) (g % 3 * 2) (g % 3 * 2 + 1) s l 8

include hfin in
/-- What the output block holds after the point that ends pass `p`. -/
theorem out_at (s0 : St Ideal) (t : Fin 73) (ht : t.val % 24 = 0) (h0 : 0 < t.val) (O : S1216x384.Idx → Ideal .f32)
    (s : Fin 1216) (g : Fin 3) (l : Fin 128) :
    outNext m c t (stAt m c s0 t.val) O (ix2 s ⟨g.val * 128 + l.val, by omega⟩) = ((zR m c s.val ((t.val / 24 - 1) * 3 + g.val) l.val : ℝ) : EReal) := by
  have h2 : k0_cond2 (grid0.coords t) = 1#1 := (cond2_eq t).mpr ⟨ht, h0⟩
  have hacc := mid_acc m c t _ (inv_at m c hfin s0 t.val (by omega))
  have e : outNext m c t (stAt m c s0 t.val) O = finAll (mid m c t (stAt m c s0 t.val)).acc (inW m c 5 t) O := by
    unfold outNext; exact pointO_pos _ _ _ _ _ _ _ _ _ _ _ h2 O
  rw [e, finAll_at _ _ _ hacc O s g l, inW5_at, codeWord_bits]
  have e1 : sl m c s.val = (a3 m c (ix1 s)).toNat := by unfold sl; rw [dif_pos s.isLt]
  unfold zR
  rw [e1, show ((t.val / 24 - 1) * 3 + g.val) / 3 = t.val / 24 - 1 by omega, show ((t.val / 24 - 1) * 3 + g.val) % 3 = g.val by omega,
    show (t.val - 1) / 24 = t.val / 24 - 1 by omega, show 48 * (t.val / 24 - 1) + 48 = 2 * t.val by omega]

end Cert.KernelIdeal.Own
-- ==== Proof.ValMath.lean ====
module

public import proofs.«01_k».proof.Proof.ValRun

@[expose] public section

/-! # The kernel's nested sums are one sum over all positions, signed by the parity of shared bits -/

noncomputable section

namespace Cert.Trip

theorem sum_range_mul' (F : Nat → ℝ) (a b : Nat) :
    ∑ i ∈ Finset.range (a * b), F i = ∑ x ∈ Finset.range a, ∑ y ∈ Finset.range b, F (x * b + y) := by
  induction a with
  | zero => simp
  | succ a ih => rw [Nat.succ_mul, Finset.sum_range_add, ih, Finset.sum_range_succ]

theorem pty_field (n a a' b : Nat) (h : a % 2 ^ n = a' % 2 ^ n) : pty n a b = pty n a' b := by
  rw [pty_low n a, h, ← pty_low n a']

/-- The signed sum over the positions whose bits 7, 8 and 10, 11 are `k` and `cc`. -/
def refR (M : Nat) (x : Nat → Nat → ℝ) (g cc k d : Nat) : ℝ :=
  ∑ h ∈ Finset.range 1024, ∑ β ∈ Finset.range 2, ∑ u ∈ Finset.range 128,
    sg (pty 22 M ((((h * 4 + cc) * 2 + β) * 4 + k) * 128 + u)) * x (g * 8 + d) ((((h * 4 + cc) * 2 + β) * 4 + k) * 128 + u)

theorem fields (X : Nat) : ∃ x0 x7 x9 x10 x12 x15 x18 : Nat, x0 < 128 ∧ x7 < 4 ∧ x9 < 2 ∧ x10 < 4 ∧ x12 < 8 ∧ x15 < 8
    ∧ X = x0 + 128 * x7 + 512 * x9 + 1024 * x10 + 4096 * x12 + 32768 * x15 + 262144 * x18 := by
  refine ⟨X % 128, X / 128 % 4, X / 128 / 4 % 2, X / 128 / 4 / 2 % 4, X / 128 / 4 / 2 / 4 % 8, X / 128 / 4 / 2 / 4 / 8 % 8, X / 128 / 4 / 2 / 4 / 8 / 8, ?_⟩
  omega

theorem sign_split (X cls e o q β u cc k : Nat) (he : e < 8) (ho : o < 16) (hq : q < 8) (hβ : β < 2) (hu : u < 128) (hc : cc < 4) (hk : k < 4) :
    sg (pty 7 (X / 2 ^ 12 % 2 ^ 3 * 16 + X / 2 ^ 10 % 2 ^ 2 * 4 + X / 2 ^ 7 % 2 ^ 2) (cc * 4 + k + 16 * e)) * (sg (pty 4 cls o)
      * (sg (pty 3 ((X / 2 ^ 15 % 2 ^ 3 * 256 + (X / 2 ^ 9 % 2 ^ 1 * 2 ^ 7 + X % 2 ^ 7)) / 256) q)
        * sg (pty 8 ((X / 2 ^ 15 % 2 ^ 3 * 256 + (X / 2 ^ 9 % 2 ^ 1 * 2 ^ 7 + X % 2 ^ 7)) % 256) (β * 128 + u))))
      = sg (pty 22 (cls % 16 * 2 ^ 18 + X % 2 ^ 18) (((((o * 64 + q * 8 + e) * 4 + cc) * 2 + β) * 4 + k) * 128 + u)) := by
  obtain ⟨x0, x7, x9, x10, x12, x15, x18, h0, h7, h9, h10, h12, h15, hX⟩ := fields X
  have f12 : X / 2 ^ 12 % 2 ^ 3 = x12 := by omega
  have f10 : X / 2 ^ 10 % 2 ^ 2 = x10 := by omega
  have f7 : X / 2 ^ 7 % 2 ^ 2 = x7 := by omega
  have f15 : X / 2 ^ 15 % 2 ^ 3 = x15 := by omega
  have f9 : X / 2 ^ 9 % 2 ^ 1 = x9 := by omega
  have f0 : X % 2 ^ 7 = x0 := by omega
  have f18 : X % 2 ^ 18 = x0 + 128 * x7 + 512 * x9 + 1024 * x10 + 4096 * x12 + 32768 * x15 := by omega
  rw [f12, f10, f7, f15, f9, f0, f18]
  clear f12 f10 f7 f15 f9 f0 f18 hX X x18
  generalize hM : cls % 16 * 2 ^ 18 + (x0 + 128 * x7 + 512 * x9 + 1024 * x10 + 4096 * x12 + 32768 * x15) = M
  have s1 : pty 22 M (((((o * 64 + q * 8 + e) * 4 + cc) * 2 + β) * 4 + k) * 128 + u)
      = (pty 7 M u ^^ (pty 2 (M / 2 ^ 7) k ^^ (pty 1 (M / 2 ^ 7 / 2 ^ 2) β ^^ (pty 2 (M / 2 ^ 7 / 2 ^ 2 / 2 ^ 1) cc
        ^^ (pty 3 (M / 2 ^ 7 / 2 ^ 2 / 2 ^ 1 / 2 ^ 2) e ^^ (pty 3 (M / 2 ^ 7 / 2 ^ 2 / 2 ^ 1 / 2 ^ 2 / 2 ^ 3) q ^^ pty 4 (M / 2 ^ 7 / 2 ^ 2 / 2 ^ 1 / 2 ^ 2 / 2 ^ 3 / 2 ^ 3) o)))))) := by
    rw [← pty_split 3 4 _ o q (by omega), ← pty_split 3 7 _ _ e (by omega), ← pty_split 2 10 _ _ cc (by omega), ← pty_split 1 12 _ _ β (by omega),
      ← pty_split 2 13 _ _ k (by omega), ← pty_split 7 15 _ _ u (by omega)]
    congr 1
    ring
  generalize hK : x12 * 16 + x10 * 4 + x7 = K
  generalize hR : x15 * 256 + (x9 * 2 ^ 7 + x0) = R
  have s2 : pty 7 K (cc * 4 + k + 16 * e) = (pty 2 K k ^^ (pty 2 (K / 2 ^ 2) cc ^^ pty 3 (K / 2 ^ 2 / 2 ^ 2) e)) := by
    rw [← pty_split 2 3 _ e cc (by omega), ← pty_split 2 5 _ _ k (by omega)]
    congr 1
    ring
  have s3 : pty 8 (R % 256) (β * 128 + u) = (pty 7 (R % 256) u ^^ pty 1 (R % 256 / 2 ^ 7) β) := by
    exact pty_split 7 1 (R % 256) β u (by omega)
  have m7 : M / 2 ^ 7 = x7 + 4 * (x9 + 2 * (x10 + 4 * (x12 + 8 * (x15 + 8 * (cls % 16))))) := by omega
  have m9 : M / 2 ^ 7 / 2 ^ 2 = x9 + 2 * (x10 + 4 * (x12 + 8 * (x15 + 8 * (cls % 16)))) := by omega
  have m10 : M / 2 ^ 7 / 2 ^ 2 / 2 ^ 1 = x10 + 4 * (x12 + 8 * (x15 + 8 * (cls % 16))) := by omega
  have m12 : M / 2 ^ 7 / 2 ^ 2 / 2 ^ 1 / 2 ^ 2 = x12 + 8 * (x15 + 8 * (cls % 16)) := by omega
  have m15 : M / 2 ^ 7 / 2 ^ 2 / 2 ^ 1 / 2 ^ 2 / 2 ^ 3 = x15 + 8 * (cls % 16) := by omega
  have m18 : M / 2 ^ 7 / 2 ^ 2 / 2 ^ 1 / 2 ^ 2 / 2 ^ 3 / 2 ^ 3 = cls % 16 := by omega
  rw [s1, s2, s3, m18, m15, m12, m10, m9, m7, pty_field 7 M (R % 256) u (by omega),
    pty_field 2 (x7 + _) K k (by omega), pty_field 1 (x9 + _) (R % 256 / 2 ^ 7) β (by omega),
    pty_field 2 (x10 + _) (K / 2 ^ 2) cc (by omega), pty_field 3 (x12 + _) (K / 2 ^ 2 / 2 ^ 2) e (by omega),
    pty_field 3 (x15 + _) (R / 256) q (by omega), pty_field 4 (cls % 16) cls o (by omega)]
  simp only [sg_xor]
  ring

theorem sum48 (F : Nat → ℝ) : ∑ i ∈ Finset.range 48, F i = ∑ o ∈ Finset.range 16, (F (o * 3) + F (o * 3 + 1) + F (o * 3 + 2)) := by
  rw [show (48 : Nat) = 16 * 3 from rfl, sum_range_mul']
  refine Finset.sum_congr rfl fun o _ => ?_
  simp only [Finset.sum_range_succ, Finset.sum_range_zero, zero_add, Nat.add_zero]

theorem sum1024 (F : Nat → ℝ) : ∑ h ∈ Finset.range 1024, F h
    = ∑ o ∈ Finset.range 16, ∑ q ∈ Finset.range 8, ∑ e ∈ Finset.range 8, F (o * 64 + q * 8 + e) := by
  rw [show (1024 : Nat) = 16 * 64 from rfl, sum_range_mul']
  refine Finset.sum_congr rfl fun o _ => ?_
  rw [show (64 : Nat) = 8 * 8 from rfl, sum_range_mul' (fun i => F (o * (8 * 8) + i))]
  refine Finset.sum_congr rfl fun q _ => Finset.sum_congr rfl fun e _ => ?_
  rw [Nat.add_assoc]

end Cert.Trip

namespace Cert.KernelIdeal.Own

open Idealize.ShloMosaic Idealize.ShloMosaic.ValueIdx
open Cert.KernelIdeal.Gen Cert.Trip

variable (m : (ℓ : Loc nD τ sig) → Buf (Elt Ideal) ℓ) (c : Dev nD)

/-- A quartet's class, as a number. -/
def clsN (s : Nat) : Nat := if h : s / 4 < 304 then (a4 m c (ix1 ⟨s / 4, h⟩)).toNat else 0

theorem contrib_diff (G γ s e l o : Nat) (hs : s < 1216) (ho : o < 16) (hγ : γ < 3) (r : Nat) (hr : r < 3) :
    contrib m c (48 * G + (o * 3 + r)) (γ * 2) s e l - contrib m c (48 * G + (o * 3 + r)) (γ * 2 + 1) s e l
      = if r = γ then sg (pty 4 (clsN m c s) o) * tb (fB m c (48 * G + (o * 3 + γ))) (rowN m c s) e l else 0 := by
  have h1 : (48 * G + (o * 3 + r)) % 3 = r := by omega
  have h2 : outer (48 * G + (o * 3 + r)) = o := by unfold outer; omega
  have hs4 : s / 4 < 304 := by omega
  have h3 : clsBit m c s o = if pty 4 (clsN m c s) o then 1 else 0 := by
    unfold clsBit clsN; rw [dif_pos hs4, dif_pos hs4]; rfl
  unfold contrib
  rw [h1, h2, h3]
  by_cases hrg : r = γ
  · subst hrg
    rw [if_pos rfl]
    cases pty 4 (clsN m c s) o <;> simp [sg]
  · rw [if_neg hrg]
    have i1 : ¬ γ * 2 = r * 2 + (if pty 4 (clsN m c s) o then 1 else 0) := by split <;> omega
    have i2 : ¬ γ * 2 + 1 = r * 2 + (if pty 4 (clsN m c s) o then 1 else 0) := by split <;> omega
    rw [if_neg i1, if_neg i2, sub_zero]

theorem acc_diff (G γ s e l : Nat) (hs : s < 1216) (hγ : γ < 3) :
    accR m c (48 * G) (48 * G + 48) (γ * 2) s e l - accR m c (48 * G) (48 * G + 48) (γ * 2 + 1) s e l
      = ∑ o ∈ Finset.range 16, sg (pty 4 (clsN m c s) o) * tb (fB m c (48 * G + (o * 3 + γ))) (rowN m c s) e l := by
  unfold accR
  rw [← Finset.sum_sub_distrib, Finset.sum_Ico_eq_sum_range, Nat.add_sub_cancel_left, sum48]
  refine Finset.sum_congr rfl fun o ho => ?_
  have ho' := Finset.mem_range.mp ho
  have k0 := contrib_diff m c G γ s e l o hs ho' hγ 0 (by omega)
  have k1 := contrib_diff m c G γ s e l o hs ho' hγ 1 (by omega)
  have k2 := contrib_diff m c G γ s e l o hs ho' hγ 2 (by omega)
  rw [Nat.add_zero] at k0
  rw [k0, k1, k2]
  interval_cases γ <;> simp

theorem yv_range (f : Nat → Nat → Nat → ℝ) (n q r i : Nat) : yv f n q r i
    = ∑ β ∈ Finset.range 2, ∑ u ∈ Finset.range 128, sg (pty 8 r (β * 128 + u)) * f (64 * q + 8 * n + 2 * (i / 32) + β) (i % 32) u := by
  unfold yv
  rw [← Finset.sum_range (fun j => sg (pty 8 r j) * f (64 * q + 8 * n + 2 * (i / 32) + j / 128) (i % 32) (j % 128)),
    show (256 : Nat) = 2 * 128 from rfl, sum_range_mul']
  refine Finset.sum_congr rfl fun β _ => Finset.sum_congr rfl fun u hu => ?_
  have hu' := Finset.mem_range.mp hu
  rw [show (β * 128 + u) / 128 = β by omega, show (β * 128 + u) % 128 = u by omega]

theorem zR_eq (s g l : Nat) (hs : s < 1216) (hg : g < 9) (hl : l < 128) :
    zR m c s g l = refR (clsN m c s % 16 * 2 ^ 18 + sl m c s % 2 ^ 18) (xR m c) g (l / 32) (l / 8 % 4) (l % 8) := by
  unfold zR finSum refR
  rw [sum1024, Finset.sum_congr rfl (fun e _ => by rw [acc_diff m c (g / 3) (g % 3) s e l hs (Nat.mod_lt _ (by decide)), Finset.mul_sum])]
  rw [Finset.sum_comm]
  refine Finset.sum_congr rfl fun o ho => ?_
  rw [Finset.sum_comm (s := Finset.range 8) (t := Finset.range 8)]
  refine Finset.sum_congr rfl fun e he => ?_
  unfold tb
  rw [Finset.mul_sum, Finset.mul_sum]
  refine Finset.sum_congr rfl fun q hq => ?_
  rw [yv_range, Finset.mul_sum, Finset.mul_sum, Finset.mul_sum]
  refine Finset.sum_congr rfl fun β hβ => ?_
  rw [Finset.mul_sum, Finset.mul_sum, Finset.mul_sum]
  refine Finset.sum_congr rfl fun u hu => ?_
  have ho' := Finset.mem_range.mp ho
  have he' := Finset.mem_range.mp he
  have hq' := Finset.mem_range.mp hq
  have hβ' := Finset.mem_range.mp hβ
  have hu' := Finset.mem_range.mp hu
  have key := sign_split (sl m c s) (clsN m c s) e o q β u (l / 32) (l / 8 % 4) he' ho' hq' hβ' hu' (by omega) (by omega)
  rw [← key]
  have hf : fB m c (48 * (g / 3) + (o * 3 + g % 3)) (64 * q + 8 * e + 2 * (l / 32) + β) (l % 32) u
      = xR m c (g * 8 + l % 8) (((((o * 64 + q * 8 + e) * 4 + l / 32) * 2 + β) * 4 + l / 8 % 4) * 128 + u) := by
    unfold fB
    have e1 : gOf (48 * (g / 3) + (o * 3 + g % 3)) = g := by unfold gOf; omega
    have e2 : outer (48 * (g / 3) + (o * 3 + g % 3)) = o := by unfold outer; omega
    rw [e1, e2]
    congr 1 <;> omega
  rw [hf, show l / 32 * 4 + l / 8 % 4 + 16 * e = l / 8 + 16 * e by omega]
  unfold rowN
  ring

end Cert.KernelIdeal.Own
-- ==== Proof.ValOut.lean ====
module

public import proofs.«01_k».proof.Proof.ValMath

@[expose] public section

/-! # What the result array holds after the run

The result is written back three times, at the points that end a pass, and the three blocks cover it. -/

noncomputable section

namespace Cert.KernelIdeal.Own

open Idealize.ShloMosaic Idealize.ShloMosaic.TcCoe Idealize.ShloMosaic.Tactic Idealize.ShloMosaic.ValueIdx
open Idealize.SL.Sem
open Cert.KernelIdeal.Gen Cert.Trip

variable (m : (ℓ : Loc nD τ sig) → Buf (Elt Ideal) ℓ) (c : Dev nD)

/-- Whether the result is written back at a point. -/
def flB (t : Fin 73) : Bool := Pipeline.Window.flushOf grid0 true cc0_transform_6 t

theorem flB_eq : ∀ t : Fin 73, flB t = decide (t.val % 24 = 0 ∧ 0 < t.val) := by decide +kernel

theorem flush6 (t : Fin 73) : ((cfgM m).win 6).flush t = true ↔ (t.val % 24 = 0 ∧ 0 < t.val) := by
  rw [show ((cfgM m).win 6).flush t = flB t from rfl, flB_eq, decide_eq_true_iff]

/-- The result. -/
def zArr : S1216x1152.Idx → Ideal .f32 := fun i => ((zR m c (i 0).val ((i 1).val / 128) ((i 1).val % 128) : ℝ) : EReal)

theorem cover6 (t : Fin 73) (j : S1216x384.Idx) (i : S1216x1152.Idx)
    (hi : ∀ a, (i a).val = cc0_transform_6 (grid0.coords t) a * S1216x384.size a + (j a).val) : i ∈ (((cfgM m).win 6).blk t).view.set := by
  have hx : ∀ a, (j a).val < ((cfgM m).win 6).xsize ((cfgM m).grid.coords t) a := fun a => by
    have := (j a).isLt
    unfold Pipeline.Window.xsize
    rw [clip_none m 6]
    exact this
  have e : i = (((cfgM m).win 6).blk t).view.emb (fun a => ⟨(j a).val, hx a⟩) := funext fun a => Fin.ext <|
    (hi a).trans (Pipeline.Window.rect_emb_val ((cfgM m).win 6) t (fun a => ⟨(j a).val, hx a⟩) a rfl).symm
  rw [e]
  exact View.emb_mem_set _ _

variable (hfin : ∀ p : Fin 4194304, ∃ r : ℝ, a1 m c (ix2 0 p) = (r : EReal))
include hfin

/-- The block written at the end of a pass, element by element. -/
theorem out_at' (s0 : St Ideal) (t : Fin 73) (ht : t.val % 24 = 0) (h0 : 0 < t.val) (O : S1216x384.Idx → Ideal .f32) (j : S1216x384.Idx) :
    outNext m c t (stAt m c s0 t.val) O j
      = ((zR m c (j 0).val ((t.val / 24 - 1) * 3 + (j 1).val / 128) ((j 1).val % 128) : ℝ) : EReal) := by
  have h1 : (j 1).val < 384 := (j 1).isLt
  have e := out_at m c hfin s0 t ht h0 O (j 0) ⟨(j 1).val / 128, by omega⟩ ⟨(j 1).val % 128, by omega⟩
  rw [← e]
  refine congrArg _ (funext fun a => ?_)
  fin_cases a
  · rfl
  · refine Fin.ext ?_
    show (j 1).val = (j 1).val / 128 * 128 + (j 1).val % 128
    omega

theorem out_blk (s0 : St Ideal) (t : Fin 73) (ht : t.val % 24 = 0) (h0 : 0 < t.val) (O : S1216x384.Idx → Ideal .f32) (j : S1216x384.Idx)
    (i : S1216x1152.Idx) (hi : ∀ a, (i a).val = cc0_transform_6 (grid0.coords t) a * S1216x384.size a + (j a).val) :
    outNext m c t (stAt m c s0 t.val) O j = zArr m c i := by
  rw [out_at' m c hfin s0 t ht h0]
  have h1 : (j 1).val < 384 := (j 1).isLt
  have e0 : (i 0).val = (j 0).val := by
    refine (hi 0).trans ?_
    rw [t6_eq]
    show 0 * 1216 + (j 0).val = _
    omega
  have e1 : (i 1).val = (t.val - 1) / 24 * 384 + (j 1).val := by
    refine (hi 1).trans ?_
    rw [t6_eq]
    rfl
  unfold zArr
  rw [e0, e1]
  have ea : ((t.val - 1) / 24 * 384 + (j 1).val) / 128 = (t.val / 24 - 1) * 3 + (j 1).val / 128 := by omega
  have eb : ((t.val - 1) / 24 * 384 + (j 1).val) % 128 = (j 1).val % 128 := by omega
  rw [ea, eb]

theorem result_of (r : PUnit × MemSt nD τ sig (Elt Ideal)) (h : Pipeline.RDat.FramePost (cfgM m) (rd m) (V m) r) :
    r.2.mem ((c.tc : Thread nD τ).loc main_v76) = zArr m c := by
  obtain ⟨after, hL, hA⟩ := Pipeline.RDat.FramePost.exists_exact h c
  refine (hA 6).trans ?_
  refine Pipeline.Dat.arrAt_eq_of_cover ((rd m c).withAfter after) 6 (zArr m c) (fun t hf => ?_) (fun i => ?_)
  · obtain ⟨Y, -, s, hX⟩ := hL 6 t hf
    have hc := (flush6 m t).mp hf
    funext y
    refine (Pipeline.Dat.flushed_apply _ 6 t y).trans ?_
    rw [Pipeline.RDat.withAfter_after, hX]
    refine out_blk m c hfin s t hc.1 hc.2 Y _ _ (fun a => ?_)
    exact Pipeline.Window.rect_emb_val ((cfgM m).win 6) t y a rfl
  · change S1216x1152.Idx at i
    have hi0 : (i 0).val < 1216 := (i 0).isLt
    have hi1 : (i 1).val < 1152 := (i 1).isLt
    have hk : (i 1).val / 384 < 3 := by omega
    obtain ⟨t, ht⟩ : ∃ t : Fin 73, t.val = ((i 1).val / 384 + 1) * 24 := ⟨⟨((i 1).val / 384 + 1) * 24, by omega⟩, rfl⟩
    refine ⟨t, (flush6 m t).mpr ⟨by omega, by omega⟩, ?_⟩
    refine cover6 m t (ix2 (i 0) ⟨(i 1).val % 384, by omega⟩) i fun a => ?_
    rw [t6_eq]
    fin_cases a
    · show (i 0).val = 0 * 1216 + (i 0).val
      omega
    · show (i 1).val = (t.val - 1) / 24 * 384 + (i 1).val % 384
      omega

end Cert.KernelIdeal.Own
-- ==== Proof.ValRef.lean ====
module

public import proofs.«01_k».proof.Proof.Parity
public import proofs.«01_k».proof.Proof.Gen.ReferenceIdeal
public import Idealize.ShloMosaic.Lib.ValueIdx
public import Idealize.ShloMosaic.Lib.ValueIdxRank6
public import Idealize.ShloMosaic.Lib.Pipeline.Value
public import Idealize.ShloMosaic.PureOps.Ideal.Laws

@[expose] public section

/-! # What the reference computes, element by element

The contraction of the reference runs over three axes; read at an index it is a sum over the position's
top ten bits, its bit 9 and its low seven bits, the bits 10, 11 and 7, 8 held fixed. -/

noncomputable section

/-- Rank 7: the row-major position as one sum of products. -/
theorem Cert.Trip.rowMajor_val_seven {d : Fin 7 → Nat} (i : (⟨7, d⟩ : Idealize.ShloMosaic.Shape).Idx) :
    ((⟨7, d⟩ : Idealize.ShloMosaic.Shape).rowMajor i).val
      = ((((((i 0).val * d 1 + (i 1).val) * d 2 + (i 2).val) * d 3 + (i 3).val) * d 4 + (i 4).val) * d 5 + (i 5).val) * d 6 + (i 6).val := by
  show (Idealize.ShloMosaic.Shape.rowMajorPi d i).val = _
  rw [Idealize.ShloMosaic.Shape.rowMajorPi_succ_val, Idealize.ShloMosaic.Shape.rowMajorPi_succ_val, Idealize.ShloMosaic.Shape.rowMajorPi_succ_val,
    Idealize.ShloMosaic.Shape.rowMajorPi_succ_val, Idealize.ShloMosaic.Shape.rowMajorPi_succ_val, Idealize.ShloMosaic.Shape.rowMajorPi_succ_val,
    Idealize.ShloMosaic.Shape.rowMajorPi_succ_val]
  simp [Idealize.ShloMosaic.Shape.rowMajorPi_zero, Fin.prod_univ_succ, Nat.add_mul, Nat.mul_assoc, Nat.add_assoc]

namespace Cert.ReferenceIdeal.Own

open Idealize.ShloMosaic Idealize.ShloMosaic.ValueIdx
open Cert.ReferenceIdeal Cert.ReferenceIdeal.Gen Cert.Trip

/-- The product's dimension numbers. -/
abbrev dd := dot_S1216x1024x4x2x4x128_S9x8x1024x4x2x4x128_S4x4x1216x9x8_315_426_0_01_24_35

theorem dd_rank : dd.contr.rank = 3 := by rw [dd.rank_contr]; rfl

theorem dd_size (p : Fin dd.contr.rank) : (if p.val = 0 then 2 else if p.val = 1 then 1024 else 128) = dd.contr.size p := by
  obtain ⟨p, hp⟩ := p
  have hp' : p < 3 := dd_rank ▸ hp
  have : p = 0 ∨ p = 1 ∨ p = 2 := by omega
  rcases this with rfl | rfl | rfl <;> rfl

/-- The contraction index of bit 9, the top ten bits and the low seven. -/
def kIdx (β : Fin 2) (h : Fin 1024) (u : Fin 128) : dd.contr.Idx := fun p =>
  if h0 : p.val = 0 then β.cast (by rw [← dd_size p, if_pos h0])
  else if h1 : p.val = 1 then h.cast (by rw [← dd_size p, if_neg h0, if_pos h1])
  else u.cast (by rw [← dd_size p, if_neg h0, if_neg h1])

def kEquiv : Fin 2 × Fin 1024 × Fin 128 ≃ dd.contr.Idx where
  toFun x := kIdx x.1 x.2.1 x.2.2
  invFun k := ((k ⟨0, by rw [dd_rank]; decide⟩).cast (dd_size _).symm, (k ⟨1, by rw [dd_rank]; decide⟩).cast (dd_size _).symm,
    (k ⟨2, by rw [dd_rank]; decide⟩).cast (dd_size _).symm)
  left_inv _ := rfl
  right_inv k := by
    funext p
    obtain ⟨p, hp⟩ := p
    have hp' : p < 3 := dd_rank ▸ hp
    have : p = 0 ∨ p = 1 ∨ p = 2 := by omega
    rcases this with rfl | rfl | rfl <;> rfl

theorem sum_k (f : dd.contr.Idx → EReal) : ∑ k, f k = ∑ β : Fin 2, ∑ h : Fin 1024, ∑ u : Fin 128, f (kIdx β h u) := by
  rw [← Fintype.sum_equiv kEquiv (fun x => f (kIdx x.1 x.2.1 x.2.2)) f fun _ => rfl, Fintype.sum_prod_type]
  exact Finset.sum_congr rfl fun β _ => Fintype.sum_prod_type _

/-- The position of a top part, two fixed fields, bit 9 and a low part. -/
def posF (h : Fin 1024) (c : Fin 4) (β : Fin 2) (k : Fin 4) (u : Fin 128) : Fin 4194304 :=
  ⟨(((h.val * 4 + c.val) * 2 + β.val) * 4 + k.val) * 128 + u.val, by omega⟩

section Ein

variable (L : S1216x4194304.Idx → Ideal .bf16) (X : S1x72x4194304.Idx → Ideal .bf16)

/-- The left operand's element. -/
theorem left_at (c k : Fin 4) (s : Fin 1216) (g : Fin 9) (d : Fin 8) (β : Fin 2) (h : Fin 1024) (u : Fin 128) :
    shapeCast S1216x1024x4x2x4x128 L shapeCasts_S1216x4194304_S1216x1024x4x2x4x128 (dd.lhsIdx (ix5 c k s g d) (kIdx β h u))
      = L (ix2 s (posF h c β k u)) := by
  refine shapeCast_apply _ _ _ _ ?_
  rw [Shape.rowMajor_val_two, Shape.rowMajor_val_six]
  show s.val * 4194304 + ((((h.val * 4 + c.val) * 2 + β.val) * 4 + k.val) * 128 + u.val)
    = ((((s.val * 1024 + h.val) * 4 + c.val) * 2 + β.val) * 4 + k.val) * 128 + u.val
  omega

/-- The right operand's element. -/
theorem right_at (c k : Fin 4) (s : Fin 1216) (g : Fin 9) (d : Fin 8) (β : Fin 2) (h : Fin 1024) (u : Fin 128) :
    shapeCast S9x8x1024x4x2x4x128 X shapeCasts_S1x72x4194304_S9x8x1024x4x2x4x128 (dd.rhsIdx (ix5 c k s g d) (kIdx β h u))
      = X (ix3 0 ⟨g.val * 8 + d.val, by omega⟩ (posF h c β k u)) := by
  refine shapeCast_apply _ _ _ _ ?_
  rw [Shape.rowMajor_val_three, rowMajor_val_seven]
  show (0 * 72 + (g.val * 8 + d.val)) * 4194304 + ((((h.val * 4 + c.val) * 2 + β.val) * 4 + k.val) * 128 + u.val)
    = (((((g.val * 8 + d.val) * 1024 + h.val) * 4 + c.val) * 2 + β.val) * 4 + k.val) * 128 + u.val
  omega

/-- An element of the result: slot `s`, group `g`, fixed fields `c` and `k`, column `d` of the group. -/
theorem ein_at (c k : Fin 4) (s : Fin 1216) (g : Fin 9) (d : Fin 8) (i : S1216x1152.Idx) (h0 : (i 0).val = s.val)
    (h1 : (i 1).val = ((g.val * 4 + c.val) * 4 + k.val) * 8 + d.val) :
    shapeCast S1216x1152 (transpose S1216x9x4x4x8 [2, 3, 0, 1, 4] (Host.dotGeneral dd none
        (shapeCast S1216x1024x4x2x4x128 L shapeCasts_S1216x4194304_S1216x1024x4x2x4x128 : FVec Ideal S1216x1024x4x2x4x128 .bf16)
        (shapeCast S9x8x1024x4x2x4x128 X shapeCasts_S1x72x4194304_S9x8x1024x4x2x4x128 : FVec Ideal S9x8x1024x4x2x4x128 .bf16))
      transposes_S4x4x1216x9x8_S1216x9x4x4x8_2_3_0_1_4) shapeCasts_S1216x9x4x4x8_S1216x1152 i
    = ∑ β : Fin 2, ∑ h : Fin 1024, ∑ u : Fin 128, L (ix2 s (posF h c β k u)) * X (ix3 0 ⟨g.val * 8 + d.val, by omega⟩ (posF h c β k u)) := by
  rw [shapeCast_apply (j := i) (k := (ix5 s g c k d : S1216x9x4x4x8.Idx))]
  · rw [transpose_apply (j := _) (k := (ix5 c k s g d : S4x4x1216x9x8.Idx))]
    · simp only [Host.dotGeneral]
      rw [Ideal.dotGeneral_apply, sum_k]
      refine Finset.sum_congr rfl fun β _ => Finset.sum_congr rfl fun h _ => Finset.sum_congr rfl fun u _ => ?_
      rw [left_at, right_at]
    · intro a; fin_cases a <;> rfl
  · rw [Shape.rowMajor_val_five, Shape.rowMajor_val_two, h0, h1]
    show (((s.val * 9 + g.val) * 4 + c.val) * 4 + k.val) * 8 + d.val = s.val * 1152 + (((g.val * 4 + c.val) * 4 + k.val) * 8 + d.val)
    omega

end Ein

section Operands

variable (A0 : S1x72x4194304.Idx → BitVec 8) (A1 : S1x4194304.Idx → Ideal .f32) (A2 : S1x4194304.Idx → BitVec 8)
  (A3 : S1216.Idx → BitVec 32) (A4 : S304.Idx → BitVec 32)

/-- The signed, scaled codes. -/
def xT : S1x72x4194304.Idx → Ideal .bf16 :=
  mulf (truncf .bf16 (sitofp .f32 (extsi 32 A0 natLt_8_32)) bitsLt_bf16_f32)
    (broadcastInDim S1x72x4194304 ![0, 1, 2] bcast_S1x1x4194304_S1x72x4194304_0_1_2
      (broadcastInDim S1x1x4194304 ![0, 2] bcast_S1x4194304_S1x1x4194304_0_2
        (truncf .bf16 (mulf A1 (sitofp .f32 (extsi 32 A2 natLt_8_32))) bitsLt_bf16_f32)))

theorem xT_at (col : Fin 72) (p : Fin 4194304) : xT A0 A1 A2 (ix3 0 col p)
    = (((A0 (ix3 0 col p)).toInt : ℝ) : EReal) * (A1 (ix2 0 p) * (((A2 (ix2 0 p)).toInt : ℝ) : EReal)) := by
  unfold xT
  refine congrArg₂ (fun x y : EReal => x * y) ?_ ?_
  · show ((((A0 (ix3 0 col p)).signExtend 32).toInt : ℝ) : EReal) = _
    rw [BitVec.toInt_signExtend_of_le (by decide)]
  · rw [broadcastInDim_apply _ _ _ _ (ix3 0 0 p) (fun a => by fin_cases a <;> rfl),
      broadcastInDim_apply _ _ _ _ (ix2 0 p) (fun a => by fin_cases a <;> rfl)]
    show A1 (ix2 0 p) * ((((A2 (ix2 0 p)).signExtend 32).toInt : ℝ) : EReal) = _
    rw [BitVec.toInt_signExtend_of_le (by decide)]

/-- The sampled rows' indices. -/
def idxT : S1216.Idx → BitVec 32 :=
  ori (Host.shli (andi (shapeCast S1216 (broadcastInDim S304x4 ![0, 1] bcast_S304x1_S304x4_0_1
      (broadcastInDim S304x1 ![0] bcast_S304_S304x1_0 A4)) shapeCasts_S304x4_S1216)
        (broadcastInDim S1216 ![] bcast_S_S1216 (constantI S_ 32 15#32))) (broadcastInDim S1216 ![] bcast_S_S1216 (constantI S_ 32 18#32)))
    (andi A3 (broadcastInDim S1216 ![] bcast_S_S1216 (constantI S_ 32 262143#32)))

theorem idxT_at (s : Fin 1216) :
    (idxT A3 A4 (ix1 s)).toNat = (A4 (ix1 ⟨s.val / 4, by omega⟩)).toNat % 16 * 2 ^ 18 + (A3 (ix1 s)).toNat % 2 ^ 18 := by
  have e : shapeCast S1216 (broadcastInDim S304x4 ![0, 1] bcast_S304x1_S304x4_0_1
      (broadcastInDim S304x1 ![0] bcast_S304_S304x1_0 A4)) shapeCasts_S304x4_S1216 (ix1 s) = A4 (ix1 ⟨s.val / 4, by omega⟩) := by
    rw [shapeCast_apply (j := ix1 s) (k := (ix2 ⟨s.val / 4, by omega⟩ ⟨s.val % 4, by omega⟩ : S304x4.Idx))]
    · rw [broadcastInDim_apply _ _ _ _ (ix2 ⟨s.val / 4, by omega⟩ 0) (fun a => by fin_cases a <;> rfl)]
      exact broadcastInDim_apply _ _ _ _ (ix1 ⟨s.val / 4, by omega⟩) (fun a => by obtain rfl : a = 0 := Subsingleton.elim _ _; rfl)
    · rw [Shape.rowMajor_val_two, Shape.rowMajor_val_one]
      show s.val / 4 * 4 + s.val % 4 = s.val
      omega
  have e2 : idxT A3 A4 (ix1 s) = ((A4 (ix1 ⟨s.val / 4, by omega⟩) &&& 15#32) <<< (18#32 : BitVec 32)) ||| (A3 (ix1 s) &&& 262143#32) := by
    rw [← e]; rfl
  rw [e2]
  generalize A4 (ix1 ⟨s.val / 4, by omega⟩) = x
  generalize A3 (ix1 s) = y
  have h1 : (x &&& 15#32).toNat = x.toNat % 16 := by rw [BitVec.toNat_and]; exact Nat.and_two_pow_sub_one_eq_mod _ 4
  have h2 : (y &&& 262143#32).toNat = y.toNat % 2 ^ 18 := by rw [BitVec.toNat_and]; exact Nat.and_two_pow_sub_one_eq_mod _ 18
  have h3 : ((x &&& 15#32) <<< (18#32 : BitVec 32)).toNat = x.toNat % 16 * 2 ^ 18 := by
    show ((x &&& 15#32) <<< 18).toNat = _
    rw [BitVec.toNat_shiftLeft, h1, Nat.shiftLeft_eq, Nat.mod_eq_of_lt]; omega
  rw [BitVec.toNat_or, h2, h3, Nat.mul_comm, Nat.two_pow_add_eq_or_of_lt (Nat.mod_lt _ (by decide))]

/-- The rows of the transform at the sampled indices. -/
def hadT (I : S1216.Idx → BitVec 32) : S1216x4194304.Idx → Ideal .bf16 :=
  sitofp .bf16 (subi (broadcastInDim S1216x4194304 ![] bcast_S_S1216x4194304 (constantI S_ 32 1#32))
    (muli (broadcastInDim S1216x4194304 ![] bcast_S_S1216x4194304 (constantI S_ 32 2#32))
      (andi (ctpop (andi
          (broadcastInDim S1216x4194304 ![0, 1] bcast_S1216x1_S1216x4194304_0_1 (broadcastInDim S1216x1 ![0] bcast_S1216_S1216x1_0 I))
          (broadcastInDim S1216x4194304 ![0, 1] bcast_S1x4194304_S1216x4194304_0_1
            (broadcastInDim S1x4194304 ![1] bcast_S4194304_S1x4194304_1 (iotaInDim S4194304 32 0)))))
        (broadcastInDim S1216x4194304 ![] bcast_S_S1216x4194304 (constantI S_ 32 1#32)))))

theorem sign_word (b : Bool) : (((IntOp.subi 1#32 (IntOp.muli 2#32 (if b then 1#32 else 0#32))).toInt : ℝ)) = sg b := by
  cases b
  · show (((1 : Int) : ℝ)) = 1; norm_num
  · show (((-1 : Int) : ℝ)) = -1; norm_num

theorem hadT_at (I : S1216.Idx → BitVec 32) (s : Fin 1216) (p : Fin 4194304) :
    hadT I (ix2 s p) = ((sg (pty 22 (I (ix1 s)).toNat p.val) : ℝ) : EReal) := by
  have e1 : broadcastInDim S1216x4194304 ![0, 1] bcast_S1216x1_S1216x4194304_0_1 (broadcastInDim S1216x1 ![0] bcast_S1216_S1216x1_0 I) (ix2 s p)
      = I (ix1 s) := by
    rw [broadcastInDim_apply _ _ _ _ (ix2 s 0) (fun a => by fin_cases a <;> rfl)]
    exact broadcastInDim_apply _ _ _ _ (ix1 s) (fun a => by obtain rfl : a = 0 := Subsingleton.elim _ _; rfl)
  have e2 : broadcastInDim S1216x4194304 ![0, 1] bcast_S1x4194304_S1216x4194304_0_1
      (broadcastInDim S1x4194304 ![1] bcast_S4194304_S1x4194304_1 (iotaInDim S4194304 32 0)) (ix2 s p) = BitVec.ofNat 32 p.val := by
    rw [broadcastInDim_apply _ _ _ _ (ix2 0 p) (fun a => by fin_cases a <;> rfl)]
    exact broadcastInDim_apply _ _ _ _ (ix1 p) (fun a => by obtain rfl : a = 0 := Subsingleton.elim _ _; rfl)
  have e : hadT I (ix2 s p) = (((IntOp.subi 1#32 (IntOp.muli 2#32
      (IntOp.andi (IntOp.ctpop (IntOp.andi (I (ix1 s)) (BitVec.ofNat 32 p.val))) 1#32))).toInt : ℝ) : EReal) := by
    rw [← e1, ← e2]; rfl
  have hp : p.val < 2 ^ 22 := p.isLt
  rw [e, ctpop_pty, sign_word, BitVec.toNat_ofNat, Nat.mod_eq_of_lt (by omega)]
  exact congrArg (fun b => ((sg b : ℝ) : EReal)) (pty_short 22 10 _ _ hp)

/-- The reference's result as a term of its arguments. -/
def refT : S1216x1152.Idx → Ideal .f32 :=
  shapeCast S1216x1152 (transpose S1216x9x4x4x8 [2, 3, 0, 1, 4] (Host.dotGeneral dd none
        (shapeCast S1216x1024x4x2x4x128 (hadT (idxT A3 A4)) shapeCasts_S1216x4194304_S1216x1024x4x2x4x128 : FVec Ideal S1216x1024x4x2x4x128 .bf16)
        (shapeCast S9x8x1024x4x2x4x128 (xT A0 A1 A2) shapeCasts_S1x72x4194304_S9x8x1024x4x2x4x128 : FVec Ideal S9x8x1024x4x2x4x128 .bf16))
      transposes_S4x4x1216x9x8_S1216x9x4x4x8_2_3_0_1_4) shapeCasts_S1216x9x4x4x8_S1216x1152

/-- An element of the reference's result, where the scaled codes are the reals `f`. -/
theorem refT_at (f : Nat → Nat → ℝ)
    (hf : ∀ (col : Fin 72) (p : Fin 4194304), (((A0 (ix3 0 col p)).toInt : ℝ) : EReal) * (A1 (ix2 0 p) * (((A2 (ix2 0 p)).toInt : ℝ) : EReal))
      = ((f col.val p.val : ℝ) : EReal))
    (c k : Fin 4) (s : Fin 1216) (g : Fin 9) (d : Fin 8) (i : S1216x1152.Idx) (h0 : (i 0).val = s.val)
    (h1 : (i 1).val = ((g.val * 4 + c.val) * 4 + k.val) * 8 + d.val) :
    refT A0 A1 A2 A3 A4 i = ((∑ h ∈ Finset.range 1024, ∑ β ∈ Finset.range 2, ∑ u ∈ Finset.range 128,
      sg (pty 22 ((A4 (ix1 ⟨s.val / 4, by omega⟩)).toNat % 16 * 2 ^ 18 + (A3 (ix1 s)).toNat % 2 ^ 18) ((((h * 4 + c.val) * 2 + β) * 4 + k.val) * 128 + u))
        * f (g.val * 8 + d.val) ((((h * 4 + c.val) * 2 + β) * 4 + k.val) * 128 + u) : ℝ) : EReal) := by
  unfold refT
  rw [ein_at _ _ c k s g d i h0 h1]
  have e : ∀ (β : Fin 2) (h : Fin 1024) (u : Fin 128),
      hadT (idxT A3 A4) (ix2 s (posF h c β k u)) * xT A0 A1 A2 (ix3 0 ⟨g.val * 8 + d.val, by omega⟩ (posF h c β k u))
      = ((sg (pty 22 ((A4 (ix1 ⟨s.val / 4, by omega⟩)).toNat % 16 * 2 ^ 18 + (A3 (ix1 s)).toNat % 2 ^ 18) ((((h.val * 4 + c.val) * 2 + β.val) * 4 + k.val) * 128 + u.val))
        * f (g.val * 8 + d.val) ((((h.val * 4 + c.val) * 2 + β.val) * 4 + k.val) * 128 + u.val) : ℝ) : EReal) := fun β h u => by
    rw [hadT_at, xT_at, hf, idxT_at, EReal.coe_mul]
    rfl
  simp only [e, coe_sum]
  rw [Finset.sum_comm]
  simp only [Finset.sum_range]

end Operands

end Cert.ReferenceIdeal.Own
-- ==== Proof.ValEq.lean ====
module

public import proofs.«01_k».proof.Proof.ValOut
public import proofs.«01_k».proof.Proof.ValRef
public import proofs.«01_k».proof.Pre_finite

@[expose] public section

/-! # The kernel's result is the reference's -/

noncomputable section

namespace Cert.Pre_finite

open Idealize.ShloMosaic Idealize.ShloMosaic.ValueIdx

/-- The side condition of the precondition. -/
theorem facts_own : Facts where
  bcast_S_S1x4194304 := by decide

theorem inf_bits : Ideal.ofBits .f32 0x7F800000#32 = ⊤ ∧ Ideal.ofBits .f32 0xFF800000#32 = ⊥ := by
  constructor <;> simp [Ideal.ofBits, Ideal.ieee]

/-- Where the precondition holds, every scale is a real number. -/
theorem real_of [Facts] (A0 : S1x72x4194304.Idx → BitVec 8) (A1 : S1x4194304.Idx → Ideal .f32) (A2 : S1x4194304.Idx → BitVec 8)
    (A3 : S1216.Idx → BitVec 32) (A4 : S304.Idx → BitVec 32) (h : fn (F := Ideal) A0 A1 A2 A3 A4 = fun _ => 1#1) (p : Fin 4194304) :
    ∃ r : ℝ, A1 (ix2 0 p) = (r : EReal) := by
  have e : IntOp.andi (Ideal.cmp .olt (A1 (ix2 0 p)) (Ideal.ofBits .f32 0x7F800000#32)) (Ideal.cmp .ogt (A1 (ix2 0 p)) (Ideal.ofBits .f32 0xFF800000#32)) = 1#1 :=
    congrFun h (ix2 0 p)
  rw [inf_bits.1, inf_bits.2] at e
  generalize A1 (ix2 0 p) = x at e
  induction x using EReal.rec with
  | bot => simp [Ideal.cmp, IntOp.andi] at e
  | top => simp [Ideal.cmp, IntOp.andi] at e
  | coe r => exact ⟨r, rfl⟩

end Cert.Pre_finite

namespace Cert.KernelIdeal.Own

open Idealize.ShloMosaic Idealize.ShloMosaic.TcCoe Idealize.ShloMosaic.ValueIdx
open Idealize.SL.Sem
open Cert.KernelIdeal.Gen Cert.Trip

variable (m : (ℓ : Loc nD τ sig) → Buf (Elt Ideal) ℓ) (c : Dev nD)

/-- The scaled codes are reals. -/
theorem xR_at (hfin : ∀ p : Fin 4194304, ∃ r : ℝ, a1 m c (ix2 0 p) = (r : EReal)) (col : Fin 72) (p : Fin 4194304) :
    (((a0 m c (ix3 0 col p)).toInt : ℝ) : EReal) * (a1 m c (ix2 0 p) * (((a2 m c (ix2 0 p)).toInt : ℝ) : EReal))
      = ((xR m c col.val p.val : ℝ) : EReal) := by
  obtain ⟨r, hr⟩ := hfin p
  unfold xR rsR
  rw [dif_pos ⟨col.isLt, p.isLt⟩, dif_pos p.isLt, hr, EReal.toReal_coe, EReal.coe_mul, EReal.coe_mul]

/-- The kernel's result is the reference's term of the same arguments. -/
theorem zArr_eq (hfin : ∀ p : Fin 4194304, ∃ r : ℝ, a1 m c (ix2 0 p) = (r : EReal)) :
    zArr m c = Cert.ReferenceIdeal.Own.refT (a0 m c) (a1 m c) (a2 m c) (a3 m c) (a4 m c) := by
  funext i
  have hi0 : (i 0).val < 1216 := (i 0).isLt
  have hi1 : (i 1).val < 1152 := (i 1).isLt
  have h4 : (i 0).val / 4 < 304 := by omega
  rw [Cert.ReferenceIdeal.Own.refT_at (a0 m c) (a1 m c) (a2 m c) (a3 m c) (a4 m c) (xR m c) (xR_at m c hfin)
    ⟨(i 1).val % 128 / 32, by omega⟩ ⟨(i 1).val % 128 / 8 % 4, by omega⟩ ⟨(i 0).val, hi0⟩ ⟨(i 1).val / 128, by omega⟩
    ⟨(i 1).val % 128 % 8, by omega⟩ i rfl (by show (i 1).val = (((i 1).val / 128 * 4 + (i 1).val % 128 / 32) * 4 + (i 1).val % 128 / 8 % 4) * 8 + (i 1).val % 128 % 8; omega)]
  unfold zArr
  rw [zR_eq m c _ _ _ hi0 (by omega) (by omega)]
  unfold refR clsN sl
  rw [dif_pos h4, dif_pos hi0]

/-- The program runs, its result is the array `zArr` and its arguments end unchanged. -/
theorem run_value (g : Dev nD → PrngReg) (hfin : ∀ c : Dev nD, ∀ p : Fin 4194304, ∃ r : ℝ, a1 m c (ix2 0 p) = (r : EReal)) :
    θ_run (defs (F := Ideal)) (onTc (τ := τ) (main (F := Ideal))) ⟨m, fun _ => 0, g⟩ (fun r => ∀ c : Dev nD,
      r.2.mem ((c.tc : Thread nD τ).loc main_v76) = zArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c =>
    ⟨result_of m c (hfin c) r h.1,
      ((h.1 c).2 main_arg0 (rest m _ rfl (by decide))).trans (V_arg0 m c), ((h.1 c).2 main_arg1 (rest m _ rfl (by decide))).trans (V_arg1 m c),
      ((h.1 c).2 main_arg2 (rest m _ rfl (by decide))).trans (V_arg2 m c), ((h.1 c).2 main_arg3 (rest m _ rfl (by decide))).trans (V_arg3 m c),
      ((h.1 c).2 main_arg4 (rest m _ rfl (by decide))).trans (V_arg4 m c)⟩) (run m g)

end Cert.KernelIdeal.Own
-- ==== Proof.lean ====
module

public import proofs.«01_k».proof.Defs
public import proofs.«01_k».proof.Proof.Run
public import proofs.«01_k».proof.Proof.RunIdeal
public import proofs.«01_k».proof.Proof.ValEq
public import proofs.«01_k».proof.Proof.Gen.ReferenceIdeal
public import proofs.«01_k».proof.Proof.Gen.ReferenceIdeal.Run
public import proofs.«01_k».proof.Pre_finite

@[expose] public section

noncomputable section

namespace Cert.Proof

open Idealize.ShloMosaic Idealize.ShloMosaic.TcCoe Idealize.SL.Sem

/-- The reference runs and its result is its operations' term of the arguments. -/
theorem ref_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v38)
          = Cert.ReferenceIdeal.Own.refT (m (c, Cert.ReferenceIdeal.main_arg0)) (m (c, Cert.ReferenceIdeal.main_arg1))
            (m (c, Cert.ReferenceIdeal.main_arg2)) (m (c, Cert.ReferenceIdeal.main_arg3)) (m (c, Cert.ReferenceIdeal.main_arg4))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run _ _ _).mono (fun _ h c => ⟨(h c).1.trans rfl, (h c).2⟩) (Cert.ReferenceIdeal.Value.run (F := Ideal) m g)

/-- The reference runs, its arguments end unchanged and every semaphore reads zero. -/
theorem ref_quiescent (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run _ _ _).mono (fun r h => ⟨fun c => (h c).2, Idealize.ShloMosaic.sem_eq_zero_of_no_sems (by decide) r.2⟩)
    (Cert.ReferenceIdeal.Value.run (F := Ideal) m g)

theorem algebraic : Cert.algebraic_KernelIdeal_ReferenceIdeal_pre_finite (hKernelIdeal := Cert.KernelIdeal.Gen.facts)
    (hReferenceIdeal := Cert.ReferenceIdeal.Gen.facts) (hPre_finite := Cert.Pre_finite.facts_own) := by
  intro m g m' g' hpre hargs
  have hfin := fun c => @Cert.Pre_finite.real_of Cert.Pre_finite.facts_own _ _ _ _ _ (hpre c)
  refine ⟨fun c => Cert.KernelIdeal.Own.zArr m c, Cert.KernelIdeal.Own.run_value m g hfin, ?_⟩
  refine (θ_run _ _ _).mono (fun r h c => ⟨(h c).1.trans ?_, (h c).2⟩) (ref_run m' g')
  obtain ⟨e0, e1, e2, e3, e4⟩ := hargs c
  refine Eq.trans ?_ (Cert.KernelIdeal.Own.zArr_eq m c (hfin c)).symm
  exact congr (congr (congr (congr (congrArg Cert.ReferenceIdeal.Own.refT e0) e1) e2) e3) e4

theorem claim : Cert.Claim :=
  ⟨Cert.Kernel.Gen.facts, Cert.KernelIdeal.Gen.facts, Cert.ReferenceIdeal.Gen.facts, Cert.Pre_finite.facts_own,
    fun m g _ => Cert.Kernel.Own.quiescent m g, fun m g _ => Cert.KernelIdeal.Own.quiescent m g,
    fun m g _ => Cert.KernelIdeal.Own.quiescent m g,
    fun m g _ => ref_quiescent m g, fun m g _ => ref_quiescent m g,
    trivial, algebraic⟩

end Cert.Proof
